-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ModReference (m : (ℓ : Loc Cert.ModReference.nD Cert.ModReference.τ Cert.ModReference.sig) → Buf (Elt Bits) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondReferenceIdeal (m : (ℓ : Loc Cert.CondReferenceIdeal.nD Cert.CondReferenceIdeal.τ Cert.CondReferenceIdeal.sig) → Buf (Elt Ideal) ℓ) : Prop :=
  True

def Pre_CondReference (m : (ℓ : Loc Cert.CondReference.nD Cert.CondReference.τ Cert.CondReference.sig) → Buf (Elt Bits) ℓ) : Prop :=
  True

def Pre_SumWin (m : (ℓ : Loc Cert.SumWin.nD Cert.SumWin.τ Cert.SumWin.sig) → Buf (Elt Bits) ℓ) : Prop :=
  True

def Pre_SumWinIdeal (m : (ℓ : Loc Cert.SumWinIdeal.nD Cert.SumWinIdeal.τ Cert.SumWinIdeal.sig) → Buf (Elt Ideal) ℓ) : Prop :=
  True

def Pre_SumWinReferenceIdeal (m : (ℓ : Loc Cert.SumWinReferenceIdeal.nD Cert.SumWinReferenceIdeal.τ Cert.SumWinReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_AdamwWMod (m : (ℓ : Loc Cert.AdamwWMod.nD Cert.AdamwWMod.τ Cert.AdamwWMod.sig) → Buf (Elt Bits) ℓ) : Prop :=
  True

def Pre_AdamwWModIdeal (m : (ℓ : Loc Cert.AdamwWModIdeal.nD Cert.AdamwWModIdeal.τ Cert.AdamwWModIdeal.sig) → Buf (Elt Ideal) ℓ) : Prop :=
  True

def Pre_AdamwWModReferenceIdeal (m : (ℓ : Loc Cert.AdamwWModReferenceIdeal.nD Cert.AdamwWModReferenceIdeal.τ Cert.AdamwWModReferenceIdeal.sig) → Buf (Elt Ideal) ℓ) : Prop :=
  True

def Pre_AdamwBMod (m : (ℓ : Loc Cert.AdamwBMod.nD Cert.AdamwBMod.τ Cert.AdamwBMod.sig) → Buf (Elt Bits) ℓ) : Prop :=
  True

def Pre_AdamwBModIdeal (m : (ℓ : Loc Cert.AdamwBModIdeal.nD Cert.AdamwBModIdeal.τ Cert.AdamwBModIdeal.sig) → Buf (Elt Ideal) ℓ) : Prop :=
  True

def Pre_AdamwBModReferenceIdeal (m : (ℓ : Loc Cert.AdamwBModReferenceIdeal.nD Cert.AdamwBModReferenceIdeal.τ Cert.AdamwBModReferenceIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInReferenceIdeal (m : (ℓ : Loc Cert.AdamwWInReferenceIdeal.nD Cert.AdamwWInReferenceIdeal.τ Cert.AdamwWInReferenceIdeal.sig) → Buf (Elt Ideal) ℓ) : Prop :=
  True

def Pre_AdamwNorm (m : (ℓ : Loc Cert.AdamwNorm.nD Cert.AdamwNorm.τ Cert.AdamwNorm.sig) → Buf (Elt Bits) ℓ) : Prop :=
  True

def Pre_AdamwNormIdeal (m : (ℓ : Loc Cert.AdamwNormIdeal.nD Cert.AdamwNormIdeal.τ Cert.AdamwNormIdeal.sig) → Buf (Elt Ideal) ℓ) : Prop :=
  True

def Pre_AdamwNormReferenceIdeal (m : (ℓ : Loc Cert.AdamwNormReferenceIdeal.nD Cert.AdamwNormReferenceIdeal.τ Cert.AdamwNormReferenceIdeal.sig) → Buf (Elt Ideal) ℓ) : Prop :=
  True

def Pre_AdamwGmWs (m : (ℓ : Loc Cert.AdamwGmWs.nD Cert.AdamwGmWs.τ Cert.AdamwGmWs.sig) → Buf (Elt Bits) ℓ) : Prop :=
  True

def Pre_AdamwGmWsIdeal (m : (ℓ : Loc Cert.AdamwGmWsIdeal.nD Cert.AdamwGmWsIdeal.τ Cert.AdamwGmWsIdeal.sig) → Buf (Elt Ideal) ℓ) : Prop :=
  True

def Pre_AdamwGmWsReferenceIdeal (m : (ℓ : Loc Cert.AdamwGmWsReferenceIdeal.nD Cert.AdamwGmWsReferenceIdeal.τ Cert.AdamwGmWsReferenceIdeal.sig) → Buf (Elt Ideal) ℓ) : Prop :=
  True

def Pre_AdamwGmBs (m : (ℓ : Loc Cert.AdamwGmBs.nD Cert.AdamwGmBs.τ Cert.AdamwGmBs.sig) → Buf (Elt Bits) ℓ) : Prop :=
  True

def Pre_AdamwGmBsIdeal (m : (ℓ : Loc Cert.AdamwGmBsIdeal.nD Cert.AdamwGmBsIdeal.τ Cert.AdamwGmBsIdeal.sig) → Buf (Elt Ideal) ℓ) : Prop :=
  True

def Pre_AdamwGmBsReferenceIdeal (m : (ℓ : Loc Cert.AdamwGmBsReferenceIdeal.nD Cert.AdamwGmBsReferenceIdeal.τ Cert.AdamwGmBsReferenceIdeal.sig) → Buf (Elt Ideal) ℓ) : Prop :=
  True

def Pre_AdamwConvW (m : (ℓ : Loc Cert.AdamwConvW.nD Cert.AdamwConvW.τ Cert.AdamwConvW.sig) → Buf (Elt Bits) ℓ) : Prop :=
  True

def Pre_AdamwConvWIdeal (m : (ℓ : Loc Cert.AdamwConvWIdeal.nD Cert.AdamwConvWIdeal.τ Cert.AdamwConvWIdeal.sig) → Buf (Elt Ideal) ℓ) : Prop :=
  True

def Pre_AdamwConvWReferenceIdeal (m : (ℓ : Loc Cert.AdamwConvWReferenceIdeal.nD Cert.AdamwConvWReferenceIdeal.τ Cert.AdamwConvWReferenceIdeal.sig) → Buf (Elt Ideal) ℓ) : Prop :=
  True

def Pre_AdamwConvB (m : (ℓ : Loc Cert.AdamwConvB.nD Cert.AdamwConvB.τ Cert.AdamwConvB.sig) → Buf (Elt Bits) ℓ) : Prop :=
  True

def Pre_AdamwConvBIdeal (m : (ℓ : Loc Cert.AdamwConvBIdeal.nD Cert.AdamwConvBIdeal.τ Cert.AdamwConvBIdeal.sig) → Buf (Elt Ideal) ℓ) : Prop :=
  True

def Pre_AdamwConvBReferenceIdeal (m : (ℓ : Loc Cert.AdamwConvBReferenceIdeal.nD Cert.AdamwConvBReferenceIdeal.τ Cert.AdamwConvBReferenceIdeal.sig) → Buf (Elt Ideal) ℓ) : Prop :=
  True

def Pre_AdamwHeads (m : (ℓ : Loc Cert.AdamwHeads.nD Cert.AdamwHeads.τ Cert.AdamwHeads.sig) → Buf (Elt Bits) ℓ) : Prop :=
  True

def Pre_AdamwHeadsIdeal (m : (ℓ : Loc Cert.AdamwHeadsIdeal.nD Cert.AdamwHeadsIdeal.τ Cert.AdamwHeadsIdeal.sig) → Buf (Elt Ideal) ℓ) : Prop :=
  True

def Pre_AdamwHeadsReferenceIdeal (m : (ℓ : Loc Cert.AdamwHeadsReferenceIdeal.nD Cert.AdamwHeadsReferenceIdeal.τ Cert.AdamwHeadsReferenceIdeal.sig) → Buf (Elt Ideal) ℓ) : Prop :=
  True

def Pre_AdamwSsmNorm (m : (ℓ : Loc Cert.AdamwSsmNorm.nD Cert.AdamwSsmNorm.τ Cert.AdamwSsmNorm.sig) → Buf (Elt Bits) ℓ) : Prop :=
  True

def Pre_AdamwSsmNormIdeal (m : (ℓ : Loc Cert.AdamwSsmNormIdeal.nD Cert.AdamwSsmNormIdeal.τ Cert.AdamwSsmNormIdeal.sig) → Buf (Elt Ideal) ℓ) : Prop :=
  True

def Pre_AdamwSsmNormReferenceIdeal (m : (ℓ : Loc Cert.AdamwSsmNormReferenceIdeal.nD Cert.AdamwSsmNormReferenceIdeal.τ Cert.AdamwSsmNormReferenceIdeal.sig) → Buf (Elt Ideal) ℓ) : Prop :=
  True

def Pre_AdamwSquare (m : (ℓ : Loc Cert.AdamwSquare.nD Cert.AdamwSquare.τ Cert.AdamwSquare.sig) → Buf (Elt Bits) ℓ) : Prop :=
  True

def Pre_AdamwSquareIdeal (m : (ℓ : Loc Cert.AdamwSquareIdeal.nD Cert.AdamwSquareIdeal.τ Cert.AdamwSquareIdeal.sig) → Buf (Elt Ideal) ℓ) : Prop :=
  True

def Pre_AdamwSquareReferenceIdeal (m : (ℓ : Loc Cert.AdamwSquareReferenceIdeal.nD Cert.AdamwSquareReferenceIdeal.τ Cert.AdamwSquareReferenceIdeal.sig) → Buf (Elt Ideal) ℓ) : Prop :=
  True

def Pre_AdamwSsm (m : (ℓ : Loc Cert.AdamwSsm.nD Cert.AdamwSsm.τ Cert.AdamwSsm.sig) → Buf (Elt Bits) ℓ) : Prop :=
  True

def Pre_AdamwSsmIdeal (m : (ℓ : Loc Cert.AdamwSsmIdeal.nD Cert.AdamwSsmIdeal.τ Cert.AdamwSsmIdeal.sig) → Buf (Elt Ideal) ℓ) : Prop :=
  True

def Pre_AdamwSsmReferenceIdeal (m : (ℓ : Loc Cert.AdamwSsmReferenceIdeal.nD Cert.AdamwSsmReferenceIdeal.τ Cert.AdamwSsmReferenceIdeal.sig) → Buf (Elt Ideal) ℓ) : Prop :=
  True

def Pre_AdamwFfOne (m : (ℓ : Loc Cert.AdamwFfOne.nD Cert.AdamwFfOne.τ Cert.AdamwFfOne.sig) → Buf (Elt Bits) ℓ) : Prop :=
  True

def Pre_AdamwFfOneIdeal (m : (ℓ : Loc Cert.AdamwFfOneIdeal.nD Cert.AdamwFfOneIdeal.τ Cert.AdamwFfOneIdeal.sig) → Buf (Elt Ideal) ℓ) : Prop :=
  True

def Pre_AdamwFfOneReferenceIdeal (m : (ℓ : Loc Cert.AdamwFfOneReferenceIdeal.nD Cert.AdamwFfOneReferenceIdeal.τ Cert.AdamwFfOneReferenceIdeal.sig) → Buf (Elt Ideal) ℓ) : Prop :=
  True

def Pre_AdamwFfTwo (m : (ℓ : Loc Cert.AdamwFfTwo.nD Cert.AdamwFfTwo.τ Cert.AdamwFfTwo.sig) → Buf (Elt Bits) ℓ) : Prop :=
  True

def Pre_AdamwFfTwoIdeal (m : (ℓ : Loc Cert.AdamwFfTwoIdeal.nD Cert.AdamwFfTwoIdeal.τ Cert.AdamwFfTwoIdeal.sig) → Buf (Elt Ideal) ℓ) : Prop :=
  True

def Pre_AdamwFfTwoReferenceIdeal (m : (ℓ : Loc Cert.AdamwFfTwoReferenceIdeal.nD Cert.AdamwFfTwoReferenceIdeal.τ Cert.AdamwFfTwoReferenceIdeal.sig) → Buf (Elt Ideal) ℓ) : Prop :=
  True

def Pre_WModGrad (m : (ℓ : Loc Cert.WModGrad.nD Cert.WModGrad.τ Cert.WModGrad.sig) → Buf (Elt Bits) ℓ) : Prop :=
  True

def Pre_WModGradIdeal (m : (ℓ : Loc Cert.WModGradIdeal.nD Cert.WModGradIdeal.τ Cert.WModGradIdeal.sig) → Buf (Elt Ideal) ℓ) : Prop :=
  True

def Pre_WModGradReferenceIdeal (m : (ℓ : Loc Cert.WModGradReferenceIdeal.nD Cert.WModGradReferenceIdeal.τ Cert.WModGradReferenceIdeal.sig) → Buf (Elt Ideal) ℓ) : Prop :=
  True

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsReferenceIdeal (m : (ℓ : Loc Cert.SmallGradsReferenceIdeal.nD Cert.SmallGradsReferenceIdeal.τ Cert.SmallGradsReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_DownInGrad (m : (ℓ : Loc Cert.DownInGrad.nD Cert.DownInGrad.τ Cert.DownInGrad.sig) → Buf (Elt Bits) ℓ) : Prop :=
  True

def Pre_DownInGradIdeal (m : (ℓ : Loc Cert.DownInGradIdeal.nD Cert.DownInGradIdeal.τ Cert.DownInGradIdeal.sig) → Buf (Elt Ideal) ℓ) : Prop :=
  True

def Pre_DownInGradReferenceIdeal (m : (ℓ : Loc Cert.DownInGradReferenceIdeal.nD Cert.DownInGradReferenceIdeal.τ Cert.DownInGradReferenceIdeal.sig) → Buf (Elt Ideal) ℓ) : Prop :=
  True

def Pre_UpInGrad (m : (ℓ : Loc Cert.UpInGrad.nD Cert.UpInGrad.τ Cert.UpInGrad.sig) → Buf (Elt Bits) ℓ) : Prop :=
  True

def Pre_UpInGradIdeal (m : (ℓ : Loc Cert.UpInGradIdeal.nD Cert.UpInGradIdeal.τ Cert.UpInGradIdeal.sig) → Buf (Elt Ideal) ℓ) : Prop :=
  True

def Pre_UpInGradReferenceIdeal (m : (ℓ : Loc Cert.UpInGradReferenceIdeal.nD Cert.UpInGradReferenceIdeal.τ Cert.UpInGradReferenceIdeal.sig) → Buf (Elt Ideal) ℓ) : Prop :=
  True

def Pre_OutInGrad (m : (ℓ : Loc Cert.OutInGrad.nD Cert.OutInGrad.τ Cert.OutInGrad.sig) → Buf (Elt Bits) ℓ) : Prop :=
  True

def Pre_OutInGradIdeal (m : (ℓ : Loc Cert.OutInGradIdeal.nD Cert.OutInGradIdeal.τ Cert.OutInGradIdeal.sig) → Buf (Elt Ideal) ℓ) : Prop :=
  True

def Pre_OutInGradReferenceIdeal (m : (ℓ : Loc Cert.OutInGradReferenceIdeal.nD Cert.OutInGradReferenceIdeal.τ Cert.OutInGradReferenceIdeal.sig) → Buf (Elt Ideal) ℓ) : Prop :=
  True

def Pre_BranchInGrad (m : (ℓ : Loc Cert.BranchInGrad.nD Cert.BranchInGrad.τ Cert.BranchInGrad.sig) → Buf (Elt Bits) ℓ) : Prop :=
  True

def Pre_BranchInGradIdeal (m : (ℓ : Loc Cert.BranchInGradIdeal.nD Cert.BranchInGradIdeal.τ Cert.BranchInGradIdeal.sig) → Buf (Elt Ideal) ℓ) : Prop :=
  True

def Pre_BranchInGradReferenceIdeal (m : (ℓ : Loc Cert.BranchInGradReferenceIdeal.nD Cert.BranchInGradReferenceIdeal.τ Cert.BranchInGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_BranchGrad (m : (ℓ : Loc Cert.BranchGrad.nD Cert.BranchGrad.τ Cert.BranchGrad.sig) → Buf (Elt Bits) ℓ) : Prop :=
  True

def Pre_BranchGradIdeal (m : (ℓ : Loc Cert.BranchGradIdeal.nD Cert.BranchGradIdeal.τ Cert.BranchGradIdeal.sig) → Buf (Elt Ideal) ℓ) : Prop :=
  True

def Pre_BranchGradReferenceIdeal (m : (ℓ : Loc Cert.BranchGradReferenceIdeal.nD Cert.BranchGradReferenceIdeal.τ Cert.BranchGradReferenceIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_JoinedInGrad (m : (ℓ : Loc Cert.JoinedInGrad.nD Cert.JoinedInGrad.τ Cert.JoinedInGrad.sig) → Buf (Elt Bits) ℓ) : Prop :=
  True

def Pre_JoinedInGradIdeal (m : (ℓ : Loc Cert.JoinedInGradIdeal.nD Cert.JoinedInGradIdeal.τ Cert.JoinedInGradIdeal.sig) → Buf (Elt Ideal) ℓ) : Prop :=
  True

def Pre_JoinedInGradReferenceIdeal (m : (ℓ : Loc Cert.JoinedInGradReferenceIdeal.nD Cert.JoinedInGradReferenceIdeal.τ Cert.JoinedInGradReferenceIdeal.sig) → Buf (Elt Ideal) ℓ) : Prop :=
  True

def Pre_JoinedGrad (m : (ℓ : Loc Cert.JoinedGrad.nD Cert.JoinedGrad.τ Cert.JoinedGrad.sig) → Buf (Elt Bits) ℓ) : Prop :=
  True

def Pre_JoinedGradIdeal (m : (ℓ : Loc Cert.JoinedGradIdeal.nD Cert.JoinedGradIdeal.τ Cert.JoinedGradIdeal.sig) → Buf (Elt Ideal) ℓ) : Prop :=
  True

def Pre_JoinedGradReferenceIdeal (m : (ℓ : Loc Cert.JoinedGradReferenceIdeal.nD Cert.JoinedGradReferenceIdeal.τ Cert.JoinedGradReferenceIdeal.sig) → Buf (Elt Ideal) ℓ) : Prop :=
  True

def Pre_Joined (m : (ℓ : Loc Cert.Joined.nD Cert.Joined.τ Cert.Joined.sig) → Buf (Elt Bits) ℓ) : Prop :=
  True

def Pre_JoinedIdeal (m : (ℓ : Loc Cert.JoinedIdeal.nD Cert.JoinedIdeal.τ Cert.JoinedIdeal.sig) → Buf (Elt Ideal) ℓ) : Prop :=
  True

def Pre_JoinedReferenceIdeal (m : (ℓ : Loc Cert.JoinedReferenceIdeal.nD Cert.JoinedReferenceIdeal.τ Cert.JoinedReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_SquaredRelu (m : (ℓ : Loc Cert.SquaredRelu.nD Cert.SquaredRelu.τ Cert.SquaredRelu.sig) → Buf (Elt Bits) ℓ) : Prop :=
  True

def Pre_SquaredReluIdeal (m : (ℓ : Loc Cert.SquaredReluIdeal.nD Cert.SquaredReluIdeal.τ Cert.SquaredReluIdeal.sig) → Buf (Elt Ideal) ℓ) : Prop :=
  True

def Pre_SquaredReluReferenceIdeal (m : (ℓ : Loc Cert.SquaredReluReferenceIdeal.nD Cert.SquaredReluReferenceIdeal.τ Cert.SquaredReluReferenceIdeal.sig) → Buf (Elt Ideal) ℓ) : Prop :=
  True

def Pre_SquaredReluGrad (m : (ℓ : Loc Cert.SquaredReluGrad.nD Cert.SquaredReluGrad.τ Cert.SquaredReluGrad.sig) → Buf (Elt Bits) ℓ) : Prop :=
  True

def Pre_SquaredReluGradIdeal (m : (ℓ : Loc Cert.SquaredReluGradIdeal.nD Cert.SquaredReluGradIdeal.τ Cert.SquaredReluGradIdeal.sig) → Buf (Elt Ideal) ℓ) : Prop :=
  True

def Pre_SquaredReluGradReferenceIdeal (m : (ℓ : Loc Cert.SquaredReluGradReferenceIdeal.nD Cert.SquaredReluGradReferenceIdeal.τ Cert.SquaredReluGradReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_ResidualGrad (m : (ℓ : Loc Cert.ResidualGrad.nD Cert.ResidualGrad.τ Cert.ResidualGrad.sig) → Buf (Elt Bits) ℓ) : Prop :=
  True

def Pre_ResidualGradIdeal (m : (ℓ : Loc Cert.ResidualGradIdeal.nD Cert.ResidualGradIdeal.τ Cert.ResidualGradIdeal.sig) → Buf (Elt Ideal) ℓ) : Prop :=
  True

def Pre_ResidualGradReferenceIdeal (m : (ℓ : Loc Cert.ResidualGradReferenceIdeal.nD Cert.ResidualGradReferenceIdeal.τ Cert.ResidualGradReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartReferenceIdeal (m : (ℓ : Loc Cert.ModPartReferenceIdeal.nD Cert.ModPartReferenceIdeal.τ Cert.ModPartReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_WInGrad (m : (ℓ : Loc Cert.WInGrad.nD Cert.WInGrad.τ Cert.WInGrad.sig) → Buf (Elt Bits) ℓ) : Prop :=
  True

def Pre_WInGradIdeal (m : (ℓ : Loc Cert.WInGradIdeal.nD Cert.WInGradIdeal.τ Cert.WInGradIdeal.sig) → Buf (Elt Ideal) ℓ) : Prop :=
  True

def Pre_WInGradIdeal_is_device [hPre_is_device : Cert.Pre_is_device.Facts] (m : (ℓ : Loc Cert.WInGradIdeal.nD Cert.WInGradIdeal.τ Cert.WInGradIdeal.sig) → Buf (Elt Ideal) ℓ) : Prop :=
  ∀ c : Dev Cert.WInGradIdeal.nD,
    (Cert.Pre_is_device.fn (F := Ideal) (m ((c.tc : Thread Cert.WInGradIdeal.nD Cert.WInGradIdeal.τ).loc Cert.WInGradIdeal.main_arg0)) (m ((c.tc : Thread Cert.WInGradIdeal.nD Cert.WInGradIdeal.τ).loc Cert.WInGradIdeal.main_arg1))) = (fun _ => 1#1)

def Pre_WInGradReferenceIdeal (m : (ℓ : Loc Cert.WInGradReferenceIdeal.nD Cert.WInGradReferenceIdeal.τ Cert.WInGradReferenceIdeal.sig) → Buf (Elt Ideal) ℓ) : Prop :=
  True

def Pre_WInGradReferenceIdeal_is_device [hPre_is_device : Cert.Pre_is_device.Facts] (m : (ℓ : Loc Cert.WInGradReferenceIdeal.nD Cert.WInGradReferenceIdeal.τ Cert.WInGradReferenceIdeal.sig) → Buf (Elt Ideal) ℓ) : Prop :=
  ∀ c : Dev Cert.WInGradReferenceIdeal.nD,
    (Cert.Pre_is_device.fn (F := Ideal) (m ((c.tc : Thread Cert.WInGradReferenceIdeal.nD Cert.WInGradReferenceIdeal.τ).loc Cert.WInGradReferenceIdeal.main_arg0)) (m ((c.tc : Thread Cert.WInGradReferenceIdeal.nD Cert.WInGradReferenceIdeal.τ).loc Cert.WInGradReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0))
      ∧ r.2.sem = fun _ => 0)

def quiescent_ModReference [hModReference : Cert.ModReference.Facts] : Prop :=
  ∀ (m : (ℓ : Loc Cert.ModReference.nD Cert.ModReference.τ Cert.ModReference.sig) → Buf (Elt Bits) ℓ) (g : Dev Cert.ModReference.nD → PrngReg), Pre_ModReference m →
    θ_run (Cert.ModReference.defs (F := Bits)) (onTc (τ := Cert.ModReference.τ) (Cert.ModReference.main (F := Bits))) ⟨m, fun _ => 0, g⟩ (fun r => (∀ c : Dev Cert.ModReference.nD,
      r.2.mem ((c.tc : Thread Cert.ModReference.nD Cert.ModReference.τ).loc Cert.ModReference.main_arg0) = m ((c.tc : Thread Cert.ModReference.nD Cert.ModReference.τ).loc Cert.ModReference.main_arg0))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondReferenceIdeal [hCondReferenceIdeal : Cert.CondReferenceIdeal.Facts] : Prop :=
  ∀ (m : (ℓ : Loc Cert.CondReferenceIdeal.nD Cert.CondReferenceIdeal.τ Cert.CondReferenceIdeal.sig) → Buf (Elt Ideal) ℓ) (g : Dev Cert.CondReferenceIdeal.nD → PrngReg), Pre_CondReferenceIdeal m →
    θ_run (Cert.CondReferenceIdeal.defs (F := Ideal)) (onTc (τ := Cert.CondReferenceIdeal.τ) (Cert.CondReferenceIdeal.main (F := Ideal))) ⟨m, fun _ => 0, g⟩ (fun r => (∀ c : Dev Cert.CondReferenceIdeal.nD,
      r.2.mem ((c.tc : Thread Cert.CondReferenceIdeal.nD Cert.CondReferenceIdeal.τ).loc Cert.CondReferenceIdeal.main_arg0) = m ((c.tc : Thread Cert.CondReferenceIdeal.nD Cert.CondReferenceIdeal.τ).loc Cert.CondReferenceIdeal.main_arg0)
      ∧ r.2.mem ((c.tc : Thread Cert.CondReferenceIdeal.nD Cert.CondReferenceIdeal.τ).loc Cert.CondReferenceIdeal.main_arg1) = m ((c.tc : Thread Cert.CondReferenceIdeal.nD Cert.CondReferenceIdeal.τ).loc Cert.CondReferenceIdeal.main_arg1))
      ∧ r.2.sem = fun _ => 0)

def quiescent_CondReference [hCondReference : Cert.CondReference.Facts] : Prop :=
  ∀ (m : (ℓ : Loc Cert.CondReference.nD Cert.CondReference.τ Cert.CondReference.sig) → Buf (Elt Bits) ℓ) (g : Dev Cert.CondReference.nD → PrngReg), Pre_CondReference m →
    θ_run (Cert.CondReference.defs (F := Bits)) (onTc (τ := Cert.CondReference.τ) (Cert.CondReference.main (F := Bits))) ⟨m, fun _ => 0, g⟩ (fun r => (∀ c : Dev Cert.CondReference.nD,
      r.2.mem ((c.tc : Thread Cert.CondReference.nD Cert.CondReference.τ).loc Cert.CondReference.main_arg0) = m ((c.tc : Thread Cert.CondReference.nD Cert.CondReference.τ).loc Cert.CondReference.main_arg0)
      ∧ r.2.mem ((c.tc : Thread Cert.CondReference.nD Cert.CondReference.τ).loc Cert.CondReference.main_arg1) = m ((c.tc : Thread Cert.CondReference.nD Cert.CondReference.τ).loc Cert.CondReference.main_arg1))
      ∧ r.2.sem = fun _ => 0)

def quiescent_SumWin [hSumWin : Cert.SumWin.Facts] : Prop :=
  ∀ (m : (ℓ : Loc Cert.SumWin.nD Cert.SumWin.τ Cert.SumWin.sig) → Buf (Elt Bits) ℓ) (g : Dev Cert.SumWin.nD → PrngReg), Pre_SumWin m →
    θ_run (Cert.SumWin.defs (F := Bits)) (onTc (τ := Cert.SumWin.τ) (Cert.SumWin.main (F := Bits))) ⟨m, fun _ => 0, g⟩ (fun r => (∀ c : Dev Cert.SumWin.nD,
      r.2.mem ((c.tc : Thread Cert.SumWin.nD Cert.SumWin.τ).loc Cert.SumWin.main_arg0) = m ((c.tc : Thread Cert.SumWin.nD Cert.SumWin.τ).loc Cert.SumWin.main_arg0))
      ∧ r.2.sem = fun _ => 0)

def quiescent_SumWinIdeal [hSumWinIdeal : Cert.SumWinIdeal.Facts] : Prop :=
  ∀ (m : (ℓ : Loc Cert.SumWinIdeal.nD Cert.SumWinIdeal.τ Cert.SumWinIdeal.sig) → Buf (Elt Ideal) ℓ) (g : Dev Cert.SumWinIdeal.nD → PrngReg), Pre_SumWinIdeal m →
    θ_run (Cert.SumWinIdeal.defs (F := Ideal)) (onTc (τ := Cert.SumWinIdeal.τ) (Cert.SumWinIdeal.main (F := Ideal))) ⟨m, fun _ => 0, g⟩ (fun r => (∀ c : Dev Cert.SumWinIdeal.nD,
      r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0))
      ∧ r.2.sem = fun _ => 0)

def quiescent_SumWinReferenceIdeal [hSumWinReferenceIdeal : Cert.SumWinReferenceIdeal.Facts] : Prop :=
  ∀ (m : (ℓ : Loc Cert.SumWinReferenceIdeal.nD Cert.SumWinReferenceIdeal.τ Cert.SumWinReferenceIdeal.sig) → Buf (Elt Ideal) ℓ) (g : Dev Cert.SumWinReferenceIdeal.nD → PrngReg), Pre_SumWinReferenceIdeal m →
    θ_run (Cert.SumWinReferenceIdeal.defs (F := Ideal)) (onTc (τ := Cert.SumWinReferenceIdeal.τ) (Cert.SumWinReferenceIdeal.main (F := Ideal))) ⟨m, fun _ => 0, g⟩ (fun r => (∀ c : Dev Cert.SumWinReferenceIdeal.nD,
      r.2.mem ((c.tc : Thread Cert.SumWinReferenceIdeal.nD Cert.SumWinReferenceIdeal.τ).loc Cert.SumWinReferenceIdeal.main_arg0) = m ((c.tc : Thread Cert.SumWinReferenceIdeal.nD Cert.SumWinReferenceIdeal.τ).loc Cert.SumWinReferenceIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_AdamwWMod [hAdamwWMod : Cert.AdamwWMod.Facts] : Prop :=
  ∀ (m : (ℓ : Loc Cert.AdamwWMod.nD Cert.AdamwWMod.τ Cert.AdamwWMod.sig) → Buf (Elt Bits) ℓ) (g : Dev Cert.AdamwWMod.nD → PrngReg), Pre_AdamwWMod m →
    θ_run (Cert.AdamwWMod.defs (F := Bits)) (onTc (τ := Cert.AdamwWMod.τ) (Cert.AdamwWMod.main (F := Bits))) ⟨m, fun _ => 0, g⟩ (fun r => (∀ c : Dev Cert.AdamwWMod.nD,
      r.2.mem ((c.tc : Thread Cert.AdamwWMod.nD Cert.AdamwWMod.τ).loc Cert.AdamwWMod.main_arg0) = m ((c.tc : Thread Cert.AdamwWMod.nD Cert.AdamwWMod.τ).loc Cert.AdamwWMod.main_arg0)
      ∧ r.2.mem ((c.tc : Thread Cert.AdamwWMod.nD Cert.AdamwWMod.τ).loc Cert.AdamwWMod.main_arg1) = m ((c.tc : Thread Cert.AdamwWMod.nD Cert.AdamwWMod.τ).loc Cert.AdamwWMod.main_arg1)
      ∧ r.2.mem ((c.tc : Thread Cert.AdamwWMod.nD Cert.AdamwWMod.τ).loc Cert.AdamwWMod.main_arg2) = m ((c.tc : Thread Cert.AdamwWMod.nD Cert.AdamwWMod.τ).loc Cert.AdamwWMod.main_arg2)
      ∧ r.2.mem ((c.tc : Thread Cert.AdamwWMod.nD Cert.AdamwWMod.τ).loc Cert.AdamwWMod.main_arg3) = m ((c.tc : Thread Cert.AdamwWMod.nD Cert.AdamwWMod.τ).loc Cert.AdamwWMod.main_arg3))
      ∧ r.2.sem = fun _ => 0)

def quiescent_AdamwWModIdeal [hAdamwWModIdeal : Cert.AdamwWModIdeal.Facts] : Prop :=
  ∀ (m : (ℓ : Loc Cert.AdamwWModIdeal.nD Cert.AdamwWModIdeal.τ Cert.AdamwWModIdeal.sig) → Buf (Elt Ideal) ℓ) (g : Dev Cert.AdamwWModIdeal.nD → PrngReg), Pre_AdamwWModIdeal m →
    θ_run (Cert.AdamwWModIdeal.defs (F := Ideal)) (onTc (τ := Cert.AdamwWModIdeal.τ) (Cert.AdamwWModIdeal.main (F := Ideal))) ⟨m, fun _ => 0, g⟩ (fun r => (∀ c : Dev Cert.AdamwWModIdeal.nD,
      r.2.mem ((c.tc : Thread Cert.AdamwWModIdeal.nD Cert.AdamwWModIdeal.τ).loc Cert.AdamwWModIdeal.main_arg0) = m ((c.tc : Thread Cert.AdamwWModIdeal.nD Cert.AdamwWModIdeal.τ).loc Cert.AdamwWModIdeal.main_arg0)
      ∧ r.2.mem ((c.tc : Thread Cert.AdamwWModIdeal.nD Cert.AdamwWModIdeal.τ).loc Cert.AdamwWModIdeal.main_arg1) = m ((c.tc : Thread Cert.AdamwWModIdeal.nD Cert.AdamwWModIdeal.τ).loc Cert.AdamwWModIdeal.main_arg1)
      ∧ r.2.mem ((c.tc : Thread Cert.AdamwWModIdeal.nD Cert.AdamwWModIdeal.τ).loc Cert.AdamwWModIdeal.main_arg2) = m ((c.tc : Thread Cert.AdamwWModIdeal.nD Cert.AdamwWModIdeal.τ).loc Cert.AdamwWModIdeal.main_arg2)
      ∧ r.2.mem ((c.tc : Thread Cert.AdamwWModIdeal.nD Cert.AdamwWModIdeal.τ).loc Cert.AdamwWModIdeal.main_arg3) = m ((c.tc : Thread Cert.AdamwWModIdeal.nD Cert.AdamwWModIdeal.τ).loc Cert.AdamwWModIdeal.main_arg3))
      ∧ r.2.sem = fun _ => 0)

def quiescent_AdamwWModReferenceIdeal [hAdamwWModReferenceIdeal : Cert.AdamwWModReferenceIdeal.Facts] : Prop :=
  ∀ (m : (ℓ : Loc Cert.AdamwWModReferenceIdeal.nD Cert.AdamwWModReferenceIdeal.τ Cert.AdamwWModReferenceIdeal.sig) → Buf (Elt Ideal) ℓ) (g : Dev Cert.AdamwWModReferenceIdeal.nD → PrngReg), Pre_AdamwWModReferenceIdeal m →
    θ_run (Cert.AdamwWModReferenceIdeal.defs (F := Ideal)) (onTc (τ := Cert.AdamwWModReferenceIdeal.τ) (Cert.AdamwWModReferenceIdeal.main (F := Ideal))) ⟨m, fun _ => 0, g⟩ (fun r => (∀ c : Dev Cert.AdamwWModReferenceIdeal.nD,
      r.2.mem ((c.tc : Thread Cert.AdamwWModReferenceIdeal.nD Cert.AdamwWModReferenceIdeal.τ).loc Cert.AdamwWModReferenceIdeal.main_arg0) = m ((c.tc : Thread Cert.AdamwWModReferenceIdeal.nD Cert.AdamwWModReferenceIdeal.τ).loc Cert.AdamwWModReferenceIdeal.main_arg0)
      ∧ r.2.mem ((c.tc : Thread Cert.AdamwWModReferenceIdeal.nD Cert.AdamwWModReferenceIdeal.τ).loc Cert.AdamwWModReferenceIdeal.main_arg1) = m ((c.tc : Thread Cert.AdamwWModReferenceIdeal.nD Cert.AdamwWModReferenceIdeal.τ).loc Cert.AdamwWModReferenceIdeal.main_arg1)
      ∧ r.2.mem ((c.tc : Thread Cert.AdamwWModReferenceIdeal.nD Cert.AdamwWModReferenceIdeal.τ).loc Cert.AdamwWModReferenceIdeal.main_arg2) = m ((c.tc : Thread Cert.AdamwWModReferenceIdeal.nD Cert.AdamwWModReferenceIdeal.τ).loc Cert.AdamwWModReferenceIdeal.main_arg2)
      ∧ r.2.mem ((c.tc : Thread Cert.AdamwWModReferenceIdeal.nD Cert.AdamwWModReferenceIdeal.τ).loc Cert.AdamwWModReferenceIdeal.main_arg3) = m ((c.tc : Thread Cert.AdamwWModReferenceIdeal.nD Cert.AdamwWModReferenceIdeal.τ).loc Cert.AdamwWModReferenceIdeal.main_arg3))
      ∧ r.2.sem = fun _ => 0)

def quiescent_AdamwBMod [hAdamwBMod : Cert.AdamwBMod.Facts] : Prop :=
  ∀ (m : (ℓ : Loc Cert.AdamwBMod.nD Cert.AdamwBMod.τ Cert.AdamwBMod.sig) → Buf (Elt Bits) ℓ) (g : Dev Cert.AdamwBMod.nD → PrngReg), Pre_AdamwBMod m →
    θ_run (Cert.AdamwBMod.defs (F := Bits)) (onTc (τ := Cert.AdamwBMod.τ) (Cert.AdamwBMod.main (F := Bits))) ⟨m, fun _ => 0, g⟩ (fun r => (∀ c : Dev Cert.AdamwBMod.nD,
      r.2.mem ((c.tc : Thread Cert.AdamwBMod.nD Cert.AdamwBMod.τ).loc Cert.AdamwBMod.main_arg0) = m ((c.tc : Thread Cert.AdamwBMod.nD Cert.AdamwBMod.τ).loc Cert.AdamwBMod.main_arg0)
      ∧ r.2.mem ((c.tc : Thread Cert.AdamwBMod.nD Cert.AdamwBMod.τ).loc Cert.AdamwBMod.main_arg1) = m ((c.tc : Thread Cert.AdamwBMod.nD Cert.AdamwBMod.τ).loc Cert.AdamwBMod.main_arg1)
      ∧ r.2.mem ((c.tc : Thread Cert.AdamwBMod.nD Cert.AdamwBMod.τ).loc Cert.AdamwBMod.main_arg2) = m ((c.tc : Thread Cert.AdamwBMod.nD Cert.AdamwBMod.τ).loc Cert.AdamwBMod.main_arg2)
      ∧ r.2.mem ((c.tc : Thread Cert.AdamwBMod.nD Cert.AdamwBMod.τ).loc Cert.AdamwBMod.main_arg3) = m ((c.tc : Thread Cert.AdamwBMod.nD Cert.AdamwBMod.τ).loc Cert.AdamwBMod.main_arg3))
      ∧ r.2.sem = fun _ => 0)

def quiescent_AdamwBModIdeal [hAdamwBModIdeal : Cert.AdamwBModIdeal.Facts] : Prop :=
  ∀ (m : (ℓ : Loc Cert.AdamwBModIdeal.nD Cert.AdamwBModIdeal.τ Cert.AdamwBModIdeal.sig) → Buf (Elt Ideal) ℓ) (g : Dev Cert.AdamwBModIdeal.nD → PrngReg), Pre_AdamwBModIdeal m →
    θ_run (Cert.AdamwBModIdeal.defs (F := Ideal)) (onTc (τ := Cert.AdamwBModIdeal.τ) (Cert.AdamwBModIdeal.main (F := Ideal))) ⟨m, fun _ => 0, g⟩ (fun r => (∀ c : Dev Cert.AdamwBModIdeal.nD,
      r.2.mem ((c.tc : Thread Cert.AdamwBModIdeal.nD Cert.AdamwBModIdeal.τ).loc Cert.AdamwBModIdeal.main_arg0) = m ((c.tc : Thread Cert.AdamwBModIdeal.nD Cert.AdamwBModIdeal.τ).loc Cert.AdamwBModIdeal.main_arg0)
      ∧ r.2.mem ((c.tc : Thread Cert.AdamwBModIdeal.nD Cert.AdamwBModIdeal.τ).loc Cert.AdamwBModIdeal.main_arg1) = m ((c.tc : Thread Cert.AdamwBModIdeal.nD Cert.AdamwBModIdeal.τ).loc Cert.AdamwBModIdeal.main_arg1)
      ∧ r.2.mem ((c.tc : Thread Cert.AdamwBModIdeal.nD Cert.AdamwBModIdeal.τ).loc Cert.AdamwBModIdeal.main_arg2) = m ((c.tc : Thread Cert.AdamwBModIdeal.nD Cert.AdamwBModIdeal.τ).loc Cert.AdamwBModIdeal.main_arg2)
      ∧ r.2.mem ((c.tc : Thread Cert.AdamwBModIdeal.nD Cert.AdamwBModIdeal.τ).loc Cert.AdamwBModIdeal.main_arg3) = m ((c.tc : Thread Cert.AdamwBModIdeal.nD Cert.AdamwBModIdeal.τ).loc Cert.AdamwBModIdeal.main_arg3))
      ∧ r.2.sem = fun _ => 0)

def quiescent_AdamwBModReferenceIdeal [hAdamwBModReferenceIdeal : Cert.AdamwBModReferenceIdeal.Facts] : Prop :=
  ∀ (m : (ℓ : Loc Cert.AdamwBModReferenceIdeal.nD Cert.AdamwBModReferenceIdeal.τ Cert.AdamwBModReferenceIdeal.sig) → Buf (Elt Ideal) ℓ) (g : Dev Cert.AdamwBModReferenceIdeal.nD → PrngReg), Pre_AdamwBModReferenceIdeal m →
    θ_run (Cert.AdamwBModReferenceIdeal.defs (F := Ideal)) (onTc (τ := Cert.AdamwBModReferenceIdeal.τ) (Cert.AdamwBModReferenceIdeal.main (F := Ideal))) ⟨m, fun _ => 0, g⟩ (fun r => (∀ c : Dev Cert.AdamwBModReferenceIdeal.nD,
      r.2.mem ((c.tc : Thread Cert.AdamwBModReferenceIdeal.nD Cert.AdamwBModReferenceIdeal.τ).loc Cert.AdamwBModReferenceIdeal.main_arg0) = m ((c.tc : Thread Cert.AdamwBModReferenceIdeal.nD Cert.AdamwBModReferenceIdeal.τ).loc Cert.AdamwBModReferenceIdeal.main_arg0)
      ∧ r.2.mem ((c.tc : Thread Cert.AdamwBModReferenceIdeal.nD Cert.AdamwBModReferenceIdeal.τ).loc Cert.AdamwBModReferenceIdeal.main_arg1) = m ((c.tc : Thread Cert.AdamwBModReferenceIdeal.nD Cert.AdamwBModReferenceIdeal.τ).loc Cert.AdamwBModReferenceIdeal.main_arg1)
      ∧ r.2.mem ((c.tc : Thread Cert.AdamwBModReferenceIdeal.nD Cert.AdamwBModReferenceIdeal.τ).loc Cert.AdamwBModReferenceIdeal.main_arg2) = m ((c.tc : Thread Cert.AdamwBModReferenceIdeal.nD Cert.AdamwBModReferenceIdeal.τ).loc Cert.AdamwBModReferenceIdeal.main_arg2)
      ∧ r.2.mem ((c.tc : Thread Cert.AdamwBModReferenceIdeal.nD Cert.AdamwBModReferenceIdeal.τ).loc Cert.AdamwBModReferenceIdeal.main_arg3) = m ((c.tc : Thread Cert.AdamwBModReferenceIdeal.nD Cert.AdamwBModReferenceIdeal.τ).loc Cert.AdamwBModReferenceIdeal.main_arg3))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInReferenceIdeal [hAdamwWInReferenceIdeal : Cert.AdamwWInReferenceIdeal.Facts] : Prop :=
  ∀ (m : (ℓ : Loc Cert.AdamwWInReferenceIdeal.nD Cert.AdamwWInReferenceIdeal.τ Cert.AdamwWInReferenceIdeal.sig) → Buf (Elt Ideal) ℓ) (g : Dev Cert.AdamwWInReferenceIdeal.nD → PrngReg), Pre_AdamwWInReferenceIdeal m →
    θ_run (Cert.AdamwWInReferenceIdeal.defs (F := Ideal)) (onTc (τ := Cert.AdamwWInReferenceIdeal.τ) (Cert.AdamwWInReferenceIdeal.main (F := Ideal))) ⟨m, fun _ => 0, g⟩ (fun r => (∀ c : Dev Cert.AdamwWInReferenceIdeal.nD,
      r.2.mem ((c.tc : Thread Cert.AdamwWInReferenceIdeal.nD Cert.AdamwWInReferenceIdeal.τ).loc Cert.AdamwWInReferenceIdeal.main_arg0) = m ((c.tc : Thread Cert.AdamwWInReferenceIdeal.nD Cert.AdamwWInReferenceIdeal.τ).loc Cert.AdamwWInReferenceIdeal.main_arg0)
      ∧ r.2.mem ((c.tc : Thread Cert.AdamwWInReferenceIdeal.nD Cert.AdamwWInReferenceIdeal.τ).loc Cert.AdamwWInReferenceIdeal.main_arg1) = m ((c.tc : Thread Cert.AdamwWInReferenceIdeal.nD Cert.AdamwWInReferenceIdeal.τ).loc Cert.AdamwWInReferenceIdeal.main_arg1)
      ∧ r.2.mem ((c.tc : Thread Cert.AdamwWInReferenceIdeal.nD Cert.AdamwWInReferenceIdeal.τ).loc Cert.AdamwWInReferenceIdeal.main_arg2) = m ((c.tc : Thread Cert.AdamwWInReferenceIdeal.nD Cert.AdamwWInReferenceIdeal.τ).loc Cert.AdamwWInReferenceIdeal.main_arg2)
      ∧ r.2.mem ((c.tc : Thread Cert.AdamwWInReferenceIdeal.nD Cert.AdamwWInReferenceIdeal.τ).loc Cert.AdamwWInReferenceIdeal.main_arg3) = m ((c.tc : Thread Cert.AdamwWInReferenceIdeal.nD Cert.AdamwWInReferenceIdeal.τ).loc Cert.AdamwWInReferenceIdeal.main_arg3))
      ∧ r.2.sem = fun _ => 0)

def quiescent_AdamwNorm [hAdamwNorm : Cert.AdamwNorm.Facts] : Prop :=
  ∀ (m : (ℓ : Loc Cert.AdamwNorm.nD Cert.AdamwNorm.τ Cert.AdamwNorm.sig) → Buf (Elt Bits) ℓ) (g : Dev Cert.AdamwNorm.nD → PrngReg), Pre_AdamwNorm m →
    θ_run (Cert.AdamwNorm.defs (F := Bits)) (onTc (τ := Cert.AdamwNorm.τ) (Cert.AdamwNorm.main (F := Bits))) ⟨m, fun _ => 0, g⟩ (fun r => (∀ c : Dev Cert.AdamwNorm.nD,
      r.2.mem ((c.tc : Thread Cert.AdamwNorm.nD Cert.AdamwNorm.τ).loc Cert.AdamwNorm.main_arg0) = m ((c.tc : Thread Cert.AdamwNorm.nD Cert.AdamwNorm.τ).loc Cert.AdamwNorm.main_arg0)
      ∧ r.2.mem ((c.tc : Thread Cert.AdamwNorm.nD Cert.AdamwNorm.τ).loc Cert.AdamwNorm.main_arg1) = m ((c.tc : Thread Cert.AdamwNorm.nD Cert.AdamwNorm.τ).loc Cert.AdamwNorm.main_arg1)
      ∧ r.2.mem ((c.tc : Thread Cert.AdamwNorm.nD Cert.AdamwNorm.τ).loc Cert.AdamwNorm.main_arg2) = m ((c.tc : Thread Cert.AdamwNorm.nD Cert.AdamwNorm.τ).loc Cert.AdamwNorm.main_arg2)
      ∧ r.2.mem ((c.tc : Thread Cert.AdamwNorm.nD Cert.AdamwNorm.τ).loc Cert.AdamwNorm.main_arg3) = m ((c.tc : Thread Cert.AdamwNorm.nD Cert.AdamwNorm.τ).loc Cert.AdamwNorm.main_arg3))
      ∧ r.2.sem = fun _ => 0)

def quiescent_AdamwNormIdeal [hAdamwNormIdeal : Cert.AdamwNormIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg), Pre_AdamwNormIdeal m →
    θ_run (Cert.AdamwNormIdeal.defs (F := Ideal)) (onTc (τ := Cert.AdamwNormIdeal.τ) (Cert.AdamwNormIdeal.main (F := Ideal))) ⟨m, fun _ => 0, g⟩ (fun r => (∀ c : Dev Cert.AdamwNormIdeal.nD,
      r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
      ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
      ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
      ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ r.2.sem = fun _ => 0)

def quiescent_AdamwNormReferenceIdeal [hAdamwNormReferenceIdeal : Cert.AdamwNormReferenceIdeal.Facts] : Prop :=
  ∀ (m : (ℓ : Loc Cert.AdamwNormReferenceIdeal.nD Cert.AdamwNormReferenceIdeal.τ Cert.AdamwNormReferenceIdeal.sig) → Buf (Elt Ideal) ℓ) (g : Dev Cert.AdamwNormReferenceIdeal.nD → PrngReg), Pre_AdamwNormReferenceIdeal m →
    θ_run (Cert.AdamwNormReferenceIdeal.defs (F := Ideal)) (onTc (τ := Cert.AdamwNormReferenceIdeal.τ) (Cert.AdamwNormReferenceIdeal.main (F := Ideal))) ⟨m, fun _ => 0, g⟩ (fun r => (∀ c : Dev Cert.AdamwNormReferenceIdeal.nD,
      r.2.mem ((c.tc : Thread Cert.AdamwNormReferenceIdeal.nD Cert.AdamwNormReferenceIdeal.τ).loc Cert.AdamwNormReferenceIdeal.main_arg0) = m ((c.tc : Thread Cert.AdamwNormReferenceIdeal.nD Cert.AdamwNormReferenceIdeal.τ).loc Cert.AdamwNormReferenceIdeal.main_arg0)
      ∧ r.2.mem ((c.tc : Thread Cert.AdamwNormReferenceIdeal.nD Cert.AdamwNormReferenceIdeal.τ).loc Cert.AdamwNormReferenceIdeal.main_arg1) = m ((c.tc : Thread Cert.AdamwNormReferenceIdeal.nD Cert.AdamwNormReferenceIdeal.τ).loc Cert.AdamwNormReferenceIdeal.main_arg1)
      ∧ r.2.mem ((c.tc : Thread Cert.AdamwNormReferenceIdeal.nD Cert.AdamwNormReferenceIdeal.τ).loc Cert.AdamwNormReferenceIdeal.main_arg2) = m ((c.tc : Thread Cert.AdamwNormReferenceIdeal.nD Cert.AdamwNormReferenceIdeal.τ).loc Cert.AdamwNormReferenceIdeal.main_arg2)
      ∧ r.2.mem ((c.tc : Thread Cert.AdamwNormReferenceIdeal.nD Cert.AdamwNormReferenceIdeal.τ).loc Cert.AdamwNormReferenceIdeal.main_arg3) = m ((c.tc : Thread Cert.AdamwNormReferenceIdeal.nD Cert.AdamwNormReferenceIdeal.τ).loc Cert.AdamwNormReferenceIdeal.main_arg3))
      ∧ r.2.sem = fun _ => 0)

def quiescent_AdamwGmWs [hAdamwGmWs : Cert.AdamwGmWs.Facts] : Prop :=
  ∀ (m : (ℓ : Loc Cert.AdamwGmWs.nD Cert.AdamwGmWs.τ Cert.AdamwGmWs.sig) → Buf (Elt Bits) ℓ) (g : Dev Cert.AdamwGmWs.nD → PrngReg), Pre_AdamwGmWs m →
    θ_run (Cert.AdamwGmWs.defs (F := Bits)) (onTc (τ := Cert.AdamwGmWs.τ) (Cert.AdamwGmWs.main (F := Bits))) ⟨m, fun _ => 0, g⟩ (fun r => (∀ c : Dev Cert.AdamwGmWs.nD,
      r.2.mem ((c.tc : Thread Cert.AdamwGmWs.nD Cert.AdamwGmWs.τ).loc Cert.AdamwGmWs.main_arg0) = m ((c.tc : Thread Cert.AdamwGmWs.nD Cert.AdamwGmWs.τ).loc Cert.AdamwGmWs.main_arg0)
      ∧ r.2.mem ((c.tc : Thread Cert.AdamwGmWs.nD Cert.AdamwGmWs.τ).loc Cert.AdamwGmWs.main_arg1) = m ((c.tc : Thread Cert.AdamwGmWs.nD Cert.AdamwGmWs.τ).loc Cert.AdamwGmWs.main_arg1)
      ∧ r.2.mem ((c.tc : Thread Cert.AdamwGmWs.nD Cert.AdamwGmWs.τ).loc Cert.AdamwGmWs.main_arg2) = m ((c.tc : Thread Cert.AdamwGmWs.nD Cert.AdamwGmWs.τ).loc Cert.AdamwGmWs.main_arg2)
      ∧ r.2.mem ((c.tc : Thread Cert.AdamwGmWs.nD Cert.AdamwGmWs.τ).loc Cert.AdamwGmWs.main_arg3) = m ((c.tc : Thread Cert.AdamwGmWs.nD Cert.AdamwGmWs.τ).loc Cert.AdamwGmWs.main_arg3))
      ∧ r.2.sem = fun _ => 0)

def quiescent_AdamwGmWsIdeal [hAdamwGmWsIdeal : Cert.AdamwGmWsIdeal.Facts] : Prop :=
  ∀ (m : (ℓ : Loc Cert.AdamwGmWsIdeal.nD Cert.AdamwGmWsIdeal.τ Cert.AdamwGmWsIdeal.sig) → Buf (Elt Ideal) ℓ) (g : Dev Cert.AdamwGmWsIdeal.nD → PrngReg), Pre_AdamwGmWsIdeal m →
    θ_run (Cert.AdamwGmWsIdeal.defs (F := Ideal)) (onTc (τ := Cert.AdamwGmWsIdeal.τ) (Cert.AdamwGmWsIdeal.main (F := Ideal))) ⟨m, fun _ => 0, g⟩ (fun r => (∀ c : Dev Cert.AdamwGmWsIdeal.nD,
      r.2.mem ((c.tc : Thread Cert.AdamwGmWsIdeal.nD Cert.AdamwGmWsIdeal.τ).loc Cert.AdamwGmWsIdeal.main_arg0) = m ((c.tc : Thread Cert.AdamwGmWsIdeal.nD Cert.AdamwGmWsIdeal.τ).loc Cert.AdamwGmWsIdeal.main_arg0)
      ∧ r.2.mem ((c.tc : Thread Cert.AdamwGmWsIdeal.nD Cert.AdamwGmWsIdeal.τ).loc Cert.AdamwGmWsIdeal.main_arg1) = m ((c.tc : Thread Cert.AdamwGmWsIdeal.nD Cert.AdamwGmWsIdeal.τ).loc Cert.AdamwGmWsIdeal.main_arg1)
      ∧ r.2.mem ((c.tc : Thread Cert.AdamwGmWsIdeal.nD Cert.AdamwGmWsIdeal.τ).loc Cert.AdamwGmWsIdeal.main_arg2) = m ((c.tc : Thread Cert.AdamwGmWsIdeal.nD Cert.AdamwGmWsIdeal.τ).loc Cert.AdamwGmWsIdeal.main_arg2)
      ∧ r.2.mem ((c.tc : Thread Cert.AdamwGmWsIdeal.nD Cert.AdamwGmWsIdeal.τ).loc Cert.AdamwGmWsIdeal.main_arg3) = m ((c.tc : Thread Cert.AdamwGmWsIdeal.nD Cert.AdamwGmWsIdeal.τ).loc Cert.AdamwGmWsIdeal.main_arg3))
      ∧ r.2.sem = fun _ => 0)

def quiescent_AdamwGmWsReferenceIdeal [hAdamwGmWsReferenceIdeal : Cert.AdamwGmWsReferenceIdeal.Facts] : Prop :=
  ∀ (m : (ℓ : Loc Cert.AdamwGmWsReferenceIdeal.nD Cert.AdamwGmWsReferenceIdeal.τ Cert.AdamwGmWsReferenceIdeal.sig) → Buf (Elt Ideal) ℓ) (g : Dev Cert.AdamwGmWsReferenceIdeal.nD → PrngReg), Pre_AdamwGmWsReferenceIdeal m →
    θ_run (Cert.AdamwGmWsReferenceIdeal.defs (F := Ideal)) (onTc (τ := Cert.AdamwGmWsReferenceIdeal.τ) (Cert.AdamwGmWsReferenceIdeal.main (F := Ideal))) ⟨m, fun _ => 0, g⟩ (fun r => (∀ c : Dev Cert.AdamwGmWsReferenceIdeal.nD,
      r.2.mem ((c.tc : Thread Cert.AdamwGmWsReferenceIdeal.nD Cert.AdamwGmWsReferenceIdeal.τ).loc Cert.AdamwGmWsReferenceIdeal.main_arg0) = m ((c.tc : Thread Cert.AdamwGmWsReferenceIdeal.nD Cert.AdamwGmWsReferenceIdeal.τ).loc Cert.AdamwGmWsReferenceIdeal.main_arg0)
      ∧ r.2.mem ((c.tc : Thread Cert.AdamwGmWsReferenceIdeal.nD Cert.AdamwGmWsReferenceIdeal.τ).loc Cert.AdamwGmWsReferenceIdeal.main_arg1) = m ((c.tc : Thread Cert.AdamwGmWsReferenceIdeal.nD Cert.AdamwGmWsReferenceIdeal.τ).loc Cert.AdamwGmWsReferenceIdeal.main_arg1)
      ∧ r.2.mem ((c.tc : Thread Cert.AdamwGmWsReferenceIdeal.nD Cert.AdamwGmWsReferenceIdeal.τ).loc Cert.AdamwGmWsReferenceIdeal.main_arg2) = m ((c.tc : Thread Cert.AdamwGmWsReferenceIdeal.nD Cert.AdamwGmWsReferenceIdeal.τ).loc Cert.AdamwGmWsReferenceIdeal.main_arg2)
      ∧ r.2.mem ((c.tc : Thread Cert.AdamwGmWsReferenceIdeal.nD Cert.AdamwGmWsReferenceIdeal.τ).loc Cert.AdamwGmWsReferenceIdeal.main_arg3) = m ((c.tc : Thread Cert.AdamwGmWsReferenceIdeal.nD Cert.AdamwGmWsReferenceIdeal.τ).loc Cert.AdamwGmWsReferenceIdeal.main_arg3))
      ∧ r.2.sem = fun _ => 0)

def quiescent_AdamwGmBs [hAdamwGmBs : Cert.AdamwGmBs.Facts] : Prop :=
  ∀ (m : (ℓ : Loc Cert.AdamwGmBs.nD Cert.AdamwGmBs.τ Cert.AdamwGmBs.sig) → Buf (Elt Bits) ℓ) (g : Dev Cert.AdamwGmBs.nD → PrngReg), Pre_AdamwGmBs m →
    θ_run (Cert.AdamwGmBs.defs (F := Bits)) (onTc (τ := Cert.AdamwGmBs.τ) (Cert.AdamwGmBs.main (F := Bits))) ⟨m, fun _ => 0, g⟩ (fun r => (∀ c : Dev Cert.AdamwGmBs.nD,
      r.2.mem ((c.tc : Thread Cert.AdamwGmBs.nD Cert.AdamwGmBs.τ).loc Cert.AdamwGmBs.main_arg0) = m ((c.tc : Thread Cert.AdamwGmBs.nD Cert.AdamwGmBs.τ).loc Cert.AdamwGmBs.main_arg0)
      ∧ r.2.mem ((c.tc : Thread Cert.AdamwGmBs.nD Cert.AdamwGmBs.τ).loc Cert.AdamwGmBs.main_arg1) = m ((c.tc : Thread Cert.AdamwGmBs.nD Cert.AdamwGmBs.τ).loc Cert.AdamwGmBs.main_arg1)
      ∧ r.2.mem ((c.tc : Thread Cert.AdamwGmBs.nD Cert.AdamwGmBs.τ).loc Cert.AdamwGmBs.main_arg2) = m ((c.tc : Thread Cert.AdamwGmBs.nD Cert.AdamwGmBs.τ).loc Cert.AdamwGmBs.main_arg2)
      ∧ r.2.mem ((c.tc : Thread Cert.AdamwGmBs.nD Cert.AdamwGmBs.τ).loc Cert.AdamwGmBs.main_arg3) = m ((c.tc : Thread Cert.AdamwGmBs.nD Cert.AdamwGmBs.τ).loc Cert.AdamwGmBs.main_arg3))
      ∧ r.2.sem = fun _ => 0)

def quiescent_AdamwGmBsIdeal [hAdamwGmBsIdeal : Cert.AdamwGmBsIdeal.Facts] : Prop :=
  ∀ (m : (ℓ : Loc Cert.AdamwGmBsIdeal.nD Cert.AdamwGmBsIdeal.τ Cert.AdamwGmBsIdeal.sig) → Buf (Elt Ideal) ℓ) (g : Dev Cert.AdamwGmBsIdeal.nD → PrngReg), Pre_AdamwGmBsIdeal m →
    θ_run (Cert.AdamwGmBsIdeal.defs (F := Ideal)) (onTc (τ := Cert.AdamwGmBsIdeal.τ) (Cert.AdamwGmBsIdeal.main (F := Ideal))) ⟨m, fun _ => 0, g⟩ (fun r => (∀ c : Dev Cert.AdamwGmBsIdeal.nD,
      r.2.mem ((c.tc : Thread Cert.AdamwGmBsIdeal.nD Cert.AdamwGmBsIdeal.τ).loc Cert.AdamwGmBsIdeal.main_arg0) = m ((c.tc : Thread Cert.AdamwGmBsIdeal.nD Cert.AdamwGmBsIdeal.τ).loc Cert.AdamwGmBsIdeal.main_arg0)
      ∧ r.2.mem ((c.tc : Thread Cert.AdamwGmBsIdeal.nD Cert.AdamwGmBsIdeal.τ).loc Cert.AdamwGmBsIdeal.main_arg1) = m ((c.tc : Thread Cert.AdamwGmBsIdeal.nD Cert.AdamwGmBsIdeal.τ).loc Cert.AdamwGmBsIdeal.main_arg1)
      ∧ r.2.mem ((c.tc : Thread Cert.AdamwGmBsIdeal.nD Cert.AdamwGmBsIdeal.τ).loc Cert.AdamwGmBsIdeal.main_arg2) = m ((c.tc : Thread Cert.AdamwGmBsIdeal.nD Cert.AdamwGmBsIdeal.τ).loc Cert.AdamwGmBsIdeal.main_arg2)
      ∧ r.2.mem ((c.tc : Thread Cert.AdamwGmBsIdeal.nD Cert.AdamwGmBsIdeal.τ).loc Cert.AdamwGmBsIdeal.main_arg3) = m ((c.tc : Thread Cert.AdamwGmBsIdeal.nD Cert.AdamwGmBsIdeal.τ).loc Cert.AdamwGmBsIdeal.main_arg3))
      ∧ r.2.sem = fun _ => 0)

def quiescent_AdamwGmBsReferenceIdeal [hAdamwGmBsReferenceIdeal : Cert.AdamwGmBsReferenceIdeal.Facts] : Prop :=
  ∀ (m : (ℓ : Loc Cert.AdamwGmBsReferenceIdeal.nD Cert.AdamwGmBsReferenceIdeal.τ Cert.AdamwGmBsReferenceIdeal.sig) → Buf (Elt Ideal) ℓ) (g : Dev Cert.AdamwGmBsReferenceIdeal.nD → PrngReg), Pre_AdamwGmBsReferenceIdeal m →
    θ_run (Cert.AdamwGmBsReferenceIdeal.defs (F := Ideal)) (onTc (τ := Cert.AdamwGmBsReferenceIdeal.τ) (Cert.AdamwGmBsReferenceIdeal.main (F := Ideal))) ⟨m, fun _ => 0, g⟩ (fun r => (∀ c : Dev Cert.AdamwGmBsReferenceIdeal.nD,
      r.2.mem ((c.tc : Thread Cert.AdamwGmBsReferenceIdeal.nD Cert.AdamwGmBsReferenceIdeal.τ).loc Cert.AdamwGmBsReferenceIdeal.main_arg0) = m ((c.tc : Thread Cert.AdamwGmBsReferenceIdeal.nD Cert.AdamwGmBsReferenceIdeal.τ).loc Cert.AdamwGmBsReferenceIdeal.main_arg0)
      ∧ r.2.mem ((c.tc : Thread Cert.AdamwGmBsReferenceIdeal.nD Cert.AdamwGmBsReferenceIdeal.τ).loc Cert.AdamwGmBsReferenceIdeal.main_arg1) = m ((c.tc : Thread Cert.AdamwGmBsReferenceIdeal.nD Cert.AdamwGmBsReferenceIdeal.τ).loc Cert.AdamwGmBsReferenceIdeal.main_arg1)
      ∧ r.2.mem ((c.tc : Thread Cert.AdamwGmBsReferenceIdeal.nD Cert.AdamwGmBsReferenceIdeal.τ).loc Cert.AdamwGmBsReferenceIdeal.main_arg2) = m ((c.tc : Thread Cert.AdamwGmBsReferenceIdeal.nD Cert.AdamwGmBsReferenceIdeal.τ).loc Cert.AdamwGmBsReferenceIdeal.main_arg2)
      ∧ r.2.mem ((c.tc : Thread Cert.AdamwGmBsReferenceIdeal.nD Cert.AdamwGmBsReferenceIdeal.τ).loc Cert.AdamwGmBsReferenceIdeal.main_arg3) = m ((c.tc : Thread Cert.AdamwGmBsReferenceIdeal.nD Cert.AdamwGmBsReferenceIdeal.τ).loc Cert.AdamwGmBsReferenceIdeal.main_arg3))
      ∧ r.2.sem = fun _ => 0)

def quiescent_AdamwConvW [hAdamwConvW : Cert.AdamwConvW.Facts] : Prop :=
  ∀ (m : (ℓ : Loc Cert.AdamwConvW.nD Cert.AdamwConvW.τ Cert.AdamwConvW.sig) → Buf (Elt Bits) ℓ) (g : Dev Cert.AdamwConvW.nD → PrngReg), Pre_AdamwConvW m →
    θ_run (Cert.AdamwConvW.defs (F := Bits)) (onTc (τ := Cert.AdamwConvW.τ) (Cert.AdamwConvW.main (F := Bits))) ⟨m, fun _ => 0, g⟩ (fun r => (∀ c : Dev Cert.AdamwConvW.nD,
      r.2.mem ((c.tc : Thread Cert.AdamwConvW.nD Cert.AdamwConvW.τ).loc Cert.AdamwConvW.main_arg0) = m ((c.tc : Thread Cert.AdamwConvW.nD Cert.AdamwConvW.τ).loc Cert.AdamwConvW.main_arg0)
      ∧ r.2.mem ((c.tc : Thread Cert.AdamwConvW.nD Cert.AdamwConvW.τ).loc Cert.AdamwConvW.main_arg1) = m ((c.tc : Thread Cert.AdamwConvW.nD Cert.AdamwConvW.τ).loc Cert.AdamwConvW.main_arg1)
      ∧ r.2.mem ((c.tc : Thread Cert.AdamwConvW.nD Cert.AdamwConvW.τ).loc Cert.AdamwConvW.main_arg2) = m ((c.tc : Thread Cert.AdamwConvW.nD Cert.AdamwConvW.τ).loc Cert.AdamwConvW.main_arg2)
      ∧ r.2.mem ((c.tc : Thread Cert.AdamwConvW.nD Cert.AdamwConvW.τ).loc Cert.AdamwConvW.main_arg3) = m ((c.tc : Thread Cert.AdamwConvW.nD Cert.AdamwConvW.τ).loc Cert.AdamwConvW.main_arg3))
      ∧ r.2.sem = fun _ => 0)

def quiescent_AdamwConvWIdeal [hAdamwConvWIdeal : Cert.AdamwConvWIdeal.Facts] : Prop :=
  ∀ (m : (ℓ : Loc Cert.AdamwConvWIdeal.nD Cert.AdamwConvWIdeal.τ Cert.AdamwConvWIdeal.sig) → Buf (Elt Ideal) ℓ) (g : Dev Cert.AdamwConvWIdeal.nD → PrngReg), Pre_AdamwConvWIdeal m →
    θ_run (Cert.AdamwConvWIdeal.defs (F := Ideal)) (onTc (τ := Cert.AdamwConvWIdeal.τ) (Cert.AdamwConvWIdeal.main (F := Ideal))) ⟨m, fun _ => 0, g⟩ (fun r => (∀ c : Dev Cert.AdamwConvWIdeal.nD,
      r.2.mem ((c.tc : Thread Cert.AdamwConvWIdeal.nD Cert.AdamwConvWIdeal.τ).loc Cert.AdamwConvWIdeal.main_arg0) = m ((c.tc : Thread Cert.AdamwConvWIdeal.nD Cert.AdamwConvWIdeal.τ).loc Cert.AdamwConvWIdeal.main_arg0)
      ∧ r.2.mem ((c.tc : Thread Cert.AdamwConvWIdeal.nD Cert.AdamwConvWIdeal.τ).loc Cert.AdamwConvWIdeal.main_arg1) = m ((c.tc : Thread Cert.AdamwConvWIdeal.nD Cert.AdamwConvWIdeal.τ).loc Cert.AdamwConvWIdeal.main_arg1)
      ∧ r.2.mem ((c.tc : Thread Cert.AdamwConvWIdeal.nD Cert.AdamwConvWIdeal.τ).loc Cert.AdamwConvWIdeal.main_arg2) = m ((c.tc : Thread Cert.AdamwConvWIdeal.nD Cert.AdamwConvWIdeal.τ).loc Cert.AdamwConvWIdeal.main_arg2)
      ∧ r.2.mem ((c.tc : Thread Cert.AdamwConvWIdeal.nD Cert.AdamwConvWIdeal.τ).loc Cert.AdamwConvWIdeal.main_arg3) = m ((c.tc : Thread Cert.AdamwConvWIdeal.nD Cert.AdamwConvWIdeal.τ).loc Cert.AdamwConvWIdeal.main_arg3))
      ∧ r.2.sem = fun _ => 0)

def quiescent_AdamwConvWReferenceIdeal [hAdamwConvWReferenceIdeal : Cert.AdamwConvWReferenceIdeal.Facts] : Prop :=
  ∀ (m : (ℓ : Loc Cert.AdamwConvWReferenceIdeal.nD Cert.AdamwConvWReferenceIdeal.τ Cert.AdamwConvWReferenceIdeal.sig) → Buf (Elt Ideal) ℓ) (g : Dev Cert.AdamwConvWReferenceIdeal.nD → PrngReg), Pre_AdamwConvWReferenceIdeal m →
    θ_run (Cert.AdamwConvWReferenceIdeal.defs (F := Ideal)) (onTc (τ := Cert.AdamwConvWReferenceIdeal.τ) (Cert.AdamwConvWReferenceIdeal.main (F := Ideal))) ⟨m, fun _ => 0, g⟩ (fun r => (∀ c : Dev Cert.AdamwConvWReferenceIdeal.nD,
      r.2.mem ((c.tc : Thread Cert.AdamwConvWReferenceIdeal.nD Cert.AdamwConvWReferenceIdeal.τ).loc Cert.AdamwConvWReferenceIdeal.main_arg0) = m ((c.tc : Thread Cert.AdamwConvWReferenceIdeal.nD Cert.AdamwConvWReferenceIdeal.τ).loc Cert.AdamwConvWReferenceIdeal.main_arg0)
      ∧ r.2.mem ((c.tc : Thread Cert.AdamwConvWReferenceIdeal.nD Cert.AdamwConvWReferenceIdeal.τ).loc Cert.AdamwConvWReferenceIdeal.main_arg1) = m ((c.tc : Thread Cert.AdamwConvWReferenceIdeal.nD Cert.AdamwConvWReferenceIdeal.τ).loc Cert.AdamwConvWReferenceIdeal.main_arg1)
      ∧ r.2.mem ((c.tc : Thread Cert.AdamwConvWReferenceIdeal.nD Cert.AdamwConvWReferenceIdeal.τ).loc Cert.AdamwConvWReferenceIdeal.main_arg2) = m ((c.tc : Thread Cert.AdamwConvWReferenceIdeal.nD Cert.AdamwConvWReferenceIdeal.τ).loc Cert.AdamwConvWReferenceIdeal.main_arg2)
      ∧ r.2.mem ((c.tc : Thread Cert.AdamwConvWReferenceIdeal.nD Cert.AdamwConvWReferenceIdeal.τ).loc Cert.AdamwConvWReferenceIdeal.main_arg3) = m ((c.tc : Thread Cert.AdamwConvWReferenceIdeal.nD Cert.AdamwConvWReferenceIdeal.τ).loc Cert.AdamwConvWReferenceIdeal.main_arg3))
      ∧ r.2.sem = fun _ => 0)

def quiescent_AdamwConvB [hAdamwConvB : Cert.AdamwConvB.Facts] : Prop :=
  ∀ (m : (ℓ : Loc Cert.AdamwConvB.nD Cert.AdamwConvB.τ Cert.AdamwConvB.sig) → Buf (Elt Bits) ℓ) (g : Dev Cert.AdamwConvB.nD → PrngReg), Pre_AdamwConvB m →
    θ_run (Cert.AdamwConvB.defs (F := Bits)) (onTc (τ := Cert.AdamwConvB.τ) (Cert.AdamwConvB.main (F := Bits))) ⟨m, fun _ => 0, g⟩ (fun r => (∀ c : Dev Cert.AdamwConvB.nD,
      r.2.mem ((c.tc : Thread Cert.AdamwConvB.nD Cert.AdamwConvB.τ).loc Cert.AdamwConvB.main_arg0) = m ((c.tc : Thread Cert.AdamwConvB.nD Cert.AdamwConvB.τ).loc Cert.AdamwConvB.main_arg0)
      ∧ r.2.mem ((c.tc : Thread Cert.AdamwConvB.nD Cert.AdamwConvB.τ).loc Cert.AdamwConvB.main_arg1) = m ((c.tc : Thread Cert.AdamwConvB.nD Cert.AdamwConvB.τ).loc Cert.AdamwConvB.main_arg1)
      ∧ r.2.mem ((c.tc : Thread Cert.AdamwConvB.nD Cert.AdamwConvB.τ).loc Cert.AdamwConvB.main_arg2) = m ((c.tc : Thread Cert.AdamwConvB.nD Cert.AdamwConvB.τ).loc Cert.AdamwConvB.main_arg2)
      ∧ r.2.mem ((c.tc : Thread Cert.AdamwConvB.nD Cert.AdamwConvB.τ).loc Cert.AdamwConvB.main_arg3) = m ((c.tc : Thread Cert.AdamwConvB.nD Cert.AdamwConvB.τ).loc Cert.AdamwConvB.main_arg3))
      ∧ r.2.sem = fun _ => 0)

def quiescent_AdamwConvBIdeal [hAdamwConvBIdeal : Cert.AdamwConvBIdeal.Facts] : Prop :=
  ∀ (m : (ℓ : Loc Cert.AdamwConvBIdeal.nD Cert.AdamwConvBIdeal.τ Cert.AdamwConvBIdeal.sig) → Buf (Elt Ideal) ℓ) (g : Dev Cert.AdamwConvBIdeal.nD → PrngReg), Pre_AdamwConvBIdeal m →
    θ_run (Cert.AdamwConvBIdeal.defs (F := Ideal)) (onTc (τ := Cert.AdamwConvBIdeal.τ) (Cert.AdamwConvBIdeal.main (F := Ideal))) ⟨m, fun _ => 0, g⟩ (fun r => (∀ c : Dev Cert.AdamwConvBIdeal.nD,
      r.2.mem ((c.tc : Thread Cert.AdamwConvBIdeal.nD Cert.AdamwConvBIdeal.τ).loc Cert.AdamwConvBIdeal.main_arg0) = m ((c.tc : Thread Cert.AdamwConvBIdeal.nD Cert.AdamwConvBIdeal.τ).loc Cert.AdamwConvBIdeal.main_arg0)
      ∧ r.2.mem ((c.tc : Thread Cert.AdamwConvBIdeal.nD Cert.AdamwConvBIdeal.τ).loc Cert.AdamwConvBIdeal.main_arg1) = m ((c.tc : Thread Cert.AdamwConvBIdeal.nD Cert.AdamwConvBIdeal.τ).loc Cert.AdamwConvBIdeal.main_arg1)
      ∧ r.2.mem ((c.tc : Thread Cert.AdamwConvBIdeal.nD Cert.AdamwConvBIdeal.τ).loc Cert.AdamwConvBIdeal.main_arg2) = m ((c.tc : Thread Cert.AdamwConvBIdeal.nD Cert.AdamwConvBIdeal.τ).loc Cert.AdamwConvBIdeal.main_arg2)
      ∧ r.2.mem ((c.tc : Thread Cert.AdamwConvBIdeal.nD Cert.AdamwConvBIdeal.τ).loc Cert.AdamwConvBIdeal.main_arg3) = m ((c.tc : Thread Cert.AdamwConvBIdeal.nD Cert.AdamwConvBIdeal.τ).loc Cert.AdamwConvBIdeal.main_arg3))
      ∧ r.2.sem = fun _ => 0)

def quiescent_AdamwConvBReferenceIdeal [hAdamwConvBReferenceIdeal : Cert.AdamwConvBReferenceIdeal.Facts] : Prop :=
  ∀ (m : (ℓ : Loc Cert.AdamwConvBReferenceIdeal.nD Cert.AdamwConvBReferenceIdeal.τ Cert.AdamwConvBReferenceIdeal.sig) → Buf (Elt Ideal) ℓ) (g : Dev Cert.AdamwConvBReferenceIdeal.nD → PrngReg), Pre_AdamwConvBReferenceIdeal m →
    θ_run (Cert.AdamwConvBReferenceIdeal.defs (F := Ideal)) (onTc (τ := Cert.AdamwConvBReferenceIdeal.τ) (Cert.AdamwConvBReferenceIdeal.main (F := Ideal))) ⟨m, fun _ => 0, g⟩ (fun r => (∀ c : Dev Cert.AdamwConvBReferenceIdeal.nD,
      r.2.mem ((c.tc : Thread Cert.AdamwConvBReferenceIdeal.nD Cert.AdamwConvBReferenceIdeal.τ).loc Cert.AdamwConvBReferenceIdeal.main_arg0) = m ((c.tc : Thread Cert.AdamwConvBReferenceIdeal.nD Cert.AdamwConvBReferenceIdeal.τ).loc Cert.AdamwConvBReferenceIdeal.main_arg0)
      ∧ r.2.mem ((c.tc : Thread Cert.AdamwConvBReferenceIdeal.nD Cert.AdamwConvBReferenceIdeal.τ).loc Cert.AdamwConvBReferenceIdeal.main_arg1) = m ((c.tc : Thread Cert.AdamwConvBReferenceIdeal.nD Cert.AdamwConvBReferenceIdeal.τ).loc Cert.AdamwConvBReferenceIdeal.main_arg1)
      ∧ r.2.mem ((c.tc : Thread Cert.AdamwConvBReferenceIdeal.nD Cert.AdamwConvBReferenceIdeal.τ).loc Cert.AdamwConvBReferenceIdeal.main_arg2) = m ((c.tc : Thread Cert.AdamwConvBReferenceIdeal.nD Cert.AdamwConvBReferenceIdeal.τ).loc Cert.AdamwConvBReferenceIdeal.main_arg2)
      ∧ r.2.mem ((c.tc : Thread Cert.AdamwConvBReferenceIdeal.nD Cert.AdamwConvBReferenceIdeal.τ).loc Cert.AdamwConvBReferenceIdeal.main_arg3) = m ((c.tc : Thread Cert.AdamwConvBReferenceIdeal.nD Cert.AdamwConvBReferenceIdeal.τ).loc Cert.AdamwConvBReferenceIdeal.main_arg3))
      ∧ r.2.sem = fun _ => 0)

def quiescent_AdamwHeads [hAdamwHeads : Cert.AdamwHeads.Facts] : Prop :=
  ∀ (m : (ℓ : Loc Cert.AdamwHeads.nD Cert.AdamwHeads.τ Cert.AdamwHeads.sig) → Buf (Elt Bits) ℓ) (g : Dev Cert.AdamwHeads.nD → PrngReg), Pre_AdamwHeads m →
    θ_run (Cert.AdamwHeads.defs (F := Bits)) (onTc (τ := Cert.AdamwHeads.τ) (Cert.AdamwHeads.main (F := Bits))) ⟨m, fun _ => 0, g⟩ (fun r => (∀ c : Dev Cert.AdamwHeads.nD,
      r.2.mem ((c.tc : Thread Cert.AdamwHeads.nD Cert.AdamwHeads.τ).loc Cert.AdamwHeads.main_arg0) = m ((c.tc : Thread Cert.AdamwHeads.nD Cert.AdamwHeads.τ).loc Cert.AdamwHeads.main_arg0)
      ∧ r.2.mem ((c.tc : Thread Cert.AdamwHeads.nD Cert.AdamwHeads.τ).loc Cert.AdamwHeads.main_arg1) = m ((c.tc : Thread Cert.AdamwHeads.nD Cert.AdamwHeads.τ).loc Cert.AdamwHeads.main_arg1)
      ∧ r.2.mem ((c.tc : Thread Cert.AdamwHeads.nD Cert.AdamwHeads.τ).loc Cert.AdamwHeads.main_arg2) = m ((c.tc : Thread Cert.AdamwHeads.nD Cert.AdamwHeads.τ).loc Cert.AdamwHeads.main_arg2)
      ∧ r.2.mem ((c.tc : Thread Cert.AdamwHeads.nD Cert.AdamwHeads.τ).loc Cert.AdamwHeads.main_arg3) = m ((c.tc : Thread Cert.AdamwHeads.nD Cert.AdamwHeads.τ).loc Cert.AdamwHeads.main_arg3))
      ∧ r.2.sem = fun _ => 0)

def quiescent_AdamwHeadsIdeal [hAdamwHeadsIdeal : Cert.AdamwHeadsIdeal.Facts] : Prop :=
  ∀ (m : (ℓ : Loc Cert.AdamwHeadsIdeal.nD Cert.AdamwHeadsIdeal.τ Cert.AdamwHeadsIdeal.sig) → Buf (Elt Ideal) ℓ) (g : Dev Cert.AdamwHeadsIdeal.nD → PrngReg), Pre_AdamwHeadsIdeal m →
    θ_run (Cert.AdamwHeadsIdeal.defs (F := Ideal)) (onTc (τ := Cert.AdamwHeadsIdeal.τ) (Cert.AdamwHeadsIdeal.main (F := Ideal))) ⟨m, fun _ => 0, g⟩ (fun r => (∀ c : Dev Cert.AdamwHeadsIdeal.nD,
      r.2.mem ((c.tc : Thread Cert.AdamwHeadsIdeal.nD Cert.AdamwHeadsIdeal.τ).loc Cert.AdamwHeadsIdeal.main_arg0) = m ((c.tc : Thread Cert.AdamwHeadsIdeal.nD Cert.AdamwHeadsIdeal.τ).loc Cert.AdamwHeadsIdeal.main_arg0)
      ∧ r.2.mem ((c.tc : Thread Cert.AdamwHeadsIdeal.nD Cert.AdamwHeadsIdeal.τ).loc Cert.AdamwHeadsIdeal.main_arg1) = m ((c.tc : Thread Cert.AdamwHeadsIdeal.nD Cert.AdamwHeadsIdeal.τ).loc Cert.AdamwHeadsIdeal.main_arg1)
      ∧ r.2.mem ((c.tc : Thread Cert.AdamwHeadsIdeal.nD Cert.AdamwHeadsIdeal.τ).loc Cert.AdamwHeadsIdeal.main_arg2) = m ((c.tc : Thread Cert.AdamwHeadsIdeal.nD Cert.AdamwHeadsIdeal.τ).loc Cert.AdamwHeadsIdeal.main_arg2)
      ∧ r.2.mem ((c.tc : Thread Cert.AdamwHeadsIdeal.nD Cert.AdamwHeadsIdeal.τ).loc Cert.AdamwHeadsIdeal.main_arg3) = m ((c.tc : Thread Cert.AdamwHeadsIdeal.nD Cert.AdamwHeadsIdeal.τ).loc Cert.AdamwHeadsIdeal.main_arg3))
      ∧ r.2.sem = fun _ => 0)

def quiescent_AdamwHeadsReferenceIdeal [hAdamwHeadsReferenceIdeal : Cert.AdamwHeadsReferenceIdeal.Facts] : Prop :=
  ∀ (m : (ℓ : Loc Cert.AdamwHeadsReferenceIdeal.nD Cert.AdamwHeadsReferenceIdeal.τ Cert.AdamwHeadsReferenceIdeal.sig) → Buf (Elt Ideal) ℓ) (g : Dev Cert.AdamwHeadsReferenceIdeal.nD → PrngReg), Pre_AdamwHeadsReferenceIdeal m →
    θ_run (Cert.AdamwHeadsReferenceIdeal.defs (F := Ideal)) (onTc (τ := Cert.AdamwHeadsReferenceIdeal.τ) (Cert.AdamwHeadsReferenceIdeal.main (F := Ideal))) ⟨m, fun _ => 0, g⟩ (fun r => (∀ c : Dev Cert.AdamwHeadsReferenceIdeal.nD,
      r.2.mem ((c.tc : Thread Cert.AdamwHeadsReferenceIdeal.nD Cert.AdamwHeadsReferenceIdeal.τ).loc Cert.AdamwHeadsReferenceIdeal.main_arg0) = m ((c.tc : Thread Cert.AdamwHeadsReferenceIdeal.nD Cert.AdamwHeadsReferenceIdeal.τ).loc Cert.AdamwHeadsReferenceIdeal.main_arg0)
      ∧ r.2.mem ((c.tc : Thread Cert.AdamwHeadsReferenceIdeal.nD Cert.AdamwHeadsReferenceIdeal.τ).loc Cert.AdamwHeadsReferenceIdeal.main_arg1) = m ((c.tc : Thread Cert.AdamwHeadsReferenceIdeal.nD Cert.AdamwHeadsReferenceIdeal.τ).loc Cert.AdamwHeadsReferenceIdeal.main_arg1)
      ∧ r.2.mem ((c.tc : Thread Cert.AdamwHeadsReferenceIdeal.nD Cert.AdamwHeadsReferenceIdeal.τ).loc Cert.AdamwHeadsReferenceIdeal.main_arg2) = m ((c.tc : Thread Cert.AdamwHeadsReferenceIdeal.nD Cert.AdamwHeadsReferenceIdeal.τ).loc Cert.AdamwHeadsReferenceIdeal.main_arg2)
      ∧ r.2.mem ((c.tc : Thread Cert.AdamwHeadsReferenceIdeal.nD Cert.AdamwHeadsReferenceIdeal.τ).loc Cert.AdamwHeadsReferenceIdeal.main_arg3) = m ((c.tc : Thread Cert.AdamwHeadsReferenceIdeal.nD Cert.AdamwHeadsReferenceIdeal.τ).loc Cert.AdamwHeadsReferenceIdeal.main_arg3))
      ∧ r.2.sem = fun _ => 0)

def quiescent_AdamwSsmNorm [hAdamwSsmNorm : Cert.AdamwSsmNorm.Facts] : Prop :=
  ∀ (m : (ℓ : Loc Cert.AdamwSsmNorm.nD Cert.AdamwSsmNorm.τ Cert.AdamwSsmNorm.sig) → Buf (Elt Bits) ℓ) (g : Dev Cert.AdamwSsmNorm.nD → PrngReg), Pre_AdamwSsmNorm m →
    θ_run (Cert.AdamwSsmNorm.defs (F := Bits)) (onTc (τ := Cert.AdamwSsmNorm.τ) (Cert.AdamwSsmNorm.main (F := Bits))) ⟨m, fun _ => 0, g⟩ (fun r => (∀ c : Dev Cert.AdamwSsmNorm.nD,
      r.2.mem ((c.tc : Thread Cert.AdamwSsmNorm.nD Cert.AdamwSsmNorm.τ).loc Cert.AdamwSsmNorm.main_arg0) = m ((c.tc : Thread Cert.AdamwSsmNorm.nD Cert.AdamwSsmNorm.τ).loc Cert.AdamwSsmNorm.main_arg0)
      ∧ r.2.mem ((c.tc : Thread Cert.AdamwSsmNorm.nD Cert.AdamwSsmNorm.τ).loc Cert.AdamwSsmNorm.main_arg1) = m ((c.tc : Thread Cert.AdamwSsmNorm.nD Cert.AdamwSsmNorm.τ).loc Cert.AdamwSsmNorm.main_arg1)
      ∧ r.2.mem ((c.tc : Thread Cert.AdamwSsmNorm.nD Cert.AdamwSsmNorm.τ).loc Cert.AdamwSsmNorm.main_arg2) = m ((c.tc : Thread Cert.AdamwSsmNorm.nD Cert.AdamwSsmNorm.τ).loc Cert.AdamwSsmNorm.main_arg2)
      ∧ r.2.mem ((c.tc : Thread Cert.AdamwSsmNorm.nD Cert.AdamwSsmNorm.τ).loc Cert.AdamwSsmNorm.main_arg3) = m ((c.tc : Thread Cert.AdamwSsmNorm.nD Cert.AdamwSsmNorm.τ).loc Cert.AdamwSsmNorm.main_arg3))
      ∧ r.2.sem = fun _ => 0)

def quiescent_AdamwSsmNormIdeal [hAdamwSsmNormIdeal : Cert.AdamwSsmNormIdeal.Facts] : Prop :=
  ∀ (m : (ℓ : Loc Cert.AdamwSsmNormIdeal.nD Cert.AdamwSsmNormIdeal.τ Cert.AdamwSsmNormIdeal.sig) → Buf (Elt Ideal) ℓ) (g : Dev Cert.AdamwSsmNormIdeal.nD → PrngReg), Pre_AdamwSsmNormIdeal m →
    θ_run (Cert.AdamwSsmNormIdeal.defs (F := Ideal)) (onTc (τ := Cert.AdamwSsmNormIdeal.τ) (Cert.AdamwSsmNormIdeal.main (F := Ideal))) ⟨m, fun _ => 0, g⟩ (fun r => (∀ c : Dev Cert.AdamwSsmNormIdeal.nD,
      r.2.mem ((c.tc : Thread Cert.AdamwSsmNormIdeal.nD Cert.AdamwSsmNormIdeal.τ).loc Cert.AdamwSsmNormIdeal.main_arg0) = m ((c.tc : Thread Cert.AdamwSsmNormIdeal.nD Cert.AdamwSsmNormIdeal.τ).loc Cert.AdamwSsmNormIdeal.main_arg0)
      ∧ r.2.mem ((c.tc : Thread Cert.AdamwSsmNormIdeal.nD Cert.AdamwSsmNormIdeal.τ).loc Cert.AdamwSsmNormIdeal.main_arg1) = m ((c.tc : Thread Cert.AdamwSsmNormIdeal.nD Cert.AdamwSsmNormIdeal.τ).loc Cert.AdamwSsmNormIdeal.main_arg1)
      ∧ r.2.mem ((c.tc : Thread Cert.AdamwSsmNormIdeal.nD Cert.AdamwSsmNormIdeal.τ).loc Cert.AdamwSsmNormIdeal.main_arg2) = m ((c.tc : Thread Cert.AdamwSsmNormIdeal.nD Cert.AdamwSsmNormIdeal.τ).loc Cert.AdamwSsmNormIdeal.main_arg2)
      ∧ r.2.mem ((c.tc : Thread Cert.AdamwSsmNormIdeal.nD Cert.AdamwSsmNormIdeal.τ).loc Cert.AdamwSsmNormIdeal.main_arg3) = m ((c.tc : Thread Cert.AdamwSsmNormIdeal.nD Cert.AdamwSsmNormIdeal.τ).loc Cert.AdamwSsmNormIdeal.main_arg3))
      ∧ r.2.sem = fun _ => 0)

def quiescent_AdamwSsmNormReferenceIdeal [hAdamwSsmNormReferenceIdeal : Cert.AdamwSsmNormReferenceIdeal.Facts] : Prop :=
  ∀ (m : (ℓ : Loc Cert.AdamwSsmNormReferenceIdeal.nD Cert.AdamwSsmNormReferenceIdeal.τ Cert.AdamwSsmNormReferenceIdeal.sig) → Buf (Elt Ideal) ℓ) (g : Dev Cert.AdamwSsmNormReferenceIdeal.nD → PrngReg), Pre_AdamwSsmNormReferenceIdeal m →
    θ_run (Cert.AdamwSsmNormReferenceIdeal.defs (F := Ideal)) (onTc (τ := Cert.AdamwSsmNormReferenceIdeal.τ) (Cert.AdamwSsmNormReferenceIdeal.main (F := Ideal))) ⟨m, fun _ => 0, g⟩ (fun r => (∀ c : Dev Cert.AdamwSsmNormReferenceIdeal.nD,
      r.2.mem ((c.tc : Thread Cert.AdamwSsmNormReferenceIdeal.nD Cert.AdamwSsmNormReferenceIdeal.τ).loc Cert.AdamwSsmNormReferenceIdeal.main_arg0) = m ((c.tc : Thread Cert.AdamwSsmNormReferenceIdeal.nD Cert.AdamwSsmNormReferenceIdeal.τ).loc Cert.AdamwSsmNormReferenceIdeal.main_arg0)
      ∧ r.2.mem ((c.tc : Thread Cert.AdamwSsmNormReferenceIdeal.nD Cert.AdamwSsmNormReferenceIdeal.τ).loc Cert.AdamwSsmNormReferenceIdeal.main_arg1) = m ((c.tc : Thread Cert.AdamwSsmNormReferenceIdeal.nD Cert.AdamwSsmNormReferenceIdeal.τ).loc Cert.AdamwSsmNormReferenceIdeal.main_arg1)
      ∧ r.2.mem ((c.tc : Thread Cert.AdamwSsmNormReferenceIdeal.nD Cert.AdamwSsmNormReferenceIdeal.τ).loc Cert.AdamwSsmNormReferenceIdeal.main_arg2) = m ((c.tc : Thread Cert.AdamwSsmNormReferenceIdeal.nD Cert.AdamwSsmNormReferenceIdeal.τ).loc Cert.AdamwSsmNormReferenceIdeal.main_arg2)
      ∧ r.2.mem ((c.tc : Thread Cert.AdamwSsmNormReferenceIdeal.nD Cert.AdamwSsmNormReferenceIdeal.τ).loc Cert.AdamwSsmNormReferenceIdeal.main_arg3) = m ((c.tc : Thread Cert.AdamwSsmNormReferenceIdeal.nD Cert.AdamwSsmNormReferenceIdeal.τ).loc Cert.AdamwSsmNormReferenceIdeal.main_arg3))
      ∧ r.2.sem = fun _ => 0)

def quiescent_AdamwSquare [hAdamwSquare : Cert.AdamwSquare.Facts] : Prop :=
  ∀ (m : (ℓ : Loc Cert.AdamwSquare.nD Cert.AdamwSquare.τ Cert.AdamwSquare.sig) → Buf (Elt Bits) ℓ) (g : Dev Cert.AdamwSquare.nD → PrngReg), Pre_AdamwSquare m →
    θ_run (Cert.AdamwSquare.defs (F := Bits)) (onTc (τ := Cert.AdamwSquare.τ) (Cert.AdamwSquare.main (F := Bits))) ⟨m, fun _ => 0, g⟩ (fun r => (∀ c : Dev Cert.AdamwSquare.nD,
      r.2.mem ((c.tc : Thread Cert.AdamwSquare.nD Cert.AdamwSquare.τ).loc Cert.AdamwSquare.main_arg0) = m ((c.tc : Thread Cert.AdamwSquare.nD Cert.AdamwSquare.τ).loc Cert.AdamwSquare.main_arg0)
      ∧ r.2.mem ((c.tc : Thread Cert.AdamwSquare.nD Cert.AdamwSquare.τ).loc Cert.AdamwSquare.main_arg1) = m ((c.tc : Thread Cert.AdamwSquare.nD Cert.AdamwSquare.τ).loc Cert.AdamwSquare.main_arg1)
      ∧ r.2.mem ((c.tc : Thread Cert.AdamwSquare.nD Cert.AdamwSquare.τ).loc Cert.AdamwSquare.main_arg2) = m ((c.tc : Thread Cert.AdamwSquare.nD Cert.AdamwSquare.τ).loc Cert.AdamwSquare.main_arg2)
      ∧ r.2.mem ((c.tc : Thread Cert.AdamwSquare.nD Cert.AdamwSquare.τ).loc Cert.AdamwSquare.main_arg3) = m ((c.tc : Thread Cert.AdamwSquare.nD Cert.AdamwSquare.τ).loc Cert.AdamwSquare.main_arg3))
      ∧ r.2.sem = fun _ => 0)

def quiescent_AdamwSquareIdeal [hAdamwSquareIdeal : Cert.AdamwSquareIdeal.Facts] : Prop :=
  ∀ (m : (ℓ : Loc Cert.AdamwSquareIdeal.nD Cert.AdamwSquareIdeal.τ Cert.AdamwSquareIdeal.sig) → Buf (Elt Ideal) ℓ) (g : Dev Cert.AdamwSquareIdeal.nD → PrngReg), Pre_AdamwSquareIdeal m →
    θ_run (Cert.AdamwSquareIdeal.defs (F := Ideal)) (onTc (τ := Cert.AdamwSquareIdeal.τ) (Cert.AdamwSquareIdeal.main (F := Ideal))) ⟨m, fun _ => 0, g⟩ (fun r => (∀ c : Dev Cert.AdamwSquareIdeal.nD,
      r.2.mem ((c.tc : Thread Cert.AdamwSquareIdeal.nD Cert.AdamwSquareIdeal.τ).loc Cert.AdamwSquareIdeal.main_arg0) = m ((c.tc : Thread Cert.AdamwSquareIdeal.nD Cert.AdamwSquareIdeal.τ).loc Cert.AdamwSquareIdeal.main_arg0)
      ∧ r.2.mem ((c.tc : Thread Cert.AdamwSquareIdeal.nD Cert.AdamwSquareIdeal.τ).loc Cert.AdamwSquareIdeal.main_arg1) = m ((c.tc : Thread Cert.AdamwSquareIdeal.nD Cert.AdamwSquareIdeal.τ).loc Cert.AdamwSquareIdeal.main_arg1)
      ∧ r.2.mem ((c.tc : Thread Cert.AdamwSquareIdeal.nD Cert.AdamwSquareIdeal.τ).loc Cert.AdamwSquareIdeal.main_arg2) = m ((c.tc : Thread Cert.AdamwSquareIdeal.nD Cert.AdamwSquareIdeal.τ).loc Cert.AdamwSquareIdeal.main_arg2)
      ∧ r.2.mem ((c.tc : Thread Cert.AdamwSquareIdeal.nD Cert.AdamwSquareIdeal.τ).loc Cert.AdamwSquareIdeal.main_arg3) = m ((c.tc : Thread Cert.AdamwSquareIdeal.nD Cert.AdamwSquareIdeal.τ).loc Cert.AdamwSquareIdeal.main_arg3))
      ∧ r.2.sem = fun _ => 0)

def quiescent_AdamwSquareReferenceIdeal [hAdamwSquareReferenceIdeal : Cert.AdamwSquareReferenceIdeal.Facts] : Prop :=
  ∀ (m : (ℓ : Loc Cert.AdamwSquareReferenceIdeal.nD Cert.AdamwSquareReferenceIdeal.τ Cert.AdamwSquareReferenceIdeal.sig) → Buf (Elt Ideal) ℓ) (g : Dev Cert.AdamwSquareReferenceIdeal.nD → PrngReg), Pre_AdamwSquareReferenceIdeal m →
    θ_run (Cert.AdamwSquareReferenceIdeal.defs (F := Ideal)) (onTc (τ := Cert.AdamwSquareReferenceIdeal.τ) (Cert.AdamwSquareReferenceIdeal.main (F := Ideal))) ⟨m, fun _ => 0, g⟩ (fun r => (∀ c : Dev Cert.AdamwSquareReferenceIdeal.nD,
      r.2.mem ((c.tc : Thread Cert.AdamwSquareReferenceIdeal.nD Cert.AdamwSquareReferenceIdeal.τ).loc Cert.AdamwSquareReferenceIdeal.main_arg0) = m ((c.tc : Thread Cert.AdamwSquareReferenceIdeal.nD Cert.AdamwSquareReferenceIdeal.τ).loc Cert.AdamwSquareReferenceIdeal.main_arg0)
      ∧ r.2.mem ((c.tc : Thread Cert.AdamwSquareReferenceIdeal.nD Cert.AdamwSquareReferenceIdeal.τ).loc Cert.AdamwSquareReferenceIdeal.main_arg1) = m ((c.tc : Thread Cert.AdamwSquareReferenceIdeal.nD Cert.AdamwSquareReferenceIdeal.τ).loc Cert.AdamwSquareReferenceIdeal.main_arg1)
      ∧ r.2.mem ((c.tc : Thread Cert.AdamwSquareReferenceIdeal.nD Cert.AdamwSquareReferenceIdeal.τ).loc Cert.AdamwSquareReferenceIdeal.main_arg2) = m ((c.tc : Thread Cert.AdamwSquareReferenceIdeal.nD Cert.AdamwSquareReferenceIdeal.τ).loc Cert.AdamwSquareReferenceIdeal.main_arg2)
      ∧ r.2.mem ((c.tc : Thread Cert.AdamwSquareReferenceIdeal.nD Cert.AdamwSquareReferenceIdeal.τ).loc Cert.AdamwSquareReferenceIdeal.main_arg3) = m ((c.tc : Thread Cert.AdamwSquareReferenceIdeal.nD Cert.AdamwSquareReferenceIdeal.τ).loc Cert.AdamwSquareReferenceIdeal.main_arg3))
      ∧ r.2.sem = fun _ => 0)

def quiescent_AdamwSsm [hAdamwSsm : Cert.AdamwSsm.Facts] : Prop :=
  ∀ (m : (ℓ : Loc Cert.AdamwSsm.nD Cert.AdamwSsm.τ Cert.AdamwSsm.sig) → Buf (Elt Bits) ℓ) (g : Dev Cert.AdamwSsm.nD → PrngReg), Pre_AdamwSsm m →
    θ_run (Cert.AdamwSsm.defs (F := Bits)) (onTc (τ := Cert.AdamwSsm.τ) (Cert.AdamwSsm.main (F := Bits))) ⟨m, fun _ => 0, g⟩ (fun r => (∀ c : Dev Cert.AdamwSsm.nD,
      r.2.mem ((c.tc : Thread Cert.AdamwSsm.nD Cert.AdamwSsm.τ).loc Cert.AdamwSsm.main_arg0) = m ((c.tc : Thread Cert.AdamwSsm.nD Cert.AdamwSsm.τ).loc Cert.AdamwSsm.main_arg0)
      ∧ r.2.mem ((c.tc : Thread Cert.AdamwSsm.nD Cert.AdamwSsm.τ).loc Cert.AdamwSsm.main_arg1) = m ((c.tc : Thread Cert.AdamwSsm.nD Cert.AdamwSsm.τ).loc Cert.AdamwSsm.main_arg1)
      ∧ r.2.mem ((c.tc : Thread Cert.AdamwSsm.nD Cert.AdamwSsm.τ).loc Cert.AdamwSsm.main_arg2) = m ((c.tc : Thread Cert.AdamwSsm.nD Cert.AdamwSsm.τ).loc Cert.AdamwSsm.main_arg2)
      ∧ r.2.mem ((c.tc : Thread Cert.AdamwSsm.nD Cert.AdamwSsm.τ).loc Cert.AdamwSsm.main_arg3) = m ((c.tc : Thread Cert.AdamwSsm.nD Cert.AdamwSsm.τ).loc Cert.AdamwSsm.main_arg3))
      ∧ r.2.sem = fun _ => 0)

def quiescent_AdamwSsmIdeal [hAdamwSsmIdeal : Cert.AdamwSsmIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg), Pre_AdamwSsmIdeal m →
    θ_run (Cert.AdamwSsmIdeal.defs (F := Ideal)) (onTc (τ := Cert.AdamwSsmIdeal.τ) (Cert.AdamwSsmIdeal.main (F := Ideal))) ⟨m, fun _ => 0, g⟩ (fun r => (∀ c : Dev Cert.AdamwSsmIdeal.nD,
      r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
      ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
      ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
      ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ r.2.sem = fun _ => 0)

def quiescent_AdamwSsmReferenceIdeal [hAdamwSsmReferenceIdeal : Cert.AdamwSsmReferenceIdeal.Facts] : Prop :=
  ∀ (m : (ℓ : Loc Cert.AdamwSsmReferenceIdeal.nD Cert.AdamwSsmReferenceIdeal.τ Cert.AdamwSsmReferenceIdeal.sig) → Buf (Elt Ideal) ℓ) (g : Dev Cert.AdamwSsmReferenceIdeal.nD → PrngReg), Pre_AdamwSsmReferenceIdeal m →
    θ_run (Cert.AdamwSsmReferenceIdeal.defs (F := Ideal)) (onTc (τ := Cert.AdamwSsmReferenceIdeal.τ) (Cert.AdamwSsmReferenceIdeal.main (F := Ideal))) ⟨m, fun _ => 0, g⟩ (fun r => (∀ c : Dev Cert.AdamwSsmReferenceIdeal.nD,
      r.2.mem ((c.tc : Thread Cert.AdamwSsmReferenceIdeal.nD Cert.AdamwSsmReferenceIdeal.τ).loc Cert.AdamwSsmReferenceIdeal.main_arg0) = m ((c.tc : Thread Cert.AdamwSsmReferenceIdeal.nD Cert.AdamwSsmReferenceIdeal.τ).loc Cert.AdamwSsmReferenceIdeal.main_arg0)
      ∧ r.2.mem ((c.tc : Thread Cert.AdamwSsmReferenceIdeal.nD Cert.AdamwSsmReferenceIdeal.τ).loc Cert.AdamwSsmReferenceIdeal.main_arg1) = m ((c.tc : Thread Cert.AdamwSsmReferenceIdeal.nD Cert.AdamwSsmReferenceIdeal.τ).loc Cert.AdamwSsmReferenceIdeal.main_arg1)
      ∧ r.2.mem ((c.tc : Thread Cert.AdamwSsmReferenceIdeal.nD Cert.AdamwSsmReferenceIdeal.τ).loc Cert.AdamwSsmReferenceIdeal.main_arg2) = m ((c.tc : Thread Cert.AdamwSsmReferenceIdeal.nD Cert.AdamwSsmReferenceIdeal.τ).loc Cert.AdamwSsmReferenceIdeal.main_arg2)
      ∧ r.2.mem ((c.tc : Thread Cert.AdamwSsmReferenceIdeal.nD Cert.AdamwSsmReferenceIdeal.τ).loc Cert.AdamwSsmReferenceIdeal.main_arg3) = m ((c.tc : Thread Cert.AdamwSsmReferenceIdeal.nD Cert.AdamwSsmReferenceIdeal.τ).loc Cert.AdamwSsmReferenceIdeal.main_arg3))
      ∧ r.2.sem = fun _ => 0)

def quiescent_AdamwFfOne [hAdamwFfOne : Cert.AdamwFfOne.Facts] : Prop :=
  ∀ (m : (ℓ : Loc Cert.AdamwFfOne.nD Cert.AdamwFfOne.τ Cert.AdamwFfOne.sig) → Buf (Elt Bits) ℓ) (g : Dev Cert.AdamwFfOne.nD → PrngReg), Pre_AdamwFfOne m →
    θ_run (Cert.AdamwFfOne.defs (F := Bits)) (onTc (τ := Cert.AdamwFfOne.τ) (Cert.AdamwFfOne.main (F := Bits))) ⟨m, fun _ => 0, g⟩ (fun r => (∀ c : Dev Cert.AdamwFfOne.nD,
      r.2.mem ((c.tc : Thread Cert.AdamwFfOne.nD Cert.AdamwFfOne.τ).loc Cert.AdamwFfOne.main_arg0) = m ((c.tc : Thread Cert.AdamwFfOne.nD Cert.AdamwFfOne.τ).loc Cert.AdamwFfOne.main_arg0)
      ∧ r.2.mem ((c.tc : Thread Cert.AdamwFfOne.nD Cert.AdamwFfOne.τ).loc Cert.AdamwFfOne.main_arg1) = m ((c.tc : Thread Cert.AdamwFfOne.nD Cert.AdamwFfOne.τ).loc Cert.AdamwFfOne.main_arg1)
      ∧ r.2.mem ((c.tc : Thread Cert.AdamwFfOne.nD Cert.AdamwFfOne.τ).loc Cert.AdamwFfOne.main_arg2) = m ((c.tc : Thread Cert.AdamwFfOne.nD Cert.AdamwFfOne.τ).loc Cert.AdamwFfOne.main_arg2)
      ∧ r.2.mem ((c.tc : Thread Cert.AdamwFfOne.nD Cert.AdamwFfOne.τ).loc Cert.AdamwFfOne.main_arg3) = m ((c.tc : Thread Cert.AdamwFfOne.nD Cert.AdamwFfOne.τ).loc Cert.AdamwFfOne.main_arg3))
      ∧ r.2.sem = fun _ => 0)

def quiescent_AdamwFfOneIdeal [hAdamwFfOneIdeal : Cert.AdamwFfOneIdeal.Facts] : Prop :=
  ∀ (m : (ℓ : Loc Cert.AdamwFfOneIdeal.nD Cert.AdamwFfOneIdeal.τ Cert.AdamwFfOneIdeal.sig) → Buf (Elt Ideal) ℓ) (g : Dev Cert.AdamwFfOneIdeal.nD → PrngReg), Pre_AdamwFfOneIdeal m →
    θ_run (Cert.AdamwFfOneIdeal.defs (F := Ideal)) (onTc (τ := Cert.AdamwFfOneIdeal.τ) (Cert.AdamwFfOneIdeal.main (F := Ideal))) ⟨m, fun _ => 0, g⟩ (fun r => (∀ c : Dev Cert.AdamwFfOneIdeal.nD,
      r.2.mem ((c.tc : Thread Cert.AdamwFfOneIdeal.nD Cert.AdamwFfOneIdeal.τ).loc Cert.AdamwFfOneIdeal.main_arg0) = m ((c.tc : Thread Cert.AdamwFfOneIdeal.nD Cert.AdamwFfOneIdeal.τ).loc Cert.AdamwFfOneIdeal.main_arg0)
      ∧ r.2.mem ((c.tc : Thread Cert.AdamwFfOneIdeal.nD Cert.AdamwFfOneIdeal.τ).loc Cert.AdamwFfOneIdeal.main_arg1) = m ((c.tc : Thread Cert.AdamwFfOneIdeal.nD Cert.AdamwFfOneIdeal.τ).loc Cert.AdamwFfOneIdeal.main_arg1)
      ∧ r.2.mem ((c.tc : Thread Cert.AdamwFfOneIdeal.nD Cert.AdamwFfOneIdeal.τ).loc Cert.AdamwFfOneIdeal.main_arg2) = m ((c.tc : Thread Cert.AdamwFfOneIdeal.nD Cert.AdamwFfOneIdeal.τ).loc Cert.AdamwFfOneIdeal.main_arg2)
      ∧ r.2.mem ((c.tc : Thread Cert.AdamwFfOneIdeal.nD Cert.AdamwFfOneIdeal.τ).loc Cert.AdamwFfOneIdeal.main_arg3) = m ((c.tc : Thread Cert.AdamwFfOneIdeal.nD Cert.AdamwFfOneIdeal.τ).loc Cert.AdamwFfOneIdeal.main_arg3))
      ∧ r.2.sem = fun _ => 0)

def quiescent_AdamwFfOneReferenceIdeal [hAdamwFfOneReferenceIdeal : Cert.AdamwFfOneReferenceIdeal.Facts] : Prop :=
  ∀ (m : (ℓ : Loc Cert.AdamwFfOneReferenceIdeal.nD Cert.AdamwFfOneReferenceIdeal.τ Cert.AdamwFfOneReferenceIdeal.sig) → Buf (Elt Ideal) ℓ) (g : Dev Cert.AdamwFfOneReferenceIdeal.nD → PrngReg), Pre_AdamwFfOneReferenceIdeal m →
    θ_run (Cert.AdamwFfOneReferenceIdeal.defs (F := Ideal)) (onTc (τ := Cert.AdamwFfOneReferenceIdeal.τ) (Cert.AdamwFfOneReferenceIdeal.main (F := Ideal))) ⟨m, fun _ => 0, g⟩ (fun r => (∀ c : Dev Cert.AdamwFfOneReferenceIdeal.nD,
      r.2.mem ((c.tc : Thread Cert.AdamwFfOneReferenceIdeal.nD Cert.AdamwFfOneReferenceIdeal.τ).loc Cert.AdamwFfOneReferenceIdeal.main_arg0) = m ((c.tc : Thread Cert.AdamwFfOneReferenceIdeal.nD Cert.AdamwFfOneReferenceIdeal.τ).loc Cert.AdamwFfOneReferenceIdeal.main_arg0)
      ∧ r.2.mem ((c.tc : Thread Cert.AdamwFfOneReferenceIdeal.nD Cert.AdamwFfOneReferenceIdeal.τ).loc Cert.AdamwFfOneReferenceIdeal.main_arg1) = m ((c.tc : Thread Cert.AdamwFfOneReferenceIdeal.nD Cert.AdamwFfOneReferenceIdeal.τ).loc Cert.AdamwFfOneReferenceIdeal.main_arg1)
      ∧ r.2.mem ((c.tc : Thread Cert.AdamwFfOneReferenceIdeal.nD Cert.AdamwFfOneReferenceIdeal.τ).loc Cert.AdamwFfOneReferenceIdeal.main_arg2) = m ((c.tc : Thread Cert.AdamwFfOneReferenceIdeal.nD Cert.AdamwFfOneReferenceIdeal.τ).loc Cert.AdamwFfOneReferenceIdeal.main_arg2)
      ∧ r.2.mem ((c.tc : Thread Cert.AdamwFfOneReferenceIdeal.nD Cert.AdamwFfOneReferenceIdeal.τ).loc Cert.AdamwFfOneReferenceIdeal.main_arg3) = m ((c.tc : Thread Cert.AdamwFfOneReferenceIdeal.nD Cert.AdamwFfOneReferenceIdeal.τ).loc Cert.AdamwFfOneReferenceIdeal.main_arg3))
      ∧ r.2.sem = fun _ => 0)

def quiescent_AdamwFfTwo [hAdamwFfTwo : Cert.AdamwFfTwo.Facts] : Prop :=
  ∀ (m : (ℓ : Loc Cert.AdamwFfTwo.nD Cert.AdamwFfTwo.τ Cert.AdamwFfTwo.sig) → Buf (Elt Bits) ℓ) (g : Dev Cert.AdamwFfTwo.nD → PrngReg), Pre_AdamwFfTwo m →
    θ_run (Cert.AdamwFfTwo.defs (F := Bits)) (onTc (τ := Cert.AdamwFfTwo.τ) (Cert.AdamwFfTwo.main (F := Bits))) ⟨m, fun _ => 0, g⟩ (fun r => (∀ c : Dev Cert.AdamwFfTwo.nD,
      r.2.mem ((c.tc : Thread Cert.AdamwFfTwo.nD Cert.AdamwFfTwo.τ).loc Cert.AdamwFfTwo.main_arg0) = m ((c.tc : Thread Cert.AdamwFfTwo.nD Cert.AdamwFfTwo.τ).loc Cert.AdamwFfTwo.main_arg0)
      ∧ r.2.mem ((c.tc : Thread Cert.AdamwFfTwo.nD Cert.AdamwFfTwo.τ).loc Cert.AdamwFfTwo.main_arg1) = m ((c.tc : Thread Cert.AdamwFfTwo.nD Cert.AdamwFfTwo.τ).loc Cert.AdamwFfTwo.main_arg1)
      ∧ r.2.mem ((c.tc : Thread Cert.AdamwFfTwo.nD Cert.AdamwFfTwo.τ).loc Cert.AdamwFfTwo.main_arg2) = m ((c.tc : Thread Cert.AdamwFfTwo.nD Cert.AdamwFfTwo.τ).loc Cert.AdamwFfTwo.main_arg2)
      ∧ r.2.mem ((c.tc : Thread Cert.AdamwFfTwo.nD Cert.AdamwFfTwo.τ).loc Cert.AdamwFfTwo.main_arg3) = m ((c.tc : Thread Cert.AdamwFfTwo.nD Cert.AdamwFfTwo.τ).loc Cert.AdamwFfTwo.main_arg3))
      ∧ r.2.sem = fun _ => 0)

def quiescent_AdamwFfTwoIdeal [hAdamwFfTwoIdeal : Cert.AdamwFfTwoIdeal.Facts] : Prop :=
  ∀ (m : (ℓ : Loc Cert.AdamwFfTwoIdeal.nD Cert.AdamwFfTwoIdeal.τ Cert.AdamwFfTwoIdeal.sig) → Buf (Elt Ideal) ℓ) (g : Dev Cert.AdamwFfTwoIdeal.nD → PrngReg), Pre_AdamwFfTwoIdeal m →
    θ_run (Cert.AdamwFfTwoIdeal.defs (F := Ideal)) (onTc (τ := Cert.AdamwFfTwoIdeal.τ) (Cert.AdamwFfTwoIdeal.main (F := Ideal))) ⟨m, fun _ => 0, g⟩ (fun r => (∀ c : Dev Cert.AdamwFfTwoIdeal.nD,
      r.2.mem ((c.tc : Thread Cert.AdamwFfTwoIdeal.nD Cert.AdamwFfTwoIdeal.τ).loc Cert.AdamwFfTwoIdeal.main_arg0) = m ((c.tc : Thread Cert.AdamwFfTwoIdeal.nD Cert.AdamwFfTwoIdeal.τ).loc Cert.AdamwFfTwoIdeal.main_arg0)
      ∧ r.2.mem ((c.tc : Thread Cert.AdamwFfTwoIdeal.nD Cert.AdamwFfTwoIdeal.τ).loc Cert.AdamwFfTwoIdeal.main_arg1) = m ((c.tc : Thread Cert.AdamwFfTwoIdeal.nD Cert.AdamwFfTwoIdeal.τ).loc Cert.AdamwFfTwoIdeal.main_arg1)
      ∧ r.2.mem ((c.tc : Thread Cert.AdamwFfTwoIdeal.nD Cert.AdamwFfTwoIdeal.τ).loc Cert.AdamwFfTwoIdeal.main_arg2) = m ((c.tc : Thread Cert.AdamwFfTwoIdeal.nD Cert.AdamwFfTwoIdeal.τ).loc Cert.AdamwFfTwoIdeal.main_arg2)
      ∧ r.2.mem ((c.tc : Thread Cert.AdamwFfTwoIdeal.nD Cert.AdamwFfTwoIdeal.τ).loc Cert.AdamwFfTwoIdeal.main_arg3) = m ((c.tc : Thread Cert.AdamwFfTwoIdeal.nD Cert.AdamwFfTwoIdeal.τ).loc Cert.AdamwFfTwoIdeal.main_arg3))
      ∧ r.2.sem = fun _ => 0)

def quiescent_AdamwFfTwoReferenceIdeal [hAdamwFfTwoReferenceIdeal : Cert.AdamwFfTwoReferenceIdeal.Facts] : Prop :=
  ∀ (m : (ℓ : Loc Cert.AdamwFfTwoReferenceIdeal.nD Cert.AdamwFfTwoReferenceIdeal.τ Cert.AdamwFfTwoReferenceIdeal.sig) → Buf (Elt Ideal) ℓ) (g : Dev Cert.AdamwFfTwoReferenceIdeal.nD → PrngReg), Pre_AdamwFfTwoReferenceIdeal m →
    θ_run (Cert.AdamwFfTwoReferenceIdeal.defs (F := Ideal)) (onTc (τ := Cert.AdamwFfTwoReferenceIdeal.τ) (Cert.AdamwFfTwoReferenceIdeal.main (F := Ideal))) ⟨m, fun _ => 0, g⟩ (fun r => (∀ c : Dev Cert.AdamwFfTwoReferenceIdeal.nD,
      r.2.mem ((c.tc : Thread Cert.AdamwFfTwoReferenceIdeal.nD Cert.AdamwFfTwoReferenceIdeal.τ).loc Cert.AdamwFfTwoReferenceIdeal.main_arg0) = m ((c.tc : Thread Cert.AdamwFfTwoReferenceIdeal.nD Cert.AdamwFfTwoReferenceIdeal.τ).loc Cert.AdamwFfTwoReferenceIdeal.main_arg0)
      ∧ r.2.mem ((c.tc : Thread Cert.AdamwFfTwoReferenceIdeal.nD Cert.AdamwFfTwoReferenceIdeal.τ).loc Cert.AdamwFfTwoReferenceIdeal.main_arg1) = m ((c.tc : Thread Cert.AdamwFfTwoReferenceIdeal.nD Cert.AdamwFfTwoReferenceIdeal.τ).loc Cert.AdamwFfTwoReferenceIdeal.main_arg1)
      ∧ r.2.mem ((c.tc : Thread Cert.AdamwFfTwoReferenceIdeal.nD Cert.AdamwFfTwoReferenceIdeal.τ).loc Cert.AdamwFfTwoReferenceIdeal.main_arg2) = m ((c.tc : Thread Cert.AdamwFfTwoReferenceIdeal.nD Cert.AdamwFfTwoReferenceIdeal.τ).loc Cert.AdamwFfTwoReferenceIdeal.main_arg2)
      ∧ r.2.mem ((c.tc : Thread Cert.AdamwFfTwoReferenceIdeal.nD Cert.AdamwFfTwoReferenceIdeal.τ).loc Cert.AdamwFfTwoReferenceIdeal.main_arg3) = m ((c.tc : Thread Cert.AdamwFfTwoReferenceIdeal.nD Cert.AdamwFfTwoReferenceIdeal.τ).loc Cert.AdamwFfTwoReferenceIdeal.main_arg3))
      ∧ r.2.sem = fun _ => 0)

def quiescent_WModGrad [hWModGrad : Cert.WModGrad.Facts] : Prop :=
  ∀ (m : (ℓ : Loc Cert.WModGrad.nD Cert.WModGrad.τ Cert.WModGrad.sig) → Buf (Elt Bits) ℓ) (g : Dev Cert.WModGrad.nD → PrngReg), Pre_WModGrad m →
    θ_run (Cert.WModGrad.defs (F := Bits)) (onTc (τ := Cert.WModGrad.τ) (Cert.WModGrad.main (F := Bits))) ⟨m, fun _ => 0, g⟩ (fun r => (∀ c : Dev Cert.WModGrad.nD,
      r.2.mem ((c.tc : Thread Cert.WModGrad.nD Cert.WModGrad.τ).loc Cert.WModGrad.main_arg0) = m ((c.tc : Thread Cert.WModGrad.nD Cert.WModGrad.τ).loc Cert.WModGrad.main_arg0)
      ∧ r.2.mem ((c.tc : Thread Cert.WModGrad.nD Cert.WModGrad.τ).loc Cert.WModGrad.main_arg1) = m ((c.tc : Thread Cert.WModGrad.nD Cert.WModGrad.τ).loc Cert.WModGrad.main_arg1))
      ∧ r.2.sem = fun _ => 0)

def quiescent_WModGradIdeal [hWModGradIdeal : Cert.WModGradIdeal.Facts] : Prop :=
  ∀ (m : (ℓ : Loc Cert.WModGradIdeal.nD Cert.WModGradIdeal.τ Cert.WModGradIdeal.sig) → Buf (Elt Ideal) ℓ) (g : Dev Cert.WModGradIdeal.nD → PrngReg), Pre_WModGradIdeal m →
    θ_run (Cert.WModGradIdeal.defs (F := Ideal)) (onTc (τ := Cert.WModGradIdeal.τ) (Cert.WModGradIdeal.main (F := Ideal))) ⟨m, fun _ => 0, g⟩ (fun r => (∀ c : Dev Cert.WModGradIdeal.nD,
      r.2.mem ((c.tc : Thread Cert.WModGradIdeal.nD Cert.WModGradIdeal.τ).loc Cert.WModGradIdeal.main_arg0) = m ((c.tc : Thread Cert.WModGradIdeal.nD Cert.WModGradIdeal.τ).loc Cert.WModGradIdeal.main_arg0)
      ∧ r.2.mem ((c.tc : Thread Cert.WModGradIdeal.nD Cert.WModGradIdeal.τ).loc Cert.WModGradIdeal.main_arg1) = m ((c.tc : Thread Cert.WModGradIdeal.nD Cert.WModGradIdeal.τ).loc Cert.WModGradIdeal.main_arg1))
      ∧ r.2.sem = fun _ => 0)

def quiescent_WModGradReferenceIdeal [hWModGradReferenceIdeal : Cert.WModGradReferenceIdeal.Facts] : Prop :=
  ∀ (m : (ℓ : Loc Cert.WModGradReferenceIdeal.nD Cert.WModGradReferenceIdeal.τ Cert.WModGradReferenceIdeal.sig) → Buf (Elt Ideal) ℓ) (g : Dev Cert.WModGradReferenceIdeal.nD → PrngReg), Pre_WModGradReferenceIdeal m →
    θ_run (Cert.WModGradReferenceIdeal.defs (F := Ideal)) (onTc (τ := Cert.WModGradReferenceIdeal.τ) (Cert.WModGradReferenceIdeal.main (F := Ideal))) ⟨m, fun _ => 0, g⟩ (fun r => (∀ c : Dev Cert.WModGradReferenceIdeal.nD,
      r.2.mem ((c.tc : Thread Cert.WModGradReferenceIdeal.nD Cert.WModGradReferenceIdeal.τ).loc Cert.WModGradReferenceIdeal.main_arg0) = m ((c.tc : Thread Cert.WModGradReferenceIdeal.nD Cert.WModGradReferenceIdeal.τ).loc Cert.WModGradReferenceIdeal.main_arg0)
      ∧ r.2.mem ((c.tc : Thread Cert.WModGradReferenceIdeal.nD Cert.WModGradReferenceIdeal.τ).loc Cert.WModGradReferenceIdeal.main_arg1) = m ((c.tc : Thread Cert.WModGradReferenceIdeal.nD Cert.WModGradReferenceIdeal.τ).loc Cert.WModGradReferenceIdeal.main_arg1))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0))
      ∧ r.2.sem = fun _ => 0)

def quiescent_SmallGradsReferenceIdeal [hSmallGradsReferenceIdeal : Cert.SmallGradsReferenceIdeal.Facts] : Prop :=
  ∀ (m : (ℓ : Loc Cert.SmallGradsReferenceIdeal.nD Cert.SmallGradsReferenceIdeal.τ Cert.SmallGradsReferenceIdeal.sig) → Buf (Elt Ideal) ℓ) (g : Dev Cert.SmallGradsReferenceIdeal.nD → PrngReg), Pre_SmallGradsReferenceIdeal m →
    θ_run (Cert.SmallGradsReferenceIdeal.defs (F := Ideal)) (onTc (τ := Cert.SmallGradsReferenceIdeal.τ) (Cert.SmallGradsReferenceIdeal.main (F := Ideal))) ⟨m, fun _ => 0, g⟩ (fun r => (∀ c : Dev Cert.SmallGradsReferenceIdeal.nD,
      r.2.mem ((c.tc : Thread Cert.SmallGradsReferenceIdeal.nD Cert.SmallGradsReferenceIdeal.τ).loc Cert.SmallGradsReferenceIdeal.main_arg0) = m ((c.tc : Thread Cert.SmallGradsReferenceIdeal.nD Cert.SmallGradsReferenceIdeal.τ).loc Cert.SmallGradsReferenceIdeal.main_arg0))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_DownInGrad [hDownInGrad : Cert.DownInGrad.Facts] : Prop :=
  ∀ (m : (ℓ : Loc Cert.DownInGrad.nD Cert.DownInGrad.τ Cert.DownInGrad.sig) → Buf (Elt Bits) ℓ) (g : Dev Cert.DownInGrad.nD → PrngReg), Pre_DownInGrad m →
    θ_run (Cert.DownInGrad.defs (F := Bits)) (onTc (τ := Cert.DownInGrad.τ) (Cert.DownInGrad.main (F := Bits))) ⟨m, fun _ => 0, g⟩ (fun r => (∀ c : Dev Cert.DownInGrad.nD,
      r.2.mem ((c.tc : Thread Cert.DownInGrad.nD Cert.DownInGrad.τ).loc Cert.DownInGrad.main_arg0) = m ((c.tc : Thread Cert.DownInGrad.nD Cert.DownInGrad.τ).loc Cert.DownInGrad.main_arg0)
      ∧ r.2.mem ((c.tc : Thread Cert.DownInGrad.nD Cert.DownInGrad.τ).loc Cert.DownInGrad.main_arg1) = m ((c.tc : Thread Cert.DownInGrad.nD Cert.DownInGrad.τ).loc Cert.DownInGrad.main_arg1))
      ∧ r.2.sem = fun _ => 0)

def quiescent_DownInGradIdeal [hDownInGradIdeal : Cert.DownInGradIdeal.Facts] : Prop :=
  ∀ (m : (ℓ : Loc Cert.DownInGradIdeal.nD Cert.DownInGradIdeal.τ Cert.DownInGradIdeal.sig) → Buf (Elt Ideal) ℓ) (g : Dev Cert.DownInGradIdeal.nD → PrngReg), Pre_DownInGradIdeal m →
    θ_run (Cert.DownInGradIdeal.defs (F := Ideal)) (onTc (τ := Cert.DownInGradIdeal.τ) (Cert.DownInGradIdeal.main (F := Ideal))) ⟨m, fun _ => 0, g⟩ (fun r => (∀ c : Dev Cert.DownInGradIdeal.nD,
      r.2.mem ((c.tc : Thread Cert.DownInGradIdeal.nD Cert.DownInGradIdeal.τ).loc Cert.DownInGradIdeal.main_arg0) = m ((c.tc : Thread Cert.DownInGradIdeal.nD Cert.DownInGradIdeal.τ).loc Cert.DownInGradIdeal.main_arg0)
      ∧ r.2.mem ((c.tc : Thread Cert.DownInGradIdeal.nD Cert.DownInGradIdeal.τ).loc Cert.DownInGradIdeal.main_arg1) = m ((c.tc : Thread Cert.DownInGradIdeal.nD Cert.DownInGradIdeal.τ).loc Cert.DownInGradIdeal.main_arg1))
      ∧ r.2.sem = fun _ => 0)

def quiescent_DownInGradReferenceIdeal [hDownInGradReferenceIdeal : Cert.DownInGradReferenceIdeal.Facts] : Prop :=
  ∀ (m : (ℓ : Loc Cert.DownInGradReferenceIdeal.nD Cert.DownInGradReferenceIdeal.τ Cert.DownInGradReferenceIdeal.sig) → Buf (Elt Ideal) ℓ) (g : Dev Cert.DownInGradReferenceIdeal.nD → PrngReg), Pre_DownInGradReferenceIdeal m →
    θ_run (Cert.DownInGradReferenceIdeal.defs (F := Ideal)) (onTc (τ := Cert.DownInGradReferenceIdeal.τ) (Cert.DownInGradReferenceIdeal.main (F := Ideal))) ⟨m, fun _ => 0, g⟩ (fun r => (∀ c : Dev Cert.DownInGradReferenceIdeal.nD,
      r.2.mem ((c.tc : Thread Cert.DownInGradReferenceIdeal.nD Cert.DownInGradReferenceIdeal.τ).loc Cert.DownInGradReferenceIdeal.main_arg0) = m ((c.tc : Thread Cert.DownInGradReferenceIdeal.nD Cert.DownInGradReferenceIdeal.τ).loc Cert.DownInGradReferenceIdeal.main_arg0)
      ∧ r.2.mem ((c.tc : Thread Cert.DownInGradReferenceIdeal.nD Cert.DownInGradReferenceIdeal.τ).loc Cert.DownInGradReferenceIdeal.main_arg1) = m ((c.tc : Thread Cert.DownInGradReferenceIdeal.nD Cert.DownInGradReferenceIdeal.τ).loc Cert.DownInGradReferenceIdeal.main_arg1))
      ∧ r.2.sem = fun _ => 0)

def quiescent_UpInGrad [hUpInGrad : Cert.UpInGrad.Facts] : Prop :=
  ∀ (m : (ℓ : Loc Cert.UpInGrad.nD Cert.UpInGrad.τ Cert.UpInGrad.sig) → Buf (Elt Bits) ℓ) (g : Dev Cert.UpInGrad.nD → PrngReg), Pre_UpInGrad m →
    θ_run (Cert.UpInGrad.defs (F := Bits)) (onTc (τ := Cert.UpInGrad.τ) (Cert.UpInGrad.main (F := Bits))) ⟨m, fun _ => 0, g⟩ (fun r => (∀ c : Dev Cert.UpInGrad.nD,
      r.2.mem ((c.tc : Thread Cert.UpInGrad.nD Cert.UpInGrad.τ).loc Cert.UpInGrad.main_arg0) = m ((c.tc : Thread Cert.UpInGrad.nD Cert.UpInGrad.τ).loc Cert.UpInGrad.main_arg0)
      ∧ r.2.mem ((c.tc : Thread Cert.UpInGrad.nD Cert.UpInGrad.τ).loc Cert.UpInGrad.main_arg1) = m ((c.tc : Thread Cert.UpInGrad.nD Cert.UpInGrad.τ).loc Cert.UpInGrad.main_arg1))
      ∧ r.2.sem = fun _ => 0)

def quiescent_UpInGradIdeal [hUpInGradIdeal : Cert.UpInGradIdeal.Facts] : Prop :=
  ∀ (m : (ℓ : Loc Cert.UpInGradIdeal.nD Cert.UpInGradIdeal.τ Cert.UpInGradIdeal.sig) → Buf (Elt Ideal) ℓ) (g : Dev Cert.UpInGradIdeal.nD → PrngReg), Pre_UpInGradIdeal m →
    θ_run (Cert.UpInGradIdeal.defs (F := Ideal)) (onTc (τ := Cert.UpInGradIdeal.τ) (Cert.UpInGradIdeal.main (F := Ideal))) ⟨m, fun _ => 0, g⟩ (fun r => (∀ c : Dev Cert.UpInGradIdeal.nD,
      r.2.mem ((c.tc : Thread Cert.UpInGradIdeal.nD Cert.UpInGradIdeal.τ).loc Cert.UpInGradIdeal.main_arg0) = m ((c.tc : Thread Cert.UpInGradIdeal.nD Cert.UpInGradIdeal.τ).loc Cert.UpInGradIdeal.main_arg0)
      ∧ r.2.mem ((c.tc : Thread Cert.UpInGradIdeal.nD Cert.UpInGradIdeal.τ).loc Cert.UpInGradIdeal.main_arg1) = m ((c.tc : Thread Cert.UpInGradIdeal.nD Cert.UpInGradIdeal.τ).loc Cert.UpInGradIdeal.main_arg1))
      ∧ r.2.sem = fun _ => 0)

def quiescent_UpInGradReferenceIdeal [hUpInGradReferenceIdeal : Cert.UpInGradReferenceIdeal.Facts] : Prop :=
  ∀ (m : (ℓ : Loc Cert.UpInGradReferenceIdeal.nD Cert.UpInGradReferenceIdeal.τ Cert.UpInGradReferenceIdeal.sig) → Buf (Elt Ideal) ℓ) (g : Dev Cert.UpInGradReferenceIdeal.nD → PrngReg), Pre_UpInGradReferenceIdeal m →
    θ_run (Cert.UpInGradReferenceIdeal.defs (F := Ideal)) (onTc (τ := Cert.UpInGradReferenceIdeal.τ) (Cert.UpInGradReferenceIdeal.main (F := Ideal))) ⟨m, fun _ => 0, g⟩ (fun r => (∀ c : Dev Cert.UpInGradReferenceIdeal.nD,
      r.2.mem ((c.tc : Thread Cert.UpInGradReferenceIdeal.nD Cert.UpInGradReferenceIdeal.τ).loc Cert.UpInGradReferenceIdeal.main_arg0) = m ((c.tc : Thread Cert.UpInGradReferenceIdeal.nD Cert.UpInGradReferenceIdeal.τ).loc Cert.UpInGradReferenceIdeal.main_arg0)
      ∧ r.2.mem ((c.tc : Thread Cert.UpInGradReferenceIdeal.nD Cert.UpInGradReferenceIdeal.τ).loc Cert.UpInGradReferenceIdeal.main_arg1) = m ((c.tc : Thread Cert.UpInGradReferenceIdeal.nD Cert.UpInGradReferenceIdeal.τ).loc Cert.UpInGradReferenceIdeal.main_arg1))
      ∧ r.2.sem = fun _ => 0)

def quiescent_OutInGrad [hOutInGrad : Cert.OutInGrad.Facts] : Prop :=
  ∀ (m : (ℓ : Loc Cert.OutInGrad.nD Cert.OutInGrad.τ Cert.OutInGrad.sig) → Buf (Elt Bits) ℓ) (g : Dev Cert.OutInGrad.nD → PrngReg), Pre_OutInGrad m →
    θ_run (Cert.OutInGrad.defs (F := Bits)) (onTc (τ := Cert.OutInGrad.τ) (Cert.OutInGrad.main (F := Bits))) ⟨m, fun _ => 0, g⟩ (fun r => (∀ c : Dev Cert.OutInGrad.nD,
      r.2.mem ((c.tc : Thread Cert.OutInGrad.nD Cert.OutInGrad.τ).loc Cert.OutInGrad.main_arg0) = m ((c.tc : Thread Cert.OutInGrad.nD Cert.OutInGrad.τ).loc Cert.OutInGrad.main_arg0)
      ∧ r.2.mem ((c.tc : Thread Cert.OutInGrad.nD Cert.OutInGrad.τ).loc Cert.OutInGrad.main_arg1) = m ((c.tc : Thread Cert.OutInGrad.nD Cert.OutInGrad.τ).loc Cert.OutInGrad.main_arg1))
      ∧ r.2.sem = fun _ => 0)

def quiescent_OutInGradIdeal [hOutInGradIdeal : Cert.OutInGradIdeal.Facts] : Prop :=
  ∀ (m : (ℓ : Loc Cert.OutInGradIdeal.nD Cert.OutInGradIdeal.τ Cert.OutInGradIdeal.sig) → Buf (Elt Ideal) ℓ) (g : Dev Cert.OutInGradIdeal.nD → PrngReg), Pre_OutInGradIdeal m →
    θ_run (Cert.OutInGradIdeal.defs (F := Ideal)) (onTc (τ := Cert.OutInGradIdeal.τ) (Cert.OutInGradIdeal.main (F := Ideal))) ⟨m, fun _ => 0, g⟩ (fun r => (∀ c : Dev Cert.OutInGradIdeal.nD,
      r.2.mem ((c.tc : Thread Cert.OutInGradIdeal.nD Cert.OutInGradIdeal.τ).loc Cert.OutInGradIdeal.main_arg0) = m ((c.tc : Thread Cert.OutInGradIdeal.nD Cert.OutInGradIdeal.τ).loc Cert.OutInGradIdeal.main_arg0)
      ∧ r.2.mem ((c.tc : Thread Cert.OutInGradIdeal.nD Cert.OutInGradIdeal.τ).loc Cert.OutInGradIdeal.main_arg1) = m ((c.tc : Thread Cert.OutInGradIdeal.nD Cert.OutInGradIdeal.τ).loc Cert.OutInGradIdeal.main_arg1))
      ∧ r.2.sem = fun _ => 0)

def quiescent_OutInGradReferenceIdeal [hOutInGradReferenceIdeal : Cert.OutInGradReferenceIdeal.Facts] : Prop :=
  ∀ (m : (ℓ : Loc Cert.OutInGradReferenceIdeal.nD Cert.OutInGradReferenceIdeal.τ Cert.OutInGradReferenceIdeal.sig) → Buf (Elt Ideal) ℓ) (g : Dev Cert.OutInGradReferenceIdeal.nD → PrngReg), Pre_OutInGradReferenceIdeal m →
    θ_run (Cert.OutInGradReferenceIdeal.defs (F := Ideal)) (onTc (τ := Cert.OutInGradReferenceIdeal.τ) (Cert.OutInGradReferenceIdeal.main (F := Ideal))) ⟨m, fun _ => 0, g⟩ (fun r => (∀ c : Dev Cert.OutInGradReferenceIdeal.nD,
      r.2.mem ((c.tc : Thread Cert.OutInGradReferenceIdeal.nD Cert.OutInGradReferenceIdeal.τ).loc Cert.OutInGradReferenceIdeal.main_arg0) = m ((c.tc : Thread Cert.OutInGradReferenceIdeal.nD Cert.OutInGradReferenceIdeal.τ).loc Cert.OutInGradReferenceIdeal.main_arg0)
      ∧ r.2.mem ((c.tc : Thread Cert.OutInGradReferenceIdeal.nD Cert.OutInGradReferenceIdeal.τ).loc Cert.OutInGradReferenceIdeal.main_arg1) = m ((c.tc : Thread Cert.OutInGradReferenceIdeal.nD Cert.OutInGradReferenceIdeal.τ).loc Cert.OutInGradReferenceIdeal.main_arg1))
      ∧ r.2.sem = fun _ => 0)

def quiescent_BranchInGrad [hBranchInGrad : Cert.BranchInGrad.Facts] : Prop :=
  ∀ (m : (ℓ : Loc Cert.BranchInGrad.nD Cert.BranchInGrad.τ Cert.BranchInGrad.sig) → Buf (Elt Bits) ℓ) (g : Dev Cert.BranchInGrad.nD → PrngReg), Pre_BranchInGrad m →
    θ_run (Cert.BranchInGrad.defs (F := Bits)) (onTc (τ := Cert.BranchInGrad.τ) (Cert.BranchInGrad.main (F := Bits))) ⟨m, fun _ => 0, g⟩ (fun r => (∀ c : Dev Cert.BranchInGrad.nD,
      r.2.mem ((c.tc : Thread Cert.BranchInGrad.nD Cert.BranchInGrad.τ).loc Cert.BranchInGrad.main_arg0) = m ((c.tc : Thread Cert.BranchInGrad.nD Cert.BranchInGrad.τ).loc Cert.BranchInGrad.main_arg0)
      ∧ r.2.mem ((c.tc : Thread Cert.BranchInGrad.nD Cert.BranchInGrad.τ).loc Cert.BranchInGrad.main_arg1) = m ((c.tc : Thread Cert.BranchInGrad.nD Cert.BranchInGrad.τ).loc Cert.BranchInGrad.main_arg1))
      ∧ r.2.sem = fun _ => 0)

def quiescent_BranchInGradIdeal [hBranchInGradIdeal : Cert.BranchInGradIdeal.Facts] : Prop :=
  ∀ (m : (ℓ : Loc Cert.BranchInGradIdeal.nD Cert.BranchInGradIdeal.τ Cert.BranchInGradIdeal.sig) → Buf (Elt Ideal) ℓ) (g : Dev Cert.BranchInGradIdeal.nD → PrngReg), Pre_BranchInGradIdeal m →
    θ_run (Cert.BranchInGradIdeal.defs (F := Ideal)) (onTc (τ := Cert.BranchInGradIdeal.τ) (Cert.BranchInGradIdeal.main (F := Ideal))) ⟨m, fun _ => 0, g⟩ (fun r => (∀ c : Dev Cert.BranchInGradIdeal.nD,
      r.2.mem ((c.tc : Thread Cert.BranchInGradIdeal.nD Cert.BranchInGradIdeal.τ).loc Cert.BranchInGradIdeal.main_arg0) = m ((c.tc : Thread Cert.BranchInGradIdeal.nD Cert.BranchInGradIdeal.τ).loc Cert.BranchInGradIdeal.main_arg0)
      ∧ r.2.mem ((c.tc : Thread Cert.BranchInGradIdeal.nD Cert.BranchInGradIdeal.τ).loc Cert.BranchInGradIdeal.main_arg1) = m ((c.tc : Thread Cert.BranchInGradIdeal.nD Cert.BranchInGradIdeal.τ).loc Cert.BranchInGradIdeal.main_arg1))
      ∧ r.2.sem = fun _ => 0)

def quiescent_BranchInGradReferenceIdeal [hBranchInGradReferenceIdeal : Cert.BranchInGradReferenceIdeal.Facts] : Prop :=
  ∀ (m : (ℓ : Loc Cert.BranchInGradReferenceIdeal.nD Cert.BranchInGradReferenceIdeal.τ Cert.BranchInGradReferenceIdeal.sig) → Buf (Elt Ideal) ℓ) (g : Dev Cert.BranchInGradReferenceIdeal.nD → PrngReg), Pre_BranchInGradReferenceIdeal m →
    θ_run (Cert.BranchInGradReferenceIdeal.defs (F := Ideal)) (onTc (τ := Cert.BranchInGradReferenceIdeal.τ) (Cert.BranchInGradReferenceIdeal.main (F := Ideal))) ⟨m, fun _ => 0, g⟩ (fun r => (∀ c : Dev Cert.BranchInGradReferenceIdeal.nD,
      r.2.mem ((c.tc : Thread Cert.BranchInGradReferenceIdeal.nD Cert.BranchInGradReferenceIdeal.τ).loc Cert.BranchInGradReferenceIdeal.main_arg0) = m ((c.tc : Thread Cert.BranchInGradReferenceIdeal.nD Cert.BranchInGradReferenceIdeal.τ).loc Cert.BranchInGradReferenceIdeal.main_arg0)
      ∧ r.2.mem ((c.tc : Thread Cert.BranchInGradReferenceIdeal.nD Cert.BranchInGradReferenceIdeal.τ).loc Cert.BranchInGradReferenceIdeal.main_arg1) = m ((c.tc : Thread Cert.BranchInGradReferenceIdeal.nD Cert.BranchInGradReferenceIdeal.τ).loc Cert.BranchInGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_BranchGrad [hBranchGrad : Cert.BranchGrad.Facts] : Prop :=
  ∀ (m : (ℓ : Loc Cert.BranchGrad.nD Cert.BranchGrad.τ Cert.BranchGrad.sig) → Buf (Elt Bits) ℓ) (g : Dev Cert.BranchGrad.nD → PrngReg), Pre_BranchGrad m →
    θ_run (Cert.BranchGrad.defs (F := Bits)) (onTc (τ := Cert.BranchGrad.τ) (Cert.BranchGrad.main (F := Bits))) ⟨m, fun _ => 0, g⟩ (fun r => (∀ c : Dev Cert.BranchGrad.nD,
      r.2.mem ((c.tc : Thread Cert.BranchGrad.nD Cert.BranchGrad.τ).loc Cert.BranchGrad.main_arg0) = m ((c.tc : Thread Cert.BranchGrad.nD Cert.BranchGrad.τ).loc Cert.BranchGrad.main_arg0)
      ∧ r.2.mem ((c.tc : Thread Cert.BranchGrad.nD Cert.BranchGrad.τ).loc Cert.BranchGrad.main_arg1) = m ((c.tc : Thread Cert.BranchGrad.nD Cert.BranchGrad.τ).loc Cert.BranchGrad.main_arg1))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ r.2.sem = fun _ => 0)

def quiescent_BranchGradReferenceIdeal [hBranchGradReferenceIdeal : Cert.BranchGradReferenceIdeal.Facts] : Prop :=
  ∀ (m : (ℓ : Loc Cert.BranchGradReferenceIdeal.nD Cert.BranchGradReferenceIdeal.τ Cert.BranchGradReferenceIdeal.sig) → Buf (Elt Ideal) ℓ) (g : Dev Cert.BranchGradReferenceIdeal.nD → PrngReg), Pre_BranchGradReferenceIdeal m →
    θ_run (Cert.BranchGradReferenceIdeal.defs (F := Ideal)) (onTc (τ := Cert.BranchGradReferenceIdeal.τ) (Cert.BranchGradReferenceIdeal.main (F := Ideal))) ⟨m, fun _ => 0, g⟩ (fun r => (∀ c : Dev Cert.BranchGradReferenceIdeal.nD,
      r.2.mem ((c.tc : Thread Cert.BranchGradReferenceIdeal.nD Cert.BranchGradReferenceIdeal.τ).loc Cert.BranchGradReferenceIdeal.main_arg0) = m ((c.tc : Thread Cert.BranchGradReferenceIdeal.nD Cert.BranchGradReferenceIdeal.τ).loc Cert.BranchGradReferenceIdeal.main_arg0)
      ∧ r.2.mem ((c.tc : Thread Cert.BranchGradReferenceIdeal.nD Cert.BranchGradReferenceIdeal.τ).loc Cert.BranchGradReferenceIdeal.main_arg1) = m ((c.tc : Thread Cert.BranchGradReferenceIdeal.nD Cert.BranchGradReferenceIdeal.τ).loc Cert.BranchGradReferenceIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1))
      ∧ r.2.sem = fun _ => 0)

def quiescent_JoinedInGrad [hJoinedInGrad : Cert.JoinedInGrad.Facts] : Prop :=
  ∀ (m : (ℓ : Loc Cert.JoinedInGrad.nD Cert.JoinedInGrad.τ Cert.JoinedInGrad.sig) → Buf (Elt Bits) ℓ) (g : Dev Cert.JoinedInGrad.nD → PrngReg), Pre_JoinedInGrad m →
    θ_run (Cert.JoinedInGrad.defs (F := Bits)) (onTc (τ := Cert.JoinedInGrad.τ) (Cert.JoinedInGrad.main (F := Bits))) ⟨m, fun _ => 0, g⟩ (fun r => (∀ c : Dev Cert.JoinedInGrad.nD,
      r.2.mem ((c.tc : Thread Cert.JoinedInGrad.nD Cert.JoinedInGrad.τ).loc Cert.JoinedInGrad.main_arg0) = m ((c.tc : Thread Cert.JoinedInGrad.nD Cert.JoinedInGrad.τ).loc Cert.JoinedInGrad.main_arg0)
      ∧ r.2.mem ((c.tc : Thread Cert.JoinedInGrad.nD Cert.JoinedInGrad.τ).loc Cert.JoinedInGrad.main_arg1) = m ((c.tc : Thread Cert.JoinedInGrad.nD Cert.JoinedInGrad.τ).loc Cert.JoinedInGrad.main_arg1))
      ∧ r.2.sem = fun _ => 0)

def quiescent_JoinedInGradIdeal [hJoinedInGradIdeal : Cert.JoinedInGradIdeal.Facts] : Prop :=
  ∀ (m : (ℓ : Loc Cert.JoinedInGradIdeal.nD Cert.JoinedInGradIdeal.τ Cert.JoinedInGradIdeal.sig) → Buf (Elt Ideal) ℓ) (g : Dev Cert.JoinedInGradIdeal.nD → PrngReg), Pre_JoinedInGradIdeal m →
    θ_run (Cert.JoinedInGradIdeal.defs (F := Ideal)) (onTc (τ := Cert.JoinedInGradIdeal.τ) (Cert.JoinedInGradIdeal.main (F := Ideal))) ⟨m, fun _ => 0, g⟩ (fun r => (∀ c : Dev Cert.JoinedInGradIdeal.nD,
      r.2.mem ((c.tc : Thread Cert.JoinedInGradIdeal.nD Cert.JoinedInGradIdeal.τ).loc Cert.JoinedInGradIdeal.main_arg0) = m ((c.tc : Thread Cert.JoinedInGradIdeal.nD Cert.JoinedInGradIdeal.τ).loc Cert.JoinedInGradIdeal.main_arg0)
      ∧ r.2.mem ((c.tc : Thread Cert.JoinedInGradIdeal.nD Cert.JoinedInGradIdeal.τ).loc Cert.JoinedInGradIdeal.main_arg1) = m ((c.tc : Thread Cert.JoinedInGradIdeal.nD Cert.JoinedInGradIdeal.τ).loc Cert.JoinedInGradIdeal.main_arg1))
      ∧ r.2.sem = fun _ => 0)

def quiescent_JoinedInGradReferenceIdeal [hJoinedInGradReferenceIdeal : Cert.JoinedInGradReferenceIdeal.Facts] : Prop :=
  ∀ (m : (ℓ : Loc Cert.JoinedInGradReferenceIdeal.nD Cert.JoinedInGradReferenceIdeal.τ Cert.JoinedInGradReferenceIdeal.sig) → Buf (Elt Ideal) ℓ) (g : Dev Cert.JoinedInGradReferenceIdeal.nD → PrngReg), Pre_JoinedInGradReferenceIdeal m →
    θ_run (Cert.JoinedInGradReferenceIdeal.defs (F := Ideal)) (onTc (τ := Cert.JoinedInGradReferenceIdeal.τ) (Cert.JoinedInGradReferenceIdeal.main (F := Ideal))) ⟨m, fun _ => 0, g⟩ (fun r => (∀ c : Dev Cert.JoinedInGradReferenceIdeal.nD,
      r.2.mem ((c.tc : Thread Cert.JoinedInGradReferenceIdeal.nD Cert.JoinedInGradReferenceIdeal.τ).loc Cert.JoinedInGradReferenceIdeal.main_arg0) = m ((c.tc : Thread Cert.JoinedInGradReferenceIdeal.nD Cert.JoinedInGradReferenceIdeal.τ).loc Cert.JoinedInGradReferenceIdeal.main_arg0)
      ∧ r.2.mem ((c.tc : Thread Cert.JoinedInGradReferenceIdeal.nD Cert.JoinedInGradReferenceIdeal.τ).loc Cert.JoinedInGradReferenceIdeal.main_arg1) = m ((c.tc : Thread Cert.JoinedInGradReferenceIdeal.nD Cert.JoinedInGradReferenceIdeal.τ).loc Cert.JoinedInGradReferenceIdeal.main_arg1))
      ∧ r.2.sem = fun _ => 0)

def quiescent_JoinedGrad [hJoinedGrad : Cert.JoinedGrad.Facts] : Prop :=
  ∀ (m : (ℓ : Loc Cert.JoinedGrad.nD Cert.JoinedGrad.τ Cert.JoinedGrad.sig) → Buf (Elt Bits) ℓ) (g : Dev Cert.JoinedGrad.nD → PrngReg), Pre_JoinedGrad m →
    θ_run (Cert.JoinedGrad.defs (F := Bits)) (onTc (τ := Cert.JoinedGrad.τ) (Cert.JoinedGrad.main (F := Bits))) ⟨m, fun _ => 0, g⟩ (fun r => (∀ c : Dev Cert.JoinedGrad.nD,
      r.2.mem ((c.tc : Thread Cert.JoinedGrad.nD Cert.JoinedGrad.τ).loc Cert.JoinedGrad.main_arg0) = m ((c.tc : Thread Cert.JoinedGrad.nD Cert.JoinedGrad.τ).loc Cert.JoinedGrad.main_arg0)
      ∧ r.2.mem ((c.tc : Thread Cert.JoinedGrad.nD Cert.JoinedGrad.τ).loc Cert.JoinedGrad.main_arg1) = m ((c.tc : Thread Cert.JoinedGrad.nD Cert.JoinedGrad.τ).loc Cert.JoinedGrad.main_arg1))
      ∧ r.2.sem = fun _ => 0)

def quiescent_JoinedGradIdeal [hJoinedGradIdeal : Cert.JoinedGradIdeal.Facts] : Prop :=
  ∀ (m : (ℓ : Loc Cert.JoinedGradIdeal.nD Cert.JoinedGradIdeal.τ Cert.JoinedGradIdeal.sig) → Buf (Elt Ideal) ℓ) (g : Dev Cert.JoinedGradIdeal.nD → PrngReg), Pre_JoinedGradIdeal m →
    θ_run (Cert.JoinedGradIdeal.defs (F := Ideal)) (onTc (τ := Cert.JoinedGradIdeal.τ) (Cert.JoinedGradIdeal.main (F := Ideal))) ⟨m, fun _ => 0, g⟩ (fun r => (∀ c : Dev Cert.JoinedGradIdeal.nD,
      r.2.mem ((c.tc : Thread Cert.JoinedGradIdeal.nD Cert.JoinedGradIdeal.τ).loc Cert.JoinedGradIdeal.main_arg0) = m ((c.tc : Thread Cert.JoinedGradIdeal.nD Cert.JoinedGradIdeal.τ).loc Cert.JoinedGradIdeal.main_arg0)
      ∧ r.2.mem ((c.tc : Thread Cert.JoinedGradIdeal.nD Cert.JoinedGradIdeal.τ).loc Cert.JoinedGradIdeal.main_arg1) = m ((c.tc : Thread Cert.JoinedGradIdeal.nD Cert.JoinedGradIdeal.τ).loc Cert.JoinedGradIdeal.main_arg1))
      ∧ r.2.sem = fun _ => 0)

def quiescent_JoinedGradReferenceIdeal [hJoinedGradReferenceIdeal : Cert.JoinedGradReferenceIdeal.Facts] : Prop :=
  ∀ (m : (ℓ : Loc Cert.JoinedGradReferenceIdeal.nD Cert.JoinedGradReferenceIdeal.τ Cert.JoinedGradReferenceIdeal.sig) → Buf (Elt Ideal) ℓ) (g : Dev Cert.JoinedGradReferenceIdeal.nD → PrngReg), Pre_JoinedGradReferenceIdeal m →
    θ_run (Cert.JoinedGradReferenceIdeal.defs (F := Ideal)) (onTc (τ := Cert.JoinedGradReferenceIdeal.τ) (Cert.JoinedGradReferenceIdeal.main (F := Ideal))) ⟨m, fun _ => 0, g⟩ (fun r => (∀ c : Dev Cert.JoinedGradReferenceIdeal.nD,
      r.2.mem ((c.tc : Thread Cert.JoinedGradReferenceIdeal.nD Cert.JoinedGradReferenceIdeal.τ).loc Cert.JoinedGradReferenceIdeal.main_arg0) = m ((c.tc : Thread Cert.JoinedGradReferenceIdeal.nD Cert.JoinedGradReferenceIdeal.τ).loc Cert.JoinedGradReferenceIdeal.main_arg0)
      ∧ r.2.mem ((c.tc : Thread Cert.JoinedGradReferenceIdeal.nD Cert.JoinedGradReferenceIdeal.τ).loc Cert.JoinedGradReferenceIdeal.main_arg1) = m ((c.tc : Thread Cert.JoinedGradReferenceIdeal.nD Cert.JoinedGradReferenceIdeal.τ).loc Cert.JoinedGradReferenceIdeal.main_arg1))
      ∧ r.2.sem = fun _ => 0)

def quiescent_Joined [hJoined : Cert.Joined.Facts] : Prop :=
  ∀ (m : (ℓ : Loc Cert.Joined.nD Cert.Joined.τ Cert.Joined.sig) → Buf (Elt Bits) ℓ) (g : Dev Cert.Joined.nD → PrngReg), Pre_Joined m →
    θ_run (Cert.Joined.defs (F := Bits)) (onTc (τ := Cert.Joined.τ) (Cert.Joined.main (F := Bits))) ⟨m, fun _ => 0, g⟩ (fun r => (∀ c : Dev Cert.Joined.nD,
      r.2.mem ((c.tc : Thread Cert.Joined.nD Cert.Joined.τ).loc Cert.Joined.main_arg0) = m ((c.tc : Thread Cert.Joined.nD Cert.Joined.τ).loc Cert.Joined.main_arg0)
      ∧ r.2.mem ((c.tc : Thread Cert.Joined.nD Cert.Joined.τ).loc Cert.Joined.main_arg1) = m ((c.tc : Thread Cert.Joined.nD Cert.Joined.τ).loc Cert.Joined.main_arg1))
      ∧ r.2.sem = fun _ => 0)

def quiescent_JoinedIdeal [hJoinedIdeal : Cert.JoinedIdeal.Facts] : Prop :=
  ∀ (m : (ℓ : Loc Cert.JoinedIdeal.nD Cert.JoinedIdeal.τ Cert.JoinedIdeal.sig) → Buf (Elt Ideal) ℓ) (g : Dev Cert.JoinedIdeal.nD → PrngReg), Pre_JoinedIdeal m →
    θ_run (Cert.JoinedIdeal.defs (F := Ideal)) (onTc (τ := Cert.JoinedIdeal.τ) (Cert.JoinedIdeal.main (F := Ideal))) ⟨m, fun _ => 0, g⟩ (fun r => (∀ c : Dev Cert.JoinedIdeal.nD,
      r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
      ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1))
      ∧ r.2.sem = fun _ => 0)

def quiescent_JoinedReferenceIdeal [hJoinedReferenceIdeal : Cert.JoinedReferenceIdeal.Facts] : Prop :=
  ∀ (m : (ℓ : Loc Cert.JoinedReferenceIdeal.nD Cert.JoinedReferenceIdeal.τ Cert.JoinedReferenceIdeal.sig) → Buf (Elt Ideal) ℓ) (g : Dev Cert.JoinedReferenceIdeal.nD → PrngReg), Pre_JoinedReferenceIdeal m →
    θ_run (Cert.JoinedReferenceIdeal.defs (F := Ideal)) (onTc (τ := Cert.JoinedReferenceIdeal.τ) (Cert.JoinedReferenceIdeal.main (F := Ideal))) ⟨m, fun _ => 0, g⟩ (fun r => (∀ c : Dev Cert.JoinedReferenceIdeal.nD,
      r.2.mem ((c.tc : Thread Cert.JoinedReferenceIdeal.nD Cert.JoinedReferenceIdeal.τ).loc Cert.JoinedReferenceIdeal.main_arg0) = m ((c.tc : Thread Cert.JoinedReferenceIdeal.nD Cert.JoinedReferenceIdeal.τ).loc Cert.JoinedReferenceIdeal.main_arg0)
      ∧ r.2.mem ((c.tc : Thread Cert.JoinedReferenceIdeal.nD Cert.JoinedReferenceIdeal.τ).loc Cert.JoinedReferenceIdeal.main_arg1) = m ((c.tc : Thread Cert.JoinedReferenceIdeal.nD Cert.JoinedReferenceIdeal.τ).loc Cert.JoinedReferenceIdeal.main_arg1))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2))
      ∧ r.2.sem = fun _ => 0)

def quiescent_SquaredRelu [hSquaredRelu : Cert.SquaredRelu.Facts] : Prop :=
  ∀ (m : (ℓ : Loc Cert.SquaredRelu.nD Cert.SquaredRelu.τ Cert.SquaredRelu.sig) → Buf (Elt Bits) ℓ) (g : Dev Cert.SquaredRelu.nD → PrngReg), Pre_SquaredRelu m →
    θ_run (Cert.SquaredRelu.defs (F := Bits)) (onTc (τ := Cert.SquaredRelu.τ) (Cert.SquaredRelu.main (F := Bits))) ⟨m, fun _ => 0, g⟩ (fun r => (∀ c : Dev Cert.SquaredRelu.nD,
      r.2.mem ((c.tc : Thread Cert.SquaredRelu.nD Cert.SquaredRelu.τ).loc Cert.SquaredRelu.main_arg0) = m ((c.tc : Thread Cert.SquaredRelu.nD Cert.SquaredRelu.τ).loc Cert.SquaredRelu.main_arg0))
      ∧ r.2.sem = fun _ => 0)

def quiescent_SquaredReluIdeal [hSquaredReluIdeal : Cert.SquaredReluIdeal.Facts] : Prop :=
  ∀ (m : (ℓ : Loc Cert.SquaredReluIdeal.nD Cert.SquaredReluIdeal.τ Cert.SquaredReluIdeal.sig) → Buf (Elt Ideal) ℓ) (g : Dev Cert.SquaredReluIdeal.nD → PrngReg), Pre_SquaredReluIdeal m →
    θ_run (Cert.SquaredReluIdeal.defs (F := Ideal)) (onTc (τ := Cert.SquaredReluIdeal.τ) (Cert.SquaredReluIdeal.main (F := Ideal))) ⟨m, fun _ => 0, g⟩ (fun r => (∀ c : Dev Cert.SquaredReluIdeal.nD,
      r.2.mem ((c.tc : Thread Cert.SquaredReluIdeal.nD Cert.SquaredReluIdeal.τ).loc Cert.SquaredReluIdeal.main_arg0) = m ((c.tc : Thread Cert.SquaredReluIdeal.nD Cert.SquaredReluIdeal.τ).loc Cert.SquaredReluIdeal.main_arg0))
      ∧ r.2.sem = fun _ => 0)

def quiescent_SquaredReluReferenceIdeal [hSquaredReluReferenceIdeal : Cert.SquaredReluReferenceIdeal.Facts] : Prop :=
  ∀ (m : (ℓ : Loc Cert.SquaredReluReferenceIdeal.nD Cert.SquaredReluReferenceIdeal.τ Cert.SquaredReluReferenceIdeal.sig) → Buf (Elt Ideal) ℓ) (g : Dev Cert.SquaredReluReferenceIdeal.nD → PrngReg), Pre_SquaredReluReferenceIdeal m →
    θ_run (Cert.SquaredReluReferenceIdeal.defs (F := Ideal)) (onTc (τ := Cert.SquaredReluReferenceIdeal.τ) (Cert.SquaredReluReferenceIdeal.main (F := Ideal))) ⟨m, fun _ => 0, g⟩ (fun r => (∀ c : Dev Cert.SquaredReluReferenceIdeal.nD,
      r.2.mem ((c.tc : Thread Cert.SquaredReluReferenceIdeal.nD Cert.SquaredReluReferenceIdeal.τ).loc Cert.SquaredReluReferenceIdeal.main_arg0) = m ((c.tc : Thread Cert.SquaredReluReferenceIdeal.nD Cert.SquaredReluReferenceIdeal.τ).loc Cert.SquaredReluReferenceIdeal.main_arg0))
      ∧ r.2.sem = fun _ => 0)

def quiescent_SquaredReluGrad [hSquaredReluGrad : Cert.SquaredReluGrad.Facts] : Prop :=
  ∀ (m : (ℓ : Loc Cert.SquaredReluGrad.nD Cert.SquaredReluGrad.τ Cert.SquaredReluGrad.sig) → Buf (Elt Bits) ℓ) (g : Dev Cert.SquaredReluGrad.nD → PrngReg), Pre_SquaredReluGrad m →
    θ_run (Cert.SquaredReluGrad.defs (F := Bits)) (onTc (τ := Cert.SquaredReluGrad.τ) (Cert.SquaredReluGrad.main (F := Bits))) ⟨m, fun _ => 0, g⟩ (fun r => (∀ c : Dev Cert.SquaredReluGrad.nD,
      r.2.mem ((c.tc : Thread Cert.SquaredReluGrad.nD Cert.SquaredReluGrad.τ).loc Cert.SquaredReluGrad.main_arg0) = m ((c.tc : Thread Cert.SquaredReluGrad.nD Cert.SquaredReluGrad.τ).loc Cert.SquaredReluGrad.main_arg0)
      ∧ r.2.mem ((c.tc : Thread Cert.SquaredReluGrad.nD Cert.SquaredReluGrad.τ).loc Cert.SquaredReluGrad.main_arg1) = m ((c.tc : Thread Cert.SquaredReluGrad.nD Cert.SquaredReluGrad.τ).loc Cert.SquaredReluGrad.main_arg1))
      ∧ r.2.sem = fun _ => 0)

def quiescent_SquaredReluGradIdeal [hSquaredReluGradIdeal : Cert.SquaredReluGradIdeal.Facts] : Prop :=
  ∀ (m : (ℓ : Loc Cert.SquaredReluGradIdeal.nD Cert.SquaredReluGradIdeal.τ Cert.SquaredReluGradIdeal.sig) → Buf (Elt Ideal) ℓ) (g : Dev Cert.SquaredReluGradIdeal.nD → PrngReg), Pre_SquaredReluGradIdeal m →
    θ_run (Cert.SquaredReluGradIdeal.defs (F := Ideal)) (onTc (τ := Cert.SquaredReluGradIdeal.τ) (Cert.SquaredReluGradIdeal.main (F := Ideal))) ⟨m, fun _ => 0, g⟩ (fun r => (∀ c : Dev Cert.SquaredReluGradIdeal.nD,
      r.2.mem ((c.tc : Thread Cert.SquaredReluGradIdeal.nD Cert.SquaredReluGradIdeal.τ).loc Cert.SquaredReluGradIdeal.main_arg0) = m ((c.tc : Thread Cert.SquaredReluGradIdeal.nD Cert.SquaredReluGradIdeal.τ).loc Cert.SquaredReluGradIdeal.main_arg0)
      ∧ r.2.mem ((c.tc : Thread Cert.SquaredReluGradIdeal.nD Cert.SquaredReluGradIdeal.τ).loc Cert.SquaredReluGradIdeal.main_arg1) = m ((c.tc : Thread Cert.SquaredReluGradIdeal.nD Cert.SquaredReluGradIdeal.τ).loc Cert.SquaredReluGradIdeal.main_arg1))
      ∧ r.2.sem = fun _ => 0)

def quiescent_SquaredReluGradReferenceIdeal [hSquaredReluGradReferenceIdeal : Cert.SquaredReluGradReferenceIdeal.Facts] : Prop :=
  ∀ (m : (ℓ : Loc Cert.SquaredReluGradReferenceIdeal.nD Cert.SquaredReluGradReferenceIdeal.τ Cert.SquaredReluGradReferenceIdeal.sig) → Buf (Elt Ideal) ℓ) (g : Dev Cert.SquaredReluGradReferenceIdeal.nD → PrngReg), Pre_SquaredReluGradReferenceIdeal m →
    θ_run (Cert.SquaredReluGradReferenceIdeal.defs (F := Ideal)) (onTc (τ := Cert.SquaredReluGradReferenceIdeal.τ) (Cert.SquaredReluGradReferenceIdeal.main (F := Ideal))) ⟨m, fun _ => 0, g⟩ (fun r => (∀ c : Dev Cert.SquaredReluGradReferenceIdeal.nD,
      r.2.mem ((c.tc : Thread Cert.SquaredReluGradReferenceIdeal.nD Cert.SquaredReluGradReferenceIdeal.τ).loc Cert.SquaredReluGradReferenceIdeal.main_arg0) = m ((c.tc : Thread Cert.SquaredReluGradReferenceIdeal.nD Cert.SquaredReluGradReferenceIdeal.τ).loc Cert.SquaredReluGradReferenceIdeal.main_arg0)
      ∧ r.2.mem ((c.tc : Thread Cert.SquaredReluGradReferenceIdeal.nD Cert.SquaredReluGradReferenceIdeal.τ).loc Cert.SquaredReluGradReferenceIdeal.main_arg1) = m ((c.tc : Thread Cert.SquaredReluGradReferenceIdeal.nD Cert.SquaredReluGradReferenceIdeal.τ).loc Cert.SquaredReluGradReferenceIdeal.main_arg1))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3)
      ∧ r.2.mem ((c.tc : Thread Cert.Residual.nD Cert.Residual.τ).loc Cert.Residual.main_arg4) = m ((c.tc : Thread Cert.Residual.nD Cert.Residual.τ).loc Cert.Residual.main_arg4))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3)
      ∧ r.2.mem ((c.tc : Thread Cert.ResidualReferenceIdeal.nD Cert.ResidualReferenceIdeal.τ).loc Cert.ResidualReferenceIdeal.main_arg4) = m ((c.tc : Thread Cert.ResidualReferenceIdeal.nD Cert.ResidualReferenceIdeal.τ).loc Cert.ResidualReferenceIdeal.main_arg4))
      ∧ r.2.sem = fun _ => 0)

def quiescent_ResidualGrad [hResidualGrad : Cert.ResidualGrad.Facts] : Prop :=
  ∀ (m : (ℓ : Loc Cert.ResidualGrad.nD Cert.ResidualGrad.τ Cert.ResidualGrad.sig) → Buf (Elt Bits) ℓ) (g : Dev Cert.ResidualGrad.nD → PrngReg), Pre_ResidualGrad m →
    θ_run (Cert.ResidualGrad.defs (F := Bits)) (onTc (τ := Cert.ResidualGrad.τ) (Cert.ResidualGrad.main (F := Bits))) ⟨m, fun _ => 0, g⟩ (fun r => (∀ c : Dev Cert.ResidualGrad.nD,
      r.2.mem ((c.tc : Thread Cert.ResidualGrad.nD Cert.ResidualGrad.τ).loc Cert.ResidualGrad.main_arg0) = m ((c.tc : Thread Cert.ResidualGrad.nD Cert.ResidualGrad.τ).loc Cert.ResidualGrad.main_arg0)
      ∧ r.2.mem ((c.tc : Thread Cert.ResidualGrad.nD Cert.ResidualGrad.τ).loc Cert.ResidualGrad.main_arg1) = m ((c.tc : Thread Cert.ResidualGrad.nD Cert.ResidualGrad.τ).loc Cert.ResidualGrad.main_arg1)
      ∧ r.2.mem ((c.tc : Thread Cert.ResidualGrad.nD Cert.ResidualGrad.τ).loc Cert.ResidualGrad.main_arg2) = m ((c.tc : Thread Cert.ResidualGrad.nD Cert.ResidualGrad.τ).loc Cert.ResidualGrad.main_arg2)
      ∧ r.2.mem ((c.tc : Thread Cert.ResidualGrad.nD Cert.ResidualGrad.τ).loc Cert.ResidualGrad.main_arg3) = m ((c.tc : Thread Cert.ResidualGrad.nD Cert.ResidualGrad.τ).loc Cert.ResidualGrad.main_arg3)
      ∧ r.2.mem ((c.tc : Thread Cert.ResidualGrad.nD Cert.ResidualGrad.τ).loc Cert.ResidualGrad.main_arg4) = m ((c.tc : Thread Cert.ResidualGrad.nD Cert.ResidualGrad.τ).loc Cert.ResidualGrad.main_arg4)
      ∧ r.2.mem ((c.tc : Thread Cert.ResidualGrad.nD Cert.ResidualGrad.τ).loc Cert.ResidualGrad.main_arg5) = m ((c.tc : Thread Cert.ResidualGrad.nD Cert.ResidualGrad.τ).loc Cert.ResidualGrad.main_arg5)
      ∧ r.2.mem ((c.tc : Thread Cert.ResidualGrad.nD Cert.ResidualGrad.τ).loc Cert.ResidualGrad.main_arg6) = m ((c.tc : Thread Cert.ResidualGrad.nD Cert.ResidualGrad.τ).loc Cert.ResidualGrad.main_arg6))
      ∧ r.2.sem = fun _ => 0)

def quiescent_ResidualGradIdeal [hResidualGradIdeal : Cert.ResidualGradIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg), Pre_ResidualGradIdeal m →
    θ_run (Cert.ResidualGradIdeal.defs (F := Ideal)) (onTc (τ := Cert.ResidualGradIdeal.τ) (Cert.ResidualGradIdeal.main (F := Ideal))) ⟨m, fun _ => 0, g⟩ (fun r => (∀ c : Dev Cert.ResidualGradIdeal.nD,
      r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
      ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
      ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2)
      ∧ r.2.mem ((c.tc : Thread Cert.ResidualGradIdeal.nD Cert.ResidualGradIdeal.τ).loc Cert.ResidualGradIdeal.main_arg3) = m ((c.tc : Thread Cert.ResidualGradIdeal.nD Cert.ResidualGradIdeal.τ).loc Cert.ResidualGradIdeal.main_arg3)
      ∧ r.2.mem ((c.tc : Thread Cert.ResidualGradIdeal.nD Cert.ResidualGradIdeal.τ).loc Cert.ResidualGradIdeal.main_arg4) = m ((c.tc : Thread Cert.ResidualGradIdeal.nD Cert.ResidualGradIdeal.τ).loc Cert.ResidualGradIdeal.main_arg4)
      ∧ r.2.mem ((c.tc : Thread Cert.ResidualGradIdeal.nD Cert.ResidualGradIdeal.τ).loc Cert.ResidualGradIdeal.main_arg5) = m ((c.tc : Thread Cert.ResidualGradIdeal.nD Cert.ResidualGradIdeal.τ).loc Cert.ResidualGradIdeal.main_arg5)
      ∧ r.2.mem ((c.tc : Thread Cert.ResidualGradIdeal.nD Cert.ResidualGradIdeal.τ).loc Cert.ResidualGradIdeal.main_arg6) = m ((c.tc : Thread Cert.ResidualGradIdeal.nD Cert.ResidualGradIdeal.τ).loc Cert.ResidualGradIdeal.main_arg6))
      ∧ r.2.sem = fun _ => 0)

def quiescent_ResidualGradReferenceIdeal [hResidualGradReferenceIdeal : Cert.ResidualGradReferenceIdeal.Facts] : Prop :=
  ∀ (m : (ℓ : Loc Cert.ResidualGradReferenceIdeal.nD Cert.ResidualGradReferenceIdeal.τ Cert.ResidualGradReferenceIdeal.sig) → Buf (Elt Ideal) ℓ) (g : Dev Cert.ResidualGradReferenceIdeal.nD → PrngReg), Pre_ResidualGradReferenceIdeal m →
    θ_run (Cert.ResidualGradReferenceIdeal.defs (F := Ideal)) (onTc (τ := Cert.ResidualGradReferenceIdeal.τ) (Cert.ResidualGradReferenceIdeal.main (F := Ideal))) ⟨m, fun _ => 0, g⟩ (fun r => (∀ c : Dev Cert.ResidualGradReferenceIdeal.nD,
      r.2.mem ((c.tc : Thread Cert.ResidualGradReferenceIdeal.nD Cert.ResidualGradReferenceIdeal.τ).loc Cert.ResidualGradReferenceIdeal.main_arg0) = m ((c.tc : Thread Cert.ResidualGradReferenceIdeal.nD Cert.ResidualGradReferenceIdeal.τ).loc Cert.ResidualGradReferenceIdeal.main_arg0)
      ∧ r.2.mem ((c.tc : Thread Cert.ResidualGradReferenceIdeal.nD Cert.ResidualGradReferenceIdeal.τ).loc Cert.ResidualGradReferenceIdeal.main_arg1) = m ((c.tc : Thread Cert.ResidualGradReferenceIdeal.nD Cert.ResidualGradReferenceIdeal.τ).loc Cert.ResidualGradReferenceIdeal.main_arg1)
      ∧ r.2.mem ((c.tc : Thread Cert.ResidualGradReferenceIdeal.nD Cert.ResidualGradReferenceIdeal.τ).loc Cert.ResidualGradReferenceIdeal.main_arg2) = m ((c.tc : Thread Cert.ResidualGradReferenceIdeal.nD Cert.ResidualGradReferenceIdeal.τ).loc Cert.ResidualGradReferenceIdeal.main_arg2)
      ∧ r.2.mem ((c.tc : Thread Cert.ResidualGradReferenceIdeal.nD Cert.ResidualGradReferenceIdeal.τ).loc Cert.ResidualGradReferenceIdeal.main_arg3) = m ((c.tc : Thread Cert.ResidualGradReferenceIdeal.nD Cert.ResidualGradReferenceIdeal.τ).loc Cert.ResidualGradReferenceIdeal.main_arg3)
      ∧ r.2.mem ((c.tc : Thread Cert.ResidualGradReferenceIdeal.nD Cert.ResidualGradReferenceIdeal.τ).loc Cert.ResidualGradReferenceIdeal.main_arg4) = m ((c.tc : Thread Cert.ResidualGradReferenceIdeal.nD Cert.ResidualGradReferenceIdeal.τ).loc Cert.ResidualGradReferenceIdeal.main_arg4)
      ∧ r.2.mem ((c.tc : Thread Cert.ResidualGradReferenceIdeal.nD Cert.ResidualGradReferenceIdeal.τ).loc Cert.ResidualGradReferenceIdeal.main_arg5) = m ((c.tc : Thread Cert.ResidualGradReferenceIdeal.nD Cert.ResidualGradReferenceIdeal.τ).loc Cert.ResidualGradReferenceIdeal.main_arg5)
      ∧ r.2.mem ((c.tc : Thread Cert.ResidualGradReferenceIdeal.nD Cert.ResidualGradReferenceIdeal.τ).loc Cert.ResidualGradReferenceIdeal.main_arg6) = m ((c.tc : Thread Cert.ResidualGradReferenceIdeal.nD Cert.ResidualGradReferenceIdeal.τ).loc Cert.ResidualGradReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1)
      ∧ r.2.mem ((c.tc : Thread Cert.MixGradReferenceIdeal.nD Cert.MixGradReferenceIdeal.τ).loc Cert.MixGradReferenceIdeal.main_arg2) = m ((c.tc : Thread Cert.MixGradReferenceIdeal.nD Cert.MixGradReferenceIdeal.τ).loc Cert.MixGradReferenceIdeal.main_arg2)
      ∧ r.2.mem ((c.tc : Thread Cert.MixGradReferenceIdeal.nD Cert.MixGradReferenceIdeal.τ).loc Cert.MixGradReferenceIdeal.main_arg3) = m ((c.tc : Thread Cert.MixGradReferenceIdeal.nD Cert.MixGradReferenceIdeal.τ).loc Cert.MixGradReferenceIdeal.main_arg3)
      ∧ r.2.mem ((c.tc : Thread Cert.MixGradReferenceIdeal.nD Cert.MixGradReferenceIdeal.τ).loc Cert.MixGradReferenceIdeal.main_arg4) = m ((c.tc : Thread Cert.MixGradReferenceIdeal.nD Cert.MixGradReferenceIdeal.τ).loc Cert.MixGradReferenceIdeal.main_arg4))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1)
      ∧ r.2.mem ((c.tc : Thread Cert.ModPart.nD Cert.ModPart.τ).loc Cert.ModPart.main_arg2) = m ((c.tc : Thread Cert.ModPart.nD Cert.ModPart.τ).loc Cert.ModPart.main_arg2))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
      ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ r.2.sem = fun _ => 0)

def quiescent_ModPartReferenceIdeal [hModPartReferenceIdeal : Cert.ModPartReferenceIdeal.Facts] : Prop :=
  ∀ (m : (ℓ : Loc Cert.ModPartReferenceIdeal.nD Cert.ModPartReferenceIdeal.τ Cert.ModPartReferenceIdeal.sig) → Buf (Elt Ideal) ℓ) (g : Dev Cert.ModPartReferenceIdeal.nD → PrngReg), Pre_ModPartReferenceIdeal m →
    θ_run (Cert.ModPartReferenceIdeal.defs (F := Ideal)) (onTc (τ := Cert.ModPartReferenceIdeal.τ) (Cert.ModPartReferenceIdeal.main (F := Ideal))) ⟨m, fun _ => 0, g⟩ (fun r => (∀ c : Dev Cert.ModPartReferenceIdeal.nD,
      r.2.mem ((c.tc : Thread Cert.ModPartReferenceIdeal.nD Cert.ModPartReferenceIdeal.τ).loc Cert.ModPartReferenceIdeal.main_arg0) = m ((c.tc : Thread Cert.ModPartReferenceIdeal.nD Cert.ModPartReferenceIdeal.τ).loc Cert.ModPartReferenceIdeal.main_arg0)
      ∧ r.2.mem ((c.tc : Thread Cert.ModPartReferenceIdeal.nD Cert.ModPartReferenceIdeal.τ).loc Cert.ModPartReferenceIdeal.main_arg1) = m ((c.tc : Thread Cert.ModPartReferenceIdeal.nD Cert.ModPartReferenceIdeal.τ).loc Cert.ModPartReferenceIdeal.main_arg1)
      ∧ r.2.mem ((c.tc : Thread Cert.ModPartReferenceIdeal.nD Cert.ModPartReferenceIdeal.τ).loc Cert.ModPartReferenceIdeal.main_arg2) = m ((c.tc : Thread Cert.ModPartReferenceIdeal.nD Cert.ModPartReferenceIdeal.τ).loc Cert.ModPartReferenceIdeal.main_arg2))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_WInGrad [hWInGrad : Cert.WInGrad.Facts] : Prop :=
  ∀ (m : (ℓ : Loc Cert.WInGrad.nD Cert.WInGrad.τ Cert.WInGrad.sig) → Buf (Elt Bits) ℓ) (g : Dev Cert.WInGrad.nD → PrngReg), Pre_WInGrad m →
    θ_run (Cert.WInGrad.defs (F := Bits)) (onTc (τ := Cert.WInGrad.τ) (Cert.WInGrad.main (F := Bits))) ⟨m, fun _ => 0, g⟩ (fun r => (∀ c : Dev Cert.WInGrad.nD,
      r.2.mem ((c.tc : Thread Cert.WInGrad.nD Cert.WInGrad.τ).loc Cert.WInGrad.main_arg0) = m ((c.tc : Thread Cert.WInGrad.nD Cert.WInGrad.τ).loc Cert.WInGrad.main_arg0)
      ∧ r.2.mem ((c.tc : Thread Cert.WInGrad.nD Cert.WInGrad.τ).loc Cert.WInGrad.main_arg1) = m ((c.tc : Thread Cert.WInGrad.nD Cert.WInGrad.τ).loc Cert.WInGrad.main_arg1))
      ∧ r.2.sem = fun _ => 0)

def quiescent_WInGradIdeal [hWInGradIdeal : Cert.WInGradIdeal.Facts] : Prop :=
  ∀ (m : (ℓ : Loc Cert.WInGradIdeal.nD Cert.WInGradIdeal.τ Cert.WInGradIdeal.sig) → Buf (Elt Ideal) ℓ) (g : Dev Cert.WInGradIdeal.nD → PrngReg), Pre_WInGradIdeal m →
    θ_run (Cert.WInGradIdeal.defs (F := Ideal)) (onTc (τ := Cert.WInGradIdeal.τ) (Cert.WInGradIdeal.main (F := Ideal))) ⟨m, fun _ => 0, g⟩ (fun r => (∀ c : Dev Cert.WInGradIdeal.nD,
      r.2.mem ((c.tc : Thread Cert.WInGradIdeal.nD Cert.WInGradIdeal.τ).loc Cert.WInGradIdeal.main_arg0) = m ((c.tc : Thread Cert.WInGradIdeal.nD Cert.WInGradIdeal.τ).loc Cert.WInGradIdeal.main_arg0)
      ∧ r.2.mem ((c.tc : Thread Cert.WInGradIdeal.nD Cert.WInGradIdeal.τ).loc Cert.WInGradIdeal.main_arg1) = m ((c.tc : Thread Cert.WInGradIdeal.nD Cert.WInGradIdeal.τ).loc Cert.WInGradIdeal.main_arg1))
      ∧ r.2.sem = fun _ => 0)

def quiescent_WInGradIdeal_pre_is_device [hWInGradIdeal : Cert.WInGradIdeal.Facts] [hPre_is_device : Cert.Pre_is_device.Facts] : Prop :=
  ∀ (m : (ℓ : Loc Cert.WInGradIdeal.nD Cert.WInGradIdeal.τ Cert.WInGradIdeal.sig) → Buf (Elt Ideal) ℓ) (g : Dev Cert.WInGradIdeal.nD → PrngReg), Pre_WInGradIdeal_is_device m →
    θ_run (Cert.WInGradIdeal.defs (F := Ideal)) (onTc (τ := Cert.WInGradIdeal.τ) (Cert.WInGradIdeal.main (F := Ideal))) ⟨m, fun _ => 0, g⟩ (fun r => (∀ c : Dev Cert.WInGradIdeal.nD,
      r.2.mem ((c.tc : Thread Cert.WInGradIdeal.nD Cert.WInGradIdeal.τ).loc Cert.WInGradIdeal.main_arg0) = m ((c.tc : Thread Cert.WInGradIdeal.nD Cert.WInGradIdeal.τ).loc Cert.WInGradIdeal.main_arg0)
      ∧ r.2.mem ((c.tc : Thread Cert.WInGradIdeal.nD Cert.WInGradIdeal.τ).loc Cert.WInGradIdeal.main_arg1) = m ((c.tc : Thread Cert.WInGradIdeal.nD Cert.WInGradIdeal.τ).loc Cert.WInGradIdeal.main_arg1))
      ∧ r.2.sem = fun _ => 0)

def quiescent_WInGradReferenceIdeal [hWInGradReferenceIdeal : Cert.WInGradReferenceIdeal.Facts] : Prop :=
  ∀ (m : (ℓ : Loc Cert.WInGradReferenceIdeal.nD Cert.WInGradReferenceIdeal.τ Cert.WInGradReferenceIdeal.sig) → Buf (Elt Ideal) ℓ) (g : Dev Cert.WInGradReferenceIdeal.nD → PrngReg), Pre_WInGradReferenceIdeal m →
    θ_run (Cert.WInGradReferenceIdeal.defs (F := Ideal)) (onTc (τ := Cert.WInGradReferenceIdeal.τ) (Cert.WInGradReferenceIdeal.main (F := Ideal))) ⟨m, fun _ => 0, g⟩ (fun r => (∀ c : Dev Cert.WInGradReferenceIdeal.nD,
      r.2.mem ((c.tc : Thread Cert.WInGradReferenceIdeal.nD Cert.WInGradReferenceIdeal.τ).loc Cert.WInGradReferenceIdeal.main_arg0) = m ((c.tc : Thread Cert.WInGradReferenceIdeal.nD Cert.WInGradReferenceIdeal.τ).loc Cert.WInGradReferenceIdeal.main_arg0)
      ∧ r.2.mem ((c.tc : Thread Cert.WInGradReferenceIdeal.nD Cert.WInGradReferenceIdeal.τ).loc Cert.WInGradReferenceIdeal.main_arg1) = m ((c.tc : Thread Cert.WInGradReferenceIdeal.nD Cert.WInGradReferenceIdeal.τ).loc Cert.WInGradReferenceIdeal.main_arg1))
      ∧ r.2.sem = fun _ => 0)

def quiescent_WInGradReferenceIdeal_pre_is_device [hWInGradReferenceIdeal : Cert.WInGradReferenceIdeal.Facts] [hPre_is_device : Cert.Pre_is_device.Facts] : Prop :=
  ∀ (m : (ℓ : Loc Cert.WInGradReferenceIdeal.nD Cert.WInGradReferenceIdeal.τ Cert.WInGradReferenceIdeal.sig) → Buf (Elt Ideal) ℓ) (g : Dev Cert.WInGradReferenceIdeal.nD → PrngReg), Pre_WInGradReferenceIdeal_is_device m →
    θ_run (Cert.WInGradReferenceIdeal.defs (F := Ideal)) (onTc (τ := Cert.WInGradReferenceIdeal.τ) (Cert.WInGradReferenceIdeal.main (F := Ideal))) ⟨m, fun _ => 0, g⟩ (fun r => (∀ c : Dev Cert.WInGradReferenceIdeal.nD,
      r.2.mem ((c.tc : Thread Cert.WInGradReferenceIdeal.nD Cert.WInGradReferenceIdeal.τ).loc Cert.WInGradReferenceIdeal.main_arg0) = m ((c.tc : Thread Cert.WInGradReferenceIdeal.nD Cert.WInGradReferenceIdeal.τ).loc Cert.WInGradReferenceIdeal.main_arg0)
      ∧ r.2.mem ((c.tc : Thread Cert.WInGradReferenceIdeal.nD Cert.WInGradReferenceIdeal.τ).loc Cert.WInGradReferenceIdeal.main_arg1) = m ((c.tc : Thread Cert.WInGradReferenceIdeal.nD Cert.WInGradReferenceIdeal.τ).loc Cert.WInGradReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 1408]⟩ ⟨3, ![64, 1024, 1408]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 1024, 1408]⟩ ⟨3, ![64, 1024, 1408]⟩ 0 8 c v0
          ∧ r.2.mem ((c.tc : Thread Cert.KernelIdeal.nD Cert.KernelIdeal.τ).loc Cert.KernelIdeal.main_v1_1) = Layout.block ⟨3, ![8, 128, 1024]⟩ ⟨3, ![64, 128, 1024]⟩ 0 8 c v1
          ∧ r.2.mem ((c.tc : Thread Cert.KernelIdeal.nD Cert.KernelIdeal.τ).loc Cert.KernelIdeal.main_v1_2) = Layout.block ⟨3, ![8, 256, 1024]⟩ ⟨3, ![64, 256, 1024]⟩ 0 8 c v2
          ∧ r.2.mem ((c.tc : Thread Cert.KernelIdeal.nD Cert.KernelIdeal.τ).loc Cert.KernelIdeal.main_v1_3) = Layout.block ⟨3, ![8, 128, 1024]⟩ ⟨3, ![64, 128, 1024]⟩ 0 8 c v3
          ∧ r.2.mem ((c.tc : Thread Cert.KernelIdeal.nD Cert.KernelIdeal.τ).loc Cert.KernelIdeal.main_v1_4) = Layout.block ⟨3, ![8, 1024, 512]⟩ ⟨3, ![64, 1024, 512]⟩ 0 8 c v4
          ∧ r.2.mem ((c.tc : Thread Cert.KernelIdeal.nD Cert.KernelIdeal.τ).loc Cert.KernelIdeal.main_v1_5) = Layout.block ⟨3, ![8, 512, 1024]⟩ ⟨3, ![64, 512, 1024]⟩ 0 8 c v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 1408]⟩ ⟨3, ![64, 1024, 1408]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![1024, 1024]⟩ ⟨2, ![8192, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![2048, 1024]⟩ ⟨2, ![16384, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![1024, 1024]⟩ ⟨2, ![8192, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![1024, 4096]⟩ ⟨2, ![8192, 4096]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨2, ![4096, 1024]⟩ ⟨2, ![32768, 1024]⟩ 0 8 c (m' (((0 : Dev Cert.Reference.nD).tc : Thread Cert.Reference.nD Cert.Reference.τ).loc Cert.Reference.main_arg5))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 1024, 1408]⟩ ⟨3, ![64, 1024, 1408]⟩ 0 8 c v0
          ∧ r.2.mem ((c.tc : Thread Cert.Kernel.nD Cert.Kernel.τ).loc Cert.Kernel.main_v1_1) = Layout.block ⟨3, ![8, 128, 1024]⟩ ⟨3, ![64, 128, 1024]⟩ 0 8 c v1
          ∧ r.2.mem ((c.tc : Thread Cert.Kernel.nD Cert.Kernel.τ).loc Cert.Kernel.main_v1_2) = Layout.block ⟨3, ![8, 256, 1024]⟩ ⟨3, ![64, 256, 1024]⟩ 0 8 c v2
          ∧ r.2.mem ((c.tc : Thread Cert.Kernel.nD Cert.Kernel.τ).loc Cert.Kernel.main_v1_3) = Layout.block ⟨3, ![8, 128, 1024]⟩ ⟨3, ![64, 128, 1024]⟩ 0 8 c v3
          ∧ r.2.mem ((c.tc : Thread Cert.Kernel.nD Cert.Kernel.τ).loc Cert.Kernel.main_v1_4) = Layout.block ⟨3, ![8, 1024, 512]⟩ ⟨3, ![64, 1024, 512]⟩ 0 8 c v4
          ∧ r.2.mem ((c.tc : Thread Cert.Kernel.nD Cert.Kernel.τ).loc Cert.Kernel.main_v1_5) = Layout.block ⟨3, ![8, 512, 1024]⟩ ⟨3, ![64, 512, 1024]⟩ 0 8 c v5
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 1408]⟩ ⟨2, ![8192, 1408]⟩ 0 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![256, 1024]⟩ ⟨2, ![2048, 1024]⟩ 0 8 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.block ⟨2, ![1024, 512]⟩ ⟨2, ![1024, 4096]⟩ 1 8 c (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.block ⟨2, ![512, 1024]⟩ ⟨2, ![4096, 1024]⟩ 0 8 c (m' (((0 : Dev Cert.GatherReferenceIdeal.nD).tc : Thread Cert.GatherReferenceIdeal.nD Cert.GatherReferenceIdeal.τ).loc Cert.GatherReferenceIdeal.main_arg5))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_arg1)) (v2 : Buf (Elt Ideal) (((0 : Dev Cert.GatherReferenceIdeal.nD).tc : Thread Cert.GatherReferenceIdeal.nD Cert.GatherReferenceIdeal.τ).loc Cert.GatherReferenceIdeal.main_arg2)) (v3 : Buf (Elt Ideal) (((0 : Dev Cert.GatherReferenceIdeal.nD).tc : Thread Cert.GatherReferenceIdeal.nD Cert.GatherReferenceIdeal.τ).loc Cert.GatherReferenceIdeal.main_arg3)) (v4 : Buf (Elt Ideal) (((0 : Dev Cert.GatherReferenceIdeal.nD).tc : Thread Cert.GatherReferenceIdeal.nD Cert.GatherReferenceIdeal.τ).loc Cert.GatherReferenceIdeal.main_arg4)) (v5 : Buf (Elt Ideal) (((0 : Dev Cert.GatherReferenceIdeal.nD).tc : Thread Cert.GatherReferenceIdeal.nD Cert.GatherReferenceIdeal.τ).loc Cert.GatherReferenceIdeal.main_arg5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg1) = v1
          ∧ r.2.mem (((0 : Dev Cert.GatherReferenceIdeal.nD).tc : Thread Cert.GatherReferenceIdeal.nD Cert.GatherReferenceIdeal.τ).loc Cert.GatherReferenceIdeal.main_arg2) = v2
          ∧ r.2.mem (((0 : Dev Cert.GatherReferenceIdeal.nD).tc : Thread Cert.GatherReferenceIdeal.nD Cert.GatherReferenceIdeal.τ).loc Cert.GatherReferenceIdeal.main_arg3) = v3
          ∧ r.2.mem (((0 : Dev Cert.GatherReferenceIdeal.nD).tc : Thread Cert.GatherReferenceIdeal.nD Cert.GatherReferenceIdeal.τ).loc Cert.GatherReferenceIdeal.main_arg4) = v4
          ∧ r.2.mem (((0 : Dev Cert.GatherReferenceIdeal.nD).tc : Thread Cert.GatherReferenceIdeal.nD Cert.GatherReferenceIdeal.τ).loc Cert.GatherReferenceIdeal.main_arg5) = v5
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![1024, 1408]⟩ ⟨2, ![8192, 1408]⟩ 0 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![128, 1024]⟩ ⟨2, ![1024, 1024]⟩ 0 8 c (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.block ⟨2, ![256, 1024]⟩ ⟨2, ![2048, 1024]⟩ 0 8 c (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.block ⟨2, ![128, 1024]⟩ ⟨2, ![1024, 1024]⟩ 0 8 c (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.block ⟨2, ![1024, 512]⟩ ⟨2, ![1024, 4096]⟩ 1 8 c (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.block ⟨2, ![512, 1024]⟩ ⟨2, ![4096, 1024]⟩ 0 8 c (m' (((0 : Dev Cert.GatherReference.nD).tc : Thread Cert.GatherReference.nD Cert.GatherReference.τ).loc Cert.GatherReference.main_arg5))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_arg1)) (v2 : Buf (Elt Bits) (((0 : Dev Cert.GatherReference.nD).tc : Thread Cert.GatherReference.nD Cert.GatherReference.τ).loc Cert.GatherReference.main_arg2)) (v3 : Buf (Elt Bits) (((0 : Dev Cert.GatherReference.nD).tc : Thread Cert.GatherReference.nD Cert.GatherReference.τ).loc Cert.GatherReference.main_arg3)) (v4 : Buf (Elt Bits) (((0 : Dev Cert.GatherReference.nD).tc : Thread Cert.GatherReference.nD Cert.GatherReference.τ).loc Cert.GatherReference.main_arg4)) (v5 : Buf (Elt Bits) (((0 : Dev Cert.GatherReference.nD).tc : Thread Cert.GatherReference.nD Cert.GatherReference.τ).loc Cert.GatherReference.main_arg5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg1) = v1
          ∧ r.2.mem (((0 : Dev Cert.GatherReference.nD).tc : Thread Cert.GatherReference.nD Cert.GatherReference.τ).loc Cert.GatherReference.main_arg2) = v2
          ∧ r.2.mem (((0 : Dev Cert.GatherReference.nD).tc : Thread Cert.GatherReference.nD Cert.GatherReference.τ).loc Cert.GatherReference.main_arg3) = v3
          ∧ r.2.mem (((0 : Dev Cert.GatherReference.nD).tc : Thread Cert.GatherReference.nD Cert.GatherReference.τ).loc Cert.GatherReference.main_arg4) = v4
          ∧ r.2.mem (((0 : Dev Cert.GatherReference.nD).tc : Thread Cert.GatherReference.nD Cert.GatherReference.τ).loc Cert.GatherReference.main_arg5) = v5
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![1296, 128]⟩ ⟨2, ![10368, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![1296, 128]⟩ ⟨2, ![10368, 128]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m ((c.tc : Thread Cert.ModIdeal.nD Cert.ModIdeal.τ).loc Cert.ModIdeal.main_arg0) = Layout.block ⟨2, ![8, 768]⟩ ⟨2, ![64, 768]⟩ 0 8 c (m' (((0 : Dev Cert.ModReferenceIdeal.nD).tc : Thread Cert.ModReferenceIdeal.nD Cert.ModReferenceIdeal.τ).loc Cert.ModReferenceIdeal.main_arg0))) →
    ∃ (v0 : Buf (Elt Ideal) (((0 : Dev Cert.ModReferenceIdeal.nD).tc : Thread Cert.ModReferenceIdeal.nD Cert.ModReferenceIdeal.τ).loc Cert.ModReferenceIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ θ_run (Cert.ModReferenceIdeal.defs (F := Ideal)) (onTc (τ := Cert.ModReferenceIdeal.τ) (Cert.ModReferenceIdeal.main (F := Ideal))) ⟨m', fun _ => 0, g'⟩ (fun r =>
          r.2.mem (((0 : Dev Cert.ModReferenceIdeal.nD).tc : Thread Cert.ModReferenceIdeal.nD Cert.ModReferenceIdeal.τ).loc Cert.ModReferenceIdeal.main_v0) = v0
          ∧ r.2.mem (((0 : Dev Cert.ModReferenceIdeal.nD).tc : Thread Cert.ModReferenceIdeal.nD Cert.ModReferenceIdeal.τ).loc Cert.ModReferenceIdeal.main_arg0) = m' (((0 : Dev Cert.ModReferenceIdeal.nD).tc : Thread Cert.ModReferenceIdeal.nD Cert.ModReferenceIdeal.τ).loc Cert.ModReferenceIdeal.main_arg0))

def bitexact_Mod_ModReference [hMod : Cert.Mod.Facts] [hModReference : Cert.ModReference.Facts] : Prop :=
  ∀ (m : (ℓ : Loc Cert.Mod.nD Cert.Mod.τ Cert.Mod.sig) → Buf (Elt Bits) ℓ) (g : Dev Cert.Mod.nD → PrngReg)
    (m' : (ℓ : Loc Cert.ModReference.nD Cert.ModReference.τ Cert.ModReference.sig) → Buf (Elt Bits) ℓ) (g' : Dev Cert.ModReference.nD → PrngReg), Pre_Mod m →
    (∀ c : Dev Cert.Mod.nD,
      m ((c.tc : Thread Cert.Mod.nD Cert.Mod.τ).loc Cert.Mod.main_arg0) = Layout.block ⟨2, ![8, 768]⟩ ⟨2, ![64, 768]⟩ 0 8 c (m' (((0 : Dev Cert.ModReference.nD).tc : Thread Cert.ModReference.nD Cert.ModReference.τ).loc Cert.ModReference.main_arg0))) →
    ∃ (v0 : Buf (Elt Bits) (((0 : Dev Cert.ModReference.nD).tc : Thread Cert.ModReference.nD Cert.ModReference.τ).loc Cert.ModReference.main_v0)),
      θ_run (Cert.Mod.defs (F := Bits)) (onTc (τ := Cert.Mod.τ) (Cert.Mod.main (F := Bits))) ⟨m, fun _ => 0, g⟩ (fun r => ∀ c : Dev Cert.Mod.nD,
          r.2.mem ((c.tc : Thread Cert.Mod.nD Cert.Mod.τ).loc Cert.Mod.main_v1) = v0
          ∧ r.2.mem ((c.tc : Thread Cert.Mod.nD Cert.Mod.τ).loc Cert.Mod.main_arg0) = m ((c.tc : Thread Cert.Mod.nD Cert.Mod.τ).loc Cert.Mod.main_arg0))
      ∧ θ_run (Cert.ModReference.defs (F := Bits)) (onTc (τ := Cert.ModReference.τ) (Cert.ModReference.main (F := Bits))) ⟨m', fun _ => 0, g'⟩ (fun r =>
          r.2.mem (((0 : Dev Cert.ModReference.nD).tc : Thread Cert.ModReference.nD Cert.ModReference.τ).loc Cert.ModReference.main_v0) = v0
          ∧ r.2.mem (((0 : Dev Cert.ModReference.nD).tc : Thread Cert.ModReference.nD Cert.ModReference.τ).loc Cert.ModReference.main_arg0) = m' (((0 : Dev Cert.ModReference.nD).tc : Thread Cert.ModReference.nD Cert.ModReference.τ).loc Cert.ModReference.main_arg0))

def preserves_Cond_CondIdeal : Prop :=
  True

def algebraic_CondIdeal_CondReferenceIdeal [hCondIdeal : Cert.CondIdeal.Facts] [hCondReferenceIdeal : Cert.CondReferenceIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondReferenceIdeal.nD Cert.CondReferenceIdeal.τ Cert.CondReferenceIdeal.sig) → Buf (Elt Ideal) ℓ) (g' : Dev Cert.CondReferenceIdeal.nD → PrngReg), Pre_CondIdeal m →
    (∀ c : Dev Cert.CondIdeal.nD,
      m ((c.tc : Thread Cert.CondIdeal.nD Cert.CondIdeal.τ).loc Cert.CondIdeal.main_arg0) = Layout.block ⟨2, ![8, 128]⟩ ⟨2, ![64, 128]⟩ 0 8 c (m' (((0 : Dev Cert.CondReferenceIdeal.nD).tc : Thread Cert.CondReferenceIdeal.nD Cert.CondReferenceIdeal.τ).loc Cert.CondReferenceIdeal.main_arg0))
      ∧ m ((c.tc : Thread Cert.CondIdeal.nD Cert.CondIdeal.τ).loc Cert.CondIdeal.main_arg1) = Layout.block ⟨2, ![4, 512]⟩ ⟨2, ![4, 4096]⟩ 1 8 c (m' (((0 : Dev Cert.CondReferenceIdeal.nD).tc : Thread Cert.CondReferenceIdeal.nD Cert.CondReferenceIdeal.τ).loc Cert.CondReferenceIdeal.main_arg1))) →
    ∃ (v0 : Buf (Elt Ideal) (((0 : Dev Cert.CondReferenceIdeal.nD).tc : Thread Cert.CondReferenceIdeal.nD Cert.CondReferenceIdeal.τ).loc Cert.CondReferenceIdeal.main_v0)) (v1 : Buf (Elt Ideal) (((0 : Dev Cert.CondReferenceIdeal.nD).tc : Thread Cert.CondReferenceIdeal.nD Cert.CondReferenceIdeal.τ).loc Cert.CondReferenceIdeal.main_v2)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v1_0) = v0
          ∧ r.2.mem ((c.tc : Thread Cert.CondIdeal.nD Cert.CondIdeal.τ).loc Cert.CondIdeal.main_v1_1) = v1
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ θ_run (Cert.CondReferenceIdeal.defs (F := Ideal)) (onTc (τ := Cert.CondReferenceIdeal.τ) (Cert.CondReferenceIdeal.main (F := Ideal))) ⟨m', fun _ => 0, g'⟩ (fun r =>
          r.2.mem (((0 : Dev Cert.CondReferenceIdeal.nD).tc : Thread Cert.CondReferenceIdeal.nD Cert.CondReferenceIdeal.τ).loc Cert.CondReferenceIdeal.main_v0) = v0
          ∧ r.2.mem (((0 : Dev Cert.CondReferenceIdeal.nD).tc : Thread Cert.CondReferenceIdeal.nD Cert.CondReferenceIdeal.τ).loc Cert.CondReferenceIdeal.main_v2) = v1
          ∧ r.2.mem (((0 : Dev Cert.CondReferenceIdeal.nD).tc : Thread Cert.CondReferenceIdeal.nD Cert.CondReferenceIdeal.τ).loc Cert.CondReferenceIdeal.main_arg0) = m' (((0 : Dev Cert.CondReferenceIdeal.nD).tc : Thread Cert.CondReferenceIdeal.nD Cert.CondReferenceIdeal.τ).loc Cert.CondReferenceIdeal.main_arg0)
          ∧ r.2.mem (((0 : Dev Cert.CondReferenceIdeal.nD).tc : Thread Cert.CondReferenceIdeal.nD Cert.CondReferenceIdeal.τ).loc Cert.CondReferenceIdeal.main_arg1) = m' (((0 : Dev Cert.CondReferenceIdeal.nD).tc : Thread Cert.CondReferenceIdeal.nD Cert.CondReferenceIdeal.τ).loc Cert.CondReferenceIdeal.main_arg1))

def bitexact_Cond_CondReference [hCond : Cert.Cond.Facts] [hCondReference : Cert.CondReference.Facts] : Prop :=
  ∀ (m : (ℓ : Loc Cert.Cond.nD Cert.Cond.τ Cert.Cond.sig) → Buf (Elt Bits) ℓ) (g : Dev Cert.Cond.nD → PrngReg)
    (m' : (ℓ : Loc Cert.CondReference.nD Cert.CondReference.τ Cert.CondReference.sig) → Buf (Elt Bits) ℓ) (g' : Dev Cert.CondReference.nD → PrngReg), Pre_Cond m →
    (∀ c : Dev Cert.Cond.nD,
      m ((c.tc : Thread Cert.Cond.nD Cert.Cond.τ).loc Cert.Cond.main_arg0) = Layout.block ⟨2, ![8, 128]⟩ ⟨2, ![64, 128]⟩ 0 8 c (m' (((0 : Dev Cert.CondReference.nD).tc : Thread Cert.CondReference.nD Cert.CondReference.τ).loc Cert.CondReference.main_arg0))
      ∧ m ((c.tc : Thread Cert.Cond.nD Cert.Cond.τ).loc Cert.Cond.main_arg1) = Layout.block ⟨2, ![4, 512]⟩ ⟨2, ![4, 4096]⟩ 1 8 c (m' (((0 : Dev Cert.CondReference.nD).tc : Thread Cert.CondReference.nD Cert.CondReference.τ).loc Cert.CondReference.main_arg1))) →
    ∃ (v0 : Buf (Elt Bits) (((0 : Dev Cert.CondReference.nD).tc : Thread Cert.CondReference.nD Cert.CondReference.τ).loc Cert.CondReference.main_v0)) (v1 : Buf (Elt Bits) (((0 : Dev Cert.CondReference.nD).tc : Thread Cert.CondReference.nD Cert.CondReference.τ).loc Cert.CondReference.main_v2)),
      θ_run (Cert.Cond.defs (F := Bits)) (onTc (τ := Cert.Cond.τ) (Cert.Cond.main (F := Bits))) ⟨m, fun _ => 0, g⟩ (fun r => ∀ c : Dev Cert.Cond.nD,
          r.2.mem ((c.tc : Thread Cert.Cond.nD Cert.Cond.τ).loc Cert.Cond.main_v1_0) = v0
          ∧ r.2.mem ((c.tc : Thread Cert.Cond.nD Cert.Cond.τ).loc Cert.Cond.main_v1_1) = v1
          ∧ r.2.mem ((c.tc : Thread Cert.Cond.nD Cert.Cond.τ).loc Cert.Cond.main_arg0) = m ((c.tc : Thread Cert.Cond.nD Cert.Cond.τ).loc Cert.Cond.main_arg0)
          ∧ r.2.mem ((c.tc : Thread Cert.Cond.nD Cert.Cond.τ).loc Cert.Cond.main_arg1) = m ((c.tc : Thread Cert.Cond.nD Cert.Cond.τ).loc Cert.Cond.main_arg1))
      ∧ θ_run (Cert.CondReference.defs (F := Bits)) (onTc (τ := Cert.CondReference.τ) (Cert.CondReference.main (F := Bits))) ⟨m', fun _ => 0, g'⟩ (fun r =>
          r.2.mem (((0 : Dev Cert.CondReference.nD).tc : Thread Cert.CondReference.nD Cert.CondReference.τ).loc Cert.CondReference.main_v0) = v0
          ∧ r.2.mem (((0 : Dev Cert.CondReference.nD).tc : Thread Cert.CondReference.nD Cert.CondReference.τ).loc Cert.CondReference.main_v2) = v1
          ∧ r.2.mem (((0 : Dev Cert.CondReference.nD).tc : Thread Cert.CondReference.nD Cert.CondReference.τ).loc Cert.CondReference.main_arg0) = m' (((0 : Dev Cert.CondReference.nD).tc : Thread Cert.CondReference.nD Cert.CondReference.τ).loc Cert.CondReference.main_arg0)
          ∧ r.2.mem (((0 : Dev Cert.CondReference.nD).tc : Thread Cert.CondReference.nD Cert.CondReference.τ).loc Cert.CondReference.main_arg1) = m' (((0 : Dev Cert.CondReference.nD).tc : Thread Cert.CondReference.nD Cert.CondReference.τ).loc Cert.CondReference.main_arg1))

def preserves_SumWin_SumWinIdeal : Prop :=
  True

def algebraic_SumWinIdeal_SumWinReferenceIdeal [hSumWinIdeal : Cert.SumWinIdeal.Facts] [hSumWinReferenceIdeal : Cert.SumWinReferenceIdeal.Facts] : Prop :=
  ∀ (m : (ℓ : Loc Cert.SumWinIdeal.nD Cert.SumWinIdeal.τ Cert.SumWinIdeal.sig) → Buf (Elt Ideal) ℓ) (g : Dev Cert.SumWinIdeal.nD → PrngReg)
    (m' : (ℓ : Loc Cert.SumWinReferenceIdeal.nD Cert.SumWinReferenceIdeal.τ Cert.SumWinReferenceIdeal.sig) → Buf (Elt Ideal) ℓ) (g' : Dev Cert.SumWinReferenceIdeal.nD → PrngReg), Pre_SumWinIdeal m →
    (∀ c : Dev Cert.SumWinIdeal.nD,
      m' ((c.tc : Thread Cert.SumWinReferenceIdeal.nD Cert.SumWinReferenceIdeal.τ).loc Cert.SumWinReferenceIdeal.main_arg0) = m ((c.tc : Thread Cert.SumWinIdeal.nD Cert.SumWinIdeal.τ).loc Cert.SumWinIdeal.main_arg0)) →
    ∃ (v0 : (c : Dev Cert.SumWinIdeal.nD) → Buf (Elt Ideal) ((c.tc : Thread Cert.SumWinIdeal.nD Cert.SumWinIdeal.τ).loc Cert.SumWinIdeal.main_v0)),
      θ_run (Cert.SumWinIdeal.defs (F := Ideal)) (onTc (τ := Cert.SumWinIdeal.τ) (Cert.SumWinIdeal.main (F := Ideal))) ⟨m, fun _ => 0, g⟩ (fun r => ∀ c : Dev Cert.SumWinIdeal.nD,
          r.2.mem ((c.tc : Thread Cert.SumWinIdeal.nD Cert.SumWinIdeal.τ).loc Cert.SumWinIdeal.main_v0) = v0 c
          ∧ r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0))
      ∧ θ_run (Cert.SumWinReferenceIdeal.defs (F := Ideal)) (onTc (τ := Cert.SumWinReferenceIdeal.τ) (Cert.SumWinReferenceIdeal.main (F := Ideal))) ⟨m', fun _ => 0, g'⟩ (fun r => ∀ c : Dev Cert.SumWinReferenceIdeal.nD,
          r.2.mem ((c.tc : Thread Cert.SumWinReferenceIdeal.nD Cert.SumWinReferenceIdeal.τ).loc Cert.SumWinReferenceIdeal.main_v1) = v0 c
          ∧ r.2.mem ((c.tc : Thread Cert.SumWinReferenceIdeal.nD Cert.SumWinReferenceIdeal.τ).loc Cert.SumWinReferenceIdeal.main_arg0) = m' ((c.tc : Thread Cert.SumWinReferenceIdeal.nD Cert.SumWinReferenceIdeal.τ).loc Cert.SumWinReferenceIdeal.main_arg0))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_AdamwWMod_AdamwWModIdeal : Prop :=
  True

def algebraic_AdamwWModIdeal_AdamwWModReferenceIdeal [hAdamwWModIdeal : Cert.AdamwWModIdeal.Facts] [hAdamwWModReferenceIdeal : Cert.AdamwWModReferenceIdeal.Facts] : Prop :=
  ∀ (m : (ℓ : Loc Cert.AdamwWModIdeal.nD Cert.AdamwWModIdeal.τ Cert.AdamwWModIdeal.sig) → Buf (Elt Ideal) ℓ) (g : Dev Cert.AdamwWModIdeal.nD → PrngReg)
    (m' : (ℓ : Loc Cert.AdamwWModReferenceIdeal.nD Cert.AdamwWModReferenceIdeal.τ Cert.AdamwWModReferenceIdeal.sig) → Buf (Elt Ideal) ℓ) (g' : Dev Cert.AdamwWModReferenceIdeal.nD → PrngReg), Pre_AdamwWModIdeal m →
    (∀ c : Dev Cert.AdamwWModIdeal.nD,
      m' ((c.tc : Thread Cert.AdamwWModReferenceIdeal.nD Cert.AdamwWModReferenceIdeal.τ).loc Cert.AdamwWModReferenceIdeal.main_arg0) = m ((c.tc : Thread Cert.AdamwWModIdeal.nD Cert.AdamwWModIdeal.τ).loc Cert.AdamwWModIdeal.main_arg0)
      ∧ m' ((c.tc : Thread Cert.AdamwWModReferenceIdeal.nD Cert.AdamwWModReferenceIdeal.τ).loc Cert.AdamwWModReferenceIdeal.main_arg1) = m ((c.tc : Thread Cert.AdamwWModIdeal.nD Cert.AdamwWModIdeal.τ).loc Cert.AdamwWModIdeal.main_arg1)
      ∧ m' ((c.tc : Thread Cert.AdamwWModReferenceIdeal.nD Cert.AdamwWModReferenceIdeal.τ).loc Cert.AdamwWModReferenceIdeal.main_arg2) = m ((c.tc : Thread Cert.AdamwWModIdeal.nD Cert.AdamwWModIdeal.τ).loc Cert.AdamwWModIdeal.main_arg2)
      ∧ m' ((c.tc : Thread Cert.AdamwWModReferenceIdeal.nD Cert.AdamwWModReferenceIdeal.τ).loc Cert.AdamwWModReferenceIdeal.main_arg3) = m ((c.tc : Thread Cert.AdamwWModIdeal.nD Cert.AdamwWModIdeal.τ).loc Cert.AdamwWModIdeal.main_arg3)) →
    ∃ (v0 : (c : Dev Cert.AdamwWModIdeal.nD) → Buf (Elt Ideal) ((c.tc : Thread Cert.AdamwWModIdeal.nD Cert.AdamwWModIdeal.τ).loc Cert.AdamwWModIdeal.main_v0_0)) (v1 : (c : Dev Cert.AdamwWModIdeal.nD) → Buf (Elt Ideal) ((c.tc : Thread Cert.AdamwWModIdeal.nD Cert.AdamwWModIdeal.τ).loc Cert.AdamwWModIdeal.main_v0_1)) (v2 : (c : Dev Cert.AdamwWModIdeal.nD) → Buf (Elt Ideal) ((c.tc : Thread Cert.AdamwWModIdeal.nD Cert.AdamwWModIdeal.τ).loc Cert.AdamwWModIdeal.main_v0_2)) (v3 : (c : Dev Cert.AdamwWModIdeal.nD) → Buf (Elt Ideal) ((c.tc : Thread Cert.AdamwWModIdeal.nD Cert.AdamwWModIdeal.τ).loc Cert.AdamwWModIdeal.main_v0_3)),
      θ_run (Cert.AdamwWModIdeal.defs (F := Ideal)) (onTc (τ := Cert.AdamwWModIdeal.τ) (Cert.AdamwWModIdeal.main (F := Ideal))) ⟨m, fun _ => 0, g⟩ (fun r => ∀ c : Dev Cert.AdamwWModIdeal.nD,
          r.2.mem ((c.tc : Thread Cert.AdamwWModIdeal.nD Cert.AdamwWModIdeal.τ).loc Cert.AdamwWModIdeal.main_v0_0) = v0 c
          ∧ r.2.mem ((c.tc : Thread Cert.AdamwWModIdeal.nD Cert.AdamwWModIdeal.τ).loc Cert.AdamwWModIdeal.main_v0_1) = v1 c
          ∧ r.2.mem ((c.tc : Thread Cert.AdamwWModIdeal.nD Cert.AdamwWModIdeal.τ).loc Cert.AdamwWModIdeal.main_v0_2) = v2 c
          ∧ r.2.mem ((c.tc : Thread Cert.AdamwWModIdeal.nD Cert.AdamwWModIdeal.τ).loc Cert.AdamwWModIdeal.main_v0_3) = v3 c
          ∧ r.2.mem ((c.tc : Thread Cert.AdamwWModIdeal.nD Cert.AdamwWModIdeal.τ).loc Cert.AdamwWModIdeal.main_arg0) = m ((c.tc : Thread Cert.AdamwWModIdeal.nD Cert.AdamwWModIdeal.τ).loc Cert.AdamwWModIdeal.main_arg0)
          ∧ r.2.mem ((c.tc : Thread Cert.AdamwWModIdeal.nD Cert.AdamwWModIdeal.τ).loc Cert.AdamwWModIdeal.main_arg1) = m ((c.tc : Thread Cert.AdamwWModIdeal.nD Cert.AdamwWModIdeal.τ).loc Cert.AdamwWModIdeal.main_arg1)
          ∧ r.2.mem ((c.tc : Thread Cert.AdamwWModIdeal.nD Cert.AdamwWModIdeal.τ).loc Cert.AdamwWModIdeal.main_arg2) = m ((c.tc : Thread Cert.AdamwWModIdeal.nD Cert.AdamwWModIdeal.τ).loc Cert.AdamwWModIdeal.main_arg2)
          ∧ r.2.mem ((c.tc : Thread Cert.AdamwWModIdeal.nD Cert.AdamwWModIdeal.τ).loc Cert.AdamwWModIdeal.main_arg3) = m ((c.tc : Thread Cert.AdamwWModIdeal.nD Cert.AdamwWModIdeal.τ).loc Cert.AdamwWModIdeal.main_arg3))
      ∧ θ_run (Cert.AdamwWModReferenceIdeal.defs (F := Ideal)) (onTc (τ := Cert.AdamwWModReferenceIdeal.τ) (Cert.AdamwWModReferenceIdeal.main (F := Ideal))) ⟨m', fun _ => 0, g'⟩ (fun r => ∀ c : Dev Cert.AdamwWModReferenceIdeal.nD,
          r.2.mem ((c.tc : Thread Cert.AdamwWModReferenceIdeal.nD Cert.AdamwWModReferenceIdeal.τ).loc Cert.AdamwWModReferenceIdeal.main_arg1) = v0 c
          ∧ r.2.mem ((c.tc : Thread Cert.AdamwWModReferenceIdeal.nD Cert.AdamwWModReferenceIdeal.τ).loc Cert.AdamwWModReferenceIdeal.main_v23) = v1 c
          ∧ r.2.mem ((c.tc : Thread Cert.AdamwWModReferenceIdeal.nD Cert.AdamwWModReferenceIdeal.τ).loc Cert.AdamwWModReferenceIdeal.main_v4) = v2 c
          ∧ r.2.mem ((c.tc : Thread Cert.AdamwWModReferenceIdeal.nD Cert.AdamwWModReferenceIdeal.τ).loc Cert.AdamwWModReferenceIdeal.main_v10) = v3 c
          ∧ r.2.mem ((c.tc : Thread Cert.AdamwWModReferenceIdeal.nD Cert.AdamwWModReferenceIdeal.τ).loc Cert.AdamwWModReferenceIdeal.main_arg0) = m' ((c.tc : Thread Cert.AdamwWModReferenceIdeal.nD Cert.AdamwWModReferenceIdeal.τ).loc Cert.AdamwWModReferenceIdeal.main_arg0)
          ∧ r.2.mem ((c.tc : Thread Cert.AdamwWModReferenceIdeal.nD Cert.AdamwWModReferenceIdeal.τ).loc Cert.AdamwWModReferenceIdeal.main_arg1) = m' ((c.tc : Thread Cert.AdamwWModReferenceIdeal.nD Cert.AdamwWModReferenceIdeal.τ).loc Cert.AdamwWModReferenceIdeal.main_arg1)
          ∧ r.2.mem ((c.tc : Thread Cert.AdamwWModReferenceIdeal.nD Cert.AdamwWModReferenceIdeal.τ).loc Cert.AdamwWModReferenceIdeal.main_arg2) = m' ((c.tc : Thread Cert.AdamwWModReferenceIdeal.nD Cert.AdamwWModReferenceIdeal.τ).loc Cert.AdamwWModReferenceIdeal.main_arg2)
          ∧ r.2.mem ((c.tc : Thread Cert.AdamwWModReferenceIdeal.nD Cert.AdamwWModReferenceIdeal.τ).loc Cert.AdamwWModReferenceIdeal.main_arg3) = m' ((c.tc : Thread Cert.AdamwWModReferenceIdeal.nD Cert.AdamwWModReferenceIdeal.τ).loc Cert.AdamwWModReferenceIdeal.main_arg3))

def preserves_AdamwBMod_AdamwBModIdeal : Prop :=
  True

def algebraic_AdamwBModIdeal_AdamwBModReferenceIdeal [hAdamwBModIdeal : Cert.AdamwBModIdeal.Facts] [hAdamwBModReferenceIdeal : Cert.AdamwBModReferenceIdeal.Facts] : Prop :=
  ∀ (m : (ℓ : Loc Cert.AdamwBModIdeal.nD Cert.AdamwBModIdeal.τ Cert.AdamwBModIdeal.sig) → Buf (Elt Ideal) ℓ) (g : Dev Cert.AdamwBModIdeal.nD → PrngReg)
    (m' : (ℓ : Loc Cert.AdamwBModReferenceIdeal.nD Cert.AdamwBModReferenceIdeal.τ Cert.AdamwBModReferenceIdeal.sig) → Buf (Elt Ideal) ℓ) (g' : Dev Cert.AdamwBModReferenceIdeal.nD → PrngReg), Pre_AdamwBModIdeal m →
    (∀ c : Dev Cert.AdamwBModIdeal.nD,
      m' ((c.tc : Thread Cert.AdamwBModReferenceIdeal.nD Cert.AdamwBModReferenceIdeal.τ).loc Cert.AdamwBModReferenceIdeal.main_arg0) = m ((c.tc : Thread Cert.AdamwBModIdeal.nD Cert.AdamwBModIdeal.τ).loc Cert.AdamwBModIdeal.main_arg0)
      ∧ m' ((c.tc : Thread Cert.AdamwBModReferenceIdeal.nD Cert.AdamwBModReferenceIdeal.τ).loc Cert.AdamwBModReferenceIdeal.main_arg1) = m ((c.tc : Thread Cert.AdamwBModIdeal.nD Cert.AdamwBModIdeal.τ).loc Cert.AdamwBModIdeal.main_arg1)
      ∧ m' ((c.tc : Thread Cert.AdamwBModReferenceIdeal.nD Cert.AdamwBModReferenceIdeal.τ).loc Cert.AdamwBModReferenceIdeal.main_arg2) = m ((c.tc : Thread Cert.AdamwBModIdeal.nD Cert.AdamwBModIdeal.τ).loc Cert.AdamwBModIdeal.main_arg2)
      ∧ m' ((c.tc : Thread Cert.AdamwBModReferenceIdeal.nD Cert.AdamwBModReferenceIdeal.τ).loc Cert.AdamwBModReferenceIdeal.main_arg3) = m ((c.tc : Thread Cert.AdamwBModIdeal.nD Cert.AdamwBModIdeal.τ).loc Cert.AdamwBModIdeal.main_arg3)) →
    ∃ (v0 : (c : Dev Cert.AdamwBModIdeal.nD) → Buf (Elt Ideal) ((c.tc : Thread Cert.AdamwBModIdeal.nD Cert.AdamwBModIdeal.τ).loc Cert.AdamwBModIdeal.main_v0_0)) (v1 : (c : Dev Cert.AdamwBModIdeal.nD) → Buf (Elt Ideal) ((c.tc : Thread Cert.AdamwBModIdeal.nD Cert.AdamwBModIdeal.τ).loc Cert.AdamwBModIdeal.main_v0_1)) (v2 : (c : Dev Cert.AdamwBModIdeal.nD) → Buf (Elt Ideal) ((c.tc : Thread Cert.AdamwBModIdeal.nD Cert.AdamwBModIdeal.τ).loc Cert.AdamwBModIdeal.main_v0_2)) (v3 : (c : Dev Cert.AdamwBModIdeal.nD) → Buf (Elt Ideal) ((c.tc : Thread Cert.AdamwBModIdeal.nD Cert.AdamwBModIdeal.τ).loc Cert.AdamwBModIdeal.main_v0_3)),
      θ_run (Cert.AdamwBModIdeal.defs (F := Ideal)) (onTc (τ := Cert.AdamwBModIdeal.τ) (Cert.AdamwBModIdeal.main (F := Ideal))) ⟨m, fun _ => 0, g⟩ (fun r => ∀ c : Dev Cert.AdamwBModIdeal.nD,
          r.2.mem ((c.tc : Thread Cert.AdamwBModIdeal.nD Cert.AdamwBModIdeal.τ).loc Cert.AdamwBModIdeal.main_v0_0) = v0 c
          ∧ r.2.mem ((c.tc : Thread Cert.AdamwBModIdeal.nD Cert.AdamwBModIdeal.τ).loc Cert.AdamwBModIdeal.main_v0_1) = v1 c
          ∧ r.2.mem ((c.tc : Thread Cert.AdamwBModIdeal.nD Cert.AdamwBModIdeal.τ).loc Cert.AdamwBModIdeal.main_v0_2) = v2 c
          ∧ r.2.mem ((c.tc : Thread Cert.AdamwBModIdeal.nD Cert.AdamwBModIdeal.τ).loc Cert.AdamwBModIdeal.main_v0_3) = v3 c
          ∧ r.2.mem ((c.tc : Thread Cert.AdamwBModIdeal.nD Cert.AdamwBModIdeal.τ).loc Cert.AdamwBModIdeal.main_arg0) = m ((c.tc : Thread Cert.AdamwBModIdeal.nD Cert.AdamwBModIdeal.τ).loc Cert.AdamwBModIdeal.main_arg0)
          ∧ r.2.mem ((c.tc : Thread Cert.AdamwBModIdeal.nD Cert.AdamwBModIdeal.τ).loc Cert.AdamwBModIdeal.main_arg1) = m ((c.tc : Thread Cert.AdamwBModIdeal.nD Cert.AdamwBModIdeal.τ).loc Cert.AdamwBModIdeal.main_arg1)
          ∧ r.2.mem ((c.tc : Thread Cert.AdamwBModIdeal.nD Cert.AdamwBModIdeal.τ).loc Cert.AdamwBModIdeal.main_arg2) = m ((c.tc : Thread Cert.AdamwBModIdeal.nD Cert.AdamwBModIdeal.τ).loc Cert.AdamwBModIdeal.main_arg2)
          ∧ r.2.mem ((c.tc : Thread Cert.AdamwBModIdeal.nD Cert.AdamwBModIdeal.τ).loc Cert.AdamwBModIdeal.main_arg3) = m ((c.tc : Thread Cert.AdamwBModIdeal.nD Cert.AdamwBModIdeal.τ).loc Cert.AdamwBModIdeal.main_arg3))
      ∧ θ_run (Cert.AdamwBModReferenceIdeal.defs (F := Ideal)) (onTc (τ := Cert.AdamwBModReferenceIdeal.τ) (Cert.AdamwBModReferenceIdeal.main (F := Ideal))) ⟨m', fun _ => 0, g'⟩ (fun r => ∀ c : Dev Cert.AdamwBModReferenceIdeal.nD,
          r.2.mem ((c.tc : Thread Cert.AdamwBModReferenceIdeal.nD Cert.AdamwBModReferenceIdeal.τ).loc Cert.AdamwBModReferenceIdeal.main_arg1) = v0 c
          ∧ r.2.mem ((c.tc : Thread Cert.AdamwBModReferenceIdeal.nD Cert.AdamwBModReferenceIdeal.τ).loc Cert.AdamwBModReferenceIdeal.main_v23) = v1 c
          ∧ r.2.mem ((c.tc : Thread Cert.AdamwBModReferenceIdeal.nD Cert.AdamwBModReferenceIdeal.τ).loc Cert.AdamwBModReferenceIdeal.main_v4) = v2 c
          ∧ r.2.mem ((c.tc : Thread Cert.AdamwBModReferenceIdeal.nD Cert.AdamwBModReferenceIdeal.τ).loc Cert.AdamwBModReferenceIdeal.main_v10) = v3 c
          ∧ r.2.mem ((c.tc : Thread Cert.AdamwBModReferenceIdeal.nD Cert.AdamwBModReferenceIdeal.τ).loc Cert.AdamwBModReferenceIdeal.main_arg0) = m' ((c.tc : Thread Cert.AdamwBModReferenceIdeal.nD Cert.AdamwBModReferenceIdeal.τ).loc Cert.AdamwBModReferenceIdeal.main_arg0)
          ∧ r.2.mem ((c.tc : Thread Cert.AdamwBModReferenceIdeal.nD Cert.AdamwBModReferenceIdeal.τ).loc Cert.AdamwBModReferenceIdeal.main_arg1) = m' ((c.tc : Thread Cert.AdamwBModReferenceIdeal.nD Cert.AdamwBModReferenceIdeal.τ).loc Cert.AdamwBModReferenceIdeal.main_arg1)
          ∧ r.2.mem ((c.tc : Thread Cert.AdamwBModReferenceIdeal.nD Cert.AdamwBModReferenceIdeal.τ).loc Cert.AdamwBModReferenceIdeal.main_arg2) = m' ((c.tc : Thread Cert.AdamwBModReferenceIdeal.nD Cert.AdamwBModReferenceIdeal.τ).loc Cert.AdamwBModReferenceIdeal.main_arg2)
          ∧ r.2.mem ((c.tc : Thread Cert.AdamwBModReferenceIdeal.nD Cert.AdamwBModReferenceIdeal.τ).loc Cert.AdamwBModReferenceIdeal.main_arg3) = m' ((c.tc : Thread Cert.AdamwBModReferenceIdeal.nD Cert.AdamwBModReferenceIdeal.τ).loc Cert.AdamwBModReferenceIdeal.main_arg3))

def preserves_AdamwWIn_AdamwWInIdeal : Prop :=
  True

def algebraic_AdamwWInIdeal_AdamwWInReferenceIdeal [hAdamwWInIdeal : Cert.AdamwWInIdeal.Facts] [hAdamwWInReferenceIdeal : Cert.AdamwWInReferenceIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInReferenceIdeal.nD Cert.AdamwWInReferenceIdeal.τ Cert.AdamwWInReferenceIdeal.sig) → Buf (Elt Ideal) ℓ) (g' : Dev Cert.AdamwWInReferenceIdeal.nD → PrngReg), Pre_AdamwWInIdeal m →
    (∀ c : Dev Cert.AdamwWInIdeal.nD,
      m' ((c.tc : Thread Cert.AdamwWInReferenceIdeal.nD Cert.AdamwWInReferenceIdeal.τ).loc Cert.AdamwWInReferenceIdeal.main_arg0) = m ((c.tc : Thread Cert.AdamwWInIdeal.nD Cert.AdamwWInIdeal.τ).loc Cert.AdamwWInIdeal.main_arg0)
      ∧ m' ((c.tc : Thread Cert.AdamwWInReferenceIdeal.nD Cert.AdamwWInReferenceIdeal.τ).loc Cert.AdamwWInReferenceIdeal.main_arg1) = m ((c.tc : Thread Cert.AdamwWInIdeal.nD Cert.AdamwWInIdeal.τ).loc Cert.AdamwWInIdeal.main_arg1)
      ∧ m' ((c.tc : Thread Cert.AdamwWInReferenceIdeal.nD Cert.AdamwWInReferenceIdeal.τ).loc Cert.AdamwWInReferenceIdeal.main_arg2) = m ((c.tc : Thread Cert.AdamwWInIdeal.nD Cert.AdamwWInIdeal.τ).loc Cert.AdamwWInIdeal.main_arg2)
      ∧ m' ((c.tc : Thread Cert.AdamwWInReferenceIdeal.nD Cert.AdamwWInReferenceIdeal.τ).loc Cert.AdamwWInReferenceIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v0_0)) (v1 : (c : Dev Cert.AdamwWInIdeal.nD) → Buf (Elt Ideal) ((c.tc : Thread Cert.AdamwWInIdeal.nD Cert.AdamwWInIdeal.τ).loc Cert.AdamwWInIdeal.main_v0_1)) (v2 : (c : Dev Cert.AdamwWInIdeal.nD) → Buf (Elt Ideal) ((c.tc : Thread Cert.AdamwWInIdeal.nD Cert.AdamwWInIdeal.τ).loc Cert.AdamwWInIdeal.main_v0_2)) (v3 : (c : Dev Cert.AdamwWInIdeal.nD) → Buf (Elt Ideal) ((c.tc : Thread Cert.AdamwWInIdeal.nD Cert.AdamwWInIdeal.τ).loc Cert.AdamwWInIdeal.main_v0_3)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v0_0) = v0 c
          ∧ r.2.mem ((c.tc : Thread Cert.AdamwWInIdeal.nD Cert.AdamwWInIdeal.τ).loc Cert.AdamwWInIdeal.main_v0_1) = v1 c
          ∧ r.2.mem ((c.tc : Thread Cert.AdamwWInIdeal.nD Cert.AdamwWInIdeal.τ).loc Cert.AdamwWInIdeal.main_v0_2) = v2 c
          ∧ r.2.mem ((c.tc : Thread Cert.AdamwWInIdeal.nD Cert.AdamwWInIdeal.τ).loc Cert.AdamwWInIdeal.main_v0_3) = v3 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInReferenceIdeal.defs (F := Ideal)) (onTc (τ := Cert.AdamwWInReferenceIdeal.τ) (Cert.AdamwWInReferenceIdeal.main (F := Ideal))) ⟨m', fun _ => 0, g'⟩ (fun r => ∀ c : Dev Cert.AdamwWInReferenceIdeal.nD,
          r.2.mem ((c.tc : Thread Cert.AdamwWInReferenceIdeal.nD Cert.AdamwWInReferenceIdeal.τ).loc Cert.AdamwWInReferenceIdeal.main_arg1) = v0 c
          ∧ r.2.mem ((c.tc : Thread Cert.AdamwWInReferenceIdeal.nD Cert.AdamwWInReferenceIdeal.τ).loc Cert.AdamwWInReferenceIdeal.main_v23) = v1 c
          ∧ r.2.mem ((c.tc : Thread Cert.AdamwWInReferenceIdeal.nD Cert.AdamwWInReferenceIdeal.τ).loc Cert.AdamwWInReferenceIdeal.main_v4) = v2 c
          ∧ r.2.mem ((c.tc : Thread Cert.AdamwWInReferenceIdeal.nD Cert.AdamwWInReferenceIdeal.τ).loc Cert.AdamwWInReferenceIdeal.main_v10) = v3 c
          ∧ r.2.mem ((c.tc : Thread Cert.AdamwWInReferenceIdeal.nD Cert.AdamwWInReferenceIdeal.τ).loc Cert.AdamwWInReferenceIdeal.main_arg0) = m' ((c.tc : Thread Cert.AdamwWInReferenceIdeal.nD Cert.AdamwWInReferenceIdeal.τ).loc Cert.AdamwWInReferenceIdeal.main_arg0)
          ∧ r.2.mem ((c.tc : Thread Cert.AdamwWInReferenceIdeal.nD Cert.AdamwWInReferenceIdeal.τ).loc Cert.AdamwWInReferenceIdeal.main_arg1) = m' ((c.tc : Thread Cert.AdamwWInReferenceIdeal.nD Cert.AdamwWInReferenceIdeal.τ).loc Cert.AdamwWInReferenceIdeal.main_arg1)
          ∧ r.2.mem ((c.tc : Thread Cert.AdamwWInReferenceIdeal.nD Cert.AdamwWInReferenceIdeal.τ).loc Cert.AdamwWInReferenceIdeal.main_arg2) = m' ((c.tc : Thread Cert.AdamwWInReferenceIdeal.nD Cert.AdamwWInReferenceIdeal.τ).loc Cert.AdamwWInReferenceIdeal.main_arg2)
          ∧ r.2.mem ((c.tc : Thread Cert.AdamwWInReferenceIdeal.nD Cert.AdamwWInReferenceIdeal.τ).loc Cert.AdamwWInReferenceIdeal.main_arg3) = m' ((c.tc : Thread Cert.AdamwWInReferenceIdeal.nD Cert.AdamwWInReferenceIdeal.τ).loc Cert.AdamwWInReferenceIdeal.main_arg3))

def preserves_AdamwNorm_AdamwNormIdeal : Prop :=
  True

def algebraic_AdamwNormIdeal_AdamwNormReferenceIdeal [hAdamwNormIdeal : Cert.AdamwNormIdeal.Facts] [hAdamwNormReferenceIdeal : Cert.AdamwNormReferenceIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg)
    (m' : (ℓ : Loc Cert.AdamwNormReferenceIdeal.nD Cert.AdamwNormReferenceIdeal.τ Cert.AdamwNormReferenceIdeal.sig) → Buf (Elt Ideal) ℓ) (g' : Dev Cert.AdamwNormReferenceIdeal.nD → PrngReg), Pre_AdamwNormIdeal m →
    (∀ c : Dev Cert.AdamwNormIdeal.nD,
      m' ((c.tc : Thread Cert.AdamwNormReferenceIdeal.nD Cert.AdamwNormReferenceIdeal.τ).loc Cert.AdamwNormReferenceIdeal.main_arg0) = m ((c.tc : Thread Cert.AdamwNormIdeal.nD Cert.AdamwNormIdeal.τ).loc Cert.AdamwNormIdeal.main_arg0)
      ∧ m' ((c.tc : Thread Cert.AdamwNormReferenceIdeal.nD Cert.AdamwNormReferenceIdeal.τ).loc Cert.AdamwNormReferenceIdeal.main_arg1) = m ((c.tc : Thread Cert.AdamwNormIdeal.nD Cert.AdamwNormIdeal.τ).loc Cert.AdamwNormIdeal.main_arg1)
      ∧ m' ((c.tc : Thread Cert.AdamwNormReferenceIdeal.nD Cert.AdamwNormReferenceIdeal.τ).loc Cert.AdamwNormReferenceIdeal.main_arg2) = m ((c.tc : Thread Cert.AdamwNormIdeal.nD Cert.AdamwNormIdeal.τ).loc Cert.AdamwNormIdeal.main_arg2)
      ∧ m' ((c.tc : Thread Cert.AdamwNormReferenceIdeal.nD Cert.AdamwNormReferenceIdeal.τ).loc Cert.AdamwNormReferenceIdeal.main_arg3) = m ((c.tc : Thread Cert.AdamwNormIdeal.nD Cert.AdamwNormIdeal.τ).loc Cert.AdamwNormIdeal.main_arg3)) →
    ∃ (v0 : (c : Dev Cert.AdamwNormIdeal.nD) → Buf (Elt Ideal) ((c.tc : Thread Cert.AdamwNormIdeal.nD Cert.AdamwNormIdeal.τ).loc Cert.AdamwNormIdeal.main_v0_0)) (v1 : (c : Dev Cert.AdamwNormIdeal.nD) → Buf (Elt Ideal) ((c.tc : Thread Cert.AdamwNormIdeal.nD Cert.AdamwNormIdeal.τ).loc Cert.AdamwNormIdeal.main_v0_1)) (v2 : (c : Dev Cert.AdamwNormIdeal.nD) → Buf (Elt Ideal) ((c.tc : Thread Cert.AdamwNormIdeal.nD Cert.AdamwNormIdeal.τ).loc Cert.AdamwNormIdeal.main_v0_2)) (v3 : (c : Dev Cert.AdamwNormIdeal.nD) → Buf (Elt Ideal) ((c.tc : Thread Cert.AdamwNormIdeal.nD Cert.AdamwNormIdeal.τ).loc Cert.AdamwNormIdeal.main_v0_3)),
      θ_run (Cert.AdamwNormIdeal.defs (F := Ideal)) (onTc (τ := Cert.AdamwNormIdeal.τ) (Cert.AdamwNormIdeal.main (F := Ideal))) ⟨m, fun _ => 0, g⟩ (fun r => ∀ c : Dev Cert.AdamwNormIdeal.nD,
          r.2.mem ((c.tc : Thread Cert.AdamwNormIdeal.nD Cert.AdamwNormIdeal.τ).loc Cert.AdamwNormIdeal.main_v0_0) = v0 c
          ∧ r.2.mem ((c.tc : Thread Cert.AdamwNormIdeal.nD Cert.AdamwNormIdeal.τ).loc Cert.AdamwNormIdeal.main_v0_1) = v1 c
          ∧ r.2.mem ((c.tc : Thread Cert.AdamwNormIdeal.nD Cert.AdamwNormIdeal.τ).loc Cert.AdamwNormIdeal.main_v0_2) = v2 c
          ∧ r.2.mem ((c.tc : Thread Cert.AdamwNormIdeal.nD Cert.AdamwNormIdeal.τ).loc Cert.AdamwNormIdeal.main_v0_3) = v3 c
          ∧ r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
          ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
          ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
          ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ θ_run (Cert.AdamwNormReferenceIdeal.defs (F := Ideal)) (onTc (τ := Cert.AdamwNormReferenceIdeal.τ) (Cert.AdamwNormReferenceIdeal.main (F := Ideal))) ⟨m', fun _ => 0, g'⟩ (fun r => ∀ c : Dev Cert.AdamwNormReferenceIdeal.nD,
          r.2.mem ((c.tc : Thread Cert.AdamwNormReferenceIdeal.nD Cert.AdamwNormReferenceIdeal.τ).loc Cert.AdamwNormReferenceIdeal.main_arg1) = v0 c
          ∧ r.2.mem ((c.tc : Thread Cert.AdamwNormReferenceIdeal.nD Cert.AdamwNormReferenceIdeal.τ).loc Cert.AdamwNormReferenceIdeal.main_v23) = v1 c
          ∧ r.2.mem ((c.tc : Thread Cert.AdamwNormReferenceIdeal.nD Cert.AdamwNormReferenceIdeal.τ).loc Cert.AdamwNormReferenceIdeal.main_v4) = v2 c
          ∧ r.2.mem ((c.tc : Thread Cert.AdamwNormReferenceIdeal.nD Cert.AdamwNormReferenceIdeal.τ).loc Cert.AdamwNormReferenceIdeal.main_v10) = v3 c
          ∧ r.2.mem ((c.tc : Thread Cert.AdamwNormReferenceIdeal.nD Cert.AdamwNormReferenceIdeal.τ).loc Cert.AdamwNormReferenceIdeal.main_arg0) = m' ((c.tc : Thread Cert.AdamwNormReferenceIdeal.nD Cert.AdamwNormReferenceIdeal.τ).loc Cert.AdamwNormReferenceIdeal.main_arg0)
          ∧ r.2.mem ((c.tc : Thread Cert.AdamwNormReferenceIdeal.nD Cert.AdamwNormReferenceIdeal.τ).loc Cert.AdamwNormReferenceIdeal.main_arg1) = m' ((c.tc : Thread Cert.AdamwNormReferenceIdeal.nD Cert.AdamwNormReferenceIdeal.τ).loc Cert.AdamwNormReferenceIdeal.main_arg1)
          ∧ r.2.mem ((c.tc : Thread Cert.AdamwNormReferenceIdeal.nD Cert.AdamwNormReferenceIdeal.τ).loc Cert.AdamwNormReferenceIdeal.main_arg2) = m' ((c.tc : Thread Cert.AdamwNormReferenceIdeal.nD Cert.AdamwNormReferenceIdeal.τ).loc Cert.AdamwNormReferenceIdeal.main_arg2)
          ∧ r.2.mem ((c.tc : Thread Cert.AdamwNormReferenceIdeal.nD Cert.AdamwNormReferenceIdeal.τ).loc Cert.AdamwNormReferenceIdeal.main_arg3) = m' ((c.tc : Thread Cert.AdamwNormReferenceIdeal.nD Cert.AdamwNormReferenceIdeal.τ).loc Cert.AdamwNormReferenceIdeal.main_arg3))

def preserves_AdamwGmWs_AdamwGmWsIdeal : Prop :=
  True

def algebraic_AdamwGmWsIdeal_AdamwGmWsReferenceIdeal [hAdamwGmWsIdeal : Cert.AdamwGmWsIdeal.Facts] [hAdamwGmWsReferenceIdeal : Cert.AdamwGmWsReferenceIdeal.Facts] : Prop :=
  ∀ (m : (ℓ : Loc Cert.AdamwGmWsIdeal.nD Cert.AdamwGmWsIdeal.τ Cert.AdamwGmWsIdeal.sig) → Buf (Elt Ideal) ℓ) (g : Dev Cert.AdamwGmWsIdeal.nD → PrngReg)
    (m' : (ℓ : Loc Cert.AdamwGmWsReferenceIdeal.nD Cert.AdamwGmWsReferenceIdeal.τ Cert.AdamwGmWsReferenceIdeal.sig) → Buf (Elt Ideal) ℓ) (g' : Dev Cert.AdamwGmWsReferenceIdeal.nD → PrngReg), Pre_AdamwGmWsIdeal m →
    (∀ c : Dev Cert.AdamwGmWsIdeal.nD,
      m' ((c.tc : Thread Cert.AdamwGmWsReferenceIdeal.nD Cert.AdamwGmWsReferenceIdeal.τ).loc Cert.AdamwGmWsReferenceIdeal.main_arg0) = m ((c.tc : Thread Cert.AdamwGmWsIdeal.nD Cert.AdamwGmWsIdeal.τ).loc Cert.AdamwGmWsIdeal.main_arg0)
      ∧ m' ((c.tc : Thread Cert.AdamwGmWsReferenceIdeal.nD Cert.AdamwGmWsReferenceIdeal.τ).loc Cert.AdamwGmWsReferenceIdeal.main_arg1) = m ((c.tc : Thread Cert.AdamwGmWsIdeal.nD Cert.AdamwGmWsIdeal.τ).loc Cert.AdamwGmWsIdeal.main_arg1)
      ∧ m' ((c.tc : Thread Cert.AdamwGmWsReferenceIdeal.nD Cert.AdamwGmWsReferenceIdeal.τ).loc Cert.AdamwGmWsReferenceIdeal.main_arg2) = m ((c.tc : Thread Cert.AdamwGmWsIdeal.nD Cert.AdamwGmWsIdeal.τ).loc Cert.AdamwGmWsIdeal.main_arg2)
      ∧ m' ((c.tc : Thread Cert.AdamwGmWsReferenceIdeal.nD Cert.AdamwGmWsReferenceIdeal.τ).loc Cert.AdamwGmWsReferenceIdeal.main_arg3) = m ((c.tc : Thread Cert.AdamwGmWsIdeal.nD Cert.AdamwGmWsIdeal.τ).loc Cert.AdamwGmWsIdeal.main_arg3)) →
    ∃ (v0 : (c : Dev Cert.AdamwGmWsIdeal.nD) → Buf (Elt Ideal) ((c.tc : Thread Cert.AdamwGmWsIdeal.nD Cert.AdamwGmWsIdeal.τ).loc Cert.AdamwGmWsIdeal.main_v0_0)) (v1 : (c : Dev Cert.AdamwGmWsIdeal.nD) → Buf (Elt Ideal) ((c.tc : Thread Cert.AdamwGmWsIdeal.nD Cert.AdamwGmWsIdeal.τ).loc Cert.AdamwGmWsIdeal.main_v0_1)) (v2 : (c : Dev Cert.AdamwGmWsIdeal.nD) → Buf (Elt Ideal) ((c.tc : Thread Cert.AdamwGmWsIdeal.nD Cert.AdamwGmWsIdeal.τ).loc Cert.AdamwGmWsIdeal.main_v0_2)) (v3 : (c : Dev Cert.AdamwGmWsIdeal.nD) → Buf (Elt Ideal) ((c.tc : Thread Cert.AdamwGmWsIdeal.nD Cert.AdamwGmWsIdeal.τ).loc Cert.AdamwGmWsIdeal.main_v0_3)),
      θ_run (Cert.AdamwGmWsIdeal.defs (F := Ideal)) (onTc (τ := Cert.AdamwGmWsIdeal.τ) (Cert.AdamwGmWsIdeal.main (F := Ideal))) ⟨m, fun _ => 0, g⟩ (fun r => ∀ c : Dev Cert.AdamwGmWsIdeal.nD,
          r.2.mem ((c.tc : Thread Cert.AdamwGmWsIdeal.nD Cert.AdamwGmWsIdeal.τ).loc Cert.AdamwGmWsIdeal.main_v0_0) = v0 c
          ∧ r.2.mem ((c.tc : Thread Cert.AdamwGmWsIdeal.nD Cert.AdamwGmWsIdeal.τ).loc Cert.AdamwGmWsIdeal.main_v0_1) = v1 c
          ∧ r.2.mem ((c.tc : Thread Cert.AdamwGmWsIdeal.nD Cert.AdamwGmWsIdeal.τ).loc Cert.AdamwGmWsIdeal.main_v0_2) = v2 c
          ∧ r.2.mem ((c.tc : Thread Cert.AdamwGmWsIdeal.nD Cert.AdamwGmWsIdeal.τ).loc Cert.AdamwGmWsIdeal.main_v0_3) = v3 c
          ∧ r.2.mem ((c.tc : Thread Cert.AdamwGmWsIdeal.nD Cert.AdamwGmWsIdeal.τ).loc Cert.AdamwGmWsIdeal.main_arg0) = m ((c.tc : Thread Cert.AdamwGmWsIdeal.nD Cert.AdamwGmWsIdeal.τ).loc Cert.AdamwGmWsIdeal.main_arg0)
          ∧ r.2.mem ((c.tc : Thread Cert.AdamwGmWsIdeal.nD Cert.AdamwGmWsIdeal.τ).loc Cert.AdamwGmWsIdeal.main_arg1) = m ((c.tc : Thread Cert.AdamwGmWsIdeal.nD Cert.AdamwGmWsIdeal.τ).loc Cert.AdamwGmWsIdeal.main_arg1)
          ∧ r.2.mem ((c.tc : Thread Cert.AdamwGmWsIdeal.nD Cert.AdamwGmWsIdeal.τ).loc Cert.AdamwGmWsIdeal.main_arg2) = m ((c.tc : Thread Cert.AdamwGmWsIdeal.nD Cert.AdamwGmWsIdeal.τ).loc Cert.AdamwGmWsIdeal.main_arg2)
          ∧ r.2.mem ((c.tc : Thread Cert.AdamwGmWsIdeal.nD Cert.AdamwGmWsIdeal.τ).loc Cert.AdamwGmWsIdeal.main_arg3) = m ((c.tc : Thread Cert.AdamwGmWsIdeal.nD Cert.AdamwGmWsIdeal.τ).loc Cert.AdamwGmWsIdeal.main_arg3))
      ∧ θ_run (Cert.AdamwGmWsReferenceIdeal.defs (F := Ideal)) (onTc (τ := Cert.AdamwGmWsReferenceIdeal.τ) (Cert.AdamwGmWsReferenceIdeal.main (F := Ideal))) ⟨m', fun _ => 0, g'⟩ (fun r => ∀ c : Dev Cert.AdamwGmWsReferenceIdeal.nD,
          r.2.mem ((c.tc : Thread Cert.AdamwGmWsReferenceIdeal.nD Cert.AdamwGmWsReferenceIdeal.τ).loc Cert.AdamwGmWsReferenceIdeal.main_arg1) = v0 c
          ∧ r.2.mem ((c.tc : Thread Cert.AdamwGmWsReferenceIdeal.nD Cert.AdamwGmWsReferenceIdeal.τ).loc Cert.AdamwGmWsReferenceIdeal.main_v23) = v1 c
          ∧ r.2.mem ((c.tc : Thread Cert.AdamwGmWsReferenceIdeal.nD Cert.AdamwGmWsReferenceIdeal.τ).loc Cert.AdamwGmWsReferenceIdeal.main_v4) = v2 c
          ∧ r.2.mem ((c.tc : Thread Cert.AdamwGmWsReferenceIdeal.nD Cert.AdamwGmWsReferenceIdeal.τ).loc Cert.AdamwGmWsReferenceIdeal.main_v10) = v3 c
          ∧ r.2.mem ((c.tc : Thread Cert.AdamwGmWsReferenceIdeal.nD Cert.AdamwGmWsReferenceIdeal.τ).loc Cert.AdamwGmWsReferenceIdeal.main_arg0) = m' ((c.tc : Thread Cert.AdamwGmWsReferenceIdeal.nD Cert.AdamwGmWsReferenceIdeal.τ).loc Cert.AdamwGmWsReferenceIdeal.main_arg0)
          ∧ r.2.mem ((c.tc : Thread Cert.AdamwGmWsReferenceIdeal.nD Cert.AdamwGmWsReferenceIdeal.τ).loc Cert.AdamwGmWsReferenceIdeal.main_arg1) = m' ((c.tc : Thread Cert.AdamwGmWsReferenceIdeal.nD Cert.AdamwGmWsReferenceIdeal.τ).loc Cert.AdamwGmWsReferenceIdeal.main_arg1)
          ∧ r.2.mem ((c.tc : Thread Cert.AdamwGmWsReferenceIdeal.nD Cert.AdamwGmWsReferenceIdeal.τ).loc Cert.AdamwGmWsReferenceIdeal.main_arg2) = m' ((c.tc : Thread Cert.AdamwGmWsReferenceIdeal.nD Cert.AdamwGmWsReferenceIdeal.τ).loc Cert.AdamwGmWsReferenceIdeal.main_arg2)
          ∧ r.2.mem ((c.tc : Thread Cert.AdamwGmWsReferenceIdeal.nD Cert.AdamwGmWsReferenceIdeal.τ).loc Cert.AdamwGmWsReferenceIdeal.main_arg3) = m' ((c.tc : Thread Cert.AdamwGmWsReferenceIdeal.nD Cert.AdamwGmWsReferenceIdeal.τ).loc Cert.AdamwGmWsReferenceIdeal.main_arg3))

def preserves_AdamwGmBs_AdamwGmBsIdeal : Prop :=
  True

def algebraic_AdamwGmBsIdeal_AdamwGmBsReferenceIdeal [hAdamwGmBsIdeal : Cert.AdamwGmBsIdeal.Facts] [hAdamwGmBsReferenceIdeal : Cert.AdamwGmBsReferenceIdeal.Facts] : Prop :=
  ∀ (m : (ℓ : Loc Cert.AdamwGmBsIdeal.nD Cert.AdamwGmBsIdeal.τ Cert.AdamwGmBsIdeal.sig) → Buf (Elt Ideal) ℓ) (g : Dev Cert.AdamwGmBsIdeal.nD → PrngReg)
    (m' : (ℓ : Loc Cert.AdamwGmBsReferenceIdeal.nD Cert.AdamwGmBsReferenceIdeal.τ Cert.AdamwGmBsReferenceIdeal.sig) → Buf (Elt Ideal) ℓ) (g' : Dev Cert.AdamwGmBsReferenceIdeal.nD → PrngReg), Pre_AdamwGmBsIdeal m →
    (∀ c : Dev Cert.AdamwGmBsIdeal.nD,
      m' ((c.tc : Thread Cert.AdamwGmBsReferenceIdeal.nD Cert.AdamwGmBsReferenceIdeal.τ).loc Cert.AdamwGmBsReferenceIdeal.main_arg0) = m ((c.tc : Thread Cert.AdamwGmBsIdeal.nD Cert.AdamwGmBsIdeal.τ).loc Cert.AdamwGmBsIdeal.main_arg0)
      ∧ m' ((c.tc : Thread Cert.AdamwGmBsReferenceIdeal.nD Cert.AdamwGmBsReferenceIdeal.τ).loc Cert.AdamwGmBsReferenceIdeal.main_arg1) = m ((c.tc : Thread Cert.AdamwGmBsIdeal.nD Cert.AdamwGmBsIdeal.τ).loc Cert.AdamwGmBsIdeal.main_arg1)
      ∧ m' ((c.tc : Thread Cert.AdamwGmBsReferenceIdeal.nD Cert.AdamwGmBsReferenceIdeal.τ).loc Cert.AdamwGmBsReferenceIdeal.main_arg2) = m ((c.tc : Thread Cert.AdamwGmBsIdeal.nD Cert.AdamwGmBsIdeal.τ).loc Cert.AdamwGmBsIdeal.main_arg2)
      ∧ m' ((c.tc : Thread Cert.AdamwGmBsReferenceIdeal.nD Cert.AdamwGmBsReferenceIdeal.τ).loc Cert.AdamwGmBsReferenceIdeal.main_arg3) = m ((c.tc : Thread Cert.AdamwGmBsIdeal.nD Cert.AdamwGmBsIdeal.τ).loc Cert.AdamwGmBsIdeal.main_arg3)) →
    ∃ (v0 : (c : Dev Cert.AdamwGmBsIdeal.nD) → Buf (Elt Ideal) ((c.tc : Thread Cert.AdamwGmBsIdeal.nD Cert.AdamwGmBsIdeal.τ).loc Cert.AdamwGmBsIdeal.main_v0_0)) (v1 : (c : Dev Cert.AdamwGmBsIdeal.nD) → Buf (Elt Ideal) ((c.tc : Thread Cert.AdamwGmBsIdeal.nD Cert.AdamwGmBsIdeal.τ).loc Cert.AdamwGmBsIdeal.main_v0_1)) (v2 : (c : Dev Cert.AdamwGmBsIdeal.nD) → Buf (Elt Ideal) ((c.tc : Thread Cert.AdamwGmBsIdeal.nD Cert.AdamwGmBsIdeal.τ).loc Cert.AdamwGmBsIdeal.main_v0_2)) (v3 : (c : Dev Cert.AdamwGmBsIdeal.nD) → Buf (Elt Ideal) ((c.tc : Thread Cert.AdamwGmBsIdeal.nD Cert.AdamwGmBsIdeal.τ).loc Cert.AdamwGmBsIdeal.main_v0_3)),
      θ_run (Cert.AdamwGmBsIdeal.defs (F := Ideal)) (onTc (τ := Cert.AdamwGmBsIdeal.τ) (Cert.AdamwGmBsIdeal.main (F := Ideal))) ⟨m, fun _ => 0, g⟩ (fun r => ∀ c : Dev Cert.AdamwGmBsIdeal.nD,
          r.2.mem ((c.tc : Thread Cert.AdamwGmBsIdeal.nD Cert.AdamwGmBsIdeal.τ).loc Cert.AdamwGmBsIdeal.main_v0_0) = v0 c
          ∧ r.2.mem ((c.tc : Thread Cert.AdamwGmBsIdeal.nD Cert.AdamwGmBsIdeal.τ).loc Cert.AdamwGmBsIdeal.main_v0_1) = v1 c
          ∧ r.2.mem ((c.tc : Thread Cert.AdamwGmBsIdeal.nD Cert.AdamwGmBsIdeal.τ).loc Cert.AdamwGmBsIdeal.main_v0_2) = v2 c
          ∧ r.2.mem ((c.tc : Thread Cert.AdamwGmBsIdeal.nD Cert.AdamwGmBsIdeal.τ).loc Cert.AdamwGmBsIdeal.main_v0_3) = v3 c
          ∧ r.2.mem ((c.tc : Thread Cert.AdamwGmBsIdeal.nD Cert.AdamwGmBsIdeal.τ).loc Cert.AdamwGmBsIdeal.main_arg0) = m ((c.tc : Thread Cert.AdamwGmBsIdeal.nD Cert.AdamwGmBsIdeal.τ).loc Cert.AdamwGmBsIdeal.main_arg0)
          ∧ r.2.mem ((c.tc : Thread Cert.AdamwGmBsIdeal.nD Cert.AdamwGmBsIdeal.τ).loc Cert.AdamwGmBsIdeal.main_arg1) = m ((c.tc : Thread Cert.AdamwGmBsIdeal.nD Cert.AdamwGmBsIdeal.τ).loc Cert.AdamwGmBsIdeal.main_arg1)
          ∧ r.2.mem ((c.tc : Thread Cert.AdamwGmBsIdeal.nD Cert.AdamwGmBsIdeal.τ).loc Cert.AdamwGmBsIdeal.main_arg2) = m ((c.tc : Thread Cert.AdamwGmBsIdeal.nD Cert.AdamwGmBsIdeal.τ).loc Cert.AdamwGmBsIdeal.main_arg2)
          ∧ r.2.mem ((c.tc : Thread Cert.AdamwGmBsIdeal.nD Cert.AdamwGmBsIdeal.τ).loc Cert.AdamwGmBsIdeal.main_arg3) = m ((c.tc : Thread Cert.AdamwGmBsIdeal.nD Cert.AdamwGmBsIdeal.τ).loc Cert.AdamwGmBsIdeal.main_arg3))
      ∧ θ_run (Cert.AdamwGmBsReferenceIdeal.defs (F := Ideal)) (onTc (τ := Cert.AdamwGmBsReferenceIdeal.τ) (Cert.AdamwGmBsReferenceIdeal.main (F := Ideal))) ⟨m', fun _ => 0, g'⟩ (fun r => ∀ c : Dev Cert.AdamwGmBsReferenceIdeal.nD,
          r.2.mem ((c.tc : Thread Cert.AdamwGmBsReferenceIdeal.nD Cert.AdamwGmBsReferenceIdeal.τ).loc Cert.AdamwGmBsReferenceIdeal.main_arg1) = v0 c
          ∧ r.2.mem ((c.tc : Thread Cert.AdamwGmBsReferenceIdeal.nD Cert.AdamwGmBsReferenceIdeal.τ).loc Cert.AdamwGmBsReferenceIdeal.main_v23) = v1 c
          ∧ r.2.mem ((c.tc : Thread Cert.AdamwGmBsReferenceIdeal.nD Cert.AdamwGmBsReferenceIdeal.τ).loc Cert.AdamwGmBsReferenceIdeal.main_v4) = v2 c
          ∧ r.2.mem ((c.tc : Thread Cert.AdamwGmBsReferenceIdeal.nD Cert.AdamwGmBsReferenceIdeal.τ).loc Cert.AdamwGmBsReferenceIdeal.main_v10) = v3 c
          ∧ r.2.mem ((c.tc : Thread Cert.AdamwGmBsReferenceIdeal.nD Cert.AdamwGmBsReferenceIdeal.τ).loc Cert.AdamwGmBsReferenceIdeal.main_arg0) = m' ((c.tc : Thread Cert.AdamwGmBsReferenceIdeal.nD Cert.AdamwGmBsReferenceIdeal.τ).loc Cert.AdamwGmBsReferenceIdeal.main_arg0)
          ∧ r.2.mem ((c.tc : Thread Cert.AdamwGmBsReferenceIdeal.nD Cert.AdamwGmBsReferenceIdeal.τ).loc Cert.AdamwGmBsReferenceIdeal.main_arg1) = m' ((c.tc : Thread Cert.AdamwGmBsReferenceIdeal.nD Cert.AdamwGmBsReferenceIdeal.τ).loc Cert.AdamwGmBsReferenceIdeal.main_arg1)
          ∧ r.2.mem ((c.tc : Thread Cert.AdamwGmBsReferenceIdeal.nD Cert.AdamwGmBsReferenceIdeal.τ).loc Cert.AdamwGmBsReferenceIdeal.main_arg2) = m' ((c.tc : Thread Cert.AdamwGmBsReferenceIdeal.nD Cert.AdamwGmBsReferenceIdeal.τ).loc Cert.AdamwGmBsReferenceIdeal.main_arg2)
          ∧ r.2.mem ((c.tc : Thread Cert.AdamwGmBsReferenceIdeal.nD Cert.AdamwGmBsReferenceIdeal.τ).loc Cert.AdamwGmBsReferenceIdeal.main_arg3) = m' ((c.tc : Thread Cert.AdamwGmBsReferenceIdeal.nD Cert.AdamwGmBsReferenceIdeal.τ).loc Cert.AdamwGmBsReferenceIdeal.main_arg3))

def preserves_AdamwConvW_AdamwConvWIdeal : Prop :=
  True

def algebraic_AdamwConvWIdeal_AdamwConvWReferenceIdeal [hAdamwConvWIdeal : Cert.AdamwConvWIdeal.Facts] [hAdamwConvWReferenceIdeal : Cert.AdamwConvWReferenceIdeal.Facts] : Prop :=
  ∀ (m : (ℓ : Loc Cert.AdamwConvWIdeal.nD Cert.AdamwConvWIdeal.τ Cert.AdamwConvWIdeal.sig) → Buf (Elt Ideal) ℓ) (g : Dev Cert.AdamwConvWIdeal.nD → PrngReg)
    (m' : (ℓ : Loc Cert.AdamwConvWReferenceIdeal.nD Cert.AdamwConvWReferenceIdeal.τ Cert.AdamwConvWReferenceIdeal.sig) → Buf (Elt Ideal) ℓ) (g' : Dev Cert.AdamwConvWReferenceIdeal.nD → PrngReg), Pre_AdamwConvWIdeal m →
    (∀ c : Dev Cert.AdamwConvWIdeal.nD,
      m' ((c.tc : Thread Cert.AdamwConvWReferenceIdeal.nD Cert.AdamwConvWReferenceIdeal.τ).loc Cert.AdamwConvWReferenceIdeal.main_arg0) = m ((c.tc : Thread Cert.AdamwConvWIdeal.nD Cert.AdamwConvWIdeal.τ).loc Cert.AdamwConvWIdeal.main_arg0)
      ∧ m' ((c.tc : Thread Cert.AdamwConvWReferenceIdeal.nD Cert.AdamwConvWReferenceIdeal.τ).loc Cert.AdamwConvWReferenceIdeal.main_arg1) = m ((c.tc : Thread Cert.AdamwConvWIdeal.nD Cert.AdamwConvWIdeal.τ).loc Cert.AdamwConvWIdeal.main_arg1)
      ∧ m' ((c.tc : Thread Cert.AdamwConvWReferenceIdeal.nD Cert.AdamwConvWReferenceIdeal.τ).loc Cert.AdamwConvWReferenceIdeal.main_arg2) = m ((c.tc : Thread Cert.AdamwConvWIdeal.nD Cert.AdamwConvWIdeal.τ).loc Cert.AdamwConvWIdeal.main_arg2)
      ∧ m' ((c.tc : Thread Cert.AdamwConvWReferenceIdeal.nD Cert.AdamwConvWReferenceIdeal.τ).loc Cert.AdamwConvWReferenceIdeal.main_arg3) = m ((c.tc : Thread Cert.AdamwConvWIdeal.nD Cert.AdamwConvWIdeal.τ).loc Cert.AdamwConvWIdeal.main_arg3)) →
    ∃ (v0 : (c : Dev Cert.AdamwConvWIdeal.nD) → Buf (Elt Ideal) ((c.tc : Thread Cert.AdamwConvWIdeal.nD Cert.AdamwConvWIdeal.τ).loc Cert.AdamwConvWIdeal.main_v0_0)) (v1 : (c : Dev Cert.AdamwConvWIdeal.nD) → Buf (Elt Ideal) ((c.tc : Thread Cert.AdamwConvWIdeal.nD Cert.AdamwConvWIdeal.τ).loc Cert.AdamwConvWIdeal.main_v0_1)) (v2 : (c : Dev Cert.AdamwConvWIdeal.nD) → Buf (Elt Ideal) ((c.tc : Thread Cert.AdamwConvWIdeal.nD Cert.AdamwConvWIdeal.τ).loc Cert.AdamwConvWIdeal.main_v0_2)) (v3 : (c : Dev Cert.AdamwConvWIdeal.nD) → Buf (Elt Ideal) ((c.tc : Thread Cert.AdamwConvWIdeal.nD Cert.AdamwConvWIdeal.τ).loc Cert.AdamwConvWIdeal.main_v0_3)),
      θ_run (Cert.AdamwConvWIdeal.defs (F := Ideal)) (onTc (τ := Cert.AdamwConvWIdeal.τ) (Cert.AdamwConvWIdeal.main (F := Ideal))) ⟨m, fun _ => 0, g⟩ (fun r => ∀ c : Dev Cert.AdamwConvWIdeal.nD,
          r.2.mem ((c.tc : Thread Cert.AdamwConvWIdeal.nD Cert.AdamwConvWIdeal.τ).loc Cert.AdamwConvWIdeal.main_v0_0) = v0 c
          ∧ r.2.mem ((c.tc : Thread Cert.AdamwConvWIdeal.nD Cert.AdamwConvWIdeal.τ).loc Cert.AdamwConvWIdeal.main_v0_1) = v1 c
          ∧ r.2.mem ((c.tc : Thread Cert.AdamwConvWIdeal.nD Cert.AdamwConvWIdeal.τ).loc Cert.AdamwConvWIdeal.main_v0_2) = v2 c
          ∧ r.2.mem ((c.tc : Thread Cert.AdamwConvWIdeal.nD Cert.AdamwConvWIdeal.τ).loc Cert.AdamwConvWIdeal.main_v0_3) = v3 c
          ∧ r.2.mem ((c.tc : Thread Cert.AdamwConvWIdeal.nD Cert.AdamwConvWIdeal.τ).loc Cert.AdamwConvWIdeal.main_arg0) = m ((c.tc : Thread Cert.AdamwConvWIdeal.nD Cert.AdamwConvWIdeal.τ).loc Cert.AdamwConvWIdeal.main_arg0)
          ∧ r.2.mem ((c.tc : Thread Cert.AdamwConvWIdeal.nD Cert.AdamwConvWIdeal.τ).loc Cert.AdamwConvWIdeal.main_arg1) = m ((c.tc : Thread Cert.AdamwConvWIdeal.nD Cert.AdamwConvWIdeal.τ).loc Cert.AdamwConvWIdeal.main_arg1)
          ∧ r.2.mem ((c.tc : Thread Cert.AdamwConvWIdeal.nD Cert.AdamwConvWIdeal.τ).loc Cert.AdamwConvWIdeal.main_arg2) = m ((c.tc : Thread Cert.AdamwConvWIdeal.nD Cert.AdamwConvWIdeal.τ).loc Cert.AdamwConvWIdeal.main_arg2)
          ∧ r.2.mem ((c.tc : Thread Cert.AdamwConvWIdeal.nD Cert.AdamwConvWIdeal.τ).loc Cert.AdamwConvWIdeal.main_arg3) = m ((c.tc : Thread Cert.AdamwConvWIdeal.nD Cert.AdamwConvWIdeal.τ).loc Cert.AdamwConvWIdeal.main_arg3))
      ∧ θ_run (Cert.AdamwConvWReferenceIdeal.defs (F := Ideal)) (onTc (τ := Cert.AdamwConvWReferenceIdeal.τ) (Cert.AdamwConvWReferenceIdeal.main (F := Ideal))) ⟨m', fun _ => 0, g'⟩ (fun r => ∀ c : Dev Cert.AdamwConvWReferenceIdeal.nD,
          r.2.mem ((c.tc : Thread Cert.AdamwConvWReferenceIdeal.nD Cert.AdamwConvWReferenceIdeal.τ).loc Cert.AdamwConvWReferenceIdeal.main_arg1) = v0 c
          ∧ r.2.mem ((c.tc : Thread Cert.AdamwConvWReferenceIdeal.nD Cert.AdamwConvWReferenceIdeal.τ).loc Cert.AdamwConvWReferenceIdeal.main_v23) = v1 c
          ∧ r.2.mem ((c.tc : Thread Cert.AdamwConvWReferenceIdeal.nD Cert.AdamwConvWReferenceIdeal.τ).loc Cert.AdamwConvWReferenceIdeal.main_v4) = v2 c
          ∧ r.2.mem ((c.tc : Thread Cert.AdamwConvWReferenceIdeal.nD Cert.AdamwConvWReferenceIdeal.τ).loc Cert.AdamwConvWReferenceIdeal.main_v10) = v3 c
          ∧ r.2.mem ((c.tc : Thread Cert.AdamwConvWReferenceIdeal.nD Cert.AdamwConvWReferenceIdeal.τ).loc Cert.AdamwConvWReferenceIdeal.main_arg0) = m' ((c.tc : Thread Cert.AdamwConvWReferenceIdeal.nD Cert.AdamwConvWReferenceIdeal.τ).loc Cert.AdamwConvWReferenceIdeal.main_arg0)
          ∧ r.2.mem ((c.tc : Thread Cert.AdamwConvWReferenceIdeal.nD Cert.AdamwConvWReferenceIdeal.τ).loc Cert.AdamwConvWReferenceIdeal.main_arg1) = m' ((c.tc : Thread Cert.AdamwConvWReferenceIdeal.nD Cert.AdamwConvWReferenceIdeal.τ).loc Cert.AdamwConvWReferenceIdeal.main_arg1)
          ∧ r.2.mem ((c.tc : Thread Cert.AdamwConvWReferenceIdeal.nD Cert.AdamwConvWReferenceIdeal.τ).loc Cert.AdamwConvWReferenceIdeal.main_arg2) = m' ((c.tc : Thread Cert.AdamwConvWReferenceIdeal.nD Cert.AdamwConvWReferenceIdeal.τ).loc Cert.AdamwConvWReferenceIdeal.main_arg2)
          ∧ r.2.mem ((c.tc : Thread Cert.AdamwConvWReferenceIdeal.nD Cert.AdamwConvWReferenceIdeal.τ).loc Cert.AdamwConvWReferenceIdeal.main_arg3) = m' ((c.tc : Thread Cert.AdamwConvWReferenceIdeal.nD Cert.AdamwConvWReferenceIdeal.τ).loc Cert.AdamwConvWReferenceIdeal.main_arg3))

def preserves_AdamwConvB_AdamwConvBIdeal : Prop :=
  True

def algebraic_AdamwConvBIdeal_AdamwConvBReferenceIdeal [hAdamwConvBIdeal : Cert.AdamwConvBIdeal.Facts] [hAdamwConvBReferenceIdeal : Cert.AdamwConvBReferenceIdeal.Facts] : Prop :=
  ∀ (m : (ℓ : Loc Cert.AdamwConvBIdeal.nD Cert.AdamwConvBIdeal.τ Cert.AdamwConvBIdeal.sig) → Buf (Elt Ideal) ℓ) (g : Dev Cert.AdamwConvBIdeal.nD → PrngReg)
    (m' : (ℓ : Loc Cert.AdamwConvBReferenceIdeal.nD Cert.AdamwConvBReferenceIdeal.τ Cert.AdamwConvBReferenceIdeal.sig) → Buf (Elt Ideal) ℓ) (g' : Dev Cert.AdamwConvBReferenceIdeal.nD → PrngReg), Pre_AdamwConvBIdeal m →
    (∀ c : Dev Cert.AdamwConvBIdeal.nD,
      m' ((c.tc : Thread Cert.AdamwConvBReferenceIdeal.nD Cert.AdamwConvBReferenceIdeal.τ).loc Cert.AdamwConvBReferenceIdeal.main_arg0) = m ((c.tc : Thread Cert.AdamwConvBIdeal.nD Cert.AdamwConvBIdeal.τ).loc Cert.AdamwConvBIdeal.main_arg0)
      ∧ m' ((c.tc : Thread Cert.AdamwConvBReferenceIdeal.nD Cert.AdamwConvBReferenceIdeal.τ).loc Cert.AdamwConvBReferenceIdeal.main_arg1) = m ((c.tc : Thread Cert.AdamwConvBIdeal.nD Cert.AdamwConvBIdeal.τ).loc Cert.AdamwConvBIdeal.main_arg1)
      ∧ m' ((c.tc : Thread Cert.AdamwConvBReferenceIdeal.nD Cert.AdamwConvBReferenceIdeal.τ).loc Cert.AdamwConvBReferenceIdeal.main_arg2) = m ((c.tc : Thread Cert.AdamwConvBIdeal.nD Cert.AdamwConvBIdeal.τ).loc Cert.AdamwConvBIdeal.main_arg2)
      ∧ m' ((c.tc : Thread Cert.AdamwConvBReferenceIdeal.nD Cert.AdamwConvBReferenceIdeal.τ).loc Cert.AdamwConvBReferenceIdeal.main_arg3) = m ((c.tc : Thread Cert.AdamwConvBIdeal.nD Cert.AdamwConvBIdeal.τ).loc Cert.AdamwConvBIdeal.main_arg3)) →
    ∃ (v0 : (c : Dev Cert.AdamwConvBIdeal.nD) → Buf (Elt Ideal) ((c.tc : Thread Cert.AdamwConvBIdeal.nD Cert.AdamwConvBIdeal.τ).loc Cert.AdamwConvBIdeal.main_v0_0)) (v1 : (c : Dev Cert.AdamwConvBIdeal.nD) → Buf (Elt Ideal) ((c.tc : Thread Cert.AdamwConvBIdeal.nD Cert.AdamwConvBIdeal.τ).loc Cert.AdamwConvBIdeal.main_v0_1)) (v2 : (c : Dev Cert.AdamwConvBIdeal.nD) → Buf (Elt Ideal) ((c.tc : Thread Cert.AdamwConvBIdeal.nD Cert.AdamwConvBIdeal.τ).loc Cert.AdamwConvBIdeal.main_v0_2)) (v3 : (c : Dev Cert.AdamwConvBIdeal.nD) → Buf (Elt Ideal) ((c.tc : Thread Cert.AdamwConvBIdeal.nD Cert.AdamwConvBIdeal.τ).loc Cert.AdamwConvBIdeal.main_v0_3)),
      θ_run (Cert.AdamwConvBIdeal.defs (F := Ideal)) (onTc (τ := Cert.AdamwConvBIdeal.τ) (Cert.AdamwConvBIdeal.main (F := Ideal))) ⟨m, fun _ => 0, g⟩ (fun r => ∀ c : Dev Cert.AdamwConvBIdeal.nD,
          r.2.mem ((c.tc : Thread Cert.AdamwConvBIdeal.nD Cert.AdamwConvBIdeal.τ).loc Cert.AdamwConvBIdeal.main_v0_0) = v0 c
          ∧ r.2.mem ((c.tc : Thread Cert.AdamwConvBIdeal.nD Cert.AdamwConvBIdeal.τ).loc Cert.AdamwConvBIdeal.main_v0_1) = v1 c
          ∧ r.2.mem ((c.tc : Thread Cert.AdamwConvBIdeal.nD Cert.AdamwConvBIdeal.τ).loc Cert.AdamwConvBIdeal.main_v0_2) = v2 c
          ∧ r.2.mem ((c.tc : Thread Cert.AdamwConvBIdeal.nD Cert.AdamwConvBIdeal.τ).loc Cert.AdamwConvBIdeal.main_v0_3) = v3 c
          ∧ r.2.mem ((c.tc : Thread Cert.AdamwConvBIdeal.nD Cert.AdamwConvBIdeal.τ).loc Cert.AdamwConvBIdeal.main_arg0) = m ((c.tc : Thread Cert.AdamwConvBIdeal.nD Cert.AdamwConvBIdeal.τ).loc Cert.AdamwConvBIdeal.main_arg0)
          ∧ r.2.mem ((c.tc : Thread Cert.AdamwConvBIdeal.nD Cert.AdamwConvBIdeal.τ).loc Cert.AdamwConvBIdeal.main_arg1) = m ((c.tc : Thread Cert.AdamwConvBIdeal.nD Cert.AdamwConvBIdeal.τ).loc Cert.AdamwConvBIdeal.main_arg1)
          ∧ r.2.mem ((c.tc : Thread Cert.AdamwConvBIdeal.nD Cert.AdamwConvBIdeal.τ).loc Cert.AdamwConvBIdeal.main_arg2) = m ((c.tc : Thread Cert.AdamwConvBIdeal.nD Cert.AdamwConvBIdeal.τ).loc Cert.AdamwConvBIdeal.main_arg2)
          ∧ r.2.mem ((c.tc : Thread Cert.AdamwConvBIdeal.nD Cert.AdamwConvBIdeal.τ).loc Cert.AdamwConvBIdeal.main_arg3) = m ((c.tc : Thread Cert.AdamwConvBIdeal.nD Cert.AdamwConvBIdeal.τ).loc Cert.AdamwConvBIdeal.main_arg3))
      ∧ θ_run (Cert.AdamwConvBReferenceIdeal.defs (F := Ideal)) (onTc (τ := Cert.AdamwConvBReferenceIdeal.τ) (Cert.AdamwConvBReferenceIdeal.main (F := Ideal))) ⟨m', fun _ => 0, g'⟩ (fun r => ∀ c : Dev Cert.AdamwConvBReferenceIdeal.nD,
          r.2.mem ((c.tc : Thread Cert.AdamwConvBReferenceIdeal.nD Cert.AdamwConvBReferenceIdeal.τ).loc Cert.AdamwConvBReferenceIdeal.main_arg1) = v0 c
          ∧ r.2.mem ((c.tc : Thread Cert.AdamwConvBReferenceIdeal.nD Cert.AdamwConvBReferenceIdeal.τ).loc Cert.AdamwConvBReferenceIdeal.main_v23) = v1 c
          ∧ r.2.mem ((c.tc : Thread Cert.AdamwConvBReferenceIdeal.nD Cert.AdamwConvBReferenceIdeal.τ).loc Cert.AdamwConvBReferenceIdeal.main_v4) = v2 c
          ∧ r.2.mem ((c.tc : Thread Cert.AdamwConvBReferenceIdeal.nD Cert.AdamwConvBReferenceIdeal.τ).loc Cert.AdamwConvBReferenceIdeal.main_v10) = v3 c
          ∧ r.2.mem ((c.tc : Thread Cert.AdamwConvBReferenceIdeal.nD Cert.AdamwConvBReferenceIdeal.τ).loc Cert.AdamwConvBReferenceIdeal.main_arg0) = m' ((c.tc : Thread Cert.AdamwConvBReferenceIdeal.nD Cert.AdamwConvBReferenceIdeal.τ).loc Cert.AdamwConvBReferenceIdeal.main_arg0)
          ∧ r.2.mem ((c.tc : Thread Cert.AdamwConvBReferenceIdeal.nD Cert.AdamwConvBReferenceIdeal.τ).loc Cert.AdamwConvBReferenceIdeal.main_arg1) = m' ((c.tc : Thread Cert.AdamwConvBReferenceIdeal.nD Cert.AdamwConvBReferenceIdeal.τ).loc Cert.AdamwConvBReferenceIdeal.main_arg1)
          ∧ r.2.mem ((c.tc : Thread Cert.AdamwConvBReferenceIdeal.nD Cert.AdamwConvBReferenceIdeal.τ).loc Cert.AdamwConvBReferenceIdeal.main_arg2) = m' ((c.tc : Thread Cert.AdamwConvBReferenceIdeal.nD Cert.AdamwConvBReferenceIdeal.τ).loc Cert.AdamwConvBReferenceIdeal.main_arg2)
          ∧ r.2.mem ((c.tc : Thread Cert.AdamwConvBReferenceIdeal.nD Cert.AdamwConvBReferenceIdeal.τ).loc Cert.AdamwConvBReferenceIdeal.main_arg3) = m' ((c.tc : Thread Cert.AdamwConvBReferenceIdeal.nD Cert.AdamwConvBReferenceIdeal.τ).loc Cert.AdamwConvBReferenceIdeal.main_arg3))

def preserves_AdamwHeads_AdamwHeadsIdeal : Prop :=
  True

def algebraic_AdamwHeadsIdeal_AdamwHeadsReferenceIdeal [hAdamwHeadsIdeal : Cert.AdamwHeadsIdeal.Facts] [hAdamwHeadsReferenceIdeal : Cert.AdamwHeadsReferenceIdeal.Facts] : Prop :=
  ∀ (m : (ℓ : Loc Cert.AdamwHeadsIdeal.nD Cert.AdamwHeadsIdeal.τ Cert.AdamwHeadsIdeal.sig) → Buf (Elt Ideal) ℓ) (g : Dev Cert.AdamwHeadsIdeal.nD → PrngReg)
    (m' : (ℓ : Loc Cert.AdamwHeadsReferenceIdeal.nD Cert.AdamwHeadsReferenceIdeal.τ Cert.AdamwHeadsReferenceIdeal.sig) → Buf (Elt Ideal) ℓ) (g' : Dev Cert.AdamwHeadsReferenceIdeal.nD → PrngReg), Pre_AdamwHeadsIdeal m →
    (∀ c : Dev Cert.AdamwHeadsIdeal.nD,
      m' ((c.tc : Thread Cert.AdamwHeadsReferenceIdeal.nD Cert.AdamwHeadsReferenceIdeal.τ).loc Cert.AdamwHeadsReferenceIdeal.main_arg0) = m ((c.tc : Thread Cert.AdamwHeadsIdeal.nD Cert.AdamwHeadsIdeal.τ).loc Cert.AdamwHeadsIdeal.main_arg0)
      ∧ m' ((c.tc : Thread Cert.AdamwHeadsReferenceIdeal.nD Cert.AdamwHeadsReferenceIdeal.τ).loc Cert.AdamwHeadsReferenceIdeal.main_arg1) = m ((c.tc : Thread Cert.AdamwHeadsIdeal.nD Cert.AdamwHeadsIdeal.τ).loc Cert.AdamwHeadsIdeal.main_arg1)
      ∧ m' ((c.tc : Thread Cert.AdamwHeadsReferenceIdeal.nD Cert.AdamwHeadsReferenceIdeal.τ).loc Cert.AdamwHeadsReferenceIdeal.main_arg2) = m ((c.tc : Thread Cert.AdamwHeadsIdeal.nD Cert.AdamwHeadsIdeal.τ).loc Cert.AdamwHeadsIdeal.main_arg2)
      ∧ m' ((c.tc : Thread Cert.AdamwHeadsReferenceIdeal.nD Cert.AdamwHeadsReferenceIdeal.τ).loc Cert.AdamwHeadsReferenceIdeal.main_arg3) = m ((c.tc : Thread Cert.AdamwHeadsIdeal.nD Cert.AdamwHeadsIdeal.τ).loc Cert.AdamwHeadsIdeal.main_arg3)) →
    ∃ (v0 : (c : Dev Cert.AdamwHeadsIdeal.nD) → Buf (Elt Ideal) ((c.tc : Thread Cert.AdamwHeadsIdeal.nD Cert.AdamwHeadsIdeal.τ).loc Cert.AdamwHeadsIdeal.main_v0_0)) (v1 : (c : Dev Cert.AdamwHeadsIdeal.nD) → Buf (Elt Ideal) ((c.tc : Thread Cert.AdamwHeadsIdeal.nD Cert.AdamwHeadsIdeal.τ).loc Cert.AdamwHeadsIdeal.main_v0_1)) (v2 : (c : Dev Cert.AdamwHeadsIdeal.nD) → Buf (Elt Ideal) ((c.tc : Thread Cert.AdamwHeadsIdeal.nD Cert.AdamwHeadsIdeal.τ).loc Cert.AdamwHeadsIdeal.main_v0_2)) (v3 : (c : Dev Cert.AdamwHeadsIdeal.nD) → Buf (Elt Ideal) ((c.tc : Thread Cert.AdamwHeadsIdeal.nD Cert.AdamwHeadsIdeal.τ).loc Cert.AdamwHeadsIdeal.main_v0_3)),
      θ_run (Cert.AdamwHeadsIdeal.defs (F := Ideal)) (onTc (τ := Cert.AdamwHeadsIdeal.τ) (Cert.AdamwHeadsIdeal.main (F := Ideal))) ⟨m, fun _ => 0, g⟩ (fun r => ∀ c : Dev Cert.AdamwHeadsIdeal.nD,
          r.2.mem ((c.tc : Thread Cert.AdamwHeadsIdeal.nD Cert.AdamwHeadsIdeal.τ).loc Cert.AdamwHeadsIdeal.main_v0_0) = v0 c
          ∧ r.2.mem ((c.tc : Thread Cert.AdamwHeadsIdeal.nD Cert.AdamwHeadsIdeal.τ).loc Cert.AdamwHeadsIdeal.main_v0_1) = v1 c
          ∧ r.2.mem ((c.tc : Thread Cert.AdamwHeadsIdeal.nD Cert.AdamwHeadsIdeal.τ).loc Cert.AdamwHeadsIdeal.main_v0_2) = v2 c
          ∧ r.2.mem ((c.tc : Thread Cert.AdamwHeadsIdeal.nD Cert.AdamwHeadsIdeal.τ).loc Cert.AdamwHeadsIdeal.main_v0_3) = v3 c
          ∧ r.2.mem ((c.tc : Thread Cert.AdamwHeadsIdeal.nD Cert.AdamwHeadsIdeal.τ).loc Cert.AdamwHeadsIdeal.main_arg0) = m ((c.tc : Thread Cert.AdamwHeadsIdeal.nD Cert.AdamwHeadsIdeal.τ).loc Cert.AdamwHeadsIdeal.main_arg0)
          ∧ r.2.mem ((c.tc : Thread Cert.AdamwHeadsIdeal.nD Cert.AdamwHeadsIdeal.τ).loc Cert.AdamwHeadsIdeal.main_arg1) = m ((c.tc : Thread Cert.AdamwHeadsIdeal.nD Cert.AdamwHeadsIdeal.τ).loc Cert.AdamwHeadsIdeal.main_arg1)
          ∧ r.2.mem ((c.tc : Thread Cert.AdamwHeadsIdeal.nD Cert.AdamwHeadsIdeal.τ).loc Cert.AdamwHeadsIdeal.main_arg2) = m ((c.tc : Thread Cert.AdamwHeadsIdeal.nD Cert.AdamwHeadsIdeal.τ).loc Cert.AdamwHeadsIdeal.main_arg2)
          ∧ r.2.mem ((c.tc : Thread Cert.AdamwHeadsIdeal.nD Cert.AdamwHeadsIdeal.τ).loc Cert.AdamwHeadsIdeal.main_arg3) = m ((c.tc : Thread Cert.AdamwHeadsIdeal.nD Cert.AdamwHeadsIdeal.τ).loc Cert.AdamwHeadsIdeal.main_arg3))
      ∧ θ_run (Cert.AdamwHeadsReferenceIdeal.defs (F := Ideal)) (onTc (τ := Cert.AdamwHeadsReferenceIdeal.τ) (Cert.AdamwHeadsReferenceIdeal.main (F := Ideal))) ⟨m', fun _ => 0, g'⟩ (fun r => ∀ c : Dev Cert.AdamwHeadsReferenceIdeal.nD,
          r.2.mem ((c.tc : Thread Cert.AdamwHeadsReferenceIdeal.nD Cert.AdamwHeadsReferenceIdeal.τ).loc Cert.AdamwHeadsReferenceIdeal.main_arg1) = v0 c
          ∧ r.2.mem ((c.tc : Thread Cert.AdamwHeadsReferenceIdeal.nD Cert.AdamwHeadsReferenceIdeal.τ).loc Cert.AdamwHeadsReferenceIdeal.main_v23) = v1 c
          ∧ r.2.mem ((c.tc : Thread Cert.AdamwHeadsReferenceIdeal.nD Cert.AdamwHeadsReferenceIdeal.τ).loc Cert.AdamwHeadsReferenceIdeal.main_v4) = v2 c
          ∧ r.2.mem ((c.tc : Thread Cert.AdamwHeadsReferenceIdeal.nD Cert.AdamwHeadsReferenceIdeal.τ).loc Cert.AdamwHeadsReferenceIdeal.main_v10) = v3 c
          ∧ r.2.mem ((c.tc : Thread Cert.AdamwHeadsReferenceIdeal.nD Cert.AdamwHeadsReferenceIdeal.τ).loc Cert.AdamwHeadsReferenceIdeal.main_arg0) = m' ((c.tc : Thread Cert.AdamwHeadsReferenceIdeal.nD Cert.AdamwHeadsReferenceIdeal.τ).loc Cert.AdamwHeadsReferenceIdeal.main_arg0)
          ∧ r.2.mem ((c.tc : Thread Cert.AdamwHeadsReferenceIdeal.nD Cert.AdamwHeadsReferenceIdeal.τ).loc Cert.AdamwHeadsReferenceIdeal.main_arg1) = m' ((c.tc : Thread Cert.AdamwHeadsReferenceIdeal.nD Cert.AdamwHeadsReferenceIdeal.τ).loc Cert.AdamwHeadsReferenceIdeal.main_arg1)
          ∧ r.2.mem ((c.tc : Thread Cert.AdamwHeadsReferenceIdeal.nD Cert.AdamwHeadsReferenceIdeal.τ).loc Cert.AdamwHeadsReferenceIdeal.main_arg2) = m' ((c.tc : Thread Cert.AdamwHeadsReferenceIdeal.nD Cert.AdamwHeadsReferenceIdeal.τ).loc Cert.AdamwHeadsReferenceIdeal.main_arg2)
          ∧ r.2.mem ((c.tc : Thread Cert.AdamwHeadsReferenceIdeal.nD Cert.AdamwHeadsReferenceIdeal.τ).loc Cert.AdamwHeadsReferenceIdeal.main_arg3) = m' ((c.tc : Thread Cert.AdamwHeadsReferenceIdeal.nD Cert.AdamwHeadsReferenceIdeal.τ).loc Cert.AdamwHeadsReferenceIdeal.main_arg3))

def preserves_AdamwSsmNorm_AdamwSsmNormIdeal : Prop :=
  True

def algebraic_AdamwSsmNormIdeal_AdamwSsmNormReferenceIdeal [hAdamwSsmNormIdeal : Cert.AdamwSsmNormIdeal.Facts] [hAdamwSsmNormReferenceIdeal : Cert.AdamwSsmNormReferenceIdeal.Facts] : Prop :=
  ∀ (m : (ℓ : Loc Cert.AdamwSsmNormIdeal.nD Cert.AdamwSsmNormIdeal.τ Cert.AdamwSsmNormIdeal.sig) → Buf (Elt Ideal) ℓ) (g : Dev Cert.AdamwSsmNormIdeal.nD → PrngReg)
    (m' : (ℓ : Loc Cert.AdamwSsmNormReferenceIdeal.nD Cert.AdamwSsmNormReferenceIdeal.τ Cert.AdamwSsmNormReferenceIdeal.sig) → Buf (Elt Ideal) ℓ) (g' : Dev Cert.AdamwSsmNormReferenceIdeal.nD → PrngReg), Pre_AdamwSsmNormIdeal m →
    (∀ c : Dev Cert.AdamwSsmNormIdeal.nD,
      m' ((c.tc : Thread Cert.AdamwSsmNormReferenceIdeal.nD Cert.AdamwSsmNormReferenceIdeal.τ).loc Cert.AdamwSsmNormReferenceIdeal.main_arg0) = m ((c.tc : Thread Cert.AdamwSsmNormIdeal.nD Cert.AdamwSsmNormIdeal.τ).loc Cert.AdamwSsmNormIdeal.main_arg0)
      ∧ m' ((c.tc : Thread Cert.AdamwSsmNormReferenceIdeal.nD Cert.AdamwSsmNormReferenceIdeal.τ).loc Cert.AdamwSsmNormReferenceIdeal.main_arg1) = m ((c.tc : Thread Cert.AdamwSsmNormIdeal.nD Cert.AdamwSsmNormIdeal.τ).loc Cert.AdamwSsmNormIdeal.main_arg1)
      ∧ m' ((c.tc : Thread Cert.AdamwSsmNormReferenceIdeal.nD Cert.AdamwSsmNormReferenceIdeal.τ).loc Cert.AdamwSsmNormReferenceIdeal.main_arg2) = m ((c.tc : Thread Cert.AdamwSsmNormIdeal.nD Cert.AdamwSsmNormIdeal.τ).loc Cert.AdamwSsmNormIdeal.main_arg2)
      ∧ m' ((c.tc : Thread Cert.AdamwSsmNormReferenceIdeal.nD Cert.AdamwSsmNormReferenceIdeal.τ).loc Cert.AdamwSsmNormReferenceIdeal.main_arg3) = m ((c.tc : Thread Cert.AdamwSsmNormIdeal.nD Cert.AdamwSsmNormIdeal.τ).loc Cert.AdamwSsmNormIdeal.main_arg3)) →
    ∃ (v0 : (c : Dev Cert.AdamwSsmNormIdeal.nD) → Buf (Elt Ideal) ((c.tc : Thread Cert.AdamwSsmNormIdeal.nD Cert.AdamwSsmNormIdeal.τ).loc Cert.AdamwSsmNormIdeal.main_v0_0)) (v1 : (c : Dev Cert.AdamwSsmNormIdeal.nD) → Buf (Elt Ideal) ((c.tc : Thread Cert.AdamwSsmNormIdeal.nD Cert.AdamwSsmNormIdeal.τ).loc Cert.AdamwSsmNormIdeal.main_v0_1)) (v2 : (c : Dev Cert.AdamwSsmNormIdeal.nD) → Buf (Elt Ideal) ((c.tc : Thread Cert.AdamwSsmNormIdeal.nD Cert.AdamwSsmNormIdeal.τ).loc Cert.AdamwSsmNormIdeal.main_v0_2)) (v3 : (c : Dev Cert.AdamwSsmNormIdeal.nD) → Buf (Elt Ideal) ((c.tc : Thread Cert.AdamwSsmNormIdeal.nD Cert.AdamwSsmNormIdeal.τ).loc Cert.AdamwSsmNormIdeal.main_v0_3)),
      θ_run (Cert.AdamwSsmNormIdeal.defs (F := Ideal)) (onTc (τ := Cert.AdamwSsmNormIdeal.τ) (Cert.AdamwSsmNormIdeal.main (F := Ideal))) ⟨m, fun _ => 0, g⟩ (fun r => ∀ c : Dev Cert.AdamwSsmNormIdeal.nD,
          r.2.mem ((c.tc : Thread Cert.AdamwSsmNormIdeal.nD Cert.AdamwSsmNormIdeal.τ).loc Cert.AdamwSsmNormIdeal.main_v0_0) = v0 c
          ∧ r.2.mem ((c.tc : Thread Cert.AdamwSsmNormIdeal.nD Cert.AdamwSsmNormIdeal.τ).loc Cert.AdamwSsmNormIdeal.main_v0_1) = v1 c
          ∧ r.2.mem ((c.tc : Thread Cert.AdamwSsmNormIdeal.nD Cert.AdamwSsmNormIdeal.τ).loc Cert.AdamwSsmNormIdeal.main_v0_2) = v2 c
          ∧ r.2.mem ((c.tc : Thread Cert.AdamwSsmNormIdeal.nD Cert.AdamwSsmNormIdeal.τ).loc Cert.AdamwSsmNormIdeal.main_v0_3) = v3 c
          ∧ r.2.mem ((c.tc : Thread Cert.AdamwSsmNormIdeal.nD Cert.AdamwSsmNormIdeal.τ).loc Cert.AdamwSsmNormIdeal.main_arg0) = m ((c.tc : Thread Cert.AdamwSsmNormIdeal.nD Cert.AdamwSsmNormIdeal.τ).loc Cert.AdamwSsmNormIdeal.main_arg0)
          ∧ r.2.mem ((c.tc : Thread Cert.AdamwSsmNormIdeal.nD Cert.AdamwSsmNormIdeal.τ).loc Cert.AdamwSsmNormIdeal.main_arg1) = m ((c.tc : Thread Cert.AdamwSsmNormIdeal.nD Cert.AdamwSsmNormIdeal.τ).loc Cert.AdamwSsmNormIdeal.main_arg1)
          ∧ r.2.mem ((c.tc : Thread Cert.AdamwSsmNormIdeal.nD Cert.AdamwSsmNormIdeal.τ).loc Cert.AdamwSsmNormIdeal.main_arg2) = m ((c.tc : Thread Cert.AdamwSsmNormIdeal.nD Cert.AdamwSsmNormIdeal.τ).loc Cert.AdamwSsmNormIdeal.main_arg2)
          ∧ r.2.mem ((c.tc : Thread Cert.AdamwSsmNormIdeal.nD Cert.AdamwSsmNormIdeal.τ).loc Cert.AdamwSsmNormIdeal.main_arg3) = m ((c.tc : Thread Cert.AdamwSsmNormIdeal.nD Cert.AdamwSsmNormIdeal.τ).loc Cert.AdamwSsmNormIdeal.main_arg3))
      ∧ θ_run (Cert.AdamwSsmNormReferenceIdeal.defs (F := Ideal)) (onTc (τ := Cert.AdamwSsmNormReferenceIdeal.τ) (Cert.AdamwSsmNormReferenceIdeal.main (F := Ideal))) ⟨m', fun _ => 0, g'⟩ (fun r => ∀ c : Dev Cert.AdamwSsmNormReferenceIdeal.nD,
          r.2.mem ((c.tc : Thread Cert.AdamwSsmNormReferenceIdeal.nD Cert.AdamwSsmNormReferenceIdeal.τ).loc Cert.AdamwSsmNormReferenceIdeal.main_arg1) = v0 c
          ∧ r.2.mem ((c.tc : Thread Cert.AdamwSsmNormReferenceIdeal.nD Cert.AdamwSsmNormReferenceIdeal.τ).loc Cert.AdamwSsmNormReferenceIdeal.main_v23) = v1 c
          ∧ r.2.mem ((c.tc : Thread Cert.AdamwSsmNormReferenceIdeal.nD Cert.AdamwSsmNormReferenceIdeal.τ).loc Cert.AdamwSsmNormReferenceIdeal.main_v4) = v2 c
          ∧ r.2.mem ((c.tc : Thread Cert.AdamwSsmNormReferenceIdeal.nD Cert.AdamwSsmNormReferenceIdeal.τ).loc Cert.AdamwSsmNormReferenceIdeal.main_v10) = v3 c
          ∧ r.2.mem ((c.tc : Thread Cert.AdamwSsmNormReferenceIdeal.nD Cert.AdamwSsmNormReferenceIdeal.τ).loc Cert.AdamwSsmNormReferenceIdeal.main_arg0) = m' ((c.tc : Thread Cert.AdamwSsmNormReferenceIdeal.nD Cert.AdamwSsmNormReferenceIdeal.τ).loc Cert.AdamwSsmNormReferenceIdeal.main_arg0)
          ∧ r.2.mem ((c.tc : Thread Cert.AdamwSsmNormReferenceIdeal.nD Cert.AdamwSsmNormReferenceIdeal.τ).loc Cert.AdamwSsmNormReferenceIdeal.main_arg1) = m' ((c.tc : Thread Cert.AdamwSsmNormReferenceIdeal.nD Cert.AdamwSsmNormReferenceIdeal.τ).loc Cert.AdamwSsmNormReferenceIdeal.main_arg1)
          ∧ r.2.mem ((c.tc : Thread Cert.AdamwSsmNormReferenceIdeal.nD Cert.AdamwSsmNormReferenceIdeal.τ).loc Cert.AdamwSsmNormReferenceIdeal.main_arg2) = m' ((c.tc : Thread Cert.AdamwSsmNormReferenceIdeal.nD Cert.AdamwSsmNormReferenceIdeal.τ).loc Cert.AdamwSsmNormReferenceIdeal.main_arg2)
          ∧ r.2.mem ((c.tc : Thread Cert.AdamwSsmNormReferenceIdeal.nD Cert.AdamwSsmNormReferenceIdeal.τ).loc Cert.AdamwSsmNormReferenceIdeal.main_arg3) = m' ((c.tc : Thread Cert.AdamwSsmNormReferenceIdeal.nD Cert.AdamwSsmNormReferenceIdeal.τ).loc Cert.AdamwSsmNormReferenceIdeal.main_arg3))

def preserves_AdamwSquare_AdamwSquareIdeal : Prop :=
  True

def algebraic_AdamwSquareIdeal_AdamwSquareReferenceIdeal [hAdamwSquareIdeal : Cert.AdamwSquareIdeal.Facts] [hAdamwSquareReferenceIdeal : Cert.AdamwSquareReferenceIdeal.Facts] : Prop :=
  ∀ (m : (ℓ : Loc Cert.AdamwSquareIdeal.nD Cert.AdamwSquareIdeal.τ Cert.AdamwSquareIdeal.sig) → Buf (Elt Ideal) ℓ) (g : Dev Cert.AdamwSquareIdeal.nD → PrngReg)
    (m' : (ℓ : Loc Cert.AdamwSquareReferenceIdeal.nD Cert.AdamwSquareReferenceIdeal.τ Cert.AdamwSquareReferenceIdeal.sig) → Buf (Elt Ideal) ℓ) (g' : Dev Cert.AdamwSquareReferenceIdeal.nD → PrngReg), Pre_AdamwSquareIdeal m →
    (∀ c : Dev Cert.AdamwSquareIdeal.nD,
      m' ((c.tc : Thread Cert.AdamwSquareReferenceIdeal.nD Cert.AdamwSquareReferenceIdeal.τ).loc Cert.AdamwSquareReferenceIdeal.main_arg0) = m ((c.tc : Thread Cert.AdamwSquareIdeal.nD Cert.AdamwSquareIdeal.τ).loc Cert.AdamwSquareIdeal.main_arg0)
      ∧ m' ((c.tc : Thread Cert.AdamwSquareReferenceIdeal.nD Cert.AdamwSquareReferenceIdeal.τ).loc Cert.AdamwSquareReferenceIdeal.main_arg1) = m ((c.tc : Thread Cert.AdamwSquareIdeal.nD Cert.AdamwSquareIdeal.τ).loc Cert.AdamwSquareIdeal.main_arg1)
      ∧ m' ((c.tc : Thread Cert.AdamwSquareReferenceIdeal.nD Cert.AdamwSquareReferenceIdeal.τ).loc Cert.AdamwSquareReferenceIdeal.main_arg2) = m ((c.tc : Thread Cert.AdamwSquareIdeal.nD Cert.AdamwSquareIdeal.τ).loc Cert.AdamwSquareIdeal.main_arg2)
      ∧ m' ((c.tc : Thread Cert.AdamwSquareReferenceIdeal.nD Cert.AdamwSquareReferenceIdeal.τ).loc Cert.AdamwSquareReferenceIdeal.main_arg3) = m ((c.tc : Thread Cert.AdamwSquareIdeal.nD Cert.AdamwSquareIdeal.τ).loc Cert.AdamwSquareIdeal.main_arg3)) →
    ∃ (v0 : (c : Dev Cert.AdamwSquareIdeal.nD) → Buf (Elt Ideal) ((c.tc : Thread Cert.AdamwSquareIdeal.nD Cert.AdamwSquareIdeal.τ).loc Cert.AdamwSquareIdeal.main_v0_0)) (v1 : (c : Dev Cert.AdamwSquareIdeal.nD) → Buf (Elt Ideal) ((c.tc : Thread Cert.AdamwSquareIdeal.nD Cert.AdamwSquareIdeal.τ).loc Cert.AdamwSquareIdeal.main_v0_1)) (v2 : (c : Dev Cert.AdamwSquareIdeal.nD) → Buf (Elt Ideal) ((c.tc : Thread Cert.AdamwSquareIdeal.nD Cert.AdamwSquareIdeal.τ).loc Cert.AdamwSquareIdeal.main_v0_2)) (v3 : (c : Dev Cert.AdamwSquareIdeal.nD) → Buf (Elt Ideal) ((c.tc : Thread Cert.AdamwSquareIdeal.nD Cert.AdamwSquareIdeal.τ).loc Cert.AdamwSquareIdeal.main_v0_3)),
      θ_run (Cert.AdamwSquareIdeal.defs (F := Ideal)) (onTc (τ := Cert.AdamwSquareIdeal.τ) (Cert.AdamwSquareIdeal.main (F := Ideal))) ⟨m, fun _ => 0, g⟩ (fun r => ∀ c : Dev Cert.AdamwSquareIdeal.nD,
          r.2.mem ((c.tc : Thread Cert.AdamwSquareIdeal.nD Cert.AdamwSquareIdeal.τ).loc Cert.AdamwSquareIdeal.main_v0_0) = v0 c
          ∧ r.2.mem ((c.tc : Thread Cert.AdamwSquareIdeal.nD Cert.AdamwSquareIdeal.τ).loc Cert.AdamwSquareIdeal.main_v0_1) = v1 c
          ∧ r.2.mem ((c.tc : Thread Cert.AdamwSquareIdeal.nD Cert.AdamwSquareIdeal.τ).loc Cert.AdamwSquareIdeal.main_v0_2) = v2 c
          ∧ r.2.mem ((c.tc : Thread Cert.AdamwSquareIdeal.nD Cert.AdamwSquareIdeal.τ).loc Cert.AdamwSquareIdeal.main_v0_3) = v3 c
          ∧ r.2.mem ((c.tc : Thread Cert.AdamwSquareIdeal.nD Cert.AdamwSquareIdeal.τ).loc Cert.AdamwSquareIdeal.main_arg0) = m ((c.tc : Thread Cert.AdamwSquareIdeal.nD Cert.AdamwSquareIdeal.τ).loc Cert.AdamwSquareIdeal.main_arg0)
          ∧ r.2.mem ((c.tc : Thread Cert.AdamwSquareIdeal.nD Cert.AdamwSquareIdeal.τ).loc Cert.AdamwSquareIdeal.main_arg1) = m ((c.tc : Thread Cert.AdamwSquareIdeal.nD Cert.AdamwSquareIdeal.τ).loc Cert.AdamwSquareIdeal.main_arg1)
          ∧ r.2.mem ((c.tc : Thread Cert.AdamwSquareIdeal.nD Cert.AdamwSquareIdeal.τ).loc Cert.AdamwSquareIdeal.main_arg2) = m ((c.tc : Thread Cert.AdamwSquareIdeal.nD Cert.AdamwSquareIdeal.τ).loc Cert.AdamwSquareIdeal.main_arg2)
          ∧ r.2.mem ((c.tc : Thread Cert.AdamwSquareIdeal.nD Cert.AdamwSquareIdeal.τ).loc Cert.AdamwSquareIdeal.main_arg3) = m ((c.tc : Thread Cert.AdamwSquareIdeal.nD Cert.AdamwSquareIdeal.τ).loc Cert.AdamwSquareIdeal.main_arg3))
      ∧ θ_run (Cert.AdamwSquareReferenceIdeal.defs (F := Ideal)) (onTc (τ := Cert.AdamwSquareReferenceIdeal.τ) (Cert.AdamwSquareReferenceIdeal.main (F := Ideal))) ⟨m', fun _ => 0, g'⟩ (fun r => ∀ c : Dev Cert.AdamwSquareReferenceIdeal.nD,
          r.2.mem ((c.tc : Thread Cert.AdamwSquareReferenceIdeal.nD Cert.AdamwSquareReferenceIdeal.τ).loc Cert.AdamwSquareReferenceIdeal.main_v2) = v0 c
          ∧ r.2.mem ((c.tc : Thread Cert.AdamwSquareReferenceIdeal.nD Cert.AdamwSquareReferenceIdeal.τ).loc Cert.AdamwSquareReferenceIdeal.main_v26) = v1 c
          ∧ r.2.mem ((c.tc : Thread Cert.AdamwSquareReferenceIdeal.nD Cert.AdamwSquareReferenceIdeal.τ).loc Cert.AdamwSquareReferenceIdeal.main_v7) = v2 c
          ∧ r.2.mem ((c.tc : Thread Cert.AdamwSquareReferenceIdeal.nD Cert.AdamwSquareReferenceIdeal.τ).loc Cert.AdamwSquareReferenceIdeal.main_v13) = v3 c
          ∧ r.2.mem ((c.tc : Thread Cert.AdamwSquareReferenceIdeal.nD Cert.AdamwSquareReferenceIdeal.τ).loc Cert.AdamwSquareReferenceIdeal.main_arg0) = m' ((c.tc : Thread Cert.AdamwSquareReferenceIdeal.nD Cert.AdamwSquareReferenceIdeal.τ).loc Cert.AdamwSquareReferenceIdeal.main_arg0)
          ∧ r.2.mem ((c.tc : Thread Cert.AdamwSquareReferenceIdeal.nD Cert.AdamwSquareReferenceIdeal.τ).loc Cert.AdamwSquareReferenceIdeal.main_arg1) = m' ((c.tc : Thread Cert.AdamwSquareReferenceIdeal.nD Cert.AdamwSquareReferenceIdeal.τ).loc Cert.AdamwSquareReferenceIdeal.main_arg1)
          ∧ r.2.mem ((c.tc : Thread Cert.AdamwSquareReferenceIdeal.nD Cert.AdamwSquareReferenceIdeal.τ).loc Cert.AdamwSquareReferenceIdeal.main_arg2) = m' ((c.tc : Thread Cert.AdamwSquareReferenceIdeal.nD Cert.AdamwSquareReferenceIdeal.τ).loc Cert.AdamwSquareReferenceIdeal.main_arg2)
          ∧ r.2.mem ((c.tc : Thread Cert.AdamwSquareReferenceIdeal.nD Cert.AdamwSquareReferenceIdeal.τ).loc Cert.AdamwSquareReferenceIdeal.main_arg3) = m' ((c.tc : Thread Cert.AdamwSquareReferenceIdeal.nD Cert.AdamwSquareReferenceIdeal.τ).loc Cert.AdamwSquareReferenceIdeal.main_arg3))

def preserves_AdamwSsm_AdamwSsmIdeal : Prop :=
  True

def algebraic_AdamwSsmIdeal_AdamwSsmReferenceIdeal [hAdamwSsmIdeal : Cert.AdamwSsmIdeal.Facts] [hAdamwSsmReferenceIdeal : Cert.AdamwSsmReferenceIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg)
    (m' : (ℓ : Loc Cert.AdamwSsmReferenceIdeal.nD Cert.AdamwSsmReferenceIdeal.τ Cert.AdamwSsmReferenceIdeal.sig) → Buf (Elt Ideal) ℓ) (g' : Dev Cert.AdamwSsmReferenceIdeal.nD → PrngReg), Pre_AdamwSsmIdeal m →
    (∀ c : Dev Cert.AdamwSsmIdeal.nD,
      m' ((c.tc : Thread Cert.AdamwSsmReferenceIdeal.nD Cert.AdamwSsmReferenceIdeal.τ).loc Cert.AdamwSsmReferenceIdeal.main_arg0) = m ((c.tc : Thread Cert.AdamwSsmIdeal.nD Cert.AdamwSsmIdeal.τ).loc Cert.AdamwSsmIdeal.main_arg0)
      ∧ m' ((c.tc : Thread Cert.AdamwSsmReferenceIdeal.nD Cert.AdamwSsmReferenceIdeal.τ).loc Cert.AdamwSsmReferenceIdeal.main_arg1) = m ((c.tc : Thread Cert.AdamwSsmIdeal.nD Cert.AdamwSsmIdeal.τ).loc Cert.AdamwSsmIdeal.main_arg1)
      ∧ m' ((c.tc : Thread Cert.AdamwSsmReferenceIdeal.nD Cert.AdamwSsmReferenceIdeal.τ).loc Cert.AdamwSsmReferenceIdeal.main_arg2) = m ((c.tc : Thread Cert.AdamwSsmIdeal.nD Cert.AdamwSsmIdeal.τ).loc Cert.AdamwSsmIdeal.main_arg2)
      ∧ m' ((c.tc : Thread Cert.AdamwSsmReferenceIdeal.nD Cert.AdamwSsmReferenceIdeal.τ).loc Cert.AdamwSsmReferenceIdeal.main_arg3) = m ((c.tc : Thread Cert.AdamwSsmIdeal.nD Cert.AdamwSsmIdeal.τ).loc Cert.AdamwSsmIdeal.main_arg3)) →
    ∃ (v0 : (c : Dev Cert.AdamwSsmIdeal.nD) → Buf (Elt Ideal) ((c.tc : Thread Cert.AdamwSsmIdeal.nD Cert.AdamwSsmIdeal.τ).loc Cert.AdamwSsmIdeal.main_v0_0)) (v1 : (c : Dev Cert.AdamwSsmIdeal.nD) → Buf (Elt Ideal) ((c.tc : Thread Cert.AdamwSsmIdeal.nD Cert.AdamwSsmIdeal.τ).loc Cert.AdamwSsmIdeal.main_v0_1)) (v2 : (c : Dev Cert.AdamwSsmIdeal.nD) → Buf (Elt Ideal) ((c.tc : Thread Cert.AdamwSsmIdeal.nD Cert.AdamwSsmIdeal.τ).loc Cert.AdamwSsmIdeal.main_v0_2)) (v3 : (c : Dev Cert.AdamwSsmIdeal.nD) → Buf (Elt Ideal) ((c.tc : Thread Cert.AdamwSsmIdeal.nD Cert.AdamwSsmIdeal.τ).loc Cert.AdamwSsmIdeal.main_v0_3)),
      θ_run (Cert.AdamwSsmIdeal.defs (F := Ideal)) (onTc (τ := Cert.AdamwSsmIdeal.τ) (Cert.AdamwSsmIdeal.main (F := Ideal))) ⟨m, fun _ => 0, g⟩ (fun r => ∀ c : Dev Cert.AdamwSsmIdeal.nD,
          r.2.mem ((c.tc : Thread Cert.AdamwSsmIdeal.nD Cert.AdamwSsmIdeal.τ).loc Cert.AdamwSsmIdeal.main_v0_0) = v0 c
          ∧ r.2.mem ((c.tc : Thread Cert.AdamwSsmIdeal.nD Cert.AdamwSsmIdeal.τ).loc Cert.AdamwSsmIdeal.main_v0_1) = v1 c
          ∧ r.2.mem ((c.tc : Thread Cert.AdamwSsmIdeal.nD Cert.AdamwSsmIdeal.τ).loc Cert.AdamwSsmIdeal.main_v0_2) = v2 c
          ∧ r.2.mem ((c.tc : Thread Cert.AdamwSsmIdeal.nD Cert.AdamwSsmIdeal.τ).loc Cert.AdamwSsmIdeal.main_v0_3) = v3 c
          ∧ r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
          ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
          ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
          ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ θ_run (Cert.AdamwSsmReferenceIdeal.defs (F := Ideal)) (onTc (τ := Cert.AdamwSsmReferenceIdeal.τ) (Cert.AdamwSsmReferenceIdeal.main (F := Ideal))) ⟨m', fun _ => 0, g'⟩ (fun r => ∀ c : Dev Cert.AdamwSsmReferenceIdeal.nD,
          r.2.mem ((c.tc : Thread Cert.AdamwSsmReferenceIdeal.nD Cert.AdamwSsmReferenceIdeal.τ).loc Cert.AdamwSsmReferenceIdeal.main_v2) = v0 c
          ∧ r.2.mem ((c.tc : Thread Cert.AdamwSsmReferenceIdeal.nD Cert.AdamwSsmReferenceIdeal.τ).loc Cert.AdamwSsmReferenceIdeal.main_v26) = v1 c
          ∧ r.2.mem ((c.tc : Thread Cert.AdamwSsmReferenceIdeal.nD Cert.AdamwSsmReferenceIdeal.τ).loc Cert.AdamwSsmReferenceIdeal.main_v7) = v2 c
          ∧ r.2.mem ((c.tc : Thread Cert.AdamwSsmReferenceIdeal.nD Cert.AdamwSsmReferenceIdeal.τ).loc Cert.AdamwSsmReferenceIdeal.main_v13) = v3 c
          ∧ r.2.mem ((c.tc : Thread Cert.AdamwSsmReferenceIdeal.nD Cert.AdamwSsmReferenceIdeal.τ).loc Cert.AdamwSsmReferenceIdeal.main_arg0) = m' ((c.tc : Thread Cert.AdamwSsmReferenceIdeal.nD Cert.AdamwSsmReferenceIdeal.τ).loc Cert.AdamwSsmReferenceIdeal.main_arg0)
          ∧ r.2.mem ((c.tc : Thread Cert.AdamwSsmReferenceIdeal.nD Cert.AdamwSsmReferenceIdeal.τ).loc Cert.AdamwSsmReferenceIdeal.main_arg1) = m' ((c.tc : Thread Cert.AdamwSsmReferenceIdeal.nD Cert.AdamwSsmReferenceIdeal.τ).loc Cert.AdamwSsmReferenceIdeal.main_arg1)
          ∧ r.2.mem ((c.tc : Thread Cert.AdamwSsmReferenceIdeal.nD Cert.AdamwSsmReferenceIdeal.τ).loc Cert.AdamwSsmReferenceIdeal.main_arg2) = m' ((c.tc : Thread Cert.AdamwSsmReferenceIdeal.nD Cert.AdamwSsmReferenceIdeal.τ).loc Cert.AdamwSsmReferenceIdeal.main_arg2)
          ∧ r.2.mem ((c.tc : Thread Cert.AdamwSsmReferenceIdeal.nD Cert.AdamwSsmReferenceIdeal.τ).loc Cert.AdamwSsmReferenceIdeal.main_arg3) = m' ((c.tc : Thread Cert.AdamwSsmReferenceIdeal.nD Cert.AdamwSsmReferenceIdeal.τ).loc Cert.AdamwSsmReferenceIdeal.main_arg3))

def preserves_AdamwFfOne_AdamwFfOneIdeal : Prop :=
  True

def algebraic_AdamwFfOneIdeal_AdamwFfOneReferenceIdeal [hAdamwFfOneIdeal : Cert.AdamwFfOneIdeal.Facts] [hAdamwFfOneReferenceIdeal : Cert.AdamwFfOneReferenceIdeal.Facts] : Prop :=
  ∀ (m : (ℓ : Loc Cert.AdamwFfOneIdeal.nD Cert.AdamwFfOneIdeal.τ Cert.AdamwFfOneIdeal.sig) → Buf (Elt Ideal) ℓ) (g : Dev Cert.AdamwFfOneIdeal.nD → PrngReg)
    (m' : (ℓ : Loc Cert.AdamwFfOneReferenceIdeal.nD Cert.AdamwFfOneReferenceIdeal.τ Cert.AdamwFfOneReferenceIdeal.sig) → Buf (Elt Ideal) ℓ) (g' : Dev Cert.AdamwFfOneReferenceIdeal.nD → PrngReg), Pre_AdamwFfOneIdeal m →
    (∀ c : Dev Cert.AdamwFfOneIdeal.nD,
      m' ((c.tc : Thread Cert.AdamwFfOneReferenceIdeal.nD Cert.AdamwFfOneReferenceIdeal.τ).loc Cert.AdamwFfOneReferenceIdeal.main_arg0) = m ((c.tc : Thread Cert.AdamwFfOneIdeal.nD Cert.AdamwFfOneIdeal.τ).loc Cert.AdamwFfOneIdeal.main_arg0)
      ∧ m' ((c.tc : Thread Cert.AdamwFfOneReferenceIdeal.nD Cert.AdamwFfOneReferenceIdeal.τ).loc Cert.AdamwFfOneReferenceIdeal.main_arg1) = m ((c.tc : Thread Cert.AdamwFfOneIdeal.nD Cert.AdamwFfOneIdeal.τ).loc Cert.AdamwFfOneIdeal.main_arg1)
      ∧ m' ((c.tc : Thread Cert.AdamwFfOneReferenceIdeal.nD Cert.AdamwFfOneReferenceIdeal.τ).loc Cert.AdamwFfOneReferenceIdeal.main_arg2) = m ((c.tc : Thread Cert.AdamwFfOneIdeal.nD Cert.AdamwFfOneIdeal.τ).loc Cert.AdamwFfOneIdeal.main_arg2)
      ∧ m' ((c.tc : Thread Cert.AdamwFfOneReferenceIdeal.nD Cert.AdamwFfOneReferenceIdeal.τ).loc Cert.AdamwFfOneReferenceIdeal.main_arg3) = m ((c.tc : Thread Cert.AdamwFfOneIdeal.nD Cert.AdamwFfOneIdeal.τ).loc Cert.AdamwFfOneIdeal.main_arg3)) →
    ∃ (v0 : (c : Dev Cert.AdamwFfOneIdeal.nD) → Buf (Elt Ideal) ((c.tc : Thread Cert.AdamwFfOneIdeal.nD Cert.AdamwFfOneIdeal.τ).loc Cert.AdamwFfOneIdeal.main_v0_0)) (v1 : (c : Dev Cert.AdamwFfOneIdeal.nD) → Buf (Elt Ideal) ((c.tc : Thread Cert.AdamwFfOneIdeal.nD Cert.AdamwFfOneIdeal.τ).loc Cert.AdamwFfOneIdeal.main_v0_1)) (v2 : (c : Dev Cert.AdamwFfOneIdeal.nD) → Buf (Elt Ideal) ((c.tc : Thread Cert.AdamwFfOneIdeal.nD Cert.AdamwFfOneIdeal.τ).loc Cert.AdamwFfOneIdeal.main_v0_2)) (v3 : (c : Dev Cert.AdamwFfOneIdeal.nD) → Buf (Elt Ideal) ((c.tc : Thread Cert.AdamwFfOneIdeal.nD Cert.AdamwFfOneIdeal.τ).loc Cert.AdamwFfOneIdeal.main_v0_3)),
      θ_run (Cert.AdamwFfOneIdeal.defs (F := Ideal)) (onTc (τ := Cert.AdamwFfOneIdeal.τ) (Cert.AdamwFfOneIdeal.main (F := Ideal))) ⟨m, fun _ => 0, g⟩ (fun r => ∀ c : Dev Cert.AdamwFfOneIdeal.nD,
          r.2.mem ((c.tc : Thread Cert.AdamwFfOneIdeal.nD Cert.AdamwFfOneIdeal.τ).loc Cert.AdamwFfOneIdeal.main_v0_0) = v0 c
          ∧ r.2.mem ((c.tc : Thread Cert.AdamwFfOneIdeal.nD Cert.AdamwFfOneIdeal.τ).loc Cert.AdamwFfOneIdeal.main_v0_1) = v1 c
          ∧ r.2.mem ((c.tc : Thread Cert.AdamwFfOneIdeal.nD Cert.AdamwFfOneIdeal.τ).loc Cert.AdamwFfOneIdeal.main_v0_2) = v2 c
          ∧ r.2.mem ((c.tc : Thread Cert.AdamwFfOneIdeal.nD Cert.AdamwFfOneIdeal.τ).loc Cert.AdamwFfOneIdeal.main_v0_3) = v3 c
          ∧ r.2.mem ((c.tc : Thread Cert.AdamwFfOneIdeal.nD Cert.AdamwFfOneIdeal.τ).loc Cert.AdamwFfOneIdeal.main_arg0) = m ((c.tc : Thread Cert.AdamwFfOneIdeal.nD Cert.AdamwFfOneIdeal.τ).loc Cert.AdamwFfOneIdeal.main_arg0)
          ∧ r.2.mem ((c.tc : Thread Cert.AdamwFfOneIdeal.nD Cert.AdamwFfOneIdeal.τ).loc Cert.AdamwFfOneIdeal.main_arg1) = m ((c.tc : Thread Cert.AdamwFfOneIdeal.nD Cert.AdamwFfOneIdeal.τ).loc Cert.AdamwFfOneIdeal.main_arg1)
          ∧ r.2.mem ((c.tc : Thread Cert.AdamwFfOneIdeal.nD Cert.AdamwFfOneIdeal.τ).loc Cert.AdamwFfOneIdeal.main_arg2) = m ((c.tc : Thread Cert.AdamwFfOneIdeal.nD Cert.AdamwFfOneIdeal.τ).loc Cert.AdamwFfOneIdeal.main_arg2)
          ∧ r.2.mem ((c.tc : Thread Cert.AdamwFfOneIdeal.nD Cert.AdamwFfOneIdeal.τ).loc Cert.AdamwFfOneIdeal.main_arg3) = m ((c.tc : Thread Cert.AdamwFfOneIdeal.nD Cert.AdamwFfOneIdeal.τ).loc Cert.AdamwFfOneIdeal.main_arg3))
      ∧ θ_run (Cert.AdamwFfOneReferenceIdeal.defs (F := Ideal)) (onTc (τ := Cert.AdamwFfOneReferenceIdeal.τ) (Cert.AdamwFfOneReferenceIdeal.main (F := Ideal))) ⟨m', fun _ => 0, g'⟩ (fun r => ∀ c : Dev Cert.AdamwFfOneReferenceIdeal.nD,
          r.2.mem ((c.tc : Thread Cert.AdamwFfOneReferenceIdeal.nD Cert.AdamwFfOneReferenceIdeal.τ).loc Cert.AdamwFfOneReferenceIdeal.main_v2) = v0 c
          ∧ r.2.mem ((c.tc : Thread Cert.AdamwFfOneReferenceIdeal.nD Cert.AdamwFfOneReferenceIdeal.τ).loc Cert.AdamwFfOneReferenceIdeal.main_v26) = v1 c
          ∧ r.2.mem ((c.tc : Thread Cert.AdamwFfOneReferenceIdeal.nD Cert.AdamwFfOneReferenceIdeal.τ).loc Cert.AdamwFfOneReferenceIdeal.main_v7) = v2 c
          ∧ r.2.mem ((c.tc : Thread Cert.AdamwFfOneReferenceIdeal.nD Cert.AdamwFfOneReferenceIdeal.τ).loc Cert.AdamwFfOneReferenceIdeal.main_v13) = v3 c
          ∧ r.2.mem ((c.tc : Thread Cert.AdamwFfOneReferenceIdeal.nD Cert.AdamwFfOneReferenceIdeal.τ).loc Cert.AdamwFfOneReferenceIdeal.main_arg0) = m' ((c.tc : Thread Cert.AdamwFfOneReferenceIdeal.nD Cert.AdamwFfOneReferenceIdeal.τ).loc Cert.AdamwFfOneReferenceIdeal.main_arg0)
          ∧ r.2.mem ((c.tc : Thread Cert.AdamwFfOneReferenceIdeal.nD Cert.AdamwFfOneReferenceIdeal.τ).loc Cert.AdamwFfOneReferenceIdeal.main_arg1) = m' ((c.tc : Thread Cert.AdamwFfOneReferenceIdeal.nD Cert.AdamwFfOneReferenceIdeal.τ).loc Cert.AdamwFfOneReferenceIdeal.main_arg1)
          ∧ r.2.mem ((c.tc : Thread Cert.AdamwFfOneReferenceIdeal.nD Cert.AdamwFfOneReferenceIdeal.τ).loc Cert.AdamwFfOneReferenceIdeal.main_arg2) = m' ((c.tc : Thread Cert.AdamwFfOneReferenceIdeal.nD Cert.AdamwFfOneReferenceIdeal.τ).loc Cert.AdamwFfOneReferenceIdeal.main_arg2)
          ∧ r.2.mem ((c.tc : Thread Cert.AdamwFfOneReferenceIdeal.nD Cert.AdamwFfOneReferenceIdeal.τ).loc Cert.AdamwFfOneReferenceIdeal.main_arg3) = m' ((c.tc : Thread Cert.AdamwFfOneReferenceIdeal.nD Cert.AdamwFfOneReferenceIdeal.τ).loc Cert.AdamwFfOneReferenceIdeal.main_arg3))

def preserves_AdamwFfTwo_AdamwFfTwoIdeal : Prop :=
  True

def algebraic_AdamwFfTwoIdeal_AdamwFfTwoReferenceIdeal [hAdamwFfTwoIdeal : Cert.AdamwFfTwoIdeal.Facts] [hAdamwFfTwoReferenceIdeal : Cert.AdamwFfTwoReferenceIdeal.Facts] : Prop :=
  ∀ (m : (ℓ : Loc Cert.AdamwFfTwoIdeal.nD Cert.AdamwFfTwoIdeal.τ Cert.AdamwFfTwoIdeal.sig) → Buf (Elt Ideal) ℓ) (g : Dev Cert.AdamwFfTwoIdeal.nD → PrngReg)
    (m' : (ℓ : Loc Cert.AdamwFfTwoReferenceIdeal.nD Cert.AdamwFfTwoReferenceIdeal.τ Cert.AdamwFfTwoReferenceIdeal.sig) → Buf (Elt Ideal) ℓ) (g' : Dev Cert.AdamwFfTwoReferenceIdeal.nD → PrngReg), Pre_AdamwFfTwoIdeal m →
    (∀ c : Dev Cert.AdamwFfTwoIdeal.nD,
      m' ((c.tc : Thread Cert.AdamwFfTwoReferenceIdeal.nD Cert.AdamwFfTwoReferenceIdeal.τ).loc Cert.AdamwFfTwoReferenceIdeal.main_arg0) = m ((c.tc : Thread Cert.AdamwFfTwoIdeal.nD Cert.AdamwFfTwoIdeal.τ).loc Cert.AdamwFfTwoIdeal.main_arg0)
      ∧ m' ((c.tc : Thread Cert.AdamwFfTwoReferenceIdeal.nD Cert.AdamwFfTwoReferenceIdeal.τ).loc Cert.AdamwFfTwoReferenceIdeal.main_arg1) = m ((c.tc : Thread Cert.AdamwFfTwoIdeal.nD Cert.AdamwFfTwoIdeal.τ).loc Cert.AdamwFfTwoIdeal.main_arg1)
      ∧ m' ((c.tc : Thread Cert.AdamwFfTwoReferenceIdeal.nD Cert.AdamwFfTwoReferenceIdeal.τ).loc Cert.AdamwFfTwoReferenceIdeal.main_arg2) = m ((c.tc : Thread Cert.AdamwFfTwoIdeal.nD Cert.AdamwFfTwoIdeal.τ).loc Cert.AdamwFfTwoIdeal.main_arg2)
      ∧ m' ((c.tc : Thread Cert.AdamwFfTwoReferenceIdeal.nD Cert.AdamwFfTwoReferenceIdeal.τ).loc Cert.AdamwFfTwoReferenceIdeal.main_arg3) = m ((c.tc : Thread Cert.AdamwFfTwoIdeal.nD Cert.AdamwFfTwoIdeal.τ).loc Cert.AdamwFfTwoIdeal.main_arg3)) →
    ∃ (v0 : (c : Dev Cert.AdamwFfTwoIdeal.nD) → Buf (Elt Ideal) ((c.tc : Thread Cert.AdamwFfTwoIdeal.nD Cert.AdamwFfTwoIdeal.τ).loc Cert.AdamwFfTwoIdeal.main_v0_0)) (v1 : (c : Dev Cert.AdamwFfTwoIdeal.nD) → Buf (Elt Ideal) ((c.tc : Thread Cert.AdamwFfTwoIdeal.nD Cert.AdamwFfTwoIdeal.τ).loc Cert.AdamwFfTwoIdeal.main_v0_1)) (v2 : (c : Dev Cert.AdamwFfTwoIdeal.nD) → Buf (Elt Ideal) ((c.tc : Thread Cert.AdamwFfTwoIdeal.nD Cert.AdamwFfTwoIdeal.τ).loc Cert.AdamwFfTwoIdeal.main_v0_2)) (v3 : (c : Dev Cert.AdamwFfTwoIdeal.nD) → Buf (Elt Ideal) ((c.tc : Thread Cert.AdamwFfTwoIdeal.nD Cert.AdamwFfTwoIdeal.τ).loc Cert.AdamwFfTwoIdeal.main_v0_3)),
      θ_run (Cert.AdamwFfTwoIdeal.defs (F := Ideal)) (onTc (τ := Cert.AdamwFfTwoIdeal.τ) (Cert.AdamwFfTwoIdeal.main (F := Ideal))) ⟨m, fun _ => 0, g⟩ (fun r => ∀ c : Dev Cert.AdamwFfTwoIdeal.nD,
          r.2.mem ((c.tc : Thread Cert.AdamwFfTwoIdeal.nD Cert.AdamwFfTwoIdeal.τ).loc Cert.AdamwFfTwoIdeal.main_v0_0) = v0 c
          ∧ r.2.mem ((c.tc : Thread Cert.AdamwFfTwoIdeal.nD Cert.AdamwFfTwoIdeal.τ).loc Cert.AdamwFfTwoIdeal.main_v0_1) = v1 c
          ∧ r.2.mem ((c.tc : Thread Cert.AdamwFfTwoIdeal.nD Cert.AdamwFfTwoIdeal.τ).loc Cert.AdamwFfTwoIdeal.main_v0_2) = v2 c
          ∧ r.2.mem ((c.tc : Thread Cert.AdamwFfTwoIdeal.nD Cert.AdamwFfTwoIdeal.τ).loc Cert.AdamwFfTwoIdeal.main_v0_3) = v3 c
          ∧ r.2.mem ((c.tc : Thread Cert.AdamwFfTwoIdeal.nD Cert.AdamwFfTwoIdeal.τ).loc Cert.AdamwFfTwoIdeal.main_arg0) = m ((c.tc : Thread Cert.AdamwFfTwoIdeal.nD Cert.AdamwFfTwoIdeal.τ).loc Cert.AdamwFfTwoIdeal.main_arg0)
          ∧ r.2.mem ((c.tc : Thread Cert.AdamwFfTwoIdeal.nD Cert.AdamwFfTwoIdeal.τ).loc Cert.AdamwFfTwoIdeal.main_arg1) = m ((c.tc : Thread Cert.AdamwFfTwoIdeal.nD Cert.AdamwFfTwoIdeal.τ).loc Cert.AdamwFfTwoIdeal.main_arg1)
          ∧ r.2.mem ((c.tc : Thread Cert.AdamwFfTwoIdeal.nD Cert.AdamwFfTwoIdeal.τ).loc Cert.AdamwFfTwoIdeal.main_arg2) = m ((c.tc : Thread Cert.AdamwFfTwoIdeal.nD Cert.AdamwFfTwoIdeal.τ).loc Cert.AdamwFfTwoIdeal.main_arg2)
          ∧ r.2.mem ((c.tc : Thread Cert.AdamwFfTwoIdeal.nD Cert.AdamwFfTwoIdeal.τ).loc Cert.AdamwFfTwoIdeal.main_arg3) = m ((c.tc : Thread Cert.AdamwFfTwoIdeal.nD Cert.AdamwFfTwoIdeal.τ).loc Cert.AdamwFfTwoIdeal.main_arg3))
      ∧ θ_run (Cert.AdamwFfTwoReferenceIdeal.defs (F := Ideal)) (onTc (τ := Cert.AdamwFfTwoReferenceIdeal.τ) (Cert.AdamwFfTwoReferenceIdeal.main (F := Ideal))) ⟨m', fun _ => 0, g'⟩ (fun r => ∀ c : Dev Cert.AdamwFfTwoReferenceIdeal.nD,
          r.2.mem ((c.tc : Thread Cert.AdamwFfTwoReferenceIdeal.nD Cert.AdamwFfTwoReferenceIdeal.τ).loc Cert.AdamwFfTwoReferenceIdeal.main_v2) = v0 c
          ∧ r.2.mem ((c.tc : Thread Cert.AdamwFfTwoReferenceIdeal.nD Cert.AdamwFfTwoReferenceIdeal.τ).loc Cert.AdamwFfTwoReferenceIdeal.main_v26) = v1 c
          ∧ r.2.mem ((c.tc : Thread Cert.AdamwFfTwoReferenceIdeal.nD Cert.AdamwFfTwoReferenceIdeal.τ).loc Cert.AdamwFfTwoReferenceIdeal.main_v7) = v2 c
          ∧ r.2.mem ((c.tc : Thread Cert.AdamwFfTwoReferenceIdeal.nD Cert.AdamwFfTwoReferenceIdeal.τ).loc Cert.AdamwFfTwoReferenceIdeal.main_v13) = v3 c
          ∧ r.2.mem ((c.tc : Thread Cert.AdamwFfTwoReferenceIdeal.nD Cert.AdamwFfTwoReferenceIdeal.τ).loc Cert.AdamwFfTwoReferenceIdeal.main_arg0) = m' ((c.tc : Thread Cert.AdamwFfTwoReferenceIdeal.nD Cert.AdamwFfTwoReferenceIdeal.τ).loc Cert.AdamwFfTwoReferenceIdeal.main_arg0)
          ∧ r.2.mem ((c.tc : Thread Cert.AdamwFfTwoReferenceIdeal.nD Cert.AdamwFfTwoReferenceIdeal.τ).loc Cert.AdamwFfTwoReferenceIdeal.main_arg1) = m' ((c.tc : Thread Cert.AdamwFfTwoReferenceIdeal.nD Cert.AdamwFfTwoReferenceIdeal.τ).loc Cert.AdamwFfTwoReferenceIdeal.main_arg1)
          ∧ r.2.mem ((c.tc : Thread Cert.AdamwFfTwoReferenceIdeal.nD Cert.AdamwFfTwoReferenceIdeal.τ).loc Cert.AdamwFfTwoReferenceIdeal.main_arg2) = m' ((c.tc : Thread Cert.AdamwFfTwoReferenceIdeal.nD Cert.AdamwFfTwoReferenceIdeal.τ).loc Cert.AdamwFfTwoReferenceIdeal.main_arg2)
          ∧ r.2.mem ((c.tc : Thread Cert.AdamwFfTwoReferenceIdeal.nD Cert.AdamwFfTwoReferenceIdeal.τ).loc Cert.AdamwFfTwoReferenceIdeal.main_arg3) = m' ((c.tc : Thread Cert.AdamwFfTwoReferenceIdeal.nD Cert.AdamwFfTwoReferenceIdeal.τ).loc Cert.AdamwFfTwoReferenceIdeal.main_arg3))

def preserves_WModGrad_WModGradIdeal : Prop :=
  True

def algebraic_WModGradIdeal_WModGradReferenceIdeal [hWModGradIdeal : Cert.WModGradIdeal.Facts] [hWModGradReferenceIdeal : Cert.WModGradReferenceIdeal.Facts] : Prop :=
  ∀ (m : (ℓ : Loc Cert.WModGradIdeal.nD Cert.WModGradIdeal.τ Cert.WModGradIdeal.sig) → Buf (Elt Ideal) ℓ) (g : Dev Cert.WModGradIdeal.nD → PrngReg)
    (m' : (ℓ : Loc Cert.WModGradReferenceIdeal.nD Cert.WModGradReferenceIdeal.τ Cert.WModGradReferenceIdeal.sig) → Buf (Elt Ideal) ℓ) (g' : Dev Cert.WModGradReferenceIdeal.nD → PrngReg), Pre_WModGradIdeal m →
    (∀ c : Dev Cert.WModGradIdeal.nD,
      m' ((c.tc : Thread Cert.WModGradReferenceIdeal.nD Cert.WModGradReferenceIdeal.τ).loc Cert.WModGradReferenceIdeal.main_arg0) = m ((c.tc : Thread Cert.WModGradIdeal.nD Cert.WModGradIdeal.τ).loc Cert.WModGradIdeal.main_arg0)
      ∧ m' ((c.tc : Thread Cert.WModGradReferenceIdeal.nD Cert.WModGradReferenceIdeal.τ).loc Cert.WModGradReferenceIdeal.main_arg1) = m ((c.tc : Thread Cert.WModGradIdeal.nD Cert.WModGradIdeal.τ).loc Cert.WModGradIdeal.main_arg1)) →
    ∃ (v0 : (c : Dev Cert.WModGradIdeal.nD) → Buf (Elt Ideal) ((c.tc : Thread Cert.WModGradIdeal.nD Cert.WModGradIdeal.τ).loc Cert.WModGradIdeal.main_v2)),
      θ_run (Cert.WModGradIdeal.defs (F := Ideal)) (onTc (τ := Cert.WModGradIdeal.τ) (Cert.WModGradIdeal.main (F := Ideal))) ⟨m, fun _ => 0, g⟩ (fun r => ∀ c : Dev Cert.WModGradIdeal.nD,
          r.2.mem ((c.tc : Thread Cert.WModGradIdeal.nD Cert.WModGradIdeal.τ).loc Cert.WModGradIdeal.main_v2) = v0 c
          ∧ r.2.mem ((c.tc : Thread Cert.WModGradIdeal.nD Cert.WModGradIdeal.τ).loc Cert.WModGradIdeal.main_arg0) = m ((c.tc : Thread Cert.WModGradIdeal.nD Cert.WModGradIdeal.τ).loc Cert.WModGradIdeal.main_arg0)
          ∧ r.2.mem ((c.tc : Thread Cert.WModGradIdeal.nD Cert.WModGradIdeal.τ).loc Cert.WModGradIdeal.main_arg1) = m ((c.tc : Thread Cert.WModGradIdeal.nD Cert.WModGradIdeal.τ).loc Cert.WModGradIdeal.main_arg1))
      ∧ θ_run (Cert.WModGradReferenceIdeal.defs (F := Ideal)) (onTc (τ := Cert.WModGradReferenceIdeal.τ) (Cert.WModGradReferenceIdeal.main (F := Ideal))) ⟨m', fun _ => 0, g'⟩ (fun r => ∀ c : Dev Cert.WModGradReferenceIdeal.nD,
          r.2.mem ((c.tc : Thread Cert.WModGradReferenceIdeal.nD Cert.WModGradReferenceIdeal.τ).loc Cert.WModGradReferenceIdeal.main_v2) = v0 c
          ∧ r.2.mem ((c.tc : Thread Cert.WModGradReferenceIdeal.nD Cert.WModGradReferenceIdeal.τ).loc Cert.WModGradReferenceIdeal.main_arg0) = m' ((c.tc : Thread Cert.WModGradReferenceIdeal.nD Cert.WModGradReferenceIdeal.τ).loc Cert.WModGradReferenceIdeal.main_arg0)
          ∧ r.2.mem ((c.tc : Thread Cert.WModGradReferenceIdeal.nD Cert.WModGradReferenceIdeal.τ).loc Cert.WModGradReferenceIdeal.main_arg1) = m' ((c.tc : Thread Cert.WModGradReferenceIdeal.nD Cert.WModGradReferenceIdeal.τ).loc Cert.WModGradReferenceIdeal.main_arg1))

def preserves_SmallGrads_SmallGradsIdeal : Prop :=
  True

def algebraic_SmallGradsIdeal_SmallGradsReferenceIdeal [hSmallGradsIdeal : Cert.SmallGradsIdeal.Facts] [hSmallGradsReferenceIdeal : Cert.SmallGradsReferenceIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.SmallGradsReferenceIdeal.nD Cert.SmallGradsReferenceIdeal.τ Cert.SmallGradsReferenceIdeal.sig) → Buf (Elt Ideal) ℓ) (g' : Dev Cert.SmallGradsReferenceIdeal.nD → PrngReg), Pre_SmallGradsIdeal m →
    (∀ c : Dev Cert.SmallGradsIdeal.nD,
      m' ((c.tc : Thread Cert.SmallGradsReferenceIdeal.nD Cert.SmallGradsReferenceIdeal.τ).loc Cert.SmallGradsReferenceIdeal.main_arg0) = m ((c.tc : Thread Cert.SmallGradsIdeal.nD Cert.SmallGradsIdeal.τ).loc Cert.SmallGradsIdeal.main_arg0)) →
    ∃ (v0 : (c : Dev Cert.SmallGradsIdeal.nD) → Buf (Elt Ideal) ((c.tc : Thread Cert.SmallGradsIdeal.nD Cert.SmallGradsIdeal.τ).loc Cert.SmallGradsIdeal.main_v3)) (v1 : (c : Dev Cert.SmallGradsIdeal.nD) → Buf (Elt Ideal) ((c.tc : Thread Cert.SmallGradsIdeal.nD Cert.SmallGradsIdeal.τ).loc Cert.SmallGradsIdeal.main_v6)) (v2 : (c : Dev Cert.SmallGradsIdeal.nD) → Buf (Elt Ideal) ((c.tc : Thread Cert.SmallGradsIdeal.nD Cert.SmallGradsIdeal.τ).loc Cert.SmallGradsIdeal.main_v9)) (v3 : (c : Dev Cert.SmallGradsIdeal.nD) → Buf (Elt Ideal) ((c.tc : Thread Cert.SmallGradsIdeal.nD Cert.SmallGradsIdeal.τ).loc Cert.SmallGradsIdeal.main_v12)) (v4 : (c : Dev Cert.SmallGradsIdeal.nD) → Buf (Elt Ideal) ((c.tc : Thread Cert.SmallGradsIdeal.nD Cert.SmallGradsIdeal.τ).loc Cert.SmallGradsIdeal.main_v15)) (v5 : (c : Dev Cert.SmallGradsIdeal.nD) → Buf (Elt Ideal) ((c.tc : Thread Cert.SmallGradsIdeal.nD Cert.SmallGradsIdeal.τ).loc Cert.SmallGradsIdeal.main_v19)) (v6 : (c : Dev Cert.SmallGradsIdeal.nD) → Buf (Elt Ideal) ((c.tc : Thread Cert.SmallGradsIdeal.nD Cert.SmallGradsIdeal.τ).loc Cert.SmallGradsIdeal.main_v23)) (v7 : (c : Dev Cert.SmallGradsIdeal.nD) → Buf (Elt Ideal) ((c.tc : Thread Cert.SmallGradsIdeal.nD Cert.SmallGradsIdeal.τ).loc Cert.SmallGradsIdeal.main_v27)) (v8 : (c : Dev Cert.SmallGradsIdeal.nD) → Buf (Elt Ideal) ((c.tc : Thread Cert.SmallGradsIdeal.nD Cert.SmallGradsIdeal.τ).loc Cert.SmallGradsIdeal.main_v30)) (v9 : (c : Dev Cert.SmallGradsIdeal.nD) → Buf (Elt Ideal) ((c.tc : Thread Cert.SmallGradsIdeal.nD Cert.SmallGradsIdeal.τ).loc Cert.SmallGradsIdeal.main_v33)) (v10 : (c : Dev Cert.SmallGradsIdeal.nD) → Buf (Elt Ideal) ((c.tc : Thread Cert.SmallGradsIdeal.nD Cert.SmallGradsIdeal.τ).loc Cert.SmallGradsIdeal.main_v36)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v3) = v0 c
          ∧ r.2.mem ((c.tc : Thread Cert.SmallGradsIdeal.nD Cert.SmallGradsIdeal.τ).loc Cert.SmallGradsIdeal.main_v6) = v1 c
          ∧ r.2.mem ((c.tc : Thread Cert.SmallGradsIdeal.nD Cert.SmallGradsIdeal.τ).loc Cert.SmallGradsIdeal.main_v9) = v2 c
          ∧ r.2.mem ((c.tc : Thread Cert.SmallGradsIdeal.nD Cert.SmallGradsIdeal.τ).loc Cert.SmallGradsIdeal.main_v12) = v3 c
          ∧ r.2.mem ((c.tc : Thread Cert.SmallGradsIdeal.nD Cert.SmallGradsIdeal.τ).loc Cert.SmallGradsIdeal.main_v15) = v4 c
          ∧ r.2.mem ((c.tc : Thread Cert.SmallGradsIdeal.nD Cert.SmallGradsIdeal.τ).loc Cert.SmallGradsIdeal.main_v19) = v5 c
          ∧ r.2.mem ((c.tc : Thread Cert.SmallGradsIdeal.nD Cert.SmallGradsIdeal.τ).loc Cert.SmallGradsIdeal.main_v23) = v6 c
          ∧ r.2.mem ((c.tc : Thread Cert.SmallGradsIdeal.nD Cert.SmallGradsIdeal.τ).loc Cert.SmallGradsIdeal.main_v27) = v7 c
          ∧ r.2.mem ((c.tc : Thread Cert.SmallGradsIdeal.nD Cert.SmallGradsIdeal.τ).loc Cert.SmallGradsIdeal.main_v30) = v8 c
          ∧ r.2.mem ((c.tc : Thread Cert.SmallGradsIdeal.nD Cert.SmallGradsIdeal.τ).loc Cert.SmallGradsIdeal.main_v33) = v9 c
          ∧ r.2.mem ((c.tc : Thread Cert.SmallGradsIdeal.nD Cert.SmallGradsIdeal.τ).loc Cert.SmallGradsIdeal.main_v36) = v10 c
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0))
      ∧ θ_run (Cert.SmallGradsReferenceIdeal.defs (F := Ideal)) (onTc (τ := Cert.SmallGradsReferenceIdeal.τ) (Cert.SmallGradsReferenceIdeal.main (F := Ideal))) ⟨m', fun _ => 0, g'⟩ (fun r => ∀ c : Dev Cert.SmallGradsReferenceIdeal.nD,
          r.2.mem ((c.tc : Thread Cert.SmallGradsReferenceIdeal.nD Cert.SmallGradsReferenceIdeal.τ).loc Cert.SmallGradsReferenceIdeal.main_v3) = v0 c
          ∧ r.2.mem ((c.tc : Thread Cert.SmallGradsReferenceIdeal.nD Cert.SmallGradsReferenceIdeal.τ).loc Cert.SmallGradsReferenceIdeal.main_v6) = v1 c
          ∧ r.2.mem ((c.tc : Thread Cert.SmallGradsReferenceIdeal.nD Cert.SmallGradsReferenceIdeal.τ).loc Cert.SmallGradsReferenceIdeal.main_v9) = v2 c
          ∧ r.2.mem ((c.tc : Thread Cert.SmallGradsReferenceIdeal.nD Cert.SmallGradsReferenceIdeal.τ).loc Cert.SmallGradsReferenceIdeal.main_v12) = v3 c
          ∧ r.2.mem ((c.tc : Thread Cert.SmallGradsReferenceIdeal.nD Cert.SmallGradsReferenceIdeal.τ).loc Cert.SmallGradsReferenceIdeal.main_v15) = v4 c
          ∧ r.2.mem ((c.tc : Thread Cert.SmallGradsReferenceIdeal.nD Cert.SmallGradsReferenceIdeal.τ).loc Cert.SmallGradsReferenceIdeal.main_v18) = v5 c
          ∧ r.2.mem ((c.tc : Thread Cert.SmallGradsReferenceIdeal.nD Cert.SmallGradsReferenceIdeal.τ).loc Cert.SmallGradsReferenceIdeal.main_v21) = v6 c
          ∧ r.2.mem ((c.tc : Thread Cert.SmallGradsReferenceIdeal.nD Cert.SmallGradsReferenceIdeal.τ).loc Cert.SmallGradsReferenceIdeal.main_v24) = v7 c
          ∧ r.2.mem ((c.tc : Thread Cert.SmallGradsReferenceIdeal.nD Cert.SmallGradsReferenceIdeal.τ).loc Cert.SmallGradsReferenceIdeal.main_v27) = v8 c
          ∧ r.2.mem ((c.tc : Thread Cert.SmallGradsReferenceIdeal.nD Cert.SmallGradsReferenceIdeal.τ).loc Cert.SmallGradsReferenceIdeal.main_v30) = v9 c
          ∧ r.2.mem ((c.tc : Thread Cert.SmallGradsReferenceIdeal.nD Cert.SmallGradsReferenceIdeal.τ).loc Cert.SmallGradsReferenceIdeal.main_v33) = v10 c
          ∧ r.2.mem ((c.tc : Thread Cert.SmallGradsReferenceIdeal.nD Cert.SmallGradsReferenceIdeal.τ).loc Cert.SmallGradsReferenceIdeal.main_arg0) = m' ((c.tc : Thread Cert.SmallGradsReferenceIdeal.nD Cert.SmallGradsReferenceIdeal.τ).loc Cert.SmallGradsReferenceIdeal.main_arg0))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v41) = v0 c
          ∧ r.2.mem ((c.tc : Thread Cert.GradXReferenceIdeal.nD Cert.GradXReferenceIdeal.τ).loc Cert.GradXReferenceIdeal.main_v26) = v1 c
          ∧ r.2.mem ((c.tc : Thread Cert.GradXReferenceIdeal.nD Cert.GradXReferenceIdeal.τ).loc Cert.GradXReferenceIdeal.main_v23) = v2 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)) (v2 : (c : Dev Cert.FinalIdeal.nD) → Buf (Elt Ideal) ((c.tc : Thread Cert.FinalIdeal.nD Cert.FinalIdeal.τ).loc Cert.FinalIdeal.main_v1_2)) (v3 : (c : Dev Cert.FinalIdeal.nD) → Buf (Elt Ideal) ((c.tc : Thread Cert.FinalIdeal.nD Cert.FinalIdeal.τ).loc Cert.FinalIdeal.main_v1_3)) (v4 : (c : Dev Cert.FinalIdeal.nD) → Buf (Elt Ideal) ((c.tc : Thread Cert.FinalIdeal.nD Cert.FinalIdeal.τ).loc Cert.FinalIdeal.main_v1_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_v1_2) = v2 c
          ∧ r.2.mem ((c.tc : Thread Cert.FinalIdeal.nD Cert.FinalIdeal.τ).loc Cert.FinalIdeal.main_v1_3) = v3 c
          ∧ r.2.mem ((c.tc : Thread Cert.FinalIdeal.nD Cert.FinalIdeal.τ).loc Cert.FinalIdeal.main_v1_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v52) = v0 c
          ∧ r.2.mem ((c.tc : Thread Cert.FinalReferenceIdeal.nD Cert.FinalReferenceIdeal.τ).loc Cert.FinalReferenceIdeal.main_v58) = v1 c
          ∧ r.2.mem ((c.tc : Thread Cert.FinalReferenceIdeal.nD Cert.FinalReferenceIdeal.τ).loc Cert.FinalReferenceIdeal.main_v59) = v2 c
          ∧ r.2.mem ((c.tc : Thread Cert.FinalReferenceIdeal.nD Cert.FinalReferenceIdeal.τ).loc Cert.FinalReferenceIdeal.main_v57) = v3 c
          ∧ r.2.mem ((c.tc : Thread Cert.FinalReferenceIdeal.nD Cert.FinalReferenceIdeal.τ).loc Cert.FinalReferenceIdeal.main_v38) = v4 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v0) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_DownInGrad_DownInGradIdeal : Prop :=
  True

def algebraic_DownInGradIdeal_DownInGradReferenceIdeal [hDownInGradIdeal : Cert.DownInGradIdeal.Facts] [hDownInGradReferenceIdeal : Cert.DownInGradReferenceIdeal.Facts] : Prop :=
  ∀ (m : (ℓ : Loc Cert.DownInGradIdeal.nD Cert.DownInGradIdeal.τ Cert.DownInGradIdeal.sig) → Buf (Elt Ideal) ℓ) (g : Dev Cert.DownInGradIdeal.nD → PrngReg)
    (m' : (ℓ : Loc Cert.DownInGradReferenceIdeal.nD Cert.DownInGradReferenceIdeal.τ Cert.DownInGradReferenceIdeal.sig) → Buf (Elt Ideal) ℓ) (g' : Dev Cert.DownInGradReferenceIdeal.nD → PrngReg), Pre_DownInGradIdeal m →
    (∀ c : Dev Cert.DownInGradIdeal.nD,
      m' ((c.tc : Thread Cert.DownInGradReferenceIdeal.nD Cert.DownInGradReferenceIdeal.τ).loc Cert.DownInGradReferenceIdeal.main_arg0) = m ((c.tc : Thread Cert.DownInGradIdeal.nD Cert.DownInGradIdeal.τ).loc Cert.DownInGradIdeal.main_arg0)
      ∧ m' ((c.tc : Thread Cert.DownInGradReferenceIdeal.nD Cert.DownInGradReferenceIdeal.τ).loc Cert.DownInGradReferenceIdeal.main_arg1) = m ((c.tc : Thread Cert.DownInGradIdeal.nD Cert.DownInGradIdeal.τ).loc Cert.DownInGradIdeal.main_arg1)) →
    ∃ (v0 : (c : Dev Cert.DownInGradIdeal.nD) → Buf (Elt Ideal) ((c.tc : Thread Cert.DownInGradIdeal.nD Cert.DownInGradIdeal.τ).loc Cert.DownInGradIdeal.main_v0)),
      θ_run (Cert.DownInGradIdeal.defs (F := Ideal)) (onTc (τ := Cert.DownInGradIdeal.τ) (Cert.DownInGradIdeal.main (F := Ideal))) ⟨m, fun _ => 0, g⟩ (fun r => ∀ c : Dev Cert.DownInGradIdeal.nD,
          r.2.mem ((c.tc : Thread Cert.DownInGradIdeal.nD Cert.DownInGradIdeal.τ).loc Cert.DownInGradIdeal.main_v0) = v0 c
          ∧ r.2.mem ((c.tc : Thread Cert.DownInGradIdeal.nD Cert.DownInGradIdeal.τ).loc Cert.DownInGradIdeal.main_arg0) = m ((c.tc : Thread Cert.DownInGradIdeal.nD Cert.DownInGradIdeal.τ).loc Cert.DownInGradIdeal.main_arg0)
          ∧ r.2.mem ((c.tc : Thread Cert.DownInGradIdeal.nD Cert.DownInGradIdeal.τ).loc Cert.DownInGradIdeal.main_arg1) = m ((c.tc : Thread Cert.DownInGradIdeal.nD Cert.DownInGradIdeal.τ).loc Cert.DownInGradIdeal.main_arg1))
      ∧ θ_run (Cert.DownInGradReferenceIdeal.defs (F := Ideal)) (onTc (τ := Cert.DownInGradReferenceIdeal.τ) (Cert.DownInGradReferenceIdeal.main (F := Ideal))) ⟨m', fun _ => 0, g'⟩ (fun r => ∀ c : Dev Cert.DownInGradReferenceIdeal.nD,
          r.2.mem ((c.tc : Thread Cert.DownInGradReferenceIdeal.nD Cert.DownInGradReferenceIdeal.τ).loc Cert.DownInGradReferenceIdeal.main_v2) = v0 c
          ∧ r.2.mem ((c.tc : Thread Cert.DownInGradReferenceIdeal.nD Cert.DownInGradReferenceIdeal.τ).loc Cert.DownInGradReferenceIdeal.main_arg0) = m' ((c.tc : Thread Cert.DownInGradReferenceIdeal.nD Cert.DownInGradReferenceIdeal.τ).loc Cert.DownInGradReferenceIdeal.main_arg0)
          ∧ r.2.mem ((c.tc : Thread Cert.DownInGradReferenceIdeal.nD Cert.DownInGradReferenceIdeal.τ).loc Cert.DownInGradReferenceIdeal.main_arg1) = m' ((c.tc : Thread Cert.DownInGradReferenceIdeal.nD Cert.DownInGradReferenceIdeal.τ).loc Cert.DownInGradReferenceIdeal.main_arg1))

def preserves_UpInGrad_UpInGradIdeal : Prop :=
  True

def algebraic_UpInGradIdeal_UpInGradReferenceIdeal [hUpInGradIdeal : Cert.UpInGradIdeal.Facts] [hUpInGradReferenceIdeal : Cert.UpInGradReferenceIdeal.Facts] : Prop :=
  ∀ (m : (ℓ : Loc Cert.UpInGradIdeal.nD Cert.UpInGradIdeal.τ Cert.UpInGradIdeal.sig) → Buf (Elt Ideal) ℓ) (g : Dev Cert.UpInGradIdeal.nD → PrngReg)
    (m' : (ℓ : Loc Cert.UpInGradReferenceIdeal.nD Cert.UpInGradReferenceIdeal.τ Cert.UpInGradReferenceIdeal.sig) → Buf (Elt Ideal) ℓ) (g' : Dev Cert.UpInGradReferenceIdeal.nD → PrngReg), Pre_UpInGradIdeal m →
    (∀ c : Dev Cert.UpInGradIdeal.nD,
      m' ((c.tc : Thread Cert.UpInGradReferenceIdeal.nD Cert.UpInGradReferenceIdeal.τ).loc Cert.UpInGradReferenceIdeal.main_arg0) = m ((c.tc : Thread Cert.UpInGradIdeal.nD Cert.UpInGradIdeal.τ).loc Cert.UpInGradIdeal.main_arg0)
      ∧ m' ((c.tc : Thread Cert.UpInGradReferenceIdeal.nD Cert.UpInGradReferenceIdeal.τ).loc Cert.UpInGradReferenceIdeal.main_arg1) = m ((c.tc : Thread Cert.UpInGradIdeal.nD Cert.UpInGradIdeal.τ).loc Cert.UpInGradIdeal.main_arg1)) →
    ∃ (v0 : (c : Dev Cert.UpInGradIdeal.nD) → Buf (Elt Ideal) ((c.tc : Thread Cert.UpInGradIdeal.nD Cert.UpInGradIdeal.τ).loc Cert.UpInGradIdeal.main_v0)),
      θ_run (Cert.UpInGradIdeal.defs (F := Ideal)) (onTc (τ := Cert.UpInGradIdeal.τ) (Cert.UpInGradIdeal.main (F := Ideal))) ⟨m, fun _ => 0, g⟩ (fun r => ∀ c : Dev Cert.UpInGradIdeal.nD,
          r.2.mem ((c.tc : Thread Cert.UpInGradIdeal.nD Cert.UpInGradIdeal.τ).loc Cert.UpInGradIdeal.main_v0) = v0 c
          ∧ r.2.mem ((c.tc : Thread Cert.UpInGradIdeal.nD Cert.UpInGradIdeal.τ).loc Cert.UpInGradIdeal.main_arg0) = m ((c.tc : Thread Cert.UpInGradIdeal.nD Cert.UpInGradIdeal.τ).loc Cert.UpInGradIdeal.main_arg0)
          ∧ r.2.mem ((c.tc : Thread Cert.UpInGradIdeal.nD Cert.UpInGradIdeal.τ).loc Cert.UpInGradIdeal.main_arg1) = m ((c.tc : Thread Cert.UpInGradIdeal.nD Cert.UpInGradIdeal.τ).loc Cert.UpInGradIdeal.main_arg1))
      ∧ θ_run (Cert.UpInGradReferenceIdeal.defs (F := Ideal)) (onTc (τ := Cert.UpInGradReferenceIdeal.τ) (Cert.UpInGradReferenceIdeal.main (F := Ideal))) ⟨m', fun _ => 0, g'⟩ (fun r => ∀ c : Dev Cert.UpInGradReferenceIdeal.nD,
          r.2.mem ((c.tc : Thread Cert.UpInGradReferenceIdeal.nD Cert.UpInGradReferenceIdeal.τ).loc Cert.UpInGradReferenceIdeal.main_v1) = v0 c
          ∧ r.2.mem ((c.tc : Thread Cert.UpInGradReferenceIdeal.nD Cert.UpInGradReferenceIdeal.τ).loc Cert.UpInGradReferenceIdeal.main_arg0) = m' ((c.tc : Thread Cert.UpInGradReferenceIdeal.nD Cert.UpInGradReferenceIdeal.τ).loc Cert.UpInGradReferenceIdeal.main_arg0)
          ∧ r.2.mem ((c.tc : Thread Cert.UpInGradReferenceIdeal.nD Cert.UpInGradReferenceIdeal.τ).loc Cert.UpInGradReferenceIdeal.main_arg1) = m' ((c.tc : Thread Cert.UpInGradReferenceIdeal.nD Cert.UpInGradReferenceIdeal.τ).loc Cert.UpInGradReferenceIdeal.main_arg1))

def preserves_OutInGrad_OutInGradIdeal : Prop :=
  True

def algebraic_OutInGradIdeal_OutInGradReferenceIdeal [hOutInGradIdeal : Cert.OutInGradIdeal.Facts] [hOutInGradReferenceIdeal : Cert.OutInGradReferenceIdeal.Facts] : Prop :=
  ∀ (m : (ℓ : Loc Cert.OutInGradIdeal.nD Cert.OutInGradIdeal.τ Cert.OutInGradIdeal.sig) → Buf (Elt Ideal) ℓ) (g : Dev Cert.OutInGradIdeal.nD → PrngReg)
    (m' : (ℓ : Loc Cert.OutInGradReferenceIdeal.nD Cert.OutInGradReferenceIdeal.τ Cert.OutInGradReferenceIdeal.sig) → Buf (Elt Ideal) ℓ) (g' : Dev Cert.OutInGradReferenceIdeal.nD → PrngReg), Pre_OutInGradIdeal m →
    (∀ c : Dev Cert.OutInGradIdeal.nD,
      m' ((c.tc : Thread Cert.OutInGradReferenceIdeal.nD Cert.OutInGradReferenceIdeal.τ).loc Cert.OutInGradReferenceIdeal.main_arg0) = m ((c.tc : Thread Cert.OutInGradIdeal.nD Cert.OutInGradIdeal.τ).loc Cert.OutInGradIdeal.main_arg0)
      ∧ m' ((c.tc : Thread Cert.OutInGradReferenceIdeal.nD Cert.OutInGradReferenceIdeal.τ).loc Cert.OutInGradReferenceIdeal.main_arg1) = m ((c.tc : Thread Cert.OutInGradIdeal.nD Cert.OutInGradIdeal.τ).loc Cert.OutInGradIdeal.main_arg1)) →
    ∃ (v0 : (c : Dev Cert.OutInGradIdeal.nD) → Buf (Elt Ideal) ((c.tc : Thread Cert.OutInGradIdeal.nD Cert.OutInGradIdeal.τ).loc Cert.OutInGradIdeal.main_v0)),
      θ_run (Cert.OutInGradIdeal.defs (F := Ideal)) (onTc (τ := Cert.OutInGradIdeal.τ) (Cert.OutInGradIdeal.main (F := Ideal))) ⟨m, fun _ => 0, g⟩ (fun r => ∀ c : Dev Cert.OutInGradIdeal.nD,
          r.2.mem ((c.tc : Thread Cert.OutInGradIdeal.nD Cert.OutInGradIdeal.τ).loc Cert.OutInGradIdeal.main_v0) = v0 c
          ∧ r.2.mem ((c.tc : Thread Cert.OutInGradIdeal.nD Cert.OutInGradIdeal.τ).loc Cert.OutInGradIdeal.main_arg0) = m ((c.tc : Thread Cert.OutInGradIdeal.nD Cert.OutInGradIdeal.τ).loc Cert.OutInGradIdeal.main_arg0)
          ∧ r.2.mem ((c.tc : Thread Cert.OutInGradIdeal.nD Cert.OutInGradIdeal.τ).loc Cert.OutInGradIdeal.main_arg1) = m ((c.tc : Thread Cert.OutInGradIdeal.nD Cert.OutInGradIdeal.τ).loc Cert.OutInGradIdeal.main_arg1))
      ∧ θ_run (Cert.OutInGradReferenceIdeal.defs (F := Ideal)) (onTc (τ := Cert.OutInGradReferenceIdeal.τ) (Cert.OutInGradReferenceIdeal.main (F := Ideal))) ⟨m', fun _ => 0, g'⟩ (fun r => ∀ c : Dev Cert.OutInGradReferenceIdeal.nD,
          r.2.mem ((c.tc : Thread Cert.OutInGradReferenceIdeal.nD Cert.OutInGradReferenceIdeal.τ).loc Cert.OutInGradReferenceIdeal.main_v1) = v0 c
          ∧ r.2.mem ((c.tc : Thread Cert.OutInGradReferenceIdeal.nD Cert.OutInGradReferenceIdeal.τ).loc Cert.OutInGradReferenceIdeal.main_arg0) = m' ((c.tc : Thread Cert.OutInGradReferenceIdeal.nD Cert.OutInGradReferenceIdeal.τ).loc Cert.OutInGradReferenceIdeal.main_arg0)
          ∧ r.2.mem ((c.tc : Thread Cert.OutInGradReferenceIdeal.nD Cert.OutInGradReferenceIdeal.τ).loc Cert.OutInGradReferenceIdeal.main_arg1) = m' ((c.tc : Thread Cert.OutInGradReferenceIdeal.nD Cert.OutInGradReferenceIdeal.τ).loc Cert.OutInGradReferenceIdeal.main_arg1))

def preserves_BranchInGrad_BranchInGradIdeal : Prop :=
  True

def algebraic_BranchInGradIdeal_BranchInGradReferenceIdeal [hBranchInGradIdeal : Cert.BranchInGradIdeal.Facts] [hBranchInGradReferenceIdeal : Cert.BranchInGradReferenceIdeal.Facts] : Prop :=
  ∀ (m : (ℓ : Loc Cert.BranchInGradIdeal.nD Cert.BranchInGradIdeal.τ Cert.BranchInGradIdeal.sig) → Buf (Elt Ideal) ℓ) (g : Dev Cert.BranchInGradIdeal.nD → PrngReg)
    (m' : (ℓ : Loc Cert.BranchInGradReferenceIdeal.nD Cert.BranchInGradReferenceIdeal.τ Cert.BranchInGradReferenceIdeal.sig) → Buf (Elt Ideal) ℓ) (g' : Dev Cert.BranchInGradReferenceIdeal.nD → PrngReg), Pre_BranchInGradIdeal m →
    (∀ c : Dev Cert.BranchInGradIdeal.nD,
      m' ((c.tc : Thread Cert.BranchInGradReferenceIdeal.nD Cert.BranchInGradReferenceIdeal.τ).loc Cert.BranchInGradReferenceIdeal.main_arg0) = m ((c.tc : Thread Cert.BranchInGradIdeal.nD Cert.BranchInGradIdeal.τ).loc Cert.BranchInGradIdeal.main_arg0)
      ∧ m' ((c.tc : Thread Cert.BranchInGradReferenceIdeal.nD Cert.BranchInGradReferenceIdeal.τ).loc Cert.BranchInGradReferenceIdeal.main_arg1) = m ((c.tc : Thread Cert.BranchInGradIdeal.nD Cert.BranchInGradIdeal.τ).loc Cert.BranchInGradIdeal.main_arg1)) →
    ∃ (v0 : (c : Dev Cert.BranchInGradIdeal.nD) → Buf (Elt Ideal) ((c.tc : Thread Cert.BranchInGradIdeal.nD Cert.BranchInGradIdeal.τ).loc Cert.BranchInGradIdeal.main_v0)),
      θ_run (Cert.BranchInGradIdeal.defs (F := Ideal)) (onTc (τ := Cert.BranchInGradIdeal.τ) (Cert.BranchInGradIdeal.main (F := Ideal))) ⟨m, fun _ => 0, g⟩ (fun r => ∀ c : Dev Cert.BranchInGradIdeal.nD,
          r.2.mem ((c.tc : Thread Cert.BranchInGradIdeal.nD Cert.BranchInGradIdeal.τ).loc Cert.BranchInGradIdeal.main_v0) = v0 c
          ∧ r.2.mem ((c.tc : Thread Cert.BranchInGradIdeal.nD Cert.BranchInGradIdeal.τ).loc Cert.BranchInGradIdeal.main_arg0) = m ((c.tc : Thread Cert.BranchInGradIdeal.nD Cert.BranchInGradIdeal.τ).loc Cert.BranchInGradIdeal.main_arg0)
          ∧ r.2.mem ((c.tc : Thread Cert.BranchInGradIdeal.nD Cert.BranchInGradIdeal.τ).loc Cert.BranchInGradIdeal.main_arg1) = m ((c.tc : Thread Cert.BranchInGradIdeal.nD Cert.BranchInGradIdeal.τ).loc Cert.BranchInGradIdeal.main_arg1))
      ∧ θ_run (Cert.BranchInGradReferenceIdeal.defs (F := Ideal)) (onTc (τ := Cert.BranchInGradReferenceIdeal.τ) (Cert.BranchInGradReferenceIdeal.main (F := Ideal))) ⟨m', fun _ => 0, g'⟩ (fun r => ∀ c : Dev Cert.BranchInGradReferenceIdeal.nD,
          r.2.mem ((c.tc : Thread Cert.BranchInGradReferenceIdeal.nD Cert.BranchInGradReferenceIdeal.τ).loc Cert.BranchInGradReferenceIdeal.main_v2) = v0 c
          ∧ r.2.mem ((c.tc : Thread Cert.BranchInGradReferenceIdeal.nD Cert.BranchInGradReferenceIdeal.τ).loc Cert.BranchInGradReferenceIdeal.main_arg0) = m' ((c.tc : Thread Cert.BranchInGradReferenceIdeal.nD Cert.BranchInGradReferenceIdeal.τ).loc Cert.BranchInGradReferenceIdeal.main_arg0)
          ∧ r.2.mem ((c.tc : Thread Cert.BranchInGradReferenceIdeal.nD Cert.BranchInGradReferenceIdeal.τ).loc Cert.BranchInGradReferenceIdeal.main_arg1) = m' ((c.tc : Thread Cert.BranchInGradReferenceIdeal.nD Cert.BranchInGradReferenceIdeal.τ).loc Cert.BranchInGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v2) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v2) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v2) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_BranchGrad_BranchGradIdeal : Prop :=
  True

def algebraic_BranchGradIdeal_BranchGradReferenceIdeal [hBranchGradIdeal : Cert.BranchGradIdeal.Facts] [hBranchGradReferenceIdeal : Cert.BranchGradReferenceIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg)
    (m' : (ℓ : Loc Cert.BranchGradReferenceIdeal.nD Cert.BranchGradReferenceIdeal.τ Cert.BranchGradReferenceIdeal.sig) → Buf (Elt Ideal) ℓ) (g' : Dev Cert.BranchGradReferenceIdeal.nD → PrngReg), Pre_BranchGradIdeal m →
    (∀ c : Dev Cert.BranchGradIdeal.nD,
      m' ((c.tc : Thread Cert.BranchGradReferenceIdeal.nD Cert.BranchGradReferenceIdeal.τ).loc Cert.BranchGradReferenceIdeal.main_arg0) = m ((c.tc : Thread Cert.BranchGradIdeal.nD Cert.BranchGradIdeal.τ).loc Cert.BranchGradIdeal.main_arg0)
      ∧ m' ((c.tc : Thread Cert.BranchGradReferenceIdeal.nD Cert.BranchGradReferenceIdeal.τ).loc Cert.BranchGradReferenceIdeal.main_arg1) = m ((c.tc : Thread Cert.BranchGradIdeal.nD Cert.BranchGradIdeal.τ).loc Cert.BranchGradIdeal.main_arg1)) →
    ∃ (v0 : (c : Dev Cert.BranchGradIdeal.nD) → Buf (Elt Ideal) ((c.tc : Thread Cert.BranchGradIdeal.nD Cert.BranchGradIdeal.τ).loc Cert.BranchGradIdeal.main_v0)),
      θ_run (Cert.BranchGradIdeal.defs (F := Ideal)) (onTc (τ := Cert.BranchGradIdeal.τ) (Cert.BranchGradIdeal.main (F := Ideal))) ⟨m, fun _ => 0, g⟩ (fun r => ∀ c : Dev Cert.BranchGradIdeal.nD,
          r.2.mem ((c.tc : Thread Cert.BranchGradIdeal.nD Cert.BranchGradIdeal.τ).loc Cert.BranchGradIdeal.main_v0) = v0 c
          ∧ r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ θ_run (Cert.BranchGradReferenceIdeal.defs (F := Ideal)) (onTc (τ := Cert.BranchGradReferenceIdeal.τ) (Cert.BranchGradReferenceIdeal.main (F := Ideal))) ⟨m', fun _ => 0, g'⟩ (fun r => ∀ c : Dev Cert.BranchGradReferenceIdeal.nD,
          r.2.mem ((c.tc : Thread Cert.BranchGradReferenceIdeal.nD Cert.BranchGradReferenceIdeal.τ).loc Cert.BranchGradReferenceIdeal.main_v2) = v0 c
          ∧ r.2.mem ((c.tc : Thread Cert.BranchGradReferenceIdeal.nD Cert.BranchGradReferenceIdeal.τ).loc Cert.BranchGradReferenceIdeal.main_arg0) = m' ((c.tc : Thread Cert.BranchGradReferenceIdeal.nD Cert.BranchGradReferenceIdeal.τ).loc Cert.BranchGradReferenceIdeal.main_arg0)
          ∧ r.2.mem ((c.tc : Thread Cert.BranchGradReferenceIdeal.nD Cert.BranchGradReferenceIdeal.τ).loc Cert.BranchGradReferenceIdeal.main_arg1) = m' ((c.tc : Thread Cert.BranchGradReferenceIdeal.nD Cert.BranchGradReferenceIdeal.τ).loc Cert.BranchGradReferenceIdeal.main_arg1))

def preserves_Dt_DtIdeal : Prop :=
  True

def algebraic_DtIdeal_DtReferenceIdeal [hDtIdeal : Cert.DtIdeal.Facts] [hDtReferenceIdeal : Cert.DtReferenceIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtIdeal m →
    (∀ c : Dev Cert.DtIdeal.nD,
      m' ((c.tc : Thread Cert.DtReferenceIdeal.nD Cert.DtReferenceIdeal.τ).loc Cert.DtReferenceIdeal.main_arg0) = m ((c.tc : Thread Cert.DtIdeal.nD Cert.DtIdeal.τ).loc Cert.DtIdeal.main_arg0)
      ∧ m' ((c.tc : Thread Cert.DtReferenceIdeal.nD Cert.DtReferenceIdeal.τ).loc Cert.DtReferenceIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v0) = v0 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1))

def preserves_JoinedInGrad_JoinedInGradIdeal : Prop :=
  True

def algebraic_JoinedInGradIdeal_JoinedInGradReferenceIdeal [hJoinedInGradIdeal : Cert.JoinedInGradIdeal.Facts] [hJoinedInGradReferenceIdeal : Cert.JoinedInGradReferenceIdeal.Facts] : Prop :=
  ∀ (m : (ℓ : Loc Cert.JoinedInGradIdeal.nD Cert.JoinedInGradIdeal.τ Cert.JoinedInGradIdeal.sig) → Buf (Elt Ideal) ℓ) (g : Dev Cert.JoinedInGradIdeal.nD → PrngReg)
    (m' : (ℓ : Loc Cert.JoinedInGradReferenceIdeal.nD Cert.JoinedInGradReferenceIdeal.τ Cert.JoinedInGradReferenceIdeal.sig) → Buf (Elt Ideal) ℓ) (g' : Dev Cert.JoinedInGradReferenceIdeal.nD → PrngReg), Pre_JoinedInGradIdeal m →
    (∀ c : Dev Cert.JoinedInGradIdeal.nD,
      m' ((c.tc : Thread Cert.JoinedInGradReferenceIdeal.nD Cert.JoinedInGradReferenceIdeal.τ).loc Cert.JoinedInGradReferenceIdeal.main_arg0) = m ((c.tc : Thread Cert.JoinedInGradIdeal.nD Cert.JoinedInGradIdeal.τ).loc Cert.JoinedInGradIdeal.main_arg0)
      ∧ m' ((c.tc : Thread Cert.JoinedInGradReferenceIdeal.nD Cert.JoinedInGradReferenceIdeal.τ).loc Cert.JoinedInGradReferenceIdeal.main_arg1) = m ((c.tc : Thread Cert.JoinedInGradIdeal.nD Cert.JoinedInGradIdeal.τ).loc Cert.JoinedInGradIdeal.main_arg1)) →
    ∃ (v0 : (c : Dev Cert.JoinedInGradIdeal.nD) → Buf (Elt Ideal) ((c.tc : Thread Cert.JoinedInGradIdeal.nD Cert.JoinedInGradIdeal.τ).loc Cert.JoinedInGradIdeal.main_v0)),
      θ_run (Cert.JoinedInGradIdeal.defs (F := Ideal)) (onTc (τ := Cert.JoinedInGradIdeal.τ) (Cert.JoinedInGradIdeal.main (F := Ideal))) ⟨m, fun _ => 0, g⟩ (fun r => ∀ c : Dev Cert.JoinedInGradIdeal.nD,
          r.2.mem ((c.tc : Thread Cert.JoinedInGradIdeal.nD Cert.JoinedInGradIdeal.τ).loc Cert.JoinedInGradIdeal.main_v0) = v0 c
          ∧ r.2.mem ((c.tc : Thread Cert.JoinedInGradIdeal.nD Cert.JoinedInGradIdeal.τ).loc Cert.JoinedInGradIdeal.main_arg0) = m ((c.tc : Thread Cert.JoinedInGradIdeal.nD Cert.JoinedInGradIdeal.τ).loc Cert.JoinedInGradIdeal.main_arg0)
          ∧ r.2.mem ((c.tc : Thread Cert.JoinedInGradIdeal.nD Cert.JoinedInGradIdeal.τ).loc Cert.JoinedInGradIdeal.main_arg1) = m ((c.tc : Thread Cert.JoinedInGradIdeal.nD Cert.JoinedInGradIdeal.τ).loc Cert.JoinedInGradIdeal.main_arg1))
      ∧ θ_run (Cert.JoinedInGradReferenceIdeal.defs (F := Ideal)) (onTc (τ := Cert.JoinedInGradReferenceIdeal.τ) (Cert.JoinedInGradReferenceIdeal.main (F := Ideal))) ⟨m', fun _ => 0, g'⟩ (fun r => ∀ c : Dev Cert.JoinedInGradReferenceIdeal.nD,
          r.2.mem ((c.tc : Thread Cert.JoinedInGradReferenceIdeal.nD Cert.JoinedInGradReferenceIdeal.τ).loc Cert.JoinedInGradReferenceIdeal.main_v1) = v0 c
          ∧ r.2.mem ((c.tc : Thread Cert.JoinedInGradReferenceIdeal.nD Cert.JoinedInGradReferenceIdeal.τ).loc Cert.JoinedInGradReferenceIdeal.main_arg0) = m' ((c.tc : Thread Cert.JoinedInGradReferenceIdeal.nD Cert.JoinedInGradReferenceIdeal.τ).loc Cert.JoinedInGradReferenceIdeal.main_arg0)
          ∧ r.2.mem ((c.tc : Thread Cert.JoinedInGradReferenceIdeal.nD Cert.JoinedInGradReferenceIdeal.τ).loc Cert.JoinedInGradReferenceIdeal.main_arg1) = m' ((c.tc : Thread Cert.JoinedInGradReferenceIdeal.nD Cert.JoinedInGradReferenceIdeal.τ).loc Cert.JoinedInGradReferenceIdeal.main_arg1))

def preserves_JoinedGrad_JoinedGradIdeal : Prop :=
  True

def algebraic_JoinedGradIdeal_JoinedGradReferenceIdeal [hJoinedGradIdeal : Cert.JoinedGradIdeal.Facts] [hJoinedGradReferenceIdeal : Cert.JoinedGradReferenceIdeal.Facts] : Prop :=
  ∀ (m : (ℓ : Loc Cert.JoinedGradIdeal.nD Cert.JoinedGradIdeal.τ Cert.JoinedGradIdeal.sig) → Buf (Elt Ideal) ℓ) (g : Dev Cert.JoinedGradIdeal.nD → PrngReg)
    (m' : (ℓ : Loc Cert.JoinedGradReferenceIdeal.nD Cert.JoinedGradReferenceIdeal.τ Cert.JoinedGradReferenceIdeal.sig) → Buf (Elt Ideal) ℓ) (g' : Dev Cert.JoinedGradReferenceIdeal.nD → PrngReg), Pre_JoinedGradIdeal m →
    (∀ c : Dev Cert.JoinedGradIdeal.nD,
      m' ((c.tc : Thread Cert.JoinedGradReferenceIdeal.nD Cert.JoinedGradReferenceIdeal.τ).loc Cert.JoinedGradReferenceIdeal.main_arg0) = m ((c.tc : Thread Cert.JoinedGradIdeal.nD Cert.JoinedGradIdeal.τ).loc Cert.JoinedGradIdeal.main_arg0)
      ∧ m' ((c.tc : Thread Cert.JoinedGradReferenceIdeal.nD Cert.JoinedGradReferenceIdeal.τ).loc Cert.JoinedGradReferenceIdeal.main_arg1) = m ((c.tc : Thread Cert.JoinedGradIdeal.nD Cert.JoinedGradIdeal.τ).loc Cert.JoinedGradIdeal.main_arg1)) →
    ∃ (v0 : (c : Dev Cert.JoinedGradIdeal.nD) → Buf (Elt Ideal) ((c.tc : Thread Cert.JoinedGradIdeal.nD Cert.JoinedGradIdeal.τ).loc Cert.JoinedGradIdeal.main_v0)),
      θ_run (Cert.JoinedGradIdeal.defs (F := Ideal)) (onTc (τ := Cert.JoinedGradIdeal.τ) (Cert.JoinedGradIdeal.main (F := Ideal))) ⟨m, fun _ => 0, g⟩ (fun r => ∀ c : Dev Cert.JoinedGradIdeal.nD,
          r.2.mem ((c.tc : Thread Cert.JoinedGradIdeal.nD Cert.JoinedGradIdeal.τ).loc Cert.JoinedGradIdeal.main_v0) = v0 c
          ∧ r.2.mem ((c.tc : Thread Cert.JoinedGradIdeal.nD Cert.JoinedGradIdeal.τ).loc Cert.JoinedGradIdeal.main_arg0) = m ((c.tc : Thread Cert.JoinedGradIdeal.nD Cert.JoinedGradIdeal.τ).loc Cert.JoinedGradIdeal.main_arg0)
          ∧ r.2.mem ((c.tc : Thread Cert.JoinedGradIdeal.nD Cert.JoinedGradIdeal.τ).loc Cert.JoinedGradIdeal.main_arg1) = m ((c.tc : Thread Cert.JoinedGradIdeal.nD Cert.JoinedGradIdeal.τ).loc Cert.JoinedGradIdeal.main_arg1))
      ∧ θ_run (Cert.JoinedGradReferenceIdeal.defs (F := Ideal)) (onTc (τ := Cert.JoinedGradReferenceIdeal.τ) (Cert.JoinedGradReferenceIdeal.main (F := Ideal))) ⟨m', fun _ => 0, g'⟩ (fun r => ∀ c : Dev Cert.JoinedGradReferenceIdeal.nD,
          r.2.mem ((c.tc : Thread Cert.JoinedGradReferenceIdeal.nD Cert.JoinedGradReferenceIdeal.τ).loc Cert.JoinedGradReferenceIdeal.main_v2) = v0 c
          ∧ r.2.mem ((c.tc : Thread Cert.JoinedGradReferenceIdeal.nD Cert.JoinedGradReferenceIdeal.τ).loc Cert.JoinedGradReferenceIdeal.main_arg0) = m' ((c.tc : Thread Cert.JoinedGradReferenceIdeal.nD Cert.JoinedGradReferenceIdeal.τ).loc Cert.JoinedGradReferenceIdeal.main_arg0)
          ∧ r.2.mem ((c.tc : Thread Cert.JoinedGradReferenceIdeal.nD Cert.JoinedGradReferenceIdeal.τ).loc Cert.JoinedGradReferenceIdeal.main_arg1) = m' ((c.tc : Thread Cert.JoinedGradReferenceIdeal.nD Cert.JoinedGradReferenceIdeal.τ).loc Cert.JoinedGradReferenceIdeal.main_arg1))

def preserves_Joined_JoinedIdeal : Prop :=
  True

def algebraic_JoinedIdeal_JoinedReferenceIdeal [hJoinedIdeal : Cert.JoinedIdeal.Facts] [hJoinedReferenceIdeal : Cert.JoinedReferenceIdeal.Facts] : Prop :=
  ∀ (m : (ℓ : Loc Cert.JoinedIdeal.nD Cert.JoinedIdeal.τ Cert.JoinedIdeal.sig) → Buf (Elt Ideal) ℓ) (g : Dev Cert.JoinedIdeal.nD → PrngReg)
    (m' : (ℓ : Loc Cert.JoinedReferenceIdeal.nD Cert.JoinedReferenceIdeal.τ Cert.JoinedReferenceIdeal.sig) → Buf (Elt Ideal) ℓ) (g' : Dev Cert.JoinedReferenceIdeal.nD → PrngReg), Pre_JoinedIdeal m →
    (∀ c : Dev Cert.JoinedIdeal.nD,
      m' ((c.tc : Thread Cert.JoinedReferenceIdeal.nD Cert.JoinedReferenceIdeal.τ).loc Cert.JoinedReferenceIdeal.main_arg0) = m ((c.tc : Thread Cert.JoinedIdeal.nD Cert.JoinedIdeal.τ).loc Cert.JoinedIdeal.main_arg0)
      ∧ m' ((c.tc : Thread Cert.JoinedReferenceIdeal.nD Cert.JoinedReferenceIdeal.τ).loc Cert.JoinedReferenceIdeal.main_arg1) = m ((c.tc : Thread Cert.JoinedIdeal.nD Cert.JoinedIdeal.τ).loc Cert.JoinedIdeal.main_arg1)) →
    ∃ (v0 : (c : Dev Cert.JoinedIdeal.nD) → Buf (Elt Ideal) ((c.tc : Thread Cert.JoinedIdeal.nD Cert.JoinedIdeal.τ).loc Cert.JoinedIdeal.main_v0)),
      θ_run (Cert.JoinedIdeal.defs (F := Ideal)) (onTc (τ := Cert.JoinedIdeal.τ) (Cert.JoinedIdeal.main (F := Ideal))) ⟨m, fun _ => 0, g⟩ (fun r => ∀ c : Dev Cert.JoinedIdeal.nD,
          r.2.mem ((c.tc : Thread Cert.JoinedIdeal.nD Cert.JoinedIdeal.τ).loc Cert.JoinedIdeal.main_v0) = v0 c
          ∧ r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
          ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1))
      ∧ θ_run (Cert.JoinedReferenceIdeal.defs (F := Ideal)) (onTc (τ := Cert.JoinedReferenceIdeal.τ) (Cert.JoinedReferenceIdeal.main (F := Ideal))) ⟨m', fun _ => 0, g'⟩ (fun r => ∀ c : Dev Cert.JoinedReferenceIdeal.nD,
          r.2.mem ((c.tc : Thread Cert.JoinedReferenceIdeal.nD Cert.JoinedReferenceIdeal.τ).loc Cert.JoinedReferenceIdeal.main_v2) = v0 c
          ∧ r.2.mem ((c.tc : Thread Cert.JoinedReferenceIdeal.nD Cert.JoinedReferenceIdeal.τ).loc Cert.JoinedReferenceIdeal.main_arg0) = m' ((c.tc : Thread Cert.JoinedReferenceIdeal.nD Cert.JoinedReferenceIdeal.τ).loc Cert.JoinedReferenceIdeal.main_arg0)
          ∧ r.2.mem ((c.tc : Thread Cert.JoinedReferenceIdeal.nD Cert.JoinedReferenceIdeal.τ).loc Cert.JoinedReferenceIdeal.main_arg1) = m' ((c.tc : Thread Cert.JoinedReferenceIdeal.nD Cert.JoinedReferenceIdeal.τ).loc Cert.JoinedReferenceIdeal.main_arg1))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v16) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2))

def preserves_SquaredRelu_SquaredReluIdeal : Prop :=
  True

def algebraic_SquaredReluIdeal_SquaredReluReferenceIdeal [hSquaredReluIdeal : Cert.SquaredReluIdeal.Facts] [hSquaredReluReferenceIdeal : Cert.SquaredReluReferenceIdeal.Facts] : Prop :=
  ∀ (m : (ℓ : Loc Cert.SquaredReluIdeal.nD Cert.SquaredReluIdeal.τ Cert.SquaredReluIdeal.sig) → Buf (Elt Ideal) ℓ) (g : Dev Cert.SquaredReluIdeal.nD → PrngReg)
    (m' : (ℓ : Loc Cert.SquaredReluReferenceIdeal.nD Cert.SquaredReluReferenceIdeal.τ Cert.SquaredReluReferenceIdeal.sig) → Buf (Elt Ideal) ℓ) (g' : Dev Cert.SquaredReluReferenceIdeal.nD → PrngReg), Pre_SquaredReluIdeal m →
    (∀ c : Dev Cert.SquaredReluIdeal.nD,
      m' ((c.tc : Thread Cert.SquaredReluReferenceIdeal.nD Cert.SquaredReluReferenceIdeal.τ).loc Cert.SquaredReluReferenceIdeal.main_arg0) = m ((c.tc : Thread Cert.SquaredReluIdeal.nD Cert.SquaredReluIdeal.τ).loc Cert.SquaredReluIdeal.main_arg0)) →
    ∃ (v0 : (c : Dev Cert.SquaredReluIdeal.nD) → Buf (Elt Ideal) ((c.tc : Thread Cert.SquaredReluIdeal.nD Cert.SquaredReluIdeal.τ).loc Cert.SquaredReluIdeal.main_v0)),
      θ_run (Cert.SquaredReluIdeal.defs (F := Ideal)) (onTc (τ := Cert.SquaredReluIdeal.τ) (Cert.SquaredReluIdeal.main (F := Ideal))) ⟨m, fun _ => 0, g⟩ (fun r => ∀ c : Dev Cert.SquaredReluIdeal.nD,
          r.2.mem ((c.tc : Thread Cert.SquaredReluIdeal.nD Cert.SquaredReluIdeal.τ).loc Cert.SquaredReluIdeal.main_v0) = v0 c
          ∧ r.2.mem ((c.tc : Thread Cert.SquaredReluIdeal.nD Cert.SquaredReluIdeal.τ).loc Cert.SquaredReluIdeal.main_arg0) = m ((c.tc : Thread Cert.SquaredReluIdeal.nD Cert.SquaredReluIdeal.τ).loc Cert.SquaredReluIdeal.main_arg0))
      ∧ θ_run (Cert.SquaredReluReferenceIdeal.defs (F := Ideal)) (onTc (τ := Cert.SquaredReluReferenceIdeal.τ) (Cert.SquaredReluReferenceIdeal.main (F := Ideal))) ⟨m', fun _ => 0, g'⟩ (fun r => ∀ c : Dev Cert.SquaredReluReferenceIdeal.nD,
          r.2.mem ((c.tc : Thread Cert.SquaredReluReferenceIdeal.nD Cert.SquaredReluReferenceIdeal.τ).loc Cert.SquaredReluReferenceIdeal.main_v3) = v0 c
          ∧ r.2.mem ((c.tc : Thread Cert.SquaredReluReferenceIdeal.nD Cert.SquaredReluReferenceIdeal.τ).loc Cert.SquaredReluReferenceIdeal.main_arg0) = m' ((c.tc : Thread Cert.SquaredReluReferenceIdeal.nD Cert.SquaredReluReferenceIdeal.τ).loc Cert.SquaredReluReferenceIdeal.main_arg0))

def preserves_SquaredReluGrad_SquaredReluGradIdeal : Prop :=
  True

def algebraic_SquaredReluGradIdeal_SquaredReluGradReferenceIdeal [hSquaredReluGradIdeal : Cert.SquaredReluGradIdeal.Facts] [hSquaredReluGradReferenceIdeal : Cert.SquaredReluGradReferenceIdeal.Facts] : Prop :=
  ∀ (m : (ℓ : Loc Cert.SquaredReluGradIdeal.nD Cert.SquaredReluGradIdeal.τ Cert.SquaredReluGradIdeal.sig) → Buf (Elt Ideal) ℓ) (g : Dev Cert.SquaredReluGradIdeal.nD → PrngReg)
    (m' : (ℓ : Loc Cert.SquaredReluGradReferenceIdeal.nD Cert.SquaredReluGradReferenceIdeal.τ Cert.SquaredReluGradReferenceIdeal.sig) → Buf (Elt Ideal) ℓ) (g' : Dev Cert.SquaredReluGradReferenceIdeal.nD → PrngReg), Pre_SquaredReluGradIdeal m →
    (∀ c : Dev Cert.SquaredReluGradIdeal.nD,
      m' ((c.tc : Thread Cert.SquaredReluGradReferenceIdeal.nD Cert.SquaredReluGradReferenceIdeal.τ).loc Cert.SquaredReluGradReferenceIdeal.main_arg0) = m ((c.tc : Thread Cert.SquaredReluGradIdeal.nD Cert.SquaredReluGradIdeal.τ).loc Cert.SquaredReluGradIdeal.main_arg0)
      ∧ m' ((c.tc : Thread Cert.SquaredReluGradReferenceIdeal.nD Cert.SquaredReluGradReferenceIdeal.τ).loc Cert.SquaredReluGradReferenceIdeal.main_arg1) = m ((c.tc : Thread Cert.SquaredReluGradIdeal.nD Cert.SquaredReluGradIdeal.τ).loc Cert.SquaredReluGradIdeal.main_arg1)) →
    ∃ (v0 : (c : Dev Cert.SquaredReluGradIdeal.nD) → Buf (Elt Ideal) ((c.tc : Thread Cert.SquaredReluGradIdeal.nD Cert.SquaredReluGradIdeal.τ).loc Cert.SquaredReluGradIdeal.main_v0)),
      θ_run (Cert.SquaredReluGradIdeal.defs (F := Ideal)) (onTc (τ := Cert.SquaredReluGradIdeal.τ) (Cert.SquaredReluGradIdeal.main (F := Ideal))) ⟨m, fun _ => 0, g⟩ (fun r => ∀ c : Dev Cert.SquaredReluGradIdeal.nD,
          r.2.mem ((c.tc : Thread Cert.SquaredReluGradIdeal.nD Cert.SquaredReluGradIdeal.τ).loc Cert.SquaredReluGradIdeal.main_v0) = v0 c
          ∧ r.2.mem ((c.tc : Thread Cert.SquaredReluGradIdeal.nD Cert.SquaredReluGradIdeal.τ).loc Cert.SquaredReluGradIdeal.main_arg0) = m ((c.tc : Thread Cert.SquaredReluGradIdeal.nD Cert.SquaredReluGradIdeal.τ).loc Cert.SquaredReluGradIdeal.main_arg0)
          ∧ r.2.mem ((c.tc : Thread Cert.SquaredReluGradIdeal.nD Cert.SquaredReluGradIdeal.τ).loc Cert.SquaredReluGradIdeal.main_arg1) = m ((c.tc : Thread Cert.SquaredReluGradIdeal.nD Cert.SquaredReluGradIdeal.τ).loc Cert.SquaredReluGradIdeal.main_arg1))
      ∧ θ_run (Cert.SquaredReluGradReferenceIdeal.defs (F := Ideal)) (onTc (τ := Cert.SquaredReluGradReferenceIdeal.τ) (Cert.SquaredReluGradReferenceIdeal.main (F := Ideal))) ⟨m', fun _ => 0, g'⟩ (fun r => ∀ c : Dev Cert.SquaredReluGradReferenceIdeal.nD,
          r.2.mem ((c.tc : Thread Cert.SquaredReluGradReferenceIdeal.nD Cert.SquaredReluGradReferenceIdeal.τ).loc Cert.SquaredReluGradReferenceIdeal.main_v12) = v0 c
          ∧ r.2.mem ((c.tc : Thread Cert.SquaredReluGradReferenceIdeal.nD Cert.SquaredReluGradReferenceIdeal.τ).loc Cert.SquaredReluGradReferenceIdeal.main_arg0) = m' ((c.tc : Thread Cert.SquaredReluGradReferenceIdeal.nD Cert.SquaredReluGradReferenceIdeal.τ).loc Cert.SquaredReluGradReferenceIdeal.main_arg0)
          ∧ r.2.mem ((c.tc : Thread Cert.SquaredReluGradReferenceIdeal.nD Cert.SquaredReluGradReferenceIdeal.τ).loc Cert.SquaredReluGradReferenceIdeal.main_arg1) = m' ((c.tc : Thread Cert.SquaredReluGradReferenceIdeal.nD Cert.SquaredReluGradReferenceIdeal.τ).loc Cert.SquaredReluGradReferenceIdeal.main_arg1))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)
      ∧ m' ((c.tc : Thread Cert.ResidualReferenceIdeal.nD Cert.ResidualReferenceIdeal.τ).loc Cert.ResidualReferenceIdeal.main_arg3) = m ((c.tc : Thread Cert.ResidualIdeal.nD Cert.ResidualIdeal.τ).loc Cert.ResidualIdeal.main_arg3)
      ∧ m' ((c.tc : Thread Cert.ResidualReferenceIdeal.nD Cert.ResidualReferenceIdeal.τ).loc Cert.ResidualReferenceIdeal.main_arg4) = m ((c.tc : Thread Cert.ResidualIdeal.nD Cert.ResidualIdeal.τ).loc Cert.ResidualIdeal.main_arg4)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v2) = v0 c
          ∧ r.2.mem ((c.tc : Thread Cert.ResidualReferenceIdeal.nD Cert.ResidualReferenceIdeal.τ).loc Cert.ResidualReferenceIdeal.main_v19) = v1 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3)
          ∧ r.2.mem ((c.tc : Thread Cert.ResidualReferenceIdeal.nD Cert.ResidualReferenceIdeal.τ).loc Cert.ResidualReferenceIdeal.main_arg4) = m' ((c.tc : Thread Cert.ResidualReferenceIdeal.nD Cert.ResidualReferenceIdeal.τ).loc Cert.ResidualReferenceIdeal.main_arg4))

def preserves_ResidualGrad_ResidualGradIdeal : Prop :=
  True

def algebraic_ResidualGradIdeal_ResidualGradReferenceIdeal [hResidualGradIdeal : Cert.ResidualGradIdeal.Facts] [hResidualGradReferenceIdeal : Cert.ResidualGradReferenceIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg)
    (m' : (ℓ : Loc Cert.ResidualGradReferenceIdeal.nD Cert.ResidualGradReferenceIdeal.τ Cert.ResidualGradReferenceIdeal.sig) → Buf (Elt Ideal) ℓ) (g' : Dev Cert.ResidualGradReferenceIdeal.nD → PrngReg), Pre_ResidualGradIdeal m →
    (∀ c : Dev Cert.ResidualGradIdeal.nD,
      m' ((c.tc : Thread Cert.ResidualGradReferenceIdeal.nD Cert.ResidualGradReferenceIdeal.τ).loc Cert.ResidualGradReferenceIdeal.main_arg0) = m ((c.tc : Thread Cert.ResidualGradIdeal.nD Cert.ResidualGradIdeal.τ).loc Cert.ResidualGradIdeal.main_arg0)
      ∧ m' ((c.tc : Thread Cert.ResidualGradReferenceIdeal.nD Cert.ResidualGradReferenceIdeal.τ).loc Cert.ResidualGradReferenceIdeal.main_arg1) = m ((c.tc : Thread Cert.ResidualGradIdeal.nD Cert.ResidualGradIdeal.τ).loc Cert.ResidualGradIdeal.main_arg1)
      ∧ m' ((c.tc : Thread Cert.ResidualGradReferenceIdeal.nD Cert.ResidualGradReferenceIdeal.τ).loc Cert.ResidualGradReferenceIdeal.main_arg2) = m ((c.tc : Thread Cert.ResidualGradIdeal.nD Cert.ResidualGradIdeal.τ).loc Cert.ResidualGradIdeal.main_arg2)
      ∧ m' ((c.tc : Thread Cert.ResidualGradReferenceIdeal.nD Cert.ResidualGradReferenceIdeal.τ).loc Cert.ResidualGradReferenceIdeal.main_arg3) = m ((c.tc : Thread Cert.ResidualGradIdeal.nD Cert.ResidualGradIdeal.τ).loc Cert.ResidualGradIdeal.main_arg3)
      ∧ m' ((c.tc : Thread Cert.ResidualGradReferenceIdeal.nD Cert.ResidualGradReferenceIdeal.τ).loc Cert.ResidualGradReferenceIdeal.main_arg4) = m ((c.tc : Thread Cert.ResidualGradIdeal.nD Cert.ResidualGradIdeal.τ).loc Cert.ResidualGradIdeal.main_arg4)
      ∧ m' ((c.tc : Thread Cert.ResidualGradReferenceIdeal.nD Cert.ResidualGradReferenceIdeal.τ).loc Cert.ResidualGradReferenceIdeal.main_arg5) = m ((c.tc : Thread Cert.ResidualGradIdeal.nD Cert.ResidualGradIdeal.τ).loc Cert.ResidualGradIdeal.main_arg5)
      ∧ m' ((c.tc : Thread Cert.ResidualGradReferenceIdeal.nD Cert.ResidualGradReferenceIdeal.τ).loc Cert.ResidualGradReferenceIdeal.main_arg6) = m ((c.tc : Thread Cert.ResidualGradIdeal.nD Cert.ResidualGradIdeal.τ).loc Cert.ResidualGradIdeal.main_arg6)) →
    ∃ (v0 : (c : Dev Cert.ResidualGradIdeal.nD) → Buf (Elt Ideal) ((c.tc : Thread Cert.ResidualGradIdeal.nD Cert.ResidualGradIdeal.τ).loc Cert.ResidualGradIdeal.main_v0_0)) (v1 : (c : Dev Cert.ResidualGradIdeal.nD) → Buf (Elt Ideal) ((c.tc : Thread Cert.ResidualGradIdeal.nD Cert.ResidualGradIdeal.τ).loc Cert.ResidualGradIdeal.main_v0_1)) (v2 : (c : Dev Cert.ResidualGradIdeal.nD) → Buf (Elt Ideal) ((c.tc : Thread Cert.ResidualGradIdeal.nD Cert.ResidualGradIdeal.τ).loc Cert.ResidualGradIdeal.main_v0_2)) (v3 : (c : Dev Cert.ResidualGradIdeal.nD) → Buf (Elt Ideal) ((c.tc : Thread Cert.ResidualGradIdeal.nD Cert.ResidualGradIdeal.τ).loc Cert.ResidualGradIdeal.main_v0_3)) (v4 : (c : Dev Cert.ResidualGradIdeal.nD) → Buf (Elt Ideal) ((c.tc : Thread Cert.ResidualGradIdeal.nD Cert.ResidualGradIdeal.τ).loc Cert.ResidualGradIdeal.main_v0_4)),
      θ_run (Cert.ResidualGradIdeal.defs (F := Ideal)) (onTc (τ := Cert.ResidualGradIdeal.τ) (Cert.ResidualGradIdeal.main (F := Ideal))) ⟨m, fun _ => 0, g⟩ (fun r => ∀ c : Dev Cert.ResidualGradIdeal.nD,
          r.2.mem ((c.tc : Thread Cert.ResidualGradIdeal.nD Cert.ResidualGradIdeal.τ).loc Cert.ResidualGradIdeal.main_v0_0) = v0 c
          ∧ r.2.mem ((c.tc : Thread Cert.ResidualGradIdeal.nD Cert.ResidualGradIdeal.τ).loc Cert.ResidualGradIdeal.main_v0_1) = v1 c
          ∧ r.2.mem ((c.tc : Thread Cert.ResidualGradIdeal.nD Cert.ResidualGradIdeal.τ).loc Cert.ResidualGradIdeal.main_v0_2) = v2 c
          ∧ r.2.mem ((c.tc : Thread Cert.ResidualGradIdeal.nD Cert.ResidualGradIdeal.τ).loc Cert.ResidualGradIdeal.main_v0_3) = v3 c
          ∧ r.2.mem ((c.tc : Thread Cert.ResidualGradIdeal.nD Cert.ResidualGradIdeal.τ).loc Cert.ResidualGradIdeal.main_v0_4) = v4 c
          ∧ r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
          ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
          ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2)
          ∧ r.2.mem ((c.tc : Thread Cert.ResidualGradIdeal.nD Cert.ResidualGradIdeal.τ).loc Cert.ResidualGradIdeal.main_arg3) = m ((c.tc : Thread Cert.ResidualGradIdeal.nD Cert.ResidualGradIdeal.τ).loc Cert.ResidualGradIdeal.main_arg3)
          ∧ r.2.mem ((c.tc : Thread Cert.ResidualGradIdeal.nD Cert.ResidualGradIdeal.τ).loc Cert.ResidualGradIdeal.main_arg4) = m ((c.tc : Thread Cert.ResidualGradIdeal.nD Cert.ResidualGradIdeal.τ).loc Cert.ResidualGradIdeal.main_arg4)
          ∧ r.2.mem ((c.tc : Thread Cert.ResidualGradIdeal.nD Cert.ResidualGradIdeal.τ).loc Cert.ResidualGradIdeal.main_arg5) = m ((c.tc : Thread Cert.ResidualGradIdeal.nD Cert.ResidualGradIdeal.τ).loc Cert.ResidualGradIdeal.main_arg5)
          ∧ r.2.mem ((c.tc : Thread Cert.ResidualGradIdeal.nD Cert.ResidualGradIdeal.τ).loc Cert.ResidualGradIdeal.main_arg6) = m ((c.tc : Thread Cert.ResidualGradIdeal.nD Cert.ResidualGradIdeal.τ).loc Cert.ResidualGradIdeal.main_arg6))
      ∧ θ_run (Cert.ResidualGradReferenceIdeal.defs (F := Ideal)) (onTc (τ := Cert.ResidualGradReferenceIdeal.τ) (Cert.ResidualGradReferenceIdeal.main (F := Ideal))) ⟨m', fun _ => 0, g'⟩ (fun r => ∀ c : Dev Cert.ResidualGradReferenceIdeal.nD,
          r.2.mem ((c.tc : Thread Cert.ResidualGradReferenceIdeal.nD Cert.ResidualGradReferenceIdeal.τ).loc Cert.ResidualGradReferenceIdeal.main_v44) = v0 c
          ∧ r.2.mem ((c.tc : Thread Cert.ResidualGradReferenceIdeal.nD Cert.ResidualGradReferenceIdeal.τ).loc Cert.ResidualGradReferenceIdeal.main_v51) = v1 c
          ∧ r.2.mem ((c.tc : Thread Cert.ResidualGradReferenceIdeal.nD Cert.ResidualGradReferenceIdeal.τ).loc Cert.ResidualGradReferenceIdeal.main_v50) = v2 c
          ∧ r.2.mem ((c.tc : Thread Cert.ResidualGradReferenceIdeal.nD Cert.ResidualGradReferenceIdeal.τ).loc Cert.ResidualGradReferenceIdeal.main_v29) = v3 c
          ∧ r.2.mem ((c.tc : Thread Cert.ResidualGradReferenceIdeal.nD Cert.ResidualGradReferenceIdeal.τ).loc Cert.ResidualGradReferenceIdeal.main_v26) = v4 c
          ∧ r.2.mem ((c.tc : Thread Cert.ResidualGradReferenceIdeal.nD Cert.ResidualGradReferenceIdeal.τ).loc Cert.ResidualGradReferenceIdeal.main_arg0) = m' ((c.tc : Thread Cert.ResidualGradReferenceIdeal.nD Cert.ResidualGradReferenceIdeal.τ).loc Cert.ResidualGradReferenceIdeal.main_arg0)
          ∧ r.2.mem ((c.tc : Thread Cert.ResidualGradReferenceIdeal.nD Cert.ResidualGradReferenceIdeal.τ).loc Cert.ResidualGradReferenceIdeal.main_arg1) = m' ((c.tc : Thread Cert.ResidualGradReferenceIdeal.nD Cert.ResidualGradReferenceIdeal.τ).loc Cert.ResidualGradReferenceIdeal.main_arg1)
          ∧ r.2.mem ((c.tc : Thread Cert.ResidualGradReferenceIdeal.nD Cert.ResidualGradReferenceIdeal.τ).loc Cert.ResidualGradReferenceIdeal.main_arg2) = m' ((c.tc : Thread Cert.ResidualGradReferenceIdeal.nD Cert.ResidualGradReferenceIdeal.τ).loc Cert.ResidualGradReferenceIdeal.main_arg2)
          ∧ r.2.mem ((c.tc : Thread Cert.ResidualGradReferenceIdeal.nD Cert.ResidualGradReferenceIdeal.τ).loc Cert.ResidualGradReferenceIdeal.main_arg3) = m' ((c.tc : Thread Cert.ResidualGradReferenceIdeal.nD Cert.ResidualGradReferenceIdeal.τ).loc Cert.ResidualGradReferenceIdeal.main_arg3)
          ∧ r.2.mem ((c.tc : Thread Cert.ResidualGradReferenceIdeal.nD Cert.ResidualGradReferenceIdeal.τ).loc Cert.ResidualGradReferenceIdeal.main_arg4) = m' ((c.tc : Thread Cert.ResidualGradReferenceIdeal.nD Cert.ResidualGradReferenceIdeal.τ).loc Cert.ResidualGradReferenceIdeal.main_arg4)
          ∧ r.2.mem ((c.tc : Thread Cert.ResidualGradReferenceIdeal.nD Cert.ResidualGradReferenceIdeal.τ).loc Cert.ResidualGradReferenceIdeal.main_arg5) = m' ((c.tc : Thread Cert.ResidualGradReferenceIdeal.nD Cert.ResidualGradReferenceIdeal.τ).loc Cert.ResidualGradReferenceIdeal.main_arg5)
          ∧ r.2.mem ((c.tc : Thread Cert.ResidualGradReferenceIdeal.nD Cert.ResidualGradReferenceIdeal.τ).loc Cert.ResidualGradReferenceIdeal.main_arg6) = m' ((c.tc : Thread Cert.ResidualGradReferenceIdeal.nD Cert.ResidualGradReferenceIdeal.τ).loc Cert.ResidualGradReferenceIdeal.main_arg6))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v19) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)
      ∧ m' ((c.tc : Thread Cert.MixGradReferenceIdeal.nD Cert.MixGradReferenceIdeal.τ).loc Cert.MixGradReferenceIdeal.main_arg2) = m ((c.tc : Thread Cert.MixGradIdeal.nD Cert.MixGradIdeal.τ).loc Cert.MixGradIdeal.main_arg2)
      ∧ m' ((c.tc : Thread Cert.MixGradReferenceIdeal.nD Cert.MixGradReferenceIdeal.τ).loc Cert.MixGradReferenceIdeal.main_arg3) = m ((c.tc : Thread Cert.MixGradIdeal.nD Cert.MixGradIdeal.τ).loc Cert.MixGradIdeal.main_arg3)
      ∧ m' ((c.tc : Thread Cert.MixGradReferenceIdeal.nD Cert.MixGradReferenceIdeal.τ).loc Cert.MixGradReferenceIdeal.main_arg4) = m ((c.tc : Thread Cert.MixGradIdeal.nD Cert.MixGradIdeal.τ).loc Cert.MixGradIdeal.main_arg4)) →
    ∃ (v0 : (c : Dev Cert.MixGradIdeal.nD) → Buf (Elt Ideal) ((c.tc : Thread Cert.MixGradIdeal.nD Cert.MixGradIdeal.τ).loc Cert.MixGradIdeal.main_v0_0)) (v1 : (c : Dev Cert.MixGradIdeal.nD) → Buf (Elt Ideal) ((c.tc : Thread Cert.MixGradIdeal.nD Cert.MixGradIdeal.τ).loc Cert.MixGradIdeal.main_v0_1)) (v2 : (c : Dev Cert.MixGradIdeal.nD) → Buf (Elt Ideal) ((c.tc : Thread Cert.MixGradIdeal.nD Cert.MixGradIdeal.τ).loc Cert.MixGradIdeal.main_v0_2)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0_0) = v0 c
          ∧ r.2.mem ((c.tc : Thread Cert.MixGradIdeal.nD Cert.MixGradIdeal.τ).loc Cert.MixGradIdeal.main_v0_1) = v1 c
          ∧ r.2.mem ((c.tc : Thread Cert.MixGradIdeal.nD Cert.MixGradIdeal.τ).loc Cert.MixGradIdeal.main_v0_2) = v2 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v37) = v0 c
          ∧ r.2.mem ((c.tc : Thread Cert.MixGradReferenceIdeal.nD Cert.MixGradReferenceIdeal.τ).loc Cert.MixGradReferenceIdeal.main_v38) = v1 c
          ∧ r.2.mem ((c.tc : Thread Cert.MixGradReferenceIdeal.nD Cert.MixGradReferenceIdeal.τ).loc Cert.MixGradReferenceIdeal.main_v39) = v2 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1)
          ∧ r.2.mem ((c.tc : Thread Cert.MixGradReferenceIdeal.nD Cert.MixGradReferenceIdeal.τ).loc Cert.MixGradReferenceIdeal.main_arg2) = m' ((c.tc : Thread Cert.MixGradReferenceIdeal.nD Cert.MixGradReferenceIdeal.τ).loc Cert.MixGradReferenceIdeal.main_arg2)
          ∧ r.2.mem ((c.tc : Thread Cert.MixGradReferenceIdeal.nD Cert.MixGradReferenceIdeal.τ).loc Cert.MixGradReferenceIdeal.main_arg3) = m' ((c.tc : Thread Cert.MixGradReferenceIdeal.nD Cert.MixGradReferenceIdeal.τ).loc Cert.MixGradReferenceIdeal.main_arg3)
          ∧ r.2.mem ((c.tc : Thread Cert.MixGradReferenceIdeal.nD Cert.MixGradReferenceIdeal.τ).loc Cert.MixGradReferenceIdeal.main_arg4) = m' ((c.tc : Thread Cert.MixGradReferenceIdeal.nD Cert.MixGradReferenceIdeal.τ).loc Cert.MixGradReferenceIdeal.main_arg4))

def preserves_ModPart_ModPartIdeal : Prop :=
  True

def algebraic_ModPartIdeal_ModPartReferenceIdeal [hModPartIdeal : Cert.ModPartIdeal.Facts] [hModPartReferenceIdeal : Cert.ModPartReferenceIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartReferenceIdeal.nD Cert.ModPartReferenceIdeal.τ Cert.ModPartReferenceIdeal.sig) → Buf (Elt Ideal) ℓ) (g' : Dev Cert.ModPartReferenceIdeal.nD → PrngReg), Pre_ModPartIdeal m →
    (∀ c : Dev Cert.ModPartIdeal.nD,
      m' ((c.tc : Thread Cert.ModPartReferenceIdeal.nD Cert.ModPartReferenceIdeal.τ).loc Cert.ModPartReferenceIdeal.main_arg0) = m ((c.tc : Thread Cert.ModPartIdeal.nD Cert.ModPartIdeal.τ).loc Cert.ModPartIdeal.main_arg0)
      ∧ m' ((c.tc : Thread Cert.ModPartReferenceIdeal.nD Cert.ModPartReferenceIdeal.τ).loc Cert.ModPartReferenceIdeal.main_arg1) = m ((c.tc : Thread Cert.ModPartIdeal.nD Cert.ModPartIdeal.τ).loc Cert.ModPartIdeal.main_arg1)
      ∧ m' ((c.tc : Thread Cert.ModPartReferenceIdeal.nD Cert.ModPartReferenceIdeal.τ).loc Cert.ModPartReferenceIdeal.main_arg2) = m ((c.tc : Thread Cert.ModPartIdeal.nD Cert.ModPartIdeal.τ).loc Cert.ModPartIdeal.main_arg2)) →
    ∃ (v0 : (c : Dev Cert.ModPartIdeal.nD) → Buf (Elt Ideal) ((c.tc : Thread Cert.ModPartIdeal.nD Cert.ModPartIdeal.τ).loc Cert.ModPartIdeal.main_v0)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0) = v0 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
          ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ θ_run (Cert.ModPartReferenceIdeal.defs (F := Ideal)) (onTc (τ := Cert.ModPartReferenceIdeal.τ) (Cert.ModPartReferenceIdeal.main (F := Ideal))) ⟨m', fun _ => 0, g'⟩ (fun r => ∀ c : Dev Cert.ModPartReferenceIdeal.nD,
          r.2.mem ((c.tc : Thread Cert.ModPartReferenceIdeal.nD Cert.ModPartReferenceIdeal.τ).loc Cert.ModPartReferenceIdeal.main_v3) = v0 c
          ∧ r.2.mem ((c.tc : Thread Cert.ModPartReferenceIdeal.nD Cert.ModPartReferenceIdeal.τ).loc Cert.ModPartReferenceIdeal.main_arg0) = m' ((c.tc : Thread Cert.ModPartReferenceIdeal.nD Cert.ModPartReferenceIdeal.τ).loc Cert.ModPartReferenceIdeal.main_arg0)
          ∧ r.2.mem ((c.tc : Thread Cert.ModPartReferenceIdeal.nD Cert.ModPartReferenceIdeal.τ).loc Cert.ModPartReferenceIdeal.main_arg1) = m' ((c.tc : Thread Cert.ModPartReferenceIdeal.nD Cert.ModPartReferenceIdeal.τ).loc Cert.ModPartReferenceIdeal.main_arg1)
          ∧ r.2.mem ((c.tc : Thread Cert.ModPartReferenceIdeal.nD Cert.ModPartReferenceIdeal.τ).loc Cert.ModPartReferenceIdeal.main_arg2) = m' ((c.tc : Thread Cert.ModPartReferenceIdeal.nD Cert.ModPartReferenceIdeal.τ).loc Cert.ModPartReferenceIdeal.main_arg2))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v59) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v35) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_WInGrad_WInGradIdeal : Prop :=
  True

def algebraic_WInGradIdeal_WInGradReferenceIdeal_pre_is_device [hWInGradIdeal : Cert.WInGradIdeal.Facts] [hWInGradReferenceIdeal : Cert.WInGradReferenceIdeal.Facts] [hPre_is_device : Cert.Pre_is_device.Facts] : Prop :=
  ∀ (m : (ℓ : Loc Cert.WInGradIdeal.nD Cert.WInGradIdeal.τ Cert.WInGradIdeal.sig) → Buf (Elt Ideal) ℓ) (g : Dev Cert.WInGradIdeal.nD → PrngReg)
    (m' : (ℓ : Loc Cert.WInGradReferenceIdeal.nD Cert.WInGradReferenceIdeal.τ Cert.WInGradReferenceIdeal.sig) → Buf (Elt Ideal) ℓ) (g' : Dev Cert.WInGradReferenceIdeal.nD → PrngReg), Pre_WInGradIdeal_is_device m →
    (∀ c : Dev Cert.WInGradIdeal.nD,
      m' ((c.tc : Thread Cert.WInGradReferenceIdeal.nD Cert.WInGradReferenceIdeal.τ).loc Cert.WInGradReferenceIdeal.main_arg0) = m ((c.tc : Thread Cert.WInGradIdeal.nD Cert.WInGradIdeal.τ).loc Cert.WInGradIdeal.main_arg0)
      ∧ m' ((c.tc : Thread Cert.WInGradReferenceIdeal.nD Cert.WInGradReferenceIdeal.τ).loc Cert.WInGradReferenceIdeal.main_arg1) = m ((c.tc : Thread Cert.WInGradIdeal.nD Cert.WInGradIdeal.τ).loc Cert.WInGradIdeal.main_arg1)) →
    ∃ (v0 : (c : Dev Cert.WInGradIdeal.nD) → Buf (Elt Ideal) ((c.tc : Thread Cert.WInGradIdeal.nD Cert.WInGradIdeal.τ).loc Cert.WInGradIdeal.main_v35)),
      θ_run (Cert.WInGradIdeal.defs (F := Ideal)) (onTc (τ := Cert.WInGradIdeal.τ) (Cert.WInGradIdeal.main (F := Ideal))) ⟨m, fun _ => 0, g⟩ (fun r => ∀ c : Dev Cert.WInGradIdeal.nD,
          r.2.mem ((c.tc : Thread Cert.WInGradIdeal.nD Cert.WInGradIdeal.τ).loc Cert.WInGradIdeal.main_v35) = v0 c
          ∧ r.2.mem ((c.tc : Thread Cert.WInGradIdeal.nD Cert.WInGradIdeal.τ).loc Cert.WInGradIdeal.main_arg0) = m ((c.tc : Thread Cert.WInGradIdeal.nD Cert.WInGradIdeal.τ).loc Cert.WInGradIdeal.main_arg0)
          ∧ r.2.mem ((c.tc : Thread Cert.WInGradIdeal.nD Cert.WInGradIdeal.τ).loc Cert.WInGradIdeal.main_arg1) = m ((c.tc : Thread Cert.WInGradIdeal.nD Cert.WInGradIdeal.τ).loc Cert.WInGradIdeal.main_arg1))
      ∧ θ_run (Cert.WInGradReferenceIdeal.defs (F := Ideal)) (onTc (τ := Cert.WInGradReferenceIdeal.τ) (Cert.WInGradReferenceIdeal.main (F := Ideal))) ⟨m', fun _ => 0, g'⟩ (fun r => ∀ c : Dev Cert.WInGradReferenceIdeal.nD,
          r.2.mem ((c.tc : Thread Cert.WInGradReferenceIdeal.nD Cert.WInGradReferenceIdeal.τ).loc Cert.WInGradReferenceIdeal.main_v11) = v0 c
          ∧ r.2.mem ((c.tc : Thread Cert.WInGradReferenceIdeal.nD Cert.WInGradReferenceIdeal.τ).loc Cert.WInGradReferenceIdeal.main_arg0) = m' ((c.tc : Thread Cert.WInGradReferenceIdeal.nD Cert.WInGradReferenceIdeal.τ).loc Cert.WInGradReferenceIdeal.main_arg0)
          ∧ r.2.mem ((c.tc : Thread Cert.WInGradReferenceIdeal.nD Cert.WInGradReferenceIdeal.τ).loc Cert.WInGradReferenceIdeal.main_arg1) = m' ((c.tc : Thread Cert.WInGradReferenceIdeal.nD Cert.WInGradReferenceIdeal.τ).loc Cert.WInGradReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hSmall : Cert.Small.Facts) (hSmallIdeal : Cert.SmallIdeal.Facts) (hSmallReferenceIdeal : Cert.SmallReferenceIdeal.Facts) (hSmallReference : Cert.SmallReference.Facts) (hMod : Cert.Mod.Facts) (hModIdeal : Cert.ModIdeal.Facts) (hModReferenceIdeal : Cert.ModReferenceIdeal.Facts) (hModReference : Cert.ModReference.Facts) (hCond : Cert.Cond.Facts) (hCondIdeal : Cert.CondIdeal.Facts) (hCondReferenceIdeal : Cert.CondReferenceIdeal.Facts) (hCondReference : Cert.CondReference.Facts) (hSumWin : Cert.SumWin.Facts) (hSumWinIdeal : Cert.SumWinIdeal.Facts) (hSumWinReferenceIdeal : Cert.SumWinReferenceIdeal.Facts) (hSumSmall : Cert.SumSmall.Facts) (hSumSmallIdeal : Cert.SumSmallIdeal.Facts) (hSumSmallReferenceIdeal : Cert.SumSmallReferenceIdeal.Facts) (hAdamwWMod : Cert.AdamwWMod.Facts) (hAdamwWModIdeal : Cert.AdamwWModIdeal.Facts) (hAdamwWModReferenceIdeal : Cert.AdamwWModReferenceIdeal.Facts) (hAdamwBMod : Cert.AdamwBMod.Facts) (hAdamwBModIdeal : Cert.AdamwBModIdeal.Facts) (hAdamwBModReferenceIdeal : Cert.AdamwBModReferenceIdeal.Facts) (hAdamwWIn : Cert.AdamwWIn.Facts) (hAdamwWInIdeal : Cert.AdamwWInIdeal.Facts) (hAdamwWInReferenceIdeal : Cert.AdamwWInReferenceIdeal.Facts) (hAdamwNorm : Cert.AdamwNorm.Facts) (hAdamwNormIdeal : Cert.AdamwNormIdeal.Facts) (hAdamwNormReferenceIdeal : Cert.AdamwNormReferenceIdeal.Facts) (hAdamwGmWs : Cert.AdamwGmWs.Facts) (hAdamwGmWsIdeal : Cert.AdamwGmWsIdeal.Facts) (hAdamwGmWsReferenceIdeal : Cert.AdamwGmWsReferenceIdeal.Facts) (hAdamwGmBs : Cert.AdamwGmBs.Facts) (hAdamwGmBsIdeal : Cert.AdamwGmBsIdeal.Facts) (hAdamwGmBsReferenceIdeal : Cert.AdamwGmBsReferenceIdeal.Facts) (hAdamwConvW : Cert.AdamwConvW.Facts) (hAdamwConvWIdeal : Cert.AdamwConvWIdeal.Facts) (hAdamwConvWReferenceIdeal : Cert.AdamwConvWReferenceIdeal.Facts) (hAdamwConvB : Cert.AdamwConvB.Facts) (hAdamwConvBIdeal : Cert.AdamwConvBIdeal.Facts) (hAdamwConvBReferenceIdeal : Cert.AdamwConvBReferenceIdeal.Facts) (hAdamwHeads : Cert.AdamwHeads.Facts) (hAdamwHeadsIdeal : Cert.AdamwHeadsIdeal.Facts) (hAdamwHeadsReferenceIdeal : Cert.AdamwHeadsReferenceIdeal.Facts) (hAdamwSsmNorm : Cert.AdamwSsmNorm.Facts) (hAdamwSsmNormIdeal : Cert.AdamwSsmNormIdeal.Facts) (hAdamwSsmNormReferenceIdeal : Cert.AdamwSsmNormReferenceIdeal.Facts) (hAdamwSquare : Cert.AdamwSquare.Facts) (hAdamwSquareIdeal : Cert.AdamwSquareIdeal.Facts) (hAdamwSquareReferenceIdeal : Cert.AdamwSquareReferenceIdeal.Facts) (hAdamwSsm : Cert.AdamwSsm.Facts) (hAdamwSsmIdeal : Cert.AdamwSsmIdeal.Facts) (hAdamwSsmReferenceIdeal : Cert.AdamwSsmReferenceIdeal.Facts) (hAdamwFfOne : Cert.AdamwFfOne.Facts) (hAdamwFfOneIdeal : Cert.AdamwFfOneIdeal.Facts) (hAdamwFfOneReferenceIdeal : Cert.AdamwFfOneReferenceIdeal.Facts) (hAdamwFfTwo : Cert.AdamwFfTwo.Facts) (hAdamwFfTwoIdeal : Cert.AdamwFfTwoIdeal.Facts) (hAdamwFfTwoReferenceIdeal : Cert.AdamwFfTwoReferenceIdeal.Facts) (hWModGrad : Cert.WModGrad.Facts) (hWModGradIdeal : Cert.WModGradIdeal.Facts) (hWModGradReferenceIdeal : Cert.WModGradReferenceIdeal.Facts) (hSmallGrads : Cert.SmallGrads.Facts) (hSmallGradsIdeal : Cert.SmallGradsIdeal.Facts) (hSmallGradsReferenceIdeal : Cert.SmallGradsReferenceIdeal.Facts) (hGradX : Cert.GradX.Facts) (hGradXIdeal : Cert.GradXIdeal.Facts) (hGradXReferenceIdeal : Cert.GradXReferenceIdeal.Facts) (hFinal : Cert.Final.Facts) (hFinalIdeal : Cert.FinalIdeal.Facts) (hFinalReferenceIdeal : Cert.FinalReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hBranch : Cert.Branch.Facts) (hBranchIdeal : Cert.BranchIdeal.Facts) (hBranchReferenceIdeal : Cert.BranchReferenceIdeal.Facts) (hDownInGrad : Cert.DownInGrad.Facts) (hDownInGradIdeal : Cert.DownInGradIdeal.Facts) (hDownInGradReferenceIdeal : Cert.DownInGradReferenceIdeal.Facts) (hUpInGrad : Cert.UpInGrad.Facts) (hUpInGradIdeal : Cert.UpInGradIdeal.Facts) (hUpInGradReferenceIdeal : Cert.UpInGradReferenceIdeal.Facts) (hOutInGrad : Cert.OutInGrad.Facts) (hOutInGradIdeal : Cert.OutInGradIdeal.Facts) (hOutInGradReferenceIdeal : Cert.OutInGradReferenceIdeal.Facts) (hBranchInGrad : Cert.BranchInGrad.Facts) (hBranchInGradIdeal : Cert.BranchInGradIdeal.Facts) (hBranchInGradReferenceIdeal : Cert.BranchInGradReferenceIdeal.Facts) (hDownGrad : Cert.DownGrad.Facts) (hDownGradIdeal : Cert.DownGradIdeal.Facts) (hDownGradReferenceIdeal : Cert.DownGradReferenceIdeal.Facts) (hUpGrad : Cert.UpGrad.Facts) (hUpGradIdeal : Cert.UpGradIdeal.Facts) (hUpGradReferenceIdeal : Cert.UpGradReferenceIdeal.Facts) (hOutGrad : Cert.OutGrad.Facts) (hOutGradIdeal : Cert.OutGradIdeal.Facts) (hOutGradReferenceIdeal : Cert.OutGradReferenceIdeal.Facts) (hBranchGrad : Cert.BranchGrad.Facts) (hBranchGradIdeal : Cert.BranchGradIdeal.Facts) (hBranchGradReferenceIdeal : Cert.BranchGradReferenceIdeal.Facts) (hDt : Cert.Dt.Facts) (hDtIdeal : Cert.DtIdeal.Facts) (hDtReferenceIdeal : Cert.DtReferenceIdeal.Facts) (hJoinedInGrad : Cert.JoinedInGrad.Facts) (hJoinedInGradIdeal : Cert.JoinedInGradIdeal.Facts) (hJoinedInGradReferenceIdeal : Cert.JoinedInGradReferenceIdeal.Facts) (hJoinedGrad : Cert.JoinedGrad.Facts) (hJoinedGradIdeal : Cert.JoinedGradIdeal.Facts) (hJoinedGradReferenceIdeal : Cert.JoinedGradReferenceIdeal.Facts) (hJoined : Cert.Joined.Facts) (hJoinedIdeal : Cert.JoinedIdeal.Facts) (hJoinedReferenceIdeal : Cert.JoinedReferenceIdeal.Facts) (hModulate : Cert.Modulate.Facts) (hModulateIdeal : Cert.ModulateIdeal.Facts) (hModulateReferenceIdeal : Cert.ModulateReferenceIdeal.Facts) (hSquaredRelu : Cert.SquaredRelu.Facts) (hSquaredReluIdeal : Cert.SquaredReluIdeal.Facts) (hSquaredReluReferenceIdeal : Cert.SquaredReluReferenceIdeal.Facts) (hSquaredReluGrad : Cert.SquaredReluGrad.Facts) (hSquaredReluGradIdeal : Cert.SquaredReluGradIdeal.Facts) (hSquaredReluGradReferenceIdeal : Cert.SquaredReluGradReferenceIdeal.Facts) (hResidual : Cert.Residual.Facts) (hResidualIdeal : Cert.ResidualIdeal.Facts) (hResidualReferenceIdeal : Cert.ResidualReferenceIdeal.Facts) (hResidualGrad : Cert.ResidualGrad.Facts) (hResidualGradIdeal : Cert.ResidualGradIdeal.Facts) (hResidualGradReferenceIdeal : Cert.ResidualGradReferenceIdeal.Facts) (hMix : Cert.Mix.Facts) (hMixIdeal : Cert.MixIdeal.Facts) (hMixReferenceIdeal : Cert.MixReferenceIdeal.Facts) (hMixGrad : Cert.MixGrad.Facts) (hMixGradIdeal : Cert.MixGradIdeal.Facts) (hMixGradReferenceIdeal : Cert.MixGradReferenceIdeal.Facts) (hModPart : Cert.ModPart.Facts) (hModPartIdeal : Cert.ModPartIdeal.Facts) (hModPartReferenceIdeal : Cert.ModPartReferenceIdeal.Facts) (hSgu : Cert.Sgu.Facts) (hSguIdeal : Cert.SguIdeal.Facts) (hSguReferenceIdeal : Cert.SguReferenceIdeal.Facts) (hConv : Cert.Conv.Facts) (hConvIdeal : Cert.ConvIdeal.Facts) (hConvReferenceIdeal : Cert.ConvReferenceIdeal.Facts) (hWInGrad : Cert.WInGrad.Facts) (hWInGradIdeal : Cert.WInGradIdeal.Facts) (hWInGradReferenceIdeal : Cert.WInGradReferenceIdeal.Facts) (hPre_is_device : Cert.Pre_is_device.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_Mod (hMod := hMod)
    ∧ quiescent_ModIdeal (hModIdeal := hModIdeal)
    ∧ quiescent_ModReferenceIdeal (hModReferenceIdeal := hModReferenceIdeal)
    ∧ quiescent_ModReference (hModReference := hModReference)
    ∧ quiescent_Cond (hCond := hCond)
    ∧ quiescent_CondIdeal (hCondIdeal := hCondIdeal)
    ∧ quiescent_CondReferenceIdeal (hCondReferenceIdeal := hCondReferenceIdeal)
    ∧ quiescent_CondReference (hCondReference := hCondReference)
    ∧ quiescent_SumWin (hSumWin := hSumWin)
    ∧ quiescent_SumWinIdeal (hSumWinIdeal := hSumWinIdeal)
    ∧ quiescent_SumWinReferenceIdeal (hSumWinReferenceIdeal := hSumWinReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_AdamwWMod (hAdamwWMod := hAdamwWMod)
    ∧ quiescent_AdamwWModIdeal (hAdamwWModIdeal := hAdamwWModIdeal)
    ∧ quiescent_AdamwWModReferenceIdeal (hAdamwWModReferenceIdeal := hAdamwWModReferenceIdeal)
    ∧ quiescent_AdamwBMod (hAdamwBMod := hAdamwBMod)
    ∧ quiescent_AdamwBModIdeal (hAdamwBModIdeal := hAdamwBModIdeal)
    ∧ quiescent_AdamwBModReferenceIdeal (hAdamwBModReferenceIdeal := hAdamwBModReferenceIdeal)
    ∧ quiescent_AdamwWIn (hAdamwWIn := hAdamwWIn)
    ∧ quiescent_AdamwWInIdeal (hAdamwWInIdeal := hAdamwWInIdeal)
    ∧ quiescent_AdamwWInReferenceIdeal (hAdamwWInReferenceIdeal := hAdamwWInReferenceIdeal)
    ∧ quiescent_AdamwNorm (hAdamwNorm := hAdamwNorm)
    ∧ quiescent_AdamwNormIdeal (hAdamwNormIdeal := hAdamwNormIdeal)
    ∧ quiescent_AdamwNormReferenceIdeal (hAdamwNormReferenceIdeal := hAdamwNormReferenceIdeal)
    ∧ quiescent_AdamwGmWs (hAdamwGmWs := hAdamwGmWs)
    ∧ quiescent_AdamwGmWsIdeal (hAdamwGmWsIdeal := hAdamwGmWsIdeal)
    ∧ quiescent_AdamwGmWsReferenceIdeal (hAdamwGmWsReferenceIdeal := hAdamwGmWsReferenceIdeal)
    ∧ quiescent_AdamwGmBs (hAdamwGmBs := hAdamwGmBs)
    ∧ quiescent_AdamwGmBsIdeal (hAdamwGmBsIdeal := hAdamwGmBsIdeal)
    ∧ quiescent_AdamwGmBsReferenceIdeal (hAdamwGmBsReferenceIdeal := hAdamwGmBsReferenceIdeal)
    ∧ quiescent_AdamwConvW (hAdamwConvW := hAdamwConvW)
    ∧ quiescent_AdamwConvWIdeal (hAdamwConvWIdeal := hAdamwConvWIdeal)
    ∧ quiescent_AdamwConvWReferenceIdeal (hAdamwConvWReferenceIdeal := hAdamwConvWReferenceIdeal)
    ∧ quiescent_AdamwConvB (hAdamwConvB := hAdamwConvB)
    ∧ quiescent_AdamwConvBIdeal (hAdamwConvBIdeal := hAdamwConvBIdeal)
    ∧ quiescent_AdamwConvBReferenceIdeal (hAdamwConvBReferenceIdeal := hAdamwConvBReferenceIdeal)
    ∧ quiescent_AdamwHeads (hAdamwHeads := hAdamwHeads)
    ∧ quiescent_AdamwHeadsIdeal (hAdamwHeadsIdeal := hAdamwHeadsIdeal)
    ∧ quiescent_AdamwHeadsReferenceIdeal (hAdamwHeadsReferenceIdeal := hAdamwHeadsReferenceIdeal)
    ∧ quiescent_AdamwSsmNorm (hAdamwSsmNorm := hAdamwSsmNorm)
    ∧ quiescent_AdamwSsmNormIdeal (hAdamwSsmNormIdeal := hAdamwSsmNormIdeal)
    ∧ quiescent_AdamwSsmNormReferenceIdeal (hAdamwSsmNormReferenceIdeal := hAdamwSsmNormReferenceIdeal)
    ∧ quiescent_AdamwSquare (hAdamwSquare := hAdamwSquare)
    ∧ quiescent_AdamwSquareIdeal (hAdamwSquareIdeal := hAdamwSquareIdeal)
    ∧ quiescent_AdamwSquareReferenceIdeal (hAdamwSquareReferenceIdeal := hAdamwSquareReferenceIdeal)
    ∧ quiescent_AdamwSsm (hAdamwSsm := hAdamwSsm)
    ∧ quiescent_AdamwSsmIdeal (hAdamwSsmIdeal := hAdamwSsmIdeal)
    ∧ quiescent_AdamwSsmReferenceIdeal (hAdamwSsmReferenceIdeal := hAdamwSsmReferenceIdeal)
    ∧ quiescent_AdamwFfOne (hAdamwFfOne := hAdamwFfOne)
    ∧ quiescent_AdamwFfOneIdeal (hAdamwFfOneIdeal := hAdamwFfOneIdeal)
    ∧ quiescent_AdamwFfOneReferenceIdeal (hAdamwFfOneReferenceIdeal := hAdamwFfOneReferenceIdeal)
    ∧ quiescent_AdamwFfTwo (hAdamwFfTwo := hAdamwFfTwo)
    ∧ quiescent_AdamwFfTwoIdeal (hAdamwFfTwoIdeal := hAdamwFfTwoIdeal)
    ∧ quiescent_AdamwFfTwoReferenceIdeal (hAdamwFfTwoReferenceIdeal := hAdamwFfTwoReferenceIdeal)
    ∧ quiescent_WModGrad (hWModGrad := hWModGrad)
    ∧ quiescent_WModGradIdeal (hWModGradIdeal := hWModGradIdeal)
    ∧ quiescent_WModGradReferenceIdeal (hWModGradReferenceIdeal := hWModGradReferenceIdeal)
    ∧ quiescent_SmallGrads (hSmallGrads := hSmallGrads)
    ∧ quiescent_SmallGradsIdeal (hSmallGradsIdeal := hSmallGradsIdeal)
    ∧ quiescent_SmallGradsReferenceIdeal (hSmallGradsReferenceIdeal := hSmallGradsReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_DownInGrad (hDownInGrad := hDownInGrad)
    ∧ quiescent_DownInGradIdeal (hDownInGradIdeal := hDownInGradIdeal)
    ∧ quiescent_DownInGradReferenceIdeal (hDownInGradReferenceIdeal := hDownInGradReferenceIdeal)
    ∧ quiescent_UpInGrad (hUpInGrad := hUpInGrad)
    ∧ quiescent_UpInGradIdeal (hUpInGradIdeal := hUpInGradIdeal)
    ∧ quiescent_UpInGradReferenceIdeal (hUpInGradReferenceIdeal := hUpInGradReferenceIdeal)
    ∧ quiescent_OutInGrad (hOutInGrad := hOutInGrad)
    ∧ quiescent_OutInGradIdeal (hOutInGradIdeal := hOutInGradIdeal)
    ∧ quiescent_OutInGradReferenceIdeal (hOutInGradReferenceIdeal := hOutInGradReferenceIdeal)
    ∧ quiescent_BranchInGrad (hBranchInGrad := hBranchInGrad)
    ∧ quiescent_BranchInGradIdeal (hBranchInGradIdeal := hBranchInGradIdeal)
    ∧ quiescent_BranchInGradReferenceIdeal (hBranchInGradReferenceIdeal := hBranchInGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_BranchGrad (hBranchGrad := hBranchGrad)
    ∧ quiescent_BranchGradIdeal (hBranchGradIdeal := hBranchGradIdeal)
    ∧ quiescent_BranchGradReferenceIdeal (hBranchGradReferenceIdeal := hBranchGradReferenceIdeal)
    ∧ quiescent_Dt (hDt := hDt)
    ∧ quiescent_DtIdeal (hDtIdeal := hDtIdeal)
    ∧ quiescent_DtReferenceIdeal (hDtReferenceIdeal := hDtReferenceIdeal)
    ∧ quiescent_JoinedInGrad (hJoinedInGrad := hJoinedInGrad)
    ∧ quiescent_JoinedInGradIdeal (hJoinedInGradIdeal := hJoinedInGradIdeal)
    ∧ quiescent_JoinedInGradReferenceIdeal (hJoinedInGradReferenceIdeal := hJoinedInGradReferenceIdeal)
    ∧ quiescent_JoinedGrad (hJoinedGrad := hJoinedGrad)
    ∧ quiescent_JoinedGradIdeal (hJoinedGradIdeal := hJoinedGradIdeal)
    ∧ quiescent_JoinedGradReferenceIdeal (hJoinedGradReferenceIdeal := hJoinedGradReferenceIdeal)
    ∧ quiescent_Joined (hJoined := hJoined)
    ∧ quiescent_JoinedIdeal (hJoinedIdeal := hJoinedIdeal)
    ∧ quiescent_JoinedReferenceIdeal (hJoinedReferenceIdeal := hJoinedReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_SquaredRelu (hSquaredRelu := hSquaredRelu)
    ∧ quiescent_SquaredReluIdeal (hSquaredReluIdeal := hSquaredReluIdeal)
    ∧ quiescent_SquaredReluReferenceIdeal (hSquaredReluReferenceIdeal := hSquaredReluReferenceIdeal)
    ∧ quiescent_SquaredReluGrad (hSquaredReluGrad := hSquaredReluGrad)
    ∧ quiescent_SquaredReluGradIdeal (hSquaredReluGradIdeal := hSquaredReluGradIdeal)
    ∧ quiescent_SquaredReluGradReferenceIdeal (hSquaredReluGradReferenceIdeal := hSquaredReluGradReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ quiescent_ResidualGrad (hResidualGrad := hResidualGrad)
    ∧ quiescent_ResidualGradIdeal (hResidualGradIdeal := hResidualGradIdeal)
    ∧ quiescent_ResidualGradReferenceIdeal (hResidualGradReferenceIdeal := hResidualGradReferenceIdeal)
    ∧ quiescent_Mix (hMix := hMix)
    ∧ quiescent_MixIdeal (hMixIdeal := hMixIdeal)
    ∧ quiescent_MixReferenceIdeal (hMixReferenceIdeal := hMixReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ quiescent_ModPart (hModPart := hModPart)
    ∧ quiescent_ModPartIdeal (hModPartIdeal := hModPartIdeal)
    ∧ quiescent_ModPartReferenceIdeal (hModPartReferenceIdeal := hModPartReferenceIdeal)
    ∧ quiescent_Sgu (hSgu := hSgu)
    ∧ quiescent_SguIdeal (hSguIdeal := hSguIdeal)
    ∧ quiescent_SguReferenceIdeal (hSguReferenceIdeal := hSguReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_WInGrad (hWInGrad := hWInGrad)
    ∧ quiescent_WInGradIdeal (hWInGradIdeal := hWInGradIdeal)
    ∧ quiescent_WInGradIdeal_pre_is_device (hWInGradIdeal := hWInGradIdeal) (hPre_is_device := hPre_is_device)
    ∧ quiescent_WInGradReferenceIdeal (hWInGradReferenceIdeal := hWInGradReferenceIdeal)
    ∧ quiescent_WInGradReferenceIdeal_pre_is_device (hWInGradReferenceIdeal := hWInGradReferenceIdeal) (hPre_is_device := hPre_is_device)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Small_SmallIdeal
    ∧ algebraic_SmallIdeal_SmallReferenceIdeal (hSmallIdeal := hSmallIdeal) (hSmallReferenceIdeal := hSmallReferenceIdeal)
    ∧ bitexact_Small_SmallReference (hSmall := hSmall) (hSmallReference := hSmallReference)
    ∧ preserves_Mod_ModIdeal
    ∧ algebraic_ModIdeal_ModReferenceIdeal (hModIdeal := hModIdeal) (hModReferenceIdeal := hModReferenceIdeal)
    ∧ bitexact_Mod_ModReference (hMod := hMod) (hModReference := hModReference)
    ∧ preserves_Cond_CondIdeal
    ∧ algebraic_CondIdeal_CondReferenceIdeal (hCondIdeal := hCondIdeal) (hCondReferenceIdeal := hCondReferenceIdeal)
    ∧ bitexact_Cond_CondReference (hCond := hCond) (hCondReference := hCondReference)
    ∧ preserves_SumWin_SumWinIdeal
    ∧ algebraic_SumWinIdeal_SumWinReferenceIdeal (hSumWinIdeal := hSumWinIdeal) (hSumWinReferenceIdeal := hSumWinReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_AdamwWMod_AdamwWModIdeal
    ∧ algebraic_AdamwWModIdeal_AdamwWModReferenceIdeal (hAdamwWModIdeal := hAdamwWModIdeal) (hAdamwWModReferenceIdeal := hAdamwWModReferenceIdeal)
    ∧ preserves_AdamwBMod_AdamwBModIdeal
    ∧ algebraic_AdamwBModIdeal_AdamwBModReferenceIdeal (hAdamwBModIdeal := hAdamwBModIdeal) (hAdamwBModReferenceIdeal := hAdamwBModReferenceIdeal)
    ∧ preserves_AdamwWIn_AdamwWInIdeal
    ∧ algebraic_AdamwWInIdeal_AdamwWInReferenceIdeal (hAdamwWInIdeal := hAdamwWInIdeal) (hAdamwWInReferenceIdeal := hAdamwWInReferenceIdeal)
    ∧ preserves_AdamwNorm_AdamwNormIdeal
    ∧ algebraic_AdamwNormIdeal_AdamwNormReferenceIdeal (hAdamwNormIdeal := hAdamwNormIdeal) (hAdamwNormReferenceIdeal := hAdamwNormReferenceIdeal)
    ∧ preserves_AdamwGmWs_AdamwGmWsIdeal
    ∧ algebraic_AdamwGmWsIdeal_AdamwGmWsReferenceIdeal (hAdamwGmWsIdeal := hAdamwGmWsIdeal) (hAdamwGmWsReferenceIdeal := hAdamwGmWsReferenceIdeal)
    ∧ preserves_AdamwGmBs_AdamwGmBsIdeal
    ∧ algebraic_AdamwGmBsIdeal_AdamwGmBsReferenceIdeal (hAdamwGmBsIdeal := hAdamwGmBsIdeal) (hAdamwGmBsReferenceIdeal := hAdamwGmBsReferenceIdeal)
    ∧ preserves_AdamwConvW_AdamwConvWIdeal
    ∧ algebraic_AdamwConvWIdeal_AdamwConvWReferenceIdeal (hAdamwConvWIdeal := hAdamwConvWIdeal) (hAdamwConvWReferenceIdeal := hAdamwConvWReferenceIdeal)
    ∧ preserves_AdamwConvB_AdamwConvBIdeal
    ∧ algebraic_AdamwConvBIdeal_AdamwConvBReferenceIdeal (hAdamwConvBIdeal := hAdamwConvBIdeal) (hAdamwConvBReferenceIdeal := hAdamwConvBReferenceIdeal)
    ∧ preserves_AdamwHeads_AdamwHeadsIdeal
    ∧ algebraic_AdamwHeadsIdeal_AdamwHeadsReferenceIdeal (hAdamwHeadsIdeal := hAdamwHeadsIdeal) (hAdamwHeadsReferenceIdeal := hAdamwHeadsReferenceIdeal)
    ∧ preserves_AdamwSsmNorm_AdamwSsmNormIdeal
    ∧ algebraic_AdamwSsmNormIdeal_AdamwSsmNormReferenceIdeal (hAdamwSsmNormIdeal := hAdamwSsmNormIdeal) (hAdamwSsmNormReferenceIdeal := hAdamwSsmNormReferenceIdeal)
    ∧ preserves_AdamwSquare_AdamwSquareIdeal
    ∧ algebraic_AdamwSquareIdeal_AdamwSquareReferenceIdeal (hAdamwSquareIdeal := hAdamwSquareIdeal) (hAdamwSquareReferenceIdeal := hAdamwSquareReferenceIdeal)
    ∧ preserves_AdamwSsm_AdamwSsmIdeal
    ∧ algebraic_AdamwSsmIdeal_AdamwSsmReferenceIdeal (hAdamwSsmIdeal := hAdamwSsmIdeal) (hAdamwSsmReferenceIdeal := hAdamwSsmReferenceIdeal)
    ∧ preserves_AdamwFfOne_AdamwFfOneIdeal
    ∧ algebraic_AdamwFfOneIdeal_AdamwFfOneReferenceIdeal (hAdamwFfOneIdeal := hAdamwFfOneIdeal) (hAdamwFfOneReferenceIdeal := hAdamwFfOneReferenceIdeal)
    ∧ preserves_AdamwFfTwo_AdamwFfTwoIdeal
    ∧ algebraic_AdamwFfTwoIdeal_AdamwFfTwoReferenceIdeal (hAdamwFfTwoIdeal := hAdamwFfTwoIdeal) (hAdamwFfTwoReferenceIdeal := hAdamwFfTwoReferenceIdeal)
    ∧ preserves_WModGrad_WModGradIdeal
    ∧ algebraic_WModGradIdeal_WModGradReferenceIdeal (hWModGradIdeal := hWModGradIdeal) (hWModGradReferenceIdeal := hWModGradReferenceIdeal)
    ∧ preserves_SmallGrads_SmallGradsIdeal
    ∧ algebraic_SmallGradsIdeal_SmallGradsReferenceIdeal (hSmallGradsIdeal := hSmallGradsIdeal) (hSmallGradsReferenceIdeal := hSmallGradsReferenceIdeal)
    ∧ preserves_GradX_GradXIdeal
    ∧ algebraic_GradXIdeal_GradXReferenceIdeal (hGradXIdeal := hGradXIdeal) (hGradXReferenceIdeal := hGradXReferenceIdeal)
    ∧ preserves_Final_FinalIdeal
    ∧ algebraic_FinalIdeal_FinalReferenceIdeal (hFinalIdeal := hFinalIdeal) (hFinalReferenceIdeal := hFinalReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Branch_BranchIdeal
    ∧ algebraic_BranchIdeal_BranchReferenceIdeal (hBranchIdeal := hBranchIdeal) (hBranchReferenceIdeal := hBranchReferenceIdeal)
    ∧ preserves_DownInGrad_DownInGradIdeal
    ∧ algebraic_DownInGradIdeal_DownInGradReferenceIdeal (hDownInGradIdeal := hDownInGradIdeal) (hDownInGradReferenceIdeal := hDownInGradReferenceIdeal)
    ∧ preserves_UpInGrad_UpInGradIdeal
    ∧ algebraic_UpInGradIdeal_UpInGradReferenceIdeal (hUpInGradIdeal := hUpInGradIdeal) (hUpInGradReferenceIdeal := hUpInGradReferenceIdeal)
    ∧ preserves_OutInGrad_OutInGradIdeal
    ∧ algebraic_OutInGradIdeal_OutInGradReferenceIdeal (hOutInGradIdeal := hOutInGradIdeal) (hOutInGradReferenceIdeal := hOutInGradReferenceIdeal)
    ∧ preserves_BranchInGrad_BranchInGradIdeal
    ∧ algebraic_BranchInGradIdeal_BranchInGradReferenceIdeal (hBranchInGradIdeal := hBranchInGradIdeal) (hBranchInGradReferenceIdeal := hBranchInGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_BranchGrad_BranchGradIdeal
    ∧ algebraic_BranchGradIdeal_BranchGradReferenceIdeal (hBranchGradIdeal := hBranchGradIdeal) (hBranchGradReferenceIdeal := hBranchGradReferenceIdeal)
    ∧ preserves_Dt_DtIdeal
    ∧ algebraic_DtIdeal_DtReferenceIdeal (hDtIdeal := hDtIdeal) (hDtReferenceIdeal := hDtReferenceIdeal)
    ∧ preserves_JoinedInGrad_JoinedInGradIdeal
    ∧ algebraic_JoinedInGradIdeal_JoinedInGradReferenceIdeal (hJoinedInGradIdeal := hJoinedInGradIdeal) (hJoinedInGradReferenceIdeal := hJoinedInGradReferenceIdeal)
    ∧ preserves_JoinedGrad_JoinedGradIdeal
    ∧ algebraic_JoinedGradIdeal_JoinedGradReferenceIdeal (hJoinedGradIdeal := hJoinedGradIdeal) (hJoinedGradReferenceIdeal := hJoinedGradReferenceIdeal)
    ∧ preserves_Joined_JoinedIdeal
    ∧ algebraic_JoinedIdeal_JoinedReferenceIdeal (hJoinedIdeal := hJoinedIdeal) (hJoinedReferenceIdeal := hJoinedReferenceIdeal)
    ∧ preserves_Modulate_ModulateIdeal
    ∧ algebraic_ModulateIdeal_ModulateReferenceIdeal (hModulateIdeal := hModulateIdeal) (hModulateReferenceIdeal := hModulateReferenceIdeal)
    ∧ preserves_SquaredRelu_SquaredReluIdeal
    ∧ algebraic_SquaredReluIdeal_SquaredReluReferenceIdeal (hSquaredReluIdeal := hSquaredReluIdeal) (hSquaredReluReferenceIdeal := hSquaredReluReferenceIdeal)
    ∧ preserves_SquaredReluGrad_SquaredReluGradIdeal
    ∧ algebraic_SquaredReluGradIdeal_SquaredReluGradReferenceIdeal (hSquaredReluGradIdeal := hSquaredReluGradIdeal) (hSquaredReluGradReferenceIdeal := hSquaredReluGradReferenceIdeal)
    ∧ preserves_Residual_ResidualIdeal
    ∧ algebraic_ResidualIdeal_ResidualReferenceIdeal (hResidualIdeal := hResidualIdeal) (hResidualReferenceIdeal := hResidualReferenceIdeal)
    ∧ preserves_ResidualGrad_ResidualGradIdeal
    ∧ algebraic_ResidualGradIdeal_ResidualGradReferenceIdeal (hResidualGradIdeal := hResidualGradIdeal) (hResidualGradReferenceIdeal := hResidualGradReferenceIdeal)
    ∧ preserves_Mix_MixIdeal
    ∧ algebraic_MixIdeal_MixReferenceIdeal (hMixIdeal := hMixIdeal) (hMixReferenceIdeal := hMixReferenceIdeal)
    ∧ preserves_MixGrad_MixGradIdeal
    ∧ algebraic_MixGradIdeal_MixGradReferenceIdeal (hMixGradIdeal := hMixGradIdeal) (hMixGradReferenceIdeal := hMixGradReferenceIdeal)
    ∧ preserves_ModPart_ModPartIdeal
    ∧ algebraic_ModPartIdeal_ModPartReferenceIdeal (hModPartIdeal := hModPartIdeal) (hModPartReferenceIdeal := hModPartReferenceIdeal)
    ∧ preserves_Sgu_SguIdeal
    ∧ algebraic_SguIdeal_SguReferenceIdeal (hSguIdeal := hSguIdeal) (hSguReferenceIdeal := hSguReferenceIdeal)
    ∧ preserves_Conv_ConvIdeal
    ∧ algebraic_ConvIdeal_ConvReferenceIdeal (hConvIdeal := hConvIdeal) (hConvReferenceIdeal := hConvReferenceIdeal)
    ∧ preserves_WInGrad_WInGradIdeal
    ∧ algebraic_WInGradIdeal_WInGradReferenceIdeal_pre_is_device (hWInGradIdeal := hWInGradIdeal) (hWInGradReferenceIdeal := hWInGradReferenceIdeal) (hPre_is_device := hPre_is_device)
-- ==== Pre_is_device.lean ====
abbrev S8x1024x10368 : Shape := ⟨3, ![8, 1024, 10368]⟩
abbrev S_ : Shape := ⟨0, ![]⟩

class Facts : Prop where

variable [Facts]

def fn {F : FTy → Type} [FloatOps F] (main_arg0 : FVec F S8x1024x10368 .bf16) (main_arg1 : IVec S_ 32) : IVec S_ 1 :=
  let main_c : IVec S_ 32 := constantI S_ 32 0#32
  let main_v0 : IVec S_ 1 := cmpi .sge main_arg1 main_c
  let main_c_0 : IVec S_ 32 := constantI S_ 32 8#32
  let main_v1 : IVec S_ 1 := cmpi .slt main_arg1 main_c_0
  let main_v2 : IVec S_ 1 := andi main_v0 main_v1
  main_v2
-- ==== Kernel.lean ====
abbrev S8x1024x1408 : Shape := ⟨3, ![8, 1024, 1408]⟩
abbrev S1024x1024 : Shape := ⟨2, ![1024, 1024]⟩
abbrev S2048x1024 : Shape := ⟨2, ![2048, 1024]⟩
abbrev S1024x4096 : Shape := ⟨2, ![1024, 4096]⟩
abbrev S4096x1024 : Shape := ⟨2, ![4096, 1024]⟩
abbrev S8x128x1024 : Shape := ⟨3, ![8, 128, 1024]⟩
abbrev S8x256x1024 : Shape := ⟨3, ![8, 256, 1024]⟩
abbrev S8x1024x512 : Shape := ⟨3, ![8, 1024, 512]⟩
abbrev S8x512x1024 : Shape := ⟨3, ![8, 512, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x128x1024 : Shape := ⟨3, ![1, 128, 1024]⟩
abbrev S128x1024 : Shape := ⟨2, ![128, 1024]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S1024x1024, .bf16⟩
  | .hbm, ⟨2, _⟩ => ⟨S2048x1024, .bf16⟩
  | .hbm, ⟨3, _⟩ => ⟨S1024x1024, .bf16⟩
  | .hbm, ⟨4, _⟩ => ⟨S1024x4096, .bf16⟩
  | .hbm, ⟨5, _⟩ => ⟨S4096x1024, .bf16⟩
  | .hbm, ⟨6, _⟩ => ⟨S8x1024x1408, .bf16⟩
  | .hbm, ⟨7, _⟩ => ⟨S8x128x1024, .bf16⟩
  | .hbm, ⟨8, _⟩ => ⟨S8x256x1024, .bf16⟩
  | .hbm, ⟨9, _⟩ => ⟨S8x128x1024, .bf16⟩
  | .hbm, ⟨10, _⟩ => ⟨S8x1024x512, .bf16⟩
  | .hbm, ⟨11, _⟩ => ⟨S8x512x1024, .bf16⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v19 : BitVec 32 := Scalar.muli v12 c128_i32
  v19
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v19 : BitVec 32 := Scalar.muli v12 c128_i32
  let v20 : BitVec 32 := v19
  let c0_i32_12 : BitVec 32 := 0#32
  ![v20.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v26 : BitVec 32 := Scalar.muli v12 c256_i32
  v26
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_14 : BitVec 32 := 0#32
  let c0_i32_15 : BitVec 32 := 0#32
  ![v12.toNat, 0, 0]
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v26 : BitVec 32 := Scalar.muli v12 c256_i32
  let v27 : BitVec 32 := v26
  let c0_i32_16 : BitVec 32 := 0#32
  ![v27.toNat, 0]
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_17 : BitVec 32 := 128#32
  let v33 : BitVec 32 := Scalar.muli v12 c128_i32_17
  v33
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v40 : BitVec 32 := Scalar.muli v12 c512_i32
  v40
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_22 : BitVec 32 := 0#32
  let c0_i32_23 : BitVec 32 := 0#32
  ![v12.toNat, 0, 0]
def k0_off7 (d0 : Dev nD) : Fin 2 → Nat :=
  let c0_i32_24 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v40 : BitVec 32 := Scalar.muli v12 c512_i32
  let v41 : BitVec 32 := v40
  ![0, v41.toNat]
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_25 : BitVec 32 := 512#32
  let v47 : BitVec 32 := Scalar.muli v12 c512_i32_25
  v47
def k0_off8 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_off9 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_25 : BitVec 32 := 512#32
  let v47 : BitVec 32 := Scalar.muli v12 c512_i32_25
  let v48 : BitVec 32 := v47
  let c0_i32_28 : BitVec 32 := 0#32
  ![v48.toNat, 0]
def k0_off10 (d0 : Dev nD) (c0_i32_29 : BitVec 32) (c0_i32_31 : BitVec 32) (c1_i32_33 : BitVec 32) : Fin 3 → Nat :=
  let c4_i32_35 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.addi v2 c0_i32_29
  let c2_i32_30 : BitVec 32 := 2#32
  let v55 : BitVec 32 := Scalar.remsi v54 c2_i32_30
  let v60 : BitVec 32 := Scalar.muli c4_i32_35 v55
  let c2_i32_36 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.addi v5 c0_i32_31
  let c2_i32_32 : BitVec 32 := 2#32
  let v57 : BitVec 32 := Scalar.remsi v56 c2_i32_32
  let v61 : BitVec 32 := Scalar.muli c2_i32_36 v57
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.addi v8 c1_i32_33
  let c2_i32_34 : BitVec 32 := 2#32
  let v59 : BitVec 32 := Scalar.remsi v58 c2_i32_34
  let v63 : BitVec 32 := Scalar.addi v62 v59
  let c0_i32_47 : BitVec 32 := 0#32
  let c0_i32_48 : BitVec 32 := 0#32
  ![v63.toNat, 0, 0]
def k0_off10_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_29 : BitVec 32 := 0#32
  let v54 : BitVec 32 := Scalar.addi v2 c0_i32_29
  let c2_i32_30 : BitVec 32 := 2#32
  let v55 : BitVec 32 := Scalar.remsi v54 c2_i32_30
  let c4_i32_41 : BitVec 32 := 4#32
  let v64 : BitVec 32 := Scalar.muli v55 c4_i32_41
  let v65 : BitVec 32 := Scalar.addi c0_i32_42 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_31 : BitVec 32 := 0#32
  let v56 : BitVec 32 := Scalar.addi v5 c0_i32_31
  let c2_i32_32 : BitVec 32 := 2#32
  let v57 : BitVec 32 := Scalar.remsi v56 c2_i32_32
  let c2_i32_43 : BitVec 32 := 2#32
  let v66 : BitVec 32 := Scalar.muli v57 c2_i32_43
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v58 : BitVec 32 := Scalar.addi v8 c1_i32_33
  let c2_i32_34 : BitVec 32 := 2#32
  let v59 : BitVec 32 := Scalar.remsi v58 c2_i32_34
  let c1_i32_44 : BitVec 32 := 1#32
  let v68 : BitVec 32 := Scalar.muli v59 c1_i32_44
  let v69 : BitVec 32 := Scalar.addi v67 v68
  v69.toNat
def k0_dev2 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_49 : BitVec 32 := 0#32
  let v78 : BitVec 32 := Scalar.addi v2 c0_i32_49
  let c2_i32_50 : BitVec 32 := 2#32
  let v79 : BitVec 32 := Scalar.remsi v78 c2_i32_50
  let c4_i32_61 : BitVec 32 := 4#32
  let v88 : BitVec 32 := Scalar.muli v79 c4_i32_61
  let v89 : BitVec 32 := Scalar.addi c0_i32_62 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v80 : BitVec 32 := Scalar.addi v5 c1_i32_51
  let c2_i32_52 : BitVec 32 := 2#32
  let v81 : BitVec 32 := Scalar.remsi v80 c2_i32_52
  let c2_i32_63 : BitVec 32 := 2#32
  let v90 : BitVec 32 := Scalar.muli v81 c2_i32_63
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let v82 : BitVec 32 := Scalar.addi v8 c0_i32_53
  let c2_i32_54 : BitVec 32 := 2#32
  let v83 : BitVec 32 := Scalar.remsi v82 c2_i32_54
  let c1_i32_64 : BitVec 32 := 1#32
  let v92 : BitVec 32 := Scalar.muli v83 c1_i32_64
  let v93 : BitVec 32 := Scalar.addi v91 v92
  v93.toNat
def k0_dev3 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_69 : BitVec 32 := 0#32
  let v102 : BitVec 32 := Scalar.addi v2 c0_i32_69
  let c2_i32_70 : BitVec 32 := 2#32
  let v103 : BitVec 32 := Scalar.remsi v102 c2_i32_70
  let c4_i32_81 : BitVec 32 := 4#32
  let v112 : BitVec 32 := Scalar.muli v103 c4_i32_81
  let v113 : BitVec 32 := Scalar.addi c0_i32_82 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v104 : BitVec 32 := Scalar.addi v5 c1_i32_71
  let c2_i32_72 : BitVec 32 := 2#32
  let v105 : BitVec 32 := Scalar.remsi v104 c2_i32_72
  let c2_i32_83 : BitVec 32 := 2#32
  let v114 : BitVec 32 := Scalar.muli v105 c2_i32_83
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v106 : BitVec 32 := Scalar.addi v8 c1_i32_73
  let c2_i32_74 : BitVec 32 := 2#32
  let v107 : BitVec 32 := Scalar.remsi v106 c2_i32_74
  let c1_i32_84 : BitVec 32 := 1#32
  let v116 : BitVec 32 := Scalar.muli v107 c1_i32_84
  let v117 : BitVec 32 := Scalar.addi v115 v116
  v117.toNat
def k0_dev4 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_89 : BitVec 32 := 1#32
  let v126 : BitVec 32 := Scalar.addi v2 c1_i32_89
  let c2_i32_90 : BitVec 32 := 2#32
  let v127 : BitVec 32 := Scalar.remsi v126 c2_i32_90
  let c4_i32_101 : BitVec 32 := 4#32
  let v136 : BitVec 32 := Scalar.muli v127 c4_i32_101
  let v137 : BitVec 32 := Scalar.addi c0_i32_102 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_91 : BitVec 32 := 0#32
  let v128 : BitVec 32 := Scalar.addi v5 c0_i32_91
  let c2_i32_92 : BitVec 32 := 2#32
  let v129 : BitVec 32 := Scalar.remsi v128 c2_i32_92
  let c2_i32_103 : BitVec 32 := 2#32
  let v138 : BitVec 32 := Scalar.muli v129 c2_i32_103
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v130 : BitVec 32 := Scalar.addi v8 c0_i32_93
  let c2_i32_94 : BitVec 32 := 2#32
  let v131 : BitVec 32 := Scalar.remsi v130 c2_i32_94
  let c1_i32_104 : BitVec 32 := 1#32
  let v140 : BitVec 32 := Scalar.muli v131 c1_i32_104
  let v141 : BitVec 32 := Scalar.addi v139 v140
  v141.toNat
def k0_dev5 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v150 : BitVec 32 := Scalar.addi v2 c1_i32_109
  let c2_i32_110 : BitVec 32 := 2#32
  let v151 : BitVec 32 := Scalar.remsi v150 c2_i32_110
  let c4_i32_121 : BitVec 32 := 4#32
  let v160 : BitVec 32 := Scalar.muli v151 c4_i32_121
  let v161 : BitVec 32 := Scalar.addi c0_i32_122 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_111 : BitVec 32 := 0#32
  let v152 : BitVec 32 := Scalar.addi v5 c0_i32_111
  let c2_i32_112 : BitVec 32 := 2#32
  let v153 : BitVec 32 := Scalar.remsi v152 c2_i32_112
  let c2_i32_123 : BitVec 32 := 2#32
  let v162 : BitVec 32 := Scalar.muli v153 c2_i32_123
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v154 : BitVec 32 := Scalar.addi v8 c1_i32_113
  let c2_i32_114 : BitVec 32 := 2#32
  let v155 : BitVec 32 := Scalar.remsi v154 c2_i32_114
  let c1_i32_124 : BitVec 32 := 1#32
  let v164 : BitVec 32 := Scalar.muli v155 c1_i32_124
  let v165 : BitVec 32 := Scalar.addi v163 v164
  v165.toNat
def k0_dev6 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_129 : BitVec 32 := 1#32
  let v174 : BitVec 32 := Scalar.addi v2 c1_i32_129
  let c2_i32_130 : BitVec 32 := 2#32
  let v175 : BitVec 32 := Scalar.remsi v174 c2_i32_130
  let c4_i32_141 : BitVec 32 := 4#32
  let v184 : BitVec 32 := Scalar.muli v175 c4_i32_141
  let v185 : BitVec 32 := Scalar.addi c0_i32_142 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_131 : BitVec 32 := 1#32
  let v176 : BitVec 32 := Scalar.addi v5 c1_i32_131
  let c2_i32_132 : BitVec 32 := 2#32
  let v177 : BitVec 32 := Scalar.remsi v176 c2_i32_132
  let c2_i32_143 : BitVec 32 := 2#32
  let v186 : BitVec 32 := Scalar.muli v177 c2_i32_143
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v178 : BitVec 32 := Scalar.addi v8 c0_i32_133
  let c2_i32_134 : BitVec 32 := 2#32
  let v179 : BitVec 32 := Scalar.remsi v178 c2_i32_134
  let c1_i32_144 : BitVec 32 := 1#32
  let v188 : BitVec 32 := Scalar.muli v179 c1_i32_144
  let v189 : BitVec 32 := Scalar.addi v187 v188
  v189.toNat
def k0_dev7 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_149 : BitVec 32 := 1#32
  let v198 : BitVec 32 := Scalar.addi v2 c1_i32_149
  let c2_i32_150 : BitVec 32 := 2#32
  let v199 : BitVec 32 := Scalar.remsi v198 c2_i32_150
  let c4_i32_160 : BitVec 32 := 4#32
  let v208 : BitVec 32 := Scalar.muli v199 c4_i32_160
  let v209 : BitVec 32 := Scalar.addi c0_i32_161 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_151 : BitVec 32 := 1#32
  let v200 : BitVec 32 := Scalar.addi v5 c1_i32_151
  let c2_i32_152 : BitVec 32 := 2#32
  let v201 : BitVec 32 := Scalar.remsi v200 c2_i32_152
  let c2_i32_162 : BitVec 32 := 2#32
  let v210 : BitVec 32 := Scalar.muli v201 c2_i32_162
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v202 : BitVec 32 := Scalar.addi v8 c1_i32_153
  let c2_i32_154 : BitVec 32 := 2#32
  let v203 : BitVec 32 := Scalar.remsi v202 c2_i32_154
  let c1_i32_163 : BitVec 32 := 1#32
  let v212 : BitVec 32 := Scalar.muli v203 c1_i32_163
  let v213 : BitVec 32 := Scalar.addi v211 v212
  v213.toNat
def k0_mult6 (d0 : Dev nD) : BitVec 32 :=
  let c4_i32_174 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_168 : BitVec 32 := 0#32
  let v222 : BitVec 32 := Scalar.addi v2 c0_i32_168
  let c2_i32_169 : BitVec 32 := 2#32
  let v223 : BitVec 32 := Scalar.remsi v222 c2_i32_169
  let v228 : BitVec 32 := Scalar.muli c4_i32_174 v223
  let c2_i32_175 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v224 : BitVec 32 := Scalar.addi v5 c0_i32_170
  let c2_i32_171 : BitVec 32 := 2#32
  let v225 : BitVec 32 := Scalar.remsi v224 c2_i32_171
  let v229 : BitVec 32 := Scalar.muli c2_i32_175 v225
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v226 : BitVec 32 := Scalar.addi v8 c1_i32_172
  let c2_i32_173 : BitVec 32 := 2#32
  let v227 : BitVec 32 := Scalar.remsi v226 c2_i32_173
  let v231 : BitVec 32 := Scalar.addi v230 v227
  let c128_i32_176 : BitVec 32 := 128#32
  let v232 : BitVec 32 := Scalar.muli v231 c128_i32_176
  v232
def k0_off11 (d0 : Dev nD) (c0_i32_168 : BitVec 32) (c0_i32_170 : BitVec 32) (c1_i32_172 : BitVec 32) : Fin 2 → Nat :=
  let c4_i32_174 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.addi v2 c0_i32_168
  let c2_i32_169 : BitVec 32 := 2#32
  let v223 : BitVec 32 := Scalar.remsi v222 c2_i32_169
  let v228 : BitVec 32 := Scalar.muli c4_i32_174 v223
  let c2_i32_175 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.addi v5 c0_i32_170
  let c2_i32_171 : BitVec 32 := 2#32
  let v225 : BitVec 32 := Scalar.remsi v224 c2_i32_171
  let v229 : BitVec 32 := Scalar.muli c2_i32_175 v225
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v226 : BitVec 32 := Scalar.addi v8 c1_i32_172
  let c2_i32_173 : BitVec 32 := 2#32
  let v227 : BitVec 32 := Scalar.remsi v226 c2_i32_173
  let v231 : BitVec 32 := Scalar.addi v230 v227
  let c128_i32_176 : BitVec 32 := 128#32
  let v232 : BitVec 32 := Scalar.muli v231 c128_i32_176
  let v233 : BitVec 32 := v232
  let c0_i32_187 : BitVec 32 := 0#32
  ![v233.toNat, 0]
def k0_off11_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev8 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_168 : BitVec 32 := 0#32
  let v222 : BitVec 32 := Scalar.addi v2 c0_i32_168
  let c2_i32_169 : BitVec 32 := 2#32
  let v223 : BitVec 32 := Scalar.remsi v222 c2_i32_169
  let c4_i32_181 : BitVec 32 := 4#32
  let v234 : BitVec 32 := Scalar.muli v223 c4_i32_181
  let v235 : BitVec 32 := Scalar.addi c0_i32_182 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v224 : BitVec 32 := Scalar.addi v5 c0_i32_170
  let c2_i32_171 : BitVec 32 := 2#32
  let v225 : BitVec 32 := Scalar.remsi v224 c2_i32_171
  let c2_i32_183 : BitVec 32 := 2#32
  let v236 : BitVec 32 := Scalar.muli v225 c2_i32_183
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v226 : BitVec 32 := Scalar.addi v8 c1_i32_172
  let c2_i32_173 : BitVec 32 := 2#32
  let v227 : BitVec 32 := Scalar.remsi v226 c2_i32_173
  let c1_i32_184 : BitVec 32 := 1#32
  let v238 : BitVec 32 := Scalar.muli v227 c1_i32_184
  let v239 : BitVec 32 := Scalar.addi v237 v238
  v239.toNat
def k0_mult7 (d0 : Dev nD) : BitVec 32 :=
  let c4_i32_194 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_188 : BitVec 32 := 0#32
  let v247 : BitVec 32 := Scalar.addi v2 c0_i32_188
  let c2_i32_189 : BitVec 32 := 2#32
  let v248 : BitVec 32 := Scalar.remsi v247 c2_i32_189
  let v253 : BitVec 32 := Scalar.muli c4_i32_194 v248
  let c2_i32_195 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_190 : BitVec 32 := 1#32
  let v249 : BitVec 32 := Scalar.addi v5 c1_i32_190
  let c2_i32_191 : BitVec 32 := 2#32
  let v250 : BitVec 32 := Scalar.remsi v249 c2_i32_191
  let v254 : BitVec 32 := Scalar.muli c2_i32_195 v250
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_192 : BitVec 32 := 0#32
  let v251 : BitVec 32 := Scalar.addi v8 c0_i32_192
  let c2_i32_193 : BitVec 32 := 2#32
  let v252 : BitVec 32 := Scalar.remsi v251 c2_i32_193
  let v256 : BitVec 32 := Scalar.addi v255 v252
  let c128_i32_196 : BitVec 32 := 128#32
  let v257 : BitVec 32 := Scalar.muli v256 c128_i32_196
  v257
def k0_dev9 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_188 : BitVec 32 := 0#32
  let v247 : BitVec 32 := Scalar.addi v2 c0_i32_188
  let c2_i32_189 : BitVec 32 := 2#32
  let v248 : BitVec 32 := Scalar.remsi v247 c2_i32_189
  let c4_i32_201 : BitVec 32 := 4#32
  let v259 : BitVec 32 := Scalar.muli v248 c4_i32_201
  let v260 : BitVec 32 := Scalar.addi c0_i32_202 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_190 : BitVec 32 := 1#32
  let v249 : BitVec 32 := Scalar.addi v5 c1_i32_190
  let c2_i32_191 : BitVec 32 := 2#32
  let v250 : BitVec 32 := Scalar.remsi v249 c2_i32_191
  let c2_i32_203 : BitVec 32 := 2#32
  let v261 : BitVec 32 := Scalar.muli v250 c2_i32_203
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_192 : BitVec 32 := 0#32
  let v251 : BitVec 32 := Scalar.addi v8 c0_i32_192
  let c2_i32_193 : BitVec 32 := 2#32
  let v252 : BitVec 32 := Scalar.remsi v251 c2_i32_193
  let c1_i32_204 : BitVec 32 := 1#32
  let v263 : BitVec 32 := Scalar.muli v252 c1_i32_204
  let v264 : BitVec 32 := Scalar.addi v262 v263
  v264.toNat
def k0_mult8 (d0 : Dev nD) : BitVec 32 :=
  let c4_i32_214 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_208 : BitVec 32 := 0#32
  let v272 : BitVec 32 := Scalar.addi v2 c0_i32_208
  let c2_i32_209 : BitVec 32 := 2#32
  let v273 : BitVec 32 := Scalar.remsi v272 c2_i32_209
  let v278 : BitVec 32 := Scalar.muli c4_i32_214 v273
  let c2_i32_215 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v274 : BitVec 32 := Scalar.addi v5 c1_i32_210
  let c2_i32_211 : BitVec 32 := 2#32
  let v275 : BitVec 32 := Scalar.remsi v274 c2_i32_211
  let v279 : BitVec 32 := Scalar.muli c2_i32_215 v275
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v276 : BitVec 32 := Scalar.addi v8 c1_i32_212
  let c2_i32_213 : BitVec 32 := 2#32
  let v277 : BitVec 32 := Scalar.remsi v276 c2_i32_213
  let v281 : BitVec 32 := Scalar.addi v280 v277
  let c128_i32_216 : BitVec 32 := 128#32
  let v282 : BitVec 32 := Scalar.muli v281 c128_i32_216
  v282
def k0_dev10 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_208 : BitVec 32 := 0#32
  let v272 : BitVec 32 := Scalar.addi v2 c0_i32_208
  let c2_i32_209 : BitVec 32 := 2#32
  let v273 : BitVec 32 := Scalar.remsi v272 c2_i32_209
  let c4_i32_221 : BitVec 32 := 4#32
  let v284 : BitVec 32 := Scalar.muli v273 c4_i32_221
  let v285 : BitVec 32 := Scalar.addi c0_i32_222 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v274 : BitVec 32 := Scalar.addi v5 c1_i32_210
  let c2_i32_211 : BitVec 32 := 2#32
  let v275 : BitVec 32 := Scalar.remsi v274 c2_i32_211
  let c2_i32_223 : BitVec 32 := 2#32
  let v286 : BitVec 32 := Scalar.muli v275 c2_i32_223
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v276 : BitVec 32 := Scalar.addi v8 c1_i32_212
  let c2_i32_213 : BitVec 32 := 2#32
  let v277 : BitVec 32 := Scalar.remsi v276 c2_i32_213
  let c1_i32_224 : BitVec 32 := 1#32
  let v288 : BitVec 32 := Scalar.muli v277 c1_i32_224
  let v289 : BitVec 32 := Scalar.addi v287 v288
  v289.toNat
def k0_mult9 (d0 : Dev nD) : BitVec 32 :=
  let c4_i32_234 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_228 : BitVec 32 := 1#32
  let v297 : BitVec 32 := Scalar.addi v2 c1_i32_228
  let c2_i32_229 : BitVec 32 := 2#32
  let v298 : BitVec 32 := Scalar.remsi v297 c2_i32_229
  let v303 : BitVec 32 := Scalar.muli c4_i32_234 v298
  let c2_i32_235 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_230 : BitVec 32 := 0#32
  let v299 : BitVec 32 := Scalar.addi v5 c0_i32_230
  let c2_i32_231 : BitVec 32 := 2#32
  let v300 : BitVec 32 := Scalar.remsi v299 c2_i32_231
  let v304 : BitVec 32 := Scalar.muli c2_i32_235 v300
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_232 : BitVec 32 := 0#32
  let v301 : BitVec 32 := Scalar.addi v8 c0_i32_232
  let c2_i32_233 : BitVec 32 := 2#32
  let v302 : BitVec 32 := Scalar.remsi v301 c2_i32_233
  let v306 : BitVec 32 := Scalar.addi v305 v302
  let c128_i32_236 : BitVec 32 := 128#32
  let v307 : BitVec 32 := Scalar.muli v306 c128_i32_236
  v307
def k0_dev11 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_228 : BitVec 32 := 1#32
  let v297 : BitVec 32 := Scalar.addi v2 c1_i32_228
  let c2_i32_229 : BitVec 32 := 2#32
  let v298 : BitVec 32 := Scalar.remsi v297 c2_i32_229
  let c4_i32_241 : BitVec 32 := 4#32
  let v309 : BitVec 32 := Scalar.muli v298 c4_i32_241
  let v310 : BitVec 32 := Scalar.addi c0_i32_242 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_230 : BitVec 32 := 0#32
  let v299 : BitVec 32 := Scalar.addi v5 c0_i32_230
  let c2_i32_231 : BitVec 32 := 2#32
  let v300 : BitVec 32 := Scalar.remsi v299 c2_i32_231
  let c2_i32_243 : BitVec 32 := 2#32
  let v311 : BitVec 32 := Scalar.muli v300 c2_i32_243
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_232 : BitVec 32 := 0#32
  let v301 : BitVec 32 := Scalar.addi v8 c0_i32_232
  let c2_i32_233 : BitVec 32 := 2#32
  let v302 : BitVec 32 := Scalar.remsi v301 c2_i32_233
  let c1_i32_244 : BitVec 32 := 1#32
  let v313 : BitVec 32 := Scalar.muli v302 c1_i32_244
  let v314 : BitVec 32 := Scalar.addi v312 v313
  v314.toNat
def k0_mult10 (d0 : Dev nD) : BitVec 32 :=
  let c4_i32_254 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_248 : BitVec 32 := 1#32
  let v322 : BitVec 32 := Scalar.addi v2 c1_i32_248
  let c2_i32_249 : BitVec 32 := 2#32
  let v323 : BitVec 32 := Scalar.remsi v322 c2_i32_249
  let v328 : BitVec 32 := Scalar.muli c4_i32_254 v323
  let c2_i32_255 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_250 : BitVec 32 := 0#32
  let v324 : BitVec 32 := Scalar.addi v5 c0_i32_250
  let c2_i32_251 : BitVec 32 := 2#32
  let v325 : BitVec 32 := Scalar.remsi v324 c2_i32_251
  let v329 : BitVec 32 := Scalar.muli c2_i32_255 v325
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v326 : BitVec 32 := Scalar.addi v8 c1_i32_252
  let c2_i32_253 : BitVec 32 := 2#32
  let v327 : BitVec 32 := Scalar.remsi v326 c2_i32_253
  let v331 : BitVec 32 := Scalar.addi v330 v327
  let c128_i32_256 : BitVec 32 := 128#32
  let v332 : BitVec 32 := Scalar.muli v331 c128_i32_256
  v332
def k0_dev12 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_248 : BitVec 32 := 1#32
  let v322 : BitVec 32 := Scalar.addi v2 c1_i32_248
  let c2_i32_249 : BitVec 32 := 2#32
  let v323 : BitVec 32 := Scalar.remsi v322 c2_i32_249
  let c4_i32_261 : BitVec 32 := 4#32
  let v334 : BitVec 32 := Scalar.muli v323 c4_i32_261
  let v335 : BitVec 32 := Scalar.addi c0_i32_262 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_250 : BitVec 32 := 0#32
  let v324 : BitVec 32 := Scalar.addi v5 c0_i32_250
  let c2_i32_251 : BitVec 32 := 2#32
  let v325 : BitVec 32 := Scalar.remsi v324 c2_i32_251
  let c2_i32_263 : BitVec 32 := 2#32
  let v336 : BitVec 32 := Scalar.muli v325 c2_i32_263
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v326 : BitVec 32 := Scalar.addi v8 c1_i32_252
  let c2_i32_253 : BitVec 32 := 2#32
  let v327 : BitVec 32 := Scalar.remsi v326 c2_i32_253
  let c1_i32_264 : BitVec 32 := 1#32
  let v338 : BitVec 32 := Scalar.muli v327 c1_i32_264
  let v339 : BitVec 32 := Scalar.addi v337 v338
  v339.toNat
def k0_mult11 (d0 : Dev nD) : BitVec 32 :=
  let c4_i32_274 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_268 : BitVec 32 := 1#32
  let v347 : BitVec 32 := Scalar.addi v2 c1_i32_268
  let c2_i32_269 : BitVec 32 := 2#32
  let v348 : BitVec 32 := Scalar.remsi v347 c2_i32_269
  let v353 : BitVec 32 := Scalar.muli c4_i32_274 v348
  let c2_i32_275 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_270 : BitVec 32 := 1#32
  let v349 : BitVec 32 := Scalar.addi v5 c1_i32_270
  let c2_i32_271 : BitVec 32 := 2#32
  let v350 : BitVec 32 := Scalar.remsi v349 c2_i32_271
  let v354 : BitVec 32 := Scalar.muli c2_i32_275 v350
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_272 : BitVec 32 := 0#32
  let v351 : BitVec 32 := Scalar.addi v8 c0_i32_272
  let c2_i32_273 : BitVec 32 := 2#32
  let v352 : BitVec 32 := Scalar.remsi v351 c2_i32_273
  let v356 : BitVec 32 := Scalar.addi v355 v352
  let c128_i32_276 : BitVec 32 := 128#32
  let v357 : BitVec 32 := Scalar.muli v356 c128_i32_276
  v357
def k0_dev13 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_268 : BitVec 32 := 1#32
  let v347 : BitVec 32 := Scalar.addi v2 c1_i32_268
  let c2_i32_269 : BitVec 32 := 2#32
  let v348 : BitVec 32 := Scalar.remsi v347 c2_i32_269
  let c4_i32_281 : BitVec 32 := 4#32
  let v359 : BitVec 32 := Scalar.muli v348 c4_i32_281
  let v360 : BitVec 32 := Scalar.addi c0_i32_282 v359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_270 : BitVec 32 := 1#32
  let v349 : BitVec 32 := Scalar.addi v5 c1_i32_270
  let c2_i32_271 : BitVec 32 := 2#32
  let v350 : BitVec 32 := Scalar.remsi v349 c2_i32_271
  let c2_i32_283 : BitVec 32 := 2#32
  let v361 : BitVec 32 := Scalar.muli v350 c2_i32_283
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_272 : BitVec 32 := 0#32
  let v351 : BitVec 32 := Scalar.addi v8 c0_i32_272
  let c2_i32_273 : BitVec 32 := 2#32
  let v352 : BitVec 32 := Scalar.remsi v351 c2_i32_273
  let c1_i32_284 : BitVec 32 := 1#32
  let v363 : BitVec 32 := Scalar.muli v352 c1_i32_284
  let v364 : BitVec 32 := Scalar.addi v362 v363
  v364.toNat
def k0_mult12 (d0 : Dev nD) : BitVec 32 :=
  let c4_i32_294 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v372 : BitVec 32 := Scalar.addi v2 c1_i32_288
  let c2_i32_289 : BitVec 32 := 2#32
  let v373 : BitVec 32 := Scalar.remsi v372 c2_i32_289
  let v378 : BitVec 32 := Scalar.muli c4_i32_294 v373
  let c2_i32_295 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_290 : BitVec 32 := 1#32
  let v374 : BitVec 32 := Scalar.addi v5 c1_i32_290
  let c2_i32_291 : BitVec 32 := 2#32
  let v375 : BitVec 32 := Scalar.remsi v374 c2_i32_291
  let v379 : BitVec 32 := Scalar.muli c2_i32_295 v375
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v376 : BitVec 32 := Scalar.addi v8 c1_i32_292
  let c2_i32_293 : BitVec 32 := 2#32
  let v377 : BitVec 32 := Scalar.remsi v376 c2_i32_293
  let v381 : BitVec 32 := Scalar.addi v380 v377
  let c128_i32_296 : BitVec 32 := 128#32
  let v382 : BitVec 32 := Scalar.muli v381 c128_i32_296
  v382
def k0_dev14 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v372 : BitVec 32 := Scalar.addi v2 c1_i32_288
  let c2_i32_289 : BitVec 32 := 2#32
  let v373 : BitVec 32 := Scalar.remsi v372 c2_i32_289
  let c4_i32_301 : BitVec 32 := 4#32
  let v384 : BitVec 32 := Scalar.muli v373 c4_i32_301
  let v385 : BitVec 32 := Scalar.addi c0_i32_302 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_290 : BitVec 32 := 1#32
  let v374 : BitVec 32 := Scalar.addi v5 c1_i32_290
  let c2_i32_291 : BitVec 32 := 2#32
  let v375 : BitVec 32 := Scalar.remsi v374 c2_i32_291
  let c2_i32_303 : BitVec 32 := 2#32
  let v386 : BitVec 32 := Scalar.muli v375 c2_i32_303
  let v387 : BitVec 32 := Scalar.addi v385 v386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v376 : BitVec 32 := Scalar.addi v8 c1_i32_292
  let c2_i32_293 : BitVec 32 := 2#32
  let v377 : BitVec 32 := Scalar.remsi v376 c2_i32_293
  let c1_i32_304 : BitVec 32 := 1#32
  let v388 : BitVec 32 := Scalar.muli v377 c1_i32_304
  let v389 : BitVec 32 := Scalar.addi v387 v388
  v389.toNat
def k0_mult13 (d0 : Dev nD) : BitVec 32 :=
  let c4_i32_314 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_308 : BitVec 32 := 0#32
  let v397 : BitVec 32 := Scalar.addi v2 c0_i32_308
  let c2_i32_309 : BitVec 32 := 2#32
  let v398 : BitVec 32 := Scalar.remsi v397 c2_i32_309
  let v403 : BitVec 32 := Scalar.muli c4_i32_314 v398
  let c2_i32_315 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_310 : BitVec 32 := 0#32
  let v399 : BitVec 32 := Scalar.addi v5 c0_i32_310
  let c2_i32_311 : BitVec 32 := 2#32
  let v400 : BitVec 32 := Scalar.remsi v399 c2_i32_311
  let v404 : BitVec 32 := Scalar.muli c2_i32_315 v400
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v401 : BitVec 32 := Scalar.addi v8 c1_i32_312
  let c2_i32_313 : BitVec 32 := 2#32
  let v402 : BitVec 32 := Scalar.remsi v401 c2_i32_313
  let v406 : BitVec 32 := Scalar.addi v405 v402
  let c256_i32_316 : BitVec 32 := 256#32
  let v407 : BitVec 32 := Scalar.muli v406 c256_i32_316
  v407
def k0_off12 (d0 : Dev nD) (c0_i32_308 : BitVec 32) (c0_i32_310 : BitVec 32) (c1_i32_312 : BitVec 32) : Fin 2 → Nat :=
  let c4_i32_314 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v397 : BitVec 32 := Scalar.addi v2 c0_i32_308
  let c2_i32_309 : BitVec 32 := 2#32
  let v398 : BitVec 32 := Scalar.remsi v397 c2_i32_309
  let v403 : BitVec 32 := Scalar.muli c4_i32_314 v398
  let c2_i32_315 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.addi v5 c0_i32_310
  let c2_i32_311 : BitVec 32 := 2#32
  let v400 : BitVec 32 := Scalar.remsi v399 c2_i32_311
  let v404 : BitVec 32 := Scalar.muli c2_i32_315 v400
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.addi v8 c1_i32_312
  let c2_i32_313 : BitVec 32 := 2#32
  let v402 : BitVec 32 := Scalar.remsi v401 c2_i32_313
  let v406 : BitVec 32 := Scalar.addi v405 v402
  let c256_i32_316 : BitVec 32 := 256#32
  let v407 : BitVec 32 := Scalar.muli v406 c256_i32_316
  let v408 : BitVec 32 := v407
  let c0_i32_327 : BitVec 32 := 0#32
  ![v408.toNat, 0]
def k0_off12_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev15 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_308 : BitVec 32 := 0#32
  let v397 : BitVec 32 := Scalar.addi v2 c0_i32_308
  let c2_i32_309 : BitVec 32 := 2#32
  let v398 : BitVec 32 := Scalar.remsi v397 c2_i32_309
  let c4_i32_321 : BitVec 32 := 4#32
  let v409 : BitVec 32 := Scalar.muli v398 c4_i32_321
  let v410 : BitVec 32 := Scalar.addi c0_i32_322 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_310 : BitVec 32 := 0#32
  let v399 : BitVec 32 := Scalar.addi v5 c0_i32_310
  let c2_i32_311 : BitVec 32 := 2#32
  let v400 : BitVec 32 := Scalar.remsi v399 c2_i32_311
  let c2_i32_323 : BitVec 32 := 2#32
  let v411 : BitVec 32 := Scalar.muli v400 c2_i32_323
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v401 : BitVec 32 := Scalar.addi v8 c1_i32_312
  let c2_i32_313 : BitVec 32 := 2#32
  let v402 : BitVec 32 := Scalar.remsi v401 c2_i32_313
  let c1_i32_324 : BitVec 32 := 1#32
  let v413 : BitVec 32 := Scalar.muli v402 c1_i32_324
  let v414 : BitVec 32 := Scalar.addi v412 v413
  v414.toNat
def k0_mult14 (d0 : Dev nD) : BitVec 32 :=
  let c4_i32_334 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_328 : BitVec 32 := 0#32
  let v422 : BitVec 32 := Scalar.addi v2 c0_i32_328
  let c2_i32_329 : BitVec 32 := 2#32
  let v423 : BitVec 32 := Scalar.remsi v422 c2_i32_329
  let v428 : BitVec 32 := Scalar.muli c4_i32_334 v423
  let c2_i32_335 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_330 : BitVec 32 := 1#32
  let v424 : BitVec 32 := Scalar.addi v5 c1_i32_330
  let c2_i32_331 : BitVec 32 := 2#32
  let v425 : BitVec 32 := Scalar.remsi v424 c2_i32_331
  let v429 : BitVec 32 := Scalar.muli c2_i32_335 v425
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_332 : BitVec 32 := 0#32
  let v426 : BitVec 32 := Scalar.addi v8 c0_i32_332
  let c2_i32_333 : BitVec 32 := 2#32
  let v427 : BitVec 32 := Scalar.remsi v426 c2_i32_333
  let v431 : BitVec 32 := Scalar.addi v430 v427
  let c256_i32_336 : BitVec 32 := 256#32
  let v432 : BitVec 32 := Scalar.muli v431 c256_i32_336
  v432
def k0_dev16 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_328 : BitVec 32 := 0#32
  let v422 : BitVec 32 := Scalar.addi v2 c0_i32_328
  let c2_i32_329 : BitVec 32 := 2#32
  let v423 : BitVec 32 := Scalar.remsi v422 c2_i32_329
  let c4_i32_341 : BitVec 32 := 4#32
  let v434 : BitVec 32 := Scalar.muli v423 c4_i32_341
  let v435 : BitVec 32 := Scalar.addi c0_i32_342 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_330 : BitVec 32 := 1#32
  let v424 : BitVec 32 := Scalar.addi v5 c1_i32_330
  let c2_i32_331 : BitVec 32 := 2#32
  let v425 : BitVec 32 := Scalar.remsi v424 c2_i32_331
  let c2_i32_343 : BitVec 32 := 2#32
  let v436 : BitVec 32 := Scalar.muli v425 c2_i32_343
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_332 : BitVec 32 := 0#32
  let v426 : BitVec 32 := Scalar.addi v8 c0_i32_332
  let c2_i32_333 : BitVec 32 := 2#32
  let v427 : BitVec 32 := Scalar.remsi v426 c2_i32_333
  let c1_i32_344 : BitVec 32 := 1#32
  let v438 : BitVec 32 := Scalar.muli v427 c1_i32_344
  let v439 : BitVec 32 := Scalar.addi v437 v438
  v439.toNat
def k0_mult15 (d0 : Dev nD) : BitVec 32 :=
  let c4_i32_354 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_348 : BitVec 32 := 0#32
  let v447 : BitVec 32 := Scalar.addi v2 c0_i32_348
  let c2_i32_349 : BitVec 32 := 2#32
  let v448 : BitVec 32 := Scalar.remsi v447 c2_i32_349
  let v453 : BitVec 32 := Scalar.muli c4_i32_354 v448
  let c2_i32_355 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_350 : BitVec 32 := 1#32
  let v449 : BitVec 32 := Scalar.addi v5 c1_i32_350
  let c2_i32_351 : BitVec 32 := 2#32
  let v450 : BitVec 32 := Scalar.remsi v449 c2_i32_351
  let v454 : BitVec 32 := Scalar.muli c2_i32_355 v450
  let v455 : BitVec 32 := Scalar.addi v453 v454
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v451 : BitVec 32 := Scalar.addi v8 c1_i32_352
  let c2_i32_353 : BitVec 32 := 2#32
  let v452 : BitVec 32 := Scalar.remsi v451 c2_i32_353
  let v456 : BitVec 32 := Scalar.addi v455 v452
  let c256_i32_356 : BitVec 32 := 256#32
  let v457 : BitVec 32 := Scalar.muli v456 c256_i32_356
  v457
def k0_dev17 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_348 : BitVec 32 := 0#32
  let v447 : BitVec 32 := Scalar.addi v2 c0_i32_348
  let c2_i32_349 : BitVec 32 := 2#32
  let v448 : BitVec 32 := Scalar.remsi v447 c2_i32_349
  let c4_i32_361 : BitVec 32 := 4#32
  let v459 : BitVec 32 := Scalar.muli v448 c4_i32_361
  let v460 : BitVec 32 := Scalar.addi c0_i32_362 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_350 : BitVec 32 := 1#32
  let v449 : BitVec 32 := Scalar.addi v5 c1_i32_350
  let c2_i32_351 : BitVec 32 := 2#32
  let v450 : BitVec 32 := Scalar.remsi v449 c2_i32_351
  let c2_i32_363 : BitVec 32 := 2#32
  let v461 : BitVec 32 := Scalar.muli v450 c2_i32_363
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v451 : BitVec 32 := Scalar.addi v8 c1_i32_352
  let c2_i32_353 : BitVec 32 := 2#32
  let v452 : BitVec 32 := Scalar.remsi v451 c2_i32_353
  let c1_i32_364 : BitVec 32 := 1#32
  let v463 : BitVec 32 := Scalar.muli v452 c1_i32_364
  let v464 : BitVec 32 := Scalar.addi v462 v463
  v464.toNat
def k0_mult16 (d0 : Dev nD) : BitVec 32 :=
  let c4_i32_374 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_368 : BitVec 32 := 1#32
  let v472 : BitVec 32 := Scalar.addi v2 c1_i32_368
  let c2_i32_369 : BitVec 32 := 2#32
  let v473 : BitVec 32 := Scalar.remsi v472 c2_i32_369
  let v478 : BitVec 32 := Scalar.muli c4_i32_374 v473
  let c2_i32_375 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_370 : BitVec 32 := 0#32
  let v474 : BitVec 32 := Scalar.addi v5 c0_i32_370
  let c2_i32_371 : BitVec 32 := 2#32
  let v475 : BitVec 32 := Scalar.remsi v474 c2_i32_371
  let v479 : BitVec 32 := Scalar.muli c2_i32_375 v475
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v476 : BitVec 32 := Scalar.addi v8 c0_i32_372
  let c2_i32_373 : BitVec 32 := 2#32
  let v477 : BitVec 32 := Scalar.remsi v476 c2_i32_373
  let v481 : BitVec 32 := Scalar.addi v480 v477
  let c256_i32_376 : BitVec 32 := 256#32
  let v482 : BitVec 32 := Scalar.muli v481 c256_i32_376
  v482
def k0_dev18 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_368 : BitVec 32 := 1#32
  let v472 : BitVec 32 := Scalar.addi v2 c1_i32_368
  let c2_i32_369 : BitVec 32 := 2#32
  let v473 : BitVec 32 := Scalar.remsi v472 c2_i32_369
  let c4_i32_381 : BitVec 32 := 4#32
  let v484 : BitVec 32 := Scalar.muli v473 c4_i32_381
  let v485 : BitVec 32 := Scalar.addi c0_i32_382 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_370 : BitVec 32 := 0#32
  let v474 : BitVec 32 := Scalar.addi v5 c0_i32_370
  let c2_i32_371 : BitVec 32 := 2#32
  let v475 : BitVec 32 := Scalar.remsi v474 c2_i32_371
  let c2_i32_383 : BitVec 32 := 2#32
  let v486 : BitVec 32 := Scalar.muli v475 c2_i32_383
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v476 : BitVec 32 := Scalar.addi v8 c0_i32_372
  let c2_i32_373 : BitVec 32 := 2#32
  let v477 : BitVec 32 := Scalar.remsi v476 c2_i32_373
  let c1_i32_384 : BitVec 32 := 1#32
  let v488 : BitVec 32 := Scalar.muli v477 c1_i32_384
  let v489 : BitVec 32 := Scalar.addi v487 v488
  v489.toNat
def k0_mult17 (d0 : Dev nD) : BitVec 32 :=
  let c4_i32_394 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_388 : BitVec 32 := 1#32
  let v497 : BitVec 32 := Scalar.addi v2 c1_i32_388
  let c2_i32_389 : BitVec 32 := 2#32
  let v498 : BitVec 32 := Scalar.remsi v497 c2_i32_389
  let v503 : BitVec 32 := Scalar.muli c4_i32_394 v498
  let c2_i32_395 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_390 : BitVec 32 := 0#32
  let v499 : BitVec 32 := Scalar.addi v5 c0_i32_390
  let c2_i32_391 : BitVec 32 := 2#32
  let v500 : BitVec 32 := Scalar.remsi v499 c2_i32_391
  let v504 : BitVec 32 := Scalar.muli c2_i32_395 v500
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v501 : BitVec 32 := Scalar.addi v8 c1_i32_392
  let c2_i32_393 : BitVec 32 := 2#32
  let v502 : BitVec 32 := Scalar.remsi v501 c2_i32_393
  let v506 : BitVec 32 := Scalar.addi v505 v502
  let c256_i32_396 : BitVec 32 := 256#32
  let v507 : BitVec 32 := Scalar.muli v506 c256_i32_396
  v507
def k0_dev19 (d0 : Dev nD) : Nat :=
  let c0_i32_402 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_388 : BitVec 32 := 1#32
  let v497 : BitVec 32 := Scalar.addi v2 c1_i32_388
  let c2_i32_389 : BitVec 32 := 2#32
  let v498 : BitVec 32 := Scalar.remsi v497 c2_i32_389
  let c4_i32_401 : BitVec 32 := 4#32
  let v509 : BitVec 32 := Scalar.muli v498 c4_i32_401
  let v510 : BitVec 32 := Scalar.addi c0_i32_402 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_390 : BitVec 32 := 0#32
  let v499 : BitVec 32 := Scalar.addi v5 c0_i32_390
  let c2_i32_391 : BitVec 32 := 2#32
  let v500 : BitVec 32 := Scalar.remsi v499 c2_i32_391
  let c2_i32_403 : BitVec 32 := 2#32
  let v511 : BitVec 32 := Scalar.muli v500 c2_i32_403
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v501 : BitVec 32 := Scalar.addi v8 c1_i32_392
  let c2_i32_393 : BitVec 32 := 2#32
  let v502 : BitVec 32 := Scalar.remsi v501 c2_i32_393
  let c1_i32_404 : BitVec 32 := 1#32
  let v513 : BitVec 32 := Scalar.muli v502 c1_i32_404
  let v514 : BitVec 32 := Scalar.addi v512 v513
  v514.toNat
def k0_mult18 (d0 : Dev nD) : BitVec 32 :=
  let c4_i32_414 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_408 : BitVec 32 := 1#32
  let v522 : BitVec 32 := Scalar.addi v2 c1_i32_408
  let c2_i32_409 : BitVec 32 := 2#32
  let v523 : BitVec 32 := Scalar.remsi v522 c2_i32_409
  let v528 : BitVec 32 := Scalar.muli c4_i32_414 v523
  let c2_i32_415 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_410 : BitVec 32 := 1#32
  let v524 : BitVec 32 := Scalar.addi v5 c1_i32_410
  let c2_i32_411 : BitVec 32 := 2#32
  let v525 : BitVec 32 := Scalar.remsi v524 c2_i32_411
  let v529 : BitVec 32 := Scalar.muli c2_i32_415 v525
  let v530 : BitVec 32 := Scalar.addi v528 v529
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_412 : BitVec 32 := 0#32
  let v526 : BitVec 32 := Scalar.addi v8 c0_i32_412
  let c2_i32_413 : BitVec 32 := 2#32
  let v527 : BitVec 32 := Scalar.remsi v526 c2_i32_413
  let v531 : BitVec 32 := Scalar.addi v530 v527
  let c256_i32_416 : BitVec 32 := 256#32
  let v532 : BitVec 32 := Scalar.muli v531 c256_i32_416
  v532
def k0_dev20 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_408 : BitVec 32 := 1#32
  let v522 : BitVec 32 := Scalar.addi v2 c1_i32_408
  let c2_i32_409 : BitVec 32 := 2#32
  let v523 : BitVec 32 := Scalar.remsi v522 c2_i32_409
  let c4_i32_421 : BitVec 32 := 4#32
  let v534 : BitVec 32 := Scalar.muli v523 c4_i32_421
  let v535 : BitVec 32 := Scalar.addi c0_i32_422 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_410 : BitVec 32 := 1#32
  let v524 : BitVec 32 := Scalar.addi v5 c1_i32_410
  let c2_i32_411 : BitVec 32 := 2#32
  let v525 : BitVec 32 := Scalar.remsi v524 c2_i32_411
  let c2_i32_423 : BitVec 32 := 2#32
  let v536 : BitVec 32 := Scalar.muli v525 c2_i32_423
  let v537 : BitVec 32 := Scalar.addi v535 v536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_412 : BitVec 32 := 0#32
  let v526 : BitVec 32 := Scalar.addi v8 c0_i32_412
  let c2_i32_413 : BitVec 32 := 2#32
  let v527 : BitVec 32 := Scalar.remsi v526 c2_i32_413
  let c1_i32_424 : BitVec 32 := 1#32
  let v538 : BitVec 32 := Scalar.muli v527 c1_i32_424
  let v539 : BitVec 32 := Scalar.addi v537 v538
  v539.toNat
def k0_mult19 (d0 : Dev nD) : BitVec 32 :=
  let c4_i32_434 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_428 : BitVec 32 := 1#32
  let v547 : BitVec 32 := Scalar.addi v2 c1_i32_428
  let c2_i32_429 : BitVec 32 := 2#32
  let v548 : BitVec 32 := Scalar.remsi v547 c2_i32_429
  let v553 : BitVec 32 := Scalar.muli c4_i32_434 v548
  let c2_i32_435 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_430 : BitVec 32 := 1#32
  let v549 : BitVec 32 := Scalar.addi v5 c1_i32_430
  let c2_i32_431 : BitVec 32 := 2#32
  let v550 : BitVec 32 := Scalar.remsi v549 c2_i32_431
  let v554 : BitVec 32 := Scalar.muli c2_i32_435 v550
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v551 : BitVec 32 := Scalar.addi v8 c1_i32_432
  let c2_i32_433 : BitVec 32 := 2#32
  let v552 : BitVec 32 := Scalar.remsi v551 c2_i32_433
  let v556 : BitVec 32 := Scalar.addi v555 v552
  let c256_i32_436 : BitVec 32 := 256#32
  let v557 : BitVec 32 := Scalar.muli v556 c256_i32_436
  v557
def k0_dev21 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_428 : BitVec 32 := 1#32
  let v547 : BitVec 32 := Scalar.addi v2 c1_i32_428
  let c2_i32_429 : BitVec 32 := 2#32
  let v548 : BitVec 32 := Scalar.remsi v547 c2_i32_429
  let c4_i32_441 : BitVec 32 := 4#32
  let v559 : BitVec 32 := Scalar.muli v548 c4_i32_441
  let v560 : BitVec 32 := Scalar.addi c0_i32_442 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_430 : BitVec 32 := 1#32
  let v549 : BitVec 32 := Scalar.addi v5 c1_i32_430
  let c2_i32_431 : BitVec 32 := 2#32
  let v550 : BitVec 32 := Scalar.remsi v549 c2_i32_431
  let c2_i32_443 : BitVec 32 := 2#32
  let v561 : BitVec 32 := Scalar.muli v550 c2_i32_443
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v551 : BitVec 32 := Scalar.addi v8 c1_i32_432
  let c2_i32_433 : BitVec 32 := 2#32
  let v552 : BitVec 32 := Scalar.remsi v551 c2_i32_433
  let c1_i32_444 : BitVec 32 := 1#32
  let v563 : BitVec 32 := Scalar.muli v552 c1_i32_444
  let v564 : BitVec 32 := Scalar.addi v562 v563
  v564.toNat
def k0_mult20 (d0 : Dev nD) : BitVec 32 :=
  let c4_i32_454 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_448 : BitVec 32 := 0#32
  let v572 : BitVec 32 := Scalar.addi v2 c0_i32_448
  let c2_i32_449 : BitVec 32 := 2#32
  let v573 : BitVec 32 := Scalar.remsi v572 c2_i32_449
  let v578 : BitVec 32 := Scalar.muli c4_i32_454 v573
  let c2_i32_455 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_450 : BitVec 32 := 0#32
  let v574 : BitVec 32 := Scalar.addi v5 c0_i32_450
  let c2_i32_451 : BitVec 32 := 2#32
  let v575 : BitVec 32 := Scalar.remsi v574 c2_i32_451
  let v579 : BitVec 32 := Scalar.muli c2_i32_455 v575
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v576 : BitVec 32 := Scalar.addi v8 c1_i32_452
  let c2_i32_453 : BitVec 32 := 2#32
  let v577 : BitVec 32 := Scalar.remsi v576 c2_i32_453
  let v581 : BitVec 32 := Scalar.addi v580 v577
  let c128_i32_456 : BitVec 32 := 128#32
  let v582 : BitVec 32 := Scalar.muli v581 c128_i32_456
  v582
def k0_dev22 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_448 : BitVec 32 := 0#32
  let v572 : BitVec 32 := Scalar.addi v2 c0_i32_448
  let c2_i32_449 : BitVec 32 := 2#32
  let v573 : BitVec 32 := Scalar.remsi v572 c2_i32_449
  let c4_i32_461 : BitVec 32 := 4#32
  let v584 : BitVec 32 := Scalar.muli v573 c4_i32_461
  let v585 : BitVec 32 := Scalar.addi c0_i32_462 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_450 : BitVec 32 := 0#32
  let v574 : BitVec 32 := Scalar.addi v5 c0_i32_450
  let c2_i32_451 : BitVec 32 := 2#32
  let v575 : BitVec 32 := Scalar.remsi v574 c2_i32_451
  let c2_i32_463 : BitVec 32 := 2#32
  let v586 : BitVec 32 := Scalar.muli v575 c2_i32_463
  let v587 : BitVec 32 := Scalar.addi v585 v586
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v576 : BitVec 32 := Scalar.addi v8 c1_i32_452
  let c2_i32_453 : BitVec 32 := 2#32
  let v577 : BitVec 32 := Scalar.remsi v576 c2_i32_453
  let c1_i32_464 : BitVec 32 := 1#32
  let v588 : BitVec 32 := Scalar.muli v577 c1_i32_464
  let v589 : BitVec 32 := Scalar.addi v587 v588
  v589.toNat
def k0_mult21 (d0 : Dev nD) : BitVec 32 :=
  let c4_i32_474 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_468 : BitVec 32 := 0#32
  let v597 : BitVec 32 := Scalar.addi v2 c0_i32_468
  let c2_i32_469 : BitVec 32 := 2#32
  let v598 : BitVec 32 := Scalar.remsi v597 c2_i32_469
  let v603 : BitVec 32 := Scalar.muli c4_i32_474 v598
  let c2_i32_475 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_470 : BitVec 32 := 1#32
  let v599 : BitVec 32 := Scalar.addi v5 c1_i32_470
  let c2_i32_471 : BitVec 32 := 2#32
  let v600 : BitVec 32 := Scalar.remsi v599 c2_i32_471
  let v604 : BitVec 32 := Scalar.muli c2_i32_475 v600
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_472 : BitVec 32 := 0#32
  let v601 : BitVec 32 := Scalar.addi v8 c0_i32_472
  let c2_i32_473 : BitVec 32 := 2#32
  let v602 : BitVec 32 := Scalar.remsi v601 c2_i32_473
  let v606 : BitVec 32 := Scalar.addi v605 v602
  let c128_i32_476 : BitVec 32 := 128#32
  let v607 : BitVec 32 := Scalar.muli v606 c128_i32_476
  v607
def k0_dev23 (d0 : Dev nD) : Nat :=
  let c0_i32_482 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_468 : BitVec 32 := 0#32
  let v597 : BitVec 32 := Scalar.addi v2 c0_i32_468
  let c2_i32_469 : BitVec 32 := 2#32
  let v598 : BitVec 32 := Scalar.remsi v597 c2_i32_469
  let c4_i32_481 : BitVec 32 := 4#32
  let v609 : BitVec 32 := Scalar.muli v598 c4_i32_481
  let v610 : BitVec 32 := Scalar.addi c0_i32_482 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_470 : BitVec 32 := 1#32
  let v599 : BitVec 32 := Scalar.addi v5 c1_i32_470
  let c2_i32_471 : BitVec 32 := 2#32
  let v600 : BitVec 32 := Scalar.remsi v599 c2_i32_471
  let c2_i32_483 : BitVec 32 := 2#32
  let v611 : BitVec 32 := Scalar.muli v600 c2_i32_483
  let v612 : BitVec 32 := Scalar.addi v610 v611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_472 : BitVec 32 := 0#32
  let v601 : BitVec 32 := Scalar.addi v8 c0_i32_472
  let c2_i32_473 : BitVec 32 := 2#32
  let v602 : BitVec 32 := Scalar.remsi v601 c2_i32_473
  let c1_i32_484 : BitVec 32 := 1#32
  let v613 : BitVec 32 := Scalar.muli v602 c1_i32_484
  let v614 : BitVec 32 := Scalar.addi v612 v613
  v614.toNat
def k0_mult22 (d0 : Dev nD) : BitVec 32 :=
  let c4_i32_494 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_488 : BitVec 32 := 0#32
  let v622 : BitVec 32 := Scalar.addi v2 c0_i32_488
  let c2_i32_489 : BitVec 32 := 2#32
  let v623 : BitVec 32 := Scalar.remsi v622 c2_i32_489
  let v628 : BitVec 32 := Scalar.muli c4_i32_494 v623
  let c2_i32_495 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_490 : BitVec 32 := 1#32
  let v624 : BitVec 32 := Scalar.addi v5 c1_i32_490
  let c2_i32_491 : BitVec 32 := 2#32
  let v625 : BitVec 32 := Scalar.remsi v624 c2_i32_491
  let v629 : BitVec 32 := Scalar.muli c2_i32_495 v625
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v626 : BitVec 32 := Scalar.addi v8 c1_i32_492
  let c2_i32_493 : BitVec 32 := 2#32
  let v627 : BitVec 32 := Scalar.remsi v626 c2_i32_493
  let v631 : BitVec 32 := Scalar.addi v630 v627
  let c128_i32_496 : BitVec 32 := 128#32
  let v632 : BitVec 32 := Scalar.muli v631 c128_i32_496
  v632
def k0_dev24 (d0 : Dev nD) : Nat :=
  let c0_i32_502 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_488 : BitVec 32 := 0#32
  let v622 : BitVec 32 := Scalar.addi v2 c0_i32_488
  let c2_i32_489 : BitVec 32 := 2#32
  let v623 : BitVec 32 := Scalar.remsi v622 c2_i32_489
  let c4_i32_501 : BitVec 32 := 4#32
  let v634 : BitVec 32 := Scalar.muli v623 c4_i32_501
  let v635 : BitVec 32 := Scalar.addi c0_i32_502 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_490 : BitVec 32 := 1#32
  let v624 : BitVec 32 := Scalar.addi v5 c1_i32_490
  let c2_i32_491 : BitVec 32 := 2#32
  let v625 : BitVec 32 := Scalar.remsi v624 c2_i32_491
  let c2_i32_503 : BitVec 32 := 2#32
  let v636 : BitVec 32 := Scalar.muli v625 c2_i32_503
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v626 : BitVec 32 := Scalar.addi v8 c1_i32_492
  let c2_i32_493 : BitVec 32 := 2#32
  let v627 : BitVec 32 := Scalar.remsi v626 c2_i32_493
  let c1_i32_504 : BitVec 32 := 1#32
  let v638 : BitVec 32 := Scalar.muli v627 c1_i32_504
  let v639 : BitVec 32 := Scalar.addi v637 v638
  v639.toNat
def k0_mult23 (d0 : Dev nD) : BitVec 32 :=
  let c4_i32_514 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_508 : BitVec 32 := 1#32
  let v647 : BitVec 32 := Scalar.addi v2 c1_i32_508
  let c2_i32_509 : BitVec 32 := 2#32
  let v648 : BitVec 32 := Scalar.remsi v647 c2_i32_509
  let v653 : BitVec 32 := Scalar.muli c4_i32_514 v648
  let c2_i32_515 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_510 : BitVec 32 := 0#32
  let v649 : BitVec 32 := Scalar.addi v5 c0_i32_510
  let c2_i32_511 : BitVec 32 := 2#32
  let v650 : BitVec 32 := Scalar.remsi v649 c2_i32_511
  let v654 : BitVec 32 := Scalar.muli c2_i32_515 v650
  let v655 : BitVec 32 := Scalar.addi v653 v654
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_512 : BitVec 32 := 0#32
  let v651 : BitVec 32 := Scalar.addi v8 c0_i32_512
  let c2_i32_513 : BitVec 32 := 2#32
  let v652 : BitVec 32 := Scalar.remsi v651 c2_i32_513
  let v656 : BitVec 32 := Scalar.addi v655 v652
  let c128_i32_516 : BitVec 32 := 128#32
  let v657 : BitVec 32 := Scalar.muli v656 c128_i32_516
  v657
def k0_dev25 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_508 : BitVec 32 := 1#32
  let v647 : BitVec 32 := Scalar.addi v2 c1_i32_508
  let c2_i32_509 : BitVec 32 := 2#32
  let v648 : BitVec 32 := Scalar.remsi v647 c2_i32_509
  let c4_i32_521 : BitVec 32 := 4#32
  let v659 : BitVec 32 := Scalar.muli v648 c4_i32_521
  let v660 : BitVec 32 := Scalar.addi c0_i32_522 v659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_510 : BitVec 32 := 0#32
  let v649 : BitVec 32 := Scalar.addi v5 c0_i32_510
  let c2_i32_511 : BitVec 32 := 2#32
  let v650 : BitVec 32 := Scalar.remsi v649 c2_i32_511
  let c2_i32_523 : BitVec 32 := 2#32
  let v661 : BitVec 32 := Scalar.muli v650 c2_i32_523
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_512 : BitVec 32 := 0#32
  let v651 : BitVec 32 := Scalar.addi v8 c0_i32_512
  let c2_i32_513 : BitVec 32 := 2#32
  let v652 : BitVec 32 := Scalar.remsi v651 c2_i32_513
  let c1_i32_524 : BitVec 32 := 1#32
  let v663 : BitVec 32 := Scalar.muli v652 c1_i32_524
  let v664 : BitVec 32 := Scalar.addi v662 v663
  v664.toNat
def k0_mult24 (d0 : Dev nD) : BitVec 32 :=
  let c4_i32_534 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v672 : BitVec 32 := Scalar.addi v2 c1_i32_528
  let c2_i32_529 : BitVec 32 := 2#32
  let v673 : BitVec 32 := Scalar.remsi v672 c2_i32_529
  let v678 : BitVec 32 := Scalar.muli c4_i32_534 v673
  let c2_i32_535 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v674 : BitVec 32 := Scalar.addi v5 c0_i32_530
  let c2_i32_531 : BitVec 32 := 2#32
  let v675 : BitVec 32 := Scalar.remsi v674 c2_i32_531
  let v679 : BitVec 32 := Scalar.muli c2_i32_535 v675
  let v680 : BitVec 32 := Scalar.addi v678 v679
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v676 : BitVec 32 := Scalar.addi v8 c1_i32_532
  let c2_i32_533 : BitVec 32 := 2#32
  let v677 : BitVec 32 := Scalar.remsi v676 c2_i32_533
  let v681 : BitVec 32 := Scalar.addi v680 v677
  let c128_i32_536 : BitVec 32 := 128#32
  let v682 : BitVec 32 := Scalar.muli v681 c128_i32_536
  v682
def k0_dev26 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v672 : BitVec 32 := Scalar.addi v2 c1_i32_528
  let c2_i32_529 : BitVec 32 := 2#32
  let v673 : BitVec 32 := Scalar.remsi v672 c2_i32_529
  let c4_i32_541 : BitVec 32 := 4#32
  let v684 : BitVec 32 := Scalar.muli v673 c4_i32_541
  let v685 : BitVec 32 := Scalar.addi c0_i32_542 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v674 : BitVec 32 := Scalar.addi v5 c0_i32_530
  let c2_i32_531 : BitVec 32 := 2#32
  let v675 : BitVec 32 := Scalar.remsi v674 c2_i32_531
  let c2_i32_543 : BitVec 32 := 2#32
  let v686 : BitVec 32 := Scalar.muli v675 c2_i32_543
  let v687 : BitVec 32 := Scalar.addi v685 v686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v676 : BitVec 32 := Scalar.addi v8 c1_i32_532
  let c2_i32_533 : BitVec 32 := 2#32
  let v677 : BitVec 32 := Scalar.remsi v676 c2_i32_533
  let c1_i32_544 : BitVec 32 := 1#32
  let v688 : BitVec 32 := Scalar.muli v677 c1_i32_544
  let v689 : BitVec 32 := Scalar.addi v687 v688
  v689.toNat
def k0_mult25 (d0 : Dev nD) : BitVec 32 :=
  let c4_i32_554 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_548 : BitVec 32 := 1#32
  let v697 : BitVec 32 := Scalar.addi v2 c1_i32_548
  let c2_i32_549 : BitVec 32 := 2#32
  let v698 : BitVec 32 := Scalar.remsi v697 c2_i32_549
  let v703 : BitVec 32 := Scalar.muli c4_i32_554 v698
  let c2_i32_555 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_550 : BitVec 32 := 1#32
  let v699 : BitVec 32 := Scalar.addi v5 c1_i32_550
  let c2_i32_551 : BitVec 32 := 2#32
  let v700 : BitVec 32 := Scalar.remsi v699 c2_i32_551
  let v704 : BitVec 32 := Scalar.muli c2_i32_555 v700
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_552 : BitVec 32 := 0#32
  let v701 : BitVec 32 := Scalar.addi v8 c0_i32_552
  let c2_i32_553 : BitVec 32 := 2#32
  let v702 : BitVec 32 := Scalar.remsi v701 c2_i32_553
  let v706 : BitVec 32 := Scalar.addi v705 v702
  let c128_i32_556 : BitVec 32 := 128#32
  let v707 : BitVec 32 := Scalar.muli v706 c128_i32_556
  v707
def k0_dev27 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_548 : BitVec 32 := 1#32
  let v697 : BitVec 32 := Scalar.addi v2 c1_i32_548
  let c2_i32_549 : BitVec 32 := 2#32
  let v698 : BitVec 32 := Scalar.remsi v697 c2_i32_549
  let c4_i32_561 : BitVec 32 := 4#32
  let v709 : BitVec 32 := Scalar.muli v698 c4_i32_561
  let v710 : BitVec 32 := Scalar.addi c0_i32_562 v709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_550 : BitVec 32 := 1#32
  let v699 : BitVec 32 := Scalar.addi v5 c1_i32_550
  let c2_i32_551 : BitVec 32 := 2#32
  let v700 : BitVec 32 := Scalar.remsi v699 c2_i32_551
  let c2_i32_563 : BitVec 32 := 2#32
  let v711 : BitVec 32 := Scalar.muli v700 c2_i32_563
  let v712 : BitVec 32 := Scalar.addi v710 v711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_552 : BitVec 32 := 0#32
  let v701 : BitVec 32 := Scalar.addi v8 c0_i32_552
  let c2_i32_553 : BitVec 32 := 2#32
  let v702 : BitVec 32 := Scalar.remsi v701 c2_i32_553
  let c1_i32_564 : BitVec 32 := 1#32
  let v713 : BitVec 32 := Scalar.muli v702 c1_i32_564
  let v714 : BitVec 32 := Scalar.addi v712 v713
  v714.toNat
def k0_mult26 (d0 : Dev nD) : BitVec 32 :=
  let c4_i32_574 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_568 : BitVec 32 := 1#32
  let v722 : BitVec 32 := Scalar.addi v2 c1_i32_568
  let c2_i32_569 : BitVec 32 := 2#32
  let v723 : BitVec 32 := Scalar.remsi v722 c2_i32_569
  let v728 : BitVec 32 := Scalar.muli c4_i32_574 v723
  let c2_i32_575 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_570 : BitVec 32 := 1#32
  let v724 : BitVec 32 := Scalar.addi v5 c1_i32_570
  let c2_i32_571 : BitVec 32 := 2#32
  let v725 : BitVec 32 := Scalar.remsi v724 c2_i32_571
  let v729 : BitVec 32 := Scalar.muli c2_i32_575 v725
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v726 : BitVec 32 := Scalar.addi v8 c1_i32_572
  let c2_i32_573 : BitVec 32 := 2#32
  let v727 : BitVec 32 := Scalar.remsi v726 c2_i32_573
  let v731 : BitVec 32 := Scalar.addi v730 v727
  let c128_i32_576 : BitVec 32 := 128#32
  let v732 : BitVec 32 := Scalar.muli v731 c128_i32_576
  v732
def k0_dev28 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_568 : BitVec 32 := 1#32
  let v722 : BitVec 32 := Scalar.addi v2 c1_i32_568
  let c2_i32_569 : BitVec 32 := 2#32
  let v723 : BitVec 32 := Scalar.remsi v722 c2_i32_569
  let c4_i32_581 : BitVec 32 := 4#32
  let v734 : BitVec 32 := Scalar.muli v723 c4_i32_581
  let v735 : BitVec 32 := Scalar.addi c0_i32_582 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_570 : BitVec 32 := 1#32
  let v724 : BitVec 32 := Scalar.addi v5 c1_i32_570
  let c2_i32_571 : BitVec 32 := 2#32
  let v725 : BitVec 32 := Scalar.remsi v724 c2_i32_571
  let c2_i32_583 : BitVec 32 := 2#32
  let v736 : BitVec 32 := Scalar.muli v725 c2_i32_583
  let v737 : BitVec 32 := Scalar.addi v735 v736
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v726 : BitVec 32 := Scalar.addi v8 c1_i32_572
  let c2_i32_573 : BitVec 32 := 2#32
  let v727 : BitVec 32 := Scalar.remsi v726 c2_i32_573
  let c1_i32_584 : BitVec 32 := 1#32
  let v738 : BitVec 32 := Scalar.muli v727 c1_i32_584
  let v739 : BitVec 32 := Scalar.addi v737 v738
  v739.toNat
def k0_mult27 (d0 : Dev nD) : BitVec 32 :=
  let c4_i32_594 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_588 : BitVec 32 := 0#32
  let v747 : BitVec 32 := Scalar.addi v2 c0_i32_588
  let c2_i32_589 : BitVec 32 := 2#32
  let v748 : BitVec 32 := Scalar.remsi v747 c2_i32_589
  let v753 : BitVec 32 := Scalar.muli c4_i32_594 v748
  let c2_i32_595 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_590 : BitVec 32 := 0#32
  let v749 : BitVec 32 := Scalar.addi v5 c0_i32_590
  let c2_i32_591 : BitVec 32 := 2#32
  let v750 : BitVec 32 := Scalar.remsi v749 c2_i32_591
  let v754 : BitVec 32 := Scalar.muli c2_i32_595 v750
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v751 : BitVec 32 := Scalar.addi v8 c1_i32_592
  let c2_i32_593 : BitVec 32 := 2#32
  let v752 : BitVec 32 := Scalar.remsi v751 c2_i32_593
  let v756 : BitVec 32 := Scalar.addi v755 v752
  let c512_i32_596 : BitVec 32 := 512#32
  let v757 : BitVec 32 := Scalar.muli v756 c512_i32_596
  v757
def k0_off13 (d0 : Dev nD) (c0_i32_588 : BitVec 32) (c0_i32_590 : BitVec 32) (c1_i32_592 : BitVec 32) : Fin 2 → Nat :=
  let c0_i32_607 : BitVec 32 := 0#32
  let c4_i32_594 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v747 : BitVec 32 := Scalar.addi v2 c0_i32_588
  let c2_i32_589 : BitVec 32 := 2#32
  let v748 : BitVec 32 := Scalar.remsi v747 c2_i32_589
  let v753 : BitVec 32 := Scalar.muli c4_i32_594 v748
  let c2_i32_595 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v749 : BitVec 32 := Scalar.addi v5 c0_i32_590
  let c2_i32_591 : BitVec 32 := 2#32
  let v750 : BitVec 32 := Scalar.remsi v749 c2_i32_591
  let v754 : BitVec 32 := Scalar.muli c2_i32_595 v750
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v751 : BitVec 32 := Scalar.addi v8 c1_i32_592
  let c2_i32_593 : BitVec 32 := 2#32
  let v752 : BitVec 32 := Scalar.remsi v751 c2_i32_593
  let v756 : BitVec 32 := Scalar.addi v755 v752
  let c512_i32_596 : BitVec 32 := 512#32
  let v757 : BitVec 32 := Scalar.muli v756 c512_i32_596
  let v758 : BitVec 32 := v757
  ![0, v758.toNat]
def k0_off13_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev29 (d0 : Dev nD) : Nat :=
  let c0_i32_602 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_588 : BitVec 32 := 0#32
  let v747 : BitVec 32 := Scalar.addi v2 c0_i32_588
  let c2_i32_589 : BitVec 32 := 2#32
  let v748 : BitVec 32 := Scalar.remsi v747 c2_i32_589
  let c4_i32_601 : BitVec 32 := 4#32
  let v759 : BitVec 32 := Scalar.muli v748 c4_i32_601
  let v760 : BitVec 32 := Scalar.addi c0_i32_602 v759
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_590 : BitVec 32 := 0#32
  let v749 : BitVec 32 := Scalar.addi v5 c0_i32_590
  let c2_i32_591 : BitVec 32 := 2#32
  let v750 : BitVec 32 := Scalar.remsi v749 c2_i32_591
  let c2_i32_603 : BitVec 32 := 2#32
  let v761 : BitVec 32 := Scalar.muli v750 c2_i32_603
  let v762 : BitVec 32 := Scalar.addi v760 v761
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v751 : BitVec 32 := Scalar.addi v8 c1_i32_592
  let c2_i32_593 : BitVec 32 := 2#32
  let v752 : BitVec 32 := Scalar.remsi v751 c2_i32_593
  let c1_i32_604 : BitVec 32 := 1#32
  let v763 : BitVec 32 := Scalar.muli v752 c1_i32_604
  let v764 : BitVec 32 := Scalar.addi v762 v763
  v764.toNat
def k0_mult28 (d0 : Dev nD) : BitVec 32 :=
  let c4_i32_614 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v772 : BitVec 32 := Scalar.addi v2 c0_i32_608
  let c2_i32_609 : BitVec 32 := 2#32
  let v773 : BitVec 32 := Scalar.remsi v772 c2_i32_609
  let v778 : BitVec 32 := Scalar.muli c4_i32_614 v773
  let c2_i32_615 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v774 : BitVec 32 := Scalar.addi v5 c1_i32_610
  let c2_i32_611 : BitVec 32 := 2#32
  let v775 : BitVec 32 := Scalar.remsi v774 c2_i32_611
  let v779 : BitVec 32 := Scalar.muli c2_i32_615 v775
  let v780 : BitVec 32 := Scalar.addi v778 v779
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_612 : BitVec 32 := 0#32
  let v776 : BitVec 32 := Scalar.addi v8 c0_i32_612
  let c2_i32_613 : BitVec 32 := 2#32
  let v777 : BitVec 32 := Scalar.remsi v776 c2_i32_613
  let v781 : BitVec 32 := Scalar.addi v780 v777
  let c512_i32_616 : BitVec 32 := 512#32
  let v782 : BitVec 32 := Scalar.muli v781 c512_i32_616
  v782
def k0_dev30 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v772 : BitVec 32 := Scalar.addi v2 c0_i32_608
  let c2_i32_609 : BitVec 32 := 2#32
  let v773 : BitVec 32 := Scalar.remsi v772 c2_i32_609
  let c4_i32_621 : BitVec 32 := 4#32
  let v784 : BitVec 32 := Scalar.muli v773 c4_i32_621
  let v785 : BitVec 32 := Scalar.addi c0_i32_622 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v774 : BitVec 32 := Scalar.addi v5 c1_i32_610
  let c2_i32_611 : BitVec 32 := 2#32
  let v775 : BitVec 32 := Scalar.remsi v774 c2_i32_611
  let c2_i32_623 : BitVec 32 := 2#32
  let v786 : BitVec 32 := Scalar.muli v775 c2_i32_623
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_612 : BitVec 32 := 0#32
  let v776 : BitVec 32 := Scalar.addi v8 c0_i32_612
  let c2_i32_613 : BitVec 32 := 2#32
  let v777 : BitVec 32 := Scalar.remsi v776 c2_i32_613
  let c1_i32_624 : BitVec 32 := 1#32
  let v788 : BitVec 32 := Scalar.muli v777 c1_i32_624
  let v789 : BitVec 32 := Scalar.addi v787 v788
  v789.toNat
def k0_mult29 (d0 : Dev nD) : BitVec 32 :=
  let c4_i32_634 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_628 : BitVec 32 := 0#32
  let v797 : BitVec 32 := Scalar.addi v2 c0_i32_628
  let c2_i32_629 : BitVec 32 := 2#32
  let v798 : BitVec 32 := Scalar.remsi v797 c2_i32_629
  let v803 : BitVec 32 := Scalar.muli c4_i32_634 v798
  let c2_i32_635 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_630 : BitVec 32 := 1#32
  let v799 : BitVec 32 := Scalar.addi v5 c1_i32_630
  let c2_i32_631 : BitVec 32 := 2#32
  let v800 : BitVec 32 := Scalar.remsi v799 c2_i32_631
  let v804 : BitVec 32 := Scalar.muli c2_i32_635 v800
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v801 : BitVec 32 := Scalar.addi v8 c1_i32_632
  let c2_i32_633 : BitVec 32 := 2#32
  let v802 : BitVec 32 := Scalar.remsi v801 c2_i32_633
  let v806 : BitVec 32 := Scalar.addi v805 v802
  let c512_i32_636 : BitVec 32 := 512#32
  let v807 : BitVec 32 := Scalar.muli v806 c512_i32_636
  v807
def k0_dev31 (d0 : Dev nD) : Nat :=
  let c0_i32_642 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_628 : BitVec 32 := 0#32
  let v797 : BitVec 32 := Scalar.addi v2 c0_i32_628
  let c2_i32_629 : BitVec 32 := 2#32
  let v798 : BitVec 32 := Scalar.remsi v797 c2_i32_629
  let c4_i32_641 : BitVec 32 := 4#32
  let v809 : BitVec 32 := Scalar.muli v798 c4_i32_641
  let v810 : BitVec 32 := Scalar.addi c0_i32_642 v809
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_630 : BitVec 32 := 1#32
  let v799 : BitVec 32 := Scalar.addi v5 c1_i32_630
  let c2_i32_631 : BitVec 32 := 2#32
  let v800 : BitVec 32 := Scalar.remsi v799 c2_i32_631
  let c2_i32_643 : BitVec 32 := 2#32
  let v811 : BitVec 32 := Scalar.muli v800 c2_i32_643
  let v812 : BitVec 32 := Scalar.addi v810 v811
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v801 : BitVec 32 := Scalar.addi v8 c1_i32_632
  let c2_i32_633 : BitVec 32 := 2#32
  let v802 : BitVec 32 := Scalar.remsi v801 c2_i32_633
  let c1_i32_644 : BitVec 32 := 1#32
  let v813 : BitVec 32 := Scalar.muli v802 c1_i32_644
  let v814 : BitVec 32 := Scalar.addi v812 v813
  v814.toNat
def k0_mult30 (d0 : Dev nD) : BitVec 32 :=
  let c4_i32_654 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_648 : BitVec 32 := 1#32
  let v822 : BitVec 32 := Scalar.addi v2 c1_i32_648
  let c2_i32_649 : BitVec 32 := 2#32
  let v823 : BitVec 32 := Scalar.remsi v822 c2_i32_649
  let v828 : BitVec 32 := Scalar.muli c4_i32_654 v823
  let c2_i32_655 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_650 : BitVec 32 := 0#32
  let v824 : BitVec 32 := Scalar.addi v5 c0_i32_650
  let c2_i32_651 : BitVec 32 := 2#32
  let v825 : BitVec 32 := Scalar.remsi v824 c2_i32_651
  let v829 : BitVec 32 := Scalar.muli c2_i32_655 v825
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_652 : BitVec 32 := 0#32
  let v826 : BitVec 32 := Scalar.addi v8 c0_i32_652
  let c2_i32_653 : BitVec 32 := 2#32
  let v827 : BitVec 32 := Scalar.remsi v826 c2_i32_653
  let v831 : BitVec 32 := Scalar.addi v830 v827
  let c512_i32_656 : BitVec 32 := 512#32
  let v832 : BitVec 32 := Scalar.muli v831 c512_i32_656
  v832
def k0_dev32 (d0 : Dev nD) : Nat :=
  let c0_i32_662 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_648 : BitVec 32 := 1#32
  let v822 : BitVec 32 := Scalar.addi v2 c1_i32_648
  let c2_i32_649 : BitVec 32 := 2#32
  let v823 : BitVec 32 := Scalar.remsi v822 c2_i32_649
  let c4_i32_661 : BitVec 32 := 4#32
  let v834 : BitVec 32 := Scalar.muli v823 c4_i32_661
  let v835 : BitVec 32 := Scalar.addi c0_i32_662 v834
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_650 : BitVec 32 := 0#32
  let v824 : BitVec 32 := Scalar.addi v5 c0_i32_650
  let c2_i32_651 : BitVec 32 := 2#32
  let v825 : BitVec 32 := Scalar.remsi v824 c2_i32_651
  let c2_i32_663 : BitVec 32 := 2#32
  let v836 : BitVec 32 := Scalar.muli v825 c2_i32_663
  let v837 : BitVec 32 := Scalar.addi v835 v836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_652 : BitVec 32 := 0#32
  let v826 : BitVec 32 := Scalar.addi v8 c0_i32_652
  let c2_i32_653 : BitVec 32 := 2#32
  let v827 : BitVec 32 := Scalar.remsi v826 c2_i32_653
  let c1_i32_664 : BitVec 32 := 1#32
  let v838 : BitVec 32 := Scalar.muli v827 c1_i32_664
  let v839 : BitVec 32 := Scalar.addi v837 v838
  v839.toNat
def k0_mult31 (d0 : Dev nD) : BitVec 32 :=
  let c4_i32_674 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_668 : BitVec 32 := 1#32
  let v847 : BitVec 32 := Scalar.addi v2 c1_i32_668
  let c2_i32_669 : BitVec 32 := 2#32
  let v848 : BitVec 32 := Scalar.remsi v847 c2_i32_669
  let v853 : BitVec 32 := Scalar.muli c4_i32_674 v848
  let c2_i32_675 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_670 : BitVec 32 := 0#32
  let v849 : BitVec 32 := Scalar.addi v5 c0_i32_670
  let c2_i32_671 : BitVec 32 := 2#32
  let v850 : BitVec 32 := Scalar.remsi v849 c2_i32_671
  let v854 : BitVec 32 := Scalar.muli c2_i32_675 v850
  let v855 : BitVec 32 := Scalar.addi v853 v854
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v851 : BitVec 32 := Scalar.addi v8 c1_i32_672
  let c2_i32_673 : BitVec 32 := 2#32
  let v852 : BitVec 32 := Scalar.remsi v851 c2_i32_673
  let v856 : BitVec 32 := Scalar.addi v855 v852
  let c512_i32_676 : BitVec 32 := 512#32
  let v857 : BitVec 32 := Scalar.muli v856 c512_i32_676
  v857
def k0_dev33 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_668 : BitVec 32 := 1#32
  let v847 : BitVec 32 := Scalar.addi v2 c1_i32_668
  let c2_i32_669 : BitVec 32 := 2#32
  let v848 : BitVec 32 := Scalar.remsi v847 c2_i32_669
  let c4_i32_681 : BitVec 32 := 4#32
  let v859 : BitVec 32 := Scalar.muli v848 c4_i32_681
  let v860 : BitVec 32 := Scalar.addi c0_i32_682 v859
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_670 : BitVec 32 := 0#32
  let v849 : BitVec 32 := Scalar.addi v5 c0_i32_670
  let c2_i32_671 : BitVec 32 := 2#32
  let v850 : BitVec 32 := Scalar.remsi v849 c2_i32_671
  let c2_i32_683 : BitVec 32 := 2#32
  let v861 : BitVec 32 := Scalar.muli v850 c2_i32_683
  let v862 : BitVec 32 := Scalar.addi v860 v861
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v851 : BitVec 32 := Scalar.addi v8 c1_i32_672
  let c2_i32_673 : BitVec 32 := 2#32
  let v852 : BitVec 32 := Scalar.remsi v851 c2_i32_673
  let c1_i32_684 : BitVec 32 := 1#32
  let v863 : BitVec 32 := Scalar.muli v852 c1_i32_684
  let v864 : BitVec 32 := Scalar.addi v862 v863
  v864.toNat
def k0_mult32 (d0 : Dev nD) : BitVec 32 :=
  let c4_i32_694 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_688 : BitVec 32 := 1#32
  let v872 : BitVec 32 := Scalar.addi v2 c1_i32_688
  let c2_i32_689 : BitVec 32 := 2#32
  let v873 : BitVec 32 := Scalar.remsi v872 c2_i32_689
  let v878 : BitVec 32 := Scalar.muli c4_i32_694 v873
  let c2_i32_695 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_690 : BitVec 32 := 1#32
  let v874 : BitVec 32 := Scalar.addi v5 c1_i32_690
  let c2_i32_691 : BitVec 32 := 2#32
  let v875 : BitVec 32 := Scalar.remsi v874 c2_i32_691
  let v879 : BitVec 32 := Scalar.muli c2_i32_695 v875
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_692 : BitVec 32 := 0#32
  let v876 : BitVec 32 := Scalar.addi v8 c0_i32_692
  let c2_i32_693 : BitVec 32 := 2#32
  let v877 : BitVec 32 := Scalar.remsi v876 c2_i32_693
  let v881 : BitVec 32 := Scalar.addi v880 v877
  let c512_i32_696 : BitVec 32 := 512#32
  let v882 : BitVec 32 := Scalar.muli v881 c512_i32_696
  v882
def k0_dev34 (d0 : Dev nD) : Nat :=
  let c0_i32_702 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_688 : BitVec 32 := 1#32
  let v872 : BitVec 32 := Scalar.addi v2 c1_i32_688
  let c2_i32_689 : BitVec 32 := 2#32
  let v873 : BitVec 32 := Scalar.remsi v872 c2_i32_689
  let c4_i32_701 : BitVec 32 := 4#32
  let v884 : BitVec 32 := Scalar.muli v873 c4_i32_701
  let v885 : BitVec 32 := Scalar.addi c0_i32_702 v884
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_690 : BitVec 32 := 1#32
  let v874 : BitVec 32 := Scalar.addi v5 c1_i32_690
  let c2_i32_691 : BitVec 32 := 2#32
  let v875 : BitVec 32 := Scalar.remsi v874 c2_i32_691
  let c2_i32_703 : BitVec 32 := 2#32
  let v886 : BitVec 32 := Scalar.muli v875 c2_i32_703
  let v887 : BitVec 32 := Scalar.addi v885 v886
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_692 : BitVec 32 := 0#32
  let v876 : BitVec 32 := Scalar.addi v8 c0_i32_692
  let c2_i32_693 : BitVec 32 := 2#32
  let v877 : BitVec 32 := Scalar.remsi v876 c2_i32_693
  let c1_i32_704 : BitVec 32 := 1#32
  let v888 : BitVec 32 := Scalar.muli v877 c1_i32_704
  let v889 : BitVec 32 := Scalar.addi v887 v888
  v889.toNat
def k0_mult33 (d0 : Dev nD) : BitVec 32 :=
  let c4_i32_714 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_708 : BitVec 32 := 1#32
  let v897 : BitVec 32 := Scalar.addi v2 c1_i32_708
  let c2_i32_709 : BitVec 32 := 2#32
  let v898 : BitVec 32 := Scalar.remsi v897 c2_i32_709
  let v903 : BitVec 32 := Scalar.muli c4_i32_714 v898
  let c2_i32_715 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_710 : BitVec 32 := 1#32
  let v899 : BitVec 32 := Scalar.addi v5 c1_i32_710
  let c2_i32_711 : BitVec 32 := 2#32
  let v900 : BitVec 32 := Scalar.remsi v899 c2_i32_711
  let v904 : BitVec 32 := Scalar.muli c2_i32_715 v900
  let v905 : BitVec 32 := Scalar.addi v903 v904
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_712 : BitVec 32 := 1#32
  let v901 : BitVec 32 := Scalar.addi v8 c1_i32_712
  let c2_i32_713 : BitVec 32 := 2#32
  let v902 : BitVec 32 := Scalar.remsi v901 c2_i32_713
  let v906 : BitVec 32 := Scalar.addi v905 v902
  let c512_i32_716 : BitVec 32 := 512#32
  let v907 : BitVec 32 := Scalar.muli v906 c512_i32_716
  v907
def k0_dev35 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_708 : BitVec 32 := 1#32
  let v897 : BitVec 32 := Scalar.addi v2 c1_i32_708
  let c2_i32_709 : BitVec 32 := 2#32
  let v898 : BitVec 32 := Scalar.remsi v897 c2_i32_709
  let c4_i32_721 : BitVec 32 := 4#32
  let v909 : BitVec 32 := Scalar.muli v898 c4_i32_721
  let v910 : BitVec 32 := Scalar.addi c0_i32_722 v909
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_710 : BitVec 32 := 1#32
  let v899 : BitVec 32 := Scalar.addi v5 c1_i32_710
  let c2_i32_711 : BitVec 32 := 2#32
  let v900 : BitVec 32 := Scalar.remsi v899 c2_i32_711
  let c2_i32_723 : BitVec 32 := 2#32
  let v911 : BitVec 32 := Scalar.muli v900 c2_i32_723
  let v912 : BitVec 32 := Scalar.addi v910 v911
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_712 : BitVec 32 := 1#32
  let v901 : BitVec 32 := Scalar.addi v8 c1_i32_712
  let c2_i32_713 : BitVec 32 := 2#32
  let v902 : BitVec 32 := Scalar.remsi v901 c2_i32_713
  let c1_i32_724 : BitVec 32 := 1#32
  let v913 : BitVec 32 := Scalar.muli v902 c1_i32_724
  let v914 : BitVec 32 := Scalar.addi v912 v913
  v914.toNat
def k0_mult34 (d0 : Dev nD) : BitVec 32 :=
  let c4_i32_734 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_728 : BitVec 32 := 0#32
  let v922 : BitVec 32 := Scalar.addi v2 c0_i32_728
  let c2_i32_729 : BitVec 32 := 2#32
  let v923 : BitVec 32 := Scalar.remsi v922 c2_i32_729
  let v928 : BitVec 32 := Scalar.muli c4_i32_734 v923
  let c2_i32_735 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_730 : BitVec 32 := 0#32
  let v924 : BitVec 32 := Scalar.addi v5 c0_i32_730
  let c2_i32_731 : BitVec 32 := 2#32
  let v925 : BitVec 32 := Scalar.remsi v924 c2_i32_731
  let v929 : BitVec 32 := Scalar.muli c2_i32_735 v925
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v926 : BitVec 32 := Scalar.addi v8 c1_i32_732
  let c2_i32_733 : BitVec 32 := 2#32
  let v927 : BitVec 32 := Scalar.remsi v926 c2_i32_733
  let v931 : BitVec 32 := Scalar.addi v930 v927
  let c512_i32_736 : BitVec 32 := 512#32
  let v932 : BitVec 32 := Scalar.muli v931 c512_i32_736
  v932
def k0_off14 (d0 : Dev nD) (c0_i32_728 : BitVec 32) (c0_i32_730 : BitVec 32) (c1_i32_732 : BitVec 32) : Fin 2 → Nat :=
  let c4_i32_734 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v922 : BitVec 32 := Scalar.addi v2 c0_i32_728
  let c2_i32_729 : BitVec 32 := 2#32
  let v923 : BitVec 32 := Scalar.remsi v922 c2_i32_729
  let v928 : BitVec 32 := Scalar.muli c4_i32_734 v923
  let c2_i32_735 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v924 : BitVec 32 := Scalar.addi v5 c0_i32_730
  let c2_i32_731 : BitVec 32 := 2#32
  let v925 : BitVec 32 := Scalar.remsi v924 c2_i32_731
  let v929 : BitVec 32 := Scalar.muli c2_i32_735 v925
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v926 : BitVec 32 := Scalar.addi v8 c1_i32_732
  let c2_i32_733 : BitVec 32 := 2#32
  let v927 : BitVec 32 := Scalar.remsi v926 c2_i32_733
  let v931 : BitVec 32 := Scalar.addi v930 v927
  let c512_i32_736 : BitVec 32 := 512#32
  let v932 : BitVec 32 := Scalar.muli v931 c512_i32_736
  let v933 : BitVec 32 := v932
  let c0_i32_747 : BitVec 32 := 0#32
  ![v933.toNat, 0]
def k0_off14_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev36 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_728 : BitVec 32 := 0#32
  let v922 : BitVec 32 := Scalar.addi v2 c0_i32_728
  let c2_i32_729 : BitVec 32 := 2#32
  let v923 : BitVec 32 := Scalar.remsi v922 c2_i32_729
  let c4_i32_741 : BitVec 32 := 4#32
  let v934 : BitVec 32 := Scalar.muli v923 c4_i32_741
  let v935 : BitVec 32 := Scalar.addi c0_i32_742 v934
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_730 : BitVec 32 := 0#32
  let v924 : BitVec 32 := Scalar.addi v5 c0_i32_730
  let c2_i32_731 : BitVec 32 := 2#32
  let v925 : BitVec 32 := Scalar.remsi v924 c2_i32_731
  let c2_i32_743 : BitVec 32 := 2#32
  let v936 : BitVec 32 := Scalar.muli v925 c2_i32_743
  let v937 : BitVec 32 := Scalar.addi v935 v936
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v926 : BitVec 32 := Scalar.addi v8 c1_i32_732
  let c2_i32_733 : BitVec 32 := 2#32
  let v927 : BitVec 32 := Scalar.remsi v926 c2_i32_733
  let c1_i32_744 : BitVec 32 := 1#32
  let v938 : BitVec 32 := Scalar.muli v927 c1_i32_744
  let v939 : BitVec 32 := Scalar.addi v937 v938
  v939.toNat
def k0_mult35 (d0 : Dev nD) : BitVec 32 :=
  let c4_i32_754 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_748 : BitVec 32 := 0#32
  let v947 : BitVec 32 := Scalar.addi v2 c0_i32_748
  let c2_i32_749 : BitVec 32 := 2#32
  let v948 : BitVec 32 := Scalar.remsi v947 c2_i32_749
  let v953 : BitVec 32 := Scalar.muli c4_i32_754 v948
  let c2_i32_755 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_750 : BitVec 32 := 1#32
  let v949 : BitVec 32 := Scalar.addi v5 c1_i32_750
  let c2_i32_751 : BitVec 32 := 2#32
  let v950 : BitVec 32 := Scalar.remsi v949 c2_i32_751
  let v954 : BitVec 32 := Scalar.muli c2_i32_755 v950
  let v955 : BitVec 32 := Scalar.addi v953 v954
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_752 : BitVec 32 := 0#32
  let v951 : BitVec 32 := Scalar.addi v8 c0_i32_752
  let c2_i32_753 : BitVec 32 := 2#32
  let v952 : BitVec 32 := Scalar.remsi v951 c2_i32_753
  let v956 : BitVec 32 := Scalar.addi v955 v952
  let c512_i32_756 : BitVec 32 := 512#32
  let v957 : BitVec 32 := Scalar.muli v956 c512_i32_756
  v957
def k0_dev37 (d0 : Dev nD) : Nat :=
  let c0_i32_762 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_748 : BitVec 32 := 0#32
  let v947 : BitVec 32 := Scalar.addi v2 c0_i32_748
  let c2_i32_749 : BitVec 32 := 2#32
  let v948 : BitVec 32 := Scalar.remsi v947 c2_i32_749
  let c4_i32_761 : BitVec 32 := 4#32
  let v959 : BitVec 32 := Scalar.muli v948 c4_i32_761
  let v960 : BitVec 32 := Scalar.addi c0_i32_762 v959
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_750 : BitVec 32 := 1#32
  let v949 : BitVec 32 := Scalar.addi v5 c1_i32_750
  let c2_i32_751 : BitVec 32 := 2#32
  let v950 : BitVec 32 := Scalar.remsi v949 c2_i32_751
  let c2_i32_763 : BitVec 32 := 2#32
  let v961 : BitVec 32 := Scalar.muli v950 c2_i32_763
  let v962 : BitVec 32 := Scalar.addi v960 v961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_752 : BitVec 32 := 0#32
  let v951 : BitVec 32 := Scalar.addi v8 c0_i32_752
  let c2_i32_753 : BitVec 32 := 2#32
  let v952 : BitVec 32 := Scalar.remsi v951 c2_i32_753
  let c1_i32_764 : BitVec 32 := 1#32
  let v963 : BitVec 32 := Scalar.muli v952 c1_i32_764
  let v964 : BitVec 32 := Scalar.addi v962 v963
  v964.toNat
def k0_mult36 (d0 : Dev nD) : BitVec 32 :=
  let c4_i32_774 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_768 : BitVec 32 := 0#32
  let v972 : BitVec 32 := Scalar.addi v2 c0_i32_768
  let c2_i32_769 : BitVec 32 := 2#32
  let v973 : BitVec 32 := Scalar.remsi v972 c2_i32_769
  let v978 : BitVec 32 := Scalar.muli c4_i32_774 v973
  let c2_i32_775 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_770 : BitVec 32 := 1#32
  let v974 : BitVec 32 := Scalar.addi v5 c1_i32_770
  let c2_i32_771 : BitVec 32 := 2#32
  let v975 : BitVec 32 := Scalar.remsi v974 c2_i32_771
  let v979 : BitVec 32 := Scalar.muli c2_i32_775 v975
  let v980 : BitVec 32 := Scalar.addi v978 v979
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v976 : BitVec 32 := Scalar.addi v8 c1_i32_772
  let c2_i32_773 : BitVec 32 := 2#32
  let v977 : BitVec 32 := Scalar.remsi v976 c2_i32_773
  let v981 : BitVec 32 := Scalar.addi v980 v977
  let c512_i32_776 : BitVec 32 := 512#32
  let v982 : BitVec 32 := Scalar.muli v981 c512_i32_776
  v982
def k0_dev38 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_768 : BitVec 32 := 0#32
  let v972 : BitVec 32 := Scalar.addi v2 c0_i32_768
  let c2_i32_769 : BitVec 32 := 2#32
  let v973 : BitVec 32 := Scalar.remsi v972 c2_i32_769
  let c4_i32_781 : BitVec 32 := 4#32
  let v984 : BitVec 32 := Scalar.muli v973 c4_i32_781
  let v985 : BitVec 32 := Scalar.addi c0_i32_782 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_770 : BitVec 32 := 1#32
  let v974 : BitVec 32 := Scalar.addi v5 c1_i32_770
  let c2_i32_771 : BitVec 32 := 2#32
  let v975 : BitVec 32 := Scalar.remsi v974 c2_i32_771
  let c2_i32_783 : BitVec 32 := 2#32
  let v986 : BitVec 32 := Scalar.muli v975 c2_i32_783
  let v987 : BitVec 32 := Scalar.addi v985 v986
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v976 : BitVec 32 := Scalar.addi v8 c1_i32_772
  let c2_i32_773 : BitVec 32 := 2#32
  let v977 : BitVec 32 := Scalar.remsi v976 c2_i32_773
  let c1_i32_784 : BitVec 32 := 1#32
  let v988 : BitVec 32 := Scalar.muli v977 c1_i32_784
  let v989 : BitVec 32 := Scalar.addi v987 v988
  v989.toNat
def k0_mult37 (d0 : Dev nD) : BitVec 32 :=
  let c4_i32_794 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_788 : BitVec 32 := 1#32
  let v997 : BitVec 32 := Scalar.addi v2 c1_i32_788
  let c2_i32_789 : BitVec 32 := 2#32
  let v998 : BitVec 32 := Scalar.remsi v997 c2_i32_789
  let v1003 : BitVec 32 := Scalar.muli c4_i32_794 v998
  let c2_i32_795 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_790 : BitVec 32 := 0#32
  let v999 : BitVec 32 := Scalar.addi v5 c0_i32_790
  let c2_i32_791 : BitVec 32 := 2#32
  let v1000 : BitVec 32 := Scalar.remsi v999 c2_i32_791
  let v1004 : BitVec 32 := Scalar.muli c2_i32_795 v1000
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_792 : BitVec 32 := 0#32
  let v1001 : BitVec 32 := Scalar.addi v8 c0_i32_792
  let c2_i32_793 : BitVec 32 := 2#32
  let v1002 : BitVec 32 := Scalar.remsi v1001 c2_i32_793
  let v1006 : BitVec 32 := Scalar.addi v1005 v1002
  let c512_i32_796 : BitVec 32 := 512#32
  let v1007 : BitVec 32 := Scalar.muli v1006 c512_i32_796
  v1007
def k0_dev39 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_788 : BitVec 32 := 1#32
  let v997 : BitVec 32 := Scalar.addi v2 c1_i32_788
  let c2_i32_789 : BitVec 32 := 2#32
  let v998 : BitVec 32 := Scalar.remsi v997 c2_i32_789
  let c4_i32_801 : BitVec 32 := 4#32
  let v1009 : BitVec 32 := Scalar.muli v998 c4_i32_801
  let v1010 : BitVec 32 := Scalar.addi c0_i32_802 v1009
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_790 : BitVec 32 := 0#32
  let v999 : BitVec 32 := Scalar.addi v5 c0_i32_790
  let c2_i32_791 : BitVec 32 := 2#32
  let v1000 : BitVec 32 := Scalar.remsi v999 c2_i32_791
  let c2_i32_803 : BitVec 32 := 2#32
  let v1011 : BitVec 32 := Scalar.muli v1000 c2_i32_803
  let v1012 : BitVec 32 := Scalar.addi v1010 v1011
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_792 : BitVec 32 := 0#32
  let v1001 : BitVec 32 := Scalar.addi v8 c0_i32_792
  let c2_i32_793 : BitVec 32 := 2#32
  let v1002 : BitVec 32 := Scalar.remsi v1001 c2_i32_793
  let c1_i32_804 : BitVec 32 := 1#32
  let v1013 : BitVec 32 := Scalar.muli v1002 c1_i32_804
  let v1014 : BitVec 32 := Scalar.addi v1012 v1013
  v1014.toNat
def k0_mult38 (d0 : Dev nD) : BitVec 32 :=
  let c4_i32_814 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_808 : BitVec 32 := 1#32
  let v1022 : BitVec 32 := Scalar.addi v2 c1_i32_808
  let c2_i32_809 : BitVec 32 := 2#32
  let v1023 : BitVec 32 := Scalar.remsi v1022 c2_i32_809
  let v1028 : BitVec 32 := Scalar.muli c4_i32_814 v1023
  let c2_i32_815 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_810 : BitVec 32 := 0#32
  let v1024 : BitVec 32 := Scalar.addi v5 c0_i32_810
  let c2_i32_811 : BitVec 32 := 2#32
  let v1025 : BitVec 32 := Scalar.remsi v1024 c2_i32_811
  let v1029 : BitVec 32 := Scalar.muli c2_i32_815 v1025
  let v1030 : BitVec 32 := Scalar.addi v1028 v1029
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1026 : BitVec 32 := Scalar.addi v8 c1_i32_812
  let c2_i32_813 : BitVec 32 := 2#32
  let v1027 : BitVec 32 := Scalar.remsi v1026 c2_i32_813
  let v1031 : BitVec 32 := Scalar.addi v1030 v1027
  let c512_i32_816 : BitVec 32 := 512#32
  let v1032 : BitVec 32 := Scalar.muli v1031 c512_i32_816
  v1032
def k0_dev40 (d0 : Dev nD) : Nat :=
  let c0_i32_822 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_808 : BitVec 32 := 1#32
  let v1022 : BitVec 32 := Scalar.addi v2 c1_i32_808
  let c2_i32_809 : BitVec 32 := 2#32
  let v1023 : BitVec 32 := Scalar.remsi v1022 c2_i32_809
  let c4_i32_821 : BitVec 32 := 4#32
  let v1034 : BitVec 32 := Scalar.muli v1023 c4_i32_821
  let v1035 : BitVec 32 := Scalar.addi c0_i32_822 v1034
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_810 : BitVec 32 := 0#32
  let v1024 : BitVec 32 := Scalar.addi v5 c0_i32_810
  let c2_i32_811 : BitVec 32 := 2#32
  let v1025 : BitVec 32 := Scalar.remsi v1024 c2_i32_811
  let c2_i32_823 : BitVec 32 := 2#32
  let v1036 : BitVec 32 := Scalar.muli v1025 c2_i32_823
  let v1037 : BitVec 32 := Scalar.addi v1035 v1036
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1026 : BitVec 32 := Scalar.addi v8 c1_i32_812
  let c2_i32_813 : BitVec 32 := 2#32
  let v1027 : BitVec 32 := Scalar.remsi v1026 c2_i32_813
  let c1_i32_824 : BitVec 32 := 1#32
  let v1038 : BitVec 32 := Scalar.muli v1027 c1_i32_824
  let v1039 : BitVec 32 := Scalar.addi v1037 v1038
  v1039.toNat
def k0_mult39 (d0 : Dev nD) : BitVec 32 :=
  let c4_i32_834 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_828 : BitVec 32 := 1#32
  let v1047 : BitVec 32 := Scalar.addi v2 c1_i32_828
  let c2_i32_829 : BitVec 32 := 2#32
  let v1048 : BitVec 32 := Scalar.remsi v1047 c2_i32_829
  let v1053 : BitVec 32 := Scalar.muli c4_i32_834 v1048
  let c2_i32_835 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_830 : BitVec 32 := 1#32
  let v1049 : BitVec 32 := Scalar.addi v5 c1_i32_830
  let c2_i32_831 : BitVec 32 := 2#32
  let v1050 : BitVec 32 := Scalar.remsi v1049 c2_i32_831
  let v1054 : BitVec 32 := Scalar.muli c2_i32_835 v1050
  let v1055 : BitVec 32 := Scalar.addi v1053 v1054
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_832 : BitVec 32 := 0#32
  let v1051 : BitVec 32 := Scalar.addi v8 c0_i32_832
  let c2_i32_833 : BitVec 32 := 2#32
  let v1052 : BitVec 32 := Scalar.remsi v1051 c2_i32_833
  let v1056 : BitVec 32 := Scalar.addi v1055 v1052
  let c512_i32_836 : BitVec 32 := 512#32
  let v1057 : BitVec 32 := Scalar.muli v1056 c512_i32_836
  v1057
def k0_dev41 (d0 : Dev nD) : Nat :=
  let c0_i32_842 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_828 : BitVec 32 := 1#32
  let v1047 : BitVec 32 := Scalar.addi v2 c1_i32_828
  let c2_i32_829 : BitVec 32 := 2#32
  let v1048 : BitVec 32 := Scalar.remsi v1047 c2_i32_829
  let c4_i32_841 : BitVec 32 := 4#32
  let v1059 : BitVec 32 := Scalar.muli v1048 c4_i32_841
  let v1060 : BitVec 32 := Scalar.addi c0_i32_842 v1059
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_830 : BitVec 32 := 1#32
  let v1049 : BitVec 32 := Scalar.addi v5 c1_i32_830
  let c2_i32_831 : BitVec 32 := 2#32
  let v1050 : BitVec 32 := Scalar.remsi v1049 c2_i32_831
  let c2_i32_843 : BitVec 32 := 2#32
  let v1061 : BitVec 32 := Scalar.muli v1050 c2_i32_843
  let v1062 : BitVec 32 := Scalar.addi v1060 v1061
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_832 : BitVec 32 := 0#32
  let v1051 : BitVec 32 := Scalar.addi v8 c0_i32_832
  let c2_i32_833 : BitVec 32 := 2#32
  let v1052 : BitVec 32 := Scalar.remsi v1051 c2_i32_833
  let c1_i32_844 : BitVec 32 := 1#32
  let v1063 : BitVec 32 := Scalar.muli v1052 c1_i32_844
  let v1064 : BitVec 32 := Scalar.addi v1062 v1063
  v1064.toNat
def k0_mult40 (d0 : Dev nD) : BitVec 32 :=
  let c4_i32_854 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_848 : BitVec 32 := 1#32
  let v1072 : BitVec 32 := Scalar.addi v2 c1_i32_848
  let c2_i32_849 : BitVec 32 := 2#32
  let v1073 : BitVec 32 := Scalar.remsi v1072 c2_i32_849
  let v1078 : BitVec 32 := Scalar.muli c4_i32_854 v1073
  let c2_i32_855 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_850 : BitVec 32 := 1#32
  let v1074 : BitVec 32 := Scalar.addi v5 c1_i32_850
  let c2_i32_851 : BitVec 32 := 2#32
  let v1075 : BitVec 32 := Scalar.remsi v1074 c2_i32_851
  let v1079 : BitVec 32 := Scalar.muli c2_i32_855 v1075
  let v1080 : BitVec 32 := Scalar.addi v1078 v1079
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v1076 : BitVec 32 := Scalar.addi v8 c1_i32_852
  let c2_i32_853 : BitVec 32 := 2#32
  let v1077 : BitVec 32 := Scalar.remsi v1076 c2_i32_853
  let v1081 : BitVec 32 := Scalar.addi v1080 v1077
  let c512_i32_856 : BitVec 32 := 512#32
  let v1082 : BitVec 32 := Scalar.muli v1081 c512_i32_856
  v1082
def k0_dev42 (d0 : Dev nD) : Nat :=
  let c0_i32_862 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_848 : BitVec 32 := 1#32
  let v1072 : BitVec 32 := Scalar.addi v2 c1_i32_848
  let c2_i32_849 : BitVec 32 := 2#32
  let v1073 : BitVec 32 := Scalar.remsi v1072 c2_i32_849
  let c4_i32_861 : BitVec 32 := 4#32
  let v1084 : BitVec 32 := Scalar.muli v1073 c4_i32_861
  let v1085 : BitVec 32 := Scalar.addi c0_i32_862 v1084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_850 : BitVec 32 := 1#32
  let v1074 : BitVec 32 := Scalar.addi v5 c1_i32_850
  let c2_i32_851 : BitVec 32 := 2#32
  let v1075 : BitVec 32 := Scalar.remsi v1074 c2_i32_851
  let c2_i32_863 : BitVec 32 := 2#32
  let v1086 : BitVec 32 := Scalar.muli v1075 c2_i32_863
  let v1087 : BitVec 32 := Scalar.addi v1085 v1086
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v1076 : BitVec 32 := Scalar.addi v8 c1_i32_852
  let c2_i32_853 : BitVec 32 := 2#32
  let v1077 : BitVec 32 := Scalar.remsi v1076 c2_i32_853
  let c1_i32_864 : BitVec 32 := 1#32
  let v1088 : BitVec 32 := Scalar.muli v1077 c1_i32_864
  let v1089 : BitVec 32 := Scalar.addi v1087 v1088
  v1089.toNat
-- ==== KernelIdeal.lean ====
abbrev S8x1024x1408 : Shape := ⟨3, ![8, 1024, 1408]⟩
abbrev S1024x1024 : Shape := ⟨2, ![1024, 1024]⟩
abbrev S2048x1024 : Shape := ⟨2, ![2048, 1024]⟩
abbrev S1024x4096 : Shape := ⟨2, ![1024, 4096]⟩
abbrev S4096x1024 : Shape := ⟨2, ![4096, 1024]⟩
abbrev S8x128x1024 : Shape := ⟨3, ![8, 128, 1024]⟩
abbrev S8x256x1024 : Shape := ⟨3, ![8, 256, 1024]⟩
abbrev S8x1024x512 : Shape := ⟨3, ![8, 1024, 512]⟩
abbrev S8x512x1024 : Shape := ⟨3, ![8, 512, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x128x1024 : Shape := ⟨3, ![1, 128, 1024]⟩
abbrev S128x1024 : Shape := ⟨2, ![128, 1024]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S1024x1024, .bf16⟩
  | .hbm, ⟨2, _⟩ => ⟨S2048x1024, .bf16⟩
  | .hbm, ⟨3, _⟩ => ⟨S1024x1024, .bf16⟩
  | .hbm, ⟨4, _⟩ => ⟨S1024x4096, .bf16⟩
  | .hbm, ⟨5, _⟩ => ⟨S4096x1024, .bf16⟩
  | .hbm, ⟨6, _⟩ => ⟨S8x1024x1408, .bf16⟩
  | .hbm, ⟨7, _⟩ => ⟨S8x128x1024, .bf16⟩
  | .hbm, ⟨8, _⟩ => ⟨S8x256x1024, .bf16⟩
  | .hbm, ⟨9, _⟩ => ⟨S8x128x1024, .bf16⟩
  | .hbm, ⟨10, _⟩ => ⟨S8x1024x512, .bf16⟩
  | .hbm, ⟨11, _⟩ => ⟨S8x512x1024, .bf16⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v19 : BitVec 32 := Scalar.muli v12 c128_i32
  v19
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v19 : BitVec 32 := Scalar.muli v12 c128_i32
  let v20 : BitVec 32 := v19
  let c0_i32_12 : BitVec 32 := 0#32
  ![v20.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v26 : BitVec 32 := Scalar.muli v12 c256_i32
  v26
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_14 : BitVec 32 := 0#32
  let c0_i32_15 : BitVec 32 := 0#32
  ![v12.toNat, 0, 0]
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v26 : BitVec 32 := Scalar.muli v12 c256_i32
  let v27 : BitVec 32 := v26
  let c0_i32_16 : BitVec 32 := 0#32
  ![v27.toNat, 0]
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_17 : BitVec 32 := 128#32
  let v33 : BitVec 32 := Scalar.muli v12 c128_i32_17
  v33
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v40 : BitVec 32 := Scalar.muli v12 c512_i32
  v40
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_22 : BitVec 32 := 0#32
  let c0_i32_23 : BitVec 32 := 0#32
  ![v12.toNat, 0, 0]
def k0_off7 (d0 : Dev nD) : Fin 2 → Nat :=
  let c0_i32_24 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v40 : BitVec 32 := Scalar.muli v12 c512_i32
  let v41 : BitVec 32 := v40
  ![0, v41.toNat]
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_25 : BitVec 32 := 512#32
  let v47 : BitVec 32 := Scalar.muli v12 c512_i32_25
  v47
def k0_off8 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_off9 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_25 : BitVec 32 := 512#32
  let v47 : BitVec 32 := Scalar.muli v12 c512_i32_25
  let v48 : BitVec 32 := v47
  let c0_i32_28 : BitVec 32 := 0#32
  ![v48.toNat, 0]
def k0_off10 (d0 : Dev nD) (c0_i32_29 : BitVec 32) (c0_i32_31 : BitVec 32) (c1_i32_33 : BitVec 32) : Fin 3 → Nat :=
  let c4_i32_35 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.addi v2 c0_i32_29
  let c2_i32_30 : BitVec 32 := 2#32
  let v55 : BitVec 32 := Scalar.remsi v54 c2_i32_30
  let v60 : BitVec 32 := Scalar.muli c4_i32_35 v55
  let c2_i32_36 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.addi v5 c0_i32_31
  let c2_i32_32 : BitVec 32 := 2#32
  let v57 : BitVec 32 := Scalar.remsi v56 c2_i32_32
  let v61 : BitVec 32 := Scalar.muli c2_i32_36 v57
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.addi v8 c1_i32_33
  let c2_i32_34 : BitVec 32 := 2#32
  let v59 : BitVec 32 := Scalar.remsi v58 c2_i32_34
  let v63 : BitVec 32 := Scalar.addi v62 v59
  let c0_i32_47 : BitVec 32 := 0#32
  let c0_i32_48 : BitVec 32 := 0#32
  ![v63.toNat, 0, 0]
def k0_off10_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_29 : BitVec 32 := 0#32
  let v54 : BitVec 32 := Scalar.addi v2 c0_i32_29
  let c2_i32_30 : BitVec 32 := 2#32
  let v55 : BitVec 32 := Scalar.remsi v54 c2_i32_30
  let c4_i32_41 : BitVec 32 := 4#32
  let v64 : BitVec 32 := Scalar.muli v55 c4_i32_41
  let v65 : BitVec 32 := Scalar.addi c0_i32_42 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_31 : BitVec 32 := 0#32
  let v56 : BitVec 32 := Scalar.addi v5 c0_i32_31
  let c2_i32_32 : BitVec 32 := 2#32
  let v57 : BitVec 32 := Scalar.remsi v56 c2_i32_32
  let c2_i32_43 : BitVec 32 := 2#32
  let v66 : BitVec 32 := Scalar.muli v57 c2_i32_43
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v58 : BitVec 32 := Scalar.addi v8 c1_i32_33
  let c2_i32_34 : BitVec 32 := 2#32
  let v59 : BitVec 32 := Scalar.remsi v58 c2_i32_34
  let c1_i32_44 : BitVec 32 := 1#32
  let v68 : BitVec 32 := Scalar.muli v59 c1_i32_44
  let v69 : BitVec 32 := Scalar.addi v67 v68
  v69.toNat
def k0_dev2 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_49 : BitVec 32 := 0#32
  let v78 : BitVec 32 := Scalar.addi v2 c0_i32_49
  let c2_i32_50 : BitVec 32 := 2#32
  let v79 : BitVec 32 := Scalar.remsi v78 c2_i32_50
  let c4_i32_61 : BitVec 32 := 4#32
  let v88 : BitVec 32 := Scalar.muli v79 c4_i32_61
  let v89 : BitVec 32 := Scalar.addi c0_i32_62 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v80 : BitVec 32 := Scalar.addi v5 c1_i32_51
  let c2_i32_52 : BitVec 32 := 2#32
  let v81 : BitVec 32 := Scalar.remsi v80 c2_i32_52
  let c2_i32_63 : BitVec 32 := 2#32
  let v90 : BitVec 32 := Scalar.muli v81 c2_i32_63
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let v82 : BitVec 32 := Scalar.addi v8 c0_i32_53
  let c2_i32_54 : BitVec 32 := 2#32
  let v83 : BitVec 32 := Scalar.remsi v82 c2_i32_54
  let c1_i32_64 : BitVec 32 := 1#32
  let v92 : BitVec 32 := Scalar.muli v83 c1_i32_64
  let v93 : BitVec 32 := Scalar.addi v91 v92
  v93.toNat
def k0_dev3 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_69 : BitVec 32 := 0#32
  let v102 : BitVec 32 := Scalar.addi v2 c0_i32_69
  let c2_i32_70 : BitVec 32 := 2#32
  let v103 : BitVec 32 := Scalar.remsi v102 c2_i32_70
  let c4_i32_81 : BitVec 32 := 4#32
  let v112 : BitVec 32 := Scalar.muli v103 c4_i32_81
  let v113 : BitVec 32 := Scalar.addi c0_i32_82 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v104 : BitVec 32 := Scalar.addi v5 c1_i32_71
  let c2_i32_72 : BitVec 32 := 2#32
  let v105 : BitVec 32 := Scalar.remsi v104 c2_i32_72
  let c2_i32_83 : BitVec 32 := 2#32
  let v114 : BitVec 32 := Scalar.muli v105 c2_i32_83
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v106 : BitVec 32 := Scalar.addi v8 c1_i32_73
  let c2_i32_74 : BitVec 32 := 2#32
  let v107 : BitVec 32 := Scalar.remsi v106 c2_i32_74
  let c1_i32_84 : BitVec 32 := 1#32
  let v116 : BitVec 32 := Scalar.muli v107 c1_i32_84
  let v117 : BitVec 32 := Scalar.addi v115 v116
  v117.toNat
def k0_dev4 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_89 : BitVec 32 := 1#32
  let v126 : BitVec 32 := Scalar.addi v2 c1_i32_89
  let c2_i32_90 : BitVec 32 := 2#32
  let v127 : BitVec 32 := Scalar.remsi v126 c2_i32_90
  let c4_i32_101 : BitVec 32 := 4#32
  let v136 : BitVec 32 := Scalar.muli v127 c4_i32_101
  let v137 : BitVec 32 := Scalar.addi c0_i32_102 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_91 : BitVec 32 := 0#32
  let v128 : BitVec 32 := Scalar.addi v5 c0_i32_91
  let c2_i32_92 : BitVec 32 := 2#32
  let v129 : BitVec 32 := Scalar.remsi v128 c2_i32_92
  let c2_i32_103 : BitVec 32 := 2#32
  let v138 : BitVec 32 := Scalar.muli v129 c2_i32_103
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v130 : BitVec 32 := Scalar.addi v8 c0_i32_93
  let c2_i32_94 : BitVec 32 := 2#32
  let v131 : BitVec 32 := Scalar.remsi v130 c2_i32_94
  let c1_i32_104 : BitVec 32 := 1#32
  let v140 : BitVec 32 := Scalar.muli v131 c1_i32_104
  let v141 : BitVec 32 := Scalar.addi v139 v140
  v141.toNat
def k0_dev5 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v150 : BitVec 32 := Scalar.addi v2 c1_i32_109
  let c2_i32_110 : BitVec 32 := 2#32
  let v151 : BitVec 32 := Scalar.remsi v150 c2_i32_110
  let c4_i32_121 : BitVec 32 := 4#32
  let v160 : BitVec 32 := Scalar.muli v151 c4_i32_121
  let v161 : BitVec 32 := Scalar.addi c0_i32_122 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_111 : BitVec 32 := 0#32
  let v152 : BitVec 32 := Scalar.addi v5 c0_i32_111
  let c2_i32_112 : BitVec 32 := 2#32
  let v153 : BitVec 32 := Scalar.remsi v152 c2_i32_112
  let c2_i32_123 : BitVec 32 := 2#32
  let v162 : BitVec 32 := Scalar.muli v153 c2_i32_123
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v154 : BitVec 32 := Scalar.addi v8 c1_i32_113
  let c2_i32_114 : BitVec 32 := 2#32
  let v155 : BitVec 32 := Scalar.remsi v154 c2_i32_114
  let c1_i32_124 : BitVec 32 := 1#32
  let v164 : BitVec 32 := Scalar.muli v155 c1_i32_124
  let v165 : BitVec 32 := Scalar.addi v163 v164
  v165.toNat
def k0_dev6 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_129 : BitVec 32 := 1#32
  let v174 : BitVec 32 := Scalar.addi v2 c1_i32_129
  let c2_i32_130 : BitVec 32 := 2#32
  let v175 : BitVec 32 := Scalar.remsi v174 c2_i32_130
  let c4_i32_141 : BitVec 32 := 4#32
  let v184 : BitVec 32 := Scalar.muli v175 c4_i32_141
  let v185 : BitVec 32 := Scalar.addi c0_i32_142 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_131 : BitVec 32 := 1#32
  let v176 : BitVec 32 := Scalar.addi v5 c1_i32_131
  let c2_i32_132 : BitVec 32 := 2#32
  let v177 : BitVec 32 := Scalar.remsi v176 c2_i32_132
  let c2_i32_143 : BitVec 32 := 2#32
  let v186 : BitVec 32 := Scalar.muli v177 c2_i32_143
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v178 : BitVec 32 := Scalar.addi v8 c0_i32_133
  let c2_i32_134 : BitVec 32 := 2#32
  let v179 : BitVec 32 := Scalar.remsi v178 c2_i32_134
  let c1_i32_144 : BitVec 32 := 1#32
  let v188 : BitVec 32 := Scalar.muli v179 c1_i32_144
  let v189 : BitVec 32 := Scalar.addi v187 v188
  v189.toNat
def k0_dev7 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_149 : BitVec 32 := 1#32
  let v198 : BitVec 32 := Scalar.addi v2 c1_i32_149
  let c2_i32_150 : BitVec 32 := 2#32
  let v199 : BitVec 32 := Scalar.remsi v198 c2_i32_150
  let c4_i32_160 : BitVec 32 := 4#32
  let v208 : BitVec 32 := Scalar.muli v199 c4_i32_160
  let v209 : BitVec 32 := Scalar.addi c0_i32_161 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_151 : BitVec 32 := 1#32
  let v200 : BitVec 32 := Scalar.addi v5 c1_i32_151
  let c2_i32_152 : BitVec 32 := 2#32
  let v201 : BitVec 32 := Scalar.remsi v200 c2_i32_152
  let c2_i32_162 : BitVec 32 := 2#32
  let v210 : BitVec 32 := Scalar.muli v201 c2_i32_162
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v202 : BitVec 32 := Scalar.addi v8 c1_i32_153
  let c2_i32_154 : BitVec 32 := 2#32
  let v203 : BitVec 32 := Scalar.remsi v202 c2_i32_154
  let c1_i32_163 : BitVec 32 := 1#32
  let v212 : BitVec 32 := Scalar.muli v203 c1_i32_163
  let v213 : BitVec 32 := Scalar.addi v211 v212
  v213.toNat
def k0_mult6 (d0 : Dev nD) : BitVec 32 :=
  let c4_i32_174 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_168 : BitVec 32 := 0#32
  let v222 : BitVec 32 := Scalar.addi v2 c0_i32_168
  let c2_i32_169 : BitVec 32 := 2#32
  let v223 : BitVec 32 := Scalar.remsi v222 c2_i32_169
  let v228 : BitVec 32 := Scalar.muli c4_i32_174 v223
  let c2_i32_175 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v224 : BitVec 32 := Scalar.addi v5 c0_i32_170
  let c2_i32_171 : BitVec 32 := 2#32
  let v225 : BitVec 32 := Scalar.remsi v224 c2_i32_171
  let v229 : BitVec 32 := Scalar.muli c2_i32_175 v225
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v226 : BitVec 32 := Scalar.addi v8 c1_i32_172
  let c2_i32_173 : BitVec 32 := 2#32
  let v227 : BitVec 32 := Scalar.remsi v226 c2_i32_173
  let v231 : BitVec 32 := Scalar.addi v230 v227
  let c128_i32_176 : BitVec 32 := 128#32
  let v232 : BitVec 32 := Scalar.muli v231 c128_i32_176
  v232
def k0_off11 (d0 : Dev nD) (c0_i32_168 : BitVec 32) (c0_i32_170 : BitVec 32) (c1_i32_172 : BitVec 32) : Fin 2 → Nat :=
  let c4_i32_174 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.addi v2 c0_i32_168
  let c2_i32_169 : BitVec 32 := 2#32
  let v223 : BitVec 32 := Scalar.remsi v222 c2_i32_169
  let v228 : BitVec 32 := Scalar.muli c4_i32_174 v223
  let c2_i32_175 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.addi v5 c0_i32_170
  let c2_i32_171 : BitVec 32 := 2#32
  let v225 : BitVec 32 := Scalar.remsi v224 c2_i32_171
  let v229 : BitVec 32 := Scalar.muli c2_i32_175 v225
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v226 : BitVec 32 := Scalar.addi v8 c1_i32_172
  let c2_i32_173 : BitVec 32 := 2#32
  let v227 : BitVec 32 := Scalar.remsi v226 c2_i32_173
  let v231 : BitVec 32 := Scalar.addi v230 v227
  let c128_i32_176 : BitVec 32 := 128#32
  let v232 : BitVec 32 := Scalar.muli v231 c128_i32_176
  let v233 : BitVec 32 := v232
  let c0_i32_187 : BitVec 32 := 0#32
  ![v233.toNat, 0]
def k0_off11_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev8 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_168 : BitVec 32 := 0#32
  let v222 : BitVec 32 := Scalar.addi v2 c0_i32_168
  let c2_i32_169 : BitVec 32 := 2#32
  let v223 : BitVec 32 := Scalar.remsi v222 c2_i32_169
  let c4_i32_181 : BitVec 32 := 4#32
  let v234 : BitVec 32 := Scalar.muli v223 c4_i32_181
  let v235 : BitVec 32 := Scalar.addi c0_i32_182 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v224 : BitVec 32 := Scalar.addi v5 c0_i32_170
  let c2_i32_171 : BitVec 32 := 2#32
  let v225 : BitVec 32 := Scalar.remsi v224 c2_i32_171
  let c2_i32_183 : BitVec 32 := 2#32
  let v236 : BitVec 32 := Scalar.muli v225 c2_i32_183
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v226 : BitVec 32 := Scalar.addi v8 c1_i32_172
  let c2_i32_173 : BitVec 32 := 2#32
  let v227 : BitVec 32 := Scalar.remsi v226 c2_i32_173
  let c1_i32_184 : BitVec 32 := 1#32
  let v238 : BitVec 32 := Scalar.muli v227 c1_i32_184
  let v239 : BitVec 32 := Scalar.addi v237 v238
  v239.toNat
def k0_mult7 (d0 : Dev nD) : BitVec 32 :=
  let c4_i32_194 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_188 : BitVec 32 := 0#32
  let v247 : BitVec 32 := Scalar.addi v2 c0_i32_188
  let c2_i32_189 : BitVec 32 := 2#32
  let v248 : BitVec 32 := Scalar.remsi v247 c2_i32_189
  let v253 : BitVec 32 := Scalar.muli c4_i32_194 v248
  let c2_i32_195 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_190 : BitVec 32 := 1#32
  let v249 : BitVec 32 := Scalar.addi v5 c1_i32_190
  let c2_i32_191 : BitVec 32 := 2#32
  let v250 : BitVec 32 := Scalar.remsi v249 c2_i32_191
  let v254 : BitVec 32 := Scalar.muli c2_i32_195 v250
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_192 : BitVec 32 := 0#32
  let v251 : BitVec 32 := Scalar.addi v8 c0_i32_192
  let c2_i32_193 : BitVec 32 := 2#32
  let v252 : BitVec 32 := Scalar.remsi v251 c2_i32_193
  let v256 : BitVec 32 := Scalar.addi v255 v252
  let c128_i32_196 : BitVec 32 := 128#32
  let v257 : BitVec 32 := Scalar.muli v256 c128_i32_196
  v257
def k0_dev9 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_188 : BitVec 32 := 0#32
  let v247 : BitVec 32 := Scalar.addi v2 c0_i32_188
  let c2_i32_189 : BitVec 32 := 2#32
  let v248 : BitVec 32 := Scalar.remsi v247 c2_i32_189
  let c4_i32_201 : BitVec 32 := 4#32
  let v259 : BitVec 32 := Scalar.muli v248 c4_i32_201
  let v260 : BitVec 32 := Scalar.addi c0_i32_202 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_190 : BitVec 32 := 1#32
  let v249 : BitVec 32 := Scalar.addi v5 c1_i32_190
  let c2_i32_191 : BitVec 32 := 2#32
  let v250 : BitVec 32 := Scalar.remsi v249 c2_i32_191
  let c2_i32_203 : BitVec 32 := 2#32
  let v261 : BitVec 32 := Scalar.muli v250 c2_i32_203
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_192 : BitVec 32 := 0#32
  let v251 : BitVec 32 := Scalar.addi v8 c0_i32_192
  let c2_i32_193 : BitVec 32 := 2#32
  let v252 : BitVec 32 := Scalar.remsi v251 c2_i32_193
  let c1_i32_204 : BitVec 32 := 1#32
  let v263 : BitVec 32 := Scalar.muli v252 c1_i32_204
  let v264 : BitVec 32 := Scalar.addi v262 v263
  v264.toNat
def k0_mult8 (d0 : Dev nD) : BitVec 32 :=
  let c4_i32_214 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_208 : BitVec 32 := 0#32
  let v272 : BitVec 32 := Scalar.addi v2 c0_i32_208
  let c2_i32_209 : BitVec 32 := 2#32
  let v273 : BitVec 32 := Scalar.remsi v272 c2_i32_209
  let v278 : BitVec 32 := Scalar.muli c4_i32_214 v273
  let c2_i32_215 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v274 : BitVec 32 := Scalar.addi v5 c1_i32_210
  let c2_i32_211 : BitVec 32 := 2#32
  let v275 : BitVec 32 := Scalar.remsi v274 c2_i32_211
  let v279 : BitVec 32 := Scalar.muli c2_i32_215 v275
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v276 : BitVec 32 := Scalar.addi v8 c1_i32_212
  let c2_i32_213 : BitVec 32 := 2#32
  let v277 : BitVec 32 := Scalar.remsi v276 c2_i32_213
  let v281 : BitVec 32 := Scalar.addi v280 v277
  let c128_i32_216 : BitVec 32 := 128#32
  let v282 : BitVec 32 := Scalar.muli v281 c128_i32_216
  v282
def k0_dev10 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_208 : BitVec 32 := 0#32
  let v272 : BitVec 32 := Scalar.addi v2 c0_i32_208
  let c2_i32_209 : BitVec 32 := 2#32
  let v273 : BitVec 32 := Scalar.remsi v272 c2_i32_209
  let c4_i32_221 : BitVec 32 := 4#32
  let v284 : BitVec 32 := Scalar.muli v273 c4_i32_221
  let v285 : BitVec 32 := Scalar.addi c0_i32_222 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v274 : BitVec 32 := Scalar.addi v5 c1_i32_210
  let c2_i32_211 : BitVec 32 := 2#32
  let v275 : BitVec 32 := Scalar.remsi v274 c2_i32_211
  let c2_i32_223 : BitVec 32 := 2#32
  let v286 : BitVec 32 := Scalar.muli v275 c2_i32_223
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v276 : BitVec 32 := Scalar.addi v8 c1_i32_212
  let c2_i32_213 : BitVec 32 := 2#32
  let v277 : BitVec 32 := Scalar.remsi v276 c2_i32_213
  let c1_i32_224 : BitVec 32 := 1#32
  let v288 : BitVec 32 := Scalar.muli v277 c1_i32_224
  let v289 : BitVec 32 := Scalar.addi v287 v288
  v289.toNat
def k0_mult9 (d0 : Dev nD) : BitVec 32 :=
  let c4_i32_234 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_228 : BitVec 32 := 1#32
  let v297 : BitVec 32 := Scalar.addi v2 c1_i32_228
  let c2_i32_229 : BitVec 32 := 2#32
  let v298 : BitVec 32 := Scalar.remsi v297 c2_i32_229
  let v303 : BitVec 32 := Scalar.muli c4_i32_234 v298
  let c2_i32_235 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_230 : BitVec 32 := 0#32
  let v299 : BitVec 32 := Scalar.addi v5 c0_i32_230
  let c2_i32_231 : BitVec 32 := 2#32
  let v300 : BitVec 32 := Scalar.remsi v299 c2_i32_231
  let v304 : BitVec 32 := Scalar.muli c2_i32_235 v300
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_232 : BitVec 32 := 0#32
  let v301 : BitVec 32 := Scalar.addi v8 c0_i32_232
  let c2_i32_233 : BitVec 32 := 2#32
  let v302 : BitVec 32 := Scalar.remsi v301 c2_i32_233
  let v306 : BitVec 32 := Scalar.addi v305 v302
  let c128_i32_236 : BitVec 32 := 128#32
  let v307 : BitVec 32 := Scalar.muli v306 c128_i32_236
  v307
def k0_dev11 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_228 : BitVec 32 := 1#32
  let v297 : BitVec 32 := Scalar.addi v2 c1_i32_228
  let c2_i32_229 : BitVec 32 := 2#32
  let v298 : BitVec 32 := Scalar.remsi v297 c2_i32_229
  let c4_i32_241 : BitVec 32 := 4#32
  let v309 : BitVec 32 := Scalar.muli v298 c4_i32_241
  let v310 : BitVec 32 := Scalar.addi c0_i32_242 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_230 : BitVec 32 := 0#32
  let v299 : BitVec 32 := Scalar.addi v5 c0_i32_230
  let c2_i32_231 : BitVec 32 := 2#32
  let v300 : BitVec 32 := Scalar.remsi v299 c2_i32_231
  let c2_i32_243 : BitVec 32 := 2#32
  let v311 : BitVec 32 := Scalar.muli v300 c2_i32_243
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_232 : BitVec 32 := 0#32
  let v301 : BitVec 32 := Scalar.addi v8 c0_i32_232
  let c2_i32_233 : BitVec 32 := 2#32
  let v302 : BitVec 32 := Scalar.remsi v301 c2_i32_233
  let c1_i32_244 : BitVec 32 := 1#32
  let v313 : BitVec 32 := Scalar.muli v302 c1_i32_244
  let v314 : BitVec 32 := Scalar.addi v312 v313
  v314.toNat
def k0_mult10 (d0 : Dev nD) : BitVec 32 :=
  let c4_i32_254 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_248 : BitVec 32 := 1#32
  let v322 : BitVec 32 := Scalar.addi v2 c1_i32_248
  let c2_i32_249 : BitVec 32 := 2#32
  let v323 : BitVec 32 := Scalar.remsi v322 c2_i32_249
  let v328 : BitVec 32 := Scalar.muli c4_i32_254 v323
  let c2_i32_255 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_250 : BitVec 32 := 0#32
  let v324 : BitVec 32 := Scalar.addi v5 c0_i32_250
  let c2_i32_251 : BitVec 32 := 2#32
  let v325 : BitVec 32 := Scalar.remsi v324 c2_i32_251
  let v329 : BitVec 32 := Scalar.muli c2_i32_255 v325
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v326 : BitVec 32 := Scalar.addi v8 c1_i32_252
  let c2_i32_253 : BitVec 32 := 2#32
  let v327 : BitVec 32 := Scalar.remsi v326 c2_i32_253
  let v331 : BitVec 32 := Scalar.addi v330 v327
  let c128_i32_256 : BitVec 32 := 128#32
  let v332 : BitVec 32 := Scalar.muli v331 c128_i32_256
  v332
def k0_dev12 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_248 : BitVec 32 := 1#32
  let v322 : BitVec 32 := Scalar.addi v2 c1_i32_248
  let c2_i32_249 : BitVec 32 := 2#32
  let v323 : BitVec 32 := Scalar.remsi v322 c2_i32_249
  let c4_i32_261 : BitVec 32 := 4#32
  let v334 : BitVec 32 := Scalar.muli v323 c4_i32_261
  let v335 : BitVec 32 := Scalar.addi c0_i32_262 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_250 : BitVec 32 := 0#32
  let v324 : BitVec 32 := Scalar.addi v5 c0_i32_250
  let c2_i32_251 : BitVec 32 := 2#32
  let v325 : BitVec 32 := Scalar.remsi v324 c2_i32_251
  let c2_i32_263 : BitVec 32 := 2#32
  let v336 : BitVec 32 := Scalar.muli v325 c2_i32_263
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v326 : BitVec 32 := Scalar.addi v8 c1_i32_252
  let c2_i32_253 : BitVec 32 := 2#32
  let v327 : BitVec 32 := Scalar.remsi v326 c2_i32_253
  let c1_i32_264 : BitVec 32 := 1#32
  let v338 : BitVec 32 := Scalar.muli v327 c1_i32_264
  let v339 : BitVec 32 := Scalar.addi v337 v338
  v339.toNat
def k0_mult11 (d0 : Dev nD) : BitVec 32 :=
  let c4_i32_274 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_268 : BitVec 32 := 1#32
  let v347 : BitVec 32 := Scalar.addi v2 c1_i32_268
  let c2_i32_269 : BitVec 32 := 2#32
  let v348 : BitVec 32 := Scalar.remsi v347 c2_i32_269
  let v353 : BitVec 32 := Scalar.muli c4_i32_274 v348
  let c2_i32_275 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_270 : BitVec 32 := 1#32
  let v349 : BitVec 32 := Scalar.addi v5 c1_i32_270
  let c2_i32_271 : BitVec 32 := 2#32
  let v350 : BitVec 32 := Scalar.remsi v349 c2_i32_271
  let v354 : BitVec 32 := Scalar.muli c2_i32_275 v350
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_272 : BitVec 32 := 0#32
  let v351 : BitVec 32 := Scalar.addi v8 c0_i32_272
  let c2_i32_273 : BitVec 32 := 2#32
  let v352 : BitVec 32 := Scalar.remsi v351 c2_i32_273
  let v356 : BitVec 32 := Scalar.addi v355 v352
  let c128_i32_276 : BitVec 32 := 128#32
  let v357 : BitVec 32 := Scalar.muli v356 c128_i32_276
  v357
def k0_dev13 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_268 : BitVec 32 := 1#32
  let v347 : BitVec 32 := Scalar.addi v2 c1_i32_268
  let c2_i32_269 : BitVec 32 := 2#32
  let v348 : BitVec 32 := Scalar.remsi v347 c2_i32_269
  let c4_i32_281 : BitVec 32 := 4#32
  let v359 : BitVec 32 := Scalar.muli v348 c4_i32_281
  let v360 : BitVec 32 := Scalar.addi c0_i32_282 v359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_270 : BitVec 32 := 1#32
  let v349 : BitVec 32 := Scalar.addi v5 c1_i32_270
  let c2_i32_271 : BitVec 32 := 2#32
  let v350 : BitVec 32 := Scalar.remsi v349 c2_i32_271
  let c2_i32_283 : BitVec 32 := 2#32
  let v361 : BitVec 32 := Scalar.muli v350 c2_i32_283
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_272 : BitVec 32 := 0#32
  let v351 : BitVec 32 := Scalar.addi v8 c0_i32_272
  let c2_i32_273 : BitVec 32 := 2#32
  let v352 : BitVec 32 := Scalar.remsi v351 c2_i32_273
  let c1_i32_284 : BitVec 32 := 1#32
  let v363 : BitVec 32 := Scalar.muli v352 c1_i32_284
  let v364 : BitVec 32 := Scalar.addi v362 v363
  v364.toNat
def k0_mult12 (d0 : Dev nD) : BitVec 32 :=
  let c4_i32_294 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v372 : BitVec 32 := Scalar.addi v2 c1_i32_288
  let c2_i32_289 : BitVec 32 := 2#32
  let v373 : BitVec 32 := Scalar.remsi v372 c2_i32_289
  let v378 : BitVec 32 := Scalar.muli c4_i32_294 v373
  let c2_i32_295 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_290 : BitVec 32 := 1#32
  let v374 : BitVec 32 := Scalar.addi v5 c1_i32_290
  let c2_i32_291 : BitVec 32 := 2#32
  let v375 : BitVec 32 := Scalar.remsi v374 c2_i32_291
  let v379 : BitVec 32 := Scalar.muli c2_i32_295 v375
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v376 : BitVec 32 := Scalar.addi v8 c1_i32_292
  let c2_i32_293 : BitVec 32 := 2#32
  let v377 : BitVec 32 := Scalar.remsi v376 c2_i32_293
  let v381 : BitVec 32 := Scalar.addi v380 v377
  let c128_i32_296 : BitVec 32 := 128#32
  let v382 : BitVec 32 := Scalar.muli v381 c128_i32_296
  v382
def k0_dev14 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v372 : BitVec 32 := Scalar.addi v2 c1_i32_288
  let c2_i32_289 : BitVec 32 := 2#32
  let v373 : BitVec 32 := Scalar.remsi v372 c2_i32_289
  let c4_i32_301 : BitVec 32 := 4#32
  let v384 : BitVec 32 := Scalar.muli v373 c4_i32_301
  let v385 : BitVec 32 := Scalar.addi c0_i32_302 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_290 : BitVec 32 := 1#32
  let v374 : BitVec 32 := Scalar.addi v5 c1_i32_290
  let c2_i32_291 : BitVec 32 := 2#32
  let v375 : BitVec 32 := Scalar.remsi v374 c2_i32_291
  let c2_i32_303 : BitVec 32 := 2#32
  let v386 : BitVec 32 := Scalar.muli v375 c2_i32_303
  let v387 : BitVec 32 := Scalar.addi v385 v386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v376 : BitVec 32 := Scalar.addi v8 c1_i32_292
  let c2_i32_293 : BitVec 32 := 2#32
  let v377 : BitVec 32 := Scalar.remsi v376 c2_i32_293
  let c1_i32_304 : BitVec 32 := 1#32
  let v388 : BitVec 32 := Scalar.muli v377 c1_i32_304
  let v389 : BitVec 32 := Scalar.addi v387 v388
  v389.toNat
def k0_mult13 (d0 : Dev nD) : BitVec 32 :=
  let c4_i32_314 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_308 : BitVec 32 := 0#32
  let v397 : BitVec 32 := Scalar.addi v2 c0_i32_308
  let c2_i32_309 : BitVec 32 := 2#32
  let v398 : BitVec 32 := Scalar.remsi v397 c2_i32_309
  let v403 : BitVec 32 := Scalar.muli c4_i32_314 v398
  let c2_i32_315 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_310 : BitVec 32 := 0#32
  let v399 : BitVec 32 := Scalar.addi v5 c0_i32_310
  let c2_i32_311 : BitVec 32 := 2#32
  let v400 : BitVec 32 := Scalar.remsi v399 c2_i32_311
  let v404 : BitVec 32 := Scalar.muli c2_i32_315 v400
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v401 : BitVec 32 := Scalar.addi v8 c1_i32_312
  let c2_i32_313 : BitVec 32 := 2#32
  let v402 : BitVec 32 := Scalar.remsi v401 c2_i32_313
  let v406 : BitVec 32 := Scalar.addi v405 v402
  let c256_i32_316 : BitVec 32 := 256#32
  let v407 : BitVec 32 := Scalar.muli v406 c256_i32_316
  v407
def k0_off12 (d0 : Dev nD) (c0_i32_308 : BitVec 32) (c0_i32_310 : BitVec 32) (c1_i32_312 : BitVec 32) : Fin 2 → Nat :=
  let c4_i32_314 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v397 : BitVec 32 := Scalar.addi v2 c0_i32_308
  let c2_i32_309 : BitVec 32 := 2#32
  let v398 : BitVec 32 := Scalar.remsi v397 c2_i32_309
  let v403 : BitVec 32 := Scalar.muli c4_i32_314 v398
  let c2_i32_315 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.addi v5 c0_i32_310
  let c2_i32_311 : BitVec 32 := 2#32
  let v400 : BitVec 32 := Scalar.remsi v399 c2_i32_311
  let v404 : BitVec 32 := Scalar.muli c2_i32_315 v400
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.addi v8 c1_i32_312
  let c2_i32_313 : BitVec 32 := 2#32
  let v402 : BitVec 32 := Scalar.remsi v401 c2_i32_313
  let v406 : BitVec 32 := Scalar.addi v405 v402
  let c256_i32_316 : BitVec 32 := 256#32
  let v407 : BitVec 32 := Scalar.muli v406 c256_i32_316
  let v408 : BitVec 32 := v407
  let c0_i32_327 : BitVec 32 := 0#32
  ![v408.toNat, 0]
def k0_off12_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev15 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_308 : BitVec 32 := 0#32
  let v397 : BitVec 32 := Scalar.addi v2 c0_i32_308
  let c2_i32_309 : BitVec 32 := 2#32
  let v398 : BitVec 32 := Scalar.remsi v397 c2_i32_309
  let c4_i32_321 : BitVec 32 := 4#32
  let v409 : BitVec 32 := Scalar.muli v398 c4_i32_321
  let v410 : BitVec 32 := Scalar.addi c0_i32_322 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_310 : BitVec 32 := 0#32
  let v399 : BitVec 32 := Scalar.addi v5 c0_i32_310
  let c2_i32_311 : BitVec 32 := 2#32
  let v400 : BitVec 32 := Scalar.remsi v399 c2_i32_311
  let c2_i32_323 : BitVec 32 := 2#32
  let v411 : BitVec 32 := Scalar.muli v400 c2_i32_323
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v401 : BitVec 32 := Scalar.addi v8 c1_i32_312
  let c2_i32_313 : BitVec 32 := 2#32
  let v402 : BitVec 32 := Scalar.remsi v401 c2_i32_313
  let c1_i32_324 : BitVec 32 := 1#32
  let v413 : BitVec 32 := Scalar.muli v402 c1_i32_324
  let v414 : BitVec 32 := Scalar.addi v412 v413
  v414.toNat
def k0_mult14 (d0 : Dev nD) : BitVec 32 :=
  let c4_i32_334 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_328 : BitVec 32 := 0#32
  let v422 : BitVec 32 := Scalar.addi v2 c0_i32_328
  let c2_i32_329 : BitVec 32 := 2#32
  let v423 : BitVec 32 := Scalar.remsi v422 c2_i32_329
  let v428 : BitVec 32 := Scalar.muli c4_i32_334 v423
  let c2_i32_335 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_330 : BitVec 32 := 1#32
  let v424 : BitVec 32 := Scalar.addi v5 c1_i32_330
  let c2_i32_331 : BitVec 32 := 2#32
  let v425 : BitVec 32 := Scalar.remsi v424 c2_i32_331
  let v429 : BitVec 32 := Scalar.muli c2_i32_335 v425
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_332 : BitVec 32 := 0#32
  let v426 : BitVec 32 := Scalar.addi v8 c0_i32_332
  let c2_i32_333 : BitVec 32 := 2#32
  let v427 : BitVec 32 := Scalar.remsi v426 c2_i32_333
  let v431 : BitVec 32 := Scalar.addi v430 v427
  let c256_i32_336 : BitVec 32 := 256#32
  let v432 : BitVec 32 := Scalar.muli v431 c256_i32_336
  v432
def k0_dev16 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_328 : BitVec 32 := 0#32
  let v422 : BitVec 32 := Scalar.addi v2 c0_i32_328
  let c2_i32_329 : BitVec 32 := 2#32
  let v423 : BitVec 32 := Scalar.remsi v422 c2_i32_329
  let c4_i32_341 : BitVec 32 := 4#32
  let v434 : BitVec 32 := Scalar.muli v423 c4_i32_341
  let v435 : BitVec 32 := Scalar.addi c0_i32_342 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_330 : BitVec 32 := 1#32
  let v424 : BitVec 32 := Scalar.addi v5 c1_i32_330
  let c2_i32_331 : BitVec 32 := 2#32
  let v425 : BitVec 32 := Scalar.remsi v424 c2_i32_331
  let c2_i32_343 : BitVec 32 := 2#32
  let v436 : BitVec 32 := Scalar.muli v425 c2_i32_343
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_332 : BitVec 32 := 0#32
  let v426 : BitVec 32 := Scalar.addi v8 c0_i32_332
  let c2_i32_333 : BitVec 32 := 2#32
  let v427 : BitVec 32 := Scalar.remsi v426 c2_i32_333
  let c1_i32_344 : BitVec 32 := 1#32
  let v438 : BitVec 32 := Scalar.muli v427 c1_i32_344
  let v439 : BitVec 32 := Scalar.addi v437 v438
  v439.toNat
def k0_mult15 (d0 : Dev nD) : BitVec 32 :=
  let c4_i32_354 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_348 : BitVec 32 := 0#32
  let v447 : BitVec 32 := Scalar.addi v2 c0_i32_348
  let c2_i32_349 : BitVec 32 := 2#32
  let v448 : BitVec 32 := Scalar.remsi v447 c2_i32_349
  let v453 : BitVec 32 := Scalar.muli c4_i32_354 v448
  let c2_i32_355 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_350 : BitVec 32 := 1#32
  let v449 : BitVec 32 := Scalar.addi v5 c1_i32_350
  let c2_i32_351 : BitVec 32 := 2#32
  let v450 : BitVec 32 := Scalar.remsi v449 c2_i32_351
  let v454 : BitVec 32 := Scalar.muli c2_i32_355 v450
  let v455 : BitVec 32 := Scalar.addi v453 v454
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v451 : BitVec 32 := Scalar.addi v8 c1_i32_352
  let c2_i32_353 : BitVec 32 := 2#32
  let v452 : BitVec 32 := Scalar.remsi v451 c2_i32_353
  let v456 : BitVec 32 := Scalar.addi v455 v452
  let c256_i32_356 : BitVec 32 := 256#32
  let v457 : BitVec 32 := Scalar.muli v456 c256_i32_356
  v457
def k0_dev17 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_348 : BitVec 32 := 0#32
  let v447 : BitVec 32 := Scalar.addi v2 c0_i32_348
  let c2_i32_349 : BitVec 32 := 2#32
  let v448 : BitVec 32 := Scalar.remsi v447 c2_i32_349
  let c4_i32_361 : BitVec 32 := 4#32
  let v459 : BitVec 32 := Scalar.muli v448 c4_i32_361
  let v460 : BitVec 32 := Scalar.addi c0_i32_362 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_350 : BitVec 32 := 1#32
  let v449 : BitVec 32 := Scalar.addi v5 c1_i32_350
  let c2_i32_351 : BitVec 32 := 2#32
  let v450 : BitVec 32 := Scalar.remsi v449 c2_i32_351
  let c2_i32_363 : BitVec 32 := 2#32
  let v461 : BitVec 32 := Scalar.muli v450 c2_i32_363
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v451 : BitVec 32 := Scalar.addi v8 c1_i32_352
  let c2_i32_353 : BitVec 32 := 2#32
  let v452 : BitVec 32 := Scalar.remsi v451 c2_i32_353
  let c1_i32_364 : BitVec 32 := 1#32
  let v463 : BitVec 32 := Scalar.muli v452 c1_i32_364
  let v464 : BitVec 32 := Scalar.addi v462 v463
  v464.toNat
def k0_mult16 (d0 : Dev nD) : BitVec 32 :=
  let c4_i32_374 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_368 : BitVec 32 := 1#32
  let v472 : BitVec 32 := Scalar.addi v2 c1_i32_368
  let c2_i32_369 : BitVec 32 := 2#32
  let v473 : BitVec 32 := Scalar.remsi v472 c2_i32_369
  let v478 : BitVec 32 := Scalar.muli c4_i32_374 v473
  let c2_i32_375 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_370 : BitVec 32 := 0#32
  let v474 : BitVec 32 := Scalar.addi v5 c0_i32_370
  let c2_i32_371 : BitVec 32 := 2#32
  let v475 : BitVec 32 := Scalar.remsi v474 c2_i32_371
  let v479 : BitVec 32 := Scalar.muli c2_i32_375 v475
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v476 : BitVec 32 := Scalar.addi v8 c0_i32_372
  let c2_i32_373 : BitVec 32 := 2#32
  let v477 : BitVec 32 := Scalar.remsi v476 c2_i32_373
  let v481 : BitVec 32 := Scalar.addi v480 v477
  let c256_i32_376 : BitVec 32 := 256#32
  let v482 : BitVec 32 := Scalar.muli v481 c256_i32_376
  v482
def k0_dev18 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_368 : BitVec 32 := 1#32
  let v472 : BitVec 32 := Scalar.addi v2 c1_i32_368
  let c2_i32_369 : BitVec 32 := 2#32
  let v473 : BitVec 32 := Scalar.remsi v472 c2_i32_369
  let c4_i32_381 : BitVec 32 := 4#32
  let v484 : BitVec 32 := Scalar.muli v473 c4_i32_381
  let v485 : BitVec 32 := Scalar.addi c0_i32_382 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_370 : BitVec 32 := 0#32
  let v474 : BitVec 32 := Scalar.addi v5 c0_i32_370
  let c2_i32_371 : BitVec 32 := 2#32
  let v475 : BitVec 32 := Scalar.remsi v474 c2_i32_371
  let c2_i32_383 : BitVec 32 := 2#32
  let v486 : BitVec 32 := Scalar.muli v475 c2_i32_383
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v476 : BitVec 32 := Scalar.addi v8 c0_i32_372
  let c2_i32_373 : BitVec 32 := 2#32
  let v477 : BitVec 32 := Scalar.remsi v476 c2_i32_373
  let c1_i32_384 : BitVec 32 := 1#32
  let v488 : BitVec 32 := Scalar.muli v477 c1_i32_384
  let v489 : BitVec 32 := Scalar.addi v487 v488
  v489.toNat
def k0_mult17 (d0 : Dev nD) : BitVec 32 :=
  let c4_i32_394 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_388 : BitVec 32 := 1#32
  let v497 : BitVec 32 := Scalar.addi v2 c1_i32_388
  let c2_i32_389 : BitVec 32 := 2#32
  let v498 : BitVec 32 := Scalar.remsi v497 c2_i32_389
  let v503 : BitVec 32 := Scalar.muli c4_i32_394 v498
  let c2_i32_395 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_390 : BitVec 32 := 0#32
  let v499 : BitVec 32 := Scalar.addi v5 c0_i32_390
  let c2_i32_391 : BitVec 32 := 2#32
  let v500 : BitVec 32 := Scalar.remsi v499 c2_i32_391
  let v504 : BitVec 32 := Scalar.muli c2_i32_395 v500
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v501 : BitVec 32 := Scalar.addi v8 c1_i32_392
  let c2_i32_393 : BitVec 32 := 2#32
  let v502 : BitVec 32 := Scalar.remsi v501 c2_i32_393
  let v506 : BitVec 32 := Scalar.addi v505 v502
  let c256_i32_396 : BitVec 32 := 256#32
  let v507 : BitVec 32 := Scalar.muli v506 c256_i32_396
  v507
def k0_dev19 (d0 : Dev nD) : Nat :=
  let c0_i32_402 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_388 : BitVec 32 := 1#32
  let v497 : BitVec 32 := Scalar.addi v2 c1_i32_388
  let c2_i32_389 : BitVec 32 := 2#32
  let v498 : BitVec 32 := Scalar.remsi v497 c2_i32_389
  let c4_i32_401 : BitVec 32 := 4#32
  let v509 : BitVec 32 := Scalar.muli v498 c4_i32_401
  let v510 : BitVec 32 := Scalar.addi c0_i32_402 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_390 : BitVec 32 := 0#32
  let v499 : BitVec 32 := Scalar.addi v5 c0_i32_390
  let c2_i32_391 : BitVec 32 := 2#32
  let v500 : BitVec 32 := Scalar.remsi v499 c2_i32_391
  let c2_i32_403 : BitVec 32 := 2#32
  let v511 : BitVec 32 := Scalar.muli v500 c2_i32_403
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v501 : BitVec 32 := Scalar.addi v8 c1_i32_392
  let c2_i32_393 : BitVec 32 := 2#32
  let v502 : BitVec 32 := Scalar.remsi v501 c2_i32_393
  let c1_i32_404 : BitVec 32 := 1#32
  let v513 : BitVec 32 := Scalar.muli v502 c1_i32_404
  let v514 : BitVec 32 := Scalar.addi v512 v513
  v514.toNat
def k0_mult18 (d0 : Dev nD) : BitVec 32 :=
  let c4_i32_414 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_408 : BitVec 32 := 1#32
  let v522 : BitVec 32 := Scalar.addi v2 c1_i32_408
  let c2_i32_409 : BitVec 32 := 2#32
  let v523 : BitVec 32 := Scalar.remsi v522 c2_i32_409
  let v528 : BitVec 32 := Scalar.muli c4_i32_414 v523
  let c2_i32_415 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_410 : BitVec 32 := 1#32
  let v524 : BitVec 32 := Scalar.addi v5 c1_i32_410
  let c2_i32_411 : BitVec 32 := 2#32
  let v525 : BitVec 32 := Scalar.remsi v524 c2_i32_411
  let v529 : BitVec 32 := Scalar.muli c2_i32_415 v525
  let v530 : BitVec 32 := Scalar.addi v528 v529
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_412 : BitVec 32 := 0#32
  let v526 : BitVec 32 := Scalar.addi v8 c0_i32_412
  let c2_i32_413 : BitVec 32 := 2#32
  let v527 : BitVec 32 := Scalar.remsi v526 c2_i32_413
  let v531 : BitVec 32 := Scalar.addi v530 v527
  let c256_i32_416 : BitVec 32 := 256#32
  let v532 : BitVec 32 := Scalar.muli v531 c256_i32_416
  v532
def k0_dev20 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_408 : BitVec 32 := 1#32
  let v522 : BitVec 32 := Scalar.addi v2 c1_i32_408
  let c2_i32_409 : BitVec 32 := 2#32
  let v523 : BitVec 32 := Scalar.remsi v522 c2_i32_409
  let c4_i32_421 : BitVec 32 := 4#32
  let v534 : BitVec 32 := Scalar.muli v523 c4_i32_421
  let v535 : BitVec 32 := Scalar.addi c0_i32_422 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_410 : BitVec 32 := 1#32
  let v524 : BitVec 32 := Scalar.addi v5 c1_i32_410
  let c2_i32_411 : BitVec 32 := 2#32
  let v525 : BitVec 32 := Scalar.remsi v524 c2_i32_411
  let c2_i32_423 : BitVec 32 := 2#32
  let v536 : BitVec 32 := Scalar.muli v525 c2_i32_423
  let v537 : BitVec 32 := Scalar.addi v535 v536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_412 : BitVec 32 := 0#32
  let v526 : BitVec 32 := Scalar.addi v8 c0_i32_412
  let c2_i32_413 : BitVec 32 := 2#32
  let v527 : BitVec 32 := Scalar.remsi v526 c2_i32_413
  let c1_i32_424 : BitVec 32 := 1#32
  let v538 : BitVec 32 := Scalar.muli v527 c1_i32_424
  let v539 : BitVec 32 := Scalar.addi v537 v538
  v539.toNat
def k0_mult19 (d0 : Dev nD) : BitVec 32 :=
  let c4_i32_434 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_428 : BitVec 32 := 1#32
  let v547 : BitVec 32 := Scalar.addi v2 c1_i32_428
  let c2_i32_429 : BitVec 32 := 2#32
  let v548 : BitVec 32 := Scalar.remsi v547 c2_i32_429
  let v553 : BitVec 32 := Scalar.muli c4_i32_434 v548
  let c2_i32_435 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_430 : BitVec 32 := 1#32
  let v549 : BitVec 32 := Scalar.addi v5 c1_i32_430
  let c2_i32_431 : BitVec 32 := 2#32
  let v550 : BitVec 32 := Scalar.remsi v549 c2_i32_431
  let v554 : BitVec 32 := Scalar.muli c2_i32_435 v550
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v551 : BitVec 32 := Scalar.addi v8 c1_i32_432
  let c2_i32_433 : BitVec 32 := 2#32
  let v552 : BitVec 32 := Scalar.remsi v551 c2_i32_433
  let v556 : BitVec 32 := Scalar.addi v555 v552
  let c256_i32_436 : BitVec 32 := 256#32
  let v557 : BitVec 32 := Scalar.muli v556 c256_i32_436
  v557
def k0_dev21 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_428 : BitVec 32 := 1#32
  let v547 : BitVec 32 := Scalar.addi v2 c1_i32_428
  let c2_i32_429 : BitVec 32 := 2#32
  let v548 : BitVec 32 := Scalar.remsi v547 c2_i32_429
  let c4_i32_441 : BitVec 32 := 4#32
  let v559 : BitVec 32 := Scalar.muli v548 c4_i32_441
  let v560 : BitVec 32 := Scalar.addi c0_i32_442 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_430 : BitVec 32 := 1#32
  let v549 : BitVec 32 := Scalar.addi v5 c1_i32_430
  let c2_i32_431 : BitVec 32 := 2#32
  let v550 : BitVec 32 := Scalar.remsi v549 c2_i32_431
  let c2_i32_443 : BitVec 32 := 2#32
  let v561 : BitVec 32 := Scalar.muli v550 c2_i32_443
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v551 : BitVec 32 := Scalar.addi v8 c1_i32_432
  let c2_i32_433 : BitVec 32 := 2#32
  let v552 : BitVec 32 := Scalar.remsi v551 c2_i32_433
  let c1_i32_444 : BitVec 32 := 1#32
  let v563 : BitVec 32 := Scalar.muli v552 c1_i32_444
  let v564 : BitVec 32 := Scalar.addi v562 v563
  v564.toNat
def k0_mult20 (d0 : Dev nD) : BitVec 32 :=
  let c4_i32_454 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_448 : BitVec 32 := 0#32
  let v572 : BitVec 32 := Scalar.addi v2 c0_i32_448
  let c2_i32_449 : BitVec 32 := 2#32
  let v573 : BitVec 32 := Scalar.remsi v572 c2_i32_449
  let v578 : BitVec 32 := Scalar.muli c4_i32_454 v573
  let c2_i32_455 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_450 : BitVec 32 := 0#32
  let v574 : BitVec 32 := Scalar.addi v5 c0_i32_450
  let c2_i32_451 : BitVec 32 := 2#32
  let v575 : BitVec 32 := Scalar.remsi v574 c2_i32_451
  let v579 : BitVec 32 := Scalar.muli c2_i32_455 v575
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v576 : BitVec 32 := Scalar.addi v8 c1_i32_452
  let c2_i32_453 : BitVec 32 := 2#32
  let v577 : BitVec 32 := Scalar.remsi v576 c2_i32_453
  let v581 : BitVec 32 := Scalar.addi v580 v577
  let c128_i32_456 : BitVec 32 := 128#32
  let v582 : BitVec 32 := Scalar.muli v581 c128_i32_456
  v582
def k0_dev22 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_448 : BitVec 32 := 0#32
  let v572 : BitVec 32 := Scalar.addi v2 c0_i32_448
  let c2_i32_449 : BitVec 32 := 2#32
  let v573 : BitVec 32 := Scalar.remsi v572 c2_i32_449
  let c4_i32_461 : BitVec 32 := 4#32
  let v584 : BitVec 32 := Scalar.muli v573 c4_i32_461
  let v585 : BitVec 32 := Scalar.addi c0_i32_462 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_450 : BitVec 32 := 0#32
  let v574 : BitVec 32 := Scalar.addi v5 c0_i32_450
  let c2_i32_451 : BitVec 32 := 2#32
  let v575 : BitVec 32 := Scalar.remsi v574 c2_i32_451
  let c2_i32_463 : BitVec 32 := 2#32
  let v586 : BitVec 32 := Scalar.muli v575 c2_i32_463
  let v587 : BitVec 32 := Scalar.addi v585 v586
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v576 : BitVec 32 := Scalar.addi v8 c1_i32_452
  let c2_i32_453 : BitVec 32 := 2#32
  let v577 : BitVec 32 := Scalar.remsi v576 c2_i32_453
  let c1_i32_464 : BitVec 32 := 1#32
  let v588 : BitVec 32 := Scalar.muli v577 c1_i32_464
  let v589 : BitVec 32 := Scalar.addi v587 v588
  v589.toNat
def k0_mult21 (d0 : Dev nD) : BitVec 32 :=
  let c4_i32_474 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_468 : BitVec 32 := 0#32
  let v597 : BitVec 32 := Scalar.addi v2 c0_i32_468
  let c2_i32_469 : BitVec 32 := 2#32
  let v598 : BitVec 32 := Scalar.remsi v597 c2_i32_469
  let v603 : BitVec 32 := Scalar.muli c4_i32_474 v598
  let c2_i32_475 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_470 : BitVec 32 := 1#32
  let v599 : BitVec 32 := Scalar.addi v5 c1_i32_470
  let c2_i32_471 : BitVec 32 := 2#32
  let v600 : BitVec 32 := Scalar.remsi v599 c2_i32_471
  let v604 : BitVec 32 := Scalar.muli c2_i32_475 v600
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_472 : BitVec 32 := 0#32
  let v601 : BitVec 32 := Scalar.addi v8 c0_i32_472
  let c2_i32_473 : BitVec 32 := 2#32
  let v602 : BitVec 32 := Scalar.remsi v601 c2_i32_473
  let v606 : BitVec 32 := Scalar.addi v605 v602
  let c128_i32_476 : BitVec 32 := 128#32
  let v607 : BitVec 32 := Scalar.muli v606 c128_i32_476
  v607
def k0_dev23 (d0 : Dev nD) : Nat :=
  let c0_i32_482 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_468 : BitVec 32 := 0#32
  let v597 : BitVec 32 := Scalar.addi v2 c0_i32_468
  let c2_i32_469 : BitVec 32 := 2#32
  let v598 : BitVec 32 := Scalar.remsi v597 c2_i32_469
  let c4_i32_481 : BitVec 32 := 4#32
  let v609 : BitVec 32 := Scalar.muli v598 c4_i32_481
  let v610 : BitVec 32 := Scalar.addi c0_i32_482 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_470 : BitVec 32 := 1#32
  let v599 : BitVec 32 := Scalar.addi v5 c1_i32_470
  let c2_i32_471 : BitVec 32 := 2#32
  let v600 : BitVec 32 := Scalar.remsi v599 c2_i32_471
  let c2_i32_483 : BitVec 32 := 2#32
  let v611 : BitVec 32 := Scalar.muli v600 c2_i32_483
  let v612 : BitVec 32 := Scalar.addi v610 v611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_472 : BitVec 32 := 0#32
  let v601 : BitVec 32 := Scalar.addi v8 c0_i32_472
  let c2_i32_473 : BitVec 32 := 2#32
  let v602 : BitVec 32 := Scalar.remsi v601 c2_i32_473
  let c1_i32_484 : BitVec 32 := 1#32
  let v613 : BitVec 32 := Scalar.muli v602 c1_i32_484
  let v614 : BitVec 32 := Scalar.addi v612 v613
  v614.toNat
def k0_mult22 (d0 : Dev nD) : BitVec 32 :=
  let c4_i32_494 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_488 : BitVec 32 := 0#32
  let v622 : BitVec 32 := Scalar.addi v2 c0_i32_488
  let c2_i32_489 : BitVec 32 := 2#32
  let v623 : BitVec 32 := Scalar.remsi v622 c2_i32_489
  let v628 : BitVec 32 := Scalar.muli c4_i32_494 v623
  let c2_i32_495 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_490 : BitVec 32 := 1#32
  let v624 : BitVec 32 := Scalar.addi v5 c1_i32_490
  let c2_i32_491 : BitVec 32 := 2#32
  let v625 : BitVec 32 := Scalar.remsi v624 c2_i32_491
  let v629 : BitVec 32 := Scalar.muli c2_i32_495 v625
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v626 : BitVec 32 := Scalar.addi v8 c1_i32_492
  let c2_i32_493 : BitVec 32 := 2#32
  let v627 : BitVec 32 := Scalar.remsi v626 c2_i32_493
  let v631 : BitVec 32 := Scalar.addi v630 v627
  let c128_i32_496 : BitVec 32 := 128#32
  let v632 : BitVec 32 := Scalar.muli v631 c128_i32_496
  v632
def k0_dev24 (d0 : Dev nD) : Nat :=
  let c0_i32_502 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_488 : BitVec 32 := 0#32
  let v622 : BitVec 32 := Scalar.addi v2 c0_i32_488
  let c2_i32_489 : BitVec 32 := 2#32
  let v623 : BitVec 32 := Scalar.remsi v622 c2_i32_489
  let c4_i32_501 : BitVec 32 := 4#32
  let v634 : BitVec 32 := Scalar.muli v623 c4_i32_501
  let v635 : BitVec 32 := Scalar.addi c0_i32_502 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_490 : BitVec 32 := 1#32
  let v624 : BitVec 32 := Scalar.addi v5 c1_i32_490
  let c2_i32_491 : BitVec 32 := 2#32
  let v625 : BitVec 32 := Scalar.remsi v624 c2_i32_491
  let c2_i32_503 : BitVec 32 := 2#32
  let v636 : BitVec 32 := Scalar.muli v625 c2_i32_503
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v626 : BitVec 32 := Scalar.addi v8 c1_i32_492
  let c2_i32_493 : BitVec 32 := 2#32
  let v627 : BitVec 32 := Scalar.remsi v626 c2_i32_493
  let c1_i32_504 : BitVec 32 := 1#32
  let v638 : BitVec 32 := Scalar.muli v627 c1_i32_504
  let v639 : BitVec 32 := Scalar.addi v637 v638
  v639.toNat
def k0_mult23 (d0 : Dev nD) : BitVec 32 :=
  let c4_i32_514 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_508 : BitVec 32 := 1#32
  let v647 : BitVec 32 := Scalar.addi v2 c1_i32_508
  let c2_i32_509 : BitVec 32 := 2#32
  let v648 : BitVec 32 := Scalar.remsi v647 c2_i32_509
  let v653 : BitVec 32 := Scalar.muli c4_i32_514 v648
  let c2_i32_515 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_510 : BitVec 32 := 0#32
  let v649 : BitVec 32 := Scalar.addi v5 c0_i32_510
  let c2_i32_511 : BitVec 32 := 2#32
  let v650 : BitVec 32 := Scalar.remsi v649 c2_i32_511
  let v654 : BitVec 32 := Scalar.muli c2_i32_515 v650
  let v655 : BitVec 32 := Scalar.addi v653 v654
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_512 : BitVec 32 := 0#32
  let v651 : BitVec 32 := Scalar.addi v8 c0_i32_512
  let c2_i32_513 : BitVec 32 := 2#32
  let v652 : BitVec 32 := Scalar.remsi v651 c2_i32_513
  let v656 : BitVec 32 := Scalar.addi v655 v652
  let c128_i32_516 : BitVec 32 := 128#32
  let v657 : BitVec 32 := Scalar.muli v656 c128_i32_516
  v657
def k0_dev25 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_508 : BitVec 32 := 1#32
  let v647 : BitVec 32 := Scalar.addi v2 c1_i32_508
  let c2_i32_509 : BitVec 32 := 2#32
  let v648 : BitVec 32 := Scalar.remsi v647 c2_i32_509
  let c4_i32_521 : BitVec 32 := 4#32
  let v659 : BitVec 32 := Scalar.muli v648 c4_i32_521
  let v660 : BitVec 32 := Scalar.addi c0_i32_522 v659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_510 : BitVec 32 := 0#32
  let v649 : BitVec 32 := Scalar.addi v5 c0_i32_510
  let c2_i32_511 : BitVec 32 := 2#32
  let v650 : BitVec 32 := Scalar.remsi v649 c2_i32_511
  let c2_i32_523 : BitVec 32 := 2#32
  let v661 : BitVec 32 := Scalar.muli v650 c2_i32_523
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_512 : BitVec 32 := 0#32
  let v651 : BitVec 32 := Scalar.addi v8 c0_i32_512
  let c2_i32_513 : BitVec 32 := 2#32
  let v652 : BitVec 32 := Scalar.remsi v651 c2_i32_513
  let c1_i32_524 : BitVec 32 := 1#32
  let v663 : BitVec 32 := Scalar.muli v652 c1_i32_524
  let v664 : BitVec 32 := Scalar.addi v662 v663
  v664.toNat
def k0_mult24 (d0 : Dev nD) : BitVec 32 :=
  let c4_i32_534 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v672 : BitVec 32 := Scalar.addi v2 c1_i32_528
  let c2_i32_529 : BitVec 32 := 2#32
  let v673 : BitVec 32 := Scalar.remsi v672 c2_i32_529
  let v678 : BitVec 32 := Scalar.muli c4_i32_534 v673
  let c2_i32_535 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v674 : BitVec 32 := Scalar.addi v5 c0_i32_530
  let c2_i32_531 : BitVec 32 := 2#32
  let v675 : BitVec 32 := Scalar.remsi v674 c2_i32_531
  let v679 : BitVec 32 := Scalar.muli c2_i32_535 v675
  let v680 : BitVec 32 := Scalar.addi v678 v679
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v676 : BitVec 32 := Scalar.addi v8 c1_i32_532
  let c2_i32_533 : BitVec 32 := 2#32
  let v677 : BitVec 32 := Scalar.remsi v676 c2_i32_533
  let v681 : BitVec 32 := Scalar.addi v680 v677
  let c128_i32_536 : BitVec 32 := 128#32
  let v682 : BitVec 32 := Scalar.muli v681 c128_i32_536
  v682
def k0_dev26 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v672 : BitVec 32 := Scalar.addi v2 c1_i32_528
  let c2_i32_529 : BitVec 32 := 2#32
  let v673 : BitVec 32 := Scalar.remsi v672 c2_i32_529
  let c4_i32_541 : BitVec 32 := 4#32
  let v684 : BitVec 32 := Scalar.muli v673 c4_i32_541
  let v685 : BitVec 32 := Scalar.addi c0_i32_542 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v674 : BitVec 32 := Scalar.addi v5 c0_i32_530
  let c2_i32_531 : BitVec 32 := 2#32
  let v675 : BitVec 32 := Scalar.remsi v674 c2_i32_531
  let c2_i32_543 : BitVec 32 := 2#32
  let v686 : BitVec 32 := Scalar.muli v675 c2_i32_543
  let v687 : BitVec 32 := Scalar.addi v685 v686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v676 : BitVec 32 := Scalar.addi v8 c1_i32_532
  let c2_i32_533 : BitVec 32 := 2#32
  let v677 : BitVec 32 := Scalar.remsi v676 c2_i32_533
  let c1_i32_544 : BitVec 32 := 1#32
  let v688 : BitVec 32 := Scalar.muli v677 c1_i32_544
  let v689 : BitVec 32 := Scalar.addi v687 v688
  v689.toNat
def k0_mult25 (d0 : Dev nD) : BitVec 32 :=
  let c4_i32_554 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_548 : BitVec 32 := 1#32
  let v697 : BitVec 32 := Scalar.addi v2 c1_i32_548
  let c2_i32_549 : BitVec 32 := 2#32
  let v698 : BitVec 32 := Scalar.remsi v697 c2_i32_549
  let v703 : BitVec 32 := Scalar.muli c4_i32_554 v698
  let c2_i32_555 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_550 : BitVec 32 := 1#32
  let v699 : BitVec 32 := Scalar.addi v5 c1_i32_550
  let c2_i32_551 : BitVec 32 := 2#32
  let v700 : BitVec 32 := Scalar.remsi v699 c2_i32_551
  let v704 : BitVec 32 := Scalar.muli c2_i32_555 v700
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_552 : BitVec 32 := 0#32
  let v701 : BitVec 32 := Scalar.addi v8 c0_i32_552
  let c2_i32_553 : BitVec 32 := 2#32
  let v702 : BitVec 32 := Scalar.remsi v701 c2_i32_553
  let v706 : BitVec 32 := Scalar.addi v705 v702
  let c128_i32_556 : BitVec 32 := 128#32
  let v707 : BitVec 32 := Scalar.muli v706 c128_i32_556
  v707
def k0_dev27 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_548 : BitVec 32 := 1#32
  let v697 : BitVec 32 := Scalar.addi v2 c1_i32_548
  let c2_i32_549 : BitVec 32 := 2#32
  let v698 : BitVec 32 := Scalar.remsi v697 c2_i32_549
  let c4_i32_561 : BitVec 32 := 4#32
  let v709 : BitVec 32 := Scalar.muli v698 c4_i32_561
  let v710 : BitVec 32 := Scalar.addi c0_i32_562 v709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_550 : BitVec 32 := 1#32
  let v699 : BitVec 32 := Scalar.addi v5 c1_i32_550
  let c2_i32_551 : BitVec 32 := 2#32
  let v700 : BitVec 32 := Scalar.remsi v699 c2_i32_551
  let c2_i32_563 : BitVec 32 := 2#32
  let v711 : BitVec 32 := Scalar.muli v700 c2_i32_563
  let v712 : BitVec 32 := Scalar.addi v710 v711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_552 : BitVec 32 := 0#32
  let v701 : BitVec 32 := Scalar.addi v8 c0_i32_552
  let c2_i32_553 : BitVec 32 := 2#32
  let v702 : BitVec 32 := Scalar.remsi v701 c2_i32_553
  let c1_i32_564 : BitVec 32 := 1#32
  let v713 : BitVec 32 := Scalar.muli v702 c1_i32_564
  let v714 : BitVec 32 := Scalar.addi v712 v713
  v714.toNat
def k0_mult26 (d0 : Dev nD) : BitVec 32 :=
  let c4_i32_574 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_568 : BitVec 32 := 1#32
  let v722 : BitVec 32 := Scalar.addi v2 c1_i32_568
  let c2_i32_569 : BitVec 32 := 2#32
  let v723 : BitVec 32 := Scalar.remsi v722 c2_i32_569
  let v728 : BitVec 32 := Scalar.muli c4_i32_574 v723
  let c2_i32_575 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_570 : BitVec 32 := 1#32
  let v724 : BitVec 32 := Scalar.addi v5 c1_i32_570
  let c2_i32_571 : BitVec 32 := 2#32
  let v725 : BitVec 32 := Scalar.remsi v724 c2_i32_571
  let v729 : BitVec 32 := Scalar.muli c2_i32_575 v725
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v726 : BitVec 32 := Scalar.addi v8 c1_i32_572
  let c2_i32_573 : BitVec 32 := 2#32
  let v727 : BitVec 32 := Scalar.remsi v726 c2_i32_573
  let v731 : BitVec 32 := Scalar.addi v730 v727
  let c128_i32_576 : BitVec 32 := 128#32
  let v732 : BitVec 32 := Scalar.muli v731 c128_i32_576
  v732
def k0_dev28 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_568 : BitVec 32 := 1#32
  let v722 : BitVec 32 := Scalar.addi v2 c1_i32_568
  let c2_i32_569 : BitVec 32 := 2#32
  let v723 : BitVec 32 := Scalar.remsi v722 c2_i32_569
  let c4_i32_581 : BitVec 32 := 4#32
  let v734 : BitVec 32 := Scalar.muli v723 c4_i32_581
  let v735 : BitVec 32 := Scalar.addi c0_i32_582 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_570 : BitVec 32 := 1#32
  let v724 : BitVec 32 := Scalar.addi v5 c1_i32_570
  let c2_i32_571 : BitVec 32 := 2#32
  let v725 : BitVec 32 := Scalar.remsi v724 c2_i32_571
  let c2_i32_583 : BitVec 32 := 2#32
  let v736 : BitVec 32 := Scalar.muli v725 c2_i32_583
  let v737 : BitVec 32 := Scalar.addi v735 v736
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v726 : BitVec 32 := Scalar.addi v8 c1_i32_572
  let c2_i32_573 : BitVec 32 := 2#32
  let v727 : BitVec 32 := Scalar.remsi v726 c2_i32_573
  let c1_i32_584 : BitVec 32 := 1#32
  let v738 : BitVec 32 := Scalar.muli v727 c1_i32_584
  let v739 : BitVec 32 := Scalar.addi v737 v738
  v739.toNat
def k0_mult27 (d0 : Dev nD) : BitVec 32 :=
  let c4_i32_594 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_588 : BitVec 32 := 0#32
  let v747 : BitVec 32 := Scalar.addi v2 c0_i32_588
  let c2_i32_589 : BitVec 32 := 2#32
  let v748 : BitVec 32 := Scalar.remsi v747 c2_i32_589
  let v753 : BitVec 32 := Scalar.muli c4_i32_594 v748
  let c2_i32_595 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_590 : BitVec 32 := 0#32
  let v749 : BitVec 32 := Scalar.addi v5 c0_i32_590
  let c2_i32_591 : BitVec 32 := 2#32
  let v750 : BitVec 32 := Scalar.remsi v749 c2_i32_591
  let v754 : BitVec 32 := Scalar.muli c2_i32_595 v750
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v751 : BitVec 32 := Scalar.addi v8 c1_i32_592
  let c2_i32_593 : BitVec 32 := 2#32
  let v752 : BitVec 32 := Scalar.remsi v751 c2_i32_593
  let v756 : BitVec 32 := Scalar.addi v755 v752
  let c512_i32_596 : BitVec 32 := 512#32
  let v757 : BitVec 32 := Scalar.muli v756 c512_i32_596
  v757
def k0_off13 (d0 : Dev nD) (c0_i32_588 : BitVec 32) (c0_i32_590 : BitVec 32) (c1_i32_592 : BitVec 32) : Fin 2 → Nat :=
  let c0_i32_607 : BitVec 32 := 0#32
  let c4_i32_594 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v747 : BitVec 32 := Scalar.addi v2 c0_i32_588
  let c2_i32_589 : BitVec 32 := 2#32
  let v748 : BitVec 32 := Scalar.remsi v747 c2_i32_589
  let v753 : BitVec 32 := Scalar.muli c4_i32_594 v748
  let c2_i32_595 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v749 : BitVec 32 := Scalar.addi v5 c0_i32_590
  let c2_i32_591 : BitVec 32 := 2#32
  let v750 : BitVec 32 := Scalar.remsi v749 c2_i32_591
  let v754 : BitVec 32 := Scalar.muli c2_i32_595 v750
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v751 : BitVec 32 := Scalar.addi v8 c1_i32_592
  let c2_i32_593 : BitVec 32 := 2#32
  let v752 : BitVec 32 := Scalar.remsi v751 c2_i32_593
  let v756 : BitVec 32 := Scalar.addi v755 v752
  let c512_i32_596 : BitVec 32 := 512#32
  let v757 : BitVec 32 := Scalar.muli v756 c512_i32_596
  let v758 : BitVec 32 := v757
  ![0, v758.toNat]
def k0_off13_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev29 (d0 : Dev nD) : Nat :=
  let c0_i32_602 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_588 : BitVec 32 := 0#32
  let v747 : BitVec 32 := Scalar.addi v2 c0_i32_588
  let c2_i32_589 : BitVec 32 := 2#32
  let v748 : BitVec 32 := Scalar.remsi v747 c2_i32_589
  let c4_i32_601 : BitVec 32 := 4#32
  let v759 : BitVec 32 := Scalar.muli v748 c4_i32_601
  let v760 : BitVec 32 := Scalar.addi c0_i32_602 v759
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_590 : BitVec 32 := 0#32
  let v749 : BitVec 32 := Scalar.addi v5 c0_i32_590
  let c2_i32_591 : BitVec 32 := 2#32
  let v750 : BitVec 32 := Scalar.remsi v749 c2_i32_591
  let c2_i32_603 : BitVec 32 := 2#32
  let v761 : BitVec 32 := Scalar.muli v750 c2_i32_603
  let v762 : BitVec 32 := Scalar.addi v760 v761
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v751 : BitVec 32 := Scalar.addi v8 c1_i32_592
  let c2_i32_593 : BitVec 32 := 2#32
  let v752 : BitVec 32 := Scalar.remsi v751 c2_i32_593
  let c1_i32_604 : BitVec 32 := 1#32
  let v763 : BitVec 32 := Scalar.muli v752 c1_i32_604
  let v764 : BitVec 32 := Scalar.addi v762 v763
  v764.toNat
def k0_mult28 (d0 : Dev nD) : BitVec 32 :=
  let c4_i32_614 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v772 : BitVec 32 := Scalar.addi v2 c0_i32_608
  let c2_i32_609 : BitVec 32 := 2#32
  let v773 : BitVec 32 := Scalar.remsi v772 c2_i32_609
  let v778 : BitVec 32 := Scalar.muli c4_i32_614 v773
  let c2_i32_615 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v774 : BitVec 32 := Scalar.addi v5 c1_i32_610
  let c2_i32_611 : BitVec 32 := 2#32
  let v775 : BitVec 32 := Scalar.remsi v774 c2_i32_611
  let v779 : BitVec 32 := Scalar.muli c2_i32_615 v775
  let v780 : BitVec 32 := Scalar.addi v778 v779
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_612 : BitVec 32 := 0#32
  let v776 : BitVec 32 := Scalar.addi v8 c0_i32_612
  let c2_i32_613 : BitVec 32 := 2#32
  let v777 : BitVec 32 := Scalar.remsi v776 c2_i32_613
  let v781 : BitVec 32 := Scalar.addi v780 v777
  let c512_i32_616 : BitVec 32 := 512#32
  let v782 : BitVec 32 := Scalar.muli v781 c512_i32_616
  v782
def k0_dev30 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v772 : BitVec 32 := Scalar.addi v2 c0_i32_608
  let c2_i32_609 : BitVec 32 := 2#32
  let v773 : BitVec 32 := Scalar.remsi v772 c2_i32_609
  let c4_i32_621 : BitVec 32 := 4#32
  let v784 : BitVec 32 := Scalar.muli v773 c4_i32_621
  let v785 : BitVec 32 := Scalar.addi c0_i32_622 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v774 : BitVec 32 := Scalar.addi v5 c1_i32_610
  let c2_i32_611 : BitVec 32 := 2#32
  let v775 : BitVec 32 := Scalar.remsi v774 c2_i32_611
  let c2_i32_623 : BitVec 32 := 2#32
  let v786 : BitVec 32 := Scalar.muli v775 c2_i32_623
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_612 : BitVec 32 := 0#32
  let v776 : BitVec 32 := Scalar.addi v8 c0_i32_612
  let c2_i32_613 : BitVec 32 := 2#32
  let v777 : BitVec 32 := Scalar.remsi v776 c2_i32_613
  let c1_i32_624 : BitVec 32 := 1#32
  let v788 : BitVec 32 := Scalar.muli v777 c1_i32_624
  let v789 : BitVec 32 := Scalar.addi v787 v788
  v789.toNat
def k0_mult29 (d0 : Dev nD) : BitVec 32 :=
  let c4_i32_634 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_628 : BitVec 32 := 0#32
  let v797 : BitVec 32 := Scalar.addi v2 c0_i32_628
  let c2_i32_629 : BitVec 32 := 2#32
  let v798 : BitVec 32 := Scalar.remsi v797 c2_i32_629
  let v803 : BitVec 32 := Scalar.muli c4_i32_634 v798
  let c2_i32_635 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_630 : BitVec 32 := 1#32
  let v799 : BitVec 32 := Scalar.addi v5 c1_i32_630
  let c2_i32_631 : BitVec 32 := 2#32
  let v800 : BitVec 32 := Scalar.remsi v799 c2_i32_631
  let v804 : BitVec 32 := Scalar.muli c2_i32_635 v800
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v801 : BitVec 32 := Scalar.addi v8 c1_i32_632
  let c2_i32_633 : BitVec 32 := 2#32
  let v802 : BitVec 32 := Scalar.remsi v801 c2_i32_633
  let v806 : BitVec 32 := Scalar.addi v805 v802
  let c512_i32_636 : BitVec 32 := 512#32
  let v807 : BitVec 32 := Scalar.muli v806 c512_i32_636
  v807
def k0_dev31 (d0 : Dev nD) : Nat :=
  let c0_i32_642 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_628 : BitVec 32 := 0#32
  let v797 : BitVec 32 := Scalar.addi v2 c0_i32_628
  let c2_i32_629 : BitVec 32 := 2#32
  let v798 : BitVec 32 := Scalar.remsi v797 c2_i32_629
  let c4_i32_641 : BitVec 32 := 4#32
  let v809 : BitVec 32 := Scalar.muli v798 c4_i32_641
  let v810 : BitVec 32 := Scalar.addi c0_i32_642 v809
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_630 : BitVec 32 := 1#32
  let v799 : BitVec 32 := Scalar.addi v5 c1_i32_630
  let c2_i32_631 : BitVec 32 := 2#32
  let v800 : BitVec 32 := Scalar.remsi v799 c2_i32_631
  let c2_i32_643 : BitVec 32 := 2#32
  let v811 : BitVec 32 := Scalar.muli v800 c2_i32_643
  let v812 : BitVec 32 := Scalar.addi v810 v811
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v801 : BitVec 32 := Scalar.addi v8 c1_i32_632
  let c2_i32_633 : BitVec 32 := 2#32
  let v802 : BitVec 32 := Scalar.remsi v801 c2_i32_633
  let c1_i32_644 : BitVec 32 := 1#32
  let v813 : BitVec 32 := Scalar.muli v802 c1_i32_644
  let v814 : BitVec 32 := Scalar.addi v812 v813
  v814.toNat
def k0_mult30 (d0 : Dev nD) : BitVec 32 :=
  let c4_i32_654 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_648 : BitVec 32 := 1#32
  let v822 : BitVec 32 := Scalar.addi v2 c1_i32_648
  let c2_i32_649 : BitVec 32 := 2#32
  let v823 : BitVec 32 := Scalar.remsi v822 c2_i32_649
  let v828 : BitVec 32 := Scalar.muli c4_i32_654 v823
  let c2_i32_655 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_650 : BitVec 32 := 0#32
  let v824 : BitVec 32 := Scalar.addi v5 c0_i32_650
  let c2_i32_651 : BitVec 32 := 2#32
  let v825 : BitVec 32 := Scalar.remsi v824 c2_i32_651
  let v829 : BitVec 32 := Scalar.muli c2_i32_655 v825
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_652 : BitVec 32 := 0#32
  let v826 : BitVec 32 := Scalar.addi v8 c0_i32_652
  let c2_i32_653 : BitVec 32 := 2#32
  let v827 : BitVec 32 := Scalar.remsi v826 c2_i32_653
  let v831 : BitVec 32 := Scalar.addi v830 v827
  let c512_i32_656 : BitVec 32 := 512#32
  let v832 : BitVec 32 := Scalar.muli v831 c512_i32_656
  v832
def k0_dev32 (d0 : Dev nD) : Nat :=
  let c0_i32_662 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_648 : BitVec 32 := 1#32
  let v822 : BitVec 32 := Scalar.addi v2 c1_i32_648
  let c2_i32_649 : BitVec 32 := 2#32
  let v823 : BitVec 32 := Scalar.remsi v822 c2_i32_649
  let c4_i32_661 : BitVec 32 := 4#32
  let v834 : BitVec 32 := Scalar.muli v823 c4_i32_661
  let v835 : BitVec 32 := Scalar.addi c0_i32_662 v834
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_650 : BitVec 32 := 0#32
  let v824 : BitVec 32 := Scalar.addi v5 c0_i32_650
  let c2_i32_651 : BitVec 32 := 2#32
  let v825 : BitVec 32 := Scalar.remsi v824 c2_i32_651
  let c2_i32_663 : BitVec 32 := 2#32
  let v836 : BitVec 32 := Scalar.muli v825 c2_i32_663
  let v837 : BitVec 32 := Scalar.addi v835 v836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_652 : BitVec 32 := 0#32
  let v826 : BitVec 32 := Scalar.addi v8 c0_i32_652
  let c2_i32_653 : BitVec 32 := 2#32
  let v827 : BitVec 32 := Scalar.remsi v826 c2_i32_653
  let c1_i32_664 : BitVec 32 := 1#32
  let v838 : BitVec 32 := Scalar.muli v827 c1_i32_664
  let v839 : BitVec 32 := Scalar.addi v837 v838
  v839.toNat
def k0_mult31 (d0 : Dev nD) : BitVec 32 :=
  let c4_i32_674 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_668 : BitVec 32 := 1#32
  let v847 : BitVec 32 := Scalar.addi v2 c1_i32_668
  let c2_i32_669 : BitVec 32 := 2#32
  let v848 : BitVec 32 := Scalar.remsi v847 c2_i32_669
  let v853 : BitVec 32 := Scalar.muli c4_i32_674 v848
  let c2_i32_675 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_670 : BitVec 32 := 0#32
  let v849 : BitVec 32 := Scalar.addi v5 c0_i32_670
  let c2_i32_671 : BitVec 32 := 2#32
  let v850 : BitVec 32 := Scalar.remsi v849 c2_i32_671
  let v854 : BitVec 32 := Scalar.muli c2_i32_675 v850
  let v855 : BitVec 32 := Scalar.addi v853 v854
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v851 : BitVec 32 := Scalar.addi v8 c1_i32_672
  let c2_i32_673 : BitVec 32 := 2#32
  let v852 : BitVec 32 := Scalar.remsi v851 c2_i32_673
  let v856 : BitVec 32 := Scalar.addi v855 v852
  let c512_i32_676 : BitVec 32 := 512#32
  let v857 : BitVec 32 := Scalar.muli v856 c512_i32_676
  v857
def k0_dev33 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_668 : BitVec 32 := 1#32
  let v847 : BitVec 32 := Scalar.addi v2 c1_i32_668
  let c2_i32_669 : BitVec 32 := 2#32
  let v848 : BitVec 32 := Scalar.remsi v847 c2_i32_669
  let c4_i32_681 : BitVec 32 := 4#32
  let v859 : BitVec 32 := Scalar.muli v848 c4_i32_681
  let v860 : BitVec 32 := Scalar.addi c0_i32_682 v859
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_670 : BitVec 32 := 0#32
  let v849 : BitVec 32 := Scalar.addi v5 c0_i32_670
  let c2_i32_671 : BitVec 32 := 2#32
  let v850 : BitVec 32 := Scalar.remsi v849 c2_i32_671
  let c2_i32_683 : BitVec 32 := 2#32
  let v861 : BitVec 32 := Scalar.muli v850 c2_i32_683
  let v862 : BitVec 32 := Scalar.addi v860 v861
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v851 : BitVec 32 := Scalar.addi v8 c1_i32_672
  let c2_i32_673 : BitVec 32 := 2#32
  let v852 : BitVec 32 := Scalar.remsi v851 c2_i32_673
  let c1_i32_684 : BitVec 32 := 1#32
  let v863 : BitVec 32 := Scalar.muli v852 c1_i32_684
  let v864 : BitVec 32 := Scalar.addi v862 v863
  v864.toNat
def k0_mult32 (d0 : Dev nD) : BitVec 32 :=
  let c4_i32_694 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_688 : BitVec 32 := 1#32
  let v872 : BitVec 32 := Scalar.addi v2 c1_i32_688
  let c2_i32_689 : BitVec 32 := 2#32
  let v873 : BitVec 32 := Scalar.remsi v872 c2_i32_689
  let v878 : BitVec 32 := Scalar.muli c4_i32_694 v873
  let c2_i32_695 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_690 : BitVec 32 := 1#32
  let v874 : BitVec 32 := Scalar.addi v5 c1_i32_690
  let c2_i32_691 : BitVec 32 := 2#32
  let v875 : BitVec 32 := Scalar.remsi v874 c2_i32_691
  let v879 : BitVec 32 := Scalar.muli c2_i32_695 v875
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_692 : BitVec 32 := 0#32
  let v876 : BitVec 32 := Scalar.addi v8 c0_i32_692
  let c2_i32_693 : BitVec 32 := 2#32
  let v877 : BitVec 32 := Scalar.remsi v876 c2_i32_693
  let v881 : BitVec 32 := Scalar.addi v880 v877
  let c512_i32_696 : BitVec 32 := 512#32
  let v882 : BitVec 32 := Scalar.muli v881 c512_i32_696
  v882
def k0_dev34 (d0 : Dev nD) : Nat :=
  let c0_i32_702 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_688 : BitVec 32 := 1#32
  let v872 : BitVec 32 := Scalar.addi v2 c1_i32_688
  let c2_i32_689 : BitVec 32 := 2#32
  let v873 : BitVec 32 := Scalar.remsi v872 c2_i32_689
  let c4_i32_701 : BitVec 32 := 4#32
  let v884 : BitVec 32 := Scalar.muli v873 c4_i32_701
  let v885 : BitVec 32 := Scalar.addi c0_i32_702 v884
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_690 : BitVec 32 := 1#32
  let v874 : BitVec 32 := Scalar.addi v5 c1_i32_690
  let c2_i32_691 : BitVec 32 := 2#32
  let v875 : BitVec 32 := Scalar.remsi v874 c2_i32_691
  let c2_i32_703 : BitVec 32 := 2#32
  let v886 : BitVec 32 := Scalar.muli v875 c2_i32_703
  let v887 : BitVec 32 := Scalar.addi v885 v886
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_692 : BitVec 32 := 0#32
  let v876 : BitVec 32 := Scalar.addi v8 c0_i32_692
  let c2_i32_693 : BitVec 32 := 2#32
  let v877 : BitVec 32 := Scalar.remsi v876 c2_i32_693
  let c1_i32_704 : BitVec 32 := 1#32
  let v888 : BitVec 32 := Scalar.muli v877 c1_i32_704
  let v889 : BitVec 32 := Scalar.addi v887 v888
  v889.toNat
def k0_mult33 (d0 : Dev nD) : BitVec 32 :=
  let c4_i32_714 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_708 : BitVec 32 := 1#32
  let v897 : BitVec 32 := Scalar.addi v2 c1_i32_708
  let c2_i32_709 : BitVec 32 := 2#32
  let v898 : BitVec 32 := Scalar.remsi v897 c2_i32_709
  let v903 : BitVec 32 := Scalar.muli c4_i32_714 v898
  let c2_i32_715 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_710 : BitVec 32 := 1#32
  let v899 : BitVec 32 := Scalar.addi v5 c1_i32_710
  let c2_i32_711 : BitVec 32 := 2#32
  let v900 : BitVec 32 := Scalar.remsi v899 c2_i32_711
  let v904 : BitVec 32 := Scalar.muli c2_i32_715 v900
  let v905 : BitVec 32 := Scalar.addi v903 v904
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_712 : BitVec 32 := 1#32
  let v901 : BitVec 32 := Scalar.addi v8 c1_i32_712
  let c2_i32_713 : BitVec 32 := 2#32
  let v902 : BitVec 32 := Scalar.remsi v901 c2_i32_713
  let v906 : BitVec 32 := Scalar.addi v905 v902
  let c512_i32_716 : BitVec 32 := 512#32
  let v907 : BitVec 32 := Scalar.muli v906 c512_i32_716
  v907
def k0_dev35 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_708 : BitVec 32 := 1#32
  let v897 : BitVec 32 := Scalar.addi v2 c1_i32_708
  let c2_i32_709 : BitVec 32 := 2#32
  let v898 : BitVec 32 := Scalar.remsi v897 c2_i32_709
  let c4_i32_721 : BitVec 32 := 4#32
  let v909 : BitVec 32 := Scalar.muli v898 c4_i32_721
  let v910 : BitVec 32 := Scalar.addi c0_i32_722 v909
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_710 : BitVec 32 := 1#32
  let v899 : BitVec 32 := Scalar.addi v5 c1_i32_710
  let c2_i32_711 : BitVec 32 := 2#32
  let v900 : BitVec 32 := Scalar.remsi v899 c2_i32_711
  let c2_i32_723 : BitVec 32 := 2#32
  let v911 : BitVec 32 := Scalar.muli v900 c2_i32_723
  let v912 : BitVec 32 := Scalar.addi v910 v911
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_712 : BitVec 32 := 1#32
  let v901 : BitVec 32 := Scalar.addi v8 c1_i32_712
  let c2_i32_713 : BitVec 32 := 2#32
  let v902 : BitVec 32 := Scalar.remsi v901 c2_i32_713
  let c1_i32_724 : BitVec 32 := 1#32
  let v913 : BitVec 32 := Scalar.muli v902 c1_i32_724
  let v914 : BitVec 32 := Scalar.addi v912 v913
  v914.toNat
def k0_mult34 (d0 : Dev nD) : BitVec 32 :=
  let c4_i32_734 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_728 : BitVec 32 := 0#32
  let v922 : BitVec 32 := Scalar.addi v2 c0_i32_728
  let c2_i32_729 : BitVec 32 := 2#32
  let v923 : BitVec 32 := Scalar.remsi v922 c2_i32_729
  let v928 : BitVec 32 := Scalar.muli c4_i32_734 v923
  let c2_i32_735 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_730 : BitVec 32 := 0#32
  let v924 : BitVec 32 := Scalar.addi v5 c0_i32_730
  let c2_i32_731 : BitVec 32 := 2#32
  let v925 : BitVec 32 := Scalar.remsi v924 c2_i32_731
  let v929 : BitVec 32 := Scalar.muli c2_i32_735 v925
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v926 : BitVec 32 := Scalar.addi v8 c1_i32_732
  let c2_i32_733 : BitVec 32 := 2#32
  let v927 : BitVec 32 := Scalar.remsi v926 c2_i32_733
  let v931 : BitVec 32 := Scalar.addi v930 v927
  let c512_i32_736 : BitVec 32 := 512#32
  let v932 : BitVec 32 := Scalar.muli v931 c512_i32_736
  v932
def k0_off14 (d0 : Dev nD) (c0_i32_728 : BitVec 32) (c0_i32_730 : BitVec 32) (c1_i32_732 : BitVec 32) : Fin 2 → Nat :=
  let c4_i32_734 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v922 : BitVec 32 := Scalar.addi v2 c0_i32_728
  let c2_i32_729 : BitVec 32 := 2#32
  let v923 : BitVec 32 := Scalar.remsi v922 c2_i32_729
  let v928 : BitVec 32 := Scalar.muli c4_i32_734 v923
  let c2_i32_735 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v924 : BitVec 32 := Scalar.addi v5 c0_i32_730
  let c2_i32_731 : BitVec 32 := 2#32
  let v925 : BitVec 32 := Scalar.remsi v924 c2_i32_731
  let v929 : BitVec 32 := Scalar.muli c2_i32_735 v925
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v926 : BitVec 32 := Scalar.addi v8 c1_i32_732
  let c2_i32_733 : BitVec 32 := 2#32
  let v927 : BitVec 32 := Scalar.remsi v926 c2_i32_733
  let v931 : BitVec 32 := Scalar.addi v930 v927
  let c512_i32_736 : BitVec 32 := 512#32
  let v932 : BitVec 32 := Scalar.muli v931 c512_i32_736
  let v933 : BitVec 32 := v932
  let c0_i32_747 : BitVec 32 := 0#32
  ![v933.toNat, 0]
def k0_off14_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev36 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_728 : BitVec 32 := 0#32
  let v922 : BitVec 32 := Scalar.addi v2 c0_i32_728
  let c2_i32_729 : BitVec 32 := 2#32
  let v923 : BitVec 32 := Scalar.remsi v922 c2_i32_729
  let c4_i32_741 : BitVec 32 := 4#32
  let v934 : BitVec 32 := Scalar.muli v923 c4_i32_741
  let v935 : BitVec 32 := Scalar.addi c0_i32_742 v934
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_730 : BitVec 32 := 0#32
  let v924 : BitVec 32 := Scalar.addi v5 c0_i32_730
  let c2_i32_731 : BitVec 32 := 2#32
  let v925 : BitVec 32 := Scalar.remsi v924 c2_i32_731
  let c2_i32_743 : BitVec 32 := 2#32
  let v936 : BitVec 32 := Scalar.muli v925 c2_i32_743
  let v937 : BitVec 32 := Scalar.addi v935 v936
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v926 : BitVec 32 := Scalar.addi v8 c1_i32_732
  let c2_i32_733 : BitVec 32 := 2#32
  let v927 : BitVec 32 := Scalar.remsi v926 c2_i32_733
  let c1_i32_744 : BitVec 32 := 1#32
  let v938 : BitVec 32 := Scalar.muli v927 c1_i32_744
  let v939 : BitVec 32 := Scalar.addi v937 v938
  v939.toNat
def k0_mult35 (d0 : Dev nD) : BitVec 32 :=
  let c4_i32_754 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_748 : BitVec 32 := 0#32
  let v947 : BitVec 32 := Scalar.addi v2 c0_i32_748
  let c2_i32_749 : BitVec 32 := 2#32
  let v948 : BitVec 32 := Scalar.remsi v947 c2_i32_749
  let v953 : BitVec 32 := Scalar.muli c4_i32_754 v948
  let c2_i32_755 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_750 : BitVec 32 := 1#32
  let v949 : BitVec 32 := Scalar.addi v5 c1_i32_750
  let c2_i32_751 : BitVec 32 := 2#32
  let v950 : BitVec 32 := Scalar.remsi v949 c2_i32_751
  let v954 : BitVec 32 := Scalar.muli c2_i32_755 v950
  let v955 : BitVec 32 := Scalar.addi v953 v954
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_752 : BitVec 32 := 0#32
  let v951 : BitVec 32 := Scalar.addi v8 c0_i32_752
  let c2_i32_753 : BitVec 32 := 2#32
  let v952 : BitVec 32 := Scalar.remsi v951 c2_i32_753
  let v956 : BitVec 32 := Scalar.addi v955 v952
  let c512_i32_756 : BitVec 32 := 512#32
  let v957 : BitVec 32 := Scalar.muli v956 c512_i32_756
  v957
def k0_dev37 (d0 : Dev nD) : Nat :=
  let c0_i32_762 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_748 : BitVec 32 := 0#32
  let v947 : BitVec 32 := Scalar.addi v2 c0_i32_748
  let c2_i32_749 : BitVec 32 := 2#32
  let v948 : BitVec 32 := Scalar.remsi v947 c2_i32_749
  let c4_i32_761 : BitVec 32 := 4#32
  let v959 : BitVec 32 := Scalar.muli v948 c4_i32_761
  let v960 : BitVec 32 := Scalar.addi c0_i32_762 v959
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_750 : BitVec 32 := 1#32
  let v949 : BitVec 32 := Scalar.addi v5 c1_i32_750
  let c2_i32_751 : BitVec 32 := 2#32
  let v950 : BitVec 32 := Scalar.remsi v949 c2_i32_751
  let c2_i32_763 : BitVec 32 := 2#32
  let v961 : BitVec 32 := Scalar.muli v950 c2_i32_763
  let v962 : BitVec 32 := Scalar.addi v960 v961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_752 : BitVec 32 := 0#32
  let v951 : BitVec 32 := Scalar.addi v8 c0_i32_752
  let c2_i32_753 : BitVec 32 := 2#32
  let v952 : BitVec 32 := Scalar.remsi v951 c2_i32_753
  let c1_i32_764 : BitVec 32 := 1#32
  let v963 : BitVec 32 := Scalar.muli v952 c1_i32_764
  let v964 : BitVec 32 := Scalar.addi v962 v963
  v964.toNat
def k0_mult36 (d0 : Dev nD) : BitVec 32 :=
  let c4_i32_774 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_768 : BitVec 32 := 0#32
  let v972 : BitVec 32 := Scalar.addi v2 c0_i32_768
  let c2_i32_769 : BitVec 32 := 2#32
  let v973 : BitVec 32 := Scalar.remsi v972 c2_i32_769
  let v978 : BitVec 32 := Scalar.muli c4_i32_774 v973
  let c2_i32_775 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_770 : BitVec 32 := 1#32
  let v974 : BitVec 32 := Scalar.addi v5 c1_i32_770
  let c2_i32_771 : BitVec 32 := 2#32
  let v975 : BitVec 32 := Scalar.remsi v974 c2_i32_771
  let v979 : BitVec 32 := Scalar.muli c2_i32_775 v975
  let v980 : BitVec 32 := Scalar.addi v978 v979
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v976 : BitVec 32 := Scalar.addi v8 c1_i32_772
  let c2_i32_773 : BitVec 32 := 2#32
  let v977 : BitVec 32 := Scalar.remsi v976 c2_i32_773
  let v981 : BitVec 32 := Scalar.addi v980 v977
  let c512_i32_776 : BitVec 32 := 512#32
  let v982 : BitVec 32 := Scalar.muli v981 c512_i32_776
  v982
def k0_dev38 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_768 : BitVec 32 := 0#32
  let v972 : BitVec 32 := Scalar.addi v2 c0_i32_768
  let c2_i32_769 : BitVec 32 := 2#32
  let v973 : BitVec 32 := Scalar.remsi v972 c2_i32_769
  let c4_i32_781 : BitVec 32 := 4#32
  let v984 : BitVec 32 := Scalar.muli v973 c4_i32_781
  let v985 : BitVec 32 := Scalar.addi c0_i32_782 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_770 : BitVec 32 := 1#32
  let v974 : BitVec 32 := Scalar.addi v5 c1_i32_770
  let c2_i32_771 : BitVec 32 := 2#32
  let v975 : BitVec 32 := Scalar.remsi v974 c2_i32_771
  let c2_i32_783 : BitVec 32 := 2#32
  let v986 : BitVec 32 := Scalar.muli v975 c2_i32_783
  let v987 : BitVec 32 := Scalar.addi v985 v986
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v976 : BitVec 32 := Scalar.addi v8 c1_i32_772
  let c2_i32_773 : BitVec 32 := 2#32
  let v977 : BitVec 32 := Scalar.remsi v976 c2_i32_773
  let c1_i32_784 : BitVec 32 := 1#32
  let v988 : BitVec 32 := Scalar.muli v977 c1_i32_784
  let v989 : BitVec 32 := Scalar.addi v987 v988
  v989.toNat
def k0_mult37 (d0 : Dev nD) : BitVec 32 :=
  let c4_i32_794 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_788 : BitVec 32 := 1#32
  let v997 : BitVec 32 := Scalar.addi v2 c1_i32_788
  let c2_i32_789 : BitVec 32 := 2#32
  let v998 : BitVec 32 := Scalar.remsi v997 c2_i32_789
  let v1003 : BitVec 32 := Scalar.muli c4_i32_794 v998
  let c2_i32_795 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_790 : BitVec 32 := 0#32
  let v999 : BitVec 32 := Scalar.addi v5 c0_i32_790
  let c2_i32_791 : BitVec 32 := 2#32
  let v1000 : BitVec 32 := Scalar.remsi v999 c2_i32_791
  let v1004 : BitVec 32 := Scalar.muli c2_i32_795 v1000
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_792 : BitVec 32 := 0#32
  let v1001 : BitVec 32 := Scalar.addi v8 c0_i32_792
  let c2_i32_793 : BitVec 32 := 2#32
  let v1002 : BitVec 32 := Scalar.remsi v1001 c2_i32_793
  let v1006 : BitVec 32 := Scalar.addi v1005 v1002
  let c512_i32_796 : BitVec 32 := 512#32
  let v1007 : BitVec 32 := Scalar.muli v1006 c512_i32_796
  v1007
def k0_dev39 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_788 : BitVec 32 := 1#32
  let v997 : BitVec 32 := Scalar.addi v2 c1_i32_788
  let c2_i32_789 : BitVec 32 := 2#32
  let v998 : BitVec 32 := Scalar.remsi v997 c2_i32_789
  let c4_i32_801 : BitVec 32 := 4#32
  let v1009 : BitVec 32 := Scalar.muli v998 c4_i32_801
  let v1010 : BitVec 32 := Scalar.addi c0_i32_802 v1009
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_790 : BitVec 32 := 0#32
  let v999 : BitVec 32 := Scalar.addi v5 c0_i32_790
  let c2_i32_791 : BitVec 32 := 2#32
  let v1000 : BitVec 32 := Scalar.remsi v999 c2_i32_791
  let c2_i32_803 : BitVec 32 := 2#32
  let v1011 : BitVec 32 := Scalar.muli v1000 c2_i32_803
  let v1012 : BitVec 32 := Scalar.addi v1010 v1011
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_792 : BitVec 32 := 0#32
  let v1001 : BitVec 32 := Scalar.addi v8 c0_i32_792
  let c2_i32_793 : BitVec 32 := 2#32
  let v1002 : BitVec 32 := Scalar.remsi v1001 c2_i32_793
  let c1_i32_804 : BitVec 32 := 1#32
  let v1013 : BitVec 32 := Scalar.muli v1002 c1_i32_804
  let v1014 : BitVec 32 := Scalar.addi v1012 v1013
  v1014.toNat
def k0_mult38 (d0 : Dev nD) : BitVec 32 :=
  let c4_i32_814 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_808 : BitVec 32 := 1#32
  let v1022 : BitVec 32 := Scalar.addi v2 c1_i32_808
  let c2_i32_809 : BitVec 32 := 2#32
  let v1023 : BitVec 32 := Scalar.remsi v1022 c2_i32_809
  let v1028 : BitVec 32 := Scalar.muli c4_i32_814 v1023
  let c2_i32_815 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_810 : BitVec 32 := 0#32
  let v1024 : BitVec 32 := Scalar.addi v5 c0_i32_810
  let c2_i32_811 : BitVec 32 := 2#32
  let v1025 : BitVec 32 := Scalar.remsi v1024 c2_i32_811
  let v1029 : BitVec 32 := Scalar.muli c2_i32_815 v1025
  let v1030 : BitVec 32 := Scalar.addi v1028 v1029
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1026 : BitVec 32 := Scalar.addi v8 c1_i32_812
  let c2_i32_813 : BitVec 32 := 2#32
  let v1027 : BitVec 32 := Scalar.remsi v1026 c2_i32_813
  let v1031 : BitVec 32 := Scalar.addi v1030 v1027
  let c512_i32_816 : BitVec 32 := 512#32
  let v1032 : BitVec 32 := Scalar.muli v1031 c512_i32_816
  v1032
def k0_dev40 (d0 : Dev nD) : Nat :=
  let c0_i32_822 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_808 : BitVec 32 := 1#32
  let v1022 : BitVec 32 := Scalar.addi v2 c1_i32_808
  let c2_i32_809 : BitVec 32 := 2#32
  let v1023 : BitVec 32 := Scalar.remsi v1022 c2_i32_809
  let c4_i32_821 : BitVec 32 := 4#32
  let v1034 : BitVec 32 := Scalar.muli v1023 c4_i32_821
  let v1035 : BitVec 32 := Scalar.addi c0_i32_822 v1034
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_810 : BitVec 32 := 0#32
  let v1024 : BitVec 32 := Scalar.addi v5 c0_i32_810
  let c2_i32_811 : BitVec 32 := 2#32
  let v1025 : BitVec 32 := Scalar.remsi v1024 c2_i32_811
  let c2_i32_823 : BitVec 32 := 2#32
  let v1036 : BitVec 32 := Scalar.muli v1025 c2_i32_823
  let v1037 : BitVec 32 := Scalar.addi v1035 v1036
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1026 : BitVec 32 := Scalar.addi v8 c1_i32_812
  let c2_i32_813 : BitVec 32 := 2#32
  let v1027 : BitVec 32 := Scalar.remsi v1026 c2_i32_813
  let c1_i32_824 : BitVec 32 := 1#32
  let v1038 : BitVec 32 := Scalar.muli v1027 c1_i32_824
  let v1039 : BitVec 32 := Scalar.addi v1037 v1038
  v1039.toNat
def k0_mult39 (d0 : Dev nD) : BitVec 32 :=
  let c4_i32_834 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_828 : BitVec 32 := 1#32
  let v1047 : BitVec 32 := Scalar.addi v2 c1_i32_828
  let c2_i32_829 : BitVec 32 := 2#32
  let v1048 : BitVec 32 := Scalar.remsi v1047 c2_i32_829
  let v1053 : BitVec 32 := Scalar.muli c4_i32_834 v1048
  let c2_i32_835 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_830 : BitVec 32 := 1#32
  let v1049 : BitVec 32 := Scalar.addi v5 c1_i32_830
  let c2_i32_831 : BitVec 32 := 2#32
  let v1050 : BitVec 32 := Scalar.remsi v1049 c2_i32_831
  let v1054 : BitVec 32 := Scalar.muli c2_i32_835 v1050
  let v1055 : BitVec 32 := Scalar.addi v1053 v1054
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_832 : BitVec 32 := 0#32
  let v1051 : BitVec 32 := Scalar.addi v8 c0_i32_832
  let c2_i32_833 : BitVec 32 := 2#32
  let v1052 : BitVec 32 := Scalar.remsi v1051 c2_i32_833
  let v1056 : BitVec 32 := Scalar.addi v1055 v1052
  let c512_i32_836 : BitVec 32 := 512#32
  let v1057 : BitVec 32 := Scalar.muli v1056 c512_i32_836
  v1057
def k0_dev41 (d0 : Dev nD) : Nat :=
  let c0_i32_842 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_828 : BitVec 32 := 1#32
  let v1047 : BitVec 32 := Scalar.addi v2 c1_i32_828
  let c2_i32_829 : BitVec 32 := 2#32
  let v1048 : BitVec 32 := Scalar.remsi v1047 c2_i32_829
  let c4_i32_841 : BitVec 32 := 4#32
  let v1059 : BitVec 32 := Scalar.muli v1048 c4_i32_841
  let v1060 : BitVec 32 := Scalar.addi c0_i32_842 v1059
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_830 : BitVec 32 := 1#32
  let v1049 : BitVec 32 := Scalar.addi v5 c1_i32_830
  let c2_i32_831 : BitVec 32 := 2#32
  let v1050 : BitVec 32 := Scalar.remsi v1049 c2_i32_831
  let c2_i32_843 : BitVec 32 := 2#32
  let v1061 : BitVec 32 := Scalar.muli v1050 c2_i32_843
  let v1062 : BitVec 32 := Scalar.addi v1060 v1061
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_832 : BitVec 32 := 0#32
  let v1051 : BitVec 32 := Scalar.addi v8 c0_i32_832
  let c2_i32_833 : BitVec 32 := 2#32
  let v1052 : BitVec 32 := Scalar.remsi v1051 c2_i32_833
  let c1_i32_844 : BitVec 32 := 1#32
  let v1063 : BitVec 32 := Scalar.muli v1052 c1_i32_844
  let v1064 : BitVec 32 := Scalar.addi v1062 v1063
  v1064.toNat
def k0_mult40 (d0 : Dev nD) : BitVec 32 :=
  let c4_i32_854 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_848 : BitVec 32 := 1#32
  let v1072 : BitVec 32 := Scalar.addi v2 c1_i32_848
  let c2_i32_849 : BitVec 32 := 2#32
  let v1073 : BitVec 32 := Scalar.remsi v1072 c2_i32_849
  let v1078 : BitVec 32 := Scalar.muli c4_i32_854 v1073
  let c2_i32_855 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_850 : BitVec 32 := 1#32
  let v1074 : BitVec 32 := Scalar.addi v5 c1_i32_850
  let c2_i32_851 : BitVec 32 := 2#32
  let v1075 : BitVec 32 := Scalar.remsi v1074 c2_i32_851
  let v1079 : BitVec 32 := Scalar.muli c2_i32_855 v1075
  let v1080 : BitVec 32 := Scalar.addi v1078 v1079
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v1076 : BitVec 32 := Scalar.addi v8 c1_i32_852
  let c2_i32_853 : BitVec 32 := 2#32
  let v1077 : BitVec 32 := Scalar.remsi v1076 c2_i32_853
  let v1081 : BitVec 32 := Scalar.addi v1080 v1077
  let c512_i32_856 : BitVec 32 := 512#32
  let v1082 : BitVec 32 := Scalar.muli v1081 c512_i32_856
  v1082
def k0_dev42 (d0 : Dev nD) : Nat :=
  let c0_i32_862 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_848 : BitVec 32 := 1#32
  let v1072 : BitVec 32 := Scalar.addi v2 c1_i32_848
  let c2_i32_849 : BitVec 32 := 2#32
  let v1073 : BitVec 32 := Scalar.remsi v1072 c2_i32_849
  let c4_i32_861 : BitVec 32 := 4#32
  let v1084 : BitVec 32 := Scalar.muli v1073 c4_i32_861
  let v1085 : BitVec 32 := Scalar.addi c0_i32_862 v1084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_850 : BitVec 32 := 1#32
  let v1074 : BitVec 32 := Scalar.addi v5 c1_i32_850
  let c2_i32_851 : BitVec 32 := 2#32
  let v1075 : BitVec 32 := Scalar.remsi v1074 c2_i32_851
  let c2_i32_863 : BitVec 32 := 2#32
  let v1086 : BitVec 32 := Scalar.muli v1075 c2_i32_863
  let v1087 : BitVec 32 := Scalar.addi v1085 v1086
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v1076 : BitVec 32 := Scalar.addi v8 c1_i32_852
  let c2_i32_853 : BitVec 32 := 2#32
  let v1077 : BitVec 32 := Scalar.remsi v1076 c2_i32_853
  let c1_i32_864 : BitVec 32 := 1#32
  let v1088 : BitVec 32 := Scalar.muli v1077 c1_i32_864
  let v1089 : BitVec 32 := Scalar.addi v1087 v1088
  v1089.toNat
-- ==== Reference.lean ====
abbrev S64x1024x1408 : Shape := ⟨3, ![64, 1024, 1408]⟩
abbrev S8192x1024 : Shape := ⟨2, ![8192, 1024]⟩
abbrev S16384x1024 : Shape := ⟨2, ![16384, 1024]⟩
abbrev S8192x4096 : Shape := ⟨2, ![8192, 4096]⟩
abbrev S32768x1024 : Shape := ⟨2, ![32768, 1024]⟩
abbrev S8x8x1024x1408 : Shape := ⟨4, ![8, 8, 1024, 1408]⟩
abbrev S8x8x128x1024 : Shape := ⟨4, ![8, 8, 128, 1024]⟩
abbrev S64x128x1024 : Shape := ⟨3, ![64, 128, 1024]⟩
abbrev S8x8x256x1024 : Shape := ⟨4, ![8, 8, 256, 1024]⟩
abbrev S64x256x1024 : Shape := ⟨3, ![64, 256, 1024]⟩
abbrev S8x1024x8x512 : Shape := ⟨4, ![8, 1024, 8, 512]⟩
abbrev S8x8x1024x512 : Shape := ⟨4, ![8, 8, 1024, 512]⟩
abbrev S64x1024x512 : Shape := ⟨3, ![64, 1024, 512]⟩
abbrev S8x8x512x1024 : Shape := ⟨4, ![8, 8, 512, 1024]⟩
abbrev S64x512x1024 : Shape := ⟨3, ![64, 512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x1024x1408, .bf16⟩
  | .hbm, ⟨1, _⟩ => ⟨S8192x1024, .bf16⟩
  | .hbm, ⟨2, _⟩ => ⟨S16384x1024, .bf16⟩
  | .hbm, ⟨3, _⟩ => ⟨S8192x1024, .bf16⟩
  | .hbm, ⟨4, _⟩ => ⟨S8192x4096, .bf16⟩
  | .hbm, ⟨5, _⟩ => ⟨S32768x1024, .bf16⟩
  | .hbm, ⟨6, _⟩ => ⟨S8x8x1024x1408, .bf16⟩
  | .hbm, ⟨7, _⟩ => ⟨S8x8x1024x1408, .bf16⟩
  | .hbm, ⟨8, _⟩ => ⟨S64x1024x1408, .bf16⟩
  | .hbm, ⟨9, _⟩ => ⟨S8x8x128x1024, .bf16⟩
  | .hbm, ⟨10, _⟩ => ⟨S8x8x128x1024, .bf16⟩
  | .hbm, ⟨11, _⟩ => ⟨S64x128x1024, .bf16⟩
  | .hbm, ⟨12, _⟩ => ⟨S8x8x256x1024, .bf16⟩
  | .hbm, ⟨13, _⟩ => ⟨S8x8x256x1024, .bf16⟩
  | .hbm, ⟨14, _⟩ => ⟨S64x256x1024, .bf16⟩
  | .hbm, ⟨15, _⟩ => ⟨S8x8x128x1024, .bf16⟩
  | .hbm, ⟨16, _⟩ => ⟨S8x8x128x1024, .bf16⟩
  | .hbm, ⟨17, _⟩ => ⟨S64x128x1024, .bf16⟩
  | .hbm, ⟨18, _⟩ => ⟨S8x1024x8x512, .bf16⟩
  | .hbm, ⟨19, _⟩ => ⟨S8x8x1024x512, .bf16⟩
  | .hbm, ⟨20, _⟩ => ⟨S64x1024x512, .bf16⟩
  | .hbm, ⟨21, _⟩ => ⟨S8x8x512x1024, .bf16⟩
  | .hbm, ⟨22, _⟩ => ⟨S8x8x512x1024, .bf16⟩
  | .hbm, ⟨23, _⟩ => ⟨S64x512x1024, .bf16⟩
  | _, _ => ⟨S64x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gather.lean ====
abbrev S1024x1408 : Shape := ⟨2, ![1024, 1408]⟩
abbrev S128x1024 : Shape := ⟨2, ![128, 1024]⟩
abbrev S256x1024 : Shape := ⟨2, ![256, 1024]⟩
abbrev S1024x512 : Shape := ⟨2, ![1024, 512]⟩
abbrev S512x1024 : Shape := ⟨2, ![512, 1024]⟩
abbrev S8x1024x1408 : Shape := ⟨3, ![8, 1024, 1408]⟩
abbrev S1024x1024 : Shape := ⟨2, ![1024, 1024]⟩
abbrev S2048x1024 : Shape := ⟨2, ![2048, 1024]⟩
abbrev S1024x4096 : Shape := ⟨2, ![1024, 4096]⟩
abbrev S4096x1024 : Shape := ⟨2, ![4096, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x1408, .bf16⟩
  | .hbm, ⟨1, _⟩ => ⟨S128x1024, .bf16⟩
  | .hbm, ⟨2, _⟩ => ⟨S256x1024, .bf16⟩
  | .hbm, ⟨3, _⟩ => ⟨S128x1024, .bf16⟩
  | .hbm, ⟨4, _⟩ => ⟨S1024x512, .bf16⟩
  | .hbm, ⟨5, _⟩ => ⟨S512x1024, .bf16⟩
  | .hbm, ⟨6, _⟩ => ⟨S8x1024x1408, .bf16⟩
  | .hbm, ⟨7, _⟩ => ⟨S1024x1024, .bf16⟩
  | .hbm, ⟨8, _⟩ => ⟨S2048x1024, .bf16⟩
  | .hbm, ⟨9, _⟩ => ⟨S1024x1024, .bf16⟩
  | .hbm, ⟨10, _⟩ => ⟨S1024x4096, .bf16⟩
  | .hbm, ⟨11, _⟩ => ⟨S4096x1024, .bf16⟩
  | _, _ => ⟨S1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v17 : BitVec 32 := Scalar.muli v12 c128_i32
  v17
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v17 : BitVec 32 := Scalar.muli v12 c128_i32
  let v18 : BitVec 32 := v17
  let c0_i32_8 : BitVec 32 := 0#32
  ![v18.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v22 : BitVec 32 := Scalar.muli v12 c256_i32
  v22
def k0_off3 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v22 : BitVec 32 := Scalar.muli v12 c256_i32
  let v23 : BitVec 32 := v22
  let c0_i32_10 : BitVec 32 := 0#32
  ![v23.toNat, 0]
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_11 : BitVec 32 := 128#32
  let v27 : BitVec 32 := Scalar.muli v12 c128_i32_11
  v27
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v32 : BitVec 32 := Scalar.muli v12 c512_i32
  v32
def k0_off4 (d0 : Dev nD) : Fin 2 → Nat :=
  let c0_i32_14 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v32 : BitVec 32 := Scalar.muli v12 c512_i32
  let v33 : BitVec 32 := v32
  ![0, v33.toNat]
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_15 : BitVec 32 := 512#32
  let v37 : BitVec 32 := Scalar.muli v12 c512_i32_15
  v37
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_15 : BitVec 32 := 512#32
  let v37 : BitVec 32 := Scalar.muli v12 c512_i32_15
  let v38 : BitVec 32 := v37
  let c0_i32_16 : BitVec 32 := 0#32
  ![v38.toNat, 0]
def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_17 : BitVec 32 := 0#32
  let v42 : BitVec 32 := Scalar.addi v2 c0_i32_17
  let c2_i32_18 : BitVec 32 := 2#32
  let v43 : BitVec 32 := Scalar.remsi v42 c2_i32_18
  let c4_i32_27 : BitVec 32 := 4#32
  let v48 : BitVec 32 := Scalar.muli v43 c4_i32_27
  let v49 : BitVec 32 := Scalar.addi c0_i32_28 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_19 : BitVec 32 := 0#32
  let v44 : BitVec 32 := Scalar.addi v5 c0_i32_19
  let c2_i32_20 : BitVec 32 := 2#32
  let v45 : BitVec 32 := Scalar.remsi v44 c2_i32_20
  let c2_i32_29 : BitVec 32 := 2#32
  let v50 : BitVec 32 := Scalar.muli v45 c2_i32_29
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v46 : BitVec 32 := Scalar.addi v8 c1_i32_21
  let c2_i32_22 : BitVec 32 := 2#32
  let v47 : BitVec 32 := Scalar.remsi v46 c2_i32_22
  let c1_i32_30 : BitVec 32 := 1#32
  let v52 : BitVec 32 := Scalar.muli v47 c1_i32_30
  let v53 : BitVec 32 := Scalar.addi v51 v52
  v53.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v60 : BitVec 32 := Scalar.addi v2 c0_i32_33
  let c2_i32_34 : BitVec 32 := 2#32
  let v61 : BitVec 32 := Scalar.remsi v60 c2_i32_34
  let c4_i32_43 : BitVec 32 := 4#32
  let v66 : BitVec 32 := Scalar.muli v61 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v62 : BitVec 32 := Scalar.addi v5 c1_i32_35
  let c2_i32_36 : BitVec 32 := 2#32
  let v63 : BitVec 32 := Scalar.remsi v62 c2_i32_36
  let c2_i32_45 : BitVec 32 := 2#32
  let v68 : BitVec 32 := Scalar.muli v63 c2_i32_45
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_37 : BitVec 32 := 0#32
  let v64 : BitVec 32 := Scalar.addi v8 c0_i32_37
  let c2_i32_38 : BitVec 32 := 2#32
  let v65 : BitVec 32 := Scalar.remsi v64 c2_i32_38
  let c1_i32_46 : BitVec 32 := 1#32
  let v70 : BitVec 32 := Scalar.muli v65 c1_i32_46
  let v71 : BitVec 32 := Scalar.addi v69 v70
  v71.toNat
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_49 : BitVec 32 := 0#32
  let v78 : BitVec 32 := Scalar.addi v2 c0_i32_49
  let c2_i32_50 : BitVec 32 := 2#32
  let v79 : BitVec 32 := Scalar.remsi v78 c2_i32_50
  let c4_i32_59 : BitVec 32 := 4#32
  let v84 : BitVec 32 := Scalar.muli v79 c4_i32_59
  let v85 : BitVec 32 := Scalar.addi c0_i32_60 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v80 : BitVec 32 := Scalar.addi v5 c1_i32_51
  let c2_i32_52 : BitVec 32 := 2#32
  let v81 : BitVec 32 := Scalar.remsi v80 c2_i32_52
  let c2_i32_61 : BitVec 32 := 2#32
  let v86 : BitVec 32 := Scalar.muli v81 c2_i32_61
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v82 : BitVec 32 := Scalar.addi v8 c1_i32_53
  let c2_i32_54 : BitVec 32 := 2#32
  let v83 : BitVec 32 := Scalar.remsi v82 c2_i32_54
  let c1_i32_62 : BitVec 32 := 1#32
  let v88 : BitVec 32 := Scalar.muli v83 c1_i32_62
  let v89 : BitVec 32 := Scalar.addi v87 v88
  v89.toNat
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_65 : BitVec 32 := 1#32
  let v96 : BitVec 32 := Scalar.addi v2 c1_i32_65
  let c2_i32_66 : BitVec 32 := 2#32
  let v97 : BitVec 32 := Scalar.remsi v96 c2_i32_66
  let c4_i32_75 : BitVec 32 := 4#32
  let v102 : BitVec 32 := Scalar.muli v97 c4_i32_75
  let v103 : BitVec 32 := Scalar.addi c0_i32_76 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_67 : BitVec 32 := 0#32
  let v98 : BitVec 32 := Scalar.addi v5 c0_i32_67
  let c2_i32_68 : BitVec 32 := 2#32
  let v99 : BitVec 32 := Scalar.remsi v98 c2_i32_68
  let c2_i32_77 : BitVec 32 := 2#32
  let v104 : BitVec 32 := Scalar.muli v99 c2_i32_77
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let v100 : BitVec 32 := Scalar.addi v8 c0_i32_69
  let c2_i32_70 : BitVec 32 := 2#32
  let v101 : BitVec 32 := Scalar.remsi v100 c2_i32_70
  let c1_i32_78 : BitVec 32 := 1#32
  let v106 : BitVec 32 := Scalar.muli v101 c1_i32_78
  let v107 : BitVec 32 := Scalar.addi v105 v106
  v107.toNat
def k0_dev5 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_81 : BitVec 32 := 1#32
  let v114 : BitVec 32 := Scalar.addi v2 c1_i32_81
  let c2_i32_82 : BitVec 32 := 2#32
  let v115 : BitVec 32 := Scalar.remsi v114 c2_i32_82
  let c4_i32_91 : BitVec 32 := 4#32
  let v120 : BitVec 32 := Scalar.muli v115 c4_i32_91
  let v121 : BitVec 32 := Scalar.addi c0_i32_92 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_83 : BitVec 32 := 0#32
  let v116 : BitVec 32 := Scalar.addi v5 c0_i32_83
  let c2_i32_84 : BitVec 32 := 2#32
  let v117 : BitVec 32 := Scalar.remsi v116 c2_i32_84
  let c2_i32_93 : BitVec 32 := 2#32
  let v122 : BitVec 32 := Scalar.muli v117 c2_i32_93
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v118 : BitVec 32 := Scalar.addi v8 c1_i32_85
  let c2_i32_86 : BitVec 32 := 2#32
  let v119 : BitVec 32 := Scalar.remsi v118 c2_i32_86
  let c1_i32_94 : BitVec 32 := 1#32
  let v124 : BitVec 32 := Scalar.muli v119 c1_i32_94
  let v125 : BitVec 32 := Scalar.addi v123 v124
  v125.toNat
def k0_dev6 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_97 : BitVec 32 := 1#32
  let v132 : BitVec 32 := Scalar.addi v2 c1_i32_97
  let c2_i32_98 : BitVec 32 := 2#32
  let v133 : BitVec 32 := Scalar.remsi v132 c2_i32_98
  let c4_i32_107 : BitVec 32 := 4#32
  let v138 : BitVec 32 := Scalar.muli v133 c4_i32_107
  let v139 : BitVec 32 := Scalar.addi c0_i32_108 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_99 : BitVec 32 := 1#32
  let v134 : BitVec 32 := Scalar.addi v5 c1_i32_99
  let c2_i32_100 : BitVec 32 := 2#32
  let v135 : BitVec 32 := Scalar.remsi v134 c2_i32_100
  let c2_i32_109 : BitVec 32 := 2#32
  let v140 : BitVec 32 := Scalar.muli v135 c2_i32_109
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_101 : BitVec 32 := 0#32
  let v136 : BitVec 32 := Scalar.addi v8 c0_i32_101
  let c2_i32_102 : BitVec 32 := 2#32
  let v137 : BitVec 32 := Scalar.remsi v136 c2_i32_102
  let c1_i32_110 : BitVec 32 := 1#32
  let v142 : BitVec 32 := Scalar.muli v137 c1_i32_110
  let v143 : BitVec 32 := Scalar.addi v141 v142
  v143.toNat
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_113 : BitVec 32 := 1#32
  let v150 : BitVec 32 := Scalar.addi v2 c1_i32_113
  let c2_i32_114 : BitVec 32 := 2#32
  let v151 : BitVec 32 := Scalar.remsi v150 c2_i32_114
  let c4_i32_122 : BitVec 32 := 4#32
  let v156 : BitVec 32 := Scalar.muli v151 c4_i32_122
  let v157 : BitVec 32 := Scalar.addi c0_i32_123 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_115 : BitVec 32 := 1#32
  let v152 : BitVec 32 := Scalar.addi v5 c1_i32_115
  let c2_i32_116 : BitVec 32 := 2#32
  let v153 : BitVec 32 := Scalar.remsi v152 c2_i32_116
  let c2_i32_124 : BitVec 32 := 2#32
  let v158 : BitVec 32 := Scalar.muli v153 c2_i32_124
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v154 : BitVec 32 := Scalar.addi v8 c1_i32_117
  let c2_i32_118 : BitVec 32 := 2#32
  let v155 : BitVec 32 := Scalar.remsi v154 c2_i32_118
  let c1_i32_125 : BitVec 32 := 1#32
  let v160 : BitVec 32 := Scalar.muli v155 c1_i32_125
  let v161 : BitVec 32 := Scalar.addi v159 v160
  v161.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_134 : BitVec 32 := 128#32
  let v174 : BitVec 32 := Scalar.muli v12 c128_i32_134
  v174
def k0_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_128 : BitVec 32 := 0#32
  let v168 : BitVec 32 := Scalar.addi v2 c0_i32_128
  let c2_i32_129 : BitVec 32 := 2#32
  let v169 : BitVec 32 := Scalar.remsi v168 c2_i32_129
  let c4_i32_139 : BitVec 32 := 4#32
  let v176 : BitVec 32 := Scalar.muli v169 c4_i32_139
  let v177 : BitVec 32 := Scalar.addi c0_i32_140 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_130 : BitVec 32 := 0#32
  let v170 : BitVec 32 := Scalar.addi v5 c0_i32_130
  let c2_i32_131 : BitVec 32 := 2#32
  let v171 : BitVec 32 := Scalar.remsi v170 c2_i32_131
  let c2_i32_141 : BitVec 32 := 2#32
  let v178 : BitVec 32 := Scalar.muli v171 c2_i32_141
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v172 : BitVec 32 := Scalar.addi v8 c1_i32_132
  let c2_i32_133 : BitVec 32 := 2#32
  let v173 : BitVec 32 := Scalar.remsi v172 c2_i32_133
  let c1_i32_142 : BitVec 32 := 1#32
  let v180 : BitVec 32 := Scalar.muli v173 c1_i32_142
  let v181 : BitVec 32 := Scalar.addi v179 v180
  v181.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_150 : BitVec 32 := 128#32
  let v193 : BitVec 32 := Scalar.muli v12 c128_i32_150
  v193
def k0_dev9 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_144 : BitVec 32 := 0#32
  let v187 : BitVec 32 := Scalar.addi v2 c0_i32_144
  let c2_i32_145 : BitVec 32 := 2#32
  let v188 : BitVec 32 := Scalar.remsi v187 c2_i32_145
  let c4_i32_155 : BitVec 32 := 4#32
  let v195 : BitVec 32 := Scalar.muli v188 c4_i32_155
  let v196 : BitVec 32 := Scalar.addi c0_i32_156 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_146 : BitVec 32 := 1#32
  let v189 : BitVec 32 := Scalar.addi v5 c1_i32_146
  let c2_i32_147 : BitVec 32 := 2#32
  let v190 : BitVec 32 := Scalar.remsi v189 c2_i32_147
  let c2_i32_157 : BitVec 32 := 2#32
  let v197 : BitVec 32 := Scalar.muli v190 c2_i32_157
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_148 : BitVec 32 := 0#32
  let v191 : BitVec 32 := Scalar.addi v8 c0_i32_148
  let c2_i32_149 : BitVec 32 := 2#32
  let v192 : BitVec 32 := Scalar.remsi v191 c2_i32_149
  let c1_i32_158 : BitVec 32 := 1#32
  let v199 : BitVec 32 := Scalar.muli v192 c1_i32_158
  let v200 : BitVec 32 := Scalar.addi v198 v199
  v200.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_166 : BitVec 32 := 128#32
  let v212 : BitVec 32 := Scalar.muli v12 c128_i32_166
  v212
def k0_dev10 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_160 : BitVec 32 := 0#32
  let v206 : BitVec 32 := Scalar.addi v2 c0_i32_160
  let c2_i32_161 : BitVec 32 := 2#32
  let v207 : BitVec 32 := Scalar.remsi v206 c2_i32_161
  let c4_i32_171 : BitVec 32 := 4#32
  let v214 : BitVec 32 := Scalar.muli v207 c4_i32_171
  let v215 : BitVec 32 := Scalar.addi c0_i32_172 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_162 : BitVec 32 := 1#32
  let v208 : BitVec 32 := Scalar.addi v5 c1_i32_162
  let c2_i32_163 : BitVec 32 := 2#32
  let v209 : BitVec 32 := Scalar.remsi v208 c2_i32_163
  let c2_i32_173 : BitVec 32 := 2#32
  let v216 : BitVec 32 := Scalar.muli v209 c2_i32_173
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v210 : BitVec 32 := Scalar.addi v8 c1_i32_164
  let c2_i32_165 : BitVec 32 := 2#32
  let v211 : BitVec 32 := Scalar.remsi v210 c2_i32_165
  let c1_i32_174 : BitVec 32 := 1#32
  let v218 : BitVec 32 := Scalar.muli v211 c1_i32_174
  let v219 : BitVec 32 := Scalar.addi v217 v218
  v219.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_182 : BitVec 32 := 128#32
  let v231 : BitVec 32 := Scalar.muli v12 c128_i32_182
  v231
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_176 : BitVec 32 := 1#32
  let v225 : BitVec 32 := Scalar.addi v2 c1_i32_176
  let c2_i32_177 : BitVec 32 := 2#32
  let v226 : BitVec 32 := Scalar.remsi v225 c2_i32_177
  let c4_i32_187 : BitVec 32 := 4#32
  let v233 : BitVec 32 := Scalar.muli v226 c4_i32_187
  let v234 : BitVec 32 := Scalar.addi c0_i32_188 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_178 : BitVec 32 := 0#32
  let v227 : BitVec 32 := Scalar.addi v5 c0_i32_178
  let c2_i32_179 : BitVec 32 := 2#32
  let v228 : BitVec 32 := Scalar.remsi v227 c2_i32_179
  let c2_i32_189 : BitVec 32 := 2#32
  let v235 : BitVec 32 := Scalar.muli v228 c2_i32_189
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_180 : BitVec 32 := 0#32
  let v229 : BitVec 32 := Scalar.addi v8 c0_i32_180
  let c2_i32_181 : BitVec 32 := 2#32
  let v230 : BitVec 32 := Scalar.remsi v229 c2_i32_181
  let c1_i32_190 : BitVec 32 := 1#32
  let v237 : BitVec 32 := Scalar.muli v230 c1_i32_190
  let v238 : BitVec 32 := Scalar.addi v236 v237
  v238.toNat
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_198 : BitVec 32 := 128#32
  let v250 : BitVec 32 := Scalar.muli v12 c128_i32_198
  v250
def k0_dev12 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_192 : BitVec 32 := 1#32
  let v244 : BitVec 32 := Scalar.addi v2 c1_i32_192
  let c2_i32_193 : BitVec 32 := 2#32
  let v245 : BitVec 32 := Scalar.remsi v244 c2_i32_193
  let c4_i32_203 : BitVec 32 := 4#32
  let v252 : BitVec 32 := Scalar.muli v245 c4_i32_203
  let v253 : BitVec 32 := Scalar.addi c0_i32_204 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_194 : BitVec 32 := 0#32
  let v246 : BitVec 32 := Scalar.addi v5 c0_i32_194
  let c2_i32_195 : BitVec 32 := 2#32
  let v247 : BitVec 32 := Scalar.remsi v246 c2_i32_195
  let c2_i32_205 : BitVec 32 := 2#32
  let v254 : BitVec 32 := Scalar.muli v247 c2_i32_205
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v248 : BitVec 32 := Scalar.addi v8 c1_i32_196
  let c2_i32_197 : BitVec 32 := 2#32
  let v249 : BitVec 32 := Scalar.remsi v248 c2_i32_197
  let c1_i32_206 : BitVec 32 := 1#32
  let v256 : BitVec 32 := Scalar.muli v249 c1_i32_206
  let v257 : BitVec 32 := Scalar.addi v255 v256
  v257.toNat
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_214 : BitVec 32 := 128#32
  let v269 : BitVec 32 := Scalar.muli v12 c128_i32_214
  v269
def k0_dev13 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_208 : BitVec 32 := 1#32
  let v263 : BitVec 32 := Scalar.addi v2 c1_i32_208
  let c2_i32_209 : BitVec 32 := 2#32
  let v264 : BitVec 32 := Scalar.remsi v263 c2_i32_209
  let c4_i32_219 : BitVec 32 := 4#32
  let v271 : BitVec 32 := Scalar.muli v264 c4_i32_219
  let v272 : BitVec 32 := Scalar.addi c0_i32_220 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v265 : BitVec 32 := Scalar.addi v5 c1_i32_210
  let c2_i32_211 : BitVec 32 := 2#32
  let v266 : BitVec 32 := Scalar.remsi v265 c2_i32_211
  let c2_i32_221 : BitVec 32 := 2#32
  let v273 : BitVec 32 := Scalar.muli v266 c2_i32_221
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_212 : BitVec 32 := 0#32
  let v267 : BitVec 32 := Scalar.addi v8 c0_i32_212
  let c2_i32_213 : BitVec 32 := 2#32
  let v268 : BitVec 32 := Scalar.remsi v267 c2_i32_213
  let c1_i32_222 : BitVec 32 := 1#32
  let v275 : BitVec 32 := Scalar.muli v268 c1_i32_222
  let v276 : BitVec 32 := Scalar.addi v274 v275
  v276.toNat
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_230 : BitVec 32 := 128#32
  let v288 : BitVec 32 := Scalar.muli v12 c128_i32_230
  v288
def k0_dev14 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_224 : BitVec 32 := 1#32
  let v282 : BitVec 32 := Scalar.addi v2 c1_i32_224
  let c2_i32_225 : BitVec 32 := 2#32
  let v283 : BitVec 32 := Scalar.remsi v282 c2_i32_225
  let c4_i32_235 : BitVec 32 := 4#32
  let v290 : BitVec 32 := Scalar.muli v283 c4_i32_235
  let v291 : BitVec 32 := Scalar.addi c0_i32_236 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_226 : BitVec 32 := 1#32
  let v284 : BitVec 32 := Scalar.addi v5 c1_i32_226
  let c2_i32_227 : BitVec 32 := 2#32
  let v285 : BitVec 32 := Scalar.remsi v284 c2_i32_227
  let c2_i32_237 : BitVec 32 := 2#32
  let v292 : BitVec 32 := Scalar.muli v285 c2_i32_237
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v286 : BitVec 32 := Scalar.addi v8 c1_i32_228
  let c2_i32_229 : BitVec 32 := 2#32
  let v287 : BitVec 32 := Scalar.remsi v286 c2_i32_229
  let c1_i32_238 : BitVec 32 := 1#32
  let v294 : BitVec 32 := Scalar.muli v287 c1_i32_238
  let v295 : BitVec 32 := Scalar.addi v293 v294
  v295.toNat
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_246 : BitVec 32 := 256#32
  let v307 : BitVec 32 := Scalar.muli v12 c256_i32_246
  v307
def k0_dev15 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_240 : BitVec 32 := 0#32
  let v301 : BitVec 32 := Scalar.addi v2 c0_i32_240
  let c2_i32_241 : BitVec 32 := 2#32
  let v302 : BitVec 32 := Scalar.remsi v301 c2_i32_241
  let c4_i32_251 : BitVec 32 := 4#32
  let v309 : BitVec 32 := Scalar.muli v302 c4_i32_251
  let v310 : BitVec 32 := Scalar.addi c0_i32_252 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_242 : BitVec 32 := 0#32
  let v303 : BitVec 32 := Scalar.addi v5 c0_i32_242
  let c2_i32_243 : BitVec 32 := 2#32
  let v304 : BitVec 32 := Scalar.remsi v303 c2_i32_243
  let c2_i32_253 : BitVec 32 := 2#32
  let v311 : BitVec 32 := Scalar.muli v304 c2_i32_253
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v305 : BitVec 32 := Scalar.addi v8 c1_i32_244
  let c2_i32_245 : BitVec 32 := 2#32
  let v306 : BitVec 32 := Scalar.remsi v305 c2_i32_245
  let c1_i32_254 : BitVec 32 := 1#32
  let v313 : BitVec 32 := Scalar.muli v306 c1_i32_254
  let v314 : BitVec 32 := Scalar.addi v312 v313
  v314.toNat
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_262 : BitVec 32 := 256#32
  let v326 : BitVec 32 := Scalar.muli v12 c256_i32_262
  v326
def k0_dev16 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_256 : BitVec 32 := 0#32
  let v320 : BitVec 32 := Scalar.addi v2 c0_i32_256
  let c2_i32_257 : BitVec 32 := 2#32
  let v321 : BitVec 32 := Scalar.remsi v320 c2_i32_257
  let c4_i32_267 : BitVec 32 := 4#32
  let v328 : BitVec 32 := Scalar.muli v321 c4_i32_267
  let v329 : BitVec 32 := Scalar.addi c0_i32_268 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_258 : BitVec 32 := 1#32
  let v322 : BitVec 32 := Scalar.addi v5 c1_i32_258
  let c2_i32_259 : BitVec 32 := 2#32
  let v323 : BitVec 32 := Scalar.remsi v322 c2_i32_259
  let c2_i32_269 : BitVec 32 := 2#32
  let v330 : BitVec 32 := Scalar.muli v323 c2_i32_269
  let v331 : BitVec 32 := Scalar.addi v329 v330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_260 : BitVec 32 := 0#32
  let v324 : BitVec 32 := Scalar.addi v8 c0_i32_260
  let c2_i32_261 : BitVec 32 := 2#32
  let v325 : BitVec 32 := Scalar.remsi v324 c2_i32_261
  let c1_i32_270 : BitVec 32 := 1#32
  let v332 : BitVec 32 := Scalar.muli v325 c1_i32_270
  let v333 : BitVec 32 := Scalar.addi v331 v332
  v333.toNat
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_278 : BitVec 32 := 256#32
  let v345 : BitVec 32 := Scalar.muli v12 c256_i32_278
  v345
def k0_dev17 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_272 : BitVec 32 := 0#32
  let v339 : BitVec 32 := Scalar.addi v2 c0_i32_272
  let c2_i32_273 : BitVec 32 := 2#32
  let v340 : BitVec 32 := Scalar.remsi v339 c2_i32_273
  let c4_i32_283 : BitVec 32 := 4#32
  let v347 : BitVec 32 := Scalar.muli v340 c4_i32_283
  let v348 : BitVec 32 := Scalar.addi c0_i32_284 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_274 : BitVec 32 := 1#32
  let v341 : BitVec 32 := Scalar.addi v5 c1_i32_274
  let c2_i32_275 : BitVec 32 := 2#32
  let v342 : BitVec 32 := Scalar.remsi v341 c2_i32_275
  let c2_i32_285 : BitVec 32 := 2#32
  let v349 : BitVec 32 := Scalar.muli v342 c2_i32_285
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v343 : BitVec 32 := Scalar.addi v8 c1_i32_276
  let c2_i32_277 : BitVec 32 := 2#32
  let v344 : BitVec 32 := Scalar.remsi v343 c2_i32_277
  let c1_i32_286 : BitVec 32 := 1#32
  let v351 : BitVec 32 := Scalar.muli v344 c1_i32_286
  let v352 : BitVec 32 := Scalar.addi v350 v351
  v352.toNat
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_294 : BitVec 32 := 256#32
  let v364 : BitVec 32 := Scalar.muli v12 c256_i32_294
  v364
def k0_dev18 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v358 : BitVec 32 := Scalar.addi v2 c1_i32_288
  let c2_i32_289 : BitVec 32 := 2#32
  let v359 : BitVec 32 := Scalar.remsi v358 c2_i32_289
  let c4_i32_299 : BitVec 32 := 4#32
  let v366 : BitVec 32 := Scalar.muli v359 c4_i32_299
  let v367 : BitVec 32 := Scalar.addi c0_i32_300 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_290 : BitVec 32 := 0#32
  let v360 : BitVec 32 := Scalar.addi v5 c0_i32_290
  let c2_i32_291 : BitVec 32 := 2#32
  let v361 : BitVec 32 := Scalar.remsi v360 c2_i32_291
  let c2_i32_301 : BitVec 32 := 2#32
  let v368 : BitVec 32 := Scalar.muli v361 c2_i32_301
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_292 : BitVec 32 := 0#32
  let v362 : BitVec 32 := Scalar.addi v8 c0_i32_292
  let c2_i32_293 : BitVec 32 := 2#32
  let v363 : BitVec 32 := Scalar.remsi v362 c2_i32_293
  let c1_i32_302 : BitVec 32 := 1#32
  let v370 : BitVec 32 := Scalar.muli v363 c1_i32_302
  let v371 : BitVec 32 := Scalar.addi v369 v370
  v371.toNat
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_310 : BitVec 32 := 256#32
  let v383 : BitVec 32 := Scalar.muli v12 c256_i32_310
  v383
def k0_dev19 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_304 : BitVec 32 := 1#32
  let v377 : BitVec 32 := Scalar.addi v2 c1_i32_304
  let c2_i32_305 : BitVec 32 := 2#32
  let v378 : BitVec 32 := Scalar.remsi v377 c2_i32_305
  let c4_i32_315 : BitVec 32 := 4#32
  let v385 : BitVec 32 := Scalar.muli v378 c4_i32_315
  let v386 : BitVec 32 := Scalar.addi c0_i32_316 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_306 : BitVec 32 := 0#32
  let v379 : BitVec 32 := Scalar.addi v5 c0_i32_306
  let c2_i32_307 : BitVec 32 := 2#32
  let v380 : BitVec 32 := Scalar.remsi v379 c2_i32_307
  let c2_i32_317 : BitVec 32 := 2#32
  let v387 : BitVec 32 := Scalar.muli v380 c2_i32_317
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v381 : BitVec 32 := Scalar.addi v8 c1_i32_308
  let c2_i32_309 : BitVec 32 := 2#32
  let v382 : BitVec 32 := Scalar.remsi v381 c2_i32_309
  let c1_i32_318 : BitVec 32 := 1#32
  let v389 : BitVec 32 := Scalar.muli v382 c1_i32_318
  let v390 : BitVec 32 := Scalar.addi v388 v389
  v390.toNat
def k0_mult18 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_326 : BitVec 32 := 256#32
  let v402 : BitVec 32 := Scalar.muli v12 c256_i32_326
  v402
def k0_dev20 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_320 : BitVec 32 := 1#32
  let v396 : BitVec 32 := Scalar.addi v2 c1_i32_320
  let c2_i32_321 : BitVec 32 := 2#32
  let v397 : BitVec 32 := Scalar.remsi v396 c2_i32_321
  let c4_i32_331 : BitVec 32 := 4#32
  let v404 : BitVec 32 := Scalar.muli v397 c4_i32_331
  let v405 : BitVec 32 := Scalar.addi c0_i32_332 v404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_322 : BitVec 32 := 1#32
  let v398 : BitVec 32 := Scalar.addi v5 c1_i32_322
  let c2_i32_323 : BitVec 32 := 2#32
  let v399 : BitVec 32 := Scalar.remsi v398 c2_i32_323
  let c2_i32_333 : BitVec 32 := 2#32
  let v406 : BitVec 32 := Scalar.muli v399 c2_i32_333
  let v407 : BitVec 32 := Scalar.addi v405 v406
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_324 : BitVec 32 := 0#32
  let v400 : BitVec 32 := Scalar.addi v8 c0_i32_324
  let c2_i32_325 : BitVec 32 := 2#32
  let v401 : BitVec 32 := Scalar.remsi v400 c2_i32_325
  let c1_i32_334 : BitVec 32 := 1#32
  let v408 : BitVec 32 := Scalar.muli v401 c1_i32_334
  let v409 : BitVec 32 := Scalar.addi v407 v408
  v409.toNat
def k0_mult19 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_342 : BitVec 32 := 256#32
  let v421 : BitVec 32 := Scalar.muli v12 c256_i32_342
  v421
def k0_dev21 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_336 : BitVec 32 := 1#32
  let v415 : BitVec 32 := Scalar.addi v2 c1_i32_336
  let c2_i32_337 : BitVec 32 := 2#32
  let v416 : BitVec 32 := Scalar.remsi v415 c2_i32_337
  let c4_i32_347 : BitVec 32 := 4#32
  let v423 : BitVec 32 := Scalar.muli v416 c4_i32_347
  let v424 : BitVec 32 := Scalar.addi c0_i32_348 v423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_338 : BitVec 32 := 1#32
  let v417 : BitVec 32 := Scalar.addi v5 c1_i32_338
  let c2_i32_339 : BitVec 32 := 2#32
  let v418 : BitVec 32 := Scalar.remsi v417 c2_i32_339
  let c2_i32_349 : BitVec 32 := 2#32
  let v425 : BitVec 32 := Scalar.muli v418 c2_i32_349
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v419 : BitVec 32 := Scalar.addi v8 c1_i32_340
  let c2_i32_341 : BitVec 32 := 2#32
  let v420 : BitVec 32 := Scalar.remsi v419 c2_i32_341
  let c1_i32_350 : BitVec 32 := 1#32
  let v427 : BitVec 32 := Scalar.muli v420 c1_i32_350
  let v428 : BitVec 32 := Scalar.addi v426 v427
  v428.toNat
def k0_mult20 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_358 : BitVec 32 := 128#32
  let v440 : BitVec 32 := Scalar.muli v12 c128_i32_358
  v440
def k0_dev22 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_352 : BitVec 32 := 0#32
  let v434 : BitVec 32 := Scalar.addi v2 c0_i32_352
  let c2_i32_353 : BitVec 32 := 2#32
  let v435 : BitVec 32 := Scalar.remsi v434 c2_i32_353
  let c4_i32_363 : BitVec 32 := 4#32
  let v442 : BitVec 32 := Scalar.muli v435 c4_i32_363
  let v443 : BitVec 32 := Scalar.addi c0_i32_364 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_354 : BitVec 32 := 0#32
  let v436 : BitVec 32 := Scalar.addi v5 c0_i32_354
  let c2_i32_355 : BitVec 32 := 2#32
  let v437 : BitVec 32 := Scalar.remsi v436 c2_i32_355
  let c2_i32_365 : BitVec 32 := 2#32
  let v444 : BitVec 32 := Scalar.muli v437 c2_i32_365
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v438 : BitVec 32 := Scalar.addi v8 c1_i32_356
  let c2_i32_357 : BitVec 32 := 2#32
  let v439 : BitVec 32 := Scalar.remsi v438 c2_i32_357
  let c1_i32_366 : BitVec 32 := 1#32
  let v446 : BitVec 32 := Scalar.muli v439 c1_i32_366
  let v447 : BitVec 32 := Scalar.addi v445 v446
  v447.toNat
def k0_mult21 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_374 : BitVec 32 := 128#32
  let v459 : BitVec 32 := Scalar.muli v12 c128_i32_374
  v459
def k0_dev23 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_368 : BitVec 32 := 0#32
  let v453 : BitVec 32 := Scalar.addi v2 c0_i32_368
  let c2_i32_369 : BitVec 32 := 2#32
  let v454 : BitVec 32 := Scalar.remsi v453 c2_i32_369
  let c4_i32_379 : BitVec 32 := 4#32
  let v461 : BitVec 32 := Scalar.muli v454 c4_i32_379
  let v462 : BitVec 32 := Scalar.addi c0_i32_380 v461
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_370 : BitVec 32 := 1#32
  let v455 : BitVec 32 := Scalar.addi v5 c1_i32_370
  let c2_i32_371 : BitVec 32 := 2#32
  let v456 : BitVec 32 := Scalar.remsi v455 c2_i32_371
  let c2_i32_381 : BitVec 32 := 2#32
  let v463 : BitVec 32 := Scalar.muli v456 c2_i32_381
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v457 : BitVec 32 := Scalar.addi v8 c0_i32_372
  let c2_i32_373 : BitVec 32 := 2#32
  let v458 : BitVec 32 := Scalar.remsi v457 c2_i32_373
  let c1_i32_382 : BitVec 32 := 1#32
  let v465 : BitVec 32 := Scalar.muli v458 c1_i32_382
  let v466 : BitVec 32 := Scalar.addi v464 v465
  v466.toNat
def k0_mult22 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_390 : BitVec 32 := 128#32
  let v478 : BitVec 32 := Scalar.muli v12 c128_i32_390
  v478
def k0_dev24 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_384 : BitVec 32 := 0#32
  let v472 : BitVec 32 := Scalar.addi v2 c0_i32_384
  let c2_i32_385 : BitVec 32 := 2#32
  let v473 : BitVec 32 := Scalar.remsi v472 c2_i32_385
  let c4_i32_395 : BitVec 32 := 4#32
  let v480 : BitVec 32 := Scalar.muli v473 c4_i32_395
  let v481 : BitVec 32 := Scalar.addi c0_i32_396 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_386 : BitVec 32 := 1#32
  let v474 : BitVec 32 := Scalar.addi v5 c1_i32_386
  let c2_i32_387 : BitVec 32 := 2#32
  let v475 : BitVec 32 := Scalar.remsi v474 c2_i32_387
  let c2_i32_397 : BitVec 32 := 2#32
  let v482 : BitVec 32 := Scalar.muli v475 c2_i32_397
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v476 : BitVec 32 := Scalar.addi v8 c1_i32_388
  let c2_i32_389 : BitVec 32 := 2#32
  let v477 : BitVec 32 := Scalar.remsi v476 c2_i32_389
  let c1_i32_398 : BitVec 32 := 1#32
  let v484 : BitVec 32 := Scalar.muli v477 c1_i32_398
  let v485 : BitVec 32 := Scalar.addi v483 v484
  v485.toNat
def k0_mult23 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_406 : BitVec 32 := 128#32
  let v497 : BitVec 32 := Scalar.muli v12 c128_i32_406
  v497
def k0_dev25 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_400 : BitVec 32 := 1#32
  let v491 : BitVec 32 := Scalar.addi v2 c1_i32_400
  let c2_i32_401 : BitVec 32 := 2#32
  let v492 : BitVec 32 := Scalar.remsi v491 c2_i32_401
  let c4_i32_411 : BitVec 32 := 4#32
  let v499 : BitVec 32 := Scalar.muli v492 c4_i32_411
  let v500 : BitVec 32 := Scalar.addi c0_i32_412 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_402 : BitVec 32 := 0#32
  let v493 : BitVec 32 := Scalar.addi v5 c0_i32_402
  let c2_i32_403 : BitVec 32 := 2#32
  let v494 : BitVec 32 := Scalar.remsi v493 c2_i32_403
  let c2_i32_413 : BitVec 32 := 2#32
  let v501 : BitVec 32 := Scalar.muli v494 c2_i32_413
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_404 : BitVec 32 := 0#32
  let v495 : BitVec 32 := Scalar.addi v8 c0_i32_404
  let c2_i32_405 : BitVec 32 := 2#32
  let v496 : BitVec 32 := Scalar.remsi v495 c2_i32_405
  let c1_i32_414 : BitVec 32 := 1#32
  let v503 : BitVec 32 := Scalar.muli v496 c1_i32_414
  let v504 : BitVec 32 := Scalar.addi v502 v503
  v504.toNat
def k0_mult24 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_422 : BitVec 32 := 128#32
  let v516 : BitVec 32 := Scalar.muli v12 c128_i32_422
  v516
def k0_dev26 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_416 : BitVec 32 := 1#32
  let v510 : BitVec 32 := Scalar.addi v2 c1_i32_416
  let c2_i32_417 : BitVec 32 := 2#32
  let v511 : BitVec 32 := Scalar.remsi v510 c2_i32_417
  let c4_i32_427 : BitVec 32 := 4#32
  let v518 : BitVec 32 := Scalar.muli v511 c4_i32_427
  let v519 : BitVec 32 := Scalar.addi c0_i32_428 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_418 : BitVec 32 := 0#32
  let v512 : BitVec 32 := Scalar.addi v5 c0_i32_418
  let c2_i32_419 : BitVec 32 := 2#32
  let v513 : BitVec 32 := Scalar.remsi v512 c2_i32_419
  let c2_i32_429 : BitVec 32 := 2#32
  let v520 : BitVec 32 := Scalar.muli v513 c2_i32_429
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_420 : BitVec 32 := 1#32
  let v514 : BitVec 32 := Scalar.addi v8 c1_i32_420
  let c2_i32_421 : BitVec 32 := 2#32
  let v515 : BitVec 32 := Scalar.remsi v514 c2_i32_421
  let c1_i32_430 : BitVec 32 := 1#32
  let v522 : BitVec 32 := Scalar.muli v515 c1_i32_430
  let v523 : BitVec 32 := Scalar.addi v521 v522
  v523.toNat
def k0_mult25 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_438 : BitVec 32 := 128#32
  let v535 : BitVec 32 := Scalar.muli v12 c128_i32_438
  v535
def k0_dev27 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_432 : BitVec 32 := 1#32
  let v529 : BitVec 32 := Scalar.addi v2 c1_i32_432
  let c2_i32_433 : BitVec 32 := 2#32
  let v530 : BitVec 32 := Scalar.remsi v529 c2_i32_433
  let c4_i32_443 : BitVec 32 := 4#32
  let v537 : BitVec 32 := Scalar.muli v530 c4_i32_443
  let v538 : BitVec 32 := Scalar.addi c0_i32_444 v537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_434 : BitVec 32 := 1#32
  let v531 : BitVec 32 := Scalar.addi v5 c1_i32_434
  let c2_i32_435 : BitVec 32 := 2#32
  let v532 : BitVec 32 := Scalar.remsi v531 c2_i32_435
  let c2_i32_445 : BitVec 32 := 2#32
  let v539 : BitVec 32 := Scalar.muli v532 c2_i32_445
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_436 : BitVec 32 := 0#32
  let v533 : BitVec 32 := Scalar.addi v8 c0_i32_436
  let c2_i32_437 : BitVec 32 := 2#32
  let v534 : BitVec 32 := Scalar.remsi v533 c2_i32_437
  let c1_i32_446 : BitVec 32 := 1#32
  let v541 : BitVec 32 := Scalar.muli v534 c1_i32_446
  let v542 : BitVec 32 := Scalar.addi v540 v541
  v542.toNat
def k0_mult26 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_454 : BitVec 32 := 128#32
  let v554 : BitVec 32 := Scalar.muli v12 c128_i32_454
  v554
def k0_dev28 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_448 : BitVec 32 := 1#32
  let v548 : BitVec 32 := Scalar.addi v2 c1_i32_448
  let c2_i32_449 : BitVec 32 := 2#32
  let v549 : BitVec 32 := Scalar.remsi v548 c2_i32_449
  let c4_i32_459 : BitVec 32 := 4#32
  let v556 : BitVec 32 := Scalar.muli v549 c4_i32_459
  let v557 : BitVec 32 := Scalar.addi c0_i32_460 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_450 : BitVec 32 := 1#32
  let v550 : BitVec 32 := Scalar.addi v5 c1_i32_450
  let c2_i32_451 : BitVec 32 := 2#32
  let v551 : BitVec 32 := Scalar.remsi v550 c2_i32_451
  let c2_i32_461 : BitVec 32 := 2#32
  let v558 : BitVec 32 := Scalar.muli v551 c2_i32_461
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v552 : BitVec 32 := Scalar.addi v8 c1_i32_452
  let c2_i32_453 : BitVec 32 := 2#32
  let v553 : BitVec 32 := Scalar.remsi v552 c2_i32_453
  let c1_i32_462 : BitVec 32 := 1#32
  let v560 : BitVec 32 := Scalar.muli v553 c1_i32_462
  let v561 : BitVec 32 := Scalar.addi v559 v560
  v561.toNat
def k0_mult27 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_470 : BitVec 32 := 512#32
  let v573 : BitVec 32 := Scalar.muli v12 c512_i32_470
  v573
def k0_dev29 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_464 : BitVec 32 := 0#32
  let v567 : BitVec 32 := Scalar.addi v2 c0_i32_464
  let c2_i32_465 : BitVec 32 := 2#32
  let v568 : BitVec 32 := Scalar.remsi v567 c2_i32_465
  let c4_i32_475 : BitVec 32 := 4#32
  let v575 : BitVec 32 := Scalar.muli v568 c4_i32_475
  let v576 : BitVec 32 := Scalar.addi c0_i32_476 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_466 : BitVec 32 := 0#32
  let v569 : BitVec 32 := Scalar.addi v5 c0_i32_466
  let c2_i32_467 : BitVec 32 := 2#32
  let v570 : BitVec 32 := Scalar.remsi v569 c2_i32_467
  let c2_i32_477 : BitVec 32 := 2#32
  let v577 : BitVec 32 := Scalar.muli v570 c2_i32_477
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v571 : BitVec 32 := Scalar.addi v8 c1_i32_468
  let c2_i32_469 : BitVec 32 := 2#32
  let v572 : BitVec 32 := Scalar.remsi v571 c2_i32_469
  let c1_i32_478 : BitVec 32 := 1#32
  let v579 : BitVec 32 := Scalar.muli v572 c1_i32_478
  let v580 : BitVec 32 := Scalar.addi v578 v579
  v580.toNat
def k0_mult28 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_486 : BitVec 32 := 512#32
  let v592 : BitVec 32 := Scalar.muli v12 c512_i32_486
  v592
def k0_dev30 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_480 : BitVec 32 := 0#32
  let v586 : BitVec 32 := Scalar.addi v2 c0_i32_480
  let c2_i32_481 : BitVec 32 := 2#32
  let v587 : BitVec 32 := Scalar.remsi v586 c2_i32_481
  let c4_i32_491 : BitVec 32 := 4#32
  let v594 : BitVec 32 := Scalar.muli v587 c4_i32_491
  let v595 : BitVec 32 := Scalar.addi c0_i32_492 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_482 : BitVec 32 := 1#32
  let v588 : BitVec 32 := Scalar.addi v5 c1_i32_482
  let c2_i32_483 : BitVec 32 := 2#32
  let v589 : BitVec 32 := Scalar.remsi v588 c2_i32_483
  let c2_i32_493 : BitVec 32 := 2#32
  let v596 : BitVec 32 := Scalar.muli v589 c2_i32_493
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_484 : BitVec 32 := 0#32
  let v590 : BitVec 32 := Scalar.addi v8 c0_i32_484
  let c2_i32_485 : BitVec 32 := 2#32
  let v591 : BitVec 32 := Scalar.remsi v590 c2_i32_485
  let c1_i32_494 : BitVec 32 := 1#32
  let v598 : BitVec 32 := Scalar.muli v591 c1_i32_494
  let v599 : BitVec 32 := Scalar.addi v597 v598
  v599.toNat
def k0_mult29 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_502 : BitVec 32 := 512#32
  let v611 : BitVec 32 := Scalar.muli v12 c512_i32_502
  v611
def k0_dev31 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_496 : BitVec 32 := 0#32
  let v605 : BitVec 32 := Scalar.addi v2 c0_i32_496
  let c2_i32_497 : BitVec 32 := 2#32
  let v606 : BitVec 32 := Scalar.remsi v605 c2_i32_497
  let c4_i32_507 : BitVec 32 := 4#32
  let v613 : BitVec 32 := Scalar.muli v606 c4_i32_507
  let v614 : BitVec 32 := Scalar.addi c0_i32_508 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_498 : BitVec 32 := 1#32
  let v607 : BitVec 32 := Scalar.addi v5 c1_i32_498
  let c2_i32_499 : BitVec 32 := 2#32
  let v608 : BitVec 32 := Scalar.remsi v607 c2_i32_499
  let c2_i32_509 : BitVec 32 := 2#32
  let v615 : BitVec 32 := Scalar.muli v608 c2_i32_509
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_500 : BitVec 32 := 1#32
  let v609 : BitVec 32 := Scalar.addi v8 c1_i32_500
  let c2_i32_501 : BitVec 32 := 2#32
  let v610 : BitVec 32 := Scalar.remsi v609 c2_i32_501
  let c1_i32_510 : BitVec 32 := 1#32
  let v617 : BitVec 32 := Scalar.muli v610 c1_i32_510
  let v618 : BitVec 32 := Scalar.addi v616 v617
  v618.toNat
def k0_mult30 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_518 : BitVec 32 := 512#32
  let v630 : BitVec 32 := Scalar.muli v12 c512_i32_518
  v630
def k0_dev32 (d0 : Dev nD) : Nat :=
  let c0_i32_524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_512 : BitVec 32 := 1#32
  let v624 : BitVec 32 := Scalar.addi v2 c1_i32_512
  let c2_i32_513 : BitVec 32 := 2#32
  let v625 : BitVec 32 := Scalar.remsi v624 c2_i32_513
  let c4_i32_523 : BitVec 32 := 4#32
  let v632 : BitVec 32 := Scalar.muli v625 c4_i32_523
  let v633 : BitVec 32 := Scalar.addi c0_i32_524 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_514 : BitVec 32 := 0#32
  let v626 : BitVec 32 := Scalar.addi v5 c0_i32_514
  let c2_i32_515 : BitVec 32 := 2#32
  let v627 : BitVec 32 := Scalar.remsi v626 c2_i32_515
  let c2_i32_525 : BitVec 32 := 2#32
  let v634 : BitVec 32 := Scalar.muli v627 c2_i32_525
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_516 : BitVec 32 := 0#32
  let v628 : BitVec 32 := Scalar.addi v8 c0_i32_516
  let c2_i32_517 : BitVec 32 := 2#32
  let v629 : BitVec 32 := Scalar.remsi v628 c2_i32_517
  let c1_i32_526 : BitVec 32 := 1#32
  let v636 : BitVec 32 := Scalar.muli v629 c1_i32_526
  let v637 : BitVec 32 := Scalar.addi v635 v636
  v637.toNat
def k0_mult31 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_534 : BitVec 32 := 512#32
  let v649 : BitVec 32 := Scalar.muli v12 c512_i32_534
  v649
def k0_dev33 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v643 : BitVec 32 := Scalar.addi v2 c1_i32_528
  let c2_i32_529 : BitVec 32 := 2#32
  let v644 : BitVec 32 := Scalar.remsi v643 c2_i32_529
  let c4_i32_539 : BitVec 32 := 4#32
  let v651 : BitVec 32 := Scalar.muli v644 c4_i32_539
  let v652 : BitVec 32 := Scalar.addi c0_i32_540 v651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v645 : BitVec 32 := Scalar.addi v5 c0_i32_530
  let c2_i32_531 : BitVec 32 := 2#32
  let v646 : BitVec 32 := Scalar.remsi v645 c2_i32_531
  let c2_i32_541 : BitVec 32 := 2#32
  let v653 : BitVec 32 := Scalar.muli v646 c2_i32_541
  let v654 : BitVec 32 := Scalar.addi v652 v653
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v647 : BitVec 32 := Scalar.addi v8 c1_i32_532
  let c2_i32_533 : BitVec 32 := 2#32
  let v648 : BitVec 32 := Scalar.remsi v647 c2_i32_533
  let c1_i32_542 : BitVec 32 := 1#32
  let v655 : BitVec 32 := Scalar.muli v648 c1_i32_542
  let v656 : BitVec 32 := Scalar.addi v654 v655
  v656.toNat
def k0_mult32 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_550 : BitVec 32 := 512#32
  let v668 : BitVec 32 := Scalar.muli v12 c512_i32_550
  v668
def k0_dev34 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_544 : BitVec 32 := 1#32
  let v662 : BitVec 32 := Scalar.addi v2 c1_i32_544
  let c2_i32_545 : BitVec 32 := 2#32
  let v663 : BitVec 32 := Scalar.remsi v662 c2_i32_545
  let c4_i32_555 : BitVec 32 := 4#32
  let v670 : BitVec 32 := Scalar.muli v663 c4_i32_555
  let v671 : BitVec 32 := Scalar.addi c0_i32_556 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_546 : BitVec 32 := 1#32
  let v664 : BitVec 32 := Scalar.addi v5 c1_i32_546
  let c2_i32_547 : BitVec 32 := 2#32
  let v665 : BitVec 32 := Scalar.remsi v664 c2_i32_547
  let c2_i32_557 : BitVec 32 := 2#32
  let v672 : BitVec 32 := Scalar.muli v665 c2_i32_557
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_548 : BitVec 32 := 0#32
  let v666 : BitVec 32 := Scalar.addi v8 c0_i32_548
  let c2_i32_549 : BitVec 32 := 2#32
  let v667 : BitVec 32 := Scalar.remsi v666 c2_i32_549
  let c1_i32_558 : BitVec 32 := 1#32
  let v674 : BitVec 32 := Scalar.muli v667 c1_i32_558
  let v675 : BitVec 32 := Scalar.addi v673 v674
  v675.toNat
def k0_mult33 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_566 : BitVec 32 := 512#32
  let v687 : BitVec 32 := Scalar.muli v12 c512_i32_566
  v687
def k0_dev35 (d0 : Dev nD) : Nat :=
  let c0_i32_572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_560 : BitVec 32 := 1#32
  let v681 : BitVec 32 := Scalar.addi v2 c1_i32_560
  let c2_i32_561 : BitVec 32 := 2#32
  let v682 : BitVec 32 := Scalar.remsi v681 c2_i32_561
  let c4_i32_571 : BitVec 32 := 4#32
  let v689 : BitVec 32 := Scalar.muli v682 c4_i32_571
  let v690 : BitVec 32 := Scalar.addi c0_i32_572 v689
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_562 : BitVec 32 := 1#32
  let v683 : BitVec 32 := Scalar.addi v5 c1_i32_562
  let c2_i32_563 : BitVec 32 := 2#32
  let v684 : BitVec 32 := Scalar.remsi v683 c2_i32_563
  let c2_i32_573 : BitVec 32 := 2#32
  let v691 : BitVec 32 := Scalar.muli v684 c2_i32_573
  let v692 : BitVec 32 := Scalar.addi v690 v691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_564 : BitVec 32 := 1#32
  let v685 : BitVec 32 := Scalar.addi v8 c1_i32_564
  let c2_i32_565 : BitVec 32 := 2#32
  let v686 : BitVec 32 := Scalar.remsi v685 c2_i32_565
  let c1_i32_574 : BitVec 32 := 1#32
  let v693 : BitVec 32 := Scalar.muli v686 c1_i32_574
  let v694 : BitVec 32 := Scalar.addi v692 v693
  v694.toNat
def k0_mult34 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_582 : BitVec 32 := 512#32
  let v706 : BitVec 32 := Scalar.muli v12 c512_i32_582
  v706
def k0_dev36 (d0 : Dev nD) : Nat :=
  let c0_i32_588 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_576 : BitVec 32 := 0#32
  let v700 : BitVec 32 := Scalar.addi v2 c0_i32_576
  let c2_i32_577 : BitVec 32 := 2#32
  let v701 : BitVec 32 := Scalar.remsi v700 c2_i32_577
  let c4_i32_587 : BitVec 32 := 4#32
  let v708 : BitVec 32 := Scalar.muli v701 c4_i32_587
  let v709 : BitVec 32 := Scalar.addi c0_i32_588 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_578 : BitVec 32 := 0#32
  let v702 : BitVec 32 := Scalar.addi v5 c0_i32_578
  let c2_i32_579 : BitVec 32 := 2#32
  let v703 : BitVec 32 := Scalar.remsi v702 c2_i32_579
  let c2_i32_589 : BitVec 32 := 2#32
  let v710 : BitVec 32 := Scalar.muli v703 c2_i32_589
  let v711 : BitVec 32 := Scalar.addi v709 v710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v704 : BitVec 32 := Scalar.addi v8 c1_i32_580
  let c2_i32_581 : BitVec 32 := 2#32
  let v705 : BitVec 32 := Scalar.remsi v704 c2_i32_581
  let c1_i32_590 : BitVec 32 := 1#32
  let v712 : BitVec 32 := Scalar.muli v705 c1_i32_590
  let v713 : BitVec 32 := Scalar.addi v711 v712
  v713.toNat
def k0_mult35 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_598 : BitVec 32 := 512#32
  let v725 : BitVec 32 := Scalar.muli v12 c512_i32_598
  v725
def k0_dev37 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_592 : BitVec 32 := 0#32
  let v719 : BitVec 32 := Scalar.addi v2 c0_i32_592
  let c2_i32_593 : BitVec 32 := 2#32
  let v720 : BitVec 32 := Scalar.remsi v719 c2_i32_593
  let c4_i32_603 : BitVec 32 := 4#32
  let v727 : BitVec 32 := Scalar.muli v720 c4_i32_603
  let v728 : BitVec 32 := Scalar.addi c0_i32_604 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_594 : BitVec 32 := 1#32
  let v721 : BitVec 32 := Scalar.addi v5 c1_i32_594
  let c2_i32_595 : BitVec 32 := 2#32
  let v722 : BitVec 32 := Scalar.remsi v721 c2_i32_595
  let c2_i32_605 : BitVec 32 := 2#32
  let v729 : BitVec 32 := Scalar.muli v722 c2_i32_605
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_596 : BitVec 32 := 0#32
  let v723 : BitVec 32 := Scalar.addi v8 c0_i32_596
  let c2_i32_597 : BitVec 32 := 2#32
  let v724 : BitVec 32 := Scalar.remsi v723 c2_i32_597
  let c1_i32_606 : BitVec 32 := 1#32
  let v731 : BitVec 32 := Scalar.muli v724 c1_i32_606
  let v732 : BitVec 32 := Scalar.addi v730 v731
  v732.toNat
def k0_mult36 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_614 : BitVec 32 := 512#32
  let v744 : BitVec 32 := Scalar.muli v12 c512_i32_614
  v744
def k0_dev38 (d0 : Dev nD) : Nat :=
  let c0_i32_620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v738 : BitVec 32 := Scalar.addi v2 c0_i32_608
  let c2_i32_609 : BitVec 32 := 2#32
  let v739 : BitVec 32 := Scalar.remsi v738 c2_i32_609
  let c4_i32_619 : BitVec 32 := 4#32
  let v746 : BitVec 32 := Scalar.muli v739 c4_i32_619
  let v747 : BitVec 32 := Scalar.addi c0_i32_620 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v740 : BitVec 32 := Scalar.addi v5 c1_i32_610
  let c2_i32_611 : BitVec 32 := 2#32
  let v741 : BitVec 32 := Scalar.remsi v740 c2_i32_611
  let c2_i32_621 : BitVec 32 := 2#32
  let v748 : BitVec 32 := Scalar.muli v741 c2_i32_621
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_612 : BitVec 32 := 1#32
  let v742 : BitVec 32 := Scalar.addi v8 c1_i32_612
  let c2_i32_613 : BitVec 32 := 2#32
  let v743 : BitVec 32 := Scalar.remsi v742 c2_i32_613
  let c1_i32_622 : BitVec 32 := 1#32
  let v750 : BitVec 32 := Scalar.muli v743 c1_i32_622
  let v751 : BitVec 32 := Scalar.addi v749 v750
  v751.toNat
def k0_mult37 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_630 : BitVec 32 := 512#32
  let v763 : BitVec 32 := Scalar.muli v12 c512_i32_630
  v763
def k0_dev39 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_624 : BitVec 32 := 1#32
  let v757 : BitVec 32 := Scalar.addi v2 c1_i32_624
  let c2_i32_625 : BitVec 32 := 2#32
  let v758 : BitVec 32 := Scalar.remsi v757 c2_i32_625
  let c4_i32_635 : BitVec 32 := 4#32
  let v765 : BitVec 32 := Scalar.muli v758 c4_i32_635
  let v766 : BitVec 32 := Scalar.addi c0_i32_636 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_626 : BitVec 32 := 0#32
  let v759 : BitVec 32 := Scalar.addi v5 c0_i32_626
  let c2_i32_627 : BitVec 32 := 2#32
  let v760 : BitVec 32 := Scalar.remsi v759 c2_i32_627
  let c2_i32_637 : BitVec 32 := 2#32
  let v767 : BitVec 32 := Scalar.muli v760 c2_i32_637
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_628 : BitVec 32 := 0#32
  let v761 : BitVec 32 := Scalar.addi v8 c0_i32_628
  let c2_i32_629 : BitVec 32 := 2#32
  let v762 : BitVec 32 := Scalar.remsi v761 c2_i32_629
  let c1_i32_638 : BitVec 32 := 1#32
  let v769 : BitVec 32 := Scalar.muli v762 c1_i32_638
  let v770 : BitVec 32 := Scalar.addi v768 v769
  v770.toNat
def k0_mult38 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_646 : BitVec 32 := 512#32
  let v782 : BitVec 32 := Scalar.muli v12 c512_i32_646
  v782
def k0_dev40 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_640 : BitVec 32 := 1#32
  let v776 : BitVec 32 := Scalar.addi v2 c1_i32_640
  let c2_i32_641 : BitVec 32 := 2#32
  let v777 : BitVec 32 := Scalar.remsi v776 c2_i32_641
  let c4_i32_651 : BitVec 32 := 4#32
  let v784 : BitVec 32 := Scalar.muli v777 c4_i32_651
  let v785 : BitVec 32 := Scalar.addi c0_i32_652 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_642 : BitVec 32 := 0#32
  let v778 : BitVec 32 := Scalar.addi v5 c0_i32_642
  let c2_i32_643 : BitVec 32 := 2#32
  let v779 : BitVec 32 := Scalar.remsi v778 c2_i32_643
  let c2_i32_653 : BitVec 32 := 2#32
  let v786 : BitVec 32 := Scalar.muli v779 c2_i32_653
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_644 : BitVec 32 := 1#32
  let v780 : BitVec 32 := Scalar.addi v8 c1_i32_644
  let c2_i32_645 : BitVec 32 := 2#32
  let v781 : BitVec 32 := Scalar.remsi v780 c2_i32_645
  let c1_i32_654 : BitVec 32 := 1#32
  let v788 : BitVec 32 := Scalar.muli v781 c1_i32_654
  let v789 : BitVec 32 := Scalar.addi v787 v788
  v789.toNat
def k0_mult39 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_662 : BitVec 32 := 512#32
  let v801 : BitVec 32 := Scalar.muli v12 c512_i32_662
  v801
def k0_dev41 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_656 : BitVec 32 := 1#32
  let v795 : BitVec 32 := Scalar.addi v2 c1_i32_656
  let c2_i32_657 : BitVec 32 := 2#32
  let v796 : BitVec 32 := Scalar.remsi v795 c2_i32_657
  let c4_i32_667 : BitVec 32 := 4#32
  let v803 : BitVec 32 := Scalar.muli v796 c4_i32_667
  let v804 : BitVec 32 := Scalar.addi c0_i32_668 v803
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_658 : BitVec 32 := 1#32
  let v797 : BitVec 32 := Scalar.addi v5 c1_i32_658
  let c2_i32_659 : BitVec 32 := 2#32
  let v798 : BitVec 32 := Scalar.remsi v797 c2_i32_659
  let c2_i32_669 : BitVec 32 := 2#32
  let v805 : BitVec 32 := Scalar.muli v798 c2_i32_669
  let v806 : BitVec 32 := Scalar.addi v804 v805
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_660 : BitVec 32 := 0#32
  let v799 : BitVec 32 := Scalar.addi v8 c0_i32_660
  let c2_i32_661 : BitVec 32 := 2#32
  let v800 : BitVec 32 := Scalar.remsi v799 c2_i32_661
  let c1_i32_670 : BitVec 32 := 1#32
  let v807 : BitVec 32 := Scalar.muli v800 c1_i32_670
  let v808 : BitVec 32 := Scalar.addi v806 v807
  v808.toNat
def k0_mult40 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_678 : BitVec 32 := 512#32
  let v820 : BitVec 32 := Scalar.muli v12 c512_i32_678
  v820
def k0_dev42 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_672 : BitVec 32 := 1#32
  let v814 : BitVec 32 := Scalar.addi v2 c1_i32_672
  let c2_i32_673 : BitVec 32 := 2#32
  let v815 : BitVec 32 := Scalar.remsi v814 c2_i32_673
  let c4_i32_683 : BitVec 32 := 4#32
  let v822 : BitVec 32 := Scalar.muli v815 c4_i32_683
  let v823 : BitVec 32 := Scalar.addi c0_i32_684 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_674 : BitVec 32 := 1#32
  let v816 : BitVec 32 := Scalar.addi v5 c1_i32_674
  let c2_i32_675 : BitVec 32 := 2#32
  let v817 : BitVec 32 := Scalar.remsi v816 c2_i32_675
  let c2_i32_685 : BitVec 32 := 2#32
  let v824 : BitVec 32 := Scalar.muli v817 c2_i32_685
  let v825 : BitVec 32 := Scalar.addi v823 v824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_676 : BitVec 32 := 1#32
  let v818 : BitVec 32 := Scalar.addi v8 c1_i32_676
  let c2_i32_677 : BitVec 32 := 2#32
  let v819 : BitVec 32 := Scalar.remsi v818 c2_i32_677
  let c1_i32_686 : BitVec 32 := 1#32
  let v826 : BitVec 32 := Scalar.muli v819 c1_i32_686
  let v827 : BitVec 32 := Scalar.addi v825 v826
  v827.toNat
-- ==== GatherIdeal.lean ====
abbrev S1024x1408 : Shape := ⟨2, ![1024, 1408]⟩
abbrev S128x1024 : Shape := ⟨2, ![128, 1024]⟩
abbrev S256x1024 : Shape := ⟨2, ![256, 1024]⟩
abbrev S1024x512 : Shape := ⟨2, ![1024, 512]⟩
abbrev S512x1024 : Shape := ⟨2, ![512, 1024]⟩
abbrev S8x1024x1408 : Shape := ⟨3, ![8, 1024, 1408]⟩
abbrev S1024x1024 : Shape := ⟨2, ![1024, 1024]⟩
abbrev S2048x1024 : Shape := ⟨2, ![2048, 1024]⟩
abbrev S1024x4096 : Shape := ⟨2, ![1024, 4096]⟩
abbrev S4096x1024 : Shape := ⟨2, ![4096, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x1408, .bf16⟩
  | .hbm, ⟨1, _⟩ => ⟨S128x1024, .bf16⟩
  | .hbm, ⟨2, _⟩ => ⟨S256x1024, .bf16⟩
  | .hbm, ⟨3, _⟩ => ⟨S128x1024, .bf16⟩
  | .hbm, ⟨4, _⟩ => ⟨S1024x512, .bf16⟩
  | .hbm, ⟨5, _⟩ => ⟨S512x1024, .bf16⟩
  | .hbm, ⟨6, _⟩ => ⟨S8x1024x1408, .bf16⟩
  | .hbm, ⟨7, _⟩ => ⟨S1024x1024, .bf16⟩
  | .hbm, ⟨8, _⟩ => ⟨S2048x1024, .bf16⟩
  | .hbm, ⟨9, _⟩ => ⟨S1024x1024, .bf16⟩
  | .hbm, ⟨10, _⟩ => ⟨S1024x4096, .bf16⟩
  | .hbm, ⟨11, _⟩ => ⟨S4096x1024, .bf16⟩
  | _, _ => ⟨S1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v17 : BitVec 32 := Scalar.muli v12 c128_i32
  v17
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v17 : BitVec 32 := Scalar.muli v12 c128_i32
  let v18 : BitVec 32 := v17
  let c0_i32_8 : BitVec 32 := 0#32
  ![v18.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v22 : BitVec 32 := Scalar.muli v12 c256_i32
  v22
def k0_off3 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32 : BitVec 32 := 256#32
  let v22 : BitVec 32 := Scalar.muli v12 c256_i32
  let v23 : BitVec 32 := v22
  let c0_i32_10 : BitVec 32 := 0#32
  ![v23.toNat, 0]
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_11 : BitVec 32 := 128#32
  let v27 : BitVec 32 := Scalar.muli v12 c128_i32_11
  v27
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v32 : BitVec 32 := Scalar.muli v12 c512_i32
  v32
def k0_off4 (d0 : Dev nD) : Fin 2 → Nat :=
  let c0_i32_14 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32 : BitVec 32 := 512#32
  let v32 : BitVec 32 := Scalar.muli v12 c512_i32
  let v33 : BitVec 32 := v32
  ![0, v33.toNat]
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_15 : BitVec 32 := 512#32
  let v37 : BitVec 32 := Scalar.muli v12 c512_i32_15
  v37
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_15 : BitVec 32 := 512#32
  let v37 : BitVec 32 := Scalar.muli v12 c512_i32_15
  let v38 : BitVec 32 := v37
  let c0_i32_16 : BitVec 32 := 0#32
  ![v38.toNat, 0]
def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_17 : BitVec 32 := 0#32
  let v42 : BitVec 32 := Scalar.addi v2 c0_i32_17
  let c2_i32_18 : BitVec 32 := 2#32
  let v43 : BitVec 32 := Scalar.remsi v42 c2_i32_18
  let c4_i32_27 : BitVec 32 := 4#32
  let v48 : BitVec 32 := Scalar.muli v43 c4_i32_27
  let v49 : BitVec 32 := Scalar.addi c0_i32_28 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_19 : BitVec 32 := 0#32
  let v44 : BitVec 32 := Scalar.addi v5 c0_i32_19
  let c2_i32_20 : BitVec 32 := 2#32
  let v45 : BitVec 32 := Scalar.remsi v44 c2_i32_20
  let c2_i32_29 : BitVec 32 := 2#32
  let v50 : BitVec 32 := Scalar.muli v45 c2_i32_29
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v46 : BitVec 32 := Scalar.addi v8 c1_i32_21
  let c2_i32_22 : BitVec 32 := 2#32
  let v47 : BitVec 32 := Scalar.remsi v46 c2_i32_22
  let c1_i32_30 : BitVec 32 := 1#32
  let v52 : BitVec 32 := Scalar.muli v47 c1_i32_30
  let v53 : BitVec 32 := Scalar.addi v51 v52
  v53.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v60 : BitVec 32 := Scalar.addi v2 c0_i32_33
  let c2_i32_34 : BitVec 32 := 2#32
  let v61 : BitVec 32 := Scalar.remsi v60 c2_i32_34
  let c4_i32_43 : BitVec 32 := 4#32
  let v66 : BitVec 32 := Scalar.muli v61 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v62 : BitVec 32 := Scalar.addi v5 c1_i32_35
  let c2_i32_36 : BitVec 32 := 2#32
  let v63 : BitVec 32 := Scalar.remsi v62 c2_i32_36
  let c2_i32_45 : BitVec 32 := 2#32
  let v68 : BitVec 32 := Scalar.muli v63 c2_i32_45
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_37 : BitVec 32 := 0#32
  let v64 : BitVec 32 := Scalar.addi v8 c0_i32_37
  let c2_i32_38 : BitVec 32 := 2#32
  let v65 : BitVec 32 := Scalar.remsi v64 c2_i32_38
  let c1_i32_46 : BitVec 32 := 1#32
  let v70 : BitVec 32 := Scalar.muli v65 c1_i32_46
  let v71 : BitVec 32 := Scalar.addi v69 v70
  v71.toNat
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_49 : BitVec 32 := 0#32
  let v78 : BitVec 32 := Scalar.addi v2 c0_i32_49
  let c2_i32_50 : BitVec 32 := 2#32
  let v79 : BitVec 32 := Scalar.remsi v78 c2_i32_50
  let c4_i32_59 : BitVec 32 := 4#32
  let v84 : BitVec 32 := Scalar.muli v79 c4_i32_59
  let v85 : BitVec 32 := Scalar.addi c0_i32_60 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v80 : BitVec 32 := Scalar.addi v5 c1_i32_51
  let c2_i32_52 : BitVec 32 := 2#32
  let v81 : BitVec 32 := Scalar.remsi v80 c2_i32_52
  let c2_i32_61 : BitVec 32 := 2#32
  let v86 : BitVec 32 := Scalar.muli v81 c2_i32_61
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v82 : BitVec 32 := Scalar.addi v8 c1_i32_53
  let c2_i32_54 : BitVec 32 := 2#32
  let v83 : BitVec 32 := Scalar.remsi v82 c2_i32_54
  let c1_i32_62 : BitVec 32 := 1#32
  let v88 : BitVec 32 := Scalar.muli v83 c1_i32_62
  let v89 : BitVec 32 := Scalar.addi v87 v88
  v89.toNat
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_65 : BitVec 32 := 1#32
  let v96 : BitVec 32 := Scalar.addi v2 c1_i32_65
  let c2_i32_66 : BitVec 32 := 2#32
  let v97 : BitVec 32 := Scalar.remsi v96 c2_i32_66
  let c4_i32_75 : BitVec 32 := 4#32
  let v102 : BitVec 32 := Scalar.muli v97 c4_i32_75
  let v103 : BitVec 32 := Scalar.addi c0_i32_76 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_67 : BitVec 32 := 0#32
  let v98 : BitVec 32 := Scalar.addi v5 c0_i32_67
  let c2_i32_68 : BitVec 32 := 2#32
  let v99 : BitVec 32 := Scalar.remsi v98 c2_i32_68
  let c2_i32_77 : BitVec 32 := 2#32
  let v104 : BitVec 32 := Scalar.muli v99 c2_i32_77
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let v100 : BitVec 32 := Scalar.addi v8 c0_i32_69
  let c2_i32_70 : BitVec 32 := 2#32
  let v101 : BitVec 32 := Scalar.remsi v100 c2_i32_70
  let c1_i32_78 : BitVec 32 := 1#32
  let v106 : BitVec 32 := Scalar.muli v101 c1_i32_78
  let v107 : BitVec 32 := Scalar.addi v105 v106
  v107.toNat
def k0_dev5 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_81 : BitVec 32 := 1#32
  let v114 : BitVec 32 := Scalar.addi v2 c1_i32_81
  let c2_i32_82 : BitVec 32 := 2#32
  let v115 : BitVec 32 := Scalar.remsi v114 c2_i32_82
  let c4_i32_91 : BitVec 32 := 4#32
  let v120 : BitVec 32 := Scalar.muli v115 c4_i32_91
  let v121 : BitVec 32 := Scalar.addi c0_i32_92 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_83 : BitVec 32 := 0#32
  let v116 : BitVec 32 := Scalar.addi v5 c0_i32_83
  let c2_i32_84 : BitVec 32 := 2#32
  let v117 : BitVec 32 := Scalar.remsi v116 c2_i32_84
  let c2_i32_93 : BitVec 32 := 2#32
  let v122 : BitVec 32 := Scalar.muli v117 c2_i32_93
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v118 : BitVec 32 := Scalar.addi v8 c1_i32_85
  let c2_i32_86 : BitVec 32 := 2#32
  let v119 : BitVec 32 := Scalar.remsi v118 c2_i32_86
  let c1_i32_94 : BitVec 32 := 1#32
  let v124 : BitVec 32 := Scalar.muli v119 c1_i32_94
  let v125 : BitVec 32 := Scalar.addi v123 v124
  v125.toNat
def k0_dev6 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_97 : BitVec 32 := 1#32
  let v132 : BitVec 32 := Scalar.addi v2 c1_i32_97
  let c2_i32_98 : BitVec 32 := 2#32
  let v133 : BitVec 32 := Scalar.remsi v132 c2_i32_98
  let c4_i32_107 : BitVec 32 := 4#32
  let v138 : BitVec 32 := Scalar.muli v133 c4_i32_107
  let v139 : BitVec 32 := Scalar.addi c0_i32_108 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_99 : BitVec 32 := 1#32
  let v134 : BitVec 32 := Scalar.addi v5 c1_i32_99
  let c2_i32_100 : BitVec 32 := 2#32
  let v135 : BitVec 32 := Scalar.remsi v134 c2_i32_100
  let c2_i32_109 : BitVec 32 := 2#32
  let v140 : BitVec 32 := Scalar.muli v135 c2_i32_109
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_101 : BitVec 32 := 0#32
  let v136 : BitVec 32 := Scalar.addi v8 c0_i32_101
  let c2_i32_102 : BitVec 32 := 2#32
  let v137 : BitVec 32 := Scalar.remsi v136 c2_i32_102
  let c1_i32_110 : BitVec 32 := 1#32
  let v142 : BitVec 32 := Scalar.muli v137 c1_i32_110
  let v143 : BitVec 32 := Scalar.addi v141 v142
  v143.toNat
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_113 : BitVec 32 := 1#32
  let v150 : BitVec 32 := Scalar.addi v2 c1_i32_113
  let c2_i32_114 : BitVec 32 := 2#32
  let v151 : BitVec 32 := Scalar.remsi v150 c2_i32_114
  let c4_i32_122 : BitVec 32 := 4#32
  let v156 : BitVec 32 := Scalar.muli v151 c4_i32_122
  let v157 : BitVec 32 := Scalar.addi c0_i32_123 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_115 : BitVec 32 := 1#32
  let v152 : BitVec 32 := Scalar.addi v5 c1_i32_115
  let c2_i32_116 : BitVec 32 := 2#32
  let v153 : BitVec 32 := Scalar.remsi v152 c2_i32_116
  let c2_i32_124 : BitVec 32 := 2#32
  let v158 : BitVec 32 := Scalar.muli v153 c2_i32_124
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v154 : BitVec 32 := Scalar.addi v8 c1_i32_117
  let c2_i32_118 : BitVec 32 := 2#32
  let v155 : BitVec 32 := Scalar.remsi v154 c2_i32_118
  let c1_i32_125 : BitVec 32 := 1#32
  let v160 : BitVec 32 := Scalar.muli v155 c1_i32_125
  let v161 : BitVec 32 := Scalar.addi v159 v160
  v161.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_134 : BitVec 32 := 128#32
  let v174 : BitVec 32 := Scalar.muli v12 c128_i32_134
  v174
def k0_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_128 : BitVec 32 := 0#32
  let v168 : BitVec 32 := Scalar.addi v2 c0_i32_128
  let c2_i32_129 : BitVec 32 := 2#32
  let v169 : BitVec 32 := Scalar.remsi v168 c2_i32_129
  let c4_i32_139 : BitVec 32 := 4#32
  let v176 : BitVec 32 := Scalar.muli v169 c4_i32_139
  let v177 : BitVec 32 := Scalar.addi c0_i32_140 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_130 : BitVec 32 := 0#32
  let v170 : BitVec 32 := Scalar.addi v5 c0_i32_130
  let c2_i32_131 : BitVec 32 := 2#32
  let v171 : BitVec 32 := Scalar.remsi v170 c2_i32_131
  let c2_i32_141 : BitVec 32 := 2#32
  let v178 : BitVec 32 := Scalar.muli v171 c2_i32_141
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v172 : BitVec 32 := Scalar.addi v8 c1_i32_132
  let c2_i32_133 : BitVec 32 := 2#32
  let v173 : BitVec 32 := Scalar.remsi v172 c2_i32_133
  let c1_i32_142 : BitVec 32 := 1#32
  let v180 : BitVec 32 := Scalar.muli v173 c1_i32_142
  let v181 : BitVec 32 := Scalar.addi v179 v180
  v181.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_150 : BitVec 32 := 128#32
  let v193 : BitVec 32 := Scalar.muli v12 c128_i32_150
  v193
def k0_dev9 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_144 : BitVec 32 := 0#32
  let v187 : BitVec 32 := Scalar.addi v2 c0_i32_144
  let c2_i32_145 : BitVec 32 := 2#32
  let v188 : BitVec 32 := Scalar.remsi v187 c2_i32_145
  let c4_i32_155 : BitVec 32 := 4#32
  let v195 : BitVec 32 := Scalar.muli v188 c4_i32_155
  let v196 : BitVec 32 := Scalar.addi c0_i32_156 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_146 : BitVec 32 := 1#32
  let v189 : BitVec 32 := Scalar.addi v5 c1_i32_146
  let c2_i32_147 : BitVec 32 := 2#32
  let v190 : BitVec 32 := Scalar.remsi v189 c2_i32_147
  let c2_i32_157 : BitVec 32 := 2#32
  let v197 : BitVec 32 := Scalar.muli v190 c2_i32_157
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_148 : BitVec 32 := 0#32
  let v191 : BitVec 32 := Scalar.addi v8 c0_i32_148
  let c2_i32_149 : BitVec 32 := 2#32
  let v192 : BitVec 32 := Scalar.remsi v191 c2_i32_149
  let c1_i32_158 : BitVec 32 := 1#32
  let v199 : BitVec 32 := Scalar.muli v192 c1_i32_158
  let v200 : BitVec 32 := Scalar.addi v198 v199
  v200.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_166 : BitVec 32 := 128#32
  let v212 : BitVec 32 := Scalar.muli v12 c128_i32_166
  v212
def k0_dev10 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_160 : BitVec 32 := 0#32
  let v206 : BitVec 32 := Scalar.addi v2 c0_i32_160
  let c2_i32_161 : BitVec 32 := 2#32
  let v207 : BitVec 32 := Scalar.remsi v206 c2_i32_161
  let c4_i32_171 : BitVec 32 := 4#32
  let v214 : BitVec 32 := Scalar.muli v207 c4_i32_171
  let v215 : BitVec 32 := Scalar.addi c0_i32_172 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_162 : BitVec 32 := 1#32
  let v208 : BitVec 32 := Scalar.addi v5 c1_i32_162
  let c2_i32_163 : BitVec 32 := 2#32
  let v209 : BitVec 32 := Scalar.remsi v208 c2_i32_163
  let c2_i32_173 : BitVec 32 := 2#32
  let v216 : BitVec 32 := Scalar.muli v209 c2_i32_173
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v210 : BitVec 32 := Scalar.addi v8 c1_i32_164
  let c2_i32_165 : BitVec 32 := 2#32
  let v211 : BitVec 32 := Scalar.remsi v210 c2_i32_165
  let c1_i32_174 : BitVec 32 := 1#32
  let v218 : BitVec 32 := Scalar.muli v211 c1_i32_174
  let v219 : BitVec 32 := Scalar.addi v217 v218
  v219.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_182 : BitVec 32 := 128#32
  let v231 : BitVec 32 := Scalar.muli v12 c128_i32_182
  v231
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_176 : BitVec 32 := 1#32
  let v225 : BitVec 32 := Scalar.addi v2 c1_i32_176
  let c2_i32_177 : BitVec 32 := 2#32
  let v226 : BitVec 32 := Scalar.remsi v225 c2_i32_177
  let c4_i32_187 : BitVec 32 := 4#32
  let v233 : BitVec 32 := Scalar.muli v226 c4_i32_187
  let v234 : BitVec 32 := Scalar.addi c0_i32_188 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_178 : BitVec 32 := 0#32
  let v227 : BitVec 32 := Scalar.addi v5 c0_i32_178
  let c2_i32_179 : BitVec 32 := 2#32
  let v228 : BitVec 32 := Scalar.remsi v227 c2_i32_179
  let c2_i32_189 : BitVec 32 := 2#32
  let v235 : BitVec 32 := Scalar.muli v228 c2_i32_189
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_180 : BitVec 32 := 0#32
  let v229 : BitVec 32 := Scalar.addi v8 c0_i32_180
  let c2_i32_181 : BitVec 32 := 2#32
  let v230 : BitVec 32 := Scalar.remsi v229 c2_i32_181
  let c1_i32_190 : BitVec 32 := 1#32
  let v237 : BitVec 32 := Scalar.muli v230 c1_i32_190
  let v238 : BitVec 32 := Scalar.addi v236 v237
  v238.toNat
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_198 : BitVec 32 := 128#32
  let v250 : BitVec 32 := Scalar.muli v12 c128_i32_198
  v250
def k0_dev12 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_192 : BitVec 32 := 1#32
  let v244 : BitVec 32 := Scalar.addi v2 c1_i32_192
  let c2_i32_193 : BitVec 32 := 2#32
  let v245 : BitVec 32 := Scalar.remsi v244 c2_i32_193
  let c4_i32_203 : BitVec 32 := 4#32
  let v252 : BitVec 32 := Scalar.muli v245 c4_i32_203
  let v253 : BitVec 32 := Scalar.addi c0_i32_204 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_194 : BitVec 32 := 0#32
  let v246 : BitVec 32 := Scalar.addi v5 c0_i32_194
  let c2_i32_195 : BitVec 32 := 2#32
  let v247 : BitVec 32 := Scalar.remsi v246 c2_i32_195
  let c2_i32_205 : BitVec 32 := 2#32
  let v254 : BitVec 32 := Scalar.muli v247 c2_i32_205
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v248 : BitVec 32 := Scalar.addi v8 c1_i32_196
  let c2_i32_197 : BitVec 32 := 2#32
  let v249 : BitVec 32 := Scalar.remsi v248 c2_i32_197
  let c1_i32_206 : BitVec 32 := 1#32
  let v256 : BitVec 32 := Scalar.muli v249 c1_i32_206
  let v257 : BitVec 32 := Scalar.addi v255 v256
  v257.toNat
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_214 : BitVec 32 := 128#32
  let v269 : BitVec 32 := Scalar.muli v12 c128_i32_214
  v269
def k0_dev13 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_208 : BitVec 32 := 1#32
  let v263 : BitVec 32 := Scalar.addi v2 c1_i32_208
  let c2_i32_209 : BitVec 32 := 2#32
  let v264 : BitVec 32 := Scalar.remsi v263 c2_i32_209
  let c4_i32_219 : BitVec 32 := 4#32
  let v271 : BitVec 32 := Scalar.muli v264 c4_i32_219
  let v272 : BitVec 32 := Scalar.addi c0_i32_220 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_210 : BitVec 32 := 1#32
  let v265 : BitVec 32 := Scalar.addi v5 c1_i32_210
  let c2_i32_211 : BitVec 32 := 2#32
  let v266 : BitVec 32 := Scalar.remsi v265 c2_i32_211
  let c2_i32_221 : BitVec 32 := 2#32
  let v273 : BitVec 32 := Scalar.muli v266 c2_i32_221
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_212 : BitVec 32 := 0#32
  let v267 : BitVec 32 := Scalar.addi v8 c0_i32_212
  let c2_i32_213 : BitVec 32 := 2#32
  let v268 : BitVec 32 := Scalar.remsi v267 c2_i32_213
  let c1_i32_222 : BitVec 32 := 1#32
  let v275 : BitVec 32 := Scalar.muli v268 c1_i32_222
  let v276 : BitVec 32 := Scalar.addi v274 v275
  v276.toNat
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_230 : BitVec 32 := 128#32
  let v288 : BitVec 32 := Scalar.muli v12 c128_i32_230
  v288
def k0_dev14 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_224 : BitVec 32 := 1#32
  let v282 : BitVec 32 := Scalar.addi v2 c1_i32_224
  let c2_i32_225 : BitVec 32 := 2#32
  let v283 : BitVec 32 := Scalar.remsi v282 c2_i32_225
  let c4_i32_235 : BitVec 32 := 4#32
  let v290 : BitVec 32 := Scalar.muli v283 c4_i32_235
  let v291 : BitVec 32 := Scalar.addi c0_i32_236 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_226 : BitVec 32 := 1#32
  let v284 : BitVec 32 := Scalar.addi v5 c1_i32_226
  let c2_i32_227 : BitVec 32 := 2#32
  let v285 : BitVec 32 := Scalar.remsi v284 c2_i32_227
  let c2_i32_237 : BitVec 32 := 2#32
  let v292 : BitVec 32 := Scalar.muli v285 c2_i32_237
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v286 : BitVec 32 := Scalar.addi v8 c1_i32_228
  let c2_i32_229 : BitVec 32 := 2#32
  let v287 : BitVec 32 := Scalar.remsi v286 c2_i32_229
  let c1_i32_238 : BitVec 32 := 1#32
  let v294 : BitVec 32 := Scalar.muli v287 c1_i32_238
  let v295 : BitVec 32 := Scalar.addi v293 v294
  v295.toNat
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_246 : BitVec 32 := 256#32
  let v307 : BitVec 32 := Scalar.muli v12 c256_i32_246
  v307
def k0_dev15 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_240 : BitVec 32 := 0#32
  let v301 : BitVec 32 := Scalar.addi v2 c0_i32_240
  let c2_i32_241 : BitVec 32 := 2#32
  let v302 : BitVec 32 := Scalar.remsi v301 c2_i32_241
  let c4_i32_251 : BitVec 32 := 4#32
  let v309 : BitVec 32 := Scalar.muli v302 c4_i32_251
  let v310 : BitVec 32 := Scalar.addi c0_i32_252 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_242 : BitVec 32 := 0#32
  let v303 : BitVec 32 := Scalar.addi v5 c0_i32_242
  let c2_i32_243 : BitVec 32 := 2#32
  let v304 : BitVec 32 := Scalar.remsi v303 c2_i32_243
  let c2_i32_253 : BitVec 32 := 2#32
  let v311 : BitVec 32 := Scalar.muli v304 c2_i32_253
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v305 : BitVec 32 := Scalar.addi v8 c1_i32_244
  let c2_i32_245 : BitVec 32 := 2#32
  let v306 : BitVec 32 := Scalar.remsi v305 c2_i32_245
  let c1_i32_254 : BitVec 32 := 1#32
  let v313 : BitVec 32 := Scalar.muli v306 c1_i32_254
  let v314 : BitVec 32 := Scalar.addi v312 v313
  v314.toNat
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_262 : BitVec 32 := 256#32
  let v326 : BitVec 32 := Scalar.muli v12 c256_i32_262
  v326
def k0_dev16 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_256 : BitVec 32 := 0#32
  let v320 : BitVec 32 := Scalar.addi v2 c0_i32_256
  let c2_i32_257 : BitVec 32 := 2#32
  let v321 : BitVec 32 := Scalar.remsi v320 c2_i32_257
  let c4_i32_267 : BitVec 32 := 4#32
  let v328 : BitVec 32 := Scalar.muli v321 c4_i32_267
  let v329 : BitVec 32 := Scalar.addi c0_i32_268 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_258 : BitVec 32 := 1#32
  let v322 : BitVec 32 := Scalar.addi v5 c1_i32_258
  let c2_i32_259 : BitVec 32 := 2#32
  let v323 : BitVec 32 := Scalar.remsi v322 c2_i32_259
  let c2_i32_269 : BitVec 32 := 2#32
  let v330 : BitVec 32 := Scalar.muli v323 c2_i32_269
  let v331 : BitVec 32 := Scalar.addi v329 v330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_260 : BitVec 32 := 0#32
  let v324 : BitVec 32 := Scalar.addi v8 c0_i32_260
  let c2_i32_261 : BitVec 32 := 2#32
  let v325 : BitVec 32 := Scalar.remsi v324 c2_i32_261
  let c1_i32_270 : BitVec 32 := 1#32
  let v332 : BitVec 32 := Scalar.muli v325 c1_i32_270
  let v333 : BitVec 32 := Scalar.addi v331 v332
  v333.toNat
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_278 : BitVec 32 := 256#32
  let v345 : BitVec 32 := Scalar.muli v12 c256_i32_278
  v345
def k0_dev17 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_272 : BitVec 32 := 0#32
  let v339 : BitVec 32 := Scalar.addi v2 c0_i32_272
  let c2_i32_273 : BitVec 32 := 2#32
  let v340 : BitVec 32 := Scalar.remsi v339 c2_i32_273
  let c4_i32_283 : BitVec 32 := 4#32
  let v347 : BitVec 32 := Scalar.muli v340 c4_i32_283
  let v348 : BitVec 32 := Scalar.addi c0_i32_284 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_274 : BitVec 32 := 1#32
  let v341 : BitVec 32 := Scalar.addi v5 c1_i32_274
  let c2_i32_275 : BitVec 32 := 2#32
  let v342 : BitVec 32 := Scalar.remsi v341 c2_i32_275
  let c2_i32_285 : BitVec 32 := 2#32
  let v349 : BitVec 32 := Scalar.muli v342 c2_i32_285
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v343 : BitVec 32 := Scalar.addi v8 c1_i32_276
  let c2_i32_277 : BitVec 32 := 2#32
  let v344 : BitVec 32 := Scalar.remsi v343 c2_i32_277
  let c1_i32_286 : BitVec 32 := 1#32
  let v351 : BitVec 32 := Scalar.muli v344 c1_i32_286
  let v352 : BitVec 32 := Scalar.addi v350 v351
  v352.toNat
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_294 : BitVec 32 := 256#32
  let v364 : BitVec 32 := Scalar.muli v12 c256_i32_294
  v364
def k0_dev18 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_288 : BitVec 32 := 1#32
  let v358 : BitVec 32 := Scalar.addi v2 c1_i32_288
  let c2_i32_289 : BitVec 32 := 2#32
  let v359 : BitVec 32 := Scalar.remsi v358 c2_i32_289
  let c4_i32_299 : BitVec 32 := 4#32
  let v366 : BitVec 32 := Scalar.muli v359 c4_i32_299
  let v367 : BitVec 32 := Scalar.addi c0_i32_300 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_290 : BitVec 32 := 0#32
  let v360 : BitVec 32 := Scalar.addi v5 c0_i32_290
  let c2_i32_291 : BitVec 32 := 2#32
  let v361 : BitVec 32 := Scalar.remsi v360 c2_i32_291
  let c2_i32_301 : BitVec 32 := 2#32
  let v368 : BitVec 32 := Scalar.muli v361 c2_i32_301
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_292 : BitVec 32 := 0#32
  let v362 : BitVec 32 := Scalar.addi v8 c0_i32_292
  let c2_i32_293 : BitVec 32 := 2#32
  let v363 : BitVec 32 := Scalar.remsi v362 c2_i32_293
  let c1_i32_302 : BitVec 32 := 1#32
  let v370 : BitVec 32 := Scalar.muli v363 c1_i32_302
  let v371 : BitVec 32 := Scalar.addi v369 v370
  v371.toNat
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_310 : BitVec 32 := 256#32
  let v383 : BitVec 32 := Scalar.muli v12 c256_i32_310
  v383
def k0_dev19 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_304 : BitVec 32 := 1#32
  let v377 : BitVec 32 := Scalar.addi v2 c1_i32_304
  let c2_i32_305 : BitVec 32 := 2#32
  let v378 : BitVec 32 := Scalar.remsi v377 c2_i32_305
  let c4_i32_315 : BitVec 32 := 4#32
  let v385 : BitVec 32 := Scalar.muli v378 c4_i32_315
  let v386 : BitVec 32 := Scalar.addi c0_i32_316 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_306 : BitVec 32 := 0#32
  let v379 : BitVec 32 := Scalar.addi v5 c0_i32_306
  let c2_i32_307 : BitVec 32 := 2#32
  let v380 : BitVec 32 := Scalar.remsi v379 c2_i32_307
  let c2_i32_317 : BitVec 32 := 2#32
  let v387 : BitVec 32 := Scalar.muli v380 c2_i32_317
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v381 : BitVec 32 := Scalar.addi v8 c1_i32_308
  let c2_i32_309 : BitVec 32 := 2#32
  let v382 : BitVec 32 := Scalar.remsi v381 c2_i32_309
  let c1_i32_318 : BitVec 32 := 1#32
  let v389 : BitVec 32 := Scalar.muli v382 c1_i32_318
  let v390 : BitVec 32 := Scalar.addi v388 v389
  v390.toNat
def k0_mult18 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_326 : BitVec 32 := 256#32
  let v402 : BitVec 32 := Scalar.muli v12 c256_i32_326
  v402
def k0_dev20 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_320 : BitVec 32 := 1#32
  let v396 : BitVec 32 := Scalar.addi v2 c1_i32_320
  let c2_i32_321 : BitVec 32 := 2#32
  let v397 : BitVec 32 := Scalar.remsi v396 c2_i32_321
  let c4_i32_331 : BitVec 32 := 4#32
  let v404 : BitVec 32 := Scalar.muli v397 c4_i32_331
  let v405 : BitVec 32 := Scalar.addi c0_i32_332 v404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_322 : BitVec 32 := 1#32
  let v398 : BitVec 32 := Scalar.addi v5 c1_i32_322
  let c2_i32_323 : BitVec 32 := 2#32
  let v399 : BitVec 32 := Scalar.remsi v398 c2_i32_323
  let c2_i32_333 : BitVec 32 := 2#32
  let v406 : BitVec 32 := Scalar.muli v399 c2_i32_333
  let v407 : BitVec 32 := Scalar.addi v405 v406
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_324 : BitVec 32 := 0#32
  let v400 : BitVec 32 := Scalar.addi v8 c0_i32_324
  let c2_i32_325 : BitVec 32 := 2#32
  let v401 : BitVec 32 := Scalar.remsi v400 c2_i32_325
  let c1_i32_334 : BitVec 32 := 1#32
  let v408 : BitVec 32 := Scalar.muli v401 c1_i32_334
  let v409 : BitVec 32 := Scalar.addi v407 v408
  v409.toNat
def k0_mult19 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_342 : BitVec 32 := 256#32
  let v421 : BitVec 32 := Scalar.muli v12 c256_i32_342
  v421
def k0_dev21 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_336 : BitVec 32 := 1#32
  let v415 : BitVec 32 := Scalar.addi v2 c1_i32_336
  let c2_i32_337 : BitVec 32 := 2#32
  let v416 : BitVec 32 := Scalar.remsi v415 c2_i32_337
  let c4_i32_347 : BitVec 32 := 4#32
  let v423 : BitVec 32 := Scalar.muli v416 c4_i32_347
  let v424 : BitVec 32 := Scalar.addi c0_i32_348 v423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_338 : BitVec 32 := 1#32
  let v417 : BitVec 32 := Scalar.addi v5 c1_i32_338
  let c2_i32_339 : BitVec 32 := 2#32
  let v418 : BitVec 32 := Scalar.remsi v417 c2_i32_339
  let c2_i32_349 : BitVec 32 := 2#32
  let v425 : BitVec 32 := Scalar.muli v418 c2_i32_349
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v419 : BitVec 32 := Scalar.addi v8 c1_i32_340
  let c2_i32_341 : BitVec 32 := 2#32
  let v420 : BitVec 32 := Scalar.remsi v419 c2_i32_341
  let c1_i32_350 : BitVec 32 := 1#32
  let v427 : BitVec 32 := Scalar.muli v420 c1_i32_350
  let v428 : BitVec 32 := Scalar.addi v426 v427
  v428.toNat
def k0_mult20 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_358 : BitVec 32 := 128#32
  let v440 : BitVec 32 := Scalar.muli v12 c128_i32_358
  v440
def k0_dev22 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_352 : BitVec 32 := 0#32
  let v434 : BitVec 32 := Scalar.addi v2 c0_i32_352
  let c2_i32_353 : BitVec 32 := 2#32
  let v435 : BitVec 32 := Scalar.remsi v434 c2_i32_353
  let c4_i32_363 : BitVec 32 := 4#32
  let v442 : BitVec 32 := Scalar.muli v435 c4_i32_363
  let v443 : BitVec 32 := Scalar.addi c0_i32_364 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_354 : BitVec 32 := 0#32
  let v436 : BitVec 32 := Scalar.addi v5 c0_i32_354
  let c2_i32_355 : BitVec 32 := 2#32
  let v437 : BitVec 32 := Scalar.remsi v436 c2_i32_355
  let c2_i32_365 : BitVec 32 := 2#32
  let v444 : BitVec 32 := Scalar.muli v437 c2_i32_365
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v438 : BitVec 32 := Scalar.addi v8 c1_i32_356
  let c2_i32_357 : BitVec 32 := 2#32
  let v439 : BitVec 32 := Scalar.remsi v438 c2_i32_357
  let c1_i32_366 : BitVec 32 := 1#32
  let v446 : BitVec 32 := Scalar.muli v439 c1_i32_366
  let v447 : BitVec 32 := Scalar.addi v445 v446
  v447.toNat
def k0_mult21 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_374 : BitVec 32 := 128#32
  let v459 : BitVec 32 := Scalar.muli v12 c128_i32_374
  v459
def k0_dev23 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_368 : BitVec 32 := 0#32
  let v453 : BitVec 32 := Scalar.addi v2 c0_i32_368
  let c2_i32_369 : BitVec 32 := 2#32
  let v454 : BitVec 32 := Scalar.remsi v453 c2_i32_369
  let c4_i32_379 : BitVec 32 := 4#32
  let v461 : BitVec 32 := Scalar.muli v454 c4_i32_379
  let v462 : BitVec 32 := Scalar.addi c0_i32_380 v461
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_370 : BitVec 32 := 1#32
  let v455 : BitVec 32 := Scalar.addi v5 c1_i32_370
  let c2_i32_371 : BitVec 32 := 2#32
  let v456 : BitVec 32 := Scalar.remsi v455 c2_i32_371
  let c2_i32_381 : BitVec 32 := 2#32
  let v463 : BitVec 32 := Scalar.muli v456 c2_i32_381
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_372 : BitVec 32 := 0#32
  let v457 : BitVec 32 := Scalar.addi v8 c0_i32_372
  let c2_i32_373 : BitVec 32 := 2#32
  let v458 : BitVec 32 := Scalar.remsi v457 c2_i32_373
  let c1_i32_382 : BitVec 32 := 1#32
  let v465 : BitVec 32 := Scalar.muli v458 c1_i32_382
  let v466 : BitVec 32 := Scalar.addi v464 v465
  v466.toNat
def k0_mult22 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_390 : BitVec 32 := 128#32
  let v478 : BitVec 32 := Scalar.muli v12 c128_i32_390
  v478
def k0_dev24 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_384 : BitVec 32 := 0#32
  let v472 : BitVec 32 := Scalar.addi v2 c0_i32_384
  let c2_i32_385 : BitVec 32 := 2#32
  let v473 : BitVec 32 := Scalar.remsi v472 c2_i32_385
  let c4_i32_395 : BitVec 32 := 4#32
  let v480 : BitVec 32 := Scalar.muli v473 c4_i32_395
  let v481 : BitVec 32 := Scalar.addi c0_i32_396 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_386 : BitVec 32 := 1#32
  let v474 : BitVec 32 := Scalar.addi v5 c1_i32_386
  let c2_i32_387 : BitVec 32 := 2#32
  let v475 : BitVec 32 := Scalar.remsi v474 c2_i32_387
  let c2_i32_397 : BitVec 32 := 2#32
  let v482 : BitVec 32 := Scalar.muli v475 c2_i32_397
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v476 : BitVec 32 := Scalar.addi v8 c1_i32_388
  let c2_i32_389 : BitVec 32 := 2#32
  let v477 : BitVec 32 := Scalar.remsi v476 c2_i32_389
  let c1_i32_398 : BitVec 32 := 1#32
  let v484 : BitVec 32 := Scalar.muli v477 c1_i32_398
  let v485 : BitVec 32 := Scalar.addi v483 v484
  v485.toNat
def k0_mult23 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_406 : BitVec 32 := 128#32
  let v497 : BitVec 32 := Scalar.muli v12 c128_i32_406
  v497
def k0_dev25 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_400 : BitVec 32 := 1#32
  let v491 : BitVec 32 := Scalar.addi v2 c1_i32_400
  let c2_i32_401 : BitVec 32 := 2#32
  let v492 : BitVec 32 := Scalar.remsi v491 c2_i32_401
  let c4_i32_411 : BitVec 32 := 4#32
  let v499 : BitVec 32 := Scalar.muli v492 c4_i32_411
  let v500 : BitVec 32 := Scalar.addi c0_i32_412 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_402 : BitVec 32 := 0#32
  let v493 : BitVec 32 := Scalar.addi v5 c0_i32_402
  let c2_i32_403 : BitVec 32 := 2#32
  let v494 : BitVec 32 := Scalar.remsi v493 c2_i32_403
  let c2_i32_413 : BitVec 32 := 2#32
  let v501 : BitVec 32 := Scalar.muli v494 c2_i32_413
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_404 : BitVec 32 := 0#32
  let v495 : BitVec 32 := Scalar.addi v8 c0_i32_404
  let c2_i32_405 : BitVec 32 := 2#32
  let v496 : BitVec 32 := Scalar.remsi v495 c2_i32_405
  let c1_i32_414 : BitVec 32 := 1#32
  let v503 : BitVec 32 := Scalar.muli v496 c1_i32_414
  let v504 : BitVec 32 := Scalar.addi v502 v503
  v504.toNat
def k0_mult24 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_422 : BitVec 32 := 128#32
  let v516 : BitVec 32 := Scalar.muli v12 c128_i32_422
  v516
def k0_dev26 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_416 : BitVec 32 := 1#32
  let v510 : BitVec 32 := Scalar.addi v2 c1_i32_416
  let c2_i32_417 : BitVec 32 := 2#32
  let v511 : BitVec 32 := Scalar.remsi v510 c2_i32_417
  let c4_i32_427 : BitVec 32 := 4#32
  let v518 : BitVec 32 := Scalar.muli v511 c4_i32_427
  let v519 : BitVec 32 := Scalar.addi c0_i32_428 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_418 : BitVec 32 := 0#32
  let v512 : BitVec 32 := Scalar.addi v5 c0_i32_418
  let c2_i32_419 : BitVec 32 := 2#32
  let v513 : BitVec 32 := Scalar.remsi v512 c2_i32_419
  let c2_i32_429 : BitVec 32 := 2#32
  let v520 : BitVec 32 := Scalar.muli v513 c2_i32_429
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_420 : BitVec 32 := 1#32
  let v514 : BitVec 32 := Scalar.addi v8 c1_i32_420
  let c2_i32_421 : BitVec 32 := 2#32
  let v515 : BitVec 32 := Scalar.remsi v514 c2_i32_421
  let c1_i32_430 : BitVec 32 := 1#32
  let v522 : BitVec 32 := Scalar.muli v515 c1_i32_430
  let v523 : BitVec 32 := Scalar.addi v521 v522
  v523.toNat
def k0_mult25 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_438 : BitVec 32 := 128#32
  let v535 : BitVec 32 := Scalar.muli v12 c128_i32_438
  v535
def k0_dev27 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_432 : BitVec 32 := 1#32
  let v529 : BitVec 32 := Scalar.addi v2 c1_i32_432
  let c2_i32_433 : BitVec 32 := 2#32
  let v530 : BitVec 32 := Scalar.remsi v529 c2_i32_433
  let c4_i32_443 : BitVec 32 := 4#32
  let v537 : BitVec 32 := Scalar.muli v530 c4_i32_443
  let v538 : BitVec 32 := Scalar.addi c0_i32_444 v537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_434 : BitVec 32 := 1#32
  let v531 : BitVec 32 := Scalar.addi v5 c1_i32_434
  let c2_i32_435 : BitVec 32 := 2#32
  let v532 : BitVec 32 := Scalar.remsi v531 c2_i32_435
  let c2_i32_445 : BitVec 32 := 2#32
  let v539 : BitVec 32 := Scalar.muli v532 c2_i32_445
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_436 : BitVec 32 := 0#32
  let v533 : BitVec 32 := Scalar.addi v8 c0_i32_436
  let c2_i32_437 : BitVec 32 := 2#32
  let v534 : BitVec 32 := Scalar.remsi v533 c2_i32_437
  let c1_i32_446 : BitVec 32 := 1#32
  let v541 : BitVec 32 := Scalar.muli v534 c1_i32_446
  let v542 : BitVec 32 := Scalar.addi v540 v541
  v542.toNat
def k0_mult26 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_454 : BitVec 32 := 128#32
  let v554 : BitVec 32 := Scalar.muli v12 c128_i32_454
  v554
def k0_dev28 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_448 : BitVec 32 := 1#32
  let v548 : BitVec 32 := Scalar.addi v2 c1_i32_448
  let c2_i32_449 : BitVec 32 := 2#32
  let v549 : BitVec 32 := Scalar.remsi v548 c2_i32_449
  let c4_i32_459 : BitVec 32 := 4#32
  let v556 : BitVec 32 := Scalar.muli v549 c4_i32_459
  let v557 : BitVec 32 := Scalar.addi c0_i32_460 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_450 : BitVec 32 := 1#32
  let v550 : BitVec 32 := Scalar.addi v5 c1_i32_450
  let c2_i32_451 : BitVec 32 := 2#32
  let v551 : BitVec 32 := Scalar.remsi v550 c2_i32_451
  let c2_i32_461 : BitVec 32 := 2#32
  let v558 : BitVec 32 := Scalar.muli v551 c2_i32_461
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v552 : BitVec 32 := Scalar.addi v8 c1_i32_452
  let c2_i32_453 : BitVec 32 := 2#32
  let v553 : BitVec 32 := Scalar.remsi v552 c2_i32_453
  let c1_i32_462 : BitVec 32 := 1#32
  let v560 : BitVec 32 := Scalar.muli v553 c1_i32_462
  let v561 : BitVec 32 := Scalar.addi v559 v560
  v561.toNat
def k0_mult27 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_470 : BitVec 32 := 512#32
  let v573 : BitVec 32 := Scalar.muli v12 c512_i32_470
  v573
def k0_dev29 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_464 : BitVec 32 := 0#32
  let v567 : BitVec 32 := Scalar.addi v2 c0_i32_464
  let c2_i32_465 : BitVec 32 := 2#32
  let v568 : BitVec 32 := Scalar.remsi v567 c2_i32_465
  let c4_i32_475 : BitVec 32 := 4#32
  let v575 : BitVec 32 := Scalar.muli v568 c4_i32_475
  let v576 : BitVec 32 := Scalar.addi c0_i32_476 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_466 : BitVec 32 := 0#32
  let v569 : BitVec 32 := Scalar.addi v5 c0_i32_466
  let c2_i32_467 : BitVec 32 := 2#32
  let v570 : BitVec 32 := Scalar.remsi v569 c2_i32_467
  let c2_i32_477 : BitVec 32 := 2#32
  let v577 : BitVec 32 := Scalar.muli v570 c2_i32_477
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v571 : BitVec 32 := Scalar.addi v8 c1_i32_468
  let c2_i32_469 : BitVec 32 := 2#32
  let v572 : BitVec 32 := Scalar.remsi v571 c2_i32_469
  let c1_i32_478 : BitVec 32 := 1#32
  let v579 : BitVec 32 := Scalar.muli v572 c1_i32_478
  let v580 : BitVec 32 := Scalar.addi v578 v579
  v580.toNat
def k0_mult28 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_486 : BitVec 32 := 512#32
  let v592 : BitVec 32 := Scalar.muli v12 c512_i32_486
  v592
def k0_dev30 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_480 : BitVec 32 := 0#32
  let v586 : BitVec 32 := Scalar.addi v2 c0_i32_480
  let c2_i32_481 : BitVec 32 := 2#32
  let v587 : BitVec 32 := Scalar.remsi v586 c2_i32_481
  let c4_i32_491 : BitVec 32 := 4#32
  let v594 : BitVec 32 := Scalar.muli v587 c4_i32_491
  let v595 : BitVec 32 := Scalar.addi c0_i32_492 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_482 : BitVec 32 := 1#32
  let v588 : BitVec 32 := Scalar.addi v5 c1_i32_482
  let c2_i32_483 : BitVec 32 := 2#32
  let v589 : BitVec 32 := Scalar.remsi v588 c2_i32_483
  let c2_i32_493 : BitVec 32 := 2#32
  let v596 : BitVec 32 := Scalar.muli v589 c2_i32_493
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_484 : BitVec 32 := 0#32
  let v590 : BitVec 32 := Scalar.addi v8 c0_i32_484
  let c2_i32_485 : BitVec 32 := 2#32
  let v591 : BitVec 32 := Scalar.remsi v590 c2_i32_485
  let c1_i32_494 : BitVec 32 := 1#32
  let v598 : BitVec 32 := Scalar.muli v591 c1_i32_494
  let v599 : BitVec 32 := Scalar.addi v597 v598
  v599.toNat
def k0_mult29 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_502 : BitVec 32 := 512#32
  let v611 : BitVec 32 := Scalar.muli v12 c512_i32_502
  v611
def k0_dev31 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_496 : BitVec 32 := 0#32
  let v605 : BitVec 32 := Scalar.addi v2 c0_i32_496
  let c2_i32_497 : BitVec 32 := 2#32
  let v606 : BitVec 32 := Scalar.remsi v605 c2_i32_497
  let c4_i32_507 : BitVec 32 := 4#32
  let v613 : BitVec 32 := Scalar.muli v606 c4_i32_507
  let v614 : BitVec 32 := Scalar.addi c0_i32_508 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_498 : BitVec 32 := 1#32
  let v607 : BitVec 32 := Scalar.addi v5 c1_i32_498
  let c2_i32_499 : BitVec 32 := 2#32
  let v608 : BitVec 32 := Scalar.remsi v607 c2_i32_499
  let c2_i32_509 : BitVec 32 := 2#32
  let v615 : BitVec 32 := Scalar.muli v608 c2_i32_509
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_500 : BitVec 32 := 1#32
  let v609 : BitVec 32 := Scalar.addi v8 c1_i32_500
  let c2_i32_501 : BitVec 32 := 2#32
  let v610 : BitVec 32 := Scalar.remsi v609 c2_i32_501
  let c1_i32_510 : BitVec 32 := 1#32
  let v617 : BitVec 32 := Scalar.muli v610 c1_i32_510
  let v618 : BitVec 32 := Scalar.addi v616 v617
  v618.toNat
def k0_mult30 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_518 : BitVec 32 := 512#32
  let v630 : BitVec 32 := Scalar.muli v12 c512_i32_518
  v630
def k0_dev32 (d0 : Dev nD) : Nat :=
  let c0_i32_524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_512 : BitVec 32 := 1#32
  let v624 : BitVec 32 := Scalar.addi v2 c1_i32_512
  let c2_i32_513 : BitVec 32 := 2#32
  let v625 : BitVec 32 := Scalar.remsi v624 c2_i32_513
  let c4_i32_523 : BitVec 32 := 4#32
  let v632 : BitVec 32 := Scalar.muli v625 c4_i32_523
  let v633 : BitVec 32 := Scalar.addi c0_i32_524 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_514 : BitVec 32 := 0#32
  let v626 : BitVec 32 := Scalar.addi v5 c0_i32_514
  let c2_i32_515 : BitVec 32 := 2#32
  let v627 : BitVec 32 := Scalar.remsi v626 c2_i32_515
  let c2_i32_525 : BitVec 32 := 2#32
  let v634 : BitVec 32 := Scalar.muli v627 c2_i32_525
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_516 : BitVec 32 := 0#32
  let v628 : BitVec 32 := Scalar.addi v8 c0_i32_516
  let c2_i32_517 : BitVec 32 := 2#32
  let v629 : BitVec 32 := Scalar.remsi v628 c2_i32_517
  let c1_i32_526 : BitVec 32 := 1#32
  let v636 : BitVec 32 := Scalar.muli v629 c1_i32_526
  let v637 : BitVec 32 := Scalar.addi v635 v636
  v637.toNat
def k0_mult31 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_534 : BitVec 32 := 512#32
  let v649 : BitVec 32 := Scalar.muli v12 c512_i32_534
  v649
def k0_dev33 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_528 : BitVec 32 := 1#32
  let v643 : BitVec 32 := Scalar.addi v2 c1_i32_528
  let c2_i32_529 : BitVec 32 := 2#32
  let v644 : BitVec 32 := Scalar.remsi v643 c2_i32_529
  let c4_i32_539 : BitVec 32 := 4#32
  let v651 : BitVec 32 := Scalar.muli v644 c4_i32_539
  let v652 : BitVec 32 := Scalar.addi c0_i32_540 v651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_530 : BitVec 32 := 0#32
  let v645 : BitVec 32 := Scalar.addi v5 c0_i32_530
  let c2_i32_531 : BitVec 32 := 2#32
  let v646 : BitVec 32 := Scalar.remsi v645 c2_i32_531
  let c2_i32_541 : BitVec 32 := 2#32
  let v653 : BitVec 32 := Scalar.muli v646 c2_i32_541
  let v654 : BitVec 32 := Scalar.addi v652 v653
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v647 : BitVec 32 := Scalar.addi v8 c1_i32_532
  let c2_i32_533 : BitVec 32 := 2#32
  let v648 : BitVec 32 := Scalar.remsi v647 c2_i32_533
  let c1_i32_542 : BitVec 32 := 1#32
  let v655 : BitVec 32 := Scalar.muli v648 c1_i32_542
  let v656 : BitVec 32 := Scalar.addi v654 v655
  v656.toNat
def k0_mult32 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_550 : BitVec 32 := 512#32
  let v668 : BitVec 32 := Scalar.muli v12 c512_i32_550
  v668
def k0_dev34 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_544 : BitVec 32 := 1#32
  let v662 : BitVec 32 := Scalar.addi v2 c1_i32_544
  let c2_i32_545 : BitVec 32 := 2#32
  let v663 : BitVec 32 := Scalar.remsi v662 c2_i32_545
  let c4_i32_555 : BitVec 32 := 4#32
  let v670 : BitVec 32 := Scalar.muli v663 c4_i32_555
  let v671 : BitVec 32 := Scalar.addi c0_i32_556 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_546 : BitVec 32 := 1#32
  let v664 : BitVec 32 := Scalar.addi v5 c1_i32_546
  let c2_i32_547 : BitVec 32 := 2#32
  let v665 : BitVec 32 := Scalar.remsi v664 c2_i32_547
  let c2_i32_557 : BitVec 32 := 2#32
  let v672 : BitVec 32 := Scalar.muli v665 c2_i32_557
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_548 : BitVec 32 := 0#32
  let v666 : BitVec 32 := Scalar.addi v8 c0_i32_548
  let c2_i32_549 : BitVec 32 := 2#32
  let v667 : BitVec 32 := Scalar.remsi v666 c2_i32_549
  let c1_i32_558 : BitVec 32 := 1#32
  let v674 : BitVec 32 := Scalar.muli v667 c1_i32_558
  let v675 : BitVec 32 := Scalar.addi v673 v674
  v675.toNat
def k0_mult33 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_566 : BitVec 32 := 512#32
  let v687 : BitVec 32 := Scalar.muli v12 c512_i32_566
  v687
def k0_dev35 (d0 : Dev nD) : Nat :=
  let c0_i32_572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_560 : BitVec 32 := 1#32
  let v681 : BitVec 32 := Scalar.addi v2 c1_i32_560
  let c2_i32_561 : BitVec 32 := 2#32
  let v682 : BitVec 32 := Scalar.remsi v681 c2_i32_561
  let c4_i32_571 : BitVec 32 := 4#32
  let v689 : BitVec 32 := Scalar.muli v682 c4_i32_571
  let v690 : BitVec 32 := Scalar.addi c0_i32_572 v689
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_562 : BitVec 32 := 1#32
  let v683 : BitVec 32 := Scalar.addi v5 c1_i32_562
  let c2_i32_563 : BitVec 32 := 2#32
  let v684 : BitVec 32 := Scalar.remsi v683 c2_i32_563
  let c2_i32_573 : BitVec 32 := 2#32
  let v691 : BitVec 32 := Scalar.muli v684 c2_i32_573
  let v692 : BitVec 32 := Scalar.addi v690 v691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_564 : BitVec 32 := 1#32
  let v685 : BitVec 32 := Scalar.addi v8 c1_i32_564
  let c2_i32_565 : BitVec 32 := 2#32
  let v686 : BitVec 32 := Scalar.remsi v685 c2_i32_565
  let c1_i32_574 : BitVec 32 := 1#32
  let v693 : BitVec 32 := Scalar.muli v686 c1_i32_574
  let v694 : BitVec 32 := Scalar.addi v692 v693
  v694.toNat
def k0_mult34 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_582 : BitVec 32 := 512#32
  let v706 : BitVec 32 := Scalar.muli v12 c512_i32_582
  v706
def k0_dev36 (d0 : Dev nD) : Nat :=
  let c0_i32_588 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_576 : BitVec 32 := 0#32
  let v700 : BitVec 32 := Scalar.addi v2 c0_i32_576
  let c2_i32_577 : BitVec 32 := 2#32
  let v701 : BitVec 32 := Scalar.remsi v700 c2_i32_577
  let c4_i32_587 : BitVec 32 := 4#32
  let v708 : BitVec 32 := Scalar.muli v701 c4_i32_587
  let v709 : BitVec 32 := Scalar.addi c0_i32_588 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_578 : BitVec 32 := 0#32
  let v702 : BitVec 32 := Scalar.addi v5 c0_i32_578
  let c2_i32_579 : BitVec 32 := 2#32
  let v703 : BitVec 32 := Scalar.remsi v702 c2_i32_579
  let c2_i32_589 : BitVec 32 := 2#32
  let v710 : BitVec 32 := Scalar.muli v703 c2_i32_589
  let v711 : BitVec 32 := Scalar.addi v709 v710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v704 : BitVec 32 := Scalar.addi v8 c1_i32_580
  let c2_i32_581 : BitVec 32 := 2#32
  let v705 : BitVec 32 := Scalar.remsi v704 c2_i32_581
  let c1_i32_590 : BitVec 32 := 1#32
  let v712 : BitVec 32 := Scalar.muli v705 c1_i32_590
  let v713 : BitVec 32 := Scalar.addi v711 v712
  v713.toNat
def k0_mult35 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_598 : BitVec 32 := 512#32
  let v725 : BitVec 32 := Scalar.muli v12 c512_i32_598
  v725
def k0_dev37 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_592 : BitVec 32 := 0#32
  let v719 : BitVec 32 := Scalar.addi v2 c0_i32_592
  let c2_i32_593 : BitVec 32 := 2#32
  let v720 : BitVec 32 := Scalar.remsi v719 c2_i32_593
  let c4_i32_603 : BitVec 32 := 4#32
  let v727 : BitVec 32 := Scalar.muli v720 c4_i32_603
  let v728 : BitVec 32 := Scalar.addi c0_i32_604 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_594 : BitVec 32 := 1#32
  let v721 : BitVec 32 := Scalar.addi v5 c1_i32_594
  let c2_i32_595 : BitVec 32 := 2#32
  let v722 : BitVec 32 := Scalar.remsi v721 c2_i32_595
  let c2_i32_605 : BitVec 32 := 2#32
  let v729 : BitVec 32 := Scalar.muli v722 c2_i32_605
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_596 : BitVec 32 := 0#32
  let v723 : BitVec 32 := Scalar.addi v8 c0_i32_596
  let c2_i32_597 : BitVec 32 := 2#32
  let v724 : BitVec 32 := Scalar.remsi v723 c2_i32_597
  let c1_i32_606 : BitVec 32 := 1#32
  let v731 : BitVec 32 := Scalar.muli v724 c1_i32_606
  let v732 : BitVec 32 := Scalar.addi v730 v731
  v732.toNat
def k0_mult36 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_614 : BitVec 32 := 512#32
  let v744 : BitVec 32 := Scalar.muli v12 c512_i32_614
  v744
def k0_dev38 (d0 : Dev nD) : Nat :=
  let c0_i32_620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_608 : BitVec 32 := 0#32
  let v738 : BitVec 32 := Scalar.addi v2 c0_i32_608
  let c2_i32_609 : BitVec 32 := 2#32
  let v739 : BitVec 32 := Scalar.remsi v738 c2_i32_609
  let c4_i32_619 : BitVec 32 := 4#32
  let v746 : BitVec 32 := Scalar.muli v739 c4_i32_619
  let v747 : BitVec 32 := Scalar.addi c0_i32_620 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_610 : BitVec 32 := 1#32
  let v740 : BitVec 32 := Scalar.addi v5 c1_i32_610
  let c2_i32_611 : BitVec 32 := 2#32
  let v741 : BitVec 32 := Scalar.remsi v740 c2_i32_611
  let c2_i32_621 : BitVec 32 := 2#32
  let v748 : BitVec 32 := Scalar.muli v741 c2_i32_621
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_612 : BitVec 32 := 1#32
  let v742 : BitVec 32 := Scalar.addi v8 c1_i32_612
  let c2_i32_613 : BitVec 32 := 2#32
  let v743 : BitVec 32 := Scalar.remsi v742 c2_i32_613
  let c1_i32_622 : BitVec 32 := 1#32
  let v750 : BitVec 32 := Scalar.muli v743 c1_i32_622
  let v751 : BitVec 32 := Scalar.addi v749 v750
  v751.toNat
def k0_mult37 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_630 : BitVec 32 := 512#32
  let v763 : BitVec 32 := Scalar.muli v12 c512_i32_630
  v763
def k0_dev39 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_624 : BitVec 32 := 1#32
  let v757 : BitVec 32 := Scalar.addi v2 c1_i32_624
  let c2_i32_625 : BitVec 32 := 2#32
  let v758 : BitVec 32 := Scalar.remsi v757 c2_i32_625
  let c4_i32_635 : BitVec 32 := 4#32
  let v765 : BitVec 32 := Scalar.muli v758 c4_i32_635
  let v766 : BitVec 32 := Scalar.addi c0_i32_636 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_626 : BitVec 32 := 0#32
  let v759 : BitVec 32 := Scalar.addi v5 c0_i32_626
  let c2_i32_627 : BitVec 32 := 2#32
  let v760 : BitVec 32 := Scalar.remsi v759 c2_i32_627
  let c2_i32_637 : BitVec 32 := 2#32
  let v767 : BitVec 32 := Scalar.muli v760 c2_i32_637
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_628 : BitVec 32 := 0#32
  let v761 : BitVec 32 := Scalar.addi v8 c0_i32_628
  let c2_i32_629 : BitVec 32 := 2#32
  let v762 : BitVec 32 := Scalar.remsi v761 c2_i32_629
  let c1_i32_638 : BitVec 32 := 1#32
  let v769 : BitVec 32 := Scalar.muli v762 c1_i32_638
  let v770 : BitVec 32 := Scalar.addi v768 v769
  v770.toNat
def k0_mult38 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_646 : BitVec 32 := 512#32
  let v782 : BitVec 32 := Scalar.muli v12 c512_i32_646
  v782
def k0_dev40 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_640 : BitVec 32 := 1#32
  let v776 : BitVec 32 := Scalar.addi v2 c1_i32_640
  let c2_i32_641 : BitVec 32 := 2#32
  let v777 : BitVec 32 := Scalar.remsi v776 c2_i32_641
  let c4_i32_651 : BitVec 32 := 4#32
  let v784 : BitVec 32 := Scalar.muli v777 c4_i32_651
  let v785 : BitVec 32 := Scalar.addi c0_i32_652 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_642 : BitVec 32 := 0#32
  let v778 : BitVec 32 := Scalar.addi v5 c0_i32_642
  let c2_i32_643 : BitVec 32 := 2#32
  let v779 : BitVec 32 := Scalar.remsi v778 c2_i32_643
  let c2_i32_653 : BitVec 32 := 2#32
  let v786 : BitVec 32 := Scalar.muli v779 c2_i32_653
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_644 : BitVec 32 := 1#32
  let v780 : BitVec 32 := Scalar.addi v8 c1_i32_644
  let c2_i32_645 : BitVec 32 := 2#32
  let v781 : BitVec 32 := Scalar.remsi v780 c2_i32_645
  let c1_i32_654 : BitVec 32 := 1#32
  let v788 : BitVec 32 := Scalar.muli v781 c1_i32_654
  let v789 : BitVec 32 := Scalar.addi v787 v788
  v789.toNat
def k0_mult39 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_662 : BitVec 32 := 512#32
  let v801 : BitVec 32 := Scalar.muli v12 c512_i32_662
  v801
def k0_dev41 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_656 : BitVec 32 := 1#32
  let v795 : BitVec 32 := Scalar.addi v2 c1_i32_656
  let c2_i32_657 : BitVec 32 := 2#32
  let v796 : BitVec 32 := Scalar.remsi v795 c2_i32_657
  let c4_i32_667 : BitVec 32 := 4#32
  let v803 : BitVec 32 := Scalar.muli v796 c4_i32_667
  let v804 : BitVec 32 := Scalar.addi c0_i32_668 v803
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_658 : BitVec 32 := 1#32
  let v797 : BitVec 32 := Scalar.addi v5 c1_i32_658
  let c2_i32_659 : BitVec 32 := 2#32
  let v798 : BitVec 32 := Scalar.remsi v797 c2_i32_659
  let c2_i32_669 : BitVec 32 := 2#32
  let v805 : BitVec 32 := Scalar.muli v798 c2_i32_669
  let v806 : BitVec 32 := Scalar.addi v804 v805
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_660 : BitVec 32 := 0#32
  let v799 : BitVec 32 := Scalar.addi v8 c0_i32_660
  let c2_i32_661 : BitVec 32 := 2#32
  let v800 : BitVec 32 := Scalar.remsi v799 c2_i32_661
  let c1_i32_670 : BitVec 32 := 1#32
  let v807 : BitVec 32 := Scalar.muli v800 c1_i32_670
  let v808 : BitVec 32 := Scalar.addi v806 v807
  v808.toNat
def k0_mult40 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c512_i32_678 : BitVec 32 := 512#32
  let v820 : BitVec 32 := Scalar.muli v12 c512_i32_678
  v820
def k0_dev42 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_672 : BitVec 32 := 1#32
  let v814 : BitVec 32 := Scalar.addi v2 c1_i32_672
  let c2_i32_673 : BitVec 32 := 2#32
  let v815 : BitVec 32 := Scalar.remsi v814 c2_i32_673
  let c4_i32_683 : BitVec 32 := 4#32
  let v822 : BitVec 32 := Scalar.muli v815 c4_i32_683
  let v823 : BitVec 32 := Scalar.addi c0_i32_684 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_674 : BitVec 32 := 1#32
  let v816 : BitVec 32 := Scalar.addi v5 c1_i32_674
  let c2_i32_675 : BitVec 32 := 2#32
  let v817 : BitVec 32 := Scalar.remsi v816 c2_i32_675
  let c2_i32_685 : BitVec 32 := 2#32
  let v824 : BitVec 32 := Scalar.muli v817 c2_i32_685
  let v825 : BitVec 32 := Scalar.addi v823 v824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_676 : BitVec 32 := 1#32
  let v818 : BitVec 32 := Scalar.addi v8 c1_i32_676
  let c2_i32_677 : BitVec 32 := 2#32
  let v819 : BitVec 32 := Scalar.remsi v818 c2_i32_677
  let c1_i32_686 : BitVec 32 := 1#32
  let v826 : BitVec 32 := Scalar.muli v819 c1_i32_686
  let v827 : BitVec 32 := Scalar.addi v825 v826
  v827.toNat
-- ==== GatherReference.lean ====
abbrev S8192x1408 : Shape := ⟨2, ![8192, 1408]⟩
abbrev S1024x1024 : Shape := ⟨2, ![1024, 1024]⟩
abbrev S2048x1024 : Shape := ⟨2, ![2048, 1024]⟩
abbrev S1024x4096 : Shape := ⟨2, ![1024, 4096]⟩
abbrev S4096x1024 : Shape := ⟨2, ![4096, 1024]⟩
abbrev S8x1024x1408 : Shape := ⟨3, ![8, 1024, 1408]⟩

abbrev nBuf : Space → Nat
  | .hbm => 7
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S1024x1024, .bf16⟩
  | .hbm, ⟨2, _⟩ => ⟨S2048x1024, .bf16⟩
  | .hbm, ⟨3, _⟩ => ⟨S1024x1024, .bf16⟩
  | .hbm, ⟨4, _⟩ => ⟨S1024x4096, .bf16⟩
  | .hbm, ⟨5, _⟩ => ⟨S4096x1024, .bf16⟩
  | .hbm, ⟨6, _⟩ => ⟨S8x1024x1408, .bf16⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Small.lean ====
abbrev S1296x128 : Shape := ⟨2, ![1296, 128]⟩
abbrev S8x1296x128 : Shape := ⟨3, ![8, 1296, 128]⟩
abbrev S1x7 : Shape := ⟨2, ![1, 7]⟩
abbrev S1 : Shape := ⟨1, ![1]⟩
abbrev S_ : Shape := ⟨0, ![]⟩
abbrev S1x1296x128 : Shape := ⟨3, ![1, 1296, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S1296x128, .f32⟩
  | .hbm, ⟨1, _⟩ => ⟨S8x1296x128, .f32⟩
  | _, _ => ⟨S1296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v17 : BitVec 32 := Scalar.addi v2 c0_i32_7
  let c2_i32_8 : BitVec 32 := 2#32
  let v18 : BitVec 32 := Scalar.remsi v17 c2_i32_8
  let c4_i32_17 : BitVec 32 := 4#32
  let v23 : BitVec 32 := Scalar.muli v18 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v19 : BitVec 32 := Scalar.addi v5 c0_i32_9
  let c2_i32_10 : BitVec 32 := 2#32
  let v20 : BitVec 32 := Scalar.remsi v19 c2_i32_10
  let c2_i32_19 : BitVec 32 := 2#32
  let v25 : BitVec 32 := Scalar.muli v20 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v21 : BitVec 32 := Scalar.addi v8 c1_i32_11
  let c2_i32_12 : BitVec 32 := 2#32
  let v22 : BitVec 32 := Scalar.remsi v21 c2_i32_12
  let c1_i32_20 : BitVec 32 := 1#32
  let v27 : BitVec 32 := Scalar.muli v22 c1_i32_20
  let v28 : BitVec 32 := Scalar.addi v26 v27
  v28.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v35 : BitVec 32 := Scalar.addi v2 c0_i32_23
  let c2_i32_24 : BitVec 32 := 2#32
  let v36 : BitVec 32 := Scalar.remsi v35 c2_i32_24
  let c4_i32_33 : BitVec 32 := 4#32
  let v41 : BitVec 32 := Scalar.muli v36 c4_i32_33
  let v42 : BitVec 32 := Scalar.addi c0_i32_34 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v37 : BitVec 32 := Scalar.addi v5 c1_i32_25
  let c2_i32_26 : BitVec 32 := 2#32
  let v38 : BitVec 32 := Scalar.remsi v37 c2_i32_26
  let c2_i32_35 : BitVec 32 := 2#32
  let v43 : BitVec 32 := Scalar.muli v38 c2_i32_35
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v39 : BitVec 32 := Scalar.addi v8 c0_i32_27
  let c2_i32_28 : BitVec 32 := 2#32
  let v40 : BitVec 32 := Scalar.remsi v39 c2_i32_28
  let c1_i32_36 : BitVec 32 := 1#32
  let v45 : BitVec 32 := Scalar.muli v40 c1_i32_36
  let v46 : BitVec 32 := Scalar.addi v44 v45
  v46.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_39 : BitVec 32 := 0#32
  let v53 : BitVec 32 := Scalar.addi v2 c0_i32_39
  let c2_i32_40 : BitVec 32 := 2#32
  let v54 : BitVec 32 := Scalar.remsi v53 c2_i32_40
  let c4_i32_49 : BitVec 32 := 4#32
  let v59 : BitVec 32 := Scalar.muli v54 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v55 : BitVec 32 := Scalar.addi v5 c1_i32_41
  let c2_i32_42 : BitVec 32 := 2#32
  let v56 : BitVec 32 := Scalar.remsi v55 c2_i32_42
  let c2_i32_51 : BitVec 32 := 2#32
  let v61 : BitVec 32 := Scalar.muli v56 c2_i32_51
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.addi v8 c1_i32_43
  let c2_i32_44 : BitVec 32 := 2#32
  let v58 : BitVec 32 := Scalar.remsi v57 c2_i32_44
  let c1_i32_52 : BitVec 32 := 1#32
  let v63 : BitVec 32 := Scalar.muli v58 c1_i32_52
  let v64 : BitVec 32 := Scalar.addi v62 v63
  v64.toNat
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v71 : BitVec 32 := Scalar.addi v2 c1_i32_55
  let c2_i32_56 : BitVec 32 := 2#32
  let v72 : BitVec 32 := Scalar.remsi v71 c2_i32_56
  let c4_i32_64 : BitVec 32 := 4#32
  let v77 : BitVec 32 := Scalar.muli v72 c4_i32_64
  let v78 : BitVec 32 := Scalar.addi c0_i32_65 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_57 : BitVec 32 := 0#32
  let v73 : BitVec 32 := Scalar.addi v5 c0_i32_57
  let c2_i32_58 : BitVec 32 := 2#32
  let v74 : BitVec 32 := Scalar.remsi v73 c2_i32_58
  let c2_i32_66 : BitVec 32 := 2#32
  let v79 : BitVec 32 := Scalar.muli v74 c2_i32_66
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_59 : BitVec 32 := 0#32
  let v75 : BitVec 32 := Scalar.addi v8 c0_i32_59
  let c2_i32_60 : BitVec 32 := 2#32
  let v76 : BitVec 32 := Scalar.remsi v75 c2_i32_60
  let c1_i32_67 : BitVec 32 := 1#32
  let v81 : BitVec 32 := Scalar.muli v76 c1_i32_67
  let v82 : BitVec 32 := Scalar.addi v80 v81
  v82.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v89 : BitVec 32 := Scalar.addi v2 c1_i32_70
  let c2_i32_71 : BitVec 32 := 2#32
  let v90 : BitVec 32 := Scalar.remsi v89 c2_i32_71
  let c4_i32_80 : BitVec 32 := 4#32
  let v95 : BitVec 32 := Scalar.muli v90 c4_i32_80
  let v96 : BitVec 32 := Scalar.addi c0_i32_81 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_72 : BitVec 32 := 0#32
  let v91 : BitVec 32 := Scalar.addi v5 c0_i32_72
  let c2_i32_73 : BitVec 32 := 2#32
  let v92 : BitVec 32 := Scalar.remsi v91 c2_i32_73
  let c2_i32_82 : BitVec 32 := 2#32
  let v97 : BitVec 32 := Scalar.muli v92 c2_i32_82
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v93 : BitVec 32 := Scalar.addi v8 c1_i32_74
  let c2_i32_75 : BitVec 32 := 2#32
  let v94 : BitVec 32 := Scalar.remsi v93 c2_i32_75
  let c1_i32_83 : BitVec 32 := 1#32
  let v99 : BitVec 32 := Scalar.muli v94 c1_i32_83
  let v100 : BitVec 32 := Scalar.addi v98 v99
  v100.toNat
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v107 : BitVec 32 := Scalar.addi v2 c1_i32_86
  let c2_i32_87 : BitVec 32 := 2#32
  let v108 : BitVec 32 := Scalar.remsi v107 c2_i32_87
  let c4_i32_95 : BitVec 32 := 4#32
  let v113 : BitVec 32 := Scalar.muli v108 c4_i32_95
  let v114 : BitVec 32 := Scalar.addi c0_i32_96 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_88 : BitVec 32 := 1#32
  let v109 : BitVec 32 := Scalar.addi v5 c1_i32_88
  let c2_i32_89 : BitVec 32 := 2#32
  let v110 : BitVec 32 := Scalar.remsi v109 c2_i32_89
  let c2_i32_97 : BitVec 32 := 2#32
  let v115 : BitVec 32 := Scalar.muli v110 c2_i32_97
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v111 : BitVec 32 := Scalar.addi v8 c0_i32_90
  let c2_i32_91 : BitVec 32 := 2#32
  let v112 : BitVec 32 := Scalar.remsi v111 c2_i32_91
  let c1_i32_98 : BitVec 32 := 1#32
  let v117 : BitVec 32 := Scalar.muli v112 c1_i32_98
  let v118 : BitVec 32 := Scalar.addi v116 v117
  v118.toNat
def k0_dev7 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_101 : BitVec 32 := 1#32
  let v125 : BitVec 32 := Scalar.addi v2 c1_i32_101
  let c2_i32_102 : BitVec 32 := 2#32
  let v126 : BitVec 32 := Scalar.remsi v125 c2_i32_102
  let c4_i32_110 : BitVec 32 := 4#32
  let v131 : BitVec 32 := Scalar.muli v126 c4_i32_110
  let v132 : BitVec 32 := Scalar.addi c0_i32_111 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_103 : BitVec 32 := 1#32
  let v127 : BitVec 32 := Scalar.addi v5 c1_i32_103
  let c2_i32_104 : BitVec 32 := 2#32
  let v128 : BitVec 32 := Scalar.remsi v127 c2_i32_104
  let c2_i32_112 : BitVec 32 := 2#32
  let v133 : BitVec 32 := Scalar.muli v128 c2_i32_112
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v129 : BitVec 32 := Scalar.addi v8 c1_i32_105
  let c2_i32_106 : BitVec 32 := 2#32
  let v130 : BitVec 32 := Scalar.remsi v129 c2_i32_106
  let c1_i32_113 : BitVec 32 := 1#32
  let v135 : BitVec 32 := Scalar.muli v130 c1_i32_113
  let v136 : BitVec 32 := Scalar.addi v134 v135
  v136.toNat
-- ==== SmallIdeal.lean ====
abbrev S1296x128 : Shape := ⟨2, ![1296, 128]⟩
abbrev S8x1296x128 : Shape := ⟨3, ![8, 1296, 128]⟩
abbrev S1x7 : Shape := ⟨2, ![1, 7]⟩
abbrev S1 : Shape := ⟨1, ![1]⟩
abbrev S_ : Shape := ⟨0, ![]⟩
abbrev S1x1296x128 : Shape := ⟨3, ![1, 1296, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S1296x128, .f32⟩
  | .hbm, ⟨1, _⟩ => ⟨S8x1296x128, .f32⟩
  | _, _ => ⟨S1296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v17 : BitVec 32 := Scalar.addi v2 c0_i32_7
  let c2_i32_8 : BitVec 32 := 2#32
  let v18 : BitVec 32 := Scalar.remsi v17 c2_i32_8
  let c4_i32_17 : BitVec 32 := 4#32
  let v23 : BitVec 32 := Scalar.muli v18 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v19 : BitVec 32 := Scalar.addi v5 c0_i32_9
  let c2_i32_10 : BitVec 32 := 2#32
  let v20 : BitVec 32 := Scalar.remsi v19 c2_i32_10
  let c2_i32_19 : BitVec 32 := 2#32
  let v25 : BitVec 32 := Scalar.muli v20 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v21 : BitVec 32 := Scalar.addi v8 c1_i32_11
  let c2_i32_12 : BitVec 32 := 2#32
  let v22 : BitVec 32 := Scalar.remsi v21 c2_i32_12
  let c1_i32_20 : BitVec 32 := 1#32
  let v27 : BitVec 32 := Scalar.muli v22 c1_i32_20
  let v28 : BitVec 32 := Scalar.addi v26 v27
  v28.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v35 : BitVec 32 := Scalar.addi v2 c0_i32_23
  let c2_i32_24 : BitVec 32 := 2#32
  let v36 : BitVec 32 := Scalar.remsi v35 c2_i32_24
  let c4_i32_33 : BitVec 32 := 4#32
  let v41 : BitVec 32 := Scalar.muli v36 c4_i32_33
  let v42 : BitVec 32 := Scalar.addi c0_i32_34 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v37 : BitVec 32 := Scalar.addi v5 c1_i32_25
  let c2_i32_26 : BitVec 32 := 2#32
  let v38 : BitVec 32 := Scalar.remsi v37 c2_i32_26
  let c2_i32_35 : BitVec 32 := 2#32
  let v43 : BitVec 32 := Scalar.muli v38 c2_i32_35
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v39 : BitVec 32 := Scalar.addi v8 c0_i32_27
  let c2_i32_28 : BitVec 32 := 2#32
  let v40 : BitVec 32 := Scalar.remsi v39 c2_i32_28
  let c1_i32_36 : BitVec 32 := 1#32
  let v45 : BitVec 32 := Scalar.muli v40 c1_i32_36
  let v46 : BitVec 32 := Scalar.addi v44 v45
  v46.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_39 : BitVec 32 := 0#32
  let v53 : BitVec 32 := Scalar.addi v2 c0_i32_39
  let c2_i32_40 : BitVec 32 := 2#32
  let v54 : BitVec 32 := Scalar.remsi v53 c2_i32_40
  let c4_i32_49 : BitVec 32 := 4#32
  let v59 : BitVec 32 := Scalar.muli v54 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v55 : BitVec 32 := Scalar.addi v5 c1_i32_41
  let c2_i32_42 : BitVec 32 := 2#32
  let v56 : BitVec 32 := Scalar.remsi v55 c2_i32_42
  let c2_i32_51 : BitVec 32 := 2#32
  let v61 : BitVec 32 := Scalar.muli v56 c2_i32_51
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.addi v8 c1_i32_43
  let c2_i32_44 : BitVec 32 := 2#32
  let v58 : BitVec 32 := Scalar.remsi v57 c2_i32_44
  let c1_i32_52 : BitVec 32 := 1#32
  let v63 : BitVec 32 := Scalar.muli v58 c1_i32_52
  let v64 : BitVec 32 := Scalar.addi v62 v63
  v64.toNat
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v71 : BitVec 32 := Scalar.addi v2 c1_i32_55
  let c2_i32_56 : BitVec 32 := 2#32
  let v72 : BitVec 32 := Scalar.remsi v71 c2_i32_56
  let c4_i32_64 : BitVec 32 := 4#32
  let v77 : BitVec 32 := Scalar.muli v72 c4_i32_64
  let v78 : BitVec 32 := Scalar.addi c0_i32_65 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_57 : BitVec 32 := 0#32
  let v73 : BitVec 32 := Scalar.addi v5 c0_i32_57
  let c2_i32_58 : BitVec 32 := 2#32
  let v74 : BitVec 32 := Scalar.remsi v73 c2_i32_58
  let c2_i32_66 : BitVec 32 := 2#32
  let v79 : BitVec 32 := Scalar.muli v74 c2_i32_66
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_59 : BitVec 32 := 0#32
  let v75 : BitVec 32 := Scalar.addi v8 c0_i32_59
  let c2_i32_60 : BitVec 32 := 2#32
  let v76 : BitVec 32 := Scalar.remsi v75 c2_i32_60
  let c1_i32_67 : BitVec 32 := 1#32
  let v81 : BitVec 32 := Scalar.muli v76 c1_i32_67
  let v82 : BitVec 32 := Scalar.addi v80 v81
  v82.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v89 : BitVec 32 := Scalar.addi v2 c1_i32_70
  let c2_i32_71 : BitVec 32 := 2#32
  let v90 : BitVec 32 := Scalar.remsi v89 c2_i32_71
  let c4_i32_80 : BitVec 32 := 4#32
  let v95 : BitVec 32 := Scalar.muli v90 c4_i32_80
  let v96 : BitVec 32 := Scalar.addi c0_i32_81 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_72 : BitVec 32 := 0#32
  let v91 : BitVec 32 := Scalar.addi v5 c0_i32_72
  let c2_i32_73 : BitVec 32 := 2#32
  let v92 : BitVec 32 := Scalar.remsi v91 c2_i32_73
  let c2_i32_82 : BitVec 32 := 2#32
  let v97 : BitVec 32 := Scalar.muli v92 c2_i32_82
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v93 : BitVec 32 := Scalar.addi v8 c1_i32_74
  let c2_i32_75 : BitVec 32 := 2#32
  let v94 : BitVec 32 := Scalar.remsi v93 c2_i32_75
  let c1_i32_83 : BitVec 32 := 1#32
  let v99 : BitVec 32 := Scalar.muli v94 c1_i32_83
  let v100 : BitVec 32 := Scalar.addi v98 v99
  v100.toNat
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v107 : BitVec 32 := Scalar.addi v2 c1_i32_86
  let c2_i32_87 : BitVec 32 := 2#32
  let v108 : BitVec 32 := Scalar.remsi v107 c2_i32_87
  let c4_i32_95 : BitVec 32 := 4#32
  let v113 : BitVec 32 := Scalar.muli v108 c4_i32_95
  let v114 : BitVec 32 := Scalar.addi c0_i32_96 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_88 : BitVec 32 := 1#32
  let v109 : BitVec 32 := Scalar.addi v5 c1_i32_88
  let c2_i32_89 : BitVec 32 := 2#32
  let v110 : BitVec 32 := Scalar.remsi v109 c2_i32_89
  let c2_i32_97 : BitVec 32 := 2#32
  let v115 : BitVec 32 := Scalar.muli v110 c2_i32_97
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v111 : BitVec 32 := Scalar.addi v8 c0_i32_90
  let c2_i32_91 : BitVec 32 := 2#32
  let v112 : BitVec 32 := Scalar.remsi v111 c2_i32_91
  let c1_i32_98 : BitVec 32 := 1#32
  let v117 : BitVec 32 := Scalar.muli v112 c1_i32_98
  let v118 : BitVec 32 := Scalar.addi v116 v117
  v118.toNat
def k0_dev7 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_101 : BitVec 32 := 1#32
  let v125 : BitVec 32 := Scalar.addi v2 c1_i32_101
  let c2_i32_102 : BitVec 32 := 2#32
  let v126 : BitVec 32 := Scalar.remsi v125 c2_i32_102
  let c4_i32_110 : BitVec 32 := 4#32
  let v131 : BitVec 32 := Scalar.muli v126 c4_i32_110
  let v132 : BitVec 32 := Scalar.addi c0_i32_111 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_103 : BitVec 32 := 1#32
  let v127 : BitVec 32 := Scalar.addi v5 c1_i32_103
  let c2_i32_104 : BitVec 32 := 2#32
  let v128 : BitVec 32 := Scalar.remsi v127 c2_i32_104
  let c2_i32_112 : BitVec 32 := 2#32
  let v133 : BitVec 32 := Scalar.muli v128 c2_i32_112
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v129 : BitVec 32 := Scalar.addi v8 c1_i32_105
  let c2_i32_106 : BitVec 32 := 2#32
  let v130 : BitVec 32 := Scalar.remsi v129 c2_i32_106
  let c1_i32_113 : BitVec 32 := 1#32
  let v135 : BitVec 32 := Scalar.muli v130 c1_i32_113
  let v136 : BitVec 32 := Scalar.addi v134 v135
  v136.toNat
-- ==== SmallReference.lean ====
abbrev S10368x128 : Shape := ⟨2, ![10368, 128]⟩
abbrev S8x1296x128 : Shape := ⟨3, ![8, 1296, 128]⟩

abbrev nBuf : Space → Nat
  | .hbm => 2
  | .vmem => 0
  | .smem => 0
  | _ => 0

abbrev bufTy : (tb : Table) → Fin (tcTables nBuf tb) → BufTy
  | .hbm, ⟨0, _⟩ => ⟨S10368x128, .f32⟩
  | .hbm, ⟨1, _⟩ => ⟨S8x1296x128, .f32⟩
  | _, _ => ⟨S10368x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mod.lean ====
abbrev S8x768 : Shape := ⟨2, ![8, 768]⟩
abbrev S8x8x768 : Shape := ⟨3, ![8, 8, 768]⟩
abbrev S1x7 : Shape := ⟨2, ![1, 7]⟩
abbrev S1 : Shape := ⟨1, ![1]⟩
abbrev S_ : Shape := ⟨0, ![]⟩
abbrev S1x8x768 : Shape := ⟨3, ![1, 8, 768]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v17 : BitVec 32 := Scalar.addi v2 c0_i32_7
  let c2_i32_8 : BitVec 32 := 2#32
  let v18 : BitVec 32 := Scalar.remsi v17 c2_i32_8
  let c4_i32_17 : BitVec 32 := 4#32
  let v23 : BitVec 32 := Scalar.muli v18 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v19 : BitVec 32 := Scalar.addi v5 c0_i32_9
  let c2_i32_10 : BitVec 32 := 2#32
  let v20 : BitVec 32 := Scalar.remsi v19 c2_i32_10
  let c2_i32_19 : BitVec 32 := 2#32
  let v25 : BitVec 32 := Scalar.muli v20 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v21 : BitVec 32 := Scalar.addi v8 c1_i32_11
  let c2_i32_12 : BitVec 32 := 2#32
  let v22 : BitVec 32 := Scalar.remsi v21 c2_i32_12
  let c1_i32_20 : BitVec 32 := 1#32
  let v27 : BitVec 32 := Scalar.muli v22 c1_i32_20
  let v28 : BitVec 32 := Scalar.addi v26 v27
  v28.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v35 : BitVec 32 := Scalar.addi v2 c0_i32_23
  let c2_i32_24 : BitVec 32 := 2#32
  let v36 : BitVec 32 := Scalar.remsi v35 c2_i32_24
  let c4_i32_33 : BitVec 32 := 4#32
  let v41 : BitVec 32 := Scalar.muli v36 c4_i32_33
  let v42 : BitVec 32 := Scalar.addi c0_i32_34 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v37 : BitVec 32 := Scalar.addi v5 c1_i32_25
  let c2_i32_26 : BitVec 32 := 2#32
  let v38 : BitVec 32 := Scalar.remsi v37 c2_i32_26
  let c2_i32_35 : BitVec 32 := 2#32
  let v43 : BitVec 32 := Scalar.muli v38 c2_i32_35
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v39 : BitVec 32 := Scalar.addi v8 c0_i32_27
  let c2_i32_28 : BitVec 32 := 2#32
  let v40 : BitVec 32 := Scalar.remsi v39 c2_i32_28
  let c1_i32_36 : BitVec 32 := 1#32
  let v45 : BitVec 32 := Scalar.muli v40 c1_i32_36
  let v46 : BitVec 32 := Scalar.addi v44 v45
  v46.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_39 : BitVec 32 := 0#32
  let v53 : BitVec 32 := Scalar.addi v2 c0_i32_39
  let c2_i32_40 : BitVec 32 := 2#32
  let v54 : BitVec 32 := Scalar.remsi v53 c2_i32_40
  let c4_i32_49 : BitVec 32 := 4#32
  let v59 : BitVec 32 := Scalar.muli v54 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v55 : BitVec 32 := Scalar.addi v5 c1_i32_41
  let c2_i32_42 : BitVec 32 := 2#32
  let v56 : BitVec 32 := Scalar.remsi v55 c2_i32_42
  let c2_i32_51 : BitVec 32 := 2#32
  let v61 : BitVec 32 := Scalar.muli v56 c2_i32_51
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.addi v8 c1_i32_43
  let c2_i32_44 : BitVec 32 := 2#32
  let v58 : BitVec 32 := Scalar.remsi v57 c2_i32_44
  let c1_i32_52 : BitVec 32 := 1#32
  let v63 : BitVec 32 := Scalar.muli v58 c1_i32_52
  let v64 : BitVec 32 := Scalar.addi v62 v63
  v64.toNat
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v71 : BitVec 32 := Scalar.addi v2 c1_i32_55
  let c2_i32_56 : BitVec 32 := 2#32
  let v72 : BitVec 32 := Scalar.remsi v71 c2_i32_56
  let c4_i32_64 : BitVec 32 := 4#32
  let v77 : BitVec 32 := Scalar.muli v72 c4_i32_64
  let v78 : BitVec 32 := Scalar.addi c0_i32_65 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_57 : BitVec 32 := 0#32
  let v73 : BitVec 32 := Scalar.addi v5 c0_i32_57
  let c2_i32_58 : BitVec 32 := 2#32
  let v74 : BitVec 32 := Scalar.remsi v73 c2_i32_58
  let c2_i32_66 : BitVec 32 := 2#32
  let v79 : BitVec 32 := Scalar.muli v74 c2_i32_66
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_59 : BitVec 32 := 0#32
  let v75 : BitVec 32 := Scalar.addi v8 c0_i32_59
  let c2_i32_60 : BitVec 32 := 2#32
  let v76 : BitVec 32 := Scalar.remsi v75 c2_i32_60
  let c1_i32_67 : BitVec 32 := 1#32
  let v81 : BitVec 32 := Scalar.muli v76 c1_i32_67
  let v82 : BitVec 32 := Scalar.addi v80 v81
  v82.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v89 : BitVec 32 := Scalar.addi v2 c1_i32_70
  let c2_i32_71 : BitVec 32 := 2#32
  let v90 : BitVec 32 := Scalar.remsi v89 c2_i32_71
  let c4_i32_80 : BitVec 32 := 4#32
  let v95 : BitVec 32 := Scalar.muli v90 c4_i32_80
  let v96 : BitVec 32 := Scalar.addi c0_i32_81 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_72 : BitVec 32 := 0#32
  let v91 : BitVec 32 := Scalar.addi v5 c0_i32_72
  let c2_i32_73 : BitVec 32 := 2#32
  let v92 : BitVec 32 := Scalar.remsi v91 c2_i32_73
  let c2_i32_82 : BitVec 32 := 2#32
  let v97 : BitVec 32 := Scalar.muli v92 c2_i32_82
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v93 : BitVec 32 := Scalar.addi v8 c1_i32_74
  let c2_i32_75 : BitVec 32 := 2#32
  let v94 : BitVec 32 := Scalar.remsi v93 c2_i32_75
  let c1_i32_83 : BitVec 32 := 1#32
  let v99 : BitVec 32 := Scalar.muli v94 c1_i32_83
  let v100 : BitVec 32 := Scalar.addi v98 v99
  v100.toNat
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v107 : BitVec 32 := Scalar.addi v2 c1_i32_86
  let c2_i32_87 : BitVec 32 := 2#32
  let v108 : BitVec 32 := Scalar.remsi v107 c2_i32_87
  let c4_i32_95 : BitVec 32 := 4#32
  let v113 : BitVec 32 := Scalar.muli v108 c4_i32_95
  let v114 : BitVec 32 := Scalar.addi c0_i32_96 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_88 : BitVec 32 := 1#32
  let v109 : BitVec 32 := Scalar.addi v5 c1_i32_88
  let c2_i32_89 : BitVec 32 := 2#32
  let v110 : BitVec 32 := Scalar.remsi v109 c2_i32_89
  let c2_i32_97 : BitVec 32 := 2#32
  let v115 : BitVec 32 := Scalar.muli v110 c2_i32_97
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v111 : BitVec 32 := Scalar.addi v8 c0_i32_90
  let c2_i32_91 : BitVec 32 := 2#32
  let v112 : BitVec 32 := Scalar.remsi v111 c2_i32_91
  let c1_i32_98 : BitVec 32 := 1#32
  let v117 : BitVec 32 := Scalar.muli v112 c1_i32_98
  let v118 : BitVec 32 := Scalar.addi v116 v117
  v118.toNat
def k0_dev7 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_101 : BitVec 32 := 1#32
  let v125 : BitVec 32 := Scalar.addi v2 c1_i32_101
  let c2_i32_102 : BitVec 32 := 2#32
  let v126 : BitVec 32 := Scalar.remsi v125 c2_i32_102
  let c4_i32_110 : BitVec 32 := 4#32
  let v131 : BitVec 32 := Scalar.muli v126 c4_i32_110
  let v132 : BitVec 32 := Scalar.addi c0_i32_111 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_103 : BitVec 32 := 1#32
  let v127 : BitVec 32 := Scalar.addi v5 c1_i32_103
  let c2_i32_104 : BitVec 32 := 2#32
  let v128 : BitVec 32 := Scalar.remsi v127 c2_i32_104
  let c2_i32_112 : BitVec 32 := 2#32
  let v133 : BitVec 32 := Scalar.muli v128 c2_i32_112
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v129 : BitVec 32 := Scalar.addi v8 c1_i32_105
  let c2_i32_106 : BitVec 32 := 2#32
  let v130 : BitVec 32 := Scalar.remsi v129 c2_i32_106
  let c1_i32_113 : BitVec 32 := 1#32
  let v135 : BitVec 32 := Scalar.muli v130 c1_i32_113
  let v136 : BitVec 32 := Scalar.addi v134 v135
  v136.toNat
-- ==== ModIdeal.lean ====
abbrev S8x768 : Shape := ⟨2, ![8, 768]⟩
abbrev S8x8x768 : Shape := ⟨3, ![8, 8, 768]⟩
abbrev S1x7 : Shape := ⟨2, ![1, 7]⟩
abbrev S1 : Shape := ⟨1, ![1]⟩
abbrev S_ : Shape := ⟨0, ![]⟩
abbrev S1x8x768 : Shape := ⟨3, ![1, 8, 768]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v17 : BitVec 32 := Scalar.addi v2 c0_i32_7
  let c2_i32_8 : BitVec 32 := 2#32
  let v18 : BitVec 32 := Scalar.remsi v17 c2_i32_8
  let c4_i32_17 : BitVec 32 := 4#32
  let v23 : BitVec 32 := Scalar.muli v18 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v19 : BitVec 32 := Scalar.addi v5 c0_i32_9
  let c2_i32_10 : BitVec 32 := 2#32
  let v20 : BitVec 32 := Scalar.remsi v19 c2_i32_10
  let c2_i32_19 : BitVec 32 := 2#32
  let v25 : BitVec 32 := Scalar.muli v20 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v21 : BitVec 32 := Scalar.addi v8 c1_i32_11
  let c2_i32_12 : BitVec 32 := 2#32
  let v22 : BitVec 32 := Scalar.remsi v21 c2_i32_12
  let c1_i32_20 : BitVec 32 := 1#32
  let v27 : BitVec 32 := Scalar.muli v22 c1_i32_20
  let v28 : BitVec 32 := Scalar.addi v26 v27
  v28.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v35 : BitVec 32 := Scalar.addi v2 c0_i32_23
  let c2_i32_24 : BitVec 32 := 2#32
  let v36 : BitVec 32 := Scalar.remsi v35 c2_i32_24
  let c4_i32_33 : BitVec 32 := 4#32
  let v41 : BitVec 32 := Scalar.muli v36 c4_i32_33
  let v42 : BitVec 32 := Scalar.addi c0_i32_34 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v37 : BitVec 32 := Scalar.addi v5 c1_i32_25
  let c2_i32_26 : BitVec 32 := 2#32
  let v38 : BitVec 32 := Scalar.remsi v37 c2_i32_26
  let c2_i32_35 : BitVec 32 := 2#32
  let v43 : BitVec 32 := Scalar.muli v38 c2_i32_35
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v39 : BitVec 32 := Scalar.addi v8 c0_i32_27
  let c2_i32_28 : BitVec 32 := 2#32
  let v40 : BitVec 32 := Scalar.remsi v39 c2_i32_28
  let c1_i32_36 : BitVec 32 := 1#32
  let v45 : BitVec 32 := Scalar.muli v40 c1_i32_36
  let v46 : BitVec 32 := Scalar.addi v44 v45
  v46.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_39 : BitVec 32 := 0#32
  let v53 : BitVec 32 := Scalar.addi v2 c0_i32_39
  let c2_i32_40 : BitVec 32 := 2#32
  let v54 : BitVec 32 := Scalar.remsi v53 c2_i32_40
  let c4_i32_49 : BitVec 32 := 4#32
  let v59 : BitVec 32 := Scalar.muli v54 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v55 : BitVec 32 := Scalar.addi v5 c1_i32_41
  let c2_i32_42 : BitVec 32 := 2#32
  let v56 : BitVec 32 := Scalar.remsi v55 c2_i32_42
  let c2_i32_51 : BitVec 32 := 2#32
  let v61 : BitVec 32 := Scalar.muli v56 c2_i32_51
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.addi v8 c1_i32_43
  let c2_i32_44 : BitVec 32 := 2#32
  let v58 : BitVec 32 := Scalar.remsi v57 c2_i32_44
  let c1_i32_52 : BitVec 32 := 1#32
  let v63 : BitVec 32 := Scalar.muli v58 c1_i32_52
  let v64 : BitVec 32 := Scalar.addi v62 v63
  v64.toNat
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v71 : BitVec 32 := Scalar.addi v2 c1_i32_55
  let c2_i32_56 : BitVec 32 := 2#32
  let v72 : BitVec 32 := Scalar.remsi v71 c2_i32_56
  let c4_i32_64 : BitVec 32 := 4#32
  let v77 : BitVec 32 := Scalar.muli v72 c4_i32_64
  let v78 : BitVec 32 := Scalar.addi c0_i32_65 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_57 : BitVec 32 := 0#32
  let v73 : BitVec 32 := Scalar.addi v5 c0_i32_57
  let c2_i32_58 : BitVec 32 := 2#32
  let v74 : BitVec 32 := Scalar.remsi v73 c2_i32_58
  let c2_i32_66 : BitVec 32 := 2#32
  let v79 : BitVec 32 := Scalar.muli v74 c2_i32_66
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_59 : BitVec 32 := 0#32
  let v75 : BitVec 32 := Scalar.addi v8 c0_i32_59
  let c2_i32_60 : BitVec 32 := 2#32
  let v76 : BitVec 32 := Scalar.remsi v75 c2_i32_60
  let c1_i32_67 : BitVec 32 := 1#32
  let v81 : BitVec 32 := Scalar.muli v76 c1_i32_67
  let v82 : BitVec 32 := Scalar.addi v80 v81
  v82.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v89 : BitVec 32 := Scalar.addi v2 c1_i32_70
  let c2_i32_71 : BitVec 32 := 2#32
  let v90 : BitVec 32 := Scalar.remsi v89 c2_i32_71
  let c4_i32_80 : BitVec 32 := 4#32
  let v95 : BitVec 32 := Scalar.muli v90 c4_i32_80
  let v96 : BitVec 32 := Scalar.addi c0_i32_81 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_72 : BitVec 32 := 0#32
  let v91 : BitVec 32 := Scalar.addi v5 c0_i32_72
  let c2_i32_73 : BitVec 32 := 2#32
  let v92 : BitVec 32 := Scalar.remsi v91 c2_i32_73
  let c2_i32_82 : BitVec 32 := 2#32
  let v97 : BitVec 32 := Scalar.muli v92 c2_i32_82
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v93 : BitVec 32 := Scalar.addi v8 c1_i32_74
  let c2_i32_75 : BitVec 32 := 2#32
  let v94 : BitVec 32 := Scalar.remsi v93 c2_i32_75
  let c1_i32_83 : BitVec 32 := 1#32
  let v99 : BitVec 32 := Scalar.muli v94 c1_i32_83
  let v100 : BitVec 32 := Scalar.addi v98 v99
  v100.toNat
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v107 : BitVec 32 := Scalar.addi v2 c1_i32_86
  let c2_i32_87 : BitVec 32 := 2#32
  let v108 : BitVec 32 := Scalar.remsi v107 c2_i32_87
  let c4_i32_95 : BitVec 32 := 4#32
  let v113 : BitVec 32 := Scalar.muli v108 c4_i32_95
  let v114 : BitVec 32 := Scalar.addi c0_i32_96 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_88 : BitVec 32 := 1#32
  let v109 : BitVec 32 := Scalar.addi v5 c1_i32_88
  let c2_i32_89 : BitVec 32 := 2#32
  let v110 : BitVec 32 := Scalar.remsi v109 c2_i32_89
  let c2_i32_97 : BitVec 32 := 2#32
  let v115 : BitVec 32 := Scalar.muli v110 c2_i32_97
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v111 : BitVec 32 := Scalar.addi v8 c0_i32_90
  let c2_i32_91 : BitVec 32 := 2#32
  let v112 : BitVec 32 := Scalar.remsi v111 c2_i32_91
  let c1_i32_98 : BitVec 32 := 1#32
  let v117 : BitVec 32 := Scalar.muli v112 c1_i32_98
  let v118 : BitVec 32 := Scalar.addi v116 v117
  v118.toNat
def k0_dev7 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_101 : BitVec 32 := 1#32
  let v125 : BitVec 32 := Scalar.addi v2 c1_i32_101
  let c2_i32_102 : BitVec 32 := 2#32
  let v126 : BitVec 32 := Scalar.remsi v125 c2_i32_102
  let c4_i32_110 : BitVec 32 := 4#32
  let v131 : BitVec 32 := Scalar.muli v126 c4_i32_110
  let v132 : BitVec 32 := Scalar.addi c0_i32_111 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_103 : BitVec 32 := 1#32
  let v127 : BitVec 32 := Scalar.addi v5 c1_i32_103
  let c2_i32_104 : BitVec 32 := 2#32
  let v128 : BitVec 32 := Scalar.remsi v127 c2_i32_104
  let c2_i32_112 : BitVec 32 := 2#32
  let v133 : BitVec 32 := Scalar.muli v128 c2_i32_112
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v129 : BitVec 32 := Scalar.addi v8 c1_i32_105
  let c2_i32_106 : BitVec 32 := 2#32
  let v130 : BitVec 32 := Scalar.remsi v129 c2_i32_106
  let c1_i32_113 : BitVec 32 := 1#32
  let v135 : BitVec 32 := Scalar.muli v130 c1_i32_113
  let v136 : BitVec 32 := Scalar.addi v134 v135
  v136.toNat
-- ==== ModReference.lean ====
abbrev S64x768 : Shape := ⟨2, ![64, 768]⟩
abbrev S8x8x768 : Shape := ⟨3, ![8, 8, 768]⟩

abbrev nBuf : Space → Nat
  | .hbm => 2
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S8x8x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Cond.lean ====
abbrev S8x128 : Shape := ⟨2, ![8, 128]⟩
abbrev S4x512 : Shape := ⟨2, ![4, 512]⟩
abbrev S8x8x128 : Shape := ⟨3, ![8, 8, 128]⟩
abbrev S8x4x512 : Shape := ⟨3, ![8, 4, 512]⟩
abbrev S2x7 : Shape := ⟨2, ![2, 7]⟩
abbrev S2 : Shape := ⟨1, ![2]⟩
abbrev S1 : Shape := ⟨1, ![1]⟩
abbrev S_ : Shape := ⟨0, ![]⟩
abbrev S1x8x128 : Shape := ⟨3, ![1, 8, 128]⟩
abbrev S1x4x512 : Shape := ⟨3, ![1, 4, 512]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S4x512, .f32⟩
  | .hbm, ⟨2, _⟩ => ⟨S8x8x128, .f32⟩
  | .hbm, ⟨3, _⟩ => ⟨S8x4x512, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v21 : BitVec 32 := Scalar.addi v2 c0_i32_10
  let c2_i32_11 : BitVec 32 := 2#32
  let v22 : BitVec 32 := Scalar.remsi v21 c2_i32_11
  let c4_i32_20 : BitVec 32 := 4#32
  let v27 : BitVec 32 := Scalar.muli v22 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_12 : BitVec 32 := 0#32
  let v23 : BitVec 32 := Scalar.addi v5 c0_i32_12
  let c2_i32_13 : BitVec 32 := 2#32
  let v24 : BitVec 32 := Scalar.remsi v23 c2_i32_13
  let c2_i32_22 : BitVec 32 := 2#32
  let v29 : BitVec 32 := Scalar.muli v24 c2_i32_22
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.addi v8 c1_i32_14
  let c2_i32_15 : BitVec 32 := 2#32
  let v26 : BitVec 32 := Scalar.remsi v25 c2_i32_15
  let c1_i32_23 : BitVec 32 := 1#32
  let v31 : BitVec 32 := Scalar.muli v26 c1_i32_23
  let v32 : BitVec 32 := Scalar.addi v30 v31
  v32.toNat
def k0_dev2 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_26 : BitVec 32 := 0#32
  let v39 : BitVec 32 := Scalar.addi v2 c0_i32_26
  let c2_i32_27 : BitVec 32 := 2#32
  let v40 : BitVec 32 := Scalar.remsi v39 c2_i32_27
  let c4_i32_36 : BitVec 32 := 4#32
  let v45 : BitVec 32 := Scalar.muli v40 c4_i32_36
  let v46 : BitVec 32 := Scalar.addi c0_i32_37 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_28 : BitVec 32 := 1#32
  let v41 : BitVec 32 := Scalar.addi v5 c1_i32_28
  let c2_i32_29 : BitVec 32 := 2#32
  let v42 : BitVec 32 := Scalar.remsi v41 c2_i32_29
  let c2_i32_38 : BitVec 32 := 2#32
  let v47 : BitVec 32 := Scalar.muli v42 c2_i32_38
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_30 : BitVec 32 := 0#32
  let v43 : BitVec 32 := Scalar.addi v8 c0_i32_30
  let c2_i32_31 : BitVec 32 := 2#32
  let v44 : BitVec 32 := Scalar.remsi v43 c2_i32_31
  let c1_i32_39 : BitVec 32 := 1#32
  let v49 : BitVec 32 := Scalar.muli v44 c1_i32_39
  let v50 : BitVec 32 := Scalar.addi v48 v49
  v50.toNat
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let v57 : BitVec 32 := Scalar.addi v2 c0_i32_42
  let c2_i32_43 : BitVec 32 := 2#32
  let v58 : BitVec 32 := Scalar.remsi v57 c2_i32_43
  let c4_i32_52 : BitVec 32 := 4#32
  let v63 : BitVec 32 := Scalar.muli v58 c4_i32_52
  let v64 : BitVec 32 := Scalar.addi c0_i32_53 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_44 : BitVec 32 := 1#32
  let v59 : BitVec 32 := Scalar.addi v5 c1_i32_44
  let c2_i32_45 : BitVec 32 := 2#32
  let v60 : BitVec 32 := Scalar.remsi v59 c2_i32_45
  let c2_i32_54 : BitVec 32 := 2#32
  let v65 : BitVec 32 := Scalar.muli v60 c2_i32_54
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v61 : BitVec 32 := Scalar.addi v8 c1_i32_46
  let c2_i32_47 : BitVec 32 := 2#32
  let v62 : BitVec 32 := Scalar.remsi v61 c2_i32_47
  let c1_i32_55 : BitVec 32 := 1#32
  let v67 : BitVec 32 := Scalar.muli v62 c1_i32_55
  let v68 : BitVec 32 := Scalar.addi v66 v67
  v68.toNat
def k0_dev4 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v75 : BitVec 32 := Scalar.addi v2 c1_i32_58
  let c2_i32_59 : BitVec 32 := 2#32
  let v76 : BitVec 32 := Scalar.remsi v75 c2_i32_59
  let c4_i32_67 : BitVec 32 := 4#32
  let v81 : BitVec 32 := Scalar.muli v76 c4_i32_67
  let v82 : BitVec 32 := Scalar.addi c0_i32_68 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_60 : BitVec 32 := 0#32
  let v77 : BitVec 32 := Scalar.addi v5 c0_i32_60
  let c2_i32_61 : BitVec 32 := 2#32
  let v78 : BitVec 32 := Scalar.remsi v77 c2_i32_61
  let c2_i32_69 : BitVec 32 := 2#32
  let v83 : BitVec 32 := Scalar.muli v78 c2_i32_69
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_62 : BitVec 32 := 0#32
  let v79 : BitVec 32 := Scalar.addi v8 c0_i32_62
  let c2_i32_63 : BitVec 32 := 2#32
  let v80 : BitVec 32 := Scalar.remsi v79 c2_i32_63
  let c1_i32_70 : BitVec 32 := 1#32
  let v85 : BitVec 32 := Scalar.muli v80 c1_i32_70
  let v86 : BitVec 32 := Scalar.addi v84 v85
  v86.toNat
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v93 : BitVec 32 := Scalar.addi v2 c1_i32_73
  let c2_i32_74 : BitVec 32 := 2#32
  let v94 : BitVec 32 := Scalar.remsi v93 c2_i32_74
  let c4_i32_83 : BitVec 32 := 4#32
  let v99 : BitVec 32 := Scalar.muli v94 c4_i32_83
  let v100 : BitVec 32 := Scalar.addi c0_i32_84 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_75 : BitVec 32 := 0#32
  let v95 : BitVec 32 := Scalar.addi v5 c0_i32_75
  let c2_i32_76 : BitVec 32 := 2#32
  let v96 : BitVec 32 := Scalar.remsi v95 c2_i32_76
  let c2_i32_85 : BitVec 32 := 2#32
  let v101 : BitVec 32 := Scalar.muli v96 c2_i32_85
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v97 : BitVec 32 := Scalar.addi v8 c1_i32_77
  let c2_i32_78 : BitVec 32 := 2#32
  let v98 : BitVec 32 := Scalar.remsi v97 c2_i32_78
  let c1_i32_86 : BitVec 32 := 1#32
  let v103 : BitVec 32 := Scalar.muli v98 c1_i32_86
  let v104 : BitVec 32 := Scalar.addi v102 v103
  v104.toNat
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_89 : BitVec 32 := 1#32
  let v111 : BitVec 32 := Scalar.addi v2 c1_i32_89
  let c2_i32_90 : BitVec 32 := 2#32
  let v112 : BitVec 32 := Scalar.remsi v111 c2_i32_90
  let c4_i32_98 : BitVec 32 := 4#32
  let v117 : BitVec 32 := Scalar.muli v112 c4_i32_98
  let v118 : BitVec 32 := Scalar.addi c0_i32_99 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_91 : BitVec 32 := 1#32
  let v113 : BitVec 32 := Scalar.addi v5 c1_i32_91
  let c2_i32_92 : BitVec 32 := 2#32
  let v114 : BitVec 32 := Scalar.remsi v113 c2_i32_92
  let c2_i32_100 : BitVec 32 := 2#32
  let v119 : BitVec 32 := Scalar.muli v114 c2_i32_100
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v115 : BitVec 32 := Scalar.addi v8 c0_i32_93
  let c2_i32_94 : BitVec 32 := 2#32
  let v116 : BitVec 32 := Scalar.remsi v115 c2_i32_94
  let c1_i32_101 : BitVec 32 := 1#32
  let v121 : BitVec 32 := Scalar.muli v116 c1_i32_101
  let v122 : BitVec 32 := Scalar.addi v120 v121
  v122.toNat
def k0_dev7 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_104 : BitVec 32 := 1#32
  let v129 : BitVec 32 := Scalar.addi v2 c1_i32_104
  let c2_i32_105 : BitVec 32 := 2#32
  let v130 : BitVec 32 := Scalar.remsi v129 c2_i32_105
  let c4_i32_113 : BitVec 32 := 4#32
  let v135 : BitVec 32 := Scalar.muli v130 c4_i32_113
  let v136 : BitVec 32 := Scalar.addi c0_i32_114 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_106 : BitVec 32 := 1#32
  let v131 : BitVec 32 := Scalar.addi v5 c1_i32_106
  let c2_i32_107 : BitVec 32 := 2#32
  let v132 : BitVec 32 := Scalar.remsi v131 c2_i32_107
  let c2_i32_115 : BitVec 32 := 2#32
  let v137 : BitVec 32 := Scalar.muli v132 c2_i32_115
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v133 : BitVec 32 := Scalar.addi v8 c1_i32_108
  let c2_i32_109 : BitVec 32 := 2#32
  let v134 : BitVec 32 := Scalar.remsi v133 c2_i32_109
  let c1_i32_116 : BitVec 32 := 1#32
  let v139 : BitVec 32 := Scalar.muli v134 c1_i32_116
  let v140 : BitVec 32 := Scalar.addi v138 v139
  v140.toNat
def k0_dev8 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_119 : BitVec 32 := 0#32
  let v147 : BitVec 32 := Scalar.addi v2 c0_i32_119
  let c2_i32_120 : BitVec 32 := 2#32
  let v148 : BitVec 32 := Scalar.remsi v147 c2_i32_120
  let c4_i32_129 : BitVec 32 := 4#32
  let v153 : BitVec 32 := Scalar.muli v148 c4_i32_129
  let v154 : BitVec 32 := Scalar.addi c0_i32_130 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_121 : BitVec 32 := 0#32
  let v149 : BitVec 32 := Scalar.addi v5 c0_i32_121
  let c2_i32_122 : BitVec 32 := 2#32
  let v150 : BitVec 32 := Scalar.remsi v149 c2_i32_122
  let c2_i32_131 : BitVec 32 := 2#32
  let v155 : BitVec 32 := Scalar.muli v150 c2_i32_131
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v151 : BitVec 32 := Scalar.addi v8 c1_i32_123
  let c2_i32_124 : BitVec 32 := 2#32
  let v152 : BitVec 32 := Scalar.remsi v151 c2_i32_124
  let c1_i32_132 : BitVec 32 := 1#32
  let v157 : BitVec 32 := Scalar.muli v152 c1_i32_132
  let v158 : BitVec 32 := Scalar.addi v156 v157
  v158.toNat
def k0_dev9 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_135 : BitVec 32 := 0#32
  let v165 : BitVec 32 := Scalar.addi v2 c0_i32_135
  let c2_i32_136 : BitVec 32 := 2#32
  let v166 : BitVec 32 := Scalar.remsi v165 c2_i32_136
  let c4_i32_145 : BitVec 32 := 4#32
  let v171 : BitVec 32 := Scalar.muli v166 c4_i32_145
  let v172 : BitVec 32 := Scalar.addi c0_i32_146 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v167 : BitVec 32 := Scalar.addi v5 c1_i32_137
  let c2_i32_138 : BitVec 32 := 2#32
  let v168 : BitVec 32 := Scalar.remsi v167 c2_i32_138
  let c2_i32_147 : BitVec 32 := 2#32
  let v173 : BitVec 32 := Scalar.muli v168 c2_i32_147
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_139 : BitVec 32 := 0#32
  let v169 : BitVec 32 := Scalar.addi v8 c0_i32_139
  let c2_i32_140 : BitVec 32 := 2#32
  let v170 : BitVec 32 := Scalar.remsi v169 c2_i32_140
  let c1_i32_148 : BitVec 32 := 1#32
  let v175 : BitVec 32 := Scalar.muli v170 c1_i32_148
  let v176 : BitVec 32 := Scalar.addi v174 v175
  v176.toNat
def k0_dev10 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_151 : BitVec 32 := 0#32
  let v183 : BitVec 32 := Scalar.addi v2 c0_i32_151
  let c2_i32_152 : BitVec 32 := 2#32
  let v184 : BitVec 32 := Scalar.remsi v183 c2_i32_152
  let c4_i32_161 : BitVec 32 := 4#32
  let v189 : BitVec 32 := Scalar.muli v184 c4_i32_161
  let v190 : BitVec 32 := Scalar.addi c0_i32_162 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_153 : BitVec 32 := 1#32
  let v185 : BitVec 32 := Scalar.addi v5 c1_i32_153
  let c2_i32_154 : BitVec 32 := 2#32
  let v186 : BitVec 32 := Scalar.remsi v185 c2_i32_154
  let c2_i32_163 : BitVec 32 := 2#32
  let v191 : BitVec 32 := Scalar.muli v186 c2_i32_163
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v187 : BitVec 32 := Scalar.addi v8 c1_i32_155
  let c2_i32_156 : BitVec 32 := 2#32
  let v188 : BitVec 32 := Scalar.remsi v187 c2_i32_156
  let c1_i32_164 : BitVec 32 := 1#32
  let v193 : BitVec 32 := Scalar.muli v188 c1_i32_164
  let v194 : BitVec 32 := Scalar.addi v192 v193
  v194.toNat
def k0_dev11 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_167 : BitVec 32 := 1#32
  let v201 : BitVec 32 := Scalar.addi v2 c1_i32_167
  let c2_i32_168 : BitVec 32 := 2#32
  let v202 : BitVec 32 := Scalar.remsi v201 c2_i32_168
  let c4_i32_177 : BitVec 32 := 4#32
  let v207 : BitVec 32 := Scalar.muli v202 c4_i32_177
  let v208 : BitVec 32 := Scalar.addi c0_i32_178 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_169 : BitVec 32 := 0#32
  let v203 : BitVec 32 := Scalar.addi v5 c0_i32_169
  let c2_i32_170 : BitVec 32 := 2#32
  let v204 : BitVec 32 := Scalar.remsi v203 c2_i32_170
  let c2_i32_179 : BitVec 32 := 2#32
  let v209 : BitVec 32 := Scalar.muli v204 c2_i32_179
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_171 : BitVec 32 := 0#32
  let v205 : BitVec 32 := Scalar.addi v8 c0_i32_171
  let c2_i32_172 : BitVec 32 := 2#32
  let v206 : BitVec 32 := Scalar.remsi v205 c2_i32_172
  let c1_i32_180 : BitVec 32 := 1#32
  let v211 : BitVec 32 := Scalar.muli v206 c1_i32_180
  let v212 : BitVec 32 := Scalar.addi v210 v211
  v212.toNat
def k0_dev12 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_183 : BitVec 32 := 1#32
  let v219 : BitVec 32 := Scalar.addi v2 c1_i32_183
  let c2_i32_184 : BitVec 32 := 2#32
  let v220 : BitVec 32 := Scalar.remsi v219 c2_i32_184
  let c4_i32_193 : BitVec 32 := 4#32
  let v225 : BitVec 32 := Scalar.muli v220 c4_i32_193
  let v226 : BitVec 32 := Scalar.addi c0_i32_194 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_185 : BitVec 32 := 0#32
  let v221 : BitVec 32 := Scalar.addi v5 c0_i32_185
  let c2_i32_186 : BitVec 32 := 2#32
  let v222 : BitVec 32 := Scalar.remsi v221 c2_i32_186
  let c2_i32_195 : BitVec 32 := 2#32
  let v227 : BitVec 32 := Scalar.muli v222 c2_i32_195
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v223 : BitVec 32 := Scalar.addi v8 c1_i32_187
  let c2_i32_188 : BitVec 32 := 2#32
  let v224 : BitVec 32 := Scalar.remsi v223 c2_i32_188
  let c1_i32_196 : BitVec 32 := 1#32
  let v229 : BitVec 32 := Scalar.muli v224 c1_i32_196
  let v230 : BitVec 32 := Scalar.addi v228 v229
  v230.toNat
def k0_dev13 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_199 : BitVec 32 := 1#32
  let v237 : BitVec 32 := Scalar.addi v2 c1_i32_199
  let c2_i32_200 : BitVec 32 := 2#32
  let v238 : BitVec 32 := Scalar.remsi v237 c2_i32_200
  let c4_i32_209 : BitVec 32 := 4#32
  let v243 : BitVec 32 := Scalar.muli v238 c4_i32_209
  let v244 : BitVec 32 := Scalar.addi c0_i32_210 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_201 : BitVec 32 := 1#32
  let v239 : BitVec 32 := Scalar.addi v5 c1_i32_201
  let c2_i32_202 : BitVec 32 := 2#32
  let v240 : BitVec 32 := Scalar.remsi v239 c2_i32_202
  let c2_i32_211 : BitVec 32 := 2#32
  let v245 : BitVec 32 := Scalar.muli v240 c2_i32_211
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_203 : BitVec 32 := 0#32
  let v241 : BitVec 32 := Scalar.addi v8 c0_i32_203
  let c2_i32_204 : BitVec 32 := 2#32
  let v242 : BitVec 32 := Scalar.remsi v241 c2_i32_204
  let c1_i32_212 : BitVec 32 := 1#32
  let v247 : BitVec 32 := Scalar.muli v242 c1_i32_212
  let v248 : BitVec 32 := Scalar.addi v246 v247
  v248.toNat
def k0_dev14 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_215 : BitVec 32 := 1#32
  let v255 : BitVec 32 := Scalar.addi v2 c1_i32_215
  let c2_i32_216 : BitVec 32 := 2#32
  let v256 : BitVec 32 := Scalar.remsi v255 c2_i32_216
  let c4_i32_225 : BitVec 32 := 4#32
  let v261 : BitVec 32 := Scalar.muli v256 c4_i32_225
  let v262 : BitVec 32 := Scalar.addi c0_i32_226 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_217 : BitVec 32 := 1#32
  let v257 : BitVec 32 := Scalar.addi v5 c1_i32_217
  let c2_i32_218 : BitVec 32 := 2#32
  let v258 : BitVec 32 := Scalar.remsi v257 c2_i32_218
  let c2_i32_227 : BitVec 32 := 2#32
  let v263 : BitVec 32 := Scalar.muli v258 c2_i32_227
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v259 : BitVec 32 := Scalar.addi v8 c1_i32_219
  let c2_i32_220 : BitVec 32 := 2#32
  let v260 : BitVec 32 := Scalar.remsi v259 c2_i32_220
  let c1_i32_228 : BitVec 32 := 1#32
  let v265 : BitVec 32 := Scalar.muli v260 c1_i32_228
  let v266 : BitVec 32 := Scalar.addi v264 v265
  v266.toNat
-- ==== CondIdeal.lean ====
abbrev S8x128 : Shape := ⟨2, ![8, 128]⟩
abbrev S4x512 : Shape := ⟨2, ![4, 512]⟩
abbrev S8x8x128 : Shape := ⟨3, ![8, 8, 128]⟩
abbrev S8x4x512 : Shape := ⟨3, ![8, 4, 512]⟩
abbrev S2x7 : Shape := ⟨2, ![2, 7]⟩
abbrev S2 : Shape := ⟨1, ![2]⟩
abbrev S1 : Shape := ⟨1, ![1]⟩
abbrev S_ : Shape := ⟨0, ![]⟩
abbrev S1x8x128 : Shape := ⟨3, ![1, 8, 128]⟩
abbrev S1x4x512 : Shape := ⟨3, ![1, 4, 512]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S4x512, .f32⟩
  | .hbm, ⟨2, _⟩ => ⟨S8x8x128, .f32⟩
  | .hbm, ⟨3, _⟩ => ⟨S8x4x512, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v21 : BitVec 32 := Scalar.addi v2 c0_i32_10
  let c2_i32_11 : BitVec 32 := 2#32
  let v22 : BitVec 32 := Scalar.remsi v21 c2_i32_11
  let c4_i32_20 : BitVec 32 := 4#32
  let v27 : BitVec 32 := Scalar.muli v22 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_12 : BitVec 32 := 0#32
  let v23 : BitVec 32 := Scalar.addi v5 c0_i32_12
  let c2_i32_13 : BitVec 32 := 2#32
  let v24 : BitVec 32 := Scalar.remsi v23 c2_i32_13
  let c2_i32_22 : BitVec 32 := 2#32
  let v29 : BitVec 32 := Scalar.muli v24 c2_i32_22
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.addi v8 c1_i32_14
  let c2_i32_15 : BitVec 32 := 2#32
  let v26 : BitVec 32 := Scalar.remsi v25 c2_i32_15
  let c1_i32_23 : BitVec 32 := 1#32
  let v31 : BitVec 32 := Scalar.muli v26 c1_i32_23
  let v32 : BitVec 32 := Scalar.addi v30 v31
  v32.toNat
def k0_dev2 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_26 : BitVec 32 := 0#32
  let v39 : BitVec 32 := Scalar.addi v2 c0_i32_26
  let c2_i32_27 : BitVec 32 := 2#32
  let v40 : BitVec 32 := Scalar.remsi v39 c2_i32_27
  let c4_i32_36 : BitVec 32 := 4#32
  let v45 : BitVec 32 := Scalar.muli v40 c4_i32_36
  let v46 : BitVec 32 := Scalar.addi c0_i32_37 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_28 : BitVec 32 := 1#32
  let v41 : BitVec 32 := Scalar.addi v5 c1_i32_28
  let c2_i32_29 : BitVec 32 := 2#32
  let v42 : BitVec 32 := Scalar.remsi v41 c2_i32_29
  let c2_i32_38 : BitVec 32 := 2#32
  let v47 : BitVec 32 := Scalar.muli v42 c2_i32_38
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_30 : BitVec 32 := 0#32
  let v43 : BitVec 32 := Scalar.addi v8 c0_i32_30
  let c2_i32_31 : BitVec 32 := 2#32
  let v44 : BitVec 32 := Scalar.remsi v43 c2_i32_31
  let c1_i32_39 : BitVec 32 := 1#32
  let v49 : BitVec 32 := Scalar.muli v44 c1_i32_39
  let v50 : BitVec 32 := Scalar.addi v48 v49
  v50.toNat
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let v57 : BitVec 32 := Scalar.addi v2 c0_i32_42
  let c2_i32_43 : BitVec 32 := 2#32
  let v58 : BitVec 32 := Scalar.remsi v57 c2_i32_43
  let c4_i32_52 : BitVec 32 := 4#32
  let v63 : BitVec 32 := Scalar.muli v58 c4_i32_52
  let v64 : BitVec 32 := Scalar.addi c0_i32_53 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_44 : BitVec 32 := 1#32
  let v59 : BitVec 32 := Scalar.addi v5 c1_i32_44
  let c2_i32_45 : BitVec 32 := 2#32
  let v60 : BitVec 32 := Scalar.remsi v59 c2_i32_45
  let c2_i32_54 : BitVec 32 := 2#32
  let v65 : BitVec 32 := Scalar.muli v60 c2_i32_54
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v61 : BitVec 32 := Scalar.addi v8 c1_i32_46
  let c2_i32_47 : BitVec 32 := 2#32
  let v62 : BitVec 32 := Scalar.remsi v61 c2_i32_47
  let c1_i32_55 : BitVec 32 := 1#32
  let v67 : BitVec 32 := Scalar.muli v62 c1_i32_55
  let v68 : BitVec 32 := Scalar.addi v66 v67
  v68.toNat
def k0_dev4 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v75 : BitVec 32 := Scalar.addi v2 c1_i32_58
  let c2_i32_59 : BitVec 32 := 2#32
  let v76 : BitVec 32 := Scalar.remsi v75 c2_i32_59
  let c4_i32_67 : BitVec 32 := 4#32
  let v81 : BitVec 32 := Scalar.muli v76 c4_i32_67
  let v82 : BitVec 32 := Scalar.addi c0_i32_68 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_60 : BitVec 32 := 0#32
  let v77 : BitVec 32 := Scalar.addi v5 c0_i32_60
  let c2_i32_61 : BitVec 32 := 2#32
  let v78 : BitVec 32 := Scalar.remsi v77 c2_i32_61
  let c2_i32_69 : BitVec 32 := 2#32
  let v83 : BitVec 32 := Scalar.muli v78 c2_i32_69
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_62 : BitVec 32 := 0#32
  let v79 : BitVec 32 := Scalar.addi v8 c0_i32_62
  let c2_i32_63 : BitVec 32 := 2#32
  let v80 : BitVec 32 := Scalar.remsi v79 c2_i32_63
  let c1_i32_70 : BitVec 32 := 1#32
  let v85 : BitVec 32 := Scalar.muli v80 c1_i32_70
  let v86 : BitVec 32 := Scalar.addi v84 v85
  v86.toNat
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v93 : BitVec 32 := Scalar.addi v2 c1_i32_73
  let c2_i32_74 : BitVec 32 := 2#32
  let v94 : BitVec 32 := Scalar.remsi v93 c2_i32_74
  let c4_i32_83 : BitVec 32 := 4#32
  let v99 : BitVec 32 := Scalar.muli v94 c4_i32_83
  let v100 : BitVec 32 := Scalar.addi c0_i32_84 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_75 : BitVec 32 := 0#32
  let v95 : BitVec 32 := Scalar.addi v5 c0_i32_75
  let c2_i32_76 : BitVec 32 := 2#32
  let v96 : BitVec 32 := Scalar.remsi v95 c2_i32_76
  let c2_i32_85 : BitVec 32 := 2#32
  let v101 : BitVec 32 := Scalar.muli v96 c2_i32_85
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v97 : BitVec 32 := Scalar.addi v8 c1_i32_77
  let c2_i32_78 : BitVec 32 := 2#32
  let v98 : BitVec 32 := Scalar.remsi v97 c2_i32_78
  let c1_i32_86 : BitVec 32 := 1#32
  let v103 : BitVec 32 := Scalar.muli v98 c1_i32_86
  let v104 : BitVec 32 := Scalar.addi v102 v103
  v104.toNat
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_89 : BitVec 32 := 1#32
  let v111 : BitVec 32 := Scalar.addi v2 c1_i32_89
  let c2_i32_90 : BitVec 32 := 2#32
  let v112 : BitVec 32 := Scalar.remsi v111 c2_i32_90
  let c4_i32_98 : BitVec 32 := 4#32
  let v117 : BitVec 32 := Scalar.muli v112 c4_i32_98
  let v118 : BitVec 32 := Scalar.addi c0_i32_99 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_91 : BitVec 32 := 1#32
  let v113 : BitVec 32 := Scalar.addi v5 c1_i32_91
  let c2_i32_92 : BitVec 32 := 2#32
  let v114 : BitVec 32 := Scalar.remsi v113 c2_i32_92
  let c2_i32_100 : BitVec 32 := 2#32
  let v119 : BitVec 32 := Scalar.muli v114 c2_i32_100
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v115 : BitVec 32 := Scalar.addi v8 c0_i32_93
  let c2_i32_94 : BitVec 32 := 2#32
  let v116 : BitVec 32 := Scalar.remsi v115 c2_i32_94
  let c1_i32_101 : BitVec 32 := 1#32
  let v121 : BitVec 32 := Scalar.muli v116 c1_i32_101
  let v122 : BitVec 32 := Scalar.addi v120 v121
  v122.toNat
def k0_dev7 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_104 : BitVec 32 := 1#32
  let v129 : BitVec 32 := Scalar.addi v2 c1_i32_104
  let c2_i32_105 : BitVec 32 := 2#32
  let v130 : BitVec 32 := Scalar.remsi v129 c2_i32_105
  let c4_i32_113 : BitVec 32 := 4#32
  let v135 : BitVec 32 := Scalar.muli v130 c4_i32_113
  let v136 : BitVec 32 := Scalar.addi c0_i32_114 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_106 : BitVec 32 := 1#32
  let v131 : BitVec 32 := Scalar.addi v5 c1_i32_106
  let c2_i32_107 : BitVec 32 := 2#32
  let v132 : BitVec 32 := Scalar.remsi v131 c2_i32_107
  let c2_i32_115 : BitVec 32 := 2#32
  let v137 : BitVec 32 := Scalar.muli v132 c2_i32_115
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v133 : BitVec 32 := Scalar.addi v8 c1_i32_108
  let c2_i32_109 : BitVec 32 := 2#32
  let v134 : BitVec 32 := Scalar.remsi v133 c2_i32_109
  let c1_i32_116 : BitVec 32 := 1#32
  let v139 : BitVec 32 := Scalar.muli v134 c1_i32_116
  let v140 : BitVec 32 := Scalar.addi v138 v139
  v140.toNat
def k0_dev8 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_119 : BitVec 32 := 0#32
  let v147 : BitVec 32 := Scalar.addi v2 c0_i32_119
  let c2_i32_120 : BitVec 32 := 2#32
  let v148 : BitVec 32 := Scalar.remsi v147 c2_i32_120
  let c4_i32_129 : BitVec 32 := 4#32
  let v153 : BitVec 32 := Scalar.muli v148 c4_i32_129
  let v154 : BitVec 32 := Scalar.addi c0_i32_130 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_121 : BitVec 32 := 0#32
  let v149 : BitVec 32 := Scalar.addi v5 c0_i32_121
  let c2_i32_122 : BitVec 32 := 2#32
  let v150 : BitVec 32 := Scalar.remsi v149 c2_i32_122
  let c2_i32_131 : BitVec 32 := 2#32
  let v155 : BitVec 32 := Scalar.muli v150 c2_i32_131
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v151 : BitVec 32 := Scalar.addi v8 c1_i32_123
  let c2_i32_124 : BitVec 32 := 2#32
  let v152 : BitVec 32 := Scalar.remsi v151 c2_i32_124
  let c1_i32_132 : BitVec 32 := 1#32
  let v157 : BitVec 32 := Scalar.muli v152 c1_i32_132
  let v158 : BitVec 32 := Scalar.addi v156 v157
  v158.toNat
def k0_dev9 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_135 : BitVec 32 := 0#32
  let v165 : BitVec 32 := Scalar.addi v2 c0_i32_135
  let c2_i32_136 : BitVec 32 := 2#32
  let v166 : BitVec 32 := Scalar.remsi v165 c2_i32_136
  let c4_i32_145 : BitVec 32 := 4#32
  let v171 : BitVec 32 := Scalar.muli v166 c4_i32_145
  let v172 : BitVec 32 := Scalar.addi c0_i32_146 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v167 : BitVec 32 := Scalar.addi v5 c1_i32_137
  let c2_i32_138 : BitVec 32 := 2#32
  let v168 : BitVec 32 := Scalar.remsi v167 c2_i32_138
  let c2_i32_147 : BitVec 32 := 2#32
  let v173 : BitVec 32 := Scalar.muli v168 c2_i32_147
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_139 : BitVec 32 := 0#32
  let v169 : BitVec 32 := Scalar.addi v8 c0_i32_139
  let c2_i32_140 : BitVec 32 := 2#32
  let v170 : BitVec 32 := Scalar.remsi v169 c2_i32_140
  let c1_i32_148 : BitVec 32 := 1#32
  let v175 : BitVec 32 := Scalar.muli v170 c1_i32_148
  let v176 : BitVec 32 := Scalar.addi v174 v175
  v176.toNat
def k0_dev10 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_151 : BitVec 32 := 0#32
  let v183 : BitVec 32 := Scalar.addi v2 c0_i32_151
  let c2_i32_152 : BitVec 32 := 2#32
  let v184 : BitVec 32 := Scalar.remsi v183 c2_i32_152
  let c4_i32_161 : BitVec 32 := 4#32
  let v189 : BitVec 32 := Scalar.muli v184 c4_i32_161
  let v190 : BitVec 32 := Scalar.addi c0_i32_162 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_153 : BitVec 32 := 1#32
  let v185 : BitVec 32 := Scalar.addi v5 c1_i32_153
  let c2_i32_154 : BitVec 32 := 2#32
  let v186 : BitVec 32 := Scalar.remsi v185 c2_i32_154
  let c2_i32_163 : BitVec 32 := 2#32
  let v191 : BitVec 32 := Scalar.muli v186 c2_i32_163
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v187 : BitVec 32 := Scalar.addi v8 c1_i32_155
  let c2_i32_156 : BitVec 32 := 2#32
  let v188 : BitVec 32 := Scalar.remsi v187 c2_i32_156
  let c1_i32_164 : BitVec 32 := 1#32
  let v193 : BitVec 32 := Scalar.muli v188 c1_i32_164
  let v194 : BitVec 32 := Scalar.addi v192 v193
  v194.toNat
def k0_dev11 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_167 : BitVec 32 := 1#32
  let v201 : BitVec 32 := Scalar.addi v2 c1_i32_167
  let c2_i32_168 : BitVec 32 := 2#32
  let v202 : BitVec 32 := Scalar.remsi v201 c2_i32_168
  let c4_i32_177 : BitVec 32 := 4#32
  let v207 : BitVec 32 := Scalar.muli v202 c4_i32_177
  let v208 : BitVec 32 := Scalar.addi c0_i32_178 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_169 : BitVec 32 := 0#32
  let v203 : BitVec 32 := Scalar.addi v5 c0_i32_169
  let c2_i32_170 : BitVec 32 := 2#32
  let v204 : BitVec 32 := Scalar.remsi v203 c2_i32_170
  let c2_i32_179 : BitVec 32 := 2#32
  let v209 : BitVec 32 := Scalar.muli v204 c2_i32_179
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_171 : BitVec 32 := 0#32
  let v205 : BitVec 32 := Scalar.addi v8 c0_i32_171
  let c2_i32_172 : BitVec 32 := 2#32
  let v206 : BitVec 32 := Scalar.remsi v205 c2_i32_172
  let c1_i32_180 : BitVec 32 := 1#32
  let v211 : BitVec 32 := Scalar.muli v206 c1_i32_180
  let v212 : BitVec 32 := Scalar.addi v210 v211
  v212.toNat
def k0_dev12 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_183 : BitVec 32 := 1#32
  let v219 : BitVec 32 := Scalar.addi v2 c1_i32_183
  let c2_i32_184 : BitVec 32 := 2#32
  let v220 : BitVec 32 := Scalar.remsi v219 c2_i32_184
  let c4_i32_193 : BitVec 32 := 4#32
  let v225 : BitVec 32 := Scalar.muli v220 c4_i32_193
  let v226 : BitVec 32 := Scalar.addi c0_i32_194 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_185 : BitVec 32 := 0#32
  let v221 : BitVec 32 := Scalar.addi v5 c0_i32_185
  let c2_i32_186 : BitVec 32 := 2#32
  let v222 : BitVec 32 := Scalar.remsi v221 c2_i32_186
  let c2_i32_195 : BitVec 32 := 2#32
  let v227 : BitVec 32 := Scalar.muli v222 c2_i32_195
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v223 : BitVec 32 := Scalar.addi v8 c1_i32_187
  let c2_i32_188 : BitVec 32 := 2#32
  let v224 : BitVec 32 := Scalar.remsi v223 c2_i32_188
  let c1_i32_196 : BitVec 32 := 1#32
  let v229 : BitVec 32 := Scalar.muli v224 c1_i32_196
  let v230 : BitVec 32 := Scalar.addi v228 v229
  v230.toNat
def k0_dev13 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_199 : BitVec 32 := 1#32
  let v237 : BitVec 32 := Scalar.addi v2 c1_i32_199
  let c2_i32_200 : BitVec 32 := 2#32
  let v238 : BitVec 32 := Scalar.remsi v237 c2_i32_200
  let c4_i32_209 : BitVec 32 := 4#32
  let v243 : BitVec 32 := Scalar.muli v238 c4_i32_209
  let v244 : BitVec 32 := Scalar.addi c0_i32_210 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_201 : BitVec 32 := 1#32
  let v239 : BitVec 32 := Scalar.addi v5 c1_i32_201
  let c2_i32_202 : BitVec 32 := 2#32
  let v240 : BitVec 32 := Scalar.remsi v239 c2_i32_202
  let c2_i32_211 : BitVec 32 := 2#32
  let v245 : BitVec 32 := Scalar.muli v240 c2_i32_211
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_203 : BitVec 32 := 0#32
  let v241 : BitVec 32 := Scalar.addi v8 c0_i32_203
  let c2_i32_204 : BitVec 32 := 2#32
  let v242 : BitVec 32 := Scalar.remsi v241 c2_i32_204
  let c1_i32_212 : BitVec 32 := 1#32
  let v247 : BitVec 32 := Scalar.muli v242 c1_i32_212
  let v248 : BitVec 32 := Scalar.addi v246 v247
  v248.toNat
def k0_dev14 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_215 : BitVec 32 := 1#32
  let v255 : BitVec 32 := Scalar.addi v2 c1_i32_215
  let c2_i32_216 : BitVec 32 := 2#32
  let v256 : BitVec 32 := Scalar.remsi v255 c2_i32_216
  let c4_i32_225 : BitVec 32 := 4#32
  let v261 : BitVec 32 := Scalar.muli v256 c4_i32_225
  let v262 : BitVec 32 := Scalar.addi c0_i32_226 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_217 : BitVec 32 := 1#32
  let v257 : BitVec 32 := Scalar.addi v5 c1_i32_217
  let c2_i32_218 : BitVec 32 := 2#32
  let v258 : BitVec 32 := Scalar.remsi v257 c2_i32_218
  let c2_i32_227 : BitVec 32 := 2#32
  let v263 : BitVec 32 := Scalar.muli v258 c2_i32_227
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v259 : BitVec 32 := Scalar.addi v8 c1_i32_219
  let c2_i32_220 : BitVec 32 := 2#32
  let v260 : BitVec 32 := Scalar.remsi v259 c2_i32_220
  let c1_i32_228 : BitVec 32 := 1#32
  let v265 : BitVec 32 := Scalar.muli v260 c1_i32_228
  let v266 : BitVec 32 := Scalar.addi v264 v265
  v266.toNat
-- ==== CondReference.lean ====
abbrev S64x128 : Shape := ⟨2, ![64, 128]⟩
abbrev S4x4096 : Shape := ⟨2, ![4, 4096]⟩
abbrev S8x8x128 : Shape := ⟨3, ![8, 8, 128]⟩
abbrev S4x8x512 : Shape := ⟨3, ![4, 8, 512]⟩
abbrev S8x4x512 : Shape := ⟨3, ![8, 4, 512]⟩

abbrev nBuf : Space → Nat
  | .hbm => 5
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S4x4096, .f32⟩
  | .hbm, ⟨2, _⟩ => ⟨S8x8x128, .f32⟩
  | .hbm, ⟨3, _⟩ => ⟨S4x8x512, .f32⟩
  | .hbm, ⟨4, _⟩ => ⟨S8x4x512, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumWin.lean ====
abbrev S8x1024x1408 : Shape := ⟨3, ![8, 1024, 1408]⟩
abbrev S1024x1408 : Shape := ⟨2, ![1024, 1408]⟩
abbrev S8x256x1408 : Shape := ⟨3, ![8, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1408, .bf16⟩
  | .hbm, ⟨1, _⟩ => ⟨S1024x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | _, _ => ⟨S8x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWinReferenceIdeal.lean ====
abbrev S8x1024x1408 : Shape := ⟨3, ![8, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S8x1024x1408, .f32⟩
  | .hbm, ⟨2, _⟩ => ⟨S_, .f32⟩
  | .hbm, ⟨3, _⟩ => ⟨S1024x1408, .f32⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x1296x128 : Shape := ⟨3, ![8, 1296, 128]⟩
abbrev S1296x128 : Shape := ⟨2, ![1296, 128]⟩
abbrev S1x1296x128 : Shape := ⟨3, ![1, 1296, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1296x128, .f32⟩
  | .hbm, ⟨1, _⟩ => ⟨S1296x128, .f32⟩
  | .local _ .vmem, ⟨0, _⟩ => ⟨S8x1296x128, .f32⟩
  | .local _ .vmem, ⟨1, _⟩ => ⟨S1296x128, .f32⟩
  | _, _ => ⟨S8x1296x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallReferenceIdeal.lean ====
abbrev S8x1296x128 : Shape := ⟨3, ![8, 1296, 128]⟩
abbrev S_ : Shape := ⟨0, ![]⟩
abbrev S1296x128 : Shape := ⟨2, ![1296, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1296x128, .f32⟩
  | .hbm, ⟨1, _⟩ => ⟨S_, .f32⟩
  | .hbm, ⟨2, _⟩ => ⟨S1296x128, .f32⟩
  | _, _ => ⟨S8x1296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwWMod.lean ====
abbrev S1x1024x768 : Shape := ⟨3, ![1, 1024, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWModIdeal.lean ====
abbrev S1x1024x768 : Shape := ⟨3, ![1, 1024, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWModReferenceIdeal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBMod.lean ====
abbrev S1x6144 : Shape := ⟨2, ![1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .hbm, ⟨7, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwBModIdeal.lean ====
abbrev S1x6144 : Shape := ⟨2, ![1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .hbm, ⟨7, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwBModReferenceIdeal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWIn.lean ====
abbrev S1x1024x1284 : Shape := ⟨3, ![1, 1024, 1284]⟩
abbrev S1x256x1284 : Shape := ⟨3, ![1, 256, 1284]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1284, .f32⟩
  | .hbm, ⟨1, _⟩ => ⟨S1x1024x1284, .f32⟩
  | .hbm, ⟨2, _⟩ => ⟨S1x1024x1284, .f32⟩
  | .hbm, ⟨3, _⟩ => ⟨S1x1024x1284, .f32⟩
  | .hbm, ⟨4, _⟩ => ⟨S1x1024x1284, .f32⟩
  | .hbm, ⟨5, _⟩ => ⟨S1x1024x1284, .f32⟩
  | .hbm, ⟨6, _⟩ => ⟨S1x1024x1284, .f32⟩
  | .hbm, ⟨7, _⟩ => ⟨S1x1024x1284, .f32⟩
  | .local _ .vmem, ⟨0, _⟩ => ⟨S1x256x1284, .f32⟩
  | .local _ .vmem, ⟨1, _⟩ => ⟨S1x256x1284, .f32⟩
  | .local _ .vmem, ⟨2, _⟩ => ⟨S1x256x1284, .f32⟩
  | .local _ .vmem, ⟨3, _⟩ => ⟨S1x256x1284, .f32⟩
  | .local _ .vmem, ⟨4, _⟩ => ⟨S1x256x1284, .f32⟩
  | .local _ .vmem, ⟨5, _⟩ => ⟨S1x256x1284, .f32⟩
  | .local _ .vmem, ⟨6, _⟩ => ⟨S1x256x1284, .f32⟩
  | .local _ .vmem, ⟨7, _⟩ => ⟨S1x256x1284, .f32⟩
  | .local _ .vmem, ⟨8, _⟩ => ⟨S1x256x1284, .f32⟩
  | .local _ .vmem, ⟨9, _⟩ => ⟨S1x256x1284, .f32⟩
  | .local _ .vmem, ⟨10, _⟩ => ⟨S1x256x1284, .f32⟩
  | .local _ .vmem, ⟨11, _⟩ => ⟨S1x256x1284, .f32⟩
  | .local _ .vmem, ⟨12, _⟩ => ⟨S1x256x1284, .f32⟩
  | .local _ .vmem, ⟨13, _⟩ => ⟨S1x256x1284, .f32⟩
  | .local _ .vmem, ⟨14, _⟩ => ⟨S1x256x1284, .f32⟩
  | .local _ .vmem, ⟨15, _⟩ => ⟨S1x256x1284, .f32⟩
  | _, _ => ⟨S1x1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWInIdeal.lean ====
abbrev S1x1024x1284 : Shape := ⟨3, ![1, 1024, 1284]⟩
abbrev S1x256x1284 : Shape := ⟨3, ![1, 256, 1284]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1284, .f32⟩
  | .hbm, ⟨1, _⟩ => ⟨S1x1024x1284, .f32⟩
  | .hbm, ⟨2, _⟩ => ⟨S1x1024x1284, .f32⟩
  | .hbm, ⟨3, _⟩ => ⟨S1x1024x1284, .f32⟩
  | .hbm, ⟨4, _⟩ => ⟨S1x1024x1284, .f32⟩
  | .hbm, ⟨5, _⟩ => ⟨S1x1024x1284, .f32⟩
  | .hbm, ⟨6, _⟩ => ⟨S1x1024x1284, .f32⟩
  | .hbm, ⟨7, _⟩ => ⟨S1x1024x1284, .f32⟩
  | .local _ .vmem, ⟨0, _⟩ => ⟨S1x256x1284, .f32⟩
  | .local _ .vmem, ⟨1, _⟩ => ⟨S1x256x1284, .f32⟩
  | .local _ .vmem, ⟨2, _⟩ => ⟨S1x256x1284, .f32⟩
  | .local _ .vmem, ⟨3, _⟩ => ⟨S1x256x1284, .f32⟩
  | .local _ .vmem, ⟨4, _⟩ => ⟨S1x256x1284, .f32⟩
  | .local _ .vmem, ⟨5, _⟩ => ⟨S1x256x1284, .f32⟩
  | .local _ .vmem, ⟨6, _⟩ => ⟨S1x256x1284, .f32⟩
  | .local _ .vmem, ⟨7, _⟩ => ⟨S1x256x1284, .f32⟩
  | .local _ .vmem, ⟨8, _⟩ => ⟨S1x256x1284, .f32⟩
  | .local _ .vmem, ⟨9, _⟩ => ⟨S1x256x1284, .f32⟩
  | .local _ .vmem, ⟨10, _⟩ => ⟨S1x256x1284, .f32⟩
  | .local _ .vmem, ⟨11, _⟩ => ⟨S1x256x1284, .f32⟩
  | .local _ .vmem, ⟨12, _⟩ => ⟨S1x256x1284, .f32⟩
  | .local _ .vmem, ⟨13, _⟩ => ⟨S1x256x1284, .f32⟩
  | .local _ .vmem, ⟨14, _⟩ => ⟨S1x256x1284, .f32⟩
  | .local _ .vmem, ⟨15, _⟩ => ⟨S1x256x1284, .f32⟩
  | _, _ => ⟨S1x1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWInReferenceIdeal.lean ====
abbrev S1x1024x1284 : Shape := ⟨3, ![1, 1024, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1284, .f32⟩
  | .hbm, ⟨1, _⟩ => ⟨S1x1024x1284, .f32⟩
  | .hbm, ⟨2, _⟩ => ⟨S1x1024x1284, .f32⟩
  | .hbm, ⟨3, _⟩ => ⟨S1x1024x1284, .f32⟩
  | .hbm, ⟨4, _⟩ => ⟨S_, .f32⟩
  | .hbm, ⟨5, _⟩ => ⟨S1x1024x1284, .f32⟩
  | .hbm, ⟨6, _⟩ => ⟨S1x1024x1284, .f32⟩
  | .hbm, ⟨7, _⟩ => ⟨S_, .f32⟩
  | .hbm, ⟨8, _⟩ => ⟨S1x1024x1284, .f32⟩
  | .hbm, ⟨9, _⟩ => ⟨S1x1024x1284, .f32⟩
  | .hbm, ⟨10, _⟩ => ⟨S1x1024x1284, .f32⟩
  | .hbm, ⟨11, _⟩ => ⟨S_, .f32⟩
  | .hbm, ⟨12, _⟩ => ⟨S1x1024x1284, .f32⟩
  | .hbm, ⟨13, _⟩ => ⟨S1x1024x1284, .f32⟩
  | .hbm, ⟨14, _⟩ => ⟨S1x1024x1284, .f32⟩
  | .hbm, ⟨15, _⟩ => ⟨S_, .f32⟩
  | .hbm, ⟨16, _⟩ => ⟨S1x1024x1284, .f32⟩
  | .hbm, ⟨17, _⟩ => ⟨S1x1024x1284, .f32⟩
  | .hbm, ⟨18, _⟩ => ⟨S1x1024x1284, .f32⟩
  | .hbm, ⟨19, _⟩ => ⟨S_, .f32⟩
  | .hbm, ⟨20, _⟩ => ⟨S1x1024x1284, .f32⟩
  | .hbm, ⟨21, _⟩ => ⟨S1x1024x1284, .f32⟩
  | .hbm, ⟨22, _⟩ => ⟨S_, .f32⟩
  | .hbm, ⟨23, _⟩ => ⟨S1x1024x1284, .f32⟩
  | .hbm, ⟨24, _⟩ => ⟨S1x1024x1284, .f32⟩
  | .hbm, ⟨25, _⟩ => ⟨S1x1024x1284, .f32⟩
  | .hbm, ⟨26, _⟩ => ⟨S_, .f32⟩
  | .hbm, ⟨27, _⟩ => ⟨S1x1024x1284, .f32⟩
  | .hbm, ⟨28, _⟩ => ⟨S1x1024x1284, .f32⟩
  | .hbm, ⟨29, _⟩ => ⟨S1x1024x1284, .f32⟩
  | .hbm, ⟨30, _⟩ => ⟨S_, .f32⟩
  | .hbm, ⟨31, _⟩ => ⟨S1x1024x1284, .f32⟩
  | .hbm, ⟨32, _⟩ => ⟨S1x1024x1284, .f32⟩
  | .hbm, ⟨33, _⟩ => ⟨S1x1024x1284, .f32⟩
  | .hbm, ⟨34, _⟩ => ⟨S_, .f32⟩
  | .hbm, ⟨35, _⟩ => ⟨S1x1024x1284, .f32⟩
  | .hbm, ⟨36, _⟩ => ⟨S1x1024x1284, .f32⟩
  | _, _ => ⟨S1x1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwNorm.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwNormIdeal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwNormReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGmWs.lean ====
abbrev S1x8x128x128 : Shape := ⟨4, ![1, 8, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1x8x128x128, .f32⟩
  | .hbm, ⟨5, _⟩ => ⟨S1x8x128x128, .f32⟩
  | .hbm, ⟨6, _⟩ => ⟨S1x8x128x128, .f32⟩
  | .hbm, ⟨7, _⟩ => ⟨S1x8x128x128, .f32⟩
  | .local _ .vmem, ⟨0, _⟩ => ⟨S1x8x128x128, .f32⟩
  | .local _ .vmem, ⟨1, _⟩ => ⟨S1x8x128x128, .f32⟩
  | .local _ .vmem, ⟨2, _⟩ => ⟨S1x8x128x128, .f32⟩
  | .local _ .vmem, ⟨3, _⟩ => ⟨S1x8x128x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x128x128, .f32⟩
  | .local _ .vmem, ⟨7, _⟩ => ⟨S1x8x128x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S1x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGmWsIdeal.lean ====
abbrev S1x8x128x128 : Shape := ⟨4, ![1, 8, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1x8x128x128, .f32⟩
  | .hbm, ⟨5, _⟩ => ⟨S1x8x128x128, .f32⟩
  | .hbm, ⟨6, _⟩ => ⟨S1x8x128x128, .f32⟩
  | .hbm, ⟨7, _⟩ => ⟨S1x8x128x128, .f32⟩
  | .local _ .vmem, ⟨0, _⟩ => ⟨S1x8x128x128, .f32⟩
  | .local _ .vmem, ⟨1, _⟩ => ⟨S1x8x128x128, .f32⟩
  | .local _ .vmem, ⟨2, _⟩ => ⟨S1x8x128x128, .f32⟩
  | .local _ .vmem, ⟨3, _⟩ => ⟨S1x8x128x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x128x128, .f32⟩
  | .local _ .vmem, ⟨7, _⟩ => ⟨S1x8x128x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S1x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGmWsReferenceIdeal.lean ====
abbrev S1x8x128x128 : Shape := ⟨4, ![1, 8, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S_, .f32⟩
  | .hbm, ⟨5, _⟩ => ⟨S1x8x128x128, .f32⟩
  | .hbm, ⟨6, _⟩ => ⟨S1x8x128x128, .f32⟩
  | .hbm, ⟨7, _⟩ => ⟨S_, .f32⟩
  | .hbm, ⟨8, _⟩ => ⟨S1x8x128x128, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGmBs.lean ====
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGmBsIdeal.lean ====
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGmBsReferenceIdeal.lean ====
abbrev S1x8x128 : Shape := ⟨3, ![1, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConvW.lean ====
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S1x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwConvWIdeal.lean ====
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S1x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwConvWReferenceIdeal.lean ====
abbrev S1x4x512 : Shape := ⟨3, ![1, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S_, .f32⟩
  | .hbm, ⟨5, _⟩ => ⟨S1x4x512, .f32⟩
  | .hbm, ⟨6, _⟩ => ⟨S1x4x512, .f32⟩
  | .hbm, ⟨7, _⟩ => ⟨S_, .f32⟩
  | .hbm, ⟨8, _⟩ => ⟨S1x4x512, .f32⟩
  | .hbm, ⟨9, _⟩ => ⟨S1x4x512, .f32⟩
  | .hbm, ⟨10, _⟩ => ⟨S1x4x512, .f32⟩
  | .hbm, ⟨11, _⟩ => ⟨S_, .f32⟩
  | .hbm, ⟨12, _⟩ => ⟨S1x4x512, .f32⟩
  | .hbm, ⟨13, _⟩ => ⟨S1x4x512, .f32⟩
  | .hbm, ⟨14, _⟩ => ⟨S1x4x512, .f32⟩
  | .hbm, ⟨15, _⟩ => ⟨S_, .f32⟩
  | .hbm, ⟨16, _⟩ => ⟨S1x4x512, .f32⟩
  | .hbm, ⟨17, _⟩ => ⟨S1x4x512, .f32⟩
  | .hbm, ⟨18, _⟩ => ⟨S1x4x512, .f32⟩
  | .hbm, ⟨19, _⟩ => ⟨S_, .f32⟩
  | .hbm, ⟨20, _⟩ => ⟨S1x4x512, .f32⟩
  | .hbm, ⟨21, _⟩ => ⟨S1x4x512, .f32⟩
  | .hbm, ⟨22, _⟩ => ⟨S_, .f32⟩
  | .hbm, ⟨23, _⟩ => ⟨S1x4x512, .f32⟩
  | .hbm, ⟨24, _⟩ => ⟨S1x4x512, .f32⟩
  | .hbm, ⟨25, _⟩ => ⟨S1x4x512, .f32⟩
  | .hbm, ⟨26, _⟩ => ⟨S_, .f32⟩
  | .hbm, ⟨27, _⟩ => ⟨S1x4x512, .f32⟩
  | .hbm, ⟨28, _⟩ => ⟨S1x4x512, .f32⟩
  | .hbm, ⟨29, _⟩ => ⟨S1x4x512, .f32⟩
  | .hbm, ⟨30, _⟩ => ⟨S_, .f32⟩
  | .hbm, ⟨31, _⟩ => ⟨S1x4x512, .f32⟩
  | .hbm, ⟨32, _⟩ => ⟨S1x4x512, .f32⟩
  | .hbm, ⟨33, _⟩ => ⟨S1x4x512, .f32⟩
  | .hbm, ⟨34, _⟩ => ⟨S_, .f32⟩
  | .hbm, ⟨35, _⟩ => ⟨S1x4x512, .f32⟩
  | .hbm, ⟨36, _⟩ => ⟨S1x4x512, .f32⟩
  | _, _ => ⟨S1x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConvB.lean ====
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwConvBIdeal.lean ====
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwConvBReferenceIdeal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwHeads.lean ====
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwHeadsIdeal.lean ====
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwHeadsReferenceIdeal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSsmNorm.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSsmNormIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSsmNormReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSquare.lean ====
abbrev S1x128x1024 : Shape := ⟨3, ![1, 128, 1024]⟩
abbrev S8x128x1024 : Shape := ⟨3, ![8, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSquareIdeal.lean ====
abbrev S1x128x1024 : Shape := ⟨3, ![1, 128, 1024]⟩
abbrev S8x128x1024 : Shape := ⟨3, ![8, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSquareReferenceIdeal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamwSsm.lean ====
abbrev S1x256x1024 : Shape := ⟨3, ![1, 256, 1024]⟩
abbrev S8x256x1024 : Shape := ⟨3, ![8, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S8x256x1024, .bf16⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSsmIdeal.lean ====
abbrev S1x256x1024 : Shape := ⟨3, ![1, 256, 1024]⟩
abbrev S8x256x1024 : Shape := ⟨3, ![8, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S8x256x1024, .bf16⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSsmReferenceIdeal.lean ====
abbrev S1x256x1024 : Shape := ⟨3, ![1, 256, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S8x256x1024, .bf16⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamwFfOne.lean ====
abbrev S1x1024x512 : Shape := ⟨3, ![1, 1024, 512]⟩
abbrev S8x1024x512 : Shape := ⟨3, ![8, 1024, 512]⟩
abbrev S1x256x512 : Shape := ⟨3, ![1, 256, 512]⟩
abbrev S8x256x512 : Shape := ⟨3, ![8, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S8x1024x512, .bf16⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFfOneIdeal.lean ====
abbrev S1x1024x512 : Shape := ⟨3, ![1, 1024, 512]⟩
abbrev S8x1024x512 : Shape := ⟨3, ![8, 1024, 512]⟩
abbrev S1x256x512 : Shape := ⟨3, ![1, 256, 512]⟩
abbrev S8x256x512 : Shape := ⟨3, ![8, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S8x1024x512, .bf16⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFfOneReferenceIdeal.lean ====
abbrev S1x1024x512 : Shape := ⟨3, ![1, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S8x1024x512, .bf16⟩
  | .hbm, ⟨2, _⟩ => ⟨S1x1024x512, .f32⟩
  | .hbm, ⟨3, _⟩ => ⟨S1x1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamwFfTwo.lean ====
abbrev S1x512x1024 : Shape := ⟨3, ![1, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S8x512x1024, .bf16⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFfTwoIdeal.lean ====
abbrev S1x512x1024 : Shape := ⟨3, ![1, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S8x512x1024, .bf16⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFfTwoReferenceIdeal.lean ====
abbrev S1x512x1024 : Shape := ⟨3, ![1, 512, 1024]⟩
abbrev S8x512x1024 : Shape := ⟨3, ![8, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S8x512x1024, .bf16⟩
  | .hbm, ⟨2, _⟩ => ⟨S1x512x1024, .f32⟩
  | .hbm, ⟨3, _⟩ => ⟨S1x512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== WModGrad.lean ====
abbrev S8x1024 : Shape := ⟨2, ![8, 1024]⟩
abbrev S8x768 : Shape := ⟨2, ![8, 768]⟩
abbrev S_ : Shape := ⟨0, ![]⟩
abbrev S128x1024 : Shape := ⟨2, ![128, 1024]⟩
abbrev S128x768 : Shape := ⟨2, ![128, 768]⟩
abbrev S1024x768 : Shape := ⟨2, ![1024, 768]⟩

abbrev nBuf : Space → Nat
  | .hbm => 9
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .i32⟩
  | .hbm, ⟨3, _⟩ => ⟨S_, .f32⟩
  | .hbm, ⟨4, _⟩ => ⟨S128x1024, .f32⟩
  | .hbm, ⟨5, _⟩ => ⟨S_, .i32⟩
  | .hbm, ⟨6, _⟩ => ⟨S_, .f32⟩
  | .hbm, ⟨7, _⟩ => ⟨S128x768, .f32⟩
  | .hbm, ⟨8, _⟩ => ⟨S1024x768, .f32⟩
  | .local _ .vmem, ⟨0, _⟩ => ⟨S128x1024, .f32⟩
  | .local _ .vmem, ⟨1, _⟩ => ⟨S128x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== WModGradReferenceIdeal.lean ====
abbrev S8x1024 : Shape := ⟨2, ![8, 1024]⟩
abbrev S8x768 : Shape := ⟨2, ![8, 768]⟩
abbrev S_ : Shape := ⟨0, ![]⟩
abbrev S1024x8 : Shape := ⟨2, ![1024, 8]⟩
abbrev S1024x768 : Shape := ⟨2, ![1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== SmallGrads.lean ====
abbrev S8x1296x128 : Shape := ⟨3, ![8, 1296, 128]⟩
abbrev S1296x128 : Shape := ⟨2, ![1296, 128]⟩
abbrev S1x1296x128 : Shape := ⟨3, ![1, 1296, 128]⟩
abbrev S8x128 : Shape := ⟨2, ![8, 128]⟩
abbrev S1024 : Shape := ⟨1, ![1024]⟩
abbrev S1x1024 : Shape := ⟨2, ![1, 1024]⟩
abbrev S1024x128 : Shape := ⟨2, ![1024, 128]⟩
abbrev S131072 : Shape := ⟨1, ![131072]⟩
abbrev S128x128 : Shape := ⟨2, ![128, 128]⟩
abbrev S16384 : Shape := ⟨1, ![16384]⟩
abbrev S4x4096 : Shape := ⟨2, ![4, 4096]⟩
abbrev S32x128 : Shape := ⟨2, ![32, 128]⟩
abbrev S4096 : Shape := ⟨1, ![4096]⟩
abbrev S1x4096 : Shape := ⟨2, ![1, 4096]⟩
abbrev S32 : Shape := ⟨1, ![32]⟩
abbrev S1x32 : Shape := ⟨2, ![1, 32]⟩
abbrev S16x128 : Shape := ⟨2, ![16, 128]⟩
abbrev S2048 : Shape := ⟨1, ![2048]⟩
abbrev S1x2048 : Shape := ⟨2, ![1, 2048]⟩
abbrev S48x128 : Shape := ⟨2, ![48, 128]⟩
abbrev S6144 : Shape := ⟨1, ![6144]⟩
abbrev S1x6144 : Shape := ⟨2, ![1, 6144]⟩

abbrev nBuf : Space → Nat
  | .hbm => 38
  | .vmem => 2
  | .smem => 0
  | _ => 0

abbrev bufTy : (tb : Table) → Fin (tcTables nBuf tb) → BufTy
  | .hbm, ⟨0, _⟩ => ⟨S8x1296x128, .f32⟩
  | .hbm, ⟨1, _⟩ => ⟨S1296x128, .f32⟩
  | .hbm, ⟨2, _⟩ => ⟨S8x128, .f32⟩
  | .hbm, ⟨3, _⟩ => ⟨S1024, .f32⟩
  | .hbm, ⟨4, _⟩ => ⟨S1x1024, .f32⟩
  | .hbm, ⟨5, _⟩ => ⟨S1024x128, .f32⟩
  | .hbm, ⟨6, _⟩ => ⟨S131072, .f32⟩
  | .hbm, ⟨7, _⟩ => ⟨S1024x128, .f32⟩
  | .hbm, ⟨8, _⟩ => ⟨S8x128, .f32⟩
  | .hbm, ⟨9, _⟩ => ⟨S1024, .f32⟩
  | .hbm, ⟨10, _⟩ => ⟨S8x128, .f32⟩
  | .hbm, ⟨11, _⟩ => ⟨S128x128, .f32⟩
  | .hbm, ⟨12, _⟩ => ⟨S16384, .f32⟩
  | .hbm, ⟨13, _⟩ => ⟨S4x4096, .f32⟩
  | .hbm, ⟨14, _⟩ => ⟨S32x128, .f32⟩
  | .hbm, ⟨15, _⟩ => ⟨S4096, .f32⟩
  | .hbm, ⟨16, _⟩ => ⟨S1x4096, .f32⟩
  | .hbm, ⟨17, _⟩ => ⟨S8x128, .f32⟩
  | .hbm, ⟨18, _⟩ => ⟨S1024, .f32⟩
  | .hbm, ⟨19, _⟩ => ⟨S32, .f32⟩
  | .hbm, ⟨20, _⟩ => ⟨S1x32, .f32⟩
  | .hbm, ⟨21, _⟩ => ⟨S8x128, .f32⟩
  | .hbm, ⟨22, _⟩ => ⟨S1024, .f32⟩
  | .hbm, ⟨23, _⟩ => ⟨S32, .f32⟩
  | .hbm, ⟨24, _⟩ => ⟨S1x32, .f32⟩
  | .hbm, ⟨25, _⟩ => ⟨S8x128, .f32⟩
  | .hbm, ⟨26, _⟩ => ⟨S1024, .f32⟩
  | .hbm, ⟨27, _⟩ => ⟨S32, .f32⟩
  | .hbm, ⟨28, _⟩ => ⟨S1x32, .f32⟩
  | .hbm, ⟨29, _⟩ => ⟨S16x128, .f32⟩
  | .hbm, ⟨30, _⟩ => ⟨S2048, .f32⟩
  | .hbm, ⟨31, _⟩ => ⟨S1x2048, .f32⟩
  | .hbm, ⟨32, _⟩ => ⟨S8x128, .f32⟩
  | .hbm, ⟨33, _⟩ => ⟨S1024, .f32⟩
  | .hbm, ⟨34, _⟩ => ⟨S1x1024, .f32⟩
  | .hbm, ⟨35, _⟩ => ⟨S48x128, .f32⟩
  | .hbm, ⟨36, _⟩ => ⟨S6144, .f32⟩
  | .hbm, ⟨37, _⟩ => ⟨S1x6144, .f32⟩
  | .local _ .vmem, ⟨0, _⟩ => ⟨S8x1296x128, .f32⟩
  | .local _ .vmem, ⟨1, _⟩ => ⟨S1296x128, .f32⟩
  | _, _ => ⟨S8x1296x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallGradsReferenceIdeal.lean ====
abbrev S8x1296x128 : Shape := ⟨3, ![8, 1296, 128]⟩
abbrev S8x165888 : Shape := ⟨2, ![8, 165888]⟩
abbrev S8x1024 : Shape := ⟨2, ![8, 1024]⟩
abbrev S8x1x1024 : Shape := ⟨3, ![8, 1, 1024]⟩
abbrev S_ : Shape := ⟨0, ![]⟩
abbrev S1x1024 : Shape := ⟨2, ![1, 1024]⟩
abbrev S8x131072 : Shape := ⟨2, ![8, 131072]⟩
abbrev S8x1024x128 : Shape := ⟨3, ![8, 1024, 128]⟩
abbrev S1024x128 : Shape := ⟨2, ![1024, 128]⟩
abbrev S8x8x128 : Shape := ⟨3, ![8, 8, 128]⟩
abbrev S8x128 : Shape := ⟨2, ![8, 128]⟩
abbrev S8x16384 : Shape := ⟨2, ![8, 16384]⟩
abbrev S8x4x4096 : Shape := ⟨3, ![8, 4, 4096]⟩
abbrev S4x4096 : Shape := ⟨2, ![4, 4096]⟩
abbrev S8x4096 : Shape := ⟨2, ![8, 4096]⟩
abbrev S8x1x4096 : Shape := ⟨3, ![8, 1, 4096]⟩
abbrev S1x4096 : Shape := ⟨2, ![1, 4096]⟩
abbrev S8x32 : Shape := ⟨2, ![8, 32]⟩
abbrev S8x1x32 : Shape := ⟨3, ![8, 1, 32]⟩
abbrev S1x32 : Shape := ⟨2, ![1, 32]⟩
abbrev S8x2048 : Shape := ⟨2, ![8, 2048]⟩
abbrev S8x1x2048 : Shape := ⟨3, ![8, 1, 2048]⟩
abbrev S1x2048 : Shape := ⟨2, ![1, 2048]⟩
abbrev S8x6144 : Shape := ⟨2, ![8, 6144]⟩
abbrev S8x1x6144 : Shape := ⟨3, ![8, 1, 6144]⟩
abbrev S1x6144 : Shape := ⟨2, ![1, 6144]⟩

abbrev nBuf : Space → Nat
  | .hbm => 46
  | .vmem => 0
  | .smem => 0
  | _ => 0

abbrev bufTy : (tb : Table) → Fin (tcTables nBuf tb) → BufTy
  | .hbm, ⟨0, _⟩ => ⟨S8x1296x128, .f32⟩
  | .hbm, ⟨1, _⟩ => ⟨S8x165888, .f32⟩
  | .hbm, ⟨2, _⟩ => ⟨S8x1024, .f32⟩
  | .hbm, ⟨3, _⟩ => ⟨S8x1x1024, .f32⟩
  | .hbm, ⟨4, _⟩ => ⟨S_, .f32⟩
  | .hbm, ⟨5, _⟩ => ⟨S1x1024, .f32⟩
  | .hbm, ⟨6, _⟩ => ⟨S8x131072, .f32⟩
  | .hbm, ⟨7, _⟩ => ⟨S8x1024x128, .f32⟩
  | .hbm, ⟨8, _⟩ => ⟨S_, .f32⟩
  | .hbm, ⟨9, _⟩ => ⟨S1024x128, .f32⟩
  | .hbm, ⟨10, _⟩ => ⟨S8x1024, .f32⟩
  | .hbm, ⟨11, _⟩ => ⟨S8x8x128, .f32⟩
  | .hbm, ⟨12, _⟩ => ⟨S_, .f32⟩
  | .hbm, ⟨13, _⟩ => ⟨S8x128, .f32⟩
  | .hbm, ⟨14, _⟩ => ⟨S8x16384, .f32⟩
  | .hbm, ⟨15, _⟩ => ⟨S8x4x4096, .f32⟩
  | .hbm, ⟨16, _⟩ => ⟨S_, .f32⟩
  | .hbm, ⟨17, _⟩ => ⟨S4x4096, .f32⟩
  | .hbm, ⟨18, _⟩ => ⟨S8x4096, .f32⟩
  | .hbm, ⟨19, _⟩ => ⟨S8x1x4096, .f32⟩
  | .hbm, ⟨20, _⟩ => ⟨S_, .f32⟩
  | .hbm, ⟨21, _⟩ => ⟨S1x4096, .f32⟩
  | .hbm, ⟨22, _⟩ => ⟨S8x32, .f32⟩
  | .hbm, ⟨23, _⟩ => ⟨S8x1x32, .f32⟩
  | .hbm, ⟨24, _⟩ => ⟨S_, .f32⟩
  | .hbm, ⟨25, _⟩ => ⟨S1x32, .f32⟩
  | .hbm, ⟨26, _⟩ => ⟨S8x32, .f32⟩
  | .hbm, ⟨27, _⟩ => ⟨S8x1x32, .f32⟩
  | .hbm, ⟨28, _⟩ => ⟨S_, .f32⟩
  | .hbm, ⟨29, _⟩ => ⟨S1x32, .f32⟩
  | .hbm, ⟨30, _⟩ => ⟨S8x32, .f32⟩
  | .hbm, ⟨31, _⟩ => ⟨S8x1x32, .f32⟩
  | .hbm, ⟨32, _⟩ => ⟨S_, .f32⟩
  | .hbm, ⟨33, _⟩ => ⟨S1x32, .f32⟩
  | .hbm, ⟨34, _⟩ => ⟨S8x2048, .f32⟩
  | .hbm, ⟨35, _⟩ => ⟨S8x1x2048, .f32⟩
  | .hbm, ⟨36, _⟩ => ⟨S_, .f32⟩
  | .hbm, ⟨37, _⟩ => ⟨S1x2048, .f32⟩
  | .hbm, ⟨38, _⟩ => ⟨S8x1024, .f32⟩
  | .hbm, ⟨39, _⟩ => ⟨S8x1x1024, .f32⟩
  | .hbm, ⟨40, _⟩ => ⟨S_, .f32⟩
  | .hbm, ⟨41, _⟩ => ⟨S1x1024, .f32⟩
  | .hbm, ⟨42, _⟩ => ⟨S8x6144, .f32⟩
  | .hbm, ⟨43, _⟩ => ⟨S8x1x6144, .f32⟩
  | .hbm, ⟨44, _⟩ => ⟨S_, .f32⟩
  | .hbm, ⟨45, _⟩ => ⟨S1x6144, .f32⟩
  | _, _ => ⟨S8x1296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== GradX.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GradXReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Final.lean ====
abbrev S8192x1024 : Shape := ⟨2, ![8192, 1024]⟩
abbrev S1x1024 : Shape := ⟨2, ![1, 1024]⟩
abbrev S1024 : Shape := ⟨1, ![1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .bf16⟩
  | .hbm, ⟨82, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Branch.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchIdeal.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownInGrad.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownInGradIdeal.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownInGradReferenceIdeal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S1024x4096, .bf16⟩
  | .hbm, ⟨3, _⟩ => ⟨S8192x4096, .f32⟩
  | .hbm, ⟨4, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpInGrad.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpInGradIdeal.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpInGradReferenceIdeal.lean ====
abbrev S8192x4096 : Shape := ⟨2, ![8192, 4096]⟩
abbrev S1024x4096 : Shape := ⟨2, ![1024, 4096]⟩
abbrev S4096x1024 : Shape := ⟨2, ![4096, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S4096x1024, .bf16⟩
  | .hbm, ⟨3, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutInGrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInGradIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInGradReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchInGrad.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchInGradIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchInGradReferenceIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S1024x2048, .bf16⟩
  | .hbm, ⟨3, _⟩ => ⟨S8192x2048, .f32⟩
  | .hbm, ⟨4, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownGrad.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradIdeal.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x8192, .bf16⟩
  | .hbm, ⟨3, _⟩ => ⟨S4096x1024, .f32⟩
  | .hbm, ⟨4, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpGrad.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradIdeal.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x8192, .bf16⟩
  | .hbm, ⟨3, _⟩ => ⟨S1024x4096, .f32⟩
  | .hbm, ⟨4, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .f32⟩
  | .hbm, ⟨4, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchGrad.lean ====
abbrev S8192x2048 : Shape := ⟨2, ![8192, 2048]⟩
abbrev S8192x1024 : Shape := ⟨2, ![8192, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchGradIdeal.lean ====
abbrev S8192x2048 : Shape := ⟨2, ![8192, 2048]⟩
abbrev S8192x1024 : Shape := ⟨2, ![8192, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchGradReferenceIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x8192, .bf16⟩
  | .hbm, ⟨3, _⟩ => ⟨S2048x1024, .f32⟩
  | .hbm, ⟨4, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dt.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtIdeal.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtReferenceIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== JoinedInGrad.lean ====
abbrev S8192x10368 : Shape := ⟨2, ![8192, 10368]⟩
abbrev S1024x10368 : Shape := ⟨2, ![1024, 10368]⟩
abbrev S8192x1024 : Shape := ⟨2, ![8192, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== JoinedInGradIdeal.lean ====
abbrev S8192x10368 : Shape := ⟨2, ![8192, 10368]⟩
abbrev S1024x10368 : Shape := ⟨2, ![1024, 10368]⟩
abbrev S8192x1024 : Shape := ⟨2, ![8192, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== JoinedInGradReferenceIdeal.lean ====
abbrev S8192x10368 : Shape := ⟨2, ![8192, 10368]⟩
abbrev S1024x10368 : Shape := ⟨2, ![1024, 10368]⟩
abbrev S10368x1024 : Shape := ⟨2, ![10368, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .bf16⟩
  | .hbm, ⟨2, _⟩ => ⟨S10368x1024, .bf16⟩
  | .hbm, ⟨3, _⟩ => ⟨S8192x1024, .f32⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== JoinedGrad.lean ====
abbrev S8192x1024 : Shape := ⟨2, ![8192, 1024]⟩
abbrev S8192x10368 : Shape := ⟨2, ![8192, 10368]⟩
abbrev S1024x10368 : Shape := ⟨2, ![1024, 10368]⟩
abbrev S512x1024 : Shape := ⟨2, ![512, 1024]⟩
abbrev S512x1152 : Shape := ⟨2, ![512, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x10368, .bf16⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== JoinedGradIdeal.lean ====
abbrev S8192x1024 : Shape := ⟨2, ![8192, 1024]⟩
abbrev S8192x10368 : Shape := ⟨2, ![8192, 10368]⟩
abbrev S1024x10368 : Shape := ⟨2, ![1024, 10368]⟩
abbrev S512x1024 : Shape := ⟨2, ![512, 1024]⟩
abbrev S512x1152 : Shape := ⟨2, ![512, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x10368, .bf16⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== JoinedGradReferenceIdeal.lean ====
abbrev S8192x1024 : Shape := ⟨2, ![8192, 1024]⟩
abbrev S8192x10368 : Shape := ⟨2, ![8192, 10368]⟩
abbrev S1024x8192 : Shape := ⟨2, ![1024, 8192]⟩
abbrev S1024x10368 : Shape := ⟨2, ![1024, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x8192, .bf16⟩
  | .hbm, ⟨3, _⟩ => ⟨S1024x10368, .f32⟩
  | .hbm, ⟨4, _⟩ => ⟨S1024x10368, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Joined.lean ====
abbrev S8192x1024 : Shape := ⟨2, ![8192, 1024]⟩
abbrev S1024x10368 : Shape := ⟨2, ![1024, 10368]⟩
abbrev S8192x10240 : Shape := ⟨2, ![8192, 10240]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x10240, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== JoinedReferenceIdeal.lean ====
abbrev S8192x1024 : Shape := ⟨2, ![8192, 1024]⟩
abbrev S1024x10368 : Shape := ⟨2, ![1024, 10368]⟩
abbrev S1024x10240 : Shape := ⟨2, ![1024, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S1024x10240, .bf16⟩
  | .hbm, ⟨3, _⟩ => ⟨S8192x10240, .f32⟩
  | .hbm, ⟨4, _⟩ => ⟨S8192x10240, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Modulate.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SquaredRelu.lean ====
abbrev S8192x4096 : Shape := ⟨2, ![8192, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SquaredReluReferenceIdeal.lean ====
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SquaredReluGrad.lean ====
abbrev S8192x4096 : Shape := ⟨2, ![8192, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SquaredReluGradReferenceIdeal.lean ====
abbrev S8192x4096 : Shape := ⟨2, ![8192, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Residual.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResidualReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== ResidualGrad.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ResidualGradReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Mix.lean ====
abbrev S8192x10240 : Shape := ⟨2, ![8192, 10240]⟩
abbrev S8192x1024 : Shape := ⟨2, ![8192, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S8192x10240 : Shape := ⟨2, ![8192, 10240]⟩
abbrev S8192x1024 : Shape := ⟨2, ![8192, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MixGrad.lean ====
abbrev S8192x10240 : Shape := ⟨2, ![8192, 10240]⟩
abbrev S8192x1024 : Shape := ⟨2, ![8192, 1024]⟩
abbrev S8192x10368 : Shape := ⟨2, ![8192, 10368]⟩
abbrev S256x1024 : Shape := ⟨2, ![256, 1024]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x10368, .bf16⟩
  | .hbm, ⟨5, _⟩ => ⟨S8192x10368, .bf16⟩
  | .hbm, ⟨6, _⟩ => ⟨S8192x1024, .bf16⟩
  | .hbm, ⟨7, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixGradReferenceIdeal.lean ====
abbrev S8192x10240 : Shape := ⟨2, ![8192, 10240]⟩
abbrev S8192x1024 : Shape := ⟨2, ![8192, 1024]⟩
abbrev S8192x10368 : Shape := ⟨2, ![8192, 10368]⟩
abbrev S_ : Shape := ⟨0, ![]⟩
abbrev S8192x2048 : Shape := ⟨2, ![8192, 2048]⟩
abbrev S8192x8192 : Shape := ⟨2, ![8192, 8192]⟩
abbrev S8192x128 : Shape := ⟨2, ![8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x10368, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x2048, .bf16⟩
  | .hbm, ⟨46, _⟩ => ⟨S8192x8192, .bf16⟩
  | .hbm, ⟨47, _⟩ => ⟨S8192x128, .bf16⟩
  | .hbm, ⟨48, _⟩ => ⟨S8192x10368, .bf16⟩
  | .hbm, ⟨49, _⟩ => ⟨S8192x1024, .bf16⟩
  | .hbm, ⟨50, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== ModPart.lean ====
abbrev S128x1024 : Shape := ⟨2, ![128, 1024]⟩
abbrev S1024x768 : Shape := ⟨2, ![1024, 768]⟩
abbrev S1x768 : Shape := ⟨2, ![1, 768]⟩
abbrev S128x768 : Shape := ⟨2, ![128, 768]⟩

abbrev nBuf : Space → Nat
  | .hbm => 4
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024x768, .f32⟩
  | .hbm, ⟨2, _⟩ => ⟨S1x768, .f32⟩
  | .hbm, ⟨3, _⟩ => ⟨S128x768, .f32⟩
  | .local _ .vmem, ⟨0, _⟩ => ⟨S128x1024, .f32⟩
  | .local _ .vmem, ⟨1, _⟩ => ⟨S1024x768, .f32⟩
  | .local _ .vmem, ⟨2, _⟩ => ⟨S1x768, .f32⟩
  | .local _ .vmem, ⟨3, _⟩ => ⟨S128x768, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModPartReferenceIdeal.lean ====
abbrev S128x1024 : Shape := ⟨2, ![128, 1024]⟩
abbrev S1024x768 : Shape := ⟨2, ![1024, 768]⟩
abbrev S1x768 : Shape := ⟨2, ![1, 768]⟩
abbrev S_ : Shape := ⟨0, ![]⟩
abbrev S128x768 : Shape := ⟨2, ![128, 768]⟩

abbrev nBuf : Space → Nat
  | .hbm => 15
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x768, .f32⟩
  | .hbm, ⟨2, _⟩ => ⟨S1x768, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x768, .f32⟩
  | .hbm, ⟨13, _⟩ => ⟨S128x768, .f32⟩
  | .hbm, ⟨14, _⟩ => ⟨S128x768, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Sgu.lean ====
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S8192x1024 : Shape := ⟨2, ![8192, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S128x1024 : Shape := ⟨2, ![128, 1024]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x10240, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .f32⟩
  | .local _ .vmem, ⟨6, _⟩ => ⟨S8x128x1, .f32⟩
  | .local _ .vmem, ⟨7, _⟩ => ⟨S256x1024, .bf16⟩
  | .local _ .vmem, ⟨8, _⟩ => ⟨S256x1024, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguReferenceIdeal.lean ====
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S64x128x8x128, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S1x128x128, .i1⟩
  | .hbm, ⟨70, _⟩ => ⟨S8x128x128, .f32⟩
  | .hbm, ⟨71, _⟩ => ⟨S8x128x128, .f32⟩
  | .hbm, ⟨72, _⟩ => ⟨S_, .f32⟩
  | .hbm, ⟨73, _⟩ => ⟨S8x128x128, .f32⟩
  | .hbm, ⟨74, _⟩ => ⟨S8x128x128, .i1⟩
  | .hbm, ⟨75, _⟩ => ⟨S8x128x128, .f32⟩
  | .hbm, ⟨76, _⟩ => ⟨S8x64x128x128, .f32⟩
  | .hbm, ⟨77, _⟩ => ⟨S64x128x8x128, .f32⟩
  | .hbm, ⟨78, _⟩ => ⟨S8x128, .f32⟩
  | .hbm, ⟨79, _⟩ => ⟨S128x8, .f32⟩
  | .hbm, ⟨80, _⟩ => ⟨S1x128x8x1, .f32⟩
  | .hbm, ⟨81, _⟩ => ⟨S64x128x8x128, .f32⟩
  | .hbm, ⟨82, _⟩ => ⟨S64x128x8x128, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Conv.lean ====
abbrev S8192x10240 : Shape := ⟨2, ![8192, 10240]⟩
abbrev S4x4096 : Shape := ⟨2, ![4, 4096]⟩
abbrev S1x4096 : Shape := ⟨2, ![1, 4096]⟩
abbrev S8192x4096 : Shape := ⟨2, ![8192, 4096]⟩
abbrev S8192x128 : Shape := ⟨2, ![8192, 128]⟩
abbrev S4x128 : Shape := ⟨2, ![4, 128]⟩
abbrev S1x128 : Shape := ⟨2, ![1, 128]⟩
abbrev S8200x128 : Shape := ⟨2, ![8200, 128]⟩
abbrev S8x128 : Shape := ⟨2, ![8, 128]⟩
abbrev S512x128 : Shape := ⟨2, ![512, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x10240, .bf16⟩
  | .hbm, ⟨1, _⟩ => ⟨S4x4096, .f32⟩
  | .hbm, ⟨2, _⟩ => ⟨S1x4096, .f32⟩
  | .hbm, ⟨3, _⟩ => ⟨S8192x4096, .bf16⟩
  | .local _ .vmem, ⟨0, _⟩ => ⟨S8192x128, .bf16⟩
  | .local _ .vmem, ⟨1, _⟩ => ⟨S8192x128, .bf16⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S8192x128, .bf16⟩
  | .local _ .vmem, ⟨7, _⟩ => ⟨S8192x128, .bf16⟩
  | .local _ .vmem, ⟨8, _⟩ => ⟨S8200x128, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvReferenceIdeal.lean ====
abbrev S8192x10240 : Shape := ⟨2, ![8192, 10240]⟩
abbrev S4x4096 : Shape := ⟨2, ![4, 4096]⟩
abbrev S1x4096 : Shape := ⟨2, ![1, 4096]⟩
abbrev S8192x4096 : Shape := ⟨2, ![8192, 4096]⟩
abbrev S_ : Shape := ⟨0, ![]⟩
abbrev S8195x4096 : Shape := ⟨2, ![8195, 4096]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S4x4096, .f32⟩
  | .hbm, ⟨2, _⟩ => ⟨S1x4096, .f32⟩
  | .hbm, ⟨3, _⟩ => ⟨S8192x4096, .bf16⟩
  | .hbm, ⟨4, _⟩ => ⟨S8192x4096, .f32⟩
  | .hbm, ⟨5, _⟩ => ⟨S_, .i32⟩
  | .hbm, ⟨6, _⟩ => ⟨S_, .f32⟩
  | .hbm, ⟨7, _⟩ => ⟨S8195x4096, .f32⟩
  | .hbm, ⟨8, _⟩ => ⟨S1x4096, .f32⟩
  | .hbm, ⟨9, _⟩ => ⟨S4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== WInGrad.lean ====
abbrev S8x1024x10368 : Shape := ⟨3, ![8, 1024, 10368]⟩
abbrev S_ : Shape := ⟨0, ![]⟩
abbrev S8x1024x1408 : Shape := ⟨3, ![8, 1024, 1408]⟩
abbrev S8x1024x1280 : Shape := ⟨3, ![8, 1024, 1280]⟩
abbrev S8x1024x128 : Shape := ⟨3, ![8, 1024, 128]⟩
abbrev S1x8x1024x1408 : Shape := ⟨4, ![1, 8, 1024, 1408]⟩
abbrev S8x8x1024x1408 : Shape := ⟨4, ![8, 8, 1024, 1408]⟩
abbrev S8x1x1024x1408 : Shape := ⟨4, ![8, 1, 1024, 1408]⟩
abbrev S1024x1408 : Shape := ⟨2, ![1024, 1408]⟩
abbrev S8x256x1408 : Shape := ⟨3, ![8, 256, 1408]⟩
abbrev S256x1408 : Shape := ⟨2, ![256, 1408]⟩
abbrev S1x256x1408 : Shape := ⟨3, ![1, 256, 1408]⟩
abbrev S1024x1284 : Shape := ⟨2, ![1024, 1284]⟩
abbrev S1024x488 : Shape := ⟨2, ![1024, 488]⟩
abbrev S1024x32 : Shape := ⟨2, ![1024, 32]⟩
abbrev S1024x764 : Shape := ⟨2, ![1024, 764]⟩
abbrev S1x1024x1284 : Shape := ⟨3, ![1, 1024, 1284]⟩

abbrev nBuf : Space → Nat
  | .hbm => 55
  | .vmem => 4
  | .smem => 0
  | _ => 0

abbrev bufTy : (tb : Table) → Fin (tcTables nBuf tb) → BufTy
  | .hbm, ⟨0, _⟩ => ⟨S8x1024x10368, .bf16⟩
  | .hbm, ⟨1, _⟩ => ⟨S_, .i32⟩
  | .hbm, ⟨2, _⟩ => ⟨S8x1024x1408, .bf16⟩
  | .hbm, ⟨3, _⟩ => ⟨S8x1024x1408, .bf16⟩
  | .hbm, ⟨4, _⟩ => ⟨S8x1024x1408, .bf16⟩
  | .hbm, ⟨5, _⟩ => ⟨S8x1024x1408, .bf16⟩
  | .hbm, ⟨6, _⟩ => ⟨S8x1024x1408, .bf16⟩
  | .hbm, ⟨7, _⟩ => ⟨S8x1024x1408, .bf16⟩
  | .hbm, ⟨8, _⟩ => ⟨S8x1024x1280, .bf16⟩
  | .hbm, ⟨9, _⟩ => ⟨S8x1024x128, .bf16⟩
  | .hbm, ⟨10, _⟩ => ⟨S8x1024x1408, .bf16⟩
  | .hbm, ⟨11, _⟩ => ⟨S8x1024x1408, .bf16⟩
  | .hbm, ⟨12, _⟩ => ⟨S1x8x1024x1408, .bf16⟩
  | .hbm, ⟨13, _⟩ => ⟨S1x8x1024x1408, .bf16⟩
  | .hbm, ⟨14, _⟩ => ⟨S1x8x1024x1408, .bf16⟩
  | .hbm, ⟨15, _⟩ => ⟨S1x8x1024x1408, .bf16⟩
  | .hbm, ⟨16, _⟩ => ⟨S1x8x1024x1408, .bf16⟩
  | .hbm, ⟨17, _⟩ => ⟨S1x8x1024x1408, .bf16⟩
  | .hbm, ⟨18, _⟩ => ⟨S1x8x1024x1408, .bf16⟩
  | .hbm, ⟨19, _⟩ => ⟨S1x8x1024x1408, .bf16⟩
  | .hbm, ⟨20, _⟩ => ⟨S8x8x1024x1408, .bf16⟩
  | .hbm, ⟨21, _⟩ => ⟨S8x8x1024x1408, .bf16⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S8x1x1024x1408, .bf16⟩
  | .hbm, ⟨31, _⟩ => ⟨S8x1024x1408, .bf16⟩
  | .hbm, ⟨32, _⟩ => ⟨S1024x1408, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024x1284, .f32⟩
  | .hbm, ⟨47, _⟩ => ⟨S1024x488, .f32⟩
  | .hbm, ⟨48, _⟩ => ⟨S1024x32, .f32⟩
  | .hbm, ⟨49, _⟩ => ⟨S1024x764, .f32⟩
  | .hbm, ⟨50, _⟩ => ⟨S1024x1284, .f32⟩
  | .hbm, ⟨51, _⟩ => ⟨S_, .i32⟩
  | .hbm, ⟨52, _⟩ => ⟨S_, .i1⟩
  | .hbm, ⟨53, _⟩ => ⟨S1024x1284, .f32⟩
  | .hbm, ⟨54, _⟩ => ⟨S1x1024x1284, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | _, _ => ⟨S8x1024x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_c : Ref sig .tc := ⟨.hbm, 22, rfl⟩
abbrev main_call0_v0 : Ref sig .tc := ⟨.hbm, 23, rfl⟩
abbrev main_call0_c_0 : Ref sig .tc := ⟨.hbm, 24, rfl⟩
abbrev main_call0_v1 : Ref sig .tc := ⟨.hbm, 25, rfl⟩
abbrev main_call0_v2 : Ref sig .tc := ⟨.hbm, 26, rfl⟩
abbrev main_call0_c_1 : Ref sig .tc := ⟨.hbm, 27, rfl⟩
abbrev main_call0_c_2 : Ref sig .tc := ⟨.hbm, 28, rfl⟩
abbrev main_call0_c_3 : Ref sig .tc := ⟨.hbm, 29, rfl⟩
abbrev main_call0_v3 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_c_0 : Ref sig .tc := ⟨.hbm, 35, rfl⟩
abbrev main_v23 : Ref sig .tc := ⟨.hbm, 36, rfl⟩
abbrev main_c_1 : Ref sig .tc := ⟨.hbm, 37, rfl⟩
abbrev main_call1_v0 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInGradReferenceIdeal.lean ====
abbrev S8x1024x10368 : Shape := ⟨3, ![8, 1024, 10368]⟩
abbrev S_ : Shape := ⟨0, ![]⟩
abbrev S1024x10368 : Shape := ⟨2, ![1024, 10368]⟩
abbrev S1024x8192 : Shape := ⟨2, ![1024, 8192]⟩
abbrev S1024x32 : Shape := ⟨2, ![1024, 32]⟩
abbrev S1024x2048 : Shape := ⟨2, ![1024, 2048]⟩
abbrev S1024x10272 : Shape := ⟨2, ![1024, 10272]⟩
abbrev S1024x1284 : Shape := ⟨2, ![1024, 1284]⟩
abbrev S1x1024x1284 : Shape := ⟨3, ![1, 1024, 1284]⟩

abbrev nBuf : Space → Nat
  | .hbm => 19
  | .vmem => 0
  | .smem => 0
  | _ => 0

abbrev bufTy : (tb : Table) → Fin (tcTables nBuf tb) → BufTy
  | .hbm, ⟨0, _⟩ => ⟨S8x1024x10368, .bf16⟩
  | .hbm, ⟨1, _⟩ => ⟨S_, .i32⟩
  | .hbm, ⟨2, _⟩ => ⟨S8x1024x10368, .f32⟩
  | .hbm, ⟨3, _⟩ => ⟨S_, .f32⟩
  | .hbm, ⟨4, _⟩ => ⟨S1024x10368, .f32⟩
  | .hbm, ⟨5, _⟩ => ⟨S1024x8192, .f32⟩
  | .hbm, ⟨6, _⟩ => ⟨S1024x32, .f32⟩
  | .hbm, ⟨7, _⟩ => ⟨S1024x2048, .f32⟩
  | .hbm, ⟨8, _⟩ => ⟨S1024x10272, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1024x1284, .f32⟩
  | .hbm, ⟨18, _⟩ => ⟨S1x1024x1284, .f32⟩
  | _, _ => ⟨S8x1024x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Exchange.lean ====
/-
  An exchange between the devices of a mesh by remote copies, each on a pair of semaphores of its own.

  Every device starts a family of local copies and a family of remote copies, then waits for its remote
  copies to have been read, for the copies sent to it to have landed, and for its local copies.  The remote
  copy `j` goes to the device `peer j c`, and `peer j` is its own inverse: the copy `j` a device receives
  comes from the very device it sends its own copy `j` to.

  The protocol: each semaphore is a cell that is paid once.  The cell of the read side of copy `j` hands back
  the part of the source that was lent; the cell of the landing side hands the receiving device the part of
  its result with the arrived contents.  The contents are named once, by the final contents `Fn` of every
  buffer, so that the landed parts join to whole buffers.
-/
module

public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The two components of the ghost state: the pipelines' and the exchange's. -/
abbrev UU (nD : Nat) (τ : Topo) (sig : RefSig) : Type := URounds (GSem nD τ sig) Unit × URounds (GSem nD τ sig) Unit

local notation "𝕄" => MT nD τ sig Unit Val ℕ (UU nD τ sig) ℕ

abbrev EP : Emb (URounds (GSem nD τ sig) Unit) (MT nD τ sig Unit Val ℕ (UU nD τ sig) ℕ) := embL
abbrev ER : Emb (URounds (GSem nD τ sig) Unit) (MT nD τ sig Unit Val ℕ (UU nD τ sig) ℕ) := embR

/-- One copy: from one part of a buffer to a part of another, of the same shape. -/
structure Xfer (sig : RefSig) where
  s : Shape
  e : EltTy
  src : Memref sig .tc .hbm s e
  dst : Memref sig .tc .hbm s e
  hsrc : src.view.WordExact
  hdst : dst.view.WordExact
  hsc : dst.view.ref.isScScratch = false

/-- The copies and their semaphores. `J` numbers a device's remote copies, `I` its local ones. -/
structure Plan (nD : Nat) (τ : Topo) (sig : RefSig) (J I : Type) where
  peer : J → Dev nD → Dev nD
  peer_peer : ∀ j c, peer j (peer j c) = c
  snd : J → DmaSem sig
  rcv : J → DmaSem sig
  lcl : I → DmaSem sig
  far : J → Dev nD → Xfer sig
  near : I → Dev nD → Xfer sig
  amt : J → ℕ
  amtL : I → ℕ
  amt_pos : ∀ j, 0 < amt j
  amtL_pos : ∀ i, 0 < amtL i
  far_dst : ∀ j c, (far j c).dst.view.dmaCredit = amt j
  far_src : ∀ j c, (far j c).src.view.dmaCredit = amt j
  near_dst : ∀ i c, (near i c).dst.view.dmaCredit = amtL i
  inj : Function.Injective (Sum.elim (fun j => (SemLoc.dma (snd j) : SemLoc sig))
    (Sum.elim (fun j => (SemLoc.dma (rcv j) : SemLoc sig)) fun i => (SemLoc.dma (lcl i) : SemLoc sig)))
  routes : ∀ c c' : Dev nD, τ.routes (c.tc : Thread nD τ) (c'.tc : Thread nD τ) = true

variable {J I : Type} [Fintype J] [DecidableEq J] [Fintype I] [DecidableEq I]

namespace Plan

variable (Pl : Plan nD τ sig J I)

/-- The exchange's semaphores on a device. -/
abbrev osem : J ⊕ (J ⊕ I) → SemLoc sig :=
  Sum.elim (fun j => .dma (Pl.snd j)) (Sum.elim (fun j => .dma (Pl.rcv j)) fun i => .dma (Pl.lcl i))

abbrev kcell (ck : Dev nD × (J ⊕ (J ⊕ I))) : GSem nD τ sig := ((ck.1 : Thread nD τ), Pl.osem ck.2)
abbrev sndC (j : J) (c : Dev nD) : GSem nD τ sig := ((c : Thread nD τ), .dma (Pl.snd j))
abbrev rcvC (j : J) (c : Dev nD) : GSem nD τ sig := ((c : Thread nD τ), .dma (Pl.rcv j))
abbrev lclC (i : I) (c : Dev nD) : GSem nD τ sig := ((c : Thread nD τ), .dma (Pl.lcl i))

abbrev amtK : J ⊕ (J ⊕ I) → ℕ := Sum.elim Pl.amt (Sum.elim Pl.amt Pl.amtL)

theorem kcell_inj : Function.Injective Pl.kcell := by
  rintro ⟨c, k⟩ ⟨c', k'⟩ h
  have h1 : c = c' := congrArg (fun g : GSem nD τ sig => g.1.1) h
  have h2 : k = k' := Pl.inj (congrArg Prod.snd h)
  rw [h1, h2]

/-- Which of the exchange's cells a cell is, if any. -/
def who (g : GSem nD τ sig) : Option (Dev nD × (J ⊕ (J ⊕ I))) :=
  open Classical in if h : ∃ ck, Pl.kcell ck = g then some h.choose else none

theorem who_kcell (ck : Dev nD × (J ⊕ (J ⊕ I))) : Pl.who (Pl.kcell ck) = some ck := by
  unfold who
  have h : ∃ ck', Pl.kcell ck' = Pl.kcell ck := ⟨ck, rfl⟩
  rw [dif_pos h, Pl.kcell_inj h.choose_spec]

end Plan

/-- The contents of an exchange: `m` before it, `Fn` after it; `qJ`, `qI` the shares of the sources the copies hold. -/
structure Cont (Val : EltTy → Type) (Pl : Plan nD τ sig J I) where
  m : (ℓ : Loc nD τ sig) → Buf Val ℓ
  Fn : (c : Dev nD) → (b : Ref sig .tc) → Buf Val ((c.tc : Thread nD τ).loc b)
  qJ : J → PosShare TreeShare
  qI : I → PosShare TreeShare
  landsJ : ∀ j c, (Pl.far j c).dst.view.read Val (Fn (Pl.peer j c) (Pl.far j c).dst.view.ref)
    = (Pl.far j c).src.view.read Val (m ((c.tc : Thread nD τ).loc (Pl.far j c).src.view.ref))
  landsI : ∀ i c, (Pl.near i c).dst.view.read Val (Fn c (Pl.near i c).dst.view.ref)
    = (Pl.near i c).src.view.read Val (m ((c.tc : Thread nD τ).loc (Pl.near i c).src.view.ref))

/-- Contents written through a view, from another's reading, are those of any contents that read the same. -/
theorem write_eq_of_read {s : Shape} {e : EltTy} {sp : Space} {κ : Kind} (v : View sig κ sp s e) (fd g : v.ty.Contents Val) (w : s.Idx → Val e)
    (h : v.read Val g = w) : ∀ i ∈ v.set, v.write Val fd w Finset.univ i = g i := by
  intro i hi
  obtain ⟨x, -, rfl⟩ := Finset.mem_map.mp hi
  rw [View.write_emb_of_mem _ _ (Finset.mem_univ x), ← h, View.read_apply, cast_cast, cast_eq]

section Protocol

variable {Pl : Plan nD τ sig J I} (C : Cont Val Pl)

/-- The part of copy `j`'s source on device `c`. -/
def srcR (j : J) (c : Dev nD) : sProp 𝕄 :=
  (Pl.far j c).src.view.loc (c : Thread nD τ) ↦[(Pl.far j c).src.view.set]{C.qJ j} C.m ((c.tc : Thread nD τ).loc (Pl.far j c).src.view.ref)
variable (Val) in
/-- The part of device `d`'s result that the copy `j` of device `c` writes, at contents `f`. -/
def dstAt (Pl : Plan nD τ sig J I) (j : J) (c d : Dev nD) (f : Buf Val ((d.tc : Thread nD τ).loc (Pl.far j c).dst.view.ref)) : sProp 𝕄 :=
  (Pl.far j c).dst.view.loc (d : Thread nD τ) ↦[(Pl.far j c).dst.view.set]{fullShare} f
def srcL (i : I) (c : Dev nD) : sProp 𝕄 :=
  (Pl.near i c).src.view.loc (c : Thread nD τ) ↦[(Pl.near i c).src.view.set]{C.qI i} C.m ((c.tc : Thread nD τ).loc (Pl.near i c).src.view.ref)
variable (Val) in
def dstL (Pl : Plan nD τ sig J I) (i : I) (c : Dev nD) (f : Buf Val ((c.tc : Thread nD τ).loc (Pl.near i c).dst.view.ref)) : sProp 𝕄 :=
  (Pl.near i c).dst.view.loc (c : Thread nD τ) ↦[(Pl.near i c).dst.view.set]{fullShare} f
/-- The part of its result that device `c` receives by copy `j`, before and after. -/
abbrev slot₀ (j : J) (c : Dev nD) : sProp 𝕄 := dstAt Val Pl j (Pl.peer j c) c (C.m _)
abbrev slot₁ (j : J) (c : Dev nD) : sProp 𝕄 := dstAt Val Pl j (Pl.peer j c) c (C.Fn c _)
abbrev lslot₀ (i : I) (c : Dev nD) : sProp 𝕄 := dstL Val Pl i c (C.m _)
abbrev lslot₁ (i : I) (c : Dev nD) : sProp 𝕄 := dstL Val Pl i c (C.Fn c _)

instance srcR_storable (j : J) (c : Dev nD) : BI.Storable (upEmb : UEmb _ 𝕄) (srcR C j c) := by unfold srcR; infer_instance
instance dstAt_storable (j : J) (c d : Dev nD) (f) : BI.Storable (upEmb : UEmb _ 𝕄) (dstAt Val Pl j c d f) := by unfold dstAt; infer_instance
instance srcL_storable (i : I) (c : Dev nD) : BI.Storable (upEmb : UEmb _ 𝕄) (srcL C i c) := by unfold srcL; infer_instance
instance dstL_storable (i : I) (c : Dev nD) (f) : BI.Storable (upEmb : UEmb _ 𝕄) (dstL Val Pl i c f) := by unfold dstL; infer_instance

/-- What the paid cell hands to its device. -/
def pay : Dev nD × (J ⊕ (J ⊕ I)) → sProp 𝕄
  | (c, .inl j) => srcR C j c
  | (c, .inr (.inl j)) => slot₁ C j c
  | (c, .inr (.inr i)) => iprop(lslot₁ C i c ∗ srcL C i c)

instance pay_storable (ck : Dev nD × (J ⊕ (J ⊕ I))) : BI.Storable (upEmb : UEmb _ 𝕄) (pay C ck) := by
  obtain ⟨c, j | j | i⟩ := ck <;> unfold pay <;> infer_instance

/-- Every cell of the exchange is paid once, by one duty. -/
def Rd : Rounds.Schedule (GSem nD τ sig) Unit 𝕄 where
  duties g r := if r = 0 ∧ (Pl.who g).isSome then {()} else ∅
  unitless _ := False
  amount g _ _ := match Pl.who g with
    | some ck => Pl.amtK ck.2
    | none => 1
  payload g _ _ := match Pl.who g with
    | some ck => pay C ck
    | none => iprop(emp)
  amount_pos g _ _ _ := by
    cases h : Pl.who g with
    | none => exact Nat.one_pos
    | some ck => obtain ⟨c, j | j | i⟩ := ck; exacts [Pl.amt_pos j, Pl.amt_pos j, Pl.amtL_pos i]

instance Rd_storable (g : GSem nD τ sig) (r : ℕ) (d : Unit) : BI.Storable (upEmb : UEmb _ 𝕄) ((Rd C).payload g r d) := by
  show BI.Storable upEmb (match Pl.who g with
    | some ck => pay C ck
    | none => iprop(emp))
  cases Pl.who g <;> infer_instance

theorem duties₀ (ck : Dev nD × (J ⊕ (J ⊕ I))) : (Rd C).duties (Pl.kcell ck) 0 = {()} := by
  dsimp only [Rd]; rw [Pl.who_kcell]; exact if_pos ⟨rfl, rfl⟩
theorem duties_later (g : GSem nD τ sig) : ∀ r, 1 ≤ r → (Rd C).duties g r = ∅ :=
  fun r hr => by dsimp only [Rd]; exact if_neg fun h => by omega
theorem mem_duties (ck : Dev nD × (J ⊕ (J ⊕ I))) : () ∈ (Rd C).duties (Pl.kcell ck) 0 := by
  rw [duties₀]; exact Finset.mem_singleton_self _
theorem amount_eq (ck : Dev nD × (J ⊕ (J ⊕ I))) (u : Unit) : (Rd C).amount (Pl.kcell ck) 0 u = Pl.amtK ck.2 := by
  dsimp only [Rd]; rw [Pl.who_kcell]
theorem payload_eq (ck : Dev nD × (J ⊕ (J ⊕ I))) (u : Unit) : (Rd C).payload (Pl.kcell ck) 0 u = pay C ck := by
  dsimp only [Rd]; rw [Pl.who_kcell]
theorem expect_eq (ck : Dev nD × (J ⊕ (J ⊕ I))) : (Rd C).expect (Pl.kcell ck) 0 = Pl.amtK ck.2 := by
  unfold Schedule.expect Schedule.amountOf; rw [duties₀, Finset.sum_singleton, amount_eq]
theorem rest_eq (ck : Dev nD × (J ⊕ (J ⊕ I))) :
    bigSep ((Rd C).duties (Pl.kcell ck) 0 \ ∅) (fun u => (Rd C).payload (Pl.kcell ck) 0 u) = pay C ck := by
  rw [Finset.sdiff_empty, duties₀, bigSep_singleton, payload_eq]

/-- The cells' invariants, under the names `K`, and that each cell's round is open. -/
def records (K : Dev nD × (J ⊕ (J ⊕ I)) → ℕ) : sProp 𝕄 :=
  iprop((bigSep Finset.univ fun ck => cellInv ER (Rd C) (K ck) (Pl.kcell ck)) ∗ bigSep Finset.univ fun ck => reached ER (Pl.kcell ck) 0)
instance records_persistent (K : Dev nD × (J ⊕ (J ⊕ I)) → ℕ) : BI.Persistent (records C K) := by unfold records; infer_instance

theorem all_at {A : Type} [Fintype A] [DecidableEq A] (Φ : A → sProp 𝕄) (a : A) : bigSep Finset.univ Φ ⊢ Φ a := bigSep_elim (Finset.mem_univ a)

theorem inv_at (K : Dev nD × (J ⊕ (J ⊕ I)) → ℕ) (ck : Dev nD × (J ⊕ (J ⊕ I))) : records C K ⊢ cellInv ER (Rd C) (K ck) (Pl.kcell ck) := by
  unfold records; iintro ⟨H, -⟩
  iapply (all_at (fun ck => (cellInv ER (Rd C) (K ck) (Pl.kcell ck) : sProp 𝕄)) ck); iexact H
theorem reached_at (K : Dev nD × (J ⊕ (J ⊕ I)) → ℕ) (ck : Dev nD × (J ⊕ (J ⊕ I))) : records C K ⊢ reached ER (Pl.kcell ck) 0 := by
  unfold records; iintro ⟨-, H⟩
  iapply (all_at (fun ck => (reached ER (Pl.kcell ck) 0 : sProp 𝕄)) ck); iexact H

/-- What landed is the final contents. -/
theorem landed_far (j : J) (c : Dev nD) (fd : Buf Val (((Pl.peer j c).tc : Thread nD τ).loc (Pl.far j c).dst.view.ref)) :
    (((Pl.far j c).dst.view.loc ((Pl.peer j c) : Thread nD τ) ↦[(Pl.far j c).dst.view.set]{fullShare}
        ((Pl.far j c).dst.view.write Val fd ((Pl.far j c).src.view.read Val (C.m ((c.tc : Thread nD τ).loc (Pl.far j c).src.view.ref))) Finset.univ) : sProp 𝕄))
      ⊢ slot₁ C j (Pl.peer j c) := by
  unfold slot₁ dstAt
  rw [Pl.peer_peer]
  exact Entails.of_eq (pointsTo_congr (write_eq_of_read _ _ _ _ (C.landsJ j c)))

theorem landed_near (i : I) (c : Dev nD) (fd : Buf Val ((c.tc : Thread nD τ).loc (Pl.near i c).dst.view.ref)) :
    (((Pl.near i c).dst.view.loc (c : Thread nD τ) ↦[(Pl.near i c).dst.view.set]{fullShare}
        ((Pl.near i c).dst.view.write Val fd ((Pl.near i c).src.view.read Val (C.m ((c.tc : Thread nD τ).loc (Pl.near i c).src.view.ref))) Finset.univ) : sProp 𝕄))
      ⊢ lslot₁ C i c := by
  unfold lslot₁ dstL
  exact Entails.of_eq (pointsTo_congr (write_eq_of_read _ _ _ _ (C.landsI i c)))

/-! ## The program -/

variable {Λ : Labels} {defs : Defs nD τ sig Val Λ}

local notation "ℙ" => Prog (TpuEff nD τ sig Val Λ Proc.tc) PUnit

section Program
variable (Pl) (Val) (Λ)

def startNear (c : Dev nD) (i : I) (p : ℙ) : ℙ :=
  .op (.enqueueDma (Pl.near i c).src (.here (Pl.near i c).dst) (.dma (Pl.lcl i)) (Pl.near i c).hsrc (Pl.near i c).hdst ⟨Or.inl rfl, trivial⟩) fun _ => p
def startFar (c : Dev nD) (j : J) (p : ℙ) : ℙ :=
  .op (.enqueueDma (Pl.far j c).src (.remote ((Pl.peer j c).tc : Thread nD τ) (Pl.far j c).dst (.dma (Pl.snd j)) (Pl.far j c).hsc) (.dma (Pl.rcv j))
    (Pl.far j c).hsrc (Pl.far j c).hdst ⟨⟨rfl, Or.inl rfl⟩, trivial⟩) fun _ => p
def waitSnd (c : Dev nD) (j : J) (p : ℙ) : ℙ :=
  .op (.waitDma2 (p := Proc.tc) (Pl.snd j) (Pl.far j c).dst (Pl.far j c).src (Pl.far j c).hdst (Pl.far j c).hsrc) fun _ => p
def waitRcv (c : Dev nD) (j : J) (p : ℙ) : ℙ :=
  .op (.waitDma2 (p := Proc.tc) (Pl.rcv j) (Pl.far j c).src (Pl.far j c).dst (Pl.far j c).hsrc (Pl.far j c).hdst) fun _ => p
def waitLcl (c : Dev nD) (i : I) (p : ℙ) : ℙ :=
  .op (.waitDma2 (p := Proc.tc) (Pl.lcl i) (Pl.near i c).src (Pl.near i c).dst (Pl.near i c).hsrc (Pl.near i c).hdst) fun _ => p

/-- One device's part of the exchange: the copies of `lJ` and `lI`, in the order of the lists. -/
def prog (lJ : List J) (lI : List I) (c : Dev nD) : ℙ :=
  lI.foldr (startNear Val Pl Λ c) (lJ.foldr (startFar Val Pl Λ c) (lJ.foldr (waitSnd Val Pl Λ c)
    (lJ.foldr (waitRcv Val Pl Λ c) (lI.foldr (waitLcl Val Pl Λ c) (.ret PUnit.unit)))))
end Program

theorem bigSepL_sep {T : Type} (Φ Ψ : T → sProp 𝕄) : ∀ l : List T,
    (bigSepL l fun t => iprop(Φ t ∗ Ψ t)) = iprop(bigSepL l Φ ∗ bigSepL l Ψ)
  | [] => by
      show (iprop(emp) : sProp 𝕄) = iprop(emp ∗ emp)
      exact (equiv_iff.mp BI.emp_sep).symm
  | t :: l => by
      rw [bigSepL_cons', bigSepL_cons', bigSepL_cons', bigSepL_sep Φ Ψ l]
      have h1 : iprop((Φ t ∗ Ψ t) ∗ bigSepL l Φ ∗ bigSepL l Ψ) ⊢ iprop((Φ t ∗ bigSepL l Φ) ∗ Ψ t ∗ bigSepL l Ψ) := by
        iintro ⟨⟨A, B⟩, A', B'⟩; isplitl [A A']
        · isplitl [A]; · iexact A
          iexact A'
        isplitl [B]; · iexact B
        iexact B'
      have h2 : iprop((Φ t ∗ bigSepL l Φ) ∗ Ψ t ∗ bigSepL l Ψ) ⊢ iprop((Φ t ∗ Ψ t) ∗ bigSepL l Φ ∗ bigSepL l Ψ) := by
        iintro ⟨⟨A, A'⟩, B, B'⟩; isplitl [A B]
        · isplitl [A]; · iexact A
          iexact B
        isplitl [A']; · iexact A'
        iexact B'
      exact equiv_iff.mp ⟨h1, h2⟩

/-- A list of steps, each of which turns its `A` into its `B` and moves `Th` along. -/
theorem fold_wp {T : Type} {P : Type 1} (R : sProp 𝕄) [BI.Persistent R] (f : T → P → P) (W : P → sProp 𝕄) (A B : T → sProp 𝕄) (Th : List T → sProp 𝕄)
    (h : ∀ j l p, iprop(R ∗ A j ∗ Th (j :: l)) ⊢ iprop(((B j ∗ Th l) -∗ W p) -∗ W (f j p))) :
    ∀ (l : List T) (p : P), iprop(R ∗ bigSepL l A ∗ Th l) ⊢ iprop(((bigSepL l B ∗ Th []) -∗ W p) -∗ W (l.foldr f p))
  | [], p => by
      show iprop(R ∗ emp ∗ Th []) ⊢ iprop(((emp ∗ Th []) -∗ W p) -∗ W p)
      iintro ⟨-, -, H⟩ K; iapply K; isplitr [H]
      · iempintro
      · iexact H
  | j :: l, p => by
      rw [bigSepL_cons', bigSepL_cons', List.foldr_cons]
      iintro ⟨#R, ⟨HA, HL⟩, HT⟩ K
      iapply (h j l (l.foldr f p)) $$ [HA HT]
      · isplitr; · iexact R
        isplitl [HA]; · iexact HA
        iexact HT
      iintro ⟨HB, HT⟩
      iapply (fold_wp R f W A B Th h l p) $$ [HL HT]
      · isplitr; · iexact R
        isplitl [HL]; · iexact HL
        iexact HT
      iintro ⟨HL, HT⟩
      iapply K
      isplitl [HB HL]
      · isplitl [HB]; · iexact HB
        iexact HL
      iexact HT

/-! ## The steps -/

variable (𝒱 : Variants) (K : Dev nD × (J ⊕ (J ⊕ I)) → ℕ) (c : Dev nD) (Q : PUnit → sProp (MT nD τ sig Unit Val ℕ (UU nD τ sig) ℕ))

abbrev wpc (𝒱 : Variants) (defs : Defs nD τ sig Val Λ) (c : Dev nD) (Q : PUnit → sProp 𝕄) (p : ℙ) : sProp 𝕄 :=
  wp frame (wpE defs 𝒱 (c : Thread nD τ) none) Set.univ p Q

theorem near_step (i : I) (p : ℙ) :
    iprop(records C K ∗ (srcL C i c ∗ lslot₀ C i c ∗ dutyTok ER (Pl.lclC i c) 0 ()) ∗ emp)
      ⊢ iprop(((cred (tallyAt (Pl.lclC i c) () (Pl.amtL i)) ∗ emp) -∗ wpc 𝒱 defs c Q p) -∗ wpc 𝒱 defs c Q (startNear Val Pl Λ c i p)) := by
  unfold lslot₀ dstL srcL
  iintro ⟨#R, ⟨HS, HD, HT⟩, -⟩ HK
  iapply (Rounds.wp_copy_pointsTo 𝒱 ER (Rd C) (c : Thread nD τ) none (κ := K (c, .inr (.inr i))) (r := 0) (mem_duties C (c, .inr (.inr i))) () (Pl.amtL i)
    (by exact Pl.near_dst i c) (amount_eq C (c, .inr (.inr i)) ())
    ((sep_mono_left (landed_near C i c (C.m _))).trans (Entails.of_eq (payload_eq C (c, .inr (.inr i)) ()).symm))) $$ [HS HD HT]
  · isplitr
    · iapply (inv_at C K (c, .inr (.inr i))); iexact R
    isplitl [HS]; · iexact HS
    isplitl [HD]; · iexact HD
    isplitl [HT]; · iexact HT
    iapply (reached_at C K (c, .inr (.inr i))); iexact R
  · iintro H; iapply HK; isplitl [H]; · iexact H
    iempintro

/-- What device `c` still owes when the copies of `l` are not yet started. -/
def owed (Pl : Plan nD τ sig J I) (c : Dev nD) (l : List J) : CellTallies nD τ sig Unit :=
  (l.map fun j => tallyAt (Pl.rcvC j (Pl.peer j c)) () (Pl.amt j)).sum

theorem owed_cons (c : Dev nD) (j : J) (l : List J) :
    owed Pl c (j :: l) = owed Pl c l + tallyAt (Pl.rcvC j (Pl.peer j c)) () (Pl.amt j) := by
  unfold owed; rw [List.map_cons, List.sum_cons, add_comm]

theorem far_step (j : J) (l : List J) (p : ℙ) :
    iprop(records C K ∗ (srcR C j c ∗ slot₀ C j (Pl.peer j c) ∗ dutyTok ER (Pl.sndC j c) 0 () ∗ dutyTok ER (Pl.rcvC j (Pl.peer j c)) 0 ())
        ∗ ∃ W, owes (c : Thread nD τ) (owed Pl c (j :: l)) W)
      ⊢ iprop(((cred (tallyAt (Pl.sndC j c) () (Pl.amt j)) ∗ ∃ W, owes (c : Thread nD τ) (owed Pl c l) W) -∗ wpc 𝒱 defs c Q p)
          -∗ wpc 𝒱 defs c Q (startFar Val Pl Λ c j p)) := by
  unfold slot₀ dstAt srcR
  rw [Pl.peer_peer]
  iintro ⟨#R, ⟨HS, HD, HT1, HT2⟩, ⟨%W, HO⟩⟩ HK
  iapply (Rounds.wp_send_pointsTo 𝒱 ER (Rd C) (c : Thread nD τ) none (κ₁ := K (c, .inl j)) (κ₂ := K (Pl.peer j c, .inr (.inl j))) (r₁ := 0) (r₂ := 0)
    (mem_duties C (c, .inl j)) (mem_duties C (Pl.peer j c, .inr (.inl j))) () () (Pl.amt j)
    (by exact Pl.far_dst j c) (amount_eq C (c, .inl j) ()) (amount_eq C (Pl.peer j c, .inr (.inl j)) ())
    (owed Pl c l) (owed_cons c j l)
    (Entails.of_eq (payload_eq C (c, .inl j) ()).symm)
    ((landed_far C j c (C.m _)).trans (Entails.of_eq (payload_eq C (Pl.peer j c, .inr (.inl j)) ()).symm)) (hr := Pl.routes c _)) $$ [HS HD HT1 HT2 HO]
  · isplitr
    · iapply (inv_at C K (c, .inl j)); iexact R
    isplitr
    · iapply (inv_at C K (Pl.peer j c, .inr (.inl j))); iexact R
    isplitl [HS]; · iexact HS
    isplitl [HD]; · iexact HD
    isplitl [HO]; · iexact HO
    isplitl [HT1]; · iexact HT1
    isplitr
    · iapply (reached_at C K (c, .inl j)); iexact R
    isplitl [HT2]; · iexact HT2
    iapply (reached_at C K (Pl.peer j c, .inr (.inl j))); iexact R
  · iintro ⟨H, HO⟩; iapply HK; isplitl [H]; · iexact H
    iexists W; iexact HO

/-- A wait of a cell of the exchange: it hands over the payload, and the cell is closed at zero. -/
theorem wait_step (ck : J ⊕ (J ⊕ I)) (sm : DmaSem sig) (hsm : Pl.osem ck = .dma sm) {s : Shape} {e : EltTy} (src dst : Memref sig .tc .hbm s e)
    (hsrc : src.view.WordExact) (hdst : dst.view.WordExact)
    (hk : dst.view.dmaCredit = Pl.amtK ck) (p : ℙ) :
    iprop(records C K ∗ (cred (tallyAt (Pl.kcell (c, ck)) () (Pl.amtK ck)) ∗ atPos ER (Pl.kcell (c, ck)) 0 ∅ 0) ∗ ∃ W, owes (c : Thread nD τ) 0 W)
      ⊢ iprop((((pay C (c, ck) ∗ semVal (Pl.kcell (c, ck)) 0) ∗ ∃ W, owes (c : Thread nD τ) 0 W) -∗ wpc 𝒱 defs c Q p)
          -∗ wpc 𝒱 defs c Q (.op (.waitDma2 (p := Proc.tc) sm src dst hsrc hdst) fun _ => p)) := by
  iintro ⟨#R, ⟨HC, HA⟩, ⟨%W, HO⟩⟩ HK
  have hcell : Pl.kcell (c, ck) = ((c : Thread nD τ), SemLoc.dma sm) := by rw [← hsm]
  have hex := expect_eq C (c, ck)
  have hrest := rest_eq C (c, ck)
  ihave #HI := (inv_at C K (c, ck)) $$ R
  rw [hcell] at hex hrest ⊢
  iapply (Rounds.wp_wait_rest_token 𝒱 ER (Rd C) (c : Thread nD τ) none (κ := K (c, ck))
      (wpE_waitDma2_eq 𝒱 (c : Thread nD τ) none Set.univ) (Set.mem_univ _) () (O := 0) (W := W) (R := 0) (m := 0) (T := ∅)
      (by rw [Nat.zero_add, hex]; exact hk)) $$ [HC HO HA]
  · isplitr; · iexact HI
    isplitl [HC]; · rw [hk]; iexact HC
    isplitl [HO]; · iexact HO
    isplitr; · rw [MayWait_zero]; iempintro
    iexact HA
  rw [hrest]
  iintro ⟨HO, HA, -, HP⟩
  iapply fupd_wp
  imod (Rounds.cell_close ER (Rd C) (Set.mem_univ (K (c, ck))) (fun h => h) (R := 0 + 1) (duties_later C _)) $$ [HA] with HZ
  · isplitr; · iexact HI
    iexact HA
  imodintro
  iapply HK
  isplitl [HP HZ]
  · isplitl [HP]; · iexact HP
    iexact HZ
  iexists _; iexact HO

/-- The whole of a device's part. -/
theorem prog_wp (lJ : List J) (lI : List I) :
    iprop(records C K ∗ bigSepL lI (fun i => iprop(srcL C i c ∗ lslot₀ C i c ∗ dutyTok ER (Pl.lclC i c) 0 ()))
        ∗ bigSepL lJ (fun j => iprop(srcR C j c ∗ slot₀ C j (Pl.peer j c) ∗ dutyTok ER (Pl.sndC j c) 0 () ∗ dutyTok ER (Pl.rcvC j (Pl.peer j c)) 0 ()))
        ∗ bigSepL lJ (fun j => atPos ER (Pl.sndC j c) 0 ∅ 0)
        ∗ bigSepL lJ (fun j => iprop(cred (tallyAt (Pl.rcvC j c) () (Pl.amt j)) ∗ atPos ER (Pl.rcvC j c) 0 ∅ 0))
        ∗ bigSepL lI (fun i => atPos ER (Pl.lclC i c) 0 ∅ 0)
        ∗ ∃ W, owes (c : Thread nD τ) (owed Pl c lJ) W)
      ⊢ iprop(((bigSepL lJ (fun j => iprop(srcR C j c ∗ semVal (Pl.sndC j c) 0))
          ∗ bigSepL lJ (fun j => iprop(slot₁ C j c ∗ semVal (Pl.rcvC j c) 0))
          ∗ bigSepL lI (fun i => iprop((lslot₁ C i c ∗ srcL C i c) ∗ semVal (Pl.lclC i c) 0))
          ∗ ∃ W, owes (c : Thread nD τ) 0 W) -∗ Q PUnit.unit)
        -∗ wpc 𝒱 defs c Q (prog Val Pl Λ lJ lI c)) := by
  have hstartNear := fold_wp (P := ℙ) (records C K) (startNear Val Pl Λ c) (wpc 𝒱 defs c Q)
    (fun i => iprop(srcL C i c ∗ lslot₀ C i c ∗ dutyTok ER (Pl.lclC i c) 0 ()))
    (fun i => cred (tallyAt (Pl.lclC i c) () (Pl.amtL i))) (fun _ => iprop(emp)) (fun j _ p => near_step (Λ := Λ) (defs := defs) C 𝒱 K c Q j p)
  have hstartFar := fold_wp (P := ℙ) (records C K) (startFar Val Pl Λ c) (wpc 𝒱 defs c Q)
    (fun j => iprop(srcR C j c ∗ slot₀ C j (Pl.peer j c) ∗ dutyTok ER (Pl.sndC j c) 0 () ∗ dutyTok ER (Pl.rcvC j (Pl.peer j c)) 0 ()))
    (fun j => cred (tallyAt (Pl.sndC j c) () (Pl.amt j))) (fun l => iprop(∃ W, owes (c : Thread nD τ) (owed Pl c l) W))
    (fun j l p => far_step (Λ := Λ) (defs := defs) C 𝒱 K c Q j l p)
  have hwaitSnd := fold_wp (P := ℙ) (records C K) (waitSnd Val Pl Λ c) (wpc 𝒱 defs c Q)
    (fun j => iprop(cred (tallyAt (Pl.sndC j c) () (Pl.amt j)) ∗ atPos ER (Pl.sndC j c) 0 ∅ 0))
    (fun j => iprop(srcR C j c ∗ semVal (Pl.sndC j c) 0)) (fun _ => iprop(∃ W, owes (c : Thread nD τ) 0 W))
    (fun j l p => wait_step (Λ := Λ) (defs := defs) C 𝒱 K c Q (.inl j) (Pl.snd j) rfl _ _ _ _ (Pl.far_src j c) p)
  have hwaitRcv := fold_wp (P := ℙ) (records C K) (waitRcv Val Pl Λ c) (wpc 𝒱 defs c Q)
    (fun j => iprop(cred (tallyAt (Pl.rcvC j c) () (Pl.amt j)) ∗ atPos ER (Pl.rcvC j c) 0 ∅ 0))
    (fun j => iprop(slot₁ C j c ∗ semVal (Pl.rcvC j c) 0)) (fun _ => iprop(∃ W, owes (c : Thread nD τ) 0 W))
    (fun j l p => wait_step (Λ := Λ) (defs := defs) C 𝒱 K c Q (.inr (.inl j)) (Pl.rcv j) rfl _ _ _ _ (Pl.far_dst j c) p)
  have hwaitLcl := fold_wp (P := ℙ) (records C K) (waitLcl Val Pl Λ c) (wpc 𝒱 defs c Q)
    (fun i => iprop(cred (tallyAt (Pl.lclC i c) () (Pl.amtL i)) ∗ atPos ER (Pl.lclC i c) 0 ∅ 0))
    (fun i => iprop((lslot₁ C i c ∗ srcL C i c) ∗ semVal (Pl.lclC i c) 0)) (fun _ => iprop(∃ W, owes (c : Thread nD τ) 0 W))
    (fun i l p => wait_step (Λ := Λ) (defs := defs) C 𝒱 K c Q (.inr (.inr i)) (Pl.lcl i) rfl _ _ _ _ (Pl.near_dst i c) p)
  iintro ⟨#R, HN, HF, HAS, HAR, HAL, HO⟩ HK
  unfold prog
  iapply (hstartNear lI _) $$ [HN]
  · isplitr; · iexact R
    isplitl [HN]; · iexact HN
    iempintro
  iintro ⟨HCL, -⟩
  iapply (hstartFar lJ _) $$ [HF HO]
  · isplitr; · iexact R
    isplitl [HF]; · iexact HF
    iexact HO
  iintro ⟨HCS, HO⟩
  iapply (hwaitSnd lJ _) $$ [HCS HAS HO]
  · isplitr; · iexact R
    isplitl [HCS HAS]
    · rw [bigSepL_sep]
      isplitl [HCS]; · iexact HCS
      iexact HAS
    iexact HO
  iintro ⟨HS, HO⟩
  iapply (hwaitRcv lJ _) $$ [HAR HO]
  · isplitr; · iexact R
    isplitl [HAR]; · iexact HAR
    iexact HO
  iintro ⟨HR, HO⟩
  iapply (hwaitLcl lI _) $$ [HCL HAL HO]
  · isplitr; · iexact R
    isplitl [HCL HAL]
    · rw [bigSepL_sep]
      isplitl [HCL]; · iexact HCL
      iexact HAL
    iexact HO
  iintro ⟨HL, HO⟩
  unfold wpc
  rw [wp_ret]
  imodintro
  iapply HK
  isplitl [HS]; · iexact HS
  isplitl [HR]; · iexact HR
  isplitl [HL]; · iexact HL
  iexact HO

end Protocol

end Exch

end
-- ==== Proof.ExchangeSetup.lean ====
/-
  The exchange's set-up: from the ghost state at launch, the devices' semaphores and what each device owes,
  to what each device holds as it enters its part of the exchange.
-/
module

public import proofs.«01_k».proof.Proof.Exchange

@[expose] public section

noncomputable section

namespace Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {J I : Type} [Fintype J] [DecidableEq J] [Fintype I] [DecidableEq I]

local notation "𝕄" => MT nD τ sig Unit Val ℕ (UU nD τ sig) ℕ

variable {Pl : Plan nD τ sig J I} (C : Cont Val Pl)

variable (Pl) in
/-- The exchange's cells, and the token of each. -/
def cells : Finset (GSem nD τ sig) := Finset.univ.map ⟨Pl.kcell, Pl.kcell_inj⟩
variable (Pl) in
def toks : Finset (GSem nD τ sig × ℕ × Unit) :=
  Finset.univ.map ⟨fun ck => (Pl.kcell ck, 0, ()), fun _ _ h => Pl.kcell_inj (congrArg Prod.fst h)⟩

/-- What device `c` gets of the exchange's ghost state at launch. -/
def G (c : Dev nD) : sProp 𝕄 := bigSep Finset.univ fun k : J ⊕ (J ⊕ I) =>
  iprop(roundState ER (Rd C) (Pl.kcell (c, k)) 0 ∗ reached ER (Pl.kcell (c, k)) 0 ∗ atPos ER (Pl.kcell (c, k)) 0 ∅ 0 ∗ dutyTok ER (Pl.kcell (c, k)) 0 ())

theorem all_split (Φ : Dev nD × (J ⊕ (J ⊕ I)) → sProp 𝕄) : bigSep Finset.univ Φ
    = iprop((bigSep Finset.univ fun c => bigSep Finset.univ fun j => Φ (c, .inl j))
      ∗ (bigSep Finset.univ fun c => bigSep Finset.univ fun j => Φ (c, .inr (.inl j)))
      ∗ (bigSep Finset.univ fun c => bigSep Finset.univ fun i => Φ (c, .inr (.inr i)))) := by
  rw [bigSep_univ_prod, ← bigSep_sep', ← bigSep_sep']
  exact bigSep_congr fun c _ => by rw [bigSep_univ_sum, bigSep_univ_sum]; rfl

theorem G_all : bigSep Finset.univ (G C) = iprop((bigSep Finset.univ fun ck => roundState ER (Rd C) (Pl.kcell ck) 0)
    ∗ (bigSep Finset.univ fun ck => reached ER (Pl.kcell ck) 0) ∗ (bigSep Finset.univ fun ck => atPos ER (Pl.kcell ck) 0 ∅ 0)
    ∗ (bigSep Finset.univ fun ck => dutyTok ER (Pl.kcell ck) 0 ())) := by
  rw [← bigSep_sep', ← bigSep_sep', ← bigSep_sep', bigSep_univ_prod]; rfl

theorem fund_G : BI.own (ER (initOf (cells Pl) (toks Pl))) ⊢ (|==> bigSep Finset.univ (G C) : sProp 𝕄) := by
  have h := Rounds.fund ER (Rd C) (cells Pl) (toks Pl)
  unfold cells toks at h ⊢
  rw [bigSep_map, bigSep_map, bigSep_map, bigSep_map] at h
  rw [G_all]; exact h

/-- What the receivers hold of the exchange `Φ j`, handed to the senders. -/
theorem around (Φ : J → Dev nD → sProp 𝕄) : (bigSep Finset.univ fun c => bigSep Finset.univ fun j => Φ j c)
    = bigSep Finset.univ fun c => bigSep Finset.univ fun j => Φ j (Pl.peer j c) := by
  let e : Dev nD × J ≃ Dev nD × J := ⟨fun x => (Pl.peer x.2 x.1, x.2), fun x => (Pl.peer x.2 x.1, x.2),
    fun x => Prod.ext (Pl.peer_peer _ _) rfl, fun x => Prod.ext (Pl.peer_peer _ _) rfl⟩
  rw [← bigSep_univ_prod (fun x : Dev nD × J => Φ x.2 x.1), bigSep_univ_equiv e, bigSep_univ_prod]; rfl

variable (Pl) in
/-- What device `c` owes at launch: a credit at each cell its remote copies land on. -/
def O₀ (c : Dev nD) : CellTallies nD τ sig Unit := ∑ j, tallyAt (Pl.rcvC j (Pl.peer j c)) () (Pl.amt j)

theorem owed_all (c : Dev nD) (l : List J) (h : Finset.univ = l.toFinset) (hl : l.Nodup) : O₀ Pl c = owed Pl c l := by
  unfold O₀ owed; rw [h, List.sum_toFinset _ hl]

theorem owed_at (d c : Dev nD) (j : J) : O₀ Pl d (Pl.rcvC j c) () = if d = Pl.peer j c then Pl.amt j else 0 := by
  unfold O₀
  rw [Finset.sum_apply, Finsupp.finset_sum_apply, Finset.sum_eq_single j]
  · rw [tallyAt_apply]
    by_cases h : d = Pl.peer j c
    · subst h; rw [Pl.peer_peer, if_pos ⟨rfl, rfl⟩, if_pos rfl]
    · rw [if_neg, if_neg h]
      rintro ⟨h1, -⟩
      have h2 := congrArg Prod.fst (Pl.kcell_inj (a₁ := (c, .inr (.inl j))) (a₂ := (Pl.peer j d, .inr (.inl j))) h1)
      exact h (by rw [show c = Pl.peer j d from h2, Pl.peer_peer])
  · intro j' _ hj
    rw [tallyAt_ne_cell, Finsupp.zero_apply]
    intro h1
    have h2 := congrArg Prod.snd (Pl.kcell_inj (a₁ := (c, .inr (.inl j))) (a₂ := (Pl.peer j' d, .inr (.inl j'))) h1)
    exact hj (Sum.inl.inj (Sum.inr.inj h2)).symm
  · intro h; exact absurd (Finset.mem_univ j) h

theorem creds (c : Dev nD) : (Pipeline.launchCred (O₀ Pl) c : sProp 𝕄) ⊢ bigSep Finset.univ fun j => cred (tallyAt (Pl.rcvC j c) () (Pl.amt j)) := by
  unfold Pipeline.launchCred
  have hinj : Function.Injective fun j : J => (SemLoc.dma (Pl.rcv j) : SemLoc sig) := fun a b h =>
    Sum.inl.inj (Sum.inr.inj (Pl.inj (a₁ := .inr (.inl a)) (a₂ := .inr (.inl b)) h))
  refine Entails.trans (P := bigSep Finset.univ fun sm : SemLoc sig => (cred (tallyOn ((c.tc : Thread nD τ), sm) (launchCredit (Pipeline.owing (O₀ Pl)) 0 ((c.tc : Thread nD τ), sm))) : sProp 𝕄))
    (bigSep_subset (Finset.subset_univ (Finset.univ.map ⟨_, hinj⟩))) (Entails.of_eq ?_)
  rw [bigSep_map]
  refine bigSep_congr fun j _ => congrArg cred ?_
  show tallyOn (Pl.rcvC j c) (launchCredit (Pipeline.owing (O₀ Pl)) 0 (Pl.rcvC j c)) = _
  unfold tallyAt; refine congrArg _ (Finsupp.ext fun u => ?_); cases u
  rw [Pipeline.launchCredit_owing, Finsupp.single_eq_same, Finset.sum_congr rfl fun d _ => owed_at d c j,
    Finset.sum_ite_eq' Finset.univ (Pl.peer j c) fun _ => Pl.amt j, if_pos (Finset.mem_univ _)]

/-- What device `c` enters the exchange with, beside its sources and the local copies' results. -/
def given (c : Dev nD) : sProp 𝕄 :=
  iprop((bigSep Finset.univ fun j => slot₀ C j (Pl.peer j c))
    ∗ (bigSep Finset.univ fun j => dutyTok ER (Pl.sndC j c) 0 ())
    ∗ (bigSep Finset.univ fun j => dutyTok ER (Pl.rcvC j (Pl.peer j c)) 0 ())
    ∗ (bigSep Finset.univ fun i => dutyTok ER (Pl.lclC i c) 0 ())
    ∗ (bigSep Finset.univ fun j => atPos ER (Pl.sndC j c) 0 ∅ 0)
    ∗ (bigSep Finset.univ fun j => atPos ER (Pl.rcvC j c) 0 ∅ 0)
    ∗ (bigSep Finset.univ fun i => atPos ER (Pl.lclC i c) 0 ∅ 0)
    ∗ (bigSep Finset.univ fun j => cred (tallyAt (Pl.rcvC j c) () (Pl.amt j))))

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem alloc : iprop((bigSep Finset.univ fun c => Pipeline.ownSems0 (Ix := Unit) (Name := ℕ) (U := UU nD τ sig) (Lvl := ℕ) (Val := Val) (τ := τ) Pl.osem c)
      ∗ (bigSep Finset.univ fun ck => roundState ER (Rd C) (Pl.kcell ck) 0))
    ⊢ |={Set.univ}=> ∃ K : Dev nD × (J ⊕ (J ⊕ I)) → ℕ, bigSep Finset.univ fun ck => cellInv ER (Rd C) (K ck) (Pl.kcell ck) := by
  have h1 : (bigSep Finset.univ fun c => Pipeline.ownSems0 (Ix := Unit) (Name := ℕ) (U := UU nD τ sig) (Lvl := ℕ) (Val := Val) (τ := τ) Pl.osem c)
      = bigSep Finset.univ fun ck : Dev nD × (J ⊕ (J ⊕ I)) => (semVal (Pl.kcell ck) 0 : sProp 𝕄) := by rw [bigSep_univ_prod]; rfl
  rw [h1, ← bigSep_sep']
  have h2 : (bigSep Finset.univ fun ck : Dev nD × (J ⊕ (J ⊕ I)) => (iprop(semVal (Pl.kcell ck) 0 ∗ roundState ER (Rd C) (Pl.kcell ck) 0) : sProp 𝕄))
      ⊢ |={Set.univ}=> bigSep Finset.univ fun ck => iprop(∃ κ : ℕ, cellInv ER (Rd C) κ (Pl.kcell ck)) :=
    (bigSep_mono fun ck _ => (Rounds.body_intro ER (Rd C) (Pl.kcell ck)).trans inv_alloc).trans (bigSep_fupd _ _)
  refine Entails.trans h2 (fupd_mono ?_)
  exact BI.bigSep_exists_pi Finset.univ (fun (ck : Dev nD × (J ⊕ (J ⊕ I))) (κ : ℕ) => (cellInv ER (Rd C) κ (Pl.kcell ck) : sProp 𝕄))

/-- The set-up over all the devices. -/
theorem setup : iprop((bigSep Finset.univ fun c => Pipeline.ownSems0 (Ix := Unit) (Name := ℕ) (U := UU nD τ sig) (Lvl := ℕ) (Val := Val) (τ := τ) Pl.osem c)
      ∗ bigSep Finset.univ (G C)
      ∗ (bigSep Finset.univ fun c => Pipeline.launchCred (O₀ Pl) c)
      ∗ bigSep Finset.univ fun c => bigSep Finset.univ fun j => slot₀ C j c)
    ⊢ |={Set.univ}=> bigSep Finset.univ fun c => iprop(∃ K, records C K ∗ given C c) := by
  rw [G_all, around (Pl := Pl) (fun j c => slot₀ C j c), all_split (fun ck => atPos ER (Pl.kcell ck) 0 ∅ 0), all_split (fun ck => dutyTok ER (Pl.kcell ck) 0 ()),
    around (Pl := Pl) (fun j c => dutyTok ER (Pl.kcell (c, .inr (.inl j))) 0 ())]
  iintro ⟨HS, ⟨HG, #HR, ⟨A1, A2, A3⟩, T1, T2, T3⟩, HC, HD⟩
  imod (alloc C) $$ [HS HG] with ⟨%K, #HI⟩
  · isplitl [HS]; · iexact HS
    iexact HG
  imodintro
  ihave HC' := (show (bigSep Finset.univ fun c => Pipeline.launchCred (O₀ Pl) c : sProp 𝕄)
    ⊢ bigSep Finset.univ fun c => bigSep Finset.univ fun j => cred (tallyAt (Pl.rcvC j c) () (Pl.amt j)) from bigSep_mono fun c _ => creds c) $$ HC
  iapply (with_persistent (R := records C K) (Φ := given C) fun c _ => show iprop(records C K ∗ given C c) ⊢ iprop(∃ K, records C K ∗ given C c) from by
    iintro ⟨#H1, H2⟩; iexists K
    isplitr; · iexact H1
    iexact H2)
  isplitr
  · unfold records; isplitr; · iexact HI
    iexact HR
  unfold given
  simp only [bigSep_sep']
  isplitl [HD]; · iexact HD
  isplitl [T1]; · iexact T1
  isplitl [T2]; · iexact T2
  isplitl [T3]; · iexact T3
  isplitl [A1]; · iexact A1
  isplitl [A2]; · iexact A2
  isplitl [A3]; · iexact A3
  iexact HC'

/-! ## A device's part, over sets -/

/-- What device `c` enters with. -/
def enter (c : Dev nD) : sProp 𝕄 :=
  iprop((∃ K, records C K ∗ given C c) ∗ (bigSep Finset.univ fun j => srcR C j c) ∗ (bigSep Finset.univ fun i => srcL C i c)
    ∗ bigSep Finset.univ fun i => lslot₀ C i c)

/-- What it leaves with. -/
def leave (c : Dev nD) : sProp 𝕄 :=
  iprop((bigSep Finset.univ fun j => srcR C j c) ∗ (bigSep Finset.univ fun i => srcL C i c)
    ∗ (bigSep Finset.univ fun j => slot₁ C j c) ∗ (bigSep Finset.univ fun i => lslot₁ C i c)
    ∗ Pipeline.ownSems0 (Ix := Unit) (Name := ℕ) (U := UU nD τ sig) (Lvl := ℕ) (Val := Val) (τ := τ) Pl.osem c)

variable {Λ : Labels} {defs : Defs nD τ sig Val Λ} (𝒱 : Variants)

theorem sems_eq (c : Dev nD) : Pipeline.ownSems0 (Ix := Unit) (Name := ℕ) (U := UU nD τ sig) (Lvl := ℕ) (Val := Val) (τ := τ) Pl.osem c
    = iprop((bigSep Finset.univ fun j => semVal (Pl.sndC j c) 0) ∗ (bigSep Finset.univ fun j => semVal (Pl.rcvC j c) 0)
      ∗ bigSep Finset.univ fun i => semVal (Pl.lclC i c) 0) := by
  rw [show Pipeline.ownSems0 (Ix := Unit) (Name := ℕ) (U := UU nD τ sig) (Lvl := ℕ) (Val := Val) (τ := τ) Pl.osem c
    = bigSep Finset.univ fun k => semVal (Pl.kcell (c, k)) 0 from rfl, bigSep_univ_sum, bigSep_univ_sum]; rfl

theorem part_wp (c : Dev nD) (Q : PUnit → sProp (MT nD τ sig Unit Val ℕ (UU nD τ sig) ℕ)) (lJ : List J) (lI : List I)
    (hJ : Finset.univ = lJ.toFinset) (hJn : lJ.Nodup) (hI : Finset.univ = lI.toFinset) (hIn : lI.Nodup) :
    iprop(enter C c ∗ ∃ W, owes (c : Thread nD τ) (O₀ Pl c) W)
      ⊢ iprop(((leave C c ∗ ∃ W, owes (c : Thread nD τ) 0 W) -∗ Q PUnit.unit) -∗ wpc 𝒱 defs c Q (prog Val Pl Λ lJ lI c)) := by
  rw [owed_all c lJ hJ hJn]
  unfold enter leave given
  rw [sems_eq]
  simp only [bigSep_univ_eq_bigSepL lJ hJ hJn, bigSep_univ_eq_bigSepL lI hI hIn]
  iintro ⟨⟨⟨%K, #R, D0, T1, T2, T3, A1, A2, A3, CR⟩, SR, SL, L0⟩, HO⟩ HK
  iapply (prog_wp (Λ := Λ) (defs := defs) C 𝒱 K c Q lJ lI) $$ [D0 T1 T2 T3 A1 A2 A3 CR SR SL L0 HO]
  · simp only [bigSepL_sep]
    isplitr; · iexact R
    isplitl [SL L0 T3]
    · isplitl [SL]; · iexact SL
      isplitl [L0]; · iexact L0
      iexact T3
    isplitl [SR D0 T1 T2]
    · isplitl [SR]; · iexact SR
      isplitl [D0]; · iexact D0
      isplitl [T1]; · iexact T1
      iexact T2
    isplitl [A1]; · iexact A1
    isplitl [CR A2]
    · isplitl [CR]; · iexact CR
      iexact A2
    isplitl [A3]; · iexact A3
    iexact HO
  simp only [bigSepL_sep]
  iintro ⟨⟨SR, Z1⟩, ⟨D1, Z2⟩, ⟨⟨L1, SL⟩, Z3⟩, HO⟩
  iapply HK
  isplitl [SR Z1 D1 Z2 L1 SL Z3]
  · isplitl [SR]; · iexact SR
    isplitl [SL]; · iexact SL
    isplitl [D1]; · iexact D1
    isplitl [L1]; · iexact L1
    isplitl [Z1]; · iexact Z1
    isplitl [Z2]; · iexact Z2
    iexact Z3
  iexact HO

/-- A program that first asks for the device's number. -/
theorem dev_wp (c : Dev nD) (Q : PUnit → sProp (MT nD τ sig Unit Val ℕ (UU nD τ sig) ℕ)) (f : Dev nD → Prog (TpuEff nD τ sig Val Λ .tc) PUnit)
    (p : Prog (TpuEff nD τ sig Val Λ .tc) PUnit) (hp : p = .op .deviceId f)
    {A B : sProp (MT nD τ sig Unit Val ℕ (UU nD τ sig) ℕ)} (h : A ⊢ iprop(B -∗ wpc 𝒱 defs c Q (f c))) :
    A ⊢ iprop(B -∗ wpc 𝒱 defs c Q p) := by
  subst hp
  have e : wpc 𝒱 defs c Q (.op .deviceId f) = wpc 𝒱 defs c Q (f c) := wp_deviceId 𝒱 _ _ _
  rw [e]
  exact h

end Exch

end
-- ==== Proof.Blocks.lean ====
/-
  Blocks of a buffer along one axis: which indices a block holds, a buffer shared out into the blocks of eight
  devices, and what a view of one block reads.
-/
module

public import proofs.«01_k».proof.Proof.ExchangeSetup
public import Idealize.ShloMosaic.Lib.Pipeline.Value
public import Idealize.ShloMosaic.Lib.Pipeline.ValueKit.Geometry

@[expose] public section

noncomputable section

namespace Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU nD τ sig) ℕ

/-- The indices of block `t` of width `w` along the axis `ax`. -/
theorem mem_block {s : Shape} {off size : Fin s.rank → ℕ} {inb : ∀ a, off a + size a ≤ s.size a} (ax : Fin s.rank) (w t : ℕ) (hw : 0 < w)
    (hoff : off ax = t * w) (hsz : size ax = w) (ho : ∀ a, a ≠ ax → off a = 0 ∧ size a = s.size a) (y : s.Idx) :
    y ∈ (Rect.unit off size inb).set ↔ (y ax : ℕ) / w = t := by
  rw [Rect.mem_set_unit]
  have key : (off ax ≤ (y ax : ℕ) ∧ (y ax : ℕ) < off ax + size ax) ↔ (y ax : ℕ) / w = t := by
    rw [hoff, hsz, Nat.div_eq_iff hw]
    constructor
    · rintro ⟨h1, h2⟩; omega
    · rintro ⟨h1, h2⟩; constructor <;> omega
  rw [← key]
  refine ⟨fun h => h ax, fun h a => ?_⟩
  by_cases e : a = ax
  · subst e; exact h
  · obtain ⟨e1, e2⟩ := ho a e
    rw [e1, e2]; exact ⟨Nat.zero_le _, by have := (y a).isLt; omega⟩

/-- A whole buffer is the block of `c` and the blocks of the others. -/
theorem pts_blocks {ℓ : Loc nD τ sig} (f : Buf Val ℓ) (q : PosShare TreeShare) {N : Type} [DecidableEq N] [Fintype N] {T : Type} [Fintype T] [DecidableEq T]
    (g : Idx ℓ → N) (c : N) (p : T → N) (hp : Function.Injective p) (hpc : ∀ k, p k ≠ c) (hall : ∀ n, n = c ∨ ∃ k, p k = n)
    (s₀ : Finset (Idx ℓ)) (s : T → Finset (Idx ℓ)) (h₀ : ∀ y, y ∈ s₀ ↔ g y = c) (h : ∀ k y, y ∈ s k ↔ g y = p k) :
    (ℓ ↦{q} f : sProp 𝕄) = iprop((ℓ ↦[s₀]{q} f) ∗ bigSep Finset.univ fun k => ℓ ↦[s k]{q} f) := by
  have hs : (Finset.univ : Finset (Idx ℓ)) = s₀ ∪ Finset.univ.biUnion s := by
    ext y
    simp only [Finset.mem_univ, Finset.mem_union, Finset.mem_biUnion, true_and, true_iff]
    rcases hall (g y) with e | ⟨k, e⟩
    · exact Or.inl ((h₀ y).mpr e)
    · exact Or.inr ⟨k, (h k y).mpr e.symm⟩
  have hd : Disjoint s₀ (Finset.univ.biUnion s) := by
    rw [Finset.disjoint_left]
    intro y hy hy'
    obtain ⟨k, -, hk⟩ := Finset.mem_biUnion.mp hy'
    exact hpc k (((h k y).mp hk).symm.trans ((h₀ y).mp hy))
  have h2 : (ℓ ↦[Finset.univ.biUnion s]{q} f : sProp 𝕄) = bigSep Finset.univ fun k => ℓ ↦[s k]{q} f :=
    pointsTo_biUnion Finset.univ s fun k _ k' _ ne => by
      rw [Finset.disjoint_left]
      intro y hy hy'
      exact ne (hp (((h k y).mp hy).symm.trans ((h k' y).mp hy')))
  have h1 : (ℓ ↦[s₀ ∪ Finset.univ.biUnion s]{q} f : sProp 𝕄) ⊣⊢ iprop((ℓ ↦[s₀]{q} f) ∗ ℓ ↦[Finset.univ.biUnion s]{q} f) :=
    pointsTo_union hd
  have h3 : (ℓ ↦{q} f : sProp 𝕄) = (ℓ ↦[s₀ ∪ Finset.univ.biUnion s]{q} f : sProp 𝕄) := by rw [← hs]
  rw [h3, BI.equiv_iff.mp ⟨h1.1, h1.2⟩, h2]

/-- What the squeezed block reads: the memref at the block's place. -/
theorem read_sq {κ : Kind} {sp : Space} {e : EltTy} {n : ℕ} {D : Fin (n + 1) → ℕ} {d : Fin n → ℕ} (A : Memref sig κ sp ⟨n + 1, D⟩ e) {off : Fin (n + 1) → ℕ}
    {inb : ∀ a, off a + Matrix.vecCons 1 d a ≤ D a} (hq : Shape.Squeezes (Rect.unit (s := ⟨n + 1, D⟩) off (Matrix.vecCons 1 d) inb).shape ⟨n, d⟩) (f : A.view.ty.Contents Val)
    (x : Shape.Idx ⟨n, d⟩) (y : Shape.Idx ⟨n + 1, D⟩) (h0 : (y 0 : ℕ) = off 0) (hs : ∀ a : Fin n, (y a.succ : ℕ) = off a.succ + x a) :
    ((A.slice (Rect.unit (s := ⟨n + 1, D⟩) off (Matrix.vecCons 1 d) inb) (fun _ => rfl)).squeeze ⟨n, d⟩ hq).view.read Val f x = A.view.read Val f y := by
  rw [Memref.read_squeeze_slice (hc := hq.numel_eq), shapeCast_dropUnit_apply]
  show A.view.read Val f _ = _
  congr 1
  funext a
  refine Fin.cases ?_ (fun b => ?_) a
  · exact Fin.ext ((Idealize.ShloMosaic.ValueKit.rect_emb_unit_val _ _ _ _ _).trans (by rw [h0]; simp))
  · exact Fin.ext ((Idealize.ShloMosaic.ValueKit.rect_emb_unit_val _ _ _ _ _).trans (by rw [hs]; rfl))

theorem read_row {κ : Kind} {sp : Space} {e : EltTy} {s : Shape} (A : Memref sig κ sp s e) {off size : Fin s.rank → ℕ}
    {inb : ∀ a, off a + size a ≤ s.size a} (f : A.view.ty.Contents Val)
    (x : (Rect.unit off size inb).shape.Idx) (y : s.Idx) (hy : ∀ a, (y a : ℕ) = off a + x a) :
    (A.slice (Rect.unit off size inb) (fun _ => rfl)).view.read Val f x = A.view.read Val f y := by
  show A.view.read Val f _ = _
  congr 1
  funext a
  exact Fin.ext ((Idealize.ShloMosaic.ValueKit.rect_emb_unit_val _ _ _ _ _).trans (hy a).symm)

end Exch

end
-- ==== Proof.Wgrads.lean ====
/-
  The exchange of the weight gradients as the copies of `Exch`: seven remote copies and one local copy of each of the
  six gradients.
-/
module

public import proofs.«01_k».proof.Proof.Blocks
public import proofs.«01_k».proof.Proof.Gen.KernelIdeal.Points
public import proofs.«01_k».proof.Proof.Gen.KernelIdeal.Skeleton

@[expose] public section

noncomputable section

namespace Cert.KernelIdeal.Wgrads

open Idealize.ShloMosaic
open Idealize.ShloMosaic.TcCoe
open Cert.KernelIdeal Cert.KernelIdeal.Gen

/-- The device whose part copy `k` sends, as the kernel computes it. -/
def peerOf : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peerOf_peerOf : ∀ k c, peerOf k (peerOf k c) = c := by decide +kernel
theorem peerOf_ne : ∀ k c, peerOf k c ≠ c := by decide +kernel
theorem peerOf_inj : ∀ c k k', peerOf k c = peerOf k' c → k = k' := by decide +kernel
theorem peerOf_all : ∀ c d, d = c ∨ ∃ k, peerOf k c = d := by decide +kernel

/-- The remote copy `k` of gradient `i` on device `c`. -/
def far : Fin 6 → Fin 7 → Dev nD → Exch.Xfer sig
  | 0, k, c => ⟨S1024x1408, .bf16,
      ((Memref.whole main_arg0).slice (Rect.unit (s := S8x1024x1408) (k0_off10 c (k0_off10_at k).1 (k0_off10_at k).2.1 (k0_off10_at k).2.2) S1x1024x1408.size (k0_off10_inb c k)) (fun _ => rfl)).squeeze S1024x1408 squeezes_S1x1024x1408_S1024x1408,
      ((Memref.whole main_v1_0).slice (Rect.unit (s := S8x1024x1408) (k0_off1 c) S1x1024x1408.size (k0_off1_inb c)) (fun _ => rfl)).squeeze S1024x1408 squeezes_S1x1024x1408_S1024x1408,
      ((Memref.isWhole_whole _).wordExact_slice rfl _ (k0_off10_wordsbf16 c k)).reshape _ _,
      ((Memref.isWhole_whole _).wordExact_slice rfl _ (k0_off1_wordsbf16 c)).reshape _ _, rfl⟩
  | 1, k, c => ⟨S128x1024, .bf16,
      (Memref.whole main_arg1).slice (Rect.unit (s := S1024x1024) (k0_off11 c (k0_off11_at k).1 (k0_off11_at k).2.1 (k0_off11_at k).2.2) S128x1024.size (k0_off11_inb c k)) (fun _ => rfl),
      ((Memref.whole main_v1_1).slice (Rect.unit (s := S8x128x1024) (k0_off2 c) S1x128x1024.size (k0_off2_inb c)) (fun _ => rfl)).squeeze S128x1024 squeezes_S1x128x1024_S128x1024,
      (Memref.isWhole_whole _).wordExact_slice rfl _ (k0_off11_wordsbf16 c k),
      ((Memref.isWhole_whole _).wordExact_slice rfl _ (k0_off2_wordsbf16 c)).reshape _ _, rfl⟩
  | 2, k, c => ⟨S256x1024, .bf16,
      (Memref.whole main_arg2).slice (Rect.unit (s := S2048x1024) (k0_off12 c (k0_off12_at k).1 (k0_off12_at k).2.1 (k0_off12_at k).2.2) S256x1024.size (k0_off12_inb c k)) (fun _ => rfl),
      ((Memref.whole main_v1_2).slice (Rect.unit (s := S8x256x1024) (k0_off4 c) S1x256x1024.size (k0_off4_inb c)) (fun _ => rfl)).squeeze S256x1024 squeezes_S1x256x1024_S256x1024,
      (Memref.isWhole_whole _).wordExact_slice rfl _ (k0_off12_wordsbf16 c k),
      ((Memref.isWhole_whole _).wordExact_slice rfl _ (k0_off4_wordsbf16 c)).reshape _ _, rfl⟩
  | 3, k, c => ⟨S128x1024, .bf16,
      (Memref.whole main_arg3).slice (Rect.unit (s := S1024x1024) (k0_off11 c (k0_off11_at k).1 (k0_off11_at k).2.1 (k0_off11_at k).2.2) S128x1024.size (k0_off11_inb c k)) (fun _ => rfl),
      ((Memref.whole main_v1_3).slice (Rect.unit (s := S8x128x1024) (k0_off2 c) S1x128x1024.size (k0_off2_inb c)) (fun _ => rfl)).squeeze S128x1024 squeezes_S1x128x1024_S128x1024,
      (Memref.isWhole_whole _).wordExact_slice rfl _ (k0_off11_wordsbf16 c k),
      ((Memref.isWhole_whole _).wordExact_slice rfl _ (k0_off2_wordsbf16 c)).reshape _ _, rfl⟩
  | 4, k, c => ⟨S1024x512, .bf16,
      (Memref.whole main_arg4).slice (Rect.unit (s := S1024x4096) (k0_off13 c (k0_off13_at k).1 (k0_off13_at k).2.1 (k0_off13_at k).2.2) S1024x512.size (k0_off13_inb c k)) (fun _ => rfl),
      ((Memref.whole main_v1_4).slice (Rect.unit (s := S8x1024x512) (k0_off6 c) S1x1024x512.size (k0_off6_inb c)) (fun _ => rfl)).squeeze S1024x512 squeezes_S1x1024x512_S1024x512,
      (Memref.isWhole_whole _).wordExact_slice rfl _ (k0_off13_wordsbf16 c k),
      ((Memref.isWhole_whole _).wordExact_slice rfl _ (k0_off6_wordsbf16 c)).reshape _ _, rfl⟩
  | 5, k, c => ⟨S512x1024, .bf16,
      (Memref.whole main_arg5).slice (Rect.unit (s := S4096x1024) (k0_off14 c (k0_off14_at k).1 (k0_off14_at k).2.1 (k0_off14_at k).2.2) S512x1024.size (k0_off14_inb c k)) (fun _ => rfl),
      ((Memref.whole main_v1_5).slice (Rect.unit (s := S8x512x1024) (k0_off8 c) S1x512x1024.size (k0_off8_inb c)) (fun _ => rfl)).squeeze S512x1024 squeezes_S1x512x1024_S512x1024,
      (Memref.isWhole_whole _).wordExact_slice rfl _ (k0_off14_wordsbf16 c k),
      ((Memref.isWhole_whole _).wordExact_slice rfl _ (k0_off8_wordsbf16 c)).reshape _ _, rfl⟩

/-- The local copy of gradient `i` on device `c`. -/
def near : Fin 6 → Dev nD → Exch.Xfer sig
  | 0, c => ⟨S1024x1408, .bf16,
      ((Memref.whole main_arg0).slice (Rect.unit (s := S8x1024x1408) (k0_off1 c) S1x1024x1408.size (k0_off1_inb c)) (fun _ => rfl)).squeeze S1024x1408 squeezes_S1x1024x1408_S1024x1408,
      ((Memref.whole main_v1_0).slice (Rect.unit (s := S8x1024x1408) (k0_off1 c) S1x1024x1408.size (k0_off1_inb c)) (fun _ => rfl)).squeeze S1024x1408 squeezes_S1x1024x1408_S1024x1408,
      ((Memref.isWhole_whole _).wordExact_slice rfl _ (k0_off1_wordsbf16 c)).reshape _ _,
      ((Memref.isWhole_whole _).wordExact_slice rfl _ (k0_off1_wordsbf16 c)).reshape _ _, rfl⟩
  | 1, c => ⟨S128x1024, .bf16,
      (Memref.whole main_arg1).slice (Rect.unit (s := S1024x1024) (k0_off3 c) S128x1024.size (k0_off3_inb c)) (fun _ => rfl),
      ((Memref.whole main_v1_1).slice (Rect.unit (s := S8x128x1024) (k0_off2 c) S1x128x1024.size (k0_off2_inb c)) (fun _ => rfl)).squeeze S128x1024 squeezes_S1x128x1024_S128x1024,
      (Memref.isWhole_whole _).wordExact_slice rfl _ (k0_off3_wordsbf16 c),
      ((Memref.isWhole_whole _).wordExact_slice rfl _ (k0_off2_wordsbf16 c)).reshape _ _, rfl⟩
  | 2, c => ⟨S256x1024, .bf16,
      (Memref.whole main_arg2).slice (Rect.unit (s := S2048x1024) (k0_off5 c) S256x1024.size (k0_off5_inb c)) (fun _ => rfl),
      ((Memref.whole main_v1_2).slice (Rect.unit (s := S8x256x1024) (k0_off4 c) S1x256x1024.size (k0_off4_inb c)) (fun _ => rfl)).squeeze S256x1024 squeezes_S1x256x1024_S256x1024,
      (Memref.isWhole_whole _).wordExact_slice rfl _ (k0_off5_wordsbf16 c),
      ((Memref.isWhole_whole _).wordExact_slice rfl _ (k0_off4_wordsbf16 c)).reshape _ _, rfl⟩
  | 3, c => ⟨S128x1024, .bf16,
      (Memref.whole main_arg3).slice (Rect.unit (s := S1024x1024) (k0_off3 c) S128x1024.size (k0_off3_inb c)) (fun _ => rfl),
      ((Memref.whole main_v1_3).slice (Rect.unit (s := S8x128x1024) (k0_off2 c) S1x128x1024.size (k0_off2_inb c)) (fun _ => rfl)).squeeze S128x1024 squeezes_S1x128x1024_S128x1024,
      (Memref.isWhole_whole _).wordExact_slice rfl _ (k0_off3_wordsbf16 c),
      ((Memref.isWhole_whole _).wordExact_slice rfl _ (k0_off2_wordsbf16 c)).reshape _ _, rfl⟩
  | 4, c => ⟨S1024x512, .bf16,
      (Memref.whole main_arg4).slice (Rect.unit (s := S1024x4096) (k0_off7 c) S1024x512.size (k0_off7_inb c)) (fun _ => rfl),
      ((Memref.whole main_v1_4).slice (Rect.unit (s := S8x1024x512) (k0_off6 c) S1x1024x512.size (k0_off6_inb c)) (fun _ => rfl)).squeeze S1024x512 squeezes_S1x1024x512_S1024x512,
      (Memref.isWhole_whole _).wordExact_slice rfl _ (k0_off7_wordsbf16 c),
      ((Memref.isWhole_whole _).wordExact_slice rfl _ (k0_off6_wordsbf16 c)).reshape _ _, rfl⟩
  | 5, c => ⟨S512x1024, .bf16,
      (Memref.whole main_arg5).slice (Rect.unit (s := S4096x1024) (k0_off9 c) S512x1024.size (k0_off9_inb c)) (fun _ => rfl),
      ((Memref.whole main_v1_5).slice (Rect.unit (s := S8x512x1024) (k0_off8 c) S1x512x1024.size (k0_off8_inb c)) (fun _ => rfl)).squeeze S512x1024 squeezes_S1x512x1024_S512x1024,
      (Memref.isWhole_whole _).wordExact_slice rfl _ (k0_off9_wordsbf16 c),
      ((Memref.isWhole_whole _).wordExact_slice rfl _ (k0_off8_wordsbf16 c)).reshape _ _, rfl⟩

def amt (i : Fin 6) : ℕ := (near i 0).dst.view.dmaCredit

theorem amt_pos : ∀ i, 0 < amt i := by decide +kernel

/-- The exchange. -/
def plan : Exch.Plan nD τ sig (Fin 6 × Fin 7) (Fin 6) where
  peer j := peerOf j.2
  peer_peer j := peerOf_peerOf j.2
  snd j := ⟨7 * j.1 + j.2, by have := j.1.isLt; have := j.2.isLt; show _ < 90; omega⟩
  rcv j := ⟨42 + (7 * j.1 + j.2), by have := j.1.isLt; have := j.2.isLt; show _ < 90; omega⟩
  lcl i := ⟨84 + i, by have := i.isLt; show _ < 90; omega⟩
  far j := far j.1 j.2
  near := near
  amt j := amt j.1
  amtL := amt
  amt_pos j := amt_pos j.1
  amtL_pos := amt_pos
  far_dst := by
    rintro ⟨i, k⟩ c
    match i with
    | 0 | 1 | 2 | 3 | 4 | 5 => rfl
  far_src := by
    rintro ⟨i, k⟩ c
    match i with
    | 0 | 1 | 2 | 3 | 4 | 5 => rfl
  near_dst := by
    intro i c
    match i with
    | 0 | 1 | 2 | 3 | 4 | 5 => rfl
  inj := by decide +kernel
  routes := by decide +kernel

def order : List (Fin 6 × Fin 7) := (List.finRange 6).flatMap fun i => (List.finRange 7).map fun k => (i, k)
theorem order_univ : (Finset.univ : Finset (Fin 6 × Fin 7)) = order.toFinset := by decide +kernel
theorem items_univ : (Finset.univ : Finset (Fin 6)) = (List.finRange 6).toFinset := by decide
theorem order_nodup : order.Nodup := by decide +kernel

variable {F : FTy → Type} [FloatOps F]

set_option maxRecDepth 65536 in
/-- The kernel's body: the device's number, then its part of the exchange. -/
theorem body_eq (t : Fin cfg0.N) : bodyAt0 (F := F) t = .op .deviceId fun c => Exch.prog (Elt F) plan Λ₀ order (List.finRange 6) c := rfl

end Cert.KernelIdeal.Wgrads

end
-- ==== Proof.LaunchExchange.lean ====
/-
  The launch of a program whose @main begins with a kernel region that exchanges data between the
  devices, its signals and copies on the region's own scoped semaphores.

  Before any device runs, all of them together hold every unscoped buffer and every own semaphore
  of the first region at zero.  The protocol of the exchange is set up over that common holding:
  a copy's target buffer can be handed to the device that will write it, and the semaphore it
  credits can be put under an invariant that the writer knows.  After the first region the
  program may run further host segments and regions.
-/
module

public import Idealize.ShloMosaic.Lib.Pipeline.Launch
public import Idealize.ShloMosaic.Lib.Pipeline.Regions

@[expose] public section

noncomputable section

namespace Idealize.ShloMosaic

open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

open PCS
open Idealize.ShloMosaic.Rounds

namespace Exchange

variable {Λ₀ : SL.Sem.Labels} {P : Type} [Fintype P]

variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

variable [Preorder Lvl]

/-- No cell carries a level: nothing in such a program waits while it still owes another device a credit. -/
abbrev noLev : GSem nD τ sig → Finset Ix := fun _ => ∅

omit [Fintype P] [Preorder Lvl] in
theorem noLev_intro (lv : GSem nD τ sig → Ix → Lvl) : (BI.emp : sProp 𝕄) ⊢ levAts noLev lv := by
  unfold levAts noLev
  rw [bigSep_congr (Ψ := fun _ : GSem nD τ sig => (BI.emp : sProp 𝕄)) fun g _ => BI.bigSep_empty, BI.bigSep_emp_const]

/-- What all the devices together hold of device `c` before the program starts. -/
abbrev dealt (m : (ℓ : Loc nD τ sig) → Buf Val ℓ) (O₀ : Dev nD → CellTallies nD τ sig Ix) {K : Type} [Fintype K] (osem : K → SemLoc sig)
    (G : Dev nD → sProp 𝕄) (c : Dev nD) : sProp 𝕄 :=
  iprop(unscopedBufs c (fun b => m ((c.tc : Thread nD τ).loc b)) ∗ ownSems0 osem c
    ∗ owes (c.tc : Thread nD τ) (O₀ c) ∅ ∗ launchCred O₀ c ∗ G c)

/-- The first region: its layout, its body, and its protocol, sorted out of what all the devices hold. -/
structure First (p : P) (m : (ℓ : Loc nD τ sig) → Buf Val ℓ) (O₀ : Dev nD → CellTallies nD τ sig Ix) (G : Dev nD → sProp 𝕄) where
  win : WinFacts₀ (pcs p).spec
  block_pos : ∀ w : Fin (pin pcs a p).W, 0 < ((pin pcs a p).spec w).block.numel
  stage_whole : ∀ (w : Fin (pin pcs a p).W) (s : Fin ((pin pcs a p).spec w).nbuf), (((pin pcs a p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (BI.emp : sProp 𝕄) ⊢ cellsWaits (pin pcs a) pdats ι p c
  X : Dev nD → sProp 𝕄
  Y : Dev nD → sProp 𝕄
  Z : Dev nD → sProp 𝕄
  post : Dev nD → sProp 𝕄
  /-- The set-up over all the devices at once. -/
  hinit : (bigSep Finset.univ fun c : Dev nD => dealt m O₀ osem G c)
    ⊢ |={Set.univ}=> bigSep Finset.univ fun c : Dev nD => iprop((pdats p c).arrays ((pdats p c).arrAt · 0)
        ∗ prefHeld (pcs p).pre c (fun _ => fullShare) (a p).1 ∗ (pdats p c).owesAt ι 0 ∗ X c ∗ Z c)
  hin : ∀ c, iprop(X c ∗ prefHeld (pcs p).pre c (fun _ => fullShare) (a p).1 ∗ scopedRest (pin pcs a p).spec c) ⊢ (pdats p c).Φ 0
  hout : ∀ c, (pdats p c).Φ (Fin.last (pin pcs a p).N) ⊢ iprop(Y c ∗ ownSems0 osem c ∗ scopedRest (pin pcs a p).spec c)
  hexit : ∀ c, iprop((pdats p c).arrays ((pdats p c).arrAt · (pin pcs a p).N) ∗ (pdats p c).owesAt ι (Fin.last (pin pcs a p).N) ∗ Y c ∗ Z c)
    ⊢ |={Set.univ}=> post c

attribute [instance] First.fK

variable {m : (ℓ : Loc nD τ sig) → Buf Val ℓ} {O₀ : Dev nD → CellTallies nD τ sig Ix} {G : Dev nD → sProp (MT nD τ sig Ix Val Name U Lvl)}

/-- What device `c` holds as the first region is entered, its own semaphores already given to the protocol. -/
def held {p : P} (R : First pcs a pdats ι defs₀ 𝒱₀ p m O₀ G) (c : Dev nD) : sProp 𝕄 :=
  iprop((scopedBufs (c.tc : Thread nD τ) ∗ cellsSems0 (pin pcs a) p c ∗ idleSems0 (pin pcs a) phinj p R.ho c ∗ opIdle (c.tc : Thread nD τ))
    ∗ (pdats p c).arrays ((pdats p c).arrAt · 0) ∗ prefHeld (pcs p).pre c (fun _ => fullShare) (a p).1 ∗ (pdats p c).owesAt ι 0 ∗ R.X c ∗ R.Z c)

include phinj in
/-- The first region's step on device `c`. -/
theorem First.wp [∀ e, Nonempty (Val e)] [Infinite Name] [EP.LandsIn (upEmb : UEmb _ 𝕄)]
    {p : P} (R : First pcs a pdats ι defs₀ 𝒱₀ p m O₀ G) (c : Dev nD)
    {α : Type} (k : PUnit → Prog (TpuEff nD τ sig Val (Sig Λ₀ P fun p => (pcs p).Adm) .tc) α) (Q : α → sProp 𝕄) :
    iprop((iprop(boundary (c.tc : Thread nD τ) ∗ R.post c) -∗ wp frame (wpE 𝔻 𝕍 (c.tc : Thread nD τ) none) Set.univ (k ⟨⟩) Q)
        ∗ held pcs a pdats ι phinj defs₀ 𝒱₀ R c
        ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p R.win R.ho (Ix := Ix) (Val := Val) (Name := Name) (U := U) (Lvl := Lvl) c
  have hsb := scopedBufs_split (pin pcs a) p R.win.stage_scoped R.win.stage_inj R.stage_whole c (nD := nD) (τ := τ) (Ix := Ix) (Val := Val) (Name := Name) (U := U) (Lvl := Lvl)
  have hout' : iprop((pdats p c).Φ (Fin.last (pin pcs a p).N) ∗ cellsSems0 (pin pcs a) p c ∗ Dat.staging (pin pcs a p) c ∗ idleSems0 (pin pcs a) phinj p R.ho c)
      ⊢ iprop(R.Y c ∗ scopedSems0 (c.tc : Thread nD τ) ∗ scopedBufs (c.tc : Thread nD τ)) := by
    rw [hss, hsb]
    iintro ⟨HΦ, H1, H2, H3⟩
    ihave H := (R.hout c) $$ HΦ
    icases H with ⟨HY, Ho, Hr⟩
    isplitl [HY]; · iexact HY
    isplitl [H1 Ho H3]
    · isplitl [H1 Ho]
      · isplitl [H1] <;> iassumption
      iexact H3
    isplitl [H2] <;> iassumption
  unfold held
  iintro ⟨Hk, ⟨⟨Hsc, Hcells, Hidle, Hidl⟩, Harr, Hpf, HO, HX, HZ⟩, Hg, Ht⟩
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pcs p).spec c)
      (I := idleSems0 (pin pcs a) phinj p R.ho c) (Entails.of_eq hsb) (R.hin c) hout' (k := k) (Q := Q)) $$ [Harr HO Hinit Ht Hpf HX Hidle Hsc]
  · isplitl [Harr HO Hinit Ht]
    · unfold EntryPre PerCore.EntryPre
      isplitl [Harr]; · iexact Harr
      isplitl [HO]; · iexact HO
      isplitr [Hinit Ht]; · iapply (R.hwaits c); iempintro
      isplitl [Hinit] <;> iassumption
    isplitl [Hpf]; · iexact Hpf
    isplitl [HX]; · iexact HX
    isplitl [Hidle]; · iexact Hidle
    iexact Hsc
  iintro ⟨Hpost, HY, Hss2, Hsc2⟩
  unfold EntryPost PerCore.EntryPost
  icases Hpost with ⟨Ha, HO⟩
  iapply (fupd_wp frame (wpE 𝔻 𝕍 (c.tc : Thread nD τ) none) Set.univ _ _)
  imod (R.hexit c) $$ [Ha HO HY HZ] with Hpost
  · isplitl [Ha]; · iexact Ha
    isplitl [HO]; · iexact HO
    isplitl [HY] <;> iassumption
  imodintro
  iapply Hk
  isplitr [Hpost]
  · unfold boundary
    isplitl [Hsc2]; · iexact Hsc2
    isplitl [Hss2]; · iexact Hss2
    iexact Hidl
  · iexact Hpost

include phinj in
/-- A program that runs as the first region and then the segments `rest`, launched with the devices owing `O₀`: every weakly
    fair execution terminates, and every final memory satisfies `Q`. -/
theorem θ_run_first [DecidableEq P] [∀ e, Nonempty (Val e)] [Infinite Name] [EP.LandsIn (upEmb : UEmb _ 𝕄)]
    (lv : GSem nD τ sig → Ix → Lvl) (g : Dev nD → PrngReg)
    (main : Dev nD → Prog (TpuEff nD τ sig Val (Sig Λ₀ P fun p => (pcs p).Adm) .tc) PUnit)
    {p : P} (R : First pcs a pdats ι defs₀ 𝒱₀ p m O₀ G)
    (rest : List (Seg pcs a pdats ι defs₀ 𝒱₀ (noLev (nD := nD) (τ := τ) (sig := sig) (Ix := Ix)) lv))
    (hmain : ∀ c, main c = .op (.customCall (entry p) ()) fun _ => Seg.run rest)
    (hnd : (p :: Seg.pipes rest).Nodup)
    (u₀ : U)
    (hu₀ : (ownU u₀ : sProp 𝕄)
      ⊢ |={Set.univ}=> iprop(BI.own (EP (initOf (cells (pin pcs a) phinj) (launchToks (pin pcs a) phinj))) ∗ bigSep Finset.univ G))
    (Tₙ : Dev nD → sProp 𝕄)
    (hch : Seg.Chains R.post rest fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(held pcs a pdats ι phinj defs₀ 𝒱₀ R c ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- what the devices hold together, set up
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(scopedBufs (c.tc : Thread nD τ) ∗ cellsSems0 (pin pcs a) p c
              ∗ idleSems0 (pin pcs a) phinj p R.ho c ∗ opIdle (c.tc : Thread nD τ)))
            ∗ (bigSep Finset.univ fun c : Dev nD => iprop(unscopedBufs c (fun b => m ((c.tc : Thread nD τ).loc b)) ∗ ownSems0 R.osem c
                ∗ owes (c.tc : Thread nD τ) (O₀ c) ∅ ∗ launchCred O₀ c)) : sProp 𝕄) := by
      rw [← bigSep_sep']
      refine bigSep_mono fun c _ => (coreInit_boundary_owing O₀ m g c).trans ?_
      unfold boundary
      rw [scopedSems0_split (pin pcs a) phinj p R.win R.ho c]
      iintro ⟨⟨Hsb, ⟨⟨Hcl, How⟩, Hid⟩, Hop⟩, Hub, -, HL, -, -, Hcr⟩
      isplitl [Hsb Hcl Hid Hop]
      · isplitl [Hsb]; · iexact Hsb
        isplitl [Hcl]; · iexact Hcl
        isplitl [Hid] <;> iassumption
      · isplitl [Hub]; · iexact Hub
        isplitl [How]; · iexact How
        isplitl [HL] <;> iassumption
    iintro ⟨Hcores, Hu⟩
    ihave Hc := hcores $$ Hcores
    icases Hc with ⟨Hb, Hh⟩
    imod hu₀ $$ Hu with ⟨HP, HG⟩
    imod (fund_ghost (pin pcs a) EP phinj) $$ HP with ⟨Hg, Ht⟩
    imod R.hinit $$ [Hh HG] with HT
    · iapply (show iprop((bigSep Finset.univ fun c : Dev nD => iprop(unscopedBufs c (fun b => m ((c.tc : Thread nD τ).loc b)) ∗ ownSems0 R.osem c
                ∗ owes (c.tc : Thread nD τ) (O₀ c) ∅ ∗ launchCred O₀ c)) ∗ bigSep Finset.univ G)
            ⊢ (bigSep Finset.univ fun c : Dev nD => dealt m O₀ R.osem G c : sProp 𝕄) from by
          rw [← bigSep_sep']
          refine bigSep_mono fun c _ => show iprop(iprop(unscopedBufs c (fun b => m ((c.tc : Thread nD τ).loc b)) ∗ ownSems0 R.osem c
                ∗ owes (c.tc : Thread nD τ) (O₀ c) ∅ ∗ launchCred O₀ c) ∗ G c) ⊢ dealt m O₀ R.osem G c from ?_
          iintro ⟨⟨H1, H2, H3, H4⟩, H5⟩
          isplitl [H1]; · iexact H1
          isplitl [H2]; · iexact H2
          isplitl [H3]; · iexact H3
          isplitl [H4] <;> iassumption)
      isplitl [Hh] <;> iassumption
    imodintro
    iexists ()
    isplitr []
    · simp only [pre]
      iapply (Entails.of_eq (bigSep_sep' Finset.univ (fun c : Dev nD => held pcs a pdats ι phinj defs₀ 𝒱₀ R c) (fun c => ghostOn pcs a EP Finset.univ c)).symm)
      isplitl [Hb HT]
      · iapply (show iprop((bigSep Finset.univ fun c : Dev nD => iprop(scopedBufs (c.tc : Thread nD τ) ∗ cellsSems0 (pin pcs a) p c
              ∗ idleSems0 (pin pcs a) phinj p R.ho c ∗ opIdle (c.tc : Thread nD τ)))
            ∗ bigSep Finset.univ fun c : Dev nD => iprop((pdats p c).arrays ((pdats p c).arrAt · 0)
                ∗ prefHeld (pcs p).pre c (fun _ => fullShare) (a p).1 ∗ (pdats p c).owesAt ι 0 ∗ R.X c ∗ R.Z c))
            ⊢ bigSep Finset.univ fun c : Dev nD => held pcs a pdats ι phinj defs₀ 𝒱₀ R c from by
          unfold held; rw [← bigSep_sep'])
        isplitl [Hb] <;> iassumption
      iapply (show iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c from by
          rw [← bigSep_sep']
          exact bigSep_mono fun c _ => show iprop((bigSep Finset.univ fun p => cellsGhost (pin pcs a) EP p c)
              ∗ bigSep Finset.univ fun p => (toksInit (pin pcs a) EP p c : sProp 𝕄)) ⊢ ghostOn pcs a EP Finset.univ c
            from Entails.of_eq (by unfold ghostOn PerCore.ghostOn; rw [bigSep_sep']))
      isplitl [Hg] <;> iassumption
    · iempintro
  · -- each device's run: the first region, then the segments
    simp only [pre]
    rw [hmain c]
    obtain ⟨hp, hnd'⟩ := List.nodup_cons.mp hnd
    rw [show ghostOn pcs a EP Finset.univ c = _ from PerCore.ghostOn_erase pcs (fun _ => a) EP (Finset.mem_univ p) c]
    iintro ⟨Hh, ⟨Hg, Ht⟩, Hgr⟩
    iapply (First.wp pcs a pdats ι phinj EP defs₀ 𝒱₀ R c)
    isplitl [Hgr]
    · iintro ⟨Hbd, HT⟩
      iapply (wp_segs pcs a pdats ι phinj EP defs₀ 𝒱₀ noLev lv c rest (Finset.univ.erase p) R.post _ hnd'
        (fun p' h => Finset.mem_erase.mpr ⟨fun e => hp (e ▸ h), Finset.mem_univ _⟩) hch)
      isplitr [Hbd HT Hgr]
      · iintro ⟨Hbd', HT, HW⟩
        unfold post; simp only [liftTc_tc, fin]
        isplitl [HT Hbd']
        · isplitl [HT] <;> iassumption
        iexact HW
      · isplitl [Hbd]; · iexact Hbd
        isplitl [HT]; · iexact HT
        isplitr; · iapply (noLev_intro lv); iempintro
        iexact Hgr
    · isplitl [Hh]; · iexact Hh
      isplitl [Hg] <;> iassumption
  · -- the final reads
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Exchange

end Pipeline

end Idealize.ShloMosaic

end
-- ==== Proof.ExchangeBufs.lean ====
/-
  An exchange of whole buffers: each source and each result shared out into the parts its copies take, so that what
  a device holds before the exchange is all its buffers at the launch contents, and after it all its buffers again.
-/
module

public import proofs.«01_k».proof.Proof.ExchangeSetup
public import proofs.«01_k».proof.Proof.LaunchExchange

@[expose] public section

noncomputable section

namespace Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {K I : Type} [Fintype K] [DecidableEq K] [Fintype I] [DecidableEq I]

local notation "𝕄" => MT nD τ sig Unit Val ℕ (UU nD τ sig) ℕ

variable {Pl : Plan nD τ sig (I × K) I}

/-- The sources and the results of an exchange, whole buffers, one of each per item; item `i` has the remote copies `(i, k)`
    and the local copy `i`. -/
structure Bufs (C : Cont Val Pl) where
  src : I → Ref sig .tc
  dst : I → Ref sig .tc
  inj : Function.Injective (Sum.elim src dst)
  unscoped : ∀ x, (Sum.elim src dst x).isScoped = false
  hsrc : ∀ (i : I) (c : Dev nD), ((c.tc : Thread nD τ).loc (src i) ↦{fullShare} C.m ((c.tc : Thread nD τ).loc (src i)) : sProp (MT nD τ sig Unit Val ℕ (UU nD τ sig) ℕ))
    = iprop(srcL C i c ∗ bigSep Finset.univ fun k => srcR C (i, k) c)
  hdst₀ : ∀ (i : I) (c : Dev nD), ((c.tc : Thread nD τ).loc (dst i) ↦{fullShare} C.m ((c.tc : Thread nD τ).loc (dst i)) : sProp (MT nD τ sig Unit Val ℕ (UU nD τ sig) ℕ))
    = iprop(lslot₀ C i c ∗ bigSep Finset.univ fun k => slot₀ C (i, k) c)
  hdst₁ : ∀ (i : I) (c : Dev nD), ((c.tc : Thread nD τ).loc (dst i) ↦{fullShare} C.Fn c (dst i) : sProp (MT nD τ sig Unit Val ℕ (UU nD τ sig) ℕ))
    = iprop(lslot₁ C i c ∗ bigSep Finset.univ fun k => slot₁ C (i, k) c)
  kept : ∀ (c : Dev nD) (b : Ref sig .tc), (∀ i, b ≠ dst i) → C.Fn c b = C.m ((c.tc : Thread nD τ).loc b)

namespace Bufs

variable {C : Cont Val Pl} (B : Bufs C)

/-- The sources and the results, as one family of buffers. -/
def used : Finset (Ref sig .tc) := Finset.univ.map ⟨Sum.elim B.src B.dst, B.inj⟩

theorem used_sub : B.used ⊆ Finset.univ.filter fun b : Ref sig .tc => ¬ b.isScoped := by
  intro b hb
  obtain ⟨x, -, rfl⟩ := Finset.mem_map.mp hb
  exact Finset.mem_filter.mpr ⟨Finset.mem_univ _, by show ¬ (Sum.elim B.src B.dst x).isScoped = true; rw [B.unscoped x]; exact Bool.false_ne_true⟩

/-- The other buffers. -/
def others (c : Dev nD) : sProp 𝕄 :=
  bigSep ((Finset.univ.filter fun b : Ref sig .tc => ¬ b.isScoped) \ B.used) fun b => ((c.tc : Thread nD τ).loc b) ↦{fullShare} C.m ((c.tc : Thread nD τ).loc b)

theorem all_split (c : Dev nD) (V : (b : Ref sig .tc) → Buf Val ((c.tc : Thread nD τ).loc b)) :
    (unscopedBufs (Ix := Unit) (Name := ℕ) (U := UU nD τ sig) (Lvl := ℕ) c V : sProp 𝕄)
      = iprop(((bigSep Finset.univ fun i => ((c.tc : Thread nD τ).loc (B.src i)) ↦{fullShare} V (B.src i))
          ∗ bigSep Finset.univ fun i => ((c.tc : Thread nD τ).loc (B.dst i)) ↦{fullShare} V (B.dst i))
        ∗ bigSep ((Finset.univ.filter fun b : Ref sig .tc => ¬ b.isScoped) \ B.used) fun b => ((c.tc : Thread nD τ).loc b) ↦{fullShare} V b) := by
  unfold unscopedBufs
  rw [bigSep_sdiff_split B.used_sub]
  unfold used
  rw [bigSep_map, bigSep_univ_sum]
  rfl

theorem before (c : Dev nD) :
    (unscopedBufs (Ix := Unit) (Name := ℕ) (U := UU nD τ sig) (Lvl := ℕ) c (fun b => C.m ((c.tc : Thread nD τ).loc b)) : sProp 𝕄)
      = iprop((((bigSep Finset.univ fun i => srcL C i c) ∗ bigSep Finset.univ fun j => srcR C j c)
          ∗ (bigSep Finset.univ fun i => lslot₀ C i c) ∗ bigSep Finset.univ fun j => slot₀ C j c) ∗ B.others c) := by
  rw [B.all_split]
  simp only [B.hsrc, B.hdst₀, bigSep_sep', bigSep_univ_prod]
  rfl

theorem after (c : Dev nD) :
    (unscopedBufs (Ix := Unit) (Name := ℕ) (U := UU nD τ sig) (Lvl := ℕ) c (C.Fn c) : sProp 𝕄)
      = iprop((((bigSep Finset.univ fun i => srcL C i c) ∗ bigSep Finset.univ fun j => srcR C j c)
          ∗ (bigSep Finset.univ fun i => lslot₁ C i c) ∗ bigSep Finset.univ fun j => slot₁ C j c) ∗ B.others c) := by
  rw [B.all_split]
  have hs : ∀ i, C.Fn c (B.src i) = C.m ((c.tc : Thread nD τ).loc (B.src i)) := fun i => B.kept c _ fun i' h => by
    have := B.inj (a₁ := .inl i) (a₂ := .inr i') h
    cases this
  have ho : (bigSep ((Finset.univ.filter fun b : Ref sig .tc => ¬ b.isScoped) \ B.used) fun b => ((c.tc : Thread nD τ).loc b) ↦{fullShare} C.Fn c b : sProp 𝕄)
      = B.others c := by
    unfold others
    refine bigSep_congr fun b hb => ?_
    rw [B.kept c b fun i h => (Finset.mem_sdiff.mp hb).2 (Finset.mem_map.mpr ⟨.inr i, Finset.mem_univ _, h.symm⟩)]
  rw [ho]
  simp only [hs, B.hsrc, B.hdst₁, bigSep_sep', bigSep_univ_prod]

/-- The set-up over all the devices, from what they hold at launch. -/
theorem launch : (bigSep Finset.univ fun c : Dev nD => Pipeline.Exchange.dealt C.m (O₀ Pl) Pl.osem (G C) c)
    ⊢ |={Set.univ}=> bigSep Finset.univ fun c : Dev nD => iprop(owes (c.tc : Thread nD τ) (O₀ Pl c) ∅ ∗ enter C c ∗ B.others c) := by
  unfold Pipeline.Exchange.dealt enter
  simp only [B.before, bigSep_sep']
  iintro ⟨⟨⟨⟨H1, H2⟩, H3, H4⟩, H5⟩, HS, HO, HC, HG⟩
  imod (setup C) $$ [HS HG HC H4] with HX
  · isplitl [HS]; · iexact HS
    isplitl [HG]; · iexact HG
    isplitl [HC]; · iexact HC
    iexact H4
  imodintro
  isplitl [HO]; · iexact HO
  isplitr [H5]
  · isplitl [HX]; · iexact HX
    isplitl [H2]; · iexact H2
    isplitl [H1]; · iexact H1
    iexact H3
  iexact H5

/-- A device's buffers, as it leaves the exchange. -/
theorem finish (c : Dev nD) : iprop(((bigSep Finset.univ fun j => srcR C j c) ∗ (bigSep Finset.univ fun i => srcL C i c)
      ∗ (bigSep Finset.univ fun j => slot₁ C j c) ∗ (bigSep Finset.univ fun i => lslot₁ C i c)) ∗ B.others c)
    ⊢ (unscopedBufs (Ix := Unit) (Name := ℕ) (U := UU nD τ sig) (Lvl := ℕ) c (C.Fn c) : sProp (MT nD τ sig Unit Val ℕ (UU nD τ sig) ℕ)) := by
  rw [B.after]
  iintro ⟨⟨H1, H2, H3, H4⟩, H5⟩
  isplitr [H5]
  · isplitl [H1 H2]
    · isplitl [H2] <;> iassumption
    isplitl [H4] <;> iassumption
  iexact H5

end Bufs

/-! ## The body of a region that is one exchange -/

section Body

variable {J' I' : Type} [Fintype J'] [DecidableEq J'] [Fintype I'] [DecidableEq I'] {Pl' : Plan nD τ sig J' I'} (C : Cont Val Pl')
variable {Λ : Labels} {defs : Defs nD τ sig Val Λ} (𝒱 : Variants)

/-- The device's number, then its part: from what it enters with to what it leaves with, whatever its waits stay within. -/
theorem body_step (lJ : List J') (lI : List I') (hJ : Finset.univ = lJ.toFinset) (hJn : lJ.Nodup) (hI : Finset.univ = lI.toFinset) (hIn : lI.Nodup)
    (c : Dev nD) (B₀ B₁ : Set (SemLoc sig × Unit)) (hB : ∀ x, x ∈ B₁) (p : Prog (TpuEff nD τ sig Val Λ .tc) PUnit)
    (hp : p = .op .deviceId fun c => prog Val Pl' Λ lJ lI c) :
    iprop(enter C c ∗ Pipeline.owesWithin c (O₀ Pl' c) B₀ ∗ (BI.emp : sProp (MT nD τ sig Unit Val ℕ (UU nD τ sig) ℕ)))
      ⊢ wp frame (wpE defs 𝒱 c none) Set.univ p fun _ =>
        iprop(leave C c ∗ Pipeline.owesWithin c 0 B₁ ∗ (BI.emp : sProp (MT nD τ sig Unit Val ℕ (UU nD τ sig) ℕ))) := by
  have h : iprop(enter C c ∗ ∃ W, owes (c : Thread nD τ) (O₀ Pl' c) W)
      ⊢ iprop(((leave C c ∗ ∃ W, owes (c : Thread nD τ) 0 W) -∗ iprop(leave C c ∗ Pipeline.owesWithin c 0 B₁ ∗ (BI.emp : sProp (MT nD τ sig Unit Val ℕ (UU nD τ sig) ℕ))))
        -∗ wp frame (wpE defs 𝒱 c none) Set.univ p fun _ =>
          iprop(leave C c ∗ Pipeline.owesWithin c 0 B₁ ∗ (BI.emp : sProp (MT nD τ sig Unit Val ℕ (UU nD τ sig) ℕ)))) :=
    dev_wp 𝒱 c _ _ p hp (part_wp (defs := defs) C 𝒱 c (fun _ => iprop(leave C c ∗ Pipeline.owesWithin c 0 B₁ ∗ (BI.emp : sProp (MT nD τ sig Unit Val ℕ (UU nD τ sig) ℕ)))) lJ lI hJ hJn hI hIn)
  iintro ⟨HE, ⟨%W, -, HO⟩, -⟩
  iapply h $$ [HE HO]
  · isplitl [HE]; · iexact HE
    iexists W; iexact HO
  iintro ⟨HL, ⟨%W', HO⟩⟩
  isplitl [HL]; · iexact HL
  isplitl [HO]
  · iexists W'; isplitr; · ipureintro; exact fun x _ => hB x
    iexact HO
  iempintro

end Body

end Exch

end
-- ==== Proof.Parts.lean ====
/-
  The parts of an array cut in eight, along the rows, the columns or the slots: where they lie, what a copy of one
  reads and writes, and that the eight cover the array.
-/
module

public import proofs.«01_k».proof.Proof.Blocks
public import proofs.«01_k».proof.Proof.ExchangeBufs
public import Idealize.ShloMosaic.Lib.ShareLeaves

@[expose] public section

noncomputable section

namespace Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {τ : Topo} {sig : RefSig} {Val : EltTy → Type}

/-! ## Where the parts lie -/

/-- Row `a` of device `d`'s part of a matrix cut into `8` parts of `w` rows. -/
def rowOf (w r : ℕ) (d : Dev 8) (y : Shape.Idx ⟨3, ![8, w, r]⟩) : Shape.Idx ⟨2, ![8 * w, r]⟩ := fun a =>
  match a with
  | ⟨0, _⟩ => ⟨d.val * w + (y 1).val, by
      have h1 : (y 1).val < w := (y 1).isLt
      have h2 : d.val < 8 := d.isLt
      show _ < 8 * w
      have h3 : (d.val + 1) * w ≤ 8 * w := Nat.mul_le_mul_right _ h2
      rw [Nat.succ_mul] at h3; omega⟩
  | ⟨1, _⟩ => y 2

/-- Column `b` of device `d`'s part of a matrix cut into `8` parts of `w` columns. -/
def colOf (r w : ℕ) (d : Dev 8) (y : Shape.Idx ⟨3, ![8, r, w]⟩) : Shape.Idx ⟨2, ![r, 8 * w]⟩ := fun a =>
  match a with
  | ⟨0, _⟩ => y 1
  | ⟨1, _⟩ => ⟨d.val * w + (y 2).val, by
      have h1 : (y 2).val < w := (y 2).isLt
      have h2 : d.val < 8 := d.isLt
      show _ < 8 * w
      have h3 : (d.val + 1) * w ≤ 8 * w := Nat.mul_le_mul_right _ h2
      rw [Nat.succ_mul] at h3; omega⟩

/-- Slot `d` of an array of eight. -/
def slotOf (r w : ℕ) (d : Dev 8) (y : Shape.Idx ⟨3, ![8, r, w]⟩) : Shape.Idx ⟨3, ![8, r, w]⟩ := fun a =>
  match a with
  | ⟨0, _⟩ => d
  | ⟨1, _⟩ => y 1
  | ⟨2, _⟩ => y 2

/-- The slot of an index. -/
def slotDev {r w : ℕ} (y : Shape.Idx ⟨3, ![8, r, w]⟩) : Dev 8 := y 0

/-! ## What a copy reads and writes -/

section Lands

variable {c d : Dev 8} {e : EltTy}

/-- A copy of the rows of `d`'s part into slot `c`. -/
theorem row_lands (w r : ℕ) (A : Memref sig .tc .hbm ⟨2, ![8 * w, r]⟩ e) (B : Memref sig .tc .hbm ⟨3, ![8, w, r]⟩ e)
    (f : A.view.ty.Contents Val) (g : B.view.ty.Contents Val) {oA : Fin 2 → ℕ} {oB : Fin 3 → ℕ}
    {iA : ∀ a, oA a + (![w, r] : Fin 2 → ℕ) a ≤ (![8 * w, r] : Fin 2 → ℕ) a} {iB : ∀ a, oB a + (![1, w, r] : Fin 3 → ℕ) a ≤ (![8, w, r] : Fin 3 → ℕ) a}
    {hq : (Rect.unit (s := ⟨3, ![8, w, r]⟩) oB ![1, w, r] iB).shape.Squeezes ⟨2, ![w, r]⟩}
    (hA : oA = ![d.val * w, 0]) (hB : oB = ![c.val, 0, 0]) (hg : ∀ y, slotDev y = c → B.view.read Val g y = A.view.read Val f (rowOf w r d y)) :
    ((B.slice (Rect.unit (s := ⟨3, ![8, w, r]⟩) oB ![1, w, r] iB) (fun _ => rfl)).squeeze ⟨2, ![w, r]⟩ hq).view.read Val g
      = (A.slice (Rect.unit (s := ⟨2, ![8 * w, r]⟩) oA ![w, r] iA) (fun _ => rfl)).view.read Val f := by
  subst hA hB
  funext x
  let y : Shape.Idx ⟨3, ![8, w, r]⟩ := fun a => match a with | ⟨0, _⟩ => c | ⟨1, _⟩ => x 0 | ⟨2, _⟩ => x 1
  refine (Exch.read_sq (d := ![w, r]) B hq g x y rfl ?_).trans ((hg y rfl).trans (Exch.read_row A f x _ ?_).symm)
  · intro a
    match a with
    | 0 => exact (Nat.zero_add _).symm
    | 1 => exact (Nat.zero_add _).symm
  · intro a
    match a with
    | 0 => rfl
    | 1 => exact (Nat.zero_add _).symm

/-- A copy of the columns of `d`'s part into slot `c`. -/
theorem col_lands (r w : ℕ) (A : Memref sig .tc .hbm ⟨2, ![r, 8 * w]⟩ e) (B : Memref sig .tc .hbm ⟨3, ![8, r, w]⟩ e)
    (f : A.view.ty.Contents Val) (g : B.view.ty.Contents Val) {oA : Fin 2 → ℕ} {oB : Fin 3 → ℕ}
    {iA : ∀ a, oA a + (![r, w] : Fin 2 → ℕ) a ≤ (![r, 8 * w] : Fin 2 → ℕ) a} {iB : ∀ a, oB a + (![1, r, w] : Fin 3 → ℕ) a ≤ (![8, r, w] : Fin 3 → ℕ) a}
    {hq : (Rect.unit (s := ⟨3, ![8, r, w]⟩) oB ![1, r, w] iB).shape.Squeezes ⟨2, ![r, w]⟩}
    (hA : oA = ![0, d.val * w]) (hB : oB = ![c.val, 0, 0]) (hg : ∀ y, slotDev y = c → B.view.read Val g y = A.view.read Val f (colOf r w d y)) :
    ((B.slice (Rect.unit (s := ⟨3, ![8, r, w]⟩) oB ![1, r, w] iB) (fun _ => rfl)).squeeze ⟨2, ![r, w]⟩ hq).view.read Val g
      = (A.slice (Rect.unit (s := ⟨2, ![r, 8 * w]⟩) oA ![r, w] iA) (fun _ => rfl)).view.read Val f := by
  subst hA hB
  funext x
  let y : Shape.Idx ⟨3, ![8, r, w]⟩ := fun a => match a with | ⟨0, _⟩ => c | ⟨1, _⟩ => x 0 | ⟨2, _⟩ => x 1
  refine (Exch.read_sq (d := ![r, w]) B hq g x y rfl ?_).trans ((hg y rfl).trans (Exch.read_row A f x _ ?_).symm)
  · intro a
    match a with
    | 0 => exact (Nat.zero_add _).symm
    | 1 => exact (Nat.zero_add _).symm
  · intro a
    match a with
    | 0 => exact (Nat.zero_add _).symm
    | 1 => rfl

/-- A copy of slot `d` into slot `c`. -/
theorem slot_lands (r w : ℕ) (A B : Memref sig .tc .hbm ⟨3, ![8, r, w]⟩ e)
    (f : A.view.ty.Contents Val) (g : B.view.ty.Contents Val) {oA oB : Fin 3 → ℕ}
    {iA : ∀ a, oA a + (![1, r, w] : Fin 3 → ℕ) a ≤ (![8, r, w] : Fin 3 → ℕ) a} {iB : ∀ a, oB a + (![1, r, w] : Fin 3 → ℕ) a ≤ (![8, r, w] : Fin 3 → ℕ) a}
    {hp : (Rect.unit (s := ⟨3, ![8, r, w]⟩) oA ![1, r, w] iA).shape.Squeezes ⟨2, ![r, w]⟩}
    {hq : (Rect.unit (s := ⟨3, ![8, r, w]⟩) oB ![1, r, w] iB).shape.Squeezes ⟨2, ![r, w]⟩}
    (hA : oA = ![d.val, 0, 0]) (hB : oB = ![c.val, 0, 0]) (hg : ∀ y, slotDev y = c → B.view.read Val g y = A.view.read Val f (slotOf r w d y)) :
    ((B.slice (Rect.unit (s := ⟨3, ![8, r, w]⟩) oB ![1, r, w] iB) (fun _ => rfl)).squeeze ⟨2, ![r, w]⟩ hq).view.read Val g
      = ((A.slice (Rect.unit (s := ⟨3, ![8, r, w]⟩) oA ![1, r, w] iA) (fun _ => rfl)).squeeze ⟨2, ![r, w]⟩ hp).view.read Val f := by
  subst hA hB
  funext x
  let y : Shape.Idx ⟨3, ![8, r, w]⟩ := fun a => match a with | ⟨0, _⟩ => c | ⟨1, _⟩ => x 0 | ⟨2, _⟩ => x 1
  refine (Exch.read_sq (d := ![r, w]) B hq g x y rfl ?_).trans ((hg y rfl).trans (Exch.read_sq (d := ![r, w]) A hp f x _ rfl ?_).symm)
  all_goals
    intro a
    match a with
    | 0 => exact (Nat.zero_add _).symm
    | 1 => exact (Nat.zero_add _).symm

end Lands

/-! ## The parts cover the buffers -/

/-- The device whose part an index along an axis cut in eights lies in. -/
def partOf {s : Shape} (ax : Fin s.rank) (w : ℕ) (h : s.size ax = 8 * w) (y : s.Idx) : Dev 8 :=
  ⟨(y ax).val / w, Nat.div_lt_of_lt_mul (by
    have h1 : (y ax).val < s.size ax := (y ax).isLt
    rw [Nat.mul_comm, ← h]; exact h1)⟩

theorem part_mem {s : Shape} {off size : Fin s.rank → ℕ} {inb : ∀ a, off a + size a ≤ s.size a} (ax : Fin s.rank) (w : ℕ) (hs : s.size ax = 8 * w) (hw : 0 < w)
    {d : Dev 8} (hoff : off ax = d.val * w) (hsz : size ax = w) (ho : ∀ a, a ≠ ax → off a = 0 ∧ size a = s.size a) (y : s.Idx) :
    y ∈ (Rect.unit off size inb).set ↔ partOf ax w hs y = d :=
  (Exch.mem_block ax w d.val hw hoff hsz ho y).trans ⟨fun h => Fin.ext h, fun h => congrArg Fin.val h⟩

theorem set_sq {b : Ref sig .tc} {r : Rect b.ty.shape} {h : ∀ a, r.stride a = 1} {q : Shape} {hq : r.shape.Squeezes q} {y : b.ty.shape.Idx} {p : Prop} (hp : y ∈ r.set ↔ p) :
    y ∈ (((Memref.whole b).slice r h).squeeze q hq).view.set ↔ p := by
  exact (Iff.of_eq (congrArg (fun S : Finset b.ty.shape.Idx => y ∈ S) (View.set_reshape ((Memref.whole b).slice r h).view _))).trans (ValueKit.mem_set_slice_whole_iff b r y hp)

theorem set_sl {b : Ref sig .tc} {r : Rect b.ty.shape} {h : ∀ a, r.stride a = 1} {y : b.ty.shape.Idx} {p : Prop} (hp : y ∈ r.set ↔ p) :
    y ∈ ((Memref.whole b).slice r h).view.set ↔ p :=
  ValueKit.mem_set_slice_whole_iff b r y hp

section Cover

variable {c d : Dev 8}

theorem mem_row (w r : ℕ) (hw : 0 < w) {o : Fin 2 → ℕ} {inb : ∀ a, o a + (![w, r] : Fin 2 → ℕ) a ≤ (![8 * w, r] : Fin 2 → ℕ) a} (ho : o = ![d.val * w, 0])
    (y : Shape.Idx ⟨2, ![8 * w, r]⟩) : y ∈ (Rect.unit (s := ⟨2, ![8 * w, r]⟩) o ![w, r] inb).set ↔ partOf (s := ⟨2, ![8 * w, r]⟩) 0 w rfl y = d := by
  subst ho
  exact part_mem (s := ⟨2, ![8 * w, r]⟩) (off := ![d.val * w, 0]) (size := ![w, r]) 0 w rfl hw rfl rfl (fun a h => match a, h with | 0, h => absurd rfl h | 1, _ => ⟨rfl, rfl⟩) y

theorem mem_col (r w : ℕ) (hw : 0 < w) {o : Fin 2 → ℕ} {inb : ∀ a, o a + (![r, w] : Fin 2 → ℕ) a ≤ (![r, 8 * w] : Fin 2 → ℕ) a} (ho : o = ![0, d.val * w])
    (y : Shape.Idx ⟨2, ![r, 8 * w]⟩) : y ∈ (Rect.unit (s := ⟨2, ![r, 8 * w]⟩) o ![r, w] inb).set ↔ partOf (s := ⟨2, ![r, 8 * w]⟩) 1 w rfl y = d := by
  subst ho
  exact part_mem (s := ⟨2, ![r, 8 * w]⟩) (off := ![0, d.val * w]) (size := ![r, w]) 1 w rfl hw rfl rfl (fun a h => match a, h with | 0, _ => ⟨rfl, rfl⟩ | 1, h => absurd rfl h) y

theorem mem_slot (w r : ℕ) {o : Fin 3 → ℕ} {inb : ∀ a, o a + (![1, w, r] : Fin 3 → ℕ) a ≤ (![8, w, r] : Fin 3 → ℕ) a} (ho : o = ![d.val, 0, 0])
    (y : Shape.Idx ⟨3, ![8, w, r]⟩) : y ∈ (Rect.unit (s := ⟨3, ![8, w, r]⟩) o ![1, w, r] inb).set ↔ partOf (s := ⟨3, ![8, w, r]⟩) 0 1 rfl y = d := by
  subst ho
  exact part_mem (s := ⟨3, ![8, w, r]⟩) (off := ![d.val, 0, 0]) (size := ![1, w, r]) 0 1 rfl Nat.one_pos (Nat.mul_one _).symm rfl
    (fun a h => match a, h with | 0, h => absurd rfl h | 1, _ => ⟨rfl, rfl⟩ | 2, _ => ⟨rfl, rfl⟩) y

end Cover

/-! ## Whole arrays gathered -/

/-- The place of an index in its part: of rows, of columns, of a slot. -/
def inRow (w r : ℕ) (hw : 0 < w) (y : Shape.Idx ⟨2, ![8 * w, r]⟩) : Shape.Idx ⟨2, ![w, r]⟩ := fun a =>
  match a with
  | ⟨0, _⟩ => ⟨(y 0).val % w, Nat.mod_lt _ hw⟩
  | ⟨1, _⟩ => y 1
def inCol (r w : ℕ) (hw : 0 < w) (y : Shape.Idx ⟨2, ![r, 8 * w]⟩) : Shape.Idx ⟨2, ![r, w]⟩ := fun a =>
  match a with
  | ⟨0, _⟩ => y 0
  | ⟨1, _⟩ => ⟨(y 1).val % w, Nat.mod_lt _ hw⟩
def inSlot (r w : ℕ) (y : Shape.Idx ⟨3, ![8, r, w]⟩) : Shape.Idx ⟨2, ![r, w]⟩ := fun a =>
  match a with
  | ⟨0, _⟩ => y 1
  | ⟨1, _⟩ => y 2

theorem quot_part (a w x : ℕ) (h : x < w) : (a * w + x) / w = a := by
  rw [Nat.mul_comm, Nat.mul_add_div (Nat.lt_of_le_of_lt (Nat.zero_le _) h), Nat.div_eq_of_lt h, Nat.add_zero]
theorem rest_part (a w x : ℕ) (h : x < w) : (a * w + x) % w = x := by
  rw [Nat.mul_comm, Nat.mul_add_mod, Nat.mod_eq_of_lt h]

section Gathered

variable {c : Dev 8} {e : EltTy}

/-- A copy of an array into the rows of device `c`. -/
theorem to_row (w r : ℕ) (hw : 0 < w) (A : Memref sig .tc .hbm ⟨2, ![w, r]⟩ e) (B : Memref sig .tc .hbm ⟨2, ![8 * w, r]⟩ e)
    (f : A.view.ty.Contents Val) (g : B.view.ty.Contents Val) {oB : Fin 2 → ℕ}
    {iB : ∀ a, oB a + (![w, r] : Fin 2 → ℕ) a ≤ (![8 * w, r] : Fin 2 → ℕ) a} (hB : oB = ![c.val * w, 0])
    (hg : ∀ y, partOf (s := ⟨2, ![8 * w, r]⟩) 0 w rfl y = c → B.view.read Val g y = A.view.read Val f (inRow w r hw y)) :
    (B.slice (Rect.unit (s := ⟨2, ![8 * w, r]⟩) oB ![w, r] iB) (fun _ => rfl)).view.read Val g = A.view.read Val f := by
  subst hB
  funext x
  have hx0 : (x 0).val < w := (x 0).isLt
  let y : Shape.Idx ⟨2, ![8 * w, r]⟩ := fun a => match a with
    | ⟨0, _⟩ => ⟨c.val * w + (x 0).val, by
        have h2 : c.val < 8 := c.isLt
        show _ < 8 * w
        have h3 : (c.val + 1) * w ≤ 8 * w := Nat.mul_le_mul_right _ h2
        rw [Nat.succ_mul] at h3; omega⟩
    | ⟨1, _⟩ => x 1
  have hp : partOf (s := ⟨2, ![8 * w, r]⟩) 0 w rfl y = c := Fin.ext (by
    exact quot_part c.val w _ hx0)
  refine (read_row B g x y ?_).trans ((hg y hp).trans (congrArg _ ?_))
  · intro a
    match a with
    | 0 => rfl
    | 1 => exact (Nat.zero_add _).symm
  · funext a
    match a with
    | 0 => exact Fin.ext (by exact rest_part c.val w _ hx0)
    | 1 => rfl

/-- A copy of an array into the columns of device `c`. -/
theorem to_col (r w : ℕ) (hw : 0 < w) (A : Memref sig .tc .hbm ⟨2, ![r, w]⟩ e) (B : Memref sig .tc .hbm ⟨2, ![r, 8 * w]⟩ e)
    (f : A.view.ty.Contents Val) (g : B.view.ty.Contents Val) {oB : Fin 2 → ℕ}
    {iB : ∀ a, oB a + (![r, w] : Fin 2 → ℕ) a ≤ (![r, 8 * w] : Fin 2 → ℕ) a} (hB : oB = ![0, c.val * w])
    (hg : ∀ y, partOf (s := ⟨2, ![r, 8 * w]⟩) 1 w rfl y = c → B.view.read Val g y = A.view.read Val f (inCol r w hw y)) :
    (B.slice (Rect.unit (s := ⟨2, ![r, 8 * w]⟩) oB ![r, w] iB) (fun _ => rfl)).view.read Val g = A.view.read Val f := by
  subst hB
  funext x
  have hx0 : (x 1).val < w := (x 1).isLt
  let y : Shape.Idx ⟨2, ![r, 8 * w]⟩ := fun a => match a with
    | ⟨0, _⟩ => x 0
    | ⟨1, _⟩ => ⟨c.val * w + (x 1).val, by
        have h2 : c.val < 8 := c.isLt
        show _ < 8 * w
        have h3 : (c.val + 1) * w ≤ 8 * w := Nat.mul_le_mul_right _ h2
        rw [Nat.succ_mul] at h3; omega⟩
  have hp : partOf (s := ⟨2, ![r, 8 * w]⟩) 1 w rfl y = c := Fin.ext (by
    exact quot_part c.val w _ hx0)
  refine (read_row B g x y ?_).trans ((hg y hp).trans (congrArg _ ?_))
  · intro a
    match a with
    | 0 => exact (Nat.zero_add _).symm
    | 1 => rfl
  · funext a
    match a with
    | 0 => rfl
    | 1 => exact Fin.ext (by exact rest_part c.val w _ hx0)

/-- A copy of an array into the slot of device `c`. -/
theorem to_slot (r w : ℕ) (A : Memref sig .tc .hbm ⟨2, ![r, w]⟩ e) (B : Memref sig .tc .hbm ⟨3, ![8, r, w]⟩ e)
    (f : A.view.ty.Contents Val) (g : B.view.ty.Contents Val) {oB : Fin 3 → ℕ}
    {iB : ∀ a, oB a + (![1, r, w] : Fin 3 → ℕ) a ≤ (![8, r, w] : Fin 3 → ℕ) a}
    {hq : (Rect.unit (s := ⟨3, ![8, r, w]⟩) oB ![1, r, w] iB).shape.Squeezes ⟨2, ![r, w]⟩} (hB : oB = ![c.val, 0, 0])
    (hg : ∀ y, slotDev y = c → B.view.read Val g y = A.view.read Val f (inSlot r w y)) :
    ((B.slice (Rect.unit (s := ⟨3, ![8, r, w]⟩) oB ![1, r, w] iB) (fun _ => rfl)).squeeze ⟨2, ![r, w]⟩ hq).view.read Val g = A.view.read Val f := by
  subst hB
  funext x
  let y : Shape.Idx ⟨3, ![8, r, w]⟩ := fun a => match a with | ⟨0, _⟩ => c | ⟨1, _⟩ => x 0 | ⟨2, _⟩ => x 1
  refine (read_sq (d := ![r, w]) B hq g x y rfl ?_).trans ((hg y rfl).trans (congrArg _ ?_))
  · intro a
    match a with
    | 0 => exact (Nat.zero_add _).symm
    | 1 => exact (Nat.zero_add _).symm
  · funext a
    match a with
    | 0 => rfl
    | 1 => rfl

/-! ## A source read by eight copies at once -/

/-- The share of its source that remote copy `k` holds, and that of the local copy. -/
def qFar (k : Fin 7) : PosShare TreeShare := ShareLeaves.leaf 3 fullShare (Fin.castSucc k : Fin 8)
def qNear : PosShare TreeShare := ShareLeaves.leaf 3 fullShare (Fin.last 7 : Fin 8)

theorem pts_shares {ℓ : Loc 8 τ sig} (f : Buf Val ℓ) (s : Finset (Idx ℓ)) (hs : s = Finset.univ) :
    (ℓ ↦{fullShare} f : sProp (MT 8 τ sig Unit Val ℕ (UU 8 τ sig) ℕ)) = iprop((ℓ ↦[s]{qNear} f) ∗ bigSep Finset.univ fun k : Fin 7 => ℓ ↦[s]{qFar k} f) := by
  subst hs
  refine (ShareLeaves.pointsTo_leaves Finset.univ f 3 fullShare).trans ?_
  have e : (fun i : Fin (2 ^ 3) => (ℓ ↦[Finset.univ]{ShareLeaves.leaf 3 fullShare i} f : sProp (MT 8 τ sig Unit Val ℕ (UU 8 τ sig) ℕ)))
    = fun i : Fin 8 => ℓ ↦[Finset.univ]{ShareLeaves.leaf 3 fullShare i} f := rfl
  refine (bigSep_univ_equiv (finSumFinEquiv (m := 7) (n := 1)) (fun i : Fin 8 => (ℓ ↦[Finset.univ]{ShareLeaves.leaf 3 fullShare i} f : sProp (MT 8 τ sig Unit Val ℕ (UU 8 τ sig) ℕ)))).trans ?_
  rw [bigSep_univ_sum, bigSep_univ_of_subsingleton (0 : Fin 1)]
  exact BI.Entails.antisymm BI.sep_comm BI.sep_comm

end Gathered

end Exch

end
-- ==== Proof.WgradsBufs.lean ====
/-
  The buffers of the weight gradients' exchange: which part of a gradient each copy takes, which part of a result it
  fills, and the results' contents.
-/
module

public import proofs.«01_k».proof.Proof.Wgrads
public import proofs.«01_k».proof.Proof.Parts

@[expose] public section

noncomputable section

namespace Cert.KernelIdeal.Wgrads

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Exch (rowOf colOf slotOf slotDev row_lands col_lands slot_lands partOf set_sq set_sl mem_row mem_col mem_slot)

/-! ## Where the parts lie -/

variable {Val : EltTy → Type} (m : (ℓ : Loc nD τ sig) → Buf Val ℓ)

/-- The results' contents on device `c`: slot `d` is device `d`'s part for `c`. -/
def out0 (c : Dev nD) : Buf Val ((c.tc : Thread nD τ).loc main_v1_0) := fun y => m (((slotDev y).tc : Thread nD τ).loc main_arg0) (slotOf 1024 1408 c y)
def out1 (c : Dev nD) : Buf Val ((c.tc : Thread nD τ).loc main_v1_1) := fun y => m (((slotDev y).tc : Thread nD τ).loc main_arg1) (rowOf 128 1024 c y)
def out2 (c : Dev nD) : Buf Val ((c.tc : Thread nD τ).loc main_v1_2) := fun y => m (((slotDev y).tc : Thread nD τ).loc main_arg2) (rowOf 256 1024 c y)
def out3 (c : Dev nD) : Buf Val ((c.tc : Thread nD τ).loc main_v1_3) := fun y => m (((slotDev y).tc : Thread nD τ).loc main_arg3) (rowOf 128 1024 c y)
def out4 (c : Dev nD) : Buf Val ((c.tc : Thread nD τ).loc main_v1_4) := fun y => m (((slotDev y).tc : Thread nD τ).loc main_arg4) (colOf 1024 512 c y)
def out5 (c : Dev nD) : Buf Val ((c.tc : Thread nD τ).loc main_v1_5) := fun y => m (((slotDev y).tc : Thread nD τ).loc main_arg5) (rowOf 512 1024 c y)

/-- Every buffer after the exchange. -/
def Fn (c : Dev nD) : (b : Ref sig .tc) → Buf Val ((c.tc : Thread nD τ).loc b) :=
  Function.update (Function.update (Function.update (Function.update (Function.update (Function.update (fun b => m ((c.tc : Thread nD τ).loc b))
    main_v1_0 (out0 m c)) main_v1_1 (out1 m c)) main_v1_2 (out2 m c)) main_v1_3 (out3 m c)) main_v1_4 (out4 m c)) main_v1_5 (out5 m c)

theorem Fn_0 (c : Dev nD) : Fn m c main_v1_0 = out0 m c := rfl
theorem Fn_1 (c : Dev nD) : Fn m c main_v1_1 = out1 m c := rfl
theorem Fn_2 (c : Dev nD) : Fn m c main_v1_2 = out2 m c := rfl
theorem Fn_3 (c : Dev nD) : Fn m c main_v1_3 = out3 m c := rfl
theorem Fn_4 (c : Dev nD) : Fn m c main_v1_4 = out4 m c := rfl
theorem Fn_5 (c : Dev nD) : Fn m c main_v1_5 = out5 m c := rfl

def srcB : Fin 6 → Ref sig .tc := ![main_arg0, main_arg1, main_arg2, main_arg3, main_arg4, main_arg5]
def dstB : Fin 6 → Ref sig .tc := ![main_v1_0, main_v1_1, main_v1_2, main_v1_3, main_v1_4, main_v1_5]

theorem Fn_kept (c : Dev nD) (b : Ref sig .tc) (h : ∀ i, b ≠ dstB i) : Fn m c b = m ((c.tc : Thread nD τ).loc b) := by
  unfold Fn
  have h0 : b ≠ main_v1_0 := h 0
  have h1 : b ≠ main_v1_1 := h 1
  have h2 : b ≠ main_v1_2 := h 2
  have h3 : b ≠ main_v1_3 := h 3
  have h4 : b ≠ main_v1_4 := h 4
  have h5 : b ≠ main_v1_5 := h 5
  rw [Function.update_of_ne h5, Function.update_of_ne h4, Function.update_of_ne h3, Function.update_of_ne h2, Function.update_of_ne h1,
    Function.update_of_ne h0]

/-! ## The offsets, as the parts' places -/

theorem at1 : ∀ c : Dev nD, k0_off1 c = ![c.val, 0, 0] := by decide +kernel
theorem at2 : ∀ c : Dev nD, k0_off2 c = ![c.val, 0, 0] := by decide +kernel
theorem at4 : ∀ c : Dev nD, k0_off4 c = ![c.val, 0, 0] := by decide +kernel
theorem at6 : ∀ c : Dev nD, k0_off6 c = ![c.val, 0, 0] := by decide +kernel
theorem at8 : ∀ c : Dev nD, k0_off8 c = ![c.val, 0, 0] := by decide +kernel
theorem at3 : ∀ c : Dev nD, k0_off3 c = ![c.val * 128, 0] := by decide +kernel
theorem at5 : ∀ c : Dev nD, k0_off5 c = ![c.val * 256, 0] := by decide +kernel
theorem at7 : ∀ c : Dev nD, k0_off7 c = ![0, c.val * 512] := by decide +kernel
theorem at9 : ∀ c : Dev nD, k0_off9 c = ![c.val * 512, 0] := by decide +kernel
theorem at10 : ∀ (c : Dev nD) (k : Fin 7), k0_off10 c (k0_off10_at k).1 (k0_off10_at k).2.1 (k0_off10_at k).2.2 = ![(peerOf k c).val, 0, 0] := by decide +kernel
theorem at11 : ∀ (c : Dev nD) (k : Fin 7), k0_off11 c (k0_off11_at k).1 (k0_off11_at k).2.1 (k0_off11_at k).2.2 = ![(peerOf k c).val * 128, 0] := by decide +kernel
theorem at12 : ∀ (c : Dev nD) (k : Fin 7), k0_off12 c (k0_off12_at k).1 (k0_off12_at k).2.1 (k0_off12_at k).2.2 = ![(peerOf k c).val * 256, 0] := by decide +kernel
theorem at13 : ∀ (c : Dev nD) (k : Fin 7), k0_off13 c (k0_off13_at k).1 (k0_off13_at k).2.1 (k0_off13_at k).2.2 = ![0, (peerOf k c).val * 512] := by decide +kernel
theorem at14 : ∀ (c : Dev nD) (k : Fin 7), k0_off14 c (k0_off14_at k).1 (k0_off14_at k).2.1 (k0_off14_at k).2.2 = ![(peerOf k c).val * 512, 0] := by decide +kernel

theorem lands_near (i : Fin 6) (c : Dev nD) : (near i c).dst.view.read Val (Fn m c (near i c).dst.view.ref)
    = (near i c).src.view.read Val (m ((c.tc : Thread nD τ).loc (near i c).src.view.ref)) := by
  match i with
  | 0 => exact slot_lands (c := c) (d := c) (hp := squeezes_S1x1024x1408_S1024x1408) (hq := squeezes_S1x1024x1408_S1024x1408) 1024 1408 (Memref.whole main_arg0) (Memref.whole main_v1_0) _ (out0 m c) (at1 c) (at1 c) (fun y h => by subst h; rfl)
  | 1 => exact row_lands (c := c) (d := c) (hq := squeezes_S1x128x1024_S128x1024) 128 1024 (Memref.whole main_arg1) (Memref.whole main_v1_1) _ (out1 m c) (at3 c) (at2 c) (fun y h => by subst h; rfl)
  | 2 => exact row_lands (c := c) (d := c) (hq := squeezes_S1x256x1024_S256x1024) 256 1024 (Memref.whole main_arg2) (Memref.whole main_v1_2) _ (out2 m c) (at5 c) (at4 c) (fun y h => by subst h; rfl)
  | 3 => exact row_lands (c := c) (d := c) (hq := squeezes_S1x128x1024_S128x1024) 128 1024 (Memref.whole main_arg3) (Memref.whole main_v1_3) _ (out3 m c) (at3 c) (at2 c) (fun y h => by subst h; rfl)
  | 4 => exact col_lands (c := c) (d := c) (hq := squeezes_S1x1024x512_S1024x512) 1024 512 (Memref.whole main_arg4) (Memref.whole main_v1_4) _ (out4 m c) (at7 c) (at6 c) (fun y h => by subst h; rfl)
  | 5 => exact row_lands (c := c) (d := c) (hq := squeezes_S1x512x1024_S512x1024) 512 1024 (Memref.whole main_arg5) (Memref.whole main_v1_5) _ (out5 m c) (at9 c) (at8 c) (fun y h => by subst h; rfl)

theorem lands_far (i : Fin 6) (k : Fin 7) (c : Dev nD) : (far i k c).dst.view.read Val (Fn m (peerOf k c) (far i k c).dst.view.ref)
    = (far i k c).src.view.read Val (m ((c.tc : Thread nD τ).loc (far i k c).src.view.ref)) := by
  match i with
  | 0 => exact slot_lands (c := c) (d := peerOf k c) (hp := squeezes_S1x1024x1408_S1024x1408) (hq := squeezes_S1x1024x1408_S1024x1408) 1024 1408 (Memref.whole main_arg0) (Memref.whole main_v1_0) _ (out0 m _) (at10 c k) (at1 c) (fun y h => by subst h; rfl)
  | 1 => exact row_lands (c := c) (d := peerOf k c) (hq := squeezes_S1x128x1024_S128x1024) 128 1024 (Memref.whole main_arg1) (Memref.whole main_v1_1) _ (out1 m _) (at11 c k) (at2 c) (fun y h => by subst h; rfl)
  | 2 => exact row_lands (c := c) (d := peerOf k c) (hq := squeezes_S1x256x1024_S256x1024) 256 1024 (Memref.whole main_arg2) (Memref.whole main_v1_2) _ (out2 m _) (at12 c k) (at4 c) (fun y h => by subst h; rfl)
  | 3 => exact row_lands (c := c) (d := peerOf k c) (hq := squeezes_S1x128x1024_S128x1024) 128 1024 (Memref.whole main_arg3) (Memref.whole main_v1_3) _ (out3 m _) (at11 c k) (at2 c) (fun y h => by subst h; rfl)
  | 4 => exact col_lands (c := c) (d := peerOf k c) (hq := squeezes_S1x1024x512_S1024x512) 1024 512 (Memref.whole main_arg4) (Memref.whole main_v1_4) _ (out4 m _) (at13 c k) (at6 c) (fun y h => by subst h; rfl)
  | 5 => exact row_lands (c := c) (d := peerOf k c) (hq := squeezes_S1x512x1024_S512x1024) 512 1024 (Memref.whole main_arg5) (Memref.whole main_v1_5) _ (out5 m _) (at14 c k) (at8 c) (fun y h => by subst h; rfl)

/-- The exchange and its contents. -/
def cont : Exch.Cont Val plan where
  m := m
  Fn := Fn m
  qJ _ := fullShare
  qI _ := fullShare
  landsJ j c := lands_far m j.1 j.2 c
  landsI i c := lands_near m i c

local notation "𝕄" => MT nD τ sig Unit Val ℕ (Exch.UU nD τ sig) ℕ

/-- Which device's part of a gradient, or of a result, an index lies in. -/
def srcPart : (i : Fin 6) → (srcB i).ty.shape.Idx → Dev nD
  | 0, y => partOf (s := S8x1024x1408) 0 1 rfl y
  | 1, y => partOf (s := S1024x1024) 0 128 rfl y
  | 2, y => partOf (s := S2048x1024) 0 256 rfl y
  | 3, y => partOf (s := S1024x1024) 0 128 rfl y
  | 4, y => partOf (s := S1024x4096) 1 512 rfl y
  | 5, y => partOf (s := S4096x1024) 0 512 rfl y
def dstPart : (i : Fin 6) → (dstB i).ty.shape.Idx → Dev nD
  | 0, y => partOf (s := S8x1024x1408) 0 1 rfl y
  | 1, y => partOf (s := S8x128x1024) 0 1 rfl y
  | 2, y => partOf (s := S8x256x1024) 0 1 rfl y
  | 3, y => partOf (s := S8x128x1024) 0 1 rfl y
  | 4, y => partOf (s := S8x1024x512) 0 1 rfl y
  | 5, y => partOf (s := S8x512x1024) 0 1 rfl y

theorem src_parts (i : Fin 6) (c : Dev nD) : ((c.tc : Thread nD τ).loc (srcB i) ↦{fullShare} m ((c.tc : Thread nD τ).loc (srcB i)) : sProp 𝕄)
    = iprop(Exch.srcL (cont m) i c ∗ bigSep Finset.univ fun k => Exch.srcR (cont m) (i, k) c) := by
  have pts := fun (b : Ref sig .tc) g => Exch.pts_blocks (ℓ := (c.tc : Thread nD τ).loc b) (m ((c.tc : Thread nD τ).loc b)) fullShare g c (fun k => peerOf k c)
    (fun k k' => peerOf_inj c k k') (fun k => peerOf_ne k c) (peerOf_all c)
  match i with
  | 0 =>
    refine pts main_arg0 (srcPart 0) (near 0 c).src.view.set (fun k => (far 0 k c).src.view.set) (fun y => ?_) (fun k y => ?_)
    · show y ∈ (((Memref.whole main_arg0).slice (Rect.unit (s := S8x1024x1408) (k0_off1 c) S1x1024x1408.size (k0_off1_inb c)) (fun _ => rfl)).squeeze _ squeezes_S1x1024x1408_S1024x1408).view.set ↔ partOf (s := S8x1024x1408) 0 1 rfl y = c
      exact set_sq (b := main_arg0) (mem_slot 1024 1408 (at1 c) y)
    · show y ∈ (((Memref.whole main_arg0).slice (Rect.unit (s := S8x1024x1408) (k0_off10 c (k0_off10_at k).1 (k0_off10_at k).2.1 (k0_off10_at k).2.2) S1x1024x1408.size (k0_off10_inb c k)) (fun _ => rfl)).squeeze _ squeezes_S1x1024x1408_S1024x1408).view.set ↔ partOf (s := S8x1024x1408) 0 1 rfl y = peerOf k c
      exact set_sq (b := main_arg0) (mem_slot 1024 1408 (at10 c k) y)
  | 1 =>
    refine pts main_arg1 (srcPart 1) (near 1 c).src.view.set (fun k => (far 1 k c).src.view.set) (fun y => ?_) (fun k y => ?_)
    · show y ∈ ((Memref.whole main_arg1).slice (Rect.unit (s := S1024x1024) (k0_off3 c) S128x1024.size (k0_off3_inb c)) (fun _ => rfl)).view.set ↔ partOf (s := S1024x1024) 0 128 rfl y = c
      exact set_sl (b := main_arg1) (mem_row 128 1024 (by decide) (at3 c) y)
    · show y ∈ ((Memref.whole main_arg1).slice (Rect.unit (s := S1024x1024) (k0_off11 c (k0_off11_at k).1 (k0_off11_at k).2.1 (k0_off11_at k).2.2) S128x1024.size (k0_off11_inb c k)) (fun _ => rfl)).view.set ↔ partOf (s := S1024x1024) 0 128 rfl y = peerOf k c
      exact set_sl (b := main_arg1) (mem_row 128 1024 (by decide) (at11 c k) y)
  | 2 =>
    refine pts main_arg2 (srcPart 2) (near 2 c).src.view.set (fun k => (far 2 k c).src.view.set) (fun y => ?_) (fun k y => ?_)
    · show y ∈ ((Memref.whole main_arg2).slice (Rect.unit (s := S2048x1024) (k0_off5 c) S256x1024.size (k0_off5_inb c)) (fun _ => rfl)).view.set ↔ partOf (s := S2048x1024) 0 256 rfl y = c
      exact set_sl (b := main_arg2) (mem_row 256 1024 (by decide) (at5 c) y)
    · show y ∈ ((Memref.whole main_arg2).slice (Rect.unit (s := S2048x1024) (k0_off12 c (k0_off12_at k).1 (k0_off12_at k).2.1 (k0_off12_at k).2.2) S256x1024.size (k0_off12_inb c k)) (fun _ => rfl)).view.set ↔ partOf (s := S2048x1024) 0 256 rfl y = peerOf k c
      exact set_sl (b := main_arg2) (mem_row 256 1024 (by decide) (at12 c k) y)
  | 3 =>
    refine pts main_arg3 (srcPart 3) (near 3 c).src.view.set (fun k => (far 3 k c).src.view.set) (fun y => ?_) (fun k y => ?_)
    · show y ∈ ((Memref.whole main_arg3).slice (Rect.unit (s := S1024x1024) (k0_off3 c) S128x1024.size (k0_off3_inb c)) (fun _ => rfl)).view.set ↔ partOf (s := S1024x1024) 0 128 rfl y = c
      exact set_sl (b := main_arg3) (mem_row 128 1024 (by decide) (at3 c) y)
    · show y ∈ ((Memref.whole main_arg3).slice (Rect.unit (s := S1024x1024) (k0_off11 c (k0_off11_at k).1 (k0_off11_at k).2.1 (k0_off11_at k).2.2) S128x1024.size (k0_off11_inb c k)) (fun _ => rfl)).view.set ↔ partOf (s := S1024x1024) 0 128 rfl y = peerOf k c
      exact set_sl (b := main_arg3) (mem_row 128 1024 (by decide) (at11 c k) y)
  | 4 =>
    refine pts main_arg4 (srcPart 4) (near 4 c).src.view.set (fun k => (far 4 k c).src.view.set) (fun y => ?_) (fun k y => ?_)
    · show y ∈ ((Memref.whole main_arg4).slice (Rect.unit (s := S1024x4096) (k0_off7 c) S1024x512.size (k0_off7_inb c)) (fun _ => rfl)).view.set ↔ partOf (s := S1024x4096) 1 512 rfl y = c
      exact set_sl (b := main_arg4) (mem_col 1024 512 (by decide) (at7 c) y)
    · show y ∈ ((Memref.whole main_arg4).slice (Rect.unit (s := S1024x4096) (k0_off13 c (k0_off13_at k).1 (k0_off13_at k).2.1 (k0_off13_at k).2.2) S1024x512.size (k0_off13_inb c k)) (fun _ => rfl)).view.set ↔ partOf (s := S1024x4096) 1 512 rfl y = peerOf k c
      exact set_sl (b := main_arg4) (mem_col 1024 512 (by decide) (at13 c k) y)
  | 5 =>
    refine pts main_arg5 (srcPart 5) (near 5 c).src.view.set (fun k => (far 5 k c).src.view.set) (fun y => ?_) (fun k y => ?_)
    · show y ∈ ((Memref.whole main_arg5).slice (Rect.unit (s := S4096x1024) (k0_off9 c) S512x1024.size (k0_off9_inb c)) (fun _ => rfl)).view.set ↔ partOf (s := S4096x1024) 0 512 rfl y = c
      exact set_sl (b := main_arg5) (mem_row 512 1024 (by decide) (at9 c) y)
    · show y ∈ ((Memref.whole main_arg5).slice (Rect.unit (s := S4096x1024) (k0_off14 c (k0_off14_at k).1 (k0_off14_at k).2.1 (k0_off14_at k).2.2) S512x1024.size (k0_off14_inb c k)) (fun _ => rfl)).view.set ↔ partOf (s := S4096x1024) 0 512 rfl y = peerOf k c
      exact set_sl (b := main_arg5) (mem_row 512 1024 (by decide) (at14 c k) y)

theorem dst_parts (i : Fin 6) (c : Dev nD) (V : (b : Ref sig .tc) → Buf Val ((c.tc : Thread nD τ).loc b)) :
    ((c.tc : Thread nD τ).loc (dstB i) ↦{fullShare} V (dstB i) : sProp 𝕄)
      = iprop(Exch.dstL Val plan i c (V _) ∗ bigSep Finset.univ fun k => Exch.dstAt Val plan (i, k) (peerOf k c) c (V _)) := by
  have pts := fun (b : Ref sig .tc) g => Exch.pts_blocks (ℓ := (c.tc : Thread nD τ).loc b) (V b) fullShare g c (fun k => peerOf k c)
    (fun k k' => peerOf_inj c k k') (fun k => peerOf_ne k c) (peerOf_all c)
  match i with
  | 0 =>
    refine pts main_v1_0 (dstPart 0) (near 0 c).dst.view.set (fun k => (far 0 k (peerOf k c)).dst.view.set) (fun y => ?_) (fun k y => ?_)
    · show y ∈ (((Memref.whole main_v1_0).slice (Rect.unit (s := S8x1024x1408) (k0_off1 c) S1x1024x1408.size (k0_off1_inb c)) (fun _ => rfl)).squeeze _ squeezes_S1x1024x1408_S1024x1408).view.set ↔ partOf (s := S8x1024x1408) 0 1 rfl y = c
      exact set_sq (b := main_v1_0) (mem_slot 1024 1408 (at1 c) y)
    · show y ∈ (((Memref.whole main_v1_0).slice (Rect.unit (s := S8x1024x1408) (k0_off1 (peerOf k c)) S1x1024x1408.size (k0_off1_inb (peerOf k c))) (fun _ => rfl)).squeeze _ squeezes_S1x1024x1408_S1024x1408).view.set ↔ partOf (s := S8x1024x1408) 0 1 rfl y = (peerOf k c)
      exact set_sq (b := main_v1_0) (mem_slot 1024 1408 (at1 (peerOf k c)) y)
  | 1 =>
    refine pts main_v1_1 (dstPart 1) (near 1 c).dst.view.set (fun k => (far 1 k (peerOf k c)).dst.view.set) (fun y => ?_) (fun k y => ?_)
    · show y ∈ (((Memref.whole main_v1_1).slice (Rect.unit (s := S8x128x1024) (k0_off2 c) S1x128x1024.size (k0_off2_inb c)) (fun _ => rfl)).squeeze _ squeezes_S1x128x1024_S128x1024).view.set ↔ partOf (s := S8x128x1024) 0 1 rfl y = c
      exact set_sq (b := main_v1_1) (mem_slot 128 1024 (at2 c) y)
    · show y ∈ (((Memref.whole main_v1_1).slice (Rect.unit (s := S8x128x1024) (k0_off2 (peerOf k c)) S1x128x1024.size (k0_off2_inb (peerOf k c))) (fun _ => rfl)).squeeze _ squeezes_S1x128x1024_S128x1024).view.set ↔ partOf (s := S8x128x1024) 0 1 rfl y = (peerOf k c)
      exact set_sq (b := main_v1_1) (mem_slot 128 1024 (at2 (peerOf k c)) y)
  | 2 =>
    refine pts main_v1_2 (dstPart 2) (near 2 c).dst.view.set (fun k => (far 2 k (peerOf k c)).dst.view.set) (fun y => ?_) (fun k y => ?_)
    · show y ∈ (((Memref.whole main_v1_2).slice (Rect.unit (s := S8x256x1024) (k0_off4 c) S1x256x1024.size (k0_off4_inb c)) (fun _ => rfl)).squeeze _ squeezes_S1x256x1024_S256x1024).view.set ↔ partOf (s := S8x256x1024) 0 1 rfl y = c
      exact set_sq (b := main_v1_2) (mem_slot 256 1024 (at4 c) y)
    · show y ∈ (((Memref.whole main_v1_2).slice (Rect.unit (s := S8x256x1024) (k0_off4 (peerOf k c)) S1x256x1024.size (k0_off4_inb (peerOf k c))) (fun _ => rfl)).squeeze _ squeezes_S1x256x1024_S256x1024).view.set ↔ partOf (s := S8x256x1024) 0 1 rfl y = (peerOf k c)
      exact set_sq (b := main_v1_2) (mem_slot 256 1024 (at4 (peerOf k c)) y)
  | 3 =>
    refine pts main_v1_3 (dstPart 3) (near 3 c).dst.view.set (fun k => (far 3 k (peerOf k c)).dst.view.set) (fun y => ?_) (fun k y => ?_)
    · show y ∈ (((Memref.whole main_v1_3).slice (Rect.unit (s := S8x128x1024) (k0_off2 c) S1x128x1024.size (k0_off2_inb c)) (fun _ => rfl)).squeeze _ squeezes_S1x128x1024_S128x1024).view.set ↔ partOf (s := S8x128x1024) 0 1 rfl y = c
      exact set_sq (b := main_v1_3) (mem_slot 128 1024 (at2 c) y)
    · show y ∈ (((Memref.whole main_v1_3).slice (Rect.unit (s := S8x128x1024) (k0_off2 (peerOf k c)) S1x128x1024.size (k0_off2_inb (peerOf k c))) (fun _ => rfl)).squeeze _ squeezes_S1x128x1024_S128x1024).view.set ↔ partOf (s := S8x128x1024) 0 1 rfl y = (peerOf k c)
      exact set_sq (b := main_v1_3) (mem_slot 128 1024 (at2 (peerOf k c)) y)
  | 4 =>
    refine pts main_v1_4 (dstPart 4) (near 4 c).dst.view.set (fun k => (far 4 k (peerOf k c)).dst.view.set) (fun y => ?_) (fun k y => ?_)
    · show y ∈ (((Memref.whole main_v1_4).slice (Rect.unit (s := S8x1024x512) (k0_off6 c) S1x1024x512.size (k0_off6_inb c)) (fun _ => rfl)).squeeze _ squeezes_S1x1024x512_S1024x512).view.set ↔ partOf (s := S8x1024x512) 0 1 rfl y = c
      exact set_sq (b := main_v1_4) (mem_slot 1024 512 (at6 c) y)
    · show y ∈ (((Memref.whole main_v1_4).slice (Rect.unit (s := S8x1024x512) (k0_off6 (peerOf k c)) S1x1024x512.size (k0_off6_inb (peerOf k c))) (fun _ => rfl)).squeeze _ squeezes_S1x1024x512_S1024x512).view.set ↔ partOf (s := S8x1024x512) 0 1 rfl y = (peerOf k c)
      exact set_sq (b := main_v1_4) (mem_slot 1024 512 (at6 (peerOf k c)) y)
  | 5 =>
    refine pts main_v1_5 (dstPart 5) (near 5 c).dst.view.set (fun k => (far 5 k (peerOf k c)).dst.view.set) (fun y => ?_) (fun k y => ?_)
    · show y ∈ (((Memref.whole main_v1_5).slice (Rect.unit (s := S8x512x1024) (k0_off8 c) S1x512x1024.size (k0_off8_inb c)) (fun _ => rfl)).squeeze _ squeezes_S1x512x1024_S512x1024).view.set ↔ partOf (s := S8x512x1024) 0 1 rfl y = c
      exact set_sq (b := main_v1_5) (mem_slot 512 1024 (at8 c) y)
    · show y ∈ (((Memref.whole main_v1_5).slice (Rect.unit (s := S8x512x1024) (k0_off8 (peerOf k c)) S1x512x1024.size (k0_off8_inb (peerOf k c))) (fun _ => rfl)).squeeze _ squeezes_S1x512x1024_S512x1024).view.set ↔ partOf (s := S8x512x1024) 0 1 rfl y = (peerOf k c)
      exact set_sq (b := main_v1_5) (mem_slot 512 1024 (at8 (peerOf k c)) y)

/-- The exchange's buffers, shared out. -/
def bufs : Exch.Bufs (cont m) where
  src := srcB
  dst := dstB
  inj := by decide
  unscoped := by decide
  hsrc := src_parts m
  hdst₀ i c := dst_parts i c fun b => m ((c.tc : Thread nD τ).loc b)
  hdst₁ i c := dst_parts i c (Fn m c)
  kept := Fn_kept m

end Cert.KernelIdeal.Wgrads

end
-- ==== Proof.RunWgrads.lean ====
/-
  The run of the program: every device's part of the exchange, from launch to the final memory.
-/
module

public import proofs.«01_k».proof.Proof.WgradsBufs
public import proofs.«01_k».proof.Proof.Gen.KernelIdeal.Launch
public import proofs.«01_k».proof.Proof.Gen.KernelIdeal.Frame

@[expose] public section

noncomputable section

namespace Cert.KernelIdeal.Wgrads

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (Exch.UU nD τ sig) ℕ

abbrev 𝒱₀ : Variants := Variants.none

/-- The region of the exchange: no window, one point. -/
def dats (_ : Fin 1) (c : Dev nD) : Dat τ (Elt F) Unit ℕ (Exch.UU nD τ sig) ℕ cfg0 c where
  A w := w.elim0
  after w _ := w.elim0
  Φ t := match t with
    | ⟨0, _⟩ => Exch.enter (cont m) c
    | ⟨_ + 1, _⟩ => Exch.leave (cont m) c
  q _ := fullShare
  owed t := match t with
    | ⟨0, _⟩ => Exch.O₀ plan c
    | ⟨_ + 1, _⟩ => 0

/-- The region has no window. -/
theorem no_windows (Φ : Fin cfg0.W → sProp 𝕄) : bigSep Finset.univ Φ = (BI.emp : sProp 𝕄) := BI.bigSep_empty

theorem defs_eq (c : Dev nD) : defs₀ (F := F) .tc cfg0.body (cfg0.bodyArgs t0_0 (cfg0.slots t0_0)) = bodyAt0 (F := F) t0_0 := rfl

theorem body_obligation (c : Dev nD) : Pipeline.BodyObligation (dats m 0 c) (defs₀ (F := F)) 𝒱₀ () Set.univ := fun t => by
  obtain rfl := fin_N0 t
  have e := (defs_eq (F := F) c).trans (body_eq t0_0)
  have hb : ∀ x, x ∈ (dats m 0 c).bound () t0_0.succ := fun _ => Or.inl trivial
  have h := Exch.body_step (defs := defs₀ (F := F)) (cont m) 𝒱₀ order (List.finRange 6) order_univ order_nodup items_univ (List.nodup_finRange 6) c
    ((dats m 0 c).bound () t0_0.castSucc) ((dats m 0 c).bound () t0_0.succ) hb _ e
  have h1 : (dats m 0 c).Φ t0_0.castSucc = Exch.enter (cont m) c := rfl
  have h2 : (dats m 0 c).Φ t0_0.succ = Exch.leave (cont m) c := rfl
  have h3 : (dats m 0 c).owed t0_0.castSucc = Exch.O₀ plan c := rfl
  have h4 : (dats m 0 c).owed t0_0.succ = 0 := rfl
  rw [no_windows, no_windows, h1, h2]
  unfold Dat.owesAt
  rw [h3, h4]
  clear h1 h2 h3 h4 e hb
  generalize defs₀ (F := F) .tc cfg0.body (cfg0.bodyArgs t0_0 (cfg0.slots t0_0)) = p at h ⊢
  generalize (dats m 0 c).bound () t0_0.succ = B₁ at h ⊢
  generalize (dats m 0 c).bound () t0_0.castSucc = B₀ at h ⊢
  exact h

/-! ## The launch -/

def first : Pipeline.Exchange.First (fun p => (cfgs p).toPCfg) (fun p => (cfgs p).toPCfg_adm) (dats m) () (defs₀ (F := F)) 𝒱₀ (0 : Fin 1) m (Exch.O₀ plan)
    (Exch.G (cont m)) where
  win := winFacts0.to₀
  block_pos := fun w => w.elim0
  stage_whole := stage_whole0
  K := (Fin 6 × Fin 7) ⊕ ((Fin 6 × Fin 7) ⊕ Fin 6)
  osem := plan.osem
  ho := ⟨by decide +kernel, plan.inj, fun _ w => w.elim0⟩
  hbody c := (body_obligation m c).loose
  hwaits c := Entails.of_eq (no_windows _).symm
  X := Exch.enter (cont m)
  Y c := iprop((bigSep Finset.univ fun j => Exch.srcR (cont m) j c) ∗ (bigSep Finset.univ fun i => Exch.srcL (cont m) i c)
      ∗ (bigSep Finset.univ fun j => Exch.slot₁ (cont m) j c) ∗ (bigSep Finset.univ fun i => Exch.lslot₁ (cont m) i c))
  Z := (bufs m).others
  post c := iprop(unscopedBufs c (Fn m c) ∗ ∃ W, owes (c.tc : Thread nD τ) (0 : CellTallies nD τ sig Unit) W)
  hinit := (bufs m).launch.trans <| fupd_mono <| bigSep_mono fun c _ => show iprop(owes c.tc (Exch.O₀ plan c) ∅ ∗ Exch.enter (cont m) c ∗ (bufs m).others c) ⊢ _ by
    iintro ⟨HO, HE, HZ⟩
    isplitr; · iapply (show (BI.emp : sProp 𝕄) ⊢ (dats m 0 c).arrays ((dats m 0 c).arrAt · 0) from Entails.of_eq (no_windows _).symm); iempintro
    isplitr; · iapply (show (BI.emp : sProp 𝕄) ⊢ Pipeline.prefHeld (cfgs 0).toPCfg.pre c (fun _ => fullShare) (cfgs 0).toPCfg_adm.1 from Entails.of_eq BI.bigSep_empty.symm); iempintro
    isplitl [HO]
    · iexists ∅; isplitr; · ipureintro; exact fun _ h => absurd h (Finset.notMem_empty _)
      iexact HO
    isplitl [HE] <;> iassumption
  hin c := by
    show _ ⊢ Exch.enter (cont m) c
    iintro ⟨HE, -, -⟩
    iexact HE
  hout c := by
    rw [scopedRest0_eq]
    show Exch.leave (cont m) c ⊢ _
    unfold Exch.leave
    iintro ⟨H1, H2, H3, H4, H5⟩
    isplitr [H5]
    · isplitl [H1]; · iexact H1
      isplitl [H2]; · iexact H2
      isplitl [H3] <;> iassumption
    isplitl [H5]; · iexact H5
    iempintro
  hexit c := by
    iintro ⟨-, ⟨%W, -, HO⟩, HY, HZ⟩
    imodintro
    isplitr [HO]
    · iapply ((bufs m).finish c)
      isplitl [HY] <;> iassumption
    iexists W; iexact HO

/-- The only semaphores are the call's own. -/
theorem sems_scoped : ∀ sm : SemLoc sig, sm.isScoped .tc = true := by decide +kernel

def u₀ : Exch.UU nD τ sig := (initOf (Pipeline.cells cfgs cellOf_inj) (Pipeline.launchToks cfgs cellOf_inj), initOf (Exch.cells plan) (Exch.toks plan))

/-- Every fair execution ends, with every buffer of every device at the contents the exchange gives, and every semaphore at zero. -/
theorem run_main : θ_run (defs (F := F)) (onTc (τ := τ) (main (F := F))) ⟨m, fun _ => 0, ρ⟩
    (fun r => (∀ c : Dev nD, ∀ b : Ref sig .tc, b.isScoped = false → r.2.mem ((c.tc : Thread nD τ).loc b) = Fn m c b) ∧ r.2.sem = fun _ => 0) :=
  Pipeline.Exchange.θ_run_first (fun p => (cfgs p).toPCfg) (fun p => (cfgs p).toPCfg_adm) (dats m) () cellOf_inj Exch.EP defs₀ 𝒱₀ (fun _ _ => 0) ρ main
    (first m) [] (hmain := fun _ => rfl) (hnd := List.nodup_singleton _) (u₀ := u₀)
    (hu₀ := by
      unfold u₀
      iintro Hu
      ihave H := (ownU_pair _ _) $$ Hu
      icases H with ⟨HP, HX⟩
      imod (Exch.fund_G (cont m)) $$ HX with HG
      imodintro
      isplitl [HP] <;> iassumption)
    (Tₙ := fun c => unscopedBufs c (Fn m c))
    (hch := fun c => Entails.refl _)
    (QY := fun c s => ∀ b : Ref sig .tc, b.isScoped = false → s.mem ((c.tc : Thread nD τ).loc b) = Fn m c b)
    (hfin := fun c s' => by
      unfold unscopedBufs
      iintro ⟨HU, HSI⟩
      ihave H := (pointsTo_read_all _ (fun b => (c.tc : Thread nD τ).loc b) (Fn m c) s') $$ [HU HSI]
      · isplitl [HU] <;> iassumption
      icases H with ⟨%h, HSI⟩
      imodintro
      isplitr
      · ipureintro
        exact fun b hb => h b (by simpa using hb)
      iexact HSI)
    (hQ := fun s h hs => ⟨h, funext fun g => hs g (Or.inr (sems_scoped g.2))⟩)

/-- The arguments are kept. -/
theorem args_kept {c : Dev nD} {s : MemSt nD τ sig (Elt F)} (h : ∀ b : Ref sig .tc, b.isScoped = false → s.mem ((c.tc : Thread nD τ).loc b) = Fn m c b) (i : Fin 6) :
    s.mem ((c.tc : Thread nD τ).loc (srcB i)) = m ((c.tc : Thread nD τ).loc (srcB i)) :=
  (h _ (by revert i; decide)).trans (Fn_kept m c _ (by revert i; decide))

end Cert.KernelIdeal.Wgrads

end
-- ==== Proof.GatherWeights.lean ====
/-
  The gathering of the weights: its copies, its buffers and their contents.  Every device sends its whole part of each array to the
  seven others and to itself; all of them gather the same whole arrays.
-/
module

public import proofs.«01_k».proof.Proof.Parts
public import proofs.«01_k».proof.Proof.Gen.GatherIdeal.Points
public import proofs.«01_k».proof.Proof.Gen.GatherIdeal.Skeleton

@[expose] public section

noncomputable section

namespace Cert.GatherIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen
open Exch (slotDev partOf inRow inCol inSlot to_row to_col to_slot set_sq set_sl mem_row mem_col mem_slot qFar qNear)

/-- The device that copy `k` goes to, as the kernel computes it. -/
def peerOf : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peerOf_peerOf : ∀ k c, peerOf k (peerOf k c) = c := by decide +kernel
theorem peerOf_ne : ∀ k c, peerOf k c ≠ c := by decide +kernel
theorem peerOf_inj : ∀ c k k', peerOf k c = peerOf k' c → k = k' := by decide +kernel
theorem peerOf_all : ∀ c d, d = c ∨ ∃ k, peerOf k c = d := by decide +kernel

/-- Every copy of array `i` by device `c`: the device's whole part, into its place of the result. -/
def part : Fin 6 → Dev nD → Exch.Xfer sig
  | 0, c => ⟨S1024x1408, .bf16, Memref.whole main_arg0,
      ((Memref.whole main_v1_0).slice (Rect.unit (s := S8x1024x1408) (k0_off1 c) S1x1024x1408.size (k0_off1_inb c)) (fun _ => rfl)).squeeze S1024x1408 squeezes_S1x1024x1408_S1024x1408,
      (Memref.isWhole_whole _).wordExact, ((Memref.isWhole_whole _).wordExact_slice rfl _ (k0_off1_wordsbf16 c)).reshape _ _, rfl⟩
  | 1, c => ⟨S128x1024, .bf16, Memref.whole main_arg1,
      (Memref.whole main_v1_1).slice (Rect.unit (s := S1024x1024) (k0_off2 c) S128x1024.size (k0_off2_inb c)) (fun _ => rfl),
      (Memref.isWhole_whole _).wordExact, (Memref.isWhole_whole _).wordExact_slice rfl _ (k0_off2_wordsbf16 c), rfl⟩
  | 2, c => ⟨S256x1024, .bf16, Memref.whole main_arg2,
      (Memref.whole main_v1_2).slice (Rect.unit (s := S2048x1024) (k0_off3 c) S256x1024.size (k0_off3_inb c)) (fun _ => rfl),
      (Memref.isWhole_whole _).wordExact, (Memref.isWhole_whole _).wordExact_slice rfl _ (k0_off3_wordsbf16 c), rfl⟩
  | 3, c => ⟨S128x1024, .bf16, Memref.whole main_arg3,
      (Memref.whole main_v1_3).slice (Rect.unit (s := S1024x1024) (k0_off2 c) S128x1024.size (k0_off2_inb c)) (fun _ => rfl),
      (Memref.isWhole_whole _).wordExact, (Memref.isWhole_whole _).wordExact_slice rfl _ (k0_off2_wordsbf16 c), rfl⟩
  | 4, c => ⟨S1024x512, .bf16, Memref.whole main_arg4,
      (Memref.whole main_v1_4).slice (Rect.unit (s := S1024x4096) (k0_off4 c) S1024x512.size (k0_off4_inb c)) (fun _ => rfl),
      (Memref.isWhole_whole _).wordExact, (Memref.isWhole_whole _).wordExact_slice rfl _ (k0_off4_wordsbf16 c), rfl⟩
  | 5, c => ⟨S512x1024, .bf16, Memref.whole main_arg5,
      (Memref.whole main_v1_5).slice (Rect.unit (s := S4096x1024) (k0_off5 c) S512x1024.size (k0_off5_inb c)) (fun _ => rfl),
      (Memref.isWhole_whole _).wordExact, (Memref.isWhole_whole _).wordExact_slice rfl _ (k0_off5_wordsbf16 c), rfl⟩

def amt (i : Fin 6) : ℕ := (part i 0).dst.view.dmaCredit

theorem amt_pos : ∀ i, 0 < amt i := by decide +kernel

/-- The gathering, as an exchange. -/
def plan : Exch.Plan nD τ sig (Fin 6 × Fin 7) (Fin 6) where
  peer j := peerOf j.2
  peer_peer j := peerOf_peerOf j.2
  snd j := ⟨7 * j.1 + j.2, by have := j.1.isLt; have := j.2.isLt; show _ < 90; omega⟩
  rcv j := ⟨42 + (7 * j.1 + j.2), by have := j.1.isLt; have := j.2.isLt; show _ < 90; omega⟩
  lcl i := ⟨84 + i, by have := i.isLt; show _ < 90; omega⟩
  far j := part j.1
  near := part
  amt j := amt j.1
  amtL := amt
  amt_pos j := amt_pos j.1
  amtL_pos := amt_pos
  far_dst := by
    rintro ⟨i, k⟩ c
    match i with
    | 0 | 1 | 2 | 3 | 4 | 5 => rfl
  far_src := by
    rintro ⟨i, k⟩ c
    match i with
    | 0 | 1 | 2 | 3 | 4 | 5 => rfl
  near_dst := by
    intro i c
    match i with
    | 0 | 1 | 2 | 3 | 4 | 5 => rfl
  inj := by decide +kernel
  routes := by decide +kernel

def order : List (Fin 6 × Fin 7) := (List.finRange 6).flatMap fun i => (List.finRange 7).map fun k => (i, k)
theorem order_univ : (Finset.univ : Finset (Fin 6 × Fin 7)) = order.toFinset := by decide +kernel
theorem items_univ : (Finset.univ : Finset (Fin 6)) = (List.finRange 6).toFinset := by decide
theorem order_nodup : order.Nodup := by decide +kernel

section Body

variable {F : FTy → Type} [FloatOps F]

set_option maxRecDepth 65536 in
/-- The kernel's body: the device's number, then its part of the exchange. -/
theorem body_eq (t : Fin cfg0.N) : bodyAt0 (F := F) t = .op .deviceId fun c => Exch.prog (Elt F) plan Λ₀ order (List.finRange 6) c := rfl

end Body

/-! ## The results' contents -/

variable {Val : EltTy → Type} (m : (ℓ : Loc nD τ sig) → Buf Val ℓ)

/-- Each result, the same on all the devices: the part of device `d` is the array that `d` holds. -/
def out0 (c : Dev nD) : Buf Val ((c.tc : Thread nD τ).loc main_v1_0) := fun y => m (((slotDev (r := 1024) (w := 1408) y).tc : Thread nD τ).loc main_arg0) (inSlot 1024 1408 y)
def out1 (c : Dev nD) : Buf Val ((c.tc : Thread nD τ).loc main_v1_1) := fun y => m (((partOf (s := S1024x1024) 0 128 rfl y).tc : Thread nD τ).loc main_arg1) (inRow 128 1024 (by decide) y)
def out2 (c : Dev nD) : Buf Val ((c.tc : Thread nD τ).loc main_v1_2) := fun y => m (((partOf (s := S2048x1024) 0 256 rfl y).tc : Thread nD τ).loc main_arg2) (inRow 256 1024 (by decide) y)
def out3 (c : Dev nD) : Buf Val ((c.tc : Thread nD τ).loc main_v1_3) := fun y => m (((partOf (s := S1024x1024) 0 128 rfl y).tc : Thread nD τ).loc main_arg3) (inRow 128 1024 (by decide) y)
def out4 (c : Dev nD) : Buf Val ((c.tc : Thread nD τ).loc main_v1_4) := fun y => m (((partOf (s := S1024x4096) 1 512 rfl y).tc : Thread nD τ).loc main_arg4) (inCol 1024 512 (by decide) y)
def out5 (c : Dev nD) : Buf Val ((c.tc : Thread nD τ).loc main_v1_5) := fun y => m (((partOf (s := S4096x1024) 0 512 rfl y).tc : Thread nD τ).loc main_arg5) (inRow 512 1024 (by decide) y)

/-- Every buffer after the gathering. -/
def Fn (c : Dev nD) : (b : Ref sig .tc) → Buf Val ((c.tc : Thread nD τ).loc b) :=
  Function.update (Function.update (Function.update (Function.update (Function.update (Function.update (fun b => m ((c.tc : Thread nD τ).loc b)) main_v1_0 (out0 m c)) main_v1_1 (out1 m c)) main_v1_2 (out2 m c)) main_v1_3 (out3 m c)) main_v1_4 (out4 m c)) main_v1_5 (out5 m c)

theorem Fn_0 (c : Dev nD) : Fn m c main_v1_0 = out0 m c := rfl
theorem Fn_1 (c : Dev nD) : Fn m c main_v1_1 = out1 m c := rfl
theorem Fn_2 (c : Dev nD) : Fn m c main_v1_2 = out2 m c := rfl
theorem Fn_3 (c : Dev nD) : Fn m c main_v1_3 = out3 m c := rfl
theorem Fn_4 (c : Dev nD) : Fn m c main_v1_4 = out4 m c := rfl
theorem Fn_5 (c : Dev nD) : Fn m c main_v1_5 = out5 m c := rfl

def srcB : Fin 6 → Ref sig .tc := ![main_arg0, main_arg1, main_arg2, main_arg3, main_arg4, main_arg5]
def dstB : Fin 6 → Ref sig .tc := ![main_v1_0, main_v1_1, main_v1_2, main_v1_3, main_v1_4, main_v1_5]

theorem Fn_kept (c : Dev nD) (b : Ref sig .tc) (h : ∀ i, b ≠ dstB i) : Fn m c b = m ((c.tc : Thread nD τ).loc b) := by
  unfold Fn
  have h0 : b ≠ main_v1_0 := h 0
  have h1 : b ≠ main_v1_1 := h 1
  have h2 : b ≠ main_v1_2 := h 2
  have h3 : b ≠ main_v1_3 := h 3
  have h4 : b ≠ main_v1_4 := h 4
  have h5 : b ≠ main_v1_5 := h 5
  rw [Function.update_of_ne h5, Function.update_of_ne h4, Function.update_of_ne h3, Function.update_of_ne h2, Function.update_of_ne h1, Function.update_of_ne h0]

theorem at1 : ∀ c : Dev nD, k0_off1 c = ![c.val, 0, 0] := by decide +kernel
theorem at2 : ∀ c : Dev nD, k0_off2 c = ![c.val * 128, 0] := by decide +kernel
theorem at3 : ∀ c : Dev nD, k0_off3 c = ![c.val * 256, 0] := by decide +kernel
theorem at4 : ∀ c : Dev nD, k0_off4 c = ![0, c.val * 512] := by decide +kernel
theorem at5 : ∀ c : Dev nD, k0_off5 c = ![c.val * 512, 0] := by decide +kernel

/-- What device `c`'s copy of array `i` lands is the final contents of its place, on any device. -/
theorem lands (i : Fin 6) (c d : Dev nD) : (part i c).dst.view.read Val (Fn m d (part i c).dst.view.ref)
    = (part i c).src.view.read Val (m ((c.tc : Thread nD τ).loc (part i c).src.view.ref)) := by
  match i with
  | 0 => exact to_slot (c := c) (hq := squeezes_S1x1024x1408_S1024x1408) 1024 1408 (Memref.whole main_arg0) (Memref.whole main_v1_0) _ (out0 m d) (at1 c) (fun y h => by subst h; rfl)
  | 1 => exact to_row (c := c) 128 1024 (by decide) (Memref.whole main_arg1) (Memref.whole main_v1_1) _ (out1 m d) (at2 c) (fun y h => by subst h; rfl)
  | 2 => exact to_row (c := c) 256 1024 (by decide) (Memref.whole main_arg2) (Memref.whole main_v1_2) _ (out2 m d) (at3 c) (fun y h => by subst h; rfl)
  | 3 => exact to_row (c := c) 128 1024 (by decide) (Memref.whole main_arg3) (Memref.whole main_v1_3) _ (out3 m d) (at2 c) (fun y h => by subst h; rfl)
  | 4 => exact to_col (c := c) 1024 512 (by decide) (Memref.whole main_arg4) (Memref.whole main_v1_4) _ (out4 m d) (at4 c) (fun y h => by subst h; rfl)
  | 5 => exact to_row (c := c) 512 1024 (by decide) (Memref.whole main_arg5) (Memref.whole main_v1_5) _ (out5 m d) (at5 c) (fun y h => by subst h; rfl)

/-- The gathering and its contents: each source is read by eight copies at once. -/
def cont : Exch.Cont Val plan where
  m := m
  Fn := Fn m
  qJ j := qFar j.2
  qI _ := qNear
  landsJ j c := lands m j.1 c _
  landsI i c := lands m i c c

/-! ## The parts cover the buffers -/

theorem src_shares (i : Fin 6) (c : Dev nD) : ((c.tc : Thread nD τ).loc (srcB i) ↦{fullShare} m ((c.tc : Thread nD τ).loc (srcB i)) : sProp (MT nD τ sig Unit Val ℕ (Exch.UU nD τ sig) ℕ))
    = iprop(Exch.srcL (cont m) i c ∗ bigSep Finset.univ fun k => Exch.srcR (cont m) (i, k) c) := by
  match i with
  | 0 => exact Exch.pts_shares (ℓ := (c.tc : Thread nD τ).loc main_arg0) (m ((c.tc : Thread nD τ).loc main_arg0)) _ (View.set_whole main_arg0)
  | 1 => exact Exch.pts_shares (ℓ := (c.tc : Thread nD τ).loc main_arg1) (m ((c.tc : Thread nD τ).loc main_arg1)) _ (View.set_whole main_arg1)
  | 2 => exact Exch.pts_shares (ℓ := (c.tc : Thread nD τ).loc main_arg2) (m ((c.tc : Thread nD τ).loc main_arg2)) _ (View.set_whole main_arg2)
  | 3 => exact Exch.pts_shares (ℓ := (c.tc : Thread nD τ).loc main_arg3) (m ((c.tc : Thread nD τ).loc main_arg3)) _ (View.set_whole main_arg3)
  | 4 => exact Exch.pts_shares (ℓ := (c.tc : Thread nD τ).loc main_arg4) (m ((c.tc : Thread nD τ).loc main_arg4)) _ (View.set_whole main_arg4)
  | 5 => exact Exch.pts_shares (ℓ := (c.tc : Thread nD τ).loc main_arg5) (m ((c.tc : Thread nD τ).loc main_arg5)) _ (View.set_whole main_arg5)

theorem dst_parts (i : Fin 6) (c : Dev nD) (V : (b : Ref sig .tc) → Buf Val ((c.tc : Thread nD τ).loc b)) :
    ((c.tc : Thread nD τ).loc (dstB i) ↦{fullShare} V (dstB i) : sProp (MT nD τ sig Unit Val ℕ (Exch.UU nD τ sig) ℕ))
      = iprop(Exch.dstL Val plan i c (V _) ∗ bigSep Finset.univ fun k => Exch.dstAt Val plan (i, k) (peerOf k c) c (V _)) := by
  have pts := fun (b : Ref sig .tc) (g : b.ty.shape.Idx → Dev nD) (s : Dev nD → Finset b.ty.shape.Idx) (mem : ∀ d y, y ∈ s d ↔ g y = d) => Exch.pts_blocks (ℓ := (c.tc : Thread nD τ).loc b) (V b) fullShare g c (fun k => peerOf k c)
    (fun k k' => peerOf_inj c k k') (fun k => peerOf_ne k c) (peerOf_all c) (s c) (fun k => s (peerOf k c)) (mem c) (fun k => mem (peerOf k c))
  match i with
  | 0 =>
    refine pts main_v1_0 (fun y => partOf (s := S8x1024x1408) 0 1 rfl y) (fun d => (part 0 d).dst.view.set) (fun d y => ?_)
    show y ∈ (((Memref.whole main_v1_0).slice (Rect.unit (s := S8x1024x1408) (k0_off1 d) S1x1024x1408.size (k0_off1_inb d)) (fun _ => rfl)).squeeze S1024x1408 squeezes_S1x1024x1408_S1024x1408).view.set ↔ partOf (s := S8x1024x1408) 0 1 rfl y = d
    exact set_sq (b := main_v1_0) (mem_slot 1024 1408 (at1 d) y)
  | 1 =>
    refine pts main_v1_1 (fun y => partOf (s := S1024x1024) 0 128 rfl y) (fun d => (part 1 d).dst.view.set) (fun d y => ?_)
    show y ∈ ((Memref.whole main_v1_1).slice (Rect.unit (s := S1024x1024) (k0_off2 d) S128x1024.size (k0_off2_inb d)) (fun _ => rfl)).view.set ↔ partOf (s := S1024x1024) 0 128 rfl y = d
    exact set_sl (b := main_v1_1) (mem_row 128 1024 (by decide) (at2 d) y)
  | 2 =>
    refine pts main_v1_2 (fun y => partOf (s := S2048x1024) 0 256 rfl y) (fun d => (part 2 d).dst.view.set) (fun d y => ?_)
    show y ∈ ((Memref.whole main_v1_2).slice (Rect.unit (s := S2048x1024) (k0_off3 d) S256x1024.size (k0_off3_inb d)) (fun _ => rfl)).view.set ↔ partOf (s := S2048x1024) 0 256 rfl y = d
    exact set_sl (b := main_v1_2) (mem_row 256 1024 (by decide) (at3 d) y)
  | 3 =>
    refine pts main_v1_3 (fun y => partOf (s := S1024x1024) 0 128 rfl y) (fun d => (part 3 d).dst.view.set) (fun d y => ?_)
    show y ∈ ((Memref.whole main_v1_3).slice (Rect.unit (s := S1024x1024) (k0_off2 d) S128x1024.size (k0_off2_inb d)) (fun _ => rfl)).view.set ↔ partOf (s := S1024x1024) 0 128 rfl y = d
    exact set_sl (b := main_v1_3) (mem_row 128 1024 (by decide) (at2 d) y)
  | 4 =>
    refine pts main_v1_4 (fun y => partOf (s := S1024x4096) 1 512 rfl y) (fun d => (part 4 d).dst.view.set) (fun d y => ?_)
    show y ∈ ((Memref.whole main_v1_4).slice (Rect.unit (s := S1024x4096) (k0_off4 d) S1024x512.size (k0_off4_inb d)) (fun _ => rfl)).view.set ↔ partOf (s := S1024x4096) 1 512 rfl y = d
    exact set_sl (b := main_v1_4) (mem_col 1024 512 (by decide) (at4 d) y)
  | 5 =>
    refine pts main_v1_5 (fun y => partOf (s := S4096x1024) 0 512 rfl y) (fun d => (part 5 d).dst.view.set) (fun d y => ?_)
    show y ∈ ((Memref.whole main_v1_5).slice (Rect.unit (s := S4096x1024) (k0_off5 d) S512x1024.size (k0_off5_inb d)) (fun _ => rfl)).view.set ↔ partOf (s := S4096x1024) 0 512 rfl y = d
    exact set_sl (b := main_v1_5) (mem_row 512 1024 (by decide) (at5 d) y)

/-- The gathering's buffers, shared out. -/
def bufs : Exch.Bufs (cont m) where
  src := srcB
  dst := dstB
  inj := by decide
  unscoped := by decide
  hsrc := src_shares m
  hdst₀ i c := dst_parts i c fun b => m ((c.tc : Thread nD τ).loc b)
  hdst₁ i c := dst_parts i c (Fn m c)
  kept := Fn_kept m

end Cert.GatherIdeal.Gathered

end
-- ==== Proof.RunWeights.lean ====
/-
  The run of the program: every device's part of the exchange, from launch to the final memory.
-/
module

public import proofs.«01_k».proof.Proof.GatherWeights
public import proofs.«01_k».proof.Proof.Gen.GatherIdeal.Launch
public import proofs.«01_k».proof.Proof.Gen.GatherIdeal.Frame

@[expose] public section

noncomputable section

namespace Cert.GatherIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.GatherIdeal Cert.GatherIdeal.Gen

variable {F : FTy → Type} [FloatOps F]
variable (m : (ℓ : Loc nD τ sig) → Buf (Elt F) ℓ) (ρ : Dev nD → PrngReg)

local notation "𝕄" => MT nD τ sig Unit (Elt F) ℕ (Exch.UU nD τ sig) ℕ

abbrev 𝒱₀ : Variants := Variants.none

/-- The region of the exchange: no window, one point. -/
def dats (_ : Fin 1) (c : Dev nD) : Dat τ (Elt F) Unit ℕ (Exch.UU nD τ sig) ℕ cfg0 c where
  A w := w.elim0
  after w _ := w.elim0
  Φ t := match t with
    | ⟨0, _⟩ => Exch.enter (cont m) c
    | ⟨_ + 1, _⟩ => Exch.leave (cont m) c
  q _ := fullShare
  owed t := match t with
    | ⟨0, _⟩ => Exch.O₀ plan c
    | ⟨_ + 1, _⟩ => 0

/-- The region has no window. -/
theorem no_windows (Φ : Fin cfg0.W → sProp 𝕄) : bigSep Finset.univ Φ = (BI.emp : sProp 𝕄) := BI.bigSep_empty

theorem defs_eq (c : Dev nD) : defs₀ (F := F) .tc cfg0.body (cfg0.bodyArgs t0_0 (cfg0.slots t0_0)) = bodyAt0 (F := F) t0_0 := rfl

theorem body_obligation (c : Dev nD) : Pipeline.BodyObligation (dats m 0 c) (defs₀ (F := F)) 𝒱₀ () Set.univ := fun t => by
  obtain rfl := fin_N0 t
  have e := (defs_eq (F := F) c).trans (body_eq t0_0)
  have hb : ∀ x, x ∈ (dats m 0 c).bound () t0_0.succ := fun _ => Or.inl trivial
  have h := Exch.body_step (defs := defs₀ (F := F)) (cont m) 𝒱₀ order (List.finRange 6) order_univ order_nodup items_univ (List.nodup_finRange 6) c
    ((dats m 0 c).bound () t0_0.castSucc) ((dats m 0 c).bound () t0_0.succ) hb _ e
  have h1 : (dats m 0 c).Φ t0_0.castSucc = Exch.enter (cont m) c := rfl
  have h2 : (dats m 0 c).Φ t0_0.succ = Exch.leave (cont m) c := rfl
  have h3 : (dats m 0 c).owed t0_0.castSucc = Exch.O₀ plan c := rfl
  have h4 : (dats m 0 c).owed t0_0.succ = 0 := rfl
  rw [no_windows, no_windows, h1, h2]
  unfold Dat.owesAt
  rw [h3, h4]
  clear h1 h2 h3 h4 e hb
  generalize defs₀ (F := F) .tc cfg0.body (cfg0.bodyArgs t0_0 (cfg0.slots t0_0)) = p at h ⊢
  generalize (dats m 0 c).bound () t0_0.succ = B₁ at h ⊢
  generalize (dats m 0 c).bound () t0_0.castSucc = B₀ at h ⊢
  exact h

/-! ## The launch -/

def first : Pipeline.Exchange.First (fun p => (cfgs p).toPCfg) (fun p => (cfgs p).toPCfg_adm) (dats m) () (defs₀ (F := F)) 𝒱₀ (0 : Fin 1) m (Exch.O₀ plan)
    (Exch.G (cont m)) where
  win := winFacts0.to₀
  block_pos := fun w => w.elim0
  stage_whole := stage_whole0
  K := (Fin 6 × Fin 7) ⊕ ((Fin 6 × Fin 7) ⊕ Fin 6)
  osem := plan.osem
  ho := ⟨by decide +kernel, plan.inj, fun _ w => w.elim0⟩
  hbody c := (body_obligation m c).loose
  hwaits c := Entails.of_eq (no_windows _).symm
  X := Exch.enter (cont m)
  Y c := iprop((bigSep Finset.univ fun j => Exch.srcR (cont m) j c) ∗ (bigSep Finset.univ fun i => Exch.srcL (cont m) i c)
      ∗ (bigSep Finset.univ fun j => Exch.slot₁ (cont m) j c) ∗ (bigSep Finset.univ fun i => Exch.lslot₁ (cont m) i c))
  Z := (bufs m).others
  post c := iprop(unscopedBufs c (Fn m c) ∗ ∃ W, owes (c.tc : Thread nD τ) (0 : CellTallies nD τ sig Unit) W)
  hinit := (bufs m).launch.trans <| fupd_mono <| bigSep_mono fun c _ => show iprop(owes c.tc (Exch.O₀ plan c) ∅ ∗ Exch.enter (cont m) c ∗ (bufs m).others c) ⊢ _ by
    iintro ⟨HO, HE, HZ⟩
    isplitr; · iapply (show (BI.emp : sProp 𝕄) ⊢ (dats m 0 c).arrays ((dats m 0 c).arrAt · 0) from Entails.of_eq (no_windows _).symm); iempintro
    isplitr; · iapply (show (BI.emp : sProp 𝕄) ⊢ Pipeline.prefHeld (cfgs 0).toPCfg.pre c (fun _ => fullShare) (cfgs 0).toPCfg_adm.1 from Entails.of_eq BI.bigSep_empty.symm); iempintro
    isplitl [HO]
    · iexists ∅; isplitr; · ipureintro; exact fun _ h => absurd h (Finset.notMem_empty _)
      iexact HO
    isplitl [HE] <;> iassumption
  hin c := by
    show _ ⊢ Exch.enter (cont m) c
    iintro ⟨HE, -, -⟩
    iexact HE
  hout c := by
    rw [scopedRest0_eq]
    show Exch.leave (cont m) c ⊢ _
    unfold Exch.leave
    iintro ⟨H1, H2, H3, H4, H5⟩
    isplitr [H5]
    · isplitl [H1]; · iexact H1
      isplitl [H2]; · iexact H2
      isplitl [H3] <;> iassumption
    isplitl [H5]; · iexact H5
    iempintro
  hexit c := by
    iintro ⟨-, ⟨%W, -, HO⟩, HY, HZ⟩
    imodintro
    isplitr [HO]
    · iapply ((bufs m).finish c)
      isplitl [HY] <;> iassumption
    iexists W; iexact HO

/-- The only semaphores are the call's own. -/
theorem sems_scoped : ∀ sm : SemLoc sig, sm.isScoped .tc = true := by decide +kernel

def u₀ : Exch.UU nD τ sig := (initOf (Pipeline.cells cfgs cellOf_inj) (Pipeline.launchToks cfgs cellOf_inj), initOf (Exch.cells plan) (Exch.toks plan))

/-- Every fair execution ends, with every buffer of every device at the contents the exchange gives, and every semaphore at zero. -/
theorem run_main : θ_run (defs (F := F)) (onTc (τ := τ) (main (F := F))) ⟨m, fun _ => 0, ρ⟩
    (fun r => (∀ c : Dev nD, ∀ b : Ref sig .tc, b.isScoped = false → r.2.mem ((c.tc : Thread nD τ).loc b) = Fn m c b) ∧ r.2.sem = fun _ => 0) :=
  Pipeline.Exchange.θ_run_first (fun p => (cfgs p).toPCfg) (fun p => (cfgs p).toPCfg_adm) (dats m) () cellOf_inj Exch.EP defs₀ 𝒱₀ (fun _ _ => 0) ρ main
    (first m) [] (hmain := fun _ => rfl) (hnd := List.nodup_singleton _) (u₀ := u₀)
    (hu₀ := by
      unfold u₀
      iintro Hu
      ihave H := (ownU_pair _ _) $$ Hu
      icases H with ⟨HP, HX⟩
      imod (Exch.fund_G (cont m)) $$ HX with HG
      imodintro
      isplitl [HP] <;> iassumption)
    (Tₙ := fun c => unscopedBufs c (Fn m c))
    (hch := fun c => Entails.refl _)
    (QY := fun c s => ∀ b : Ref sig .tc, b.isScoped = false → s.mem ((c.tc : Thread nD τ).loc b) = Fn m c b)
    (hfin := fun c s' => by
      unfold unscopedBufs
      iintro ⟨HU, HSI⟩
      ihave H := (pointsTo_read_all _ (fun b => (c.tc : Thread nD τ).loc b) (Fn m c) s') $$ [HU HSI]
      · isplitl [HU] <;> iassumption
      icases H with ⟨%h, HSI⟩
      imodintro
      isplitr
      · ipureintro
        exact fun b hb => h b (by simpa using hb)
      iexact HSI)
    (hQ := fun s h hs => ⟨h, funext fun g => hs g (Or.inr (sems_scoped g.2))⟩)

/-- The arguments are kept. -/
theorem args_kept {c : Dev nD} {s : MemSt nD τ sig (Elt F)} (h : ∀ b : Ref sig .tc, b.isScoped = false → s.mem ((c.tc : Thread nD τ).loc b) = Fn m c b) (i : Fin 6) :
    s.mem ((c.tc : Thread nD τ).loc (srcB i)) = m ((c.tc : Thread nD τ).loc (srcB i)) :=
  (h _ (by revert i; decide)).trans (Fn_kept m c _ (by revert i; decide))

end Cert.GatherIdeal.Gathered

end
-- ==== Proof.GatherSmall.lean ====
/-
  The gathering of the small gradients: its copies, its buffers and their contents.  Every device sends its whole part of each array to the
  seven others and to itself; all of them gather the same whole arrays.
-/
module

public import proofs.«01_k».proof.Proof.Parts
public import proofs.«01_k».proof.Proof.Gen.SmallIdeal.Points
public import proofs.«01_k».proof.Proof.Gen.SmallIdeal.Skeleton

@[expose] public section

noncomputable section

namespace Cert.SmallIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.SmallIdeal Cert.SmallIdeal.Gen
open Exch (slotDev partOf inRow inCol inSlot to_row to_col to_slot set_sq set_sl mem_row mem_col mem_slot qFar qNear)

/-- The device that copy `k` goes to, as the kernel computes it. -/
def peerOf : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peerOf_peerOf : ∀ k c, peerOf k (peerOf k c) = c := by decide +kernel
theorem peerOf_ne : ∀ k c, peerOf k c ≠ c := by decide +kernel
theorem peerOf_inj : ∀ c k k', peerOf k c = peerOf k' c → k = k' := by decide +kernel
theorem peerOf_all : ∀ c d, d = c ∨ ∃ k, peerOf k c = d := by decide +kernel

/-- Every copy of array `i` by device `c`: the device's whole part, into its place of the result. -/
def part : Fin 1 → Dev nD → Exch.Xfer sig
  | 0, c => ⟨S1296x128, .f32, Memref.whole main_arg0,
      ((Memref.whole main_v1).slice (Rect.unit (s := S8x1296x128) (k0_off1 c) S1x1296x128.size (k0_off1_inb c)) (fun _ => rfl)).squeeze S1296x128 squeezes_S1x1296x128_S1296x128,
      (Memref.isWhole_whole _).wordExact, (View.wordExact_bits rfl).reshape _ _, rfl⟩

def amt (i : Fin 1) : ℕ := (part i 0).dst.view.dmaCredit

theorem amt_pos : ∀ i, 0 < amt i := by decide +kernel

/-- The gathering, as an exchange. -/
def plan : Exch.Plan nD τ sig (Fin 1 × Fin 7) (Fin 1) where
  peer j := peerOf j.2
  peer_peer j := peerOf_peerOf j.2
  snd j := ⟨7 * j.1 + j.2, by have := j.1.isLt; have := j.2.isLt; show _ < 15; omega⟩
  rcv j := ⟨7 + (7 * j.1 + j.2), by have := j.1.isLt; have := j.2.isLt; show _ < 15; omega⟩
  lcl i := ⟨14 + i, by have := i.isLt; show _ < 15; omega⟩
  far j := part j.1
  near := part
  amt j := amt j.1
  amtL := amt
  amt_pos j := amt_pos j.1
  amtL_pos := amt_pos
  far_dst := by
    rintro ⟨i, k⟩ c
    match i with
    | 0 => rfl
  far_src := by
    rintro ⟨i, k⟩ c
    match i with
    | 0 => rfl
  near_dst := by
    intro i c
    match i with
    | 0 => rfl
  inj := by decide +kernel
  routes := by decide +kernel

def order : List (Fin 1 × Fin 7) := (List.finRange 1).flatMap fun i => (List.finRange 7).map fun k => (i, k)
theorem order_univ : (Finset.univ : Finset (Fin 1 × Fin 7)) = order.toFinset := by decide +kernel
theorem items_univ : (Finset.univ : Finset (Fin 1)) = (List.finRange 1).toFinset := by decide
theorem order_nodup : order.Nodup := by decide +kernel

section Body

variable {F : FTy → Type} [FloatOps F]

set_option maxRecDepth 65536 in
/-- The kernel's body: the device's number, then its part of the exchange. -/
theorem body_eq (t : Fin cfg0.N) : bodyAt0 (F := F) t = .op .deviceId fun c => Exch.prog (Elt F) plan Λ₀ order (List.finRange 1) c := rfl

end Body

/-! ## The results' contents -/

variable {Val : EltTy → Type} (m : (ℓ : Loc nD τ sig) → Buf Val ℓ)

/-- Each result, the same on all the devices: the part of device `d` is the array that `d` holds. -/
def out0 (c : Dev nD) : Buf Val ((c.tc : Thread nD τ).loc main_v1) := fun y => m (((slotDev (r := 1296) (w := 128) y).tc : Thread nD τ).loc main_arg0) (inSlot 1296 128 y)

/-- Every buffer after the gathering. -/
def Fn (c : Dev nD) : (b : Ref sig .tc) → Buf Val ((c.tc : Thread nD τ).loc b) :=
  Function.update (fun b => m ((c.tc : Thread nD τ).loc b)) main_v1 (out0 m c)

theorem Fn_0 (c : Dev nD) : Fn m c main_v1 = out0 m c := rfl

def srcB : Fin 1 → Ref sig .tc := ![main_arg0]
def dstB : Fin 1 → Ref sig .tc := ![main_v1]

theorem Fn_kept (c : Dev nD) (b : Ref sig .tc) (h : ∀ i, b ≠ dstB i) : Fn m c b = m ((c.tc : Thread nD τ).loc b) := by
  unfold Fn
  have h0 : b ≠ main_v1 := h 0
  rw [Function.update_of_ne h0]

theorem at1 : ∀ c : Dev nD, k0_off1 c = ![c.val, 0, 0] := by decide +kernel

/-- What device `c`'s copy of array `i` lands is the final contents of its place, on any device. -/
theorem lands (i : Fin 1) (c d : Dev nD) : (part i c).dst.view.read Val (Fn m d (part i c).dst.view.ref)
    = (part i c).src.view.read Val (m ((c.tc : Thread nD τ).loc (part i c).src.view.ref)) := by
  match i with
  | 0 => exact to_slot (c := c) (hq := squeezes_S1x1296x128_S1296x128) 1296 128 (Memref.whole main_arg0) (Memref.whole main_v1) _ (out0 m d) (at1 c) (fun y h => by subst h; rfl)

/-- The gathering and its contents: each source is read by eight copies at once. -/
def cont : Exch.Cont Val plan where
  m := m
  Fn := Fn m
  qJ j := qFar j.2
  qI _ := qNear
  landsJ j c := lands m j.1 c _
  landsI i c := lands m i c c

/-! ## The parts cover the buffers -/

theorem src_shares (i : Fin 1) (c : Dev nD) : ((c.tc : Thread nD τ).loc (srcB i) ↦{fullShare} m ((c.tc : Thread nD τ).loc (srcB i)) : sProp (MT nD τ sig Unit Val ℕ (Exch.UU nD τ sig) ℕ))
    = iprop(Exch.srcL (cont m) i c ∗ bigSep Finset.univ fun k => Exch.srcR (cont m) (i, k) c) := by
  match i with
  | 0 => exact Exch.pts_shares (ℓ := (c.tc : Thread nD τ).loc main_arg0) (m ((c.tc : Thread nD τ).loc main_arg0)) _ (View.set_whole main_arg0)

theorem dst_parts (i : Fin 1) (c : Dev nD) (V : (b : Ref sig .tc) → Buf Val ((c.tc : Thread nD τ).loc b)) :
    ((c.tc : Thread nD τ).loc (dstB i) ↦{fullShare} V (dstB i) : sProp (MT nD τ sig Unit Val ℕ (Exch.UU nD τ sig) ℕ))
      = iprop(Exch.dstL Val plan i c (V _) ∗ bigSep Finset.univ fun k => Exch.dstAt Val plan (i, k) (peerOf k c) c (V _)) := by
  have pts := fun (b : Ref sig .tc) (g : b.ty.shape.Idx → Dev nD) (s : Dev nD → Finset b.ty.shape.Idx) (mem : ∀ d y, y ∈ s d ↔ g y = d) => Exch.pts_blocks (ℓ := (c.tc : Thread nD τ).loc b) (V b) fullShare g c (fun k => peerOf k c)
    (fun k k' => peerOf_inj c k k') (fun k => peerOf_ne k c) (peerOf_all c) (s c) (fun k => s (peerOf k c)) (mem c) (fun k => mem (peerOf k c))
  match i with
  | 0 =>
    refine pts main_v1 (fun y => partOf (s := S8x1296x128) 0 1 rfl y) (fun d => (part 0 d).dst.view.set) (fun d y => ?_)
    show y ∈ (((Memref.whole main_v1).slice (Rect.unit (s := S8x1296x128) (k0_off1 d) S1x1296x128.size (k0_off1_inb d)) (fun _ => rfl)).squeeze S1296x128 squeezes_S1x1296x128_S1296x128).view.set ↔ partOf (s := S8x1296x128) 0 1 rfl y = d
    exact set_sq (b := main_v1) (mem_slot 1296 128 (at1 d) y)

/-- The gathering's buffers, shared out. -/
def bufs : Exch.Bufs (cont m) where
  src := srcB
  dst := dstB
  inj := by decide
  unscoped := by decide
  hsrc := src_shares m
  hdst₀ i c := dst_parts i c fun b => m ((c.tc : Thread nD τ).loc b)
  hdst₁ i c := dst_parts i c (Fn m c)
  kept := Fn_kept m

end Cert.SmallIdeal.Gathered

end
-- ==== Proof.RunSmall.lean ====
/-
  The run of the program: every device's part of the exchange, from launch to the final memory.
-/
module

public import proofs.«01_k».proof.Proof.GatherSmall
public import proofs.«01_k».proof.Proof.Gen.SmallIdeal.Launch
public import proofs.«01_k».proof.Proof.Gen.SmallIdeal.Frame

@[expose] public section

noncomputable section

namespace Cert.SmallIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.SmallIdeal Cert.SmallIdeal.Gen

variable {F : FTy → Type} [FloatOps F]
variable (m : (ℓ : Loc nD τ sig) → Buf (Elt F) ℓ) (ρ : Dev nD → PrngReg)

local notation "𝕄" => MT nD τ sig Unit (Elt F) ℕ (Exch.UU nD τ sig) ℕ

abbrev 𝒱₀ : Variants := Variants.none

/-- The region of the exchange: no window, one point. -/
def dats (_ : Fin 1) (c : Dev nD) : Dat τ (Elt F) Unit ℕ (Exch.UU nD τ sig) ℕ cfg0 c where
  A w := w.elim0
  after w _ := w.elim0
  Φ t := match t with
    | ⟨0, _⟩ => Exch.enter (cont m) c
    | ⟨_ + 1, _⟩ => Exch.leave (cont m) c
  q _ := fullShare
  owed t := match t with
    | ⟨0, _⟩ => Exch.O₀ plan c
    | ⟨_ + 1, _⟩ => 0

/-- The region has no window. -/
theorem no_windows (Φ : Fin cfg0.W → sProp 𝕄) : bigSep Finset.univ Φ = (BI.emp : sProp 𝕄) := BI.bigSep_empty

theorem defs_eq (c : Dev nD) : defs₀ (F := F) .tc cfg0.body (cfg0.bodyArgs t0_0 (cfg0.slots t0_0)) = bodyAt0 (F := F) t0_0 := rfl

theorem body_obligation (c : Dev nD) : Pipeline.BodyObligation (dats m 0 c) (defs₀ (F := F)) 𝒱₀ () Set.univ := fun t => by
  obtain rfl := fin_N0 t
  have e := (defs_eq (F := F) c).trans (body_eq t0_0)
  have hb : ∀ x, x ∈ (dats m 0 c).bound () t0_0.succ := fun _ => Or.inl trivial
  have h := Exch.body_step (defs := defs₀ (F := F)) (cont m) 𝒱₀ order (List.finRange 1) order_univ order_nodup items_univ (List.nodup_finRange 1) c
    ((dats m 0 c).bound () t0_0.castSucc) ((dats m 0 c).bound () t0_0.succ) hb _ e
  have h1 : (dats m 0 c).Φ t0_0.castSucc = Exch.enter (cont m) c := rfl
  have h2 : (dats m 0 c).Φ t0_0.succ = Exch.leave (cont m) c := rfl
  have h3 : (dats m 0 c).owed t0_0.castSucc = Exch.O₀ plan c := rfl
  have h4 : (dats m 0 c).owed t0_0.succ = 0 := rfl
  rw [no_windows, no_windows, h1, h2]
  unfold Dat.owesAt
  rw [h3, h4]
  clear h1 h2 h3 h4 e hb
  generalize defs₀ (F := F) .tc cfg0.body (cfg0.bodyArgs t0_0 (cfg0.slots t0_0)) = p at h ⊢
  generalize (dats m 0 c).bound () t0_0.succ = B₁ at h ⊢
  generalize (dats m 0 c).bound () t0_0.castSucc = B₀ at h ⊢
  exact h

/-! ## The launch -/

def first : Pipeline.Exchange.First (fun p => (cfgs p).toPCfg) (fun p => (cfgs p).toPCfg_adm) (dats m) () (defs₀ (F := F)) 𝒱₀ (0 : Fin 1) m (Exch.O₀ plan)
    (Exch.G (cont m)) where
  win := winFacts0.to₀
  block_pos := fun w => w.elim0
  stage_whole := stage_whole0
  K := (Fin 1 × Fin 7) ⊕ ((Fin 1 × Fin 7) ⊕ Fin 1)
  osem := plan.osem
  ho := ⟨by decide +kernel, plan.inj, fun _ w => w.elim0⟩
  hbody c := (body_obligation m c).loose
  hwaits c := Entails.of_eq (no_windows _).symm
  X := Exch.enter (cont m)
  Y c := iprop((bigSep Finset.univ fun j => Exch.srcR (cont m) j c) ∗ (bigSep Finset.univ fun i => Exch.srcL (cont m) i c)
      ∗ (bigSep Finset.univ fun j => Exch.slot₁ (cont m) j c) ∗ (bigSep Finset.univ fun i => Exch.lslot₁ (cont m) i c))
  Z := (bufs m).others
  post c := iprop(unscopedBufs c (Fn m c) ∗ ∃ W, owes (c.tc : Thread nD τ) (0 : CellTallies nD τ sig Unit) W)
  hinit := (bufs m).launch.trans <| fupd_mono <| bigSep_mono fun c _ => show iprop(owes c.tc (Exch.O₀ plan c) ∅ ∗ Exch.enter (cont m) c ∗ (bufs m).others c) ⊢ _ by
    iintro ⟨HO, HE, HZ⟩
    isplitr; · iapply (show (BI.emp : sProp 𝕄) ⊢ (dats m 0 c).arrays ((dats m 0 c).arrAt · 0) from Entails.of_eq (no_windows _).symm); iempintro
    isplitr; · iapply (show (BI.emp : sProp 𝕄) ⊢ Pipeline.prefHeld (cfgs 0).toPCfg.pre c (fun _ => fullShare) (cfgs 0).toPCfg_adm.1 from Entails.of_eq BI.bigSep_empty.symm); iempintro
    isplitl [HO]
    · iexists ∅; isplitr; · ipureintro; exact fun _ h => absurd h (Finset.notMem_empty _)
      iexact HO
    isplitl [HE] <;> iassumption
  hin c := by
    show _ ⊢ Exch.enter (cont m) c
    iintro ⟨HE, -, -⟩
    iexact HE
  hout c := by
    rw [scopedRest0_eq]
    show Exch.leave (cont m) c ⊢ _
    unfold Exch.leave
    iintro ⟨H1, H2, H3, H4, H5⟩
    isplitr [H5]
    · isplitl [H1]; · iexact H1
      isplitl [H2]; · iexact H2
      isplitl [H3] <;> iassumption
    isplitl [H5]; · iexact H5
    iempintro
  hexit c := by
    iintro ⟨-, ⟨%W, -, HO⟩, HY, HZ⟩
    imodintro
    isplitr [HO]
    · iapply ((bufs m).finish c)
      isplitl [HY] <;> iassumption
    iexists W; iexact HO

/-- The only semaphores are the call's own. -/
theorem sems_scoped : ∀ sm : SemLoc sig, sm.isScoped .tc = true := by decide +kernel

def u₀ : Exch.UU nD τ sig := (initOf (Pipeline.cells cfgs cellOf_inj) (Pipeline.launchToks cfgs cellOf_inj), initOf (Exch.cells plan) (Exch.toks plan))

/-- Every fair execution ends, with every buffer of every device at the contents the exchange gives, and every semaphore at zero. -/
theorem run_main : θ_run (defs (F := F)) (onTc (τ := τ) (main (F := F))) ⟨m, fun _ => 0, ρ⟩
    (fun r => (∀ c : Dev nD, ∀ b : Ref sig .tc, b.isScoped = false → r.2.mem ((c.tc : Thread nD τ).loc b) = Fn m c b) ∧ r.2.sem = fun _ => 0) :=
  Pipeline.Exchange.θ_run_first (fun p => (cfgs p).toPCfg) (fun p => (cfgs p).toPCfg_adm) (dats m) () cellOf_inj Exch.EP defs₀ 𝒱₀ (fun _ _ => 0) ρ main
    (first m) [] (hmain := fun _ => rfl) (hnd := List.nodup_singleton _) (u₀ := u₀)
    (hu₀ := by
      unfold u₀
      iintro Hu
      ihave H := (ownU_pair _ _) $$ Hu
      icases H with ⟨HP, HX⟩
      imod (Exch.fund_G (cont m)) $$ HX with HG
      imodintro
      isplitl [HP] <;> iassumption)
    (Tₙ := fun c => unscopedBufs c (Fn m c))
    (hch := fun c => Entails.refl _)
    (QY := fun c s => ∀ b : Ref sig .tc, b.isScoped = false → s.mem ((c.tc : Thread nD τ).loc b) = Fn m c b)
    (hfin := fun c s' => by
      unfold unscopedBufs
      iintro ⟨HU, HSI⟩
      ihave H := (pointsTo_read_all _ (fun b => (c.tc : Thread nD τ).loc b) (Fn m c) s') $$ [HU HSI]
      · isplitl [HU] <;> iassumption
      icases H with ⟨%h, HSI⟩
      imodintro
      isplitr
      · ipureintro
        exact fun b hb => h b (by simpa using hb)
      iexact HSI)
    (hQ := fun s h hs => ⟨h, funext fun g => hs g (Or.inr (sems_scoped g.2))⟩)

/-- The arguments are kept. -/
theorem args_kept {c : Dev nD} {s : MemSt nD τ sig (Elt F)} (h : ∀ b : Ref sig .tc, b.isScoped = false → s.mem ((c.tc : Thread nD τ).loc b) = Fn m c b) (i : Fin 1) :
    s.mem ((c.tc : Thread nD τ).loc (srcB i)) = m ((c.tc : Thread nD τ).loc (srcB i)) :=
  (h _ (by revert i; decide)).trans (Fn_kept m c _ (by revert i; decide))

end Cert.SmallIdeal.Gathered

end
-- ==== Proof.GatherMod.lean ====
/-
  The gathering of the modulation: its copies, its buffers and their contents.  Every device sends its whole part of each array to the
  seven others and to itself; all of them gather the same whole arrays.
-/
module

public import proofs.«01_k».proof.Proof.Parts
public import proofs.«01_k».proof.Proof.Gen.ModIdeal.Points
public import proofs.«01_k».proof.Proof.Gen.ModIdeal.Skeleton

@[expose] public section

noncomputable section

namespace Cert.ModIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ModIdeal Cert.ModIdeal.Gen
open Exch (slotDev partOf inRow inCol inSlot to_row to_col to_slot set_sq set_sl mem_row mem_col mem_slot qFar qNear)

/-- The device that copy `k` goes to, as the kernel computes it. -/
def peerOf : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peerOf_peerOf : ∀ k c, peerOf k (peerOf k c) = c := by decide +kernel
theorem peerOf_ne : ∀ k c, peerOf k c ≠ c := by decide +kernel
theorem peerOf_inj : ∀ c k k', peerOf k c = peerOf k' c → k = k' := by decide +kernel
theorem peerOf_all : ∀ c d, d = c ∨ ∃ k, peerOf k c = d := by decide +kernel

/-- Every copy of array `i` by device `c`: the device's whole part, into its place of the result. -/
def part : Fin 1 → Dev nD → Exch.Xfer sig
  | 0, c => ⟨S8x768, .f32, Memref.whole main_arg0,
      ((Memref.whole main_v1).slice (Rect.unit (s := S8x8x768) (k0_off1 c) S1x8x768.size (k0_off1_inb c)) (fun _ => rfl)).squeeze S8x768 squeezes_S1x8x768_S8x768,
      (Memref.isWhole_whole _).wordExact, (View.wordExact_bits rfl).reshape _ _, rfl⟩

def amt (i : Fin 1) : ℕ := (part i 0).dst.view.dmaCredit

theorem amt_pos : ∀ i, 0 < amt i := by decide +kernel

/-- The gathering, as an exchange. -/
def plan : Exch.Plan nD τ sig (Fin 1 × Fin 7) (Fin 1) where
  peer j := peerOf j.2
  peer_peer j := peerOf_peerOf j.2
  snd j := ⟨7 * j.1 + j.2, by have := j.1.isLt; have := j.2.isLt; show _ < 15; omega⟩
  rcv j := ⟨7 + (7 * j.1 + j.2), by have := j.1.isLt; have := j.2.isLt; show _ < 15; omega⟩
  lcl i := ⟨14 + i, by have := i.isLt; show _ < 15; omega⟩
  far j := part j.1
  near := part
  amt j := amt j.1
  amtL := amt
  amt_pos j := amt_pos j.1
  amtL_pos := amt_pos
  far_dst := by
    rintro ⟨i, k⟩ c
    match i with
    | 0 => rfl
  far_src := by
    rintro ⟨i, k⟩ c
    match i with
    | 0 => rfl
  near_dst := by
    intro i c
    match i with
    | 0 => rfl
  inj := by decide +kernel
  routes := by decide +kernel

def order : List (Fin 1 × Fin 7) := (List.finRange 1).flatMap fun i => (List.finRange 7).map fun k => (i, k)
theorem order_univ : (Finset.univ : Finset (Fin 1 × Fin 7)) = order.toFinset := by decide +kernel
theorem items_univ : (Finset.univ : Finset (Fin 1)) = (List.finRange 1).toFinset := by decide
theorem order_nodup : order.Nodup := by decide +kernel

section Body

variable {F : FTy → Type} [FloatOps F]

set_option maxRecDepth 65536 in
/-- The kernel's body: the device's number, then its part of the exchange. -/
theorem body_eq (t : Fin cfg0.N) : bodyAt0 (F := F) t = .op .deviceId fun c => Exch.prog (Elt F) plan Λ₀ order (List.finRange 1) c := rfl

end Body

/-! ## The results' contents -/

variable {Val : EltTy → Type} (m : (ℓ : Loc nD τ sig) → Buf Val ℓ)

/-- Each result, the same on all the devices: the part of device `d` is the array that `d` holds. -/
def out0 (c : Dev nD) : Buf Val ((c.tc : Thread nD τ).loc main_v1) := fun y => m (((slotDev (r := 8) (w := 768) y).tc : Thread nD τ).loc main_arg0) (inSlot 8 768 y)

/-- Every buffer after the gathering. -/
def Fn (c : Dev nD) : (b : Ref sig .tc) → Buf Val ((c.tc : Thread nD τ).loc b) :=
  Function.update (fun b => m ((c.tc : Thread nD τ).loc b)) main_v1 (out0 m c)

theorem Fn_0 (c : Dev nD) : Fn m c main_v1 = out0 m c := rfl

def srcB : Fin 1 → Ref sig .tc := ![main_arg0]
def dstB : Fin 1 → Ref sig .tc := ![main_v1]

theorem Fn_kept (c : Dev nD) (b : Ref sig .tc) (h : ∀ i, b ≠ dstB i) : Fn m c b = m ((c.tc : Thread nD τ).loc b) := by
  unfold Fn
  have h0 : b ≠ main_v1 := h 0
  rw [Function.update_of_ne h0]

theorem at1 : ∀ c : Dev nD, k0_off1 c = ![c.val, 0, 0] := by decide +kernel

/-- What device `c`'s copy of array `i` lands is the final contents of its place, on any device. -/
theorem lands (i : Fin 1) (c d : Dev nD) : (part i c).dst.view.read Val (Fn m d (part i c).dst.view.ref)
    = (part i c).src.view.read Val (m ((c.tc : Thread nD τ).loc (part i c).src.view.ref)) := by
  match i with
  | 0 => exact to_slot (c := c) (hq := squeezes_S1x8x768_S8x768) 8 768 (Memref.whole main_arg0) (Memref.whole main_v1) _ (out0 m d) (at1 c) (fun y h => by subst h; rfl)

/-- The gathering and its contents: each source is read by eight copies at once. -/
def cont : Exch.Cont Val plan where
  m := m
  Fn := Fn m
  qJ j := qFar j.2
  qI _ := qNear
  landsJ j c := lands m j.1 c _
  landsI i c := lands m i c c

/-! ## The parts cover the buffers -/

theorem src_shares (i : Fin 1) (c : Dev nD) : ((c.tc : Thread nD τ).loc (srcB i) ↦{fullShare} m ((c.tc : Thread nD τ).loc (srcB i)) : sProp (MT nD τ sig Unit Val ℕ (Exch.UU nD τ sig) ℕ))
    = iprop(Exch.srcL (cont m) i c ∗ bigSep Finset.univ fun k => Exch.srcR (cont m) (i, k) c) := by
  match i with
  | 0 => exact Exch.pts_shares (ℓ := (c.tc : Thread nD τ).loc main_arg0) (m ((c.tc : Thread nD τ).loc main_arg0)) _ (View.set_whole main_arg0)

theorem dst_parts (i : Fin 1) (c : Dev nD) (V : (b : Ref sig .tc) → Buf Val ((c.tc : Thread nD τ).loc b)) :
    ((c.tc : Thread nD τ).loc (dstB i) ↦{fullShare} V (dstB i) : sProp (MT nD τ sig Unit Val ℕ (Exch.UU nD τ sig) ℕ))
      = iprop(Exch.dstL Val plan i c (V _) ∗ bigSep Finset.univ fun k => Exch.dstAt Val plan (i, k) (peerOf k c) c (V _)) := by
  have pts := fun (b : Ref sig .tc) (g : b.ty.shape.Idx → Dev nD) (s : Dev nD → Finset b.ty.shape.Idx) (mem : ∀ d y, y ∈ s d ↔ g y = d) => Exch.pts_blocks (ℓ := (c.tc : Thread nD τ).loc b) (V b) fullShare g c (fun k => peerOf k c)
    (fun k k' => peerOf_inj c k k') (fun k => peerOf_ne k c) (peerOf_all c) (s c) (fun k => s (peerOf k c)) (mem c) (fun k => mem (peerOf k c))
  match i with
  | 0 =>
    refine pts main_v1 (fun y => partOf (s := S8x8x768) 0 1 rfl y) (fun d => (part 0 d).dst.view.set) (fun d y => ?_)
    show y ∈ (((Memref.whole main_v1).slice (Rect.unit (s := S8x8x768) (k0_off1 d) S1x8x768.size (k0_off1_inb d)) (fun _ => rfl)).squeeze S8x768 squeezes_S1x8x768_S8x768).view.set ↔ partOf (s := S8x8x768) 0 1 rfl y = d
    exact set_sq (b := main_v1) (mem_slot 8 768 (at1 d) y)

/-- The gathering's buffers, shared out. -/
def bufs : Exch.Bufs (cont m) where
  src := srcB
  dst := dstB
  inj := by decide
  unscoped := by decide
  hsrc := src_shares m
  hdst₀ i c := dst_parts i c fun b => m ((c.tc : Thread nD τ).loc b)
  hdst₁ i c := dst_parts i c (Fn m c)
  kept := Fn_kept m

end Cert.ModIdeal.Gathered

end
-- ==== Proof.RunMod.lean ====
/-
  The run of the program: every device's part of the exchange, from launch to the final memory.
-/
module

public import proofs.«01_k».proof.Proof.GatherMod
public import proofs.«01_k».proof.Proof.Gen.ModIdeal.Launch
public import proofs.«01_k».proof.Proof.Gen.ModIdeal.Frame

@[expose] public section

noncomputable section

namespace Cert.ModIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.ModIdeal Cert.ModIdeal.Gen

variable {F : FTy → Type} [FloatOps F]
variable (m : (ℓ : Loc nD τ sig) → Buf (Elt F) ℓ) (ρ : Dev nD → PrngReg)

local notation "𝕄" => MT nD τ sig Unit (Elt F) ℕ (Exch.UU nD τ sig) ℕ

abbrev 𝒱₀ : Variants := Variants.none

/-- The region of the exchange: no window, one point. -/
def dats (_ : Fin 1) (c : Dev nD) : Dat τ (Elt F) Unit ℕ (Exch.UU nD τ sig) ℕ cfg0 c where
  A w := w.elim0
  after w _ := w.elim0
  Φ t := match t with
    | ⟨0, _⟩ => Exch.enter (cont m) c
    | ⟨_ + 1, _⟩ => Exch.leave (cont m) c
  q _ := fullShare
  owed t := match t with
    | ⟨0, _⟩ => Exch.O₀ plan c
    | ⟨_ + 1, _⟩ => 0

/-- The region has no window. -/
theorem no_windows (Φ : Fin cfg0.W → sProp 𝕄) : bigSep Finset.univ Φ = (BI.emp : sProp 𝕄) := BI.bigSep_empty

theorem defs_eq (c : Dev nD) : defs₀ (F := F) .tc cfg0.body (cfg0.bodyArgs t0_0 (cfg0.slots t0_0)) = bodyAt0 (F := F) t0_0 := rfl

theorem body_obligation (c : Dev nD) : Pipeline.BodyObligation (dats m 0 c) (defs₀ (F := F)) 𝒱₀ () Set.univ := fun t => by
  obtain rfl := fin_N0 t
  have e := (defs_eq (F := F) c).trans (body_eq t0_0)
  have hb : ∀ x, x ∈ (dats m 0 c).bound () t0_0.succ := fun _ => Or.inl trivial
  have h := Exch.body_step (defs := defs₀ (F := F)) (cont m) 𝒱₀ order (List.finRange 1) order_univ order_nodup items_univ (List.nodup_finRange 1) c
    ((dats m 0 c).bound () t0_0.castSucc) ((dats m 0 c).bound () t0_0.succ) hb _ e
  have h1 : (dats m 0 c).Φ t0_0.castSucc = Exch.enter (cont m) c := rfl
  have h2 : (dats m 0 c).Φ t0_0.succ = Exch.leave (cont m) c := rfl
  have h3 : (dats m 0 c).owed t0_0.castSucc = Exch.O₀ plan c := rfl
  have h4 : (dats m 0 c).owed t0_0.succ = 0 := rfl
  rw [no_windows, no_windows, h1, h2]
  unfold Dat.owesAt
  rw [h3, h4]
  clear h1 h2 h3 h4 e hb
  generalize defs₀ (F := F) .tc cfg0.body (cfg0.bodyArgs t0_0 (cfg0.slots t0_0)) = p at h ⊢
  generalize (dats m 0 c).bound () t0_0.succ = B₁ at h ⊢
  generalize (dats m 0 c).bound () t0_0.castSucc = B₀ at h ⊢
  exact h

/-! ## The launch -/

def first : Pipeline.Exchange.First (fun p => (cfgs p).toPCfg) (fun p => (cfgs p).toPCfg_adm) (dats m) () (defs₀ (F := F)) 𝒱₀ (0 : Fin 1) m (Exch.O₀ plan)
    (Exch.G (cont m)) where
  win := winFacts0.to₀
  block_pos := fun w => w.elim0
  stage_whole := stage_whole0
  K := (Fin 1 × Fin 7) ⊕ ((Fin 1 × Fin 7) ⊕ Fin 1)
  osem := plan.osem
  ho := ⟨by decide +kernel, plan.inj, fun _ w => w.elim0⟩
  hbody c := (body_obligation m c).loose
  hwaits c := Entails.of_eq (no_windows _).symm
  X := Exch.enter (cont m)
  Y c := iprop((bigSep Finset.univ fun j => Exch.srcR (cont m) j c) ∗ (bigSep Finset.univ fun i => Exch.srcL (cont m) i c)
      ∗ (bigSep Finset.univ fun j => Exch.slot₁ (cont m) j c) ∗ (bigSep Finset.univ fun i => Exch.lslot₁ (cont m) i c))
  Z := (bufs m).others
  post c := iprop(unscopedBufs c (Fn m c) ∗ ∃ W, owes (c.tc : Thread nD τ) (0 : CellTallies nD τ sig Unit) W)
  hinit := (bufs m).launch.trans <| fupd_mono <| bigSep_mono fun c _ => show iprop(owes c.tc (Exch.O₀ plan c) ∅ ∗ Exch.enter (cont m) c ∗ (bufs m).others c) ⊢ _ by
    iintro ⟨HO, HE, HZ⟩
    isplitr; · iapply (show (BI.emp : sProp 𝕄) ⊢ (dats m 0 c).arrays ((dats m 0 c).arrAt · 0) from Entails.of_eq (no_windows _).symm); iempintro
    isplitr; · iapply (show (BI.emp : sProp 𝕄) ⊢ Pipeline.prefHeld (cfgs 0).toPCfg.pre c (fun _ => fullShare) (cfgs 0).toPCfg_adm.1 from Entails.of_eq BI.bigSep_empty.symm); iempintro
    isplitl [HO]
    · iexists ∅; isplitr; · ipureintro; exact fun _ h => absurd h (Finset.notMem_empty _)
      iexact HO
    isplitl [HE] <;> iassumption
  hin c := by
    show _ ⊢ Exch.enter (cont m) c
    iintro ⟨HE, -, -⟩
    iexact HE
  hout c := by
    rw [scopedRest0_eq]
    show Exch.leave (cont m) c ⊢ _
    unfold Exch.leave
    iintro ⟨H1, H2, H3, H4, H5⟩
    isplitr [H5]
    · isplitl [H1]; · iexact H1
      isplitl [H2]; · iexact H2
      isplitl [H3] <;> iassumption
    isplitl [H5]; · iexact H5
    iempintro
  hexit c := by
    iintro ⟨-, ⟨%W, -, HO⟩, HY, HZ⟩
    imodintro
    isplitr [HO]
    · iapply ((bufs m).finish c)
      isplitl [HY] <;> iassumption
    iexists W; iexact HO

/-- The only semaphores are the call's own. -/
theorem sems_scoped : ∀ sm : SemLoc sig, sm.isScoped .tc = true := by decide +kernel

def u₀ : Exch.UU nD τ sig := (initOf (Pipeline.cells cfgs cellOf_inj) (Pipeline.launchToks cfgs cellOf_inj), initOf (Exch.cells plan) (Exch.toks plan))

/-- Every fair execution ends, with every buffer of every device at the contents the exchange gives, and every semaphore at zero. -/
theorem run_main : θ_run (defs (F := F)) (onTc (τ := τ) (main (F := F))) ⟨m, fun _ => 0, ρ⟩
    (fun r => (∀ c : Dev nD, ∀ b : Ref sig .tc, b.isScoped = false → r.2.mem ((c.tc : Thread nD τ).loc b) = Fn m c b) ∧ r.2.sem = fun _ => 0) :=
  Pipeline.Exchange.θ_run_first (fun p => (cfgs p).toPCfg) (fun p => (cfgs p).toPCfg_adm) (dats m) () cellOf_inj Exch.EP defs₀ 𝒱₀ (fun _ _ => 0) ρ main
    (first m) [] (hmain := fun _ => rfl) (hnd := List.nodup_singleton _) (u₀ := u₀)
    (hu₀ := by
      unfold u₀
      iintro Hu
      ihave H := (ownU_pair _ _) $$ Hu
      icases H with ⟨HP, HX⟩
      imod (Exch.fund_G (cont m)) $$ HX with HG
      imodintro
      isplitl [HP] <;> iassumption)
    (Tₙ := fun c => unscopedBufs c (Fn m c))
    (hch := fun c => Entails.refl _)
    (QY := fun c s => ∀ b : Ref sig .tc, b.isScoped = false → s.mem ((c.tc : Thread nD τ).loc b) = Fn m c b)
    (hfin := fun c s' => by
      unfold unscopedBufs
      iintro ⟨HU, HSI⟩
      ihave H := (pointsTo_read_all _ (fun b => (c.tc : Thread nD τ).loc b) (Fn m c) s') $$ [HU HSI]
      · isplitl [HU] <;> iassumption
      icases H with ⟨%h, HSI⟩
      imodintro
      isplitr
      · ipureintro
        exact fun b hb => h b (by simpa using hb)
      iexact HSI)
    (hQ := fun s h hs => ⟨h, funext fun g => hs g (Or.inr (sems_scoped g.2))⟩)

/-- The arguments are kept. -/
theorem args_kept {c : Dev nD} {s : MemSt nD τ sig (Elt F)} (h : ∀ b : Ref sig .tc, b.isScoped = false → s.mem ((c.tc : Thread nD τ).loc b) = Fn m c b) (i : Fin 1) :
    s.mem ((c.tc : Thread nD τ).loc (srcB i)) = m ((c.tc : Thread nD τ).loc (srcB i)) :=
  (h _ (by revert i; decide)).trans (Fn_kept m c _ (by revert i; decide))

end Cert.ModIdeal.Gathered

end
-- ==== Proof.GatherCond.lean ====
/-
  The gathering of the condition and the convolution weights: its copies, its buffers and their contents.  Every device sends its whole part of each array to the
  seven others and to itself; all of them gather the same whole arrays.
-/
module

public import proofs.«01_k».proof.Proof.Parts
public import proofs.«01_k».proof.Proof.Gen.CondIdeal.Points
public import proofs.«01_k».proof.Proof.Gen.CondIdeal.Skeleton

@[expose] public section

noncomputable section

namespace Cert.CondIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.CondIdeal Cert.CondIdeal.Gen
open Exch (slotDev partOf inRow inCol inSlot to_row to_col to_slot set_sq set_sl mem_row mem_col mem_slot qFar qNear)

/-- The device that copy `k` goes to, as the kernel computes it. -/
def peerOf : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peerOf_peerOf : ∀ k c, peerOf k (peerOf k c) = c := by decide +kernel
theorem peerOf_ne : ∀ k c, peerOf k c ≠ c := by decide +kernel
theorem peerOf_inj : ∀ c k k', peerOf k c = peerOf k' c → k = k' := by decide +kernel
theorem peerOf_all : ∀ c d, d = c ∨ ∃ k, peerOf k c = d := by decide +kernel

/-- Every copy of array `i` by device `c`: the device's whole part, into its place of the result. -/
def part : Fin 2 → Dev nD → Exch.Xfer sig
  | 0, c => ⟨S8x128, .f32, Memref.whole main_arg0,
      ((Memref.whole main_v1_0).slice (Rect.unit (s := S8x8x128) (k0_off1 c) S1x8x128.size (k0_off1_inb c)) (fun _ => rfl)).squeeze S8x128 squeezes_S1x8x128_S8x128,
      (Memref.isWhole_whole _).wordExact, (View.wordExact_bits rfl).reshape _ _, rfl⟩
  | 1, c => ⟨S4x512, .f32, Memref.whole main_arg1,
      ((Memref.whole main_v1_1).slice (Rect.unit (s := S8x4x512) (k0_off2 c) S1x4x512.size (k0_off2_inb c)) (fun _ => rfl)).squeeze S4x512 squeezes_S1x4x512_S4x512,
      (Memref.isWhole_whole _).wordExact, (View.wordExact_bits rfl).reshape _ _, rfl⟩

def amt (i : Fin 2) : ℕ := (part i 0).dst.view.dmaCredit

theorem amt_pos : ∀ i, 0 < amt i := by decide +kernel

/-- The gathering, as an exchange. -/
def plan : Exch.Plan nD τ sig (Fin 2 × Fin 7) (Fin 2) where
  peer j := peerOf j.2
  peer_peer j := peerOf_peerOf j.2
  snd j := ⟨7 * j.1 + j.2, by have := j.1.isLt; have := j.2.isLt; show _ < 30; omega⟩
  rcv j := ⟨14 + (7 * j.1 + j.2), by have := j.1.isLt; have := j.2.isLt; show _ < 30; omega⟩
  lcl i := ⟨28 + i, by have := i.isLt; show _ < 30; omega⟩
  far j := part j.1
  near := part
  amt j := amt j.1
  amtL := amt
  amt_pos j := amt_pos j.1
  amtL_pos := amt_pos
  far_dst := by
    rintro ⟨i, k⟩ c
    match i with
    | 0 | 1 => rfl
  far_src := by
    rintro ⟨i, k⟩ c
    match i with
    | 0 | 1 => rfl
  near_dst := by
    intro i c
    match i with
    | 0 | 1 => rfl
  inj := by decide +kernel
  routes := by decide +kernel

def order : List (Fin 2 × Fin 7) := (List.finRange 2).flatMap fun i => (List.finRange 7).map fun k => (i, k)
theorem order_univ : (Finset.univ : Finset (Fin 2 × Fin 7)) = order.toFinset := by decide +kernel
theorem items_univ : (Finset.univ : Finset (Fin 2)) = (List.finRange 2).toFinset := by decide
theorem order_nodup : order.Nodup := by decide +kernel

section Body

variable {F : FTy → Type} [FloatOps F]

set_option maxRecDepth 65536 in
/-- The kernel's body: the device's number, then its part of the exchange. -/
theorem body_eq (t : Fin cfg0.N) : bodyAt0 (F := F) t = .op .deviceId fun c => Exch.prog (Elt F) plan Λ₀ order (List.finRange 2) c := rfl

end Body

/-! ## The results' contents -/

variable {Val : EltTy → Type} (m : (ℓ : Loc nD τ sig) → Buf Val ℓ)

/-- Each result, the same on all the devices: the part of device `d` is the array that `d` holds. -/
def out0 (c : Dev nD) : Buf Val ((c.tc : Thread nD τ).loc main_v1_0) := fun y => m (((slotDev (r := 8) (w := 128) y).tc : Thread nD τ).loc main_arg0) (inSlot 8 128 y)
def out1 (c : Dev nD) : Buf Val ((c.tc : Thread nD τ).loc main_v1_1) := fun y => m (((slotDev (r := 4) (w := 512) y).tc : Thread nD τ).loc main_arg1) (inSlot 4 512 y)

/-- Every buffer after the gathering. -/
def Fn (c : Dev nD) : (b : Ref sig .tc) → Buf Val ((c.tc : Thread nD τ).loc b) :=
  Function.update (Function.update (fun b => m ((c.tc : Thread nD τ).loc b)) main_v1_0 (out0 m c)) main_v1_1 (out1 m c)

theorem Fn_0 (c : Dev nD) : Fn m c main_v1_0 = out0 m c := rfl
theorem Fn_1 (c : Dev nD) : Fn m c main_v1_1 = out1 m c := rfl

def srcB : Fin 2 → Ref sig .tc := ![main_arg0, main_arg1]
def dstB : Fin 2 → Ref sig .tc := ![main_v1_0, main_v1_1]

theorem Fn_kept (c : Dev nD) (b : Ref sig .tc) (h : ∀ i, b ≠ dstB i) : Fn m c b = m ((c.tc : Thread nD τ).loc b) := by
  unfold Fn
  have h0 : b ≠ main_v1_0 := h 0
  have h1 : b ≠ main_v1_1 := h 1
  rw [Function.update_of_ne h1, Function.update_of_ne h0]

theorem at1 : ∀ c : Dev nD, k0_off1 c = ![c.val, 0, 0] := by decide +kernel
theorem at2 : ∀ c : Dev nD, k0_off2 c = ![c.val, 0, 0] := by decide +kernel

/-- What device `c`'s copy of array `i` lands is the final contents of its place, on any device. -/
theorem lands (i : Fin 2) (c d : Dev nD) : (part i c).dst.view.read Val (Fn m d (part i c).dst.view.ref)
    = (part i c).src.view.read Val (m ((c.tc : Thread nD τ).loc (part i c).src.view.ref)) := by
  match i with
  | 0 => exact to_slot (c := c) (hq := squeezes_S1x8x128_S8x128) 8 128 (Memref.whole main_arg0) (Memref.whole main_v1_0) _ (out0 m d) (at1 c) (fun y h => by subst h; rfl)
  | 1 => exact to_slot (c := c) (hq := squeezes_S1x4x512_S4x512) 4 512 (Memref.whole main_arg1) (Memref.whole main_v1_1) _ (out1 m d) (at2 c) (fun y h => by subst h; rfl)

/-- The gathering and its contents: each source is read by eight copies at once. -/
def cont : Exch.Cont Val plan where
  m := m
  Fn := Fn m
  qJ j := qFar j.2
  qI _ := qNear
  landsJ j c := lands m j.1 c _
  landsI i c := lands m i c c

/-! ## The parts cover the buffers -/

theorem src_shares (i : Fin 2) (c : Dev nD) : ((c.tc : Thread nD τ).loc (srcB i) ↦{fullShare} m ((c.tc : Thread nD τ).loc (srcB i)) : sProp (MT nD τ sig Unit Val ℕ (Exch.UU nD τ sig) ℕ))
    = iprop(Exch.srcL (cont m) i c ∗ bigSep Finset.univ fun k => Exch.srcR (cont m) (i, k) c) := by
  match i with
  | 0 => exact Exch.pts_shares (ℓ := (c.tc : Thread nD τ).loc main_arg0) (m ((c.tc : Thread nD τ).loc main_arg0)) _ (View.set_whole main_arg0)
  | 1 => exact Exch.pts_shares (ℓ := (c.tc : Thread nD τ).loc main_arg1) (m ((c.tc : Thread nD τ).loc main_arg1)) _ (View.set_whole main_arg1)

theorem dst_parts (i : Fin 2) (c : Dev nD) (V : (b : Ref sig .tc) → Buf Val ((c.tc : Thread nD τ).loc b)) :
    ((c.tc : Thread nD τ).loc (dstB i) ↦{fullShare} V (dstB i) : sProp (MT nD τ sig Unit Val ℕ (Exch.UU nD τ sig) ℕ))
      = iprop(Exch.dstL Val plan i c (V _) ∗ bigSep Finset.univ fun k => Exch.dstAt Val plan (i, k) (peerOf k c) c (V _)) := by
  have pts := fun (b : Ref sig .tc) (g : b.ty.shape.Idx → Dev nD) (s : Dev nD → Finset b.ty.shape.Idx) (mem : ∀ d y, y ∈ s d ↔ g y = d) => Exch.pts_blocks (ℓ := (c.tc : Thread nD τ).loc b) (V b) fullShare g c (fun k => peerOf k c)
    (fun k k' => peerOf_inj c k k') (fun k => peerOf_ne k c) (peerOf_all c) (s c) (fun k => s (peerOf k c)) (mem c) (fun k => mem (peerOf k c))
  match i with
  | 0 =>
    refine pts main_v1_0 (fun y => partOf (s := S8x8x128) 0 1 rfl y) (fun d => (part 0 d).dst.view.set) (fun d y => ?_)
    show y ∈ (((Memref.whole main_v1_0).slice (Rect.unit (s := S8x8x128) (k0_off1 d) S1x8x128.size (k0_off1_inb d)) (fun _ => rfl)).squeeze S8x128 squeezes_S1x8x128_S8x128).view.set ↔ partOf (s := S8x8x128) 0 1 rfl y = d
    exact set_sq (b := main_v1_0) (mem_slot 8 128 (at1 d) y)
  | 1 =>
    refine pts main_v1_1 (fun y => partOf (s := S8x4x512) 0 1 rfl y) (fun d => (part 1 d).dst.view.set) (fun d y => ?_)
    show y ∈ (((Memref.whole main_v1_1).slice (Rect.unit (s := S8x4x512) (k0_off2 d) S1x4x512.size (k0_off2_inb d)) (fun _ => rfl)).squeeze S4x512 squeezes_S1x4x512_S4x512).view.set ↔ partOf (s := S8x4x512) 0 1 rfl y = d
    exact set_sq (b := main_v1_1) (mem_slot 4 512 (at2 d) y)

/-- The gathering's buffers, shared out. -/
def bufs : Exch.Bufs (cont m) where
  src := srcB
  dst := dstB
  inj := by decide
  unscoped := by decide
  hsrc := src_shares m
  hdst₀ i c := dst_parts i c fun b => m ((c.tc : Thread nD τ).loc b)
  hdst₁ i c := dst_parts i c (Fn m c)
  kept := Fn_kept m

end Cert.CondIdeal.Gathered

end
-- ==== Proof.RunCond.lean ====
/-
  The run of the program: every device's part of the exchange, from launch to the final memory.
-/
module

public import proofs.«01_k».proof.Proof.GatherCond
public import proofs.«01_k».proof.Proof.Gen.CondIdeal.Launch
public import proofs.«01_k».proof.Proof.Gen.CondIdeal.Frame

@[expose] public section

noncomputable section

namespace Cert.CondIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.CondIdeal Cert.CondIdeal.Gen

variable {F : FTy → Type} [FloatOps F]
variable (m : (ℓ : Loc nD τ sig) → Buf (Elt F) ℓ) (ρ : Dev nD → PrngReg)

local notation "𝕄" => MT nD τ sig Unit (Elt F) ℕ (Exch.UU nD τ sig) ℕ

abbrev 𝒱₀ : Variants := Variants.none

/-- The region of the exchange: no window, one point. -/
def dats (_ : Fin 1) (c : Dev nD) : Dat τ (Elt F) Unit ℕ (Exch.UU nD τ sig) ℕ cfg0 c where
  A w := w.elim0
  after w _ := w.elim0
  Φ t := match t with
    | ⟨0, _⟩ => Exch.enter (cont m) c
    | ⟨_ + 1, _⟩ => Exch.leave (cont m) c
  q _ := fullShare
  owed t := match t with
    | ⟨0, _⟩ => Exch.O₀ plan c
    | ⟨_ + 1, _⟩ => 0

/-- The region has no window. -/
theorem no_windows (Φ : Fin cfg0.W → sProp 𝕄) : bigSep Finset.univ Φ = (BI.emp : sProp 𝕄) := BI.bigSep_empty

theorem defs_eq (c : Dev nD) : defs₀ (F := F) .tc cfg0.body (cfg0.bodyArgs t0_0 (cfg0.slots t0_0)) = bodyAt0 (F := F) t0_0 := rfl

theorem body_obligation (c : Dev nD) : Pipeline.BodyObligation (dats m 0 c) (defs₀ (F := F)) 𝒱₀ () Set.univ := fun t => by
  obtain rfl := fin_N0 t
  have e := (defs_eq (F := F) c).trans (body_eq t0_0)
  have hb : ∀ x, x ∈ (dats m 0 c).bound () t0_0.succ := fun _ => Or.inl trivial
  have h := Exch.body_step (defs := defs₀ (F := F)) (cont m) 𝒱₀ order (List.finRange 2) order_univ order_nodup items_univ (List.nodup_finRange 2) c
    ((dats m 0 c).bound () t0_0.castSucc) ((dats m 0 c).bound () t0_0.succ) hb _ e
  have h1 : (dats m 0 c).Φ t0_0.castSucc = Exch.enter (cont m) c := rfl
  have h2 : (dats m 0 c).Φ t0_0.succ = Exch.leave (cont m) c := rfl
  have h3 : (dats m 0 c).owed t0_0.castSucc = Exch.O₀ plan c := rfl
  have h4 : (dats m 0 c).owed t0_0.succ = 0 := rfl
  rw [no_windows, no_windows, h1, h2]
  unfold Dat.owesAt
  rw [h3, h4]
  clear h1 h2 h3 h4 e hb
  generalize defs₀ (F := F) .tc cfg0.body (cfg0.bodyArgs t0_0 (cfg0.slots t0_0)) = p at h ⊢
  generalize (dats m 0 c).bound () t0_0.succ = B₁ at h ⊢
  generalize (dats m 0 c).bound () t0_0.castSucc = B₀ at h ⊢
  exact h

/-! ## The launch -/

def first : Pipeline.Exchange.First (fun p => (cfgs p).toPCfg) (fun p => (cfgs p).toPCfg_adm) (dats m) () (defs₀ (F := F)) 𝒱₀ (0 : Fin 1) m (Exch.O₀ plan)
    (Exch.G (cont m)) where
  win := winFacts0.to₀
  block_pos := fun w => w.elim0
  stage_whole := stage_whole0
  K := (Fin 2 × Fin 7) ⊕ ((Fin 2 × Fin 7) ⊕ Fin 2)
  osem := plan.osem
  ho := ⟨by decide +kernel, plan.inj, fun _ w => w.elim0⟩
  hbody c := (body_obligation m c).loose
  hwaits c := Entails.of_eq (no_windows _).symm
  X := Exch.enter (cont m)
  Y c := iprop((bigSep Finset.univ fun j => Exch.srcR (cont m) j c) ∗ (bigSep Finset.univ fun i => Exch.srcL (cont m) i c)
      ∗ (bigSep Finset.univ fun j => Exch.slot₁ (cont m) j c) ∗ (bigSep Finset.univ fun i => Exch.lslot₁ (cont m) i c))
  Z := (bufs m).others
  post c := iprop(unscopedBufs c (Fn m c) ∗ ∃ W, owes (c.tc : Thread nD τ) (0 : CellTallies nD τ sig Unit) W)
  hinit := (bufs m).launch.trans <| fupd_mono <| bigSep_mono fun c _ => show iprop(owes c.tc (Exch.O₀ plan c) ∅ ∗ Exch.enter (cont m) c ∗ (bufs m).others c) ⊢ _ by
    iintro ⟨HO, HE, HZ⟩
    isplitr; · iapply (show (BI.emp : sProp 𝕄) ⊢ (dats m 0 c).arrays ((dats m 0 c).arrAt · 0) from Entails.of_eq (no_windows _).symm); iempintro
    isplitr; · iapply (show (BI.emp : sProp 𝕄) ⊢ Pipeline.prefHeld (cfgs 0).toPCfg.pre c (fun _ => fullShare) (cfgs 0).toPCfg_adm.1 from Entails.of_eq BI.bigSep_empty.symm); iempintro
    isplitl [HO]
    · iexists ∅; isplitr; · ipureintro; exact fun _ h => absurd h (Finset.notMem_empty _)
      iexact HO
    isplitl [HE] <;> iassumption
  hin c := by
    show _ ⊢ Exch.enter (cont m) c
    iintro ⟨HE, -, -⟩
    iexact HE
  hout c := by
    rw [scopedRest0_eq]
    show Exch.leave (cont m) c ⊢ _
    unfold Exch.leave
    iintro ⟨H1, H2, H3, H4, H5⟩
    isplitr [H5]
    · isplitl [H1]; · iexact H1
      isplitl [H2]; · iexact H2
      isplitl [H3] <;> iassumption
    isplitl [H5]; · iexact H5
    iempintro
  hexit c := by
    iintro ⟨-, ⟨%W, -, HO⟩, HY, HZ⟩
    imodintro
    isplitr [HO]
    · iapply ((bufs m).finish c)
      isplitl [HY] <;> iassumption
    iexists W; iexact HO

/-- The only semaphores are the call's own. -/
theorem sems_scoped : ∀ sm : SemLoc sig, sm.isScoped .tc = true := by decide +kernel

def u₀ : Exch.UU nD τ sig := (initOf (Pipeline.cells cfgs cellOf_inj) (Pipeline.launchToks cfgs cellOf_inj), initOf (Exch.cells plan) (Exch.toks plan))

/-- Every fair execution ends, with every buffer of every device at the contents the exchange gives, and every semaphore at zero. -/
theorem run_main : θ_run (defs (F := F)) (onTc (τ := τ) (main (F := F))) ⟨m, fun _ => 0, ρ⟩
    (fun r => (∀ c : Dev nD, ∀ b : Ref sig .tc, b.isScoped = false → r.2.mem ((c.tc : Thread nD τ).loc b) = Fn m c b) ∧ r.2.sem = fun _ => 0) :=
  Pipeline.Exchange.θ_run_first (fun p => (cfgs p).toPCfg) (fun p => (cfgs p).toPCfg_adm) (dats m) () cellOf_inj Exch.EP defs₀ 𝒱₀ (fun _ _ => 0) ρ main
    (first m) [] (hmain := fun _ => rfl) (hnd := List.nodup_singleton _) (u₀ := u₀)
    (hu₀ := by
      unfold u₀
      iintro Hu
      ihave H := (ownU_pair _ _) $$ Hu
      icases H with ⟨HP, HX⟩
      imod (Exch.fund_G (cont m)) $$ HX with HG
      imodintro
      isplitl [HP] <;> iassumption)
    (Tₙ := fun c => unscopedBufs c (Fn m c))
    (hch := fun c => Entails.refl _)
    (QY := fun c s => ∀ b : Ref sig .tc, b.isScoped = false → s.mem ((c.tc : Thread nD τ).loc b) = Fn m c b)
    (hfin := fun c s' => by
      unfold unscopedBufs
      iintro ⟨HU, HSI⟩
      ihave H := (pointsTo_read_all _ (fun b => (c.tc : Thread nD τ).loc b) (Fn m c) s') $$ [HU HSI]
      · isplitl [HU] <;> iassumption
      icases H with ⟨%h, HSI⟩
      imodintro
      isplitr
      · ipureintro
        exact fun b hb => h b (by simpa using hb)
      iexact HSI)
    (hQ := fun s h hs => ⟨h, funext fun g => hs g (Or.inr (sems_scoped g.2))⟩)

/-- The arguments are kept. -/
theorem args_kept {c : Dev nD} {s : MemSt nD τ sig (Elt F)} (h : ∀ b : Ref sig .tc, b.isScoped = false → s.mem ((c.tc : Thread nD τ).loc b) = Fn m c b) (i : Fin 2) :
    s.mem ((c.tc : Thread nD τ).loc (srcB i)) = m ((c.tc : Thread nD τ).loc (srcB i)) :=
  (h _ (by revert i; decide)).trans (Fn_kept m c _ (by revert i; decide))

end Cert.CondIdeal.Gathered

end
-- ==== Proof.Swap.lean ====
/-
  The reference's reshapes and transposes, read at one block: block `c` of the exchanged array has,
  in slot `d`, device `d`'s part for `c`.
-/
module

public import proofs.«01_k».proof.Proof.WgradsBufs
public import Idealize.ShloMosaic.Lib.Pipeline.Value
public import Idealize.ShloMosaic.Lib.Layout

@[expose] public section

noncomputable section

namespace Cert.KernelIdeal.Wgrads

open Idealize.ShloMosaic Cert.KernelIdeal Exch

section Axes

variable {A B C D : ℕ}

/-- An index of four axes by its coordinates. -/
def ix4 (a : Fin A) (b : Fin B) (c : Fin C) (d : Fin D) : Shape.Idx ⟨4, ![A, B, C, D]⟩ := fun x =>
  match x with
  | ⟨0, _⟩ => a
  | ⟨1, _⟩ => b
  | ⟨2, _⟩ => c
  | ⟨3, _⟩ => d

end Axes

variable {α : Type}

theorem swap_rows (w r : ℕ) (v : Shape.Idx ⟨2, ![8 * (8 * w), r]⟩ → α)
    {h1 : (⟨2, ![8 * (8 * w), r]⟩ : Shape).ShapeCasts ⟨4, ![8, 8, w, r]⟩}
    {h2 : (⟨4, ![8, 8, w, r]⟩ : Shape).Transposes [1, 0, 2, 3] ⟨4, ![8, 8, w, r]⟩}
    {h3 : (⟨4, ![8, 8, w, r]⟩ : Shape).ShapeCasts ⟨3, ![8 * 8, w, r]⟩}
    {hs : Layout.Tiles ⟨3, ![8, w, r]⟩ ⟨3, ![8 * 8, w, r]⟩ 0 8} {ht : Layout.Tiles ⟨2, ![8 * w, r]⟩ ⟨2, ![8 * (8 * w), r]⟩ 0 8}
    (c : Dev nD) (y : Shape.Idx ⟨3, ![8, w, r]⟩) :
    Layout.block ⟨3, ![8, w, r]⟩ ⟨3, ![8 * 8, w, r]⟩ 0 8 c
        (shapeCast ⟨3, ![8 * 8, w, r]⟩ (transpose ⟨4, ![8, 8, w, r]⟩ [1, 0, 2, 3] (shapeCast ⟨4, ![8, 8, w, r]⟩ v h1) h2) h3) hs y
      = Layout.block ⟨2, ![8 * w, r]⟩ ⟨2, ![8 * (8 * w), r]⟩ 0 8 (slotDev y) v ht (rowOf w r c y) := by
  rw [Layout.block_apply, Layout.block_apply]
  rw [shapeCast_apply _ h3 _ (ix4 c (slotDev y) (y 1) (y 2)) (by
    rw [Shape.rowMajor_val_four, Shape.rowMajor_val_three]
    rfl)]
  refine (transpose_apply (s := ⟨4, ![8, 8, w, r]⟩) (t := ⟨4, ![8, 8, w, r]⟩) [1, 0, 2, 3] _ h2 (ix4 c (slotDev y) (y 1) (y 2)) (ix4 (slotDev y) c (y 1) (y 2)) (fun b => match b with | 0 => rfl | 1 => rfl | 2 => rfl | 3 => rfl)).trans ?_
  refine shapeCast_apply _ h1 _ _ ?_
  rw [Shape.rowMajor_val_four, Shape.rowMajor_val_two]
  show ((slotDev y).val * (8 * w) + (c.val * w + (y 1).val)) * r + (y 2).val = (((slotDev y).val * 8 + c.val) * w + (y 1).val) * r + (y 2).val
  simp only [Nat.add_mul, Nat.mul_assoc, Nat.add_assoc]

theorem swap_cols (w r : ℕ) (v : Shape.Idx ⟨2, ![8 * r, 8 * w]⟩ → α)
    {h1 : (⟨2, ![8 * r, 8 * w]⟩ : Shape).ShapeCasts ⟨4, ![8, r, 8, w]⟩}
    {h2 : (⟨4, ![8, r, 8, w]⟩ : Shape).Transposes [2, 0, 1, 3] ⟨4, ![8, 8, r, w]⟩}
    {h3 : (⟨4, ![8, 8, r, w]⟩ : Shape).ShapeCasts ⟨3, ![8 * 8, r, w]⟩}
    {hs : Layout.Tiles ⟨3, ![8, r, w]⟩ ⟨3, ![8 * 8, r, w]⟩ 0 8} {ht : Layout.Tiles ⟨2, ![r, 8 * w]⟩ ⟨2, ![8 * r, 8 * w]⟩ 0 8}
    (c : Dev nD) (y : Shape.Idx ⟨3, ![8, r, w]⟩) :
    Layout.block ⟨3, ![8, r, w]⟩ ⟨3, ![8 * 8, r, w]⟩ 0 8 c
        (shapeCast ⟨3, ![8 * 8, r, w]⟩ (transpose ⟨4, ![8, 8, r, w]⟩ [2, 0, 1, 3] (shapeCast ⟨4, ![8, r, 8, w]⟩ v h1) h2) h3) hs y
      = Layout.block ⟨2, ![r, 8 * w]⟩ ⟨2, ![8 * r, 8 * w]⟩ 0 8 (slotDev y) v ht (colOf r w c y) := by
  rw [Layout.block_apply, Layout.block_apply]
  rw [shapeCast_apply _ h3 _ (ix4 c (slotDev y) (y 1) (y 2)) (by
    rw [Shape.rowMajor_val_four, Shape.rowMajor_val_three]
    rfl)]
  refine (transpose_apply _ _ h2 _ (ix4 (slotDev y) (y 1) c (y 2)) (fun b => match b with | 0 => rfl | 1 => rfl | 2 => rfl | 3 => rfl)).trans ?_
  refine shapeCast_apply _ h1 _ _ ?_
  rw [Shape.rowMajor_val_four, Shape.rowMajor_val_two]
  show ((slotDev y).val * r + (y 1).val) * (8 * w) + (c.val * w + (y 2).val) = (((slotDev y).val * r + (y 1).val) * 8 + c.val) * w + (y 2).val
  simp only [Nat.add_mul, Nat.mul_assoc, Nat.add_assoc]

theorem swap_slots (r w : ℕ) (v : Shape.Idx ⟨3, ![8 * 8, r, w]⟩ → α)
    {h1 : (⟨3, ![8 * 8, r, w]⟩ : Shape).ShapeCasts ⟨4, ![8, 8, r, w]⟩}
    {h2 : (⟨4, ![8, 8, r, w]⟩ : Shape).Transposes [1, 0, 2, 3] ⟨4, ![8, 8, r, w]⟩}
    {h3 : (⟨4, ![8, 8, r, w]⟩ : Shape).ShapeCasts ⟨3, ![8 * 8, r, w]⟩}
    {hs : Layout.Tiles ⟨3, ![8, r, w]⟩ ⟨3, ![8 * 8, r, w]⟩ 0 8}
    (c : Dev nD) (y : Shape.Idx ⟨3, ![8, r, w]⟩) :
    Layout.block ⟨3, ![8, r, w]⟩ ⟨3, ![8 * 8, r, w]⟩ 0 8 c
        (shapeCast ⟨3, ![8 * 8, r, w]⟩ (transpose ⟨4, ![8, 8, r, w]⟩ [1, 0, 2, 3] (shapeCast ⟨4, ![8, 8, r, w]⟩ v h1) h2) h3) hs y
      = Layout.block ⟨3, ![8, r, w]⟩ ⟨3, ![8 * 8, r, w]⟩ 0 8 (slotDev y) v hs (slotOf r w c y) := by
  rw [Layout.block_apply, Layout.block_apply]
  rw [shapeCast_apply _ h3 _ (ix4 c (slotDev y) (y 1) (y 2)) (by
    rw [Shape.rowMajor_val_four, Shape.rowMajor_val_three]
    rfl)]
  refine (transpose_apply (s := ⟨4, ![8, 8, r, w]⟩) (t := ⟨4, ![8, 8, r, w]⟩) [1, 0, 2, 3] _ h2 (ix4 c (slotDev y) (y 1) (y 2)) (ix4 (slotDev y) c (y 1) (y 2)) (fun b => match b with | 0 => rfl | 1 => rfl | 2 => rfl | 3 => rfl)).trans ?_
  refine shapeCast_apply _ h1 _ _ ?_
  rw [Shape.rowMajor_val_four, Shape.rowMajor_val_three]
  rfl

/-! ## The results, as blocks of the reference's arrays -/

section Results

variable {Val : EltTy → Type} (m : (ℓ : Loc nD τ sig) → Buf Val ℓ) (c : Dev nD)

theorem out0_eq (v : Shape.Idx ⟨3, ![64, 1024, 1408]⟩ → Val .bf16)
    (h : ∀ d : Dev nD, m ((d.tc : Thread nD τ).loc main_arg0) = Layout.block ⟨3, ![8, 1024, 1408]⟩ ⟨3, ![64, 1024, 1408]⟩ 0 8 d v)
    {h1 : (⟨3, ![64, 1024, 1408]⟩ : Shape).ShapeCasts ⟨4, ![8, 8, 1024, 1408]⟩} {h2 : (⟨4, ![8, 8, 1024, 1408]⟩ : Shape).Transposes [1, 0, 2, 3] ⟨4, ![8, 8, 1024, 1408]⟩}
    {h3 : (⟨4, ![8, 8, 1024, 1408]⟩ : Shape).ShapeCasts ⟨3, ![64, 1024, 1408]⟩} {hs : Layout.Tiles ⟨3, ![8, 1024, 1408]⟩ ⟨3, ![64, 1024, 1408]⟩ 0 8} :
    out0 m c = Layout.block ⟨3, ![8, 1024, 1408]⟩ ⟨3, ![64, 1024, 1408]⟩ 0 8 c
      (shapeCast ⟨3, ![64, 1024, 1408]⟩ (transpose ⟨4, ![8, 8, 1024, 1408]⟩ [1, 0, 2, 3] (shapeCast ⟨4, ![8, 8, 1024, 1408]⟩ v h1) h2) h3) hs :=
  funext fun y => (congrFun (h (slotDev y)) _).trans (swap_slots 1024 1408 v c y).symm

theorem out1_eq (v : Shape.Idx ⟨2, ![8192, 1024]⟩ → Val .bf16)
    (h : ∀ d : Dev nD, m ((d.tc : Thread nD τ).loc main_arg1) = Layout.block ⟨2, ![1024, 1024]⟩ ⟨2, ![8192, 1024]⟩ 0 8 d v)
    {h1 : (⟨2, ![8192, 1024]⟩ : Shape).ShapeCasts ⟨4, ![8, 8, 128, 1024]⟩} {h2 : (⟨4, ![8, 8, 128, 1024]⟩ : Shape).Transposes [1, 0, 2, 3] ⟨4, ![8, 8, 128, 1024]⟩}
    {h3 : (⟨4, ![8, 8, 128, 1024]⟩ : Shape).ShapeCasts ⟨3, ![64, 128, 1024]⟩} {hs : Layout.Tiles ⟨3, ![8, 128, 1024]⟩ ⟨3, ![64, 128, 1024]⟩ 0 8} :
    out1 m c = Layout.block ⟨3, ![8, 128, 1024]⟩ ⟨3, ![64, 128, 1024]⟩ 0 8 c
      (shapeCast ⟨3, ![64, 128, 1024]⟩ (transpose ⟨4, ![8, 8, 128, 1024]⟩ [1, 0, 2, 3] (shapeCast ⟨4, ![8, 8, 128, 1024]⟩ v h1) h2) h3) hs :=
  funext fun y => (congrFun (h (slotDev y)) _).trans (swap_rows 128 1024 v c y).symm

theorem out2_eq (v : Shape.Idx ⟨2, ![16384, 1024]⟩ → Val .bf16)
    (h : ∀ d : Dev nD, m ((d.tc : Thread nD τ).loc main_arg2) = Layout.block ⟨2, ![2048, 1024]⟩ ⟨2, ![16384, 1024]⟩ 0 8 d v)
    {h1 : (⟨2, ![16384, 1024]⟩ : Shape).ShapeCasts ⟨4, ![8, 8, 256, 1024]⟩} {h2 : (⟨4, ![8, 8, 256, 1024]⟩ : Shape).Transposes [1, 0, 2, 3] ⟨4, ![8, 8, 256, 1024]⟩}
    {h3 : (⟨4, ![8, 8, 256, 1024]⟩ : Shape).ShapeCasts ⟨3, ![64, 256, 1024]⟩} {hs : Layout.Tiles ⟨3, ![8, 256, 1024]⟩ ⟨3, ![64, 256, 1024]⟩ 0 8} :
    out2 m c = Layout.block ⟨3, ![8, 256, 1024]⟩ ⟨3, ![64, 256, 1024]⟩ 0 8 c
      (shapeCast ⟨3, ![64, 256, 1024]⟩ (transpose ⟨4, ![8, 8, 256, 1024]⟩ [1, 0, 2, 3] (shapeCast ⟨4, ![8, 8, 256, 1024]⟩ v h1) h2) h3) hs :=
  funext fun y => (congrFun (h (slotDev y)) _).trans (swap_rows 256 1024 v c y).symm

theorem out3_eq (v : Shape.Idx ⟨2, ![8192, 1024]⟩ → Val .bf16)
    (h : ∀ d : Dev nD, m ((d.tc : Thread nD τ).loc main_arg3) = Layout.block ⟨2, ![1024, 1024]⟩ ⟨2, ![8192, 1024]⟩ 0 8 d v)
    {h1 : (⟨2, ![8192, 1024]⟩ : Shape).ShapeCasts ⟨4, ![8, 8, 128, 1024]⟩} {h2 : (⟨4, ![8, 8, 128, 1024]⟩ : Shape).Transposes [1, 0, 2, 3] ⟨4, ![8, 8, 128, 1024]⟩}
    {h3 : (⟨4, ![8, 8, 128, 1024]⟩ : Shape).ShapeCasts ⟨3, ![64, 128, 1024]⟩} {hs : Layout.Tiles ⟨3, ![8, 128, 1024]⟩ ⟨3, ![64, 128, 1024]⟩ 0 8} :
    out3 m c = Layout.block ⟨3, ![8, 128, 1024]⟩ ⟨3, ![64, 128, 1024]⟩ 0 8 c
      (shapeCast ⟨3, ![64, 128, 1024]⟩ (transpose ⟨4, ![8, 8, 128, 1024]⟩ [1, 0, 2, 3] (shapeCast ⟨4, ![8, 8, 128, 1024]⟩ v h1) h2) h3) hs :=
  funext fun y => (congrFun (h (slotDev y)) _).trans (swap_rows 128 1024 v c y).symm

theorem out4_eq (v : Shape.Idx ⟨2, ![8192, 4096]⟩ → Val .bf16)
    (h : ∀ d : Dev nD, m ((d.tc : Thread nD τ).loc main_arg4) = Layout.block ⟨2, ![1024, 4096]⟩ ⟨2, ![8192, 4096]⟩ 0 8 d v)
    {h1 : (⟨2, ![8192, 4096]⟩ : Shape).ShapeCasts ⟨4, ![8, 1024, 8, 512]⟩} {h2 : (⟨4, ![8, 1024, 8, 512]⟩ : Shape).Transposes [2, 0, 1, 3] ⟨4, ![8, 8, 1024, 512]⟩}
    {h3 : (⟨4, ![8, 8, 1024, 512]⟩ : Shape).ShapeCasts ⟨3, ![64, 1024, 512]⟩} {hs : Layout.Tiles ⟨3, ![8, 1024, 512]⟩ ⟨3, ![64, 1024, 512]⟩ 0 8} :
    out4 m c = Layout.block ⟨3, ![8, 1024, 512]⟩ ⟨3, ![64, 1024, 512]⟩ 0 8 c
      (shapeCast ⟨3, ![64, 1024, 512]⟩ (transpose ⟨4, ![8, 8, 1024, 512]⟩ [2, 0, 1, 3] (shapeCast ⟨4, ![8, 1024, 8, 512]⟩ v h1) h2) h3) hs :=
  funext fun y => (congrFun (h (slotDev y)) _).trans (swap_cols 512 1024 v c y).symm

theorem out5_eq (v : Shape.Idx ⟨2, ![32768, 1024]⟩ → Val .bf16)
    (h : ∀ d : Dev nD, m ((d.tc : Thread nD τ).loc main_arg5) = Layout.block ⟨2, ![4096, 1024]⟩ ⟨2, ![32768, 1024]⟩ 0 8 d v)
    {h1 : (⟨2, ![32768, 1024]⟩ : Shape).ShapeCasts ⟨4, ![8, 8, 512, 1024]⟩} {h2 : (⟨4, ![8, 8, 512, 1024]⟩ : Shape).Transposes [1, 0, 2, 3] ⟨4, ![8, 8, 512, 1024]⟩}
    {h3 : (⟨4, ![8, 8, 512, 1024]⟩ : Shape).ShapeCasts ⟨3, ![64, 512, 1024]⟩} {hs : Layout.Tiles ⟨3, ![8, 512, 1024]⟩ ⟨3, ![64, 512, 1024]⟩ 0 8} :
    out5 m c = Layout.block ⟨3, ![8, 512, 1024]⟩ ⟨3, ![64, 512, 1024]⟩ 0 8 c
      (shapeCast ⟨3, ![64, 512, 1024]⟩ (transpose ⟨4, ![8, 8, 512, 1024]⟩ [1, 0, 2, 3] (shapeCast ⟨4, ![8, 8, 512, 1024]⟩ v h1) h2) h3) hs :=
  funext fun y => (congrFun (h (slotDev y)) _).trans (swap_rows 512 1024 v c y).symm

end Results

end Cert.KernelIdeal.Wgrads

end
-- ==== Proof.Join.lean ====
/-
  Whole arrays from the blocks of eight devices: what an index of a gathered array takes, by the device and by the
  place in its block, is the whole array.
-/
module

public import proofs.«01_k».proof.Proof.Parts

@[expose] public section

noncomputable section

namespace Exch

open Idealize.ShloMosaic

variable {α : Type}

theorem join_rows (w r : ℕ) (hw : 0 < w) (A : Dev 8 → Shape.Idx ⟨2, ![w, r]⟩ → α) (v : Shape.Idx ⟨2, ![8 * w, r]⟩ → α)
    {ht : Layout.Tiles ⟨2, ![w, r]⟩ ⟨2, ![8 * w, r]⟩ 0 8} (h : ∀ d, A d = Layout.block ⟨2, ![w, r]⟩ ⟨2, ![8 * w, r]⟩ 0 8 d v ht) :
    (fun y => A (partOf (s := ⟨2, ![8 * w, r]⟩) 0 w rfl y) (inRow w r hw y)) = v := by
  funext y
  rw [h, Layout.block_apply]
  congr 1
  funext a
  match a with
  | 0 => exact Fin.ext (Nat.div_add_mod' (y 0).val w)
  | 1 => rfl

theorem join_cols (r w : ℕ) (hw : 0 < w) (A : Dev 8 → Shape.Idx ⟨2, ![r, w]⟩ → α) (v : Shape.Idx ⟨2, ![r, 8 * w]⟩ → α)
    {ht : Layout.Tiles ⟨2, ![r, w]⟩ ⟨2, ![r, 8 * w]⟩ 1 8} (h : ∀ d, A d = Layout.block ⟨2, ![r, w]⟩ ⟨2, ![r, 8 * w]⟩ 1 8 d v ht) :
    (fun y => A (partOf (s := ⟨2, ![r, 8 * w]⟩) 1 w rfl y) (inCol r w hw y)) = v := by
  funext y
  rw [h, Layout.block_apply]
  congr 1
  funext a
  match a with
  | 0 => rfl
  | 1 => exact Fin.ext (Nat.div_add_mod' (y 1).val w)

theorem join_slots (r w : ℕ) (A : Dev 8 → Shape.Idx ⟨2, ![r, w]⟩ → α) (v : Shape.Idx ⟨2, ![8 * r, w]⟩ → α)
    {ht : Layout.Tiles ⟨2, ![r, w]⟩ ⟨2, ![8 * r, w]⟩ 0 8} (h : ∀ d, A d = Layout.block ⟨2, ![r, w]⟩ ⟨2, ![8 * r, w]⟩ 0 8 d v ht)
    {hc : (⟨2, ![8 * r, w]⟩ : Shape).ShapeCasts ⟨3, ![8, r, w]⟩} :
    (fun y : Shape.Idx ⟨3, ![8, r, w]⟩ => A (slotDev y) (inSlot r w y)) = shapeCast ⟨3, ![8, r, w]⟩ v hc := by
  funext y
  rw [h, Layout.block_apply]
  refine (shapeCast_apply _ hc _ _ ?_).symm
  rw [Shape.rowMajor_val_three, Shape.rowMajor_val_two]
  rfl

/-- An index of three axes by its coordinates. -/
def ix3 {A B C : ℕ} (a : Fin A) (b : Fin B) (c : Fin C) : Shape.Idx ⟨3, ![A, B, C]⟩ := fun x =>
  match x with
  | ⟨0, _⟩ => a
  | ⟨1, _⟩ => b
  | ⟨2, _⟩ => c

theorem join_slots_cols (r w : ℕ) (A : Dev 8 → Shape.Idx ⟨2, ![r, w]⟩ → α) (v : Shape.Idx ⟨2, ![r, 8 * w]⟩ → α)
    {ht : Layout.Tiles ⟨2, ![r, w]⟩ ⟨2, ![r, 8 * w]⟩ 1 8} (h : ∀ d, A d = Layout.block ⟨2, ![r, w]⟩ ⟨2, ![r, 8 * w]⟩ 1 8 d v ht)
    {hc : (⟨2, ![r, 8 * w]⟩ : Shape).ShapeCasts ⟨3, ![r, 8, w]⟩} {h2 : (⟨3, ![r, 8, w]⟩ : Shape).Transposes [1, 0, 2] ⟨3, ![8, r, w]⟩} :
    (fun y : Shape.Idx ⟨3, ![8, r, w]⟩ => A (slotDev y) (inSlot r w y)) = transpose ⟨3, ![8, r, w]⟩ [1, 0, 2] (shapeCast ⟨3, ![r, 8, w]⟩ v hc) h2 := by
  funext y
  rw [h, Layout.block_apply]
  refine Eq.symm ?_
  refine (transpose_apply (s := ⟨3, ![r, 8, w]⟩) (t := ⟨3, ![8, r, w]⟩) [1, 0, 2] _ h2 y (ix3 (y 1) (slotDev y) (y 2)) (fun b => match b with | 0 => rfl | 1 => rfl | 2 => rfl)).trans ?_
  refine shapeCast_apply _ hc _ _ ?_
  rw [Shape.rowMajor_val_three, Shape.rowMajor_val_two]
  show (y 1).val * (8 * w) + ((y 0).val * w + (y 2).val) = ((y 1).val * 8 + (y 0).val) * w + (y 2).val
  simp only [Nat.add_mul, Nat.mul_assoc, Nat.add_assoc]

end Exch

end
-- ==== Proof.Step.lean ====
/-
  One AdamW step and the sum over eight devices, entry by entry.
-/
module

public import Idealize.ShloMosaic.Lib.Pipeline.Value
public import Idealize.ShloMosaic.PureOps
public import Idealize.ShloMosaic.Lib.Pointwise.Reduce

@[expose] public section

noncomputable section

namespace Step

open Idealize.ShloMosaic

variable {F : FTy → Type} [FloatOps F]

/-- A constant of the step. -/
def lit (b : BitVec 32) : F .f32 := Scalar.ofBits .f32 b

/-- The new first moment of one entry. -/
def newM (g m : F .f32) : F .f32 := FloatOps.addf (FloatOps.mulf (lit 0x3F666666#32) m) (FloatOps.mulf (lit 0x3DCCCCCD#32) g)

/-- The new second moment of one entry. -/
def newV (g v : F .f32) : F .f32 := FloatOps.addf (FloatOps.mulf (lit 0x3F7FBE77#32) v) (FloatOps.mulf (lit 0x3A83126F#32) (FloatOps.mulf g g))

/-- The change of one entry of the weight. -/
def delta (w g m v : F .f32) : F .f32 :=
  FloatOps.mulf (lit 0xBA83126F#32) (FloatOps.addf
    (FloatOps.divf (FloatOps.divf (newM g m) (lit 0x3F26BD02#32))
      (FloatOps.addf (FloatOps.sqrt (FloatOps.divf (newV g v) (lit 0x3C231ACC#32))) (lit 0x322BCC77#32)))
    (FloatOps.mulf (lit 0x3C23D70A#32) w))

/-- Eight values added in the order of the devices. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

/-- The index of device `j`'s part under an index of the sum. -/
def at3 {a b c : ℕ} (j : Fin 8) (i : Shape.Idx ⟨3, ![a, b, c]⟩) : Shape.Idx ⟨3, ![8, b, c]⟩ := fun x =>
  match x with
  | ⟨0, _⟩ => j
  | ⟨1, _⟩ => i 1
  | ⟨2, _⟩ => i 2

/-- The sum of the eight parts, rounded parts widened first. -/
def parts {b c : ℕ} (g : FVec F ⟨3, ![8, b, c]⟩ .bf16) : FVec F ⟨3, ![1, b, c]⟩ .f32 :=
  fun i => sum8 fun j => FloatOps.extf .f32 (by decide) (g (at3 j i))

/-- Eight values added one after the other are their sum. -/
theorem sum8_eq {f : Fin 8 → F .f32} {a0 a1 a2 a3 a4 a5 a6 a7 : F .f32} (h0 : a0 = f 0) (h1 : a1 = f 1) (h2 : a2 = f 2)
    (h3 : a3 = f 3) (h4 : a4 = f 4) (h5 : a5 = f 5) (h6 : a6 = f 6) (h7 : a7 = f 7) :
    FloatOps.addf (FloatOps.addf (FloatOps.addf (FloatOps.addf (FloatOps.addf (FloatOps.addf (FloatOps.addf a0 a1) a2) a3) a4) a5) a6) a7
      = sum8 f := by
  subst h0 h1 h2 h3 h4 h5 h6 h7; rfl

/-- The slice of one device's part, entry by entry. -/
theorem ld_part {e : EltTy} {b c : ℕ} (x : Vec F ⟨3, ![8, b, c]⟩ e) (d : Fin 8)
    (hb : ∀ a, (![d.val, 0, 0] : Fin 3 → ℕ) a + (⟨3, ![1, b, c]⟩ : Shape).size a ≤ (⟨3, ![8, b, c]⟩ : Shape).size a)
    (j : Shape.Idx ⟨3, ![1, b, c]⟩) :
    View.ld x (Rect.unit (s := ⟨3, ![8, b, c]⟩) ![d.val, 0, 0] (⟨3, ![1, b, c]⟩ : Shape).size hb) j = x (at3 d j) := by
  show x _ = x _
  congr 1
  funext a
  refine Fin.ext ?_
  match a with
  | ⟨0, _⟩ => have h : (j 0).val < 1 := (j 0).isLt; show d.val + 1 * (j 0).val = d.val; omega
  | ⟨1, _⟩ => show 0 + 1 * (j 1).val = (j 1).val; omega
  | ⟨2, _⟩ => show 0 + 1 * (j 2).val = (j 2).val; omega

/-- A window that goes down the rows in equal blocks. -/
def Down {N h b c b' : ℕ} (e : Fin N → Shape.Idx ⟨3, ![h, b, c]⟩ → Shape.Idx ⟨3, ![h, b', c]⟩) : Prop :=
  ∀ t j, (e t j 0).val = (j 0).val ∧ (e t j 1).val = t.val * b + (j 1).val ∧ (e t j 2).val = (j 2).val

/-- Every entry lies in the block of its rows. -/
theorem Down.covered {N h b c b' : ℕ} {e : Fin N → Shape.Idx ⟨3, ![h, b, c]⟩ → Shape.Idx ⟨3, ![h, b', c]⟩} (he : Down e)
    (hN : b' = N * b) (i : Shape.Idx ⟨3, ![h, b', c]⟩) : ∃ t j, e t j = i := by
  have h1 : (i 1).val < b' := (i 1).isLt
  have hb : 0 < b := Nat.pos_of_ne_zero fun h => by subst h; simp at hN; omega
  let t : Fin N := ⟨(i 1).val / b, Nat.div_lt_of_lt_mul (by rw [Nat.mul_comm, ← hN]; exact h1)⟩
  let j : Shape.Idx ⟨3, ![h, b, c]⟩ := fun a => match a with
    | ⟨0, _⟩ => i 0
    | ⟨1, _⟩ => ⟨(i 1).val % b, Nat.mod_lt _ hb⟩
    | ⟨2, _⟩ => i 2
  obtain ⟨e0, e1, e2⟩ := he t j
  refine ⟨t, j, funext fun a => Fin.ext ?_⟩
  match a with
  | ⟨0, _⟩ => exact e0
  | ⟨1, _⟩ => exact e1.trans (by show (i 1).val / b * b + (i 1).val % b = (i 1).val; rw [Nat.mul_comm]; exact Nat.div_add_mod _ _)
  | ⟨2, _⟩ => exact e2

/-- The parts of a block are the block of the parts. -/
theorem Down.part_eq {N b c b' : ℕ} {e : Fin N → Shape.Idx ⟨3, ![1, b, c]⟩ → Shape.Idx ⟨3, ![1, b', c]⟩}
    {g : Fin N → Shape.Idx ⟨3, ![8, b, c]⟩ → Shape.Idx ⟨3, ![8, b', c]⟩} (he : Down e) (hg : Down g)
    (t : Fin N) (j : Shape.Idx ⟨3, ![1, b, c]⟩) (d : Fin 8) : g t (at3 d j) = at3 d (e t j) := by
  obtain ⟨_, e1, e2⟩ := he t j
  obtain ⟨g0, g1, g2⟩ := hg t (at3 d j)
  funext a
  refine Fin.ext ?_
  match a with
  | ⟨0, _⟩ => exact g0
  | ⟨1, _⟩ => exact g1.trans e1.symm
  | ⟨2, _⟩ => exact g2.trans e2.symm

/-- The sum of a block of the parts is the block of the sum. -/
theorem Down.parts_eq {N b c b' : ℕ} {e : Fin N → Shape.Idx ⟨3, ![1, b, c]⟩ → Shape.Idx ⟨3, ![1, b', c]⟩}
    {g : Fin N → Shape.Idx ⟨3, ![8, b, c]⟩ → Shape.Idx ⟨3, ![8, b', c]⟩} (he : Down e) (hg : Down g)
    (x : FVec F ⟨3, ![8, b', c]⟩ .bf16) (t : Fin N) (j : Shape.Idx ⟨3, ![1, b, c]⟩) :
    parts (fun k => x (g t k)) j = parts x (e t j) :=
  congrArg sum8 (funext fun d => congrArg (fun k => FloatOps.extf .f32 (by decide) (x k)) (he.part_eq hg t j d))

/-- A window's index in closed form makes it one that goes down the rows. -/
theorem down_of {N h b c b' : ℕ} {e : Fin N → Shape.Idx ⟨3, ![h, b, c]⟩ → Shape.Idx ⟨3, ![h, b', c]⟩} {ix : Fin N → Fin 3 → ℕ}
    (hix : ∀ t a, ix t a = (![0, t.val, 0] : Fin 3 → ℕ) a)
    (he : ∀ t j a, (e t j a).val = ix t a * (⟨3, ![h, b, c]⟩ : Shape).size a + 1 * (j a).val) : Down e := fun t j =>
  ⟨(he t j 0).trans (by rw [hix]; show 0 * h + 1 * (j 0).val = _; omega),
    (he t j 1).trans (by rw [hix]; show t.val * b + 1 * (j 1).val = _; omega),
    (he t j 2).trans (by rw [hix]; show 0 * c + 1 * (j 2).val = _; omega)⟩

theorem zeros : (![0, 0, 0] : Fin 3 → ℕ) = fun _ => 0 := by decide

/-! ## The sum over the devices as one sum, over the reals -/

/-- The index of device `d`'s part over an index of the summed matrix. -/
def under {b c : ℕ} (d : Fin 8) (i : Shape.Idx ⟨2, ![b, c]⟩) : Shape.Idx ⟨3, ![8, b, c]⟩ := fun x =>
  match x with
  | ⟨0, _⟩ => d
  | ⟨1, _⟩ => i 0
  | ⟨2, _⟩ => i 1

/-- The matrix of the sums. -/
def sums {b c : ℕ} (g : FVec F ⟨3, ![8, b, c]⟩ .f32) : FVec F ⟨2, ![b, c]⟩ .f32 := fun i => sum8 fun d => g (under d i)

/-- The host's sum over the leading axis is the sum one device after the other. -/
theorem reduce_eq {b c : ℕ} (x : FVec Ideal ⟨3, ![8, b, c]⟩ .f32)
    (hr : (⟨3, ![8, b, c]⟩ : Shape).ReducesTo [0] ⟨2, ![b, c]⟩) (hu : 0 < (⟨0, ![]⟩ : Shape).numel) :
    Host.reduceAdd x (constant (F := Ideal) ⟨0, ![]⟩ .f32 0x00000000#32) hr hu = sums x := by
  funext i
  show Ideal.hostReduceAdd hr x (Ideal.ofBits .f32 0x00000000#32) i = _
  rw [Ideal.hostReduceAdd_r3_a0, Ideal.ofBits_zero_f32, zero_add, Fin.sum_univ_eight]
  refine sum8_eq (f := fun d => x (under d i)) ?_ ?_ ?_ ?_ ?_ ?_ ?_ ?_ <;>
  · refine congrArg x (funext fun a => Fin.ext ?_)
    match a with
    | ⟨0, _⟩ => rfl
    | ⟨1, _⟩ => rfl
    | ⟨2, _⟩ => rfl

/-- The summed matrix with a leading axis of one is the sum of the parts. -/
theorem reduce_parts {b c : ℕ} (x : FVec Ideal ⟨3, ![8, b, c]⟩ .bf16) (hx : FTy.bits .bf16 < FTy.bits .f32)
    (hr : (⟨3, ![8, b, c]⟩ : Shape).ReducesTo [0] ⟨2, ![b, c]⟩) (hu : 0 < (⟨0, ![]⟩ : Shape).numel)
    (hs : (⟨2, ![b, c]⟩ : Shape).ShapeCasts ⟨3, ![1, b, c]⟩) :
    shapeCast ⟨3, ![1, b, c]⟩ (Host.reduceAdd (extf .f32 x hx) (constant (F := Ideal) ⟨0, ![]⟩ .f32 0x00000000#32) hr hu) hs = parts x := by
  rw [reduce_eq]
  funext i
  let k : Shape.Idx ⟨2, ![b, c]⟩ := fun a => match a with
    | ⟨0, _⟩ => i 1
    | ⟨1, _⟩ => i 2
  refine (shapeCast_apply _ hs i k ?_).trans ?_
  · rw [Shape.rowMajor_val_two, Shape.rowMajor_val_three]
    have h : (i 0).val < 1 := (i 0).isLt
    show (i 1).val * c + (i 2).val = ((i 0).val * b + (i 1).val) * c + (i 2).val
    rw [show (i 0).val = 0 by omega, Nat.zero_mul, Nat.zero_add]
  · refine congrArg sum8 (funext fun d => congrArg (fun n => FloatOps.extf .f32 hx (x n)) (funext fun a => ?_))
    match a with
    | ⟨0, _⟩ => rfl
    | ⟨1, _⟩ => rfl
    | ⟨2, _⟩ => rfl

/-- The slice of one device's part read as a matrix, entry by entry. -/
theorem ld_under {e : EltTy} {b c : ℕ} (x : Vec F ⟨3, ![8, b, c]⟩ e) (d : Fin 8)
    (hb : ∀ a, (![d.val, 0, 0] : Fin 3 → ℕ) a + (⟨3, ![1, b, c]⟩ : Shape).size a ≤ (⟨3, ![8, b, c]⟩ : Shape).size a)
    (hs : (⟨3, ![1, b, c]⟩ : Shape).ShapeCasts ⟨2, ![b, c]⟩) (j : Shape.Idx ⟨2, ![b, c]⟩) :
    shapeCast ⟨2, ![b, c]⟩ (View.ld x (Rect.unit (s := ⟨3, ![8, b, c]⟩) ![d.val, 0, 0] (⟨3, ![1, b, c]⟩ : Shape).size hb)) hs j
      = x (under d j) := by
  let k : Shape.Idx ⟨3, ![1, b, c]⟩ := fun a => match a with
    | ⟨0, _⟩ => ⟨0, by show 0 < 1; omega⟩
    | ⟨1, _⟩ => j 0
    | ⟨2, _⟩ => j 1
  refine (shapeCast_apply _ hs j k ?_).trans ((ld_part x d hb k).trans (congrArg x (funext fun a => ?_)))
  · rw [Shape.rowMajor_val_two, Shape.rowMajor_val_three]
    show (0 * b + (j 0).val) * c + (j 1).val = (j 0).val * c + (j 1).val
    rw [Nat.zero_mul, Nat.zero_add]
  · match a with
    | ⟨0, _⟩ => rfl
    | ⟨1, _⟩ => rfl
    | ⟨2, _⟩ => rfl

end Step

end
-- ==== Proof.Sums.lean ====
/-
  The two sums over the devices: what each leaves, entry by entry.
-/
module

public import proofs.«01_k».proof.Proof.Step
public import proofs.«01_k».proof.Proof.Gen.SumSmallIdeal.Value
public import proofs.«01_k».proof.Proof.Gen.SumWinIdeal.Value

@[expose] public section

noncomputable section

open Idealize.ShloMosaic Idealize.ShloMosaic.TcCoe Idealize.SL.Sem Idealize.ShloMosaic.Pipeline

variable {F : FTy → Type} [FloatOps F]

namespace Cert.SumSmallIdeal.Stepped

open Cert.SumSmallIdeal Cert.SumSmallIdeal.Gen

/-- The one block is the matrix of the sums. -/
theorem sum_eq (x : Vec F S8x1296x128 .f32) : Value.G1 x = Step.sums x := by
  funext j
  exact Step.sum8_eq (Step.ld_under x 0 _ _ j) (Step.ld_under x 1 _ _ j) (Step.ld_under x 2 _ _ j) (Step.ld_under x 3 _ _ j)
    (Step.ld_under x 4 _ _ j) (Step.ld_under x 5 _ _ j) (Step.ld_under x 6 _ _ j) (Step.ld_under x 7 _ _ j)

end Cert.SumSmallIdeal.Stepped

namespace Cert.SumWinIdeal.Stepped

open Cert.SumWinIdeal Cert.SumWinIdeal.Gen

variable (m : (ℓ : Loc nD τ sig) → Buf (Elt F) ℓ) (c : Dev nD)

theorem index_in : ∀ t : Fin cfg0.N, ∀ a : Fin 3, win0_0.index t a = (![0, t.val, 0] : Fin 3 → ℕ) a := by decide +kernel

theorem index_out : ∀ t : Fin cfg0.N, ∀ a : Fin 2, win0_1.index t a = (![t.val, 0] : Fin 2 → ℕ) a := by decide +kernel

theorem down_in : Step.Down (h := 8) (b := 256) (c := 1408) (b' := 1024) fun t => ((cfg0.win 0).blk t).view.emb :=
  Step.down_of (ix := win0_0.index) index_in fun _ _ _ => rfl

theorem row_out (t : Fin cfg0.N) (j : S256x1408.Idx) :
    (((cfg0.win 1).blk t).view.emb j 0).val = t.val * 256 + (j 0).val ∧ (((cfg0.win 1).blk t).view.emb j 1).val = (j 1).val :=
  ⟨(show win0_1.index t 0 * 256 + 1 * (j 0).val = _ by rw [index_out]; show t.val * 256 + 1 * (j 0).val = _; omega),
    (show win0_1.index t 1 * 1408 + 1 * (j 1).val = _ by rw [index_out]; show 0 * 1408 + 1 * (j 1).val = _; omega)⟩

theorem part_in (t : Fin cfg0.N) (j : S256x1408.Idx) (d : Fin 8) :
    ((cfg0.win 0).blk t).view.emb (Step.under d j) = Step.under d (((cfg0.win 1).blk t).view.emb j) := by
  obtain ⟨r0, r1⟩ := row_out t j
  obtain ⟨g0, g1, g2⟩ := down_in t (Step.under d j)
  funext a
  refine Fin.ext ?_
  match a with
  | ⟨0, _⟩ => exact g0
  | ⟨1, _⟩ => exact g1.trans r0.symm
  | ⟨2, _⟩ => exact g2.trans r1.symm

theorem block_eq (x : Vec F S8x256x1408 .bf16) (j : S256x1408.Idx) :
    k0_pay1 (View.ld x r0_0) (View.ld x r0_1) (View.ld x r0_2) (View.ld x r0_3) (View.ld x r0_4) (View.ld x r0_5) (View.ld x r0_6) (View.ld x r0_7) j
      = Step.sums (extf .f32 x bitsLt_bf16_f32) j :=
  Step.sum8_eq (congrArg _ (Step.ld_under x 0 _ _ j)) (congrArg _ (Step.ld_under x 1 _ _ j)) (congrArg _ (Step.ld_under x 2 _ _ j))
    (congrArg _ (Step.ld_under x 3 _ _ j)) (congrArg _ (Step.ld_under x 4 _ _ j)) (congrArg _ (Step.ld_under x 5 _ _ j))
    (congrArg _ (Step.ld_under x 6 _ _ j)) (congrArg _ (Step.ld_under x 7 _ _ j))

theorem zeros : (![0, 0] : Fin 2 → ℕ) = fun _ => 0 := by decide

theorem covered (i : S1024x1408.Idx) : ∃ t j, ((cfg0.win 1).blk t).view.emb j = i := by
  have h0 : (i 0).val < 1024 := (i 0).isLt
  let t : Fin cfg0.N := ⟨(i 0).val / 256, by show (i 0).val / 256 < 4; omega⟩
  let j : S256x1408.Idx := fun a => match a with
    | ⟨0, _⟩ => ⟨(i 0).val % 256, by show (i 0).val % 256 < 256; omega⟩
    | ⟨1, _⟩ => i 1
  obtain ⟨r0, r1⟩ := row_out t j
  refine ⟨t, j, funext fun a => Fin.ext ?_⟩
  match a with
  | ⟨0, _⟩ => exact r0.trans (show (i 0).val / 256 * 256 + (i 0).val % 256 = (i 0).val by omega)
  | ⟨1, _⟩ => exact r1

/-- What the sum over the rows of the input projection leaves. -/
theorem arr1 : (dats m 0 c).arrAt 1 cfg0.N = Step.sums (extf .f32 (V m c main_arg0) bitsLt_bf16_f32) :=
  Dat.arrAt_eq_of_cover _ 1 _ (fun t _ => by
    rw [Value.flushed1]
    unfold out0_1
    rw [View.canon_unit_zero zeros]
    funext j
    have h : (fun d => FloatOps.extf .f32 bitsLt_bf16_f32 (V m c main_arg0 (((cfg0.win 0).blk t).view.emb (Step.under d j))))
        = fun d => FloatOps.extf .f32 bitsLt_bf16_f32 (V m c main_arg0 (Step.under d (((cfg0.win 1).blk t).view.emb j))) :=
      funext fun d => congrArg (fun k => FloatOps.extf .f32 bitsLt_bf16_f32 (V m c main_arg0 k)) (part_in t j d)
    exact (block_eq (iblk m c 0 t) j).trans (congrArg Step.sum8 h)) fun i => by
    obtain ⟨t, j, h⟩ := covered i
    exact ⟨t, flush0_1 t, h ▸ ((cfg0.win 1).blk t).view.emb_mem_set j⟩

end Cert.SumWinIdeal.Stepped

end
-- ==== Proof.ClaimSums.lean ====
/-
  The two sums over the devices: they stay quiescent and give the sum of the reference.
-/
module

public import proofs.«01_k».proof.Defs
public import proofs.«01_k».proof.Proof.Sums
public import proofs.«01_k».proof.Proof.Gen.SumWin
public import proofs.«01_k».proof.Proof.Gen.SumWin.Frame
public import proofs.«01_k».proof.Proof.Gen.SumWinIdeal
public import proofs.«01_k».proof.Proof.Gen.SumWinIdeal.Frame
public import proofs.«01_k».proof.Proof.Gen.SumWinIdeal.Value
public import proofs.«01_k».proof.Proof.Gen.SumWinReferenceIdeal
public import proofs.«01_k».proof.Proof.Gen.SumWinReferenceIdeal.Run
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallReferenceIdeal
public import proofs.«01_k».proof.Proof.Gen.SumSmallReferenceIdeal.Run
public import Idealize.ShloMosaic.Adequacy
public import Idealize.ShloMosaic.Init

@[expose] public section

noncomputable section

namespace Cert.Proof

open Idealize.ShloMosaic Idealize.SL.Sem

theorem frame_sumWin : Cert.quiescent_SumWin := fun m ρ _ => Cert.SumWin.Gen.frame m ρ

theorem frame_sumWinIdeal : Cert.quiescent_SumWinIdeal := fun m ρ _ => Cert.SumWinIdeal.Gen.frame m ρ

theorem frame_sumWinReferenceIdeal : Cert.quiescent_SumWinReferenceIdeal := fun m ρ _ =>
  (θ_run (Cert.SumWinReferenceIdeal.defs (F := Ideal)) _ _).mono (fun r h => ⟨fun c => (h c).2, sem_eq_zero_of_no_sems (by decide) r.2⟩)
    (Cert.SumWinReferenceIdeal.Value.run (F := Ideal) m ρ)

theorem algebraic_sumWin : Cert.algebraic_SumWinIdeal_SumWinReferenceIdeal := fun m ρ m' ρ' _ hagree =>
  ⟨fun c => Step.sums (F := Ideal) (b := 1024) (c := 1408) (extf (F := Ideal) .f32 (m ((c.tc : Thread Cert.SumWinIdeal.nD Cert.SumWinIdeal.τ).loc Cert.SumWinIdeal.main_arg0)) Cert.SumWinIdeal.Gen.bitsLt_bf16_f32),
    (θ_run (Cert.SumWinIdeal.defs (F := Ideal)) _ _).mono (fun r h c => ⟨(h c).1.trans ((Cert.SumWinIdeal.Stepped.arr1 m c).trans (by rw [Cert.SumWinIdeal.Gen.V_main_arg0])), (h c).2⟩)
      (Cert.SumWinIdeal.Value.run_blocks (F := Ideal) m ρ),
    (θ_run (Cert.SumWinReferenceIdeal.defs (F := Ideal)) _ _).mono (fun r h c => by
      obtain ⟨h0, hk⟩ := h c
      rw [hagree c] at h0
      exact ⟨h0.trans (Step.reduce_eq _ _ _), hk⟩) (Cert.SumWinReferenceIdeal.Value.run (F := Ideal) m' ρ')⟩

theorem frame_sumSmall : Cert.quiescent_SumSmall := fun m ρ _ => Cert.SumSmall.Gen.frame m ρ

theorem frame_sumSmallIdeal : Cert.quiescent_SumSmallIdeal := fun m ρ _ => Cert.SumSmallIdeal.Gen.frame m ρ

theorem frame_sumSmallReferenceIdeal : Cert.quiescent_SumSmallReferenceIdeal := fun m ρ _ =>
  (θ_run (Cert.SumSmallReferenceIdeal.defs (F := Ideal)) _ _).mono (fun r h => ⟨fun c => (h c).2, sem_eq_zero_of_no_sems (by decide) r.2⟩)
    (Cert.SumSmallReferenceIdeal.Value.run (F := Ideal) m ρ)

theorem algebraic_sumSmall : Cert.algebraic_SumSmallIdeal_SumSmallReferenceIdeal := fun m ρ m' ρ' _ hagree =>
  ⟨fun c => Step.sums (F := Ideal) (b := 1296) (c := 128) (m ((c.tc : Thread Cert.SumSmallIdeal.nD Cert.SumSmallIdeal.τ).loc Cert.SumSmallIdeal.main_arg0)),
    (θ_run (Cert.SumSmallIdeal.defs (F := Ideal)) _ _).mono (fun r h c => ⟨(h c).1.trans (Cert.SumSmallIdeal.Stepped.sum_eq _), (h c).2⟩)
      (Cert.SumSmallIdeal.Value.run (F := Ideal) m ρ),
    (θ_run (Cert.SumSmallReferenceIdeal.defs (F := Ideal)) _ _).mono (fun r h c => by
      obtain ⟨h0, hk⟩ := h c
      rw [hagree c] at h0
      exact ⟨h0.trans (Step.reduce_eq _ _ _), hk⟩) (Cert.SumSmallReferenceIdeal.Value.run (F := Ideal) m' ρ')⟩

end Cert.Proof

end
-- ==== Proof.StepParts.lean ====
/-
  The AdamW calls that add up the parts of all devices in one block: what each leaves, entry by entry.
-/
module

public import proofs.«01_k».proof.Proof.Step
public import proofs.«01_k».proof.Proof.Gen.AdamwSquareIdeal.Value
public import proofs.«01_k».proof.Proof.Gen.AdamwSsmIdeal.Value

@[expose] public section

noncomputable section

open Idealize.ShloMosaic Idealize.ShloMosaic.TcCoe Idealize.SL.Sem Idealize.ShloMosaic.Pipeline

variable {F : FTy → Type} [FloatOps F]

namespace Cert.AdamwSquareIdeal.Stepped

open Cert.AdamwSquareIdeal Cert.AdamwSquareIdeal.Gen

/-- The sum over the devices, as the body adds it up. -/
theorem sum_eq (x0 : Vec F S1x128x1024 .f32) (x1 : Vec F S8x128x1024 .bf16) (x2 x3 : Vec F S1x128x1024 .f32) :
    k0_pay5 x0 x1 x2 x3 = Step.parts x1 := by
  funext j
  exact Step.sum8_eq (congrArg _ (Step.ld_part x1 0 _ j)) (congrArg _ (Step.ld_part x1 1 _ j)) (congrArg _ (Step.ld_part x1 2 _ j))
    (congrArg _ (Step.ld_part x1 3 _ j)) (congrArg _ (Step.ld_part x1 4 _ j)) (congrArg _ (Step.ld_part x1 5 _ j))
    (congrArg _ (Step.ld_part x1 6 _ j)) (congrArg _ (Step.ld_part x1 7 _ j))

/-- The change of the weight. -/
theorem delta_eq (a0 : Vec F S1x128x1024 .f32) (a1 : Vec F S8x128x1024 .bf16) (a2 a3 : Vec F S1x128x1024 .f32) :
    Value.G5 a0 a1 a2 a3 = fun i => Step.delta (a0 i) (Step.parts a1 i) (a2 i) (a3 i) := by
  show k0_pay2 (k0_pay5 a0 a1 a2 a3) (k0_pay6 a0 a1 a2 a3) a3 a0 = _
  unfold k0_pay6
  rw [View.ld_unit_zero (S := S1x128x1024) Step.zeros]
  exact congrArg (fun g => fun i => Step.delta (a0 i) (g i) (a2 i) (a3 i)) (sum_eq a0 a1 a2 a3)

/-- The new first moment. -/
theorem newM_eq (a0 : Vec F S1x128x1024 .f32) (a1 : Vec F S8x128x1024 .bf16) (a2 a3 : Vec F S1x128x1024 .f32) :
    Value.G6 a0 a1 a2 a3 = fun i => Step.newM (Step.parts a1 i) (a2 i) := by
  show k0_pay6 a0 a1 a2 a3 = _
  unfold k0_pay6
  rw [View.ld_unit_zero (S := S1x128x1024) Step.zeros]
  exact congrArg (fun g => fun i => Step.newM (g i) (a2 i)) (sum_eq a0 a1 a2 a3)

/-- The new second moment. -/
theorem newV_eq (a0 : Vec F S1x128x1024 .f32) (a1 : Vec F S8x128x1024 .bf16) (a2 a3 : Vec F S1x128x1024 .f32) :
    Value.G7 a0 a1 a2 a3 = fun i => Step.newV (Step.parts a1 i) (a3 i) := by
  show k0_pay1 (k0_pay5 a0 a1 a2 a3) a3 = _
  rw [sum_eq]
  rfl

end Cert.AdamwSquareIdeal.Stepped

namespace Cert.AdamwSsmIdeal.Stepped

open Cert.AdamwSsmIdeal Cert.AdamwSsmIdeal.Gen

/-- The sum over the devices, as the body adds it up. -/
theorem sum_eq (x0 : Vec F S1x256x1024 .f32) (x1 : Vec F S8x256x1024 .bf16) (x2 x3 : Vec F S1x256x1024 .f32) :
    k0_pay5 x0 x1 x2 x3 = Step.parts x1 := by
  funext j
  exact Step.sum8_eq (congrArg _ (Step.ld_part x1 0 _ j)) (congrArg _ (Step.ld_part x1 1 _ j)) (congrArg _ (Step.ld_part x1 2 _ j))
    (congrArg _ (Step.ld_part x1 3 _ j)) (congrArg _ (Step.ld_part x1 4 _ j)) (congrArg _ (Step.ld_part x1 5 _ j))
    (congrArg _ (Step.ld_part x1 6 _ j)) (congrArg _ (Step.ld_part x1 7 _ j))

/-- The change of the weight. -/
theorem delta_eq (a0 : Vec F S1x256x1024 .f32) (a1 : Vec F S8x256x1024 .bf16) (a2 a3 : Vec F S1x256x1024 .f32) :
    Value.G5 a0 a1 a2 a3 = fun i => Step.delta (a0 i) (Step.parts a1 i) (a2 i) (a3 i) := by
  show k0_pay2 (k0_pay5 a0 a1 a2 a3) (k0_pay6 a0 a1 a2 a3) a3 a0 = _
  unfold k0_pay6
  rw [View.ld_unit_zero (S := S1x256x1024) Step.zeros]
  exact congrArg (fun g => fun i => Step.delta (a0 i) (g i) (a2 i) (a3 i)) (sum_eq a0 a1 a2 a3)

/-- The new first moment. -/
theorem newM_eq (a0 : Vec F S1x256x1024 .f32) (a1 : Vec F S8x256x1024 .bf16) (a2 a3 : Vec F S1x256x1024 .f32) :
    Value.G6 a0 a1 a2 a3 = fun i => Step.newM (Step.parts a1 i) (a2 i) := by
  show k0_pay6 a0 a1 a2 a3 = _
  unfold k0_pay6
  rw [View.ld_unit_zero (S := S1x256x1024) Step.zeros]
  exact congrArg (fun g => fun i => Step.newM (g i) (a2 i)) (sum_eq a0 a1 a2 a3)

/-- The new second moment. -/
theorem newV_eq (a0 : Vec F S1x256x1024 .f32) (a1 : Vec F S8x256x1024 .bf16) (a2 a3 : Vec F S1x256x1024 .f32) :
    Value.G7 a0 a1 a2 a3 = fun i => Step.newV (Step.parts a1 i) (a3 i) := by
  show k0_pay1 (k0_pay5 a0 a1 a2 a3) a3 = _
  rw [sum_eq]
  rfl

end Cert.AdamwSsmIdeal.Stepped

end
-- ==== Proof.StepFeed.lean ====
/-
  The AdamW calls that add up the parts of all devices block by block: what each leaves, entry by entry.
-/
module

public import proofs.«01_k».proof.Proof.Step
public import proofs.«01_k».proof.Proof.Gen.AdamwFfOneIdeal.Value
public import proofs.«01_k».proof.Proof.Gen.AdamwFfTwoIdeal.Value

@[expose] public section

noncomputable section

open Idealize.ShloMosaic Idealize.ShloMosaic.TcCoe Idealize.SL.Sem Idealize.ShloMosaic.Pipeline

variable {F : FTy → Type} [FloatOps F]

namespace Cert.AdamwFfOneIdeal.Stepped

open Cert.AdamwFfOneIdeal Cert.AdamwFfOneIdeal.Gen

variable (m : (ℓ : Loc nD τ sig) → Buf (Elt F) ℓ) (c : Dev nD)

theorem down : Step.Down (h := 1) (b := 256) (c := 512) (b' := 1024) fun t => ((cfg0.win 4).blk t).view.emb :=
  Step.down_of (ix := win0_4.index) (by decide +kernel) fun _ _ _ => rfl

theorem down_parts : Step.Down (h := 8) (b := 256) (c := 512) (b' := 1024) fun t => ((cfg0.win 1).blk t).view.emb :=
  Step.down_of (ix := win0_1.index) (by decide +kernel) fun _ _ _ => rfl

/-- The sum over the devices, as the body adds it up. -/
theorem sum_eq (x0 : Vec F S1x256x512 .f32) (x1 : Vec F S8x256x512 .bf16) (x2 x3 : Vec F S1x256x512 .f32) :
    k0_pay5 x0 x1 x2 x3 = Step.parts x1 := by
  funext j
  exact Step.sum8_eq (congrArg _ (Step.ld_part x1 0 _ j)) (congrArg _ (Step.ld_part x1 1 _ j)) (congrArg _ (Step.ld_part x1 2 _ j))
    (congrArg _ (Step.ld_part x1 3 _ j)) (congrArg _ (Step.ld_part x1 4 _ j)) (congrArg _ (Step.ld_part x1 5 _ j))
    (congrArg _ (Step.ld_part x1 6 _ j)) (congrArg _ (Step.ld_part x1 7 _ j))

theorem block_sum (t : Fin cfg0.N) (j : S1x256x512.Idx) :
    k0_pay5 (iblk m c 0 t) (iblk m c 1 t) (iblk m c 2 t) (iblk m c 3 t) j
      = Step.parts (V m c main_arg1) (((cfg0.win 4).blk t).view.emb j) := by
  rw [sum_eq]
  exact down.parts_eq down_parts (V m c main_arg1) t j

/-- The gradient. -/
theorem arr4 : (dats m 0 c).arrAt 4 cfg0.N = Step.parts (V m c main_arg1) :=
  Dat.arrAt_eq_of_cover _ 4 _ (fun t _ => by
    rw [Value.flushed4]
    unfold out0_4
    rw [View.canon_unit_zero Step.zeros]
    funext j
    exact block_sum m c t j) fun i => by
    obtain ⟨t, j, h⟩ := down.covered rfl i
    exact ⟨t, flush0_4 t, h ▸ ((cfg0.win 4).blk t).view.emb_mem_set j⟩

/-- The change of the weight. -/
theorem arr5 : (dats m 0 c).arrAt 5 cfg0.N = fun i => Step.delta (V m c main_arg0 i) (Step.parts (V m c main_arg1) i) (V m c main_arg2 i) (V m c main_arg3 i) :=
  Dat.arrAt_eq_of_cover _ 5 _ (fun t _ => by
    rw [Value.flushed5]
    unfold out0_5
    rw [View.canon_unit_zero Step.zeros]
    funext j
    unfold k0_pay6
    rw [View.ld_unit_zero (S := S1x256x512) Step.zeros, View.ld_unit_zero (S := S1x256x512) Step.zeros, View.ld_unit_zero (S := S1x256x512) Step.zeros]
    exact congrArg (fun g => Step.delta (V m c main_arg0 _) g (V m c main_arg2 _) (V m c main_arg3 _)) (block_sum m c t j)) fun i => by
    obtain ⟨t, j, h⟩ := down.covered rfl i
    exact ⟨t, flush0_5 t, h ▸ ((cfg0.win 5).blk t).view.emb_mem_set j⟩

/-- The new first moment. -/
theorem arr6 : (dats m 0 c).arrAt 6 cfg0.N = fun i => Step.newM (Step.parts (V m c main_arg1) i) (V m c main_arg2 i) :=
  Dat.arrAt_eq_of_cover _ 6 _ (fun t _ => by
    rw [Value.flushed6]
    unfold out0_6
    rw [View.canon_unit_zero Step.zeros]
    funext j
    unfold k0_pay6
    rw [View.ld_unit_zero (S := S1x256x512) Step.zeros]
    exact congrArg (fun g => Step.newM g (V m c main_arg2 _)) (block_sum m c t j)) fun i => by
    obtain ⟨t, j, h⟩ := down.covered rfl i
    exact ⟨t, flush0_6 t, h ▸ ((cfg0.win 6).blk t).view.emb_mem_set j⟩

/-- The new second moment. -/
theorem arr7 : (dats m 0 c).arrAt 7 cfg0.N = fun i => Step.newV (Step.parts (V m c main_arg1) i) (V m c main_arg3 i) :=
  Dat.arrAt_eq_of_cover _ 7 _ (fun t _ => by
    rw [Value.flushed7]
    unfold out0_7
    rw [View.canon_unit_zero Step.zeros]
    funext j
    rw [View.ld_unit_zero (S := S1x256x512) Step.zeros]
    exact congrArg (fun g => Step.newV g (V m c main_arg3 _)) (block_sum m c t j)) fun i => by
    obtain ⟨t, j, h⟩ := down.covered rfl i
    exact ⟨t, flush0_7 t, h ▸ ((cfg0.win 7).blk t).view.emb_mem_set j⟩

end Cert.AdamwFfOneIdeal.Stepped

namespace Cert.AdamwFfTwoIdeal.Stepped

open Cert.AdamwFfTwoIdeal Cert.AdamwFfTwoIdeal.Gen

variable (m : (ℓ : Loc nD τ sig) → Buf (Elt F) ℓ) (c : Dev nD)

theorem down : Step.Down (h := 1) (b := 256) (c := 1024) (b' := 512) fun t => ((cfg0.win 4).blk t).view.emb :=
  Step.down_of (ix := win0_4.index) (by decide +kernel) fun _ _ _ => rfl

theorem down_parts : Step.Down (h := 8) (b := 256) (c := 1024) (b' := 512) fun t => ((cfg0.win 1).blk t).view.emb :=
  Step.down_of (ix := win0_1.index) (by decide +kernel) fun _ _ _ => rfl

/-- The sum over the devices, as the body adds it up. -/
theorem sum_eq (x0 : Vec F S1x256x1024 .f32) (x1 : Vec F S8x256x1024 .bf16) (x2 x3 : Vec F S1x256x1024 .f32) :
    k0_pay5 x0 x1 x2 x3 = Step.parts x1 := by
  funext j
  exact Step.sum8_eq (congrArg _ (Step.ld_part x1 0 _ j)) (congrArg _ (Step.ld_part x1 1 _ j)) (congrArg _ (Step.ld_part x1 2 _ j))
    (congrArg _ (Step.ld_part x1 3 _ j)) (congrArg _ (Step.ld_part x1 4 _ j)) (congrArg _ (Step.ld_part x1 5 _ j))
    (congrArg _ (Step.ld_part x1 6 _ j)) (congrArg _ (Step.ld_part x1 7 _ j))

theorem block_sum (t : Fin cfg0.N) (j : S1x256x1024.Idx) :
    k0_pay5 (iblk m c 0 t) (iblk m c 1 t) (iblk m c 2 t) (iblk m c 3 t) j
      = Step.parts (V m c main_arg1) (((cfg0.win 4).blk t).view.emb j) := by
  rw [sum_eq]
  exact down.parts_eq down_parts (V m c main_arg1) t j

/-- The gradient. -/
theorem arr4 : (dats m 0 c).arrAt 4 cfg0.N = Step.parts (V m c main_arg1) :=
  Dat.arrAt_eq_of_cover _ 4 _ (fun t _ => by
    rw [Value.flushed4]
    unfold out0_4
    rw [View.canon_unit_zero Step.zeros]
    funext j
    exact block_sum m c t j) fun i => by
    obtain ⟨t, j, h⟩ := down.covered rfl i
    exact ⟨t, flush0_4 t, h ▸ ((cfg0.win 4).blk t).view.emb_mem_set j⟩

/-- The change of the weight. -/
theorem arr5 : (dats m 0 c).arrAt 5 cfg0.N = fun i => Step.delta (V m c main_arg0 i) (Step.parts (V m c main_arg1) i) (V m c main_arg2 i) (V m c main_arg3 i) :=
  Dat.arrAt_eq_of_cover _ 5 _ (fun t _ => by
    rw [Value.flushed5]
    unfold out0_5
    rw [View.canon_unit_zero Step.zeros]
    funext j
    unfold k0_pay6
    rw [View.ld_unit_zero (S := S1x256x1024) Step.zeros, View.ld_unit_zero (S := S1x256x1024) Step.zeros, View.ld_unit_zero (S := S1x256x1024) Step.zeros]
    exact congrArg (fun g => Step.delta (V m c main_arg0 _) g (V m c main_arg2 _) (V m c main_arg3 _)) (block_sum m c t j)) fun i => by
    obtain ⟨t, j, h⟩ := down.covered rfl i
    exact ⟨t, flush0_5 t, h ▸ ((cfg0.win 5).blk t).view.emb_mem_set j⟩

/-- The new first moment. -/
theorem arr6 : (dats m 0 c).arrAt 6 cfg0.N = fun i => Step.newM (Step.parts (V m c main_arg1) i) (V m c main_arg2 i) :=
  Dat.arrAt_eq_of_cover _ 6 _ (fun t _ => by
    rw [Value.flushed6]
    unfold out0_6
    rw [View.canon_unit_zero Step.zeros]
    funext j
    unfold k0_pay6
    rw [View.ld_unit_zero (S := S1x256x1024) Step.zeros]
    exact congrArg (fun g => Step.newM g (V m c main_arg2 _)) (block_sum m c t j)) fun i => by
    obtain ⟨t, j, h⟩ := down.covered rfl i
    exact ⟨t, flush0_6 t, h ▸ ((cfg0.win 6).blk t).view.emb_mem_set j⟩

/-- The new second moment. -/
theorem arr7 : (dats m 0 c).arrAt 7 cfg0.N = fun i => Step.newV (Step.parts (V m c main_arg1) i) (V m c main_arg3 i) :=
  Dat.arrAt_eq_of_cover _ 7 _ (fun t _ => by
    rw [Value.flushed7]
    unfold out0_7
    rw [View.canon_unit_zero Step.zeros]
    funext j
    rw [View.ld_unit_zero (S := S1x256x1024) Step.zeros]
    exact congrArg (fun g => Step.newV g (V m c main_arg3 _)) (block_sum m c t j)) fun i => by
    obtain ⟨t, j, h⟩ := down.covered rfl i
    exact ⟨t, flush0_7 t, h ▸ ((cfg0.win 7).blk t).view.emb_mem_set j⟩

end Cert.AdamwFfTwoIdeal.Stepped

end
-- ==== Proof.ClaimParts.lean ====
/-
  The AdamW steps that add up the parts: they stay quiescent and give the results of the reference.
-/
module

public import proofs.«01_k».proof.Defs
public import proofs.«01_k».proof.Proof.StepParts
public import proofs.«01_k».proof.Proof.StepFeed
public import proofs.«01_k».proof.Proof.Gen.AdamwSquare
public import proofs.«01_k».proof.Proof.Gen.AdamwSquare.Frame
public import proofs.«01_k».proof.Proof.Gen.AdamwSquareIdeal
public import proofs.«01_k».proof.Proof.Gen.AdamwSquareIdeal.Frame
public import proofs.«01_k».proof.Proof.Gen.AdamwSquareIdeal.Value
public import proofs.«01_k».proof.Proof.Gen.AdamwSquareReferenceIdeal
public import proofs.«01_k».proof.Proof.Gen.AdamwSquareReferenceIdeal.Run
public import proofs.«01_k».proof.Proof.Gen.AdamwSsm
public import proofs.«01_k».proof.Proof.Gen.AdamwSsm.Frame
public import proofs.«01_k».proof.Proof.Gen.AdamwSsmIdeal
public import proofs.«01_k».proof.Proof.Gen.AdamwSsmIdeal.Frame
public import proofs.«01_k».proof.Proof.Gen.AdamwSsmIdeal.Value
public import proofs.«01_k».proof.Proof.Gen.AdamwSsmReferenceIdeal
public import proofs.«01_k».proof.Proof.Gen.AdamwSsmReferenceIdeal.Run
public import proofs.«01_k».proof.Proof.Gen.AdamwFfOne
public import proofs.«01_k».proof.Proof.Gen.AdamwFfOne.Frame
public import proofs.«01_k».proof.Proof.Gen.AdamwFfOneIdeal
public import proofs.«01_k».proof.Proof.Gen.AdamwFfOneIdeal.Frame
public import proofs.«01_k».proof.Proof.Gen.AdamwFfOneIdeal.Value
public import proofs.«01_k».proof.Proof.Gen.AdamwFfOneReferenceIdeal
public import proofs.«01_k».proof.Proof.Gen.AdamwFfOneReferenceIdeal.Run
public import proofs.«01_k».proof.Proof.Gen.AdamwFfTwo
public import proofs.«01_k».proof.Proof.Gen.AdamwFfTwo.Frame
public import proofs.«01_k».proof.Proof.Gen.AdamwFfTwoIdeal
public import proofs.«01_k».proof.Proof.Gen.AdamwFfTwoIdeal.Frame
public import proofs.«01_k».proof.Proof.Gen.AdamwFfTwoIdeal.Value
public import proofs.«01_k».proof.Proof.Gen.AdamwFfTwoReferenceIdeal
public import proofs.«01_k».proof.Proof.Gen.AdamwFfTwoReferenceIdeal.Run
public import Idealize.ShloMosaic.Adequacy
public import Idealize.ShloMosaic.Init

@[expose] public section

noncomputable section

namespace Cert.Proof

open Idealize.ShloMosaic Idealize.SL.Sem

theorem frame_adamwSquare : Cert.quiescent_AdamwSquare := fun m ρ _ => Cert.AdamwSquare.Gen.frame m ρ

theorem frame_adamwSquareIdeal : Cert.quiescent_AdamwSquareIdeal := fun m ρ _ => Cert.AdamwSquareIdeal.Gen.frame m ρ

theorem frame_adamwSquareReferenceIdeal : Cert.quiescent_AdamwSquareReferenceIdeal := fun m ρ _ =>
  (θ_run (Cert.AdamwSquareReferenceIdeal.defs (F := Ideal)) _ _).mono (fun r h => ⟨fun c => (h c).2.2.2.2, sem_eq_zero_of_no_sems (by decide) r.2⟩)
    (Cert.AdamwSquareReferenceIdeal.Value.run (F := Ideal) m ρ)

theorem algebraic_adamwSquare : Cert.algebraic_AdamwSquareIdeal_AdamwSquareReferenceIdeal := fun m ρ m' ρ' _ hagree =>
  ⟨fun c => Step.parts (F := Ideal) (b := 128) (c := 1024) (m ((c.tc : Thread Cert.AdamwSquareIdeal.nD Cert.AdamwSquareIdeal.τ).loc Cert.AdamwSquareIdeal.main_arg1)),
    fun c => fun i => Step.delta (F := Ideal) (m ((c.tc : Thread Cert.AdamwSquareIdeal.nD Cert.AdamwSquareIdeal.τ).loc Cert.AdamwSquareIdeal.main_arg0) i) (Step.parts (F := Ideal) (b := 128) (c := 1024) (m ((c.tc : Thread Cert.AdamwSquareIdeal.nD Cert.AdamwSquareIdeal.τ).loc Cert.AdamwSquareIdeal.main_arg1)) i) (m ((c.tc : Thread Cert.AdamwSquareIdeal.nD Cert.AdamwSquareIdeal.τ).loc Cert.AdamwSquareIdeal.main_arg2) i) (m ((c.tc : Thread Cert.AdamwSquareIdeal.nD Cert.AdamwSquareIdeal.τ).loc Cert.AdamwSquareIdeal.main_arg3) i),
    fun c => fun i => Step.newM (F := Ideal) (Step.parts (F := Ideal) (b := 128) (c := 1024) (m ((c.tc : Thread Cert.AdamwSquareIdeal.nD Cert.AdamwSquareIdeal.τ).loc Cert.AdamwSquareIdeal.main_arg1)) i) (m ((c.tc : Thread Cert.AdamwSquareIdeal.nD Cert.AdamwSquareIdeal.τ).loc Cert.AdamwSquareIdeal.main_arg2) i),
    fun c => fun i => Step.newV (F := Ideal) (Step.parts (F := Ideal) (b := 128) (c := 1024) (m ((c.tc : Thread Cert.AdamwSquareIdeal.nD Cert.AdamwSquareIdeal.τ).loc Cert.AdamwSquareIdeal.main_arg1)) i) (m ((c.tc : Thread Cert.AdamwSquareIdeal.nD Cert.AdamwSquareIdeal.τ).loc Cert.AdamwSquareIdeal.main_arg3) i),
    (θ_run (Cert.AdamwSquareIdeal.defs (F := Ideal)) _ _).mono (fun r h c => by
      obtain ⟨h0, h1, h2, h3, hk⟩ := h c
      exact ⟨h0.trans (Cert.AdamwSquareIdeal.Stepped.sum_eq _ _ _ _), h1.trans (Cert.AdamwSquareIdeal.Stepped.delta_eq _ _ _ _),
        h2.trans (Cert.AdamwSquareIdeal.Stepped.newM_eq _ _ _ _), h3.trans (Cert.AdamwSquareIdeal.Stepped.newV_eq _ _ _ _), hk⟩) (Cert.AdamwSquareIdeal.Value.run (F := Ideal) m ρ),
    (θ_run (Cert.AdamwSquareReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      have q : shapeCast Cert.AdamwSquareReferenceIdeal.S1x128x1024 (Host.reduceAdd (extf (F := Ideal) .f32 (m ((c.tc : Thread Cert.AdamwSquareIdeal.nD Cert.AdamwSquareIdeal.τ).loc Cert.AdamwSquareIdeal.main_arg1)) Cert.AdamwSquareReferenceIdeal.Gen.bitsLt_bf16_f32) (constant Cert.AdamwSquareReferenceIdeal.S_ .f32 0x00000000#32)
          Cert.AdamwSquareReferenceIdeal.Gen.reducesTo_S8x128x1024_S128x1024_d0 Cert.AdamwSquareReferenceIdeal.Gen.h_S_) Cert.AdamwSquareReferenceIdeal.Gen.shapeCasts_S128x1024_S1x128x1024 = Step.parts (F := Ideal) (b := 128) (c := 1024) (m ((c.tc : Thread Cert.AdamwSquareIdeal.nD Cert.AdamwSquareIdeal.τ).loc Cert.AdamwSquareIdeal.main_arg1)) :=
        Step.reduce_parts _ _ _ _ _
      rw [q] at h0 h1 h2 h3
      exact ⟨h0, h1, h2, h3, hk⟩) (Cert.AdamwSquareReferenceIdeal.Value.run (F := Ideal) m' ρ')⟩

theorem frame_adamwSsm : Cert.quiescent_AdamwSsm := fun m ρ _ => Cert.AdamwSsm.Gen.frame m ρ

theorem frame_adamwSsmIdeal : Cert.quiescent_AdamwSsmIdeal := fun m ρ _ => Cert.AdamwSsmIdeal.Gen.frame m ρ

theorem frame_adamwSsmReferenceIdeal : Cert.quiescent_AdamwSsmReferenceIdeal := fun m ρ _ =>
  (θ_run (Cert.AdamwSsmReferenceIdeal.defs (F := Ideal)) _ _).mono (fun r h => ⟨fun c => (h c).2.2.2.2, sem_eq_zero_of_no_sems (by decide) r.2⟩)
    (Cert.AdamwSsmReferenceIdeal.Value.run (F := Ideal) m ρ)

theorem algebraic_adamwSsm : Cert.algebraic_AdamwSsmIdeal_AdamwSsmReferenceIdeal := fun m ρ m' ρ' _ hagree =>
  ⟨fun c => Step.parts (F := Ideal) (b := 256) (c := 1024) (m ((c.tc : Thread Cert.AdamwSsmIdeal.nD Cert.AdamwSsmIdeal.τ).loc Cert.AdamwSsmIdeal.main_arg1)),
    fun c => fun i => Step.delta (F := Ideal) (m ((c.tc : Thread Cert.AdamwSsmIdeal.nD Cert.AdamwSsmIdeal.τ).loc Cert.AdamwSsmIdeal.main_arg0) i) (Step.parts (F := Ideal) (b := 256) (c := 1024) (m ((c.tc : Thread Cert.AdamwSsmIdeal.nD Cert.AdamwSsmIdeal.τ).loc Cert.AdamwSsmIdeal.main_arg1)) i) (m ((c.tc : Thread Cert.AdamwSsmIdeal.nD Cert.AdamwSsmIdeal.τ).loc Cert.AdamwSsmIdeal.main_arg2) i) (m ((c.tc : Thread Cert.AdamwSsmIdeal.nD Cert.AdamwSsmIdeal.τ).loc Cert.AdamwSsmIdeal.main_arg3) i),
    fun c => fun i => Step.newM (F := Ideal) (Step.parts (F := Ideal) (b := 256) (c := 1024) (m ((c.tc : Thread Cert.AdamwSsmIdeal.nD Cert.AdamwSsmIdeal.τ).loc Cert.AdamwSsmIdeal.main_arg1)) i) (m ((c.tc : Thread Cert.AdamwSsmIdeal.nD Cert.AdamwSsmIdeal.τ).loc Cert.AdamwSsmIdeal.main_arg2) i),
    fun c => fun i => Step.newV (F := Ideal) (Step.parts (F := Ideal) (b := 256) (c := 1024) (m ((c.tc : Thread Cert.AdamwSsmIdeal.nD Cert.AdamwSsmIdeal.τ).loc Cert.AdamwSsmIdeal.main_arg1)) i) (m ((c.tc : Thread Cert.AdamwSsmIdeal.nD Cert.AdamwSsmIdeal.τ).loc Cert.AdamwSsmIdeal.main_arg3) i),
    (θ_run (Cert.AdamwSsmIdeal.defs (F := Ideal)) _ _).mono (fun r h c => by
      obtain ⟨h0, h1, h2, h3, hk⟩ := h c
      exact ⟨h0.trans (Cert.AdamwSsmIdeal.Stepped.sum_eq _ _ _ _), h1.trans (Cert.AdamwSsmIdeal.Stepped.delta_eq _ _ _ _),
        h2.trans (Cert.AdamwSsmIdeal.Stepped.newM_eq _ _ _ _), h3.trans (Cert.AdamwSsmIdeal.Stepped.newV_eq _ _ _ _), hk⟩) (Cert.AdamwSsmIdeal.Value.run (F := Ideal) m ρ),
    (θ_run (Cert.AdamwSsmReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      have q : shapeCast Cert.AdamwSsmReferenceIdeal.S1x256x1024 (Host.reduceAdd (extf (F := Ideal) .f32 (m ((c.tc : Thread Cert.AdamwSsmIdeal.nD Cert.AdamwSsmIdeal.τ).loc Cert.AdamwSsmIdeal.main_arg1)) Cert.AdamwSsmReferenceIdeal.Gen.bitsLt_bf16_f32) (constant Cert.AdamwSsmReferenceIdeal.S_ .f32 0x00000000#32)
          Cert.AdamwSsmReferenceIdeal.Gen.reducesTo_S8x256x1024_S256x1024_d0 Cert.AdamwSsmReferenceIdeal.Gen.h_S_) Cert.AdamwSsmReferenceIdeal.Gen.shapeCasts_S256x1024_S1x256x1024 = Step.parts (F := Ideal) (b := 256) (c := 1024) (m ((c.tc : Thread Cert.AdamwSsmIdeal.nD Cert.AdamwSsmIdeal.τ).loc Cert.AdamwSsmIdeal.main_arg1)) :=
        Step.reduce_parts _ _ _ _ _
      rw [q] at h0 h1 h2 h3
      exact ⟨h0, h1, h2, h3, hk⟩) (Cert.AdamwSsmReferenceIdeal.Value.run (F := Ideal) m' ρ')⟩

theorem frame_adamwFfOne : Cert.quiescent_AdamwFfOne := fun m ρ _ => Cert.AdamwFfOne.Gen.frame m ρ

theorem frame_adamwFfOneIdeal : Cert.quiescent_AdamwFfOneIdeal := fun m ρ _ => Cert.AdamwFfOneIdeal.Gen.frame m ρ

theorem frame_adamwFfOneReferenceIdeal : Cert.quiescent_AdamwFfOneReferenceIdeal := fun m ρ _ =>
  (θ_run (Cert.AdamwFfOneReferenceIdeal.defs (F := Ideal)) _ _).mono (fun r h => ⟨fun c => (h c).2.2.2.2, sem_eq_zero_of_no_sems (by decide) r.2⟩)
    (Cert.AdamwFfOneReferenceIdeal.Value.run (F := Ideal) m ρ)

theorem algebraic_adamwFfOne : Cert.algebraic_AdamwFfOneIdeal_AdamwFfOneReferenceIdeal := fun m ρ m' ρ' _ hagree =>
  ⟨fun c => Step.parts (F := Ideal) (b := 1024) (c := 512) (m ((c.tc : Thread Cert.AdamwFfOneIdeal.nD Cert.AdamwFfOneIdeal.τ).loc Cert.AdamwFfOneIdeal.main_arg1)),
    fun c => fun i => Step.delta (F := Ideal) (m ((c.tc : Thread Cert.AdamwFfOneIdeal.nD Cert.AdamwFfOneIdeal.τ).loc Cert.AdamwFfOneIdeal.main_arg0) i) (Step.parts (F := Ideal) (b := 1024) (c := 512) (m ((c.tc : Thread Cert.AdamwFfOneIdeal.nD Cert.AdamwFfOneIdeal.τ).loc Cert.AdamwFfOneIdeal.main_arg1)) i) (m ((c.tc : Thread Cert.AdamwFfOneIdeal.nD Cert.AdamwFfOneIdeal.τ).loc Cert.AdamwFfOneIdeal.main_arg2) i) (m ((c.tc : Thread Cert.AdamwFfOneIdeal.nD Cert.AdamwFfOneIdeal.τ).loc Cert.AdamwFfOneIdeal.main_arg3) i),
    fun c => fun i => Step.newM (F := Ideal) (Step.parts (F := Ideal) (b := 1024) (c := 512) (m ((c.tc : Thread Cert.AdamwFfOneIdeal.nD Cert.AdamwFfOneIdeal.τ).loc Cert.AdamwFfOneIdeal.main_arg1)) i) (m ((c.tc : Thread Cert.AdamwFfOneIdeal.nD Cert.AdamwFfOneIdeal.τ).loc Cert.AdamwFfOneIdeal.main_arg2) i),
    fun c => fun i => Step.newV (F := Ideal) (Step.parts (F := Ideal) (b := 1024) (c := 512) (m ((c.tc : Thread Cert.AdamwFfOneIdeal.nD Cert.AdamwFfOneIdeal.τ).loc Cert.AdamwFfOneIdeal.main_arg1)) i) (m ((c.tc : Thread Cert.AdamwFfOneIdeal.nD Cert.AdamwFfOneIdeal.τ).loc Cert.AdamwFfOneIdeal.main_arg3) i),
    (θ_run (Cert.AdamwFfOneIdeal.defs (F := Ideal)) _ _).mono (fun r h c => by
      obtain ⟨h0, h1, h2, h3, hk⟩ := h c
      exact ⟨h0.trans ((Cert.AdamwFfOneIdeal.Stepped.arr4 m c).trans (by rw [Cert.AdamwFfOneIdeal.Gen.V_main_arg1])),
        h1.trans ((Cert.AdamwFfOneIdeal.Stepped.arr5 m c).trans (by rw [Cert.AdamwFfOneIdeal.Gen.V_main_arg0, Cert.AdamwFfOneIdeal.Gen.V_main_arg1, Cert.AdamwFfOneIdeal.Gen.V_main_arg2, Cert.AdamwFfOneIdeal.Gen.V_main_arg3]; rfl)),
        h2.trans ((Cert.AdamwFfOneIdeal.Stepped.arr6 m c).trans (by rw [Cert.AdamwFfOneIdeal.Gen.V_main_arg1, Cert.AdamwFfOneIdeal.Gen.V_main_arg2]; rfl)),
        h3.trans ((Cert.AdamwFfOneIdeal.Stepped.arr7 m c).trans (by rw [Cert.AdamwFfOneIdeal.Gen.V_main_arg1, Cert.AdamwFfOneIdeal.Gen.V_main_arg3]; rfl)), hk⟩) (Cert.AdamwFfOneIdeal.Value.run_blocks (F := Ideal) m ρ),
    (θ_run (Cert.AdamwFfOneReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      have q : shapeCast Cert.AdamwFfOneReferenceIdeal.S1x1024x512 (Host.reduceAdd (extf (F := Ideal) .f32 (m ((c.tc : Thread Cert.AdamwFfOneIdeal.nD Cert.AdamwFfOneIdeal.τ).loc Cert.AdamwFfOneIdeal.main_arg1)) Cert.AdamwFfOneReferenceIdeal.Gen.bitsLt_bf16_f32) (constant Cert.AdamwFfOneReferenceIdeal.S_ .f32 0x00000000#32)
          Cert.AdamwFfOneReferenceIdeal.Gen.reducesTo_S8x1024x512_S1024x512_d0 Cert.AdamwFfOneReferenceIdeal.Gen.h_S_) Cert.AdamwFfOneReferenceIdeal.Gen.shapeCasts_S1024x512_S1x1024x512 = Step.parts (F := Ideal) (b := 1024) (c := 512) (m ((c.tc : Thread Cert.AdamwFfOneIdeal.nD Cert.AdamwFfOneIdeal.τ).loc Cert.AdamwFfOneIdeal.main_arg1)) :=
        Step.reduce_parts _ _ _ _ _
      rw [q] at h0 h1 h2 h3
      exact ⟨h0, h1, h2, h3, hk⟩) (Cert.AdamwFfOneReferenceIdeal.Value.run (F := Ideal) m' ρ')⟩

theorem frame_adamwFfTwo : Cert.quiescent_AdamwFfTwo := fun m ρ _ => Cert.AdamwFfTwo.Gen.frame m ρ

theorem frame_adamwFfTwoIdeal : Cert.quiescent_AdamwFfTwoIdeal := fun m ρ _ => Cert.AdamwFfTwoIdeal.Gen.frame m ρ

theorem frame_adamwFfTwoReferenceIdeal : Cert.quiescent_AdamwFfTwoReferenceIdeal := fun m ρ _ =>
  (θ_run (Cert.AdamwFfTwoReferenceIdeal.defs (F := Ideal)) _ _).mono (fun r h => ⟨fun c => (h c).2.2.2.2, sem_eq_zero_of_no_sems (by decide) r.2⟩)
    (Cert.AdamwFfTwoReferenceIdeal.Value.run (F := Ideal) m ρ)

theorem algebraic_adamwFfTwo : Cert.algebraic_AdamwFfTwoIdeal_AdamwFfTwoReferenceIdeal := fun m ρ m' ρ' _ hagree =>
  ⟨fun c => Step.parts (F := Ideal) (b := 512) (c := 1024) (m ((c.tc : Thread Cert.AdamwFfTwoIdeal.nD Cert.AdamwFfTwoIdeal.τ).loc Cert.AdamwFfTwoIdeal.main_arg1)),
    fun c => fun i => Step.delta (F := Ideal) (m ((c.tc : Thread Cert.AdamwFfTwoIdeal.nD Cert.AdamwFfTwoIdeal.τ).loc Cert.AdamwFfTwoIdeal.main_arg0) i) (Step.parts (F := Ideal) (b := 512) (c := 1024) (m ((c.tc : Thread Cert.AdamwFfTwoIdeal.nD Cert.AdamwFfTwoIdeal.τ).loc Cert.AdamwFfTwoIdeal.main_arg1)) i) (m ((c.tc : Thread Cert.AdamwFfTwoIdeal.nD Cert.AdamwFfTwoIdeal.τ).loc Cert.AdamwFfTwoIdeal.main_arg2) i) (m ((c.tc : Thread Cert.AdamwFfTwoIdeal.nD Cert.AdamwFfTwoIdeal.τ).loc Cert.AdamwFfTwoIdeal.main_arg3) i),
    fun c => fun i => Step.newM (F := Ideal) (Step.parts (F := Ideal) (b := 512) (c := 1024) (m ((c.tc : Thread Cert.AdamwFfTwoIdeal.nD Cert.AdamwFfTwoIdeal.τ).loc Cert.AdamwFfTwoIdeal.main_arg1)) i) (m ((c.tc : Thread Cert.AdamwFfTwoIdeal.nD Cert.AdamwFfTwoIdeal.τ).loc Cert.AdamwFfTwoIdeal.main_arg2) i),
    fun c => fun i => Step.newV (F := Ideal) (Step.parts (F := Ideal) (b := 512) (c := 1024) (m ((c.tc : Thread Cert.AdamwFfTwoIdeal.nD Cert.AdamwFfTwoIdeal.τ).loc Cert.AdamwFfTwoIdeal.main_arg1)) i) (m ((c.tc : Thread Cert.AdamwFfTwoIdeal.nD Cert.AdamwFfTwoIdeal.τ).loc Cert.AdamwFfTwoIdeal.main_arg3) i),
    (θ_run (Cert.AdamwFfTwoIdeal.defs (F := Ideal)) _ _).mono (fun r h c => by
      obtain ⟨h0, h1, h2, h3, hk⟩ := h c
      exact ⟨h0.trans ((Cert.AdamwFfTwoIdeal.Stepped.arr4 m c).trans (by rw [Cert.AdamwFfTwoIdeal.Gen.V_main_arg1])),
        h1.trans ((Cert.AdamwFfTwoIdeal.Stepped.arr5 m c).trans (by rw [Cert.AdamwFfTwoIdeal.Gen.V_main_arg0, Cert.AdamwFfTwoIdeal.Gen.V_main_arg1, Cert.AdamwFfTwoIdeal.Gen.V_main_arg2, Cert.AdamwFfTwoIdeal.Gen.V_main_arg3]; rfl)),
        h2.trans ((Cert.AdamwFfTwoIdeal.Stepped.arr6 m c).trans (by rw [Cert.AdamwFfTwoIdeal.Gen.V_main_arg1, Cert.AdamwFfTwoIdeal.Gen.V_main_arg2]; rfl)),
        h3.trans ((Cert.AdamwFfTwoIdeal.Stepped.arr7 m c).trans (by rw [Cert.AdamwFfTwoIdeal.Gen.V_main_arg1, Cert.AdamwFfTwoIdeal.Gen.V_main_arg3]; rfl)), hk⟩) (Cert.AdamwFfTwoIdeal.Value.run_blocks (F := Ideal) m ρ),
    (θ_run (Cert.AdamwFfTwoReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      have q : shapeCast Cert.AdamwFfTwoReferenceIdeal.S1x512x1024 (Host.reduceAdd (extf (F := Ideal) .f32 (m ((c.tc : Thread Cert.AdamwFfTwoIdeal.nD Cert.AdamwFfTwoIdeal.τ).loc Cert.AdamwFfTwoIdeal.main_arg1)) Cert.AdamwFfTwoReferenceIdeal.Gen.bitsLt_bf16_f32) (constant Cert.AdamwFfTwoReferenceIdeal.S_ .f32 0x00000000#32)
          Cert.AdamwFfTwoReferenceIdeal.Gen.reducesTo_S8x512x1024_S512x1024_d0 Cert.AdamwFfTwoReferenceIdeal.Gen.h_S_) Cert.AdamwFfTwoReferenceIdeal.Gen.shapeCasts_S512x1024_S1x512x1024 = Step.parts (F := Ideal) (b := 512) (c := 1024) (m ((c.tc : Thread Cert.AdamwFfTwoIdeal.nD Cert.AdamwFfTwoIdeal.τ).loc Cert.AdamwFfTwoIdeal.main_arg1)) :=
        Step.reduce_parts _ _ _ _ _
      rw [q] at h0 h1 h2 h3
      exact ⟨h0, h1, h2, h3, hk⟩) (Cert.AdamwFfTwoReferenceIdeal.Value.run (F := Ideal) m' ρ')⟩

end Cert.Proof

end
-- ==== Proof.StepRows.lean ====
/-
  The AdamW calls that go through a summed gradient block by block: what each leaves, entry by entry.
-/
module

public import proofs.«01_k».proof.Proof.Step
public import proofs.«01_k».proof.Proof.Gen.AdamwWModIdeal.Value
public import proofs.«01_k».proof.Proof.Gen.AdamwWInIdeal.Value

@[expose] public section

noncomputable section

open Idealize.ShloMosaic Idealize.ShloMosaic.TcCoe Idealize.SL.Sem Idealize.ShloMosaic.Pipeline

variable {F : FTy → Type} [FloatOps F]

namespace Cert.AdamwWModIdeal.Stepped

open Cert.AdamwWModIdeal Cert.AdamwWModIdeal.Gen

variable (m : (ℓ : Loc nD τ sig) → Buf (Elt F) ℓ) (c : Dev nD)

theorem down : Step.Down (h := 1) (b := 256) (c := 768) (b' := 1024) fun t => ((cfg0.win 4).blk t).view.emb :=
  Step.down_of (ix := win0_4.index) (by decide +kernel) fun _ _ _ => rfl

/-- The gradient. -/
theorem arr4 : (dats m 0 c).arrAt 4 cfg0.N = V m c main_arg1 :=
  Dat.arrAt_eq_of_cover _ 4 _ (fun t _ => by
    rw [Value.flushed4]
    unfold out0_4
    rw [View.canon_unit_zero Step.zeros]
    funext j
    rw [View.ld_unit_zero (S := S1x256x768) Step.zeros]
    exact rfl) fun i => by
    obtain ⟨t, j, h⟩ := down.covered rfl i
    exact ⟨t, flush0_4 t, h ▸ ((cfg0.win 4).blk t).view.emb_mem_set j⟩

/-- The change of the weight. -/
theorem arr5 : (dats m 0 c).arrAt 5 cfg0.N = fun i => Step.delta (V m c main_arg0 i) (V m c main_arg1 i) (V m c main_arg2 i) (V m c main_arg3 i) :=
  Dat.arrAt_eq_of_cover _ 5 _ (fun t _ => by
    rw [Value.flushed5]
    unfold out0_5
    rw [View.canon_unit_zero Step.zeros]
    funext j
    rw [View.ld_unit_zero (S := S1x256x768) Step.zeros, View.ld_unit_zero (S := S1x256x768) Step.zeros, View.ld_unit_zero (S := S1x256x768) Step.zeros, View.ld_unit_zero (S := S1x256x768) Step.zeros]
    exact rfl) fun i => by
    obtain ⟨t, j, h⟩ := down.covered rfl i
    exact ⟨t, flush0_5 t, h ▸ ((cfg0.win 5).blk t).view.emb_mem_set j⟩

/-- The new first moment. -/
theorem arr6 : (dats m 0 c).arrAt 6 cfg0.N = fun i => Step.newM (V m c main_arg1 i) (V m c main_arg2 i) :=
  Dat.arrAt_eq_of_cover _ 6 _ (fun t _ => by
    rw [Value.flushed6]
    unfold out0_6
    rw [View.canon_unit_zero Step.zeros]
    funext j
    rw [View.ld_unit_zero (S := S1x256x768) Step.zeros, View.ld_unit_zero (S := S1x256x768) Step.zeros]
    exact rfl) fun i => by
    obtain ⟨t, j, h⟩ := down.covered rfl i
    exact ⟨t, flush0_6 t, h ▸ ((cfg0.win 6).blk t).view.emb_mem_set j⟩

/-- The new second moment. -/
theorem arr7 : (dats m 0 c).arrAt 7 cfg0.N = fun i => Step.newV (V m c main_arg1 i) (V m c main_arg3 i) :=
  Dat.arrAt_eq_of_cover _ 7 _ (fun t _ => by
    rw [Value.flushed7]
    unfold out0_7
    rw [View.canon_unit_zero Step.zeros]
    funext j
    rw [View.ld_unit_zero (S := S1x256x768) Step.zeros, View.ld_unit_zero (S := S1x256x768) Step.zeros]
    exact rfl) fun i => by
    obtain ⟨t, j, h⟩ := down.covered rfl i
    exact ⟨t, flush0_7 t, h ▸ ((cfg0.win 7).blk t).view.emb_mem_set j⟩

end Cert.AdamwWModIdeal.Stepped

namespace Cert.AdamwWInIdeal.Stepped

open Cert.AdamwWInIdeal Cert.AdamwWInIdeal.Gen

variable (m : (ℓ : Loc nD τ sig) → Buf (Elt F) ℓ) (c : Dev nD)

theorem down : Step.Down (h := 1) (b := 256) (c := 1284) (b' := 1024) fun t => ((cfg0.win 4).blk t).view.emb :=
  Step.down_of (ix := win0_4.index) (by decide +kernel) fun _ _ _ => rfl

/-- The gradient. -/
theorem arr4 : (dats m 0 c).arrAt 4 cfg0.N = V m c main_arg1 :=
  Dat.arrAt_eq_of_cover _ 4 _ (fun t _ => by
    rw [Value.flushed4]
    unfold out0_4
    rw [View.canon_unit_zero Step.zeros]
    funext j
    rw [View.ld_unit_zero (S := S1x256x1284) Step.zeros]
    exact rfl) fun i => by
    obtain ⟨t, j, h⟩ := down.covered rfl i
    exact ⟨t, flush0_4 t, h ▸ ((cfg0.win 4).blk t).view.emb_mem_set j⟩

/-- The change of the weight. -/
theorem arr5 : (dats m 0 c).arrAt 5 cfg0.N = fun i => Step.delta (V m c main_arg0 i) (V m c main_arg1 i) (V m c main_arg2 i) (V m c main_arg3 i) :=
  Dat.arrAt_eq_of_cover _ 5 _ (fun t _ => by
    rw [Value.flushed5]
    unfold out0_5
    rw [View.canon_unit_zero Step.zeros]
    funext j
    rw [View.ld_unit_zero (S := S1x256x1284) Step.zeros, View.ld_unit_zero (S := S1x256x1284) Step.zeros, View.ld_unit_zero (S := S1x256x1284) Step.zeros, View.ld_unit_zero (S := S1x256x1284) Step.zeros]
    exact rfl) fun i => by
    obtain ⟨t, j, h⟩ := down.covered rfl i
    exact ⟨t, flush0_5 t, h ▸ ((cfg0.win 5).blk t).view.emb_mem_set j⟩

/-- The new first moment. -/
theorem arr6 : (dats m 0 c).arrAt 6 cfg0.N = fun i => Step.newM (V m c main_arg1 i) (V m c main_arg2 i) :=
  Dat.arrAt_eq_of_cover _ 6 _ (fun t _ => by
    rw [Value.flushed6]
    unfold out0_6
    rw [View.canon_unit_zero Step.zeros]
    funext j
    rw [View.ld_unit_zero (S := S1x256x1284) Step.zeros, View.ld_unit_zero (S := S1x256x1284) Step.zeros]
    exact rfl) fun i => by
    obtain ⟨t, j, h⟩ := down.covered rfl i
    exact ⟨t, flush0_6 t, h ▸ ((cfg0.win 6).blk t).view.emb_mem_set j⟩

/-- The new second moment. -/
theorem arr7 : (dats m 0 c).arrAt 7 cfg0.N = fun i => Step.newV (V m c main_arg1 i) (V m c main_arg3 i) :=
  Dat.arrAt_eq_of_cover _ 7 _ (fun t _ => by
    rw [Value.flushed7]
    unfold out0_7
    rw [View.canon_unit_zero Step.zeros]
    funext j
    rw [View.ld_unit_zero (S := S1x256x1284) Step.zeros, View.ld_unit_zero (S := S1x256x1284) Step.zeros]
    exact rfl) fun i => by
    obtain ⟨t, j, h⟩ := down.covered rfl i
    exact ⟨t, flush0_7 t, h ▸ ((cfg0.win 7).blk t).view.emb_mem_set j⟩

end Cert.AdamwWInIdeal.Stepped

end
-- ==== Proof.ClaimRows.lean ====
/-
  The AdamW steps on the two large summed gradients: they stay quiescent and give the results of the reference.
-/
module

public import proofs.«01_k».proof.Defs
public import proofs.«01_k».proof.Proof.StepRows
public import proofs.«01_k».proof.Proof.Gen.AdamwWMod
public import proofs.«01_k».proof.Proof.Gen.AdamwWMod.Frame
public import proofs.«01_k».proof.Proof.Gen.AdamwWModIdeal
public import proofs.«01_k».proof.Proof.Gen.AdamwWModIdeal.Frame
public import proofs.«01_k».proof.Proof.Gen.AdamwWModIdeal.Value
public import proofs.«01_k».proof.Proof.Gen.AdamwWModReferenceIdeal
public import proofs.«01_k».proof.Proof.Gen.AdamwWModReferenceIdeal.Run
public import proofs.«01_k».proof.Proof.Gen.AdamwWIn
public import proofs.«01_k».proof.Proof.Gen.AdamwWIn.Frame
public import proofs.«01_k».proof.Proof.Gen.AdamwWInIdeal
public import proofs.«01_k».proof.Proof.Gen.AdamwWInIdeal.Frame
public import proofs.«01_k».proof.Proof.Gen.AdamwWInIdeal.Value
public import proofs.«01_k».proof.Proof.Gen.AdamwWInReferenceIdeal
public import proofs.«01_k».proof.Proof.Gen.AdamwWInReferenceIdeal.Run
public import Idealize.ShloMosaic.Adequacy
public import Idealize.ShloMosaic.Init

@[expose] public section

noncomputable section

namespace Cert.Proof

open Idealize.ShloMosaic Idealize.SL.Sem

theorem frame_adamwWMod : Cert.quiescent_AdamwWMod := fun m ρ _ => Cert.AdamwWMod.Gen.frame m ρ

theorem frame_adamwWModIdeal : Cert.quiescent_AdamwWModIdeal := fun m ρ _ => Cert.AdamwWModIdeal.Gen.frame m ρ

theorem frame_adamwWModReferenceIdeal : Cert.quiescent_AdamwWModReferenceIdeal := fun m ρ _ =>
  (θ_run (Cert.AdamwWModReferenceIdeal.defs (F := Ideal)) _ _).mono (fun r h => ⟨fun c => (h c).2.2.2.2, sem_eq_zero_of_no_sems (by decide) r.2⟩)
    (Cert.AdamwWModReferenceIdeal.Value.run (F := Ideal) m ρ)

theorem algebraic_adamwWMod : Cert.algebraic_AdamwWModIdeal_AdamwWModReferenceIdeal := fun m ρ m' ρ' _ hagree =>
  ⟨fun c => m ((c.tc : Thread Cert.AdamwWModIdeal.nD Cert.AdamwWModIdeal.τ).loc Cert.AdamwWModIdeal.main_arg1),
    fun c => fun i => Step.delta (F := Ideal) (m ((c.tc : Thread Cert.AdamwWModIdeal.nD Cert.AdamwWModIdeal.τ).loc Cert.AdamwWModIdeal.main_arg0) i) (m ((c.tc : Thread Cert.AdamwWModIdeal.nD Cert.AdamwWModIdeal.τ).loc Cert.AdamwWModIdeal.main_arg1) i) (m ((c.tc : Thread Cert.AdamwWModIdeal.nD Cert.AdamwWModIdeal.τ).loc Cert.AdamwWModIdeal.main_arg2) i) (m ((c.tc : Thread Cert.AdamwWModIdeal.nD Cert.AdamwWModIdeal.τ).loc Cert.AdamwWModIdeal.main_arg3) i),
    fun c => fun i => Step.newM (F := Ideal) (m ((c.tc : Thread Cert.AdamwWModIdeal.nD Cert.AdamwWModIdeal.τ).loc Cert.AdamwWModIdeal.main_arg1) i) (m ((c.tc : Thread Cert.AdamwWModIdeal.nD Cert.AdamwWModIdeal.τ).loc Cert.AdamwWModIdeal.main_arg2) i),
    fun c => fun i => Step.newV (F := Ideal) (m ((c.tc : Thread Cert.AdamwWModIdeal.nD Cert.AdamwWModIdeal.τ).loc Cert.AdamwWModIdeal.main_arg1) i) (m ((c.tc : Thread Cert.AdamwWModIdeal.nD Cert.AdamwWModIdeal.τ).loc Cert.AdamwWModIdeal.main_arg3) i),
    (θ_run (Cert.AdamwWModIdeal.defs (F := Ideal)) _ _).mono (fun r h c => by
      obtain ⟨h0, h1, h2, h3, hk⟩ := h c
      exact ⟨h0.trans ((Cert.AdamwWModIdeal.Stepped.arr4 m c).trans (by rw [Cert.AdamwWModIdeal.Gen.V_main_arg1])),
        h1.trans ((Cert.AdamwWModIdeal.Stepped.arr5 m c).trans (by rw [Cert.AdamwWModIdeal.Gen.V_main_arg0, Cert.AdamwWModIdeal.Gen.V_main_arg1, Cert.AdamwWModIdeal.Gen.V_main_arg2, Cert.AdamwWModIdeal.Gen.V_main_arg3]; rfl)),
        h2.trans ((Cert.AdamwWModIdeal.Stepped.arr6 m c).trans (by rw [Cert.AdamwWModIdeal.Gen.V_main_arg1, Cert.AdamwWModIdeal.Gen.V_main_arg2]; rfl)),
        h3.trans ((Cert.AdamwWModIdeal.Stepped.arr7 m c).trans (by rw [Cert.AdamwWModIdeal.Gen.V_main_arg1, Cert.AdamwWModIdeal.Gen.V_main_arg3]; rfl)), hk⟩) (Cert.AdamwWModIdeal.Value.run_blocks (F := Ideal) m ρ),
    (θ_run (Cert.AdamwWModReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      exact ⟨h0, h1, h2, h3, hk⟩) (Cert.AdamwWModReferenceIdeal.Value.run (F := Ideal) m' ρ')⟩

theorem frame_adamwWIn : Cert.quiescent_AdamwWIn := fun m ρ _ => Cert.AdamwWIn.Gen.frame m ρ

theorem frame_adamwWInIdeal : Cert.quiescent_AdamwWInIdeal := fun m ρ _ => Cert.AdamwWInIdeal.Gen.frame m ρ

theorem frame_adamwWInReferenceIdeal : Cert.quiescent_AdamwWInReferenceIdeal := fun m ρ _ =>
  (θ_run (Cert.AdamwWInReferenceIdeal.defs (F := Ideal)) _ _).mono (fun r h => ⟨fun c => (h c).2.2.2.2, sem_eq_zero_of_no_sems (by decide) r.2⟩)
    (Cert.AdamwWInReferenceIdeal.Value.run (F := Ideal) m ρ)

theorem algebraic_adamwWIn : Cert.algebraic_AdamwWInIdeal_AdamwWInReferenceIdeal := fun m ρ m' ρ' _ hagree =>
  ⟨fun c => m ((c.tc : Thread Cert.AdamwWInIdeal.nD Cert.AdamwWInIdeal.τ).loc Cert.AdamwWInIdeal.main_arg1),
    fun c => fun i => Step.delta (F := Ideal) (m ((c.tc : Thread Cert.AdamwWInIdeal.nD Cert.AdamwWInIdeal.τ).loc Cert.AdamwWInIdeal.main_arg0) i) (m ((c.tc : Thread Cert.AdamwWInIdeal.nD Cert.AdamwWInIdeal.τ).loc Cert.AdamwWInIdeal.main_arg1) i) (m ((c.tc : Thread Cert.AdamwWInIdeal.nD Cert.AdamwWInIdeal.τ).loc Cert.AdamwWInIdeal.main_arg2) i) (m ((c.tc : Thread Cert.AdamwWInIdeal.nD Cert.AdamwWInIdeal.τ).loc Cert.AdamwWInIdeal.main_arg3) i),
    fun c => fun i => Step.newM (F := Ideal) (m ((c.tc : Thread Cert.AdamwWInIdeal.nD Cert.AdamwWInIdeal.τ).loc Cert.AdamwWInIdeal.main_arg1) i) (m ((c.tc : Thread Cert.AdamwWInIdeal.nD Cert.AdamwWInIdeal.τ).loc Cert.AdamwWInIdeal.main_arg2) i),
    fun c => fun i => Step.newV (F := Ideal) (m ((c.tc : Thread Cert.AdamwWInIdeal.nD Cert.AdamwWInIdeal.τ).loc Cert.AdamwWInIdeal.main_arg1) i) (m ((c.tc : Thread Cert.AdamwWInIdeal.nD Cert.AdamwWInIdeal.τ).loc Cert.AdamwWInIdeal.main_arg3) i),
    (θ_run (Cert.AdamwWInIdeal.defs (F := Ideal)) _ _).mono (fun r h c => by
      obtain ⟨h0, h1, h2, h3, hk⟩ := h c
      exact ⟨h0.trans ((Cert.AdamwWInIdeal.Stepped.arr4 m c).trans (by rw [Cert.AdamwWInIdeal.Gen.V_main_arg1])),
        h1.trans ((Cert.AdamwWInIdeal.Stepped.arr5 m c).trans (by rw [Cert.AdamwWInIdeal.Gen.V_main_arg0, Cert.AdamwWInIdeal.Gen.V_main_arg1, Cert.AdamwWInIdeal.Gen.V_main_arg2, Cert.AdamwWInIdeal.Gen.V_main_arg3]; rfl)),
        h2.trans ((Cert.AdamwWInIdeal.Stepped.arr6 m c).trans (by rw [Cert.AdamwWInIdeal.Gen.V_main_arg1, Cert.AdamwWInIdeal.Gen.V_main_arg2]; rfl)),
        h3.trans ((Cert.AdamwWInIdeal.Stepped.arr7 m c).trans (by rw [Cert.AdamwWInIdeal.Gen.V_main_arg1, Cert.AdamwWInIdeal.Gen.V_main_arg3]; rfl)), hk⟩) (Cert.AdamwWInIdeal.Value.run_blocks (F := Ideal) m ρ),
    (θ_run (Cert.AdamwWInReferenceIdeal.defs (F := Ideal)) _ _).mono (fun r h c => by
      obtain ⟨h0, h1, h2, h3, hk⟩ := h c
      obtain ⟨e0, e1, e2, e3⟩ := hagree c
      rw [e1] at h0
      rw [e0, e1, e2, e3] at h1
      rw [e1, e2] at h2
      rw [e1, e3] at h3
      exact ⟨h0, h1, h2, h3, hk⟩) (Cert.AdamwWInReferenceIdeal.Value.run (F := Ideal) m' ρ')⟩

end Cert.Proof

end
-- ==== Proof.ClaimPlain.lean ====
/-
  The AdamW steps on the small summed gradients: they stay quiescent and give the results of the reference.
-/
module

public import proofs.«01_k».proof.Defs
public import proofs.«01_k».proof.Proof.Gen.AdamwBMod
public import proofs.«01_k».proof.Proof.Gen.AdamwBMod.Frame
public import proofs.«01_k».proof.Proof.Gen.AdamwBModIdeal
public import proofs.«01_k».proof.Proof.Gen.AdamwBModIdeal.Frame
public import proofs.«01_k».proof.Proof.Gen.AdamwBModIdeal.Value
public import proofs.«01_k».proof.Proof.Gen.AdamwBModReferenceIdeal
public import proofs.«01_k».proof.Proof.Gen.AdamwBModReferenceIdeal.Run
public import proofs.«01_k».proof.Proof.Gen.AdamwNorm
public import proofs.«01_k».proof.Proof.Gen.AdamwNorm.Frame
public import proofs.«01_k».proof.Proof.Gen.AdamwNormIdeal
public import proofs.«01_k».proof.Proof.Gen.AdamwNormIdeal.Frame
public import proofs.«01_k».proof.Proof.Gen.AdamwNormIdeal.Value
public import proofs.«01_k».proof.Proof.Gen.AdamwNormReferenceIdeal
public import proofs.«01_k».proof.Proof.Gen.AdamwNormReferenceIdeal.Run
public import proofs.«01_k».proof.Proof.Gen.AdamwGmWs
public import proofs.«01_k».proof.Proof.Gen.AdamwGmWs.Frame
public import proofs.«01_k».proof.Proof.Gen.AdamwGmWsIdeal
public import proofs.«01_k».proof.Proof.Gen.AdamwGmWsIdeal.Frame
public import proofs.«01_k».proof.Proof.Gen.AdamwGmWsIdeal.Value
public import proofs.«01_k».proof.Proof.Gen.AdamwGmWsReferenceIdeal
public import proofs.«01_k».proof.Proof.Gen.AdamwGmWsReferenceIdeal.Run
public import proofs.«01_k».proof.Proof.Gen.AdamwGmBs
public import proofs.«01_k».proof.Proof.Gen.AdamwGmBs.Frame
public import proofs.«01_k».proof.Proof.Gen.AdamwGmBsIdeal
public import proofs.«01_k».proof.Proof.Gen.AdamwGmBsIdeal.Frame
public import proofs.«01_k».proof.Proof.Gen.AdamwGmBsIdeal.Value
public import proofs.«01_k».proof.Proof.Gen.AdamwGmBsReferenceIdeal
public import proofs.«01_k».proof.Proof.Gen.AdamwGmBsReferenceIdeal.Run
public import proofs.«01_k».proof.Proof.Gen.AdamwConvW
public import proofs.«01_k».proof.Proof.Gen.AdamwConvW.Frame
public import proofs.«01_k».proof.Proof.Gen.AdamwConvWIdeal
public import proofs.«01_k».proof.Proof.Gen.AdamwConvWIdeal.Frame
public import proofs.«01_k».proof.Proof.Gen.AdamwConvWIdeal.Value
public import proofs.«01_k».proof.Proof.Gen.AdamwConvWReferenceIdeal
public import proofs.«01_k».proof.Proof.Gen.AdamwConvWReferenceIdeal.Run
public import proofs.«01_k».proof.Proof.Gen.AdamwConvB
public import proofs.«01_k».proof.Proof.Gen.AdamwConvB.Frame
public import proofs.«01_k».proof.Proof.Gen.AdamwConvBIdeal
public import proofs.«01_k».proof.Proof.Gen.AdamwConvBIdeal.Frame
public import proofs.«01_k».proof.Proof.Gen.AdamwConvBIdeal.Value
public import proofs.«01_k».proof.Proof.Gen.AdamwConvBReferenceIdeal
public import proofs.«01_k».proof.Proof.Gen.AdamwConvBReferenceIdeal.Run
public import proofs.«01_k».proof.Proof.Gen.AdamwHeads
public import proofs.«01_k».proof.Proof.Gen.AdamwHeads.Frame
public import proofs.«01_k».proof.Proof.Gen.AdamwHeadsIdeal
public import proofs.«01_k».proof.Proof.Gen.AdamwHeadsIdeal.Frame
public import proofs.«01_k».proof.Proof.Gen.AdamwHeadsIdeal.Value
public import proofs.«01_k».proof.Proof.Gen.AdamwHeadsReferenceIdeal
public import proofs.«01_k».proof.Proof.Gen.AdamwHeadsReferenceIdeal.Run
public import proofs.«01_k».proof.Proof.Gen.AdamwSsmNorm
public import proofs.«01_k».proof.Proof.Gen.AdamwSsmNorm.Frame
public import proofs.«01_k».proof.Proof.Gen.AdamwSsmNormIdeal
public import proofs.«01_k».proof.Proof.Gen.AdamwSsmNormIdeal.Frame
public import proofs.«01_k».proof.Proof.Gen.AdamwSsmNormIdeal.Value
public import proofs.«01_k».proof.Proof.Gen.AdamwSsmNormReferenceIdeal
public import proofs.«01_k».proof.Proof.Gen.AdamwSsmNormReferenceIdeal.Run
public import Idealize.ShloMosaic.Adequacy
public import Idealize.ShloMosaic.Init

@[expose] public section

noncomputable section

namespace Cert.Proof

open Idealize.ShloMosaic Idealize.SL.Sem

theorem frame_adamwBMod : Cert.quiescent_AdamwBMod := fun m ρ _ => Cert.AdamwBMod.Gen.frame m ρ

theorem frame_adamwBModIdeal : Cert.quiescent_AdamwBModIdeal := fun m ρ _ => Cert.AdamwBModIdeal.Gen.frame m ρ

theorem frame_adamwBModReferenceIdeal : Cert.quiescent_AdamwBModReferenceIdeal := fun m ρ _ =>
  (θ_run (Cert.AdamwBModReferenceIdeal.defs (F := Ideal)) _ _).mono (fun r h => ⟨fun c => (h c).2.2.2.2, sem_eq_zero_of_no_sems (by decide) r.2⟩)
    (Cert.AdamwBModReferenceIdeal.Value.run (F := Ideal) m ρ)

theorem algebraic_adamwBMod : Cert.algebraic_AdamwBModIdeal_AdamwBModReferenceIdeal := fun m ρ m' ρ' _ hagree =>
  ⟨_, _, _, _, Cert.AdamwBModIdeal.Value.run (F := Ideal) m ρ,
  (θ_run (Cert.AdamwBModReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwBModReferenceIdeal.Value.run (F := Ideal) m' ρ')⟩

theorem frame_adamwNorm : Cert.quiescent_AdamwNorm := fun m ρ _ => Cert.AdamwNorm.Gen.frame m ρ

theorem frame_adamwNormIdeal : Cert.quiescent_AdamwNormIdeal := fun m ρ _ => Cert.AdamwNormIdeal.Gen.frame m ρ

theorem frame_adamwNormReferenceIdeal : Cert.quiescent_AdamwNormReferenceIdeal := fun m ρ _ =>
  (θ_run (Cert.AdamwNormReferenceIdeal.defs (F := Ideal)) _ _).mono (fun r h => ⟨fun c => (h c).2.2.2.2, sem_eq_zero_of_no_sems (by decide) r.2⟩)
    (Cert.AdamwNormReferenceIdeal.Value.run (F := Ideal) m ρ)

theorem algebraic_adamwNorm : Cert.algebraic_AdamwNormIdeal_AdamwNormReferenceIdeal := fun m ρ m' ρ' _ hagree =>
  ⟨_, _, _, _, Cert.AdamwNormIdeal.Value.run (F := Ideal) m ρ,
  (θ_run (Cert.AdamwNormReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwNormReferenceIdeal.Value.run (F := Ideal) m' ρ')⟩

theorem frame_adamwGmWs : Cert.quiescent_AdamwGmWs := fun m ρ _ => Cert.AdamwGmWs.Gen.frame m ρ

theorem frame_adamwGmWsIdeal : Cert.quiescent_AdamwGmWsIdeal := fun m ρ _ => Cert.AdamwGmWsIdeal.Gen.frame m ρ

theorem frame_adamwGmWsReferenceIdeal : Cert.quiescent_AdamwGmWsReferenceIdeal := fun m ρ _ =>
  (θ_run (Cert.AdamwGmWsReferenceIdeal.defs (F := Ideal)) _ _).mono (fun r h => ⟨fun c => (h c).2.2.2.2, sem_eq_zero_of_no_sems (by decide) r.2⟩)
    (Cert.AdamwGmWsReferenceIdeal.Value.run (F := Ideal) m ρ)

theorem algebraic_adamwGmWs : Cert.algebraic_AdamwGmWsIdeal_AdamwGmWsReferenceIdeal := fun m ρ m' ρ' _ hagree =>
  ⟨_, _, _, _, Cert.AdamwGmWsIdeal.Value.run (F := Ideal) m ρ,
  (θ_run (Cert.AdamwGmWsReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwGmWsReferenceIdeal.Value.run (F := Ideal) m' ρ')⟩

theorem frame_adamwGmBs : Cert.quiescent_AdamwGmBs := fun m ρ _ => Cert.AdamwGmBs.Gen.frame m ρ

theorem frame_adamwGmBsIdeal : Cert.quiescent_AdamwGmBsIdeal := fun m ρ _ => Cert.AdamwGmBsIdeal.Gen.frame m ρ

theorem frame_adamwGmBsReferenceIdeal : Cert.quiescent_AdamwGmBsReferenceIdeal := fun m ρ _ =>
  (θ_run (Cert.AdamwGmBsReferenceIdeal.defs (F := Ideal)) _ _).mono (fun r h => ⟨fun c => (h c).2.2.2.2, sem_eq_zero_of_no_sems (by decide) r.2⟩)
    (Cert.AdamwGmBsReferenceIdeal.Value.run (F := Ideal) m ρ)

theorem algebraic_adamwGmBs : Cert.algebraic_AdamwGmBsIdeal_AdamwGmBsReferenceIdeal := fun m ρ m' ρ' _ hagree =>
  ⟨_, _, _, _, Cert.AdamwGmBsIdeal.Value.run (F := Ideal) m ρ,
  (θ_run (Cert.AdamwGmBsReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwGmBsReferenceIdeal.Value.run (F := Ideal) m' ρ')⟩

theorem frame_adamwConvW : Cert.quiescent_AdamwConvW := fun m ρ _ => Cert.AdamwConvW.Gen.frame m ρ

theorem frame_adamwConvWIdeal : Cert.quiescent_AdamwConvWIdeal := fun m ρ _ => Cert.AdamwConvWIdeal.Gen.frame m ρ

theorem frame_adamwConvWReferenceIdeal : Cert.quiescent_AdamwConvWReferenceIdeal := fun m ρ _ =>
  (θ_run (Cert.AdamwConvWReferenceIdeal.defs (F := Ideal)) _ _).mono (fun r h => ⟨fun c => (h c).2.2.2.2, sem_eq_zero_of_no_sems (by decide) r.2⟩)
    (Cert.AdamwConvWReferenceIdeal.Value.run (F := Ideal) m ρ)

theorem algebraic_adamwConvW : Cert.algebraic_AdamwConvWIdeal_AdamwConvWReferenceIdeal := fun m ρ m' ρ' _ hagree =>
  ⟨_, _, _, _, Cert.AdamwConvWIdeal.Value.run (F := Ideal) m ρ,
  (θ_run (Cert.AdamwConvWReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwConvWReferenceIdeal.Value.run (F := Ideal) m' ρ')⟩

theorem frame_adamwConvB : Cert.quiescent_AdamwConvB := fun m ρ _ => Cert.AdamwConvB.Gen.frame m ρ

theorem frame_adamwConvBIdeal : Cert.quiescent_AdamwConvBIdeal := fun m ρ _ => Cert.AdamwConvBIdeal.Gen.frame m ρ

theorem frame_adamwConvBReferenceIdeal : Cert.quiescent_AdamwConvBReferenceIdeal := fun m ρ _ =>
  (θ_run (Cert.AdamwConvBReferenceIdeal.defs (F := Ideal)) _ _).mono (fun r h => ⟨fun c => (h c).2.2.2.2, sem_eq_zero_of_no_sems (by decide) r.2⟩)
    (Cert.AdamwConvBReferenceIdeal.Value.run (F := Ideal) m ρ)

theorem algebraic_adamwConvB : Cert.algebraic_AdamwConvBIdeal_AdamwConvBReferenceIdeal := fun m ρ m' ρ' _ hagree =>
  ⟨_, _, _, _, Cert.AdamwConvBIdeal.Value.run (F := Ideal) m ρ,
  (θ_run (Cert.AdamwConvBReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwConvBReferenceIdeal.Value.run (F := Ideal) m' ρ')⟩

theorem frame_adamwHeads : Cert.quiescent_AdamwHeads := fun m ρ _ => Cert.AdamwHeads.Gen.frame m ρ

theorem frame_adamwHeadsIdeal : Cert.quiescent_AdamwHeadsIdeal := fun m ρ _ => Cert.AdamwHeadsIdeal.Gen.frame m ρ

theorem frame_adamwHeadsReferenceIdeal : Cert.quiescent_AdamwHeadsReferenceIdeal := fun m ρ _ =>
  (θ_run (Cert.AdamwHeadsReferenceIdeal.defs (F := Ideal)) _ _).mono (fun r h => ⟨fun c => (h c).2.2.2.2, sem_eq_zero_of_no_sems (by decide) r.2⟩)
    (Cert.AdamwHeadsReferenceIdeal.Value.run (F := Ideal) m ρ)

theorem algebraic_adamwHeads : Cert.algebraic_AdamwHeadsIdeal_AdamwHeadsReferenceIdeal := fun m ρ m' ρ' _ hagree =>
  ⟨_, _, _, _, Cert.AdamwHeadsIdeal.Value.run (F := Ideal) m ρ,
  (θ_run (Cert.AdamwHeadsReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwHeadsReferenceIdeal.Value.run (F := Ideal) m' ρ')⟩

theorem frame_adamwSsmNorm : Cert.quiescent_AdamwSsmNorm := fun m ρ _ => Cert.AdamwSsmNorm.Gen.frame m ρ

theorem frame_adamwSsmNormIdeal : Cert.quiescent_AdamwSsmNormIdeal := fun m ρ _ => Cert.AdamwSsmNormIdeal.Gen.frame m ρ

theorem frame_adamwSsmNormReferenceIdeal : Cert.quiescent_AdamwSsmNormReferenceIdeal := fun m ρ _ =>
  (θ_run (Cert.AdamwSsmNormReferenceIdeal.defs (F := Ideal)) _ _).mono (fun r h => ⟨fun c => (h c).2.2.2.2, sem_eq_zero_of_no_sems (by decide) r.2⟩)
    (Cert.AdamwSsmNormReferenceIdeal.Value.run (F := Ideal) m ρ)

theorem algebraic_adamwSsmNorm : Cert.algebraic_AdamwSsmNormIdeal_AdamwSsmNormReferenceIdeal := fun m ρ m' ρ' _ hagree =>
  ⟨_, _, _, _, Cert.AdamwSsmNormIdeal.Value.run (F := Ideal) m ρ,
  (θ_run (Cert.AdamwSsmNormReferenceIdeal.defs (F := Ideal)) _ _).mono (fun r h c => by
    obtain ⟨h0, h1, h2, h3, hk⟩ := h c
    obtain ⟨e0, e1, e2, e3⟩ := hagree c
    rw [e1] at h0
    rw [e0, e1, e2, e3] at h1
    rw [e1, e2] at h2
    rw [e1, e3] at h3
    exact ⟨h0, h1, h2, h3, hk⟩)
    (Cert.AdamwSsmNormReferenceIdeal.Value.run (F := Ideal) m' ρ')⟩

end Cert.Proof

end
-- ==== Proof.ModGrad.lean ====
/-
  The gradient of the modulation's matrix: the product over the padded rows is the product over the devices' rows.
-/
module

public import proofs.«01_k».proof.Proof.Gen.WModGradIdeal.Value
public import proofs.«01_k».proof.Proof.Gen.WModGradReferenceIdeal.Read
public import Idealize.ShloMosaic.Lib.KernelVsHost
public import Idealize.ShloMosaic.Lib.IdealHost

@[expose] public section

noncomputable section

open Idealize.ShloMosaic Idealize.ShloMosaic.TcCoe Idealize.SL.Sem Idealize.ShloMosaic.Pipeline

namespace Cert.WModGradIdeal.Product

open Cert.WModGradIdeal Cert.WModGradIdeal.Gen

/-- The index of a matrix's entry. -/
def at2 {a b : ℕ} (i : Fin a) (j : Fin b) : Shape.Idx ⟨2, ![a, b]⟩ := fun x =>
  match x with
  | ⟨0, _⟩ => i
  | ⟨1, _⟩ => j

/-- The row of the gradient that an entry lies in. -/
abbrev row (i : S1024x768.Idx) : Fin 1024 := ⟨(i 0).val, (i 0).isLt⟩

/-- The column of the gradient that an entry lies in. -/
abbrev col (i : S1024x768.Idx) : Fin 768 := ⟨(i 1).val, (i 1).isLt⟩

theorem lhs_col (i : S1024x768.Idx) (q : dot_S128x1024_S128x768_S1024x768_0_0_1_1_n_n.contr.Idx) : (dot_S128x1024_S128x768_S1024x768_0_0_1_1_n_n.lhsIdx i q 1).val = (i 0).val := by
  unfold DotDims.lhsIdx
  rw [dif_neg (show ¬(1 : Fin S128x1024.rank) ∈ dot_S128x1024_S128x768_S1024x768_0_0_1_1_n_n.lhsBatch by decide), dif_pos (show (1 : Fin S128x1024.rank) ∈ dot_S128x1024_S128x768_S1024x768_0_0_1_1_n_n.lhsNonContracting by decide)]
  rfl

theorem rhs_col (i : S1024x768.Idx) (q : dot_S128x1024_S128x768_S1024x768_0_0_1_1_n_n.contr.Idx) : (dot_S128x1024_S128x768_S1024x768_0_0_1_1_n_n.rhsIdx i q 1).val = (i 1).val := by
  unfold DotDims.rhsIdx
  rw [dif_neg (show ¬(1 : Fin S128x768.rank) ∈ dot_S128x1024_S128x768_S1024x768_0_0_1_1_n_n.rhsBatch by decide), dif_pos (show (1 : Fin S128x768.rank) ∈ dot_S128x1024_S128x768_S1024x768_0_0_1_1_n_n.rhsNonContracting by decide)]
  rfl

/-- What the body computes, entry by entry. -/
theorem pay_apply (x : Vec Ideal S128x1024 .f32) (y : Vec Ideal S128x768 .f32) (i : S1024x768.Idx) :
    k0_pay1 (F := Ideal) x y i = ∑ k : Fin 128, x (at2 k (row i)) * Ideal.logistic (x (at2 k (row i))) * y (at2 k (col i)) := by
  unfold k0_pay1
  rw [shapeCast_self, shapeCast_self]
  refine (Ideal.matmul_apply _ _ _ _ _ i).trans ?_
  rw [← Equiv.sum_comp (ValueIdx.contrEquiv1 dot_S128x1024_S128x768_S1024x768_0_0_1_1_n_n 128 rfl rfl).symm]
  refine (congrArg₂ (· + ·) Ideal.ofBits_zero_f32 (Finset.sum_congr rfl fun k _ => ?_)).trans (zero_add _)
  have hk := ValueIdx.contrEquiv1_symm_val dot_S128x1024_S128x768_S1024x768_0_0_1_1_n_n 128 rfl rfl k
  have el : dot_S128x1024_S128x768_S1024x768_0_0_1_1_n_n.lhsIdx i ((ValueIdx.contrEquiv1 dot_S128x1024_S128x768_S1024x768_0_0_1_1_n_n 128 rfl rfl).symm k)
      = at2 k (row i) := funext fun a => Fin.ext (by
    match a with
    | ⟨0, _⟩ => exact (dot_S128x1024_S128x768_S1024x768_0_0_1_1_n_n.lhsIdx_val_of_single rfl i _).trans hk
    | ⟨1, _⟩ => exact lhs_col _ _)
  have er : dot_S128x1024_S128x768_S1024x768_0_0_1_1_n_n.rhsIdx i ((ValueIdx.contrEquiv1 dot_S128x1024_S128x768_S1024x768_0_0_1_1_n_n 128 rfl rfl).symm k)
      = at2 k (col i) := funext fun a => Fin.ext (by
    match a with
    | ⟨0, _⟩ => exact (dot_S128x1024_S128x768_S1024x768_0_0_1_1_n_n.rhsIdx_val_of_single rfl i _).trans hk
    | ⟨1, _⟩ => exact rhs_col _ _)
  rw [el, er]
  rfl

/-- A matrix of eight rows with rows of zeros below. -/
def Padded {b : ℕ} (x : Vec Ideal ⟨2, ![8, b]⟩ .f32) (y : Vec Ideal ⟨2, ![128, b]⟩ .f32) : Prop :=
  ∀ j : Fin b, (∀ k : Fin 8, y (at2 (Fin.castLE (by decide) k) j) = x (at2 k j)) ∧ ∀ k : Fin 120, y (at2 (Fin.natAdd 8 k) j) = (0 : EReal)

theorem padded {b : ℕ} (x : Vec Ideal ⟨2, ![8, b]⟩ .f32) (v : Vec Ideal ⟨0, ![]⟩ .f32) (hv : ∀ i, v i = (0 : EReal))
    (h : (⟨2, ![8, b]⟩ : Shape).Pads ![0, 0] ![120, 0] ![0, 0] ⟨2, ![128, b]⟩) (hu : 0 < (⟨0, ![]⟩ : Shape).numel) :
    Padded x (pad ⟨2, ![128, b]⟩ ![0, 0] ![120, 0] ![0, 0] x v h hu) := fun j => by
  refine ⟨fun k => ?_, fun k => ?_⟩
  · refine pad_apply_of_inside _ _ _ x v h hu _ (at2 k j) fun a => ?_
    match a with
    | ⟨0, _⟩ => show k.val = 0 + k.val * 1; omega
    | ⟨1, _⟩ => show j.val = 0 + j.val * 1; omega
  · refine (pad_apply_of_not_inside _ _ _ x v h hu _ 0 ?_).trans (hv _)
    rintro ⟨_, _, h2⟩
    have h3 : (8 + k.val - 0) / (0 + 1) < 8 := h2
    omega

/-- Rows of zeros add nothing to the product. -/
theorem pay_padded (x : Vec Ideal ⟨2, ![8, 1024]⟩ .f32) (y : Vec Ideal ⟨2, ![8, 768]⟩ .f32) (x' : Vec Ideal S128x1024 .f32)
    (y' : Vec Ideal S128x768 .f32) (hx : Padded x x') (hy : Padded y y') (i : S1024x768.Idx) :
    k0_pay1 (F := Ideal) x' y' i = ∑ k : Fin 8, x (at2 k (row i)) * Ideal.logistic (x (at2 k (row i))) * y (at2 k (col i)) := by
  rw [pay_apply]
  refine (Fin.sum_univ_add (a := 8) (b := 120) _).trans ?_
  have z : ∀ k : Fin 120, x' (at2 (Fin.natAdd 8 k) (row i)) * Ideal.logistic (x' (at2 (Fin.natAdd 8 k) (row i))) * y' (at2 (Fin.natAdd 8 k) (col i)) = (0 : EReal) := fun k => by
    rw [(hy (col i)).2 k]
    exact mul_zero _
  rw [Finset.sum_eq_zero fun k _ => z k, add_zero]
  refine Finset.sum_congr rfl fun k _ => ?_
  have e1 := (hx (row i)).1 k
  have e2 := (hy (col i)).1 k
  exact congrArg₂ (fun p q : EReal => p * Ideal.logistic p * q) e1 e2

/-- The reference, entry by entry. -/
theorem ref_apply (x : Vec Ideal ⟨2, ![8, 1024]⟩ .f32) (y : Vec Ideal ⟨2, ![8, 768]⟩ .f32) (i : S1024x768.Idx) :
    Cert.WModGradReferenceIdeal.Read.val_main_v2 (F := Ideal) x y i
      = ∑ k : Fin 8, x (at2 k (row i)) * Ideal.logistic (x (at2 k (row i))) * y (at2 k (col i)) := by
  rw [Cert.WModGradReferenceIdeal.Read.val_main_v2_apply]
  refine Finset.sum_congr rfl fun k _ => ?_
  rw [Cert.WModGradReferenceIdeal.Read.val_main_v1_apply]
  have e1 : Cert.WModGradReferenceIdeal.Read.idx_main_v1 (Cert.WModGradReferenceIdeal.Read.lidx_main_v2 i k) = at2 k (row i) :=
    funext fun a => match a with
    | ⟨0, _⟩ => rfl
    | ⟨1, _⟩ => rfl
  have e2 : Cert.WModGradReferenceIdeal.Read.ridx_main_v2 i k = at2 k (col i) :=
    funext fun a => match a with
    | ⟨0, _⟩ => rfl
    | ⟨1, _⟩ => rfl
  rw [e1, e2]
  refine congrArg (· * y (at2 k (col i))) ?_
  show x _ * Ideal.div (Ideal.ofBits .f32 0x3F800000#32) (Ideal.ofBits .f32 0x3F800000#32 + Ideal.exp (-x _)) = _
  rw [Ideal.ofBits_one_f32]
  rfl

variable (m : (ℓ : Loc nD τ sig) → Buf (Elt Ideal) ℓ) (c : Dev nD)

theorem rows_eq : V m c main_v0 = pad S128x1024 ![0, 0] ![120, 0] ![0, 0] (m ((c : Thread nD τ).loc main_arg0)) (sitofp (F := Ideal) .f32 (constantI S_ 32 0#32)) pads_S8x1024_S128x1024_01200_000 h_S_ := by
  show StableHlo.after _ _ _ = _
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results

theorem cols_eq : V m c main_v1 = pad S128x768 ![0, 0] ![120, 0] ![0, 0] (m ((c : Thread nD τ).loc main_arg1)) (sitofp (F := Ideal) .f32 (constantI S_ 32 0#32)) pads_S8x768_S128x768_01200_000 h_S_ := by
  show StableHlo.after _ _ _ = _
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results

theorem zero_fill (i : S_.Idx) : sitofp (F := Ideal) .f32 (constantI S_ 32 0#32) i = (0 : EReal) := by
  show (((0#32 : BitVec 32).toInt : ℝ) : EReal) = 0
  simp

theorem emb_eq (w : Fin 3) : ∀ t : Fin cfg0.N, ∀ a, (win0 w).index t a = 0 := by revert w; decide +kernel

theorem zeros : (![0, 0] : Fin 2 → ℕ) = fun _ => 0 := by decide

/-- The gradient. -/
theorem arr2 : (dats m 0 c).arrAt 2 cfg0.N
    = Cert.WModGradReferenceIdeal.Read.val_main_v2 (F := Ideal) (m ((c : Thread nD τ).loc main_arg0)) (m ((c : Thread nD τ).loc main_arg1)) :=
  Dat.arrAt_eq_of_cover _ 2 _ (fun t _ => by
    rw [Value.flushed2]
    unfold out0_2
    rw [View.canon_unit_zero zeros, View.ld_unit_zero (S := S128x1024) zeros, View.ld_unit_zero (S := S128x768) zeros]
    have p0 : iblk m c 0 t = V m c main_v0 := funext fun j => congrArg (V m c main_v0) (funext fun a => Fin.ext (by
      show (win0 0).index t a * _ + 1 * (j a).val = (j a).val
      rw [emb_eq 0 t a]; omega))
    have p1 : iblk m c 1 t = V m c main_v1 := funext fun j => congrArg (V m c main_v1) (funext fun a => Fin.ext (by
      show (win0 1).index t a * _ + 1 * (j a).val = (j a).val
      rw [emb_eq 1 t a]; omega))
    rw [p0, p1, rows_eq, cols_eq]
    funext j
    have pj : ((cfg0.win 2).blk t).view.emb j = j := funext fun a => Fin.ext (by
      show (win0 2).index t a * _ + 1 * (j a).val = (j a).val
      rw [emb_eq 2 t a]; omega)
    refine (pay_padded _ _ _ _ (padded _ _ zero_fill _ _) (padded _ _ zero_fill _ _) j).trans ?_
    refine (ref_apply _ _ j).symm.trans ?_
    exact (congrArg _ pj).symm) fun i =>
    ⟨⟨0, Nat.one_pos⟩, flush0_2 _, by
      have pj : ((cfg0.win 2).blk ⟨0, Nat.one_pos⟩).view.emb i = i := funext fun a => Fin.ext (by
        show (win0 2).index ⟨0, Nat.one_pos⟩ a * _ + 1 * (i a).val = (i a).val
        rw [emb_eq 2 _ a]; omega)
      exact pj ▸ ((cfg0.win 2).blk ⟨0, Nat.one_pos⟩).view.emb_mem_set i⟩

end Cert.WModGradIdeal.Product

end
-- ==== Proof.Unpack.lean ====
/-
  Small gradients packed one after the other into the rows of one matrix: the sum unpacked is the unpacked parts' sum.
-/
module

public import proofs.«01_k».proof.Proof.Step
public import proofs.«01_k».proof.Proof.Gen.SmallGradsIdeal.Run
public import proofs.«01_k».proof.Proof.Gen.SmallGradsReferenceIdeal.Run

@[expose] public section

noncomputable section

open Idealize.ShloMosaic Idealize.ShloMosaic.TcCoe Idealize.SL.Sem Idealize.ShloMosaic.Pipeline

namespace Unpack

/-- The entry of the packed matrix at a place, places counted row by row. -/
def place {h : ℕ} (n : ℕ) (hn : n < h * 128) : Shape.Idx ⟨2, ![h, 128]⟩ := fun a =>
  match a with
  | ⟨0, _⟩ => ⟨n / 128, Nat.div_lt_of_lt_mul (by rw [Nat.mul_comm]; exact hn)⟩
  | ⟨1, _⟩ => ⟨n % 128, Nat.mod_lt _ (by decide)⟩

theorem numel_one {n : ℕ} : (⟨1, ![n]⟩ : Shape).numel = n := by simp [Shape.numel]

theorem numel_two {p q : ℕ} : (⟨2, ![p, q]⟩ : Shape).numel = p * q := by simp [Shape.numel, Fin.prod_univ_two]

theorem spot_lt {p q : ℕ} (i : Shape.Idx ⟨2, ![p, q]⟩) : (i 0).val * q + (i 1).val < p * q := by
  have h0 : (i 0).val < p := (i 0).isLt
  have h1 : (i 1).val < q := (i 1).isLt
  calc (i 0).val * q + (i 1).val < (i 0).val * q + q := Nat.add_lt_add_left h1 _
    _ = ((i 0).val + 1) * q := (Nat.succ_mul _ _).symm
    _ ≤ p * q := Nat.mul_le_mul_right _ h0

/-- The entry of an array of one axis. -/
def at1 {n : ℕ} (k : ℕ) (hk : k < n) : Shape.Idx ⟨1, ![n]⟩ := fun a =>
  match a with
  | ⟨0, _⟩ => ⟨k, hk⟩

variable {α : Type}

/-- Rows cut from the packed matrix and laid out flat. -/
theorem flat_apply {r n r0 : ℕ} (x : Shape.Idx ⟨2, ![1296, 128]⟩ → α) (hs : (⟨2, ![1296, 128]⟩ : Shape).Slices ![r0, 0] ⟨2, ![r, 128]⟩)
    (hc : (⟨2, ![r, 128]⟩ : Shape).ShapeCasts ⟨1, ![n]⟩) (k : ℕ) (hk : k < n) (hp : r0 * 128 + k < 1296 * 128) :
    shapeCast ⟨1, ![n]⟩ (extractStridedSlice ⟨2, ![r, 128]⟩ ![r0, 0] x hs) hc (at1 k hk) = x (place (r0 * 128 + k) hp) := by
  have hn : r * 128 = n := by have h : (⟨2, ![r, 128]⟩ : Shape).numel = (⟨1, ![n]⟩ : Shape).numel := Eq.symm hc; rwa [numel_one, numel_two] at h
  refine (shapeCast_apply _ hc (at1 k hk) (place k (by omega)) ?_).trans (extractStridedSlice_apply _ x hs _ _ fun a => ?_)
  · rw [Shape.rowMajor_val_two, Shape.rowMajor_val_one]
    show k / 128 * 128 + k % 128 = k
    omega
  · match a with
    | ⟨0, _⟩ => show (r0 * 128 + k) / 128 = r0 + k / 128; omega
    | ⟨1, _⟩ => show (r0 * 128 + k) % 128 = 0 + k % 128; omega

/-- An array of one axis read as a matrix. -/
theorem matrix_apply {p q n : ℕ} (x : Shape.Idx ⟨1, ![n]⟩ → α) (hc : (⟨1, ![n]⟩ : Shape).ShapeCasts ⟨2, ![p, q]⟩) (i : Shape.Idx ⟨2, ![p, q]⟩)
    (hk : (i 0).val * q + (i 1).val < n) : shapeCast ⟨2, ![p, q]⟩ x hc i = x (at1 ((i 0).val * q + (i 1).val) hk) :=
  shapeCast_apply _ hc i _ (by rw [Shape.rowMajor_val_two, Shape.rowMajor_val_one]; rfl)

theorem size_eq {p q n : ℕ} (hc : (⟨1, ![n]⟩ : Shape).ShapeCasts ⟨2, ![p, q]⟩) : n = p * q := by
  have h : (⟨1, ![n]⟩ : Shape).numel = (⟨2, ![p, q]⟩ : Shape).numel := Eq.symm hc
  rwa [numel_one, numel_two] at h

/-- A gradient that fills its rows. -/
theorem full_apply {p q r n r0 : ℕ} (x : Shape.Idx ⟨2, ![1296, 128]⟩ → α) (hs : (⟨2, ![1296, 128]⟩ : Shape).Slices ![r0, 0] ⟨2, ![r, 128]⟩)
    (hc : (⟨2, ![r, 128]⟩ : Shape).ShapeCasts ⟨1, ![n]⟩) (hc' : (⟨1, ![n]⟩ : Shape).ShapeCasts ⟨2, ![p, q]⟩) (i : Shape.Idx ⟨2, ![p, q]⟩)
    (hp : r0 * 128 + ((i 0).val * q + (i 1).val) < 1296 * 128) :
    shapeCast ⟨2, ![p, q]⟩ (shapeCast ⟨1, ![n]⟩ (extractStridedSlice ⟨2, ![r, 128]⟩ ![r0, 0] x hs) hc) hc' i = x (place _ hp) := by
  have hk : (i 0).val * q + (i 1).val < n := (size_eq hc').symm ▸ spot_lt i
  exact (matrix_apply _ hc' i hk).trans (flat_apply x hs hc _ hk hp)

/-- A gradient with padding behind it. -/
theorem short_apply {p q r n n' r0 : ℕ} (x : Shape.Idx ⟨2, ![1296, 128]⟩ → α) (hs : (⟨2, ![1296, 128]⟩ : Shape).Slices ![r0, 0] ⟨2, ![r, 128]⟩)
    (hc : (⟨2, ![r, 128]⟩ : Shape).ShapeCasts ⟨1, ![n]⟩) (hs' : (⟨1, ![n]⟩ : Shape).Slices ![0] ⟨1, ![n']⟩) (hc' : (⟨1, ![n']⟩ : Shape).ShapeCasts ⟨2, ![p, q]⟩)
    (hn : n' ≤ n) (i : Shape.Idx ⟨2, ![p, q]⟩) (hp : r0 * 128 + ((i 0).val * q + (i 1).val) < 1296 * 128) :
    shapeCast ⟨2, ![p, q]⟩ (extractStridedSlice ⟨1, ![n']⟩ ![0] (shapeCast ⟨1, ![n]⟩ (extractStridedSlice ⟨2, ![r, 128]⟩ ![r0, 0] x hs) hc) hs') hc' i
      = x (place _ hp) := by
  have hk : (i 0).val * q + (i 1).val < n' := (size_eq hc').symm ▸ spot_lt i
  refine (matrix_apply _ hc' i hk).trans ((extractStridedSlice_apply _ _ hs' _ (at1 _ (Nat.lt_of_lt_of_le hk hn)) fun a => ?_).trans (flat_apply x hs hc _ _ hp))
  match a with
  | ⟨0, _⟩ => exact (Nat.zero_add _).symm

/-- One device's part of a gradient cut from its flat row. -/
theorem part_apply {p q n o : ℕ} (x : Shape.Idx ⟨3, ![8, 1296, 128]⟩ → α) (hc : (⟨3, ![8, 1296, 128]⟩ : Shape).ShapeCasts ⟨2, ![8, 165888]⟩)
    (hs : (⟨2, ![8, 165888]⟩ : Shape).Slices ![0, o] ⟨2, ![8, n]⟩) (hc' : (⟨2, ![8, n]⟩ : Shape).ShapeCasts ⟨3, ![8, p, q]⟩) (hn : n = p * q)
    (d : Fin 8) (i : Shape.Idx ⟨2, ![p, q]⟩) (hp : o + ((i 0).val * q + (i 1).val) < 1296 * 128) :
    shapeCast ⟨3, ![8, p, q]⟩ (extractStridedSlice ⟨2, ![8, n]⟩ ![0, o] (shapeCast ⟨2, ![8, 165888]⟩ x hc) hs) hc' (Step.under d i)
      = x (Step.under d (place _ hp)) := by
  have hk : (i 0).val * q + (i 1).val < n := hn ▸ spot_lt i
  let j : Shape.Idx ⟨2, ![8, n]⟩ := fun a => match a with
    | ⟨0, _⟩ => d
    | ⟨1, _⟩ => ⟨(i 0).val * q + (i 1).val, hk⟩
  let k : Shape.Idx ⟨2, ![8, 165888]⟩ := fun a => match a with
    | ⟨0, _⟩ => d
    | ⟨1, _⟩ => ⟨o + ((i 0).val * q + (i 1).val), hp⟩
  refine (shapeCast_apply _ hc' (Step.under d i) j ?_).trans ((extractStridedSlice_apply _ _ hs j k fun a => ?_).trans (shapeCast_apply _ hc k _ ?_))
  · rw [Shape.rowMajor_val_two, Shape.rowMajor_val_three]
    show d.val * n + ((i 0).val * q + (i 1).val) = (d.val * p + (i 0).val) * q + (i 1).val
    rw [hn, Nat.add_mul, Nat.mul_assoc, Nat.add_assoc]
  · match a with
    | ⟨0, _⟩ => exact (Nat.zero_add _).symm
    | ⟨1, _⟩ => rfl
  · rw [Shape.rowMajor_val_two, Shape.rowMajor_val_three]
    show (d.val * 1296 + (o + ((i 0).val * q + (i 1).val)) / 128) * 128 + (o + ((i 0).val * q + (i 1).val)) % 128 = d.val * 165888 + (o + ((i 0).val * q + (i 1).val))
    omega

/-- The sum over the devices of a gradient cut from the flat rows, entry by entry. -/
theorem ref_apply {p q n o : ℕ} (x : FVec Ideal ⟨3, ![8, 1296, 128]⟩ .f32) (hc : (⟨3, ![8, 1296, 128]⟩ : Shape).ShapeCasts ⟨2, ![8, 165888]⟩)
    (hs : (⟨2, ![8, 165888]⟩ : Shape).Slices ![0, o] ⟨2, ![8, n]⟩) (hc' : (⟨2, ![8, n]⟩ : Shape).ShapeCasts ⟨3, ![8, p, q]⟩) (hn : n = p * q)
    (hr : (⟨3, ![8, p, q]⟩ : Shape).ReducesTo [0] ⟨2, ![p, q]⟩) (hu : 0 < (⟨0, ![]⟩ : Shape).numel) (i : Shape.Idx ⟨2, ![p, q]⟩)
    (hp : o + ((i 0).val * q + (i 1).val) < 1296 * 128) :
    Host.reduceAdd (shapeCast ⟨3, ![8, p, q]⟩ (extractStridedSlice ⟨2, ![8, n]⟩ ![0, o] (shapeCast ⟨2, ![8, 165888]⟩ x hc) hs) hc')
      (constant (F := Ideal) ⟨0, ![]⟩ .f32 0x00000000#32) hr hu i = Step.sums (F := Ideal) x (place _ hp) := by
  rw [Step.reduce_eq]
  exact congrArg Step.sum8 (funext fun d => part_apply x hc hs hc' hn d i hp)

theorem inside {p q r0 : ℕ} (h : r0 * 128 + p * q ≤ 1296 * 128) (i : Shape.Idx ⟨2, ![p, q]⟩) :
    r0 * 128 + ((i 0).val * q + (i 1).val) < 1296 * 128 := by
  have := spot_lt i
  omega

/-- A gradient that fills its rows: the sum unpacked is the sum of the unpacked parts. -/
theorem full_eq {p q r n n' r0 o : ℕ} (x : FVec Ideal ⟨3, ![8, 1296, 128]⟩ .f32) (hs : (⟨2, ![1296, 128]⟩ : Shape).Slices ![r0, 0] ⟨2, ![r, 128]⟩)
    (hc : (⟨2, ![r, 128]⟩ : Shape).ShapeCasts ⟨1, ![n]⟩) (hc' : (⟨1, ![n]⟩ : Shape).ShapeCasts ⟨2, ![p, q]⟩)
    (kc : (⟨3, ![8, 1296, 128]⟩ : Shape).ShapeCasts ⟨2, ![8, 165888]⟩) (ks : (⟨2, ![8, 165888]⟩ : Shape).Slices ![0, o] ⟨2, ![8, n']⟩)
    (kc' : (⟨2, ![8, n']⟩ : Shape).ShapeCasts ⟨3, ![8, p, q]⟩) (kr : (⟨3, ![8, p, q]⟩ : Shape).ReducesTo [0] ⟨2, ![p, q]⟩) (ku : 0 < (⟨0, ![]⟩ : Shape).numel)
    (ho : o = r0 * 128) (hn : n' = p * q) (hp : r0 * 128 + p * q ≤ 1296 * 128) :
    shapeCast ⟨2, ![p, q]⟩ (shapeCast ⟨1, ![n]⟩ (extractStridedSlice ⟨2, ![r, 128]⟩ ![r0, 0] (Step.sums (F := Ideal) x) hs) hc) hc'
      = Host.reduceAdd (shapeCast ⟨3, ![8, p, q]⟩ (extractStridedSlice ⟨2, ![8, n']⟩ ![0, o] (shapeCast ⟨2, ![8, 165888]⟩ x kc) ks) kc')
        (constant (F := Ideal) ⟨0, ![]⟩ .f32 0x00000000#32) kr ku := by
  subst ho
  funext i
  exact (full_apply _ hs hc hc' i (inside hp i)).trans (ref_apply x kc ks kc' hn kr ku i (inside hp i)).symm

/-- The same for a gradient with padding behind it. -/
theorem short_eq {p q r n m n' r0 o : ℕ} (x : FVec Ideal ⟨3, ![8, 1296, 128]⟩ .f32) (hs : (⟨2, ![1296, 128]⟩ : Shape).Slices ![r0, 0] ⟨2, ![r, 128]⟩)
    (hc : (⟨2, ![r, 128]⟩ : Shape).ShapeCasts ⟨1, ![n]⟩) (hs' : (⟨1, ![n]⟩ : Shape).Slices ![0] ⟨1, ![m]⟩) (hc' : (⟨1, ![m]⟩ : Shape).ShapeCasts ⟨2, ![p, q]⟩)
    (kc : (⟨3, ![8, 1296, 128]⟩ : Shape).ShapeCasts ⟨2, ![8, 165888]⟩) (ks : (⟨2, ![8, 165888]⟩ : Shape).Slices ![0, o] ⟨2, ![8, n']⟩)
    (kc' : (⟨2, ![8, n']⟩ : Shape).ShapeCasts ⟨3, ![8, p, q]⟩) (kr : (⟨3, ![8, p, q]⟩ : Shape).ReducesTo [0] ⟨2, ![p, q]⟩) (ku : 0 < (⟨0, ![]⟩ : Shape).numel)
    (ho : o = r0 * 128) (hn : n' = p * q) (hm : m ≤ n) (hp : r0 * 128 + p * q ≤ 1296 * 128) :
    shapeCast ⟨2, ![p, q]⟩ (extractStridedSlice ⟨1, ![m]⟩ ![0] (shapeCast ⟨1, ![n]⟩ (extractStridedSlice ⟨2, ![r, 128]⟩ ![r0, 0] (Step.sums (F := Ideal) x) hs) hc) hs') hc'
      = Host.reduceAdd (shapeCast ⟨3, ![8, p, q]⟩ (extractStridedSlice ⟨2, ![8, n']⟩ ![0, o] (shapeCast ⟨2, ![8, 165888]⟩ x kc) ks) kc')
        (constant (F := Ideal) ⟨0, ![]⟩ .f32 0x00000000#32) kr ku := by
  subst ho
  funext i
  exact (short_apply _ hs hc hs' hc' hm i (inside hp i)).trans (ref_apply x kc ks kc' hn kr ku i (inside hp i)).symm

end Unpack

namespace Cert.SmallGradsIdeal.Stepped

open Cert.SmallGradsIdeal Cert.SmallGradsIdeal.Gen

variable (m : (ℓ : Loc nD τ sig) → Buf (Elt Ideal) ℓ) (c : Dev nD)

theorem index_in : ∀ t : Fin cfg0.N, ∀ a, win0_0.index t a = 0 := by decide +kernel

theorem index_out : ∀ t : Fin cfg0.N, ∀ a, win0_1.index t a = 0 := by decide +kernel

theorem zeros : (![0, 0] : Fin 2 → ℕ) = fun _ => 0 := by decide

theorem block_eq (x : Vec Ideal S8x1296x128 .f32) : out0_1 x = Step.sums (F := Ideal) (b := 1296) (c := 128) x := by
  unfold out0_1
  rw [View.canon_unit_zero zeros]
  funext j
  exact Step.sum8_eq (Step.ld_under x 0 _ _ j) (Step.ld_under x 1 _ _ j) (Step.ld_under x 2 _ _ j) (Step.ld_under x 3 _ _ j)
    (Step.ld_under x 4 _ _ j) (Step.ld_under x 5 _ _ j) (Step.ld_under x 6 _ _ j) (Step.ld_under x 7 _ _ j)

/-- The packed matrix of the sums. -/
theorem sums_eq : Value.reg_main_v0 m c = Step.sums (F := Ideal) (b := 1296) (c := 128) (m ((c : Thread nD τ).loc main_arg0)) :=
  Dat.arrAt_eq_of_cover _ 1 _ (fun t _ => by
    show (cfg0.win 1).cut (grid0.coords t) ((dats m 0 c).after 1 t) = _
    rw [after0_1, block_eq]
    have p0 : iblk m c 0 t = V m c main_arg0 := funext fun j => congrArg (V m c main_arg0) (funext fun a => Fin.ext (by
      show win0_0.index t a * _ + 1 * (j a).val = (j a).val
      rw [index_in]; omega))
    rw [p0, V_main_arg0]
    funext j
    have pj : ((cfg0.win 1).blk t).view.emb j = j := funext fun a => Fin.ext (by
      show win0_1.index t a * _ + 1 * (j a).val = (j a).val
      rw [index_out]; omega)
    exact (congrArg (Step.sums (F := Ideal) (b := 1296) (c := 128) (m ((c : Thread nD τ).loc main_arg0))) pj).symm) fun i =>
    ⟨⟨0, Nat.one_pos⟩, flush0_1 _, by
      have pj : ((cfg0.win 1).blk ⟨0, Nat.one_pos⟩).view.emb i = i := funext fun a => Fin.ext (by
        show win0_1.index ⟨0, Nat.one_pos⟩ a * _ + 1 * (i a).val = (i a).val
        rw [index_out]; omega)
      exact pj ▸ ((cfg0.win 1).blk ⟨0, Nat.one_pos⟩).view.emb_mem_set i⟩

end Cert.SmallGradsIdeal.Stepped

end
-- ==== Proof.ClaimGrads.lean ====
/-
  The claims about the gradient of the modulation's matrix and the unpacked gradients of the small weights.
-/
module

public import proofs.«01_k».proof.Defs
public import proofs.«01_k».proof.Proof.ModGrad
public import proofs.«01_k».proof.Proof.Unpack
public import proofs.«01_k».proof.Proof.Gen.WModGrad
public import proofs.«01_k».proof.Proof.Gen.WModGrad.Frame
public import proofs.«01_k».proof.Proof.Gen.WModGradIdeal
public import proofs.«01_k».proof.Proof.Gen.WModGradIdeal.Frame
public import proofs.«01_k».proof.Proof.Gen.WModGradIdeal.Value
public import proofs.«01_k».proof.Proof.Gen.WModGradReferenceIdeal
public import proofs.«01_k».proof.Proof.Gen.WModGradReferenceIdeal.Run
public import proofs.«01_k».proof.Proof.Gen.WModGradReferenceIdeal.Read
public import proofs.«01_k».proof.Proof.Gen.SmallGrads
public import proofs.«01_k».proof.Proof.Gen.SmallGrads.Frame
public import proofs.«01_k».proof.Proof.Gen.SmallGradsIdeal
public import proofs.«01_k».proof.Proof.Gen.SmallGradsIdeal.Frame
public import proofs.«01_k».proof.Proof.Gen.SmallGradsIdeal.Run
public import proofs.«01_k».proof.Proof.Gen.SmallGradsReferenceIdeal
public import proofs.«01_k».proof.Proof.Gen.SmallGradsReferenceIdeal.Run
public import Idealize.ShloMosaic.Adequacy
public import Idealize.ShloMosaic.Init

@[expose] public section

noncomputable section

namespace Cert.Proof

open Idealize.ShloMosaic Idealize.SL.Sem

theorem frame_wModGrad : Cert.quiescent_WModGrad := fun m ρ _ => Cert.WModGrad.Gen.frame m ρ

theorem frame_wModGradIdeal : Cert.quiescent_WModGradIdeal := fun m ρ _ => Cert.WModGradIdeal.Gen.frame m ρ

theorem frame_wModGradReferenceIdeal : Cert.quiescent_WModGradReferenceIdeal := fun m ρ _ =>
  (θ_run (Cert.WModGradReferenceIdeal.defs (F := Ideal)) _ _).mono (fun r h => ⟨fun c => (h c).2, sem_eq_zero_of_no_sems (by decide) r.2⟩)
    (Cert.WModGradReferenceIdeal.Value.run (F := Ideal) m ρ)

theorem algebraic_wModGrad : Cert.algebraic_WModGradIdeal_WModGradReferenceIdeal := fun m ρ m' ρ' _ hagree =>
  ⟨fun c => Cert.WModGradReferenceIdeal.Read.val_main_v2 (F := Ideal) (m ((c.tc : Thread Cert.WModGradIdeal.nD Cert.WModGradIdeal.τ).loc Cert.WModGradIdeal.main_arg0))
      (m ((c.tc : Thread Cert.WModGradIdeal.nD Cert.WModGradIdeal.τ).loc Cert.WModGradIdeal.main_arg1)),
    (θ_run (Cert.WModGradIdeal.defs (F := Ideal)) _ _).mono (fun r h c => ⟨(h c).1.trans (Cert.WModGradIdeal.Product.arr2 m c), (h c).2⟩)
      (Cert.WModGradIdeal.Value.run_blocks (F := Ideal) m ρ),
    (θ_run (Cert.WModGradReferenceIdeal.defs (F := Ideal)) _ _).mono (fun r h c => by
      obtain ⟨h0, hk⟩ := h c
      obtain ⟨e0, e1⟩ := hagree c
      rw [e0, e1] at h0
      exact ⟨h0.trans (Cert.WModGradReferenceIdeal.Read.val_main_v2_eq _ _), hk⟩) (Cert.WModGradReferenceIdeal.Value.run (F := Ideal) m' ρ')⟩

theorem frame_smallGrads : Cert.quiescent_SmallGrads := fun m ρ _ => Cert.SmallGrads.Gen.frame m ρ

theorem frame_smallGradsIdeal : Cert.quiescent_SmallGradsIdeal := fun m ρ _ => Cert.SmallGradsIdeal.Gen.frame m ρ

theorem frame_smallGradsReferenceIdeal : Cert.quiescent_SmallGradsReferenceIdeal := fun m ρ _ =>
  (θ_run (Cert.SmallGradsReferenceIdeal.defs (F := Ideal)) _ _).mono
    (fun r h => ⟨fun c => (h c).2.2.2.2.2.2.2.2.2.2.2, sem_eq_zero_of_no_sems (by decide) r.2⟩)
    (Cert.SmallGradsReferenceIdeal.Value.run (F := Ideal) m ρ)

theorem algebraic_smallGrads : Cert.algebraic_SmallGradsIdeal_SmallGradsReferenceIdeal := fun m ρ m' ρ' _ hagree =>
  ⟨_, _, _, _, _, _, _, _, _, _, _, Cert.SmallGradsIdeal.Value.run (F := Ideal) m ρ,
    (θ_run (Cert.SmallGradsReferenceIdeal.defs (F := Ideal)) _ _).mono (fun r h c => by
      obtain ⟨h0, h1, h2, h3, h4, h5, h6, h7, h8, h9, h10, hk⟩ := h c
      rw [hagree c] at h0 h1 h2 h3 h4 h5 h6 h7 h8 h9 h10
      rw [Cert.SmallGradsIdeal.Stepped.sums_eq]
      exact ⟨h0.trans (Unpack.full_eq (p := 1) (q := 1024) (r := 8) (n := 1024) (n' := 1024) (r0 := 0) (o := 0) (m ((c.tc : Thread Cert.SmallGradsIdeal.nD Cert.SmallGradsIdeal.τ).loc Cert.SmallGradsIdeal.main_arg0)) _ _ _ _ _ _ _ _ rfl rfl (by decide)).symm,
        h1.trans (Unpack.full_eq (p := 1024) (q := 128) (r := 1024) (n := 131072) (n' := 131072) (r0 := 8) (o := 1024) (m ((c.tc : Thread Cert.SmallGradsIdeal.nD Cert.SmallGradsIdeal.τ).loc Cert.SmallGradsIdeal.main_arg0)) _ _ _ _ _ _ _ _ rfl rfl (by decide)).symm,
        h2.trans (Unpack.full_eq (p := 8) (q := 128) (r := 8) (n := 1024) (n' := 1024) (r0 := 1032) (o := 132096) (m ((c.tc : Thread Cert.SmallGradsIdeal.nD Cert.SmallGradsIdeal.τ).loc Cert.SmallGradsIdeal.main_arg0)) _ _ _ _ _ _ _ _ rfl rfl (by decide)).symm,
        h3.trans (Unpack.full_eq (p := 4) (q := 4096) (r := 128) (n := 16384) (n' := 16384) (r0 := 1040) (o := 133120) (m ((c.tc : Thread Cert.SmallGradsIdeal.nD Cert.SmallGradsIdeal.τ).loc Cert.SmallGradsIdeal.main_arg0)) _ _ _ _ _ _ _ _ rfl rfl (by decide)).symm,
        h4.trans (Unpack.full_eq (p := 1) (q := 4096) (r := 32) (n := 4096) (n' := 4096) (r0 := 1168) (o := 149504) (m ((c.tc : Thread Cert.SmallGradsIdeal.nD Cert.SmallGradsIdeal.τ).loc Cert.SmallGradsIdeal.main_arg0)) _ _ _ _ _ _ _ _ rfl rfl (by decide)).symm,
        h5.trans (Unpack.short_eq (p := 1) (q := 32) (r := 8) (n := 1024) (m := 32) (n' := 32) (r0 := 1200) (o := 153600) (m ((c.tc : Thread Cert.SmallGradsIdeal.nD Cert.SmallGradsIdeal.τ).loc Cert.SmallGradsIdeal.main_arg0)) _ _ _ _ _ _ _ _ _ rfl rfl (by decide) (by decide)).symm,
        h6.trans (Unpack.short_eq (p := 1) (q := 32) (r := 8) (n := 1024) (m := 32) (n' := 32) (r0 := 1208) (o := 154624) (m ((c.tc : Thread Cert.SmallGradsIdeal.nD Cert.SmallGradsIdeal.τ).loc Cert.SmallGradsIdeal.main_arg0)) _ _ _ _ _ _ _ _ _ rfl rfl (by decide) (by decide)).symm,
        h7.trans (Unpack.short_eq (p := 1) (q := 32) (r := 8) (n := 1024) (m := 32) (n' := 32) (r0 := 1216) (o := 155648) (m ((c.tc : Thread Cert.SmallGradsIdeal.nD Cert.SmallGradsIdeal.τ).loc Cert.SmallGradsIdeal.main_arg0)) _ _ _ _ _ _ _ _ _ rfl rfl (by decide) (by decide)).symm,
        h8.trans (Unpack.full_eq (p := 1) (q := 2048) (r := 16) (n := 2048) (n' := 2048) (r0 := 1224) (o := 156672) (m ((c.tc : Thread Cert.SmallGradsIdeal.nD Cert.SmallGradsIdeal.τ).loc Cert.SmallGradsIdeal.main_arg0)) _ _ _ _ _ _ _ _ rfl rfl (by decide)).symm,
        h9.trans (Unpack.full_eq (p := 1) (q := 1024) (r := 8) (n := 1024) (n' := 1024) (r0 := 1240) (o := 158720) (m ((c.tc : Thread Cert.SmallGradsIdeal.nD Cert.SmallGradsIdeal.τ).loc Cert.SmallGradsIdeal.main_arg0)) _ _ _ _ _ _ _ _ rfl rfl (by decide)).symm,
        h10.trans (Unpack.full_eq (p := 1) (q := 6144) (r := 48) (n := 6144) (n' := 6144) (r0 := 1248) (o := 159744) (m ((c.tc : Thread Cert.SmallGradsIdeal.nD Cert.SmallGradsIdeal.τ).loc Cert.SmallGradsIdeal.main_arg0)) _ _ _ _ _ _ _ _ rfl rfl (by decide)).symm, hk⟩)
      (Cert.SmallGradsReferenceIdeal.Value.run (F := Ideal) m' ρ')⟩

end Cert.Proof

end
-- ==== Proof.Rows.lean ====
/-
  The arithmetic of one row of a root-mean-square norm and of its gradient, on the extended reals.
-/
module

public import Idealize.ShloMosaic.Lib.KernelVsHost
public import Idealize.ShloMosaic.Lib.IdealHost

@[expose] public section

noncomputable section

open Idealize.ShloMosaic

namespace Cert.Rows

/-- The float two is the number two. -/
theorem ofBits_two : Ideal.ofBits .f32 0x40000000#32 = ((2 : ℝ) : EReal) := by
  simp [Ideal.ofBits, Ideal.ieee, -EReal.coe_mul]; norm_num

/-- The float one half is the number one half. -/
theorem ofBits_half : Ideal.ofBits .f32 0x3F000000#32 = ((1 / 2 : ℝ) : EReal) := by
  simp [Ideal.ofBits, Ideal.ieee, -EReal.coe_mul]; norm_num

/-- Twice a number is its sum with itself, on the extended reals. -/
theorem two_mul' (y : EReal) : Ideal.ofBits .f32 0x40000000#32 * y = y + y := by
  rw [ofBits_two, show ((2 : ℝ) : EReal) = 1 + 1 by norm_cast,
    EReal.right_distrib_of_nonneg (by norm_num) (by norm_num), one_mul]

/-- The two halves of the derivative of a square are twice one of them. -/
theorem mul_two_mul (s y : EReal) : s * (Ideal.ofBits .f32 0x40000000#32 * y) = y * s + s * y := by
  rw [← mul_assoc, mul_comm s, mul_assoc, two_mul', mul_comm y s]

/-- One half goes into a finite sum. -/
theorem half_sum {ι : Type*} (s : Finset ι) (f : ι → EReal) :
    Ideal.ofBits .f32 0x3F000000#32 * ∑ i ∈ s, f i = ∑ i ∈ s, Ideal.ofBits .f32 0x3F000000#32 * f i := by
  classical
  have h0 : (0 : EReal) ≤ Ideal.ofBits .f32 0x3F000000#32 := by
    rw [ofBits_half]; norm_cast; norm_num
  have ht : Ideal.ofBits .f32 0x3F000000#32 ≠ ⊤ := by
    rw [ofBits_half]; exact EReal.coe_ne_top _
  induction s using Finset.induction_on with
  | empty => simp
  | insert a s ha ih => rw [Finset.sum_insert ha, Finset.sum_insert ha, EReal.left_distrib_of_nonneg_of_ne_top h0 ht, ih]

/-- A row of a tensor with 1024 columns. -/
abbrev Row := Fin 1024 → EReal

/-- The mean square of a row, with the norm's small constant added. -/
def den (u : Row) : EReal := Ideal.div (∑ l, u l * u l) (Ideal.ofBits .f32 0x44800000#32) + Ideal.ofBits .f32 0x358637BD#32

/-- The factor by which the norm scales a row. -/
def inv (u : Row) : EReal := Ideal.rsqrt (den u)

/-- A row with a gated row added. -/
def mixed (a s b : Row) : Row := fun k => a k + s k * b k

/-- The normed and weighted row less its target. -/
def err (u w t : Row) : Row := fun k => u k * inv u * w k - t k

/-- The row's share of the loss, before its factor of one half. -/
def share (u w t : Row) : EReal := Ideal.div (∑ l, err u w t l * err u w t l) (Ideal.ofBits .f32 0x44800000#32)

/-- The derivative of the loss with respect to the normed and weighted row. -/
def cot (u w t : Row) : Row := fun k =>
  Ideal.div (Ideal.ofBits .f32 0x3F000000#32) (Ideal.ofBits .f32 0x44800000#32) * (Ideal.ofBits .f32 0x40000000#32 * err u w t k)

/-- The derivative with respect to the mean square, divided by the number of columns. -/
def slope (u h : Row) : EReal :=
  Ideal.div ((∑ l, u l * h l) * (Ideal.ofBits .f32 0xBF000000#32 * Ideal.div (inv u) (den u))) (Ideal.ofBits .f32 0x44800000#32)

/-- The derivative of a norm with respect to its row, from the derivative with respect to the scaled row. -/
def back (u h : Row) : Row := fun k => h k * inv u + slope u h * (Ideal.ofBits .f32 0x40000000#32 * u k)

/-- The derivative of the loss with respect to the row that is normed. -/
def grad (u w t : Row) : Row := back u fun k => cot u w t k * w k

end Cert.Rows
-- ==== Proof.FirstNorm.lean ====
/-
  The gradient through the first modulation: the kernel's arrays, assembled from its blocks of rows, are the reference's.
-/
module

public import proofs.«01_k».proof.Proof.Rows
public import proofs.«01_k».proof.Proof.Gen.GradXIdeal.Value
public import proofs.«01_k».proof.Proof.Gen.GradXReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.GradXIdeal.Rows

open Cert.GradXIdeal Cert.GradXIdeal.Gen

/-- The scale's gradient starts from zero. -/
theorem hzero2 (j) : k0_pay2 (F := Ideal) j = 0 := by pointwise [k0_pay2]

/-- The shift's gradient starts from zero. -/
theorem hzero3 (j) : k0_pay3 (F := Ideal) j = 0 := by pointwise [k0_pay3]

/-- One block adds its rows to the shift's gradient. -/
theorem hpay5 (x1 : FVec Ideal S256x1024 .f32) (acc : FVec Ideal S1x1024 .f32) (j : S1x1024.Idx) :
    k0_pay5 (k0_pay9 x1) acc j = acc j + ∑ k : Fin 256, x1 (ix2 k (j 1)) := by
  pointwise [k0_pay5, k0_pay9]

/-- One block adds its rows to the scale's gradient. -/
theorem hpay4 (x0 x1 : FVec Ideal S256x1024 .f32) (acc : FVec Ideal S1x1024 .f32) (j : S1x1024.Idx) :
    k0_pay4 (k0_pay10 x0 x1) acc j = acc j + ∑ k : Fin 256, x0 (ix2 k (j 1)) * Ideal.rsqrt (Ideal.div (∑ l : Fin 1024, x0 (ix2 k l) * x0 (ix2 k l)) (Ideal.ofBits .f32 0x44800000#32) + Ideal.ofBits .f32 0x358637BD#32) * x1 (ix2 k (j 1)) := by
  pointwise [k0_pay4, k0_pay10, k0_pay7, k0_pay8, k0_pay6]

/-- The reference's gradient of the scale. -/
theorem href4 (x0 x1 : FVec Ideal S8192x1024 .f32) (j : S1x1024.Idx) :
    GradXReferenceIdeal.Read.val_main_v26 (F := Ideal) x0 x1 j = ∑ k : Fin 8192, x0 (ix2 k (j 1)) * Ideal.rsqrt (Ideal.div (∑ l : Fin 1024, x0 (ix2 k l) * x0 (ix2 k l)) (Ideal.ofBits .f32 0x44800000#32) + Ideal.ofBits .f32 0x358637BD#32) * x1 (ix2 k (j 1)) := by
  pointwise [GradXReferenceIdeal.Read.val_main_v26, GradXReferenceIdeal.Read.val_main_v25, GradXReferenceIdeal.Read.val_main_cst_6, GradXReferenceIdeal.Read.val_main_v24, GradXReferenceIdeal.Read.val_main_v21, GradXReferenceIdeal.Read.val_main_v14, GradXReferenceIdeal.Read.val_main_v13, GradXReferenceIdeal.Read.val_main_v9, GradXReferenceIdeal.Read.val_main_v8, GradXReferenceIdeal.Read.val_main_v7, GradXReferenceIdeal.Read.val_main_cst_2, GradXReferenceIdeal.Read.val_main_v6, GradXReferenceIdeal.Read.val_main_v5, GradXReferenceIdeal.Read.val_main_cst_1, GradXReferenceIdeal.Read.val_main_v4, GradXReferenceIdeal.Read.val_main_v3, GradXReferenceIdeal.Read.val_main_cst_0, GradXReferenceIdeal.Read.val_main_v0]

/-- The reference's gradient of the shift. -/
theorem href5 (x1 : FVec Ideal S8192x1024 .f32) (j : S1x1024.Idx) :
    GradXReferenceIdeal.Read.val_main_v23 (F := Ideal) x1 j = ∑ k : Fin 8192, x1 (ix2 k (j 1)) := by
  pointwise [GradXReferenceIdeal.Read.val_main_v23, GradXReferenceIdeal.Read.val_main_v22, GradXReferenceIdeal.Read.val_main_cst_5]

variable (m : (ℓ : Loc nD τ sig) → Buf (Elt Ideal) ℓ)

/-- The blocks' places, at every point of the grid. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![0, 0] :=
  (by decide +kernel : ∀ t : Fin grid0.N, _)

set_option maxHeartbeats 1600000 in
/-- What a point of the grid stores is the reference's gradient at that place. -/
theorem point (c : Dev nD) (t : Fin cfg0.N) (y) :
    k0_pay1 (iblk m c 2 t) (k0_pay13 (iblk m c 0 t) (iblk m c 1 t) (iblk m c 3 t)) (k0_pay14 (iblk m c 0 t) (iblk m c 1 t) (iblk m c 3 t)) y
    = GradXReferenceIdeal.Read.val_main_v41 (F := Ideal) (m ((c : Thread nD τ).loc main_arg0)) (m ((c : Thread nD τ).loc main_arg1))
      (m ((c : Thread nD τ).loc main_arg2)) (m ((c : Thread nD τ).loc main_arg3)) (((cfg0.win 5).blk t).view.emb y) := by
  pointwise [k0_pay1, k0_pay13, k0_pay14, k0_pay11, k0_pay12, k0_pay7, k0_pay8, k0_pay6, GradXReferenceIdeal.Read.val_main_v41, GradXReferenceIdeal.Read.val_main_v40, GradXReferenceIdeal.Read.val_main_v39, GradXReferenceIdeal.Read.val_main_v38, GradXReferenceIdeal.Read.val_main_v37, GradXReferenceIdeal.Read.val_main_cst_9, GradXReferenceIdeal.Read.val_main_v36, GradXReferenceIdeal.Read.val_main_v35, GradXReferenceIdeal.Read.val_main_cst_8, GradXReferenceIdeal.Read.val_main_v34, GradXReferenceIdeal.Read.val_main_v33, GradXReferenceIdeal.Read.val_main_v32, GradXReferenceIdeal.Read.val_main_v31, GradXReferenceIdeal.Read.val_main_v30, GradXReferenceIdeal.Read.val_main_cst_7, GradXReferenceIdeal.Read.val_main_v29, GradXReferenceIdeal.Read.val_main_v28, GradXReferenceIdeal.Read.val_main_v27, GradXReferenceIdeal.Read.val_main_v21, GradXReferenceIdeal.Read.val_main_v16, GradXReferenceIdeal.Read.val_main_v15, GradXReferenceIdeal.Read.val_main_cst_4, GradXReferenceIdeal.Read.val_main_v12, GradXReferenceIdeal.Read.val_main_v11, GradXReferenceIdeal.Read.val_main_cst_3, GradXReferenceIdeal.Read.val_main_v10, GradXReferenceIdeal.Read.val_main_v9, GradXReferenceIdeal.Read.val_main_v8, GradXReferenceIdeal.Read.val_main_v7, GradXReferenceIdeal.Read.val_main_cst_2, GradXReferenceIdeal.Read.val_main_v6, GradXReferenceIdeal.Read.val_main_v5, GradXReferenceIdeal.Read.val_main_cst_1, GradXReferenceIdeal.Read.val_main_v4, GradXReferenceIdeal.Read.val_main_v3, GradXReferenceIdeal.Read.val_main_cst_0, GradXReferenceIdeal.Read.val_main_v2, GradXReferenceIdeal.Read.val_main_v1, GradXReferenceIdeal.Read.val_main_cst, GradXReferenceIdeal.Read.val_main_v0]
  simp only [Rows.mul_two_mul, Fin.sum_univ_one, ← add_assoc]
  blk_point [iblk, V, idx t]

/-- The kernel's gradient is the reference's. -/
theorem arr5 (c : Dev nD) : (dats m 0 c).arrAt 5 (cfgs 0).N
    = GradXReferenceIdeal.Read.val_main_v41 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 32 = 0
  · rw [outsAt0_A m c t h]; frame_out; exact point m c t y
  · rw [outsAt0_B m c t h]; frame_out; exact point m c t y

/-- The kernel's gradient of the scale is the reference's. -/
theorem arr6 (c : Dev nD) : (dats m 0 c).arrAt 6 (cfgs 0).N
    = GradXReferenceIdeal.Read.val_main_v26 (F := Ideal) (m ((c : Thread nD τ).loc main_arg0)) (m ((c : Thread nD τ).loc main_arg1)) := by
  refine (dats m 0 c).arrAt_eq_of_covers 6 _ (by decide +kernel) fun t hf y => ?_
  blk_simp
  rw [after0_6, Pipeline.eq_sum_fin_of_reset_step_apply_of_flush (fun n h => (outsAt0 m c n h).2.1) 32 (fun _ => 0) _
    (fun t h j => by rw [outsAt0_A m c t h]; frame_out; rw [hpay4, hzero2])
    (fun t h j => by rw [outsAt0_B m c t h]; frame_out; rw [hpay4])
    t ((flush0_6 t).mp hf) _, zero_add, href4]
  refine Fin.sum_mul_add_congr fun s k hl => ?_
  blk_point [iblk, V, idx t, idx ⟨_, Pipeline.run_point_lt_of_flush t ((flush0_6 t).mp hf) s⟩]

/-- The kernel's gradient of the shift is the reference's. -/
theorem arr7 (c : Dev nD) : (dats m 0 c).arrAt 7 (cfgs 0).N
    = GradXReferenceIdeal.Read.val_main_v23 (F := Ideal) (m ((c : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).2.2) 32 (fun _ => 0) _
    (fun t h j => by rw [outsAt0_A m c t h]; frame_out; rw [hpay5, hzero3])
    (fun t h j => by rw [outsAt0_B m c t h]; frame_out; rw [hpay5])
    t ((flush0_7 t).mp hf) _, zero_add, href5]
  refine Fin.sum_mul_add_congr fun s k hl => ?_
  blk_point [iblk, V, idx t, idx ⟨_, Pipeline.run_point_lt_of_flush t ((flush0_7 t).mp hf) s⟩]

end Cert.GradXIdeal.Rows

end
-- ==== Proof.FinalNorm.lean ====
/-
  The gradient through the final norm and the loss: the kernel's arrays, assembled from its blocks of rows, are the reference's.
-/
module

public import proofs.«01_k».proof.Proof.Rows
public import proofs.«01_k».proof.Proof.Gen.FinalIdeal.Value
public import proofs.«01_k».proof.Proof.Gen.FinalReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.FinalIdeal.Rows

open Cert Cert.FinalIdeal Cert.FinalIdeal.Gen

/-- The loss's block starts from zero. -/
theorem hzero1 (j : S1x128.Idx) : k0_pay1 (F := Ideal) j = 0 := by pointwise [k0_pay1]

/-- The gate's gradient starts from zero. -/
theorem hzero2 (j : S1x1024.Idx) : k0_pay2 (F := Ideal) j = 0 := by pointwise [k0_pay2]

/-- The weight's gradient starts from zero. -/
theorem hzero3 (j : S1x1024.Idx) : k0_pay3 (F := Ideal) j = 0 := by pointwise [k0_pay3]

set_option maxHeartbeats 1600000 in
/-- The block of gradients the kernel stores, as a row's gradient. -/
theorem hpay19 (x0 x1 x2 : FVec Ideal S256x1024 .f32) (x3 x4 : FVec Ideal S1x1024 .f32) (j : S256x1024.Idx) :
    k0_pay19 (k0_pay7 x4) (k0_pay8 x0 x1 x3) (k0_pay10 x0 x1 x3) (k0_pay11 x0 x1 x3) (k0_pay14 x0 x1 x2 x3 x4) (k0_pay16 (F := Ideal)) j = Rows.grad (Rows.mixed (fun l => x0 (ix2 (j 0) l)) (fun l => x3 (ix2 0 l)) fun l => x1 (ix2 (j 0) l)) (fun l => x4 (ix2 0 l)) (fun l => x2 (ix2 (j 0) l)) (j 1) := by
  pointwise [k0_pay19, k0_pay8, k0_pay9, k0_pay10, k0_pay11, k0_pay12, k0_pay7, k0_pay13, k0_pay14, k0_pay16, k0_pay17]
  simp only [Fin.sum_univ_one, mul_one, Rows.half_sum, Rows.mul_two_mul, ← add_assoc, Rows.grad, Rows.back, Rows.slope, Rows.cot, Rows.share, Rows.err, Rows.mixed, Rows.inv, Rows.den]
  blk_point []

set_option maxHeartbeats 1600000 in
/-- The block of gated gradients the kernel stores. -/
theorem hpay22 (x0 x1 x2 : FVec Ideal S256x1024 .f32) (x3 x4 : FVec Ideal S1x1024 .f32) (j : S256x1024.Idx) :
    k0_pay22 x3 (k0_pay7 x4) (k0_pay8 x0 x1 x3) (k0_pay10 x0 x1 x3) (k0_pay11 x0 x1 x3) (k0_pay14 x0 x1 x2 x3 x4) (k0_pay16 (F := Ideal)) j = x3 (ix2 0 (j 1)) * Rows.grad (Rows.mixed (fun l => x0 (ix2 (j 0) l)) (fun l => x3 (ix2 0 l)) fun l => x1 (ix2 (j 0) l)) (fun l => x4 (ix2 0 l)) (fun l => x2 (ix2 (j 0) l)) (j 1) := by
  pointwise [k0_pay22, k0_pay19, k0_pay8, k0_pay9, k0_pay10, k0_pay11, k0_pay12, k0_pay7, k0_pay13, k0_pay14, k0_pay16, k0_pay17]
  simp only [Fin.sum_univ_one, mul_one, Rows.half_sum, Rows.mul_two_mul, ← add_assoc, Rows.grad, Rows.back, Rows.slope, Rows.cot, Rows.share, Rows.err, Rows.mixed, Rows.inv, Rows.den]
  blk_point []

set_option maxHeartbeats 1600000 in
/-- One block adds its rows' shares to the loss. -/
theorem hpay4 (x0 x1 x2 : FVec Ideal S256x1024 .f32) (x3 x4 : FVec Ideal S1x1024 .f32) (acc : FVec Ideal S1x128 .f32) (j : S1x128.Idx) :
    k0_pay4 (k0_pay21 (k0_pay15 x0 x1 x2 x3 x4)) acc j = acc j + ∑ k : Fin 256, Ideal.ofBits .f32 0x3F000000#32 * Rows.share (Rows.mixed (fun l => x0 (ix2 k l)) (fun l => x3 (ix2 0 l)) fun l => x1 (ix2 k l)) (fun l => x4 (ix2 0 l)) (fun l => x2 (ix2 k l)) := by
  pointwise [k0_pay4, k0_pay21, k0_pay15, k0_pay8, k0_pay9, k0_pay10, k0_pay11, k0_pay12, k0_pay7, k0_pay13, k0_pay14, k0_pay16, k0_pay17]
  simp only [Fin.sum_univ_one, mul_one, Rows.half_sum, Rows.mul_two_mul, ← add_assoc, Rows.grad, Rows.back, Rows.slope, Rows.cot, Rows.share, Rows.err, Rows.mixed, Rows.inv, Rows.den]

set_option maxHeartbeats 1600000 in
/-- One block adds its rows to the gate's gradient. -/
theorem hpay5 (x0 x1 x2 : FVec Ideal S256x1024 .f32) (x3 x4 : FVec Ideal S1x1024 .f32) (acc : FVec Ideal S1x1024 .f32) (j : S1x1024.Idx) :
    k0_pay5 (k0_pay20 x1 (k0_pay7 x4) (k0_pay8 x0 x1 x3) (k0_pay10 x0 x1 x3) (k0_pay11 x0 x1 x3) (k0_pay14 x0 x1 x2 x3 x4) (k0_pay16 (F := Ideal))) acc j = acc j + ∑ k : Fin 256, Rows.grad (Rows.mixed (fun l => x0 (ix2 k l)) (fun l => x3 (ix2 0 l)) fun l => x1 (ix2 k l)) (fun l => x4 (ix2 0 l)) (fun l => x2 (ix2 k l)) (j 1) * x1 (ix2 k (j 1)) := by
  pointwise [k0_pay5, k0_pay20, k0_pay19, k0_pay8, k0_pay9, k0_pay10, k0_pay11, k0_pay12, k0_pay7, k0_pay13, k0_pay14, k0_pay16, k0_pay17]
  simp only [Fin.sum_univ_one, mul_one, Rows.half_sum, Rows.mul_two_mul, ← add_assoc, Rows.grad, Rows.back, Rows.slope, Rows.cot, Rows.share, Rows.err, Rows.mixed, Rows.inv, Rows.den]

set_option maxHeartbeats 1600000 in
/-- One block adds its rows to the weight's gradient. -/
theorem hpay6 (x0 x1 x2 : FVec Ideal S256x1024 .f32) (x3 x4 : FVec Ideal S1x1024 .f32) (acc : FVec Ideal S1x1024 .f32) (j : S1x1024.Idx) :
    k0_pay6 (k0_pay18 (k0_pay12 x0 x1 x3) (k0_pay14 x0 x1 x2 x3 x4) (k0_pay16 (F := Ideal))) acc j = acc j + ∑ k : Fin 256, (Rows.mixed (fun l => x0 (ix2 k l)) (fun l => x3 (ix2 0 l)) (fun l => x1 (ix2 k l))) (j 1) * Rows.inv (Rows.mixed (fun l => x0 (ix2 k l)) (fun l => x3 (ix2 0 l)) (fun l => x1 (ix2 k l))) * Rows.cot (Rows.mixed (fun l => x0 (ix2 k l)) (fun l => x3 (ix2 0 l)) fun l => x1 (ix2 k l)) (fun l => x4 (ix2 0 l)) (fun l => x2 (ix2 k l)) (j 1) := by
  pointwise [k0_pay6, k0_pay18, k0_pay8, k0_pay9, k0_pay10, k0_pay11, k0_pay12, k0_pay7, k0_pay13, k0_pay14, k0_pay16, k0_pay17]
  simp only [Fin.sum_univ_one, mul_one, Rows.half_sum, Rows.mul_two_mul, ← add_assoc, Rows.grad, Rows.back, Rows.slope, Rows.cot, Rows.share, Rows.err, Rows.mixed, Rows.inv, Rows.den]

set_option maxHeartbeats 1600000 in
/-- The reference's gradient, as a row's gradient. -/
theorem ref52 (x0 x1 x2 : FVec Ideal S8192x1024 .f32) (x3 : FVec Ideal S1x1024 .f32) (x4 : FVec Ideal S1024 .f32) (j : S8192x1024.Idx) :
    FinalReferenceIdeal.Read.val_main_v52 (F := Ideal) x0 x1 x2 x3 x4 j = Rows.grad (Rows.mixed (fun l => x0 (ix2 (j 0) l)) (fun l => x3 (ix2 0 l)) fun l => x1 (ix2 (j 0) l)) (fun l => x4 (ix1 l)) (fun l => x2 (ix2 (j 0) l)) (j 1) := by
  pointwise [FinalReferenceIdeal.Read.val_main_v52, FinalReferenceIdeal.Read.val_main_v51, FinalReferenceIdeal.Read.val_main_v50, FinalReferenceIdeal.Read.val_main_v49, FinalReferenceIdeal.Read.val_main_cst_15, FinalReferenceIdeal.Read.val_main_v48, FinalReferenceIdeal.Read.val_main_v47, FinalReferenceIdeal.Read.val_main_cst_14, FinalReferenceIdeal.Read.val_main_v46, FinalReferenceIdeal.Read.val_main_v45, FinalReferenceIdeal.Read.val_main_v44, FinalReferenceIdeal.Read.val_main_v43, FinalReferenceIdeal.Read.val_main_v42, FinalReferenceIdeal.Read.val_main_cst_13, FinalReferenceIdeal.Read.val_main_v41, FinalReferenceIdeal.Read.val_main_v40, FinalReferenceIdeal.Read.val_main_v39, FinalReferenceIdeal.Read.val_main_v35, FinalReferenceIdeal.Read.val_main_v34, FinalReferenceIdeal.Read.val_main_v33, FinalReferenceIdeal.Read.val_main_v32, FinalReferenceIdeal.Read.val_main_cst_11, FinalReferenceIdeal.Read.val_main_v31, FinalReferenceIdeal.Read.val_main_v30, FinalReferenceIdeal.Read.val_main_cst_10, FinalReferenceIdeal.Read.val_main_cst_9, FinalReferenceIdeal.Read.val_main_v24, FinalReferenceIdeal.Read.val_main_v23, FinalReferenceIdeal.Read.val_main_cst_4, FinalReferenceIdeal.Read.val_main_v21, FinalReferenceIdeal.Read.val_main_v20, FinalReferenceIdeal.Read.val_main_v19, FinalReferenceIdeal.Read.val_main_v18, FinalReferenceIdeal.Read.val_main_v17, FinalReferenceIdeal.Read.val_main_v16, FinalReferenceIdeal.Read.val_main_v15, FinalReferenceIdeal.Read.val_main_cst_3, FinalReferenceIdeal.Read.val_main_v14, FinalReferenceIdeal.Read.val_main_v13, FinalReferenceIdeal.Read.val_main_v12, FinalReferenceIdeal.Read.val_main_v11, FinalReferenceIdeal.Read.val_main_cst_2, FinalReferenceIdeal.Read.val_main_v10, FinalReferenceIdeal.Read.val_main_v9, FinalReferenceIdeal.Read.val_main_cst_1, FinalReferenceIdeal.Read.val_main_v8, FinalReferenceIdeal.Read.val_main_v7, FinalReferenceIdeal.Read.val_main_cst_0, FinalReferenceIdeal.Read.val_main_v6, FinalReferenceIdeal.Read.val_main_v5, FinalReferenceIdeal.Read.val_main_cst, FinalReferenceIdeal.Read.val_main_v4, FinalReferenceIdeal.Read.val_main_v3, FinalReferenceIdeal.Read.val_main_v2, FinalReferenceIdeal.Read.val_main_v1, FinalReferenceIdeal.Read.val_main_v0]
  simp only [Fin.sum_univ_one, mul_one, Rows.half_sum, Rows.mul_two_mul, ← add_assoc, Rows.grad, Rows.back, Rows.slope, Rows.cot, Rows.share, Rows.err, Rows.mixed, Rows.inv, Rows.den]
  blk_point []

set_option maxHeartbeats 1600000 in
/-- The reference's gated gradient. -/
theorem ref58 (x0 x1 x2 : FVec Ideal S8192x1024 .f32) (x3 : FVec Ideal S1x1024 .f32) (x4 : FVec Ideal S1024 .f32) (j : S8192x1024.Idx) :
    FinalReferenceIdeal.Read.val_main_v58 (F := Ideal) x0 x1 x2 x3 x4 j = x3 (ix2 0 (j 1)) * Rows.grad (Rows.mixed (fun l => x0 (ix2 (j 0) l)) (fun l => x3 (ix2 0 l)) fun l => x1 (ix2 (j 0) l)) (fun l => x4 (ix1 l)) (fun l => x2 (ix2 (j 0) l)) (j 1) := by
  pointwise [FinalReferenceIdeal.Read.val_main_v58, FinalReferenceIdeal.Read.val_main_v54, FinalReferenceIdeal.Read.val_main_v53, FinalReferenceIdeal.Read.val_main_v52, FinalReferenceIdeal.Read.val_main_v51, FinalReferenceIdeal.Read.val_main_v50, FinalReferenceIdeal.Read.val_main_v49, FinalReferenceIdeal.Read.val_main_cst_15, FinalReferenceIdeal.Read.val_main_v48, FinalReferenceIdeal.Read.val_main_v47, FinalReferenceIdeal.Read.val_main_cst_14, FinalReferenceIdeal.Read.val_main_v46, FinalReferenceIdeal.Read.val_main_v45, FinalReferenceIdeal.Read.val_main_v44, FinalReferenceIdeal.Read.val_main_v43, FinalReferenceIdeal.Read.val_main_v42, FinalReferenceIdeal.Read.val_main_cst_13, FinalReferenceIdeal.Read.val_main_v41, FinalReferenceIdeal.Read.val_main_v40, FinalReferenceIdeal.Read.val_main_v39, FinalReferenceIdeal.Read.val_main_v35, FinalReferenceIdeal.Read.val_main_v34, FinalReferenceIdeal.Read.val_main_v33, FinalReferenceIdeal.Read.val_main_v32, FinalReferenceIdeal.Read.val_main_cst_11, FinalReferenceIdeal.Read.val_main_v31, FinalReferenceIdeal.Read.val_main_v30, FinalReferenceIdeal.Read.val_main_cst_10, FinalReferenceIdeal.Read.val_main_cst_9, FinalReferenceIdeal.Read.val_main_v24, FinalReferenceIdeal.Read.val_main_v23, FinalReferenceIdeal.Read.val_main_cst_4, FinalReferenceIdeal.Read.val_main_v21, FinalReferenceIdeal.Read.val_main_v20, FinalReferenceIdeal.Read.val_main_v19, FinalReferenceIdeal.Read.val_main_v18, FinalReferenceIdeal.Read.val_main_v17, FinalReferenceIdeal.Read.val_main_v16, FinalReferenceIdeal.Read.val_main_v15, FinalReferenceIdeal.Read.val_main_cst_3, FinalReferenceIdeal.Read.val_main_v14, FinalReferenceIdeal.Read.val_main_v13, FinalReferenceIdeal.Read.val_main_v12, FinalReferenceIdeal.Read.val_main_v11, FinalReferenceIdeal.Read.val_main_cst_2, FinalReferenceIdeal.Read.val_main_v10, FinalReferenceIdeal.Read.val_main_v9, FinalReferenceIdeal.Read.val_main_cst_1, FinalReferenceIdeal.Read.val_main_v8, FinalReferenceIdeal.Read.val_main_v7, FinalReferenceIdeal.Read.val_main_cst_0, FinalReferenceIdeal.Read.val_main_v6, FinalReferenceIdeal.Read.val_main_v5, FinalReferenceIdeal.Read.val_main_cst, FinalReferenceIdeal.Read.val_main_v4, FinalReferenceIdeal.Read.val_main_v3, FinalReferenceIdeal.Read.val_main_v2, FinalReferenceIdeal.Read.val_main_v1, FinalReferenceIdeal.Read.val_main_v0]
  simp only [Fin.sum_univ_one, mul_one, Rows.half_sum, Rows.mul_two_mul, ← add_assoc, Rows.grad, Rows.back, Rows.slope, Rows.cot, Rows.share, Rows.err, Rows.mixed, Rows.inv, Rows.den]
  blk_point []

set_option maxHeartbeats 1600000 in
/-- The reference's loss, with its factor of one half inside the sum over the rows. -/
theorem ref59 (x0 x1 x2 : FVec Ideal S8192x1024 .f32) (x3 : FVec Ideal S1x1024 .f32) (x4 : FVec Ideal S1024 .f32) (j : S1x128.Idx) :
    FinalReferenceIdeal.Read.val_main_v59 (F := Ideal) x0 x1 x2 x3 x4 j = ∑ k : Fin 8192, Ideal.ofBits .f32 0x3F000000#32 * Rows.share (Rows.mixed (fun l => x0 (ix2 k l)) (fun l => x3 (ix2 0 l)) fun l => x1 (ix2 k l)) (fun l => x4 (ix1 l)) (fun l => x2 (ix2 k l)) := by
  pointwise [FinalReferenceIdeal.Read.val_main_v59, FinalReferenceIdeal.Read.val_main_v29, FinalReferenceIdeal.Read.val_main_cst_8, FinalReferenceIdeal.Read.val_main_v28, FinalReferenceIdeal.Read.val_main_cst_7, FinalReferenceIdeal.Read.val_main_v27, FinalReferenceIdeal.Read.val_main_v26, FinalReferenceIdeal.Read.val_main_cst_6, FinalReferenceIdeal.Read.val_main_v25, FinalReferenceIdeal.Read.val_main_cst_5, FinalReferenceIdeal.Read.val_main_v22, FinalReferenceIdeal.Read.val_main_v21, FinalReferenceIdeal.Read.val_main_v20, FinalReferenceIdeal.Read.val_main_v19, FinalReferenceIdeal.Read.val_main_v18, FinalReferenceIdeal.Read.val_main_v17, FinalReferenceIdeal.Read.val_main_v13, FinalReferenceIdeal.Read.val_main_v12, FinalReferenceIdeal.Read.val_main_v11, FinalReferenceIdeal.Read.val_main_cst_2, FinalReferenceIdeal.Read.val_main_v10, FinalReferenceIdeal.Read.val_main_v9, FinalReferenceIdeal.Read.val_main_cst_1, FinalReferenceIdeal.Read.val_main_v8, FinalReferenceIdeal.Read.val_main_v7, FinalReferenceIdeal.Read.val_main_cst_0, FinalReferenceIdeal.Read.val_main_v4, FinalReferenceIdeal.Read.val_main_v3, FinalReferenceIdeal.Read.val_main_v2, FinalReferenceIdeal.Read.val_main_v1, FinalReferenceIdeal.Read.val_main_v0]
  simp only [Fin.sum_univ_one, mul_one, Rows.half_sum, Rows.mul_two_mul, ← add_assoc, Rows.grad, Rows.back, Rows.slope, Rows.cot, Rows.share, Rows.err, Rows.mixed, Rows.inv, Rows.den]

set_option maxHeartbeats 1600000 in
/-- The reference's gradient of the gate. -/
theorem ref57 (x0 x1 x2 : FVec Ideal S8192x1024 .f32) (x3 : FVec Ideal S1x1024 .f32) (x4 : FVec Ideal S1024 .f32) (j : S1x1024.Idx) :
    FinalReferenceIdeal.Read.val_main_v57 (F := Ideal) x0 x1 x2 x3 x4 j = ∑ k : Fin 8192, Rows.grad (Rows.mixed (fun l => x0 (ix2 k l)) (fun l => x3 (ix2 0 l)) fun l => x1 (ix2 k l)) (fun l => x4 (ix1 l)) (fun l => x2 (ix2 k l)) (j 1) * x1 (ix2 k (j 1)) := by
  pointwise [FinalReferenceIdeal.Read.val_main_v57, FinalReferenceIdeal.Read.val_main_v56, FinalReferenceIdeal.Read.val_main_cst_16, FinalReferenceIdeal.Read.val_main_v55, FinalReferenceIdeal.Read.val_main_v52, FinalReferenceIdeal.Read.val_main_v51, FinalReferenceIdeal.Read.val_main_v50, FinalReferenceIdeal.Read.val_main_v49, FinalReferenceIdeal.Read.val_main_cst_15, FinalReferenceIdeal.Read.val_main_v48, FinalReferenceIdeal.Read.val_main_v47, FinalReferenceIdeal.Read.val_main_cst_14, FinalReferenceIdeal.Read.val_main_v46, FinalReferenceIdeal.Read.val_main_v45, FinalReferenceIdeal.Read.val_main_v44, FinalReferenceIdeal.Read.val_main_v43, FinalReferenceIdeal.Read.val_main_v42, FinalReferenceIdeal.Read.val_main_cst_13, FinalReferenceIdeal.Read.val_main_v41, FinalReferenceIdeal.Read.val_main_v40, FinalReferenceIdeal.Read.val_main_v39, FinalReferenceIdeal.Read.val_main_v35, FinalReferenceIdeal.Read.val_main_v34, FinalReferenceIdeal.Read.val_main_v33, FinalReferenceIdeal.Read.val_main_v32, FinalReferenceIdeal.Read.val_main_cst_11, FinalReferenceIdeal.Read.val_main_v31, FinalReferenceIdeal.Read.val_main_v30, FinalReferenceIdeal.Read.val_main_cst_10, FinalReferenceIdeal.Read.val_main_cst_9, FinalReferenceIdeal.Read.val_main_v24, FinalReferenceIdeal.Read.val_main_v23, FinalReferenceIdeal.Read.val_main_cst_4, FinalReferenceIdeal.Read.val_main_v21, FinalReferenceIdeal.Read.val_main_v20, FinalReferenceIdeal.Read.val_main_v19, FinalReferenceIdeal.Read.val_main_v18, FinalReferenceIdeal.Read.val_main_v17, FinalReferenceIdeal.Read.val_main_v16, FinalReferenceIdeal.Read.val_main_v15, FinalReferenceIdeal.Read.val_main_cst_3, FinalReferenceIdeal.Read.val_main_v14, FinalReferenceIdeal.Read.val_main_v13, FinalReferenceIdeal.Read.val_main_v12, FinalReferenceIdeal.Read.val_main_v11, FinalReferenceIdeal.Read.val_main_cst_2, FinalReferenceIdeal.Read.val_main_v10, FinalReferenceIdeal.Read.val_main_v9, FinalReferenceIdeal.Read.val_main_cst_1, FinalReferenceIdeal.Read.val_main_v8, FinalReferenceIdeal.Read.val_main_v7, FinalReferenceIdeal.Read.val_main_cst_0, FinalReferenceIdeal.Read.val_main_v6, FinalReferenceIdeal.Read.val_main_v5, FinalReferenceIdeal.Read.val_main_cst, FinalReferenceIdeal.Read.val_main_v4, FinalReferenceIdeal.Read.val_main_v3, FinalReferenceIdeal.Read.val_main_v2, FinalReferenceIdeal.Read.val_main_v1, FinalReferenceIdeal.Read.val_main_v0]
  simp only [Fin.sum_univ_one, mul_one, Rows.half_sum, Rows.mul_two_mul, ← add_assoc, Rows.grad, Rows.back, Rows.slope, Rows.cot, Rows.share, Rows.err, Rows.mixed, Rows.inv, Rows.den]

set_option maxHeartbeats 1600000 in
/-- The reference's gradient of the weight. -/
theorem ref38 (x0 x1 x2 : FVec Ideal S8192x1024 .f32) (x3 : FVec Ideal S1x1024 .f32) (x4 : FVec Ideal S1024 .f32) (j : S1x1024.Idx) :
    FinalReferenceIdeal.Read.val_main_v38 (F := Ideal) x0 x1 x2 x3 x4 j = ∑ k : Fin 8192, (Rows.mixed (fun l => x0 (ix2 k l)) (fun l => x3 (ix2 0 l)) (fun l => x1 (ix2 k l))) (j 1) * Rows.inv (Rows.mixed (fun l => x0 (ix2 k l)) (fun l => x3 (ix2 0 l)) (fun l => x1 (ix2 k l))) * Rows.cot (Rows.mixed (fun l => x0 (ix2 k l)) (fun l => x3 (ix2 0 l)) fun l => x1 (ix2 k l)) (fun l => x4 (ix1 l)) (fun l => x2 (ix2 k l)) (j 1) := by
  pointwise [FinalReferenceIdeal.Read.val_main_v38, FinalReferenceIdeal.Read.val_main_v37, FinalReferenceIdeal.Read.val_main_cst_12, FinalReferenceIdeal.Read.val_main_v36, FinalReferenceIdeal.Read.val_main_v35, FinalReferenceIdeal.Read.val_main_v34, FinalReferenceIdeal.Read.val_main_v33, FinalReferenceIdeal.Read.val_main_v32, FinalReferenceIdeal.Read.val_main_cst_11, FinalReferenceIdeal.Read.val_main_v31, FinalReferenceIdeal.Read.val_main_v30, FinalReferenceIdeal.Read.val_main_cst_10, FinalReferenceIdeal.Read.val_main_cst_9, FinalReferenceIdeal.Read.val_main_v24, FinalReferenceIdeal.Read.val_main_v23, FinalReferenceIdeal.Read.val_main_cst_4, FinalReferenceIdeal.Read.val_main_v21, FinalReferenceIdeal.Read.val_main_v20, FinalReferenceIdeal.Read.val_main_v19, FinalReferenceIdeal.Read.val_main_v18, FinalReferenceIdeal.Read.val_main_v17, FinalReferenceIdeal.Read.val_main_v13, FinalReferenceIdeal.Read.val_main_v12, FinalReferenceIdeal.Read.val_main_v11, FinalReferenceIdeal.Read.val_main_cst_2, FinalReferenceIdeal.Read.val_main_v10, FinalReferenceIdeal.Read.val_main_v9, FinalReferenceIdeal.Read.val_main_cst_1, FinalReferenceIdeal.Read.val_main_v8, FinalReferenceIdeal.Read.val_main_v7, FinalReferenceIdeal.Read.val_main_cst_0, FinalReferenceIdeal.Read.val_main_v4, FinalReferenceIdeal.Read.val_main_v3, FinalReferenceIdeal.Read.val_main_v2, FinalReferenceIdeal.Read.val_main_v1, FinalReferenceIdeal.Read.val_main_v0]
  simp only [Fin.sum_univ_one, mul_one, Rows.half_sum, Rows.mul_two_mul, ← add_assoc, Rows.grad, Rows.back, Rows.slope, Rows.cot, Rows.share, Rows.err, Rows.mixed, Rows.inv, Rows.den]

variable (m : (ℓ : Loc nD τ sig) → Buf (Elt Ideal) ℓ)

/-- The blocks' places, at every point of the grid. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

set_option maxHeartbeats 1600000 in
/-- The kernel's gradient is the reference's. -/
theorem arr5 (c : Dev nD) : (dats m 0 c).arrAt 5 (cfgs 0).N
    = FinalReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 32 = 0
  · rw [outsAt0_A m c t h]; frame_out
    refine (hpay19 _ _ _ _ _ y).trans (Eq.trans ?_ (ref52 _ _ _ _ _ _).symm)
    simp only [Rows.grad, Rows.back, Rows.slope, Rows.cot, Rows.share, Rows.err, Rows.mixed, Rows.inv, Rows.den]
    blk_point [iblk, V, idx t]
  · rw [outsAt0_B m c t h]; frame_out
    refine (hpay19 _ _ _ _ _ y).trans (Eq.trans ?_ (ref52 _ _ _ _ _ _).symm)
    simp only [Rows.grad, Rows.back, Rows.slope, Rows.cot, Rows.share, Rows.err, Rows.mixed, Rows.inv, Rows.den]
    blk_point [iblk, V, idx t]

set_option maxHeartbeats 1600000 in
/-- The kernel's gated gradient is the reference's. -/
theorem arr6 (c : Dev nD) : (dats m 0 c).arrAt 6 (cfgs 0).N
    = FinalReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 32 = 0
  · rw [outsAt0_A m c t h]; frame_out
    refine (hpay22 _ _ _ _ _ y).trans (Eq.trans ?_ (ref58 _ _ _ _ _ _).symm)
    simp only [Rows.grad, Rows.back, Rows.slope, Rows.cot, Rows.share, Rows.err, Rows.mixed, Rows.inv, Rows.den]
    blk_point [iblk, V, idx t]
  · rw [outsAt0_B m c t h]; frame_out
    refine (hpay22 _ _ _ _ _ y).trans (Eq.trans ?_ (ref58 _ _ _ _ _ _).symm)
    simp only [Rows.grad, Rows.back, Rows.slope, Rows.cot, Rows.share, Rows.err, Rows.mixed, Rows.inv, Rows.den]
    blk_point [iblk, V, idx t]

set_option maxHeartbeats 1600000 in
/-- The kernel's loss is the reference's. -/
theorem arr7 (c : Dev nD) : (dats m 0 c).arrAt 7 (cfgs 0).N
    = FinalReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0) _
    (fun t h j => by rw [outsAt0_A m c t h]; frame_out; rw [hpay4, hzero1])
    (fun t h j => by rw [outsAt0_B m c t h]; frame_out; rw [hpay4])
    t ((flush0_7 t).mp hf) _, zero_add, ref59]
  refine Fin.sum_mul_add_congr fun s k hl => ?_
  simp only [Rows.grad, Rows.back, Rows.slope, Rows.cot, Rows.share, Rows.err, Rows.mixed, Rows.inv, Rows.den]
  blk_point [iblk, V, idx t, idx ⟨_, Pipeline.run_point_lt_of_flush t ((flush0_7 t).mp hf) s⟩]

set_option maxHeartbeats 1600000 in
/-- The kernel's gradient of the gate is the reference's. -/
theorem arr8 (c : Dev nD) : (dats m 0 c).arrAt 8 (cfgs 0).N
    = FinalReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2.1) 32 (fun _ => 0) _
    (fun t h j => by rw [outsAt0_A m c t h]; frame_out; rw [hpay5, hzero2])
    (fun t h j => by rw [outsAt0_B m c t h]; frame_out; rw [hpay5])
    t ((flush0_8 t).mp hf) _, zero_add, ref57]
  refine Fin.sum_mul_add_congr fun s k hl => ?_
  simp only [Rows.grad, Rows.back, Rows.slope, Rows.cot, Rows.share, Rows.err, Rows.mixed, Rows.inv, Rows.den]
  blk_point [iblk, V, idx t, idx ⟨_, Pipeline.run_point_lt_of_flush t ((flush0_8 t).mp hf) s⟩]

set_option maxHeartbeats 1600000 in
/-- The kernel's gradient of the weight is the reference's. -/
theorem arr9 (c : Dev nD) : (dats m 0 c).arrAt 9 (cfgs 0).N
    = FinalReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.2) 32 (fun _ => 0) _
    (fun t h j => by rw [outsAt0_A m c t h]; frame_out; rw [hpay6, hzero3])
    (fun t h j => by rw [outsAt0_B m c t h]; frame_out; rw [hpay6])
    t ((flush0_9 t).mp hf) _, zero_add, ref38]
  refine Fin.sum_mul_add_congr fun s k hl => ?_
  simp only [Rows.grad, Rows.back, Rows.slope, Rows.cot, Rows.share, Rows.err, Rows.mixed, Rows.inv, Rows.den]
  blk_point [iblk, V, idx t, idx ⟨_, Pipeline.run_point_lt_of_flush t ((flush0_9 t).mp hf) s⟩]

end Cert.FinalIdeal.Rows

end
-- ==== Proof.ClaimNorms.lean ====
/-
  The claims about the gradients through the first modulation and through the final norm and the loss.
-/
module

public import proofs.«01_k».proof.Defs
public import proofs.«01_k».proof.Proof.FirstNorm
public import proofs.«01_k».proof.Proof.FinalNorm
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.GradXReferenceIdeal
public import proofs.«01_k».proof.Proof.Gen.GradXReferenceIdeal.Run
public import proofs.«01_k».proof.Proof.Gen.GradXReferenceIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.FinalReferenceIdeal.Read
public import Idealize.ShloMosaic.Adequacy
public import Idealize.ShloMosaic.Init

@[expose] public section

noncomputable section

namespace Cert.Proof

open Idealize.ShloMosaic Idealize.SL.Sem

theorem frame_gradX : Cert.quiescent_GradX := fun m ρ _ => Cert.GradX.Gen.frame m ρ

theorem frame_gradXIdeal : Cert.quiescent_GradXIdeal := fun m ρ _ => Cert.GradXIdeal.Gen.frame m ρ

theorem frame_gradXReferenceIdeal : Cert.quiescent_GradXReferenceIdeal := fun m ρ _ =>
  (θ_run (Cert.GradXReferenceIdeal.defs (F := Ideal)) _ _).mono
    (fun r h => ⟨fun c => (h c).2.2.2, sem_eq_zero_of_no_sems (by decide) r.2⟩)
    (Cert.GradXReferenceIdeal.Value.run (F := Ideal) m ρ)

theorem algebraic_gradX : Cert.algebraic_GradXIdeal_GradXReferenceIdeal := fun m ρ m' ρ' _ hagree =>
  ⟨fun c => Cert.GradXReferenceIdeal.Read.val_main_v41 (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)) (m ((c.tc : Thread Cert.GradXIdeal.nD Cert.GradXIdeal.τ).loc Cert.GradXIdeal.main_arg2)) (m ((c.tc : Thread Cert.GradXIdeal.nD Cert.GradXIdeal.τ).loc Cert.GradXIdeal.main_arg3)),
    fun c => Cert.GradXReferenceIdeal.Read.val_main_v26 (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)),
    fun c => Cert.GradXReferenceIdeal.Read.val_main_v23 (F := Ideal) (m ((c.tc : Thread Cert.GradXIdeal.nD Cert.GradXIdeal.τ).loc Cert.GradXIdeal.main_arg1)),
    (θ_run (Cert.GradXIdeal.defs (F := Ideal)) _ _).mono (fun r h c => ⟨(h c).1.trans (Cert.GradXIdeal.Rows.arr5 m c), (h c).2.1.trans (Cert.GradXIdeal.Rows.arr6 m c), (h c).2.2.1.trans (Cert.GradXIdeal.Rows.arr7 m c), (h c).2.2.2⟩)
      (Cert.GradXIdeal.Value.run_blocks (F := Ideal) m ρ),
    (θ_run (Cert.GradXReferenceIdeal.defs (F := Ideal)) _ _).mono (fun r h c => by
      obtain ⟨h0, h1, h2, hk⟩ := h c
      obtain ⟨e0, e1, e2, e3, e4⟩ := hagree c
      replace h0 := h0.trans (Cert.GradXReferenceIdeal.Read.val_main_v41_eq _ _ _ _)
      replace h1 := h1.trans (Cert.GradXReferenceIdeal.Read.val_main_v26_eq _ _)
      replace h2 := h2.trans (Cert.GradXReferenceIdeal.Read.val_main_v23_eq _)
      rw [e0, e1, e2, e3] at h0
      rw [e0, e1] at h1
      rw [e1] at h2
      exact ⟨h0, h1, h2, hk⟩) (Cert.GradXReferenceIdeal.Value.run (F := Ideal) m' ρ')⟩

theorem frame_final : Cert.quiescent_Final := fun m ρ _ => Cert.Final.Gen.frame m ρ

theorem frame_finalIdeal : Cert.quiescent_FinalIdeal := fun m ρ _ => Cert.FinalIdeal.Gen.frame m ρ

theorem frame_finalReferenceIdeal : Cert.quiescent_FinalReferenceIdeal := fun m ρ _ =>
  (θ_run (Cert.FinalReferenceIdeal.defs (F := Ideal)) _ _).mono
    (fun r h => ⟨fun c => (h c).2.2.2.2.2, sem_eq_zero_of_no_sems (by decide) r.2⟩)
    (Cert.FinalReferenceIdeal.Value.run (F := Ideal) m ρ)

theorem algebraic_final : Cert.algebraic_FinalIdeal_FinalReferenceIdeal := fun m ρ m' ρ' _ hagree =>
  ⟨fun c => Cert.FinalReferenceIdeal.Read.val_main_v52 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)),
    fun c => Cert.FinalReferenceIdeal.Read.val_main_v58 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)),
    fun c => Cert.FinalReferenceIdeal.Read.val_main_v59 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)),
    fun c => Cert.FinalReferenceIdeal.Read.val_main_v57 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)),
    fun c => Cert.FinalReferenceIdeal.Read.val_main_v38 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)),
    (θ_run (Cert.FinalIdeal.defs (F := Ideal)) _ _).mono (fun r h c => ⟨(h c).1.trans (Cert.FinalIdeal.Rows.arr5 m c), (h c).2.1.trans (Cert.FinalIdeal.Rows.arr6 m c), (h c).2.2.1.trans (Cert.FinalIdeal.Rows.arr7 m c), (h c).2.2.2.1.trans (Cert.FinalIdeal.Rows.arr8 m c), (h c).2.2.2.2.1.trans (Cert.FinalIdeal.Rows.arr9 m c), (h c).2.2.2.2.2⟩)
      (Cert.FinalIdeal.Value.run_blocks (F := Ideal) m ρ),
    (θ_run (Cert.FinalReferenceIdeal.defs (F := Ideal)) _ _).mono (fun r h c => by
      obtain ⟨h0, h1, h2, h3, h4, hk⟩ := h c
      obtain ⟨e0, e1, e2, e3, e4⟩ := hagree c
      replace h0 := h0.trans (Cert.FinalReferenceIdeal.Read.val_main_v52_eq m' c)
      replace h1 := h1.trans (Cert.FinalReferenceIdeal.Read.val_main_v58_eq m' c)
      replace h2 := h2.trans (Cert.FinalReferenceIdeal.Read.val_main_v59_eq _ _ _ _ _)
      replace h3 := h3.trans (Cert.FinalReferenceIdeal.Read.val_main_v57_eq m' c)
      replace h4 := h4.trans (Cert.FinalReferenceIdeal.Read.val_main_v38_eq _ _ _ _ _)
      rw [e0, e1, e2, e3, e4] at h0
      rw [e0, e1, e2, e3, e4] at h1
      rw [e0, e1, e2, e3, e4] at h2
      rw [e0, e1, e2, e3, e4] at h3
      rw [e0, e1, e2, e3, e4] at h4
      exact ⟨h0, h1, h2, h3, h4, hk⟩) (Cert.FinalReferenceIdeal.Value.run (F := Ideal) m' ρ')⟩

end Cert.Proof

end
-- ==== Proof.WInRun.lean ====
/-
  The gradient of a device's columns of the input projection: what the kernel region reads, and what its result becomes.
-/
module

public import proofs.«01_k».proof.Proof.Gen.WInGradIdeal
public import proofs.«01_k».proof.Proof.Gen.WInGradIdeal.Frame
public import Idealize.ShloMosaic.Lib.StableHlo.RunClose
public import Idealize.ShloMosaic.Lib.Pipeline.FrameSuffix

@[expose] public section

noncomputable section

namespace Cert.WInGradIdeal.Columns

open Cert.WInGradIdeal Cert.WInGradIdeal.Gen Idealize.ShloMosaic Idealize.ShloMosaic.TcCoe Idealize.SL.Sem Idealize.ShloMosaic.StableHlo

variable {F : FTy → Type} [FloatOps F]

/-- The eight windows of each device's gradient, a window for each device. -/
def windows (g : (⟨S8x1024x10368, .bf16⟩ : BufTy).Contents (Elt F)) : (⟨S8x8x1024x1408, .bf16⟩ : BufTy).Contents (Elt F) :=
  transpose S8x8x1024x1408 [1, 0, 2, 3] (concatenate S8x8x1024x1408 0 [⟨S1x8x1024x1408, (broadcastInDim S1x8x1024x1408 ![1, 2, 3] bcast_S8x1024x1408_S1x8x1024x1408_1_2_3 (extractStridedSlice S8x1024x1408 ![0, 0, 0] g slices_S8x1024x10368_S8x1024x1408_0_0_0) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 1280] g slices_S8x1024x10368_S8x1024x1408_0_0_1280) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 2560] g slices_S8x1024x10368_S8x1024x1408_0_0_2560) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 3840] g slices_S8x1024x10368_S8x1024x1408_0_0_3840) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 5120] g slices_S8x1024x10368_S8x1024x1408_0_0_5120) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 6400] g slices_S8x1024x10368_S8x1024x1408_0_0_6400) : (⟨S1x8x1024x1408, .bf16⟩ : BufTy).Contents (Elt F))⟩,
      ⟨S1x8x1024x1408, (broadcastInDim S1x8x1024x1408 ![1, 2, 3] bcast_S8x1024x1408_S1x8x1024x1408_1_2_3 (concatenate S8x1024x1408 2 [⟨S8x1024x1280, (extractStridedSlice S8x1024x1280 ![0, 0, 7680] g slices_S8x1024x10368_S8x1024x1280_0_0_7680)⟩, ⟨S8x1024x128, (extractStridedSlice S8x1024x128 ![0, 0, 10240] g slices_S8x1024x10368_S8x1024x128_0_0_10240)⟩] concatenates_S8x1024x1280_S8x1024x128_S8x1024x1408_d2) : (⟨S1x8x1024x1408, .bf16⟩ : BufTy).Contents (Elt F))⟩,
      ⟨S1x8x1024x1408, (broadcastInDim S1x8x1024x1408 ![1, 2, 3] bcast_S8x1024x1408_S1x8x1024x1408_1_2_3 (extractStridedSlice S8x1024x1408 ![0, 0, 8832] g slices_S8x1024x10368_S8x1024x1408_0_0_8832) : (⟨S1x8x1024x1408, .bf16⟩ : BufTy).Contents (Elt F))⟩]
      concatenates_S1x8x1024x1408_S1x8x1024x1408_S1x8x1024x1408_S1x8x1024x1408_S1x8x1024x1408_S1x8x1024x1408_S1x8x1024x1408_S1x8x1024x1408_S8x8x1024x1408_d0 : (⟨S8x8x1024x1408, .bf16⟩ : BufTy).Contents (Elt F)) transposes_S8x8x1024x1408_S8x8x1024x1408_1_0_2_3

/-- Where the window of device `x` starts among the windows. -/
def which (x : (⟨S_, .i32⟩ : BufTy).Contents (Elt F)) : Fin 4 → Int := fun k =>
  ((![constantI S_ 32 0#32, select (cmpi .slt x (constantI S_ 32 0#32)) (addi x (constantI S_ 32 8#32)) x, constantI S_ 32 0#32, constantI S_ 32 0#32] : Fin 4 → (⟨S_, .i32⟩ : BufTy).Contents (Elt F)) k (Shape.Idx.first h_S_)).toInt

/-- The parts that device `x` sums: its window of each device's gradient. -/
def received (g : (⟨S8x1024x10368, .bf16⟩ : BufTy).Contents (Elt F)) (x : (⟨S_, .i32⟩ : BufTy).Contents (Elt F)) :
    (⟨S8x1024x1408, .bf16⟩ : BufTy).Contents (Elt F) :=
  shapeCast S8x1024x1408 (Host.dynamicSlice S8x1x1024x1408 (windows (F := F) g) (which (F := F) x) sliceFits_S8x8x1024x1408_S8x1x1024x1408)
    shapeCasts_S8x1x1024x1408_S8x1024x1408

/-- Where the columns of device `x` start in its window. -/
def spot (x : (⟨S_, .i32⟩ : BufTy).Contents (Elt F)) : Fin 2 → Int := fun k =>
  ((![constantI S_ 32 0#32, select (cmpi .slt (select (cmpi .eq x (constantI S_ 32 7#32)) (id (constantI S_ 32 124#32)) (muli (constantI S_ 32 4#32) x)) (constantI S_ 32 0#32)) (addi (select (cmpi .eq x (constantI S_ 32 7#32)) (id (constantI S_ 32 124#32)) (muli (constantI S_ 32 4#32) x)) (constantI S_ 32 1408#32)) (select (cmpi .eq x (constantI S_ 32 7#32)) (id (constantI S_ 32 124#32)) (muli (constantI S_ 32 4#32) x))] : Fin 2 → (⟨S_, .i32⟩ : BufTy).Contents (Elt F)) k (Shape.Idx.first h_S_)).toInt

/-- The columns of device `x` cut from its summed window. -/
def columns (w : (⟨S1024x1408, .f32⟩ : BufTy).Contents (Elt F)) (x : (⟨S_, .i32⟩ : BufTy).Contents (Elt F)) :
    (⟨S1x1024x1284, .f32⟩ : BufTy).Contents (Elt F) :=
  shapeCast S1x1024x1284 (select (broadcastInDim S1024x1284 ![] bcast_S_S1024x1284 (cmpi .eq x (constantI S_ 32 6#32))) ((concatenate S1024x1284 1 [⟨S1024x488, ((extractStridedSlice S1024x488 ![0, 24] w slices_S1024x1408_S1024x488_0_24) : (⟨S1024x488, .f32⟩ : BufTy).Contents (Elt F))⟩, ⟨S1024x32, ((extractStridedSlice S1024x32 ![0, 1280] w slices_S1024x1408_S1024x32_0_1280) : (⟨S1024x32, .f32⟩ : BufTy).Contents (Elt F))⟩, ⟨S1024x764, ((extractStridedSlice S1024x764 ![0, 512] w slices_S1024x1408_S1024x764_0_512) : (⟨S1024x764, .f32⟩ : BufTy).Contents (Elt F))⟩] concatenates_S1024x488_S1024x32_S1024x764_S1024x1284_d1 : (⟨S1024x1284, .f32⟩ : BufTy).Contents (Elt F))) (Host.dynamicSlice S1024x1284 w (spot x) sliceFits_S1024x1408_S1024x1284)) shapeCasts_S1024x1284_S1x1024x1284

variable (m : (ℓ : Loc nD τ sig) → Buf (Elt F) ℓ)

set_option maxHeartbeats 4000000 in
/-- The parts before the region. -/
theorem head (V0 : Valuation τ sig (Elt F)) :
    after (List.flatten [Gen.hostOps0, Gen.hostOps0_1]) V0 (Proc.devRef .tc main_v20)
      = received (F := F) (V0 (Proc.devRef .tc main_arg0)) (V0 (Proc.devRef .tc main_arg1)) := by
  unfold received windows which
  simp only [Gen.hostOps0, Gen.hostOps0_1, TRef.nullary, TRef.binary, TRef.ternary, TRef.unary, TRef.unaryIndexed, TRef.reshape, TRef.toBuf, TRef.ofBuf, cast_eq, List.flatten_cons, List.flatten_nil, List.append_nil, List.cons_append, List.nil_append]
  after_results_entrywise (rounds := 2) []

/-- The parts that the region reads. -/
theorem V_parts (c : Dev nD) : Gen.V m c main_v20
    = received (F := F) (m ((c.tc : Thread nD τ).loc main_arg0)) (m ((c.tc : Thread nD τ).loc main_arg1)) := head (F := F) _

set_option maxHeartbeats 4000000 in
/-- The result after the region. -/
theorem tail (V0 : Valuation τ sig (Elt F)) :
    after (List.flatten [Gen.hostOps1, Gen.hostOps1_1, Gen.hostOps1_2, Gen.hostOps1_3, Gen.hostOps1_4]) V0 (Proc.devRef .tc main_v35)
      = columns (F := F) (V0 (Proc.devRef .tc main_v21)) (V0 (Proc.devRef .tc main_arg1)) := by
  unfold columns spot
  simp only [Gen.hostOps1, Gen.hostOps1_1, Gen.hostOps1_2, Gen.hostOps1_3, Gen.hostOps1_4, TRef.ternary, TRef.unary, TRef.toBuf, TRef.ofBuf, cast_eq, List.flatten_cons, List.flatten_nil, List.append_nil, List.cons_append, List.nil_append]
  after_results_entrywise (rounds := 1) []

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v21` (window 1's). -/
def reg_main_v21 (c : Dev nD) : Buf (Elt F) ((c.tc : Thread nD τ).loc main_v21) := (Gen.dats m 0 c).arrAt 1 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at the region's result array `main_v21`. -/
theorem exit_main_v21 (c : Dev nD) : exitV m c (Proc.devRef .tc main_v21) = reg_main_v21 m c :=
  Pipeline.withArrays_arr spec0 Gen.launch0.win.arr_inj c (Gen.V0 m c) _ 1

/-- The result from the region's exit contents. -/
theorem fin_main_v35 (c : Dev nD) :
    Pipeline.afterTail₀ cfgs (Gen.dats m) 0 (Gen.V0 m) [Gen.hostOps1, Gen.hostOps1_1, Gen.hostOps1_2, Gen.hostOps1_3, Gen.hostOps1_4] c main_v35
      = columns (F := F) (reg_main_v21 m c) (m ((c.tc : Thread nD τ).loc main_arg1)) :=
  (tail (F := F) (exitV m c)).trans (by rw [exit_main_arg1, exit_main_v21])

/-- Every weakly fair execution terminates with the columns of the summed window, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v35) = columns (F := F) (reg_main_v21 m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v35 (Pipeline.mem_restRefs_of main_v35 (by decide) (by decide))).trans (fin_main_v35 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c)⟩) (Gen.run_main m ρ)

end Cert.WInGradIdeal.Columns

end
-- ==== Proof.WInReference.lean ====
/-
  The reference's gradient of a device's columns of the input projection.
-/
module

public import proofs.«01_k».proof.Proof.Gen.WInGradReferenceIdeal
public import Idealize.ShloMosaic.Lib.StableHlo.RunClose

@[expose] public section

noncomputable section

namespace Cert.WInGradReferenceIdeal.Columns

open Cert.WInGradReferenceIdeal Cert.WInGradReferenceIdeal.Gen Idealize.ShloMosaic Idealize.ShloMosaic.TcCoe Idealize.SL.Sem Idealize.ShloMosaic.StableHlo

variable {F : FTy → Type} [FloatOps F]

/-- The gradients of the devices summed. -/
def total (g : (⟨S8x1024x10368, .bf16⟩ : BufTy).Contents (Elt F)) : (⟨S1024x10368, .f32⟩ : BufTy).Contents (Elt F) :=
  Host.reduceAdd (extf .f32 g bitsLt_bf16_f32) (constant S_ .f32 0x00000000#32) reducesTo_S8x1024x10368_S1024x10368_d0 h_S_

/-- Where the columns of device `x` start. -/
def start (x : (⟨S_, .i32⟩ : BufTy).Contents (Elt F)) : Fin 2 → Int := fun k =>
  ((![constantI S_ 32 0#32, select (cmpi .slt (muli x (constantI S_ 32 1284#32)) (constantI S_ 32 0#32)) (addi (muli x (constantI S_ 32 1284#32)) (constantI S_ 32 10272#32)) (muli x (constantI S_ 32 1284#32))] : Fin 2 → (⟨S_, .i32⟩ : BufTy).Contents (Elt F)) k (Shape.Idx.first h_S_)).toInt

/-- The columns of device `x`. -/
def columns (g : (⟨S8x1024x10368, .bf16⟩ : BufTy).Contents (Elt F)) (x : (⟨S_, .i32⟩ : BufTy).Contents (Elt F)) : (⟨S1x1024x1284, .f32⟩ : BufTy).Contents (Elt F) :=
  broadcastInDim S1x1024x1284 ![1, 2] bcast_S1024x1284_S1x1024x1284_1_2 (Host.dynamicSlice S1024x1284 ((concatenate S1024x10272 1 [⟨S1024x8192, ((extractStridedSlice S1024x8192 ![0, 0] (total (F := F) g) slices_S1024x10368_S1024x8192_0_0) : (⟨S1024x8192, .f32⟩ : BufTy).Contents (Elt F))⟩, ⟨S1024x32, ((extractStridedSlice S1024x32 ![0, 10240] (total (F := F) g) slices_S1024x10368_S1024x32_0_10240) : (⟨S1024x32, .f32⟩ : BufTy).Contents (Elt F))⟩, ⟨S1024x2048, ((extractStridedSlice S1024x2048 ![0, 8192] (total (F := F) g) slices_S1024x10368_S1024x2048_0_8192) : (⟨S1024x2048, .f32⟩ : BufTy).Contents (Elt F))⟩] concatenates_S1024x8192_S1024x32_S1024x2048_S1024x10272_d1 : (⟨S1024x10272, .f32⟩ : BufTy).Contents (Elt F))) (start (F := F) x) sliceFits_S1024x10272_S1024x1284)

/-- The operations of the program, in order. -/
abbrev ops : List (HloOp τ sig (Elt F)) :=
  [ unary main_arg0 main_v0 ((extf .f32 · bitsLt_bf16_f32) : (⟨S8x1024x10368, .bf16⟩ : BufTy).Contents (Elt F) → (⟨S8x1024x10368, .f32⟩ : BufTy).Contents (Elt F)),
    nullary main_cst (constant S_ .f32 0x00000000#32),
    binary main_v0 main_cst main_v1 ((fun x v => Host.reduceAdd x v reducesTo_S8x1024x10368_S1024x10368_d0 h_S_) : (⟨S8x1024x10368, .f32⟩ : BufTy).Contents (Elt F) → (⟨S_, .f32⟩ : BufTy).Contents (Elt F) → (⟨S1024x10368, .f32⟩ : BufTy).Contents (Elt F)),
    unary main_v1 main_v2 ((extractStridedSlice S1024x8192 ![0, 0] · slices_S1024x10368_S1024x8192_0_0) : (⟨S1024x10368, .f32⟩ : BufTy).Contents (Elt F) → (⟨S1024x8192, .f32⟩ : BufTy).Contents (Elt F)),
    unary main_v1 main_v3 ((extractStridedSlice S1024x32 ![0, 10240] · slices_S1024x10368_S1024x32_0_10240) : (⟨S1024x10368, .f32⟩ : BufTy).Contents (Elt F) → (⟨S1024x32, .f32⟩ : BufTy).Contents (Elt F)),
    unary main_v1 main_v4 ((extractStridedSlice S1024x2048 ![0, 8192] · slices_S1024x10368_S1024x2048_0_8192) : (⟨S1024x10368, .f32⟩ : BufTy).Contents (Elt F) → (⟨S1024x2048, .f32⟩ : BufTy).Contents (Elt F)),
    nary ![main_v2, main_v3, main_v4] main_v5 (fun u => (concatenate S1024x10272 1 [⟨S1024x8192, (u 0 : (⟨S1024x8192, .f32⟩ : BufTy).Contents (Elt F))⟩, ⟨S1024x32, (u 1 : (⟨S1024x32, .f32⟩ : BufTy).Contents (Elt F))⟩, ⟨S1024x2048, (u 2 : (⟨S1024x2048, .f32⟩ : BufTy).Contents (Elt F))⟩] concatenates_S1024x8192_S1024x32_S1024x2048_S1024x10272_d1 : (⟨S1024x10272, .f32⟩ : BufTy).Contents (Elt F))),
    nullary main_c (constantI S_ 32 1284#32),
    binary main_arg1 main_c main_v6 (muli : (⟨S_, .i32⟩ : BufTy).Contents (Elt F) → (⟨S_, .i32⟩ : BufTy).Contents (Elt F) → (⟨S_, .i32⟩ : BufTy).Contents (Elt F)),
    nullary main_c_0 (constantI S_ 32 0#32),
    binary main_v6 main_c_0 main_v7 (cmpi .slt : (⟨S_, .i32⟩ : BufTy).Contents (Elt F) → (⟨S_, .i32⟩ : BufTy).Contents (Elt F) → (⟨S_, .i1⟩ : BufTy).Contents (Elt F)),
    nullary main_c_1 (constantI S_ 32 10272#32),
    binary main_v6 main_c_1 main_v8 (addi : (⟨S_, .i32⟩ : BufTy).Contents (Elt F) → (⟨S_, .i32⟩ : BufTy).Contents (Elt F) → (⟨S_, .i32⟩ : BufTy).Contents (Elt F)),
    ternary main_v7 main_v8 main_v6 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_2 (constantI S_ 32 0#32),
    unaryIndexed main_v5 ![main_c_2, main_v9] ⟨S_, .i32⟩ main_v10 ((fun x i => Host.dynamicSlice S1024x1284 x (fun k => (i k (Shape.Idx.first h_S_)).toInt) sliceFits_S1024x10272_S1024x1284) : (⟨S1024x10272, .f32⟩ : BufTy).Contents (Elt F) → (Fin 2 → (⟨S_, .i32⟩ : BufTy).Contents (Elt F)) → (⟨S1024x1284, .f32⟩ : BufTy).Contents (Elt F)),
    unary main_v10 main_v11 (broadcastInDim S1x1024x1284 ![1, 2] bcast_S1024x1284_S1x1024x1284_1_2 : (⟨S1024x1284, .f32⟩ : BufTy).Contents (Elt F) → (⟨S1x1024x1284, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., binary_bufs_sub .., unary_bufs_sub .., unary_bufs_sub .., unary_bufs_sub .., nary_bufs_sub .., nullary_bufs_sub .., binary_bufs_sub .., nullary_bufs_sub .., binary_bufs_sub .., nullary_bufs_sub .., binary_bufs_sub .., ternary_bufs_sub .., nullary_bufs_sub .., unaryIndexed_bufs_sub .., unary_bufs_sub ..⟩

set_option maxHeartbeats 4000000 in
/-- The result after the operations. -/
theorem result (V0 : Valuation τ sig (Elt F)) : after ops V0 (Proc.devRef .tc main_v11)
    = columns (F := F) (V0 (Proc.devRef .tc main_arg0)) (V0 (Proc.devRef .tc main_arg1)) := by
  unfold columns total start
  after_results_entrywise (rounds := 1) []

/-- An argument after the operations. -/
theorem kept0 (V0 : Valuation τ sig (Elt F)) : after ops V0 (Proc.devRef .tc main_arg0) = V0 (Proc.devRef .tc main_arg0) := by
  after_results_simp

theorem kept1 (V0 : Valuation τ sig (Elt F)) : after ops V0 (Proc.devRef .tc main_arg1) = V0 (Proc.devRef .tc main_arg1) := by
  after_results_simp

/-- Every weakly fair execution terminates with the columns of the sum, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = columns (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (result (F := F) _), (h c main_arg0).trans (kept0 (F := F) _), (h c main_arg1).trans (kept1 (F := F) _)⟩)
    (run_seq scopedRefs_eq scopedSems_eq defs main (fun _ => ops) main_eq (fun _ => ops_sub) m ρ)

end Cert.WInGradReferenceIdeal.Columns

end
-- ==== Proof.WInValue.lean ====
/-
  The gradient of a device's columns of the input projection, entry by entry.
-/
module

public import proofs.«01_k».proof.Proof.WInRun
public import proofs.«01_k».proof.Proof.Step
public import proofs.«01_k».proof.Proof.WInReference
public import Idealize.ShloMosaic.Lib.Pipeline.ValueKit

@[expose] public section

set_option maxRecDepth 16384

noncomputable section

namespace Cert.WInGradIdeal.Columns

open Cert.WInGradIdeal Cert.WInGradIdeal.Gen Idealize.ShloMosaic Idealize.ShloMosaic.TcCoe Idealize.SL.Sem Idealize.ShloMosaic.StableHlo

/-- The column of the joined projection at place `w` of the window of device `k`. -/
def place (k w : ℕ) : ℕ := if k < 6 then 1280 * k + w else if k = 6 then (if w < 1280 then 7680 + w else 8960 + w) else 8832 + w

theorem place_lt {k w : ℕ} (hw : w < 1408) : place k w < 10368 := by
  unfold place; split_ifs <;> omega

/-- Where the columns of device `k` start in its window. -/
def shift (k : ℕ) : ℕ := if k = 7 then 124 else 4 * k

/-- Where the window of a device starts. -/
theorem which_eq (k : Fin 8) : ∀ a : Fin 4, Host.clampedStart S8x8x1024x1408 S8x1x1024x1408 rfl (which (F := Ideal) fun _ => BitVec.ofNat 32 k.val) a
    = (![0, k.val, 0, 0] : Fin 4 → ℕ) a :=
  match k with
  | 0 => fun | 0 => rfl | 1 => rfl | 2 => rfl | 3 => rfl
  | 1 => fun | 0 => rfl | 1 => rfl | 2 => rfl | 3 => rfl
  | 2 => fun | 0 => rfl | 1 => rfl | 2 => rfl | 3 => rfl
  | 3 => fun | 0 => rfl | 1 => rfl | 2 => rfl | 3 => rfl
  | 4 => fun | 0 => rfl | 1 => rfl | 2 => rfl | 3 => rfl
  | 5 => fun | 0 => rfl | 1 => rfl | 2 => rfl | 3 => rfl
  | 6 => fun | 0 => rfl | 1 => rfl | 2 => rfl | 3 => rfl
  | 7 => fun | 0 => rfl | 1 => rfl | 2 => rfl | 3 => rfl

/-- Where a device's columns start in its window. -/
theorem spot_eq (k : Fin 8) : ∀ a : Fin 2, Host.clampedStart S1024x1408 S1024x1284 rfl (spot (F := Ideal) fun _ => BitVec.ofNat 32 k.val) a
    = (![0, shift k.val] : Fin 2 → ℕ) a :=
  match k with
  | 0 => fun | 0 => rfl | 1 => rfl
  | 1 => fun | 0 => rfl | 1 => rfl
  | 2 => fun | 0 => rfl | 1 => rfl
  | 3 => fun | 0 => rfl | 1 => rfl
  | 4 => fun | 0 => rfl | 1 => rfl
  | 5 => fun | 0 => rfl | 1 => rfl
  | 6 => fun | 0 => rfl | 1 => rfl
  | 7 => fun | 0 => rfl | 1 => rfl

/-- Where a device's columns start in the whole. -/
theorem start_eq (k : Fin 8) : ∀ a : Fin 2, Host.clampedStart WInGradReferenceIdeal.S1024x10272 WInGradReferenceIdeal.S1024x1284 rfl
    (WInGradReferenceIdeal.Columns.start (F := Ideal) fun _ => BitVec.ofNat 32 k.val) a = (![0, 1284 * k.val] : Fin 2 → ℕ) a :=
  match k with
  | 0 => fun | 0 => rfl | 1 => rfl
  | 1 => fun | 0 => rfl | 1 => rfl
  | 2 => fun | 0 => rfl | 1 => rfl
  | 3 => fun | 0 => rfl | 1 => rfl
  | 4 => fun | 0 => rfl | 1 => rfl
  | 5 => fun | 0 => rfl | 1 => rfl
  | 6 => fun | 0 => rfl | 1 => rfl
  | 7 => fun | 0 => rfl | 1 => rfl

/-- Only one device's columns are cut from two places. -/
theorem six_eq (k : Fin 8) : IntOp.cmpi .eq (BitVec.ofNat 32 k.val) 6#32 = if k.val = 6 then 1#1 else 0#1 :=
  match k with
  | 0 => rfl
  | 1 => rfl
  | 2 => rfl
  | 3 => rfl
  | 4 => rfl
  | 5 => rfl
  | 6 => rfl
  | 7 => rfl

variable (g : (⟨S8x1024x10368, .bf16⟩ : BufTy).Contents (Elt Ideal))

/-- A window's entry. -/
theorem windows_apply (i : S8x8x1024x1408.Idx) :
    windows (F := Ideal) g i = g (ix3 (i 0) (i 2) ⟨place (i 1).val (i 3).val, place_lt (i 3).isLt⟩) := by
  have h1 : (i 1).val < 8 := (i 1).isLt
  pointwise [windows]
  split_ifs <;> exact congrArg (fun n => g (ix3 (i 0) (i 2) n)) (Fin.ext (by simp only [place]; split_ifs <;> omega))

/-- A part's entry. -/
theorem received_apply (k : Fin 8) (i : S8x1024x1408.Idx) :
    received (F := Ideal) g (fun _ => BitVec.ofNat 32 k.val) i = g (ix3 (i 0) (i 1) ⟨place k.val (i 2).val, place_lt (i 2).isLt⟩) := by
  unfold received
  pointwise []
  simp only [which_eq k 0, which_eq k 1, which_eq k 2, which_eq k 3, windows_apply]
  simp

variable (m : (ℓ : Loc nD τ sig) → Buf (Elt Ideal) ℓ)

/-- The sum of the parts. -/
def summed (x : S8x1024x1408.Idx → EReal) : S1024x1408.Idx → EReal := fun i => ∑ d : Fin 8, x (ix3 d (i 0) (i 1))

theorem idx : ∀ t : Fin cfg0.N, win0_0.index t = ![0, t.val, 0] ∧ win0_1.index t = ![t.val, 0] := by decide +kernel

/-- The region leaves the sum of the parts. -/
theorem reg_eq (c : Dev nD) : reg_main_v21 m c = summed (V m c main_v20) := by
  unfold reg_main_v21
  refine (dats m 0 c).arrAt_eq_of_covers 1 _ (by decide +kernel) fun t _ y => ?_
  blk_simp
  rw [after0_1]
  frame_out
  pointwise [k0_pay1, summed]
  simp only [Fin.sum_univ_eight]
  unfold iblk
  generalize V m c (Pipeline.arrRef (cfgs 0).spec 0) = x
  blk_point [idx t]

/-- The place in the window of the column at place `j` of device `k`. -/
def spotOf (k j : ℕ) : ℕ := if k = 6 then (if j < 488 then 24 + j else if j < 520 then 792 + j else j - 8) else shift k + j

theorem spotOf_lt {k j : ℕ} (hk : k < 8) (hj : j < 1284) : spotOf k j < 1408 := by
  unfold spotOf shift; split_ifs <;> omega

/-- A column cut from the window. -/
theorem columns_apply (w : S1024x1408.Idx → EReal) (k : Fin 8) (i : S1x1024x1284.Idx) :
    columns (F := Ideal) w (fun _ => BitVec.ofNat 32 k.val) i = w (ix2 (i 1) ⟨spotOf k.val (i 2).val, spotOf_lt k.isLt (i 2).isLt⟩) := by
  have h2 : (i 2).val < 1284 := (i 2).isLt
  unfold columns
  pointwise []
  have sel : ∀ a b : EReal, Scalar.select (if k.val = 6 then 1#1 else 0#1) a b = if k.val = 6 then a else b := fun a b => by split_ifs <;> rfl
  simp only [spot_eq k 0, spot_eq k 1, six_eq k, sel, Matrix.cons_val, zero_add]
  split_ifs <;> exact congrArg (fun n => w (ix2 (i 1) n)) (Fin.ext (by simp only [spotOf]; split_ifs <;> omega))

/-- The column of the whole, its order that of the joined projection. -/
def column (n : ℕ) : ℕ := if n < 8192 then n else if n < 8224 then n + 2048 else n - 32

theorem column_lt {n : ℕ} (hn : n < 10272) : column n < 10368 := by
  unfold column; split_ifs <;> omega

/-- The reference's column. -/
theorem reference_apply (k : Fin 8) (i : S1x1024x1284.Idx) :
    WInGradReferenceIdeal.Columns.columns (F := Ideal) g (fun _ => BitVec.ofNat 32 k.val) i
      = ∑ d : Fin 8, (g : S8x1024x10368.Idx → EReal) (ix3 d (i 1) ⟨column (1284 * k.val + (i 2).val), column_lt (by have := k.isLt; have h : (i 2).val < 1284 := (i 2).isLt; omega)⟩) := by
  have h2 : (i 2).val < 1284 := (i 2).isLt
  unfold WInGradReferenceIdeal.Columns.columns
  pointwise [WInGradReferenceIdeal.Columns.total]
  simp only [start_eq k 0, start_eq k 1, Matrix.cons_val, zero_add]
  split_ifs <;> exact Finset.sum_congr rfl fun d _ => congrArg (fun n => g (ix3 d (i 1) n)) (Fin.ext (by simp only [column]; split_ifs <;> omega))

/-- The window's place of a device's column is the column of the whole. -/
theorem place_spotOf {k j : ℕ} (hk : k < 8) (hj : j < 1284) : place k (spotOf k j) = column (1284 * k + j) := by
  unfold place spotOf shift column
  split_ifs <;> omega

/-- The result is the reference's. -/
theorem result_eq (k : Fin 8) : columns (F := Ideal) (summed (received (F := Ideal) g fun _ => BitVec.ofNat 32 k.val)) (fun _ => BitVec.ofNat 32 k.val)
    = WInGradReferenceIdeal.Columns.columns (F := Ideal) g (fun _ => BitVec.ofNat 32 k.val) := by
  funext i
  refine (columns_apply _ k i).trans ((Finset.sum_congr rfl fun d _ => ?_).trans (reference_apply g k i).symm)
  refine (received_apply g k _).trans (congrArg (fun n => g (ix3 d (i 1) n)) (Fin.ext ?_))
  exact place_spotOf k.isLt (i 2).isLt

end Cert.WInGradIdeal.Columns

end
-- ==== Proof.ClaimWIn.lean ====
/-
  The claims about the gradient of a device's columns of the input projection.
-/
module

public import proofs.«01_k».proof.Defs
public import proofs.«01_k».proof.Proof.WInValue
public import proofs.«01_k».proof.Proof.Gen.WInGrad
public import proofs.«01_k».proof.Proof.Gen.WInGrad.Frame
public import proofs.«01_k».proof.Proof.Gen.WInGradIdeal
public import proofs.«01_k».proof.Proof.Gen.WInGradIdeal.Frame
public import proofs.«01_k».proof.Proof.Gen.WInGradReferenceIdeal
public import Idealize.ShloMosaic.Adequacy
public import Idealize.ShloMosaic.Init
public import Idealize.ShloMosaic.Lib.Affine

@[expose] public section

noncomputable section

namespace Cert.Proof

open Idealize.ShloMosaic Idealize.SL.Sem

theorem facts_isDevice : Cert.Pre_is_device.Facts := ⟨⟩

theorem frame_wInGrad : Cert.quiescent_WInGrad := fun m ρ _ => Cert.WInGrad.Gen.frame m ρ

theorem frame_wInGradIdeal : Cert.quiescent_WInGradIdeal := fun m ρ _ => Cert.WInGradIdeal.Gen.frame m ρ

theorem frame_wInGradReferenceIdeal : Cert.quiescent_WInGradReferenceIdeal := fun m ρ _ =>
  (θ_run (Cert.WInGradReferenceIdeal.defs (F := Ideal)) _ _).mono
    (fun r h => ⟨fun c => (h c).2, sem_eq_zero_of_no_sems (by decide) r.2⟩)
    (Cert.WInGradReferenceIdeal.Columns.run (F := Ideal) m ρ)

theorem frame_wInGradIdeal_isDevice : Cert.quiescent_WInGradIdeal_pre_is_device (hPre_is_device := facts_isDevice) :=
  fun m ρ _ => frame_wInGradIdeal m ρ trivial

theorem frame_wInGradReferenceIdeal_isDevice : Cert.quiescent_WInGradReferenceIdeal_pre_is_device (hPre_is_device := facts_isDevice) :=
  fun m ρ _ => frame_wInGradReferenceIdeal m ρ trivial

/-- A number that the precondition allows is a device's. -/
theorem device_of [Cert.Pre_is_device.Facts] (g : FVec Ideal Cert.Pre_is_device.S8x1024x10368 .bf16) (x : IVec Cert.Pre_is_device.S_ 32)
    (h : Cert.Pre_is_device.fn (F := Ideal) g x = fun _ => 1#1) : ∃ k : Fin 8, x = fun _ => BitVec.ofNat 32 k.val := by
  let o : Cert.Pre_is_device.S_.Idx := fun a => a.elim0
  have e : ∀ i, x i = x o := fun i => congrArg x (funext fun a => a.elim0)
  have h0 : IntOp.andi (IntOp.cmpi .sge (x o) 0#32) (IntOp.cmpi .slt (x o) 8#32) = 1#1 := congrFun h o
  obtain ⟨hl, hu⟩ := IntOp.andi_eq_one.mp h0
  rw [IntOp.cmpi_sge] at hl
  rw [IntOp.cmpi_slt] at hu
  have hb : (x o).toNat < 8 := by
    have c0 : (0#32 : BitVec 32).toInt = 0 := rfl
    have c8 : (8#32 : BitVec 32).toInt = 8 := rfl
    have ht := BitVec.toInt_eq_toNat_cond (x o)
    have hlt := (x o).isLt
    rw [c0] at hl
    rw [c8] at hu
    split_ifs at ht <;> omega
  exact ⟨⟨(x o).toNat, hb⟩, funext fun i => (e i).trans (BitVec.ofNat_toNat _ _ ▸ (BitVec.setWidth_eq _).symm)⟩

/-- The result of a device is the reference's. -/
theorem columns_eq (m : (ℓ : Loc Cert.WInGradIdeal.nD Cert.WInGradIdeal.τ Cert.WInGradIdeal.sig) → Buf (Elt Ideal) ℓ) (c : Dev Cert.WInGradIdeal.nD)
    (g : FVec Ideal Cert.WInGradIdeal.S8x1024x10368 .bf16) (x : IVec Cert.WInGradIdeal.S_ 32)
    (hg : m ((c.tc : Thread Cert.WInGradIdeal.nD Cert.WInGradIdeal.τ).loc Cert.WInGradIdeal.main_arg0) = g)
    (hx : m ((c.tc : Thread Cert.WInGradIdeal.nD Cert.WInGradIdeal.τ).loc Cert.WInGradIdeal.main_arg1) = x) (hk : ∃ k : Fin 8, x = fun _ => BitVec.ofNat 32 k.val) :
    Cert.WInGradIdeal.Columns.columns (F := Ideal) (Cert.WInGradIdeal.Columns.reg_main_v21 m c) x
      = Cert.WInGradReferenceIdeal.Columns.columns (F := Ideal) g x := by
  obtain ⟨k, rfl⟩ := hk
  have h := (Cert.WInGradIdeal.Columns.reg_eq m c).trans (congrArg Cert.WInGradIdeal.Columns.summed
    ((Cert.WInGradIdeal.Columns.V_parts m c).trans (congrArg₂ (Cert.WInGradIdeal.Columns.received (F := Ideal)) hg hx)))
  exact (congrArg (fun w => Cert.WInGradIdeal.Columns.columns (F := Ideal) w (fun _ => BitVec.ofNat 32 k.val)) h).trans
    (Cert.WInGradIdeal.Columns.result_eq g k)

theorem algebraic_wInGrad : Cert.algebraic_WInGradIdeal_WInGradReferenceIdeal_pre_is_device (hPre_is_device := facts_isDevice) :=
  fun m ρ m' ρ' hpre hagree =>
  ⟨fun c => Cert.WInGradReferenceIdeal.Columns.columns (F := Ideal) (m ((c.tc : Thread Cert.WInGradIdeal.nD Cert.WInGradIdeal.τ).loc Cert.WInGradIdeal.main_arg0))
      (m ((c.tc : Thread Cert.WInGradIdeal.nD Cert.WInGradIdeal.τ).loc Cert.WInGradIdeal.main_arg1)),
    (θ_run (Cert.WInGradIdeal.defs (F := Ideal)) _ _).mono (fun r h c => ⟨(h c).1.trans
        (columns_eq m c _ _ rfl rfl (@device_of facts_isDevice _ _ (hpre c))), (h c).2⟩)
      (Cert.WInGradIdeal.Columns.run (F := Ideal) m ρ),
    (θ_run (Cert.WInGradReferenceIdeal.defs (F := Ideal)) _ _).mono (fun r h c => by
      obtain ⟨h0, hk⟩ := h c
      obtain ⟨e0, e1⟩ := hagree c
      rw [e0, e1] at h0
      exact ⟨h0, hk⟩) (Cert.WInGradReferenceIdeal.Columns.run (F := Ideal) m' ρ')⟩

end Cert.Proof

end
-- ==== Proof.ProductsWhole.lean ====
/-
  The products whose contraction fits in one block: each block of the result is the reference's, entry by entry.
-/
module

public import proofs.«01_k».proof.Proof.Gen.UpIdeal.Value
public import proofs.«01_k».proof.Proof.Gen.UpReferenceIdeal.Read
public import proofs.«01_k».proof.Proof.Gen.OutIdeal.Value
public import proofs.«01_k».proof.Proof.Gen.OutReferenceIdeal.Read
public import proofs.«01_k».proof.Proof.Gen.DtIdeal.Value
public import proofs.«01_k».proof.Proof.Gen.DtReferenceIdeal.Read
public import proofs.«01_k».proof.Proof.Gen.DownInGradIdeal.Value
public import proofs.«01_k».proof.Proof.Gen.DownInGradReferenceIdeal.Read
public import proofs.«01_k».proof.Proof.Gen.OutInGradIdeal.Value
public import proofs.«01_k».proof.Proof.Gen.OutInGradReferenceIdeal.Read
public import proofs.«01_k».proof.Proof.Gen.BranchInGradIdeal.Value
public import proofs.«01_k».proof.Proof.Gen.BranchInGradReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pipeline

/-! ## The rows times the first feed-forward weight. -/

namespace Cert.UpIdeal.Product

open Cert.UpIdeal Cert.UpIdeal.Gen

variable (m : (ℓ : Loc nD τ sig) → Buf (Elt Ideal) ℓ)

/-- The blocks' places, at every point of the grid. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The kernel's product is the reference's. -/
theorem arr2 (c : Dev nD) : (dats m 0 c).arrAt 2 (cfgs 0).N
    = UpReferenceIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, k0_pay4, UpReferenceIdeal.Read.val_main_v1, UpReferenceIdeal.Read.val_main_v0]
  blk_point [iblk, V, idx t]

end Cert.UpIdeal.Product

/-! ## The rows times a square weight: the output projection and the projection of the gated branch. -/

namespace Cert.OutIdeal.Product

open Cert.OutIdeal Cert.OutIdeal.Gen

variable (m : (ℓ : Loc nD τ sig) → Buf (Elt Ideal) ℓ)

/-- The blocks' places, at every point of the grid. -/
theorem idx : ∀ t : Fin cfg0.N, win0_0.index t = ![t.val, 0] ∧ win0_1.index t = ![0, 0] ∧ win0_2.index t = ![t.val, 0] :=
  (by decide +kernel : ∀ t : Fin grid0.N, _)

/-- The kernel's product is the reference's. -/
theorem arr2 (c : Dev nD) : (dats m 0 c).arrAt 2 (cfgs 0).N
    = OutReferenceIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, OutReferenceIdeal.Read.val_main_v0]
  blk_point [iblk, V, idx t]

end Cert.OutIdeal.Product

/-! ## The rows times the columns of the step sizes. -/

namespace Cert.DtIdeal.Product

open Cert.DtIdeal Cert.DtIdeal.Gen

variable (m : (ℓ : Loc nD τ sig) → Buf (Elt Ideal) ℓ)

/-- The blocks' places, at every point of the grid. -/
theorem idx : ∀ t : Fin cfg0.N, win0_0.index t = ![t.val, 0] ∧ win0_1.index t = ![0, 0] ∧ win0_2.index t = ![t.val, 0] :=
  (by decide +kernel : ∀ t : Fin grid0.N, _)

/-- The kernel's product is the reference's. -/
theorem arr2 (c : Dev nD) : (dats m 0 c).arrAt 2 (cfgs 0).N
    = DtReferenceIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, DtReferenceIdeal.Read.val_main_v0]
  blk_point [iblk, V, idx t]

end Cert.DtIdeal.Product

/-! ## The gradient of the activations. -/

namespace Cert.DownInGradIdeal.Product

open Cert.DownInGradIdeal Cert.DownInGradIdeal.Gen

variable (m : (ℓ : Loc nD τ sig) → Buf (Elt Ideal) ℓ)

/-- The blocks' places, at every point of the grid. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The kernel's product is the reference's. -/
theorem arr2 (c : Dev nD) : (dats m 0 c).arrAt 2 (cfgs 0).N
    = DownInGradReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, k0_pay4, DownInGradReferenceIdeal.Read.val_main_v2, DownInGradReferenceIdeal.Read.val_main_v1, DownInGradReferenceIdeal.Read.val_main_v0]
  blk_point [iblk, V, idx t]

end Cert.DownInGradIdeal.Product

/-! ## The gradient of the rows of a square weight's product. -/

namespace Cert.OutInGradIdeal.Product

open Cert.OutInGradIdeal Cert.OutInGradIdeal.Gen

variable (m : (ℓ : Loc nD τ sig) → Buf (Elt Ideal) ℓ)

/-- The blocks' places, at every point of the grid. -/
theorem idx : ∀ t : Fin cfg0.N, win0_0.index t = ![t.val, 0] ∧ win0_1.index t = ![0, 0] ∧ win0_2.index t = ![t.val, 0] :=
  (by decide +kernel : ∀ t : Fin grid0.N, _)

/-- The kernel's product is the reference's. -/
theorem arr2 (c : Dev nD) : (dats m 0 c).arrAt 2 (cfgs 0).N
    = OutInGradReferenceIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, OutInGradReferenceIdeal.Read.val_main_v1, OutInGradReferenceIdeal.Read.val_main_v0]
  blk_point [iblk, V, idx t]

end Cert.OutInGradIdeal.Product

/-! ## The gradient of the scan's output. -/

namespace Cert.BranchInGradIdeal.Product

open Cert.BranchInGradIdeal Cert.BranchInGradIdeal.Gen

variable (m : (ℓ : Loc nD τ sig) → Buf (Elt Ideal) ℓ)

/-- The blocks' places, at every point of the grid. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The kernel's product is the reference's. -/
theorem arr2 (c : Dev nD) : (dats m 0 c).arrAt 2 (cfgs 0).N
    = BranchInGradReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, k0_pay4, BranchInGradReferenceIdeal.Read.val_main_v2, BranchInGradReferenceIdeal.Read.val_main_v1, BranchInGradReferenceIdeal.Read.val_main_v0]
  blk_point [iblk, V, idx t]

end Cert.BranchInGradIdeal.Product

end
-- ==== Proof.ProductsBlocks.lean ====
/-
  The products whose contraction is walked in blocks: an accumulator starts at the first block's product and adds the others,
  so that what is written back is the sum over the whole contraction.
-/
module

public import proofs.«01_k».proof.Proof.Gen.DownIdeal.Value
public import proofs.«01_k».proof.Proof.Gen.DownReferenceIdeal.Read
public import proofs.«01_k».proof.Proof.Gen.BranchIdeal.Value
public import proofs.«01_k».proof.Proof.Gen.BranchReferenceIdeal.Read
public import proofs.«01_k».proof.Proof.Gen.UpInGradIdeal.Value
public import proofs.«01_k».proof.Proof.Gen.UpInGradReferenceIdeal.Read
public import proofs.«01_k».proof.Proof.Gen.JoinedInGradIdeal.Value
public import proofs.«01_k».proof.Proof.Gen.JoinedInGradReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pipeline

/-! ## The activations times the second feed-forward weight. -/

namespace Cert.DownIdeal.Product

open Cert.DownIdeal Cert.DownIdeal.Gen

variable (m : (ℓ : Loc nD τ sig) → Buf (Elt Ideal) ℓ)

/-- The blocks' places, at every point of the grid. -/
theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

/-- The first block's product. -/
theorem first (a : FVec Ideal S1024x1024 .bf16) (b : FVec Ideal S1024x1024 .bf16) (j : S1024x1024.Idx) :
    k0_pay2 (F := Ideal) a b j = 0 + ∑ k : Fin 1024, a (ix2 (j 0) k) * b (ix2 k (j 1)) := by
  pointwise [k0_pay2, k0_pay1]

/-- A later block's product is added. -/
theorem later (a : FVec Ideal S1024x1024 .bf16) (b : FVec Ideal S1024x1024 .bf16) (acc : FVec Ideal S1024x1024 .f32) (j : S1024x1024.Idx) :
    k0_pay3 (F := Ideal) a b acc j = acc j + ∑ k : Fin 1024, a (ix2 (j 0) k) * b (ix2 k (j 1)) := by
  pointwise [k0_pay3, k0_pay1]

/-- The reference's product. -/
theorem ref (a : FVec Ideal S8192x4096 .bf16) (b : FVec Ideal S4096x1024 .bf16) (j : S8192x1024.Idx) :
    DownReferenceIdeal.Read.val_main_v0 (F := Ideal) a b j = ∑ k : Fin 4096, a (ix2 (j 0) k) * b (ix2 k (j 1)) := by
  pointwise [DownReferenceIdeal.Read.val_main_v0]

/-- Where a block is written back, it is what the accumulator holds. -/
theorem written (c : Dev nD) (t : Fin cfg0.N) (h : t.val % 4 = 3) (j) :
    (outsAt0 m c t.val t.isLt).1 j = (outsAt0 m c t.val t.isLt).2 j := by
  rw [outsAt0_C m c t (by omega) (by omega) h]
  frame_out

/-- The kernel's product is the reference's. -/
theorem arr2 (c : Dev nD) : (dats m 0 c).arrAt 2 (cfgs 0).N
    = DownReferenceIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h2 : t.val % 4 = 3
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.DownIdeal.Product

/-! ## The scan's output times its projection. -/

namespace Cert.BranchIdeal.Product

open Cert.BranchIdeal Cert.BranchIdeal.Gen

variable (m : (ℓ : Loc nD τ sig) → Buf (Elt Ideal) ℓ)

/-- The blocks' places, at every point of the grid. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The first block's product. -/
theorem first (a : FVec Ideal S1024x1024 .bf16) (b : FVec Ideal S1024x1024 .bf16) (j : S1024x1024.Idx) :
    k0_pay2 (F := Ideal) a b j = 0 + ∑ k : Fin 1024, a (ix2 (j 0) k) * b (ix2 k (j 1)) := by
  pointwise [k0_pay2, k0_pay1]

/-- A later block's product is added. -/
theorem later (a : FVec Ideal S1024x1024 .bf16) (b : FVec Ideal S1024x1024 .bf16) (acc : FVec Ideal S1024x1024 .f32) (j : S1024x1024.Idx) :
    k0_pay3 (F := Ideal) a b acc j = acc j + ∑ k : Fin 1024, a (ix2 (j 0) k) * b (ix2 k (j 1)) := by
  pointwise [k0_pay3, k0_pay1]

/-- The reference's product. -/
theorem ref (a : FVec Ideal S8192x2048 .bf16) (b : FVec Ideal S2048x1024 .bf16) (j : S8192x1024.Idx) :
    BranchReferenceIdeal.Read.val_main_v0 (F := Ideal) a b j = ∑ k : Fin 2048, a (ix2 (j 0) k) * b (ix2 k (j 1)) := by
  pointwise [BranchReferenceIdeal.Read.val_main_v0]

/-- Where a block is written back, it is what the accumulator holds. -/
theorem written (c : Dev nD) (t : Fin cfg0.N) (h : t.val % 2 = 1) (j) :
    (outsAt0 m c t.val t.isLt).1 j = (outsAt0 m c t.val t.isLt).2 j := by
  rw [outsAt0_B m c t (by omega) (by omega) h]
  frame_out

/-- The kernel's product is the reference's. -/
theorem arr2 (c : Dev nD) : (dats m 0 c).arrAt 2 (cfgs 0).N
    = BranchReferenceIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 2 (fun _ => 0) _
    (fun t h j => by rw [outsAt0_A m c t h (by omega) (by omega)]; frame_out; rw [first])
    (fun t h j => by rw [outsAt0_B m c t h (by omega) (by omega)]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.BranchIdeal.Product

/-! ## The gradient of the feed-forward's input. -/

namespace Cert.UpInGradIdeal.Product

open Cert.UpInGradIdeal Cert.UpInGradIdeal.Gen

variable (m : (ℓ : Loc nD τ sig) → Buf (Elt Ideal) ℓ)

/-- The blocks' places, at every point of the grid. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The first block's product. -/
theorem first (a : FVec Ideal S1024x1024 .bf16) (b : FVec Ideal S1024x1024 .bf16) (j : S1024x1024.Idx) :
    k0_pay2 (F := Ideal) a b j = 0 + ∑ k : Fin 1024, a (ix2 (j 0) k) * b (ix2 (j 1) k) := by
  pointwise [k0_pay2, k0_pay1]

/-- A later block's product is added. -/
theorem later (a : FVec Ideal S1024x1024 .bf16) (b : FVec Ideal S1024x1024 .bf16) (acc : FVec Ideal S1024x1024 .f32) (j : S1024x1024.Idx) :
    k0_pay3 (F := Ideal) a b acc j = acc j + ∑ k : Fin 1024, a (ix2 (j 0) k) * b (ix2 (j 1) k) := by
  pointwise [k0_pay3, k0_pay1]

/-- The reference's product. -/
theorem ref (a : FVec Ideal S8192x4096 .bf16) (b : FVec Ideal S1024x4096 .bf16) (j : S8192x1024.Idx) :
    UpInGradReferenceIdeal.Read.val_main_v1 (F := Ideal) a b j = ∑ k : Fin 4096, a (ix2 (j 0) k) * b (ix2 (j 1) k) := by
  pointwise [UpInGradReferenceIdeal.Read.val_main_v1, UpInGradReferenceIdeal.Read.val_main_v0]

/-- Where a block is written back, it is what the accumulator holds. -/
theorem written (c : Dev nD) (t : Fin cfg0.N) (h : t.val % 4 = 3) (j) :
    (outsAt0 m c t.val t.isLt).1 j = (outsAt0 m c t.val t.isLt).2 j := by
  rw [outsAt0_C m c t (by omega) (by omega) h]
  frame_out

/-- The kernel's product is the reference's. -/
theorem arr2 (c : Dev nD) : (dats m 0 c).arrAt 2 (cfgs 0).N
    = UpInGradReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h2 : t.val % 4 = 3
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.UpInGradIdeal.Product

/-! ## The gradient of the joined projection's input. -/

namespace Cert.JoinedInGradIdeal.Product

open Cert.JoinedInGradIdeal Cert.JoinedInGradIdeal.Gen

variable (m : (ℓ : Loc nD τ sig) → Buf (Elt Ideal) ℓ)

/-- The blocks' places, at every point of the grid. -/
theorem idx : ∀ t : Fin cfg0.N, win0_0.index t = ![t.val / 9, t.val % 9] ∧ win0_1.index t = ![0, t.val % 9] ∧ win0_2.index t = ![t.val / 9, 0] :=
  (by decide +kernel : ∀ t : Fin grid0.N, _)

/-- The first block's product. -/
theorem first (a : FVec Ideal S1024x1152 .bf16) (b : FVec Ideal S1024x1152 .bf16) (j : S1024x1024.Idx) :
    k0_pay2 (F := Ideal) a b j = 0 + ∑ k : Fin 1152, a (ix2 (j 0) k) * b (ix2 (j 1) k) := by
  pointwise [k0_pay2, k0_pay1]

/-- A later block's product is added. -/
theorem later (a : FVec Ideal S1024x1152 .bf16) (b : FVec Ideal S1024x1152 .bf16) (acc : FVec Ideal S1024x1024 .f32) (j : S1024x1024.Idx) :
    k0_pay3 (F := Ideal) a b acc j = acc j + ∑ k : Fin 1152, a (ix2 (j 0) k) * b (ix2 (j 1) k) := by
  pointwise [k0_pay3, k0_pay1]

/-- The reference's product. -/
theorem ref (a : FVec Ideal S8192x10368 .bf16) (b : FVec Ideal S1024x10368 .bf16) (j : S8192x1024.Idx) :
    JoinedInGradReferenceIdeal.Read.val_main_v1 (F := Ideal) a b j = ∑ k : Fin 10368, a (ix2 (j 0) k) * b (ix2 (j 1) k) := by
  pointwise [JoinedInGradReferenceIdeal.Read.val_main_v1, JoinedInGradReferenceIdeal.Read.val_main_v0]

/-- Where a block is written back, it is what the accumulator holds. -/
theorem written (c : Dev nD) (t : Fin cfg0.N) (h : t.val % 9 = 8) (j) :
    (outsAt0 m c t.val t.isLt).1 j = (outsAt0 m c t.val t.isLt).2 j := by
  rw [outsAt0_C m c t (by omega) (by omega) h]
  frame_out

/-- The kernel's product is the reference's. -/
theorem arr2 (c : Dev nD) : (dats m 0 c).arrAt 2 (cfgs 0).N
    = JoinedInGradReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 9 (fun _ => 0) _
    (fun t h j => by rw [outsAt0_A m c t h (by omega) (by omega)]; frame_out; rw [first])
    (fun t h j => by
      by_cases h2 : t.val % 9 = 8
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.JoinedInGradIdeal.Product

end
-- ==== Proof.ProductsGrad.lean ====
/-
  The gradients of the weights: products over all the rows, walked 512 rows at a time.
-/
module

public import proofs.«01_k».proof.Proof.Gen.DownGradIdeal.Value
public import proofs.«01_k».proof.Proof.Gen.DownGradReferenceIdeal.Read
public import proofs.«01_k».proof.Proof.Gen.UpGradIdeal.Value
public import proofs.«01_k».proof.Proof.Gen.UpGradReferenceIdeal.Read
public import proofs.«01_k».proof.Proof.Gen.OutGradIdeal.Value
public import proofs.«01_k».proof.Proof.Gen.OutGradReferenceIdeal.Read
public import proofs.«01_k».proof.Proof.Gen.BranchGradIdeal.Value
public import proofs.«01_k».proof.Proof.Gen.BranchGradReferenceIdeal.Read
public import proofs.«01_k».proof.Proof.Gen.JoinedGradIdeal.Value
public import proofs.«01_k».proof.Proof.Gen.JoinedGradReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pipeline

/-! ## The gradient of the second feed-forward weight. -/

namespace Cert.DownGradIdeal.Product

open Cert.DownGradIdeal Cert.DownGradIdeal.Gen

variable (m : (ℓ : Loc nD τ sig) → Buf (Elt Ideal) ℓ)

/-- The blocks' places, at every point of the grid. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The first block's product. -/
theorem first (a : FVec Ideal S512x1024 .bf16) (b : FVec Ideal S512x1024 .bf16) (j : S1024x1024.Idx) :
    k0_pay2 (F := Ideal) a b j = 0 + ∑ k : Fin 512, a (ix2 k (j 0)) * b (ix2 k (j 1)) := by
  pointwise [k0_pay2, k0_pay1]

/-- A later block's product is added. -/
theorem later (a : FVec Ideal S512x1024 .bf16) (b : FVec Ideal S512x1024 .bf16) (acc : FVec Ideal S1024x1024 .f32) (j : S1024x1024.Idx) :
    k0_pay3 (F := Ideal) a b acc j = acc j + ∑ k : Fin 512, a (ix2 k (j 0)) * b (ix2 k (j 1)) := by
  pointwise [k0_pay3, k0_pay1]

/-- The reference's product. -/
theorem ref (a : FVec Ideal S8192x4096 .bf16) (b : FVec Ideal S8192x1024 .bf16) (j : S4096x1024.Idx) :
    DownGradReferenceIdeal.Read.val_main_v2 (F := Ideal) a b j = ∑ k : Fin 8192, a (ix2 k (j 0)) * b (ix2 k (j 1)) := by
  pointwise [DownGradReferenceIdeal.Read.val_main_v2, DownGradReferenceIdeal.Read.val_main_v1, DownGradReferenceIdeal.Read.val_main_v0]

/-- Where a block is written back, it is what the accumulator holds. -/
theorem written (c : Dev nD) (t : Fin cfg0.N) (h : t.val % 16 = 15) (j) :
    (outsAt0 m c t.val t.isLt).1 j = (outsAt0 m c t.val t.isLt).2 j := by
  rw [outsAt0_C m c t (by omega) (by omega) h]
  frame_out
  pointwise [k0_pay4]

/-- The kernel's product is the reference's. -/
theorem arr2 (c : Dev nD) : (dats m 0 c).arrAt 2 (cfgs 0).N
    = DownGradReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 16 (fun _ => 0) _
    (fun t h j => by rw [outsAt0_A m c t h (by omega) (by omega)]; frame_out; rw [first])
    (fun t h j => by
      by_cases h2 : t.val % 16 = 15
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.DownGradIdeal.Product

/-! ## The gradient of the first feed-forward weight. -/

namespace Cert.UpGradIdeal.Product

open Cert.UpGradIdeal Cert.UpGradIdeal.Gen

variable (m : (ℓ : Loc nD τ sig) → Buf (Elt Ideal) ℓ)

/-- The blocks' places, at every point of the grid. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The first block's product. -/
theorem first (a : FVec Ideal S512x1024 .bf16) (b : FVec Ideal S512x1024 .bf16) (j : S1024x1024.Idx) :
    k0_pay2 (F := Ideal) a b j = 0 + ∑ k : Fin 512, a (ix2 k (j 0)) * b (ix2 k (j 1)) := by
  pointwise [k0_pay2, k0_pay1]

/-- A later block's product is added. -/
theorem later (a : FVec Ideal S512x1024 .bf16) (b : FVec Ideal S512x1024 .bf16) (acc : FVec Ideal S1024x1024 .f32) (j : S1024x1024.Idx) :
    k0_pay3 (F := Ideal) a b acc j = acc j + ∑ k : Fin 512, a (ix2 k (j 0)) * b (ix2 k (j 1)) := by
  pointwise [k0_pay3, k0_pay1]

/-- The reference's product. -/
theorem ref (a : FVec Ideal S8192x1024 .bf16) (b : FVec Ideal S8192x4096 .bf16) (j : S1024x4096.Idx) :
    UpGradReferenceIdeal.Read.val_main_v2 (F := Ideal) a b j = ∑ k : Fin 8192, a (ix2 k (j 0)) * b (ix2 k (j 1)) := by
  pointwise [UpGradReferenceIdeal.Read.val_main_v2, UpGradReferenceIdeal.Read.val_main_v1, UpGradReferenceIdeal.Read.val_main_v0]

/-- Where a block is written back, it is what the accumulator holds. -/
theorem written (c : Dev nD) (t : Fin cfg0.N) (h : t.val % 16 = 15) (j) :
    (outsAt0 m c t.val t.isLt).1 j = (outsAt0 m c t.val t.isLt).2 j := by
  rw [outsAt0_C m c t (by omega) (by omega) h]
  frame_out
  pointwise [k0_pay4]

/-- The kernel's product is the reference's. -/
theorem arr2 (c : Dev nD) : (dats m 0 c).arrAt 2 (cfgs 0).N
    = UpGradReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 16 (fun _ => 0) _
    (fun t h j => by rw [outsAt0_A m c t h (by omega) (by omega)]; frame_out; rw [first])
    (fun t h j => by
      by_cases h2 : t.val % 16 = 15
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.UpGradIdeal.Product

/-! ## The gradient of a square weight. -/

namespace Cert.OutGradIdeal.Product

open Cert.OutGradIdeal Cert.OutGradIdeal.Gen

variable (m : (ℓ : Loc nD τ sig) → Buf (Elt Ideal) ℓ)

/-- The blocks' places, at every point of the grid. -/
theorem idx : ∀ t : Fin cfg0.N, win0_0.index t = ![t.val % 16, 0] ∧ win0_1.index t = ![t.val % 16, 0] ∧ win0_2.index t = ![0, 0] :=
  (by decide +kernel : ∀ t : Fin grid0.N, _)

/-- The first block's product. -/
theorem first (a : FVec Ideal S512x1024 .bf16) (b : FVec Ideal S512x1024 .bf16) (j : S1024x1024.Idx) :
    k0_pay2 (F := Ideal) a b j = 0 + ∑ k : Fin 512, a (ix2 k (j 0)) * b (ix2 k (j 1)) := by
  pointwise [k0_pay2, k0_pay1]

/-- A later block's product is added. -/
theorem later (a : FVec Ideal S512x1024 .bf16) (b : FVec Ideal S512x1024 .bf16) (acc : FVec Ideal S1024x1024 .f32) (j : S1024x1024.Idx) :
    k0_pay3 (F := Ideal) a b acc j = acc j + ∑ k : Fin 512, a (ix2 k (j 0)) * b (ix2 k (j 1)) := by
  pointwise [k0_pay3, k0_pay1]

/-- The reference's product. -/
theorem ref (a : FVec Ideal S8192x1024 .bf16) (b : FVec Ideal S8192x1024 .bf16) (j : S1024x1024.Idx) :
    OutGradReferenceIdeal.Read.val_main_v2 (F := Ideal) a b j = ∑ k : Fin 8192, a (ix2 k (j 0)) * b (ix2 k (j 1)) := by
  pointwise [OutGradReferenceIdeal.Read.val_main_v2, OutGradReferenceIdeal.Read.val_main_v1, OutGradReferenceIdeal.Read.val_main_v0]

/-- Where a block is written back, it is what the accumulator holds. -/
theorem written (c : Dev nD) (t : Fin cfg0.N) (h : t.val % 16 = 15) (j) :
    (outsAt0 m c t.val t.isLt).1 j = (outsAt0 m c t.val t.isLt).2 j := by
  rw [outsAt0_C m c t (by omega) (by omega) h]
  frame_out
  pointwise [k0_pay4]

/-- The kernel's product is the reference's. -/
theorem arr2 (c : Dev nD) : (dats m 0 c).arrAt 2 (cfgs 0).N
    = OutGradReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 16 (fun _ => 0) _
    (fun t h j => by have ht : t.val < 16 := lt_of_lt_of_eq t.isLt N_0; rw [outsAt0_A m c t h (by omega) (by omega)]; frame_out; rw [first])
    (fun t h j => by
      by_cases h2 : t.val % 16 = 15
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.OutGradIdeal.Product

/-! ## The gradient of the projection of the scan's output. -/

namespace Cert.BranchGradIdeal.Product

open Cert.BranchGradIdeal Cert.BranchGradIdeal.Gen

variable (m : (ℓ : Loc nD τ sig) → Buf (Elt Ideal) ℓ)

/-- The blocks' places, at every point of the grid. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The first block's product. -/
theorem first (a : FVec Ideal S512x1024 .bf16) (b : FVec Ideal S512x1024 .bf16) (j : S1024x1024.Idx) :
    k0_pay2 (F := Ideal) a b j = 0 + ∑ k : Fin 512, a (ix2 k (j 0)) * b (ix2 k (j 1)) := by
  pointwise [k0_pay2, k0_pay1]

/-- A later block's product is added. -/
theorem later (a : FVec Ideal S512x1024 .bf16) (b : FVec Ideal S512x1024 .bf16) (acc : FVec Ideal S1024x1024 .f32) (j : S1024x1024.Idx) :
    k0_pay3 (F := Ideal) a b acc j = acc j + ∑ k : Fin 512, a (ix2 k (j 0)) * b (ix2 k (j 1)) := by
  pointwise [k0_pay3, k0_pay1]

/-- The reference's product. -/
theorem ref (a : FVec Ideal S8192x2048 .bf16) (b : FVec Ideal S8192x1024 .bf16) (j : S2048x1024.Idx) :
    BranchGradReferenceIdeal.Read.val_main_v2 (F := Ideal) a b j = ∑ k : Fin 8192, a (ix2 k (j 0)) * b (ix2 k (j 1)) := by
  pointwise [BranchGradReferenceIdeal.Read.val_main_v2, BranchGradReferenceIdeal.Read.val_main_v1, BranchGradReferenceIdeal.Read.val_main_v0]

/-- Where a block is written back, it is what the accumulator holds. -/
theorem written (c : Dev nD) (t : Fin cfg0.N) (h : t.val % 16 = 15) (j) :
    (outsAt0 m c t.val t.isLt).1 j = (outsAt0 m c t.val t.isLt).2 j := by
  rw [outsAt0_C m c t (by omega) (by omega) h]
  frame_out
  pointwise [k0_pay4]

/-- The kernel's product is the reference's. -/
theorem arr2 (c : Dev nD) : (dats m 0 c).arrAt 2 (cfgs 0).N
    = BranchGradReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 16 (fun _ => 0) _
    (fun t h j => by rw [outsAt0_A m c t h (by omega) (by omega)]; frame_out; rw [first])
    (fun t h j => by
      by_cases h2 : t.val % 16 = 15
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.BranchGradIdeal.Product

/-! ## The gradient of the joined projection. -/

namespace Cert.JoinedGradIdeal.Product

open Cert.JoinedGradIdeal Cert.JoinedGradIdeal.Gen

variable (m : (ℓ : Loc nD τ sig) → Buf (Elt Ideal) ℓ)

/-- The blocks' places, at every point of the grid. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The first block's product. -/
theorem first (a : FVec Ideal S512x1024 .bf16) (b : FVec Ideal S512x1152 .bf16) (j : S1024x1152.Idx) :
    k0_pay2 (F := Ideal) a b j = 0 + ∑ k : Fin 512, a (ix2 k (j 0)) * b (ix2 k (j 1)) := by
  pointwise [k0_pay2, k0_pay1]

/-- A later block's product is added. -/
theorem later (a : FVec Ideal S512x1024 .bf16) (b : FVec Ideal S512x1152 .bf16) (acc : FVec Ideal S1024x1152 .f32) (j : S1024x1152.Idx) :
    k0_pay3 (F := Ideal) a b acc j = acc j + ∑ k : Fin 512, a (ix2 k (j 0)) * b (ix2 k (j 1)) := by
  pointwise [k0_pay3, k0_pay1]

/-- The reference's product. -/
theorem ref (a : FVec Ideal S8192x1024 .bf16) (b : FVec Ideal S8192x10368 .bf16) (j : S1024x10368.Idx) :
    JoinedGradReferenceIdeal.Read.val_main_v2 (F := Ideal) a b j = ∑ k : Fin 8192, a (ix2 k (j 0)) * b (ix2 k (j 1)) := by
  pointwise [JoinedGradReferenceIdeal.Read.val_main_v2, JoinedGradReferenceIdeal.Read.val_main_v1, JoinedGradReferenceIdeal.Read.val_main_v0]

/-- Where a block is written back, it is what the accumulator holds. -/
theorem written (c : Dev nD) (t : Fin cfg0.N) (h : t.val % 16 = 15) (j) :
    (outsAt0 m c t.val t.isLt).1 j = (outsAt0 m c t.val t.isLt).2 j := by
  rw [outsAt0_C m c t (by omega) (by omega) h]
  frame_out
  pointwise [k0_pay4]

/-- The kernel's product is the reference's. -/
theorem arr2 (c : Dev nD) : (dats m 0 c).arrAt 2 (cfgs 0).N
    = JoinedGradReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 16 (fun _ => 0) _
    (fun t h j => by rw [outsAt0_A m c t h (by omega) (by omega)]; frame_out; rw [first])
    (fun t h j => by
      by_cases h2 : t.val % 16 = 15
      · rw [outsAt0_C m c t h (by omega) h2]; frame_out; rw [later, read_unread_whole]
      · rw [outsAt0_B m c t h (by omega) h2]; frame_out; rw [later, read_unread_whole])
    t ((flush0_2 t).mp hf) _, zero_add, ref]
  refine Fin.sum_mul_add_congr fun s k hl => ?_
  blk_point [iblk, V, idx t, idx ⟨_, Pipeline.run_point_lt_of_flush t ((flush0_2 t).mp hf) s⟩]

end Cert.JoinedGradIdeal.Product

end
-- ==== Proof.ClaimProducts.lean ====
/-
  The claims about the products of the block and of its backward pass.
-/
module

public import proofs.«01_k».proof.Defs
public import proofs.«01_k».proof.Proof.ProductsWhole
public import proofs.«01_k».proof.Proof.ProductsBlocks
public import proofs.«01_k».proof.Proof.ProductsGrad
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchReferenceIdeal
public import proofs.«01_k».proof.Proof.Gen.BranchReferenceIdeal.Run
public import proofs.«01_k».proof.Proof.Gen.BranchReferenceIdeal.Read
public import proofs.«01_k».proof.Proof.Gen.DownInGrad
public import proofs.«01_k».proof.Proof.Gen.DownInGrad.Frame
public import proofs.«01_k».proof.Proof.Gen.DownInGradIdeal
public import proofs.«01_k».proof.Proof.Gen.DownInGradIdeal.Frame
public import proofs.«01_k».proof.Proof.Gen.DownInGradIdeal.Value
public import proofs.«01_k».proof.Proof.Gen.DownInGradReferenceIdeal
public import proofs.«01_k».proof.Proof.Gen.DownInGradReferenceIdeal.Run
public import proofs.«01_k».proof.Proof.Gen.DownInGradReferenceIdeal.Read
public import proofs.«01_k».proof.Proof.Gen.UpInGrad
public import proofs.«01_k».proof.Proof.Gen.UpInGrad.Frame
public import proofs.«01_k».proof.Proof.Gen.UpInGradIdeal
public import proofs.«01_k».proof.Proof.Gen.UpInGradIdeal.Frame
public import proofs.«01_k».proof.Proof.Gen.UpInGradIdeal.Value
public import proofs.«01_k».proof.Proof.Gen.UpInGradReferenceIdeal
public import proofs.«01_k».proof.Proof.Gen.UpInGradReferenceIdeal.Run
public import proofs.«01_k».proof.Proof.Gen.UpInGradReferenceIdeal.Read
public import proofs.«01_k».proof.Proof.Gen.OutInGrad
public import proofs.«01_k».proof.Proof.Gen.OutInGrad.Frame
public import proofs.«01_k».proof.Proof.Gen.OutInGradIdeal
public import proofs.«01_k».proof.Proof.Gen.OutInGradIdeal.Frame
public import proofs.«01_k».proof.Proof.Gen.OutInGradIdeal.Value
public import proofs.«01_k».proof.Proof.Gen.OutInGradReferenceIdeal
public import proofs.«01_k».proof.Proof.Gen.OutInGradReferenceIdeal.Run
public import proofs.«01_k».proof.Proof.Gen.OutInGradReferenceIdeal.Read
public import proofs.«01_k».proof.Proof.Gen.BranchInGrad
public import proofs.«01_k».proof.Proof.Gen.BranchInGrad.Frame
public import proofs.«01_k».proof.Proof.Gen.BranchInGradIdeal
public import proofs.«01_k».proof.Proof.Gen.BranchInGradIdeal.Frame
public import proofs.«01_k».proof.Proof.Gen.BranchInGradIdeal.Value
public import proofs.«01_k».proof.Proof.Gen.BranchInGradReferenceIdeal
public import proofs.«01_k».proof.Proof.Gen.BranchInGradReferenceIdeal.Run
public import proofs.«01_k».proof.Proof.Gen.BranchInGradReferenceIdeal.Read
public import proofs.«01_k».proof.Proof.Gen.DownGrad
public import proofs.«01_k».proof.Proof.Gen.DownGrad.Frame
public import proofs.«01_k».proof.Proof.Gen.DownGradIdeal
public import proofs.«01_k».proof.Proof.Gen.DownGradIdeal.Frame
public import proofs.«01_k».proof.Proof.Gen.DownGradIdeal.Value
public import proofs.«01_k».proof.Proof.Gen.DownGradReferenceIdeal
public import proofs.«01_k».proof.Proof.Gen.DownGradReferenceIdeal.Run
public import proofs.«01_k».proof.Proof.Gen.DownGradReferenceIdeal.Read
public import proofs.«01_k».proof.Proof.Gen.UpGrad
public import proofs.«01_k».proof.Proof.Gen.UpGrad.Frame
public import proofs.«01_k».proof.Proof.Gen.UpGradIdeal
public import proofs.«01_k».proof.Proof.Gen.UpGradIdeal.Frame
public import proofs.«01_k».proof.Proof.Gen.UpGradIdeal.Value
public import proofs.«01_k».proof.Proof.Gen.UpGradReferenceIdeal
public import proofs.«01_k».proof.Proof.Gen.UpGradReferenceIdeal.Run
public import proofs.«01_k».proof.Proof.Gen.UpGradReferenceIdeal.Read
public import proofs.«01_k».proof.Proof.Gen.OutGrad
public import proofs.«01_k».proof.Proof.Gen.OutGrad.Frame
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.Gen.BranchGrad
public import proofs.«01_k».proof.Proof.Gen.BranchGrad.Frame
public import proofs.«01_k».proof.Proof.Gen.BranchGradIdeal
public import proofs.«01_k».proof.Proof.Gen.BranchGradIdeal.Frame
public import proofs.«01_k».proof.Proof.Gen.BranchGradIdeal.Value
public import proofs.«01_k».proof.Proof.Gen.BranchGradReferenceIdeal
public import proofs.«01_k».proof.Proof.Gen.BranchGradReferenceIdeal.Run
public import proofs.«01_k».proof.Proof.Gen.BranchGradReferenceIdeal.Read
public import proofs.«01_k».proof.Proof.Gen.Dt
public import proofs.«01_k».proof.Proof.Gen.Dt.Frame
public import proofs.«01_k».proof.Proof.Gen.DtIdeal
public import proofs.«01_k».proof.Proof.Gen.DtIdeal.Frame
public import proofs.«01_k».proof.Proof.Gen.DtIdeal.Value
public import proofs.«01_k».proof.Proof.Gen.DtReferenceIdeal
public import proofs.«01_k».proof.Proof.Gen.DtReferenceIdeal.Run
public import proofs.«01_k».proof.Proof.Gen.DtReferenceIdeal.Read
public import proofs.«01_k».proof.Proof.Gen.JoinedInGrad
public import proofs.«01_k».proof.Proof.Gen.JoinedInGrad.Frame
public import proofs.«01_k».proof.Proof.Gen.JoinedInGradIdeal
public import proofs.«01_k».proof.Proof.Gen.JoinedInGradIdeal.Frame
public import proofs.«01_k».proof.Proof.Gen.JoinedInGradIdeal.Value
public import proofs.«01_k».proof.Proof.Gen.JoinedInGradReferenceIdeal
public import proofs.«01_k».proof.Proof.Gen.JoinedInGradReferenceIdeal.Run
public import proofs.«01_k».proof.Proof.Gen.JoinedInGradReferenceIdeal.Read
public import proofs.«01_k».proof.Proof.Gen.JoinedGrad
public import proofs.«01_k».proof.Proof.Gen.JoinedGrad.Frame
public import proofs.«01_k».proof.Proof.Gen.JoinedGradIdeal
public import proofs.«01_k».proof.Proof.Gen.JoinedGradIdeal.Frame
public import proofs.«01_k».proof.Proof.Gen.JoinedGradIdeal.Value
public import proofs.«01_k».proof.Proof.Gen.JoinedGradReferenceIdeal
public import proofs.«01_k».proof.Proof.Gen.JoinedGradReferenceIdeal.Run
public import proofs.«01_k».proof.Proof.Gen.JoinedGradReferenceIdeal.Read
public import Idealize.ShloMosaic.Adequacy
public import Idealize.ShloMosaic.Init

@[expose] public section

noncomputable section

namespace Cert.Proof

open Idealize.ShloMosaic Idealize.SL.Sem

theorem frame_up : Cert.quiescent_Up := fun m ρ _ => Cert.Up.Gen.frame m ρ

theorem frame_upIdeal : Cert.quiescent_UpIdeal := fun m ρ _ => Cert.UpIdeal.Gen.frame m ρ

theorem frame_upReferenceIdeal : Cert.quiescent_UpReferenceIdeal := fun m ρ _ =>
  (θ_run (Cert.UpReferenceIdeal.defs (F := Ideal)) _ _).mono
    (fun r h => ⟨fun c => (h c).2, sem_eq_zero_of_no_sems (by decide) r.2⟩)
    (Cert.UpReferenceIdeal.Value.run (F := Ideal) m ρ)

theorem algebraic_up : Cert.algebraic_UpIdeal_UpReferenceIdeal := fun m ρ m' ρ' _ hagree =>
  ⟨fun c => Cert.UpReferenceIdeal.Read.val_main_v1 (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)),
    (θ_run (Cert.UpIdeal.defs (F := Ideal)) _ _).mono (fun r h c => ⟨(h c).1.trans (Cert.UpIdeal.Product.arr2 m c), (h c).2⟩)
      (Cert.UpIdeal.Value.run_blocks (F := Ideal) m ρ),
    (θ_run (Cert.UpReferenceIdeal.defs (F := Ideal)) _ _).mono (fun r h c => by
      obtain ⟨h0, hk⟩ := h c
      obtain ⟨e0, e1⟩ := hagree c
      replace h0 := h0.trans (Cert.UpReferenceIdeal.Read.val_main_v1_eq _ _)
      rw [e0, e1] at h0
      exact ⟨h0, hk⟩) (Cert.UpReferenceIdeal.Value.run (F := Ideal) m' ρ')⟩

theorem frame_down : Cert.quiescent_Down := fun m ρ _ => Cert.Down.Gen.frame m ρ

theorem frame_downIdeal : Cert.quiescent_DownIdeal := fun m ρ _ => Cert.DownIdeal.Gen.frame m ρ

theorem frame_downReferenceIdeal : Cert.quiescent_DownReferenceIdeal := fun m ρ _ =>
  (θ_run (Cert.DownReferenceIdeal.defs (F := Ideal)) _ _).mono
    (fun r h => ⟨fun c => (h c).2, sem_eq_zero_of_no_sems (by decide) r.2⟩)
    (Cert.DownReferenceIdeal.Value.run (F := Ideal) m ρ)

theorem algebraic_down : Cert.algebraic_DownIdeal_DownReferenceIdeal := fun m ρ m' ρ' _ hagree =>
  ⟨fun c => Cert.DownReferenceIdeal.Read.val_main_v0 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)),
    (θ_run (Cert.DownIdeal.defs (F := Ideal)) _ _).mono (fun r h c => ⟨(h c).1.trans (Cert.DownIdeal.Product.arr2 m c), (h c).2⟩)
      (Cert.DownIdeal.Value.run_blocks (F := Ideal) m ρ),
    (θ_run (Cert.DownReferenceIdeal.defs (F := Ideal)) _ _).mono (fun r h c => by
      obtain ⟨h0, hk⟩ := h c
      obtain ⟨e0, e1⟩ := hagree c
      replace h0 := h0.trans (Cert.DownReferenceIdeal.Read.val_main_v0_eq _ _)
      rw [e0, e1] at h0
      exact ⟨h0, hk⟩) (Cert.DownReferenceIdeal.Value.run (F := Ideal) m' ρ')⟩

theorem frame_out : Cert.quiescent_Out := fun m ρ _ => Cert.Out.Gen.frame m ρ

theorem frame_outIdeal : Cert.quiescent_OutIdeal := fun m ρ _ => Cert.OutIdeal.Gen.frame m ρ

theorem frame_outReferenceIdeal : Cert.quiescent_OutReferenceIdeal := fun m ρ _ =>
  (θ_run (Cert.OutReferenceIdeal.defs (F := Ideal)) _ _).mono
    (fun r h => ⟨fun c => (h c).2, sem_eq_zero_of_no_sems (by decide) r.2⟩)
    (Cert.OutReferenceIdeal.Value.run (F := Ideal) m ρ)

theorem algebraic_out : Cert.algebraic_OutIdeal_OutReferenceIdeal := fun m ρ m' ρ' _ hagree =>
  ⟨fun c => Cert.OutReferenceIdeal.Read.val_main_v0 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)),
    (θ_run (Cert.OutIdeal.defs (F := Ideal)) _ _).mono (fun r h c => ⟨(h c).1.trans (Cert.OutIdeal.Product.arr2 m c), (h c).2⟩)
      (Cert.OutIdeal.Value.run_blocks (F := Ideal) m ρ),
    (θ_run (Cert.OutReferenceIdeal.defs (F := Ideal)) _ _).mono (fun r h c => by
      obtain ⟨h0, hk⟩ := h c
      obtain ⟨e0, e1⟩ := hagree c
      replace h0 := h0.trans (Cert.OutReferenceIdeal.Read.val_main_v0_eq _ _)
      rw [e0, e1] at h0
      exact ⟨h0, hk⟩) (Cert.OutReferenceIdeal.Value.run (F := Ideal) m' ρ')⟩

theorem frame_branch : Cert.quiescent_Branch := fun m ρ _ => Cert.Branch.Gen.frame m ρ

theorem frame_branchIdeal : Cert.quiescent_BranchIdeal := fun m ρ _ => Cert.BranchIdeal.Gen.frame m ρ

theorem frame_branchReferenceIdeal : Cert.quiescent_BranchReferenceIdeal := fun m ρ _ =>
  (θ_run (Cert.BranchReferenceIdeal.defs (F := Ideal)) _ _).mono
    (fun r h => ⟨fun c => (h c).2, sem_eq_zero_of_no_sems (by decide) r.2⟩)
    (Cert.BranchReferenceIdeal.Value.run (F := Ideal) m ρ)

theorem algebraic_branch : Cert.algebraic_BranchIdeal_BranchReferenceIdeal := fun m ρ m' ρ' _ hagree =>
  ⟨fun c => Cert.BranchReferenceIdeal.Read.val_main_v0 (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)),
    (θ_run (Cert.BranchIdeal.defs (F := Ideal)) _ _).mono (fun r h c => ⟨(h c).1.trans (Cert.BranchIdeal.Product.arr2 m c), (h c).2⟩)
      (Cert.BranchIdeal.Value.run_blocks (F := Ideal) m ρ),
    (θ_run (Cert.BranchReferenceIdeal.defs (F := Ideal)) _ _).mono (fun r h c => by
      obtain ⟨h0, hk⟩ := h c
      obtain ⟨e0, e1⟩ := hagree c
      replace h0 := h0.trans (Cert.BranchReferenceIdeal.Read.val_main_v0_eq _ _)
      rw [e0, e1] at h0
      exact ⟨h0, hk⟩) (Cert.BranchReferenceIdeal.Value.run (F := Ideal) m' ρ')⟩

theorem frame_downInGrad : Cert.quiescent_DownInGrad := fun m ρ _ => Cert.DownInGrad.Gen.frame m ρ

theorem frame_downInGradIdeal : Cert.quiescent_DownInGradIdeal := fun m ρ _ => Cert.DownInGradIdeal.Gen.frame m ρ

theorem frame_downInGradReferenceIdeal : Cert.quiescent_DownInGradReferenceIdeal := fun m ρ _ =>
  (θ_run (Cert.DownInGradReferenceIdeal.defs (F := Ideal)) _ _).mono
    (fun r h => ⟨fun c => (h c).2, sem_eq_zero_of_no_sems (by decide) r.2⟩)
    (Cert.DownInGradReferenceIdeal.Value.run (F := Ideal) m ρ)

theorem algebraic_downInGrad : Cert.algebraic_DownInGradIdeal_DownInGradReferenceIdeal := fun m ρ m' ρ' _ hagree =>
  ⟨fun c => Cert.DownInGradReferenceIdeal.Read.val_main_v2 (F := Ideal) (m ((c.tc : Thread Cert.DownInGradIdeal.nD Cert.DownInGradIdeal.τ).loc Cert.DownInGradIdeal.main_arg0)) (m ((c.tc : Thread Cert.DownInGradIdeal.nD Cert.DownInGradIdeal.τ).loc Cert.DownInGradIdeal.main_arg1)),
    (θ_run (Cert.DownInGradIdeal.defs (F := Ideal)) _ _).mono (fun r h c => ⟨(h c).1.trans (Cert.DownInGradIdeal.Product.arr2 m c), (h c).2⟩)
      (Cert.DownInGradIdeal.Value.run_blocks (F := Ideal) m ρ),
    (θ_run (Cert.DownInGradReferenceIdeal.defs (F := Ideal)) _ _).mono (fun r h c => by
      obtain ⟨h0, hk⟩ := h c
      obtain ⟨e0, e1⟩ := hagree c
      replace h0 := h0.trans (Cert.DownInGradReferenceIdeal.Read.val_main_v2_eq _ _)
      rw [e0, e1] at h0
      exact ⟨h0, hk⟩) (Cert.DownInGradReferenceIdeal.Value.run (F := Ideal) m' ρ')⟩

theorem frame_upInGrad : Cert.quiescent_UpInGrad := fun m ρ _ => Cert.UpInGrad.Gen.frame m ρ

theorem frame_upInGradIdeal : Cert.quiescent_UpInGradIdeal := fun m ρ _ => Cert.UpInGradIdeal.Gen.frame m ρ

theorem frame_upInGradReferenceIdeal : Cert.quiescent_UpInGradReferenceIdeal := fun m ρ _ =>
  (θ_run (Cert.UpInGradReferenceIdeal.defs (F := Ideal)) _ _).mono
    (fun r h => ⟨fun c => (h c).2, sem_eq_zero_of_no_sems (by decide) r.2⟩)
    (Cert.UpInGradReferenceIdeal.Value.run (F := Ideal) m ρ)

theorem algebraic_upInGrad : Cert.algebraic_UpInGradIdeal_UpInGradReferenceIdeal := fun m ρ m' ρ' _ hagree =>
  ⟨fun c => Cert.UpInGradReferenceIdeal.Read.val_main_v1 (F := Ideal) (m ((c.tc : Thread Cert.UpInGradIdeal.nD Cert.UpInGradIdeal.τ).loc Cert.UpInGradIdeal.main_arg0)) (m ((c.tc : Thread Cert.UpInGradIdeal.nD Cert.UpInGradIdeal.τ).loc Cert.UpInGradIdeal.main_arg1)),
    (θ_run (Cert.UpInGradIdeal.defs (F := Ideal)) _ _).mono (fun r h c => ⟨(h c).1.trans (Cert.UpInGradIdeal.Product.arr2 m c), (h c).2⟩)
      (Cert.UpInGradIdeal.Value.run_blocks (F := Ideal) m ρ),
    (θ_run (Cert.UpInGradReferenceIdeal.defs (F := Ideal)) _ _).mono (fun r h c => by
      obtain ⟨h0, hk⟩ := h c
      obtain ⟨e0, e1⟩ := hagree c
      replace h0 := h0.trans (Cert.UpInGradReferenceIdeal.Read.val_main_v1_eq _ _)
      rw [e0, e1] at h0
      exact ⟨h0, hk⟩) (Cert.UpInGradReferenceIdeal.Value.run (F := Ideal) m' ρ')⟩

theorem frame_outInGrad : Cert.quiescent_OutInGrad := fun m ρ _ => Cert.OutInGrad.Gen.frame m ρ

theorem frame_outInGradIdeal : Cert.quiescent_OutInGradIdeal := fun m ρ _ => Cert.OutInGradIdeal.Gen.frame m ρ

theorem frame_outInGradReferenceIdeal : Cert.quiescent_OutInGradReferenceIdeal := fun m ρ _ =>
  (θ_run (Cert.OutInGradReferenceIdeal.defs (F := Ideal)) _ _).mono
    (fun r h => ⟨fun c => (h c).2, sem_eq_zero_of_no_sems (by decide) r.2⟩)
    (Cert.OutInGradReferenceIdeal.Value.run (F := Ideal) m ρ)

theorem algebraic_outInGrad : Cert.algebraic_OutInGradIdeal_OutInGradReferenceIdeal := fun m ρ m' ρ' _ hagree =>
  ⟨fun c => Cert.OutInGradReferenceIdeal.Read.val_main_v1 (F := Ideal) (m ((c.tc : Thread Cert.OutInGradIdeal.nD Cert.OutInGradIdeal.τ).loc Cert.OutInGradIdeal.main_arg0)) (m ((c.tc : Thread Cert.OutInGradIdeal.nD Cert.OutInGradIdeal.τ).loc Cert.OutInGradIdeal.main_arg1)),
    (θ_run (Cert.OutInGradIdeal.defs (F := Ideal)) _ _).mono (fun r h c => ⟨(h c).1.trans (Cert.OutInGradIdeal.Product.arr2 m c), (h c).2⟩)
      (Cert.OutInGradIdeal.Value.run_blocks (F := Ideal) m ρ),
    (θ_run (Cert.OutInGradReferenceIdeal.defs (F := Ideal)) _ _).mono (fun r h c => by
      obtain ⟨h0, hk⟩ := h c
      obtain ⟨e0, e1⟩ := hagree c
      replace h0 := h0.trans (Cert.OutInGradReferenceIdeal.Read.val_main_v1_eq _ _)
      rw [e0, e1] at h0
      exact ⟨h0, hk⟩) (Cert.OutInGradReferenceIdeal.Value.run (F := Ideal) m' ρ')⟩

theorem frame_branchInGrad : Cert.quiescent_BranchInGrad := fun m ρ _ => Cert.BranchInGrad.Gen.frame m ρ

theorem frame_branchInGradIdeal : Cert.quiescent_BranchInGradIdeal := fun m ρ _ => Cert.BranchInGradIdeal.Gen.frame m ρ

theorem frame_branchInGradReferenceIdeal : Cert.quiescent_BranchInGradReferenceIdeal := fun m ρ _ =>
  (θ_run (Cert.BranchInGradReferenceIdeal.defs (F := Ideal)) _ _).mono
    (fun r h => ⟨fun c => (h c).2, sem_eq_zero_of_no_sems (by decide) r.2⟩)
    (Cert.BranchInGradReferenceIdeal.Value.run (F := Ideal) m ρ)

theorem algebraic_branchInGrad : Cert.algebraic_BranchInGradIdeal_BranchInGradReferenceIdeal := fun m ρ m' ρ' _ hagree =>
  ⟨fun c => Cert.BranchInGradReferenceIdeal.Read.val_main_v2 (F := Ideal) (m ((c.tc : Thread Cert.BranchInGradIdeal.nD Cert.BranchInGradIdeal.τ).loc Cert.BranchInGradIdeal.main_arg0)) (m ((c.tc : Thread Cert.BranchInGradIdeal.nD Cert.BranchInGradIdeal.τ).loc Cert.BranchInGradIdeal.main_arg1)),
    (θ_run (Cert.BranchInGradIdeal.defs (F := Ideal)) _ _).mono (fun r h c => ⟨(h c).1.trans (Cert.BranchInGradIdeal.Product.arr2 m c), (h c).2⟩)
      (Cert.BranchInGradIdeal.Value.run_blocks (F := Ideal) m ρ),
    (θ_run (Cert.BranchInGradReferenceIdeal.defs (F := Ideal)) _ _).mono (fun r h c => by
      obtain ⟨h0, hk⟩ := h c
      obtain ⟨e0, e1⟩ := hagree c
      replace h0 := h0.trans (Cert.BranchInGradReferenceIdeal.Read.val_main_v2_eq _ _)
      rw [e0, e1] at h0
      exact ⟨h0, hk⟩) (Cert.BranchInGradReferenceIdeal.Value.run (F := Ideal) m' ρ')⟩

theorem frame_downGrad : Cert.quiescent_DownGrad := fun m ρ _ => Cert.DownGrad.Gen.frame m ρ

theorem frame_downGradIdeal : Cert.quiescent_DownGradIdeal := fun m ρ _ => Cert.DownGradIdeal.Gen.frame m ρ

theorem frame_downGradReferenceIdeal : Cert.quiescent_DownGradReferenceIdeal := fun m ρ _ =>
  (θ_run (Cert.DownGradReferenceIdeal.defs (F := Ideal)) _ _).mono
    (fun r h => ⟨fun c => (h c).2, sem_eq_zero_of_no_sems (by decide) r.2⟩)
    (Cert.DownGradReferenceIdeal.Value.run (F := Ideal) m ρ)

theorem algebraic_downGrad : Cert.algebraic_DownGradIdeal_DownGradReferenceIdeal := fun m ρ m' ρ' _ hagree =>
  ⟨fun c => Cert.DownGradReferenceIdeal.Read.val_main_v2 (F := Ideal) (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)),
    (θ_run (Cert.DownGradIdeal.defs (F := Ideal)) _ _).mono (fun r h c => ⟨(h c).1.trans (Cert.DownGradIdeal.Product.arr2 m c), (h c).2⟩)
      (Cert.DownGradIdeal.Value.run_blocks (F := Ideal) m ρ),
    (θ_run (Cert.DownGradReferenceIdeal.defs (F := Ideal)) _ _).mono (fun r h c => by
      obtain ⟨h0, hk⟩ := h c
      obtain ⟨e0, e1⟩ := hagree c
      replace h0 := h0.trans (Cert.DownGradReferenceIdeal.Read.val_main_v2_eq _ _)
      rw [e0, e1] at h0
      exact ⟨h0, hk⟩) (Cert.DownGradReferenceIdeal.Value.run (F := Ideal) m' ρ')⟩

theorem frame_upGrad : Cert.quiescent_UpGrad := fun m ρ _ => Cert.UpGrad.Gen.frame m ρ

theorem frame_upGradIdeal : Cert.quiescent_UpGradIdeal := fun m ρ _ => Cert.UpGradIdeal.Gen.frame m ρ

theorem frame_upGradReferenceIdeal : Cert.quiescent_UpGradReferenceIdeal := fun m ρ _ =>
  (θ_run (Cert.UpGradReferenceIdeal.defs (F := Ideal)) _ _).mono
    (fun r h => ⟨fun c => (h c).2, sem_eq_zero_of_no_sems (by decide) r.2⟩)
    (Cert.UpGradReferenceIdeal.Value.run (F := Ideal) m ρ)

theorem algebraic_upGrad : Cert.algebraic_UpGradIdeal_UpGradReferenceIdeal := fun m ρ m' ρ' _ hagree =>
  ⟨fun c => Cert.UpGradReferenceIdeal.Read.val_main_v2 (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)),
    (θ_run (Cert.UpGradIdeal.defs (F := Ideal)) _ _).mono (fun r h c => ⟨(h c).1.trans (Cert.UpGradIdeal.Product.arr2 m c), (h c).2⟩)
      (Cert.UpGradIdeal.Value.run_blocks (F := Ideal) m ρ),
    (θ_run (Cert.UpGradReferenceIdeal.defs (F := Ideal)) _ _).mono (fun r h c => by
      obtain ⟨h0, hk⟩ := h c
      obtain ⟨e0, e1⟩ := hagree c
      replace h0 := h0.trans (Cert.UpGradReferenceIdeal.Read.val_main_v2_eq _ _)
      rw [e0, e1] at h0
      exact ⟨h0, hk⟩) (Cert.UpGradReferenceIdeal.Value.run (F := Ideal) m' ρ')⟩

theorem frame_outGrad : Cert.quiescent_OutGrad := fun m ρ _ => Cert.OutGrad.Gen.frame m ρ

theorem frame_outGradIdeal : Cert.quiescent_OutGradIdeal := fun m ρ _ => Cert.OutGradIdeal.Gen.frame m ρ

theorem frame_outGradReferenceIdeal : Cert.quiescent_OutGradReferenceIdeal := fun m ρ _ =>
  (θ_run (Cert.OutGradReferenceIdeal.defs (F := Ideal)) _ _).mono
    (fun r h => ⟨fun c => (h c).2, sem_eq_zero_of_no_sems (by decide) r.2⟩)
    (Cert.OutGradReferenceIdeal.Value.run (F := Ideal) m ρ)

theorem algebraic_outGrad : Cert.algebraic_OutGradIdeal_OutGradReferenceIdeal := fun m ρ m' ρ' _ hagree =>
  ⟨fun c => Cert.OutGradReferenceIdeal.Read.val_main_v2 (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)),
    (θ_run (Cert.OutGradIdeal.defs (F := Ideal)) _ _).mono (fun r h c => ⟨(h c).1.trans (Cert.OutGradIdeal.Product.arr2 m c), (h c).2⟩)
      (Cert.OutGradIdeal.Value.run_blocks (F := Ideal) m ρ),
    (θ_run (Cert.OutGradReferenceIdeal.defs (F := Ideal)) _ _).mono (fun r h c => by
      obtain ⟨h0, hk⟩ := h c
      obtain ⟨e0, e1⟩ := hagree c
      replace h0 := h0.trans (Cert.OutGradReferenceIdeal.Read.val_main_v2_eq _ _)
      rw [e0, e1] at h0
      exact ⟨h0, hk⟩) (Cert.OutGradReferenceIdeal.Value.run (F := Ideal) m' ρ')⟩

theorem frame_branchGrad : Cert.quiescent_BranchGrad := fun m ρ _ => Cert.BranchGrad.Gen.frame m ρ

theorem frame_branchGradIdeal : Cert.quiescent_BranchGradIdeal := fun m ρ _ => Cert.BranchGradIdeal.Gen.frame m ρ

theorem frame_branchGradReferenceIdeal : Cert.quiescent_BranchGradReferenceIdeal := fun m ρ _ =>
  (θ_run (Cert.BranchGradReferenceIdeal.defs (F := Ideal)) _ _).mono
    (fun r h => ⟨fun c => (h c).2, sem_eq_zero_of_no_sems (by decide) r.2⟩)
    (Cert.BranchGradReferenceIdeal.Value.run (F := Ideal) m ρ)

theorem algebraic_branchGrad : Cert.algebraic_BranchGradIdeal_BranchGradReferenceIdeal := fun m ρ m' ρ' _ hagree =>
  ⟨fun c => Cert.BranchGradReferenceIdeal.Read.val_main_v2 (F := Ideal) (m ((c.tc : Thread Cert.BranchGradIdeal.nD Cert.BranchGradIdeal.τ).loc Cert.BranchGradIdeal.main_arg0)) (m ((c.tc : Thread Cert.BranchGradIdeal.nD Cert.BranchGradIdeal.τ).loc Cert.BranchGradIdeal.main_arg1)),
    (θ_run (Cert.BranchGradIdeal.defs (F := Ideal)) _ _).mono (fun r h c => ⟨(h c).1.trans (Cert.BranchGradIdeal.Product.arr2 m c), (h c).2⟩)
      (Cert.BranchGradIdeal.Value.run_blocks (F := Ideal) m ρ),
    (θ_run (Cert.BranchGradReferenceIdeal.defs (F := Ideal)) _ _).mono (fun r h c => by
      obtain ⟨h0, hk⟩ := h c
      obtain ⟨e0, e1⟩ := hagree c
      replace h0 := h0.trans (Cert.BranchGradReferenceIdeal.Read.val_main_v2_eq _ _)
      rw [e0, e1] at h0
      exact ⟨h0, hk⟩) (Cert.BranchGradReferenceIdeal.Value.run (F := Ideal) m' ρ')⟩

theorem frame_dt : Cert.quiescent_Dt := fun m ρ _ => Cert.Dt.Gen.frame m ρ

theorem frame_dtIdeal : Cert.quiescent_DtIdeal := fun m ρ _ => Cert.DtIdeal.Gen.frame m ρ

theorem frame_dtReferenceIdeal : Cert.quiescent_DtReferenceIdeal := fun m ρ _ =>
  (θ_run (Cert.DtReferenceIdeal.defs (F := Ideal)) _ _).mono
    (fun r h => ⟨fun c => (h c).2, sem_eq_zero_of_no_sems (by decide) r.2⟩)
    (Cert.DtReferenceIdeal.Value.run (F := Ideal) m ρ)

theorem algebraic_dt : Cert.algebraic_DtIdeal_DtReferenceIdeal := fun m ρ m' ρ' _ hagree =>
  ⟨fun c => Cert.DtReferenceIdeal.Read.val_main_v0 (F := Ideal) (m ((c.tc : Thread Cert.DtIdeal.nD Cert.DtIdeal.τ).loc Cert.DtIdeal.main_arg0)) (m ((c.tc : Thread Cert.DtIdeal.nD Cert.DtIdeal.τ).loc Cert.DtIdeal.main_arg1)),
    (θ_run (Cert.DtIdeal.defs (F := Ideal)) _ _).mono (fun r h c => ⟨(h c).1.trans (Cert.DtIdeal.Product.arr2 m c), (h c).2⟩)
      (Cert.DtIdeal.Value.run_blocks (F := Ideal) m ρ),
    (θ_run (Cert.DtReferenceIdeal.defs (F := Ideal)) _ _).mono (fun r h c => by
      obtain ⟨h0, hk⟩ := h c
      obtain ⟨e0, e1⟩ := hagree c
      replace h0 := h0.trans (Cert.DtReferenceIdeal.Read.val_main_v0_eq _ _)
      rw [e0, e1] at h0
      exact ⟨h0, hk⟩) (Cert.DtReferenceIdeal.Value.run (F := Ideal) m' ρ')⟩

theorem frame_joinedInGrad : Cert.quiescent_JoinedInGrad := fun m ρ _ => Cert.JoinedInGrad.Gen.frame m ρ

theorem frame_joinedInGradIdeal : Cert.quiescent_JoinedInGradIdeal := fun m ρ _ => Cert.JoinedInGradIdeal.Gen.frame m ρ

theorem frame_joinedInGradReferenceIdeal : Cert.quiescent_JoinedInGradReferenceIdeal := fun m ρ _ =>
  (θ_run (Cert.JoinedInGradReferenceIdeal.defs (F := Ideal)) _ _).mono
    (fun r h => ⟨fun c => (h c).2, sem_eq_zero_of_no_sems (by decide) r.2⟩)
    (Cert.JoinedInGradReferenceIdeal.Value.run (F := Ideal) m ρ)

theorem algebraic_joinedInGrad : Cert.algebraic_JoinedInGradIdeal_JoinedInGradReferenceIdeal := fun m ρ m' ρ' _ hagree =>
  ⟨fun c => Cert.JoinedInGradReferenceIdeal.Read.val_main_v1 (F := Ideal) (m ((c.tc : Thread Cert.JoinedInGradIdeal.nD Cert.JoinedInGradIdeal.τ).loc Cert.JoinedInGradIdeal.main_arg0)) (m ((c.tc : Thread Cert.JoinedInGradIdeal.nD Cert.JoinedInGradIdeal.τ).loc Cert.JoinedInGradIdeal.main_arg1)),
    (θ_run (Cert.JoinedInGradIdeal.defs (F := Ideal)) _ _).mono (fun r h c => ⟨(h c).1.trans (Cert.JoinedInGradIdeal.Product.arr2 m c), (h c).2⟩)
      (Cert.JoinedInGradIdeal.Value.run_blocks (F := Ideal) m ρ),
    (θ_run (Cert.JoinedInGradReferenceIdeal.defs (F := Ideal)) _ _).mono (fun r h c => by
      obtain ⟨h0, hk⟩ := h c
      obtain ⟨e0, e1⟩ := hagree c
      replace h0 := h0.trans (Cert.JoinedInGradReferenceIdeal.Read.val_main_v1_eq _ _)
      rw [e0, e1] at h0
      exact ⟨h0, hk⟩) (Cert.JoinedInGradReferenceIdeal.Value.run (F := Ideal) m' ρ')⟩

theorem frame_joinedGrad : Cert.quiescent_JoinedGrad := fun m ρ _ => Cert.JoinedGrad.Gen.frame m ρ

theorem frame_joinedGradIdeal : Cert.quiescent_JoinedGradIdeal := fun m ρ _ => Cert.JoinedGradIdeal.Gen.frame m ρ

theorem frame_joinedGradReferenceIdeal : Cert.quiescent_JoinedGradReferenceIdeal := fun m ρ _ =>
  (θ_run (Cert.JoinedGradReferenceIdeal.defs (F := Ideal)) _ _).mono
    (fun r h => ⟨fun c => (h c).2, sem_eq_zero_of_no_sems (by decide) r.2⟩)
    (Cert.JoinedGradReferenceIdeal.Value.run (F := Ideal) m ρ)

theorem algebraic_joinedGrad : Cert.algebraic_JoinedGradIdeal_JoinedGradReferenceIdeal := fun m ρ m' ρ' _ hagree =>
  ⟨fun c => Cert.JoinedGradReferenceIdeal.Read.val_main_v2 (F := Ideal) (m ((c.tc : Thread Cert.JoinedGradIdeal.nD Cert.JoinedGradIdeal.τ).loc Cert.JoinedGradIdeal.main_arg0)) (m ((c.tc : Thread Cert.JoinedGradIdeal.nD Cert.JoinedGradIdeal.τ).loc Cert.JoinedGradIdeal.main_arg1)),
    (θ_run (Cert.JoinedGradIdeal.defs (F := Ideal)) _ _).mono (fun r h c => ⟨(h c).1.trans (Cert.JoinedGradIdeal.Product.arr2 m c), (h c).2⟩)
      (Cert.JoinedGradIdeal.Value.run_blocks (F := Ideal) m ρ),
    (θ_run (Cert.JoinedGradReferenceIdeal.defs (F := Ideal)) _ _).mono (fun r h c => by
      obtain ⟨h0, hk⟩ := h c
      obtain ⟨e0, e1⟩ := hagree c
      replace h0 := h0.trans (Cert.JoinedGradReferenceIdeal.Read.val_main_v2_eq _ _)
      rw [e0, e1] at h0
      exact ⟨h0, hk⟩) (Cert.JoinedGradReferenceIdeal.Value.run (F := Ideal) m' ρ')⟩

end Cert.Proof

end
-- ==== Proof.Projections.lean ====
/-
  The product with the joined weights, and a device's part of the modulation.
-/
module

public import proofs.«01_k».proof.Proof.Gen.JoinedIdeal.Value
public import proofs.«01_k».proof.Proof.Gen.JoinedReferenceIdeal.Read
public import proofs.«01_k».proof.Proof.Gen.ModPartIdeal.Value
public import proofs.«01_k».proof.Proof.Gen.ModPartReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

/-! ## A device's columns of the modulation. -/

namespace Cert.ModPartIdeal.Product

open Cert.ModPartIdeal Cert.ModPartIdeal.Gen

variable (m : (ℓ : Loc nD τ sig) → Buf (Elt Ideal) ℓ)

/-- The blocks' places, at every point of the grid. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The kernel's part is the reference's. -/
theorem arr3 (c : Dev nD) : (dats m 0 c).arrAt 3 (cfgs 0).N
    = ModPartReferenceIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, ModPartReferenceIdeal.Read.val_main_v3, ModPartReferenceIdeal.Read.val_main_v1, ModPartReferenceIdeal.Read.val_main_v0, ModPartReferenceIdeal.Read.val_main_call0_v5, ModPartReferenceIdeal.Read.val_main_call0_v4, ModPartReferenceIdeal.Read.val_main_call0_cst_0, ModPartReferenceIdeal.Read.val_main_call0_v3, ModPartReferenceIdeal.Read.val_main_call0_v2, ModPartReferenceIdeal.Read.val_main_call0_cst, ModPartReferenceIdeal.Read.val_main_call0_v1, ModPartReferenceIdeal.Read.val_main_call0_v0, ModPartReferenceIdeal.Read.val_main_v2]
  simp only [Ideal.logistic]
  blk_point [iblk, V, idx t]

end Cert.ModPartIdeal.Product

/-! ## The rows times the joined weights. -/

namespace Cert.JoinedIdeal.Product

open Cert.JoinedIdeal Cert.JoinedIdeal.Gen

variable (m : (ℓ : Loc nD τ sig) → Buf (Elt Ideal) ℓ)

/-- The blocks' places, at every point of the grid. -/
theorem idx : ∀ t : Fin cfg0.N, win0_0.index t = ![t.val / 10, 0] ∧ win0_1.index t = ![0, t.val % 10] ∧ win0_2.index t = ![t.val / 10, t.val % 10] :=
  (by decide +kernel : ∀ t : Fin grid0.N, _)

/-- The block of the weight, entry by entry. -/
theorem whole (c : Dev nD) (t : Fin cfg0.N) (j : S1024x1024.Idx) :
    X0_1 m c t j = m ((c : Thread nD τ).loc main_arg1) (ix2 (j 0) ⟨t.val % 10 * 1024 + (j 1).val, by have := (j 1).isLt; simp at this; omega⟩) := by
  unfold X0_1 Window.fill
  rw [dif_pos (moved0_1 t j)]
  show V m c main_arg1 (((cfg0.win 1).blk t).view.emb _) = _
  blk_ext! [V, idx t]

/-- The kernel's product is the reference's. -/
theorem arr2 (c : Dev nD) : (dats m 0 c).arrAt 2 (cfgs 0).N
    = JoinedReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, k0_pay3, k0_pay4, JoinedReferenceIdeal.Read.val_main_v2, JoinedReferenceIdeal.Read.val_main_v1, JoinedReferenceIdeal.Read.val_main_v0]
  blk_point [iblk, V, idx t]
  exact whole m c t _

end Cert.JoinedIdeal.Product

end
-- ==== Proof.Modulations.lean ====
/-
  The modulated norms and the residual: each row of the result is the reference's.
-/
module

public import proofs.«01_k».proof.Proof.Gen.ModulateIdeal.Value
public import proofs.«01_k».proof.Proof.Gen.ModulateReferenceIdeal.Read
public import proofs.«01_k».proof.Proof.Gen.ResidualIdeal.Value
public import proofs.«01_k».proof.Proof.Gen.ResidualReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

/-! ## The rows normalised and modulated. -/

namespace Cert.ModulateIdeal.Product

open Cert.ModulateIdeal Cert.ModulateIdeal.Gen

variable (m : (ℓ : Loc nD τ sig) → Buf (Elt Ideal) ℓ)

/-- The blocks' places, at every point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The kernel's rows are the reference's. -/
theorem arr3 (c : Dev nD) : (dats m 0 c).arrAt 3 (cfgs 0).N
    = ModulateReferenceIdeal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, ModulateReferenceIdeal.Read.val_main_v16, ModulateReferenceIdeal.Read.val_main_v15, ModulateReferenceIdeal.Read.val_main_v13, ModulateReferenceIdeal.Read.val_main_v9, ModulateReferenceIdeal.Read.val_main_v8, ModulateReferenceIdeal.Read.val_main_v7, ModulateReferenceIdeal.Read.val_main_v6, ModulateReferenceIdeal.Read.val_main_v4, ModulateReferenceIdeal.Read.val_main_v2, ModulateReferenceIdeal.Read.val_main_v1, ModulateReferenceIdeal.Read.val_main_v0, ModulateReferenceIdeal.Read.val_main_cst, ModulateReferenceIdeal.Read.val_main_v3, ModulateReferenceIdeal.Read.val_main_cst_0, ModulateReferenceIdeal.Read.val_main_v5, ModulateReferenceIdeal.Read.val_main_cst_1, ModulateReferenceIdeal.Read.val_main_v12, ModulateReferenceIdeal.Read.val_main_v11, ModulateReferenceIdeal.Read.val_main_v10, ModulateReferenceIdeal.Read.val_main_cst_2, ModulateReferenceIdeal.Read.val_main_v14]
  blk_point [iblk, V, idx t]

end Cert.ModulateIdeal.Product

/-! ## The residual, normalised and modulated. -/

namespace Cert.ResidualIdeal.Product

open Cert.ResidualIdeal Cert.ResidualIdeal.Gen

variable (m : (ℓ : Loc nD τ sig) → Buf (Elt Ideal) ℓ)

/-- The blocks' places, at every point of the grid. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

/-- The kernel's residual is the reference's. -/
theorem arr5 (c : Dev nD) : (dats m 0 c).arrAt 5 (cfgs 0).N
    = ResidualReferenceIdeal.Read.val_main_v2 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, k0_pay2, ResidualReferenceIdeal.Read.val_main_v2, ResidualReferenceIdeal.Read.val_main_v1, ResidualReferenceIdeal.Read.val_main_v0]
  blk_point [iblk, V, idx t]

/-- The kernel's modulated rows are the reference's. -/
theorem arr6 (c : Dev nD) : (dats m 0 c).arrAt 6 (cfgs 0).N
    = ResidualReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, k0_pay2, ResidualReferenceIdeal.Read.val_main_v19, ResidualReferenceIdeal.Read.val_main_v18, ResidualReferenceIdeal.Read.val_main_v16, ResidualReferenceIdeal.Read.val_main_v12, ResidualReferenceIdeal.Read.val_main_v2, ResidualReferenceIdeal.Read.val_main_v1, ResidualReferenceIdeal.Read.val_main_v0, ResidualReferenceIdeal.Read.val_main_v11, ResidualReferenceIdeal.Read.val_main_v10, ResidualReferenceIdeal.Read.val_main_v9, ResidualReferenceIdeal.Read.val_main_v7, ResidualReferenceIdeal.Read.val_main_v5, ResidualReferenceIdeal.Read.val_main_v4, ResidualReferenceIdeal.Read.val_main_v3, ResidualReferenceIdeal.Read.val_main_cst, ResidualReferenceIdeal.Read.val_main_v6, ResidualReferenceIdeal.Read.val_main_cst_0, ResidualReferenceIdeal.Read.val_main_v8, ResidualReferenceIdeal.Read.val_main_cst_1, ResidualReferenceIdeal.Read.val_main_v15, ResidualReferenceIdeal.Read.val_main_v14, ResidualReferenceIdeal.Read.val_main_v13, ResidualReferenceIdeal.Read.val_main_cst_2, ResidualReferenceIdeal.Read.val_main_v17]
  blk_point [iblk, V, idx t]

end Cert.ResidualIdeal.Product

end
-- ==== Proof.Activations.lean ====
/-
  The squared rectifier and its gradient, entry by entry.
-/
module

public import proofs.«01_k».proof.Proof.Gen.SquaredReluIdeal.Value
public import proofs.«01_k».proof.Proof.Gen.SquaredReluReferenceIdeal.Read
public import proofs.«01_k».proof.Proof.Gen.SquaredReluGradIdeal.Value
public import proofs.«01_k».proof.Proof.Gen.SquaredReluGradReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

/-! ## The squared rectifier. -/

namespace Cert.SquaredReluIdeal.Product

open Cert.SquaredReluIdeal Cert.SquaredReluIdeal.Gen

variable (m : (ℓ : Loc nD τ sig) → Buf (Elt Ideal) ℓ)

/-- The blocks' places, at every point of the grid. -/
theorem idx : ∀ t : Fin cfg0.N, win0_0.index t = ![t.val, 0] ∧ win0_1.index t = ![t.val, 0] :=
  (by decide +kernel : ∀ t : Fin grid0.N, _)

/-- The kernel's activations are the reference's. -/
theorem arr1 (c : Dev nD) : (dats m 0 c).arrAt 1 (cfgs 0).N
    = SquaredReluReferenceIdeal.Read.val_main_v3 (F := Ideal) (m ((c : Thread nD τ).loc main_arg0)) := by
  refine (dats m 0 c).arrAt_eq_of_covers 1 _ (by decide +kernel) fun t _ y => ?_
  blk_simp
  rw [after0_1]
  frame_out
  pointwise [k0_pay1, SquaredReluReferenceIdeal.Read.val_main_v3, SquaredReluReferenceIdeal.Read.val_main_v2, SquaredReluReferenceIdeal.Read.val_main_v1, SquaredReluReferenceIdeal.Read.val_main_v0, SquaredReluReferenceIdeal.Read.val_main_call0_v0, SquaredReluReferenceIdeal.Read.val_main_call0_cst]
  blk_point [iblk, V, idx t]

end Cert.SquaredReluIdeal.Product

/-! ## Its gradient. -/

namespace Cert.SquaredReluGradIdeal.Product

open Cert.SquaredReluGradIdeal Cert.SquaredReluGradIdeal.Gen

variable (m : (ℓ : Loc nD τ sig) → Buf (Elt Ideal) ℓ)

/-- The blocks' places, at every point of the grid. -/
theorem idx : ∀ t : Fin cfg0.N, win0_0.index t = ![t.val, 0] ∧ win0_1.index t = ![t.val, 0] ∧ win0_2.index t = ![t.val, 0] :=
  (by decide +kernel : ∀ t : Fin grid0.N, _)

/-- Where the rectifier is zero the square's slope is zero too, whatever the rectifier's own slope there. -/
theorem slope (f d c h : EReal) : (if 0 < f then d * (c * max f 0) else 0)
    = d * (c * max f 0) * (if 0 < f then 1 else if f = 0 then h else 0) := by
  by_cases hf : 0 < f
  · rw [if_pos hf, if_pos hf, mul_one]
  · rw [if_neg hf, max_eq_right (not_lt.mp hf), mul_zero, mul_zero, zero_mul]

/-- The kernel's gradient is the reference's. -/
theorem arr2 (c : Dev nD) : (dats m 0 c).arrAt 2 (cfgs 0).N
    = SquaredReluGradReferenceIdeal.Read.val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, SquaredReluGradReferenceIdeal.Read.val_main_v12, SquaredReluGradReferenceIdeal.Read.val_main_v11, SquaredReluGradReferenceIdeal.Read.val_main_v3, SquaredReluGradReferenceIdeal.Read.val_main_v0, SquaredReluGradReferenceIdeal.Read.val_main_v2, SquaredReluGradReferenceIdeal.Read.val_main_cst, SquaredReluGradReferenceIdeal.Read.val_main_v9, SquaredReluGradReferenceIdeal.Read.val_main_v8, SquaredReluGradReferenceIdeal.Read.val_main_v7, SquaredReluGradReferenceIdeal.Read.val_main_v6, SquaredReluGradReferenceIdeal.Read.val_main_cst_1, SquaredReluGradReferenceIdeal.Read.val_main_v1, SquaredReluGradReferenceIdeal.Read.val_main_call0_v0, SquaredReluGradReferenceIdeal.Read.val_main_call0_cst, SquaredReluGradReferenceIdeal.Read.val_main_v10, SquaredReluGradReferenceIdeal.Read.val_main_cst_2]
  rw [← slope]
  blk_point [iblk, V, idx t]

end Cert.SquaredReluGradIdeal.Product

end
-- ==== Proof.Gates.lean ====
/-
  The two gated branches joined, and the gradients of gates and branches.
-/
module

public import proofs.«01_k».proof.Proof.Gen.MixIdeal.Value
public import proofs.«01_k».proof.Proof.Gen.MixReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

/-! ## The branches weighted by their gates. -/

namespace Cert.MixIdeal.Product

open Cert.MixIdeal Cert.MixIdeal.Gen

variable (m : (ℓ : Loc nD τ sig) → Buf (Elt Ideal) ℓ)

/-- The blocks' places, at every point of the grid. -/
theorem idx : ∀ t : Fin cfg0.N, win0_0.index t = ![t.val, 8] ∧ win0_1.index t = ![t.val, 9] ∧ win0_2.index t = ![t.val, 0] ∧ win0_3.index t = ![t.val, 0] ∧ win0_4.index t = ![t.val, 0] :=
  (by decide +kernel : ∀ t : Fin grid0.N, _)

/-- The kernel's mixture is the reference's. -/
theorem arr4 (c : Dev nD) : (dats m 0 c).arrAt 4 (cfgs 0).N
    = MixReferenceIdeal.Read.val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay1, MixReferenceIdeal.Read.val_main_v19, MixReferenceIdeal.Read.val_main_v18, MixReferenceIdeal.Read.val_main_v10, MixReferenceIdeal.Read.val_main_v9, MixReferenceIdeal.Read.val_main_v8, MixReferenceIdeal.Read.val_main_cst_0, MixReferenceIdeal.Read.val_main_v7, MixReferenceIdeal.Read.val_main_v6, MixReferenceIdeal.Read.val_main_cst, MixReferenceIdeal.Read.val_main_v5, MixReferenceIdeal.Read.val_main_v4, MixReferenceIdeal.Read.val_main_v1, MixReferenceIdeal.Read.val_main_v0, MixReferenceIdeal.Read.val_main_v17, MixReferenceIdeal.Read.val_main_v16, MixReferenceIdeal.Read.val_main_v15, MixReferenceIdeal.Read.val_main_cst_2, MixReferenceIdeal.Read.val_main_v14, MixReferenceIdeal.Read.val_main_v13, MixReferenceIdeal.Read.val_main_cst_1, MixReferenceIdeal.Read.val_main_v12, MixReferenceIdeal.Read.val_main_v11, MixReferenceIdeal.Read.val_main_v3, MixReferenceIdeal.Read.val_main_v2]
  simp only [Ideal.logistic]
  blk_point [iblk, V, idx t]

end Cert.MixIdeal.Product

end
-- ==== Proof.GatesGrad.lean ====
/-
  The gradient through the gates and the two branches: the kernel's arrays, one of them written in part, are the reference's.
-/
module

public import proofs.«01_k».proof.Proof.Gen.MixGradIdeal.Value
public import proofs.«01_k».proof.Proof.Gen.MixGradReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

/-! ## The gradients of the gates and of the branches. -/

namespace Cert.MixGradIdeal.Product

open Cert.MixGradIdeal Cert.MixGradIdeal.Gen

variable (m : (ℓ : Loc nD τ sig) → Buf (Elt Ideal) ℓ)

/-- The blocks' places, at every point of the grid. -/
theorem idx : ∀ t : Fin cfg0.N, win0_0.index t = ![t.val, 8] ∧ win0_1.index t = ![t.val, 9] ∧ win0_2.index t = ![t.val, 0] ∧ win0_3.index t = ![t.val, 0] ∧ win0_4.index t = ![t.val, 0] ∧ win0_5.index t = ![t.val, 4] ∧ win0_6.index t = ![t.val, 0] ∧ win0_7.index t = ![t.val, 0] :=
  (by decide +kernel : ∀ t : Fin grid0.N, _)

/-- The kernel's gradient of the first branch is the reference's. -/
theorem arr6 (c : Dev nD) : (dats m 0 c).arrAt 6 (cfgs 0).N
    = MixGradReferenceIdeal.Read.val_main_v38 (F := Ideal) (m ((c : Thread nD τ).loc main_arg0)) (m ((c : Thread nD τ).loc main_arg3)) := by
  refine (dats m 0 c).arrAt_eq_of_covers 6 _ (by decide +kernel) fun t _ y => ?_
  blk_simp
  rw [after0_6]
  unfold outsAt0
  frame_out
  pointwise [k0_pay1, k0_pay2, k0_pay3, k0_pay4, k0_pay5, k0_pay6, k0_pay7, MixGradReferenceIdeal.Read.val_main_v38, MixGradReferenceIdeal.Read.val_main_v30, MixGradReferenceIdeal.Read.val_main_v9, MixGradReferenceIdeal.Read.val_main_v8, MixGradReferenceIdeal.Read.val_main_cst_0, MixGradReferenceIdeal.Read.val_main_v7, MixGradReferenceIdeal.Read.val_main_v6, MixGradReferenceIdeal.Read.val_main_cst, MixGradReferenceIdeal.Read.val_main_v5, MixGradReferenceIdeal.Read.val_main_v4, MixGradReferenceIdeal.Read.val_main_v1, MixGradReferenceIdeal.Read.val_main_v0, MixGradReferenceIdeal.Read.val_main_v25]
  simp only [Ideal.logistic]
  blk_point [iblk, V, idx t]

/-- The kernel's gradient of the second branch is the reference's. -/
theorem arr7 (c : Dev nD) : (dats m 0 c).arrAt 7 (cfgs 0).N
    = MixGradReferenceIdeal.Read.val_main_v39 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  unfold outsAt0
  frame_out
  pointwise [k0_pay1, k0_pay2, k0_pay3, k0_pay4, k0_pay5, k0_pay6, k0_pay7, MixGradReferenceIdeal.Read.val_main_v39, MixGradReferenceIdeal.Read.val_main_v27, MixGradReferenceIdeal.Read.val_main_v19, MixGradReferenceIdeal.Read.val_main_v18, MixGradReferenceIdeal.Read.val_main_cst_3, MixGradReferenceIdeal.Read.val_main_v17, MixGradReferenceIdeal.Read.val_main_v16, MixGradReferenceIdeal.Read.val_main_cst_2, MixGradReferenceIdeal.Read.val_main_v15, MixGradReferenceIdeal.Read.val_main_v14, MixGradReferenceIdeal.Read.val_main_v3, MixGradReferenceIdeal.Read.val_main_v2, MixGradReferenceIdeal.Read.val_main_v26]
  simp only [Ideal.logistic]
  blk_point [iblk, V, idx t]

/-- Outside the gates' columns the joined gradients are what they were. -/
theorem rest (x0 : FVec Ideal S8192x10240 .bf16) (x1 x2 x3 : FVec Ideal S8192x1024 .f32) (x4 : FVec Ideal S8192x10368 .bf16)
    (i : S8192x10368.Idx) (h : ¬ (i 1 : ℕ) / 2048 = 4) :
    MixGradReferenceIdeal.Read.val_main_v37 (F := Ideal) x0 x1 x2 x3 x4 i = x4 i := by
  pointwise [MixGradReferenceIdeal.Read.val_main_v37, MixGradReferenceIdeal.Read.val_main_v35, MixGradReferenceIdeal.Read.val_main_v36]
  by_cases h1 : (i 1 : ℕ) < 8192
  · rw [dif_pos h1]
  · have e : 10240 + ((i 1 : ℕ) - 8192 - 2048) = i 1 := by omega
    rw [dif_neg h1, dif_neg (by omega)]
    simp only [e]
    exact congrArg x4 (ix2_eta i)

/-- The joined gradients start from the given ones. -/
theorem copied (c : Dev nD) : V m c main_v0_0 = m ((c : Thread nD τ).loc main_arg4) := by
  show StableHlo.after _ _ _ = _
  after_results
  rfl

set_option maxHeartbeats 4000000 in
/-- The joined gradients: the gates' columns are the reference's, the other columns what they were. -/
theorem arr5 (c : Dev nD) : (dats m 0 c).arrAt 5 (cfgs 0).N
    = MixGradReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((dats m 0 c).arrAt_eq_of_coversWhere 5 (MixGradReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (fun β => β (1 : Fin 2) = 4) (by decide +kernel) (fun t _ y => ?_) (P := fun i => (i (1 : Fin 2) : ℕ) / 2048 = 4) (fun j => Iff.rfl)).trans (funext fun i => ?_)
  · blk_simp
    rw [after0_5]
    unfold outsAt0
    frame_out
    pointwise [k0_pay1, k0_pay2, k0_pay3, k0_pay4, k0_pay5, k0_pay6, k0_pay7, MixGradReferenceIdeal.Read.val_main_v37, MixGradReferenceIdeal.Read.val_main_v35, MixGradReferenceIdeal.Read.val_main_v34, MixGradReferenceIdeal.Read.val_main_v33, MixGradReferenceIdeal.Read.val_main_v32, MixGradReferenceIdeal.Read.val_main_v31, MixGradReferenceIdeal.Read.val_main_v25, MixGradReferenceIdeal.Read.val_main_v12, MixGradReferenceIdeal.Read.val_main_v9, MixGradReferenceIdeal.Read.val_main_v8, MixGradReferenceIdeal.Read.val_main_cst_0, MixGradReferenceIdeal.Read.val_main_v7, MixGradReferenceIdeal.Read.val_main_v6, MixGradReferenceIdeal.Read.val_main_cst, MixGradReferenceIdeal.Read.val_main_v5, MixGradReferenceIdeal.Read.val_main_v4, MixGradReferenceIdeal.Read.val_main_v1, MixGradReferenceIdeal.Read.val_main_v0, MixGradReferenceIdeal.Read.val_main_v11, MixGradReferenceIdeal.Read.val_main_v10, MixGradReferenceIdeal.Read.val_main_cst_1, MixGradReferenceIdeal.Read.val_main_v29, MixGradReferenceIdeal.Read.val_main_v28, MixGradReferenceIdeal.Read.val_main_v26, MixGradReferenceIdeal.Read.val_main_v22, MixGradReferenceIdeal.Read.val_main_v19, MixGradReferenceIdeal.Read.val_main_v18, MixGradReferenceIdeal.Read.val_main_cst_3, MixGradReferenceIdeal.Read.val_main_v17, MixGradReferenceIdeal.Read.val_main_v16, MixGradReferenceIdeal.Read.val_main_cst_2, MixGradReferenceIdeal.Read.val_main_v15, MixGradReferenceIdeal.Read.val_main_v14, MixGradReferenceIdeal.Read.val_main_v3, MixGradReferenceIdeal.Read.val_main_v2, MixGradReferenceIdeal.Read.val_main_v21, MixGradReferenceIdeal.Read.val_main_v20, MixGradReferenceIdeal.Read.val_main_cst_4, MixGradReferenceIdeal.Read.val_main_v36]
    simp only [Ideal.logistic]
    have e : ((((View.whole main_v0_0).slice (win0_5.rect t)).emb y (1 : Fin 2) : Fin _) : ℕ) = 8192 + (y (1 : Fin 2) : ℕ) := by
      blk_simp [idx t]
    by_cases h : (y (1 : Fin 2) : ℕ) < 1024
    · rw [dif_pos h, dif_neg (by omega), dif_pos (by omega), dif_pos (by omega)]
      blk_point [iblk, V, idx t]
    · rw [dif_neg h, dif_neg (by omega), dif_pos (by have b : (y (1 : Fin 2) : ℕ) < 2048 := (y (1 : Fin 2)).isLt; omega), dif_neg (by omega)]
      blk_point [iblk, V, idx t]
  · split_ifs with h
    · rfl
    · exact (congrFun ((A_eq m c 5).trans (copied m c)) i).trans (rest _ _ _ _ _ i h).symm

end Cert.MixGradIdeal.Product

end
-- ==== Proof.ResidualGrads.lean ====
/-
  The gradient through the residual step and the second modulation: the kernel's arrays are the reference's.
-/
module

public import proofs.«01_k».proof.Proof.Rows
public import proofs.«01_k».proof.Proof.Gen.ResidualGradIdeal.Value
public import proofs.«01_k».proof.Proof.Gen.ResidualGradReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.ResidualGradIdeal.Product

open Cert.ResidualGradIdeal Cert.ResidualGradIdeal.Gen

/-- The gate's gradient starts from zero. -/
theorem hzero9 (j) : k0_pay13 (F := Ideal) j = 0 := by pointwise [k0_pay13]

/-- The scale's gradient starts from zero. -/
theorem hzero10 (j) : k0_pay14 (F := Ideal) j = 0 := by pointwise [k0_pay14]

/-- The shift's gradient starts from zero. -/
theorem hzero11 (j) : k0_pay15 (F := Ideal) j = 0 := by pointwise [k0_pay15]

/-- One block adds its rows to the gate's gradient. -/
theorem hpay9 (v1 v8 v37 : FVec Ideal S256x1024 .f32) (v38 : FVec Ideal S256x1 .f32) (acc : FVec Ideal S1x1024 .f32) (j : S1x1024.Idx) :
    k0_pay16 v1 v8 v37 v38 acc j = acc j + ∑ k : Fin 256, k0_pay10 v8 v37 v38 (ix2 k (j 1)) * v1 (ix2 k (j 1)) := by
  pointwise [k0_pay16, k0_pay11]

/-- One block adds its rows to the scale's gradient. -/
theorem hpay10 (x0 x1 x3 : FVec Ideal S256x1024 .f32) (x4 acc : FVec Ideal S1x1024 .f32) (j : S1x1024.Idx) :
    k0_pay17 (k0_pay6 x0 x1 x3 x4) acc j
    = acc j + ∑ k : Fin 256, k0_pay1 x0 x1 x4 (ix2 k (j 1)) * k0_pay3 x0 x1 x4 (ix2 k 0) * x3 (ix2 k (j 1)) := by
  pointwise [k0_pay17, k0_pay6, k0_pay4]

/-- One block adds its rows to the shift's gradient. -/
theorem hpay11 (v : FVec Ideal S256x1024 .f32) (acc : FVec Ideal S1x1024 .f32) (j : S1x1024.Idx) :
    k0_pay18 (k0_pay5 v) acc j = acc j + ∑ k : Fin 256, v (ix2 k (j 1)) := by
  pointwise [k0_pay18, k0_pay5]

/-- The reference's gradient of the gate. -/
theorem href9 (x0 x1 x2 x3 : FVec Ideal S8192x1024 .f32) (x4 x5 : FVec Ideal S1x1024 .f32) (j : S1x1024.Idx) :
    ResidualGradReferenceIdeal.Read.val_main_v50 (F := Ideal) x0 x1 x2 x3 x4 x5 j
    = ∑ k : Fin 8192, ResidualGradReferenceIdeal.Read.val_main_v44 (F := Ideal) x0 x1 x2 x3 x4 x5 (ix2 k (j 1)) * x1 (ix2 k (j 1)) := by
  pointwise [ResidualGradReferenceIdeal.Read.val_main_v50, ResidualGradReferenceIdeal.Read.val_main_v49, ResidualGradReferenceIdeal.Read.val_main_v48, ResidualGradReferenceIdeal.Read.val_main_v45, ResidualGradReferenceIdeal.Read.val_main_cst_10]

/-- The reference's gradient of the scale. -/
theorem href10 (x0 x1 x3 : FVec Ideal S8192x1024 .f32) (x4 : FVec Ideal S1x1024 .f32) (j : S1x1024.Idx) :
    ResidualGradReferenceIdeal.Read.val_main_v29 (F := Ideal) x0 x1 x3 x4 j
    = ∑ k : Fin 8192, ResidualGradReferenceIdeal.Read.val_main_v27 (F := Ideal) x0 x1 x3 x4 (ix2 k (j 1)) := by
  pointwise [ResidualGradReferenceIdeal.Read.val_main_v29, ResidualGradReferenceIdeal.Read.val_main_v28, ResidualGradReferenceIdeal.Read.val_main_cst_6]

/-- The reference's gradient of the shift. -/
theorem href11 (x3 : FVec Ideal S8192x1024 .f32) (j : S1x1024.Idx) :
    ResidualGradReferenceIdeal.Read.val_main_v26 (F := Ideal) x3 j = ∑ k : Fin 8192, x3 (ix2 k (j 1)) := by
  pointwise [ResidualGradReferenceIdeal.Read.val_main_v26, ResidualGradReferenceIdeal.Read.val_main_v25, ResidualGradReferenceIdeal.Read.val_main_cst_5]

variable (m : (ℓ : Loc nD τ sig) → Buf (Elt Ideal) ℓ)

/-- The blocks' places, at every point of the grid. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![0, 0] ∧ win0_10.index t = ![0, 0] ∧ win0_11.index t = ![0, 0] :=
  (by decide +kernel : ∀ t : Fin grid0.N, _)

set_option maxHeartbeats 4000000 in
/-- What a point of the grid stores is the reference's gradient at that place. -/
theorem point (c : Dev nD) (t : Fin cfg0.N) (y) :
    k0_pay10 (k0_pay1 (iblk m c 0 t) (iblk m c 1 t) (iblk m c 4 t)) (k0_pay8 (iblk m c 0 t) (iblk m c 1 t) (iblk m c 2 t) (iblk m c 3 t) (iblk m c 4 t) (iblk m c 5 t)) (k0_pay9 (iblk m c 0 t) (iblk m c 1 t) (iblk m c 3 t) (iblk m c 4 t) (iblk m c 5 t)) y
    = ResidualGradReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, k0_pay3, k0_pay4, k0_pay5, k0_pay6, k0_pay7, k0_pay8, k0_pay9, k0_pay10, ResidualGradReferenceIdeal.Read.val_main_v44, ResidualGradReferenceIdeal.Read.val_main_v37, ResidualGradReferenceIdeal.Read.val_main_v36, ResidualGradReferenceIdeal.Read.val_main_v31, ResidualGradReferenceIdeal.Read.val_main_v24, ResidualGradReferenceIdeal.Read.val_main_v30, ResidualGradReferenceIdeal.Read.val_main_v19, ResidualGradReferenceIdeal.Read.val_main_v18, ResidualGradReferenceIdeal.Read.val_main_cst_4, ResidualGradReferenceIdeal.Read.val_main_v35, ResidualGradReferenceIdeal.Read.val_main_v12, ResidualGradReferenceIdeal.Read.val_main_v11, ResidualGradReferenceIdeal.Read.val_main_v9, ResidualGradReferenceIdeal.Read.val_main_v7, ResidualGradReferenceIdeal.Read.val_main_v6, ResidualGradReferenceIdeal.Read.val_main_v3, ResidualGradReferenceIdeal.Read.val_main_v2, ResidualGradReferenceIdeal.Read.val_main_v1, ResidualGradReferenceIdeal.Read.val_main_v0, ResidualGradReferenceIdeal.Read.val_main_cst_0, ResidualGradReferenceIdeal.Read.val_main_v8, ResidualGradReferenceIdeal.Read.val_main_cst_1, ResidualGradReferenceIdeal.Read.val_main_v10, ResidualGradReferenceIdeal.Read.val_main_cst_2, ResidualGradReferenceIdeal.Read.val_main_v43, ResidualGradReferenceIdeal.Read.val_main_v42, ResidualGradReferenceIdeal.Read.val_main_v41, ResidualGradReferenceIdeal.Read.val_main_v40, ResidualGradReferenceIdeal.Read.val_main_v38, ResidualGradReferenceIdeal.Read.val_main_v34, ResidualGradReferenceIdeal.Read.val_main_v33, ResidualGradReferenceIdeal.Read.val_main_v32, ResidualGradReferenceIdeal.Read.val_main_cst_7, ResidualGradReferenceIdeal.Read.val_main_v15, ResidualGradReferenceIdeal.Read.val_main_v14, ResidualGradReferenceIdeal.Read.val_main_cst_3, ResidualGradReferenceIdeal.Read.val_main_v13, ResidualGradReferenceIdeal.Read.val_main_v39, ResidualGradReferenceIdeal.Read.val_main_cst_8, ResidualGradReferenceIdeal.Read.val_main_cst_9, ResidualGradReferenceIdeal.Read.val_main_v5, ResidualGradReferenceIdeal.Read.val_main_v4, ResidualGradReferenceIdeal.Read.val_main_cst]
  simp only [Rows.mul_two_mul, Fin.sum_univ_one, ← add_assoc]
  blk_point [iblk, V, idx t]

/-- The kernel's gradient of the branch's input is the reference's. -/
theorem arr7 (c : Dev nD) : (dats m 0 c).arrAt 7 (cfgs 0).N
    = ResidualGradReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  by_cases h : t.val % 32 = 0
  · rw [outsAt0_A m c t h]; frame_out; exact point m c t y
  · rw [outsAt0_B m c t h]; frame_out; exact point m c t y

/-- What a point of the grid stores for the branch is the reference's gradient at that place. -/
theorem branch (c : Dev nD) (t : Fin cfg0.N) (y) :
    k0_pay12 (iblk m c 4 t) (k0_pay1 (iblk m c 0 t) (iblk m c 1 t) (iblk m c 4 t)) (k0_pay8 (iblk m c 0 t) (iblk m c 1 t) (iblk m c 2 t) (iblk m c 3 t) (iblk m c 4 t) (iblk m c 5 t)) (k0_pay9 (iblk m c 0 t) (iblk m c 1 t) (iblk m c 3 t) (iblk m c 4 t) (iblk m c 5 t)) y
    = ResidualGradReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  pointwise [k0_pay12, k0_pay11, ResidualGradReferenceIdeal.Read.val_main_v51, ResidualGradReferenceIdeal.Read.val_main_v47, ResidualGradReferenceIdeal.Read.val_main_v46, ResidualGradReferenceIdeal.Read.val_main_v45]
  rw [point]
  blk_point [iblk, V, idx t]

/-- The kernel's gradient of the branch is the reference's. -/
theorem arr8 (c : Dev nD) : (dats m 0 c).arrAt 8 (cfgs 0).N
    = ResidualGradReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  by_cases h : t.val % 32 = 0
  · rw [outsAt0_A m c t h]; frame_out; exact branch m c t y
  · rw [outsAt0_B m c t h]; frame_out; exact branch m c t y

/-- The kernel's gradient of the gate is the reference's. -/
theorem arr9 (c : Dev nD) : (dats m 0 c).arrAt 9 (cfgs 0).N
    = ResidualGradReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => 0) _
    (fun t h j => by rw [outsAt0_A m c t h]; frame_out; rw [hpay9, hzero9])
    (fun t h j => by rw [outsAt0_B m c t h]; frame_out; rw [hpay9])
    t ((flush0_9 t).mp hf) _, zero_add, href9]
  refine Fin.sum_mul_add_congr fun s k hl => ?_
  rw [point]
  blk_point [iblk, V, idx t, idx ⟨_, Pipeline.run_point_lt_of_flush t ((flush0_9 t).mp hf) s⟩]

/-- The kernel's gradient of the scale is the reference's. -/
theorem arr10 (c : Dev nD) : (dats m 0 c).arrAt 10 (cfgs 0).N
    = ResidualGradReferenceIdeal.Read.val_main_v29 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => 0) _
    (fun t h j => by rw [outsAt0_A m c t h]; frame_out; rw [hpay10, hzero10])
    (fun t h j => by rw [outsAt0_B m c t h]; frame_out; rw [hpay10])
    t ((flush0_10 t).mp hf) _, zero_add, href10]
  refine Fin.sum_mul_add_congr fun s k hl => ?_
  pointwise [k0_pay3, k0_pay2, k0_pay1, ResidualGradReferenceIdeal.Read.val_main_v27, ResidualGradReferenceIdeal.Read.val_main_v17, ResidualGradReferenceIdeal.Read.val_main_v2, ResidualGradReferenceIdeal.Read.val_main_v1, ResidualGradReferenceIdeal.Read.val_main_v0, ResidualGradReferenceIdeal.Read.val_main_v16, ResidualGradReferenceIdeal.Read.val_main_v12, ResidualGradReferenceIdeal.Read.val_main_v11, ResidualGradReferenceIdeal.Read.val_main_v9, ResidualGradReferenceIdeal.Read.val_main_v7, ResidualGradReferenceIdeal.Read.val_main_v6, ResidualGradReferenceIdeal.Read.val_main_v3, ResidualGradReferenceIdeal.Read.val_main_cst_0, ResidualGradReferenceIdeal.Read.val_main_v8, ResidualGradReferenceIdeal.Read.val_main_cst_1, ResidualGradReferenceIdeal.Read.val_main_v10, ResidualGradReferenceIdeal.Read.val_main_cst_2, ResidualGradReferenceIdeal.Read.val_main_v24]
  blk_point [iblk, V, idx t, idx ⟨_, Pipeline.run_point_lt_of_flush t ((flush0_10 t).mp hf) s⟩]

/-- The kernel's gradient of the shift is the reference's. -/
theorem arr11 (c : Dev nD) : (dats m 0 c).arrAt 11 (cfgs 0).N
    = ResidualGradReferenceIdeal.Read.val_main_v26 (F := Ideal) (m ((c : Thread nD τ).loc main_arg3)) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 32 (fun _ => 0) _
    (fun t h j => by rw [outsAt0_A m c t h]; frame_out; rw [hpay11, hzero11])
    (fun t h j => by rw [outsAt0_B m c t h]; frame_out; rw [hpay11])
    t ((flush0_11 t).mp hf) _, zero_add, href11]
  refine Fin.sum_mul_add_congr fun s k hl => ?_
  blk_point [iblk, V, idx t, idx ⟨_, Pipeline.run_point_lt_of_flush t ((flush0_11 t).mp hf) s⟩]

end Cert.ResidualGradIdeal.Product

end
-- ==== Proof.ClaimCalls.lean ====
/-
  The claims about the row-wise calls of the block and of its backward pass, and about the joined projection.
-/
module

public import proofs.«01_k».proof.Defs
public import proofs.«01_k».proof.Proof.Projections
public import proofs.«01_k».proof.Proof.Modulations
public import proofs.«01_k».proof.Proof.Activations
public import proofs.«01_k».proof.Proof.Gates
public import proofs.«01_k».proof.Proof.GatesGrad
public import proofs.«01_k».proof.Proof.ResidualGrads
public import proofs.«01_k».proof.Proof.Gen.Joined
public import proofs.«01_k».proof.Proof.Gen.Joined.Frame
public import proofs.«01_k».proof.Proof.Gen.JoinedIdeal
public import proofs.«01_k».proof.Proof.Gen.JoinedIdeal.Frame
public import proofs.«01_k».proof.Proof.Gen.JoinedIdeal.Value
public import proofs.«01_k».proof.Proof.Gen.JoinedReferenceIdeal
public import proofs.«01_k».proof.Proof.Gen.JoinedReferenceIdeal.Run
public import proofs.«01_k».proof.Proof.Gen.JoinedReferenceIdeal.Read
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateReferenceIdeal
public import proofs.«01_k».proof.Proof.Gen.ModulateReferenceIdeal.Run
public import proofs.«01_k».proof.Proof.Gen.ModulateReferenceIdeal.Read
public import proofs.«01_k».proof.Proof.Gen.SquaredRelu
public import proofs.«01_k».proof.Proof.Gen.SquaredRelu.Frame
public import proofs.«01_k».proof.Proof.Gen.SquaredReluIdeal
public import proofs.«01_k».proof.Proof.Gen.SquaredReluIdeal.Frame
public import proofs.«01_k».proof.Proof.Gen.SquaredReluIdeal.Value
public import proofs.«01_k».proof.Proof.Gen.SquaredReluReferenceIdeal
public import proofs.«01_k».proof.Proof.Gen.SquaredReluReferenceIdeal.Run
public import proofs.«01_k».proof.Proof.Gen.SquaredReluReferenceIdeal.Read
public import proofs.«01_k».proof.Proof.Gen.SquaredReluGrad
public import proofs.«01_k».proof.Proof.Gen.SquaredReluGrad.Frame
public import proofs.«01_k».proof.Proof.Gen.SquaredReluGradIdeal
public import proofs.«01_k».proof.Proof.Gen.SquaredReluGradIdeal.Frame
public import proofs.«01_k».proof.Proof.Gen.SquaredReluGradIdeal.Value
public import proofs.«01_k».proof.Proof.Gen.SquaredReluGradReferenceIdeal
public import proofs.«01_k».proof.Proof.Gen.SquaredReluGradReferenceIdeal.Run
public import proofs.«01_k».proof.Proof.Gen.SquaredReluGradReferenceIdeal.Read
public import proofs.«01_k».proof.Proof.Gen.Residual
public import proofs.«01_k».proof.Proof.Gen.Residual.Frame
public import proofs.«01_k».proof.Proof.Gen.ResidualIdeal
public import proofs.«01_k».proof.Proof.Gen.ResidualIdeal.Frame
public import proofs.«01_k».proof.Proof.Gen.ResidualIdeal.Value
public import proofs.«01_k».proof.Proof.Gen.ResidualReferenceIdeal
public import proofs.«01_k».proof.Proof.Gen.ResidualReferenceIdeal.Run
public import proofs.«01_k».proof.Proof.Gen.ResidualReferenceIdeal.Read
public import proofs.«01_k».proof.Proof.Gen.ResidualGrad
public import proofs.«01_k».proof.Proof.Gen.ResidualGrad.Frame
public import proofs.«01_k».proof.Proof.Gen.ResidualGradIdeal
public import proofs.«01_k».proof.Proof.Gen.ResidualGradIdeal.Frame
public import proofs.«01_k».proof.Proof.Gen.ResidualGradIdeal.Value
public import proofs.«01_k».proof.Proof.Gen.ResidualGradReferenceIdeal
public import proofs.«01_k».proof.Proof.Gen.ResidualGradReferenceIdeal.Run
public import proofs.«01_k».proof.Proof.Gen.ResidualGradReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.MixGrad
public import proofs.«01_k».proof.Proof.Gen.MixGrad.Frame
public import proofs.«01_k».proof.Proof.Gen.MixGradIdeal
public import proofs.«01_k».proof.Proof.Gen.MixGradIdeal.Frame
public import proofs.«01_k».proof.Proof.Gen.MixGradIdeal.Value
public import proofs.«01_k».proof.Proof.Gen.MixGradReferenceIdeal
public import proofs.«01_k».proof.Proof.Gen.MixGradReferenceIdeal.Run
public import proofs.«01_k».proof.Proof.Gen.MixGradReferenceIdeal.Read
public import proofs.«01_k».proof.Proof.Gen.ModPart
public import proofs.«01_k».proof.Proof.Gen.ModPart.Frame
public import proofs.«01_k».proof.Proof.Gen.ModPartIdeal
public import proofs.«01_k».proof.Proof.Gen.ModPartIdeal.Frame
public import proofs.«01_k».proof.Proof.Gen.ModPartIdeal.Value
public import proofs.«01_k».proof.Proof.Gen.ModPartReferenceIdeal
public import proofs.«01_k».proof.Proof.Gen.ModPartReferenceIdeal.Run
public import proofs.«01_k».proof.Proof.Gen.ModPartReferenceIdeal.Read
public import Idealize.ShloMosaic.Adequacy
public import Idealize.ShloMosaic.Init

@[expose] public section

noncomputable section

namespace Cert.Proof

open Idealize.ShloMosaic Idealize.SL.Sem

theorem frame_joined : Cert.quiescent_Joined := fun m ρ _ => Cert.Joined.Gen.frame m ρ

theorem frame_joinedIdeal : Cert.quiescent_JoinedIdeal := fun m ρ _ => Cert.JoinedIdeal.Gen.frame m ρ

theorem frame_joinedReferenceIdeal : Cert.quiescent_JoinedReferenceIdeal := fun m ρ _ =>
  (θ_run (Cert.JoinedReferenceIdeal.defs (F := Ideal)) _ _).mono
    (fun r h => ⟨fun c => (h c).2, sem_eq_zero_of_no_sems (by decide) r.2⟩)
    (Cert.JoinedReferenceIdeal.Value.run (F := Ideal) m ρ)

theorem algebraic_joined : Cert.algebraic_JoinedIdeal_JoinedReferenceIdeal := fun m ρ m' ρ' _ hagree =>
  ⟨fun c => Cert.JoinedReferenceIdeal.Read.val_main_v2 (F := Ideal) (m ((c.tc : Thread Cert.JoinedIdeal.nD Cert.JoinedIdeal.τ).loc Cert.JoinedIdeal.main_arg0)) (m ((c.tc : Thread Cert.JoinedIdeal.nD Cert.JoinedIdeal.τ).loc Cert.JoinedIdeal.main_arg1)),
    (θ_run (Cert.JoinedIdeal.defs (F := Ideal)) _ _).mono (fun r h c => ⟨(h c).1.trans (Cert.JoinedIdeal.Product.arr2 m c), (h c).2⟩)
      (Cert.JoinedIdeal.Value.run_blocks (F := Ideal) m ρ),
    (θ_run (Cert.JoinedReferenceIdeal.defs (F := Ideal)) _ _).mono (fun r h c => by
      obtain ⟨h0, hk⟩ := h c
      obtain ⟨e0, e1⟩ := hagree c
      replace h0 := h0.trans (Cert.JoinedReferenceIdeal.Read.val_main_v2_eq _ _)
      rw [e0, e1] at h0
      exact ⟨h0, hk⟩) (Cert.JoinedReferenceIdeal.Value.run (F := Ideal) m' ρ')⟩

theorem frame_modulate : Cert.quiescent_Modulate := fun m ρ _ => Cert.Modulate.Gen.frame m ρ

theorem frame_modulateIdeal : Cert.quiescent_ModulateIdeal := fun m ρ _ => Cert.ModulateIdeal.Gen.frame m ρ

theorem frame_modulateReferenceIdeal : Cert.quiescent_ModulateReferenceIdeal := fun m ρ _ =>
  (θ_run (Cert.ModulateReferenceIdeal.defs (F := Ideal)) _ _).mono
    (fun r h => ⟨fun c => (h c).2, sem_eq_zero_of_no_sems (by decide) r.2⟩)
    (Cert.ModulateReferenceIdeal.Value.run (F := Ideal) m ρ)

theorem algebraic_modulate : Cert.algebraic_ModulateIdeal_ModulateReferenceIdeal := fun m ρ m' ρ' _ hagree =>
  ⟨fun c => Cert.ModulateReferenceIdeal.Read.val_main_v16 (F := Ideal) (m ((c.tc : Thread Cert.ModulateIdeal.nD Cert.ModulateIdeal.τ).loc Cert.ModulateIdeal.main_arg0)) (m ((c.tc : Thread Cert.ModulateIdeal.nD Cert.ModulateIdeal.τ).loc Cert.ModulateIdeal.main_arg1)) (m ((c.tc : Thread Cert.ModulateIdeal.nD Cert.ModulateIdeal.τ).loc Cert.ModulateIdeal.main_arg2)),
    (θ_run (Cert.ModulateIdeal.defs (F := Ideal)) _ _).mono (fun r h c => ⟨(h c).1.trans (Cert.ModulateIdeal.Product.arr3 m c), (h c).2⟩)
      (Cert.ModulateIdeal.Value.run_blocks (F := Ideal) m ρ),
    (θ_run (Cert.ModulateReferenceIdeal.defs (F := Ideal)) _ _).mono (fun r h c => by
      obtain ⟨h0, hk⟩ := h c
      obtain ⟨e0, e1, e2⟩ := hagree c
      replace h0 := h0.trans (Cert.ModulateReferenceIdeal.Read.val_main_v16_eq _ _ _)
      rw [e0, e1, e2] at h0
      exact ⟨h0, hk⟩) (Cert.ModulateReferenceIdeal.Value.run (F := Ideal) m' ρ')⟩

theorem frame_squaredRelu : Cert.quiescent_SquaredRelu := fun m ρ _ => Cert.SquaredRelu.Gen.frame m ρ

theorem frame_squaredReluIdeal : Cert.quiescent_SquaredReluIdeal := fun m ρ _ => Cert.SquaredReluIdeal.Gen.frame m ρ

theorem frame_squaredReluReferenceIdeal : Cert.quiescent_SquaredReluReferenceIdeal := fun m ρ _ =>
  (θ_run (Cert.SquaredReluReferenceIdeal.defs (F := Ideal)) _ _).mono
    (fun r h => ⟨fun c => (h c).2, sem_eq_zero_of_no_sems (by decide) r.2⟩)
    (Cert.SquaredReluReferenceIdeal.Value.run (F := Ideal) m ρ)

theorem algebraic_squaredRelu : Cert.algebraic_SquaredReluIdeal_SquaredReluReferenceIdeal := fun m ρ m' ρ' _ hagree =>
  ⟨fun c => Cert.SquaredReluReferenceIdeal.Read.val_main_v3 (F := Ideal) (m ((c.tc : Thread Cert.SquaredReluIdeal.nD Cert.SquaredReluIdeal.τ).loc Cert.SquaredReluIdeal.main_arg0)),
    (θ_run (Cert.SquaredReluIdeal.defs (F := Ideal)) _ _).mono (fun r h c => ⟨(h c).1.trans (Cert.SquaredReluIdeal.Product.arr1 m c), (h c).2⟩)
      (Cert.SquaredReluIdeal.Value.run_blocks (F := Ideal) m ρ),
    (θ_run (Cert.SquaredReluReferenceIdeal.defs (F := Ideal)) _ _).mono (fun r h c => by
      obtain ⟨h0, hk⟩ := h c
      have e0 := hagree c
      replace h0 := h0.trans (Cert.SquaredReluReferenceIdeal.Read.val_main_v3_eq _)
      rw [e0] at h0
      exact ⟨h0, hk⟩) (Cert.SquaredReluReferenceIdeal.Value.run (F := Ideal) m' ρ')⟩

theorem frame_squaredReluGrad : Cert.quiescent_SquaredReluGrad := fun m ρ _ => Cert.SquaredReluGrad.Gen.frame m ρ

theorem frame_squaredReluGradIdeal : Cert.quiescent_SquaredReluGradIdeal := fun m ρ _ => Cert.SquaredReluGradIdeal.Gen.frame m ρ

theorem frame_squaredReluGradReferenceIdeal : Cert.quiescent_SquaredReluGradReferenceIdeal := fun m ρ _ =>
  (θ_run (Cert.SquaredReluGradReferenceIdeal.defs (F := Ideal)) _ _).mono
    (fun r h => ⟨fun c => (h c).2, sem_eq_zero_of_no_sems (by decide) r.2⟩)
    (Cert.SquaredReluGradReferenceIdeal.Value.run (F := Ideal) m ρ)

theorem algebraic_squaredReluGrad : Cert.algebraic_SquaredReluGradIdeal_SquaredReluGradReferenceIdeal := fun m ρ m' ρ' _ hagree =>
  ⟨fun c => Cert.SquaredReluGradReferenceIdeal.Read.val_main_v12 (F := Ideal) (m ((c.tc : Thread Cert.SquaredReluGradIdeal.nD Cert.SquaredReluGradIdeal.τ).loc Cert.SquaredReluGradIdeal.main_arg0)) (m ((c.tc : Thread Cert.SquaredReluGradIdeal.nD Cert.SquaredReluGradIdeal.τ).loc Cert.SquaredReluGradIdeal.main_arg1)),
    (θ_run (Cert.SquaredReluGradIdeal.defs (F := Ideal)) _ _).mono (fun r h c => ⟨(h c).1.trans (Cert.SquaredReluGradIdeal.Product.arr2 m c), (h c).2⟩)
      (Cert.SquaredReluGradIdeal.Value.run_blocks (F := Ideal) m ρ),
    (θ_run (Cert.SquaredReluGradReferenceIdeal.defs (F := Ideal)) _ _).mono (fun r h c => by
      obtain ⟨h0, hk⟩ := h c
      obtain ⟨e0, e1⟩ := hagree c
      replace h0 := h0.trans (Cert.SquaredReluGradReferenceIdeal.Read.val_main_v12_eq _ _)
      rw [e0, e1] at h0
      exact ⟨h0, hk⟩) (Cert.SquaredReluGradReferenceIdeal.Value.run (F := Ideal) m' ρ')⟩

theorem frame_residual : Cert.quiescent_Residual := fun m ρ _ => Cert.Residual.Gen.frame m ρ

theorem frame_residualIdeal : Cert.quiescent_ResidualIdeal := fun m ρ _ => Cert.ResidualIdeal.Gen.frame m ρ

theorem frame_residualReferenceIdeal : Cert.quiescent_ResidualReferenceIdeal := fun m ρ _ =>
  (θ_run (Cert.ResidualReferenceIdeal.defs (F := Ideal)) _ _).mono
    (fun r h => ⟨fun c => (h c).2.2, sem_eq_zero_of_no_sems (by decide) r.2⟩)
    (Cert.ResidualReferenceIdeal.Value.run (F := Ideal) m ρ)

theorem algebraic_residual : Cert.algebraic_ResidualIdeal_ResidualReferenceIdeal := fun m ρ m' ρ' _ hagree =>
  ⟨fun c => Cert.ResidualReferenceIdeal.Read.val_main_v2 (F := Ideal) (m ((c.tc : Thread Cert.ResidualIdeal.nD Cert.ResidualIdeal.τ).loc Cert.ResidualIdeal.main_arg0)) (m ((c.tc : Thread Cert.ResidualIdeal.nD Cert.ResidualIdeal.τ).loc Cert.ResidualIdeal.main_arg1)) (m ((c.tc : Thread Cert.ResidualIdeal.nD Cert.ResidualIdeal.τ).loc Cert.ResidualIdeal.main_arg2)),
    fun c => Cert.ResidualReferenceIdeal.Read.val_main_v19 (F := Ideal) (m ((c.tc : Thread Cert.ResidualIdeal.nD Cert.ResidualIdeal.τ).loc Cert.ResidualIdeal.main_arg0)) (m ((c.tc : Thread Cert.ResidualIdeal.nD Cert.ResidualIdeal.τ).loc Cert.ResidualIdeal.main_arg1)) (m ((c.tc : Thread Cert.ResidualIdeal.nD Cert.ResidualIdeal.τ).loc Cert.ResidualIdeal.main_arg2)) (m ((c.tc : Thread Cert.ResidualIdeal.nD Cert.ResidualIdeal.τ).loc Cert.ResidualIdeal.main_arg3)) (m ((c.tc : Thread Cert.ResidualIdeal.nD Cert.ResidualIdeal.τ).loc Cert.ResidualIdeal.main_arg4)),
    (θ_run (Cert.ResidualIdeal.defs (F := Ideal)) _ _).mono (fun r h c => ⟨(h c).1.trans (Cert.ResidualIdeal.Product.arr5 m c), (h c).2.1.trans (Cert.ResidualIdeal.Product.arr6 m c), (h c).2.2⟩)
      (Cert.ResidualIdeal.Value.run_blocks (F := Ideal) m ρ),
    (θ_run (Cert.ResidualReferenceIdeal.defs (F := Ideal)) _ _).mono (fun r h c => by
      obtain ⟨h0, h1, hk⟩ := h c
      obtain ⟨e0, e1, e2, e3, e4⟩ := hagree c
      replace h0 := h0.trans (Cert.ResidualReferenceIdeal.Read.val_main_v2_eq _ _ _)
      replace h1 := h1.trans (Cert.ResidualReferenceIdeal.Read.val_main_v19_eq _ _ _ _ _)
      rw [e0, e1, e2] at h0
      rw [e0, e1, e2, e3, e4] at h1
      exact ⟨h0, h1, hk⟩) (Cert.ResidualReferenceIdeal.Value.run (F := Ideal) m' ρ')⟩

theorem frame_residualGrad : Cert.quiescent_ResidualGrad := fun m ρ _ => Cert.ResidualGrad.Gen.frame m ρ

theorem frame_residualGradIdeal : Cert.quiescent_ResidualGradIdeal := fun m ρ _ => Cert.ResidualGradIdeal.Gen.frame m ρ

theorem frame_residualGradReferenceIdeal : Cert.quiescent_ResidualGradReferenceIdeal := fun m ρ _ =>
  (θ_run (Cert.ResidualGradReferenceIdeal.defs (F := Ideal)) _ _).mono
    (fun r h => ⟨fun c => (h c).2.2.2.2.2, sem_eq_zero_of_no_sems (by decide) r.2⟩)
    (Cert.ResidualGradReferenceIdeal.Value.run (F := Ideal) m ρ)

theorem algebraic_residualGrad : Cert.algebraic_ResidualGradIdeal_ResidualGradReferenceIdeal := fun m ρ m' ρ' _ hagree =>
  ⟨fun c => Cert.ResidualGradReferenceIdeal.Read.val_main_v44 (F := Ideal) (m ((c.tc : Thread Cert.ResidualGradIdeal.nD Cert.ResidualGradIdeal.τ).loc Cert.ResidualGradIdeal.main_arg0)) (m ((c.tc : Thread Cert.ResidualGradIdeal.nD Cert.ResidualGradIdeal.τ).loc Cert.ResidualGradIdeal.main_arg1)) (m ((c.tc : Thread Cert.ResidualGradIdeal.nD Cert.ResidualGradIdeal.τ).loc Cert.ResidualGradIdeal.main_arg2)) (m ((c.tc : Thread Cert.ResidualGradIdeal.nD Cert.ResidualGradIdeal.τ).loc Cert.ResidualGradIdeal.main_arg3)) (m ((c.tc : Thread Cert.ResidualGradIdeal.nD Cert.ResidualGradIdeal.τ).loc Cert.ResidualGradIdeal.main_arg4)) (m ((c.tc : Thread Cert.ResidualGradIdeal.nD Cert.ResidualGradIdeal.τ).loc Cert.ResidualGradIdeal.main_arg5)),
    fun c => Cert.ResidualGradReferenceIdeal.Read.val_main_v51 (F := Ideal) (m ((c.tc : Thread Cert.ResidualGradIdeal.nD Cert.ResidualGradIdeal.τ).loc Cert.ResidualGradIdeal.main_arg0)) (m ((c.tc : Thread Cert.ResidualGradIdeal.nD Cert.ResidualGradIdeal.τ).loc Cert.ResidualGradIdeal.main_arg1)) (m ((c.tc : Thread Cert.ResidualGradIdeal.nD Cert.ResidualGradIdeal.τ).loc Cert.ResidualGradIdeal.main_arg2)) (m ((c.tc : Thread Cert.ResidualGradIdeal.nD Cert.ResidualGradIdeal.τ).loc Cert.ResidualGradIdeal.main_arg3)) (m ((c.tc : Thread Cert.ResidualGradIdeal.nD Cert.ResidualGradIdeal.τ).loc Cert.ResidualGradIdeal.main_arg4)) (m ((c.tc : Thread Cert.ResidualGradIdeal.nD Cert.ResidualGradIdeal.τ).loc Cert.ResidualGradIdeal.main_arg5)),
    fun c => Cert.ResidualGradReferenceIdeal.Read.val_main_v50 (F := Ideal) (m ((c.tc : Thread Cert.ResidualGradIdeal.nD Cert.ResidualGradIdeal.τ).loc Cert.ResidualGradIdeal.main_arg0)) (m ((c.tc : Thread Cert.ResidualGradIdeal.nD Cert.ResidualGradIdeal.τ).loc Cert.ResidualGradIdeal.main_arg1)) (m ((c.tc : Thread Cert.ResidualGradIdeal.nD Cert.ResidualGradIdeal.τ).loc Cert.ResidualGradIdeal.main_arg2)) (m ((c.tc : Thread Cert.ResidualGradIdeal.nD Cert.ResidualGradIdeal.τ).loc Cert.ResidualGradIdeal.main_arg3)) (m ((c.tc : Thread Cert.ResidualGradIdeal.nD Cert.ResidualGradIdeal.τ).loc Cert.ResidualGradIdeal.main_arg4)) (m ((c.tc : Thread Cert.ResidualGradIdeal.nD Cert.ResidualGradIdeal.τ).loc Cert.ResidualGradIdeal.main_arg5)),
    fun c => Cert.ResidualGradReferenceIdeal.Read.val_main_v29 (F := Ideal) (m ((c.tc : Thread Cert.ResidualGradIdeal.nD Cert.ResidualGradIdeal.τ).loc Cert.ResidualGradIdeal.main_arg0)) (m ((c.tc : Thread Cert.ResidualGradIdeal.nD Cert.ResidualGradIdeal.τ).loc Cert.ResidualGradIdeal.main_arg1)) (m ((c.tc : Thread Cert.ResidualGradIdeal.nD Cert.ResidualGradIdeal.τ).loc Cert.ResidualGradIdeal.main_arg3)) (m ((c.tc : Thread Cert.ResidualGradIdeal.nD Cert.ResidualGradIdeal.τ).loc Cert.ResidualGradIdeal.main_arg4)),
    fun c => Cert.ResidualGradReferenceIdeal.Read.val_main_v26 (F := Ideal) (m ((c.tc : Thread Cert.ResidualGradIdeal.nD Cert.ResidualGradIdeal.τ).loc Cert.ResidualGradIdeal.main_arg3)),
    (θ_run (Cert.ResidualGradIdeal.defs (F := Ideal)) _ _).mono (fun r h c => ⟨(h c).1.trans (Cert.ResidualGradIdeal.Product.arr7 m c), (h c).2.1.trans (Cert.ResidualGradIdeal.Product.arr8 m c), (h c).2.2.1.trans (Cert.ResidualGradIdeal.Product.arr9 m c), (h c).2.2.2.1.trans (Cert.ResidualGradIdeal.Product.arr10 m c), (h c).2.2.2.2.1.trans (Cert.ResidualGradIdeal.Product.arr11 m c), (h c).2.2.2.2.2⟩)
      (Cert.ResidualGradIdeal.Value.run_blocks (F := Ideal) m ρ),
    (θ_run (Cert.ResidualGradReferenceIdeal.defs (F := Ideal)) _ _).mono (fun r h c => by
      obtain ⟨h0, h1, h2, h3, h4, hk⟩ := h c
      obtain ⟨e0, e1, e2, e3, e4, e5, e6⟩ := hagree c
      replace h0 := h0.trans (Cert.ResidualGradReferenceIdeal.Read.val_main_v44_eq _ _ _ _ _ _)
      replace h1 := h1.trans (Cert.ResidualGradReferenceIdeal.Read.val_main_v51_eq m' c)
      replace h2 := h2.trans (Cert.ResidualGradReferenceIdeal.Read.val_main_v50_eq m' c)
      replace h3 := h3.trans (Cert.ResidualGradReferenceIdeal.Read.val_main_v29_eq _ _ _ _)
      replace h4 := h4.trans (Cert.ResidualGradReferenceIdeal.Read.val_main_v26_eq _)
      rw [e0, e1, e2, e3, e4, e5] at h0
      rw [e0, e1, e2, e3, e4, e5] at h1
      rw [e0, e1, e2, e3, e4, e5] at h2
      rw [e0, e1, e3, e4] at h3
      rw [e3] at h4
      exact ⟨h0, h1, h2, h3, h4, hk⟩) (Cert.ResidualGradReferenceIdeal.Value.run (F := Ideal) m' ρ')⟩

theorem frame_mix : Cert.quiescent_Mix := fun m ρ _ => Cert.Mix.Gen.frame m ρ

theorem frame_mixIdeal : Cert.quiescent_MixIdeal := fun m ρ _ => Cert.MixIdeal.Gen.frame m ρ

theorem frame_mixReferenceIdeal : Cert.quiescent_MixReferenceIdeal := fun m ρ _ =>
  (θ_run (Cert.MixReferenceIdeal.defs (F := Ideal)) _ _).mono
    (fun r h => ⟨fun c => (h c).2, sem_eq_zero_of_no_sems (by decide) r.2⟩)
    (Cert.MixReferenceIdeal.Value.run (F := Ideal) m ρ)

theorem algebraic_mix : Cert.algebraic_MixIdeal_MixReferenceIdeal := fun m ρ m' ρ' _ hagree =>
  ⟨fun c => Cert.MixReferenceIdeal.Read.val_main_v19 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)),
    (θ_run (Cert.MixIdeal.defs (F := Ideal)) _ _).mono (fun r h c => ⟨(h c).1.trans (Cert.MixIdeal.Product.arr4 m c), (h c).2⟩)
      (Cert.MixIdeal.Value.run_blocks (F := Ideal) m ρ),
    (θ_run (Cert.MixReferenceIdeal.defs (F := Ideal)) _ _).mono (fun r h c => by
      obtain ⟨h0, hk⟩ := h c
      obtain ⟨e0, e1, e2⟩ := hagree c
      replace h0 := h0.trans (Cert.MixReferenceIdeal.Read.val_main_v19_eq _ _ _)
      rw [e0, e1, e2] at h0
      exact ⟨h0, hk⟩) (Cert.MixReferenceIdeal.Value.run (F := Ideal) m' ρ')⟩

theorem frame_mixGrad : Cert.quiescent_MixGrad := fun m ρ _ => Cert.MixGrad.Gen.frame m ρ

theorem frame_mixGradIdeal : Cert.quiescent_MixGradIdeal := fun m ρ _ => Cert.MixGradIdeal.Gen.frame m ρ

theorem frame_mixGradReferenceIdeal : Cert.quiescent_MixGradReferenceIdeal := fun m ρ _ =>
  (θ_run (Cert.MixGradReferenceIdeal.defs (F := Ideal)) _ _).mono
    (fun r h => ⟨fun c => (h c).2.2.2, sem_eq_zero_of_no_sems (by decide) r.2⟩)
    (Cert.MixGradReferenceIdeal.Value.run (F := Ideal) m ρ)

theorem algebraic_mixGrad : Cert.algebraic_MixGradIdeal_MixGradReferenceIdeal := fun m ρ m' ρ' _ hagree =>
  ⟨fun c => Cert.MixGradReferenceIdeal.Read.val_main_v37 (F := Ideal) (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)),
    fun c => Cert.MixGradReferenceIdeal.Read.val_main_v38 (F := Ideal) (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg3)),
    fun c => Cert.MixGradReferenceIdeal.Read.val_main_v39 (F := Ideal) (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg3)),
    (θ_run (Cert.MixGradIdeal.defs (F := Ideal)) _ _).mono (fun r h c => ⟨(h c).1.trans (Cert.MixGradIdeal.Product.arr5 m c), (h c).2.1.trans (Cert.MixGradIdeal.Product.arr6 m c), (h c).2.2.1.trans (Cert.MixGradIdeal.Product.arr7 m c), (h c).2.2.2⟩)
      (Cert.MixGradIdeal.Value.run_blocks (F := Ideal) m ρ),
    (θ_run (Cert.MixGradReferenceIdeal.defs (F := Ideal)) _ _).mono (fun r h c => by
      obtain ⟨h0, h1, h2, hk⟩ := h c
      obtain ⟨e0, e1, e2, e3, e4⟩ := hagree c
      replace h0 := h0.trans (Cert.MixGradReferenceIdeal.Read.val_main_v37_eq _ _ _ _ _)
      replace h1 := h1.trans (Cert.MixGradReferenceIdeal.Read.val_main_v38_eq _ _)
      replace h2 := h2.trans (Cert.MixGradReferenceIdeal.Read.val_main_v39_eq _ _)
      rw [e0, e1, e2, e3, e4] at h0
      rw [e0, e3] at h1
      rw [e0, e3] at h2
      exact ⟨h0, h1, h2, hk⟩) (Cert.MixGradReferenceIdeal.Value.run (F := Ideal) m' ρ')⟩

theorem frame_modPart : Cert.quiescent_ModPart := fun m ρ _ => Cert.ModPart.Gen.frame m ρ

theorem frame_modPartIdeal : Cert.quiescent_ModPartIdeal := fun m ρ _ => Cert.ModPartIdeal.Gen.frame m ρ

theorem frame_modPartReferenceIdeal : Cert.quiescent_ModPartReferenceIdeal := fun m ρ _ =>
  (θ_run (Cert.ModPartReferenceIdeal.defs (F := Ideal)) _ _).mono
    (fun r h => ⟨fun c => (h c).2, sem_eq_zero_of_no_sems (by decide) r.2⟩)
    (Cert.ModPartReferenceIdeal.Value.run (F := Ideal) m ρ)

theorem algebraic_modPart : Cert.algebraic_ModPartIdeal_ModPartReferenceIdeal := fun m ρ m' ρ' _ hagree =>
  ⟨fun c => Cert.ModPartReferenceIdeal.Read.val_main_v3 (F := Ideal) (m ((c.tc : Thread Cert.ModPartIdeal.nD Cert.ModPartIdeal.τ).loc Cert.ModPartIdeal.main_arg0)) (m ((c.tc : Thread Cert.ModPartIdeal.nD Cert.ModPartIdeal.τ).loc Cert.ModPartIdeal.main_arg1)) (m ((c.tc : Thread Cert.ModPartIdeal.nD Cert.ModPartIdeal.τ).loc Cert.ModPartIdeal.main_arg2)),
    (θ_run (Cert.ModPartIdeal.defs (F := Ideal)) _ _).mono (fun r h c => ⟨(h c).1.trans (Cert.ModPartIdeal.Product.arr3 m c), (h c).2⟩)
      (Cert.ModPartIdeal.Value.run_blocks (F := Ideal) m ρ),
    (θ_run (Cert.ModPartReferenceIdeal.defs (F := Ideal)) _ _).mono (fun r h c => by
      obtain ⟨h0, hk⟩ := h c
      obtain ⟨e0, e1, e2⟩ := hagree c
      replace h0 := h0.trans (Cert.ModPartReferenceIdeal.Read.val_main_v3_eq _ _ _)
      rw [e0, e1, e2] at h0
      exact ⟨h0, hk⟩) (Cert.ModPartReferenceIdeal.Value.run (F := Ideal) m' ρ')⟩

end Cert.Proof

end
-- ==== Proof.SpatialGating.lean ====
/-
  The spatial gating's forward call: in each chunk of 128 rows, groups of 128 columns are mixed by a causal matrix of weights.
-/
module

public import proofs.«01_k».proof.Proof.Gen.SguIdeal.Value
public import proofs.«01_k».proof.Proof.Gen.SguReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.SguIdeal.Product

open Cert.SguIdeal Cert.SguIdeal.Gen

variable (m : (ℓ : Loc nD τ sig) → Buf (Elt Ideal) ℓ)

/-- An entry of a chunk's spatial gate: a row of a group's weights, their causal part, times a column of the chunk, and the bias. -/
def entry (w : FVec Ideal S8x128x128 .f32) (b : FVec Ideal S8x128x1 .f32) (V : Fin 128 → Ideal .f32) (g : Fin 8) (r : Fin 128) : Ideal .f32 :=
  (∑ x : Fin 128, Scalar.select (IntOp.cmpi CmpIPredicate.sge (BitVec.ofNat 32 r.val) (BitVec.ofNat 32 x.val)) (w (ix3 g r x) * V x) (0 : Ideal .f32)) + b (ix3 g r 0)

/-- An entry of a group's piece of a chunk, at a column of the chunk. -/
def piece (w : FVec Ideal S8x128x128 .f32) (b : FVec Ideal S8x128x1 .f32) (V : FVec Ideal S128x1024 .f32) (r : Fin 128) (g : Fin 8) (q : Fin 1024) : Ideal .f32 :=
  entry w b (fun k => V (ix2 k q)) g r

/-- The eight pieces side by side: an entry is that of its column's group. -/
theorem pieces (w : FVec Ideal S8x128x128 .f32) (b : FVec Ideal S8x128x1 .f32) (V : FVec Ideal S128x1024 .f32) (r : Fin 128) (s : Fin 1024) :
    (if h0 : s.val < 128 then piece w b V r 0 s
      else (if h1 : s.val - 128 < 128 then piece w b V r 1 ⟨128 + (s.val - 128), by omega⟩
      else (if h2 : s.val - 128 - 128 < 128 then piece w b V r 2 ⟨256 + (s.val - 128 - 128), by omega⟩
      else (if h3 : s.val - 128 - 128 - 128 < 128 then piece w b V r 3 ⟨384 + (s.val - 128 - 128 - 128), by omega⟩
      else (if h4 : s.val - 128 - 128 - 128 - 128 < 128 then piece w b V r 4 ⟨512 + (s.val - 128 - 128 - 128 - 128), by omega⟩
      else (if h5 : s.val - 128 - 128 - 128 - 128 - 128 < 128 then piece w b V r 5 ⟨640 + (s.val - 128 - 128 - 128 - 128 - 128), by omega⟩
      else (if h6 : s.val - 128 - 128 - 128 - 128 - 128 - 128 < 128 then piece w b V r 6 ⟨768 + (s.val - 128 - 128 - 128 - 128 - 128 - 128), by omega⟩
      else piece w b V r 7 ⟨896 + (s.val - 128 - 128 - 128 - 128 - 128 - 128 - 128), by omega⟩)))))))
      = piece w b V r ⟨s.val / 128, by omega⟩ s := by
  have e : ∀ (g : Fin 8) (q : Fin 1024), q.val = s.val → g.val = s.val / 128 → piece w b V r g q = piece w b V r ⟨s.val / 128, by omega⟩ s := fun g q hq hg => by
    obtain rfl : q = s := Fin.ext hq
    rw [show g = ⟨q.val / 128, by omega⟩ from Fin.ext hg]
  split_ifs <;> refine e _ _ ?_ ?_ <;> simp <;> omega

/-- Entries are equal where their columns, groups and rows are. -/
theorem entry_congr (w w' : FVec Ideal S8x128x128 .f32) (b b' : FVec Ideal S8x128x1 .f32) {V V' : Fin 128 → Ideal .f32} {g g' : Fin 8} {r r' : Fin 128}
    (hw : w = w') (hb : b = b') (hV : ∀ k, V k = V' k) (hg : g = g') (hr : r = r') : entry w b V g r = entry w' b' V' g' r' := by
  subst hw hb hg hr
  rw [show V = V' from funext hV]

/-- A row of the first chunk. -/
theorem pay9_at (v4 : Vec Ideal S1x1024 .f32) (v34 : FVec Ideal S256x1024 .f32) (v37 : FVec Ideal S256x1 .f32) (k : Fin 128) (s : Fin 1024) :
    k0_pay9 v4 v34 v37 (ix2 k s) = k0_pay7 v4 v34 v37 (ix2 ⟨k.val, by omega⟩ s) := by
  pointwise [k0_pay9]

/-- A row of the second chunk. -/
theorem pay21_at (v46 : FVec Ideal S256x1024 .f32) (k : Fin 128) (s : Fin 1024) : k0_pay21 v46 (ix2 k s) = v46 (ix2 ⟨128 + k.val, by omega⟩ s) := by
  pointwise [k0_pay21]

/-- The first chunk's gates. -/
theorem chunk0 (v4 : Vec Ideal S1x1024 .f32) (v6 : FVec Ideal S8x128x128 .f32) (v8 : FVec Ideal S8x128x1 .f32) (v34 : FVec Ideal S256x1024 .f32) (v37 : FVec Ideal S256x1 .f32) (j : S128x1024.Idx) :
    k0_pay20 v8 (k0_pay10 v4 v6 v8 v34 v37) (k0_pay11 v4 v6 v8 v34 v37) (k0_pay12 v4 v6 v8 v34 v37)
        (k0_pay14 v8 k0_pay8 (k0_pay9 v4 v34 v37) (k0_pay13 v6) (FloatOps.ofBits FTy.f32 0#32)) (k0_pay15 v6 v8 k0_pay8 (k0_pay9 v4 v34 v37))
        (k0_pay16 v6 v8 k0_pay8 (k0_pay9 v4 v34 v37)) (k0_pay17 v6 v8 k0_pay8 (k0_pay9 v4 v34 v37)) (k0_pay18 (k0_pay9 v4 v34 v37)) (k0_pay19 v6 k0_pay8) j
      = entry v6 v8 (fun k => k0_pay9 v4 v34 v37 (ix2 k (j 1))) ⟨(j 1).val / 128, by have : (j 1).val < 1024 := (j 1).isLt; omega⟩ (j 0) := by
  have hb : (j 1).val < 1024 := (j 1).isLt
  pointwise [k0_pay20, k0_pay10, k0_pay11, k0_pay12, k0_pay13, k0_pay14, k0_pay15, k0_pay16, k0_pay17, k0_pay18, k0_pay19, k0_pay8]
  exact pieces v6 v8 (k0_pay9 v4 v34 v37) (j 0) (j 1)

/-- Both chunks' gates, times the activated half. -/
theorem gated (v21 : FVec Ideal S256x1024 .f32) (v46 : FVec Ideal S256x1024 .f32) (v6 : FVec Ideal S8x128x128 .f32) (v8 : FVec Ideal S8x128x1 .f32) (v147 : FVec Ideal S128x1024 .f32) (j : S256x1024.Idx)
    (h : ∀ j : S128x1024.Idx, v147 j = entry v6 v8 (fun k => v46 (ix2 ⟨k.val, by omega⟩ (j 1))) ⟨(j 1).val / 128, by have : (j 1).val < 1024 := (j 1).isLt; omega⟩ (j 0)) :
    k0_pay1 v21 v147 (k0_pay22 v6 v8 v46 k0_pay8) (k0_pay23 v6 v8 v46 k0_pay8) (k0_pay24 v6 v8 v46 k0_pay8)
        (k0_pay27 v8 (k0_pay25 v6 k0_pay8) (k0_pay26 v46) (constant S128x128 FTy.f32 0#32)) (k0_pay28 v6 v8 k0_pay8 (k0_pay21 v46)) (k0_pay29 v6 v8 k0_pay8 (k0_pay21 v46))
        (k0_pay30 v6 v8 k0_pay8 (k0_pay21 v46)) (k0_pay31 v6 k0_pay8 (k0_pay21 v46)) (k0_pay32 v8) j
      = v21 j * entry v6 v8 (fun k => v46 (ix2 ⟨(j 0).val / 128 * 128 + k.val, by have : (j 0).val < 256 := (j 0).isLt; omega⟩ (j 1)))
          ⟨(j 1).val / 128, by have : (j 1).val < 1024 := (j 1).isLt; omega⟩ ⟨(j 0).val % 128, by omega⟩ := by
  have hb : (j 1).val < 1024 := (j 1).isLt
  have ha : (j 0).val < 256 := (j 0).isLt
  pointwise [k0_pay1, k0_pay22, k0_pay23, k0_pay24, k0_pay25, k0_pay26, k0_pay27, k0_pay28, k0_pay29, k0_pay30, k0_pay31, k0_pay32, k0_pay8]
  by_cases h0 : (j 0).val < 128
  · rw [dif_pos h0, h]
    exact congrArg (v21 j * ·) (entry_congr _ _ _ _ rfl rfl (fun k => congrArg (fun a => v46 (ix2 a (j 1))) (Fin.ext (by show k.val = (j 0).val / 128 * 128 + k.val; omega))) rfl
      (Fin.ext (by show (j 0).val = (j 0).val % 128; omega)))
  · rw [dif_neg h0]
    refine congrArg (v21 j * ·) (Eq.trans (b := entry v6 v8 (fun k => k0_pay21 v46 (ix2 k (j 1))) ⟨(j 1).val / 128, by omega⟩ ⟨(j 0).val - 128, by omega⟩) ?_
      (entry_congr _ _ _ _ rfl rfl (fun k => (pay21_at v46 k (j 1)).trans (congrArg (fun a => v46 (ix2 a (j 1))) (Fin.ext (by show 128 + k.val = (j 0).val / 128 * 128 + k.val; omega)))) rfl
        (Fin.ext (by show (j 0).val - 128 = (j 0).val % 128; omega))))
    exact pieces v6 v8 (k0_pay21 v46) ⟨(j 0).val - 128, by omega⟩ (j 1)

/-- The activation of an entry. -/
def act (x : Ideal .f32) : Ideal .f32 :=
  x * (Ideal.ofBits FTy.f32 1056964608#32 * (1 + Ideal.tanh (Ideal.ofBits FTy.f32 1061962282#32 * (x + Ideal.ofBits FTy.f32 1027024659#32 * (x * (x * x))))))

/-- A row of activations, normalised and scaled. -/
def normed (R N : Fin 1024 → Ideal .f32) (q : Fin 1024) : Ideal .f32 :=
  act (R q) * Ideal.rsqrt (Ideal.div (∑ x : Fin 1024, act (R x) * act (R x)) (Ideal.ofBits FTy.f32 1149239296#32) + Ideal.ofBits FTy.f32 897988541#32) * N q

theorem pay4_at (u : Vec Ideal S256x1024 .bf16) (j : S256x1024.Idx) : k0_pay4 u j = act (u j) := by
  pointwise [k0_pay4]
  rfl

theorem pay5_at (u : Vec Ideal S256x1024 .bf16) (j : S256x1024.Idx) : k0_pay5 u j = act (u j) := by
  pointwise [k0_pay5]
  rfl

theorem v16_at (x0) (i : SguReferenceIdeal.S8192x1024.Idx) : SguReferenceIdeal.Read.val_main_v16 (F := Ideal) x0 i = act (x0 (ix2 (i 0) ⟨(i 1).val, by have : (i 1).val < 1024 := (i 1).isLt; omega⟩)) := by
  pointwise [SguReferenceIdeal.Read.val_main_v16, SguReferenceIdeal.Read.val_main_v15, SguReferenceIdeal.Read.val_main_v14, SguReferenceIdeal.Read.val_main_cst_2, SguReferenceIdeal.Read.val_main_v13, SguReferenceIdeal.Read.val_main_v12, SguReferenceIdeal.Read.val_main_cst_1, SguReferenceIdeal.Read.val_main_v11, SguReferenceIdeal.Read.val_main_v10, SguReferenceIdeal.Read.val_main_v9, SguReferenceIdeal.Read.val_main_cst_0, SguReferenceIdeal.Read.val_main_v8, SguReferenceIdeal.Read.val_main_v7, SguReferenceIdeal.Read.val_main_v6, SguReferenceIdeal.Read.val_main_cst, SguReferenceIdeal.Read.val_main_v5, SguReferenceIdeal.Read.val_main_v4, SguReferenceIdeal.Read.val_main_v1, SguReferenceIdeal.Read.val_main_v0]
  rw [mul_comm (_ * _) (x0 _)]
  rfl

theorem v29_at (x0) (i : SguReferenceIdeal.S8192x1024.Idx) : SguReferenceIdeal.Read.val_main_v29 (F := Ideal) x0 i = act (x0 (ix2 (i 0) ⟨1024 + (i 1).val, by have : (i 1).val < 1024 := (i 1).isLt; omega⟩)) := by
  pointwise [SguReferenceIdeal.Read.val_main_v29, SguReferenceIdeal.Read.val_main_v28, SguReferenceIdeal.Read.val_main_v27, SguReferenceIdeal.Read.val_main_cst_6, SguReferenceIdeal.Read.val_main_v26, SguReferenceIdeal.Read.val_main_v25, SguReferenceIdeal.Read.val_main_cst_5, SguReferenceIdeal.Read.val_main_v24, SguReferenceIdeal.Read.val_main_v23, SguReferenceIdeal.Read.val_main_v22, SguReferenceIdeal.Read.val_main_cst_4, SguReferenceIdeal.Read.val_main_v21, SguReferenceIdeal.Read.val_main_v20, SguReferenceIdeal.Read.val_main_v19, SguReferenceIdeal.Read.val_main_cst_3, SguReferenceIdeal.Read.val_main_v18, SguReferenceIdeal.Read.val_main_v17, SguReferenceIdeal.Read.val_main_v3, SguReferenceIdeal.Read.val_main_v2]
  rw [mul_comm (_ * _) (x0 _)]
  rfl

/-- The kernel's normalised rows. -/
theorem pay7_at (n : Vec Ideal S1x1024 .f32) (u : Vec Ideal S256x1024 .bf16) (r : Fin 256) (q : Fin 1024) :
    k0_pay7 n (k0_pay5 u) (k0_pay6 u) (ix2 r q) = normed (fun q => u (ix2 r q)) (fun q => n (ix2 0 q)) q := by
  pointwise [k0_pay7, k0_pay6]
  simp only [pay5_at]
  rfl

/-- The reference's normalised rows. -/
theorem v41_at (x0 x1) (r : Fin 8192) (q : Fin 1024) :
    SguReferenceIdeal.Read.val_main_v41 (F := Ideal) x0 x1 (ix2 r q) = normed (fun q => x0 (ix2 r ⟨1024 + q.val, by omega⟩)) (fun q => x1 (ix2 0 q)) q := by
  pointwise [SguReferenceIdeal.Read.val_main_v41, SguReferenceIdeal.Read.val_main_v40, SguReferenceIdeal.Read.val_main_v39, SguReferenceIdeal.Read.val_main_v38, SguReferenceIdeal.Read.val_main_v37, SguReferenceIdeal.Read.val_main_v36, SguReferenceIdeal.Read.val_main_v35, SguReferenceIdeal.Read.val_main_cst_9, SguReferenceIdeal.Read.val_main_v34, SguReferenceIdeal.Read.val_main_v33, SguReferenceIdeal.Read.val_main_cst_8, SguReferenceIdeal.Read.val_main_v32, SguReferenceIdeal.Read.val_main_v31, SguReferenceIdeal.Read.val_main_cst_7, SguReferenceIdeal.Read.val_main_v30]
  simp only [v29_at]
  rfl

/-- The reference's causal mask. -/
theorem v44_at (r x : Fin 128) : SguReferenceIdeal.Read.val_main_v44 (F := Ideal) (ix2 r x) = IntOp.cmpi CmpIPredicate.sge (BitVec.ofNat 32 r.val) (BitVec.ofNat 32 x.val) := by
  pointwise [SguReferenceIdeal.Read.val_main_v44, SguReferenceIdeal.Read.val_main_call0_v4, SguReferenceIdeal.Read.val_main_call0_v2, SguReferenceIdeal.Read.val_main_call0_v0, SguReferenceIdeal.Read.val_main_call0_v1, SguReferenceIdeal.Read.val_main_call0_c, SguReferenceIdeal.Read.val_main_call0_v3, SguReferenceIdeal.Read.val_main_v43, SguReferenceIdeal.Read.val_main_c, SguReferenceIdeal.Read.val_main_call0_v5, SguReferenceIdeal.Read.val_main_call0_c_0]
  rw [show IntOp.addi (BitVec.ofNat 32 r.val) 0#32 = BitVec.ofNat 32 r.val from BitVec.add_zero _]
  exact (by decide : ∀ b : BitVec 1, Scalar.select b 1#1 0#1 = b) _

/-- The reference's result, an entry at a time. -/
theorem v59_at (x0 x1 x2 x3) (i : SguReferenceIdeal.S8192x1024.Idx) :
    SguReferenceIdeal.Read.val_main_v59 (F := Ideal) x0 x1 x2 x3 i
      = SguReferenceIdeal.Read.val_main_v16 (F := Ideal) x0 i
        * entry (fun e => x2 (ix4 0 (e 0) (e 1) (e 2))) (fun e => x3 (ix3 0 (e 0) (e 1)))
          (fun k => SguReferenceIdeal.Read.val_main_v41 (F := Ideal) x0 x1 (ix2 ⟨(i 0).val / 128 * 128 + k.val, by have : (i 0).val < 8192 := (i 0).isLt; omega⟩ (i 1)))
          ⟨(i 1).val / 128, by have : (i 1).val < 1024 := (i 1).isLt; omega⟩ ⟨(i 0).val % 128, by omega⟩ := by
  pointwise [SguReferenceIdeal.Read.val_main_v59, SguReferenceIdeal.Read.val_main_v58, SguReferenceIdeal.Read.val_main_v57, SguReferenceIdeal.Read.val_main_v56, SguReferenceIdeal.Read.val_main_v55, SguReferenceIdeal.Read.val_main_v54, SguReferenceIdeal.Read.val_main_v53, SguReferenceIdeal.Read.val_main_v52, SguReferenceIdeal.Read.val_main_v51, SguReferenceIdeal.Read.val_main_v50, SguReferenceIdeal.Read.val_main_v49, SguReferenceIdeal.Read.val_main_v48, SguReferenceIdeal.Read.val_main_v46, SguReferenceIdeal.Read.val_main_v42, SguReferenceIdeal.Read.val_main_call1_v0, SguReferenceIdeal.Read.val_main_v45, SguReferenceIdeal.Read.val_main_cst_10]
  refine congrArg (SguReferenceIdeal.Read.val_main_v16 (F := Ideal) x0 i * ·) (congrArg (· + _) (Finset.sum_congr rfl fun x _ => ?_))
  rw [v44_at]
  exact congrArg (fun p => Scalar.select _ p _) (mul_comm _ _)

/-- Normalised rows are equal where the rows, the scales and the columns are. -/
theorem normed_congr {R R' N N' : Fin 1024 → Ideal .f32} {q q' : Fin 1024} (hR : ∀ q, R q = R' q) (hN : ∀ q, N q = N' q) (hq : q = q') : normed R N q = normed R' N' q' := by
  rw [funext hR, funext hN, hq]

/-- The blocks' places, at every point of the grid. -/
theorem idx : ∀ t : Fin cfg0.N, win0_0.index t = ![t.val, 0] ∧ win0_1.index t = ![t.val, 1] ∧ win0_2.index t = ![0, 0] ∧ win0_3.index t = ![0, 0, 0] ∧ win0_4.index t = ![0, 0, 0] ∧ win0_5.index t = ![t.val, 0] :=
  (by decide +kernel : ∀ t : Fin grid0.N, _)

/-- A block's weights are the argument's. -/
theorem weights (c : Dev nD) (t : Fin cfg0.N) : k0_pay2 (iblk m c 3 t) = fun e => m ((c : Thread nD τ).loc main_arg2) (ix4 0 (e 0) (e 1) (e 2)) := by
  funext e
  pointwise [k0_pay2]
  blk_point [iblk, V, idx t]

/-- A block's bias is the argument's. -/
theorem bias (c : Dev nD) (t : Fin cfg0.N) : k0_pay3 (iblk m c 4 t) = fun e => m ((c : Thread nD τ).loc main_arg3) (ix3 0 (e 0) (e 1)) := by
  funext e
  pointwise [k0_pay3]
  blk_point [iblk, V, idx t]

/-- Where an entry of a block of the result lies. -/
theorem place (t : Fin cfg0.N) (y : S256x1024.Idx) : (((cfg0.win 5).blk t).view.emb y 0).val = t.val * 256 + (y 0).val ∧ (((cfg0.win 5).blk t).view.emb y 1).val = (y 1).val := by
  have e := (idx t).2.2.2.2.2
  constructor
  · show win0_5.index t 0 * 256 + 1 * (y 0).val = _
    rw [e]
    show t.val * 256 + 1 * (y 0).val = _
    omega
  · show win0_5.index t 1 * 1024 + 1 * (y 1).val = _
    rw [e]
    show 0 * 1024 + 1 * (y 1).val = _
    omega

/-- The kernel's gated half is the reference's. -/
theorem arr5 (c : Dev nD) : (dats m 0 c).arrAt 5 (cfgs 0).N
    = SguReferenceIdeal.Read.val_main_v59 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold_out out0_5
  frame_out
  refine (gated _ _ _ _ _ y fun j => (chunk0 _ _ _ _ _ j).trans (entry_congr _ _ _ _ rfl rfl (fun k => pay9_at _ _ _ k (j 1)) rfl rfl)).trans ?_
  rw [v59_at, pay4_at, v16_at, weights m c t, bias m c t]
  refine congrArg₂ (· * ·) (congrArg act ?_) (entry_congr _ _ _ _ rfl rfl (fun k => ?_) ?_ ?_)
  · blk_point [iblk, V, idx t]
  · refine (pay7_at _ _ _ _).trans (Eq.trans (normed_congr (fun q => ?_) (fun q => ?_) (Fin.ext (place t y).2.symm)) (v41_at _ _ _ _).symm)
    · have h := (place t y).1
      have hr : t.val * 256 + ((y 0).val / 128 * 128 + k.val) = (((cfg0.win 5).blk t).view.emb y 0).val / 128 * 128 + k.val := by omega
      blk_point [iblk, V, idx t]
    · blk_point [iblk, V, idx t]
  · exact Fin.ext (congrArg (· / 128) (place t y).2.symm)
  · exact Fin.ext (by
      have h := (place t y).1
      show (y 0).val % 128 = (((cfg0.win 5).blk t).view.emb y 0).val % 128
      omega)

end Cert.SguIdeal.Product

end
-- ==== Proof.Convolution.lean ====
/-
  The convolution's forward call: sixteen tiles of rows, each the sum of four shifted products, from a buffer that holds the rows
  after eight rows of zeros.
-/
module

public import proofs.«01_k».proof.Proof.Gen.ConvIdeal.Value
public import proofs.«01_k».proof.Proof.Gen.ConvReferenceIdeal.Read
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.ConvIdeal.Product

open Cert.ConvIdeal Cert.ConvIdeal.Gen

variable (m : (ℓ : Loc nD τ sig) → Buf (Elt Ideal) ℓ)

/-- The rows with eight rows of zeros before them, at a row and a column. -/
def rows (x : FVec Ideal S8192x128 .bf16) (n : Nat) (q : Fin 128) : Ideal .f32 :=
  if h : 8 ≤ n ∧ n < 8200 then x (ix2 ⟨n - 8, by omega⟩ q) else 0

/-- The buffer that the kernel fills holds the rows after eight rows of zeros. -/
theorem scratch (x : FVec Ideal S8192x128 .bf16) (i : S8200x128.Idx) :
    View.canon (Val := Elt Ideal) (s := S8200x128) (e := .f32) [⟨Rect.unit ![8, 0] ![8192, 128] inb_S8200x128_S8192x128_8_0, extf (F := Ideal) .f32 x bitsLt_bf16_f32⟩,
      ⟨Rect.unit ![0, 0] ![8, 128] inb_S8200x128_S8x128_0_0, broadcast S8x128 (0 : Ideal .f32)⟩] i = rows x (i 0).val ⟨(i 1).val, (i 1).isLt⟩ := by
  have hi := (i 0).isLt
  have hi1 := (i 1).isLt
  simp at hi hi1
  canon_tiles j h using (by
    by_cases hc : (i 0).val < 8
    · refine ⟨_, List.mem_cons_of_mem _ (List.mem_cons_self ..), ?_⟩
      refine (Rect.mem_set_unit (inb := inb_S8200x128_S8x128_0_0)).mpr fun a => ?_
      fin_cases a <;> simp <;> omega
    · refine ⟨_, List.mem_cons_self .., ?_⟩
      refine (Rect.mem_set_unit (inb := inb_S8200x128_S8192x128_8_0)).mpr fun a => ?_
      fin_cases a <;> simp <;> omega)
  · unfold rows
    rw [dif_pos (by omega)]
    pointwise []
    refine congrArg x (funext fun a => Fin.ext ?_)
    fin_cases a <;> simp <;> omega
  · unfold rows
    rw [dif_neg (by omega)]
    pointwise []

/-- A read of rows of the buffer. -/
theorem load (x : FVec Ideal S8192x128 .bf16) (n : Nat) (inb : ∀ a, (![n, 0] : Fin 2 → Nat) a + (![512, 128] : Fin 2 → Nat) a ≤ S8200x128.size a) (j : S512x128.Idx) :
    (View.whole cc0_scratch0).readCov (Val := Elt Ideal) (s := S8200x128) (e := .f32) [⟨Rect.unit ![8, 0] ![8192, 128] inb_S8200x128_S8192x128_8_0, extf (F := Ideal) .f32 x bitsLt_bf16_f32⟩,
      ⟨Rect.unit ![0, 0] ![8, 128] inb_S8200x128_S8x128_0_0, broadcast S8x128 (0 : Ideal .f32)⟩] (Rect.unit (s := S8200x128) ![n, 0] ![512, 128] inb).toLoadRect j = rows x (n + (j 0).val) (j 1) := by
  rw [View.readCov_eq_canon']
  refine (scratch x _).trans ?_
  congr 1
  · show n + 1 * (j 0).val = _; omega
  · apply Fin.ext; show 0 + 1 * (j 1).val = _; omega

/-- The sum of the four shifted products and the bias, at a row and a column. -/
def pre (x : FVec Ideal S8192x128 .bf16) (w : FVec Ideal S4x128 .f32) (b : FVec Ideal S1x128 .f32) (n : Nat) (q : Fin 128) : Ideal .f32 :=
  b (ix2 0 q) + w (ix2 0 q) * rows x (5 + n) q + w (ix2 1 q) * rows x (6 + n) q + w (ix2 2 q) * rows x (7 + n) q + w (ix2 3 q) * rows x (8 + n) q

/-- The block of each window at a grid point. -/
theorem idx : ∀ t : Fin cfg0.N, win0_0.index t = ![0, 32 + t.val] ∧ win0_1.index t = ![0, t.val] ∧ win0_2.index t = ![0, t.val] ∧ win0_3.index t = ![0, t.val] :=
  (by decide +kernel : ∀ t : Fin grid0.N, _)

/-- The reference's padded rows are the kernel's. -/
theorem pad_at (c : Dev nD) (t : Fin cfg0.N) (n : Fin 8195) (q : Fin 128) (Q : Fin 4096) (k : Nat) (hQ : Q.val = 128 * t.val + q.val) (hk : k = 5 + n.val) :
    ConvReferenceIdeal.Read.val_main_v2 (F := Ideal) (m ((c : Thread nD τ).loc main_arg0)) (ix2 n Q) = rows (iblk m c 0 t) k q := by
  subst hk
  have hn := n.isLt
  have hQ' := Q.isLt
  unfold rows ConvReferenceIdeal.Read.val_main_v2 pad
  by_cases h : 3 ≤ n.val
  · rw [dif_pos, dif_pos (by omega)]
    · pointwise [ConvReferenceIdeal.Read.val_main_v1, ConvReferenceIdeal.Read.val_main_v0]
      blk_point [iblk, V, idx t]
    · intro a
      fin_cases a
      · refine ⟨h, Nat.mod_one _, ?_⟩
        show (n.val - 3) / 1 < 8192
        omega
      · refine ⟨Nat.zero_le _, Nat.mod_one _, ?_⟩
        show (Q.val - 0) / 1 < 4096
        omega
  · rw [dif_neg, dif_neg (by omega)]
    · pointwise [ConvReferenceIdeal.Read.val_main_call0_v0, ConvReferenceIdeal.Read.val_main_c]
      show ((((0#32).toInt : ℝ)) : EReal) = 0
      simp
    · intro H
      exact h (H 0).1

/-- Gates are equal where the bias, the four weights and the four entries of the rows are. -/
theorem gate_congr {b b' w0 w1 w2 w3 w0' w1' w2' w3' p0 p1 p2 p3 r0 r1 r2 r3 : Ideal .f32} (hb : b = b') (k0 : w0 = w0') (k1 : w1 = w1') (k2 : w2 = w2') (k3 : w3 = w3')
    (h0 : p0 = r0) (h1 : p1 = r1) (h2 : p2 = r2) (h3 : p3 = r3) :
    (b + w0 * p0 + w1 * p1 + w2 * p2 + w3 * p3) * Ideal.logistic (b + w0 * p0 + w1 * p1 + w2 * p2 + w3 * p3)
      = (b' + w0' * r0 + w1' * r1 + w2' * r2 + w3' * r3) * Ideal.logistic (b' + w0' * r0 + w1' * r1 + w2' * r2 + w3' * r3) := by
  rw [hb, k0, k1, k2, k3, h0, h1, h2, h3]

/-- The bias added last is the bias added first. -/
theorem bias_last (b p0 p1 p2 p3 : Ideal .f32) : p0 + p1 + p2 + p3 + b = b + p0 + p1 + p2 + p3 := by
  ac_rfl

/-- The reference's sum of products at a row and a column. -/
theorem reference_pre (a0 : FVec Ideal ConvReferenceIdeal.S8192x10240 .bf16) (a1 : FVec Ideal ConvReferenceIdeal.S4x4096 .f32) (a2 : FVec Ideal ConvReferenceIdeal.S1x4096 .f32) (n : Fin 8192) (q : Fin 4096) :
    ConvReferenceIdeal.Read.val_main_v33 (F := Ideal) a0 a1 a2 (ix2 n q) = a2 (ix2 0 q) + a1 (ix2 0 q) * ConvReferenceIdeal.Read.val_main_v2 (F := Ideal) a0 (ix2 ⟨n.val, by omega⟩ q)
      + a1 (ix2 1 q) * ConvReferenceIdeal.Read.val_main_v2 (F := Ideal) a0 (ix2 ⟨1 + n.val, by omega⟩ q)
      + a1 (ix2 2 q) * ConvReferenceIdeal.Read.val_main_v2 (F := Ideal) a0 (ix2 ⟨2 + n.val, by omega⟩ q)
      + a1 (ix2 3 q) * ConvReferenceIdeal.Read.val_main_v2 (F := Ideal) a0 (ix2 ⟨3 + n.val, by omega⟩ q) := by
  rw [← bias_last]
  pointwise [ConvReferenceIdeal.Read.val_main_v33, ConvReferenceIdeal.Read.val_main_v32, ConvReferenceIdeal.Read.val_main_v31, ConvReferenceIdeal.Read.val_main_v30, ConvReferenceIdeal.Read.val_main_v29, ConvReferenceIdeal.Read.val_main_v28, ConvReferenceIdeal.Read.val_main_v27, ConvReferenceIdeal.Read.val_main_v26, ConvReferenceIdeal.Read.val_main_v25, ConvReferenceIdeal.Read.val_main_v24, ConvReferenceIdeal.Read.val_main_v23, ConvReferenceIdeal.Read.val_main_v22, ConvReferenceIdeal.Read.val_main_v21, ConvReferenceIdeal.Read.val_main_v20, ConvReferenceIdeal.Read.val_main_v19, ConvReferenceIdeal.Read.val_main_v18, ConvReferenceIdeal.Read.val_main_v17, ConvReferenceIdeal.Read.val_main_v16, ConvReferenceIdeal.Read.val_main_v15, ConvReferenceIdeal.Read.val_main_v14, ConvReferenceIdeal.Read.val_main_v13, ConvReferenceIdeal.Read.val_main_v12, ConvReferenceIdeal.Read.val_main_v11, ConvReferenceIdeal.Read.val_main_v10, ConvReferenceIdeal.Read.val_main_v9, ConvReferenceIdeal.Read.val_main_v8, ConvReferenceIdeal.Read.val_main_v7, ConvReferenceIdeal.Read.val_main_v6, ConvReferenceIdeal.Read.val_main_v5, ConvReferenceIdeal.Read.val_main_v4, ConvReferenceIdeal.Read.val_main_v3, ConvReferenceIdeal.Read.val_main_cst]

/-- The reference's result is its sum of products times the logistic function of the sum. -/
theorem reference_at (a0 : FVec Ideal ConvReferenceIdeal.S8192x10240 .bf16) (a1 : FVec Ideal ConvReferenceIdeal.S4x4096 .f32) (a2 : FVec Ideal ConvReferenceIdeal.S1x4096 .f32) (i : ConvReferenceIdeal.S8192x4096.Idx) :
    ConvReferenceIdeal.Read.val_main_v35 (F := Ideal) a0 a1 a2 i = ConvReferenceIdeal.Read.val_main_v33 (F := Ideal) a0 a1 a2 i * Ideal.logistic (ConvReferenceIdeal.Read.val_main_v33 (F := Ideal) a0 a1 a2 i) := by
  pointwise [ConvReferenceIdeal.Read.val_main_v35, ConvReferenceIdeal.Read.val_main_v34, ConvReferenceIdeal.Read.val_main_call1_v5, ConvReferenceIdeal.Read.val_main_call1_v4, ConvReferenceIdeal.Read.val_main_call1_v3, ConvReferenceIdeal.Read.val_main_call1_v2, ConvReferenceIdeal.Read.val_main_call1_v1, ConvReferenceIdeal.Read.val_main_call1_v0, ConvReferenceIdeal.Read.val_main_call1_cst_0, ConvReferenceIdeal.Read.val_main_call1_cst]
  rfl

/-- The kernel's result is the reference's. -/
theorem arr3 (c : Dev nD) : (dats m 0 c).arrAt 3 (cfgs 0).N
    = ConvReferenceIdeal.Read.val_main_v35 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  refine Eq.trans (b := pre (iblk m c 0 t) (iblk m c 1 t) (iblk m c 2 t) (y 0).val (y 1) * Ideal.logistic (pre (iblk m c 0 t) (iblk m c 1 t) (iblk m c 2 t) (y 0).val (y 1))) ?_ ?_
  · canon_tiles x h
    all_goals
      open_payloads
      pointwise []
      have e : (y 1 : Fin 128) = x 1 := Fin.ext h1
      simp only [pre, h0, e, ← Nat.add_assoc, Nat.reduceAdd]
      exact gate_congr rfl rfl rfl rfl rfl (load _ _ _ _) (load _ _ _ _) (load _ _ _ _) (load _ _ _ _)
  · have h0 : (y 0).val < 8192 := (y 0).isLt
    have h1 : (y 1).val < 128 := (y 1).isLt
    have ht : t.val < 32 := t.isLt
    have e : ∀ X : FVec Ideal S8192x4096 .bf16, X (((View.whole main_v0).slice (win0_3.rect t)).emb y) = X (ix2 (⟨(y 0).val, h0⟩ : Fin 8192) (⟨128 * t.val + (y 1).val, by omega⟩ : Fin 4096)) := fun X => by
      blk_point [idx t]
    refine Eq.trans ?_ ((e _).trans ((reference_at ..).trans (by rw [reference_pre]))).symm
    unfold pre
    refine gate_congr ?_ ?_ ?_ ?_ ?_ (pad_at m c t _ _ _ _ rfl ?_).symm (pad_at m c t _ _ _ _ rfl ?_).symm (pad_at m c t _ _ _ _ rfl ?_).symm (pad_at m c t _ _ _ _ rfl ?_).symm
    case refine_6 | refine_7 | refine_8 | refine_9 => simp only [] <;> omega
    all_goals blk_point [iblk, V, idx t]

end Cert.ConvIdeal.Product

end
-- ==== Proof.ClaimMixers.lean ====
/-
  The claims about the mixers of the block.
-/
module

public import proofs.«01_k».proof.Defs
public import proofs.«01_k».proof.Proof.SpatialGating
public import proofs.«01_k».proof.Proof.Convolution
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import Idealize.ShloMosaic.Adequacy
public import Idealize.ShloMosaic.Init

@[expose] public section

noncomputable section

namespace Cert.Proof

open Idealize.ShloMosaic Idealize.SL.Sem

theorem frame_sgu : Cert.quiescent_Sgu := fun m ρ _ => Cert.Sgu.Gen.frame m ρ

theorem frame_sguIdeal : Cert.quiescent_SguIdeal := fun m ρ _ => Cert.SguIdeal.Gen.frame m ρ

theorem frame_sguReferenceIdeal : Cert.quiescent_SguReferenceIdeal := fun m ρ _ =>
  (θ_run (Cert.SguReferenceIdeal.defs (F := Ideal)) _ _).mono
    (fun r h => ⟨fun c => (h c).2, sem_eq_zero_of_no_sems (by decide) r.2⟩)
    (Cert.SguReferenceIdeal.Value.run (F := Ideal) m ρ)

theorem algebraic_sgu : Cert.algebraic_SguIdeal_SguReferenceIdeal := fun m ρ m' ρ' _ hagree =>
  ⟨fun c => Cert.SguReferenceIdeal.Read.val_main_v59 (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)),
    (θ_run (Cert.SguIdeal.defs (F := Ideal)) _ _).mono (fun r h c => ⟨(h c).1.trans (Cert.SguIdeal.Product.arr5 m c), (h c).2⟩)
      (Cert.SguIdeal.Value.run_blocks (F := Ideal) m ρ),
    (θ_run (Cert.SguReferenceIdeal.defs (F := Ideal)) _ _).mono (fun r h c => by
      obtain ⟨h0, hk⟩ := h c
      obtain ⟨e0, e1, e2, e3⟩ := hagree c
      replace h0 := h0.trans (Cert.SguReferenceIdeal.Read.val_main_v59_eq m' c)
      rw [e0, e1, e2, e3] at h0
      exact ⟨h0, hk⟩) (Cert.SguReferenceIdeal.Value.run (F := Ideal) m' ρ')⟩

theorem frame_conv : Cert.quiescent_Conv := fun m ρ _ => Cert.Conv.Gen.frame m ρ

theorem frame_convIdeal : Cert.quiescent_ConvIdeal := fun m ρ _ => Cert.ConvIdeal.Gen.frame m ρ

theorem frame_convReferenceIdeal : Cert.quiescent_ConvReferenceIdeal := fun m ρ _ =>
  (θ_run (Cert.ConvReferenceIdeal.defs (F := Ideal)) _ _).mono
    (fun r h => ⟨fun c => (h c).2, sem_eq_zero_of_no_sems (by decide) r.2⟩)
    (Cert.ConvReferenceIdeal.Value.run (F := Ideal) m ρ)

theorem algebraic_conv : Cert.algebraic_ConvIdeal_ConvReferenceIdeal := fun m ρ m' ρ' _ hagree =>
  ⟨fun c => Cert.ConvReferenceIdeal.Read.val_main_v35 (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)),
    (θ_run (Cert.ConvIdeal.defs (F := Ideal)) _ _).mono (fun r h c => ⟨(h c).1.trans (Cert.ConvIdeal.Product.arr3 m c), (h c).2⟩)
      (Cert.ConvIdeal.Value.run_blocks (F := Ideal) m ρ),
    (θ_run (Cert.ConvReferenceIdeal.defs (F := Ideal)) _ _).mono (fun r h c => by
      obtain ⟨h0, hk⟩ := h c
      obtain ⟨e0, e1, e2⟩ := hagree c
      replace h0 := h0.trans (Cert.ConvReferenceIdeal.Read.val_main_v35_eq m' c)
      rw [e0, e1, e2] at h0
      exact ⟨h0, hk⟩) (Cert.ConvReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.RunWgrads
public import proofs.«01_k».proof.Proof.Gen.Gather
public import proofs.«01_k».proof.Proof.Gen.GatherIdeal
public import proofs.«01_k».proof.Proof.Gen.GatherIdeal.Skeleton
public import proofs.«01_k».proof.Proof.Gen.GatherIdeal.Points
public import proofs.«01_k».proof.Proof.Gen.GatherIdeal.Frame
public import proofs.«01_k».proof.Proof.Gen.GatherIdeal.Launch
public import proofs.«01_k».proof.Proof.Gen.Gather.Skeleton
public import proofs.«01_k».proof.Proof.Gen.Gather.Points
public import proofs.«01_k».proof.Proof.Gen.Gather.Frame
public import proofs.«01_k».proof.Proof.Gen.Gather.Launch
public import proofs.«01_k».proof.Proof.Gen.GatherReference
public import proofs.«01_k».proof.Proof.Gen.GatherReferenceIdeal
public import proofs.«01_k».proof.Proof.Gen.GatherReferenceIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallReference
public import proofs.«01_k».proof.Proof.Gen.SmallReferenceIdeal
public import proofs.«01_k».proof.Proof.Gen.SmallReferenceIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModReference
public import proofs.«01_k».proof.Proof.Gen.ModReferenceIdeal
public import proofs.«01_k».proof.Proof.Gen.ModReferenceIdeal.Run
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondReference
public import proofs.«01_k».proof.Proof.Gen.CondReferenceIdeal
public import proofs.«01_k».proof.Proof.Gen.CondReferenceIdeal.Run
public import proofs.«01_k».proof.Proof.RunWeights
public import proofs.«01_k».proof.Proof.RunSmall
public import proofs.«01_k».proof.Proof.RunMod
public import proofs.«01_k».proof.Proof.RunCond
public import proofs.«01_k».proof.Proof.Swap
public import proofs.«01_k».proof.Proof.Join
public import proofs.«01_k».proof.Proof.Gen.SumWin
public import proofs.«01_k».proof.Proof.Gen.SumWin.Frame
public import proofs.«01_k».proof.Proof.Gen.SumWinIdeal
public import proofs.«01_k».proof.Proof.Gen.SumWinIdeal.Frame
public import proofs.«01_k».proof.Proof.Gen.SumWinIdeal.Value
public import proofs.«01_k».proof.Proof.Gen.SumWinReferenceIdeal
public import proofs.«01_k».proof.Proof.Gen.SumWinReferenceIdeal.Run
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallReferenceIdeal
public import proofs.«01_k».proof.Proof.Gen.SumSmallReferenceIdeal.Run
public import proofs.«01_k».proof.Proof.Gen.AdamwWMod
public import proofs.«01_k».proof.Proof.Gen.AdamwWMod.Frame
public import proofs.«01_k».proof.Proof.Gen.AdamwWModIdeal
public import proofs.«01_k».proof.Proof.Gen.AdamwWModIdeal.Frame
public import proofs.«01_k».proof.Proof.Gen.AdamwWModIdeal.Value
public import proofs.«01_k».proof.Proof.Gen.AdamwWModReferenceIdeal
public import proofs.«01_k».proof.Proof.Gen.AdamwWModReferenceIdeal.Run
public import proofs.«01_k».proof.Proof.Gen.AdamwBMod
public import proofs.«01_k».proof.Proof.Gen.AdamwBMod.Frame
public import proofs.«01_k».proof.Proof.Gen.AdamwBModIdeal
public import proofs.«01_k».proof.Proof.Gen.AdamwBModIdeal.Frame
public import proofs.«01_k».proof.Proof.Gen.AdamwBModIdeal.Value
public import proofs.«01_k».proof.Proof.Gen.AdamwBModReferenceIdeal
public import proofs.«01_k».proof.Proof.Gen.AdamwBModReferenceIdeal.Run
public import proofs.«01_k».proof.Proof.Gen.AdamwWIn
public import proofs.«01_k».proof.Proof.Gen.AdamwWIn.Frame
public import proofs.«01_k».proof.Proof.Gen.AdamwWInIdeal
public import proofs.«01_k».proof.Proof.Gen.AdamwWInIdeal.Frame
public import proofs.«01_k».proof.Proof.Gen.AdamwWInIdeal.Value
public import proofs.«01_k».proof.Proof.Gen.AdamwWInReferenceIdeal
public import proofs.«01_k».proof.Proof.Gen.AdamwWInReferenceIdeal.Run
public import proofs.«01_k».proof.Proof.Gen.AdamwNorm
public import proofs.«01_k».proof.Proof.Gen.AdamwNorm.Frame
public import proofs.«01_k».proof.Proof.Gen.AdamwNormIdeal
public import proofs.«01_k».proof.Proof.Gen.AdamwNormIdeal.Frame
public import proofs.«01_k».proof.Proof.Gen.AdamwNormIdeal.Value
public import proofs.«01_k».proof.Proof.Gen.AdamwNormReferenceIdeal
public import proofs.«01_k».proof.Proof.Gen.AdamwNormReferenceIdeal.Run
public import proofs.«01_k».proof.Proof.Gen.AdamwGmWs
public import proofs.«01_k».proof.Proof.Gen.AdamwGmWs.Frame
public import proofs.«01_k».proof.Proof.Gen.AdamwGmWsIdeal
public import proofs.«01_k».proof.Proof.Gen.AdamwGmWsIdeal.Frame
public import proofs.«01_k».proof.Proof.Gen.AdamwGmWsIdeal.Value
public import proofs.«01_k».proof.Proof.Gen.AdamwGmWsReferenceIdeal
public import proofs.«01_k».proof.Proof.Gen.AdamwGmWsReferenceIdeal.Run
public import proofs.«01_k».proof.Proof.Gen.AdamwGmBs
public import proofs.«01_k».proof.Proof.Gen.AdamwGmBs.Frame
public import proofs.«01_k».proof.Proof.Gen.AdamwGmBsIdeal
public import proofs.«01_k».proof.Proof.Gen.AdamwGmBsIdeal.Frame
public import proofs.«01_k».proof.Proof.Gen.AdamwGmBsIdeal.Value
public import proofs.«01_k».proof.Proof.Gen.AdamwGmBsReferenceIdeal
public import proofs.«01_k».proof.Proof.Gen.AdamwGmBsReferenceIdeal.Run
public import proofs.«01_k».proof.Proof.Gen.AdamwConvW
public import proofs.«01_k».proof.Proof.Gen.AdamwConvW.Frame
public import proofs.«01_k».proof.Proof.Gen.AdamwConvWIdeal
public import proofs.«01_k».proof.Proof.Gen.AdamwConvWIdeal.Frame
public import proofs.«01_k».proof.Proof.Gen.AdamwConvWIdeal.Value
public import proofs.«01_k».proof.Proof.Gen.AdamwConvWReferenceIdeal
public import proofs.«01_k».proof.Proof.Gen.AdamwConvWReferenceIdeal.Run
public import proofs.«01_k».proof.Proof.Gen.AdamwConvB
public import proofs.«01_k».proof.Proof.Gen.AdamwConvB.Frame
public import proofs.«01_k».proof.Proof.Gen.AdamwConvBIdeal
public import proofs.«01_k».proof.Proof.Gen.AdamwConvBIdeal.Frame
public import proofs.«01_k».proof.Proof.Gen.AdamwConvBIdeal.Value
public import proofs.«01_k».proof.Proof.Gen.AdamwConvBReferenceIdeal
public import proofs.«01_k».proof.Proof.Gen.AdamwConvBReferenceIdeal.Run
public import proofs.«01_k».proof.Proof.Gen.AdamwHeads
public import proofs.«01_k».proof.Proof.Gen.AdamwHeads.Frame
public import proofs.«01_k».proof.Proof.Gen.AdamwHeadsIdeal
public import proofs.«01_k».proof.Proof.Gen.AdamwHeadsIdeal.Frame
public import proofs.«01_k».proof.Proof.Gen.AdamwHeadsIdeal.Value
public import proofs.«01_k».proof.Proof.Gen.AdamwHeadsReferenceIdeal
public import proofs.«01_k».proof.Proof.Gen.AdamwHeadsReferenceIdeal.Run
public import proofs.«01_k».proof.Proof.Gen.AdamwSsmNorm
public import proofs.«01_k».proof.Proof.Gen.AdamwSsmNorm.Frame
public import proofs.«01_k».proof.Proof.Gen.AdamwSsmNormIdeal
public import proofs.«01_k».proof.Proof.Gen.AdamwSsmNormIdeal.Frame
public import proofs.«01_k».proof.Proof.Gen.AdamwSsmNormIdeal.Value
public import proofs.«01_k».proof.Proof.Gen.AdamwSsmNormReferenceIdeal
public import proofs.«01_k».proof.Proof.Gen.AdamwSsmNormReferenceIdeal.Run
public import proofs.«01_k».proof.Proof.Gen.AdamwSquare
public import proofs.«01_k».proof.Proof.Gen.AdamwSquare.Frame
public import proofs.«01_k».proof.Proof.Gen.AdamwSquareIdeal
public import proofs.«01_k».proof.Proof.Gen.AdamwSquareIdeal.Frame
public import proofs.«01_k».proof.Proof.Gen.AdamwSquareIdeal.Value
public import proofs.«01_k».proof.Proof.Gen.AdamwSquareReferenceIdeal
public import proofs.«01_k».proof.Proof.Gen.AdamwSquareReferenceIdeal.Run
public import proofs.«01_k».proof.Proof.Gen.AdamwSsm
public import proofs.«01_k».proof.Proof.Gen.AdamwSsm.Frame
public import proofs.«01_k».proof.Proof.Gen.AdamwSsmIdeal
public import proofs.«01_k».proof.Proof.Gen.AdamwSsmIdeal.Frame
public import proofs.«01_k».proof.Proof.Gen.AdamwSsmIdeal.Value
public import proofs.«01_k».proof.Proof.Gen.AdamwSsmReferenceIdeal
public import proofs.«01_k».proof.Proof.Gen.AdamwSsmReferenceIdeal.Run
public import proofs.«01_k».proof.Proof.Gen.AdamwFfOne
public import proofs.«01_k».proof.Proof.Gen.AdamwFfOne.Frame
public import proofs.«01_k».proof.Proof.Gen.AdamwFfOneIdeal
public import proofs.«01_k».proof.Proof.Gen.AdamwFfOneIdeal.Frame
public import proofs.«01_k».proof.Proof.Gen.AdamwFfOneIdeal.Value
public import proofs.«01_k».proof.Proof.Gen.AdamwFfOneReferenceIdeal
public import proofs.«01_k».proof.Proof.Gen.AdamwFfOneReferenceIdeal.Run
public import proofs.«01_k».proof.Proof.Gen.AdamwFfTwo
public import proofs.«01_k».proof.Proof.Gen.AdamwFfTwo.Frame
public import proofs.«01_k».proof.Proof.Gen.AdamwFfTwoIdeal
public import proofs.«01_k».proof.Proof.Gen.AdamwFfTwoIdeal.Frame
public import proofs.«01_k».proof.Proof.Gen.AdamwFfTwoIdeal.Value
public import proofs.«01_k».proof.Proof.Gen.AdamwFfTwoReferenceIdeal
public import proofs.«01_k».proof.Proof.Gen.AdamwFfTwoReferenceIdeal.Run
public import proofs.«01_k».proof.Proof.ClaimSums
public import proofs.«01_k».proof.Proof.ClaimParts
public import proofs.«01_k».proof.Proof.ClaimRows
public import proofs.«01_k».proof.Proof.ClaimPlain
public import proofs.«01_k».proof.Proof.ClaimGrads
public import proofs.«01_k».proof.Proof.ClaimNorms
public import proofs.«01_k».proof.Proof.ClaimWIn
public import proofs.«01_k».proof.Proof.ClaimProducts
public import proofs.«01_k».proof.Proof.ClaimCalls
public import proofs.«01_k».proof.Proof.ClaimMixers
public import Idealize.ShloMosaic.Adequacy
public import Idealize.ShloMosaic.Init

@[expose] public section

noncomputable section

namespace Cert.Proof

open Idealize.ShloMosaic Idealize.SL.Sem Cert.KernelIdeal.Wgrads

theorem frame_kernelIdeal : Cert.quiescent_KernelIdeal := fun m ρ _ =>
  (θ_run (Cert.KernelIdeal.defs (F := Ideal)) _ _).mono
    (fun _ h => ⟨fun c => ⟨args_kept m (h.1 c) 0, args_kept m (h.1 c) 1, args_kept m (h.1 c) 2, args_kept m (h.1 c) 3, args_kept m (h.1 c) 4,
      args_kept m (h.1 c) 5⟩, h.2⟩) (run_main (F := Ideal) m ρ)

theorem frame_kernel : Cert.quiescent_Kernel := fun m ρ _ =>
  (θ_run (Cert.KernelIdeal.defs (F := Bits)) _ _).mono
    (fun _ h => ⟨fun c => ⟨args_kept m (h.1 c) 0, args_kept m (h.1 c) 1, args_kept m (h.1 c) 2, args_kept m (h.1 c) 3, args_kept m (h.1 c) 4,
      args_kept m (h.1 c) 5⟩, h.2⟩) (run_main (F := Bits) m ρ)

theorem frame_referenceIdeal : Cert.quiescent_ReferenceIdeal := fun m ρ _ =>
  (θ_run (Cert.ReferenceIdeal.defs (F := Ideal)) _ _).mono
    (fun r h => ⟨fun c => (h c).2.2.2.2.2.2, sem_eq_zero_of_no_sems (by decide) r.2⟩) (Cert.ReferenceIdeal.Value.run (F := Ideal) m ρ)

theorem frame_reference : Cert.quiescent_Reference := fun m ρ _ =>
  (θ_run (Cert.ReferenceIdeal.defs (F := Bits)) _ _).mono
    (fun r h => ⟨fun c => (h c).2.2.2.2.2.2, sem_eq_zero_of_no_sems (by decide) r.2⟩) (Cert.ReferenceIdeal.Value.run (F := Bits) m ρ)

theorem algebraic : Cert.algebraic_KernelIdeal_ReferenceIdeal := fun m ρ m' ρ' _ hagree =>
  ⟨_, _, _, _, _, _, (θ_run (Cert.KernelIdeal.defs (F := Ideal)) _ _).mono
    (fun r h c => ⟨(h.1 c Cert.KernelIdeal.main_v1_0 rfl).trans (out0_eq m c _ fun d => (hagree d).1),
      (h.1 c Cert.KernelIdeal.main_v1_1 rfl).trans (out1_eq m c _ fun d => (hagree d).2.1),
      (h.1 c Cert.KernelIdeal.main_v1_2 rfl).trans (out2_eq m c _ fun d => (hagree d).2.2.1),
      (h.1 c Cert.KernelIdeal.main_v1_3 rfl).trans (out3_eq m c _ fun d => (hagree d).2.2.2.1),
      (h.1 c Cert.KernelIdeal.main_v1_4 rfl).trans (out4_eq m c _ fun d => (hagree d).2.2.2.2.1),
      (h.1 c Cert.KernelIdeal.main_v1_5 rfl).trans (out5_eq m c _ fun d => (hagree d).2.2.2.2.2),
      args_kept m (h.1 c) 0, args_kept m (h.1 c) 1, args_kept m (h.1 c) 2, args_kept m (h.1 c) 3, args_kept m (h.1 c) 4, args_kept m (h.1 c) 5⟩)
    (run_main (F := Ideal) m ρ),
  (θ_run (Cert.ReferenceIdeal.defs (F := Ideal)) _ _).mono (fun r h => h 0) (Cert.ReferenceIdeal.Value.run (F := Ideal) m' ρ')⟩

theorem bitexact : Cert.bitexact_Kernel_Reference := fun m ρ m' ρ' _ hagree =>
  ⟨_, _, _, _, _, _, (θ_run (Cert.KernelIdeal.defs (F := Bits)) _ _).mono
    (fun r h c => ⟨(h.1 c Cert.KernelIdeal.main_v1_0 rfl).trans (out0_eq m c _ fun d => (hagree d).1),
      (h.1 c Cert.KernelIdeal.main_v1_1 rfl).trans (out1_eq m c _ fun d => (hagree d).2.1),
      (h.1 c Cert.KernelIdeal.main_v1_2 rfl).trans (out2_eq m c _ fun d => (hagree d).2.2.1),
      (h.1 c Cert.KernelIdeal.main_v1_3 rfl).trans (out3_eq m c _ fun d => (hagree d).2.2.2.1),
      (h.1 c Cert.KernelIdeal.main_v1_4 rfl).trans (out4_eq m c _ fun d => (hagree d).2.2.2.2.1),
      (h.1 c Cert.KernelIdeal.main_v1_5 rfl).trans (out5_eq m c _ fun d => (hagree d).2.2.2.2.2),
      args_kept m (h.1 c) 0, args_kept m (h.1 c) 1, args_kept m (h.1 c) 2, args_kept m (h.1 c) 3, args_kept m (h.1 c) 4, args_kept m (h.1 c) 5⟩)
    (run_main (F := Bits) m ρ),
  (θ_run (Cert.ReferenceIdeal.defs (F := Bits)) _ _).mono (fun r h => h 0) (Cert.ReferenceIdeal.Value.run (F := Bits) m' ρ')⟩

theorem frame_gatherIdeal : Cert.quiescent_GatherIdeal := fun m ρ _ =>
  (θ_run (Cert.GatherIdeal.defs (F := Ideal)) _ _).mono (fun _ h => ⟨fun c => ⟨Cert.GatherIdeal.Gathered.args_kept m (h.1 c) 0, Cert.GatherIdeal.Gathered.args_kept m (h.1 c) 1, Cert.GatherIdeal.Gathered.args_kept m (h.1 c) 2, Cert.GatherIdeal.Gathered.args_kept m (h.1 c) 3, Cert.GatherIdeal.Gathered.args_kept m (h.1 c) 4, Cert.GatherIdeal.Gathered.args_kept m (h.1 c) 5⟩, h.2⟩) (Cert.GatherIdeal.Gathered.run_main (F := Ideal) m ρ)

theorem frame_gatherReferenceIdeal : Cert.quiescent_GatherReferenceIdeal := fun m ρ _ =>
  (θ_run (Cert.GatherReferenceIdeal.defs (F := Ideal)) _ _).mono (fun r h => ⟨fun c => (h c).2.2.2.2.2.2, sem_eq_zero_of_no_sems (by decide) r.2⟩) (Cert.GatherReferenceIdeal.Value.run (F := Ideal) m ρ)

theorem frame_gather : Cert.quiescent_Gather := fun m ρ _ =>
  (θ_run (Cert.GatherIdeal.defs (F := Bits)) _ _).mono (fun _ h => ⟨fun c => ⟨Cert.GatherIdeal.Gathered.args_kept m (h.1 c) 0, Cert.GatherIdeal.Gathered.args_kept m (h.1 c) 1, Cert.GatherIdeal.Gathered.args_kept m (h.1 c) 2, Cert.GatherIdeal.Gathered.args_kept m (h.1 c) 3, Cert.GatherIdeal.Gathered.args_kept m (h.1 c) 4, Cert.GatherIdeal.Gathered.args_kept m (h.1 c) 5⟩, h.2⟩) (Cert.GatherIdeal.Gathered.run_main (F := Bits) m ρ)

theorem frame_gatherReference : Cert.quiescent_GatherReference := fun m ρ _ =>
  (θ_run (Cert.GatherReferenceIdeal.defs (F := Bits)) _ _).mono (fun r h => ⟨fun c => (h c).2.2.2.2.2.2, sem_eq_zero_of_no_sems (by decide) r.2⟩) (Cert.GatherReferenceIdeal.Value.run (F := Bits) m ρ)

theorem algebraic_gather : Cert.algebraic_GatherIdeal_GatherReferenceIdeal := fun m ρ m' ρ' _ hagree =>
  ⟨_, _, _, _, _, _, (θ_run (Cert.GatherIdeal.defs (F := Ideal)) _ _).mono
    (fun r h c => ⟨(h.1 c Cert.GatherIdeal.main_v1_0 rfl).trans (Exch.join_slots 1024 1408 (fun d => m ((d.tc : Thread Cert.GatherIdeal.nD Cert.GatherIdeal.τ).loc Cert.GatherIdeal.main_arg0)) _ fun d => (hagree d).1),
      (h.1 c Cert.GatherIdeal.main_v1_1 rfl).trans (Exch.join_rows 128 1024 (by decide) (fun d => m ((d.tc : Thread Cert.GatherIdeal.nD Cert.GatherIdeal.τ).loc Cert.GatherIdeal.main_arg1)) _ fun d => (hagree d).2.1),
      (h.1 c Cert.GatherIdeal.main_v1_2 rfl).trans (Exch.join_rows 256 1024 (by decide) (fun d => m ((d.tc : Thread Cert.GatherIdeal.nD Cert.GatherIdeal.τ).loc Cert.GatherIdeal.main_arg2)) _ fun d => (hagree d).2.2.1),
      (h.1 c Cert.GatherIdeal.main_v1_3 rfl).trans (Exch.join_rows 128 1024 (by decide) (fun d => m ((d.tc : Thread Cert.GatherIdeal.nD Cert.GatherIdeal.τ).loc Cert.GatherIdeal.main_arg3)) _ fun d => (hagree d).2.2.2.1),
      (h.1 c Cert.GatherIdeal.main_v1_4 rfl).trans (Exch.join_cols 1024 512 (by decide) (fun d => m ((d.tc : Thread Cert.GatherIdeal.nD Cert.GatherIdeal.τ).loc Cert.GatherIdeal.main_arg4)) _ fun d => (hagree d).2.2.2.2.1),
      (h.1 c Cert.GatherIdeal.main_v1_5 rfl).trans (Exch.join_rows 512 1024 (by decide) (fun d => m ((d.tc : Thread Cert.GatherIdeal.nD Cert.GatherIdeal.τ).loc Cert.GatherIdeal.main_arg5)) _ fun d => (hagree d).2.2.2.2.2), Cert.GatherIdeal.Gathered.args_kept m (h.1 c) 0, Cert.GatherIdeal.Gathered.args_kept m (h.1 c) 1, Cert.GatherIdeal.Gathered.args_kept m (h.1 c) 2, Cert.GatherIdeal.Gathered.args_kept m (h.1 c) 3, Cert.GatherIdeal.Gathered.args_kept m (h.1 c) 4, Cert.GatherIdeal.Gathered.args_kept m (h.1 c) 5⟩)
    (Cert.GatherIdeal.Gathered.run_main (F := Ideal) m ρ),
  (θ_run (Cert.GatherReferenceIdeal.defs (F := Ideal)) _ _).mono (fun r h => h 0) (Cert.GatherReferenceIdeal.Value.run (F := Ideal) m' ρ')⟩

theorem bitexact_gather : Cert.bitexact_Gather_GatherReference := fun m ρ m' ρ' _ hagree =>
  ⟨_, _, _, _, _, _, (θ_run (Cert.GatherIdeal.defs (F := Bits)) _ _).mono
    (fun r h c => ⟨(h.1 c Cert.GatherIdeal.main_v1_0 rfl).trans (Exch.join_slots 1024 1408 (fun d => m ((d.tc : Thread Cert.GatherIdeal.nD Cert.GatherIdeal.τ).loc Cert.GatherIdeal.main_arg0)) _ fun d => (hagree d).1),
      (h.1 c Cert.GatherIdeal.main_v1_1 rfl).trans (Exch.join_rows 128 1024 (by decide) (fun d => m ((d.tc : Thread Cert.GatherIdeal.nD Cert.GatherIdeal.τ).loc Cert.GatherIdeal.main_arg1)) _ fun d => (hagree d).2.1),
      (h.1 c Cert.GatherIdeal.main_v1_2 rfl).trans (Exch.join_rows 256 1024 (by decide) (fun d => m ((d.tc : Thread Cert.GatherIdeal.nD Cert.GatherIdeal.τ).loc Cert.GatherIdeal.main_arg2)) _ fun d => (hagree d).2.2.1),
      (h.1 c Cert.GatherIdeal.main_v1_3 rfl).trans (Exch.join_rows 128 1024 (by decide) (fun d => m ((d.tc : Thread Cert.GatherIdeal.nD Cert.GatherIdeal.τ).loc Cert.GatherIdeal.main_arg3)) _ fun d => (hagree d).2.2.2.1),
      (h.1 c Cert.GatherIdeal.main_v1_4 rfl).trans (Exch.join_cols 1024 512 (by decide) (fun d => m ((d.tc : Thread Cert.GatherIdeal.nD Cert.GatherIdeal.τ).loc Cert.GatherIdeal.main_arg4)) _ fun d => (hagree d).2.2.2.2.1),
      (h.1 c Cert.GatherIdeal.main_v1_5 rfl).trans (Exch.join_rows 512 1024 (by decide) (fun d => m ((d.tc : Thread Cert.GatherIdeal.nD Cert.GatherIdeal.τ).loc Cert.GatherIdeal.main_arg5)) _ fun d => (hagree d).2.2.2.2.2), Cert.GatherIdeal.Gathered.args_kept m (h.1 c) 0, Cert.GatherIdeal.Gathered.args_kept m (h.1 c) 1, Cert.GatherIdeal.Gathered.args_kept m (h.1 c) 2, Cert.GatherIdeal.Gathered.args_kept m (h.1 c) 3, Cert.GatherIdeal.Gathered.args_kept m (h.1 c) 4, Cert.GatherIdeal.Gathered.args_kept m (h.1 c) 5⟩)
    (Cert.GatherIdeal.Gathered.run_main (F := Bits) m ρ),
  (θ_run (Cert.GatherReferenceIdeal.defs (F := Bits)) _ _).mono (fun r h => h 0) (Cert.GatherReferenceIdeal.Value.run (F := Bits) m' ρ')⟩

theorem frame_smallIdeal : Cert.quiescent_SmallIdeal := fun m ρ _ =>
  (θ_run (Cert.SmallIdeal.defs (F := Ideal)) _ _).mono (fun _ h => ⟨fun c => Cert.SmallIdeal.Gathered.args_kept m (h.1 c) 0, h.2⟩) (Cert.SmallIdeal.Gathered.run_main (F := Ideal) m ρ)

theorem frame_smallReferenceIdeal : Cert.quiescent_SmallReferenceIdeal := fun m ρ _ =>
  (θ_run (Cert.SmallReferenceIdeal.defs (F := Ideal)) _ _).mono (fun r h => ⟨fun c => (h c).2, sem_eq_zero_of_no_sems (by decide) r.2⟩) (Cert.SmallReferenceIdeal.Value.run (F := Ideal) m ρ)

theorem frame_small : Cert.quiescent_Small := fun m ρ _ =>
  (θ_run (Cert.SmallIdeal.defs (F := Bits)) _ _).mono (fun _ h => ⟨fun c => Cert.SmallIdeal.Gathered.args_kept m (h.1 c) 0, h.2⟩) (Cert.SmallIdeal.Gathered.run_main (F := Bits) m ρ)

theorem frame_smallReference : Cert.quiescent_SmallReference := fun m ρ _ =>
  (θ_run (Cert.SmallReferenceIdeal.defs (F := Bits)) _ _).mono (fun r h => ⟨fun c => (h c).2, sem_eq_zero_of_no_sems (by decide) r.2⟩) (Cert.SmallReferenceIdeal.Value.run (F := Bits) m ρ)

theorem algebraic_small : Cert.algebraic_SmallIdeal_SmallReferenceIdeal := fun m ρ m' ρ' _ hagree =>
  ⟨_, (θ_run (Cert.SmallIdeal.defs (F := Ideal)) _ _).mono
    (fun r h c => ⟨(h.1 c Cert.SmallIdeal.main_v1 rfl).trans (Exch.join_slots 1296 128 (fun d => m ((d.tc : Thread Cert.SmallIdeal.nD Cert.SmallIdeal.τ).loc Cert.SmallIdeal.main_arg0)) _ fun d => (hagree d)), Cert.SmallIdeal.Gathered.args_kept m (h.1 c) 0⟩)
    (Cert.SmallIdeal.Gathered.run_main (F := Ideal) m ρ),
  (θ_run (Cert.SmallReferenceIdeal.defs (F := Ideal)) _ _).mono (fun r h => h 0) (Cert.SmallReferenceIdeal.Value.run (F := Ideal) m' ρ')⟩

theorem bitexact_small : Cert.bitexact_Small_SmallReference := fun m ρ m' ρ' _ hagree =>
  ⟨_, (θ_run (Cert.SmallIdeal.defs (F := Bits)) _ _).mono
    (fun r h c => ⟨(h.1 c Cert.SmallIdeal.main_v1 rfl).trans (Exch.join_slots 1296 128 (fun d => m ((d.tc : Thread Cert.SmallIdeal.nD Cert.SmallIdeal.τ).loc Cert.SmallIdeal.main_arg0)) _ fun d => (hagree d)), Cert.SmallIdeal.Gathered.args_kept m (h.1 c) 0⟩)
    (Cert.SmallIdeal.Gathered.run_main (F := Bits) m ρ),
  (θ_run (Cert.SmallReferenceIdeal.defs (F := Bits)) _ _).mono (fun r h => h 0) (Cert.SmallReferenceIdeal.Value.run (F := Bits) m' ρ')⟩

theorem frame_modIdeal : Cert.quiescent_ModIdeal := fun m ρ _ =>
  (θ_run (Cert.ModIdeal.defs (F := Ideal)) _ _).mono (fun _ h => ⟨fun c => Cert.ModIdeal.Gathered.args_kept m (h.1 c) 0, h.2⟩) (Cert.ModIdeal.Gathered.run_main (F := Ideal) m ρ)

theorem frame_modReferenceIdeal : Cert.quiescent_ModReferenceIdeal := fun m ρ _ =>
  (θ_run (Cert.ModReferenceIdeal.defs (F := Ideal)) _ _).mono (fun r h => ⟨fun c => (h c).2, sem_eq_zero_of_no_sems (by decide) r.2⟩) (Cert.ModReferenceIdeal.Value.run (F := Ideal) m ρ)

theorem frame_mod : Cert.quiescent_Mod := fun m ρ _ =>
  (θ_run (Cert.ModIdeal.defs (F := Bits)) _ _).mono (fun _ h => ⟨fun c => Cert.ModIdeal.Gathered.args_kept m (h.1 c) 0, h.2⟩) (Cert.ModIdeal.Gathered.run_main (F := Bits) m ρ)

theorem frame_modReference : Cert.quiescent_ModReference := fun m ρ _ =>
  (θ_run (Cert.ModReferenceIdeal.defs (F := Bits)) _ _).mono (fun r h => ⟨fun c => (h c).2, sem_eq_zero_of_no_sems (by decide) r.2⟩) (Cert.ModReferenceIdeal.Value.run (F := Bits) m ρ)

theorem algebraic_mod : Cert.algebraic_ModIdeal_ModReferenceIdeal := fun m ρ m' ρ' _ hagree =>
  ⟨_, (θ_run (Cert.ModIdeal.defs (F := Ideal)) _ _).mono
    (fun r h c => ⟨(h.1 c Cert.ModIdeal.main_v1 rfl).trans (Exch.join_slots 8 768 (fun d => m ((d.tc : Thread Cert.ModIdeal.nD Cert.ModIdeal.τ).loc Cert.ModIdeal.main_arg0)) _ fun d => (hagree d)), Cert.ModIdeal.Gathered.args_kept m (h.1 c) 0⟩)
    (Cert.ModIdeal.Gathered.run_main (F := Ideal) m ρ),
  (θ_run (Cert.ModReferenceIdeal.defs (F := Ideal)) _ _).mono (fun r h => h 0) (Cert.ModReferenceIdeal.Value.run (F := Ideal) m' ρ')⟩

theorem bitexact_mod : Cert.bitexact_Mod_ModReference := fun m ρ m' ρ' _ hagree =>
  ⟨_, (θ_run (Cert.ModIdeal.defs (F := Bits)) _ _).mono
    (fun r h c => ⟨(h.1 c Cert.ModIdeal.main_v1 rfl).trans (Exch.join_slots 8 768 (fun d => m ((d.tc : Thread Cert.ModIdeal.nD Cert.ModIdeal.τ).loc Cert.ModIdeal.main_arg0)) _ fun d => (hagree d)), Cert.ModIdeal.Gathered.args_kept m (h.1 c) 0⟩)
    (Cert.ModIdeal.Gathered.run_main (F := Bits) m ρ),
  (θ_run (Cert.ModReferenceIdeal.defs (F := Bits)) _ _).mono (fun r h => h 0) (Cert.ModReferenceIdeal.Value.run (F := Bits) m' ρ')⟩

theorem frame_condIdeal : Cert.quiescent_CondIdeal := fun m ρ _ =>
  (θ_run (Cert.CondIdeal.defs (F := Ideal)) _ _).mono (fun _ h => ⟨fun c => ⟨Cert.CondIdeal.Gathered.args_kept m (h.1 c) 0, Cert.CondIdeal.Gathered.args_kept m (h.1 c) 1⟩, h.2⟩) (Cert.CondIdeal.Gathered.run_main (F := Ideal) m ρ)

theorem frame_condReferenceIdeal : Cert.quiescent_CondReferenceIdeal := fun m ρ _ =>
  (θ_run (Cert.CondReferenceIdeal.defs (F := Ideal)) _ _).mono (fun r h => ⟨fun c => (h c).2.2, sem_eq_zero_of_no_sems (by decide) r.2⟩) (Cert.CondReferenceIdeal.Value.run (F := Ideal) m ρ)

theorem frame_cond : Cert.quiescent_Cond := fun m ρ _ =>
  (θ_run (Cert.CondIdeal.defs (F := Bits)) _ _).mono (fun _ h => ⟨fun c => ⟨Cert.CondIdeal.Gathered.args_kept m (h.1 c) 0, Cert.CondIdeal.Gathered.args_kept m (h.1 c) 1⟩, h.2⟩) (Cert.CondIdeal.Gathered.run_main (F := Bits) m ρ)

theorem frame_condReference : Cert.quiescent_CondReference := fun m ρ _ =>
  (θ_run (Cert.CondReferenceIdeal.defs (F := Bits)) _ _).mono (fun r h => ⟨fun c => (h c).2.2, sem_eq_zero_of_no_sems (by decide) r.2⟩) (Cert.CondReferenceIdeal.Value.run (F := Bits) m ρ)

theorem algebraic_cond : Cert.algebraic_CondIdeal_CondReferenceIdeal := fun m ρ m' ρ' _ hagree =>
  ⟨_, _, (θ_run (Cert.CondIdeal.defs (F := Ideal)) _ _).mono
    (fun r h c => ⟨(h.1 c Cert.CondIdeal.main_v1_0 rfl).trans (Exch.join_slots 8 128 (fun d => m ((d.tc : Thread Cert.CondIdeal.nD Cert.CondIdeal.τ).loc Cert.CondIdeal.main_arg0)) _ fun d => (hagree d).1),
      (h.1 c Cert.CondIdeal.main_v1_1 rfl).trans (Exch.join_slots_cols 4 512 (fun d => m ((d.tc : Thread Cert.CondIdeal.nD Cert.CondIdeal.τ).loc Cert.CondIdeal.main_arg1)) _ fun d => (hagree d).2), Cert.CondIdeal.Gathered.args_kept m (h.1 c) 0, Cert.CondIdeal.Gathered.args_kept m (h.1 c) 1⟩)
    (Cert.CondIdeal.Gathered.run_main (F := Ideal) m ρ),
  (θ_run (Cert.CondReferenceIdeal.defs (F := Ideal)) _ _).mono (fun r h => h 0) (Cert.CondReferenceIdeal.Value.run (F := Ideal) m' ρ')⟩

theorem bitexact_cond : Cert.bitexact_Cond_CondReference := fun m ρ m' ρ' _ hagree =>
  ⟨_, _, (θ_run (Cert.CondIdeal.defs (F := Bits)) _ _).mono
    (fun r h c => ⟨(h.1 c Cert.CondIdeal.main_v1_0 rfl).trans (Exch.join_slots 8 128 (fun d => m ((d.tc : Thread Cert.CondIdeal.nD Cert.CondIdeal.τ).loc Cert.CondIdeal.main_arg0)) _ fun d => (hagree d).1),
      (h.1 c Cert.CondIdeal.main_v1_1 rfl).trans (Exch.join_slots_cols 4 512 (fun d => m ((d.tc : Thread Cert.CondIdeal.nD Cert.CondIdeal.τ).loc Cert.CondIdeal.main_arg1)) _ fun d => (hagree d).2), Cert.CondIdeal.Gathered.args_kept m (h.1 c) 0, Cert.CondIdeal.Gathered.args_kept m (h.1 c) 1⟩)
    (Cert.CondIdeal.Gathered.run_main (F := Bits) m ρ),
  (θ_run (Cert.CondReferenceIdeal.defs (F := Bits)) _ _).mono (fun r h => h 0) (Cert.CondReferenceIdeal.Value.run (F := Bits) m' ρ')⟩

theorem claim : Cert.Claim := ⟨Cert.Kernel.Gen.facts, Cert.KernelIdeal.Gen.facts, Cert.ReferenceIdeal.Gen.facts, Cert.Reference.Gen.facts, Cert.Gather.Gen.facts,
  Cert.GatherIdeal.Gen.facts, Cert.GatherReferenceIdeal.Gen.facts, Cert.GatherReference.Gen.facts, Cert.Small.Gen.facts, Cert.SmallIdeal.Gen.facts,
  Cert.SmallReferenceIdeal.Gen.facts, Cert.SmallReference.Gen.facts, Cert.Mod.Gen.facts, Cert.ModIdeal.Gen.facts, Cert.ModReferenceIdeal.Gen.facts,
  Cert.ModReference.Gen.facts, Cert.Cond.Gen.facts, Cert.CondIdeal.Gen.facts, Cert.CondReferenceIdeal.Gen.facts, Cert.CondReference.Gen.facts,
  Cert.SumWin.Gen.facts, Cert.SumWinIdeal.Gen.facts, Cert.SumWinReferenceIdeal.Gen.facts, Cert.SumSmall.Gen.facts, Cert.SumSmallIdeal.Gen.facts,
  Cert.SumSmallReferenceIdeal.Gen.facts, Cert.AdamwWMod.Gen.facts, Cert.AdamwWModIdeal.Gen.facts, Cert.AdamwWModReferenceIdeal.Gen.facts,
  Cert.AdamwBMod.Gen.facts, Cert.AdamwBModIdeal.Gen.facts, Cert.AdamwBModReferenceIdeal.Gen.facts, Cert.AdamwWIn.Gen.facts,
  Cert.AdamwWInIdeal.Gen.facts, Cert.AdamwWInReferenceIdeal.Gen.facts, Cert.AdamwNorm.Gen.facts, Cert.AdamwNormIdeal.Gen.facts,
  Cert.AdamwNormReferenceIdeal.Gen.facts, Cert.AdamwGmWs.Gen.facts, Cert.AdamwGmWsIdeal.Gen.facts, Cert.AdamwGmWsReferenceIdeal.Gen.facts,
  Cert.AdamwGmBs.Gen.facts, Cert.AdamwGmBsIdeal.Gen.facts, Cert.AdamwGmBsReferenceIdeal.Gen.facts, Cert.AdamwConvW.Gen.facts,
  Cert.AdamwConvWIdeal.Gen.facts, Cert.AdamwConvWReferenceIdeal.Gen.facts, Cert.AdamwConvB.Gen.facts, Cert.AdamwConvBIdeal.Gen.facts,
  Cert.AdamwConvBReferenceIdeal.Gen.facts, Cert.AdamwHeads.Gen.facts, Cert.AdamwHeadsIdeal.Gen.facts, Cert.AdamwHeadsReferenceIdeal.Gen.facts,
  Cert.AdamwSsmNorm.Gen.facts, Cert.AdamwSsmNormIdeal.Gen.facts, Cert.AdamwSsmNormReferenceIdeal.Gen.facts, Cert.AdamwSquare.Gen.facts,
  Cert.AdamwSquareIdeal.Gen.facts, Cert.AdamwSquareReferenceIdeal.Gen.facts, Cert.AdamwSsm.Gen.facts, Cert.AdamwSsmIdeal.Gen.facts,
  Cert.AdamwSsmReferenceIdeal.Gen.facts, Cert.AdamwFfOne.Gen.facts, Cert.AdamwFfOneIdeal.Gen.facts, Cert.AdamwFfOneReferenceIdeal.Gen.facts,
  Cert.AdamwFfTwo.Gen.facts, Cert.AdamwFfTwoIdeal.Gen.facts, Cert.AdamwFfTwoReferenceIdeal.Gen.facts, Cert.WModGrad.Gen.facts,
  Cert.WModGradIdeal.Gen.facts, Cert.WModGradReferenceIdeal.Gen.facts, Cert.SmallGrads.Gen.facts, Cert.SmallGradsIdeal.Gen.facts,
  Cert.SmallGradsReferenceIdeal.Gen.facts, Cert.GradX.Gen.facts, Cert.GradXIdeal.Gen.facts, Cert.GradXReferenceIdeal.Gen.facts, Cert.Final.Gen.facts,
  Cert.FinalIdeal.Gen.facts, Cert.FinalReferenceIdeal.Gen.facts, Cert.Up.Gen.facts, Cert.UpIdeal.Gen.facts, Cert.UpReferenceIdeal.Gen.facts,
  Cert.Down.Gen.facts, Cert.DownIdeal.Gen.facts, Cert.DownReferenceIdeal.Gen.facts, Cert.Out.Gen.facts, Cert.OutIdeal.Gen.facts,
  Cert.OutReferenceIdeal.Gen.facts, Cert.Branch.Gen.facts, Cert.BranchIdeal.Gen.facts, Cert.BranchReferenceIdeal.Gen.facts, Cert.DownInGrad.Gen.facts,
  Cert.DownInGradIdeal.Gen.facts, Cert.DownInGradReferenceIdeal.Gen.facts, Cert.UpInGrad.Gen.facts, Cert.UpInGradIdeal.Gen.facts,
  Cert.UpInGradReferenceIdeal.Gen.facts, Cert.OutInGrad.Gen.facts, Cert.OutInGradIdeal.Gen.facts, Cert.OutInGradReferenceIdeal.Gen.facts,
  Cert.BranchInGrad.Gen.facts, Cert.BranchInGradIdeal.Gen.facts, Cert.BranchInGradReferenceIdeal.Gen.facts, Cert.DownGrad.Gen.facts,
  Cert.DownGradIdeal.Gen.facts, Cert.DownGradReferenceIdeal.Gen.facts, Cert.UpGrad.Gen.facts, Cert.UpGradIdeal.Gen.facts,
  Cert.UpGradReferenceIdeal.Gen.facts, Cert.OutGrad.Gen.facts, Cert.OutGradIdeal.Gen.facts, Cert.OutGradReferenceIdeal.Gen.facts,
  Cert.BranchGrad.Gen.facts, Cert.BranchGradIdeal.Gen.facts, Cert.BranchGradReferenceIdeal.Gen.facts, Cert.Dt.Gen.facts, Cert.DtIdeal.Gen.facts,
  Cert.DtReferenceIdeal.Gen.facts, Cert.JoinedInGrad.Gen.facts, Cert.JoinedInGradIdeal.Gen.facts, Cert.JoinedInGradReferenceIdeal.Gen.facts,
  Cert.JoinedGrad.Gen.facts, Cert.JoinedGradIdeal.Gen.facts, Cert.JoinedGradReferenceIdeal.Gen.facts, Cert.Joined.Gen.facts,
  Cert.JoinedIdeal.Gen.facts, Cert.JoinedReferenceIdeal.Gen.facts, Cert.Modulate.Gen.facts, Cert.ModulateIdeal.Gen.facts,
  Cert.ModulateReferenceIdeal.Gen.facts, Cert.SquaredRelu.Gen.facts, Cert.SquaredReluIdeal.Gen.facts, Cert.SquaredReluReferenceIdeal.Gen.facts,
  Cert.SquaredReluGrad.Gen.facts, Cert.SquaredReluGradIdeal.Gen.facts, Cert.SquaredReluGradReferenceIdeal.Gen.facts, Cert.Residual.Gen.facts,
  Cert.ResidualIdeal.Gen.facts, Cert.ResidualReferenceIdeal.Gen.facts, Cert.ResidualGrad.Gen.facts, Cert.ResidualGradIdeal.Gen.facts,
  Cert.ResidualGradReferenceIdeal.Gen.facts, Cert.Mix.Gen.facts, Cert.MixIdeal.Gen.facts, Cert.MixReferenceIdeal.Gen.facts, Cert.MixGrad.Gen.facts,
  Cert.MixGradIdeal.Gen.facts, Cert.MixGradReferenceIdeal.Gen.facts, Cert.ModPart.Gen.facts, Cert.ModPartIdeal.Gen.facts,
  Cert.ModPartReferenceIdeal.Gen.facts, Cert.Sgu.Gen.facts, Cert.SguIdeal.Gen.facts, Cert.SguReferenceIdeal.Gen.facts, Cert.Conv.Gen.facts,
  Cert.ConvIdeal.Gen.facts, Cert.ConvReferenceIdeal.Gen.facts, Cert.WInGrad.Gen.facts, Cert.WInGradIdeal.Gen.facts,
  Cert.WInGradReferenceIdeal.Gen.facts, facts_isDevice,
  frame_kernel, frame_kernelIdeal, frame_referenceIdeal, frame_reference, frame_gather, frame_gatherIdeal, frame_gatherReferenceIdeal,
  frame_gatherReference, frame_small, frame_smallIdeal, frame_smallReferenceIdeal, frame_smallReference, frame_mod, frame_modIdeal,
  frame_modReferenceIdeal, frame_modReference, frame_cond, frame_condIdeal, frame_condReferenceIdeal, frame_condReference, frame_sumWin,
  frame_sumWinIdeal, frame_sumWinReferenceIdeal, frame_sumSmall, frame_sumSmallIdeal, frame_sumSmallReferenceIdeal, frame_adamwWMod,
  frame_adamwWModIdeal, frame_adamwWModReferenceIdeal, frame_adamwBMod, frame_adamwBModIdeal, frame_adamwBModReferenceIdeal, frame_adamwWIn,
  frame_adamwWInIdeal, frame_adamwWInReferenceIdeal, frame_adamwNorm, frame_adamwNormIdeal, frame_adamwNormReferenceIdeal, frame_adamwGmWs,
  frame_adamwGmWsIdeal, frame_adamwGmWsReferenceIdeal, frame_adamwGmBs, frame_adamwGmBsIdeal, frame_adamwGmBsReferenceIdeal, frame_adamwConvW,
  frame_adamwConvWIdeal, frame_adamwConvWReferenceIdeal, frame_adamwConvB, frame_adamwConvBIdeal, frame_adamwConvBReferenceIdeal, frame_adamwHeads,
  frame_adamwHeadsIdeal, frame_adamwHeadsReferenceIdeal, frame_adamwSsmNorm, frame_adamwSsmNormIdeal, frame_adamwSsmNormReferenceIdeal,
  frame_adamwSquare, frame_adamwSquareIdeal, frame_adamwSquareReferenceIdeal, frame_adamwSsm, frame_adamwSsmIdeal, frame_adamwSsmReferenceIdeal,
  frame_adamwFfOne, frame_adamwFfOneIdeal, frame_adamwFfOneReferenceIdeal, frame_adamwFfTwo, frame_adamwFfTwoIdeal, frame_adamwFfTwoReferenceIdeal,
  frame_wModGrad, frame_wModGradIdeal, frame_wModGradReferenceIdeal, frame_smallGrads, frame_smallGradsIdeal, frame_smallGradsReferenceIdeal,
  frame_gradX, frame_gradXIdeal, frame_gradXReferenceIdeal, frame_final, frame_finalIdeal, frame_finalReferenceIdeal, frame_up, frame_upIdeal,
  frame_upReferenceIdeal, frame_down, frame_downIdeal, frame_downReferenceIdeal, frame_out, frame_outIdeal, frame_outReferenceIdeal, frame_branch,
  frame_branchIdeal, frame_branchReferenceIdeal, frame_downInGrad, frame_downInGradIdeal, frame_downInGradReferenceIdeal, frame_upInGrad,
  frame_upInGradIdeal, frame_upInGradReferenceIdeal, frame_outInGrad, frame_outInGradIdeal, frame_outInGradReferenceIdeal, frame_branchInGrad,
  frame_branchInGradIdeal, frame_branchInGradReferenceIdeal, frame_downGrad, frame_downGradIdeal, frame_downGradReferenceIdeal, frame_upGrad,
  frame_upGradIdeal, frame_upGradReferenceIdeal, frame_outGrad, frame_outGradIdeal, frame_outGradReferenceIdeal, frame_branchGrad,
  frame_branchGradIdeal, frame_branchGradReferenceIdeal, frame_dt, frame_dtIdeal, frame_dtReferenceIdeal, frame_joinedInGrad, frame_joinedInGradIdeal,
  frame_joinedInGradReferenceIdeal, frame_joinedGrad, frame_joinedGradIdeal, frame_joinedGradReferenceIdeal, frame_joined, frame_joinedIdeal,
  frame_joinedReferenceIdeal, frame_modulate, frame_modulateIdeal, frame_modulateReferenceIdeal, frame_squaredRelu, frame_squaredReluIdeal,
  frame_squaredReluReferenceIdeal, frame_squaredReluGrad, frame_squaredReluGradIdeal, frame_squaredReluGradReferenceIdeal, frame_residual,
  frame_residualIdeal, frame_residualReferenceIdeal, frame_residualGrad, frame_residualGradIdeal, frame_residualGradReferenceIdeal, frame_mix,
  frame_mixIdeal, frame_mixReferenceIdeal, frame_mixGrad, frame_mixGradIdeal, frame_mixGradReferenceIdeal, frame_modPart, frame_modPartIdeal,
  frame_modPartReferenceIdeal, frame_sgu, frame_sguIdeal, frame_sguReferenceIdeal, frame_conv, frame_convIdeal, frame_convReferenceIdeal,
  frame_wInGrad, frame_wInGradIdeal, frame_wInGradIdeal_isDevice, frame_wInGradReferenceIdeal, frame_wInGradReferenceIdeal_isDevice,
  trivial, algebraic, bitexact, trivial, algebraic_gather, bitexact_gather, trivial, algebraic_small, bitexact_small, trivial, algebraic_mod,
  bitexact_mod, trivial, algebraic_cond, bitexact_cond, trivial, algebraic_sumWin, trivial, algebraic_sumSmall, trivial, algebraic_adamwWMod, trivial,
  algebraic_adamwBMod, trivial, algebraic_adamwWIn, trivial, algebraic_adamwNorm, trivial, algebraic_adamwGmWs, trivial, algebraic_adamwGmBs, trivial,
  algebraic_adamwConvW, trivial, algebraic_adamwConvB, trivial, algebraic_adamwHeads, trivial, algebraic_adamwSsmNorm, trivial, algebraic_adamwSquare,
  trivial, algebraic_adamwSsm, trivial, algebraic_adamwFfOne, trivial, algebraic_adamwFfTwo, trivial, algebraic_wModGrad, trivial,
  algebraic_smallGrads, trivial, algebraic_gradX, trivial, algebraic_final, trivial, algebraic_up, trivial, algebraic_down, trivial, algebraic_out,
  trivial, algebraic_branch, trivial, algebraic_downInGrad, trivial, algebraic_upInGrad, trivial, algebraic_outInGrad, trivial, algebraic_branchInGrad,
  trivial, algebraic_downGrad, trivial, algebraic_upGrad, trivial, algebraic_outGrad, trivial, algebraic_branchGrad, trivial, algebraic_dt, trivial,
  algebraic_joinedInGrad, trivial, algebraic_joinedGrad, trivial, algebraic_joined, trivial, algebraic_modulate, trivial, algebraic_squaredRelu,
  trivial, algebraic_squaredReluGrad, trivial, algebraic_residual, trivial, algebraic_residualGrad, trivial, algebraic_mix, trivial, algebraic_mixGrad,
  trivial, algebraic_modPart, trivial, algebraic_sgu, trivial, algebraic_conv, trivial, algebraic_wInGrad⟩

end Cert.Proof

end
